-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_UpKernel (m : (ℓ : Loc Cert.UpKernel.nD Cert.UpKernel.τ Cert.UpKernel.sig) → Buf (Elt Bits) ℓ) : Prop :=
  True

def Pre_UpKernelIdeal (m : (ℓ : Loc Cert.UpKernelIdeal.nD Cert.UpKernelIdeal.τ Cert.UpKernelIdeal.sig) → Buf (Elt Ideal) ℓ) : Prop :=
  True

def Pre_UpReferenceIdeal (m : (ℓ : Loc Cert.UpReferenceIdeal.nD Cert.UpReferenceIdeal.τ Cert.UpReferenceIdeal.sig) → Buf (Elt Ideal) ℓ) : Prop :=
  True

def Pre_DxKernel (m : (ℓ : Loc Cert.DxKernel.nD Cert.DxKernel.τ Cert.DxKernel.sig) → Buf (Elt Bits) ℓ) : Prop :=
  True

def Pre_DxKernelIdeal (m : (ℓ : Loc Cert.DxKernelIdeal.nD Cert.DxKernelIdeal.τ Cert.DxKernelIdeal.sig) → Buf (Elt Ideal) ℓ) : Prop :=
  True

def Pre_DxReferenceIdeal (m : (ℓ : Loc Cert.DxReferenceIdeal.nD Cert.DxReferenceIdeal.τ Cert.DxReferenceIdeal.sig) → Buf (Elt Ideal) ℓ) : Prop :=
  True

def Pre_PxKernel (m : (ℓ : Loc Cert.PxKernel.nD Cert.PxKernel.τ Cert.PxKernel.sig) → Buf (Elt Bits) ℓ) : Prop :=
  True

def Pre_PxKernelIdeal (m : (ℓ : Loc Cert.PxKernelIdeal.nD Cert.PxKernelIdeal.τ Cert.PxKernelIdeal.sig) → Buf (Elt Ideal) ℓ) : Prop :=
  True

def Pre_PxReferenceIdeal (m : (ℓ : Loc Cert.PxReferenceIdeal.nD Cert.PxReferenceIdeal.τ Cert.PxReferenceIdeal.sig) → Buf (Elt Ideal) ℓ) : Prop :=
  True

def Pre_OwKernel (m : (ℓ : Loc Cert.OwKernel.nD Cert.OwKernel.τ Cert.OwKernel.sig) → Buf (Elt Bits) ℓ) : Prop :=
  True

def Pre_OwKernelIdeal (m : (ℓ : Loc Cert.OwKernelIdeal.nD Cert.OwKernelIdeal.τ Cert.OwKernelIdeal.sig) → Buf (Elt Ideal) ℓ) : Prop :=
  True

def Pre_OwReferenceIdeal (m : (ℓ : Loc Cert.OwReferenceIdeal.nD Cert.OwReferenceIdeal.τ Cert.OwReferenceIdeal.sig) → Buf (Elt Ideal) ℓ) : Prop :=
  True

def Pre_FwKernel (m : (ℓ : Loc Cert.FwKernel.nD Cert.FwKernel.τ Cert.FwKernel.sig) → Buf (Elt Bits) ℓ) : Prop :=
  True

def Pre_FwKernelIdeal (m : (ℓ : Loc Cert.FwKernelIdeal.nD Cert.FwKernelIdeal.τ Cert.FwKernelIdeal.sig) → Buf (Elt Ideal) ℓ) : Prop :=
  True

def Pre_FwReferenceIdeal (m : (ℓ : Loc Cert.FwReferenceIdeal.nD Cert.FwReferenceIdeal.τ Cert.FwReferenceIdeal.sig) → Buf (Elt Ideal) ℓ) : Prop :=
  True

def Pre_OfKernel (m : (ℓ : Loc Cert.OfKernel.nD Cert.OfKernel.τ Cert.OfKernel.sig) → Buf (Elt Bits) ℓ) : Prop :=
  True

def Pre_OfKernelIdeal (m : (ℓ : Loc Cert.OfKernelIdeal.nD Cert.OfKernelIdeal.τ Cert.OfKernelIdeal.sig) → Buf (Elt Ideal) ℓ) : Prop :=
  True

def Pre_OfReferenceIdeal (m : (ℓ : Loc Cert.OfReferenceIdeal.nD Cert.OfReferenceIdeal.τ Cert.OfReferenceIdeal.sig) → Buf (Elt Ideal) ℓ) : Prop :=
  True

def Pre_NmKernel (m : (ℓ : Loc Cert.NmKernel.nD Cert.NmKernel.τ Cert.NmKernel.sig) → Buf (Elt Bits) ℓ) : Prop :=
  True

def Pre_NmKernelIdeal (m : (ℓ : Loc Cert.NmKernelIdeal.nD Cert.NmKernelIdeal.τ Cert.NmKernelIdeal.sig) → Buf (Elt Ideal) ℓ) : Prop :=
  True

def Pre_NmReferenceIdeal (m : (ℓ : Loc Cert.NmReferenceIdeal.nD Cert.NmReferenceIdeal.τ Cert.NmReferenceIdeal.sig) → Buf (Elt Ideal) ℓ) : Prop :=
  True

def Pre_PfKernel (m : (ℓ : Loc Cert.PfKernel.nD Cert.PfKernel.τ Cert.PfKernel.sig) → Buf (Elt Bits) ℓ) : Prop :=
  True

def Pre_PfKernelIdeal (m : (ℓ : Loc Cert.PfKernelIdeal.nD Cert.PfKernelIdeal.τ Cert.PfKernelIdeal.sig) → Buf (Elt Ideal) ℓ) : Prop :=
  True

def Pre_PfReferenceIdeal (m : (ℓ : Loc Cert.PfReferenceIdeal.nD Cert.PfReferenceIdeal.τ Cert.PfReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_UpKernel [hUpKernel : Cert.UpKernel.Facts] : Prop :=
  ∀ (m : (ℓ : Loc Cert.UpKernel.nD Cert.UpKernel.τ Cert.UpKernel.sig) → Buf (Elt Bits) ℓ) (g : Dev Cert.UpKernel.nD → PrngReg), Pre_UpKernel m →
    θ_run (Cert.UpKernel.defs (F := Bits)) (onTc (τ := Cert.UpKernel.τ) (Cert.UpKernel.main (F := Bits))) ⟨m, fun _ => 0, g⟩ (fun r => (∀ c : Dev Cert.UpKernel.nD,
      r.2.mem ((c.tc : Thread Cert.UpKernel.nD Cert.UpKernel.τ).loc Cert.UpKernel.main_arg0) = m ((c.tc : Thread Cert.UpKernel.nD Cert.UpKernel.τ).loc Cert.UpKernel.main_arg0)
      ∧ r.2.mem ((c.tc : Thread Cert.UpKernel.nD Cert.UpKernel.τ).loc Cert.UpKernel.main_arg1) = m ((c.tc : Thread Cert.UpKernel.nD Cert.UpKernel.τ).loc Cert.UpKernel.main_arg1)
      ∧ r.2.mem ((c.tc : Thread Cert.UpKernel.nD Cert.UpKernel.τ).loc Cert.UpKernel.main_arg2) = m ((c.tc : Thread Cert.UpKernel.nD Cert.UpKernel.τ).loc Cert.UpKernel.main_arg2))
      ∧ r.2.sem = fun _ => 0)

def quiescent_UpKernelIdeal [hUpKernelIdeal : Cert.UpKernelIdeal.Facts] : Prop :=
  ∀ (m : (ℓ : Loc Cert.UpKernelIdeal.nD Cert.UpKernelIdeal.τ Cert.UpKernelIdeal.sig) → Buf (Elt Ideal) ℓ) (g : Dev Cert.UpKernelIdeal.nD → PrngReg), Pre_UpKernelIdeal m →
    θ_run (Cert.UpKernelIdeal.defs (F := Ideal)) (onTc (τ := Cert.UpKernelIdeal.τ) (Cert.UpKernelIdeal.main (F := Ideal))) ⟨m, fun _ => 0, g⟩ (fun r => (∀ c : Dev Cert.UpKernelIdeal.nD,
      r.2.mem ((c.tc : Thread Cert.UpKernelIdeal.nD Cert.UpKernelIdeal.τ).loc Cert.UpKernelIdeal.main_arg0) = m ((c.tc : Thread Cert.UpKernelIdeal.nD Cert.UpKernelIdeal.τ).loc Cert.UpKernelIdeal.main_arg0)
      ∧ r.2.mem ((c.tc : Thread Cert.UpKernelIdeal.nD Cert.UpKernelIdeal.τ).loc Cert.UpKernelIdeal.main_arg1) = m ((c.tc : Thread Cert.UpKernelIdeal.nD Cert.UpKernelIdeal.τ).loc Cert.UpKernelIdeal.main_arg1)
      ∧ r.2.mem ((c.tc : Thread Cert.UpKernelIdeal.nD Cert.UpKernelIdeal.τ).loc Cert.UpKernelIdeal.main_arg2) = m ((c.tc : Thread Cert.UpKernelIdeal.nD Cert.UpKernelIdeal.τ).loc Cert.UpKernelIdeal.main_arg2))
      ∧ r.2.sem = fun _ => 0)

def quiescent_UpReferenceIdeal [hUpReferenceIdeal : Cert.UpReferenceIdeal.Facts] : Prop :=
  ∀ (m : (ℓ : Loc Cert.UpReferenceIdeal.nD Cert.UpReferenceIdeal.τ Cert.UpReferenceIdeal.sig) → Buf (Elt Ideal) ℓ) (g : Dev Cert.UpReferenceIdeal.nD → PrngReg), Pre_UpReferenceIdeal m →
    θ_run (Cert.UpReferenceIdeal.defs (F := Ideal)) (onTc (τ := Cert.UpReferenceIdeal.τ) (Cert.UpReferenceIdeal.main (F := Ideal))) ⟨m, fun _ => 0, g⟩ (fun r => (∀ c : Dev Cert.UpReferenceIdeal.nD,
      r.2.mem ((c.tc : Thread Cert.UpReferenceIdeal.nD Cert.UpReferenceIdeal.τ).loc Cert.UpReferenceIdeal.main_arg0) = m ((c.tc : Thread Cert.UpReferenceIdeal.nD Cert.UpReferenceIdeal.τ).loc Cert.UpReferenceIdeal.main_arg0)
      ∧ r.2.mem ((c.tc : Thread Cert.UpReferenceIdeal.nD Cert.UpReferenceIdeal.τ).loc Cert.UpReferenceIdeal.main_arg1) = m ((c.tc : Thread Cert.UpReferenceIdeal.nD Cert.UpReferenceIdeal.τ).loc Cert.UpReferenceIdeal.main_arg1)
      ∧ r.2.mem ((c.tc : Thread Cert.UpReferenceIdeal.nD Cert.UpReferenceIdeal.τ).loc Cert.UpReferenceIdeal.main_arg2) = m ((c.tc : Thread Cert.UpReferenceIdeal.nD Cert.UpReferenceIdeal.τ).loc Cert.UpReferenceIdeal.main_arg2))
      ∧ r.2.sem = fun _ => 0)

def quiescent_DxKernel [hDxKernel : Cert.DxKernel.Facts] : Prop :=
  ∀ (m : (ℓ : Loc Cert.DxKernel.nD Cert.DxKernel.τ Cert.DxKernel.sig) → Buf (Elt Bits) ℓ) (g : Dev Cert.DxKernel.nD → PrngReg), Pre_DxKernel m →
    θ_run (Cert.DxKernel.defs (F := Bits)) (onTc (τ := Cert.DxKernel.τ) (Cert.DxKernel.main (F := Bits))) ⟨m, fun _ => 0, g⟩ (fun r => (∀ c : Dev Cert.DxKernel.nD,
      r.2.mem ((c.tc : Thread Cert.DxKernel.nD Cert.DxKernel.τ).loc Cert.DxKernel.main_arg0) = m ((c.tc : Thread Cert.DxKernel.nD Cert.DxKernel.τ).loc Cert.DxKernel.main_arg0)
      ∧ r.2.mem ((c.tc : Thread Cert.DxKernel.nD Cert.DxKernel.τ).loc Cert.DxKernel.main_arg1) = m ((c.tc : Thread Cert.DxKernel.nD Cert.DxKernel.τ).loc Cert.DxKernel.main_arg1)
      ∧ r.2.mem ((c.tc : Thread Cert.DxKernel.nD Cert.DxKernel.τ).loc Cert.DxKernel.main_arg2) = m ((c.tc : Thread Cert.DxKernel.nD Cert.DxKernel.τ).loc Cert.DxKernel.main_arg2)
      ∧ r.2.mem ((c.tc : Thread Cert.DxKernel.nD Cert.DxKernel.τ).loc Cert.DxKernel.main_arg3) = m ((c.tc : Thread Cert.DxKernel.nD Cert.DxKernel.τ).loc Cert.DxKernel.main_arg3))
      ∧ r.2.sem = fun _ => 0)

def quiescent_DxKernelIdeal [hDxKernelIdeal : Cert.DxKernelIdeal.Facts] : Prop :=
  ∀ (m : (ℓ : Loc Cert.DxKernelIdeal.nD Cert.DxKernelIdeal.τ Cert.DxKernelIdeal.sig) → Buf (Elt Ideal) ℓ) (g : Dev Cert.DxKernelIdeal.nD → PrngReg), Pre_DxKernelIdeal m →
    θ_run (Cert.DxKernelIdeal.defs (F := Ideal)) (onTc (τ := Cert.DxKernelIdeal.τ) (Cert.DxKernelIdeal.main (F := Ideal))) ⟨m, fun _ => 0, g⟩ (fun r => (∀ c : Dev Cert.DxKernelIdeal.nD,
      r.2.mem ((c.tc : Thread Cert.DxKernelIdeal.nD Cert.DxKernelIdeal.τ).loc Cert.DxKernelIdeal.main_arg0) = m ((c.tc : Thread Cert.DxKernelIdeal.nD Cert.DxKernelIdeal.τ).loc Cert.DxKernelIdeal.main_arg0)
      ∧ r.2.mem ((c.tc : Thread Cert.DxKernelIdeal.nD Cert.DxKernelIdeal.τ).loc Cert.DxKernelIdeal.main_arg1) = m ((c.tc : Thread Cert.DxKernelIdeal.nD Cert.DxKernelIdeal.τ).loc Cert.DxKernelIdeal.main_arg1)
      ∧ r.2.mem ((c.tc : Thread Cert.DxKernelIdeal.nD Cert.DxKernelIdeal.τ).loc Cert.DxKernelIdeal.main_arg2) = m ((c.tc : Thread Cert.DxKernelIdeal.nD Cert.DxKernelIdeal.τ).loc Cert.DxKernelIdeal.main_arg2)
      ∧ r.2.mem ((c.tc : Thread Cert.DxKernelIdeal.nD Cert.DxKernelIdeal.τ).loc Cert.DxKernelIdeal.main_arg3) = m ((c.tc : Thread Cert.DxKernelIdeal.nD Cert.DxKernelIdeal.τ).loc Cert.DxKernelIdeal.main_arg3))
      ∧ r.2.sem = fun _ => 0)

def quiescent_DxReferenceIdeal [hDxReferenceIdeal : Cert.DxReferenceIdeal.Facts] : Prop :=
  ∀ (m : (ℓ : Loc Cert.DxReferenceIdeal.nD Cert.DxReferenceIdeal.τ Cert.DxReferenceIdeal.sig) → Buf (Elt Ideal) ℓ) (g : Dev Cert.DxReferenceIdeal.nD → PrngReg), Pre_DxReferenceIdeal m →
    θ_run (Cert.DxReferenceIdeal.defs (F := Ideal)) (onTc (τ := Cert.DxReferenceIdeal.τ) (Cert.DxReferenceIdeal.main (F := Ideal))) ⟨m, fun _ => 0, g⟩ (fun r => (∀ c : Dev Cert.DxReferenceIdeal.nD,
      r.2.mem ((c.tc : Thread Cert.DxReferenceIdeal.nD Cert.DxReferenceIdeal.τ).loc Cert.DxReferenceIdeal.main_arg0) = m ((c.tc : Thread Cert.DxReferenceIdeal.nD Cert.DxReferenceIdeal.τ).loc Cert.DxReferenceIdeal.main_arg0)
      ∧ r.2.mem ((c.tc : Thread Cert.DxReferenceIdeal.nD Cert.DxReferenceIdeal.τ).loc Cert.DxReferenceIdeal.main_arg1) = m ((c.tc : Thread Cert.DxReferenceIdeal.nD Cert.DxReferenceIdeal.τ).loc Cert.DxReferenceIdeal.main_arg1)
      ∧ r.2.mem ((c.tc : Thread Cert.DxReferenceIdeal.nD Cert.DxReferenceIdeal.τ).loc Cert.DxReferenceIdeal.main_arg2) = m ((c.tc : Thread Cert.DxReferenceIdeal.nD Cert.DxReferenceIdeal.τ).loc Cert.DxReferenceIdeal.main_arg2)
      ∧ r.2.mem ((c.tc : Thread Cert.DxReferenceIdeal.nD Cert.DxReferenceIdeal.τ).loc Cert.DxReferenceIdeal.main_arg3) = m ((c.tc : Thread Cert.DxReferenceIdeal.nD Cert.DxReferenceIdeal.τ).loc Cert.DxReferenceIdeal.main_arg3))
      ∧ r.2.sem = fun _ => 0)

def quiescent_PxKernel [hPxKernel : Cert.PxKernel.Facts] : Prop :=
  ∀ (m : (ℓ : Loc Cert.PxKernel.nD Cert.PxKernel.τ Cert.PxKernel.sig) → Buf (Elt Bits) ℓ) (g : Dev Cert.PxKernel.nD → PrngReg), Pre_PxKernel m →
    θ_run (Cert.PxKernel.defs (F := Bits)) (onTc (τ := Cert.PxKernel.τ) (Cert.PxKernel.main (F := Bits))) ⟨m, fun _ => 0, g⟩ (fun r => (∀ c : Dev Cert.PxKernel.nD,
      r.2.mem ((c.tc : Thread Cert.PxKernel.nD Cert.PxKernel.τ).loc Cert.PxKernel.main_arg0) = m ((c.tc : Thread Cert.PxKernel.nD Cert.PxKernel.τ).loc Cert.PxKernel.main_arg0)
      ∧ r.2.mem ((c.tc : Thread Cert.PxKernel.nD Cert.PxKernel.τ).loc Cert.PxKernel.main_arg1) = m ((c.tc : Thread Cert.PxKernel.nD Cert.PxKernel.τ).loc Cert.PxKernel.main_arg1)
      ∧ r.2.mem ((c.tc : Thread Cert.PxKernel.nD Cert.PxKernel.τ).loc Cert.PxKernel.main_arg2) = m ((c.tc : Thread Cert.PxKernel.nD Cert.PxKernel.τ).loc Cert.PxKernel.main_arg2)
      ∧ r.2.mem ((c.tc : Thread Cert.PxKernel.nD Cert.PxKernel.τ).loc Cert.PxKernel.main_arg3) = m ((c.tc : Thread Cert.PxKernel.nD Cert.PxKernel.τ).loc Cert.PxKernel.main_arg3)
      ∧ r.2.mem ((c.tc : Thread Cert.PxKernel.nD Cert.PxKernel.τ).loc Cert.PxKernel.main_arg4) = m ((c.tc : Thread Cert.PxKernel.nD Cert.PxKernel.τ).loc Cert.PxKernel.main_arg4))
      ∧ r.2.sem = fun _ => 0)

def quiescent_PxKernelIdeal [hPxKernelIdeal : Cert.PxKernelIdeal.Facts] : Prop :=
  ∀ (m : (ℓ : Loc Cert.PxKernelIdeal.nD Cert.PxKernelIdeal.τ Cert.PxKernelIdeal.sig) → Buf (Elt Ideal) ℓ) (g : Dev Cert.PxKernelIdeal.nD → PrngReg), Pre_PxKernelIdeal m →
    θ_run (Cert.PxKernelIdeal.defs (F := Ideal)) (onTc (τ := Cert.PxKernelIdeal.τ) (Cert.PxKernelIdeal.main (F := Ideal))) ⟨m, fun _ => 0, g⟩ (fun r => (∀ c : Dev Cert.PxKernelIdeal.nD,
      r.2.mem ((c.tc : Thread Cert.PxKernelIdeal.nD Cert.PxKernelIdeal.τ).loc Cert.PxKernelIdeal.main_arg0) = m ((c.tc : Thread Cert.PxKernelIdeal.nD Cert.PxKernelIdeal.τ).loc Cert.PxKernelIdeal.main_arg0)
      ∧ r.2.mem ((c.tc : Thread Cert.PxKernelIdeal.nD Cert.PxKernelIdeal.τ).loc Cert.PxKernelIdeal.main_arg1) = m ((c.tc : Thread Cert.PxKernelIdeal.nD Cert.PxKernelIdeal.τ).loc Cert.PxKernelIdeal.main_arg1)
      ∧ r.2.mem ((c.tc : Thread Cert.PxKernelIdeal.nD Cert.PxKernelIdeal.τ).loc Cert.PxKernelIdeal.main_arg2) = m ((c.tc : Thread Cert.PxKernelIdeal.nD Cert.PxKernelIdeal.τ).loc Cert.PxKernelIdeal.main_arg2)
      ∧ r.2.mem ((c.tc : Thread Cert.PxKernelIdeal.nD Cert.PxKernelIdeal.τ).loc Cert.PxKernelIdeal.main_arg3) = m ((c.tc : Thread Cert.PxKernelIdeal.nD Cert.PxKernelIdeal.τ).loc Cert.PxKernelIdeal.main_arg3)
      ∧ r.2.mem ((c.tc : Thread Cert.PxKernelIdeal.nD Cert.PxKernelIdeal.τ).loc Cert.PxKernelIdeal.main_arg4) = m ((c.tc : Thread Cert.PxKernelIdeal.nD Cert.PxKernelIdeal.τ).loc Cert.PxKernelIdeal.main_arg4))
      ∧ r.2.sem = fun _ => 0)

def quiescent_PxReferenceIdeal [hPxReferenceIdeal : Cert.PxReferenceIdeal.Facts] : Prop :=
  ∀ (m : (ℓ : Loc Cert.PxReferenceIdeal.nD Cert.PxReferenceIdeal.τ Cert.PxReferenceIdeal.sig) → Buf (Elt Ideal) ℓ) (g : Dev Cert.PxReferenceIdeal.nD → PrngReg), Pre_PxReferenceIdeal m →
    θ_run (Cert.PxReferenceIdeal.defs (F := Ideal)) (onTc (τ := Cert.PxReferenceIdeal.τ) (Cert.PxReferenceIdeal.main (F := Ideal))) ⟨m, fun _ => 0, g⟩ (fun r => (∀ c : Dev Cert.PxReferenceIdeal.nD,
      r.2.mem ((c.tc : Thread Cert.PxReferenceIdeal.nD Cert.PxReferenceIdeal.τ).loc Cert.PxReferenceIdeal.main_arg0) = m ((c.tc : Thread Cert.PxReferenceIdeal.nD Cert.PxReferenceIdeal.τ).loc Cert.PxReferenceIdeal.main_arg0)
      ∧ r.2.mem ((c.tc : Thread Cert.PxReferenceIdeal.nD Cert.PxReferenceIdeal.τ).loc Cert.PxReferenceIdeal.main_arg1) = m ((c.tc : Thread Cert.PxReferenceIdeal.nD Cert.PxReferenceIdeal.τ).loc Cert.PxReferenceIdeal.main_arg1)
      ∧ r.2.mem ((c.tc : Thread Cert.PxReferenceIdeal.nD Cert.PxReferenceIdeal.τ).loc Cert.PxReferenceIdeal.main_arg2) = m ((c.tc : Thread Cert.PxReferenceIdeal.nD Cert.PxReferenceIdeal.τ).loc Cert.PxReferenceIdeal.main_arg2)
      ∧ r.2.mem ((c.tc : Thread Cert.PxReferenceIdeal.nD Cert.PxReferenceIdeal.τ).loc Cert.PxReferenceIdeal.main_arg3) = m ((c.tc : Thread Cert.PxReferenceIdeal.nD Cert.PxReferenceIdeal.τ).loc Cert.PxReferenceIdeal.main_arg3)
      ∧ r.2.mem ((c.tc : Thread Cert.PxReferenceIdeal.nD Cert.PxReferenceIdeal.τ).loc Cert.PxReferenceIdeal.main_arg4) = m ((c.tc : Thread Cert.PxReferenceIdeal.nD Cert.PxReferenceIdeal.τ).loc Cert.PxReferenceIdeal.main_arg4))
      ∧ r.2.sem = fun _ => 0)

def quiescent_OwKernel [hOwKernel : Cert.OwKernel.Facts] : Prop :=
  ∀ (m : (ℓ : Loc Cert.OwKernel.nD Cert.OwKernel.τ Cert.OwKernel.sig) → Buf (Elt Bits) ℓ) (g : Dev Cert.OwKernel.nD → PrngReg), Pre_OwKernel m →
    θ_run (Cert.OwKernel.defs (F := Bits)) (onTc (τ := Cert.OwKernel.τ) (Cert.OwKernel.main (F := Bits))) ⟨m, fun _ => 0, g⟩ (fun r => (∀ c : Dev Cert.OwKernel.nD,
      r.2.mem ((c.tc : Thread Cert.OwKernel.nD Cert.OwKernel.τ).loc Cert.OwKernel.main_arg0) = m ((c.tc : Thread Cert.OwKernel.nD Cert.OwKernel.τ).loc Cert.OwKernel.main_arg0)
      ∧ r.2.mem ((c.tc : Thread Cert.OwKernel.nD Cert.OwKernel.τ).loc Cert.OwKernel.main_arg1) = m ((c.tc : Thread Cert.OwKernel.nD Cert.OwKernel.τ).loc Cert.OwKernel.main_arg1)
      ∧ r.2.mem ((c.tc : Thread Cert.OwKernel.nD Cert.OwKernel.τ).loc Cert.OwKernel.main_arg2) = m ((c.tc : Thread Cert.OwKernel.nD Cert.OwKernel.τ).loc Cert.OwKernel.main_arg2)
      ∧ r.2.mem ((c.tc : Thread Cert.OwKernel.nD Cert.OwKernel.τ).loc Cert.OwKernel.main_arg3) = m ((c.tc : Thread Cert.OwKernel.nD Cert.OwKernel.τ).loc Cert.OwKernel.main_arg3)
      ∧ r.2.mem ((c.tc : Thread Cert.OwKernel.nD Cert.OwKernel.τ).loc Cert.OwKernel.main_arg4) = m ((c.tc : Thread Cert.OwKernel.nD Cert.OwKernel.τ).loc Cert.OwKernel.main_arg4))
      ∧ r.2.sem = fun _ => 0)

def quiescent_OwKernelIdeal [hOwKernelIdeal : Cert.OwKernelIdeal.Facts] : Prop :=
  ∀ (m : (ℓ : Loc Cert.OwKernelIdeal.nD Cert.OwKernelIdeal.τ Cert.OwKernelIdeal.sig) → Buf (Elt Ideal) ℓ) (g : Dev Cert.OwKernelIdeal.nD → PrngReg), Pre_OwKernelIdeal m →
    θ_run (Cert.OwKernelIdeal.defs (F := Ideal)) (onTc (τ := Cert.OwKernelIdeal.τ) (Cert.OwKernelIdeal.main (F := Ideal))) ⟨m, fun _ => 0, g⟩ (fun r => (∀ c : Dev Cert.OwKernelIdeal.nD,
      r.2.mem ((c.tc : Thread Cert.OwKernelIdeal.nD Cert.OwKernelIdeal.τ).loc Cert.OwKernelIdeal.main_arg0) = m ((c.tc : Thread Cert.OwKernelIdeal.nD Cert.OwKernelIdeal.τ).loc Cert.OwKernelIdeal.main_arg0)
      ∧ r.2.mem ((c.tc : Thread Cert.OwKernelIdeal.nD Cert.OwKernelIdeal.τ).loc Cert.OwKernelIdeal.main_arg1) = m ((c.tc : Thread Cert.OwKernelIdeal.nD Cert.OwKernelIdeal.τ).loc Cert.OwKernelIdeal.main_arg1)
      ∧ r.2.mem ((c.tc : Thread Cert.OwKernelIdeal.nD Cert.OwKernelIdeal.τ).loc Cert.OwKernelIdeal.main_arg2) = m ((c.tc : Thread Cert.OwKernelIdeal.nD Cert.OwKernelIdeal.τ).loc Cert.OwKernelIdeal.main_arg2)
      ∧ r.2.mem ((c.tc : Thread Cert.OwKernelIdeal.nD Cert.OwKernelIdeal.τ).loc Cert.OwKernelIdeal.main_arg3) = m ((c.tc : Thread Cert.OwKernelIdeal.nD Cert.OwKernelIdeal.τ).loc Cert.OwKernelIdeal.main_arg3)
      ∧ r.2.mem ((c.tc : Thread Cert.OwKernelIdeal.nD Cert.OwKernelIdeal.τ).loc Cert.OwKernelIdeal.main_arg4) = m ((c.tc : Thread Cert.OwKernelIdeal.nD Cert.OwKernelIdeal.τ).loc Cert.OwKernelIdeal.main_arg4))
      ∧ r.2.sem = fun _ => 0)

def quiescent_OwReferenceIdeal [hOwReferenceIdeal : Cert.OwReferenceIdeal.Facts] : Prop :=
  ∀ (m : (ℓ : Loc Cert.OwReferenceIdeal.nD Cert.OwReferenceIdeal.τ Cert.OwReferenceIdeal.sig) → Buf (Elt Ideal) ℓ) (g : Dev Cert.OwReferenceIdeal.nD → PrngReg), Pre_OwReferenceIdeal m →
    θ_run (Cert.OwReferenceIdeal.defs (F := Ideal)) (onTc (τ := Cert.OwReferenceIdeal.τ) (Cert.OwReferenceIdeal.main (F := Ideal))) ⟨m, fun _ => 0, g⟩ (fun r => (∀ c : Dev Cert.OwReferenceIdeal.nD,
      r.2.mem ((c.tc : Thread Cert.OwReferenceIdeal.nD Cert.OwReferenceIdeal.τ).loc Cert.OwReferenceIdeal.main_arg0) = m ((c.tc : Thread Cert.OwReferenceIdeal.nD Cert.OwReferenceIdeal.τ).loc Cert.OwReferenceIdeal.main_arg0)
      ∧ r.2.mem ((c.tc : Thread Cert.OwReferenceIdeal.nD Cert.OwReferenceIdeal.τ).loc Cert.OwReferenceIdeal.main_arg1) = m ((c.tc : Thread Cert.OwReferenceIdeal.nD Cert.OwReferenceIdeal.τ).loc Cert.OwReferenceIdeal.main_arg1)
      ∧ r.2.mem ((c.tc : Thread Cert.OwReferenceIdeal.nD Cert.OwReferenceIdeal.τ).loc Cert.OwReferenceIdeal.main_arg2) = m ((c.tc : Thread Cert.OwReferenceIdeal.nD Cert.OwReferenceIdeal.τ).loc Cert.OwReferenceIdeal.main_arg2)
      ∧ r.2.mem ((c.tc : Thread Cert.OwReferenceIdeal.nD Cert.OwReferenceIdeal.τ).loc Cert.OwReferenceIdeal.main_arg3) = m ((c.tc : Thread Cert.OwReferenceIdeal.nD Cert.OwReferenceIdeal.τ).loc Cert.OwReferenceIdeal.main_arg3)
      ∧ r.2.mem ((c.tc : Thread Cert.OwReferenceIdeal.nD Cert.OwReferenceIdeal.τ).loc Cert.OwReferenceIdeal.main_arg4) = m ((c.tc : Thread Cert.OwReferenceIdeal.nD Cert.OwReferenceIdeal.τ).loc Cert.OwReferenceIdeal.main_arg4))
      ∧ r.2.sem = fun _ => 0)

def quiescent_FwKernel [hFwKernel : Cert.FwKernel.Facts] : Prop :=
  ∀ (m : (ℓ : Loc Cert.FwKernel.nD Cert.FwKernel.τ Cert.FwKernel.sig) → Buf (Elt Bits) ℓ) (g : Dev Cert.FwKernel.nD → PrngReg), Pre_FwKernel m →
    θ_run (Cert.FwKernel.defs (F := Bits)) (onTc (τ := Cert.FwKernel.τ) (Cert.FwKernel.main (F := Bits))) ⟨m, fun _ => 0, g⟩ (fun r => (∀ c : Dev Cert.FwKernel.nD,
      r.2.mem ((c.tc : Thread Cert.FwKernel.nD Cert.FwKernel.τ).loc Cert.FwKernel.main_arg0) = m ((c.tc : Thread Cert.FwKernel.nD Cert.FwKernel.τ).loc Cert.FwKernel.main_arg0)
      ∧ r.2.mem ((c.tc : Thread Cert.FwKernel.nD Cert.FwKernel.τ).loc Cert.FwKernel.main_arg1) = m ((c.tc : Thread Cert.FwKernel.nD Cert.FwKernel.τ).loc Cert.FwKernel.main_arg1)
      ∧ r.2.mem ((c.tc : Thread Cert.FwKernel.nD Cert.FwKernel.τ).loc Cert.FwKernel.main_arg2) = m ((c.tc : Thread Cert.FwKernel.nD Cert.FwKernel.τ).loc Cert.FwKernel.main_arg2))
      ∧ r.2.sem = fun _ => 0)

def quiescent_FwKernelIdeal [hFwKernelIdeal : Cert.FwKernelIdeal.Facts] : Prop :=
  ∀ (m : (ℓ : Loc Cert.FwKernelIdeal.nD Cert.FwKernelIdeal.τ Cert.FwKernelIdeal.sig) → Buf (Elt Ideal) ℓ) (g : Dev Cert.FwKernelIdeal.nD → PrngReg), Pre_FwKernelIdeal m →
    θ_run (Cert.FwKernelIdeal.defs (F := Ideal)) (onTc (τ := Cert.FwKernelIdeal.τ) (Cert.FwKernelIdeal.main (F := Ideal))) ⟨m, fun _ => 0, g⟩ (fun r => (∀ c : Dev Cert.FwKernelIdeal.nD,
      r.2.mem ((c.tc : Thread Cert.FwKernelIdeal.nD Cert.FwKernelIdeal.τ).loc Cert.FwKernelIdeal.main_arg0) = m ((c.tc : Thread Cert.FwKernelIdeal.nD Cert.FwKernelIdeal.τ).loc Cert.FwKernelIdeal.main_arg0)
      ∧ r.2.mem ((c.tc : Thread Cert.FwKernelIdeal.nD Cert.FwKernelIdeal.τ).loc Cert.FwKernelIdeal.main_arg1) = m ((c.tc : Thread Cert.FwKernelIdeal.nD Cert.FwKernelIdeal.τ).loc Cert.FwKernelIdeal.main_arg1)
      ∧ r.2.mem ((c.tc : Thread Cert.FwKernelIdeal.nD Cert.FwKernelIdeal.τ).loc Cert.FwKernelIdeal.main_arg2) = m ((c.tc : Thread Cert.FwKernelIdeal.nD Cert.FwKernelIdeal.τ).loc Cert.FwKernelIdeal.main_arg2))
      ∧ r.2.sem = fun _ => 0)

def quiescent_FwReferenceIdeal [hFwReferenceIdeal : Cert.FwReferenceIdeal.Facts] : Prop :=
  ∀ (m : (ℓ : Loc Cert.FwReferenceIdeal.nD Cert.FwReferenceIdeal.τ Cert.FwReferenceIdeal.sig) → Buf (Elt Ideal) ℓ) (g : Dev Cert.FwReferenceIdeal.nD → PrngReg), Pre_FwReferenceIdeal m →
    θ_run (Cert.FwReferenceIdeal.defs (F := Ideal)) (onTc (τ := Cert.FwReferenceIdeal.τ) (Cert.FwReferenceIdeal.main (F := Ideal))) ⟨m, fun _ => 0, g⟩ (fun r => (∀ c : Dev Cert.FwReferenceIdeal.nD,
      r.2.mem ((c.tc : Thread Cert.FwReferenceIdeal.nD Cert.FwReferenceIdeal.τ).loc Cert.FwReferenceIdeal.main_arg0) = m ((c.tc : Thread Cert.FwReferenceIdeal.nD Cert.FwReferenceIdeal.τ).loc Cert.FwReferenceIdeal.main_arg0)
      ∧ r.2.mem ((c.tc : Thread Cert.FwReferenceIdeal.nD Cert.FwReferenceIdeal.τ).loc Cert.FwReferenceIdeal.main_arg1) = m ((c.tc : Thread Cert.FwReferenceIdeal.nD Cert.FwReferenceIdeal.τ).loc Cert.FwReferenceIdeal.main_arg1)
      ∧ r.2.mem ((c.tc : Thread Cert.FwReferenceIdeal.nD Cert.FwReferenceIdeal.τ).loc Cert.FwReferenceIdeal.main_arg2) = m ((c.tc : Thread Cert.FwReferenceIdeal.nD Cert.FwReferenceIdeal.τ).loc Cert.FwReferenceIdeal.main_arg2))
      ∧ r.2.sem = fun _ => 0)

def quiescent_OfKernel [hOfKernel : Cert.OfKernel.Facts] : Prop :=
  ∀ (m : (ℓ : Loc Cert.OfKernel.nD Cert.OfKernel.τ Cert.OfKernel.sig) → Buf (Elt Bits) ℓ) (g : Dev Cert.OfKernel.nD → PrngReg), Pre_OfKernel m →
    θ_run (Cert.OfKernel.defs (F := Bits)) (onTc (τ := Cert.OfKernel.τ) (Cert.OfKernel.main (F := Bits))) ⟨m, fun _ => 0, g⟩ (fun r => (∀ c : Dev Cert.OfKernel.nD,
      r.2.mem ((c.tc : Thread Cert.OfKernel.nD Cert.OfKernel.τ).loc Cert.OfKernel.main_arg0) = m ((c.tc : Thread Cert.OfKernel.nD Cert.OfKernel.τ).loc Cert.OfKernel.main_arg0)
      ∧ r.2.mem ((c.tc : Thread Cert.OfKernel.nD Cert.OfKernel.τ).loc Cert.OfKernel.main_arg1) = m ((c.tc : Thread Cert.OfKernel.nD Cert.OfKernel.τ).loc Cert.OfKernel.main_arg1)
      ∧ r.2.mem ((c.tc : Thread Cert.OfKernel.nD Cert.OfKernel.τ).loc Cert.OfKernel.main_arg2) = m ((c.tc : Thread Cert.OfKernel.nD Cert.OfKernel.τ).loc Cert.OfKernel.main_arg2)
      ∧ r.2.mem ((c.tc : Thread Cert.OfKernel.nD Cert.OfKernel.τ).loc Cert.OfKernel.main_arg3) = m ((c.tc : Thread Cert.OfKernel.nD Cert.OfKernel.τ).loc Cert.OfKernel.main_arg3))
      ∧ r.2.sem = fun _ => 0)

def quiescent_OfKernelIdeal [hOfKernelIdeal : Cert.OfKernelIdeal.Facts] : Prop :=
  ∀ (m : (ℓ : Loc Cert.OfKernelIdeal.nD Cert.OfKernelIdeal.τ Cert.OfKernelIdeal.sig) → Buf (Elt Ideal) ℓ) (g : Dev Cert.OfKernelIdeal.nD → PrngReg), Pre_OfKernelIdeal m →
    θ_run (Cert.OfKernelIdeal.defs (F := Ideal)) (onTc (τ := Cert.OfKernelIdeal.τ) (Cert.OfKernelIdeal.main (F := Ideal))) ⟨m, fun _ => 0, g⟩ (fun r => (∀ c : Dev Cert.OfKernelIdeal.nD,
      r.2.mem ((c.tc : Thread Cert.OfKernelIdeal.nD Cert.OfKernelIdeal.τ).loc Cert.OfKernelIdeal.main_arg0) = m ((c.tc : Thread Cert.OfKernelIdeal.nD Cert.OfKernelIdeal.τ).loc Cert.OfKernelIdeal.main_arg0)
      ∧ r.2.mem ((c.tc : Thread Cert.OfKernelIdeal.nD Cert.OfKernelIdeal.τ).loc Cert.OfKernelIdeal.main_arg1) = m ((c.tc : Thread Cert.OfKernelIdeal.nD Cert.OfKernelIdeal.τ).loc Cert.OfKernelIdeal.main_arg1)
      ∧ r.2.mem ((c.tc : Thread Cert.OfKernelIdeal.nD Cert.OfKernelIdeal.τ).loc Cert.OfKernelIdeal.main_arg2) = m ((c.tc : Thread Cert.OfKernelIdeal.nD Cert.OfKernelIdeal.τ).loc Cert.OfKernelIdeal.main_arg2)
      ∧ r.2.mem ((c.tc : Thread Cert.OfKernelIdeal.nD Cert.OfKernelIdeal.τ).loc Cert.OfKernelIdeal.main_arg3) = m ((c.tc : Thread Cert.OfKernelIdeal.nD Cert.OfKernelIdeal.τ).loc Cert.OfKernelIdeal.main_arg3))
      ∧ r.2.sem = fun _ => 0)

def quiescent_OfReferenceIdeal [hOfReferenceIdeal : Cert.OfReferenceIdeal.Facts] : Prop :=
  ∀ (m : (ℓ : Loc Cert.OfReferenceIdeal.nD Cert.OfReferenceIdeal.τ Cert.OfReferenceIdeal.sig) → Buf (Elt Ideal) ℓ) (g : Dev Cert.OfReferenceIdeal.nD → PrngReg), Pre_OfReferenceIdeal m →
    θ_run (Cert.OfReferenceIdeal.defs (F := Ideal)) (onTc (τ := Cert.OfReferenceIdeal.τ) (Cert.OfReferenceIdeal.main (F := Ideal))) ⟨m, fun _ => 0, g⟩ (fun r => (∀ c : Dev Cert.OfReferenceIdeal.nD,
      r.2.mem ((c.tc : Thread Cert.OfReferenceIdeal.nD Cert.OfReferenceIdeal.τ).loc Cert.OfReferenceIdeal.main_arg0) = m ((c.tc : Thread Cert.OfReferenceIdeal.nD Cert.OfReferenceIdeal.τ).loc Cert.OfReferenceIdeal.main_arg0)
      ∧ r.2.mem ((c.tc : Thread Cert.OfReferenceIdeal.nD Cert.OfReferenceIdeal.τ).loc Cert.OfReferenceIdeal.main_arg1) = m ((c.tc : Thread Cert.OfReferenceIdeal.nD Cert.OfReferenceIdeal.τ).loc Cert.OfReferenceIdeal.main_arg1)
      ∧ r.2.mem ((c.tc : Thread Cert.OfReferenceIdeal.nD Cert.OfReferenceIdeal.τ).loc Cert.OfReferenceIdeal.main_arg2) = m ((c.tc : Thread Cert.OfReferenceIdeal.nD Cert.OfReferenceIdeal.τ).loc Cert.OfReferenceIdeal.main_arg2)
      ∧ r.2.mem ((c.tc : Thread Cert.OfReferenceIdeal.nD Cert.OfReferenceIdeal.τ).loc Cert.OfReferenceIdeal.main_arg3) = m ((c.tc : Thread Cert.OfReferenceIdeal.nD Cert.OfReferenceIdeal.τ).loc Cert.OfReferenceIdeal.main_arg3))
      ∧ r.2.sem = fun _ => 0)

def quiescent_NmKernel [hNmKernel : Cert.NmKernel.Facts] : Prop :=
  ∀ (m : (ℓ : Loc Cert.NmKernel.nD Cert.NmKernel.τ Cert.NmKernel.sig) → Buf (Elt Bits) ℓ) (g : Dev Cert.NmKernel.nD → PrngReg), Pre_NmKernel m →
    θ_run (Cert.NmKernel.defs (F := Bits)) (onTc (τ := Cert.NmKernel.τ) (Cert.NmKernel.main (F := Bits))) ⟨m, fun _ => 0, g⟩ (fun r => (∀ c : Dev Cert.NmKernel.nD,
      r.2.mem ((c.tc : Thread Cert.NmKernel.nD Cert.NmKernel.τ).loc Cert.NmKernel.main_arg0) = m ((c.tc : Thread Cert.NmKernel.nD Cert.NmKernel.τ).loc Cert.NmKernel.main_arg0)
      ∧ r.2.mem ((c.tc : Thread Cert.NmKernel.nD Cert.NmKernel.τ).loc Cert.NmKernel.main_arg1) = m ((c.tc : Thread Cert.NmKernel.nD Cert.NmKernel.τ).loc Cert.NmKernel.main_arg1)
      ∧ r.2.mem ((c.tc : Thread Cert.NmKernel.nD Cert.NmKernel.τ).loc Cert.NmKernel.main_arg2) = m ((c.tc : Thread Cert.NmKernel.nD Cert.NmKernel.τ).loc Cert.NmKernel.main_arg2))
      ∧ r.2.sem = fun _ => 0)

def quiescent_NmKernelIdeal [hNmKernelIdeal : Cert.NmKernelIdeal.Facts] : Prop :=
  ∀ (m : (ℓ : Loc Cert.NmKernelIdeal.nD Cert.NmKernelIdeal.τ Cert.NmKernelIdeal.sig) → Buf (Elt Ideal) ℓ) (g : Dev Cert.NmKernelIdeal.nD → PrngReg), Pre_NmKernelIdeal m →
    θ_run (Cert.NmKernelIdeal.defs (F := Ideal)) (onTc (τ := Cert.NmKernelIdeal.τ) (Cert.NmKernelIdeal.main (F := Ideal))) ⟨m, fun _ => 0, g⟩ (fun r => (∀ c : Dev Cert.NmKernelIdeal.nD,
      r.2.mem ((c.tc : Thread Cert.NmKernelIdeal.nD Cert.NmKernelIdeal.τ).loc Cert.NmKernelIdeal.main_arg0) = m ((c.tc : Thread Cert.NmKernelIdeal.nD Cert.NmKernelIdeal.τ).loc Cert.NmKernelIdeal.main_arg0)
      ∧ r.2.mem ((c.tc : Thread Cert.NmKernelIdeal.nD Cert.NmKernelIdeal.τ).loc Cert.NmKernelIdeal.main_arg1) = m ((c.tc : Thread Cert.NmKernelIdeal.nD Cert.NmKernelIdeal.τ).loc Cert.NmKernelIdeal.main_arg1)
      ∧ r.2.mem ((c.tc : Thread Cert.NmKernelIdeal.nD Cert.NmKernelIdeal.τ).loc Cert.NmKernelIdeal.main_arg2) = m ((c.tc : Thread Cert.NmKernelIdeal.nD Cert.NmKernelIdeal.τ).loc Cert.NmKernelIdeal.main_arg2))
      ∧ r.2.sem = fun _ => 0)

def quiescent_NmReferenceIdeal [hNmReferenceIdeal : Cert.NmReferenceIdeal.Facts] : Prop :=
  ∀ (m : (ℓ : Loc Cert.NmReferenceIdeal.nD Cert.NmReferenceIdeal.τ Cert.NmReferenceIdeal.sig) → Buf (Elt Ideal) ℓ) (g : Dev Cert.NmReferenceIdeal.nD → PrngReg), Pre_NmReferenceIdeal m →
    θ_run (Cert.NmReferenceIdeal.defs (F := Ideal)) (onTc (τ := Cert.NmReferenceIdeal.τ) (Cert.NmReferenceIdeal.main (F := Ideal))) ⟨m, fun _ => 0, g⟩ (fun r => (∀ c : Dev Cert.NmReferenceIdeal.nD,
      r.2.mem ((c.tc : Thread Cert.NmReferenceIdeal.nD Cert.NmReferenceIdeal.τ).loc Cert.NmReferenceIdeal.main_arg0) = m ((c.tc : Thread Cert.NmReferenceIdeal.nD Cert.NmReferenceIdeal.τ).loc Cert.NmReferenceIdeal.main_arg0)
      ∧ r.2.mem ((c.tc : Thread Cert.NmReferenceIdeal.nD Cert.NmReferenceIdeal.τ).loc Cert.NmReferenceIdeal.main_arg1) = m ((c.tc : Thread Cert.NmReferenceIdeal.nD Cert.NmReferenceIdeal.τ).loc Cert.NmReferenceIdeal.main_arg1)
      ∧ r.2.mem ((c.tc : Thread Cert.NmReferenceIdeal.nD Cert.NmReferenceIdeal.τ).loc Cert.NmReferenceIdeal.main_arg2) = m ((c.tc : Thread Cert.NmReferenceIdeal.nD Cert.NmReferenceIdeal.τ).loc Cert.NmReferenceIdeal.main_arg2))
      ∧ r.2.sem = fun _ => 0)

def quiescent_PfKernel [hPfKernel : Cert.PfKernel.Facts] : Prop :=
  ∀ (m : (ℓ : Loc Cert.PfKernel.nD Cert.PfKernel.τ Cert.PfKernel.sig) → Buf (Elt Bits) ℓ) (g : Dev Cert.PfKernel.nD → PrngReg), Pre_PfKernel m →
    θ_run (Cert.PfKernel.defs (F := Bits)) (onTc (τ := Cert.PfKernel.τ) (Cert.PfKernel.main (F := Bits))) ⟨m, fun _ => 0, g⟩ (fun r => (∀ c : Dev Cert.PfKernel.nD,
      r.2.mem ((c.tc : Thread Cert.PfKernel.nD Cert.PfKernel.τ).loc Cert.PfKernel.main_arg0) = m ((c.tc : Thread Cert.PfKernel.nD Cert.PfKernel.τ).loc Cert.PfKernel.main_arg0)
      ∧ r.2.mem ((c.tc : Thread Cert.PfKernel.nD Cert.PfKernel.τ).loc Cert.PfKernel.main_arg1) = m ((c.tc : Thread Cert.PfKernel.nD Cert.PfKernel.τ).loc Cert.PfKernel.main_arg1)
      ∧ r.2.mem ((c.tc : Thread Cert.PfKernel.nD Cert.PfKernel.τ).loc Cert.PfKernel.main_arg2) = m ((c.tc : Thread Cert.PfKernel.nD Cert.PfKernel.τ).loc Cert.PfKernel.main_arg2)
      ∧ r.2.mem ((c.tc : Thread Cert.PfKernel.nD Cert.PfKernel.τ).loc Cert.PfKernel.main_arg3) = m ((c.tc : Thread Cert.PfKernel.nD Cert.PfKernel.τ).loc Cert.PfKernel.main_arg3))
      ∧ r.2.sem = fun _ => 0)

def quiescent_PfKernelIdeal [hPfKernelIdeal : Cert.PfKernelIdeal.Facts] : Prop :=
  ∀ (m : (ℓ : Loc Cert.PfKernelIdeal.nD Cert.PfKernelIdeal.τ Cert.PfKernelIdeal.sig) → Buf (Elt Ideal) ℓ) (g : Dev Cert.PfKernelIdeal.nD → PrngReg), Pre_PfKernelIdeal m →
    θ_run (Cert.PfKernelIdeal.defs (F := Ideal)) (onTc (τ := Cert.PfKernelIdeal.τ) (Cert.PfKernelIdeal.main (F := Ideal))) ⟨m, fun _ => 0, g⟩ (fun r => (∀ c : Dev Cert.PfKernelIdeal.nD,
      r.2.mem ((c.tc : Thread Cert.PfKernelIdeal.nD Cert.PfKernelIdeal.τ).loc Cert.PfKernelIdeal.main_arg0) = m ((c.tc : Thread Cert.PfKernelIdeal.nD Cert.PfKernelIdeal.τ).loc Cert.PfKernelIdeal.main_arg0)
      ∧ r.2.mem ((c.tc : Thread Cert.PfKernelIdeal.nD Cert.PfKernelIdeal.τ).loc Cert.PfKernelIdeal.main_arg1) = m ((c.tc : Thread Cert.PfKernelIdeal.nD Cert.PfKernelIdeal.τ).loc Cert.PfKernelIdeal.main_arg1)
      ∧ r.2.mem ((c.tc : Thread Cert.PfKernelIdeal.nD Cert.PfKernelIdeal.τ).loc Cert.PfKernelIdeal.main_arg2) = m ((c.tc : Thread Cert.PfKernelIdeal.nD Cert.PfKernelIdeal.τ).loc Cert.PfKernelIdeal.main_arg2)
      ∧ r.2.mem ((c.tc : Thread Cert.PfKernelIdeal.nD Cert.PfKernelIdeal.τ).loc Cert.PfKernelIdeal.main_arg3) = m ((c.tc : Thread Cert.PfKernelIdeal.nD Cert.PfKernelIdeal.τ).loc Cert.PfKernelIdeal.main_arg3))
      ∧ r.2.sem = fun _ => 0)

def quiescent_PfReferenceIdeal [hPfReferenceIdeal : Cert.PfReferenceIdeal.Facts] : Prop :=
  ∀ (m : (ℓ : Loc Cert.PfReferenceIdeal.nD Cert.PfReferenceIdeal.τ Cert.PfReferenceIdeal.sig) → Buf (Elt Ideal) ℓ) (g : Dev Cert.PfReferenceIdeal.nD → PrngReg), Pre_PfReferenceIdeal m →
    θ_run (Cert.PfReferenceIdeal.defs (F := Ideal)) (onTc (τ := Cert.PfReferenceIdeal.τ) (Cert.PfReferenceIdeal.main (F := Ideal))) ⟨m, fun _ => 0, g⟩ (fun r => (∀ c : Dev Cert.PfReferenceIdeal.nD,
      r.2.mem ((c.tc : Thread Cert.PfReferenceIdeal.nD Cert.PfReferenceIdeal.τ).loc Cert.PfReferenceIdeal.main_arg0) = m ((c.tc : Thread Cert.PfReferenceIdeal.nD Cert.PfReferenceIdeal.τ).loc Cert.PfReferenceIdeal.main_arg0)
      ∧ r.2.mem ((c.tc : Thread Cert.PfReferenceIdeal.nD Cert.PfReferenceIdeal.τ).loc Cert.PfReferenceIdeal.main_arg1) = m ((c.tc : Thread Cert.PfReferenceIdeal.nD Cert.PfReferenceIdeal.τ).loc Cert.PfReferenceIdeal.main_arg1)
      ∧ r.2.mem ((c.tc : Thread Cert.PfReferenceIdeal.nD Cert.PfReferenceIdeal.τ).loc Cert.PfReferenceIdeal.main_arg2) = m ((c.tc : Thread Cert.PfReferenceIdeal.nD Cert.PfReferenceIdeal.τ).loc Cert.PfReferenceIdeal.main_arg2)
      ∧ r.2.mem ((c.tc : Thread Cert.PfReferenceIdeal.nD Cert.PfReferenceIdeal.τ).loc Cert.PfReferenceIdeal.main_arg3) = m ((c.tc : Thread Cert.PfReferenceIdeal.nD Cert.PfReferenceIdeal.τ).loc Cert.PfReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 4096]⟩ ⟨2, ![32768, 4096]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨2, ![4096, 16384]⟩ ⟨2, ![32768, 16384]⟩ 0 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨3, ![4, 4096, 4096]⟩ ⟨3, ![32, 4096, 4096]⟩ 0 8 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v8)) (v1 : Buf (Elt Ideal) (((0 : Dev Cert.ReferenceIdeal.nD).tc : Thread Cert.ReferenceIdeal.nD Cert.ReferenceIdeal.τ).loc Cert.ReferenceIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = Layout.block ⟨2, ![4096, 16384]⟩ ⟨2, ![32768, 16384]⟩ 0 8 c v0
          ∧ r.2.mem ((c.tc : Thread Cert.KernelIdeal.nD Cert.KernelIdeal.τ).loc Cert.KernelIdeal.main_v1_1) = Layout.block ⟨3, ![4, 2048, 4096]⟩ ⟨3, ![32, 2048, 4096]⟩ 0 8 c v1
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v8) = v0
          ∧ r.2.mem (((0 : Dev Cert.ReferenceIdeal.nD).tc : Thread Cert.ReferenceIdeal.nD Cert.ReferenceIdeal.τ).loc Cert.ReferenceIdeal.main_v17) = v1
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def preserves_UpKernel_UpKernelIdeal : Prop :=
  True

def algebraic_UpKernelIdeal_UpReferenceIdeal [hUpKernelIdeal : Cert.UpKernelIdeal.Facts] [hUpReferenceIdeal : Cert.UpReferenceIdeal.Facts] : Prop :=
  ∀ (m : (ℓ : Loc Cert.UpKernelIdeal.nD Cert.UpKernelIdeal.τ Cert.UpKernelIdeal.sig) → Buf (Elt Ideal) ℓ) (g : Dev Cert.UpKernelIdeal.nD → PrngReg)
    (m' : (ℓ : Loc Cert.UpReferenceIdeal.nD Cert.UpReferenceIdeal.τ Cert.UpReferenceIdeal.sig) → Buf (Elt Ideal) ℓ) (g' : Dev Cert.UpReferenceIdeal.nD → PrngReg), Pre_UpKernelIdeal m →
    (∀ c : Dev Cert.UpKernelIdeal.nD,
      m ((c.tc : Thread Cert.UpKernelIdeal.nD Cert.UpKernelIdeal.τ).loc Cert.UpKernelIdeal.main_arg0) = Layout.block ⟨2, ![4096, 4096]⟩ ⟨2, ![32768, 4096]⟩ 0 8 c (m' (((0 : Dev Cert.UpReferenceIdeal.nD).tc : Thread Cert.UpReferenceIdeal.nD Cert.UpReferenceIdeal.τ).loc Cert.UpReferenceIdeal.main_arg0))
      ∧ m ((c.tc : Thread Cert.UpKernelIdeal.nD Cert.UpKernelIdeal.τ).loc Cert.UpKernelIdeal.main_arg1) = Layout.block ⟨2, ![4096, 16384]⟩ ⟨2, ![32768, 16384]⟩ 0 8 c (m' (((0 : Dev Cert.UpReferenceIdeal.nD).tc : Thread Cert.UpReferenceIdeal.nD Cert.UpReferenceIdeal.τ).loc Cert.UpReferenceIdeal.main_arg1))
      ∧ m ((c.tc : Thread Cert.UpKernelIdeal.nD Cert.UpKernelIdeal.τ).loc Cert.UpKernelIdeal.main_arg2) = Layout.block ⟨3, ![4, 2048, 4096]⟩ ⟨3, ![32, 2048, 4096]⟩ 0 8 c (m' (((0 : Dev Cert.UpReferenceIdeal.nD).tc : Thread Cert.UpReferenceIdeal.nD Cert.UpReferenceIdeal.τ).loc Cert.UpReferenceIdeal.main_arg2))) →
    ∃ (v0 : Buf (Elt Ideal) (((0 : Dev Cert.UpReferenceIdeal.nD).tc : Thread Cert.UpReferenceIdeal.nD Cert.UpReferenceIdeal.τ).loc Cert.UpReferenceIdeal.main_v54)) (v1 : Buf (Elt Ideal) (((0 : Dev Cert.UpReferenceIdeal.nD).tc : Thread Cert.UpReferenceIdeal.nD Cert.UpReferenceIdeal.τ).loc Cert.UpReferenceIdeal.main_v55)),
      θ_run (Cert.UpKernelIdeal.defs (F := Ideal)) (onTc (τ := Cert.UpKernelIdeal.τ) (Cert.UpKernelIdeal.main (F := Ideal))) ⟨m, fun _ => 0, g⟩ (fun r => ∀ c : Dev Cert.UpKernelIdeal.nD,
          r.2.mem ((c.tc : Thread Cert.UpKernelIdeal.nD Cert.UpKernelIdeal.τ).loc Cert.UpKernelIdeal.main_v1_0) = Layout.block ⟨3, ![4, 4096, 4096]⟩ ⟨3, ![32, 4096, 4096]⟩ 0 8 c v0
          ∧ r.2.mem ((c.tc : Thread Cert.UpKernelIdeal.nD Cert.UpKernelIdeal.τ).loc Cert.UpKernelIdeal.main_v2) = Layout.block ⟨3, ![3, 1536, 4096]⟩ ⟨3, ![24, 1536, 4096]⟩ 0 8 c v1
          ∧ r.2.mem ((c.tc : Thread Cert.UpKernelIdeal.nD Cert.UpKernelIdeal.τ).loc Cert.UpKernelIdeal.main_arg0) = m ((c.tc : Thread Cert.UpKernelIdeal.nD Cert.UpKernelIdeal.τ).loc Cert.UpKernelIdeal.main_arg0)
          ∧ r.2.mem ((c.tc : Thread Cert.UpKernelIdeal.nD Cert.UpKernelIdeal.τ).loc Cert.UpKernelIdeal.main_arg1) = m ((c.tc : Thread Cert.UpKernelIdeal.nD Cert.UpKernelIdeal.τ).loc Cert.UpKernelIdeal.main_arg1)
          ∧ r.2.mem ((c.tc : Thread Cert.UpKernelIdeal.nD Cert.UpKernelIdeal.τ).loc Cert.UpKernelIdeal.main_arg2) = m ((c.tc : Thread Cert.UpKernelIdeal.nD Cert.UpKernelIdeal.τ).loc Cert.UpKernelIdeal.main_arg2))
      ∧ θ_run (Cert.UpReferenceIdeal.defs (F := Ideal)) (onTc (τ := Cert.UpReferenceIdeal.τ) (Cert.UpReferenceIdeal.main (F := Ideal))) ⟨m', fun _ => 0, g'⟩ (fun r =>
          r.2.mem (((0 : Dev Cert.UpReferenceIdeal.nD).tc : Thread Cert.UpReferenceIdeal.nD Cert.UpReferenceIdeal.τ).loc Cert.UpReferenceIdeal.main_v54) = v0
          ∧ r.2.mem (((0 : Dev Cert.UpReferenceIdeal.nD).tc : Thread Cert.UpReferenceIdeal.nD Cert.UpReferenceIdeal.τ).loc Cert.UpReferenceIdeal.main_v55) = v1
          ∧ r.2.mem (((0 : Dev Cert.UpReferenceIdeal.nD).tc : Thread Cert.UpReferenceIdeal.nD Cert.UpReferenceIdeal.τ).loc Cert.UpReferenceIdeal.main_arg0) = m' (((0 : Dev Cert.UpReferenceIdeal.nD).tc : Thread Cert.UpReferenceIdeal.nD Cert.UpReferenceIdeal.τ).loc Cert.UpReferenceIdeal.main_arg0)
          ∧ r.2.mem (((0 : Dev Cert.UpReferenceIdeal.nD).tc : Thread Cert.UpReferenceIdeal.nD Cert.UpReferenceIdeal.τ).loc Cert.UpReferenceIdeal.main_arg1) = m' (((0 : Dev Cert.UpReferenceIdeal.nD).tc : Thread Cert.UpReferenceIdeal.nD Cert.UpReferenceIdeal.τ).loc Cert.UpReferenceIdeal.main_arg1)
          ∧ r.2.mem (((0 : Dev Cert.UpReferenceIdeal.nD).tc : Thread Cert.UpReferenceIdeal.nD Cert.UpReferenceIdeal.τ).loc Cert.UpReferenceIdeal.main_arg2) = m' (((0 : Dev Cert.UpReferenceIdeal.nD).tc : Thread Cert.UpReferenceIdeal.nD Cert.UpReferenceIdeal.τ).loc Cert.UpReferenceIdeal.main_arg2))

def preserves_DxKernel_DxKernelIdeal : Prop :=
  True

def algebraic_DxKernelIdeal_DxReferenceIdeal [hDxKernelIdeal : Cert.DxKernelIdeal.Facts] [hDxReferenceIdeal : Cert.DxReferenceIdeal.Facts] : Prop :=
  ∀ (m : (ℓ : Loc Cert.DxKernelIdeal.nD Cert.DxKernelIdeal.τ Cert.DxKernelIdeal.sig) → Buf (Elt Ideal) ℓ) (g : Dev Cert.DxKernelIdeal.nD → PrngReg)
    (m' : (ℓ : Loc Cert.DxReferenceIdeal.nD Cert.DxReferenceIdeal.τ Cert.DxReferenceIdeal.sig) → Buf (Elt Ideal) ℓ) (g' : Dev Cert.DxReferenceIdeal.nD → PrngReg), Pre_DxKernelIdeal m →
    (∀ c : Dev Cert.DxKernelIdeal.nD,
      m ((c.tc : Thread Cert.DxKernelIdeal.nD Cert.DxKernelIdeal.τ).loc Cert.DxKernelIdeal.main_arg0) = Layout.block ⟨2, ![4096, 16384]⟩ ⟨2, ![32768, 16384]⟩ 0 8 c (m' (((0 : Dev Cert.DxReferenceIdeal.nD).tc : Thread Cert.DxReferenceIdeal.nD Cert.DxReferenceIdeal.τ).loc Cert.DxReferenceIdeal.main_arg0))
      ∧ m ((c.tc : Thread Cert.DxKernelIdeal.nD Cert.DxKernelIdeal.τ).loc Cert.DxKernelIdeal.main_arg1) = m' (((0 : Dev Cert.DxReferenceIdeal.nD).tc : Thread Cert.DxReferenceIdeal.nD Cert.DxReferenceIdeal.τ).loc Cert.DxReferenceIdeal.main_arg1)
      ∧ m ((c.tc : Thread Cert.DxKernelIdeal.nD Cert.DxKernelIdeal.τ).loc Cert.DxKernelIdeal.main_arg2) = Layout.block ⟨3, ![4, 4096, 4096]⟩ ⟨3, ![32, 4096, 4096]⟩ 0 8 c (m' (((0 : Dev Cert.DxReferenceIdeal.nD).tc : Thread Cert.DxReferenceIdeal.nD Cert.DxReferenceIdeal.τ).loc Cert.DxReferenceIdeal.main_arg2))
      ∧ m ((c.tc : Thread Cert.DxKernelIdeal.nD Cert.DxKernelIdeal.τ).loc Cert.DxKernelIdeal.main_arg3) = Layout.block ⟨3, ![4, 2048, 4096]⟩ ⟨3, ![32, 2048, 4096]⟩ 0 8 c (m' (((0 : Dev Cert.DxReferenceIdeal.nD).tc : Thread Cert.DxReferenceIdeal.nD Cert.DxReferenceIdeal.τ).loc Cert.DxReferenceIdeal.main_arg3))) →
    ∃ (v0 : Buf (Elt Ideal) (((0 : Dev Cert.DxReferenceIdeal.nD).tc : Thread Cert.DxReferenceIdeal.nD Cert.DxReferenceIdeal.τ).loc Cert.DxReferenceIdeal.main_v5)) (v1 : Buf (Elt Ideal) (((0 : Dev Cert.DxReferenceIdeal.nD).tc : Thread Cert.DxReferenceIdeal.nD Cert.DxReferenceIdeal.τ).loc Cert.DxReferenceIdeal.main_v61)) (v2 : Buf (Elt Ideal) (((0 : Dev Cert.DxReferenceIdeal.nD).tc : Thread Cert.DxReferenceIdeal.nD Cert.DxReferenceIdeal.τ).loc Cert.DxReferenceIdeal.main_v62)),
      θ_run (Cert.DxKernelIdeal.defs (F := Ideal)) (onTc (τ := Cert.DxKernelIdeal.τ) (Cert.DxKernelIdeal.main (F := Ideal))) ⟨m, fun _ => 0, g⟩ (fun r => ∀ c : Dev Cert.DxKernelIdeal.nD,
          r.2.mem ((c.tc : Thread Cert.DxKernelIdeal.nD Cert.DxKernelIdeal.τ).loc Cert.DxKernelIdeal.main_v1_0) = Layout.block ⟨2, ![4096, 4096]⟩ ⟨2, ![32768, 4096]⟩ 0 8 c v0
          ∧ r.2.mem ((c.tc : Thread Cert.DxKernelIdeal.nD Cert.DxKernelIdeal.τ).loc Cert.DxKernelIdeal.main_v1_1) = Layout.block ⟨3, ![4, 2048, 4096]⟩ ⟨3, ![32, 2048, 4096]⟩ 0 8 c v1
          ∧ r.2.mem ((c.tc : Thread Cert.DxKernelIdeal.nD Cert.DxKernelIdeal.τ).loc Cert.DxKernelIdeal.main_v2) = Layout.block ⟨3, ![3, 512, 4096]⟩ ⟨3, ![24, 512, 4096]⟩ 0 8 c v2
          ∧ r.2.mem ((c.tc : Thread Cert.DxKernelIdeal.nD Cert.DxKernelIdeal.τ).loc Cert.DxKernelIdeal.main_arg0) = m ((c.tc : Thread Cert.DxKernelIdeal.nD Cert.DxKernelIdeal.τ).loc Cert.DxKernelIdeal.main_arg0)
          ∧ r.2.mem ((c.tc : Thread Cert.DxKernelIdeal.nD Cert.DxKernelIdeal.τ).loc Cert.DxKernelIdeal.main_arg1) = m ((c.tc : Thread Cert.DxKernelIdeal.nD Cert.DxKernelIdeal.τ).loc Cert.DxKernelIdeal.main_arg1)
          ∧ r.2.mem ((c.tc : Thread Cert.DxKernelIdeal.nD Cert.DxKernelIdeal.τ).loc Cert.DxKernelIdeal.main_arg2) = m ((c.tc : Thread Cert.DxKernelIdeal.nD Cert.DxKernelIdeal.τ).loc Cert.DxKernelIdeal.main_arg2)
          ∧ r.2.mem ((c.tc : Thread Cert.DxKernelIdeal.nD Cert.DxKernelIdeal.τ).loc Cert.DxKernelIdeal.main_arg3) = m ((c.tc : Thread Cert.DxKernelIdeal.nD Cert.DxKernelIdeal.τ).loc Cert.DxKernelIdeal.main_arg3))
      ∧ θ_run (Cert.DxReferenceIdeal.defs (F := Ideal)) (onTc (τ := Cert.DxReferenceIdeal.τ) (Cert.DxReferenceIdeal.main (F := Ideal))) ⟨m', fun _ => 0, g'⟩ (fun r =>
          r.2.mem (((0 : Dev Cert.DxReferenceIdeal.nD).tc : Thread Cert.DxReferenceIdeal.nD Cert.DxReferenceIdeal.τ).loc Cert.DxReferenceIdeal.main_v5) = v0
          ∧ r.2.mem (((0 : Dev Cert.DxReferenceIdeal.nD).tc : Thread Cert.DxReferenceIdeal.nD Cert.DxReferenceIdeal.τ).loc Cert.DxReferenceIdeal.main_v61) = v1
          ∧ r.2.mem (((0 : Dev Cert.DxReferenceIdeal.nD).tc : Thread Cert.DxReferenceIdeal.nD Cert.DxReferenceIdeal.τ).loc Cert.DxReferenceIdeal.main_v62) = v2
          ∧ r.2.mem (((0 : Dev Cert.DxReferenceIdeal.nD).tc : Thread Cert.DxReferenceIdeal.nD Cert.DxReferenceIdeal.τ).loc Cert.DxReferenceIdeal.main_arg0) = m' (((0 : Dev Cert.DxReferenceIdeal.nD).tc : Thread Cert.DxReferenceIdeal.nD Cert.DxReferenceIdeal.τ).loc Cert.DxReferenceIdeal.main_arg0)
          ∧ r.2.mem (((0 : Dev Cert.DxReferenceIdeal.nD).tc : Thread Cert.DxReferenceIdeal.nD Cert.DxReferenceIdeal.τ).loc Cert.DxReferenceIdeal.main_arg1) = m' (((0 : Dev Cert.DxReferenceIdeal.nD).tc : Thread Cert.DxReferenceIdeal.nD Cert.DxReferenceIdeal.τ).loc Cert.DxReferenceIdeal.main_arg1)
          ∧ r.2.mem (((0 : Dev Cert.DxReferenceIdeal.nD).tc : Thread Cert.DxReferenceIdeal.nD Cert.DxReferenceIdeal.τ).loc Cert.DxReferenceIdeal.main_arg2) = m' (((0 : Dev Cert.DxReferenceIdeal.nD).tc : Thread Cert.DxReferenceIdeal.nD Cert.DxReferenceIdeal.τ).loc Cert.DxReferenceIdeal.main_arg2)
          ∧ r.2.mem (((0 : Dev Cert.DxReferenceIdeal.nD).tc : Thread Cert.DxReferenceIdeal.nD Cert.DxReferenceIdeal.τ).loc Cert.DxReferenceIdeal.main_arg3) = m' (((0 : Dev Cert.DxReferenceIdeal.nD).tc : Thread Cert.DxReferenceIdeal.nD Cert.DxReferenceIdeal.τ).loc Cert.DxReferenceIdeal.main_arg3))

def preserves_PxKernel_PxKernelIdeal : Prop :=
  True

def algebraic_PxKernelIdeal_PxReferenceIdeal [hPxKernelIdeal : Cert.PxKernelIdeal.Facts] [hPxReferenceIdeal : Cert.PxReferenceIdeal.Facts] : Prop :=
  ∀ (m : (ℓ : Loc Cert.PxKernelIdeal.nD Cert.PxKernelIdeal.τ Cert.PxKernelIdeal.sig) → Buf (Elt Ideal) ℓ) (g : Dev Cert.PxKernelIdeal.nD → PrngReg)
    (m' : (ℓ : Loc Cert.PxReferenceIdeal.nD Cert.PxReferenceIdeal.τ Cert.PxReferenceIdeal.sig) → Buf (Elt Ideal) ℓ) (g' : Dev Cert.PxReferenceIdeal.nD → PrngReg), Pre_PxKernelIdeal m →
    (∀ c : Dev Cert.PxKernelIdeal.nD,
      m ((c.tc : Thread Cert.PxKernelIdeal.nD Cert.PxKernelIdeal.τ).loc Cert.PxKernelIdeal.main_arg0) = Layout.block ⟨2, ![4096, 10240]⟩ ⟨2, ![32768, 10240]⟩ 0 8 c (m' (((0 : Dev Cert.PxReferenceIdeal.nD).tc : Thread Cert.PxReferenceIdeal.nD Cert.PxReferenceIdeal.τ).loc Cert.PxReferenceIdeal.main_arg0))
      ∧ m ((c.tc : Thread Cert.PxKernelIdeal.nD Cert.PxKernelIdeal.τ).loc Cert.PxKernelIdeal.main_arg1) = m' (((0 : Dev Cert.PxReferenceIdeal.nD).tc : Thread Cert.PxReferenceIdeal.nD Cert.PxReferenceIdeal.τ).loc Cert.PxReferenceIdeal.main_arg1)
      ∧ m ((c.tc : Thread Cert.PxKernelIdeal.nD Cert.PxKernelIdeal.τ).loc Cert.PxKernelIdeal.main_arg2) = Layout.block ⟨3, ![4, 1024, 2560]⟩ ⟨3, ![32, 1024, 2560]⟩ 0 8 c (m' (((0 : Dev Cert.PxReferenceIdeal.nD).tc : Thread Cert.PxReferenceIdeal.nD Cert.PxReferenceIdeal.τ).loc Cert.PxReferenceIdeal.main_arg2))
      ∧ m ((c.tc : Thread Cert.PxKernelIdeal.nD Cert.PxKernelIdeal.τ).loc Cert.PxKernelIdeal.main_arg3) = Layout.block ⟨3, ![4, 1024, 2560]⟩ ⟨3, ![32, 1024, 2560]⟩ 0 8 c (m' (((0 : Dev Cert.PxReferenceIdeal.nD).tc : Thread Cert.PxReferenceIdeal.nD Cert.PxReferenceIdeal.τ).loc Cert.PxReferenceIdeal.main_arg3))
      ∧ m ((c.tc : Thread Cert.PxKernelIdeal.nD Cert.PxKernelIdeal.τ).loc Cert.PxKernelIdeal.main_arg4) = Layout.block ⟨3, ![4, 1024, 4096]⟩ ⟨3, ![32, 1024, 4096]⟩ 0 8 c (m' (((0 : Dev Cert.PxReferenceIdeal.nD).tc : Thread Cert.PxReferenceIdeal.nD Cert.PxReferenceIdeal.τ).loc Cert.PxReferenceIdeal.main_arg4))) →
    ∃ (v0 : Buf (Elt Ideal) (((0 : Dev Cert.PxReferenceIdeal.nD).tc : Thread Cert.PxReferenceIdeal.nD Cert.PxReferenceIdeal.τ).loc Cert.PxReferenceIdeal.main_v5)) (v1 : Buf (Elt Ideal) (((0 : Dev Cert.PxReferenceIdeal.nD).tc : Thread Cert.PxReferenceIdeal.nD Cert.PxReferenceIdeal.τ).loc Cert.PxReferenceIdeal.main_v107)) (v2 : Buf (Elt Ideal) (((0 : Dev Cert.PxReferenceIdeal.nD).tc : Thread Cert.PxReferenceIdeal.nD Cert.PxReferenceIdeal.τ).loc Cert.PxReferenceIdeal.main_v108)) (v3 : Buf (Elt Ideal) (((0 : Dev Cert.PxReferenceIdeal.nD).tc : Thread Cert.PxReferenceIdeal.nD Cert.PxReferenceIdeal.τ).loc Cert.PxReferenceIdeal.main_v109)),
      θ_run (Cert.PxKernelIdeal.defs (F := Ideal)) (onTc (τ := Cert.PxKernelIdeal.τ) (Cert.PxKernelIdeal.main (F := Ideal))) ⟨m, fun _ => 0, g⟩ (fun r => ∀ c : Dev Cert.PxKernelIdeal.nD,
          r.2.mem ((c.tc : Thread Cert.PxKernelIdeal.nD Cert.PxKernelIdeal.τ).loc Cert.PxKernelIdeal.main_v1_0) = Layout.block ⟨2, ![4096, 4096]⟩ ⟨2, ![32768, 4096]⟩ 0 8 c v0
          ∧ r.2.mem ((c.tc : Thread Cert.PxKernelIdeal.nD Cert.PxKernelIdeal.τ).loc Cert.PxKernelIdeal.main_v2) = Layout.block ⟨3, ![3, 320, 2560]⟩ ⟨3, ![24, 320, 2560]⟩ 0 8 c v1
          ∧ r.2.mem ((c.tc : Thread Cert.PxKernelIdeal.nD Cert.PxKernelIdeal.τ).loc Cert.PxKernelIdeal.main_v1_2) = Layout.block ⟨3, ![3, 1024, 2560]⟩ ⟨3, ![24, 1024, 2560]⟩ 0 8 c v2
          ∧ r.2.mem ((c.tc : Thread Cert.PxKernelIdeal.nD Cert.PxKernelIdeal.τ).loc Cert.PxKernelIdeal.main_v1_3) = Layout.block ⟨3, ![4, 512, 4096]⟩ ⟨3, ![32, 512, 4096]⟩ 0 8 c v3
          ∧ r.2.mem ((c.tc : Thread Cert.PxKernelIdeal.nD Cert.PxKernelIdeal.τ).loc Cert.PxKernelIdeal.main_arg0) = m ((c.tc : Thread Cert.PxKernelIdeal.nD Cert.PxKernelIdeal.τ).loc Cert.PxKernelIdeal.main_arg0)
          ∧ r.2.mem ((c.tc : Thread Cert.PxKernelIdeal.nD Cert.PxKernelIdeal.τ).loc Cert.PxKernelIdeal.main_arg1) = m ((c.tc : Thread Cert.PxKernelIdeal.nD Cert.PxKernelIdeal.τ).loc Cert.PxKernelIdeal.main_arg1)
          ∧ r.2.mem ((c.tc : Thread Cert.PxKernelIdeal.nD Cert.PxKernelIdeal.τ).loc Cert.PxKernelIdeal.main_arg2) = m ((c.tc : Thread Cert.PxKernelIdeal.nD Cert.PxKernelIdeal.τ).loc Cert.PxKernelIdeal.main_arg2)
          ∧ r.2.mem ((c.tc : Thread Cert.PxKernelIdeal.nD Cert.PxKernelIdeal.τ).loc Cert.PxKernelIdeal.main_arg3) = m ((c.tc : Thread Cert.PxKernelIdeal.nD Cert.PxKernelIdeal.τ).loc Cert.PxKernelIdeal.main_arg3)
          ∧ r.2.mem ((c.tc : Thread Cert.PxKernelIdeal.nD Cert.PxKernelIdeal.τ).loc Cert.PxKernelIdeal.main_arg4) = m ((c.tc : Thread Cert.PxKernelIdeal.nD Cert.PxKernelIdeal.τ).loc Cert.PxKernelIdeal.main_arg4))
      ∧ θ_run (Cert.PxReferenceIdeal.defs (F := Ideal)) (onTc (τ := Cert.PxReferenceIdeal.τ) (Cert.PxReferenceIdeal.main (F := Ideal))) ⟨m', fun _ => 0, g'⟩ (fun r =>
          r.2.mem (((0 : Dev Cert.PxReferenceIdeal.nD).tc : Thread Cert.PxReferenceIdeal.nD Cert.PxReferenceIdeal.τ).loc Cert.PxReferenceIdeal.main_v5) = v0
          ∧ r.2.mem (((0 : Dev Cert.PxReferenceIdeal.nD).tc : Thread Cert.PxReferenceIdeal.nD Cert.PxReferenceIdeal.τ).loc Cert.PxReferenceIdeal.main_v107) = v1
          ∧ r.2.mem (((0 : Dev Cert.PxReferenceIdeal.nD).tc : Thread Cert.PxReferenceIdeal.nD Cert.PxReferenceIdeal.τ).loc Cert.PxReferenceIdeal.main_v108) = v2
          ∧ r.2.mem (((0 : Dev Cert.PxReferenceIdeal.nD).tc : Thread Cert.PxReferenceIdeal.nD Cert.PxReferenceIdeal.τ).loc Cert.PxReferenceIdeal.main_v109) = v3
          ∧ r.2.mem (((0 : Dev Cert.PxReferenceIdeal.nD).tc : Thread Cert.PxReferenceIdeal.nD Cert.PxReferenceIdeal.τ).loc Cert.PxReferenceIdeal.main_arg0) = m' (((0 : Dev Cert.PxReferenceIdeal.nD).tc : Thread Cert.PxReferenceIdeal.nD Cert.PxReferenceIdeal.τ).loc Cert.PxReferenceIdeal.main_arg0)
          ∧ r.2.mem (((0 : Dev Cert.PxReferenceIdeal.nD).tc : Thread Cert.PxReferenceIdeal.nD Cert.PxReferenceIdeal.τ).loc Cert.PxReferenceIdeal.main_arg1) = m' (((0 : Dev Cert.PxReferenceIdeal.nD).tc : Thread Cert.PxReferenceIdeal.nD Cert.PxReferenceIdeal.τ).loc Cert.PxReferenceIdeal.main_arg1)
          ∧ r.2.mem (((0 : Dev Cert.PxReferenceIdeal.nD).tc : Thread Cert.PxReferenceIdeal.nD Cert.PxReferenceIdeal.τ).loc Cert.PxReferenceIdeal.main_arg2) = m' (((0 : Dev Cert.PxReferenceIdeal.nD).tc : Thread Cert.PxReferenceIdeal.nD Cert.PxReferenceIdeal.τ).loc Cert.PxReferenceIdeal.main_arg2)
          ∧ r.2.mem (((0 : Dev Cert.PxReferenceIdeal.nD).tc : Thread Cert.PxReferenceIdeal.nD Cert.PxReferenceIdeal.τ).loc Cert.PxReferenceIdeal.main_arg3) = m' (((0 : Dev Cert.PxReferenceIdeal.nD).tc : Thread Cert.PxReferenceIdeal.nD Cert.PxReferenceIdeal.τ).loc Cert.PxReferenceIdeal.main_arg3)
          ∧ r.2.mem (((0 : Dev Cert.PxReferenceIdeal.nD).tc : Thread Cert.PxReferenceIdeal.nD Cert.PxReferenceIdeal.τ).loc Cert.PxReferenceIdeal.main_arg4) = m' (((0 : Dev Cert.PxReferenceIdeal.nD).tc : Thread Cert.PxReferenceIdeal.nD Cert.PxReferenceIdeal.τ).loc Cert.PxReferenceIdeal.main_arg4))

def preserves_OwKernel_OwKernelIdeal : Prop :=
  True

def algebraic_OwKernelIdeal_OwReferenceIdeal [hOwKernelIdeal : Cert.OwKernelIdeal.Facts] [hOwReferenceIdeal : Cert.OwReferenceIdeal.Facts] : Prop :=
  ∀ (m : (ℓ : Loc Cert.OwKernelIdeal.nD Cert.OwKernelIdeal.τ Cert.OwKernelIdeal.sig) → Buf (Elt Ideal) ℓ) (g : Dev Cert.OwKernelIdeal.nD → PrngReg)
    (m' : (ℓ : Loc Cert.OwReferenceIdeal.nD Cert.OwReferenceIdeal.τ Cert.OwReferenceIdeal.sig) → Buf (Elt Ideal) ℓ) (g' : Dev Cert.OwReferenceIdeal.nD → PrngReg), Pre_OwKernelIdeal m →
    (∀ c : Dev Cert.OwKernelIdeal.nD,
      m ((c.tc : Thread Cert.OwKernelIdeal.nD Cert.OwKernelIdeal.τ).loc Cert.OwKernelIdeal.main_arg0) = Layout.block ⟨2, ![4096, 4096]⟩ ⟨2, ![32768, 4096]⟩ 0 8 c (m' (((0 : Dev Cert.OwReferenceIdeal.nD).tc : Thread Cert.OwReferenceIdeal.nD Cert.OwReferenceIdeal.τ).loc Cert.OwReferenceIdeal.main_arg0))
      ∧ m ((c.tc : Thread Cert.OwKernelIdeal.nD Cert.OwKernelIdeal.τ).loc Cert.OwKernelIdeal.main_arg1) = Layout.block ⟨2, ![4096, 4096]⟩ ⟨2, ![32768, 4096]⟩ 0 8 c (m' (((0 : Dev Cert.OwReferenceIdeal.nD).tc : Thread Cert.OwReferenceIdeal.nD Cert.OwReferenceIdeal.τ).loc Cert.OwReferenceIdeal.main_arg1))
      ∧ m ((c.tc : Thread Cert.OwKernelIdeal.nD Cert.OwKernelIdeal.τ).loc Cert.OwKernelIdeal.main_arg2) = Layout.block ⟨3, ![4, 1024, 2560]⟩ ⟨3, ![32, 1024, 2560]⟩ 0 8 c (m' (((0 : Dev Cert.OwReferenceIdeal.nD).tc : Thread Cert.OwReferenceIdeal.nD Cert.OwReferenceIdeal.τ).loc Cert.OwReferenceIdeal.main_arg2))
      ∧ m ((c.tc : Thread Cert.OwKernelIdeal.nD Cert.OwKernelIdeal.τ).loc Cert.OwKernelIdeal.main_arg3) = Layout.block ⟨3, ![4, 2048, 2560]⟩ ⟨3, ![32, 2048, 2560]⟩ 0 8 c (m' (((0 : Dev Cert.OwReferenceIdeal.nD).tc : Thread Cert.OwReferenceIdeal.nD Cert.OwReferenceIdeal.τ).loc Cert.OwReferenceIdeal.main_arg3))
      ∧ m ((c.tc : Thread Cert.OwKernelIdeal.nD Cert.OwKernelIdeal.τ).loc Cert.OwKernelIdeal.main_arg4) = Layout.block ⟨2, ![4096, 4096]⟩ ⟨2, ![32768, 4096]⟩ 0 8 c (m' (((0 : Dev Cert.OwReferenceIdeal.nD).tc : Thread Cert.OwReferenceIdeal.nD Cert.OwReferenceIdeal.τ).loc Cert.OwReferenceIdeal.main_arg4))) →
    ∃ (v0 : Buf (Elt Ideal) (((0 : Dev Cert.OwReferenceIdeal.nD).tc : Thread Cert.OwReferenceIdeal.nD Cert.OwReferenceIdeal.τ).loc Cert.OwReferenceIdeal.main_v69)) (v1 : Buf (Elt Ideal) (((0 : Dev Cert.OwReferenceIdeal.nD).tc : Thread Cert.OwReferenceIdeal.nD Cert.OwReferenceIdeal.τ).loc Cert.OwReferenceIdeal.main_v70)) (v2 : Buf (Elt Ideal) (((0 : Dev Cert.OwReferenceIdeal.nD).tc : Thread Cert.OwReferenceIdeal.nD Cert.OwReferenceIdeal.τ).loc Cert.OwReferenceIdeal.main_v71)) (v3 : Buf (Elt Ideal) (((0 : Dev Cert.OwReferenceIdeal.nD).tc : Thread Cert.OwReferenceIdeal.nD Cert.OwReferenceIdeal.τ).loc Cert.OwReferenceIdeal.main_v72)),
      θ_run (Cert.OwKernelIdeal.defs (F := Ideal)) (onTc (τ := Cert.OwKernelIdeal.τ) (Cert.OwKernelIdeal.main (F := Ideal))) ⟨m, fun _ => 0, g⟩ (fun r => ∀ c : Dev Cert.OwKernelIdeal.nD,
          r.2.mem ((c.tc : Thread Cert.OwKernelIdeal.nD Cert.OwKernelIdeal.τ).loc Cert.OwKernelIdeal.main_v1_0) = Layout.block ⟨2, ![4096, 4096]⟩ ⟨2, ![32768, 4096]⟩ 0 8 c v0
          ∧ r.2.mem ((c.tc : Thread Cert.OwKernelIdeal.nD Cert.OwKernelIdeal.τ).loc Cert.OwKernelIdeal.main_v2) = Layout.block ⟨3, ![3, 704, 2560]⟩ ⟨3, ![24, 704, 2560]⟩ 0 8 c v1
          ∧ r.2.mem ((c.tc : Thread Cert.OwKernelIdeal.nD Cert.OwKernelIdeal.τ).loc Cert.OwKernelIdeal.main_v1_2) = Layout.block ⟨3, ![4, 1024, 2560]⟩ ⟨3, ![32, 1024, 2560]⟩ 0 8 c v2
          ∧ r.2.mem ((c.tc : Thread Cert.OwKernelIdeal.nD Cert.OwKernelIdeal.τ).loc Cert.OwKernelIdeal.main_v1_3) = Layout.block ⟨2, ![2048, 4096]⟩ ⟨2, ![16384, 4096]⟩ 0 8 c v3
          ∧ r.2.mem ((c.tc : Thread Cert.OwKernelIdeal.nD Cert.OwKernelIdeal.τ).loc Cert.OwKernelIdeal.main_arg0) = m ((c.tc : Thread Cert.OwKernelIdeal.nD Cert.OwKernelIdeal.τ).loc Cert.OwKernelIdeal.main_arg0)
          ∧ r.2.mem ((c.tc : Thread Cert.OwKernelIdeal.nD Cert.OwKernelIdeal.τ).loc Cert.OwKernelIdeal.main_arg1) = m ((c.tc : Thread Cert.OwKernelIdeal.nD Cert.OwKernelIdeal.τ).loc Cert.OwKernelIdeal.main_arg1)
          ∧ r.2.mem ((c.tc : Thread Cert.OwKernelIdeal.nD Cert.OwKernelIdeal.τ).loc Cert.OwKernelIdeal.main_arg2) = m ((c.tc : Thread Cert.OwKernelIdeal.nD Cert.OwKernelIdeal.τ).loc Cert.OwKernelIdeal.main_arg2)
          ∧ r.2.mem ((c.tc : Thread Cert.OwKernelIdeal.nD Cert.OwKernelIdeal.τ).loc Cert.OwKernelIdeal.main_arg3) = m ((c.tc : Thread Cert.OwKernelIdeal.nD Cert.OwKernelIdeal.τ).loc Cert.OwKernelIdeal.main_arg3)
          ∧ r.2.mem ((c.tc : Thread Cert.OwKernelIdeal.nD Cert.OwKernelIdeal.τ).loc Cert.OwKernelIdeal.main_arg4) = m ((c.tc : Thread Cert.OwKernelIdeal.nD Cert.OwKernelIdeal.τ).loc Cert.OwKernelIdeal.main_arg4))
      ∧ θ_run (Cert.OwReferenceIdeal.defs (F := Ideal)) (onTc (τ := Cert.OwReferenceIdeal.τ) (Cert.OwReferenceIdeal.main (F := Ideal))) ⟨m', fun _ => 0, g'⟩ (fun r =>
          r.2.mem (((0 : Dev Cert.OwReferenceIdeal.nD).tc : Thread Cert.OwReferenceIdeal.nD Cert.OwReferenceIdeal.τ).loc Cert.OwReferenceIdeal.main_v69) = v0
          ∧ r.2.mem (((0 : Dev Cert.OwReferenceIdeal.nD).tc : Thread Cert.OwReferenceIdeal.nD Cert.OwReferenceIdeal.τ).loc Cert.OwReferenceIdeal.main_v70) = v1
          ∧ r.2.mem (((0 : Dev Cert.OwReferenceIdeal.nD).tc : Thread Cert.OwReferenceIdeal.nD Cert.OwReferenceIdeal.τ).loc Cert.OwReferenceIdeal.main_v71) = v2
          ∧ r.2.mem (((0 : Dev Cert.OwReferenceIdeal.nD).tc : Thread Cert.OwReferenceIdeal.nD Cert.OwReferenceIdeal.τ).loc Cert.OwReferenceIdeal.main_v72) = v3
          ∧ r.2.mem (((0 : Dev Cert.OwReferenceIdeal.nD).tc : Thread Cert.OwReferenceIdeal.nD Cert.OwReferenceIdeal.τ).loc Cert.OwReferenceIdeal.main_arg0) = m' (((0 : Dev Cert.OwReferenceIdeal.nD).tc : Thread Cert.OwReferenceIdeal.nD Cert.OwReferenceIdeal.τ).loc Cert.OwReferenceIdeal.main_arg0)
          ∧ r.2.mem (((0 : Dev Cert.OwReferenceIdeal.nD).tc : Thread Cert.OwReferenceIdeal.nD Cert.OwReferenceIdeal.τ).loc Cert.OwReferenceIdeal.main_arg1) = m' (((0 : Dev Cert.OwReferenceIdeal.nD).tc : Thread Cert.OwReferenceIdeal.nD Cert.OwReferenceIdeal.τ).loc Cert.OwReferenceIdeal.main_arg1)
          ∧ r.2.mem (((0 : Dev Cert.OwReferenceIdeal.nD).tc : Thread Cert.OwReferenceIdeal.nD Cert.OwReferenceIdeal.τ).loc Cert.OwReferenceIdeal.main_arg2) = m' (((0 : Dev Cert.OwReferenceIdeal.nD).tc : Thread Cert.OwReferenceIdeal.nD Cert.OwReferenceIdeal.τ).loc Cert.OwReferenceIdeal.main_arg2)
          ∧ r.2.mem (((0 : Dev Cert.OwReferenceIdeal.nD).tc : Thread Cert.OwReferenceIdeal.nD Cert.OwReferenceIdeal.τ).loc Cert.OwReferenceIdeal.main_arg3) = m' (((0 : Dev Cert.OwReferenceIdeal.nD).tc : Thread Cert.OwReferenceIdeal.nD Cert.OwReferenceIdeal.τ).loc Cert.OwReferenceIdeal.main_arg3)
          ∧ r.2.mem (((0 : Dev Cert.OwReferenceIdeal.nD).tc : Thread Cert.OwReferenceIdeal.nD Cert.OwReferenceIdeal.τ).loc Cert.OwReferenceIdeal.main_arg4) = m' (((0 : Dev Cert.OwReferenceIdeal.nD).tc : Thread Cert.OwReferenceIdeal.nD Cert.OwReferenceIdeal.τ).loc Cert.OwReferenceIdeal.main_arg4))

def preserves_FwKernel_FwKernelIdeal : Prop :=
  True

def algebraic_FwKernelIdeal_FwReferenceIdeal [hFwKernelIdeal : Cert.FwKernelIdeal.Facts] [hFwReferenceIdeal : Cert.FwReferenceIdeal.Facts] : Prop :=
  ∀ (m : (ℓ : Loc Cert.FwKernelIdeal.nD Cert.FwKernelIdeal.τ Cert.FwKernelIdeal.sig) → Buf (Elt Ideal) ℓ) (g : Dev Cert.FwKernelIdeal.nD → PrngReg)
    (m' : (ℓ : Loc Cert.FwReferenceIdeal.nD Cert.FwReferenceIdeal.τ Cert.FwReferenceIdeal.sig) → Buf (Elt Ideal) ℓ) (g' : Dev Cert.FwReferenceIdeal.nD → PrngReg), Pre_FwKernelIdeal m →
    (∀ c : Dev Cert.FwKernelIdeal.nD,
      m ((c.tc : Thread Cert.FwKernelIdeal.nD Cert.FwKernelIdeal.τ).loc Cert.FwKernelIdeal.main_arg0) = Layout.block ⟨2, ![4096, 4096]⟩ ⟨2, ![32768, 4096]⟩ 0 8 c (m' (((0 : Dev Cert.FwReferenceIdeal.nD).tc : Thread Cert.FwReferenceIdeal.nD Cert.FwReferenceIdeal.τ).loc Cert.FwReferenceIdeal.main_arg0))
      ∧ m ((c.tc : Thread Cert.FwKernelIdeal.nD Cert.FwKernelIdeal.τ).loc Cert.FwKernelIdeal.main_arg1) = m' (((0 : Dev Cert.FwReferenceIdeal.nD).tc : Thread Cert.FwReferenceIdeal.nD Cert.FwReferenceIdeal.τ).loc Cert.FwReferenceIdeal.main_arg1)
      ∧ m ((c.tc : Thread Cert.FwKernelIdeal.nD Cert.FwKernelIdeal.τ).loc Cert.FwKernelIdeal.main_arg2) = Layout.blockN ⟨2, ![4096, 4096]⟩ ⟨2, ![16384, 4096]⟩ (Layout.meshBlock [2, 2, 2] ![[0, 1], []] c) (m' (((0 : Dev Cert.FwReferenceIdeal.nD).tc : Thread Cert.FwReferenceIdeal.nD Cert.FwReferenceIdeal.τ).loc Cert.FwReferenceIdeal.main_arg2))) →
    ∃ (v0 : Buf (Elt Ideal) (((0 : Dev Cert.FwReferenceIdeal.nD).tc : Thread Cert.FwReferenceIdeal.nD Cert.FwReferenceIdeal.τ).loc Cert.FwReferenceIdeal.main_v7)) (v1 : Buf (Elt Ideal) (((0 : Dev Cert.FwReferenceIdeal.nD).tc : Thread Cert.FwReferenceIdeal.nD Cert.FwReferenceIdeal.τ).loc Cert.FwReferenceIdeal.main_v9)) (v2 : Buf (Elt Ideal) (((0 : Dev Cert.FwReferenceIdeal.nD).tc : Thread Cert.FwReferenceIdeal.nD Cert.FwReferenceIdeal.τ).loc Cert.FwReferenceIdeal.main_v10)),
      θ_run (Cert.FwKernelIdeal.defs (F := Ideal)) (onTc (τ := Cert.FwKernelIdeal.τ) (Cert.FwKernelIdeal.main (F := Ideal))) ⟨m, fun _ => 0, g⟩ (fun r => ∀ c : Dev Cert.FwKernelIdeal.nD,
          r.2.mem ((c.tc : Thread Cert.FwKernelIdeal.nD Cert.FwKernelIdeal.τ).loc Cert.FwKernelIdeal.main_v1_0) = Layout.block ⟨2, ![4096, 16384]⟩ ⟨2, ![32768, 16384]⟩ 0 8 c v0
          ∧ r.2.mem ((c.tc : Thread Cert.FwKernelIdeal.nD Cert.FwKernelIdeal.τ).loc Cert.FwKernelIdeal.main_v1_1) = Layout.block ⟨2, ![4096, 16384]⟩ ⟨2, ![32768, 16384]⟩ 0 8 c v1
          ∧ r.2.mem ((c.tc : Thread Cert.FwKernelIdeal.nD Cert.FwKernelIdeal.τ).loc Cert.FwKernelIdeal.main_v18) = v2
          ∧ r.2.mem ((c.tc : Thread Cert.FwKernelIdeal.nD Cert.FwKernelIdeal.τ).loc Cert.FwKernelIdeal.main_arg0) = m ((c.tc : Thread Cert.FwKernelIdeal.nD Cert.FwKernelIdeal.τ).loc Cert.FwKernelIdeal.main_arg0)
          ∧ r.2.mem ((c.tc : Thread Cert.FwKernelIdeal.nD Cert.FwKernelIdeal.τ).loc Cert.FwKernelIdeal.main_arg1) = m ((c.tc : Thread Cert.FwKernelIdeal.nD Cert.FwKernelIdeal.τ).loc Cert.FwKernelIdeal.main_arg1)
          ∧ r.2.mem ((c.tc : Thread Cert.FwKernelIdeal.nD Cert.FwKernelIdeal.τ).loc Cert.FwKernelIdeal.main_arg2) = m ((c.tc : Thread Cert.FwKernelIdeal.nD Cert.FwKernelIdeal.τ).loc Cert.FwKernelIdeal.main_arg2))
      ∧ θ_run (Cert.FwReferenceIdeal.defs (F := Ideal)) (onTc (τ := Cert.FwReferenceIdeal.τ) (Cert.FwReferenceIdeal.main (F := Ideal))) ⟨m', fun _ => 0, g'⟩ (fun r =>
          r.2.mem (((0 : Dev Cert.FwReferenceIdeal.nD).tc : Thread Cert.FwReferenceIdeal.nD Cert.FwReferenceIdeal.τ).loc Cert.FwReferenceIdeal.main_v7) = v0
          ∧ r.2.mem (((0 : Dev Cert.FwReferenceIdeal.nD).tc : Thread Cert.FwReferenceIdeal.nD Cert.FwReferenceIdeal.τ).loc Cert.FwReferenceIdeal.main_v9) = v1
          ∧ r.2.mem (((0 : Dev Cert.FwReferenceIdeal.nD).tc : Thread Cert.FwReferenceIdeal.nD Cert.FwReferenceIdeal.τ).loc Cert.FwReferenceIdeal.main_v10) = v2
          ∧ r.2.mem (((0 : Dev Cert.FwReferenceIdeal.nD).tc : Thread Cert.FwReferenceIdeal.nD Cert.FwReferenceIdeal.τ).loc Cert.FwReferenceIdeal.main_arg0) = m' (((0 : Dev Cert.FwReferenceIdeal.nD).tc : Thread Cert.FwReferenceIdeal.nD Cert.FwReferenceIdeal.τ).loc Cert.FwReferenceIdeal.main_arg0)
          ∧ r.2.mem (((0 : Dev Cert.FwReferenceIdeal.nD).tc : Thread Cert.FwReferenceIdeal.nD Cert.FwReferenceIdeal.τ).loc Cert.FwReferenceIdeal.main_arg1) = m' (((0 : Dev Cert.FwReferenceIdeal.nD).tc : Thread Cert.FwReferenceIdeal.nD Cert.FwReferenceIdeal.τ).loc Cert.FwReferenceIdeal.main_arg1)
          ∧ r.2.mem (((0 : Dev Cert.FwReferenceIdeal.nD).tc : Thread Cert.FwReferenceIdeal.nD Cert.FwReferenceIdeal.τ).loc Cert.FwReferenceIdeal.main_arg2) = m' (((0 : Dev Cert.FwReferenceIdeal.nD).tc : Thread Cert.FwReferenceIdeal.nD Cert.FwReferenceIdeal.τ).loc Cert.FwReferenceIdeal.main_arg2))

def preserves_OfKernel_OfKernelIdeal : Prop :=
  True

def algebraic_OfKernelIdeal_OfReferenceIdeal [hOfKernelIdeal : Cert.OfKernelIdeal.Facts] [hOfReferenceIdeal : Cert.OfReferenceIdeal.Facts] : Prop :=
  ∀ (m : (ℓ : Loc Cert.OfKernelIdeal.nD Cert.OfKernelIdeal.τ Cert.OfKernelIdeal.sig) → Buf (Elt Ideal) ℓ) (g : Dev Cert.OfKernelIdeal.nD → PrngReg)
    (m' : (ℓ : Loc Cert.OfReferenceIdeal.nD Cert.OfReferenceIdeal.τ Cert.OfReferenceIdeal.sig) → Buf (Elt Ideal) ℓ) (g' : Dev Cert.OfReferenceIdeal.nD → PrngReg), Pre_OfKernelIdeal m →
    (∀ c : Dev Cert.OfKernelIdeal.nD,
      m ((c.tc : Thread Cert.OfKernelIdeal.nD Cert.OfKernelIdeal.τ).loc Cert.OfKernelIdeal.main_arg0) = Layout.block ⟨2, ![4096, 4096]⟩ ⟨2, ![32768, 4096]⟩ 0 8 c (m' (((0 : Dev Cert.OfReferenceIdeal.nD).tc : Thread Cert.OfReferenceIdeal.nD Cert.OfReferenceIdeal.τ).loc Cert.OfReferenceIdeal.main_arg0))
      ∧ m ((c.tc : Thread Cert.OfKernelIdeal.nD Cert.OfKernelIdeal.τ).loc Cert.OfKernelIdeal.main_arg1) = m' (((0 : Dev Cert.OfReferenceIdeal.nD).tc : Thread Cert.OfReferenceIdeal.nD Cert.OfReferenceIdeal.τ).loc Cert.OfReferenceIdeal.main_arg1)
      ∧ m ((c.tc : Thread Cert.OfKernelIdeal.nD Cert.OfKernelIdeal.τ).loc Cert.OfKernelIdeal.main_arg2) = Layout.block ⟨2, ![4096, 4096]⟩ ⟨2, ![32768, 4096]⟩ 0 8 c (m' (((0 : Dev Cert.OfReferenceIdeal.nD).tc : Thread Cert.OfReferenceIdeal.nD Cert.OfReferenceIdeal.τ).loc Cert.OfReferenceIdeal.main_arg2))
      ∧ m ((c.tc : Thread Cert.OfKernelIdeal.nD Cert.OfKernelIdeal.τ).loc Cert.OfKernelIdeal.main_arg3) = Layout.blockN ⟨2, ![4096, 4096]⟩ ⟨2, ![16384, 4096]⟩ (Layout.meshBlock [2, 2, 2] ![[0, 1], []] c) (m' (((0 : Dev Cert.OfReferenceIdeal.nD).tc : Thread Cert.OfReferenceIdeal.nD Cert.OfReferenceIdeal.τ).loc Cert.OfReferenceIdeal.main_arg3))) →
    ∃ (v0 : Buf (Elt Ideal) (((0 : Dev Cert.OfReferenceIdeal.nD).tc : Thread Cert.OfReferenceIdeal.nD Cert.OfReferenceIdeal.τ).loc Cert.OfReferenceIdeal.main_v3)) (v1 : Buf (Elt Ideal) (((0 : Dev Cert.OfReferenceIdeal.nD).tc : Thread Cert.OfReferenceIdeal.nD Cert.OfReferenceIdeal.τ).loc Cert.OfReferenceIdeal.main_v5)),
      θ_run (Cert.OfKernelIdeal.defs (F := Ideal)) (onTc (τ := Cert.OfKernelIdeal.τ) (Cert.OfKernelIdeal.main (F := Ideal))) ⟨m, fun _ => 0, g⟩ (fun r => ∀ c : Dev Cert.OfKernelIdeal.nD,
          r.2.mem ((c.tc : Thread Cert.OfKernelIdeal.nD Cert.OfKernelIdeal.τ).loc Cert.OfKernelIdeal.main_v1_0) = Layout.block ⟨2, ![4096, 4096]⟩ ⟨2, ![32768, 4096]⟩ 0 8 c v0
          ∧ r.2.mem ((c.tc : Thread Cert.OfKernelIdeal.nD Cert.OfKernelIdeal.τ).loc Cert.OfKernelIdeal.main_v22) = v1
          ∧ r.2.mem ((c.tc : Thread Cert.OfKernelIdeal.nD Cert.OfKernelIdeal.τ).loc Cert.OfKernelIdeal.main_arg0) = m ((c.tc : Thread Cert.OfKernelIdeal.nD Cert.OfKernelIdeal.τ).loc Cert.OfKernelIdeal.main_arg0)
          ∧ r.2.mem ((c.tc : Thread Cert.OfKernelIdeal.nD Cert.OfKernelIdeal.τ).loc Cert.OfKernelIdeal.main_arg1) = m ((c.tc : Thread Cert.OfKernelIdeal.nD Cert.OfKernelIdeal.τ).loc Cert.OfKernelIdeal.main_arg1)
          ∧ r.2.mem ((c.tc : Thread Cert.OfKernelIdeal.nD Cert.OfKernelIdeal.τ).loc Cert.OfKernelIdeal.main_arg2) = m ((c.tc : Thread Cert.OfKernelIdeal.nD Cert.OfKernelIdeal.τ).loc Cert.OfKernelIdeal.main_arg2)
          ∧ r.2.mem ((c.tc : Thread Cert.OfKernelIdeal.nD Cert.OfKernelIdeal.τ).loc Cert.OfKernelIdeal.main_arg3) = m ((c.tc : Thread Cert.OfKernelIdeal.nD Cert.OfKernelIdeal.τ).loc Cert.OfKernelIdeal.main_arg3))
      ∧ θ_run (Cert.OfReferenceIdeal.defs (F := Ideal)) (onTc (τ := Cert.OfReferenceIdeal.τ) (Cert.OfReferenceIdeal.main (F := Ideal))) ⟨m', fun _ => 0, g'⟩ (fun r =>
          r.2.mem (((0 : Dev Cert.OfReferenceIdeal.nD).tc : Thread Cert.OfReferenceIdeal.nD Cert.OfReferenceIdeal.τ).loc Cert.OfReferenceIdeal.main_v3) = v0
          ∧ r.2.mem (((0 : Dev Cert.OfReferenceIdeal.nD).tc : Thread Cert.OfReferenceIdeal.nD Cert.OfReferenceIdeal.τ).loc Cert.OfReferenceIdeal.main_v5) = v1
          ∧ r.2.mem (((0 : Dev Cert.OfReferenceIdeal.nD).tc : Thread Cert.OfReferenceIdeal.nD Cert.OfReferenceIdeal.τ).loc Cert.OfReferenceIdeal.main_arg0) = m' (((0 : Dev Cert.OfReferenceIdeal.nD).tc : Thread Cert.OfReferenceIdeal.nD Cert.OfReferenceIdeal.τ).loc Cert.OfReferenceIdeal.main_arg0)
          ∧ r.2.mem (((0 : Dev Cert.OfReferenceIdeal.nD).tc : Thread Cert.OfReferenceIdeal.nD Cert.OfReferenceIdeal.τ).loc Cert.OfReferenceIdeal.main_arg1) = m' (((0 : Dev Cert.OfReferenceIdeal.nD).tc : Thread Cert.OfReferenceIdeal.nD Cert.OfReferenceIdeal.τ).loc Cert.OfReferenceIdeal.main_arg1)
          ∧ r.2.mem (((0 : Dev Cert.OfReferenceIdeal.nD).tc : Thread Cert.OfReferenceIdeal.nD Cert.OfReferenceIdeal.τ).loc Cert.OfReferenceIdeal.main_arg2) = m' (((0 : Dev Cert.OfReferenceIdeal.nD).tc : Thread Cert.OfReferenceIdeal.nD Cert.OfReferenceIdeal.τ).loc Cert.OfReferenceIdeal.main_arg2)
          ∧ r.2.mem (((0 : Dev Cert.OfReferenceIdeal.nD).tc : Thread Cert.OfReferenceIdeal.nD Cert.OfReferenceIdeal.τ).loc Cert.OfReferenceIdeal.main_arg3) = m' (((0 : Dev Cert.OfReferenceIdeal.nD).tc : Thread Cert.OfReferenceIdeal.nD Cert.OfReferenceIdeal.τ).loc Cert.OfReferenceIdeal.main_arg3))

def preserves_NmKernel_NmKernelIdeal : Prop :=
  True

def algebraic_NmKernelIdeal_NmReferenceIdeal [hNmKernelIdeal : Cert.NmKernelIdeal.Facts] [hNmReferenceIdeal : Cert.NmReferenceIdeal.Facts] : Prop :=
  ∀ (m : (ℓ : Loc Cert.NmKernelIdeal.nD Cert.NmKernelIdeal.τ Cert.NmKernelIdeal.sig) → Buf (Elt Ideal) ℓ) (g : Dev Cert.NmKernelIdeal.nD → PrngReg)
    (m' : (ℓ : Loc Cert.NmReferenceIdeal.nD Cert.NmReferenceIdeal.τ Cert.NmReferenceIdeal.sig) → Buf (Elt Ideal) ℓ) (g' : Dev Cert.NmReferenceIdeal.nD → PrngReg), Pre_NmKernelIdeal m →
    (∀ c : Dev Cert.NmKernelIdeal.nD,
      m ((c.tc : Thread Cert.NmKernelIdeal.nD Cert.NmKernelIdeal.τ).loc Cert.NmKernelIdeal.main_arg0) = Layout.block ⟨2, ![4096, 4096]⟩ ⟨2, ![32768, 4096]⟩ 0 8 c (m' (((0 : Dev Cert.NmReferenceIdeal.nD).tc : Thread Cert.NmReferenceIdeal.nD Cert.NmReferenceIdeal.τ).loc Cert.NmReferenceIdeal.main_arg0))
      ∧ m ((c.tc : Thread Cert.NmKernelIdeal.nD Cert.NmKernelIdeal.τ).loc Cert.NmKernelIdeal.main_arg1) = m' (((0 : Dev Cert.NmReferenceIdeal.nD).tc : Thread Cert.NmReferenceIdeal.nD Cert.NmReferenceIdeal.τ).loc Cert.NmReferenceIdeal.main_arg1)
      ∧ m ((c.tc : Thread Cert.NmKernelIdeal.nD Cert.NmKernelIdeal.τ).loc Cert.NmKernelIdeal.main_arg2) = Layout.blockN ⟨2, ![4096, 4096]⟩ ⟨2, ![16384, 4096]⟩ (Layout.meshBlock [2, 2, 2] ![[0, 1], []] c) (m' (((0 : Dev Cert.NmReferenceIdeal.nD).tc : Thread Cert.NmReferenceIdeal.nD Cert.NmReferenceIdeal.τ).loc Cert.NmReferenceIdeal.main_arg2))) →
    ∃ (v0 : Buf (Elt Ideal) (((0 : Dev Cert.NmReferenceIdeal.nD).tc : Thread Cert.NmReferenceIdeal.nD Cert.NmReferenceIdeal.τ).loc Cert.NmReferenceIdeal.main_v12)) (v1 : Buf (Elt Ideal) (((0 : Dev Cert.NmReferenceIdeal.nD).tc : Thread Cert.NmReferenceIdeal.nD Cert.NmReferenceIdeal.τ).loc Cert.NmReferenceIdeal.main_v14)),
      θ_run (Cert.NmKernelIdeal.defs (F := Ideal)) (onTc (τ := Cert.NmKernelIdeal.τ) (Cert.NmKernelIdeal.main (F := Ideal))) ⟨m, fun _ => 0, g⟩ (fun r => ∀ c : Dev Cert.NmKernelIdeal.nD,
          r.2.mem ((c.tc : Thread Cert.NmKernelIdeal.nD Cert.NmKernelIdeal.τ).loc Cert.NmKernelIdeal.main_v1_0) = Layout.block ⟨2, ![4096, 4096]⟩ ⟨2, ![32768, 4096]⟩ 0 8 c v0
          ∧ r.2.mem ((c.tc : Thread Cert.NmKernelIdeal.nD Cert.NmKernelIdeal.τ).loc Cert.NmKernelIdeal.main_v22) = v1
          ∧ r.2.mem ((c.tc : Thread Cert.NmKernelIdeal.nD Cert.NmKernelIdeal.τ).loc Cert.NmKernelIdeal.main_arg0) = m ((c.tc : Thread Cert.NmKernelIdeal.nD Cert.NmKernelIdeal.τ).loc Cert.NmKernelIdeal.main_arg0)
          ∧ r.2.mem ((c.tc : Thread Cert.NmKernelIdeal.nD Cert.NmKernelIdeal.τ).loc Cert.NmKernelIdeal.main_arg1) = m ((c.tc : Thread Cert.NmKernelIdeal.nD Cert.NmKernelIdeal.τ).loc Cert.NmKernelIdeal.main_arg1)
          ∧ r.2.mem ((c.tc : Thread Cert.NmKernelIdeal.nD Cert.NmKernelIdeal.τ).loc Cert.NmKernelIdeal.main_arg2) = m ((c.tc : Thread Cert.NmKernelIdeal.nD Cert.NmKernelIdeal.τ).loc Cert.NmKernelIdeal.main_arg2))
      ∧ θ_run (Cert.NmReferenceIdeal.defs (F := Ideal)) (onTc (τ := Cert.NmReferenceIdeal.τ) (Cert.NmReferenceIdeal.main (F := Ideal))) ⟨m', fun _ => 0, g'⟩ (fun r =>
          r.2.mem (((0 : Dev Cert.NmReferenceIdeal.nD).tc : Thread Cert.NmReferenceIdeal.nD Cert.NmReferenceIdeal.τ).loc Cert.NmReferenceIdeal.main_v12) = v0
          ∧ r.2.mem (((0 : Dev Cert.NmReferenceIdeal.nD).tc : Thread Cert.NmReferenceIdeal.nD Cert.NmReferenceIdeal.τ).loc Cert.NmReferenceIdeal.main_v14) = v1
          ∧ r.2.mem (((0 : Dev Cert.NmReferenceIdeal.nD).tc : Thread Cert.NmReferenceIdeal.nD Cert.NmReferenceIdeal.τ).loc Cert.NmReferenceIdeal.main_arg0) = m' (((0 : Dev Cert.NmReferenceIdeal.nD).tc : Thread Cert.NmReferenceIdeal.nD Cert.NmReferenceIdeal.τ).loc Cert.NmReferenceIdeal.main_arg0)
          ∧ r.2.mem (((0 : Dev Cert.NmReferenceIdeal.nD).tc : Thread Cert.NmReferenceIdeal.nD Cert.NmReferenceIdeal.τ).loc Cert.NmReferenceIdeal.main_arg1) = m' (((0 : Dev Cert.NmReferenceIdeal.nD).tc : Thread Cert.NmReferenceIdeal.nD Cert.NmReferenceIdeal.τ).loc Cert.NmReferenceIdeal.main_arg1)
          ∧ r.2.mem (((0 : Dev Cert.NmReferenceIdeal.nD).tc : Thread Cert.NmReferenceIdeal.nD Cert.NmReferenceIdeal.τ).loc Cert.NmReferenceIdeal.main_arg2) = m' (((0 : Dev Cert.NmReferenceIdeal.nD).tc : Thread Cert.NmReferenceIdeal.nD Cert.NmReferenceIdeal.τ).loc Cert.NmReferenceIdeal.main_arg2))

def preserves_PfKernel_PfKernelIdeal : Prop :=
  True

def algebraic_PfKernelIdeal_PfReferenceIdeal [hPfKernelIdeal : Cert.PfKernelIdeal.Facts] [hPfReferenceIdeal : Cert.PfReferenceIdeal.Facts] : Prop :=
  ∀ (m : (ℓ : Loc Cert.PfKernelIdeal.nD Cert.PfKernelIdeal.τ Cert.PfKernelIdeal.sig) → Buf (Elt Ideal) ℓ) (g : Dev Cert.PfKernelIdeal.nD → PrngReg)
    (m' : (ℓ : Loc Cert.PfReferenceIdeal.nD Cert.PfReferenceIdeal.τ Cert.PfReferenceIdeal.sig) → Buf (Elt Ideal) ℓ) (g' : Dev Cert.PfReferenceIdeal.nD → PrngReg), Pre_PfKernelIdeal m →
    (∀ c : Dev Cert.PfKernelIdeal.nD,
      m ((c.tc : Thread Cert.PfKernelIdeal.nD Cert.PfKernelIdeal.τ).loc Cert.PfKernelIdeal.main_arg0) = Layout.block ⟨2, ![4096, 4096]⟩ ⟨2, ![32768, 4096]⟩ 0 8 c (m' (((0 : Dev Cert.PfReferenceIdeal.nD).tc : Thread Cert.PfReferenceIdeal.nD Cert.PfReferenceIdeal.τ).loc Cert.PfReferenceIdeal.main_arg0))
      ∧ m ((c.tc : Thread Cert.PfKernelIdeal.nD Cert.PfKernelIdeal.τ).loc Cert.PfKernelIdeal.main_arg1) = m' (((0 : Dev Cert.PfReferenceIdeal.nD).tc : Thread Cert.PfReferenceIdeal.nD Cert.PfReferenceIdeal.τ).loc Cert.PfReferenceIdeal.main_arg1)
      ∧ m ((c.tc : Thread Cert.PfKernelIdeal.nD Cert.PfKernelIdeal.τ).loc Cert.PfKernelIdeal.main_arg2) = Layout.blockN ⟨2, ![1024, 4096]⟩ ⟨2, ![4096, 4096]⟩ (Layout.meshBlock [2, 2, 2] ![[0, 1], []] c) (m' (((0 : Dev Cert.PfReferenceIdeal.nD).tc : Thread Cert.PfReferenceIdeal.nD Cert.PfReferenceIdeal.τ).loc Cert.PfReferenceIdeal.main_arg2))
      ∧ m ((c.tc : Thread Cert.PfKernelIdeal.nD Cert.PfKernelIdeal.τ).loc Cert.PfKernelIdeal.main_arg3) = Layout.blockN ⟨2, ![4096, 4096]⟩ ⟨2, ![16384, 4096]⟩ (Layout.meshBlock [2, 2, 2] ![[0, 1], []] c) (m' (((0 : Dev Cert.PfReferenceIdeal.nD).tc : Thread Cert.PfReferenceIdeal.nD Cert.PfReferenceIdeal.τ).loc Cert.PfReferenceIdeal.main_arg3))) →
    ∃ (v0 : Buf (Elt Ideal) (((0 : Dev Cert.PfReferenceIdeal.nD).tc : Thread Cert.PfReferenceIdeal.nD Cert.PfReferenceIdeal.τ).loc Cert.PfReferenceIdeal.main_v4)) (v1 : Buf (Elt Ideal) (((0 : Dev Cert.PfReferenceIdeal.nD).tc : Thread Cert.PfReferenceIdeal.nD Cert.PfReferenceIdeal.τ).loc Cert.PfReferenceIdeal.main_v5)) (v2 : Buf (Elt Ideal) (((0 : Dev Cert.PfReferenceIdeal.nD).tc : Thread Cert.PfReferenceIdeal.nD Cert.PfReferenceIdeal.τ).loc Cert.PfReferenceIdeal.main_v7)),
      θ_run (Cert.PfKernelIdeal.defs (F := Ideal)) (onTc (τ := Cert.PfKernelIdeal.τ) (Cert.PfKernelIdeal.main (F := Ideal))) ⟨m, fun _ => 0, g⟩ (fun r => ∀ c : Dev Cert.PfKernelIdeal.nD,
          r.2.mem ((c.tc : Thread Cert.PfKernelIdeal.nD Cert.PfKernelIdeal.τ).loc Cert.PfKernelIdeal.main_v1_0) = Layout.block ⟨2, ![4096, 10240]⟩ ⟨2, ![32768, 10240]⟩ 0 8 c v0
          ∧ r.2.mem ((c.tc : Thread Cert.PfKernelIdeal.nD Cert.PfKernelIdeal.τ).loc Cert.PfKernelIdeal.main_v18) = v1
          ∧ r.2.mem ((c.tc : Thread Cert.PfKernelIdeal.nD Cert.PfKernelIdeal.τ).loc Cert.PfKernelIdeal.main_v27) = v2
          ∧ r.2.mem ((c.tc : Thread Cert.PfKernelIdeal.nD Cert.PfKernelIdeal.τ).loc Cert.PfKernelIdeal.main_arg0) = m ((c.tc : Thread Cert.PfKernelIdeal.nD Cert.PfKernelIdeal.τ).loc Cert.PfKernelIdeal.main_arg0)
          ∧ r.2.mem ((c.tc : Thread Cert.PfKernelIdeal.nD Cert.PfKernelIdeal.τ).loc Cert.PfKernelIdeal.main_arg1) = m ((c.tc : Thread Cert.PfKernelIdeal.nD Cert.PfKernelIdeal.τ).loc Cert.PfKernelIdeal.main_arg1)
          ∧ r.2.mem ((c.tc : Thread Cert.PfKernelIdeal.nD Cert.PfKernelIdeal.τ).loc Cert.PfKernelIdeal.main_arg2) = m ((c.tc : Thread Cert.PfKernelIdeal.nD Cert.PfKernelIdeal.τ).loc Cert.PfKernelIdeal.main_arg2)
          ∧ r.2.mem ((c.tc : Thread Cert.PfKernelIdeal.nD Cert.PfKernelIdeal.τ).loc Cert.PfKernelIdeal.main_arg3) = m ((c.tc : Thread Cert.PfKernelIdeal.nD Cert.PfKernelIdeal.τ).loc Cert.PfKernelIdeal.main_arg3))
      ∧ θ_run (Cert.PfReferenceIdeal.defs (F := Ideal)) (onTc (τ := Cert.PfReferenceIdeal.τ) (Cert.PfReferenceIdeal.main (F := Ideal))) ⟨m', fun _ => 0, g'⟩ (fun r =>
          r.2.mem (((0 : Dev Cert.PfReferenceIdeal.nD).tc : Thread Cert.PfReferenceIdeal.nD Cert.PfReferenceIdeal.τ).loc Cert.PfReferenceIdeal.main_v4) = v0
          ∧ r.2.mem (((0 : Dev Cert.PfReferenceIdeal.nD).tc : Thread Cert.PfReferenceIdeal.nD Cert.PfReferenceIdeal.τ).loc Cert.PfReferenceIdeal.main_v5) = v1
          ∧ r.2.mem (((0 : Dev Cert.PfReferenceIdeal.nD).tc : Thread Cert.PfReferenceIdeal.nD Cert.PfReferenceIdeal.τ).loc Cert.PfReferenceIdeal.main_v7) = v2
          ∧ r.2.mem (((0 : Dev Cert.PfReferenceIdeal.nD).tc : Thread Cert.PfReferenceIdeal.nD Cert.PfReferenceIdeal.τ).loc Cert.PfReferenceIdeal.main_arg0) = m' (((0 : Dev Cert.PfReferenceIdeal.nD).tc : Thread Cert.PfReferenceIdeal.nD Cert.PfReferenceIdeal.τ).loc Cert.PfReferenceIdeal.main_arg0)
          ∧ r.2.mem (((0 : Dev Cert.PfReferenceIdeal.nD).tc : Thread Cert.PfReferenceIdeal.nD Cert.PfReferenceIdeal.τ).loc Cert.PfReferenceIdeal.main_arg1) = m' (((0 : Dev Cert.PfReferenceIdeal.nD).tc : Thread Cert.PfReferenceIdeal.nD Cert.PfReferenceIdeal.τ).loc Cert.PfReferenceIdeal.main_arg1)
          ∧ r.2.mem (((0 : Dev Cert.PfReferenceIdeal.nD).tc : Thread Cert.PfReferenceIdeal.nD Cert.PfReferenceIdeal.τ).loc Cert.PfReferenceIdeal.main_arg2) = m' (((0 : Dev Cert.PfReferenceIdeal.nD).tc : Thread Cert.PfReferenceIdeal.nD Cert.PfReferenceIdeal.τ).loc Cert.PfReferenceIdeal.main_arg2)
          ∧ r.2.mem (((0 : Dev Cert.PfReferenceIdeal.nD).tc : Thread Cert.PfReferenceIdeal.nD Cert.PfReferenceIdeal.τ).loc Cert.PfReferenceIdeal.main_arg3) = m' (((0 : Dev Cert.PfReferenceIdeal.nD).tc : Thread Cert.PfReferenceIdeal.nD Cert.PfReferenceIdeal.τ).loc Cert.PfReferenceIdeal.main_arg3))

def Claim : Prop :=
  ∃ (hKernel : Cert.Kernel.Facts) (hKernelIdeal : Cert.KernelIdeal.Facts) (hReferenceIdeal : Cert.ReferenceIdeal.Facts) (hUpKernel : Cert.UpKernel.Facts) (hUpKernelIdeal : Cert.UpKernelIdeal.Facts) (hUpReferenceIdeal : Cert.UpReferenceIdeal.Facts) (hDxKernel : Cert.DxKernel.Facts) (hDxKernelIdeal : Cert.DxKernelIdeal.Facts) (hDxReferenceIdeal : Cert.DxReferenceIdeal.Facts) (hPxKernel : Cert.PxKernel.Facts) (hPxKernelIdeal : Cert.PxKernelIdeal.Facts) (hPxReferenceIdeal : Cert.PxReferenceIdeal.Facts) (hOwKernel : Cert.OwKernel.Facts) (hOwKernelIdeal : Cert.OwKernelIdeal.Facts) (hOwReferenceIdeal : Cert.OwReferenceIdeal.Facts) (hFwKernel : Cert.FwKernel.Facts) (hFwKernelIdeal : Cert.FwKernelIdeal.Facts) (hFwReferenceIdeal : Cert.FwReferenceIdeal.Facts) (hOfKernel : Cert.OfKernel.Facts) (hOfKernelIdeal : Cert.OfKernelIdeal.Facts) (hOfReferenceIdeal : Cert.OfReferenceIdeal.Facts) (hNmKernel : Cert.NmKernel.Facts) (hNmKernelIdeal : Cert.NmKernelIdeal.Facts) (hNmReferenceIdeal : Cert.NmReferenceIdeal.Facts) (hPfKernel : Cert.PfKernel.Facts) (hPfKernelIdeal : Cert.PfKernelIdeal.Facts) (hPfReferenceIdeal : Cert.PfReferenceIdeal.Facts),
    quiescent_Kernel (hKernel := hKernel)
    ∧ quiescent_KernelIdeal (hKernelIdeal := hKernelIdeal)
    ∧ quiescent_ReferenceIdeal (hReferenceIdeal := hReferenceIdeal)
    ∧ quiescent_UpKernel (hUpKernel := hUpKernel)
    ∧ quiescent_UpKernelIdeal (hUpKernelIdeal := hUpKernelIdeal)
    ∧ quiescent_UpReferenceIdeal (hUpReferenceIdeal := hUpReferenceIdeal)
    ∧ quiescent_DxKernel (hDxKernel := hDxKernel)
    ∧ quiescent_DxKernelIdeal (hDxKernelIdeal := hDxKernelIdeal)
    ∧ quiescent_DxReferenceIdeal (hDxReferenceIdeal := hDxReferenceIdeal)
    ∧ quiescent_PxKernel (hPxKernel := hPxKernel)
    ∧ quiescent_PxKernelIdeal (hPxKernelIdeal := hPxKernelIdeal)
    ∧ quiescent_PxReferenceIdeal (hPxReferenceIdeal := hPxReferenceIdeal)
    ∧ quiescent_OwKernel (hOwKernel := hOwKernel)
    ∧ quiescent_OwKernelIdeal (hOwKernelIdeal := hOwKernelIdeal)
    ∧ quiescent_OwReferenceIdeal (hOwReferenceIdeal := hOwReferenceIdeal)
    ∧ quiescent_FwKernel (hFwKernel := hFwKernel)
    ∧ quiescent_FwKernelIdeal (hFwKernelIdeal := hFwKernelIdeal)
    ∧ quiescent_FwReferenceIdeal (hFwReferenceIdeal := hFwReferenceIdeal)
    ∧ quiescent_OfKernel (hOfKernel := hOfKernel)
    ∧ quiescent_OfKernelIdeal (hOfKernelIdeal := hOfKernelIdeal)
    ∧ quiescent_OfReferenceIdeal (hOfReferenceIdeal := hOfReferenceIdeal)
    ∧ quiescent_NmKernel (hNmKernel := hNmKernel)
    ∧ quiescent_NmKernelIdeal (hNmKernelIdeal := hNmKernelIdeal)
    ∧ quiescent_NmReferenceIdeal (hNmReferenceIdeal := hNmReferenceIdeal)
    ∧ quiescent_PfKernel (hPfKernel := hPfKernel)
    ∧ quiescent_PfKernelIdeal (hPfKernelIdeal := hPfKernelIdeal)
    ∧ quiescent_PfReferenceIdeal (hPfReferenceIdeal := hPfReferenceIdeal)
    ∧ preserves_Kernel_KernelIdeal
    ∧ algebraic_KernelIdeal_ReferenceIdeal (hKernelIdeal := hKernelIdeal) (hReferenceIdeal := hReferenceIdeal)
    ∧ preserves_UpKernel_UpKernelIdeal
    ∧ algebraic_UpKernelIdeal_UpReferenceIdeal (hUpKernelIdeal := hUpKernelIdeal) (hUpReferenceIdeal := hUpReferenceIdeal)
    ∧ preserves_DxKernel_DxKernelIdeal
    ∧ algebraic_DxKernelIdeal_DxReferenceIdeal (hDxKernelIdeal := hDxKernelIdeal) (hDxReferenceIdeal := hDxReferenceIdeal)
    ∧ preserves_PxKernel_PxKernelIdeal
    ∧ algebraic_PxKernelIdeal_PxReferenceIdeal (hPxKernelIdeal := hPxKernelIdeal) (hPxReferenceIdeal := hPxReferenceIdeal)
    ∧ preserves_OwKernel_OwKernelIdeal
    ∧ algebraic_OwKernelIdeal_OwReferenceIdeal (hOwKernelIdeal := hOwKernelIdeal) (hOwReferenceIdeal := hOwReferenceIdeal)
    ∧ preserves_FwKernel_FwKernelIdeal
    ∧ algebraic_FwKernelIdeal_FwReferenceIdeal (hFwKernelIdeal := hFwKernelIdeal) (hFwReferenceIdeal := hFwReferenceIdeal)
    ∧ preserves_OfKernel_OfKernelIdeal
    ∧ algebraic_OfKernelIdeal_OfReferenceIdeal (hOfKernelIdeal := hOfKernelIdeal) (hOfReferenceIdeal := hOfReferenceIdeal)
    ∧ preserves_NmKernel_NmKernelIdeal
    ∧ algebraic_NmKernelIdeal_NmReferenceIdeal (hNmKernelIdeal := hNmKernelIdeal) (hNmReferenceIdeal := hNmReferenceIdeal)
    ∧ preserves_PfKernel_PfKernelIdeal
    ∧ algebraic_PfKernelIdeal_PfReferenceIdeal (hPfKernelIdeal := hPfKernelIdeal) (hPfReferenceIdeal := hPfReferenceIdeal)
-- ==== Kernel.lean ====
abbrev S4096x4096 : Shape := ⟨2, ![4096, 4096]⟩
abbrev S16384x4096 : Shape := ⟨2, ![16384, 4096]⟩
abbrev S4096x16384 : Shape := ⟨2, ![4096, 16384]⟩
abbrev S4x4096x4096 : Shape := ⟨3, ![4, 4096, 4096]⟩
abbrev S4x2048x4096 : Shape := ⟨3, ![4, 2048, 4096]⟩
abbrev S1024x4096 : Shape := ⟨2, ![1024, 4096]⟩
abbrev S1024x1024 : Shape := ⟨2, ![1024, 1024]⟩
abbrev S1 : Shape := ⟨1, ![1]⟩
abbrev S_ : Shape := ⟨0, ![]⟩
abbrev S512x4096 : Shape := ⟨2, ![512, 4096]⟩
abbrev S1024x512 : Shape := ⟨2, ![1024, 512]⟩

abbrev nBuf : Space → Nat
  | .hbm => 6
  | .vmem => 8
  | .smem => 0
  | _ => 0

abbrev bufTy : (tb : Table) → Fin (tcTables nBuf tb) → BufTy
  | .hbm, ⟨0, _⟩ => ⟨S4096x4096, .bf16⟩
  | .hbm, ⟨1, _⟩ => ⟨S16384x4096, .bf16⟩
  | .hbm, ⟨2, _⟩ => ⟨S4096x16384, .bf16⟩
  | .hbm, ⟨3, _⟩ => ⟨S4x4096x4096, .bf16⟩
  | .hbm, ⟨4, _⟩ => ⟨S4096x16384, .bf16⟩
  | .hbm, ⟨5, _⟩ => ⟨S4x2048x4096, .bf16⟩
  | .local _ .vmem, ⟨0, _⟩ => ⟨S1024x4096, .bf16⟩
  | .local _ .vmem, ⟨1, _⟩ => ⟨S1024x4096, .bf16⟩
  | .local _ .vmem, ⟨2, _⟩ => ⟨S1024x4096, .bf16⟩
  | .local _ .vmem, ⟨3, _⟩ => ⟨S1024x4096, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 8
abbrev τ : Topo := Topo.v7x

variable {F : FTy → Type} [FloatOps F]

abbrev grid0 : Pipeline.Grid := ⟨3, ![4, 16, 1], ![false, false, false]⟩

def k0_cond1 (i : grid0.Coords) : BitVec 1 :=
  let c0_i32 : BitVec 32 := 0#32
  let arg0 : BitVec 32 := BitVec.ofNat 32 (i 0).val
  let v0 : BitVec 32 := Scalar.addi c0_i32 arg0
  let c16_i32 : BitVec 32 := 16#32
  let v1 : BitVec 32 := Scalar.muli v0 c16_i32
  let arg1 : BitVec 32 := BitVec.ofNat 32 (i 1).val
  let v2 : BitVec 32 := Scalar.addi v1 arg1
  let c1_i32 : BitVec 32 := 1#32
  let v3 : BitVec 32 := Scalar.muli v2 c1_i32
  let arg2 : BitVec 32 := BitVec.ofNat 32 (i 2).val
  let v4 : BitVec 32 := Scalar.addi v3 arg2
  let c0_i32_0 : BitVec 32 := 0#32
  let v5 : BitVec 1 := Scalar.cmpi .eq v4 c0_i32_0
  let v6 : BitVec 32 := Scalar.extui v5
  let c0_i32_1 : BitVec 32 := 0#32
  let v7 : BitVec 1 := Scalar.cmpi .ne v6 c0_i32_1
  v7

def k0_off1 (d37 : Dev nD) : Fin 3 → Nat :=
  let c0_i32_32 : BitVec 32 := 0#32
  let c1_i32_24 : BitVec 32 := 1#32
  let v43 : BitVec 32 := Dev.word d37
  let c1_i32_23 : BitVec 32 := 1#32
  let v44 : BitVec 32 := Scalar.divsi v43 c1_i32_23
  let c2_i32_22 : BitVec 32 := 2#32
  let v45 : BitVec 32 := Scalar.remsi v44 c2_i32_22
  let v46 : BitVec 32 := Scalar.subi c1_i32_24 v45
  let c2048_i32 : BitVec 32 := 2048#32
  let v47 : BitVec 32 := Scalar.muli v46 c2048_i32
  let c0_i32_33 : BitVec 32 := 0#32
  ![0, v47.toNat, 0]
def k0_dev1 (d37 : Dev nD) : Nat :=
  let c0_i32_29 : BitVec 32 := 0#32
  let v37 : BitVec 32 := Dev.word d37
  let c4_i32 : BitVec 32 := 4#32
  let v38 : BitVec 32 := Scalar.divsi v37 c4_i32
  let c2_i32 : BitVec 32 := 2#32
  let v39 : BitVec 32 := Scalar.remsi v38 c2_i32
  let c4_i32_28 : BitVec 32 := 4#32
  let v49 : BitVec 32 := Scalar.muli v39 c4_i32_28
  let v50 : BitVec 32 := Scalar.addi c0_i32_29 v49
  let v40 : BitVec 32 := Dev.word d37
  let c2_i32_21 : BitVec 32 := 2#32
  let v41 : BitVec 32 := Scalar.divsi v40 c2_i32_21
  let c2_i32_20 : BitVec 32 := 2#32
  let v42 : BitVec 32 := Scalar.remsi v41 c2_i32_20
  let c2_i32_30 : BitVec 32 := 2#32
  let v51 : BitVec 32 := Scalar.muli v42 c2_i32_30
  let v52 : BitVec 32 := Scalar.addi v50 v51
  let c1_i32_25 : BitVec 32 := 1#32
  let v43 : BitVec 32 := Dev.word d37
  let c1_i32_23 : BitVec 32 := 1#32
  let v44 : BitVec 32 := Scalar.divsi v43 c1_i32_23
  let c2_i32_22 : BitVec 32 := 2#32
  let v45 : BitVec 32 := Scalar.remsi v44 c2_i32_22
  let v48 : BitVec 32 := Scalar.subi c1_i32_25 v45
  let c1_i32_31 : BitVec 32 := 1#32
  let v53 : BitVec 32 := Scalar.muli v48 c1_i32_31
  let v54 : BitVec 32 := Scalar.addi v52 v53
  v54.toNat
def k0_cond2 (i : grid0.Coords) : BitVec 1 :=
  let c0_i32 : BitVec 32 := 0#32
  let arg0 : BitVec 32 := BitVec.ofNat 32 (i 0).val
  let v0 : BitVec 32 := Scalar.addi c0_i32 arg0
  let c16_i32 : BitVec 32 := 16#32
  let v1 : BitVec 32 := Scalar.muli v0 c16_i32
  let arg1 : BitVec 32 := BitVec.ofNat 32 (i 1).val
  let v2 : BitVec 32 := Scalar.addi v1 arg1
  let c1_i32 : BitVec 32 := 1#32
  let v3 : BitVec 32 := Scalar.muli v2 c1_i32
  let arg2 : BitVec 32 := BitVec.ofNat 32 (i 2).val
  let v4 : BitVec 32 := Scalar.addi v3 arg2
  let c63_i32 : BitVec 32 := 63#32
  let v34 : BitVec 1 := Scalar.cmpi .eq v4 c63_i32
  let v35 : BitVec 32 := Scalar.extui v34
  let c0_i32_19 : BitVec 32 := 0#32
  let v36 : BitVec 1 := Scalar.cmpi .ne v35 c0_i32_19
  v36

def k0_off2 (d37 : Dev nD) : Fin 3 → Nat :=
  let c0_i32_32 : BitVec 32 := 0#32
  let c1_i32_24 : BitVec 32 := 1#32
  let v43 : BitVec 32 := Dev.word d37
  let c1_i32_23 : BitVec 32 := 1#32
  let v44 : BitVec 32 := Scalar.divsi v43 c1_i32_23
  let c2_i32_22 : BitVec 32 := 2#32
  let v45 : BitVec 32 := Scalar.remsi v44 c2_i32_22
  let v46 : BitVec 32 := Scalar.subi c1_i32_24 v45
  let c2048_i32 : BitVec 32 := 2048#32
  let v47 : BitVec 32 := Scalar.muli v46 c2048_i32
  let c0_i32_33 : BitVec 32 := 0#32
  ![0, v47.toNat, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== ReferenceIdeal.lean ====
abbrev S32768x4096 : Shape := ⟨2, ![32768, 4096]⟩
abbrev S16384x4096 : Shape := ⟨2, ![16384, 4096]⟩
abbrev S32768x16384 : Shape := ⟨2, ![32768, 16384]⟩
abbrev S32x4096x4096 : Shape := ⟨3, ![32, 4096, 4096]⟩
abbrev S4096x16384 : Shape := ⟨2, ![4096, 16384]⟩
abbrev S_ : Shape := ⟨0, ![]⟩
abbrev S4x2x4x2x2048x4096 : Shape := ⟨6, ![4, 2, 4, 2, 2048, 4096]⟩
abbrev S4x1x4x1x2048x4096 : Shape := ⟨6, ![4, 1, 4, 1, 2048, 4096]⟩
abbrev S4x4x2048x4096 : Shape := ⟨4, ![4, 4, 2048, 4096]⟩
abbrev S4x1x4x2048x4096 : Shape := ⟨5, ![4, 1, 4, 2048, 4096]⟩
abbrev S4x2x4x2048x4096 : Shape := ⟨5, ![4, 2, 4, 2048, 4096]⟩
abbrev S32x2048x4096 : Shape := ⟨3, ![32, 2048, 4096]⟩

abbrev nBuf : Space → Nat
  | .hbm => 23
  | .vmem => 0
  | .smem => 0
  | _ => 0

abbrev bufTy : (tb : Table) → Fin (tcTables nBuf tb) → BufTy
  | .hbm, ⟨0, _⟩ => ⟨S32768x4096, .bf16⟩
  | .hbm, ⟨1, _⟩ => ⟨S16384x4096, .bf16⟩
  | .hbm, ⟨2, _⟩ => ⟨S32768x16384, .bf16⟩
  | .hbm, ⟨3, _⟩ => ⟨S32x4096x4096, .bf16⟩
  | .hbm, ⟨4, _⟩ => ⟨S32768x4096, .f32⟩
  | .hbm, ⟨5, _⟩ => ⟨S16384x4096, .f32⟩
  | .hbm, ⟨6, _⟩ => ⟨S4096x16384, .f32⟩
  | .hbm, ⟨7, _⟩ => ⟨S32768x16384, .f32⟩
  | .hbm, ⟨8, _⟩ => ⟨S32768x16384, .f32⟩
  | .hbm, ⟨9, _⟩ => ⟨S_, .f32⟩
  | .hbm, ⟨10, _⟩ => ⟨S32768x16384, .f32⟩
  | .hbm, ⟨11, _⟩ => ⟨S32768x16384, .f32⟩
  | .hbm, ⟨12, _⟩ => ⟨S32768x16384, .f32⟩
  | .hbm, ⟨13, _⟩ => ⟨S32768x16384, .bf16⟩
  | .hbm, ⟨14, _⟩ => ⟨S4x2x4x2x2048x4096, .bf16⟩
  | .hbm, ⟨15, _⟩ => ⟨S4x1x4x1x2048x4096, .bf16⟩
  | .hbm, ⟨16, _⟩ => ⟨S4x4x2048x4096, .bf16⟩
  | .hbm, ⟨17, _⟩ => ⟨S4x1x4x1x2048x4096, .bf16⟩
  | .hbm, ⟨18, _⟩ => ⟨S4x4x2048x4096, .bf16⟩
  | .hbm, ⟨19, _⟩ => ⟨S4x1x4x2048x4096, .bf16⟩
  | .hbm, ⟨20, _⟩ => ⟨S4x1x4x2048x4096, .bf16⟩
  | .hbm, ⟨21, _⟩ => ⟨S4x2x4x2048x4096, .bf16⟩
  | .hbm, ⟨22, _⟩ => ⟨S32x2048x4096, .bf16⟩
  | _, _ => ⟨S32768x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩

abbrev nD : Nat := 1
abbrev τ : Topo := Topo.v7x

variable {F : FTy → Type} [FloatOps F]
-- ==== UpKernel.lean ====
abbrev S4096x4096 : Shape := ⟨2, ![4096, 4096]⟩
abbrev S4096x16384 : Shape := ⟨2, ![4096, 16384]⟩
abbrev S4x2048x4096 : Shape := ⟨3, ![4, 2048, 4096]⟩
abbrev S4x4096x4096 : Shape := ⟨3, ![4, 4096, 4096]⟩
abbrev S3x2048x4096 : Shape := ⟨3, ![3, 2048, 4096]⟩
abbrev S4096x1024 : Shape := ⟨2, ![4096, 1024]⟩
abbrev S1x1024x1024 : Shape := ⟨3, ![1, 1024, 1024]⟩
abbrev S3 : Shape := ⟨1, ![3]⟩
abbrev S1 : Shape := ⟨1, ![1]⟩
abbrev S_ : Shape := ⟨0, ![]⟩
abbrev S1x1536x4096 : Shape := ⟨3, ![1, 1536, 4096]⟩
abbrev S1536x4096 : Shape := ⟨2, ![1536, 4096]⟩
abbrev S4096x512 : Shape := ⟨2, ![4096, 512]⟩
abbrev S1024x512 : Shape := ⟨2, ![1024, 512]⟩
abbrev S1x1024x512 : Shape := ⟨3, ![1, 1024, 512]⟩
abbrev S3x1536x4096 : Shape := ⟨3, ![3, 1536, 4096]⟩

abbrev nBuf : Space → Nat
  | .hbm => 6
  | .vmem => 6
  | .smem => 0
  | _ => 0

abbrev bufTy : (tb : Table) → Fin (tcTables nBuf tb) → BufTy
  | .hbm, ⟨0, _⟩ => ⟨S4096x4096, .bf16⟩
  | .hbm, ⟨1, _⟩ => ⟨S4096x16384, .bf16⟩
  | .hbm, ⟨2, _⟩ => ⟨S4x2048x4096, .bf16⟩
  | .hbm, ⟨3, _⟩ => ⟨S4x4096x4096, .bf16⟩
  | .hbm, ⟨4, _⟩ => ⟨S3x2048x4096, .bf16⟩
  | .hbm, ⟨5, _⟩ => ⟨S3x1536x4096, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1x1024x1024, .bf16⟩
  | .local _ .vmem, ⟨5, _⟩ => ⟨S1x1024x1024, .bf16⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1_0 : Ref sig .tc := ⟨.hbm, 3, rfl⟩
abbrev main_v1_1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 8
abbrev τ : Topo := Topo.v7x

variable {F : FTy → Type} [FloatOps F]

abbrev grid0 : Pipeline.Grid := ⟨3, ![4, 16, 1], ![false, false, false]⟩

def k0_cond1 (i : grid0.Coords) : BitVec 1 :=
  let c0_i32 : BitVec 32 := 0#32
  let arg0 : BitVec 32 := BitVec.ofNat 32 (i 0).val
  let v0 : BitVec 32 := Scalar.addi c0_i32 arg0
  let c16_i32 : BitVec 32 := 16#32
  let v1 : BitVec 32 := Scalar.muli v0 c16_i32
  let arg1 : BitVec 32 := BitVec.ofNat 32 (i 1).val
  let v2 : BitVec 32 := Scalar.addi v1 arg1
  let c1_i32 : BitVec 32 := 1#32
  let v3 : BitVec 32 := Scalar.muli v2 c1_i32
  let arg2 : BitVec 32 := BitVec.ofNat 32 (i 2).val
  let v4 : BitVec 32 := Scalar.addi v3 arg2
  let c0_i32_0 : BitVec 32 := 0#32
  let v5 : BitVec 1 := Scalar.cmpi .eq v4 c0_i32_0
  let v6 : BitVec 32 := Scalar.extui v5
  let c0_i32_1 : BitVec 32 := 0#32
  let v7 : BitVec 1 := Scalar.cmpi .ne v6 c0_i32_1
  v7

def k0_off1 (d29 : Dev nD) : Fin 3 → Nat :=
  let c2_i32_24 : BitVec 32 := 2#32
  let c1_i32_20 : BitVec 32 := 1#32
  let v29 : BitVec 32 := Dev.word d29
  let c4_i32 : BitVec 32 := 4#32
  let v30 : BitVec 32 := Scalar.divsi v29 c4_i32
  let c2_i32 : BitVec 32 := 2#32
  let v31 : BitVec 32 := Scalar.remsi v30 c2_i32
  let v38 : BitVec 32 := Scalar.subi c1_i32_20 v31
  let v42 : BitVec 32 := Scalar.muli c2_i32_24 v38
  let v32 : BitVec 32 := Dev.word d29
  let c2_i32_17 : BitVec 32 := 2#32
  let v33 : BitVec 32 := Scalar.divsi v32 c2_i32_17
  let c2_i32_16 : BitVec 32 := 2#32
  let v34 : BitVec 32 := Scalar.remsi v33 c2_i32_16
  let v43 : BitVec 32 := Scalar.addi v42 v34
  let c0_i32_36 : BitVec 32 := 0#32
  let c0_i32_37 : BitVec 32 := 0#32
  ![v43.toNat, 0, 0]
def k0_dev1 (d29 : Dev nD) : Nat :=
  let c0_i32_31 : BitVec 32 := 0#32
  let c1_i32_20 : BitVec 32 := 1#32
  let v29 : BitVec 32 := Dev.word d29
  let c4_i32 : BitVec 32 := 4#32
  let v30 : BitVec 32 := Scalar.divsi v29 c4_i32
  let c2_i32 : BitVec 32 := 2#32
  let v31 : BitVec 32 := Scalar.remsi v30 c2_i32
  let v38 : BitVec 32 := Scalar.subi c1_i32_20 v31
  let c4_i32_30 : BitVec 32 := 4#32
  let v48 : BitVec 32 := Scalar.muli v38 c4_i32_30
  let v49 : BitVec 32 := Scalar.addi c0_i32_31 v48
  let v32 : BitVec 32 := Dev.word d29
  let c2_i32_17 : BitVec 32 := 2#32
  let v33 : BitVec 32 := Scalar.divsi v32 c2_i32_17
  let c2_i32_16 : BitVec 32 := 2#32
  let v34 : BitVec 32 := Scalar.remsi v33 c2_i32_16
  let c2_i32_32 : BitVec 32 := 2#32
  let v50 : BitVec 32 := Scalar.muli v34 c2_i32_32
  let v51 : BitVec 32 := Scalar.addi v49 v50
  let v35 : BitVec 32 := Dev.word d29
  let c1_i32_19 : BitVec 32 := 1#32
  let v36 : BitVec 32 := Scalar.divsi v35 c1_i32_19
  let c2_i32_18 : BitVec 32 := 2#32
  let v37 : BitVec 32 := Scalar.remsi v36 c2_i32_18
  let c1_i32_33 : BitVec 32 := 1#32
  let v52 : BitVec 32 := Scalar.muli v37 c1_i32_33
  let v53 : BitVec 32 := Scalar.addi v51 v52
  v53.toNat
def k0_off2 (d29 : Dev nD) : Fin 3 → Nat :=
  let c2_i32_25 : BitVec 32 := 2#32
  let v29 : BitVec 32 := Dev.word d29
  let c4_i32 : BitVec 32 := 4#32
  let v30 : BitVec 32 := Scalar.divsi v29 c4_i32
  let c2_i32 : BitVec 32 := 2#32
  let v31 : BitVec 32 := Scalar.remsi v30 c2_i32
  let v44 : BitVec 32 := Scalar.muli c2_i32_25 v31
  let c1_i32_21 : BitVec 32 := 1#32
  let v32 : BitVec 32 := Dev.word d29
  let c2_i32_17 : BitVec 32 := 2#32
  let v33 : BitVec 32 := Scalar.divsi v32 c2_i32_17
  let c2_i32_16 : BitVec 32 := 2#32
  let v34 : BitVec 32 := Scalar.remsi v33 c2_i32_16
  let v39 : BitVec 32 := Scalar.subi c1_i32_21 v34
  let v45 : BitVec 32 := Scalar.addi v44 v39
  let c0_i32_47 : BitVec 32 := 0#32
  let c0_i32_48 : BitVec 32 := 0#32
  ![v45.toNat, 0, 0]
def k0_dev2 (d29 : Dev nD) : Nat :=
  let c0_i32_42 : BitVec 32 := 0#32
  let v29 : BitVec 32 := Dev.word d29
  let c4_i32 : BitVec 32 := 4#32
  let v30 : BitVec 32 := Scalar.divsi v29 c4_i32
  let c2_i32 : BitVec 32 := 2#32
  let v31 : BitVec 32 := Scalar.remsi v30 c2_i32
  let c4_i32_41 : BitVec 32 := 4#32
  let v62 : BitVec 32 := Scalar.muli v31 c4_i32_41
  let v63 : BitVec 32 := Scalar.addi c0_i32_42 v62
  let c1_i32_21 : BitVec 32 := 1#32
  let v32 : BitVec 32 := Dev.word d29
  let c2_i32_17 : BitVec 32 := 2#32
  let v33 : BitVec 32 := Scalar.divsi v32 c2_i32_17
  let c2_i32_16 : BitVec 32 := 2#32
  let v34 : BitVec 32 := Scalar.remsi v33 c2_i32_16
  let v39 : BitVec 32 := Scalar.subi c1_i32_21 v34
  let c2_i32_43 : BitVec 32 := 2#32
  let v64 : BitVec 32 := Scalar.muli v39 c2_i32_43
  let v65 : BitVec 32 := Scalar.addi v63 v64
  let v35 : BitVec 32 := Dev.word d29
  let c1_i32_19 : BitVec 32 := 1#32
  let v36 : BitVec 32 := Scalar.divsi v35 c1_i32_19
  let c2_i32_18 : BitVec 32 := 2#32
  let v37 : BitVec 32 := Scalar.remsi v36 c2_i32_18
  let c1_i32_44 : BitVec 32 := 1#32
  let v66 : BitVec 32 := Scalar.muli v37 c1_i32_44
  let v67 : BitVec 32 := Scalar.addi v65 v66
  v67.toNat
def k0_off3 (d29 : Dev nD) : Fin 3 → Nat :=
  let c2_i32_26 : BitVec 32 := 2#32
  let c1_i32_22 : BitVec 32 := 1#32
  let v29 : BitVec 32 := Dev.word d29
  let c4_i32 : BitVec 32 := 4#32
  let v30 : BitVec 32 := Scalar.divsi v29 c4_i32
  let c2_i32 : BitVec 32 := 2#32
  let v31 : BitVec 32 := Scalar.remsi v30 c2_i32
  let v40 : BitVec 32 := Scalar.subi c1_i32_22 v31
  let v46 : BitVec 32 := Scalar.muli c2_i32_26 v40
  let c1_i32_23 : BitVec 32 := 1#32
  let v32 : BitVec 32 := Dev.word d29
  let c2_i32_17 : BitVec 32 := 2#32
  let v33 : BitVec 32 := Scalar.divsi v32 c2_i32_17
  let c2_i32_16 : BitVec 32 := 2#32
  let v34 : BitVec 32 := Scalar.remsi v33 c2_i32_16
  let v41 : BitVec 32 := Scalar.subi c1_i32_23 v34
  let v47 : BitVec 32 := Scalar.addi v46 v41
  let c0_i32_58 : BitVec 32 := 0#32
  let c0_i32_59 : BitVec 32 := 0#32
  ![v47.toNat, 0, 0]
def k0_dev3 (d29 : Dev nD) : Nat :=
  let c0_i32_53 : BitVec 32 := 0#32
  let c1_i32_22 : BitVec 32 := 1#32
  let v29 : BitVec 32 := Dev.word d29
  let c4_i32 : BitVec 32 := 4#32
  let v30 : BitVec 32 := Scalar.divsi v29 c4_i32
  let c2_i32 : BitVec 32 := 2#32
  let v31 : BitVec 32 := Scalar.remsi v30 c2_i32
  let v40 : BitVec 32 := Scalar.subi c1_i32_22 v31
  let c4_i32_52 : BitVec 32 := 4#32
  let v76 : BitVec 32 := Scalar.muli v40 c4_i32_52
  let v77 : BitVec 32 := Scalar.addi c0_i32_53 v76
  let c1_i32_23 : BitVec 32 := 1#32
  let v32 : BitVec 32 := Dev.word d29
  let c2_i32_17 : BitVec 32 := 2#32
  let v33 : BitVec 32 := Scalar.divsi v32 c2_i32_17
  let c2_i32_16 : BitVec 32 := 2#32
  let v34 : BitVec 32 := Scalar.remsi v33 c2_i32_16
  let v41 : BitVec 32 := Scalar.subi c1_i32_23 v34
  let c2_i32_54 : BitVec 32 := 2#32
  let v78 : BitVec 32 := Scalar.muli v41 c2_i32_54
  let v79 : BitVec 32 := Scalar.addi v77 v78
  let v35 : BitVec 32 := Dev.word d29
  let c1_i32_19 : BitVec 32 := 1#32
  let v36 : BitVec 32 := Scalar.divsi v35 c1_i32_19
  let c2_i32_18 : BitVec 32 := 2#32
  let v37 : BitVec 32 := Scalar.remsi v36 c2_i32_18
  let c1_i32_55 : BitVec 32 := 1#32
  let v80 : BitVec 32 := Scalar.muli v37 c1_i32_55
  let v81 : BitVec 32 := Scalar.addi v79 v80
  v81.toNat
def k0_cond2 (i : grid0.Coords) : BitVec 1 :=
  let c0_i32 : BitVec 32 := 0#32
  let arg0 : BitVec 32 := BitVec.ofNat 32 (i 0).val
  let v0 : BitVec 32 := Scalar.addi c0_i32 arg0
  let c16_i32 : BitVec 32 := 16#32
  let v1 : BitVec 32 := Scalar.muli v0 c16_i32
  let arg1 : BitVec 32 := BitVec.ofNat 32 (i 1).val
  let v2 : BitVec 32 := Scalar.addi v1 arg1
  let c1_i32 : BitVec 32 := 1#32
  let v3 : BitVec 32 := Scalar.muli v2 c1_i32
  let arg2 : BitVec 32 := BitVec.ofNat 32 (i 2).val
  let v4 : BitVec 32 := Scalar.addi v3 arg2
  let c63_i32 : BitVec 32 := 63#32
  let v26 : BitVec 1 := Scalar.cmpi .eq v4 c63_i32
  let v27 : BitVec 32 := Scalar.extui v26
  let c0_i32_15 : BitVec 32 := 0#32
  let v28 : BitVec 1 := Scalar.cmpi .ne v27 c0_i32_15
  v28

def k0_off4 (d29 : Dev nD) : Fin 3 → Nat :=
  let c2_i32_24 : BitVec 32 := 2#32
  let c1_i32_20 : BitVec 32 := 1#32
  let v29 : BitVec 32 := Dev.word d29
  let c4_i32 : BitVec 32 := 4#32
  let v30 : BitVec 32 := Scalar.divsi v29 c4_i32
  let c2_i32 : BitVec 32 := 2#32
  let v31 : BitVec 32 := Scalar.remsi v30 c2_i32
  let v38 : BitVec 32 := Scalar.subi c1_i32_20 v31
  let v42 : BitVec 32 := Scalar.muli c2_i32_24 v38
  let v32 : BitVec 32 := Dev.word d29
  let c2_i32_17 : BitVec 32 := 2#32
  let v33 : BitVec 32 := Scalar.divsi v32 c2_i32_17
  let c2_i32_16 : BitVec 32 := 2#32
  let v34 : BitVec 32 := Scalar.remsi v33 c2_i32_16
  let v43 : BitVec 32 := Scalar.addi v42 v34
  let c0_i32_36 : BitVec 32 := 0#32
  let c0_i32_37 : BitVec 32 := 0#32
  ![v43.toNat, 0, 0]
def k0_off5 (d29 : Dev nD) : Fin 3 → Nat :=
  let c2_i32_25 : BitVec 32 := 2#32
  let v29 : BitVec 32 := Dev.word d29
  let c4_i32 : BitVec 32 := 4#32
  let v30 : BitVec 32 := Scalar.divsi v29 c4_i32
  let c2_i32 : BitVec 32 := 2#32
  let v31 : BitVec 32 := Scalar.remsi v30 c2_i32
  let v44 : BitVec 32 := Scalar.muli c2_i32_25 v31
  let c1_i32_21 : BitVec 32 := 1#32
  let v32 : BitVec 32 := Dev.word d29
  let c2_i32_17 : BitVec 32 := 2#32
  let v33 : BitVec 32 := Scalar.divsi v32 c2_i32_17
  let c2_i32_16 : BitVec 32 := 2#32
  let v34 : BitVec 32 := Scalar.remsi v33 c2_i32_16
  let v39 : BitVec 32 := Scalar.subi c1_i32_21 v34
  let v45 : BitVec 32 := Scalar.addi v44 v39
  let c0_i32_47 : BitVec 32 := 0#32
  let c0_i32_48 : BitVec 32 := 0#32
  ![v45.toNat, 0, 0]
def k0_off6 (d29 : Dev nD) : Fin 3 → Nat :=
  let c2_i32_26 : BitVec 32 := 2#32
  let c1_i32_22 : BitVec 32 := 1#32
  let v29 : BitVec 32 := Dev.word d29
  let c4_i32 : BitVec 32 := 4#32
  let v30 : BitVec 32 := Scalar.divsi v29 c4_i32
  let c2_i32 : BitVec 32 := 2#32
  let v31 : BitVec 32 := Scalar.remsi v30 c2_i32
  let v40 : BitVec 32 := Scalar.subi c1_i32_22 v31
  let v46 : BitVec 32 := Scalar.muli c2_i32_26 v40
  let c1_i32_23 : BitVec 32 := 1#32
  let v32 : BitVec 32 := Dev.word d29
  let c2_i32_17 : BitVec 32 := 2#32
  let v33 : BitVec 32 := Scalar.divsi v32 c2_i32_17
  let c2_i32_16 : BitVec 32 := 2#32
  let v34 : BitVec 32 := Scalar.remsi v33 c2_i32_16
  let v41 : BitVec 32 := Scalar.subi c1_i32_23 v34
  let v47 : BitVec 32 := Scalar.addi v46 v41
  let c0_i32_58 : BitVec 32 := 0#32
  let c0_i32_59 : BitVec 32 := 0#32
  ![v47.toNat, 0, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpReferenceIdeal.lean ====
abbrev S32768x4096 : Shape := ⟨2, ![32768, 4096]⟩
abbrev S32768x16384 : Shape := ⟨2, ![32768, 16384]⟩
abbrev S32x2048x4096 : Shape := ⟨3, ![32, 2048, 4096]⟩
abbrev S8x4096x4096 : Shape := ⟨3, ![8, 4096, 4096]⟩
abbrev S8x4096x4x4096 : Shape := ⟨4, ![8, 4096, 4, 4096]⟩
abbrev S8x4x4096x4096 : Shape := ⟨4, ![8, 4, 4096, 4096]⟩
abbrev S4x2x4x2048x4096 : Shape := ⟨5, ![4, 2, 4, 2048, 4096]⟩
abbrev S4x2x4x1536x4096 : Shape := ⟨5, ![4, 2, 4, 1536, 4096]⟩
abbrev S1x2x1x1536x4096 : Shape := ⟨5, ![1, 2, 1, 1536, 4096]⟩
abbrev S2x1536x4096 : Shape := ⟨3, ![2, 1536, 4096]⟩
abbrev S2x1x1536x4096 : Shape := ⟨4, ![2, 1, 1536, 4096]⟩
abbrev S2x3x1536x4096 : Shape := ⟨4, ![2, 3, 1536, 4096]⟩
abbrev S1x2x3x1536x4096 : Shape := ⟨5, ![1, 2, 3, 1536, 4096]⟩
abbrev S4x2x3x1536x4096 : Shape := ⟨5, ![4, 2, 3, 1536, 4096]⟩
abbrev S32x4096x4096 : Shape := ⟨3, ![32, 4096, 4096]⟩
abbrev S24x1536x4096 : Shape := ⟨3, ![24, 1536, 4096]⟩

abbrev nBuf : Space → Nat
  | .hbm => 59
  | .vmem => 0
  | .smem => 0
  | _ => 0

abbrev bufTy : (tb : Table) → Fin (tcTables nBuf tb) → BufTy
  | .hbm, ⟨0, _⟩ => ⟨S32768x4096, .bf16⟩
  | .hbm, ⟨1, _⟩ => ⟨S32768x16384, .bf16⟩
  | .hbm, ⟨2, _⟩ => ⟨S32x2048x4096, .bf16⟩
  | .hbm, ⟨3, _⟩ => ⟨S32768x4096, .f32⟩
  | .hbm, ⟨4, _⟩ => ⟨S8x4096x4096, .f32⟩
  | .hbm, ⟨5, _⟩ => ⟨S32768x16384, .f32⟩
  | .hbm, ⟨6, _⟩ => ⟨S8x4096x4x4096, .f32⟩
  | .hbm, ⟨7, _⟩ => ⟨S8x4x4096x4096, .f32⟩
  | .hbm, ⟨8, _⟩ => ⟨S8x4x4096x4096, .f32⟩
  | .hbm, ⟨9, _⟩ => ⟨S8x4x4096x4096, .bf16⟩
  | .hbm, ⟨10, _⟩ => ⟨S4x2x4x2048x4096, .bf16⟩
  | .hbm, ⟨11, _⟩ => ⟨S4x2x4x1536x4096, .bf16⟩
  | .hbm, ⟨12, _⟩ => ⟨S1x2x1x1536x4096, .bf16⟩
  | .hbm, ⟨13, _⟩ => ⟨S2x1536x4096, .bf16⟩
  | .hbm, ⟨14, _⟩ => ⟨S1x2x1x1536x4096, .bf16⟩
  | .hbm, ⟨15, _⟩ => ⟨S2x1536x4096, .bf16⟩
  | .hbm, ⟨16, _⟩ => ⟨S1x2x1x1536x4096, .bf16⟩
  | .hbm, ⟨17, _⟩ => ⟨S2x1536x4096, .bf16⟩
  | .hbm, ⟨18, _⟩ => ⟨S2x1x1536x4096, .bf16⟩
  | .hbm, ⟨19, _⟩ => ⟨S2x1x1536x4096, .bf16⟩
  | .hbm, ⟨20, _⟩ => ⟨S2x1x1536x4096, .bf16⟩
  | .hbm, ⟨21, _⟩ => ⟨S2x3x1536x4096, .bf16⟩
  | .hbm, ⟨22, _⟩ => ⟨S1x2x1x1536x4096, .bf16⟩
  | .hbm, ⟨23, _⟩ => ⟨S2x1536x4096, .bf16⟩
  | .hbm, ⟨24, _⟩ => ⟨S1x2x1x1536x4096, .bf16⟩
  | .hbm, ⟨25, _⟩ => ⟨S2x1536x4096, .bf16⟩
  | .hbm, ⟨26, _⟩ => ⟨S1x2x1x1536x4096, .bf16⟩
  | .hbm, ⟨27, _⟩ => ⟨S2x1536x4096, .bf16⟩
  | .hbm, ⟨28, _⟩ => ⟨S2x1x1536x4096, .bf16⟩
  | .hbm, ⟨29, _⟩ => ⟨S2x1x1536x4096, .bf16⟩
  | .hbm, ⟨30, _⟩ => ⟨S2x1x1536x4096, .bf16⟩
  | .hbm, ⟨31, _⟩ => ⟨S2x3x1536x4096, .bf16⟩
  | .hbm, ⟨32, _⟩ => ⟨S1x2x1x1536x4096, .bf16⟩
  | .hbm, ⟨33, _⟩ => ⟨S2x1536x4096, .bf16⟩
  | .hbm, ⟨34, _⟩ => ⟨S1x2x1x1536x4096, .bf16⟩
  | .hbm, ⟨35, _⟩ => ⟨S2x1536x4096, .bf16⟩
  | .hbm, ⟨36, _⟩ => ⟨S1x2x1x1536x4096, .bf16⟩
  | .hbm, ⟨37, _⟩ => ⟨S2x1536x4096, .bf16⟩
  | .hbm, ⟨38, _⟩ => ⟨S2x1x1536x4096, .bf16⟩
  | .hbm, ⟨39, _⟩ => ⟨S2x1x1536x4096, .bf16⟩
  | .hbm, ⟨40, _⟩ => ⟨S2x1x1536x4096, .bf16⟩
  | .hbm, ⟨41, _⟩ => ⟨S2x3x1536x4096, .bf16⟩
  | .hbm, ⟨42, _⟩ => ⟨S1x2x1x1536x4096, .bf16⟩
  | .hbm, ⟨43, _⟩ => ⟨S2x1536x4096, .bf16⟩
  | .hbm, ⟨44, _⟩ => ⟨S1x2x1x1536x4096, .bf16⟩
  | .hbm, ⟨45, _⟩ => ⟨S2x1536x4096, .bf16⟩
  | .hbm, ⟨46, _⟩ => ⟨S1x2x1x1536x4096, .bf16⟩
  | .hbm, ⟨47, _⟩ => ⟨S2x1536x4096, .bf16⟩
  | .hbm, ⟨48, _⟩ => ⟨S2x1x1536x4096, .bf16⟩
  | .hbm, ⟨49, _⟩ => ⟨S2x1x1536x4096, .bf16⟩
  | .hbm, ⟨50, _⟩ => ⟨S2x1x1536x4096, .bf16⟩
  | .hbm, ⟨51, _⟩ => ⟨S2x3x1536x4096, .bf16⟩
  | .hbm, ⟨52, _⟩ => ⟨S1x2x3x1536x4096, .bf16⟩
  | .hbm, ⟨53, _⟩ => ⟨S1x2x3x1536x4096, .bf16⟩
  | .hbm, ⟨54, _⟩ => ⟨S1x2x3x1536x4096, .bf16⟩
  | .hbm, ⟨55, _⟩ => ⟨S1x2x3x1536x4096, .bf16⟩
  | .hbm, ⟨56, _⟩ => ⟨S4x2x3x1536x4096, .bf16⟩
  | .hbm, ⟨57, _⟩ => ⟨S32x4096x4096, .bf16⟩
  | .hbm, ⟨58, _⟩ => ⟨S24x1536x4096, .bf16⟩
  | _, _ => ⟨S32768x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩
abbrev main_v31 : Ref sig .tc := ⟨.hbm, 34, rfl⟩
abbrev main_v32 : Ref sig .tc := ⟨.hbm, 35, rfl⟩
abbrev main_v33 : Ref sig .tc := ⟨.hbm, 36, rfl⟩
abbrev main_v34 : Ref sig .tc := ⟨.hbm, 37, rfl⟩
abbrev main_v35 : Ref sig .tc := ⟨.hbm, 38, rfl⟩
abbrev main_v36 : Ref sig .tc := ⟨.hbm, 39, rfl⟩
abbrev main_v37 : Ref sig .tc := ⟨.hbm, 40, rfl⟩
abbrev main_v38 : Ref sig .tc := ⟨.hbm, 41, rfl⟩
abbrev main_v39 : Ref sig .tc := ⟨.hbm, 42, rfl⟩
abbrev main_v40 : Ref sig .tc := ⟨.hbm, 43, rfl⟩
abbrev main_v41 : Ref sig .tc := ⟨.hbm, 44, rfl⟩
abbrev main_v42 : Ref sig .tc := ⟨.hbm, 45, rfl⟩
abbrev main_v43 : Ref sig .tc := ⟨.hbm, 46, rfl⟩
abbrev main_v44 : Ref sig .tc := ⟨.hbm, 47, rfl⟩
abbrev main_v45 : Ref sig .tc := ⟨.hbm, 48, rfl⟩
abbrev main_v46 : Ref sig .tc := ⟨.hbm, 49, rfl⟩
abbrev main_v47 : Ref sig .tc := ⟨.hbm, 50, rfl⟩
abbrev main_v48 : Ref sig .tc := ⟨.hbm, 51, rfl⟩
abbrev main_v49 : Ref sig .tc := ⟨.hbm, 52, rfl⟩
abbrev main_v50 : Ref sig .tc := ⟨.hbm, 53, rfl⟩
abbrev main_v51 : Ref sig .tc := ⟨.hbm, 54, rfl⟩
abbrev main_v52 : Ref sig .tc := ⟨.hbm, 55, rfl⟩
abbrev main_v53 : Ref sig .tc := ⟨.hbm, 56, rfl⟩
abbrev main_v54 : Ref sig .tc := ⟨.hbm, 57, rfl⟩
abbrev main_v55 : Ref sig .tc := ⟨.hbm, 58, rfl⟩

abbrev nD : Nat := 1
abbrev τ : Topo := Topo.v7x

variable {F : FTy → Type} [FloatOps F]
-- ==== DxKernel.lean ====
abbrev S4096x16384 : Shape := ⟨2, ![4096, 16384]⟩
abbrev S4x4096x4096 : Shape := ⟨3, ![4, 4096, 4096]⟩
abbrev S4x2048x4096 : Shape := ⟨3, ![4, 2048, 4096]⟩
abbrev S4096x4096 : Shape := ⟨2, ![4096, 4096]⟩
abbrev S3x2048x4096 : Shape := ⟨3, ![3, 2048, 4096]⟩
abbrev S2048x1024 : Shape := ⟨2, ![2048, 1024]⟩
abbrev S1x1024x1024 : Shape := ⟨3, ![1, 1024, 1024]⟩
abbrev S4 : Shape := ⟨1, ![4]⟩
abbrev S1 : Shape := ⟨1, ![1]⟩
abbrev S_ : Shape := ⟨0, ![]⟩
abbrev S1x512x4096 : Shape := ⟨3, ![1, 512, 4096]⟩
abbrev S512x4096 : Shape := ⟨2, ![512, 4096]⟩
abbrev S1024x1024 : Shape := ⟨2, ![1024, 1024]⟩
abbrev S3x512x4096 : Shape := ⟨3, ![3, 512, 4096]⟩

abbrev nBuf : Space → Nat
  | .hbm => 8
  | .vmem => 7
  | .smem => 0
  | _ => 0

abbrev bufTy : (tb : Table) → Fin (tcTables nBuf tb) → BufTy
  | .hbm, ⟨0, _⟩ => ⟨S4096x16384, .bf16⟩
  | .hbm, ⟨1, _⟩ => ⟨S4x4096x4096, .bf16⟩
  | .hbm, ⟨2, _⟩ => ⟨S4x4096x4096, .bf16⟩
  | .hbm, ⟨3, _⟩ => ⟨S4x2048x4096, .bf16⟩
  | .hbm, ⟨4, _⟩ => ⟨S4096x4096, .f32⟩
  | .hbm, ⟨5, _⟩ => ⟨S4x2048x4096, .bf16⟩
  | .hbm, ⟨6, _⟩ => ⟨S3x2048x4096, .bf16⟩
  | .hbm, ⟨7, _⟩ => ⟨S3x512x4096, .bf16⟩
  | .local _ .vmem, ⟨0, _⟩ => ⟨S2048x1024, .bf16⟩
  | .local _ .vmem, ⟨1, _⟩ => ⟨S2048x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S2048x1024, .f32⟩
  | .local _ .vmem, ⟨5, _⟩ => ⟨S2048x1024, .f32⟩
  | .local _ .vmem, ⟨6, _⟩ => ⟨S2048x1024, .f32⟩
  | _, _ => ⟨S4096x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 8
abbrev τ : Topo := Topo.v7x

variable {F : FTy → Type} [FloatOps F]

abbrev grid0 : Pipeline.Grid := ⟨3, ![2, 4, 16], ![false, false, false]⟩

def k0_cond1 (i : grid0.Coords) : BitVec 1 :=
  let c0_i32 : BitVec 32 := 0#32
  let arg0 : BitVec 32 := BitVec.ofNat 32 (i 0).val
  let v0 : BitVec 32 := Scalar.addi c0_i32 arg0
  let c4_i32 : BitVec 32 := 4#32
  let v1 : BitVec 32 := Scalar.muli v0 c4_i32
  let arg1 : BitVec 32 := BitVec.ofNat 32 (i 1).val
  let v2 : BitVec 32 := Scalar.addi v1 arg1
  let c16_i32 : BitVec 32 := 16#32
  let v3 : BitVec 32 := Scalar.muli v2 c16_i32
  let arg2 : BitVec 32 := BitVec.ofNat 32 (i 2).val
  let v4 : BitVec 32 := Scalar.addi v3 arg2
  let c0_i32_0 : BitVec 32 := 0#32
  let v5 : BitVec 1 := Scalar.cmpi .eq v4 c0_i32_0
  let v6 : BitVec 32 := Scalar.extui v5
  let c0_i32_1 : BitVec 32 := 0#32
  let v7 : BitVec 1 := Scalar.cmpi .ne v6 c0_i32_1
  v7

def k0_off1 (d22 : Dev nD) : Fin 3 → Nat :=
  let c0_i32_21 : BitVec 32 := 0#32
  let c1_i32_13 : BitVec 32 := 1#32
  let v28 : BitVec 32 := Dev.word d22
  let c1_i32 : BitVec 32 := 1#32
  let v29 : BitVec 32 := Scalar.divsi v28 c1_i32
  let c2_i32_12 : BitVec 32 := 2#32
  let v30 : BitVec 32 := Scalar.remsi v29 c2_i32_12
  let v31 : BitVec 32 := Scalar.subi c1_i32_13 v30
  let c2048_i32 : BitVec 32 := 2048#32
  let v32 : BitVec 32 := Scalar.muli v31 c2048_i32
  let c0_i32_22 : BitVec 32 := 0#32
  ![0, v32.toNat, 0]
def k0_dev1 (d22 : Dev nD) : Nat :=
  let c0_i32_18 : BitVec 32 := 0#32
  let v22 : BitVec 32 := Dev.word d22
  let c4_i32_9 : BitVec 32 := 4#32
  let v23 : BitVec 32 := Scalar.divsi v22 c4_i32_9
  let c2_i32 : BitVec 32 := 2#32
  let v24 : BitVec 32 := Scalar.remsi v23 c2_i32
  let c4_i32_17 : BitVec 32 := 4#32
  let v34 : BitVec 32 := Scalar.muli v24 c4_i32_17
  let v35 : BitVec 32 := Scalar.addi c0_i32_18 v34
  let v25 : BitVec 32 := Dev.word d22
  let c2_i32_11 : BitVec 32 := 2#32
  let v26 : BitVec 32 := Scalar.divsi v25 c2_i32_11
  let c2_i32_10 : BitVec 32 := 2#32
  let v27 : BitVec 32 := Scalar.remsi v26 c2_i32_10
  let c2_i32_19 : BitVec 32 := 2#32
  let v36 : BitVec 32 := Scalar.muli v27 c2_i32_19
  let v37 : BitVec 32 := Scalar.addi v35 v36
  let c1_i32_14 : BitVec 32 := 1#32
  let v28 : BitVec 32 := Dev.word d22
  let c1_i32 : BitVec 32 := 1#32
  let v29 : BitVec 32 := Scalar.divsi v28 c1_i32
  let c2_i32_12 : BitVec 32 := 2#32
  let v30 : BitVec 32 := Scalar.remsi v29 c2_i32_12
  let v33 : BitVec 32 := Scalar.subi c1_i32_14 v30
  let c1_i32_20 : BitVec 32 := 1#32
  let v38 : BitVec 32 := Scalar.muli v33 c1_i32_20
  let v39 : BitVec 32 := Scalar.addi v37 v38
  v39.toNat
def k0_off2 (d22 : Dev nD) : Fin 3 → Nat :=
  let c2_i32_33 : BitVec 32 := 2#32
  let c1_i32_29 : BitVec 32 := 1#32
  let v45 : BitVec 32 := Dev.word d22
  let c4_i32_24 : BitVec 32 := 4#32
  let v46 : BitVec 32 := Scalar.divsi v45 c4_i32_24
  let c2_i32_23 : BitVec 32 := 2#32
  let v47 : BitVec 32 := Scalar.remsi v46 c2_i32_23
  let v54 : BitVec 32 := Scalar.subi c1_i32_29 v47
  let v58 : BitVec 32 := Scalar.muli c2_i32_33 v54
  let v48 : BitVec 32 := Dev.word d22
  let c2_i32_26 : BitVec 32 := 2#32
  let v49 : BitVec 32 := Scalar.divsi v48 c2_i32_26
  let c2_i32_25 : BitVec 32 := 2#32
  let v50 : BitVec 32 := Scalar.remsi v49 c2_i32_25
  let v59 : BitVec 32 := Scalar.addi v58 v50
  let c1536_i32_44 : BitVec 32 := 1536#32
  let c0_i32_45 : BitVec 32 := 0#32
  ![v59.toNat, 1536, 0]
def k0_dev2 (d22 : Dev nD) : Nat :=
  let c0_i32_40 : BitVec 32 := 0#32
  let c1_i32_29 : BitVec 32 := 1#32
  let v45 : BitVec 32 := Dev.word d22
  let c4_i32_24 : BitVec 32 := 4#32
  let v46 : BitVec 32 := Scalar.divsi v45 c4_i32_24
  let c2_i32_23 : BitVec 32 := 2#32
  let v47 : BitVec 32 := Scalar.remsi v46 c2_i32_23
  let v54 : BitVec 32 := Scalar.subi c1_i32_29 v47
  let c4_i32_39 : BitVec 32 := 4#32
  let v64 : BitVec 32 := Scalar.muli v54 c4_i32_39
  let v65 : BitVec 32 := Scalar.addi c0_i32_40 v64
  let v48 : BitVec 32 := Dev.word d22
  let c2_i32_26 : BitVec 32 := 2#32
  let v49 : BitVec 32 := Scalar.divsi v48 c2_i32_26
  let c2_i32_25 : BitVec 32 := 2#32
  let v50 : BitVec 32 := Scalar.remsi v49 c2_i32_25
  let c2_i32_41 : BitVec 32 := 2#32
  let v66 : BitVec 32 := Scalar.muli v50 c2_i32_41
  let v67 : BitVec 32 := Scalar.addi v65 v66
  let v51 : BitVec 32 := Dev.word d22
  let c1_i32_28 : BitVec 32 := 1#32
  let v52 : BitVec 32 := Scalar.divsi v51 c1_i32_28
  let c2_i32_27 : BitVec 32 := 2#32
  let v53 : BitVec 32 := Scalar.remsi v52 c2_i32_27
  let c1_i32_42 : BitVec 32 := 1#32
  let v68 : BitVec 32 := Scalar.muli v53 c1_i32_42
  let v69 : BitVec 32 := Scalar.addi v67 v68
  v69.toNat
def k0_off3 (d22 : Dev nD) : Fin 3 → Nat :=
  let c2_i32_34 : BitVec 32 := 2#32
  let v45 : BitVec 32 := Dev.word d22
  let c4_i32_24 : BitVec 32 := 4#32
  let v46 : BitVec 32 := Scalar.divsi v45 c4_i32_24
  let c2_i32_23 : BitVec 32 := 2#32
  let v47 : BitVec 32 := Scalar.remsi v46 c2_i32_23
  let v60 : BitVec 32 := Scalar.muli c2_i32_34 v47
  let c1_i32_30 : BitVec 32 := 1#32
  let v48 : BitVec 32 := Dev.word d22
  let c2_i32_26 : BitVec 32 := 2#32
  let v49 : BitVec 32 := Scalar.divsi v48 c2_i32_26
  let c2_i32_25 : BitVec 32 := 2#32
  let v50 : BitVec 32 := Scalar.remsi v49 c2_i32_25
  let v55 : BitVec 32 := Scalar.subi c1_i32_30 v50
  let v61 : BitVec 32 := Scalar.addi v60 v55
  let c1536_i32_55 : BitVec 32 := 1536#32
  let c0_i32_56 : BitVec 32 := 0#32
  ![v61.toNat, 1536, 0]
def k0_dev3 (d22 : Dev nD) : Nat :=
  let c0_i32_50 : BitVec 32 := 0#32
  let v45 : BitVec 32 := Dev.word d22
  let c4_i32_24 : BitVec 32 := 4#32
  let v46 : BitVec 32 := Scalar.divsi v45 c4_i32_24
  let c2_i32_23 : BitVec 32 := 2#32
  let v47 : BitVec 32 := Scalar.remsi v46 c2_i32_23
  let c4_i32_49 : BitVec 32 := 4#32
  let v78 : BitVec 32 := Scalar.muli v47 c4_i32_49
  let v79 : BitVec 32 := Scalar.addi c0_i32_50 v78
  let c1_i32_30 : BitVec 32 := 1#32
  let v48 : BitVec 32 := Dev.word d22
  let c2_i32_26 : BitVec 32 := 2#32
  let v49 : BitVec 32 := Scalar.divsi v48 c2_i32_26
  let c2_i32_25 : BitVec 32 := 2#32
  let v50 : BitVec 32 := Scalar.remsi v49 c2_i32_25
  let v55 : BitVec 32 := Scalar.subi c1_i32_30 v50
  let c2_i32_51 : BitVec 32 := 2#32
  let v80 : BitVec 32 := Scalar.muli v55 c2_i32_51
  let v81 : BitVec 32 := Scalar.addi v79 v80
  let v51 : BitVec 32 := Dev.word d22
  let c1_i32_28 : BitVec 32 := 1#32
  let v52 : BitVec 32 := Scalar.divsi v51 c1_i32_28
  let c2_i32_27 : BitVec 32 := 2#32
  let v53 : BitVec 32 := Scalar.remsi v52 c2_i32_27
  let c1_i32_52 : BitVec 32 := 1#32
  let v82 : BitVec 32 := Scalar.muli v53 c1_i32_52
  let v83 : BitVec 32 := Scalar.addi v81 v82
  v83.toNat
def k0_off4 (d22 : Dev nD) : Fin 3 → Nat :=
  let c2_i32_35 : BitVec 32 := 2#32
  let c1_i32_31 : BitVec 32 := 1#32
  let v45 : BitVec 32 := Dev.word d22
  let c4_i32_24 : BitVec 32 := 4#32
  let v46 : BitVec 32 := Scalar.divsi v45 c4_i32_24
  let c2_i32_23 : BitVec 32 := 2#32
  let v47 : BitVec 32 := Scalar.remsi v46 c2_i32_23
  let v56 : BitVec 32 := Scalar.subi c1_i32_31 v47
  let v62 : BitVec 32 := Scalar.muli c2_i32_35 v56
  let c1_i32_32 : BitVec 32 := 1#32
  let v48 : BitVec 32 := Dev.word d22
  let c2_i32_26 : BitVec 32 := 2#32
  let v49 : BitVec 32 := Scalar.divsi v48 c2_i32_26
  let c2_i32_25 : BitVec 32 := 2#32
  let v50 : BitVec 32 := Scalar.remsi v49 c2_i32_25
  let v57 : BitVec 32 := Scalar.subi c1_i32_32 v50
  let v63 : BitVec 32 := Scalar.addi v62 v57
  let c1536_i32_65 : BitVec 32 := 1536#32
  let c0_i32_66 : BitVec 32 := 0#32
  ![v63.toNat, 1536, 0]
def k0_dev4 (d22 : Dev nD) : Nat :=
  let c0_i32_60 : BitVec 32 := 0#32
  let c1_i32_31 : BitVec 32 := 1#32
  let v45 : BitVec 32 := Dev.word d22
  let c4_i32_24 : BitVec 32 := 4#32
  let v46 : BitVec 32 := Scalar.divsi v45 c4_i32_24
  let c2_i32_23 : BitVec 32 := 2#32
  let v47 : BitVec 32 := Scalar.remsi v46 c2_i32_23
  let v56 : BitVec 32 := Scalar.subi c1_i32_31 v47
  let c4_i32_59 : BitVec 32 := 4#32
  let v92 : BitVec 32 := Scalar.muli v56 c4_i32_59
  let v93 : BitVec 32 := Scalar.addi c0_i32_60 v92
  let c1_i32_32 : BitVec 32 := 1#32
  let v48 : BitVec 32 := Dev.word d22
  let c2_i32_26 : BitVec 32 := 2#32
  let v49 : BitVec 32 := Scalar.divsi v48 c2_i32_26
  let c2_i32_25 : BitVec 32 := 2#32
  let v50 : BitVec 32 := Scalar.remsi v49 c2_i32_25
  let v57 : BitVec 32 := Scalar.subi c1_i32_32 v50
  let c2_i32_61 : BitVec 32 := 2#32
  let v94 : BitVec 32 := Scalar.muli v57 c2_i32_61
  let v95 : BitVec 32 := Scalar.addi v93 v94
  let v51 : BitVec 32 := Dev.word d22
  let c1_i32_28 : BitVec 32 := 1#32
  let v52 : BitVec 32 := Scalar.divsi v51 c1_i32_28
  let c2_i32_27 : BitVec 32 := 2#32
  let v53 : BitVec 32 := Scalar.remsi v52 c2_i32_27
  let c1_i32_62 : BitVec 32 := 1#32
  let v96 : BitVec 32 := Scalar.muli v53 c1_i32_62
  let v97 : BitVec 32 := Scalar.addi v95 v96
  v97.toNat
def k0_cond5 (i : grid0.Coords) : BitVec 1 :=
  let c0_i32 : BitVec 32 := 0#32
  let arg0 : BitVec 32 := BitVec.ofNat 32 (i 0).val
  let v0 : BitVec 32 := Scalar.addi c0_i32 arg0
  let c4_i32 : BitVec 32 := 4#32
  let v1 : BitVec 32 := Scalar.muli v0 c4_i32
  let arg1 : BitVec 32 := BitVec.ofNat 32 (i 1).val
  let v2 : BitVec 32 := Scalar.addi v1 arg1
  let c16_i32 : BitVec 32 := 16#32
  let v3 : BitVec 32 := Scalar.muli v2 c16_i32
  let arg2 : BitVec 32 := BitVec.ofNat 32 (i 2).val
  let v4 : BitVec 32 := Scalar.addi v3 arg2
  let c127_i32 : BitVec 32 := 127#32
  let v19 : BitVec 1 := Scalar.cmpi .eq v4 c127_i32
  let v20 : BitVec 32 := Scalar.extui v19
  let c0_i32_8 : BitVec 32 := 0#32
  let v21 : BitVec 1 := Scalar.cmpi .ne v20 c0_i32_8
  v21

def k0_off5 (d22 : Dev nD) : Fin 3 → Nat :=
  let c0_i32_21 : BitVec 32 := 0#32
  let c1_i32_13 : BitVec 32 := 1#32
  let v28 : BitVec 32 := Dev.word d22
  let c1_i32 : BitVec 32 := 1#32
  let v29 : BitVec 32 := Scalar.divsi v28 c1_i32
  let c2_i32_12 : BitVec 32 := 2#32
  let v30 : BitVec 32 := Scalar.remsi v29 c2_i32_12
  let v31 : BitVec 32 := Scalar.subi c1_i32_13 v30
  let c2048_i32 : BitVec 32 := 2048#32
  let v32 : BitVec 32 := Scalar.muli v31 c2048_i32
  let c0_i32_22 : BitVec 32 := 0#32
  ![0, v32.toNat, 0]
def k0_off6 (d22 : Dev nD) : Fin 3 → Nat :=
  let c2_i32_38 : BitVec 32 := 2#32
  let c1_i32_34 : BitVec 32 := 1#32
  let v46 : BitVec 32 := Dev.word d22
  let c4_i32_29 : BitVec 32 := 4#32
  let v47 : BitVec 32 := Scalar.divsi v46 c4_i32_29
  let c2_i32_28 : BitVec 32 := 2#32
  let v48 : BitVec 32 := Scalar.remsi v47 c2_i32_28
  let v55 : BitVec 32 := Scalar.subi c1_i32_34 v48
  let v59 : BitVec 32 := Scalar.muli c2_i32_38 v55
  let v49 : BitVec 32 := Dev.word d22
  let c2_i32_31 : BitVec 32 := 2#32
  let v50 : BitVec 32 := Scalar.divsi v49 c2_i32_31
  let c2_i32_30 : BitVec 32 := 2#32
  let v51 : BitVec 32 := Scalar.remsi v50 c2_i32_30
  let v60 : BitVec 32 := Scalar.addi v59 v51
  let c1536_i32_49 : BitVec 32 := 1536#32
  let c0_i32_50 : BitVec 32 := 0#32
  ![v60.toNat, 1536, 0]
def k0_off7 (d22 : Dev nD) : Fin 3 → Nat :=
  let c2_i32_39 : BitVec 32 := 2#32
  let v46 : BitVec 32 := Dev.word d22
  let c4_i32_29 : BitVec 32 := 4#32
  let v47 : BitVec 32 := Scalar.divsi v46 c4_i32_29
  let c2_i32_28 : BitVec 32 := 2#32
  let v48 : BitVec 32 := Scalar.remsi v47 c2_i32_28
  let v61 : BitVec 32 := Scalar.muli c2_i32_39 v48
  let c1_i32_35 : BitVec 32 := 1#32
  let v49 : BitVec 32 := Dev.word d22
  let c2_i32_31 : BitVec 32 := 2#32
  let v50 : BitVec 32 := Scalar.divsi v49 c2_i32_31
  let c2_i32_30 : BitVec 32 := 2#32
  let v51 : BitVec 32 := Scalar.remsi v50 c2_i32_30
  let v56 : BitVec 32 := Scalar.subi c1_i32_35 v51
  let v62 : BitVec 32 := Scalar.addi v61 v56
  let c1536_i32_60 : BitVec 32 := 1536#32
  let c0_i32_61 : BitVec 32 := 0#32
  ![v62.toNat, 1536, 0]
def k0_off8 (d22 : Dev nD) : Fin 3 → Nat :=
  let c2_i32_40 : BitVec 32 := 2#32
  let c1_i32_36 : BitVec 32 := 1#32
  let v46 : BitVec 32 := Dev.word d22
  let c4_i32_29 : BitVec 32 := 4#32
  let v47 : BitVec 32 := Scalar.divsi v46 c4_i32_29
  let c2_i32_28 : BitVec 32 := 2#32
  let v48 : BitVec 32 := Scalar.remsi v47 c2_i32_28
  let v57 : BitVec 32 := Scalar.subi c1_i32_36 v48
  let v63 : BitVec 32 := Scalar.muli c2_i32_40 v57
  let c1_i32_37 : BitVec 32 := 1#32
  let v49 : BitVec 32 := Dev.word d22
  let c2_i32_31 : BitVec 32 := 2#32
  let v50 : BitVec 32 := Scalar.divsi v49 c2_i32_31
  let c2_i32_30 : BitVec 32 := 2#32
  let v51 : BitVec 32 := Scalar.remsi v50 c2_i32_30
  let v58 : BitVec 32 := Scalar.subi c1_i32_37 v51
  let v64 : BitVec 32 := Scalar.addi v63 v58
  let c1536_i32_70 : BitVec 32 := 1536#32
  let c0_i32_71 : BitVec 32 := 0#32
  ![v64.toNat, 1536, 0]
def k0_cond4 (i : grid0.Coords) : BitVec 1 :=
  let arg2 : BitVec 32 := BitVec.ofNat 32 (i 2).val
  let c15_i32_6 : BitVec 32 := 15#32
  let v16 : BitVec 1 := Scalar.cmpi .eq arg2 c15_i32_6
  let v17 : BitVec 32 := Scalar.extui v16
  let c0_i32_7 : BitVec 32 := 0#32
  let v18 : BitVec 1 := Scalar.cmpi .ne v17 c0_i32_7
  v18

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg2 c4_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg2 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg2 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg1.toNat, v26.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DxReferenceIdeal.lean ====
abbrev S32768x16384 : Shape := ⟨2, ![32768, 16384]⟩
abbrev S4x4096x4096 : Shape := ⟨3, ![4, 4096, 4096]⟩
abbrev S32x4096x4096 : Shape := ⟨3, ![32, 4096, 4096]⟩
abbrev S32x2048x4096 : Shape := ⟨3, ![32, 2048, 4096]⟩
abbrev S4096x4x4096 : Shape := ⟨3, ![4096, 4, 4096]⟩
abbrev S4096x16384 : Shape := ⟨2, ![4096, 16384]⟩
abbrev S16384x4096 : Shape := ⟨2, ![16384, 4096]⟩
abbrev S32768x4096 : Shape := ⟨2, ![32768, 4096]⟩
abbrev S4x2x4x2x2048x4096 : Shape := ⟨6, ![4, 2, 4, 2, 2048, 4096]⟩
abbrev S4x1x4x1x2048x4096 : Shape := ⟨6, ![4, 1, 4, 1, 2048, 4096]⟩
abbrev S4x4x2048x4096 : Shape := ⟨4, ![4, 4, 2048, 4096]⟩
abbrev S4x1x4x2048x4096 : Shape := ⟨5, ![4, 1, 4, 2048, 4096]⟩
abbrev S4x2x4x2048x4096 : Shape := ⟨5, ![4, 2, 4, 2048, 4096]⟩
abbrev S4x2x4x512x4096 : Shape := ⟨5, ![4, 2, 4, 512, 4096]⟩
abbrev S1x2x1x512x4096 : Shape := ⟨5, ![1, 2, 1, 512, 4096]⟩
abbrev S2x512x4096 : Shape := ⟨3, ![2, 512, 4096]⟩
abbrev S2x1x512x4096 : Shape := ⟨4, ![2, 1, 512, 4096]⟩
abbrev S2x3x512x4096 : Shape := ⟨4, ![2, 3, 512, 4096]⟩
abbrev S1x2x3x512x4096 : Shape := ⟨5, ![1, 2, 3, 512, 4096]⟩
abbrev S4x2x3x512x4096 : Shape := ⟨5, ![4, 2, 3, 512, 4096]⟩
abbrev S24x512x4096 : Shape := ⟨3, ![24, 512, 4096]⟩

abbrev nBuf : Space → Nat
  | .hbm => 67
  | .vmem => 0
  | .smem => 0
  | _ => 0

abbrev bufTy : (tb : Table) → Fin (tcTables nBuf tb) → BufTy
  | .hbm, ⟨0, _⟩ => ⟨S32768x16384, .bf16⟩
  | .hbm, ⟨1, _⟩ => ⟨S4x4096x4096, .bf16⟩
  | .hbm, ⟨2, _⟩ => ⟨S32x4096x4096, .bf16⟩
  | .hbm, ⟨3, _⟩ => ⟨S32x2048x4096, .bf16⟩
  | .hbm, ⟨4, _⟩ => ⟨S4x4096x4096, .f32⟩
  | .hbm, ⟨5, _⟩ => ⟨S4096x4x4096, .f32⟩
  | .hbm, ⟨6, _⟩ => ⟨S4096x16384, .f32⟩
  | .hbm, ⟨7, _⟩ => ⟨S32768x16384, .f32⟩
  | .hbm, ⟨8, _⟩ => ⟨S16384x4096, .f32⟩
  | .hbm, ⟨9, _⟩ => ⟨S32768x4096, .f32⟩
  | .hbm, ⟨10, _⟩ => ⟨S4x2x4x2x2048x4096, .bf16⟩
  | .hbm, ⟨11, _⟩ => ⟨S4x1x4x1x2048x4096, .bf16⟩
  | .hbm, ⟨12, _⟩ => ⟨S4x4x2048x4096, .bf16⟩
  | .hbm, ⟨13, _⟩ => ⟨S4x1x4x1x2048x4096, .bf16⟩
  | .hbm, ⟨14, _⟩ => ⟨S4x4x2048x4096, .bf16⟩
  | .hbm, ⟨15, _⟩ => ⟨S4x1x4x2048x4096, .bf16⟩
  | .hbm, ⟨16, _⟩ => ⟨S4x1x4x2048x4096, .bf16⟩
  | .hbm, ⟨17, _⟩ => ⟨S4x2x4x2048x4096, .bf16⟩
  | .hbm, ⟨18, _⟩ => ⟨S4x2x4x2048x4096, .bf16⟩
  | .hbm, ⟨19, _⟩ => ⟨S4x2x4x512x4096, .bf16⟩
  | .hbm, ⟨20, _⟩ => ⟨S1x2x1x512x4096, .bf16⟩
  | .hbm, ⟨21, _⟩ => ⟨S2x512x4096, .bf16⟩
  | .hbm, ⟨22, _⟩ => ⟨S1x2x1x512x4096, .bf16⟩
  | .hbm, ⟨23, _⟩ => ⟨S2x512x4096, .bf16⟩
  | .hbm, ⟨24, _⟩ => ⟨S1x2x1x512x4096, .bf16⟩
  | .hbm, ⟨25, _⟩ => ⟨S2x512x4096, .bf16⟩
  | .hbm, ⟨26, _⟩ => ⟨S2x1x512x4096, .bf16⟩
  | .hbm, ⟨27, _⟩ => ⟨S2x1x512x4096, .bf16⟩
  | .hbm, ⟨28, _⟩ => ⟨S2x1x512x4096, .bf16⟩
  | .hbm, ⟨29, _⟩ => ⟨S2x3x512x4096, .bf16⟩
  | .hbm, ⟨30, _⟩ => ⟨S1x2x1x512x4096, .bf16⟩
  | .hbm, ⟨31, _⟩ => ⟨S2x512x4096, .bf16⟩
  | .hbm, ⟨32, _⟩ => ⟨S1x2x1x512x4096, .bf16⟩
  | .hbm, ⟨33, _⟩ => ⟨S2x512x4096, .bf16⟩
  | .hbm, ⟨34, _⟩ => ⟨S1x2x1x512x4096, .bf16⟩
  | .hbm, ⟨35, _⟩ => ⟨S2x512x4096, .bf16⟩
  | .hbm, ⟨36, _⟩ => ⟨S2x1x512x4096, .bf16⟩
  | .hbm, ⟨37, _⟩ => ⟨S2x1x512x4096, .bf16⟩
  | .hbm, ⟨38, _⟩ => ⟨S2x1x512x4096, .bf16⟩
  | .hbm, ⟨39, _⟩ => ⟨S2x3x512x4096, .bf16⟩
  | .hbm, ⟨40, _⟩ => ⟨S1x2x1x512x4096, .bf16⟩
  | .hbm, ⟨41, _⟩ => ⟨S2x512x4096, .bf16⟩
  | .hbm, ⟨42, _⟩ => ⟨S1x2x1x512x4096, .bf16⟩
  | .hbm, ⟨43, _⟩ => ⟨S2x512x4096, .bf16⟩
  | .hbm, ⟨44, _⟩ => ⟨S1x2x1x512x4096, .bf16⟩
  | .hbm, ⟨45, _⟩ => ⟨S2x512x4096, .bf16⟩
  | .hbm, ⟨46, _⟩ => ⟨S2x1x512x4096, .bf16⟩
  | .hbm, ⟨47, _⟩ => ⟨S2x1x512x4096, .bf16⟩
  | .hbm, ⟨48, _⟩ => ⟨S2x1x512x4096, .bf16⟩
  | .hbm, ⟨49, _⟩ => ⟨S2x3x512x4096, .bf16⟩
  | .hbm, ⟨50, _⟩ => ⟨S1x2x1x512x4096, .bf16⟩
  | .hbm, ⟨51, _⟩ => ⟨S2x512x4096, .bf16⟩
  | .hbm, ⟨52, _⟩ => ⟨S1x2x1x512x4096, .bf16⟩
  | .hbm, ⟨53, _⟩ => ⟨S2x512x4096, .bf16⟩
  | .hbm, ⟨54, _⟩ => ⟨S1x2x1x512x4096, .bf16⟩
  | .hbm, ⟨55, _⟩ => ⟨S2x512x4096, .bf16⟩
  | .hbm, ⟨56, _⟩ => ⟨S2x1x512x4096, .bf16⟩
  | .hbm, ⟨57, _⟩ => ⟨S2x1x512x4096, .bf16⟩
  | .hbm, ⟨58, _⟩ => ⟨S2x1x512x4096, .bf16⟩
  | .hbm, ⟨59, _⟩ => ⟨S2x3x512x4096, .bf16⟩
  | .hbm, ⟨60, _⟩ => ⟨S1x2x3x512x4096, .bf16⟩
  | .hbm, ⟨61, _⟩ => ⟨S1x2x3x512x4096, .bf16⟩
  | .hbm, ⟨62, _⟩ => ⟨S1x2x3x512x4096, .bf16⟩
  | .hbm, ⟨63, _⟩ => ⟨S1x2x3x512x4096, .bf16⟩
  | .hbm, ⟨64, _⟩ => ⟨S4x2x3x512x4096, .bf16⟩
  | .hbm, ⟨65, _⟩ => ⟨S32x2048x4096, .bf16⟩
  | .hbm, ⟨66, _⟩ => ⟨S24x512x4096, .bf16⟩
  | _, _ => ⟨S32768x16384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_v40 : Ref sig .tc := ⟨.hbm, 44, rfl⟩
abbrev main_v41 : Ref sig .tc := ⟨.hbm, 45, rfl⟩
abbrev main_v42 : Ref sig .tc := ⟨.hbm, 46, rfl⟩
abbrev main_v43 : Ref sig .tc := ⟨.hbm, 47, rfl⟩
abbrev main_v44 : Ref sig .tc := ⟨.hbm, 48, rfl⟩
abbrev main_v45 : Ref sig .tc := ⟨.hbm, 49, rfl⟩
abbrev main_v46 : Ref sig .tc := ⟨.hbm, 50, rfl⟩
abbrev main_v47 : Ref sig .tc := ⟨.hbm, 51, rfl⟩
abbrev main_v48 : Ref sig .tc := ⟨.hbm, 52, rfl⟩
abbrev main_v49 : Ref sig .tc := ⟨.hbm, 53, rfl⟩
abbrev main_v50 : Ref sig .tc := ⟨.hbm, 54, rfl⟩
abbrev main_v51 : Ref sig .tc := ⟨.hbm, 55, rfl⟩
abbrev main_v52 : Ref sig .tc := ⟨.hbm, 56, rfl⟩
abbrev main_v53 : Ref sig .tc := ⟨.hbm, 57, rfl⟩
abbrev main_v54 : Ref sig .tc := ⟨.hbm, 58, rfl⟩
abbrev main_v55 : Ref sig .tc := ⟨.hbm, 59, rfl⟩
abbrev main_v56 : Ref sig .tc := ⟨.hbm, 60, rfl⟩
abbrev main_v57 : Ref sig .tc := ⟨.hbm, 61, rfl⟩
abbrev main_v58 : Ref sig .tc := ⟨.hbm, 62, rfl⟩
abbrev main_v59 : Ref sig .tc := ⟨.hbm, 63, rfl⟩
abbrev main_v60 : Ref sig .tc := ⟨.hbm, 64, rfl⟩
abbrev main_v61 : Ref sig .tc := ⟨.hbm, 65, rfl⟩
abbrev main_v62 : Ref sig .tc := ⟨.hbm, 66, rfl⟩

abbrev nD : Nat := 1
abbrev τ : Topo := Topo.v7x

variable {F : FTy → Type} [FloatOps F]
-- ==== PxKernel.lean ====
abbrev S4096x10240 : Shape := ⟨2, ![4096, 10240]⟩
abbrev S4x4096x2560 : Shape := ⟨3, ![4, 4096, 2560]⟩
abbrev S4x1024x2560 : Shape := ⟨3, ![4, 1024, 2560]⟩
abbrev S4x1024x4096 : Shape := ⟨3, ![4, 1024, 4096]⟩
abbrev S4096x4096 : Shape := ⟨2, ![4096, 4096]⟩
abbrev S3x1024x2560 : Shape := ⟨3, ![3, 1024, 2560]⟩
abbrev S4x512x4096 : Shape := ⟨3, ![4, 512, 4096]⟩
abbrev S2048x1280 : Shape := ⟨2, ![2048, 1280]⟩
abbrev S1x1024x1280 : Shape := ⟨3, ![1, 1024, 1280]⟩
abbrev S2048x1024 : Shape := ⟨2, ![2048, 1024]⟩
abbrev S7 : Shape := ⟨1, ![7]⟩
abbrev S1 : Shape := ⟨1, ![1]⟩
abbrev S_ : Shape := ⟨0, ![]⟩
abbrev S1x320x2560 : Shape := ⟨3, ![1, 320, 2560]⟩
abbrev S320x2560 : Shape := ⟨2, ![320, 2560]⟩
abbrev S1x1024x2560 : Shape := ⟨3, ![1, 1024, 2560]⟩
abbrev S1024x2560 : Shape := ⟨2, ![1024, 2560]⟩
abbrev S1024x1280 : Shape := ⟨2, ![1024, 1280]⟩
abbrev S3x320x2560 : Shape := ⟨3, ![3, 320, 2560]⟩

abbrev nBuf : Space → Nat
  | .hbm => 10
  | .vmem => 7
  | .smem => 0
  | _ => 0

abbrev bufTy : (tb : Table) → Fin (tcTables nBuf tb) → BufTy
  | .hbm, ⟨0, _⟩ => ⟨S4096x10240, .bf16⟩
  | .hbm, ⟨1, _⟩ => ⟨S4x4096x2560, .bf16⟩
  | .hbm, ⟨2, _⟩ => ⟨S4x1024x2560, .bf16⟩
  | .hbm, ⟨3, _⟩ => ⟨S4x1024x2560, .bf16⟩
  | .hbm, ⟨4, _⟩ => ⟨S4x1024x4096, .bf16⟩
  | .hbm, ⟨5, _⟩ => ⟨S4096x4096, .f32⟩
  | .hbm, ⟨6, _⟩ => ⟨S3x1024x2560, .bf16⟩
  | .hbm, ⟨7, _⟩ => ⟨S3x1024x2560, .bf16⟩
  | .hbm, ⟨8, _⟩ => ⟨S4x512x4096, .bf16⟩
  | .hbm, ⟨9, _⟩ => ⟨S3x320x2560, .bf16⟩
  | .local _ .vmem, ⟨0, _⟩ => ⟨S2048x1280, .bf16⟩
  | .local _ .vmem, ⟨1, _⟩ => ⟨S2048x1280, .bf16⟩
  | .local _ .vmem, ⟨2, _⟩ => ⟨S1x1024x1280, .bf16⟩
  | .local _ .vmem, ⟨3, _⟩ => ⟨S1x1024x1280, .bf16⟩
  | .local _ .vmem, ⟨4, _⟩ => ⟨S2048x1024, .f32⟩
  | .local _ .vmem, ⟨5, _⟩ => ⟨S2048x1024, .f32⟩
  | .local _ .vmem, ⟨6, _⟩ => ⟨S2048x1024, .f32⟩
  | _, _ => ⟨S4096x10240, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev main_v2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 8
abbrev τ : Topo := Topo.v7x

variable {F : FTy → Type} [FloatOps F]

abbrev grid0 : Pipeline.Grid := ⟨3, ![2, 4, 8], ![false, false, false]⟩

def k0_cond1 (i : grid0.Coords) : BitVec 1 :=
  let c0_i32 : BitVec 32 := 0#32
  let arg0 : BitVec 32 := BitVec.ofNat 32 (i 0).val
  let v0 : BitVec 32 := Scalar.addi c0_i32 arg0
  let c4_i32 : BitVec 32 := 4#32
  let v1 : BitVec 32 := Scalar.muli v0 c4_i32
  let arg1 : BitVec 32 := BitVec.ofNat 32 (i 1).val
  let v2 : BitVec 32 := Scalar.addi v1 arg1
  let c8_i32 : BitVec 32 := 8#32
  let v3 : BitVec 32 := Scalar.muli v2 c8_i32
  let arg2 : BitVec 32 := BitVec.ofNat 32 (i 2).val
  let v4 : BitVec 32 := Scalar.addi v3 arg2
  let c0_i32_0 : BitVec 32 := 0#32
  let v5 : BitVec 1 := Scalar.cmpi .eq v4 c0_i32_0
  let v6 : BitVec 32 := Scalar.extui v5
  let c0_i32_1 : BitVec 32 := 0#32
  let v7 : BitVec 1 := Scalar.cmpi .ne v6 c0_i32_1
  v7

def k0_off1 (d22 : Dev nD) : Fin 3 → Nat :=
  let c2_i32_17 : BitVec 32 := 2#32
  let c1_i32_13 : BitVec 32 := 1#32
  let v22 : BitVec 32 := Dev.word d22
  let c4_i32_9 : BitVec 32 := 4#32
  let v23 : BitVec 32 := Scalar.divsi v22 c4_i32_9
  let c2_i32 : BitVec 32 := 2#32
  let v24 : BitVec 32 := Scalar.remsi v23 c2_i32
  let v31 : BitVec 32 := Scalar.subi c1_i32_13 v24
  let v35 : BitVec 32 := Scalar.muli c2_i32_17 v31
  let v25 : BitVec 32 := Dev.word d22
  let c2_i32_11 : BitVec 32 := 2#32
  let v26 : BitVec 32 := Scalar.divsi v25 c2_i32_11
  let c2_i32_10 : BitVec 32 := 2#32
  let v27 : BitVec 32 := Scalar.remsi v26 c2_i32_10
  let v36 : BitVec 32 := Scalar.addi v35 v27
  let c704_i32_28 : BitVec 32 := 704#32
  let c0_i32_29 : BitVec 32 := 0#32
  ![v36.toNat, 704, 0]
def k0_dev1 (d22 : Dev nD) : Nat :=
  let c0_i32_24 : BitVec 32 := 0#32
  let c1_i32_13 : BitVec 32 := 1#32
  let v22 : BitVec 32 := Dev.word d22
  let c4_i32_9 : BitVec 32 := 4#32
  let v23 : BitVec 32 := Scalar.divsi v22 c4_i32_9
  let c2_i32 : BitVec 32 := 2#32
  let v24 : BitVec 32 := Scalar.remsi v23 c2_i32
  let v31 : BitVec 32 := Scalar.subi c1_i32_13 v24
  let c4_i32_23 : BitVec 32 := 4#32
  let v41 : BitVec 32 := Scalar.muli v31 c4_i32_23
  let v42 : BitVec 32 := Scalar.addi c0_i32_24 v41
  let v25 : BitVec 32 := Dev.word d22
  let c2_i32_11 : BitVec 32 := 2#32
  let v26 : BitVec 32 := Scalar.divsi v25 c2_i32_11
  let c2_i32_10 : BitVec 32 := 2#32
  let v27 : BitVec 32 := Scalar.remsi v26 c2_i32_10
  let c2_i32_25 : BitVec 32 := 2#32
  let v43 : BitVec 32 := Scalar.muli v27 c2_i32_25
  let v44 : BitVec 32 := Scalar.addi v42 v43
  let v28 : BitVec 32 := Dev.word d22
  let c1_i32 : BitVec 32 := 1#32
  let v29 : BitVec 32 := Scalar.divsi v28 c1_i32
  let c2_i32_12 : BitVec 32 := 2#32
  let v30 : BitVec 32 := Scalar.remsi v29 c2_i32_12
  let c1_i32_26 : BitVec 32 := 1#32
  let v45 : BitVec 32 := Scalar.muli v30 c1_i32_26
  let v46 : BitVec 32 := Scalar.addi v44 v45
  v46.toNat
def k0_off2 (d22 : Dev nD) : Fin 3 → Nat :=
  let c2_i32_18 : BitVec 32 := 2#32
  let v22 : BitVec 32 := Dev.word d22
  let c4_i32_9 : BitVec 32 := 4#32
  let v23 : BitVec 32 := Scalar.divsi v22 c4_i32_9
  let c2_i32 : BitVec 32 := 2#32
  let v24 : BitVec 32 := Scalar.remsi v23 c2_i32
  let v37 : BitVec 32 := Scalar.muli c2_i32_18 v24
  let c1_i32_14 : BitVec 32 := 1#32
  let v25 : BitVec 32 := Dev.word d22
  let c2_i32_11 : BitVec 32 := 2#32
  let v26 : BitVec 32 := Scalar.divsi v25 c2_i32_11
  let c2_i32_10 : BitVec 32 := 2#32
  let v27 : BitVec 32 := Scalar.remsi v26 c2_i32_10
  let v32 : BitVec 32 := Scalar.subi c1_i32_14 v27
  let v38 : BitVec 32 := Scalar.addi v37 v32
  let c704_i32_39 : BitVec 32 := 704#32
  let c0_i32_40 : BitVec 32 := 0#32
  ![v38.toNat, 704, 0]
def k0_dev2 (d22 : Dev nD) : Nat :=
  let c0_i32_34 : BitVec 32 := 0#32
  let v22 : BitVec 32 := Dev.word d22
  let c4_i32_9 : BitVec 32 := 4#32
  let v23 : BitVec 32 := Scalar.divsi v22 c4_i32_9
  let c2_i32 : BitVec 32 := 2#32
  let v24 : BitVec 32 := Scalar.remsi v23 c2_i32
  let c4_i32_33 : BitVec 32 := 4#32
  let v55 : BitVec 32 := Scalar.muli v24 c4_i32_33
  let v56 : BitVec 32 := Scalar.addi c0_i32_34 v55
  let c1_i32_14 : BitVec 32 := 1#32
  let v25 : BitVec 32 := Dev.word d22
  let c2_i32_11 : BitVec 32 := 2#32
  let v26 : BitVec 32 := Scalar.divsi v25 c2_i32_11
  let c2_i32_10 : BitVec 32 := 2#32
  let v27 : BitVec 32 := Scalar.remsi v26 c2_i32_10
  let v32 : BitVec 32 := Scalar.subi c1_i32_14 v27
  let c2_i32_35 : BitVec 32 := 2#32
  let v57 : BitVec 32 := Scalar.muli v32 c2_i32_35
  let v58 : BitVec 32 := Scalar.addi v56 v57
  let v28 : BitVec 32 := Dev.word d22
  let c1_i32 : BitVec 32 := 1#32
  let v29 : BitVec 32 := Scalar.divsi v28 c1_i32
  let c2_i32_12 : BitVec 32 := 2#32
  let v30 : BitVec 32 := Scalar.remsi v29 c2_i32_12
  let c1_i32_36 : BitVec 32 := 1#32
  let v59 : BitVec 32 := Scalar.muli v30 c1_i32_36
  let v60 : BitVec 32 := Scalar.addi v58 v59
  v60.toNat
def k0_off3 (d22 : Dev nD) : Fin 3 → Nat :=
  let c2_i32_19 : BitVec 32 := 2#32
  let c1_i32_15 : BitVec 32 := 1#32
  let v22 : BitVec 32 := Dev.word d22
  let c4_i32_9 : BitVec 32 := 4#32
  let v23 : BitVec 32 := Scalar.divsi v22 c4_i32_9
  let c2_i32 : BitVec 32 := 2#32
  let v24 : BitVec 32 := Scalar.remsi v23 c2_i32
  let v33 : BitVec 32 := Scalar.subi c1_i32_15 v24
  let v39 : BitVec 32 := Scalar.muli c2_i32_19 v33
  let c1_i32_16 : BitVec 32 := 1#32
  let v25 : BitVec 32 := Dev.word d22
  let c2_i32_11 : BitVec 32 := 2#32
  let v26 : BitVec 32 := Scalar.divsi v25 c2_i32_11
  let c2_i32_10 : BitVec 32 := 2#32
  let v27 : BitVec 32 := Scalar.remsi v26 c2_i32_10
  let v34 : BitVec 32 := Scalar.subi c1_i32_16 v27
  let v40 : BitVec 32 := Scalar.addi v39 v34
  let c704_i32_50 : BitVec 32 := 704#32
  let c0_i32_51 : BitVec 32 := 0#32
  ![v40.toNat, 704, 0]
def k0_dev3 (d22 : Dev nD) : Nat :=
  let c0_i32_45 : BitVec 32 := 0#32
  let c1_i32_15 : BitVec 32 := 1#32
  let v22 : BitVec 32 := Dev.word d22
  let c4_i32_9 : BitVec 32 := 4#32
  let v23 : BitVec 32 := Scalar.divsi v22 c4_i32_9
  let c2_i32 : BitVec 32 := 2#32
  let v24 : BitVec 32 := Scalar.remsi v23 c2_i32
  let v33 : BitVec 32 := Scalar.subi c1_i32_15 v24
  let c4_i32_44 : BitVec 32 := 4#32
  let v69 : BitVec 32 := Scalar.muli v33 c4_i32_44
  let v70 : BitVec 32 := Scalar.addi c0_i32_45 v69
  let c1_i32_16 : BitVec 32 := 1#32
  let v25 : BitVec 32 := Dev.word d22
  let c2_i32_11 : BitVec 32 := 2#32
  let v26 : BitVec 32 := Scalar.divsi v25 c2_i32_11
  let c2_i32_10 : BitVec 32 := 2#32
  let v27 : BitVec 32 := Scalar.remsi v26 c2_i32_10
  let v34 : BitVec 32 := Scalar.subi c1_i32_16 v27
  let c2_i32_46 : BitVec 32 := 2#32
  let v71 : BitVec 32 := Scalar.muli v34 c2_i32_46
  let v72 : BitVec 32 := Scalar.addi v70 v71
  let v28 : BitVec 32 := Dev.word d22
  let c1_i32 : BitVec 32 := 1#32
  let v29 : BitVec 32 := Scalar.divsi v28 c1_i32
  let c2_i32_12 : BitVec 32 := 2#32
  let v30 : BitVec 32 := Scalar.remsi v29 c2_i32_12
  let c1_i32_47 : BitVec 32 := 1#32
  let v73 : BitVec 32 := Scalar.muli v30 c1_i32_47
  let v74 : BitVec 32 := Scalar.addi v72 v73
  v74.toNat
def k0_off4 (d22 : Dev nD) : Fin 3 → Nat :=
  let c2_i32_62 : BitVec 32 := 2#32
  let c1_i32_58 : BitVec 32 := 1#32
  let v83 : BitVec 32 := Dev.word d22
  let c4_i32_53 : BitVec 32 := 4#32
  let v84 : BitVec 32 := Scalar.divsi v83 c4_i32_53
  let c2_i32_52 : BitVec 32 := 2#32
  let v85 : BitVec 32 := Scalar.remsi v84 c2_i32_52
  let v92 : BitVec 32 := Scalar.subi c1_i32_58 v85
  let v96 : BitVec 32 := Scalar.muli c2_i32_62 v92
  let v86 : BitVec 32 := Dev.word d22
  let c2_i32_55 : BitVec 32 := 2#32
  let v87 : BitVec 32 := Scalar.divsi v86 c2_i32_55
  let c2_i32_54 : BitVec 32 := 2#32
  let v88 : BitVec 32 := Scalar.remsi v87 c2_i32_54
  let v97 : BitVec 32 := Scalar.addi v96 v88
  let c0_i32_73 : BitVec 32 := 0#32
  let c0_i32_74 : BitVec 32 := 0#32
  ![v97.toNat, 0, 0]
def k0_dev4 (d22 : Dev nD) : Nat :=
  let c0_i32_68 : BitVec 32 := 0#32
  let c1_i32_58 : BitVec 32 := 1#32
  let v83 : BitVec 32 := Dev.word d22
  let c4_i32_53 : BitVec 32 := 4#32
  let v84 : BitVec 32 := Scalar.divsi v83 c4_i32_53
  let c2_i32_52 : BitVec 32 := 2#32
  let v85 : BitVec 32 := Scalar.remsi v84 c2_i32_52
  let v92 : BitVec 32 := Scalar.subi c1_i32_58 v85
  let c4_i32_67 : BitVec 32 := 4#32
  let v102 : BitVec 32 := Scalar.muli v92 c4_i32_67
  let v103 : BitVec 32 := Scalar.addi c0_i32_68 v102
  let v86 : BitVec 32 := Dev.word d22
  let c2_i32_55 : BitVec 32 := 2#32
  let v87 : BitVec 32 := Scalar.divsi v86 c2_i32_55
  let c2_i32_54 : BitVec 32 := 2#32
  let v88 : BitVec 32 := Scalar.remsi v87 c2_i32_54
  let c2_i32_69 : BitVec 32 := 2#32
  let v104 : BitVec 32 := Scalar.muli v88 c2_i32_69
  let v105 : BitVec 32 := Scalar.addi v103 v104
  let v89 : BitVec 32 := Dev.word d22
  let c1_i32_57 : BitVec 32 := 1#32
  let v90 : BitVec 32 := Scalar.divsi v89 c1_i32_57
  let c2_i32_56 : BitVec 32 := 2#32
  let v91 : BitVec 32 := Scalar.remsi v90 c2_i32_56
  let c1_i32_70 : BitVec 32 := 1#32
  let v106 : BitVec 32 := Scalar.muli v91 c1_i32_70
  let v107 : BitVec 32 := Scalar.addi v105 v106
  v107.toNat
def k0_off5 (d22 : Dev nD) : Fin 3 → Nat :=
  let c2_i32_63 : BitVec 32 := 2#32
  let v83 : BitVec 32 := Dev.word d22
  let c4_i32_53 : BitVec 32 := 4#32
  let v84 : BitVec 32 := Scalar.divsi v83 c4_i32_53
  let c2_i32_52 : BitVec 32 := 2#32
  let v85 : BitVec 32 := Scalar.remsi v84 c2_i32_52
  let v98 : BitVec 32 := Scalar.muli c2_i32_63 v85
  let c1_i32_59 : BitVec 32 := 1#32
  let v86 : BitVec 32 := Dev.word d22
  let c2_i32_55 : BitVec 32 := 2#32
  let v87 : BitVec 32 := Scalar.divsi v86 c2_i32_55
  let c2_i32_54 : BitVec 32 := 2#32
  let v88 : BitVec 32 := Scalar.remsi v87 c2_i32_54
  let v93 : BitVec 32 := Scalar.subi c1_i32_59 v88
  let v99 : BitVec 32 := Scalar.addi v98 v93
  let c0_i32_84 : BitVec 32 := 0#32
  let c0_i32_85 : BitVec 32 := 0#32
  ![v99.toNat, 0, 0]
def k0_dev5 (d22 : Dev nD) : Nat :=
  let c0_i32_79 : BitVec 32 := 0#32
  let v83 : BitVec 32 := Dev.word d22
  let c4_i32_53 : BitVec 32 := 4#32
  let v84 : BitVec 32 := Scalar.divsi v83 c4_i32_53
  let c2_i32_52 : BitVec 32 := 2#32
  let v85 : BitVec 32 := Scalar.remsi v84 c2_i32_52
  let c4_i32_78 : BitVec 32 := 4#32
  let v116 : BitVec 32 := Scalar.muli v85 c4_i32_78
  let v117 : BitVec 32 := Scalar.addi c0_i32_79 v116
  let c1_i32_59 : BitVec 32 := 1#32
  let v86 : BitVec 32 := Dev.word d22
  let c2_i32_55 : BitVec 32 := 2#32
  let v87 : BitVec 32 := Scalar.divsi v86 c2_i32_55
  let c2_i32_54 : BitVec 32 := 2#32
  let v88 : BitVec 32 := Scalar.remsi v87 c2_i32_54
  let v93 : BitVec 32 := Scalar.subi c1_i32_59 v88
  let c2_i32_80 : BitVec 32 := 2#32
  let v118 : BitVec 32 := Scalar.muli v93 c2_i32_80
  let v119 : BitVec 32 := Scalar.addi v117 v118
  let v89 : BitVec 32 := Dev.word d22
  let c1_i32_57 : BitVec 32 := 1#32
  let v90 : BitVec 32 := Scalar.divsi v89 c1_i32_57
  let c2_i32_56 : BitVec 32 := 2#32
  let v91 : BitVec 32 := Scalar.remsi v90 c2_i32_56
  let c1_i32_81 : BitVec 32 := 1#32
  let v120 : BitVec 32 := Scalar.muli v91 c1_i32_81
  let v121 : BitVec 32 := Scalar.addi v119 v120
  v121.toNat
def k0_off6 (d22 : Dev nD) : Fin 3 → Nat :=
  let c2_i32_64 : BitVec 32 := 2#32
  let c1_i32_60 : BitVec 32 := 1#32
  let v83 : BitVec 32 := Dev.word d22
  let c4_i32_53 : BitVec 32 := 4#32
  let v84 : BitVec 32 := Scalar.divsi v83 c4_i32_53
  let c2_i32_52 : BitVec 32 := 2#32
  let v85 : BitVec 32 := Scalar.remsi v84 c2_i32_52
  let v94 : BitVec 32 := Scalar.subi c1_i32_60 v85
  let v100 : BitVec 32 := Scalar.muli c2_i32_64 v94
  let c1_i32_61 : BitVec 32 := 1#32
  let v86 : BitVec 32 := Dev.word d22
  let c2_i32_55 : BitVec 32 := 2#32
  let v87 : BitVec 32 := Scalar.divsi v86 c2_i32_55
  let c2_i32_54 : BitVec 32 := 2#32
  let v88 : BitVec 32 := Scalar.remsi v87 c2_i32_54
  let v95 : BitVec 32 := Scalar.subi c1_i32_61 v88
  let v101 : BitVec 32 := Scalar.addi v100 v95
  let c0_i32_94 : BitVec 32 := 0#32
  let c0_i32_95 : BitVec 32 := 0#32
  ![v101.toNat, 0, 0]
def k0_dev6 (d22 : Dev nD) : Nat :=
  let c0_i32_89 : BitVec 32 := 0#32
  let c1_i32_60 : BitVec 32 := 1#32
  let v83 : BitVec 32 := Dev.word d22
  let c4_i32_53 : BitVec 32 := 4#32
  let v84 : BitVec 32 := Scalar.divsi v83 c4_i32_53
  let c2_i32_52 : BitVec 32 := 2#32
  let v85 : BitVec 32 := Scalar.remsi v84 c2_i32_52
  let v94 : BitVec 32 := Scalar.subi c1_i32_60 v85
  let c4_i32_88 : BitVec 32 := 4#32
  let v130 : BitVec 32 := Scalar.muli v94 c4_i32_88
  let v131 : BitVec 32 := Scalar.addi c0_i32_89 v130
  let c1_i32_61 : BitVec 32 := 1#32
  let v86 : BitVec 32 := Dev.word d22
  let c2_i32_55 : BitVec 32 := 2#32
  let v87 : BitVec 32 := Scalar.divsi v86 c2_i32_55
  let c2_i32_54 : BitVec 32 := 2#32
  let v88 : BitVec 32 := Scalar.remsi v87 c2_i32_54
  let v95 : BitVec 32 := Scalar.subi c1_i32_61 v88
  let c2_i32_90 : BitVec 32 := 2#32
  let v132 : BitVec 32 := Scalar.muli v95 c2_i32_90
  let v133 : BitVec 32 := Scalar.addi v131 v132
  let v89 : BitVec 32 := Dev.word d22
  let c1_i32_57 : BitVec 32 := 1#32
  let v90 : BitVec 32 := Scalar.divsi v89 c1_i32_57
  let c2_i32_56 : BitVec 32 := 2#32
  let v91 : BitVec 32 := Scalar.remsi v90 c2_i32_56
  let c1_i32_91 : BitVec 32 := 1#32
  let v134 : BitVec 32 := Scalar.muli v91 c1_i32_91
  let v135 : BitVec 32 := Scalar.addi v133 v134
  v135.toNat
def k0_off7 (d22 : Dev nD) : Fin 3 → Nat :=
  let c0_i32_109 : BitVec 32 := 0#32
  let c1_i32_102 : BitVec 32 := 1#32
  let v150 : BitVec 32 := Dev.word d22
  let c1_i32_101 : BitVec 32 := 1#32
  let v151 : BitVec 32 := Scalar.divsi v150 c1_i32_101
  let c2_i32_100 : BitVec 32 := 2#32
  let v152 : BitVec 32 := Scalar.remsi v151 c2_i32_100
  let v153 : BitVec 32 := Scalar.subi c1_i32_102 v152
  let c512_i32 : BitVec 32 := 512#32
  let v154 : BitVec 32 := Scalar.muli v153 c512_i32
  let c0_i32_110 : BitVec 32 := 0#32
  ![0, v154.toNat, 0]
def k0_dev7 (d22 : Dev nD) : Nat :=
  let c0_i32_106 : BitVec 32 := 0#32
  let v144 : BitVec 32 := Dev.word d22
  let c4_i32_97 : BitVec 32 := 4#32
  let v145 : BitVec 32 := Scalar.divsi v144 c4_i32_97
  let c2_i32_96 : BitVec 32 := 2#32
  let v146 : BitVec 32 := Scalar.remsi v145 c2_i32_96
  let c4_i32_105 : BitVec 32 := 4#32
  let v156 : BitVec 32 := Scalar.muli v146 c4_i32_105
  let v157 : BitVec 32 := Scalar.addi c0_i32_106 v156
  let v147 : BitVec 32 := Dev.word d22
  let c2_i32_99 : BitVec 32 := 2#32
  let v148 : BitVec 32 := Scalar.divsi v147 c2_i32_99
  let c2_i32_98 : BitVec 32 := 2#32
  let v149 : BitVec 32 := Scalar.remsi v148 c2_i32_98
  let c2_i32_107 : BitVec 32 := 2#32
  let v158 : BitVec 32 := Scalar.muli v149 c2_i32_107
  let v159 : BitVec 32 := Scalar.addi v157 v158
  let c1_i32_103 : BitVec 32 := 1#32
  let v150 : BitVec 32 := Dev.word d22
  let c1_i32_101 : BitVec 32 := 1#32
  let v151 : BitVec 32 := Scalar.divsi v150 c1_i32_101
  let c2_i32_100 : BitVec 32 := 2#32
  let v152 : BitVec 32 := Scalar.remsi v151 c2_i32_100
  let v155 : BitVec 32 := Scalar.subi c1_i32_103 v152
  let c1_i32_108 : BitVec 32 := 1#32
  let v160 : BitVec 32 := Scalar.muli v155 c1_i32_108
  let v161 : BitVec 32 := Scalar.addi v159 v160
  v161.toNat
def k0_cond5 (i : grid0.Coords) : BitVec 1 :=
  let c0_i32 : BitVec 32 := 0#32
  let arg0 : BitVec 32 := BitVec.ofNat 32 (i 0).val
  let v0 : BitVec 32 := Scalar.addi c0_i32 arg0
  let c4_i32 : BitVec 32 := 4#32
  let v1 : BitVec 32 := Scalar.muli v0 c4_i32
  let arg1 : BitVec 32 := BitVec.ofNat 32 (i 1).val
  let v2 : BitVec 32 := Scalar.addi v1 arg1
  let c8_i32 : BitVec 32 := 8#32
  let v3 : BitVec 32 := Scalar.muli v2 c8_i32
  let arg2 : BitVec 32 := BitVec.ofNat 32 (i 2).val
  let v4 : BitVec 32 := Scalar.addi v3 arg2
  let c63_i32 : BitVec 32 := 63#32
  let v19 : BitVec 1 := Scalar.cmpi .eq v4 c63_i32
  let v20 : BitVec 32 := Scalar.extui v19
  let c0_i32_8 : BitVec 32 := 0#32
  let v21 : BitVec 1 := Scalar.cmpi .ne v20 c0_i32_8
  v21

def k0_off8 (d22 : Dev nD) : Fin 3 → Nat :=
  let c2_i32_17 : BitVec 32 := 2#32
  let c1_i32_13 : BitVec 32 := 1#32
  let v22 : BitVec 32 := Dev.word d22
  let c4_i32_9 : BitVec 32 := 4#32
  let v23 : BitVec 32 := Scalar.divsi v22 c4_i32_9
  let c2_i32 : BitVec 32 := 2#32
  let v24 : BitVec 32 := Scalar.remsi v23 c2_i32
  let v31 : BitVec 32 := Scalar.subi c1_i32_13 v24
  let v35 : BitVec 32 := Scalar.muli c2_i32_17 v31
  let v25 : BitVec 32 := Dev.word d22
  let c2_i32_11 : BitVec 32 := 2#32
  let v26 : BitVec 32 := Scalar.divsi v25 c2_i32_11
  let c2_i32_10 : BitVec 32 := 2#32
  let v27 : BitVec 32 := Scalar.remsi v26 c2_i32_10
  let v36 : BitVec 32 := Scalar.addi v35 v27
  let c704_i32_28 : BitVec 32 := 704#32
  let c0_i32_29 : BitVec 32 := 0#32
  ![v36.toNat, 704, 0]
def k0_off9 (d22 : Dev nD) : Fin 3 → Nat :=
  let c2_i32_18 : BitVec 32 := 2#32
  let v22 : BitVec 32 := Dev.word d22
  let c4_i32_9 : BitVec 32 := 4#32
  let v23 : BitVec 32 := Scalar.divsi v22 c4_i32_9
  let c2_i32 : BitVec 32 := 2#32
  let v24 : BitVec 32 := Scalar.remsi v23 c2_i32
  let v37 : BitVec 32 := Scalar.muli c2_i32_18 v24
  let c1_i32_14 : BitVec 32 := 1#32
  let v25 : BitVec 32 := Dev.word d22
  let c2_i32_11 : BitVec 32 := 2#32
  let v26 : BitVec 32 := Scalar.divsi v25 c2_i32_11
  let c2_i32_10 : BitVec 32 := 2#32
  let v27 : BitVec 32 := Scalar.remsi v26 c2_i32_10
  let v32 : BitVec 32 := Scalar.subi c1_i32_14 v27
  let v38 : BitVec 32 := Scalar.addi v37 v32
  let c704_i32_39 : BitVec 32 := 704#32
  let c0_i32_40 : BitVec 32 := 0#32
  ![v38.toNat, 704, 0]
def k0_off10 (d22 : Dev nD) : Fin 3 → Nat :=
  let c2_i32_19 : BitVec 32 := 2#32
  let c1_i32_15 : BitVec 32 := 1#32
  let v22 : BitVec 32 := Dev.word d22
  let c4_i32_9 : BitVec 32 := 4#32
  let v23 : BitVec 32 := Scalar.divsi v22 c4_i32_9
  let c2_i32 : BitVec 32 := 2#32
  let v24 : BitVec 32 := Scalar.remsi v23 c2_i32
  let v33 : BitVec 32 := Scalar.subi c1_i32_15 v24
  let v39 : BitVec 32 := Scalar.muli c2_i32_19 v33
  let c1_i32_16 : BitVec 32 := 1#32
  let v25 : BitVec 32 := Dev.word d22
  let c2_i32_11 : BitVec 32 := 2#32
  let v26 : BitVec 32 := Scalar.divsi v25 c2_i32_11
  let c2_i32_10 : BitVec 32 := 2#32
  let v27 : BitVec 32 := Scalar.remsi v26 c2_i32_10
  let v34 : BitVec 32 := Scalar.subi c1_i32_16 v27
  let v40 : BitVec 32 := Scalar.addi v39 v34
  let c704_i32_50 : BitVec 32 := 704#32
  let c0_i32_51 : BitVec 32 := 0#32
  ![v40.toNat, 704, 0]
def k0_off11 (d22 : Dev nD) : Fin 3 → Nat :=
  let c2_i32_86 : BitVec 32 := 2#32
  let c1_i32_82 : BitVec 32 := 1#32
  let v95 : BitVec 32 := Dev.word d22
  let c4_i32_77 : BitVec 32 := 4#32
  let v96 : BitVec 32 := Scalar.divsi v95 c4_i32_77
  let c2_i32_76 : BitVec 32 := 2#32
  let v97 : BitVec 32 := Scalar.remsi v96 c2_i32_76
  let v104 : BitVec 32 := Scalar.subi c1_i32_82 v97
  let v108 : BitVec 32 := Scalar.muli c2_i32_86 v104
  let v98 : BitVec 32 := Dev.word d22
  let c2_i32_79 : BitVec 32 := 2#32
  let v99 : BitVec 32 := Scalar.divsi v98 c2_i32_79
  let c2_i32_78 : BitVec 32 := 2#32
  let v100 : BitVec 32 := Scalar.remsi v99 c2_i32_78
  let v109 : BitVec 32 := Scalar.addi v108 v100
  let c0_i32_97 : BitVec 32 := 0#32
  let c0_i32_98 : BitVec 32 := 0#32
  ![v109.toNat, 0, 0]
def k0_off12 (d22 : Dev nD) : Fin 3 → Nat :=
  let c2_i32_87 : BitVec 32 := 2#32
  let v95 : BitVec 32 := Dev.word d22
  let c4_i32_77 : BitVec 32 := 4#32
  let v96 : BitVec 32 := Scalar.divsi v95 c4_i32_77
  let c2_i32_76 : BitVec 32 := 2#32
  let v97 : BitVec 32 := Scalar.remsi v96 c2_i32_76
  let v110 : BitVec 32 := Scalar.muli c2_i32_87 v97
  let c1_i32_83 : BitVec 32 := 1#32
  let v98 : BitVec 32 := Dev.word d22
  let c2_i32_79 : BitVec 32 := 2#32
  let v99 : BitVec 32 := Scalar.divsi v98 c2_i32_79
  let c2_i32_78 : BitVec 32 := 2#32
  let v100 : BitVec 32 := Scalar.remsi v99 c2_i32_78
  let v105 : BitVec 32 := Scalar.subi c1_i32_83 v100
  let v111 : BitVec 32 := Scalar.addi v110 v105
  let c0_i32_108 : BitVec 32 := 0#32
  let c0_i32_109 : BitVec 32 := 0#32
  ![v111.toNat, 0, 0]
def k0_off13 (d22 : Dev nD) : Fin 3 → Nat :=
  let c2_i32_88 : BitVec 32 := 2#32
  let c1_i32_84 : BitVec 32 := 1#32
  let v95 : BitVec 32 := Dev.word d22
  let c4_i32_77 : BitVec 32 := 4#32
  let v96 : BitVec 32 := Scalar.divsi v95 c4_i32_77
  let c2_i32_76 : BitVec 32 := 2#32
  let v97 : BitVec 32 := Scalar.remsi v96 c2_i32_76
  let v106 : BitVec 32 := Scalar.subi c1_i32_84 v97
  let v112 : BitVec 32 := Scalar.muli c2_i32_88 v106
  let c1_i32_85 : BitVec 32 := 1#32
  let v98 : BitVec 32 := Dev.word d22
  let c2_i32_79 : BitVec 32 := 2#32
  let v99 : BitVec 32 := Scalar.divsi v98 c2_i32_79
  let c2_i32_78 : BitVec 32 := 2#32
  let v100 : BitVec 32 := Scalar.remsi v99 c2_i32_78
  let v107 : BitVec 32 := Scalar.subi c1_i32_85 v100
  let v113 : BitVec 32 := Scalar.addi v112 v107
  let c0_i32_118 : BitVec 32 := 0#32
  let c0_i32_119 : BitVec 32 := 0#32
  ![v113.toNat, 0, 0]
def k0_off14 (d22 : Dev nD) : Fin 3 → Nat :=
  let c0_i32_157 : BitVec 32 := 0#32
  let c1_i32_150 : BitVec 32 := 1#32
  let v174 : BitVec 32 := Dev.word d22
  let c1_i32_149 : BitVec 32 := 1#32
  let v175 : BitVec 32 := Scalar.divsi v174 c1_i32_149
  let c2_i32_148 : BitVec 32 := 2#32
  let v176 : BitVec 32 := Scalar.remsi v175 c2_i32_148
  let v177 : BitVec 32 := Scalar.subi c1_i32_150 v176
  let c512_i32 : BitVec 32 := 512#32
  let v178 : BitVec 32 := Scalar.muli v177 c512_i32
  let c0_i32_158 : BitVec 32 := 0#32
  ![0, v178.toNat, 0]
def k0_cond4 (i : grid0.Coords) : BitVec 1 :=
  let arg2 : BitVec 32 := BitVec.ofNat 32 (i 2).val
  let c7_i32_6 : BitVec 32 := 7#32
  let v16 : BitVec 1 := Scalar.cmpi .eq arg2 c7_i32_6
  let v17 : BitVec 32 := Scalar.extui v16
  let c0_i32_7 : BitVec 32 := 0#32
  let v18 : BitVec 1 := Scalar.cmpi .ne v17 c0_i32_7
  v18

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg2 c2_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg2 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg2 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg1.toNat, v26.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1280 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== PxReferenceIdeal.lean ====
abbrev S32768x10240 : Shape := ⟨2, ![32768, 10240]⟩
abbrev S4x4096x2560 : Shape := ⟨3, ![4, 4096, 2560]⟩
abbrev S32x1024x2560 : Shape := ⟨3, ![32, 1024, 2560]⟩
abbrev S32x1024x4096 : Shape := ⟨3, ![32, 1024, 4096]⟩
abbrev S4096x4x2560 : Shape := ⟨3, ![4096, 4, 2560]⟩
abbrev S4096x10240 : Shape := ⟨2, ![4096, 10240]⟩
abbrev S10240x4096 : Shape := ⟨2, ![10240, 4096]⟩
abbrev S32768x4096 : Shape := ⟨2, ![32768, 4096]⟩
abbrev S4x2x4x1024x2560 : Shape := ⟨5, ![4, 2, 4, 1024, 2560]⟩
abbrev S4x2x4x320x2560 : Shape := ⟨5, ![4, 2, 4, 320, 2560]⟩
abbrev S1x2x1x320x2560 : Shape := ⟨5, ![1, 2, 1, 320, 2560]⟩
abbrev S2x320x2560 : Shape := ⟨3, ![2, 320, 2560]⟩
abbrev S2x1x320x2560 : Shape := ⟨4, ![2, 1, 320, 2560]⟩
abbrev S2x3x320x2560 : Shape := ⟨4, ![2, 3, 320, 2560]⟩
abbrev S1x2x3x320x2560 : Shape := ⟨5, ![1, 2, 3, 320, 2560]⟩
abbrev S4x2x3x320x2560 : Shape := ⟨5, ![4, 2, 3, 320, 2560]⟩
abbrev S1x2x1x1024x2560 : Shape := ⟨5, ![1, 2, 1, 1024, 2560]⟩
abbrev S2x1024x2560 : Shape := ⟨3, ![2, 1024, 2560]⟩
abbrev S2x1x1024x2560 : Shape := ⟨4, ![2, 1, 1024, 2560]⟩
abbrev S2x3x1024x2560 : Shape := ⟨4, ![2, 3, 1024, 2560]⟩
abbrev S1x2x3x1024x2560 : Shape := ⟨5, ![1, 2, 3, 1024, 2560]⟩
abbrev S4x2x3x1024x2560 : Shape := ⟨5, ![4, 2, 3, 1024, 2560]⟩
abbrev S4x2x4x2x512x4096 : Shape := ⟨6, ![4, 2, 4, 2, 512, 4096]⟩
abbrev S4x1x4x1x512x4096 : Shape := ⟨6, ![4, 1, 4, 1, 512, 4096]⟩
abbrev S4x4x512x4096 : Shape := ⟨4, ![4, 4, 512, 4096]⟩
abbrev S4x1x4x512x4096 : Shape := ⟨5, ![4, 1, 4, 512, 4096]⟩
abbrev S4x2x4x512x4096 : Shape := ⟨5, ![4, 2, 4, 512, 4096]⟩
abbrev S24x320x2560 : Shape := ⟨3, ![24, 320, 2560]⟩
abbrev S24x1024x2560 : Shape := ⟨3, ![24, 1024, 2560]⟩
abbrev S32x512x4096 : Shape := ⟨3, ![32, 512, 4096]⟩

abbrev nBuf : Space → Nat
  | .hbm => 115
  | .vmem => 0
  | .smem => 0
  | _ => 0

abbrev bufTy : (tb : Table) → Fin (tcTables nBuf tb) → BufTy
  | .hbm, ⟨0, _⟩ => ⟨S32768x10240, .bf16⟩
  | .hbm, ⟨1, _⟩ => ⟨S4x4096x2560, .bf16⟩
  | .hbm, ⟨2, _⟩ => ⟨S32x1024x2560, .bf16⟩
  | .hbm, ⟨3, _⟩ => ⟨S32x1024x2560, .bf16⟩
  | .hbm, ⟨4, _⟩ => ⟨S32x1024x4096, .bf16⟩
  | .hbm, ⟨5, _⟩ => ⟨S4x4096x2560, .f32⟩
  | .hbm, ⟨6, _⟩ => ⟨S4096x4x2560, .f32⟩
  | .hbm, ⟨7, _⟩ => ⟨S4096x10240, .f32⟩
  | .hbm, ⟨8, _⟩ => ⟨S32768x10240, .f32⟩
  | .hbm, ⟨9, _⟩ => ⟨S10240x4096, .f32⟩
  | .hbm, ⟨10, _⟩ => ⟨S32768x4096, .f32⟩
  | .hbm, ⟨11, _⟩ => ⟨S4x2x4x1024x2560, .bf16⟩
  | .hbm, ⟨12, _⟩ => ⟨S4x2x4x320x2560, .bf16⟩
  | .hbm, ⟨13, _⟩ => ⟨S1x2x1x320x2560, .bf16⟩
  | .hbm, ⟨14, _⟩ => ⟨S2x320x2560, .bf16⟩
  | .hbm, ⟨15, _⟩ => ⟨S1x2x1x320x2560, .bf16⟩
  | .hbm, ⟨16, _⟩ => ⟨S2x320x2560, .bf16⟩
  | .hbm, ⟨17, _⟩ => ⟨S1x2x1x320x2560, .bf16⟩
  | .hbm, ⟨18, _⟩ => ⟨S2x320x2560, .bf16⟩
  | .hbm, ⟨19, _⟩ => ⟨S2x1x320x2560, .bf16⟩
  | .hbm, ⟨20, _⟩ => ⟨S2x1x320x2560, .bf16⟩
  | .hbm, ⟨21, _⟩ => ⟨S2x1x320x2560, .bf16⟩
  | .hbm, ⟨22, _⟩ => ⟨S2x3x320x2560, .bf16⟩
  | .hbm, ⟨23, _⟩ => ⟨S1x2x1x320x2560, .bf16⟩
  | .hbm, ⟨24, _⟩ => ⟨S2x320x2560, .bf16⟩
  | .hbm, ⟨25, _⟩ => ⟨S1x2x1x320x2560, .bf16⟩
  | .hbm, ⟨26, _⟩ => ⟨S2x320x2560, .bf16⟩
  | .hbm, ⟨27, _⟩ => ⟨S1x2x1x320x2560, .bf16⟩
  | .hbm, ⟨28, _⟩ => ⟨S2x320x2560, .bf16⟩
  | .hbm, ⟨29, _⟩ => ⟨S2x1x320x2560, .bf16⟩
  | .hbm, ⟨30, _⟩ => ⟨S2x1x320x2560, .bf16⟩
  | .hbm, ⟨31, _⟩ => ⟨S2x1x320x2560, .bf16⟩
  | .hbm, ⟨32, _⟩ => ⟨S2x3x320x2560, .bf16⟩
  | .hbm, ⟨33, _⟩ => ⟨S1x2x1x320x2560, .bf16⟩
  | .hbm, ⟨34, _⟩ => ⟨S2x320x2560, .bf16⟩
  | .hbm, ⟨35, _⟩ => ⟨S1x2x1x320x2560, .bf16⟩
  | .hbm, ⟨36, _⟩ => ⟨S2x320x2560, .bf16⟩
  | .hbm, ⟨37, _⟩ => ⟨S1x2x1x320x2560, .bf16⟩
  | .hbm, ⟨38, _⟩ => ⟨S2x320x2560, .bf16⟩
  | .hbm, ⟨39, _⟩ => ⟨S2x1x320x2560, .bf16⟩
  | .hbm, ⟨40, _⟩ => ⟨S2x1x320x2560, .bf16⟩
  | .hbm, ⟨41, _⟩ => ⟨S2x1x320x2560, .bf16⟩
  | .hbm, ⟨42, _⟩ => ⟨S2x3x320x2560, .bf16⟩
  | .hbm, ⟨43, _⟩ => ⟨S1x2x1x320x2560, .bf16⟩
  | .hbm, ⟨44, _⟩ => ⟨S2x320x2560, .bf16⟩
  | .hbm, ⟨45, _⟩ => ⟨S1x2x1x320x2560, .bf16⟩
  | .hbm, ⟨46, _⟩ => ⟨S2x320x2560, .bf16⟩
  | .hbm, ⟨47, _⟩ => ⟨S1x2x1x320x2560, .bf16⟩
  | .hbm, ⟨48, _⟩ => ⟨S2x320x2560, .bf16⟩
  | .hbm, ⟨49, _⟩ => ⟨S2x1x320x2560, .bf16⟩
  | .hbm, ⟨50, _⟩ => ⟨S2x1x320x2560, .bf16⟩
  | .hbm, ⟨51, _⟩ => ⟨S2x1x320x2560, .bf16⟩
  | .hbm, ⟨52, _⟩ => ⟨S2x3x320x2560, .bf16⟩
  | .hbm, ⟨53, _⟩ => ⟨S1x2x3x320x2560, .bf16⟩
  | .hbm, ⟨54, _⟩ => ⟨S1x2x3x320x2560, .bf16⟩
  | .hbm, ⟨55, _⟩ => ⟨S1x2x3x320x2560, .bf16⟩
  | .hbm, ⟨56, _⟩ => ⟨S1x2x3x320x2560, .bf16⟩
  | .hbm, ⟨57, _⟩ => ⟨S4x2x3x320x2560, .bf16⟩
  | .hbm, ⟨58, _⟩ => ⟨S4x2x4x1024x2560, .bf16⟩
  | .hbm, ⟨59, _⟩ => ⟨S1x2x1x1024x2560, .bf16⟩
  | .hbm, ⟨60, _⟩ => ⟨S2x1024x2560, .bf16⟩
  | .hbm, ⟨61, _⟩ => ⟨S1x2x1x1024x2560, .bf16⟩
  | .hbm, ⟨62, _⟩ => ⟨S2x1024x2560, .bf16⟩
  | .hbm, ⟨63, _⟩ => ⟨S1x2x1x1024x2560, .bf16⟩
  | .hbm, ⟨64, _⟩ => ⟨S2x1024x2560, .bf16⟩
  | .hbm, ⟨65, _⟩ => ⟨S2x1x1024x2560, .bf16⟩
  | .hbm, ⟨66, _⟩ => ⟨S2x1x1024x2560, .bf16⟩
  | .hbm, ⟨67, _⟩ => ⟨S2x1x1024x2560, .bf16⟩
  | .hbm, ⟨68, _⟩ => ⟨S2x3x1024x2560, .bf16⟩
  | .hbm, ⟨69, _⟩ => ⟨S1x2x1x1024x2560, .bf16⟩
  | .hbm, ⟨70, _⟩ => ⟨S2x1024x2560, .bf16⟩
  | .hbm, ⟨71, _⟩ => ⟨S1x2x1x1024x2560, .bf16⟩
  | .hbm, ⟨72, _⟩ => ⟨S2x1024x2560, .bf16⟩
  | .hbm, ⟨73, _⟩ => ⟨S1x2x1x1024x2560, .bf16⟩
  | .hbm, ⟨74, _⟩ => ⟨S2x1024x2560, .bf16⟩
  | .hbm, ⟨75, _⟩ => ⟨S2x1x1024x2560, .bf16⟩
  | .hbm, ⟨76, _⟩ => ⟨S2x1x1024x2560, .bf16⟩
  | .hbm, ⟨77, _⟩ => ⟨S2x1x1024x2560, .bf16⟩
  | .hbm, ⟨78, _⟩ => ⟨S2x3x1024x2560, .bf16⟩
  | .hbm, ⟨79, _⟩ => ⟨S1x2x1x1024x2560, .bf16⟩
  | .hbm, ⟨80, _⟩ => ⟨S2x1024x2560, .bf16⟩
  | .hbm, ⟨81, _⟩ => ⟨S1x2x1x1024x2560, .bf16⟩
  | .hbm, ⟨82, _⟩ => ⟨S2x1024x2560, .bf16⟩
  | .hbm, ⟨83, _⟩ => ⟨S1x2x1x1024x2560, .bf16⟩
  | .hbm, ⟨84, _⟩ => ⟨S2x1024x2560, .bf16⟩
  | .hbm, ⟨85, _⟩ => ⟨S2x1x1024x2560, .bf16⟩
  | .hbm, ⟨86, _⟩ => ⟨S2x1x1024x2560, .bf16⟩
  | .hbm, ⟨87, _⟩ => ⟨S2x1x1024x2560, .bf16⟩
  | .hbm, ⟨88, _⟩ => ⟨S2x3x1024x2560, .bf16⟩
  | .hbm, ⟨89, _⟩ => ⟨S1x2x1x1024x2560, .bf16⟩
  | .hbm, ⟨90, _⟩ => ⟨S2x1024x2560, .bf16⟩
  | .hbm, ⟨91, _⟩ => ⟨S1x2x1x1024x2560, .bf16⟩
  | .hbm, ⟨92, _⟩ => ⟨S2x1024x2560, .bf16⟩
  | .hbm, ⟨93, _⟩ => ⟨S1x2x1x1024x2560, .bf16⟩
  | .hbm, ⟨94, _⟩ => ⟨S2x1024x2560, .bf16⟩
  | .hbm, ⟨95, _⟩ => ⟨S2x1x1024x2560, .bf16⟩
  | .hbm, ⟨96, _⟩ => ⟨S2x1x1024x2560, .bf16⟩
  | .hbm, ⟨97, _⟩ => ⟨S2x1x1024x2560, .bf16⟩
  | .hbm, ⟨98, _⟩ => ⟨S2x3x1024x2560, .bf16⟩
  | .hbm, ⟨99, _⟩ => ⟨S1x2x3x1024x2560, .bf16⟩
  | .hbm, ⟨100, _⟩ => ⟨S1x2x3x1024x2560, .bf16⟩
  | .hbm, ⟨101, _⟩ => ⟨S1x2x3x1024x2560, .bf16⟩
  | .hbm, ⟨102, _⟩ => ⟨S1x2x3x1024x2560, .bf16⟩
  | .hbm, ⟨103, _⟩ => ⟨S4x2x3x1024x2560, .bf16⟩
  | .hbm, ⟨104, _⟩ => ⟨S4x2x4x2x512x4096, .bf16⟩
  | .hbm, ⟨105, _⟩ => ⟨S4x1x4x1x512x4096, .bf16⟩
  | .hbm, ⟨106, _⟩ => ⟨S4x4x512x4096, .bf16⟩
  | .hbm, ⟨107, _⟩ => ⟨S4x1x4x1x512x4096, .bf16⟩
  | .hbm, ⟨108, _⟩ => ⟨S4x4x512x4096, .bf16⟩
  | .hbm, ⟨109, _⟩ => ⟨S4x1x4x512x4096, .bf16⟩
  | .hbm, ⟨110, _⟩ => ⟨S4x1x4x512x4096, .bf16⟩
  | .hbm, ⟨111, _⟩ => ⟨S4x2x4x512x4096, .bf16⟩
  | .hbm, ⟨112, _⟩ => ⟨S24x320x2560, .bf16⟩
  | .hbm, ⟨113, _⟩ => ⟨S24x1024x2560, .bf16⟩
  | .hbm, ⟨114, _⟩ => ⟨S32x512x4096, .bf16⟩
  | _, _ => ⟨S32768x10240, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩
abbrev main_v44 : Ref sig .tc := ⟨.hbm, 49, rfl⟩
abbrev main_v45 : Ref sig .tc := ⟨.hbm, 50, rfl⟩
abbrev main_v46 : Ref sig .tc := ⟨.hbm, 51, rfl⟩
abbrev main_v47 : Ref sig .tc := ⟨.hbm, 52, rfl⟩
abbrev main_v48 : Ref sig .tc := ⟨.hbm, 53, rfl⟩
abbrev main_v49 : Ref sig .tc := ⟨.hbm, 54, rfl⟩
abbrev main_v50 : Ref sig .tc := ⟨.hbm, 55, rfl⟩
abbrev main_v51 : Ref sig .tc := ⟨.hbm, 56, rfl⟩
abbrev main_v52 : Ref sig .tc := ⟨.hbm, 57, rfl⟩
abbrev main_v53 : Ref sig .tc := ⟨.hbm, 58, rfl⟩
abbrev main_v54 : Ref sig .tc := ⟨.hbm, 59, rfl⟩
abbrev main_v55 : Ref sig .tc := ⟨.hbm, 60, rfl⟩
abbrev main_v56 : Ref sig .tc := ⟨.hbm, 61, rfl⟩
abbrev main_v57 : Ref sig .tc := ⟨.hbm, 62, rfl⟩
abbrev main_v58 : Ref sig .tc := ⟨.hbm, 63, rfl⟩
abbrev main_v59 : Ref sig .tc := ⟨.hbm, 64, rfl⟩
abbrev main_v60 : Ref sig .tc := ⟨.hbm, 65, rfl⟩
abbrev main_v61 : Ref sig .tc := ⟨.hbm, 66, rfl⟩
abbrev main_v62 : Ref sig .tc := ⟨.hbm, 67, rfl⟩
abbrev main_v63 : Ref sig .tc := ⟨.hbm, 68, rfl⟩
abbrev main_v64 : Ref sig .tc := ⟨.hbm, 69, rfl⟩
abbrev main_v65 : Ref sig .tc := ⟨.hbm, 70, rfl⟩
abbrev main_v66 : Ref sig .tc := ⟨.hbm, 71, rfl⟩
abbrev main_v67 : Ref sig .tc := ⟨.hbm, 72, rfl⟩
abbrev main_v68 : Ref sig .tc := ⟨.hbm, 73, rfl⟩
abbrev main_v69 : Ref sig .tc := ⟨.hbm, 74, rfl⟩
abbrev main_v70 : Ref sig .tc := ⟨.hbm, 75, rfl⟩
abbrev main_v71 : Ref sig .tc := ⟨.hbm, 76, rfl⟩
abbrev main_v72 : Ref sig .tc := ⟨.hbm, 77, rfl⟩
abbrev main_v73 : Ref sig .tc := ⟨.hbm, 78, rfl⟩
abbrev main_v74 : Ref sig .tc := ⟨.hbm, 79, rfl⟩
abbrev main_v75 : Ref sig .tc := ⟨.hbm, 80, rfl⟩
abbrev main_v76 : Ref sig .tc := ⟨.hbm, 81, rfl⟩
abbrev main_v77 : Ref sig .tc := ⟨.hbm, 82, rfl⟩
abbrev main_v78 : Ref sig .tc := ⟨.hbm, 83, rfl⟩
abbrev main_v79 : Ref sig .tc := ⟨.hbm, 84, rfl⟩
abbrev main_v80 : Ref sig .tc := ⟨.hbm, 85, rfl⟩
abbrev main_v81 : Ref sig .tc := ⟨.hbm, 86, rfl⟩
abbrev main_v82 : Ref sig .tc := ⟨.hbm, 87, rfl⟩
abbrev main_v83 : Ref sig .tc := ⟨.hbm, 88, rfl⟩
abbrev main_v84 : Ref sig .tc := ⟨.hbm, 89, rfl⟩
abbrev main_v85 : Ref sig .tc := ⟨.hbm, 90, rfl⟩
abbrev main_v86 : Ref sig .tc := ⟨.hbm, 91, rfl⟩
abbrev main_v87 : Ref sig .tc := ⟨.hbm, 92, rfl⟩
abbrev main_v88 : Ref sig .tc := ⟨.hbm, 93, rfl⟩
abbrev main_v89 : Ref sig .tc := ⟨.hbm, 94, rfl⟩
abbrev main_v90 : Ref sig .tc := ⟨.hbm, 95, rfl⟩
abbrev main_v91 : Ref sig .tc := ⟨.hbm, 96, rfl⟩
abbrev main_v92 : Ref sig .tc := ⟨.hbm, 97, rfl⟩
abbrev main_v93 : Ref sig .tc := ⟨.hbm, 98, rfl⟩
abbrev main_v94 : Ref sig .tc := ⟨.hbm, 99, rfl⟩
abbrev main_v95 : Ref sig .tc := ⟨.hbm, 100, rfl⟩
abbrev main_v96 : Ref sig .tc := ⟨.hbm, 101, rfl⟩
abbrev main_v97 : Ref sig .tc := ⟨.hbm, 102, rfl⟩
abbrev main_v98 : Ref sig .tc := ⟨.hbm, 103, rfl⟩
abbrev main_v99 : Ref sig .tc := ⟨.hbm, 104, rfl⟩
abbrev main_v100 : Ref sig .tc := ⟨.hbm, 105, rfl⟩
abbrev main_v101 : Ref sig .tc := ⟨.hbm, 106, rfl⟩
abbrev main_v102 : Ref sig .tc := ⟨.hbm, 107, rfl⟩
abbrev main_v103 : Ref sig .tc := ⟨.hbm, 108, rfl⟩
abbrev main_v104 : Ref sig .tc := ⟨.hbm, 109, rfl⟩
abbrev main_v105 : Ref sig .tc := ⟨.hbm, 110, rfl⟩
abbrev main_v106 : Ref sig .tc := ⟨.hbm, 111, rfl⟩
abbrev main_v107 : Ref sig .tc := ⟨.hbm, 112, rfl⟩
abbrev main_v108 : Ref sig .tc := ⟨.hbm, 113, rfl⟩
abbrev main_v109 : Ref sig .tc := ⟨.hbm, 114, rfl⟩

abbrev nD : Nat := 1
abbrev τ : Topo := Topo.v7x

variable {F : FTy → Type} [FloatOps F]
-- ==== OwKernel.lean ====
abbrev S4096x4096 : Shape := ⟨2, ![4096, 4096]⟩
abbrev S4x1024x2560 : Shape := ⟨3, ![4, 1024, 2560]⟩
abbrev S4x2048x2560 : Shape := ⟨3, ![4, 2048, 2560]⟩
abbrev S3x1024x2560 : Shape := ⟨3, ![3, 1024, 2560]⟩
abbrev S2048x4096 : Shape := ⟨2, ![2048, 4096]⟩
abbrev S4096x1024 : Shape := ⟨2, ![4096, 1024]⟩
abbrev S1024x1024 : Shape := ⟨2, ![1024, 1024]⟩
abbrev S5 : Shape := ⟨1, ![5]⟩
abbrev S1 : Shape := ⟨1, ![1]⟩
abbrev S_ : Shape := ⟨0, ![]⟩
abbrev S1x704x2560 : Shape := ⟨3, ![1, 704, 2560]⟩
abbrev S704x2560 : Shape := ⟨2, ![704, 2560]⟩
abbrev S4096x512 : Shape := ⟨2, ![4096, 512]⟩
abbrev S1024x512 : Shape := ⟨2, ![1024, 512]⟩
abbrev S3x704x2560 : Shape := ⟨3, ![3, 704, 2560]⟩

abbrev nBuf : Space → Nat
  | .hbm => 10
  | .vmem => 6
  | .smem => 0
  | _ => 0

abbrev bufTy : (tb : Table) → Fin (tcTables nBuf tb) → BufTy
  | .hbm, ⟨0, _⟩ => ⟨S4096x4096, .bf16⟩
  | .hbm, ⟨1, _⟩ => ⟨S4096x4096, .bf16⟩
  | .hbm, ⟨2, _⟩ => ⟨S4x1024x2560, .bf16⟩
  | .hbm, ⟨3, _⟩ => ⟨S4x2048x2560, .bf16⟩
  | .hbm, ⟨4, _⟩ => ⟨S4096x4096, .f32⟩
  | .hbm, ⟨5, _⟩ => ⟨S4096x4096, .bf16⟩
  | .hbm, ⟨6, _⟩ => ⟨S3x1024x2560, .bf16⟩
  | .hbm, ⟨7, _⟩ => ⟨S4x1024x2560, .bf16⟩
  | .hbm, ⟨8, _⟩ => ⟨S2048x4096, .f32⟩
  | .hbm, ⟨9, _⟩ => ⟨S3x704x2560, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev main_v2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 8
abbrev τ : Topo := Topo.v7x

variable {F : FTy → Type} [FloatOps F]

abbrev grid0 : Pipeline.Grid := ⟨3, ![4, 4, 1], ![false, false, false]⟩

def k0_cond1 (i : grid0.Coords) : BitVec 1 :=
  let c0_i32 : BitVec 32 := 0#32
  let arg0 : BitVec 32 := BitVec.ofNat 32 (i 0).val
  let v0 : BitVec 32 := Scalar.addi c0_i32 arg0
  let c4_i32 : BitVec 32 := 4#32
  let v1 : BitVec 32 := Scalar.muli v0 c4_i32
  let arg1 : BitVec 32 := BitVec.ofNat 32 (i 1).val
  let v2 : BitVec 32 := Scalar.addi v1 arg1
  let c1_i32 : BitVec 32 := 1#32
  let v3 : BitVec 32 := Scalar.muli v2 c1_i32
  let arg2 : BitVec 32 := BitVec.ofNat 32 (i 2).val
  let v4 : BitVec 32 := Scalar.addi v3 arg2
  let c0_i32_0 : BitVec 32 := 0#32
  let v5 : BitVec 1 := Scalar.cmpi .eq v4 c0_i32_0
  let v6 : BitVec 32 := Scalar.extui v5
  let c0_i32_1 : BitVec 32 := 0#32
  let v7 : BitVec 1 := Scalar.cmpi .ne v6 c0_i32_1
  v7

def k0_off1 (d25 : Dev nD) : Fin 3 → Nat :=
  let c2_i32_23 : BitVec 32 := 2#32
  let c1_i32_19 : BitVec 32 := 1#32
  let v25 : BitVec 32 := Dev.word d25
  let c4_i32_14 : BitVec 32 := 4#32
  let v26 : BitVec 32 := Scalar.divsi v25 c4_i32_14
  let c2_i32 : BitVec 32 := 2#32
  let v27 : BitVec 32 := Scalar.remsi v26 c2_i32
  let v34 : BitVec 32 := Scalar.subi c1_i32_19 v27
  let v38 : BitVec 32 := Scalar.muli c2_i32_23 v34
  let v28 : BitVec 32 := Dev.word d25
  let c2_i32_16 : BitVec 32 := 2#32
  let v29 : BitVec 32 := Scalar.divsi v28 c2_i32_16
  let c2_i32_15 : BitVec 32 := 2#32
  let v30 : BitVec 32 := Scalar.remsi v29 c2_i32_15
  let v39 : BitVec 32 := Scalar.addi v38 v30
  let c0_i32_35 : BitVec 32 := 0#32
  let c0_i32_36 : BitVec 32 := 0#32
  ![v39.toNat, 0, 0]
def k0_dev1 (d25 : Dev nD) : Nat :=
  let c0_i32_30 : BitVec 32 := 0#32
  let c1_i32_19 : BitVec 32 := 1#32
  let v25 : BitVec 32 := Dev.word d25
  let c4_i32_14 : BitVec 32 := 4#32
  let v26 : BitVec 32 := Scalar.divsi v25 c4_i32_14
  let c2_i32 : BitVec 32 := 2#32
  let v27 : BitVec 32 := Scalar.remsi v26 c2_i32
  let v34 : BitVec 32 := Scalar.subi c1_i32_19 v27
  let c4_i32_29 : BitVec 32 := 4#32
  let v44 : BitVec 32 := Scalar.muli v34 c4_i32_29
  let v45 : BitVec 32 := Scalar.addi c0_i32_30 v44
  let v28 : BitVec 32 := Dev.word d25
  let c2_i32_16 : BitVec 32 := 2#32
  let v29 : BitVec 32 := Scalar.divsi v28 c2_i32_16
  let c2_i32_15 : BitVec 32 := 2#32
  let v30 : BitVec 32 := Scalar.remsi v29 c2_i32_15
  let c2_i32_31 : BitVec 32 := 2#32
  let v46 : BitVec 32 := Scalar.muli v30 c2_i32_31
  let v47 : BitVec 32 := Scalar.addi v45 v46
  let v31 : BitVec 32 := Dev.word d25
  let c1_i32_18 : BitVec 32 := 1#32
  let v32 : BitVec 32 := Scalar.divsi v31 c1_i32_18
  let c2_i32_17 : BitVec 32 := 2#32
  let v33 : BitVec 32 := Scalar.remsi v32 c2_i32_17
  let c1_i32_32 : BitVec 32 := 1#32
  let v48 : BitVec 32 := Scalar.muli v33 c1_i32_32
  let v49 : BitVec 32 := Scalar.addi v47 v48
  v49.toNat
def k0_off2 (d25 : Dev nD) : Fin 3 → Nat :=
  let c2_i32_24 : BitVec 32 := 2#32
  let v25 : BitVec 32 := Dev.word d25
  let c4_i32_14 : BitVec 32 := 4#32
  let v26 : BitVec 32 := Scalar.divsi v25 c4_i32_14
  let c2_i32 : BitVec 32 := 2#32
  let v27 : BitVec 32 := Scalar.remsi v26 c2_i32
  let v40 : BitVec 32 := Scalar.muli c2_i32_24 v27
  let c1_i32_20 : BitVec 32 := 1#32
  let v28 : BitVec 32 := Dev.word d25
  let c2_i32_16 : BitVec 32 := 2#32
  let v29 : BitVec 32 := Scalar.divsi v28 c2_i32_16
  let c2_i32_15 : BitVec 32 := 2#32
  let v30 : BitVec 32 := Scalar.remsi v29 c2_i32_15
  let v35 : BitVec 32 := Scalar.subi c1_i32_20 v30
  let v41 : BitVec 32 := Scalar.addi v40 v35
  let c0_i32_46 : BitVec 32 := 0#32
  let c0_i32_47 : BitVec 32 := 0#32
  ![v41.toNat, 0, 0]
def k0_dev2 (d25 : Dev nD) : Nat :=
  let c0_i32_41 : BitVec 32 := 0#32
  let v25 : BitVec 32 := Dev.word d25
  let c4_i32_14 : BitVec 32 := 4#32
  let v26 : BitVec 32 := Scalar.divsi v25 c4_i32_14
  let c2_i32 : BitVec 32 := 2#32
  let v27 : BitVec 32 := Scalar.remsi v26 c2_i32
  let c4_i32_40 : BitVec 32 := 4#32
  let v58 : BitVec 32 := Scalar.muli v27 c4_i32_40
  let v59 : BitVec 32 := Scalar.addi c0_i32_41 v58
  let c1_i32_20 : BitVec 32 := 1#32
  let v28 : BitVec 32 := Dev.word d25
  let c2_i32_16 : BitVec 32 := 2#32
  let v29 : BitVec 32 := Scalar.divsi v28 c2_i32_16
  let c2_i32_15 : BitVec 32 := 2#32
  let v30 : BitVec 32 := Scalar.remsi v29 c2_i32_15
  let v35 : BitVec 32 := Scalar.subi c1_i32_20 v30
  let c2_i32_42 : BitVec 32 := 2#32
  let v60 : BitVec 32 := Scalar.muli v35 c2_i32_42
  let v61 : BitVec 32 := Scalar.addi v59 v60
  let v31 : BitVec 32 := Dev.word d25
  let c1_i32_18 : BitVec 32 := 1#32
  let v32 : BitVec 32 := Scalar.divsi v31 c1_i32_18
  let c2_i32_17 : BitVec 32 := 2#32
  let v33 : BitVec 32 := Scalar.remsi v32 c2_i32_17
  let c1_i32_43 : BitVec 32 := 1#32
  let v62 : BitVec 32 := Scalar.muli v33 c1_i32_43
  let v63 : BitVec 32 := Scalar.addi v61 v62
  v63.toNat
def k0_off3 (d25 : Dev nD) : Fin 3 → Nat :=
  let c2_i32_25 : BitVec 32 := 2#32
  let c1_i32_21 : BitVec 32 := 1#32
  let v25 : BitVec 32 := Dev.word d25
  let c4_i32_14 : BitVec 32 := 4#32
  let v26 : BitVec 32 := Scalar.divsi v25 c4_i32_14
  let c2_i32 : BitVec 32 := 2#32
  let v27 : BitVec 32 := Scalar.remsi v26 c2_i32
  let v36 : BitVec 32 := Scalar.subi c1_i32_21 v27
  let v42 : BitVec 32 := Scalar.muli c2_i32_25 v36
  let c1_i32_22 : BitVec 32 := 1#32
  let v28 : BitVec 32 := Dev.word d25
  let c2_i32_16 : BitVec 32 := 2#32
  let v29 : BitVec 32 := Scalar.divsi v28 c2_i32_16
  let c2_i32_15 : BitVec 32 := 2#32
  let v30 : BitVec 32 := Scalar.remsi v29 c2_i32_15
  let v37 : BitVec 32 := Scalar.subi c1_i32_22 v30
  let v43 : BitVec 32 := Scalar.addi v42 v37
  let c0_i32_57 : BitVec 32 := 0#32
  let c0_i32_58 : BitVec 32 := 0#32
  ![v43.toNat, 0, 0]
def k0_dev3 (d25 : Dev nD) : Nat :=
  let c0_i32_52 : BitVec 32 := 0#32
  let c1_i32_21 : BitVec 32 := 1#32
  let v25 : BitVec 32 := Dev.word d25
  let c4_i32_14 : BitVec 32 := 4#32
  let v26 : BitVec 32 := Scalar.divsi v25 c4_i32_14
  let c2_i32 : BitVec 32 := 2#32
  let v27 : BitVec 32 := Scalar.remsi v26 c2_i32
  let v36 : BitVec 32 := Scalar.subi c1_i32_21 v27
  let c4_i32_51 : BitVec 32 := 4#32
  let v72 : BitVec 32 := Scalar.muli v36 c4_i32_51
  let v73 : BitVec 32 := Scalar.addi c0_i32_52 v72
  let c1_i32_22 : BitVec 32 := 1#32
  let v28 : BitVec 32 := Dev.word d25
  let c2_i32_16 : BitVec 32 := 2#32
  let v29 : BitVec 32 := Scalar.divsi v28 c2_i32_16
  let c2_i32_15 : BitVec 32 := 2#32
  let v30 : BitVec 32 := Scalar.remsi v29 c2_i32_15
  let v37 : BitVec 32 := Scalar.subi c1_i32_22 v30
  let c2_i32_53 : BitVec 32 := 2#32
  let v74 : BitVec 32 := Scalar.muli v37 c2_i32_53
  let v75 : BitVec 32 := Scalar.addi v73 v74
  let v31 : BitVec 32 := Dev.word d25
  let c1_i32_18 : BitVec 32 := 1#32
  let v32 : BitVec 32 := Scalar.divsi v31 c1_i32_18
  let c2_i32_17 : BitVec 32 := 2#32
  let v33 : BitVec 32 := Scalar.remsi v32 c2_i32_17
  let c1_i32_54 : BitVec 32 := 1#32
  let v76 : BitVec 32 := Scalar.muli v33 c1_i32_54
  let v77 : BitVec 32 := Scalar.addi v75 v76
  v77.toNat
def k0_off4 (d25 : Dev nD) : Fin 3 → Nat :=
  let c0_i32_72 : BitVec 32 := 0#32
  let c1_i32_65 : BitVec 32 := 1#32
  let v92 : BitVec 32 := Dev.word d25
  let c1_i32_64 : BitVec 32 := 1#32
  let v93 : BitVec 32 := Scalar.divsi v92 c1_i32_64
  let c2_i32_63 : BitVec 32 := 2#32
  let v94 : BitVec 32 := Scalar.remsi v93 c2_i32_63
  let v95 : BitVec 32 := Scalar.subi c1_i32_65 v94
  let c1024_i32 : BitVec 32 := 1024#32
  let v96 : BitVec 32 := Scalar.muli v95 c1024_i32
  let c0_i32_73 : BitVec 32 := 0#32
  ![0, v96.toNat, 0]
def k0_dev4 (d25 : Dev nD) : Nat :=
  let c0_i32_69 : BitVec 32 := 0#32
  let v86 : BitVec 32 := Dev.word d25
  let c4_i32_60 : BitVec 32 := 4#32
  let v87 : BitVec 32 := Scalar.divsi v86 c4_i32_60
  let c2_i32_59 : BitVec 32 := 2#32
  let v88 : BitVec 32 := Scalar.remsi v87 c2_i32_59
  let c4_i32_68 : BitVec 32 := 4#32
  let v98 : BitVec 32 := Scalar.muli v88 c4_i32_68
  let v99 : BitVec 32 := Scalar.addi c0_i32_69 v98
  let v89 : BitVec 32 := Dev.word d25
  let c2_i32_62 : BitVec 32 := 2#32
  let v90 : BitVec 32 := Scalar.divsi v89 c2_i32_62
  let c2_i32_61 : BitVec 32 := 2#32
  let v91 : BitVec 32 := Scalar.remsi v90 c2_i32_61
  let c2_i32_70 : BitVec 32 := 2#32
  let v100 : BitVec 32 := Scalar.muli v91 c2_i32_70
  let v101 : BitVec 32 := Scalar.addi v99 v100
  let c1_i32_66 : BitVec 32 := 1#32
  let v92 : BitVec 32 := Dev.word d25
  let c1_i32_64 : BitVec 32 := 1#32
  let v93 : BitVec 32 := Scalar.divsi v92 c1_i32_64
  let c2_i32_63 : BitVec 32 := 2#32
  let v94 : BitVec 32 := Scalar.remsi v93 c2_i32_63
  let v97 : BitVec 32 := Scalar.subi c1_i32_66 v94
  let c1_i32_71 : BitVec 32 := 1#32
  let v102 : BitVec 32 := Scalar.muli v97 c1_i32_71
  let v103 : BitVec 32 := Scalar.addi v101 v102
  v103.toNat
def k0_off5 (d25 : Dev nD) : Fin 2 → Nat :=
  let v115 : BitVec 32 := Dev.word d25
  let c1_i32_79 : BitVec 32 := 1#32
  let v116 : BitVec 32 := Scalar.divsi v115 c1_i32_79
  let c2_i32_78 : BitVec 32 := 2#32
  let v117 : BitVec 32 := Scalar.remsi v116 c2_i32_78
  let c2048_i32 : BitVec 32 := 2048#32
  let v118 : BitVec 32 := Scalar.muli v117 c2048_i32
  let c0_i32_87 : BitVec 32 := 0#32
  ![v118.toNat, 0]
def k0_dev5 (d25 : Dev nD) : Nat :=
  let c0_i32_84 : BitVec 32 := 0#32
  let v109 : BitVec 32 := Dev.word d25
  let c4_i32_75 : BitVec 32 := 4#32
  let v110 : BitVec 32 := Scalar.divsi v109 c4_i32_75
  let c2_i32_74 : BitVec 32 := 2#32
  let v111 : BitVec 32 := Scalar.remsi v110 c2_i32_74
  let c4_i32_83 : BitVec 32 := 4#32
  let v120 : BitVec 32 := Scalar.muli v111 c4_i32_83
  let v121 : BitVec 32 := Scalar.addi c0_i32_84 v120
  let v112 : BitVec 32 := Dev.word d25
  let c2_i32_77 : BitVec 32 := 2#32
  let v113 : BitVec 32 := Scalar.divsi v112 c2_i32_77
  let c2_i32_76 : BitVec 32 := 2#32
  let v114 : BitVec 32 := Scalar.remsi v113 c2_i32_76
  let c2_i32_85 : BitVec 32 := 2#32
  let v122 : BitVec 32 := Scalar.muli v114 c2_i32_85
  let v123 : BitVec 32 := Scalar.addi v121 v122
  let c1_i32_80 : BitVec 32 := 1#32
  let v115 : BitVec 32 := Dev.word d25
  let c1_i32_79 : BitVec 32 := 1#32
  let v116 : BitVec 32 := Scalar.divsi v115 c1_i32_79
  let c2_i32_78 : BitVec 32 := 2#32
  let v117 : BitVec 32 := Scalar.remsi v116 c2_i32_78
  let v119 : BitVec 32 := Scalar.subi c1_i32_80 v117
  let c1_i32_86 : BitVec 32 := 1#32
  let v124 : BitVec 32 := Scalar.muli v119 c1_i32_86
  let v125 : BitVec 32 := Scalar.addi v123 v124
  v125.toNat
def k0_cond2 (i : grid0.Coords) : BitVec 1 :=
  let c0_i32 : BitVec 32 := 0#32
  let arg0 : BitVec 32 := BitVec.ofNat 32 (i 0).val
  let v0 : BitVec 32 := Scalar.addi c0_i32 arg0
  let c4_i32 : BitVec 32 := 4#32
  let v1 : BitVec 32 := Scalar.muli v0 c4_i32
  let arg1 : BitVec 32 := BitVec.ofNat 32 (i 1).val
  let v2 : BitVec 32 := Scalar.addi v1 arg1
  let c1_i32 : BitVec 32 := 1#32
  let v3 : BitVec 32 := Scalar.muli v2 c1_i32
  let arg2 : BitVec 32 := BitVec.ofNat 32 (i 2).val
  let v4 : BitVec 32 := Scalar.addi v3 arg2
  let c15_i32 : BitVec 32 := 15#32
  let v22 : BitVec 1 := Scalar.cmpi .eq v4 c15_i32
  let v23 : BitVec 32 := Scalar.extui v22
  let c0_i32_13 : BitVec 32 := 0#32
  let v24 : BitVec 1 := Scalar.cmpi .ne v23 c0_i32_13
  v24

def k0_off6 (d25 : Dev nD) : Fin 3 → Nat :=
  let c2_i32_23 : BitVec 32 := 2#32
  let c1_i32_19 : BitVec 32 := 1#32
  let v25 : BitVec 32 := Dev.word d25
  let c4_i32_14 : BitVec 32 := 4#32
  let v26 : BitVec 32 := Scalar.divsi v25 c4_i32_14
  let c2_i32 : BitVec 32 := 2#32
  let v27 : BitVec 32 := Scalar.remsi v26 c2_i32
  let v34 : BitVec 32 := Scalar.subi c1_i32_19 v27
  let v38 : BitVec 32 := Scalar.muli c2_i32_23 v34
  let v28 : BitVec 32 := Dev.word d25
  let c2_i32_16 : BitVec 32 := 2#32
  let v29 : BitVec 32 := Scalar.divsi v28 c2_i32_16
  let c2_i32_15 : BitVec 32 := 2#32
  let v30 : BitVec 32 := Scalar.remsi v29 c2_i32_15
  let v39 : BitVec 32 := Scalar.addi v38 v30
  let c0_i32_35 : BitVec 32 := 0#32
  let c0_i32_36 : BitVec 32 := 0#32
  ![v39.toNat, 0, 0]
def k0_off7 (d25 : Dev nD) : Fin 3 → Nat :=
  let c2_i32_24 : BitVec 32 := 2#32
  let v25 : BitVec 32 := Dev.word d25
  let c4_i32_14 : BitVec 32 := 4#32
  let v26 : BitVec 32 := Scalar.divsi v25 c4_i32_14
  let c2_i32 : BitVec 32 := 2#32
  let v27 : BitVec 32 := Scalar.remsi v26 c2_i32
  let v40 : BitVec 32 := Scalar.muli c2_i32_24 v27
  let c1_i32_20 : BitVec 32 := 1#32
  let v28 : BitVec 32 := Dev.word d25
  let c2_i32_16 : BitVec 32 := 2#32
  let v29 : BitVec 32 := Scalar.divsi v28 c2_i32_16
  let c2_i32_15 : BitVec 32 := 2#32
  let v30 : BitVec 32 := Scalar.remsi v29 c2_i32_15
  let v35 : BitVec 32 := Scalar.subi c1_i32_20 v30
  let v41 : BitVec 32 := Scalar.addi v40 v35
  let c0_i32_46 : BitVec 32 := 0#32
  let c0_i32_47 : BitVec 32 := 0#32
  ![v41.toNat, 0, 0]
def k0_off8 (d25 : Dev nD) : Fin 3 → Nat :=
  let c2_i32_25 : BitVec 32 := 2#32
  let c1_i32_21 : BitVec 32 := 1#32
  let v25 : BitVec 32 := Dev.word d25
  let c4_i32_14 : BitVec 32 := 4#32
  let v26 : BitVec 32 := Scalar.divsi v25 c4_i32_14
  let c2_i32 : BitVec 32 := 2#32
  let v27 : BitVec 32 := Scalar.remsi v26 c2_i32
  let v36 : BitVec 32 := Scalar.subi c1_i32_21 v27
  let v42 : BitVec 32 := Scalar.muli c2_i32_25 v36
  let c1_i32_22 : BitVec 32 := 1#32
  let v28 : BitVec 32 := Dev.word d25
  let c2_i32_16 : BitVec 32 := 2#32
  let v29 : BitVec 32 := Scalar.divsi v28 c2_i32_16
  let c2_i32_15 : BitVec 32 := 2#32
  let v30 : BitVec 32 := Scalar.remsi v29 c2_i32_15
  let v37 : BitVec 32 := Scalar.subi c1_i32_22 v30
  let v43 : BitVec 32 := Scalar.addi v42 v37
  let c0_i32_57 : BitVec 32 := 0#32
  let c0_i32_58 : BitVec 32 := 0#32
  ![v43.toNat, 0, 0]
def k0_off9 (d25 : Dev nD) : Fin 3 → Nat :=
  let c0_i32_96 : BitVec 32 := 0#32
  let c1_i32_89 : BitVec 32 := 1#32
  let v104 : BitVec 32 := Dev.word d25
  let c1_i32_88 : BitVec 32 := 1#32
  let v105 : BitVec 32 := Scalar.divsi v104 c1_i32_88
  let c2_i32_87 : BitVec 32 := 2#32
  let v106 : BitVec 32 := Scalar.remsi v105 c2_i32_87
  let v107 : BitVec 32 := Scalar.subi c1_i32_89 v106
  let c1024_i32 : BitVec 32 := 1024#32
  let v108 : BitVec 32 := Scalar.muli v107 c1024_i32
  let c0_i32_97 : BitVec 32 := 0#32
  ![0, v108.toNat, 0]
def k0_off10 (d25 : Dev nD) : Fin 2 → Nat :=
  let v128 : BitVec 32 := Dev.word d25
  let c1_i32_108 : BitVec 32 := 1#32
  let v129 : BitVec 32 := Scalar.divsi v128 c1_i32_108
  let c2_i32_107 : BitVec 32 := 2#32
  let v130 : BitVec 32 := Scalar.remsi v129 c2_i32_107
  let c2048_i32 : BitVec 32 := 2048#32
  let v131 : BitVec 32 := Scalar.muli v130 c2048_i32
  let c0_i32_116 : BitVec 32 := 0#32
  ![v131.toNat, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OwReferenceIdeal.lean ====
abbrev S32768x4096 : Shape := ⟨2, ![32768, 4096]⟩
abbrev S32x1024x2560 : Shape := ⟨3, ![32, 1024, 2560]⟩
abbrev S32x2048x2560 : Shape := ⟨3, ![32, 2048, 2560]⟩
abbrev S8x4096x4096 : Shape := ⟨3, ![8, 4096, 4096]⟩
abbrev S4x2x4x1024x2560 : Shape := ⟨5, ![4, 2, 4, 1024, 2560]⟩
abbrev S4x2x4x704x2560 : Shape := ⟨5, ![4, 2, 4, 704, 2560]⟩
abbrev S1x2x1x704x2560 : Shape := ⟨5, ![1, 2, 1, 704, 2560]⟩
abbrev S2x704x2560 : Shape := ⟨3, ![2, 704, 2560]⟩
abbrev S2x1x704x2560 : Shape := ⟨4, ![2, 1, 704, 2560]⟩
abbrev S2x3x704x2560 : Shape := ⟨4, ![2, 3, 704, 2560]⟩
abbrev S1x2x3x704x2560 : Shape := ⟨5, ![1, 2, 3, 704, 2560]⟩
abbrev S4x2x3x704x2560 : Shape := ⟨5, ![4, 2, 3, 704, 2560]⟩
abbrev S4x2x4x2x1024x2560 : Shape := ⟨6, ![4, 2, 4, 2, 1024, 2560]⟩
abbrev S4x1x4x1x1024x2560 : Shape := ⟨6, ![4, 1, 4, 1, 1024, 2560]⟩
abbrev S4x4x1024x2560 : Shape := ⟨4, ![4, 4, 1024, 2560]⟩
abbrev S4x1x4x1024x2560 : Shape := ⟨5, ![4, 1, 4, 1024, 2560]⟩
abbrev S4x2x2x2048x4096 : Shape := ⟨5, ![4, 2, 2, 2048, 4096]⟩
abbrev S4x1x1x2048x4096 : Shape := ⟨5, ![4, 1, 1, 2048, 4096]⟩
abbrev S4x2048x4096 : Shape := ⟨3, ![4, 2048, 4096]⟩
abbrev S4x1x2048x4096 : Shape := ⟨4, ![4, 1, 2048, 4096]⟩
abbrev S4x2x2048x4096 : Shape := ⟨4, ![4, 2, 2048, 4096]⟩
abbrev S24x704x2560 : Shape := ⟨3, ![24, 704, 2560]⟩
abbrev S16384x4096 : Shape := ⟨2, ![16384, 4096]⟩

abbrev nBuf : Space → Nat
  | .hbm => 78
  | .vmem => 0
  | .smem => 0
  | _ => 0

abbrev bufTy : (tb : Table) → Fin (tcTables nBuf tb) → BufTy
  | .hbm, ⟨0, _⟩ => ⟨S32768x4096, .bf16⟩
  | .hbm, ⟨1, _⟩ => ⟨S32768x4096, .bf16⟩
  | .hbm, ⟨2, _⟩ => ⟨S32x1024x2560, .bf16⟩
  | .hbm, ⟨3, _⟩ => ⟨S32x2048x2560, .bf16⟩
  | .hbm, ⟨4, _⟩ => ⟨S32768x4096, .f32⟩
  | .hbm, ⟨5, _⟩ => ⟨S32768x4096, .f32⟩
  | .hbm, ⟨6, _⟩ => ⟨S8x4096x4096, .f32⟩
  | .hbm, ⟨7, _⟩ => ⟨S32768x4096, .f32⟩
  | .hbm, ⟨8, _⟩ => ⟨S8x4096x4096, .f32⟩
  | .hbm, ⟨9, _⟩ => ⟨S8x4096x4096, .f32⟩
  | .hbm, ⟨10, _⟩ => ⟨S8x4096x4096, .bf16⟩
  | .hbm, ⟨11, _⟩ => ⟨S4x2x4x1024x2560, .bf16⟩
  | .hbm, ⟨12, _⟩ => ⟨S4x2x4x704x2560, .bf16⟩
  | .hbm, ⟨13, _⟩ => ⟨S1x2x1x704x2560, .bf16⟩
  | .hbm, ⟨14, _⟩ => ⟨S2x704x2560, .bf16⟩
  | .hbm, ⟨15, _⟩ => ⟨S1x2x1x704x2560, .bf16⟩
  | .hbm, ⟨16, _⟩ => ⟨S2x704x2560, .bf16⟩
  | .hbm, ⟨17, _⟩ => ⟨S1x2x1x704x2560, .bf16⟩
  | .hbm, ⟨18, _⟩ => ⟨S2x704x2560, .bf16⟩
  | .hbm, ⟨19, _⟩ => ⟨S2x1x704x2560, .bf16⟩
  | .hbm, ⟨20, _⟩ => ⟨S2x1x704x2560, .bf16⟩
  | .hbm, ⟨21, _⟩ => ⟨S2x1x704x2560, .bf16⟩
  | .hbm, ⟨22, _⟩ => ⟨S2x3x704x2560, .bf16⟩
  | .hbm, ⟨23, _⟩ => ⟨S1x2x1x704x2560, .bf16⟩
  | .hbm, ⟨24, _⟩ => ⟨S2x704x2560, .bf16⟩
  | .hbm, ⟨25, _⟩ => ⟨S1x2x1x704x2560, .bf16⟩
  | .hbm, ⟨26, _⟩ => ⟨S2x704x2560, .bf16⟩
  | .hbm, ⟨27, _⟩ => ⟨S1x2x1x704x2560, .bf16⟩
  | .hbm, ⟨28, _⟩ => ⟨S2x704x2560, .bf16⟩
  | .hbm, ⟨29, _⟩ => ⟨S2x1x704x2560, .bf16⟩
  | .hbm, ⟨30, _⟩ => ⟨S2x1x704x2560, .bf16⟩
  | .hbm, ⟨31, _⟩ => ⟨S2x1x704x2560, .bf16⟩
  | .hbm, ⟨32, _⟩ => ⟨S2x3x704x2560, .bf16⟩
  | .hbm, ⟨33, _⟩ => ⟨S1x2x1x704x2560, .bf16⟩
  | .hbm, ⟨34, _⟩ => ⟨S2x704x2560, .bf16⟩
  | .hbm, ⟨35, _⟩ => ⟨S1x2x1x704x2560, .bf16⟩
  | .hbm, ⟨36, _⟩ => ⟨S2x704x2560, .bf16⟩
  | .hbm, ⟨37, _⟩ => ⟨S1x2x1x704x2560, .bf16⟩
  | .hbm, ⟨38, _⟩ => ⟨S2x704x2560, .bf16⟩
  | .hbm, ⟨39, _⟩ => ⟨S2x1x704x2560, .bf16⟩
  | .hbm, ⟨40, _⟩ => ⟨S2x1x704x2560, .bf16⟩
  | .hbm, ⟨41, _⟩ => ⟨S2x1x704x2560, .bf16⟩
  | .hbm, ⟨42, _⟩ => ⟨S2x3x704x2560, .bf16⟩
  | .hbm, ⟨43, _⟩ => ⟨S1x2x1x704x2560, .bf16⟩
  | .hbm, ⟨44, _⟩ => ⟨S2x704x2560, .bf16⟩
  | .hbm, ⟨45, _⟩ => ⟨S1x2x1x704x2560, .bf16⟩
  | .hbm, ⟨46, _⟩ => ⟨S2x704x2560, .bf16⟩
  | .hbm, ⟨47, _⟩ => ⟨S1x2x1x704x2560, .bf16⟩
  | .hbm, ⟨48, _⟩ => ⟨S2x704x2560, .bf16⟩
  | .hbm, ⟨49, _⟩ => ⟨S2x1x704x2560, .bf16⟩
  | .hbm, ⟨50, _⟩ => ⟨S2x1x704x2560, .bf16⟩
  | .hbm, ⟨51, _⟩ => ⟨S2x1x704x2560, .bf16⟩
  | .hbm, ⟨52, _⟩ => ⟨S2x3x704x2560, .bf16⟩
  | .hbm, ⟨53, _⟩ => ⟨S1x2x3x704x2560, .bf16⟩
  | .hbm, ⟨54, _⟩ => ⟨S1x2x3x704x2560, .bf16⟩
  | .hbm, ⟨55, _⟩ => ⟨S1x2x3x704x2560, .bf16⟩
  | .hbm, ⟨56, _⟩ => ⟨S1x2x3x704x2560, .bf16⟩
  | .hbm, ⟨57, _⟩ => ⟨S4x2x3x704x2560, .bf16⟩
  | .hbm, ⟨58, _⟩ => ⟨S4x2x4x2x1024x2560, .bf16⟩
  | .hbm, ⟨59, _⟩ => ⟨S4x1x4x1x1024x2560, .bf16⟩
  | .hbm, ⟨60, _⟩ => ⟨S4x4x1024x2560, .bf16⟩
  | .hbm, ⟨61, _⟩ => ⟨S4x1x4x1x1024x2560, .bf16⟩
  | .hbm, ⟨62, _⟩ => ⟨S4x4x1024x2560, .bf16⟩
  | .hbm, ⟨63, _⟩ => ⟨S4x1x4x1024x2560, .bf16⟩
  | .hbm, ⟨64, _⟩ => ⟨S4x1x4x1024x2560, .bf16⟩
  | .hbm, ⟨65, _⟩ => ⟨S4x2x4x1024x2560, .bf16⟩
  | .hbm, ⟨66, _⟩ => ⟨S4x2x2x2048x4096, .f32⟩
  | .hbm, ⟨67, _⟩ => ⟨S4x1x1x2048x4096, .f32⟩
  | .hbm, ⟨68, _⟩ => ⟨S4x2048x4096, .f32⟩
  | .hbm, ⟨69, _⟩ => ⟨S4x1x1x2048x4096, .f32⟩
  | .hbm, ⟨70, _⟩ => ⟨S4x2048x4096, .f32⟩
  | .hbm, ⟨71, _⟩ => ⟨S4x1x2048x4096, .f32⟩
  | .hbm, ⟨72, _⟩ => ⟨S4x1x2048x4096, .f32⟩
  | .hbm, ⟨73, _⟩ => ⟨S4x2x2048x4096, .f32⟩
  | .hbm, ⟨74, _⟩ => ⟨S32768x4096, .bf16⟩
  | .hbm, ⟨75, _⟩ => ⟨S24x704x2560, .bf16⟩
  | .hbm, ⟨76, _⟩ => ⟨S32x1024x2560, .bf16⟩
  | .hbm, ⟨77, _⟩ => ⟨S16384x4096, .f32⟩
  | _, _ => ⟨S32768x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩
abbrev main_v44 : Ref sig .tc := ⟨.hbm, 49, rfl⟩
abbrev main_v45 : Ref sig .tc := ⟨.hbm, 50, rfl⟩
abbrev main_v46 : Ref sig .tc := ⟨.hbm, 51, rfl⟩
abbrev main_v47 : Ref sig .tc := ⟨.hbm, 52, rfl⟩
abbrev main_v48 : Ref sig .tc := ⟨.hbm, 53, rfl⟩
abbrev main_v49 : Ref sig .tc := ⟨.hbm, 54, rfl⟩
abbrev main_v50 : Ref sig .tc := ⟨.hbm, 55, rfl⟩
abbrev main_v51 : Ref sig .tc := ⟨.hbm, 56, rfl⟩
abbrev main_v52 : Ref sig .tc := ⟨.hbm, 57, rfl⟩
abbrev main_v53 : Ref sig .tc := ⟨.hbm, 58, rfl⟩
abbrev main_v54 : Ref sig .tc := ⟨.hbm, 59, rfl⟩
abbrev main_v55 : Ref sig .tc := ⟨.hbm, 60, rfl⟩
abbrev main_v56 : Ref sig .tc := ⟨.hbm, 61, rfl⟩
abbrev main_v57 : Ref sig .tc := ⟨.hbm, 62, rfl⟩
abbrev main_v58 : Ref sig .tc := ⟨.hbm, 63, rfl⟩
abbrev main_v59 : Ref sig .tc := ⟨.hbm, 64, rfl⟩
abbrev main_v60 : Ref sig .tc := ⟨.hbm, 65, rfl⟩
abbrev main_v61 : Ref sig .tc := ⟨.hbm, 66, rfl⟩
abbrev main_v62 : Ref sig .tc := ⟨.hbm, 67, rfl⟩
abbrev main_v63 : Ref sig .tc := ⟨.hbm, 68, rfl⟩
abbrev main_v64 : Ref sig .tc := ⟨.hbm, 69, rfl⟩
abbrev main_v65 : Ref sig .tc := ⟨.hbm, 70, rfl⟩
abbrev main_v66 : Ref sig .tc := ⟨.hbm, 71, rfl⟩
abbrev main_v67 : Ref sig .tc := ⟨.hbm, 72, rfl⟩
abbrev main_v68 : Ref sig .tc := ⟨.hbm, 73, rfl⟩
abbrev main_v69 : Ref sig .tc := ⟨.hbm, 74, rfl⟩
abbrev main_v70 : Ref sig .tc := ⟨.hbm, 75, rfl⟩
abbrev main_v71 : Ref sig .tc := ⟨.hbm, 76, rfl⟩
abbrev main_v72 : Ref sig .tc := ⟨.hbm, 77, rfl⟩

abbrev nD : Nat := 1
abbrev τ : Topo := Topo.v7x

variable {F : FTy → Type} [FloatOps F]
-- ==== FwKernel.lean ====
abbrev S4096x4096 : Shape := ⟨2, ![4096, 4096]⟩
abbrev S4x4096x4096 : Shape := ⟨3, ![4, 4096, 4096]⟩
abbrev S4096x16384 : Shape := ⟨2, ![4096, 16384]⟩
abbrev S1024x4096 : Shape := ⟨2, ![1024, 4096]⟩
abbrev S1x4096x1024 : Shape := ⟨3, ![1, 4096, 1024]⟩
abbrev S1024x1024 : Shape := ⟨2, ![1024, 1024]⟩
abbrev S8 : Shape := ⟨1, ![8]⟩
abbrev S1 : Shape := ⟨1, ![1]⟩
abbrev S_ : Shape := ⟨0, ![]⟩
abbrev S1x2048x4096 : Shape := ⟨3, ![1, 2048, 4096]⟩
abbrev S2048x4096 : Shape := ⟨2, ![2048, 4096]⟩
abbrev S1x4096x512 : Shape := ⟨3, ![1, 4096, 512]⟩
abbrev S4096x512 : Shape := ⟨2, ![4096, 512]⟩
abbrev S1024x512 : Shape := ⟨2, ![1024, 512]⟩
abbrev S1x1024x4096 : Shape := ⟨3, ![1, 1024, 4096]⟩

abbrev nBuf : Space → Nat
  | .hbm => 30
  | .vmem => 8
  | .smem => 0
  | _ => 0

abbrev bufTy : (tb : Table) → Fin (tcTables nBuf tb) → BufTy
  | .hbm, ⟨0, _⟩ => ⟨S4096x4096, .bf16⟩
  | .hbm, ⟨1, _⟩ => ⟨S4x4096x4096, .bf16⟩
  | .hbm, ⟨2, _⟩ => ⟨S4096x4096, .bf16⟩
  | .hbm, ⟨3, _⟩ => ⟨S4096x16384, .bf16⟩
  | .hbm, ⟨4, _⟩ => ⟨S4096x16384, .bf16⟩
  | .hbm, ⟨5, _⟩ => ⟨S4x4096x4096, .bf16⟩
  | .hbm, ⟨6, _⟩ => ⟨S4x4096x4096, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S_, .i32⟩
  | .hbm, ⟨22, _⟩ => ⟨S_, .i32⟩
  | .hbm, ⟨23, _⟩ => ⟨S_, .i32⟩
  | .hbm, ⟨24, _⟩ => ⟨S_, .i32⟩
  | .hbm, ⟨25, _⟩ => ⟨S_, .i32⟩
  | .hbm, ⟨26, _⟩ => ⟨S4x4096x4096, .i32⟩
  | .hbm, ⟨27, _⟩ => ⟨S4x4096x4096, .i1⟩
  | .hbm, ⟨28, _⟩ => ⟨S4x4096x4096, .bf16⟩
  | .hbm, ⟨29, _⟩ => ⟨S4x4096x4096, .bf16⟩
  | .local _ .vmem, ⟨0, _⟩ => ⟨S1024x4096, .bf16⟩
  | .local _ .vmem, ⟨1, _⟩ => ⟨S1024x4096, .bf16⟩
  | .local _ .vmem, ⟨2, _⟩ => ⟨S1x4096x1024, .bf16⟩
  | .local _ .vmem, ⟨3, _⟩ => ⟨S1x4096x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1_0 : Ref sig .tc := ⟨.hbm, 3, rfl⟩
abbrev main_v1_1 : Ref sig .tc := ⟨.hbm, 4, rfl⟩
abbrev main_v1_2 : Ref sig .tc := ⟨.hbm, 5, rfl⟩
abbrev main_v2 : Ref sig .tc := ⟨.hbm, 6, rfl⟩
abbrev main_c : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c_1 : Ref sig .tc := ⟨.hbm, 13, rfl⟩
abbrev main_v7 : Ref sig .tc := ⟨.hbm, 14, rfl⟩
abbrev main_c_2 : Ref sig .tc := ⟨.hbm, 15, rfl⟩
abbrev main_v8 : Ref sig .tc := ⟨.hbm, 16, rfl⟩
abbrev main_c_3 : Ref sig .tc := ⟨.hbm, 17, rfl⟩
abbrev main_c_4 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_c_5 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 8
abbrev τ : Topo := Topo.v7x

variable {F : FTy → Type} [FloatOps F]

abbrev grid0 : Pipeline.Grid := ⟨3, ![4, 16, 1], ![false, false, false]⟩

def k0_cond1 (i : grid0.Coords) : BitVec 1 :=
  let c0_i32 : BitVec 32 := 0#32
  let arg0 : BitVec 32 := BitVec.ofNat 32 (i 0).val
  let v0 : BitVec 32 := Scalar.addi c0_i32 arg0
  let c16_i32 : BitVec 32 := 16#32
  let v1 : BitVec 32 := Scalar.muli v0 c16_i32
  let arg1 : BitVec 32 := BitVec.ofNat 32 (i 1).val
  let v2 : BitVec 32 := Scalar.addi v1 arg1
  let c1_i32 : BitVec 32 := 1#32
  let v3 : BitVec 32 := Scalar.muli v2 c1_i32
  let arg2 : BitVec 32 := BitVec.ofNat 32 (i 2).val
  let v4 : BitVec 32 := Scalar.addi v3 arg2
  let c0_i32_0 : BitVec 32 := 0#32
  let v5 : BitVec 1 := Scalar.cmpi .eq v4 c0_i32_0
  let v6 : BitVec 32 := Scalar.extui v5
  let c0_i32_1 : BitVec 32 := 0#32
  let v7 : BitVec 1 := Scalar.cmpi .ne v6 c0_i32_1
  v7

def k0_off1 (d38 : Dev nD) : Fin 3 → Nat :=
  let c2_i32_31 : BitVec 32 := 2#32
  let v38 : BitVec 32 := Dev.word d38
  let c4_i32 : BitVec 32 := 4#32
  let v39 : BitVec 32 := Scalar.divsi v38 c4_i32
  let c2_i32 : BitVec 32 := 2#32
  let v40 : BitVec 32 := Scalar.remsi v39 c2_i32
  let v52 : BitVec 32 := Scalar.muli c2_i32_31 v40
  let v41 : BitVec 32 := Dev.word d38
  let c2_i32_24 : BitVec 32 := 2#32
  let v42 : BitVec 32 := Scalar.divsi v41 c2_i32_24
  let c2_i32_23 : BitVec 32 := 2#32
  let v43 : BitVec 32 := Scalar.remsi v42 c2_i32_23
  let v53 : BitVec 32 := Scalar.addi v52 v43
  let v44 : BitVec 32 := Dev.word d38
  let c1_i32_26 : BitVec 32 := 1#32
  let v45 : BitVec 32 := Scalar.divsi v44 c1_i32_26
  let c2_i32_25 : BitVec 32 := 2#32
  let v46 : BitVec 32 := Scalar.remsi v45 c2_i32_25
  let c2048_i32 : BitVec 32 := 2048#32
  let v49 : BitVec 32 := Scalar.muli v46 c2048_i32
  let c0_i32_29 : BitVec 32 := 0#32
  let v50 : BitVec 32 := Scalar.addi v49 c0_i32_29
  let c0_i32_30 : BitVec 32 := 0#32
  let v51 : BitVec 32 := Scalar.addi v50 c0_i32_30
  let c0_i32_38 : BitVec 32 := 0#32
  ![v53.toNat, v51.toNat, 0]
def k0_off2 (d38 : Dev nD) : Fin 2 → Nat :=
  let v44 : BitVec 32 := Dev.word d38
  let c1_i32_26 : BitVec 32 := 1#32
  let v45 : BitVec 32 := Scalar.divsi v44 c1_i32_26
  let c2_i32_25 : BitVec 32 := 2#32
  let v46 : BitVec 32 := Scalar.remsi v45 c2_i32_25
  let c2048_i32 : BitVec 32 := 2048#32
  let v49 : BitVec 32 := Scalar.muli v46 c2048_i32
  let c0_i32_29 : BitVec 32 := 0#32
  let v50 : BitVec 32 := Scalar.addi v49 c0_i32_29
  let c0_i32_30 : BitVec 32 := 0#32
  let v51 : BitVec 32 := Scalar.addi v50 c0_i32_30
  let c0_i32_39 : BitVec 32 := 0#32
  ![v51.toNat, 0]
def k0_dev1 (d38 : Dev nD) : Nat :=
  let c0_i32_35 : BitVec 32 := 0#32
  let c1_i32_27 : BitVec 32 := 1#32
  let v38 : BitVec 32 := Dev.word d38
  let c4_i32 : BitVec 32 := 4#32
  let v39 : BitVec 32 := Scalar.divsi v38 c4_i32
  let c2_i32 : BitVec 32 := 2#32
  let v40 : BitVec 32 := Scalar.remsi v39 c2_i32
  let v47 : BitVec 32 := Scalar.subi c1_i32_27 v40
  let c4_i32_34 : BitVec 32 := 4#32
  let v54 : BitVec 32 := Scalar.muli v47 c4_i32_34
  let v55 : BitVec 32 := Scalar.addi c0_i32_35 v54
  let v41 : BitVec 32 := Dev.word d38
  let c2_i32_24 : BitVec 32 := 2#32
  let v42 : BitVec 32 := Scalar.divsi v41 c2_i32_24
  let c2_i32_23 : BitVec 32 := 2#32
  let v43 : BitVec 32 := Scalar.remsi v42 c2_i32_23
  let c2_i32_36 : BitVec 32 := 2#32
  let v56 : BitVec 32 := Scalar.muli v43 c2_i32_36
  let v57 : BitVec 32 := Scalar.addi v55 v56
  let v44 : BitVec 32 := Dev.word d38
  let c1_i32_26 : BitVec 32 := 1#32
  let v45 : BitVec 32 := Scalar.divsi v44 c1_i32_26
  let c2_i32_25 : BitVec 32 := 2#32
  let v46 : BitVec 32 := Scalar.remsi v45 c2_i32_25
  let c1_i32_37 : BitVec 32 := 1#32
  let v58 : BitVec 32 := Scalar.muli v46 c1_i32_37
  let v59 : BitVec 32 := Scalar.addi v57 v58
  v59.toNat
def k0_dev2 (d38 : Dev nD) : Nat :=
  let c0_i32_47 : BitVec 32 := 0#32
  let v38 : BitVec 32 := Dev.word d38
  let c4_i32 : BitVec 32 := 4#32
  let v39 : BitVec 32 := Scalar.divsi v38 c4_i32
  let c2_i32 : BitVec 32 := 2#32
  let v40 : BitVec 32 := Scalar.remsi v39 c2_i32
  let c4_i32_46 : BitVec 32 := 4#32
  let v72 : BitVec 32 := Scalar.muli v40 c4_i32_46
  let v73 : BitVec 32 := Scalar.addi c0_i32_47 v72
  let c1_i32_28 : BitVec 32 := 1#32
  let v41 : BitVec 32 := Dev.word d38
  let c2_i32_24 : BitVec 32 := 2#32
  let v42 : BitVec 32 := Scalar.divsi v41 c2_i32_24
  let c2_i32_23 : BitVec 32 := 2#32
  let v43 : BitVec 32 := Scalar.remsi v42 c2_i32_23
  let v48 : BitVec 32 := Scalar.subi c1_i32_28 v43
  let c2_i32_48 : BitVec 32 := 2#32
  let v74 : BitVec 32 := Scalar.muli v48 c2_i32_48
  let v75 : BitVec 32 := Scalar.addi v73 v74
  let v44 : BitVec 32 := Dev.word d38
  let c1_i32_26 : BitVec 32 := 1#32
  let v45 : BitVec 32 := Scalar.divsi v44 c1_i32_26
  let c2_i32_25 : BitVec 32 := 2#32
  let v46 : BitVec 32 := Scalar.remsi v45 c2_i32_25
  let c1_i32_49 : BitVec 32 := 1#32
  let v76 : BitVec 32 := Scalar.muli v46 c1_i32_49
  let v77 : BitVec 32 := Scalar.addi v75 v76
  v77.toNat
def k0_cond2 (i : grid0.Coords) : BitVec 1 :=
  let c0_i32 : BitVec 32 := 0#32
  let arg0 : BitVec 32 := BitVec.ofNat 32 (i 0).val
  let v0 : BitVec 32 := Scalar.addi c0_i32 arg0
  let c16_i32 : BitVec 32 := 16#32
  let v1 : BitVec 32 := Scalar.muli v0 c16_i32
  let arg1 : BitVec 32 := BitVec.ofNat 32 (i 1).val
  let v2 : BitVec 32 := Scalar.addi v1 arg1
  let c1_i32 : BitVec 32 := 1#32
  let v3 : BitVec 32 := Scalar.muli v2 c1_i32
  let arg2 : BitVec 32 := BitVec.ofNat 32 (i 2).val
  let v4 : BitVec 32 := Scalar.addi v3 arg2
  let c38_i32 : BitVec 32 := 38#32
  let v32 : BitVec 1 := Scalar.cmpi .eq v4 c38_i32
  let v33 : BitVec 32 := Scalar.extui v32
  let c0_i32_21 : BitVec 32 := 0#32
  let v34 : BitVec 1 := Scalar.cmpi .ne v33 c0_i32_21
  v34

def k0_off3 (d38 : Dev nD) : Fin 3 → Nat :=
  let c2_i32_32 : BitVec 32 := 2#32
  let c1_i32_28 : BitVec 32 := 1#32
  let v38 : BitVec 32 := Dev.word d38
  let c4_i32 : BitVec 32 := 4#32
  let v39 : BitVec 32 := Scalar.divsi v38 c4_i32
  let c2_i32 : BitVec 32 := 2#32
  let v40 : BitVec 32 := Scalar.remsi v39 c2_i32
  let v48 : BitVec 32 := Scalar.subi c1_i32_28 v40
  let v53 : BitVec 32 := Scalar.muli c2_i32_32 v48
  let v41 : BitVec 32 := Dev.word d38
  let c2_i32_24 : BitVec 32 := 2#32
  let v42 : BitVec 32 := Scalar.divsi v41 c2_i32_24
  let c2_i32_23 : BitVec 32 := 2#32
  let v43 : BitVec 32 := Scalar.remsi v42 c2_i32_23
  let v54 : BitVec 32 := Scalar.addi v53 v43
  let v44 : BitVec 32 := Dev.word d38
  let c1_i32_26 : BitVec 32 := 1#32
  let v45 : BitVec 32 := Scalar.divsi v44 c1_i32_26
  let c2_i32_25 : BitVec 32 := 2#32
  let v46 : BitVec 32 := Scalar.remsi v45 c2_i32_25
  let c2048_i32 : BitVec 32 := 2048#32
  let v50 : BitVec 32 := Scalar.muli v46 c2048_i32
  let c0_i32_30 : BitVec 32 := 0#32
  let v51 : BitVec 32 := Scalar.addi v50 c0_i32_30
  let c0_i32_31 : BitVec 32 := 0#32
  let v52 : BitVec 32 := Scalar.addi v51 c0_i32_31
  let c0_i32_39 : BitVec 32 := 0#32
  ![v54.toNat, v52.toNat, 0]
def k0_off4 (d38 : Dev nD) : Fin 3 → Nat :=
  let c2_i32_44 : BitVec 32 := 2#32
  let c1_i32_28 : BitVec 32 := 1#32
  let v38 : BitVec 32 := Dev.word d38
  let c4_i32 : BitVec 32 := 4#32
  let v39 : BitVec 32 := Scalar.divsi v38 c4_i32
  let c2_i32 : BitVec 32 := 2#32
  let v40 : BitVec 32 := Scalar.remsi v39 c2_i32
  let v48 : BitVec 32 := Scalar.subi c1_i32_28 v40
  let v70 : BitVec 32 := Scalar.muli c2_i32_44 v48
  let v41 : BitVec 32 := Dev.word d38
  let c2_i32_24 : BitVec 32 := 2#32
  let v42 : BitVec 32 := Scalar.divsi v41 c2_i32_24
  let c2_i32_23 : BitVec 32 := 2#32
  let v43 : BitVec 32 := Scalar.remsi v42 c2_i32_23
  let v71 : BitVec 32 := Scalar.addi v70 v43
  let v44 : BitVec 32 := Dev.word d38
  let c1_i32_26 : BitVec 32 := 1#32
  let v45 : BitVec 32 := Scalar.divsi v44 c1_i32_26
  let c2_i32_25 : BitVec 32 := 2#32
  let v46 : BitVec 32 := Scalar.remsi v45 c2_i32_25
  let c2048_i32_41 : BitVec 32 := 2048#32
  let v67 : BitVec 32 := Scalar.muli v46 c2048_i32_41
  let c0_i32_42 : BitVec 32 := 0#32
  let v68 : BitVec 32 := Scalar.addi v67 c0_i32_42
  let c0_i32_43 : BitVec 32 := 0#32
  let v69 : BitVec 32 := Scalar.addi v68 c0_i32_43
  let c0_i32_51 : BitVec 32 := 0#32
  ![v71.toNat, v69.toNat, 0]
def k0_dev3 (d38 : Dev nD) : Nat :=
  let c0_i32_48 : BitVec 32 := 0#32
  let v38 : BitVec 32 := Dev.word d38
  let c4_i32 : BitVec 32 := 4#32
  let v39 : BitVec 32 := Scalar.divsi v38 c4_i32
  let c2_i32 : BitVec 32 := 2#32
  let v40 : BitVec 32 := Scalar.remsi v39 c2_i32
  let c4_i32_47 : BitVec 32 := 4#32
  let v72 : BitVec 32 := Scalar.muli v40 c4_i32_47
  let v73 : BitVec 32 := Scalar.addi c0_i32_48 v72
  let c1_i32_29 : BitVec 32 := 1#32
  let v41 : BitVec 32 := Dev.word d38
  let c2_i32_24 : BitVec 32 := 2#32
  let v42 : BitVec 32 := Scalar.divsi v41 c2_i32_24
  let c2_i32_23 : BitVec 32 := 2#32
  let v43 : BitVec 32 := Scalar.remsi v42 c2_i32_23
  let v49 : BitVec 32 := Scalar.subi c1_i32_29 v43
  let c2_i32_49 : BitVec 32 := 2#32
  let v74 : BitVec 32 := Scalar.muli v49 c2_i32_49
  let v75 : BitVec 32 := Scalar.addi v73 v74
  let v44 : BitVec 32 := Dev.word d38
  let c1_i32_26 : BitVec 32 := 1#32
  let v45 : BitVec 32 := Scalar.divsi v44 c1_i32_26
  let c2_i32_25 : BitVec 32 := 2#32
  let v46 : BitVec 32 := Scalar.remsi v45 c2_i32_25
  let c1_i32_50 : BitVec 32 := 1#32
  let v76 : BitVec 32 := Scalar.muli v46 c1_i32_50
  let v77 : BitVec 32 := Scalar.addi v75 v76
  v77.toNat
def k0_dev4 (d38 : Dev nD) : Nat :=
  let c0_i32_60 : BitVec 32 := 0#32
  let v38 : BitVec 32 := Dev.word d38
  let c4_i32 : BitVec 32 := 4#32
  let v39 : BitVec 32 := Scalar.divsi v38 c4_i32
  let c2_i32 : BitVec 32 := 2#32
  let v40 : BitVec 32 := Scalar.remsi v39 c2_i32
  let c4_i32_59 : BitVec 32 := 4#32
  let v91 : BitVec 32 := Scalar.muli v40 c4_i32_59
  let v92 : BitVec 32 := Scalar.addi c0_i32_60 v91
  let v41 : BitVec 32 := Dev.word d38
  let c2_i32_24 : BitVec 32 := 2#32
  let v42 : BitVec 32 := Scalar.divsi v41 c2_i32_24
  let c2_i32_23 : BitVec 32 := 2#32
  let v43 : BitVec 32 := Scalar.remsi v42 c2_i32_23
  let c2_i32_61 : BitVec 32 := 2#32
  let v93 : BitVec 32 := Scalar.muli v43 c2_i32_61
  let v94 : BitVec 32 := Scalar.addi v92 v93
  let c1_i32_27 : BitVec 32 := 1#32
  let v44 : BitVec 32 := Dev.word d38
  let c1_i32_26 : BitVec 32 := 1#32
  let v45 : BitVec 32 := Scalar.divsi v44 c1_i32_26
  let c2_i32_25 : BitVec 32 := 2#32
  let v46 : BitVec 32 := Scalar.remsi v45 c2_i32_25
  let v47 : BitVec 32 := Scalar.subi c1_i32_27 v46
  let c1_i32_62 : BitVec 32 := 1#32
  let v95 : BitVec 32 := Scalar.muli v47 c1_i32_62
  let v96 : BitVec 32 := Scalar.addi v94 v95
  v96.toNat
def k0_off5 (d38 : Dev nD) : Fin 3 → Nat :=
  let c2_i32_68 : BitVec 32 := 2#32
  let v38 : BitVec 32 := Dev.word d38
  let c4_i32 : BitVec 32 := 4#32
  let v39 : BitVec 32 := Scalar.divsi v38 c4_i32
  let c2_i32 : BitVec 32 := 2#32
  let v40 : BitVec 32 := Scalar.remsi v39 c2_i32
  let v108 : BitVec 32 := Scalar.muli c2_i32_68 v40
  let c1_i32_29 : BitVec 32 := 1#32
  let v41 : BitVec 32 := Dev.word d38
  let c2_i32_24 : BitVec 32 := 2#32
  let v42 : BitVec 32 := Scalar.divsi v41 c2_i32_24
  let c2_i32_23 : BitVec 32 := 2#32
  let v43 : BitVec 32 := Scalar.remsi v42 c2_i32_23
  let v49 : BitVec 32 := Scalar.subi c1_i32_29 v43
  let v109 : BitVec 32 := Scalar.addi v108 v49
  let v44 : BitVec 32 := Dev.word d38
  let c1_i32_26 : BitVec 32 := 1#32
  let v45 : BitVec 32 := Scalar.divsi v44 c1_i32_26
  let c2_i32_25 : BitVec 32 := 2#32
  let v46 : BitVec 32 := Scalar.remsi v45 c2_i32_25
  let c2048_i32_65 : BitVec 32 := 2048#32
  let v105 : BitVec 32 := Scalar.muli v46 c2048_i32_65
  let c0_i32_66 : BitVec 32 := 0#32
  let v106 : BitVec 32 := Scalar.addi v105 c0_i32_66
  let c0_i32_67 : BitVec 32 := 0#32
  let v107 : BitVec 32 := Scalar.addi v106 c0_i32_67
  let c0_i32_75 : BitVec 32 := 0#32
  ![v109.toNat, v107.toNat, 0]
def k0_off6 (d38 : Dev nD) : Fin 3 → Nat :=
  let c2_i32_79 : BitVec 32 := 2#32
  let v38 : BitVec 32 := Dev.word d38
  let c4_i32 : BitVec 32 := 4#32
  let v39 : BitVec 32 := Scalar.divsi v38 c4_i32
  let c2_i32 : BitVec 32 := 2#32
  let v40 : BitVec 32 := Scalar.remsi v39 c2_i32
  let v125 : BitVec 32 := Scalar.muli c2_i32_79 v40
  let c1_i32_29 : BitVec 32 := 1#32
  let v41 : BitVec 32 := Dev.word d38
  let c2_i32_24 : BitVec 32 := 2#32
  let v42 : BitVec 32 := Scalar.divsi v41 c2_i32_24
  let c2_i32_23 : BitVec 32 := 2#32
  let v43 : BitVec 32 := Scalar.remsi v42 c2_i32_23
  let v49 : BitVec 32 := Scalar.subi c1_i32_29 v43
  let v126 : BitVec 32 := Scalar.addi v125 v49
  let v44 : BitVec 32 := Dev.word d38
  let c1_i32_26 : BitVec 32 := 1#32
  let v45 : BitVec 32 := Scalar.divsi v44 c1_i32_26
  let c2_i32_25 : BitVec 32 := 2#32
  let v46 : BitVec 32 := Scalar.remsi v45 c2_i32_25
  let c2048_i32_77 : BitVec 32 := 2048#32
  let v122 : BitVec 32 := Scalar.muli v46 c2048_i32_77
  let c0_i32_78 : BitVec 32 := 0#32
  let v123 : BitVec 32 := Scalar.addi v122 c0_i32_78
  let c1024_i32 : BitVec 32 := 1024#32
  let v124 : BitVec 32 := Scalar.addi v123 c1024_i32
  let c0_i32_85 : BitVec 32 := 0#32
  ![v126.toNat, v124.toNat, 0]
def k0_dev5 (d38 : Dev nD) : Nat :=
  let c0_i32_82 : BitVec 32 := 0#32
  let c1_i32_28 : BitVec 32 := 1#32
  let v38 : BitVec 32 := Dev.word d38
  let c4_i32 : BitVec 32 := 4#32
  let v39 : BitVec 32 := Scalar.divsi v38 c4_i32
  let c2_i32 : BitVec 32 := 2#32
  let v40 : BitVec 32 := Scalar.remsi v39 c2_i32
  let v48 : BitVec 32 := Scalar.subi c1_i32_28 v40
  let c4_i32_81 : BitVec 32 := 4#32
  let v127 : BitVec 32 := Scalar.muli v48 c4_i32_81
  let v128 : BitVec 32 := Scalar.addi c0_i32_82 v127
  let v41 : BitVec 32 := Dev.word d38
  let c2_i32_24 : BitVec 32 := 2#32
  let v42 : BitVec 32 := Scalar.divsi v41 c2_i32_24
  let c2_i32_23 : BitVec 32 := 2#32
  let v43 : BitVec 32 := Scalar.remsi v42 c2_i32_23
  let c2_i32_83 : BitVec 32 := 2#32
  let v129 : BitVec 32 := Scalar.muli v43 c2_i32_83
  let v130 : BitVec 32 := Scalar.addi v128 v129
  let v44 : BitVec 32 := Dev.word d38
  let c1_i32_26 : BitVec 32 := 1#32
  let v45 : BitVec 32 := Scalar.divsi v44 c1_i32_26
  let c2_i32_25 : BitVec 32 := 2#32
  let v46 : BitVec 32 := Scalar.remsi v45 c2_i32_25
  let c1_i32_84 : BitVec 32 := 1#32
  let v131 : BitVec 32 := Scalar.muli v46 c1_i32_84
  let v132 : BitVec 32 := Scalar.addi v130 v131
  v132.toNat
def k0_dev6 (d38 : Dev nD) : Nat :=
  let c0_i32_93 : BitVec 32 := 0#32
  let v38 : BitVec 32 := Dev.word d38
  let c4_i32 : BitVec 32 := 4#32
  let v39 : BitVec 32 := Scalar.divsi v38 c4_i32
  let c2_i32 : BitVec 32 := 2#32
  let v40 : BitVec 32 := Scalar.remsi v39 c2_i32
  let c4_i32_92 : BitVec 32 := 4#32
  let v146 : BitVec 32 := Scalar.muli v40 c4_i32_92
  let v147 : BitVec 32 := Scalar.addi c0_i32_93 v146
  let v41 : BitVec 32 := Dev.word d38
  let c2_i32_24 : BitVec 32 := 2#32
  let v42 : BitVec 32 := Scalar.divsi v41 c2_i32_24
  let c2_i32_23 : BitVec 32 := 2#32
  let v43 : BitVec 32 := Scalar.remsi v42 c2_i32_23
  let c2_i32_94 : BitVec 32 := 2#32
  let v148 : BitVec 32 := Scalar.muli v43 c2_i32_94
  let v149 : BitVec 32 := Scalar.addi v147 v148
  let c1_i32_27 : BitVec 32 := 1#32
  let v44 : BitVec 32 := Dev.word d38
  let c1_i32_26 : BitVec 32 := 1#32
  let v45 : BitVec 32 := Scalar.divsi v44 c1_i32_26
  let c2_i32_25 : BitVec 32 := 2#32
  let v46 : BitVec 32 := Scalar.remsi v45 c2_i32_25
  let v47 : BitVec 32 := Scalar.subi c1_i32_27 v46
  let c1_i32_95 : BitVec 32 := 1#32
  let v150 : BitVec 32 := Scalar.muli v47 c1_i32_95
  let v151 : BitVec 32 := Scalar.addi v149 v150
  v151.toNat
def k0_cond3 (i : grid0.Coords) : BitVec 1 :=
  let c0_i32 : BitVec 32 := 0#32
  let arg0 : BitVec 32 := BitVec.ofNat 32 (i 0).val
  let v0 : BitVec 32 := Scalar.addi c0_i32 arg0
  let c16_i32 : BitVec 32 := 16#32
  let v1 : BitVec 32 := Scalar.muli v0 c16_i32
  let arg1 : BitVec 32 := BitVec.ofNat 32 (i 1).val
  let v2 : BitVec 32 := Scalar.addi v1 arg1
  let c1_i32 : BitVec 32 := 1#32
  let v3 : BitVec 32 := Scalar.muli v2 c1_i32
  let arg2 : BitVec 32 := BitVec.ofNat 32 (i 2).val
  let v4 : BitVec 32 := Scalar.addi v3 arg2
  let c63_i32 : BitVec 32 := 63#32
  let v35 : BitVec 1 := Scalar.cmpi .eq v4 c63_i32
  let v36 : BitVec 32 := Scalar.extui v35
  let c0_i32_22 : BitVec 32 := 0#32
  let v37 : BitVec 1 := Scalar.cmpi .ne v36 c0_i32_22
  v37

def k0_off7 (d38 : Dev nD) (c0_i32_37 : BitVec 32) : Fin 3 → Nat :=
  let c2_i32_38 : BitVec 32 := 2#32
  let c1_i32_30 : BitVec 32 := 1#32
  let v38 : BitVec 32 := Dev.word d38
  let c4_i32 : BitVec 32 := 4#32
  let v39 : BitVec 32 := Scalar.divsi v38 c4_i32
  let c2_i32 : BitVec 32 := 2#32
  let v40 : BitVec 32 := Scalar.remsi v39 c2_i32
  let v50 : BitVec 32 := Scalar.subi c1_i32_30 v40
  let v59 : BitVec 32 := Scalar.muli c2_i32_38 v50
  let c1_i32_31 : BitVec 32 := 1#32
  let v41 : BitVec 32 := Dev.word d38
  let c2_i32_24 : BitVec 32 := 2#32
  let v42 : BitVec 32 := Scalar.divsi v41 c2_i32_24
  let c2_i32_23 : BitVec 32 := 2#32
  let v43 : BitVec 32 := Scalar.remsi v42 c2_i32_23
  let v51 : BitVec 32 := Scalar.subi c1_i32_31 v43
  let v60 : BitVec 32 := Scalar.addi v59 v51
  let v44 : BitVec 32 := Dev.word d38
  let c1_i32_26 : BitVec 32 := 1#32
  let v45 : BitVec 32 := Scalar.divsi v44 c1_i32_26
  let c2_i32_25 : BitVec 32 := 2#32
  let v46 : BitVec 32 := Scalar.remsi v45 c2_i32_25
  let c2048_i32 : BitVec 32 := 2048#32
  let v56 : BitVec 32 := Scalar.muli v46 c2048_i32
  let c0_i32_36 : BitVec 32 := 0#32
  let v57 : BitVec 32 := Scalar.addi v56 c0_i32_36
  let v58 : BitVec 32 := Scalar.addi v57 c0_i32_37
  let c0_i32_45 : BitVec 32 := 0#32
  ![v60.toNat, v58.toNat, 0]
def k0_dev7 (d38 : Dev nD) : Nat :=
  let c0_i32_53 : BitVec 32 := 0#32
  let v38 : BitVec 32 := Dev.word d38
  let c4_i32 : BitVec 32 := 4#32
  let v39 : BitVec 32 := Scalar.divsi v38 c4_i32
  let c2_i32 : BitVec 32 := 2#32
  let v40 : BitVec 32 := Scalar.remsi v39 c2_i32
  let c4_i32_52 : BitVec 32 := 4#32
  let v78 : BitVec 32 := Scalar.muli v40 c4_i32_52
  let v79 : BitVec 32 := Scalar.addi c0_i32_53 v78
  let v41 : BitVec 32 := Dev.word d38
  let c2_i32_24 : BitVec 32 := 2#32
  let v42 : BitVec 32 := Scalar.divsi v41 c2_i32_24
  let c2_i32_23 : BitVec 32 := 2#32
  let v43 : BitVec 32 := Scalar.remsi v42 c2_i32_23
  let c2_i32_54 : BitVec 32 := 2#32
  let v80 : BitVec 32 := Scalar.muli v43 c2_i32_54
  let v81 : BitVec 32 := Scalar.addi v79 v80
  let c1_i32_27 : BitVec 32 := 1#32
  let v44 : BitVec 32 := Dev.word d38
  let c1_i32_26 : BitVec 32 := 1#32
  let v45 : BitVec 32 := Scalar.divsi v44 c1_i32_26
  let c2_i32_25 : BitVec 32 := 2#32
  let v46 : BitVec 32 := Scalar.remsi v45 c2_i32_25
  let v47 : BitVec 32 := Scalar.subi c1_i32_27 v46
  let c1_i32_55 : BitVec 32 := 1#32
  let v82 : BitVec 32 := Scalar.muli v47 c1_i32_55
  let v83 : BitVec 32 := Scalar.addi v81 v82
  v83.toNat
def k0_dev8 (d38 : Dev nD) : Nat :=
  let c0_i32_74 : BitVec 32 := 0#32
  let v38 : BitVec 32 := Dev.word d38
  let c4_i32 : BitVec 32 := 4#32
  let v39 : BitVec 32 := Scalar.divsi v38 c4_i32
  let c2_i32 : BitVec 32 := 2#32
  let v40 : BitVec 32 := Scalar.remsi v39 c2_i32
  let c4_i32_73 : BitVec 32 := 4#32
  let v114 : BitVec 32 := Scalar.muli v40 c4_i32_73
  let v115 : BitVec 32 := Scalar.addi c0_i32_74 v114
  let v41 : BitVec 32 := Dev.word d38
  let c2_i32_24 : BitVec 32 := 2#32
  let v42 : BitVec 32 := Scalar.divsi v41 c2_i32_24
  let c2_i32_23 : BitVec 32 := 2#32
  let v43 : BitVec 32 := Scalar.remsi v42 c2_i32_23
  let c2_i32_75 : BitVec 32 := 2#32
  let v116 : BitVec 32 := Scalar.muli v43 c2_i32_75
  let v117 : BitVec 32 := Scalar.addi v115 v116
  let c1_i32_27 : BitVec 32 := 1#32
  let v44 : BitVec 32 := Dev.word d38
  let c1_i32_26 : BitVec 32 := 1#32
  let v45 : BitVec 32 := Scalar.divsi v44 c1_i32_26
  let c2_i32_25 : BitVec 32 := 2#32
  let v46 : BitVec 32 := Scalar.remsi v45 c2_i32_25
  let v47 : BitVec 32 := Scalar.subi c1_i32_27 v46
  let c1_i32_76 : BitVec 32 := 1#32
  let v118 : BitVec 32 := Scalar.muli v47 c1_i32_76
  let v119 : BitVec 32 := Scalar.addi v117 v118
  v119.toNat
def k0_off8 (d38 : Dev nD) : Fin 3 → Nat :=
  let c2_i32_82 : BitVec 32 := 2#32
  let c1_i32_28 : BitVec 32 := 1#32
  let v38 : BitVec 32 := Dev.word d38
  let c4_i32 : BitVec 32 := 4#32
  let v39 : BitVec 32 := Scalar.divsi v38 c4_i32
  let c2_i32 : BitVec 32 := 2#32
  let v40 : BitVec 32 := Scalar.remsi v39 c2_i32
  let v48 : BitVec 32 := Scalar.subi c1_i32_28 v40
  let v131 : BitVec 32 := Scalar.muli c2_i32_82 v48
  let v41 : BitVec 32 := Dev.word d38
  let c2_i32_24 : BitVec 32 := 2#32
  let v42 : BitVec 32 := Scalar.divsi v41 c2_i32_24
  let c2_i32_23 : BitVec 32 := 2#32
  let v43 : BitVec 32 := Scalar.remsi v42 c2_i32_23
  let v132 : BitVec 32 := Scalar.addi v131 v43
  let c1_i32_32 : BitVec 32 := 1#32
  let v44 : BitVec 32 := Dev.word d38
  let c1_i32_26 : BitVec 32 := 1#32
  let v45 : BitVec 32 := Scalar.divsi v44 c1_i32_26
  let c2_i32_25 : BitVec 32 := 2#32
  let v46 : BitVec 32 := Scalar.remsi v45 c2_i32_25
  let v52 : BitVec 32 := Scalar.subi c1_i32_32 v46
  let c2048_i32_79 : BitVec 32 := 2048#32
  let v128 : BitVec 32 := Scalar.muli v52 c2048_i32_79
  let c0_i32_80 : BitVec 32 := 0#32
  let v129 : BitVec 32 := Scalar.addi v128 c0_i32_80
  let c0_i32_81 : BitVec 32 := 0#32
  let v130 : BitVec 32 := Scalar.addi v129 c0_i32_81
  let c0_i32_89 : BitVec 32 := 0#32
  ![v132.toNat, v130.toNat, 0]
def k0_off9 (d38 : Dev nD) : Fin 3 → Nat :=
  let c2_i32_94 : BitVec 32 := 2#32
  let v38 : BitVec 32 := Dev.word d38
  let c4_i32 : BitVec 32 := 4#32
  let v39 : BitVec 32 := Scalar.divsi v38 c4_i32
  let c2_i32 : BitVec 32 := 2#32
  let v40 : BitVec 32 := Scalar.remsi v39 c2_i32
  let v148 : BitVec 32 := Scalar.muli c2_i32_94 v40
  let c1_i32_29 : BitVec 32 := 1#32
  let v41 : BitVec 32 := Dev.word d38
  let c2_i32_24 : BitVec 32 := 2#32
  let v42 : BitVec 32 := Scalar.divsi v41 c2_i32_24
  let c2_i32_23 : BitVec 32 := 2#32
  let v43 : BitVec 32 := Scalar.remsi v42 c2_i32_23
  let v49 : BitVec 32 := Scalar.subi c1_i32_29 v43
  let v149 : BitVec 32 := Scalar.addi v148 v49
  let c1_i32_33 : BitVec 32 := 1#32
  let v44 : BitVec 32 := Dev.word d38
  let c1_i32_26 : BitVec 32 := 1#32
  let v45 : BitVec 32 := Scalar.divsi v44 c1_i32_26
  let c2_i32_25 : BitVec 32 := 2#32
  let v46 : BitVec 32 := Scalar.remsi v45 c2_i32_25
  let v53 : BitVec 32 := Scalar.subi c1_i32_33 v46
  let c2048_i32_91 : BitVec 32 := 2048#32
  let v145 : BitVec 32 := Scalar.muli v53 c2048_i32_91
  let c0_i32_92 : BitVec 32 := 0#32
  let v146 : BitVec 32 := Scalar.addi v145 c0_i32_92
  let c0_i32_93 : BitVec 32 := 0#32
  let v147 : BitVec 32 := Scalar.addi v146 c0_i32_93
  let c0_i32_100 : BitVec 32 := 0#32
  ![v149.toNat, v147.toNat, 0]
def k0_off10 (d38 : Dev nD) (c0_i32_104 : BitVec 32) : Fin 3 → Nat :=
  let c2_i32_105 : BitVec 32 := 2#32
  let c1_i32_30 : BitVec 32 := 1#32
  let v38 : BitVec 32 := Dev.word d38
  let c4_i32 : BitVec 32 := 4#32
  let v39 : BitVec 32 := Scalar.divsi v38 c4_i32
  let c2_i32 : BitVec 32 := 2#32
  let v40 : BitVec 32 := Scalar.remsi v39 c2_i32
  let v50 : BitVec 32 := Scalar.subi c1_i32_30 v40
  let v165 : BitVec 32 := Scalar.muli c2_i32_105 v50
  let c1_i32_31 : BitVec 32 := 1#32
  let v41 : BitVec 32 := Dev.word d38
  let c2_i32_24 : BitVec 32 := 2#32
  let v42 : BitVec 32 := Scalar.divsi v41 c2_i32_24
  let c2_i32_23 : BitVec 32 := 2#32
  let v43 : BitVec 32 := Scalar.remsi v42 c2_i32_23
  let v51 : BitVec 32 := Scalar.subi c1_i32_31 v43
  let v166 : BitVec 32 := Scalar.addi v165 v51
  let c1_i32_34 : BitVec 32 := 1#32
  let v44 : BitVec 32 := Dev.word d38
  let c1_i32_26 : BitVec 32 := 1#32
  let v45 : BitVec 32 := Scalar.divsi v44 c1_i32_26
  let c2_i32_25 : BitVec 32 := 2#32
  let v46 : BitVec 32 := Scalar.remsi v45 c2_i32_25
  let v54 : BitVec 32 := Scalar.subi c1_i32_34 v46
  let c2048_i32_102 : BitVec 32 := 2048#32
  let v162 : BitVec 32 := Scalar.muli v54 c2048_i32_102
  let c0_i32_103 : BitVec 32 := 0#32
  let v163 : BitVec 32 := Scalar.addi v162 c0_i32_103
  let v164 : BitVec 32 := Scalar.addi v163 c0_i32_104
  let c0_i32_112 : BitVec 32 := 0#32
  ![v166.toNat, v164.toNat, 0]
def k0_off11 (d38 : Dev nD) : Fin 2 → Nat :=
  let v44 : BitVec 32 := Dev.word d38
  let c1_i32_26 : BitVec 32 := 1#32
  let v45 : BitVec 32 := Scalar.divsi v44 c1_i32_26
  let c2_i32_25 : BitVec 32 := 2#32
  let v46 : BitVec 32 := Scalar.remsi v45 c2_i32_25
  let c2048_i32_126 : BitVec 32 := 2048#32
  let v196 : BitVec 32 := Scalar.muli v46 c2048_i32_126
  let c0_i32_127 : BitVec 32 := 0#32
  let v197 : BitVec 32 := Scalar.addi v196 c0_i32_127
  let c0_i32_128 : BitVec 32 := 0#32
  let v198 : BitVec 32 := Scalar.addi v197 c0_i32_128
  let c0_i32_133 : BitVec 32 := 0#32
  ![v198.toNat, 0]
def k0_off12 (d38 : Dev nD) : Fin 3 → Nat :=
  let c2_i32_129 : BitVec 32 := 2#32
  let v38 : BitVec 32 := Dev.word d38
  let c4_i32 : BitVec 32 := 4#32
  let v39 : BitVec 32 := Scalar.divsi v38 c4_i32
  let c2_i32 : BitVec 32 := 2#32
  let v40 : BitVec 32 := Scalar.remsi v39 c2_i32
  let v199 : BitVec 32 := Scalar.muli c2_i32_129 v40
  let v41 : BitVec 32 := Dev.word d38
  let c2_i32_24 : BitVec 32 := 2#32
  let v42 : BitVec 32 := Scalar.divsi v41 c2_i32_24
  let c2_i32_23 : BitVec 32 := 2#32
  let v43 : BitVec 32 := Scalar.remsi v42 c2_i32_23
  let v200 : BitVec 32 := Scalar.addi v199 v43
  let v44 : BitVec 32 := Dev.word d38
  let c1_i32_26 : BitVec 32 := 1#32
  let v45 : BitVec 32 := Scalar.divsi v44 c1_i32_26
  let c2_i32_25 : BitVec 32 := 2#32
  let v46 : BitVec 32 := Scalar.remsi v45 c2_i32_25
  let c2048_i32_126 : BitVec 32 := 2048#32
  let v196 : BitVec 32 := Scalar.muli v46 c2048_i32_126
  let c0_i32_127 : BitVec 32 := 0#32
  let v197 : BitVec 32 := Scalar.addi v196 c0_i32_127
  let c0_i32_128 : BitVec 32 := 0#32
  let v198 : BitVec 32 := Scalar.addi v197 c0_i32_128
  let c0_i32_134 : BitVec 32 := 0#32
  ![v200.toNat, v198.toNat, 0]
def k0_off13 (d38 : Dev nD) : Fin 3 → Nat :=
  let c2_i32_147 : BitVec 32 := 2#32
  let c1_i32_28 : BitVec 32 := 1#32
  let v38 : BitVec 32 := Dev.word d38
  let c4_i32 : BitVec 32 := 4#32
  let v39 : BitVec 32 := Scalar.divsi v38 c4_i32
  let c2_i32 : BitVec 32 := 2#32
  let v40 : BitVec 32 := Scalar.remsi v39 c2_i32
  let v48 : BitVec 32 := Scalar.subi c1_i32_28 v40
  let v219 : BitVec 32 := Scalar.muli c2_i32_147 v48
  let v41 : BitVec 32 := Dev.word d38
  let c2_i32_24 : BitVec 32 := 2#32
  let v42 : BitVec 32 := Scalar.divsi v41 c2_i32_24
  let c2_i32_23 : BitVec 32 := 2#32
  let v43 : BitVec 32 := Scalar.remsi v42 c2_i32_23
  let v220 : BitVec 32 := Scalar.addi v219 v43
  let v44 : BitVec 32 := Dev.word d38
  let c1_i32_26 : BitVec 32 := 1#32
  let v45 : BitVec 32 := Scalar.divsi v44 c1_i32_26
  let c2_i32_25 : BitVec 32 := 2#32
  let v46 : BitVec 32 := Scalar.remsi v45 c2_i32_25
  let c2048_i32_144 : BitVec 32 := 2048#32
  let v216 : BitVec 32 := Scalar.muli v46 c2048_i32_144
  let c0_i32_145 : BitVec 32 := 0#32
  let v217 : BitVec 32 := Scalar.addi v216 c0_i32_145
  let c0_i32_146 : BitVec 32 := 0#32
  let v218 : BitVec 32 := Scalar.addi v217 c0_i32_146
  let c0_i32_151 : BitVec 32 := 0#32
  ![v220.toNat, v218.toNat, 0]
def k0_off14 (d38 : Dev nD) : Fin 3 → Nat :=
  let c2_i32_156 : BitVec 32 := 2#32
  let v38 : BitVec 32 := Dev.word d38
  let c4_i32 : BitVec 32 := 4#32
  let v39 : BitVec 32 := Scalar.divsi v38 c4_i32
  let c2_i32 : BitVec 32 := 2#32
  let v40 : BitVec 32 := Scalar.remsi v39 c2_i32
  let v230 : BitVec 32 := Scalar.muli c2_i32_156 v40
  let c1_i32_29 : BitVec 32 := 1#32
  let v41 : BitVec 32 := Dev.word d38
  let c2_i32_24 : BitVec 32 := 2#32
  let v42 : BitVec 32 := Scalar.divsi v41 c2_i32_24
  let c2_i32_23 : BitVec 32 := 2#32
  let v43 : BitVec 32 := Scalar.remsi v42 c2_i32_23
  let v49 : BitVec 32 := Scalar.subi c1_i32_29 v43
  let v231 : BitVec 32 := Scalar.addi v230 v49
  let v44 : BitVec 32 := Dev.word d38
  let c1_i32_26 : BitVec 32 := 1#32
  let v45 : BitVec 32 := Scalar.divsi v44 c1_i32_26
  let c2_i32_25 : BitVec 32 := 2#32
  let v46 : BitVec 32 := Scalar.remsi v45 c2_i32_25
  let c2048_i32_153 : BitVec 32 := 2048#32
  let v227 : BitVec 32 := Scalar.muli v46 c2048_i32_153
  let c0_i32_154 : BitVec 32 := 0#32
  let v228 : BitVec 32 := Scalar.addi v227 c0_i32_154
  let c0_i32_155 : BitVec 32 := 0#32
  let v229 : BitVec 32 := Scalar.addi v228 c0_i32_155
  let c0_i32_160 : BitVec 32 := 0#32
  ![v231.toNat, v229.toNat, 0]
def k0_off15 (d38 : Dev nD) : Fin 3 → Nat :=
  let c2_i32_165 : BitVec 32 := 2#32
  let c1_i32_28 : BitVec 32 := 1#32
  let v38 : BitVec 32 := Dev.word d38
  let c4_i32 : BitVec 32 := 4#32
  let v39 : BitVec 32 := Scalar.divsi v38 c4_i32
  let c2_i32 : BitVec 32 := 2#32
  let v40 : BitVec 32 := Scalar.remsi v39 c2_i32
  let v48 : BitVec 32 := Scalar.subi c1_i32_28 v40
  let v241 : BitVec 32 := Scalar.muli c2_i32_165 v48
  let v41 : BitVec 32 := Dev.word d38
  let c2_i32_24 : BitVec 32 := 2#32
  let v42 : BitVec 32 := Scalar.divsi v41 c2_i32_24
  let c2_i32_23 : BitVec 32 := 2#32
  let v43 : BitVec 32 := Scalar.remsi v42 c2_i32_23
  let v242 : BitVec 32 := Scalar.addi v241 v43
  let v44 : BitVec 32 := Dev.word d38
  let c1_i32_26 : BitVec 32 := 1#32
  let v45 : BitVec 32 := Scalar.divsi v44 c1_i32_26
  let c2_i32_25 : BitVec 32 := 2#32
  let v46 : BitVec 32 := Scalar.remsi v45 c2_i32_25
  let c2048_i32_162 : BitVec 32 := 2048#32
  let v238 : BitVec 32 := Scalar.muli v46 c2048_i32_162
  let c0_i32_163 : BitVec 32 := 0#32
  let v239 : BitVec 32 := Scalar.addi v238 c0_i32_163
  let c0_i32_164 : BitVec 32 := 0#32
  let v240 : BitVec 32 := Scalar.addi v239 c0_i32_164
  let c0_i32_169 : BitVec 32 := 0#32
  ![v242.toNat, v240.toNat, 0]
def k0_off16 (d38 : Dev nD) : Fin 3 → Nat :=
  let c2_i32_174 : BitVec 32 := 2#32
  let v38 : BitVec 32 := Dev.word d38
  let c4_i32 : BitVec 32 := 4#32
  let v39 : BitVec 32 := Scalar.divsi v38 c4_i32
  let c2_i32 : BitVec 32 := 2#32
  let v40 : BitVec 32 := Scalar.remsi v39 c2_i32
  let v252 : BitVec 32 := Scalar.muli c2_i32_174 v40
  let c1_i32_29 : BitVec 32 := 1#32
  let v41 : BitVec 32 := Dev.word d38
  let c2_i32_24 : BitVec 32 := 2#32
  let v42 : BitVec 32 := Scalar.divsi v41 c2_i32_24
  let c2_i32_23 : BitVec 32 := 2#32
  let v43 : BitVec 32 := Scalar.remsi v42 c2_i32_23
  let v49 : BitVec 32 := Scalar.subi c1_i32_29 v43
  let v253 : BitVec 32 := Scalar.addi v252 v49
  let v44 : BitVec 32 := Dev.word d38
  let c1_i32_26 : BitVec 32 := 1#32
  let v45 : BitVec 32 := Scalar.divsi v44 c1_i32_26
  let c2_i32_25 : BitVec 32 := 2#32
  let v46 : BitVec 32 := Scalar.remsi v45 c2_i32_25
  let c2048_i32_171 : BitVec 32 := 2048#32
  let v249 : BitVec 32 := Scalar.muli v46 c2048_i32_171
  let c0_i32_172 : BitVec 32 := 0#32
  let v250 : BitVec 32 := Scalar.addi v249 c0_i32_172
  let c1024_i32_173 : BitVec 32 := 1024#32
  let v251 : BitVec 32 := Scalar.addi v250 c1024_i32_173
  let c0_i32_178 : BitVec 32 := 0#32
  ![v253.toNat, v251.toNat, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== FwReferenceIdeal.lean ====
abbrev S32768x4096 : Shape := ⟨2, ![32768, 4096]⟩
abbrev S4x4096x4096 : Shape := ⟨3, ![4, 4096, 4096]⟩
abbrev S16384x4096 : Shape := ⟨2, ![16384, 4096]⟩
abbrev S4096x4x4096 : Shape := ⟨3, ![4096, 4, 4096]⟩
abbrev S4096x16384 : Shape := ⟨2, ![4096, 16384]⟩
abbrev S32768x16384 : Shape := ⟨2, ![32768, 16384]⟩
abbrev S_ : Shape := ⟨0, ![]⟩

abbrev nBuf : Space → Nat
  | .hbm => 15
  | .vmem => 0
  | .smem => 0
  | _ => 0

abbrev bufTy : (tb : Table) → Fin (tcTables nBuf tb) → BufTy
  | .hbm, ⟨0, _⟩ => ⟨S32768x4096, .bf16⟩
  | .hbm, ⟨1, _⟩ => ⟨S4x4096x4096, .bf16⟩
  | .hbm, ⟨2, _⟩ => ⟨S16384x4096, .bf16⟩
  | .hbm, ⟨3, _⟩ => ⟨S4x4096x4096, .f32⟩
  | .hbm, ⟨4, _⟩ => ⟨S4096x4x4096, .f32⟩
  | .hbm, ⟨5, _⟩ => ⟨S4096x16384, .f32⟩
  | .hbm, ⟨6, _⟩ => ⟨S32768x4096, .f32⟩
  | .hbm, ⟨7, _⟩ => ⟨S32768x16384, .f32⟩
  | .hbm, ⟨8, _⟩ => ⟨S_, .f32⟩
  | .hbm, ⟨9, _⟩ => ⟨S32768x16384, .f32⟩
  | .hbm, ⟨10, _⟩ => ⟨S32768x16384, .f32⟩
  | .hbm, ⟨11, _⟩ => ⟨S32768x16384, .bf16⟩
  | .hbm, ⟨12, _⟩ => ⟨S32768x16384, .f32⟩
  | .hbm, ⟨13, _⟩ => ⟨S32768x16384, .bf16⟩
  | .hbm, ⟨14, _⟩ => ⟨S4x4096x4096, .bf16⟩
  | _, _ => ⟨S32768x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]
-- ==== OfKernel.lean ====
abbrev S4096x4096 : Shape := ⟨2, ![4096, 4096]⟩
abbrev S4x4096x4096 : Shape := ⟨3, ![4, 4096, 4096]⟩
abbrev S1024x4096 : Shape := ⟨2, ![1024, 4096]⟩
abbrev S4096x512 : Shape := ⟨2, ![4096, 512]⟩
abbrev S1024x512 : Shape := ⟨2, ![1024, 512]⟩
abbrev S8 : Shape := ⟨1, ![8]⟩
abbrev S1 : Shape := ⟨1, ![1]⟩
abbrev S_ : Shape := ⟨0, ![]⟩
abbrev S1x512x4096 : Shape := ⟨3, ![1, 512, 4096]⟩
abbrev S512x4096 : Shape := ⟨2, ![512, 4096]⟩
abbrev S1x256x4096 : Shape := ⟨3, ![1, 256, 4096]⟩
abbrev S256x4096 : Shape := ⟨2, ![256, 4096]⟩
abbrev S4x2x2048x4096 : Shape := ⟨4, ![4, 2, 2048, 4096]⟩
abbrev S4x2x512x4096 : Shape := ⟨4, ![4, 2, 512, 4096]⟩
abbrev S2x2048x4096 : Shape := ⟨3, ![2, 2048, 4096]⟩
abbrev S2x512x4096 : Shape := ⟨3, ![2, 512, 4096]⟩

abbrev nBuf : Space → Nat
  | .hbm => 34
  | .vmem => 8
  | .smem => 0
  | _ => 0

abbrev bufTy : (tb : Table) → Fin (tcTables nBuf tb) → BufTy
  | .hbm, ⟨0, _⟩ => ⟨S4096x4096, .bf16⟩
  | .hbm, ⟨1, _⟩ => ⟨S4096x4096, .bf16⟩
  | .hbm, ⟨2, _⟩ => ⟨S4096x4096, .f32⟩
  | .hbm, ⟨3, _⟩ => ⟨S4096x4096, .bf16⟩
  | .hbm, ⟨4, _⟩ => ⟨S4096x4096, .f32⟩
  | .hbm, ⟨5, _⟩ => ⟨S4x4096x4096, .bf16⟩
  | .hbm, ⟨6, _⟩ => ⟨S4x2x2048x4096, .bf16⟩
  | .hbm, ⟨7, _⟩ => ⟨S4x2x512x4096, .bf16⟩
  | .hbm, ⟨8, _⟩ => ⟨S2x2048x4096, .bf16⟩
  | .hbm, ⟨9, _⟩ => ⟨S2x512x4096, .bf16⟩
  | .hbm, ⟨10, _⟩ => ⟨S4x2x512x4096, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S_, .i32⟩
  | .hbm, ⟨22, _⟩ => ⟨S_, .i32⟩
  | .hbm, ⟨23, _⟩ => ⟨S_, .i32⟩
  | .hbm, ⟨24, _⟩ => ⟨S_, .i32⟩
  | .hbm, ⟨25, _⟩ => ⟨S_, .i32⟩
  | .hbm, ⟨26, _⟩ => ⟨S_, .i32⟩
  | .hbm, ⟨27, _⟩ => ⟨S_, .i32⟩
  | .hbm, ⟨28, _⟩ => ⟨S_, .i32⟩
  | .hbm, ⟨29, _⟩ => ⟨S_, .i32⟩
  | .hbm, ⟨30, _⟩ => ⟨S4x2x512x4096, .i32⟩
  | .hbm, ⟨31, _⟩ => ⟨S4x2x512x4096, .i1⟩
  | .hbm, ⟨32, _⟩ => ⟨S4x2x512x4096, .bf16⟩
  | .hbm, ⟨33, _⟩ => ⟨S4x2x512x4096, .bf16⟩
  | .local _ .vmem, ⟨0, _⟩ => ⟨S1024x4096, .bf16⟩
  | .local _ .vmem, ⟨1, _⟩ => ⟨S1024x4096, .bf16⟩
  | .local _ .vmem, ⟨2, _⟩ => ⟨S4096x512, .bf16⟩
  | .local _ .vmem, ⟨3, _⟩ => ⟨S4096x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1_0 : Ref sig .tc := ⟨.hbm, 4, rfl⟩
abbrev main_v1_1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c : Ref sig .tc := ⟨.hbm, 11, rfl⟩
abbrev main_c_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_c_1 : Ref sig .tc := ⟨.hbm, 17, rfl⟩
abbrev main_v11 : Ref sig .tc := ⟨.hbm, 18, rfl⟩
abbrev main_c_2 : Ref sig .tc := ⟨.hbm, 19, rfl⟩
abbrev main_v12 : Ref sig .tc := ⟨.hbm, 20, rfl⟩
abbrev main_c_3 : Ref sig .tc := ⟨.hbm, 21, rfl⟩
abbrev main_c_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_c_5 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 8
abbrev τ : Topo := Topo.v7x

variable {F : FTy → Type} [FloatOps F]

abbrev grid0 : Pipeline.Grid := ⟨3, ![4, 8, 1], ![false, false, false]⟩

def k0_cond1 (i : grid0.Coords) : BitVec 1 :=
  let c0_i32 : BitVec 32 := 0#32
  let arg0 : BitVec 32 := BitVec.ofNat 32 (i 0).val
  let v0 : BitVec 32 := Scalar.addi c0_i32 arg0
  let c8_i32 : BitVec 32 := 8#32
  let v1 : BitVec 32 := Scalar.muli v0 c8_i32
  let arg1 : BitVec 32 := BitVec.ofNat 32 (i 1).val
  let v2 : BitVec 32 := Scalar.addi v1 arg1
  let c1_i32 : BitVec 32 := 1#32
  let v3 : BitVec 32 := Scalar.muli v2 c1_i32
  let arg2 : BitVec 32 := BitVec.ofNat 32 (i 2).val
  let v4 : BitVec 32 := Scalar.addi v3 arg2
  let c0_i32_0 : BitVec 32 := 0#32
  let v5 : BitVec 1 := Scalar.cmpi .eq v4 c0_i32_0
  let v6 : BitVec 32 := Scalar.extui v5
  let c0_i32_1 : BitVec 32 := 0#32
  let v7 : BitVec 1 := Scalar.cmpi .ne v6 c0_i32_1
  v7

def k0_off1 (d23 : Dev nD) : Fin 3 → Nat :=
  let c2_i32_18 : BitVec 32 := 2#32
  let v23 : BitVec 32 := Dev.word d23
  let c4_i32 : BitVec 32 := 4#32
  let v24 : BitVec 32 := Scalar.divsi v23 c4_i32
  let c2_i32 : BitVec 32 := 2#32
  let v25 : BitVec 32 := Scalar.remsi v24 c2_i32
  let v37 : BitVec 32 := Scalar.muli c2_i32_18 v25
  let v26 : BitVec 32 := Dev.word d23
  let c2_i32_12 : BitVec 32 := 2#32
  let v27 : BitVec 32 := Scalar.divsi v26 c2_i32_12
  let c2_i32_11 : BitVec 32 := 2#32
  let v28 : BitVec 32 := Scalar.remsi v27 c2_i32_11
  let v38 : BitVec 32 := Scalar.addi v37 v28
  let v29 : BitVec 32 := Dev.word d23
  let c1_i32_14 : BitVec 32 := 1#32
  let v30 : BitVec 32 := Scalar.divsi v29 c1_i32_14
  let c2_i32_13 : BitVec 32 := 2#32
  let v31 : BitVec 32 := Scalar.remsi v30 c2_i32_13
  let c2048_i32 : BitVec 32 := 2048#32
  let v34 : BitVec 32 := Scalar.muli v31 c2048_i32
  let c1152_i32 : BitVec 32 := 1152#32
  let v35 : BitVec 32 := Scalar.addi v34 c1152_i32
  let c0_i32_17 : BitVec 32 := 0#32
  let v36 : BitVec 32 := Scalar.addi v35 c0_i32_17
  let c0_i32_25 : BitVec 32 := 0#32
  ![v38.toNat, v36.toNat, 0]
def k0_off2 (d23 : Dev nD) : Fin 2 → Nat :=
  let v29 : BitVec 32 := Dev.word d23
  let c1_i32_14 : BitVec 32 := 1#32
  let v30 : BitVec 32 := Scalar.divsi v29 c1_i32_14
  let c2_i32_13 : BitVec 32 := 2#32
  let v31 : BitVec 32 := Scalar.remsi v30 c2_i32_13
  let c2048_i32 : BitVec 32 := 2048#32
  let v34 : BitVec 32 := Scalar.muli v31 c2048_i32
  let c1152_i32 : BitVec 32 := 1152#32
  let v35 : BitVec 32 := Scalar.addi v34 c1152_i32
  let c0_i32_17 : BitVec 32 := 0#32
  let v36 : BitVec 32 := Scalar.addi v35 c0_i32_17
  let c0_i32_26 : BitVec 32 := 0#32
  ![v36.toNat, 0]
def k0_dev1 (d23 : Dev nD) : Nat :=
  let c0_i32_22 : BitVec 32 := 0#32
  let c1_i32_15 : BitVec 32 := 1#32
  let v23 : BitVec 32 := Dev.word d23
  let c4_i32 : BitVec 32 := 4#32
  let v24 : BitVec 32 := Scalar.divsi v23 c4_i32
  let c2_i32 : BitVec 32 := 2#32
  let v25 : BitVec 32 := Scalar.remsi v24 c2_i32
  let v32 : BitVec 32 := Scalar.subi c1_i32_15 v25
  let c4_i32_21 : BitVec 32 := 4#32
  let v39 : BitVec 32 := Scalar.muli v32 c4_i32_21
  let v40 : BitVec 32 := Scalar.addi c0_i32_22 v39
  let v26 : BitVec 32 := Dev.word d23
  let c2_i32_12 : BitVec 32 := 2#32
  let v27 : BitVec 32 := Scalar.divsi v26 c2_i32_12
  let c2_i32_11 : BitVec 32 := 2#32
  let v28 : BitVec 32 := Scalar.remsi v27 c2_i32_11
  let c2_i32_23 : BitVec 32 := 2#32
  let v41 : BitVec 32 := Scalar.muli v28 c2_i32_23
  let v42 : BitVec 32 := Scalar.addi v40 v41
  let v29 : BitVec 32 := Dev.word d23
  let c1_i32_14 : BitVec 32 := 1#32
  let v30 : BitVec 32 := Scalar.divsi v29 c1_i32_14
  let c2_i32_13 : BitVec 32 := 2#32
  let v31 : BitVec 32 := Scalar.remsi v30 c2_i32_13
  let c1_i32_24 : BitVec 32 := 1#32
  let v43 : BitVec 32 := Scalar.muli v31 c1_i32_24
  let v44 : BitVec 32 := Scalar.addi v42 v43
  v44.toNat
def k0_dev2 (d23 : Dev nD) : Nat :=
  let c0_i32_34 : BitVec 32 := 0#32
  let v23 : BitVec 32 := Dev.word d23
  let c4_i32 : BitVec 32 := 4#32
  let v24 : BitVec 32 := Scalar.divsi v23 c4_i32
  let c2_i32 : BitVec 32 := 2#32
  let v25 : BitVec 32 := Scalar.remsi v24 c2_i32
  let c4_i32_33 : BitVec 32 := 4#32
  let v57 : BitVec 32 := Scalar.muli v25 c4_i32_33
  let v58 : BitVec 32 := Scalar.addi c0_i32_34 v57
  let c1_i32_16 : BitVec 32 := 1#32
  let v26 : BitVec 32 := Dev.word d23
  let c2_i32_12 : BitVec 32 := 2#32
  let v27 : BitVec 32 := Scalar.divsi v26 c2_i32_12
  let c2_i32_11 : BitVec 32 := 2#32
  let v28 : BitVec 32 := Scalar.remsi v27 c2_i32_11
  let v33 : BitVec 32 := Scalar.subi c1_i32_16 v28
  let c2_i32_35 : BitVec 32 := 2#32
  let v59 : BitVec 32 := Scalar.muli v33 c2_i32_35
  let v60 : BitVec 32 := Scalar.addi v58 v59
  let v29 : BitVec 32 := Dev.word d23
  let c1_i32_14 : BitVec 32 := 1#32
  let v30 : BitVec 32 := Scalar.divsi v29 c1_i32_14
  let c2_i32_13 : BitVec 32 := 2#32
  let v31 : BitVec 32 := Scalar.remsi v30 c2_i32_13
  let c1_i32_36 : BitVec 32 := 1#32
  let v61 : BitVec 32 := Scalar.muli v31 c1_i32_36
  let v62 : BitVec 32 := Scalar.addi v60 v61
  v62.toNat
def k0_cond2 (i : grid0.Coords) : BitVec 1 :=
  let c0_i32 : BitVec 32 := 0#32
  let arg0 : BitVec 32 := BitVec.ofNat 32 (i 0).val
  let v0 : BitVec 32 := Scalar.addi c0_i32 arg0
  let c8_i32 : BitVec 32 := 8#32
  let v1 : BitVec 32 := Scalar.muli v0 c8_i32
  let arg1 : BitVec 32 := BitVec.ofNat 32 (i 1).val
  let v2 : BitVec 32 := Scalar.addi v1 arg1
  let c1_i32 : BitVec 32 := 1#32
  let v3 : BitVec 32 := Scalar.muli v2 c1_i32
  let arg2 : BitVec 32 := BitVec.ofNat 32 (i 2).val
  let v4 : BitVec 32 := Scalar.addi v3 arg2
  let c19_i32 : BitVec 32 := 19#32
  let v17 : BitVec 1 := Scalar.cmpi .eq v4 c19_i32
  let v18 : BitVec 32 := Scalar.extui v17
  let c0_i32_9 : BitVec 32 := 0#32
  let v19 : BitVec 1 := Scalar.cmpi .ne v18 c0_i32_9
  v19

def k0_off3 (d23 : Dev nD) : Fin 3 → Nat :=
  let c2_i32_19 : BitVec 32 := 2#32
  let c1_i32_16 : BitVec 32 := 1#32
  let v23 : BitVec 32 := Dev.word d23
  let c4_i32 : BitVec 32 := 4#32
  let v24 : BitVec 32 := Scalar.divsi v23 c4_i32
  let c2_i32 : BitVec 32 := 2#32
  let v25 : BitVec 32 := Scalar.remsi v24 c2_i32
  let v33 : BitVec 32 := Scalar.subi c1_i32_16 v25
  let v38 : BitVec 32 := Scalar.muli c2_i32_19 v33
  let v26 : BitVec 32 := Dev.word d23
  let c2_i32_12 : BitVec 32 := 2#32
  let v27 : BitVec 32 := Scalar.divsi v26 c2_i32_12
  let c2_i32_11 : BitVec 32 := 2#32
  let v28 : BitVec 32 := Scalar.remsi v27 c2_i32_11
  let v39 : BitVec 32 := Scalar.addi v38 v28
  let v29 : BitVec 32 := Dev.word d23
  let c1_i32_14 : BitVec 32 := 1#32
  let v30 : BitVec 32 := Scalar.divsi v29 c1_i32_14
  let c2_i32_13 : BitVec 32 := 2#32
  let v31 : BitVec 32 := Scalar.remsi v30 c2_i32_13
  let c2048_i32 : BitVec 32 := 2048#32
  let v35 : BitVec 32 := Scalar.muli v31 c2048_i32
  let c1152_i32 : BitVec 32 := 1152#32
  let v36 : BitVec 32 := Scalar.addi v35 c1152_i32
  let c0_i32_18 : BitVec 32 := 0#32
  let v37 : BitVec 32 := Scalar.addi v36 c0_i32_18
  let c0_i32_26 : BitVec 32 := 0#32
  ![v39.toNat, v37.toNat, 0]
def k0_off4 (d23 : Dev nD) : Fin 3 → Nat :=
  let c2_i32_31 : BitVec 32 := 2#32
  let c1_i32_16 : BitVec 32 := 1#32
  let v23 : BitVec 32 := Dev.word d23
  let c4_i32 : BitVec 32 := 4#32
  let v24 : BitVec 32 := Scalar.divsi v23 c4_i32
  let c2_i32 : BitVec 32 := 2#32
  let v25 : BitVec 32 := Scalar.remsi v24 c2_i32
  let v33 : BitVec 32 := Scalar.subi c1_i32_16 v25
  let v55 : BitVec 32 := Scalar.muli c2_i32_31 v33
  let v26 : BitVec 32 := Dev.word d23
  let c2_i32_12 : BitVec 32 := 2#32
  let v27 : BitVec 32 := Scalar.divsi v26 c2_i32_12
  let c2_i32_11 : BitVec 32 := 2#32
  let v28 : BitVec 32 := Scalar.remsi v27 c2_i32_11
  let v56 : BitVec 32 := Scalar.addi v55 v28
  let v29 : BitVec 32 := Dev.word d23
  let c1_i32_14 : BitVec 32 := 1#32
  let v30 : BitVec 32 := Scalar.divsi v29 c1_i32_14
  let c2_i32_13 : BitVec 32 := 2#32
  let v31 : BitVec 32 := Scalar.remsi v30 c2_i32_13
  let c2048_i32_28 : BitVec 32 := 2048#32
  let v52 : BitVec 32 := Scalar.muli v31 c2048_i32_28
  let c1152_i32_29 : BitVec 32 := 1152#32
  let v53 : BitVec 32 := Scalar.addi v52 c1152_i32_29
  let c0_i32_30 : BitVec 32 := 0#32
  let v54 : BitVec 32 := Scalar.addi v53 c0_i32_30
  let c0_i32_38 : BitVec 32 := 0#32
  ![v56.toNat, v54.toNat, 0]
def k0_dev3 (d23 : Dev nD) : Nat :=
  let c0_i32_35 : BitVec 32 := 0#32
  let v23 : BitVec 32 := Dev.word d23
  let c4_i32 : BitVec 32 := 4#32
  let v24 : BitVec 32 := Scalar.divsi v23 c4_i32
  let c2_i32 : BitVec 32 := 2#32
  let v25 : BitVec 32 := Scalar.remsi v24 c2_i32
  let c4_i32_34 : BitVec 32 := 4#32
  let v57 : BitVec 32 := Scalar.muli v25 c4_i32_34
  let v58 : BitVec 32 := Scalar.addi c0_i32_35 v57
  let c1_i32_17 : BitVec 32 := 1#32
  let v26 : BitVec 32 := Dev.word d23
  let c2_i32_12 : BitVec 32 := 2#32
  let v27 : BitVec 32 := Scalar.divsi v26 c2_i32_12
  let c2_i32_11 : BitVec 32 := 2#32
  let v28 : BitVec 32 := Scalar.remsi v27 c2_i32_11
  let v34 : BitVec 32 := Scalar.subi c1_i32_17 v28
  let c2_i32_36 : BitVec 32 := 2#32
  let v59 : BitVec 32 := Scalar.muli v34 c2_i32_36
  let v60 : BitVec 32 := Scalar.addi v58 v59
  let v29 : BitVec 32 := Dev.word d23
  let c1_i32_14 : BitVec 32 := 1#32
  let v30 : BitVec 32 := Scalar.divsi v29 c1_i32_14
  let c2_i32_13 : BitVec 32 := 2#32
  let v31 : BitVec 32 := Scalar.remsi v30 c2_i32_13
  let c1_i32_37 : BitVec 32 := 1#32
  let v61 : BitVec 32 := Scalar.muli v31 c1_i32_37
  let v62 : BitVec 32 := Scalar.addi v60 v61
  v62.toNat
def k0_dev4 (d23 : Dev nD) : Nat :=
  let c0_i32_47 : BitVec 32 := 0#32
  let v23 : BitVec 32 := Dev.word d23
  let c4_i32 : BitVec 32 := 4#32
  let v24 : BitVec 32 := Scalar.divsi v23 c4_i32
  let c2_i32 : BitVec 32 := 2#32
  let v25 : BitVec 32 := Scalar.remsi v24 c2_i32
  let c4_i32_46 : BitVec 32 := 4#32
  let v76 : BitVec 32 := Scalar.muli v25 c4_i32_46
  let v77 : BitVec 32 := Scalar.addi c0_i32_47 v76
  let v26 : BitVec 32 := Dev.word d23
  let c2_i32_12 : BitVec 32 := 2#32
  let v27 : BitVec 32 := Scalar.divsi v26 c2_i32_12
  let c2_i32_11 : BitVec 32 := 2#32
  let v28 : BitVec 32 := Scalar.remsi v27 c2_i32_11
  let c2_i32_48 : BitVec 32 := 2#32
  let v78 : BitVec 32 := Scalar.muli v28 c2_i32_48
  let v79 : BitVec 32 := Scalar.addi v77 v78
  let c1_i32_15 : BitVec 32 := 1#32
  let v29 : BitVec 32 := Dev.word d23
  let c1_i32_14 : BitVec 32 := 1#32
  let v30 : BitVec 32 := Scalar.divsi v29 c1_i32_14
  let c2_i32_13 : BitVec 32 := 2#32
  let v31 : BitVec 32 := Scalar.remsi v30 c2_i32_13
  let v32 : BitVec 32 := Scalar.subi c1_i32_15 v31
  let c1_i32_49 : BitVec 32 := 1#32
  let v80 : BitVec 32 := Scalar.muli v32 c1_i32_49
  let v81 : BitVec 32 := Scalar.addi v79 v80
  v81.toNat
def k0_off5 (d23 : Dev nD) : Fin 3 → Nat :=
  let c2_i32_55 : BitVec 32 := 2#32
  let v23 : BitVec 32 := Dev.word d23
  let c4_i32 : BitVec 32 := 4#32
  let v24 : BitVec 32 := Scalar.divsi v23 c4_i32
  let c2_i32 : BitVec 32 := 2#32
  let v25 : BitVec 32 := Scalar.remsi v24 c2_i32
  let v93 : BitVec 32 := Scalar.muli c2_i32_55 v25
  let c1_i32_17 : BitVec 32 := 1#32
  let v26 : BitVec 32 := Dev.word d23
  let c2_i32_12 : BitVec 32 := 2#32
  let v27 : BitVec 32 := Scalar.divsi v26 c2_i32_12
  let c2_i32_11 : BitVec 32 := 2#32
  let v28 : BitVec 32 := Scalar.remsi v27 c2_i32_11
  let v34 : BitVec 32 := Scalar.subi c1_i32_17 v28
  let v94 : BitVec 32 := Scalar.addi v93 v34
  let v29 : BitVec 32 := Dev.word d23
  let c1_i32_14 : BitVec 32 := 1#32
  let v30 : BitVec 32 := Scalar.divsi v29 c1_i32_14
  let c2_i32_13 : BitVec 32 := 2#32
  let v31 : BitVec 32 := Scalar.remsi v30 c2_i32_13
  let c2048_i32_52 : BitVec 32 := 2048#32
  let v90 : BitVec 32 := Scalar.muli v31 c2048_i32_52
  let c1152_i32_53 : BitVec 32 := 1152#32
  let v91 : BitVec 32 := Scalar.addi v90 c1152_i32_53
  let c0_i32_54 : BitVec 32 := 0#32
  let v92 : BitVec 32 := Scalar.addi v91 c0_i32_54
  let c0_i32_62 : BitVec 32 := 0#32
  ![v94.toNat, v92.toNat, 0]
def k0_off6 (d23 : Dev nD) : Fin 3 → Nat :=
  let c2_i32_66 : BitVec 32 := 2#32
  let v23 : BitVec 32 := Dev.word d23
  let c4_i32 : BitVec 32 := 4#32
  let v24 : BitVec 32 := Scalar.divsi v23 c4_i32
  let c2_i32 : BitVec 32 := 2#32
  let v25 : BitVec 32 := Scalar.remsi v24 c2_i32
  let v110 : BitVec 32 := Scalar.muli c2_i32_66 v25
  let c1_i32_17 : BitVec 32 := 1#32
  let v26 : BitVec 32 := Dev.word d23
  let c2_i32_12 : BitVec 32 := 2#32
  let v27 : BitVec 32 := Scalar.divsi v26 c2_i32_12
  let c2_i32_11 : BitVec 32 := 2#32
  let v28 : BitVec 32 := Scalar.remsi v27 c2_i32_11
  let v34 : BitVec 32 := Scalar.subi c1_i32_17 v28
  let v111 : BitVec 32 := Scalar.addi v110 v34
  let v29 : BitVec 32 := Dev.word d23
  let c1_i32_14 : BitVec 32 := 1#32
  let v30 : BitVec 32 := Scalar.divsi v29 c1_i32_14
  let c2_i32_13 : BitVec 32 := 2#32
  let v31 : BitVec 32 := Scalar.remsi v30 c2_i32_13
  let c2048_i32_64 : BitVec 32 := 2048#32
  let v107 : BitVec 32 := Scalar.muli v31 c2048_i32_64
  let c1152_i32_65 : BitVec 32 := 1152#32
  let v108 : BitVec 32 := Scalar.addi v107 c1152_i32_65
  let c256_i32 : BitVec 32 := 256#32
  let v109 : BitVec 32 := Scalar.addi v108 c256_i32
  let c0_i32_72 : BitVec 32 := 0#32
  ![v111.toNat, v109.toNat, 0]
def k0_dev5 (d23 : Dev nD) : Nat :=
  let c0_i32_69 : BitVec 32 := 0#32
  let c1_i32_16 : BitVec 32 := 1#32
  let v23 : BitVec 32 := Dev.word d23
  let c4_i32 : BitVec 32 := 4#32
  let v24 : BitVec 32 := Scalar.divsi v23 c4_i32
  let c2_i32 : BitVec 32 := 2#32
  let v25 : BitVec 32 := Scalar.remsi v24 c2_i32
  let v33 : BitVec 32 := Scalar.subi c1_i32_16 v25
  let c4_i32_68 : BitVec 32 := 4#32
  let v112 : BitVec 32 := Scalar.muli v33 c4_i32_68
  let v113 : BitVec 32 := Scalar.addi c0_i32_69 v112
  let v26 : BitVec 32 := Dev.word d23
  let c2_i32_12 : BitVec 32 := 2#32
  let v27 : BitVec 32 := Scalar.divsi v26 c2_i32_12
  let c2_i32_11 : BitVec 32 := 2#32
  let v28 : BitVec 32 := Scalar.remsi v27 c2_i32_11
  let c2_i32_70 : BitVec 32 := 2#32
  let v114 : BitVec 32 := Scalar.muli v28 c2_i32_70
  let v115 : BitVec 32 := Scalar.addi v113 v114
  let v29 : BitVec 32 := Dev.word d23
  let c1_i32_14 : BitVec 32 := 1#32
  let v30 : BitVec 32 := Scalar.divsi v29 c1_i32_14
  let c2_i32_13 : BitVec 32 := 2#32
  let v31 : BitVec 32 := Scalar.remsi v30 c2_i32_13
  let c1_i32_71 : BitVec 32 := 1#32
  let v116 : BitVec 32 := Scalar.muli v31 c1_i32_71
  let v117 : BitVec 32 := Scalar.addi v115 v116
  v117.toNat
def k0_dev6 (d23 : Dev nD) : Nat :=
  let c0_i32_80 : BitVec 32 := 0#32
  let v23 : BitVec 32 := Dev.word d23
  let c4_i32 : BitVec 32 := 4#32
  let v24 : BitVec 32 := Scalar.divsi v23 c4_i32
  let c2_i32 : BitVec 32 := 2#32
  let v25 : BitVec 32 := Scalar.remsi v24 c2_i32
  let c4_i32_79 : BitVec 32 := 4#32
  let v131 : BitVec 32 := Scalar.muli v25 c4_i32_79
  let v132 : BitVec 32 := Scalar.addi c0_i32_80 v131
  let v26 : BitVec 32 := Dev.word d23
  let c2_i32_12 : BitVec 32 := 2#32
  let v27 : BitVec 32 := Scalar.divsi v26 c2_i32_12
  let c2_i32_11 : BitVec 32 := 2#32
  let v28 : BitVec 32 := Scalar.remsi v27 c2_i32_11
  let c2_i32_81 : BitVec 32 := 2#32
  let v133 : BitVec 32 := Scalar.muli v28 c2_i32_81
  let v134 : BitVec 32 := Scalar.addi v132 v133
  let c1_i32_15 : BitVec 32 := 1#32
  let v29 : BitVec 32 := Dev.word d23
  let c1_i32_14 : BitVec 32 := 1#32
  let v30 : BitVec 32 := Scalar.divsi v29 c1_i32_14
  let c2_i32_13 : BitVec 32 := 2#32
  let v31 : BitVec 32 := Scalar.remsi v30 c2_i32_13
  let v32 : BitVec 32 := Scalar.subi c1_i32_15 v31
  let c1_i32_82 : BitVec 32 := 1#32
  let v135 : BitVec 32 := Scalar.muli v32 c1_i32_82
  let v136 : BitVec 32 := Scalar.addi v134 v135
  v136.toNat
def k0_cond3 (i : grid0.Coords) : BitVec 1 :=
  let c0_i32 : BitVec 32 := 0#32
  let arg0 : BitVec 32 := BitVec.ofNat 32 (i 0).val
  let v0 : BitVec 32 := Scalar.addi c0_i32 arg0
  let c8_i32 : BitVec 32 := 8#32
  let v1 : BitVec 32 := Scalar.muli v0 c8_i32
  let arg1 : BitVec 32 := BitVec.ofNat 32 (i 1).val
  let v2 : BitVec 32 := Scalar.addi v1 arg1
  let c1_i32 : BitVec 32 := 1#32
  let v3 : BitVec 32 := Scalar.muli v2 c1_i32
  let arg2 : BitVec 32 := BitVec.ofNat 32 (i 2).val
  let v4 : BitVec 32 := Scalar.addi v3 arg2
  let c31_i32 : BitVec 32 := 31#32
  let v20 : BitVec 1 := Scalar.cmpi .eq v4 c31_i32
  let v21 : BitVec 32 := Scalar.extui v20
  let c0_i32_10 : BitVec 32 := 0#32
  let v22 : BitVec 1 := Scalar.cmpi .ne v21 c0_i32_10
  v22

def k0_off7 (d23 : Dev nD) (c0_i32_24 : BitVec 32) : Fin 3 → Nat :=
  let c2_i32_25 : BitVec 32 := 2#32
  let c1_i32_18 : BitVec 32 := 1#32
  let v23 : BitVec 32 := Dev.word d23
  let c4_i32 : BitVec 32 := 4#32
  let v24 : BitVec 32 := Scalar.divsi v23 c4_i32
  let c2_i32 : BitVec 32 := 2#32
  let v25 : BitVec 32 := Scalar.remsi v24 c2_i32
  let v35 : BitVec 32 := Scalar.subi c1_i32_18 v25
  let v44 : BitVec 32 := Scalar.muli c2_i32_25 v35
  let c1_i32_19 : BitVec 32 := 1#32
  let v26 : BitVec 32 := Dev.word d23
  let c2_i32_12 : BitVec 32 := 2#32
  let v27 : BitVec 32 := Scalar.divsi v26 c2_i32_12
  let c2_i32_11 : BitVec 32 := 2#32
  let v28 : BitVec 32 := Scalar.remsi v27 c2_i32_11
  let v36 : BitVec 32 := Scalar.subi c1_i32_19 v28
  let v45 : BitVec 32 := Scalar.addi v44 v36
  let v29 : BitVec 32 := Dev.word d23
  let c1_i32_14 : BitVec 32 := 1#32
  let v30 : BitVec 32 := Scalar.divsi v29 c1_i32_14
  let c2_i32_13 : BitVec 32 := 2#32
  let v31 : BitVec 32 := Scalar.remsi v30 c2_i32_13
  let c2048_i32 : BitVec 32 := 2048#32
  let v41 : BitVec 32 := Scalar.muli v31 c2048_i32
  let c1152_i32 : BitVec 32 := 1152#32
  let v42 : BitVec 32 := Scalar.addi v41 c1152_i32
  let v43 : BitVec 32 := Scalar.addi v42 c0_i32_24
  let c0_i32_32 : BitVec 32 := 0#32
  ![v45.toNat, v43.toNat, 0]
def k0_dev7 (d23 : Dev nD) : Nat :=
  let c0_i32_40 : BitVec 32 := 0#32
  let v23 : BitVec 32 := Dev.word d23
  let c4_i32 : BitVec 32 := 4#32
  let v24 : BitVec 32 := Scalar.divsi v23 c4_i32
  let c2_i32 : BitVec 32 := 2#32
  let v25 : BitVec 32 := Scalar.remsi v24 c2_i32
  let c4_i32_39 : BitVec 32 := 4#32
  let v63 : BitVec 32 := Scalar.muli v25 c4_i32_39
  let v64 : BitVec 32 := Scalar.addi c0_i32_40 v63
  let v26 : BitVec 32 := Dev.word d23
  let c2_i32_12 : BitVec 32 := 2#32
  let v27 : BitVec 32 := Scalar.divsi v26 c2_i32_12
  let c2_i32_11 : BitVec 32 := 2#32
  let v28 : BitVec 32 := Scalar.remsi v27 c2_i32_11
  let c2_i32_41 : BitVec 32 := 2#32
  let v65 : BitVec 32 := Scalar.muli v28 c2_i32_41
  let v66 : BitVec 32 := Scalar.addi v64 v65
  let c1_i32_15 : BitVec 32 := 1#32
  let v29 : BitVec 32 := Dev.word d23
  let c1_i32_14 : BitVec 32 := 1#32
  let v30 : BitVec 32 := Scalar.divsi v29 c1_i32_14
  let c2_i32_13 : BitVec 32 := 2#32
  let v31 : BitVec 32 := Scalar.remsi v30 c2_i32_13
  let v32 : BitVec 32 := Scalar.subi c1_i32_15 v31
  let c1_i32_42 : BitVec 32 := 1#32
  let v67 : BitVec 32 := Scalar.muli v32 c1_i32_42
  let v68 : BitVec 32 := Scalar.addi v66 v67
  v68.toNat
def k0_dev8 (d23 : Dev nD) : Nat :=
  let c0_i32_61 : BitVec 32 := 0#32
  let v23 : BitVec 32 := Dev.word d23
  let c4_i32 : BitVec 32 := 4#32
  let v24 : BitVec 32 := Scalar.divsi v23 c4_i32
  let c2_i32 : BitVec 32 := 2#32
  let v25 : BitVec 32 := Scalar.remsi v24 c2_i32
  let c4_i32_60 : BitVec 32 := 4#32
  let v99 : BitVec 32 := Scalar.muli v25 c4_i32_60
  let v100 : BitVec 32 := Scalar.addi c0_i32_61 v99
  let v26 : BitVec 32 := Dev.word d23
  let c2_i32_12 : BitVec 32 := 2#32
  let v27 : BitVec 32 := Scalar.divsi v26 c2_i32_12
  let c2_i32_11 : BitVec 32 := 2#32
  let v28 : BitVec 32 := Scalar.remsi v27 c2_i32_11
  let c2_i32_62 : BitVec 32 := 2#32
  let v101 : BitVec 32 := Scalar.muli v28 c2_i32_62
  let v102 : BitVec 32 := Scalar.addi v100 v101
  let c1_i32_15 : BitVec 32 := 1#32
  let v29 : BitVec 32 := Dev.word d23
  let c1_i32_14 : BitVec 32 := 1#32
  let v30 : BitVec 32 := Scalar.divsi v29 c1_i32_14
  let c2_i32_13 : BitVec 32 := 2#32
  let v31 : BitVec 32 := Scalar.remsi v30 c2_i32_13
  let v32 : BitVec 32 := Scalar.subi c1_i32_15 v31
  let c1_i32_63 : BitVec 32 := 1#32
  let v103 : BitVec 32 := Scalar.muli v32 c1_i32_63
  let v104 : BitVec 32 := Scalar.addi v102 v103
  v104.toNat
def k0_off8 (d23 : Dev nD) : Fin 3 → Nat :=
  let c2_i32_69 : BitVec 32 := 2#32
  let c1_i32_16 : BitVec 32 := 1#32
  let v23 : BitVec 32 := Dev.word d23
  let c4_i32 : BitVec 32 := 4#32
  let v24 : BitVec 32 := Scalar.divsi v23 c4_i32
  let c2_i32 : BitVec 32 := 2#32
  let v25 : BitVec 32 := Scalar.remsi v24 c2_i32
  let v33 : BitVec 32 := Scalar.subi c1_i32_16 v25
  let v116 : BitVec 32 := Scalar.muli c2_i32_69 v33
  let v26 : BitVec 32 := Dev.word d23
  let c2_i32_12 : BitVec 32 := 2#32
  let v27 : BitVec 32 := Scalar.divsi v26 c2_i32_12
  let c2_i32_11 : BitVec 32 := 2#32
  let v28 : BitVec 32 := Scalar.remsi v27 c2_i32_11
  let v117 : BitVec 32 := Scalar.addi v116 v28
  let c1_i32_20 : BitVec 32 := 1#32
  let v29 : BitVec 32 := Dev.word d23
  let c1_i32_14 : BitVec 32 := 1#32
  let v30 : BitVec 32 := Scalar.divsi v29 c1_i32_14
  let c2_i32_13 : BitVec 32 := 2#32
  let v31 : BitVec 32 := Scalar.remsi v30 c2_i32_13
  let v37 : BitVec 32 := Scalar.subi c1_i32_20 v31
  let c2048_i32_66 : BitVec 32 := 2048#32
  let v113 : BitVec 32 := Scalar.muli v37 c2048_i32_66
  let c1152_i32_67 : BitVec 32 := 1152#32
  let v114 : BitVec 32 := Scalar.addi v113 c1152_i32_67
  let c0_i32_68 : BitVec 32 := 0#32
  let v115 : BitVec 32 := Scalar.addi v114 c0_i32_68
  let c0_i32_76 : BitVec 32 := 0#32
  ![v117.toNat, v115.toNat, 0]
def k0_off9 (d23 : Dev nD) : Fin 3 → Nat :=
  let c2_i32_81 : BitVec 32 := 2#32
  let v23 : BitVec 32 := Dev.word d23
  let c4_i32 : BitVec 32 := 4#32
  let v24 : BitVec 32 := Scalar.divsi v23 c4_i32
  let c2_i32 : BitVec 32 := 2#32
  let v25 : BitVec 32 := Scalar.remsi v24 c2_i32
  let v133 : BitVec 32 := Scalar.muli c2_i32_81 v25
  let c1_i32_17 : BitVec 32 := 1#32
  let v26 : BitVec 32 := Dev.word d23
  let c2_i32_12 : BitVec 32 := 2#32
  let v27 : BitVec 32 := Scalar.divsi v26 c2_i32_12
  let c2_i32_11 : BitVec 32 := 2#32
  let v28 : BitVec 32 := Scalar.remsi v27 c2_i32_11
  let v34 : BitVec 32 := Scalar.subi c1_i32_17 v28
  let v134 : BitVec 32 := Scalar.addi v133 v34
  let c1_i32_21 : BitVec 32 := 1#32
  let v29 : BitVec 32 := Dev.word d23
  let c1_i32_14 : BitVec 32 := 1#32
  let v30 : BitVec 32 := Scalar.divsi v29 c1_i32_14
  let c2_i32_13 : BitVec 32 := 2#32
  let v31 : BitVec 32 := Scalar.remsi v30 c2_i32_13
  let v38 : BitVec 32 := Scalar.subi c1_i32_21 v31
  let c2048_i32_78 : BitVec 32 := 2048#32
  let v130 : BitVec 32 := Scalar.muli v38 c2048_i32_78
  let c1152_i32_79 : BitVec 32 := 1152#32
  let v131 : BitVec 32 := Scalar.addi v130 c1152_i32_79
  let c0_i32_80 : BitVec 32 := 0#32
  let v132 : BitVec 32 := Scalar.addi v131 c0_i32_80
  let c0_i32_87 : BitVec 32 := 0#32
  ![v134.toNat, v132.toNat, 0]
def k0_off10 (d23 : Dev nD) (c0_i32_91 : BitVec 32) : Fin 3 → Nat :=
  let c2_i32_92 : BitVec 32 := 2#32
  let c1_i32_18 : BitVec 32 := 1#32
  let v23 : BitVec 32 := Dev.word d23
  let c4_i32 : BitVec 32 := 4#32
  let v24 : BitVec 32 := Scalar.divsi v23 c4_i32
  let c2_i32 : BitVec 32 := 2#32
  let v25 : BitVec 32 := Scalar.remsi v24 c2_i32
  let v35 : BitVec 32 := Scalar.subi c1_i32_18 v25
  let v150 : BitVec 32 := Scalar.muli c2_i32_92 v35
  let c1_i32_19 : BitVec 32 := 1#32
  let v26 : BitVec 32 := Dev.word d23
  let c2_i32_12 : BitVec 32 := 2#32
  let v27 : BitVec 32 := Scalar.divsi v26 c2_i32_12
  let c2_i32_11 : BitVec 32 := 2#32
  let v28 : BitVec 32 := Scalar.remsi v27 c2_i32_11
  let v36 : BitVec 32 := Scalar.subi c1_i32_19 v28
  let v151 : BitVec 32 := Scalar.addi v150 v36
  let c1_i32_22 : BitVec 32 := 1#32
  let v29 : BitVec 32 := Dev.word d23
  let c1_i32_14 : BitVec 32 := 1#32
  let v30 : BitVec 32 := Scalar.divsi v29 c1_i32_14
  let c2_i32_13 : BitVec 32 := 2#32
  let v31 : BitVec 32 := Scalar.remsi v30 c2_i32_13
  let v39 : BitVec 32 := Scalar.subi c1_i32_22 v31
  let c2048_i32_89 : BitVec 32 := 2048#32
  let v147 : BitVec 32 := Scalar.muli v39 c2048_i32_89
  let c1152_i32_90 : BitVec 32 := 1152#32
  let v148 : BitVec 32 := Scalar.addi v147 c1152_i32_90
  let v149 : BitVec 32 := Scalar.addi v148 c0_i32_91
  let c0_i32_99 : BitVec 32 := 0#32
  ![v151.toNat, v149.toNat, 0]
def k0_off11 (d23 : Dev nD) : Fin 2 → Nat :=
  let v29 : BitVec 32 := Dev.word d23
  let c1_i32_14 : BitVec 32 := 1#32
  let v30 : BitVec 32 := Scalar.divsi v29 c1_i32_14
  let c2_i32_13 : BitVec 32 := 2#32
  let v31 : BitVec 32 := Scalar.remsi v30 c2_i32_13
  let c2048_i32_113 : BitVec 32 := 2048#32
  let v181 : BitVec 32 := Scalar.muli v31 c2048_i32_113
  let c1152_i32_114 : BitVec 32 := 1152#32
  let v182 : BitVec 32 := Scalar.addi v181 c1152_i32_114
  let c0_i32_115 : BitVec 32 := 0#32
  let v183 : BitVec 32 := Scalar.addi v182 c0_i32_115
  let c0_i32_120 : BitVec 32 := 0#32
  ![v183.toNat, 0]
def k0_off12 (d23 : Dev nD) : Fin 3 → Nat :=
  let c2_i32_116 : BitVec 32 := 2#32
  let v23 : BitVec 32 := Dev.word d23
  let c4_i32 : BitVec 32 := 4#32
  let v24 : BitVec 32 := Scalar.divsi v23 c4_i32
  let c2_i32 : BitVec 32 := 2#32
  let v25 : BitVec 32 := Scalar.remsi v24 c2_i32
  let v184 : BitVec 32 := Scalar.muli c2_i32_116 v25
  let v26 : BitVec 32 := Dev.word d23
  let c2_i32_12 : BitVec 32 := 2#32
  let v27 : BitVec 32 := Scalar.divsi v26 c2_i32_12
  let c2_i32_11 : BitVec 32 := 2#32
  let v28 : BitVec 32 := Scalar.remsi v27 c2_i32_11
  let v185 : BitVec 32 := Scalar.addi v184 v28
  let v29 : BitVec 32 := Dev.word d23
  let c1_i32_14 : BitVec 32 := 1#32
  let v30 : BitVec 32 := Scalar.divsi v29 c1_i32_14
  let c2_i32_13 : BitVec 32 := 2#32
  let v31 : BitVec 32 := Scalar.remsi v30 c2_i32_13
  let c2048_i32_113 : BitVec 32 := 2048#32
  let v181 : BitVec 32 := Scalar.muli v31 c2048_i32_113
  let c1152_i32_114 : BitVec 32 := 1152#32
  let v182 : BitVec 32 := Scalar.addi v181 c1152_i32_114
  let c0_i32_115 : BitVec 32 := 0#32
  let v183 : BitVec 32 := Scalar.addi v182 c0_i32_115
  let c0_i32_121 : BitVec 32 := 0#32
  ![v185.toNat, v183.toNat, 0]
def k0_off13 (d23 : Dev nD) : Fin 3 → Nat :=
  let c2_i32_134 : BitVec 32 := 2#32
  let c1_i32_16 : BitVec 32 := 1#32
  let v23 : BitVec 32 := Dev.word d23
  let c4_i32 : BitVec 32 := 4#32
  let v24 : BitVec 32 := Scalar.divsi v23 c4_i32
  let c2_i32 : BitVec 32 := 2#32
  let v25 : BitVec 32 := Scalar.remsi v24 c2_i32
  let v33 : BitVec 32 := Scalar.subi c1_i32_16 v25
  let v204 : BitVec 32 := Scalar.muli c2_i32_134 v33
  let v26 : BitVec 32 := Dev.word d23
  let c2_i32_12 : BitVec 32 := 2#32
  let v27 : BitVec 32 := Scalar.divsi v26 c2_i32_12
  let c2_i32_11 : BitVec 32 := 2#32
  let v28 : BitVec 32 := Scalar.remsi v27 c2_i32_11
  let v205 : BitVec 32 := Scalar.addi v204 v28
  let v29 : BitVec 32 := Dev.word d23
  let c1_i32_14 : BitVec 32 := 1#32
  let v30 : BitVec 32 := Scalar.divsi v29 c1_i32_14
  let c2_i32_13 : BitVec 32 := 2#32
  let v31 : BitVec 32 := Scalar.remsi v30 c2_i32_13
  let c2048_i32_131 : BitVec 32 := 2048#32
  let v201 : BitVec 32 := Scalar.muli v31 c2048_i32_131
  let c1152_i32_132 : BitVec 32 := 1152#32
  let v202 : BitVec 32 := Scalar.addi v201 c1152_i32_132
  let c0_i32_133 : BitVec 32 := 0#32
  let v203 : BitVec 32 := Scalar.addi v202 c0_i32_133
  let c0_i32_138 : BitVec 32 := 0#32
  ![v205.toNat, v203.toNat, 0]
def k0_off14 (d23 : Dev nD) : Fin 3 → Nat :=
  let c2_i32_143 : BitVec 32 := 2#32
  let v23 : BitVec 32 := Dev.word d23
  let c4_i32 : BitVec 32 := 4#32
  let v24 : BitVec 32 := Scalar.divsi v23 c4_i32
  let c2_i32 : BitVec 32 := 2#32
  let v25 : BitVec 32 := Scalar.remsi v24 c2_i32
  let v215 : BitVec 32 := Scalar.muli c2_i32_143 v25
  let c1_i32_17 : BitVec 32 := 1#32
  let v26 : BitVec 32 := Dev.word d23
  let c2_i32_12 : BitVec 32 := 2#32
  let v27 : BitVec 32 := Scalar.divsi v26 c2_i32_12
  let c2_i32_11 : BitVec 32 := 2#32
  let v28 : BitVec 32 := Scalar.remsi v27 c2_i32_11
  let v34 : BitVec 32 := Scalar.subi c1_i32_17 v28
  let v216 : BitVec 32 := Scalar.addi v215 v34
  let v29 : BitVec 32 := Dev.word d23
  let c1_i32_14 : BitVec 32 := 1#32
  let v30 : BitVec 32 := Scalar.divsi v29 c1_i32_14
  let c2_i32_13 : BitVec 32 := 2#32
  let v31 : BitVec 32 := Scalar.remsi v30 c2_i32_13
  let c2048_i32_140 : BitVec 32 := 2048#32
  let v212 : BitVec 32 := Scalar.muli v31 c2048_i32_140
  let c1152_i32_141 : BitVec 32 := 1152#32
  let v213 : BitVec 32 := Scalar.addi v212 c1152_i32_141
  let c0_i32_142 : BitVec 32 := 0#32
  let v214 : BitVec 32 := Scalar.addi v213 c0_i32_142
  let c0_i32_147 : BitVec 32 := 0#32
  ![v216.toNat, v214.toNat, 0]
def k0_off15 (d23 : Dev nD) : Fin 3 → Nat :=
  let c2_i32_152 : BitVec 32 := 2#32
  let c1_i32_16 : BitVec 32 := 1#32
  let v23 : BitVec 32 := Dev.word d23
  let c4_i32 : BitVec 32 := 4#32
  let v24 : BitVec 32 := Scalar.divsi v23 c4_i32
  let c2_i32 : BitVec 32 := 2#32
  let v25 : BitVec 32 := Scalar.remsi v24 c2_i32
  let v33 : BitVec 32 := Scalar.subi c1_i32_16 v25
  let v226 : BitVec 32 := Scalar.muli c2_i32_152 v33
  let v26 : BitVec 32 := Dev.word d23
  let c2_i32_12 : BitVec 32 := 2#32
  let v27 : BitVec 32 := Scalar.divsi v26 c2_i32_12
  let c2_i32_11 : BitVec 32 := 2#32
  let v28 : BitVec 32 := Scalar.remsi v27 c2_i32_11
  let v227 : BitVec 32 := Scalar.addi v226 v28
  let v29 : BitVec 32 := Dev.word d23
  let c1_i32_14 : BitVec 32 := 1#32
  let v30 : BitVec 32 := Scalar.divsi v29 c1_i32_14
  let c2_i32_13 : BitVec 32 := 2#32
  let v31 : BitVec 32 := Scalar.remsi v30 c2_i32_13
  let c2048_i32_149 : BitVec 32 := 2048#32
  let v223 : BitVec 32 := Scalar.muli v31 c2048_i32_149
  let c1152_i32_150 : BitVec 32 := 1152#32
  let v224 : BitVec 32 := Scalar.addi v223 c1152_i32_150
  let c0_i32_151 : BitVec 32 := 0#32
  let v225 : BitVec 32 := Scalar.addi v224 c0_i32_151
  let c0_i32_156 : BitVec 32 := 0#32
  ![v227.toNat, v225.toNat, 0]
def k0_off16 (d23 : Dev nD) : Fin 3 → Nat :=
  let c2_i32_161 : BitVec 32 := 2#32
  let v23 : BitVec 32 := Dev.word d23
  let c4_i32 : BitVec 32 := 4#32
  let v24 : BitVec 32 := Scalar.divsi v23 c4_i32
  let c2_i32 : BitVec 32 := 2#32
  let v25 : BitVec 32 := Scalar.remsi v24 c2_i32
  let v237 : BitVec 32 := Scalar.muli c2_i32_161 v25
  let c1_i32_17 : BitVec 32 := 1#32
  let v26 : BitVec 32 := Dev.word d23
  let c2_i32_12 : BitVec 32 := 2#32
  let v27 : BitVec 32 := Scalar.divsi v26 c2_i32_12
  let c2_i32_11 : BitVec 32 := 2#32
  let v28 : BitVec 32 := Scalar.remsi v27 c2_i32_11
  let v34 : BitVec 32 := Scalar.subi c1_i32_17 v28
  let v238 : BitVec 32 := Scalar.addi v237 v34
  let v29 : BitVec 32 := Dev.word d23
  let c1_i32_14 : BitVec 32 := 1#32
  let v30 : BitVec 32 := Scalar.divsi v29 c1_i32_14
  let c2_i32_13 : BitVec 32 := 2#32
  let v31 : BitVec 32 := Scalar.remsi v30 c2_i32_13
  let c2048_i32_158 : BitVec 32 := 2048#32
  let v234 : BitVec 32 := Scalar.muli v31 c2048_i32_158
  let c1152_i32_159 : BitVec 32 := 1152#32
  let v235 : BitVec 32 := Scalar.addi v234 c1152_i32_159
  let c256_i32_160 : BitVec 32 := 256#32
  let v236 : BitVec 32 := Scalar.addi v235 c256_i32_160
  let c0_i32_165 : BitVec 32 := 0#32
  ![v238.toNat, v236.toNat, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== OfReferenceIdeal.lean ====
abbrev S32768x4096 : Shape := ⟨2, ![32768, 4096]⟩
abbrev S4096x4096 : Shape := ⟨2, ![4096, 4096]⟩
abbrev S16384x4096 : Shape := ⟨2, ![16384, 4096]⟩
abbrev S4x2x2048x4096 : Shape := ⟨4, ![4, 2, 2048, 4096]⟩
abbrev S4x2x512x4096 : Shape := ⟨4, ![4, 2, 512, 4096]⟩

abbrev nBuf : Space → Nat
  | .hbm => 10
  | .vmem => 0
  | .smem => 0
  | _ => 0

abbrev bufTy : (tb : Table) → Fin (tcTables nBuf tb) → BufTy
  | .hbm, ⟨0, _⟩ => ⟨S32768x4096, .bf16⟩
  | .hbm, ⟨1, _⟩ => ⟨S4096x4096, .bf16⟩
  | .hbm, ⟨2, _⟩ => ⟨S32768x4096, .f32⟩
  | .hbm, ⟨3, _⟩ => ⟨S16384x4096, .bf16⟩
  | .hbm, ⟨4, _⟩ => ⟨S32768x4096, .f32⟩
  | .hbm, ⟨5, _⟩ => ⟨S4096x4096, .f32⟩
  | .hbm, ⟨6, _⟩ => ⟨S32768x4096, .f32⟩
  | .hbm, ⟨7, _⟩ => ⟨S32768x4096, .f32⟩
  | .hbm, ⟨8, _⟩ => ⟨S4x2x2048x4096, .bf16⟩
  | .hbm, ⟨9, _⟩ => ⟨S4x2x512x4096, .bf16⟩
  | _, _ => ⟨S32768x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== NmKernel.lean ====
abbrev S4096x4096 : Shape := ⟨2, ![4096, 4096]⟩
abbrev S1x4096 : Shape := ⟨2, ![1, 4096]⟩
abbrev S4x4096x4096 : Shape := ⟨3, ![4, 4096, 4096]⟩
abbrev S256x4096 : Shape := ⟨2, ![256, 4096]⟩
abbrev S8 : Shape := ⟨1, ![8]⟩
abbrev S1 : Shape := ⟨1, ![1]⟩
abbrev S_ : Shape := ⟨0, ![]⟩
abbrev S1x384x4096 : Shape := ⟨3, ![1, 384, 4096]⟩
abbrev S384x4096 : Shape := ⟨2, ![384, 4096]⟩
abbrev S256 : Shape := ⟨1, ![256]⟩
abbrev S256x1 : Shape := ⟨2, ![256, 1]⟩
abbrev S1x192x4096 : Shape := ⟨3, ![1, 192, 4096]⟩
abbrev S192x4096 : Shape := ⟨2, ![192, 4096]⟩
abbrev S4x2x2048x4096 : Shape := ⟨4, ![4, 2, 2048, 4096]⟩
abbrev S4x2x384x4096 : Shape := ⟨4, ![4, 2, 384, 4096]⟩
abbrev S2x2048x4096 : Shape := ⟨3, ![2, 2048, 4096]⟩
abbrev S2x384x4096 : Shape := ⟨3, ![2, 384, 4096]⟩

abbrev nBuf : Space → Nat
  | .hbm => 33
  | .vmem => 5
  | .smem => 0
  | _ => 0

abbrev bufTy : (tb : Table) → Fin (tcTables nBuf tb) → BufTy
  | .hbm, ⟨0, _⟩ => ⟨S4096x4096, .f32⟩
  | .hbm, ⟨1, _⟩ => ⟨S1x4096, .f32⟩
  | .hbm, ⟨2, _⟩ => ⟨S4096x4096, .bf16⟩
  | .hbm, ⟨3, _⟩ => ⟨S4096x4096, .bf16⟩
  | .hbm, ⟨4, _⟩ => ⟨S4x4096x4096, .bf16⟩
  | .hbm, ⟨5, _⟩ => ⟨S4x2x2048x4096, .bf16⟩
  | .hbm, ⟨6, _⟩ => ⟨S4x2x384x4096, .bf16⟩
  | .hbm, ⟨7, _⟩ => ⟨S2x2048x4096, .bf16⟩
  | .hbm, ⟨8, _⟩ => ⟨S2x384x4096, .bf16⟩
  | .hbm, ⟨9, _⟩ => ⟨S4x2x384x4096, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S_, .i32⟩
  | .hbm, ⟨22, _⟩ => ⟨S_, .i32⟩
  | .hbm, ⟨23, _⟩ => ⟨S_, .i32⟩
  | .hbm, ⟨24, _⟩ => ⟨S_, .i32⟩
  | .hbm, ⟨25, _⟩ => ⟨S_, .i32⟩
  | .hbm, ⟨26, _⟩ => ⟨S_, .i32⟩
  | .hbm, ⟨27, _⟩ => ⟨S_, .i32⟩
  | .hbm, ⟨28, _⟩ => ⟨S_, .i32⟩
  | .hbm, ⟨29, _⟩ => ⟨S4x2x384x4096, .i32⟩
  | .hbm, ⟨30, _⟩ => ⟨S4x2x384x4096, .i1⟩
  | .hbm, ⟨31, _⟩ => ⟨S4x2x384x4096, .bf16⟩
  | .hbm, ⟨32, _⟩ => ⟨S4x2x384x4096, .bf16⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S256x4096, .bf16⟩
  | .local _ .vmem, ⟨4, _⟩ => ⟨S256x4096, .bf16⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1_0 : Ref sig .tc := ⟨.hbm, 3, rfl⟩
abbrev main_v1_1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_c : Ref sig .tc := ⟨.hbm, 10, rfl⟩
abbrev main_c_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_c_1 : Ref sig .tc := ⟨.hbm, 16, rfl⟩
abbrev main_v11 : Ref sig .tc := ⟨.hbm, 17, rfl⟩
abbrev main_c_2 : Ref sig .tc := ⟨.hbm, 18, rfl⟩
abbrev main_v12 : Ref sig .tc := ⟨.hbm, 19, rfl⟩
abbrev main_c_3 : Ref sig .tc := ⟨.hbm, 20, rfl⟩
abbrev main_c_4 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_c_5 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 8
abbrev τ : Topo := Topo.v7x

variable {F : FTy → Type} [FloatOps F]

abbrev grid0 : Pipeline.Grid := ⟨1, ![16], ![false]⟩

def k0_cond1 (i : grid0.Coords) : BitVec 1 :=
  let c0_i32 : BitVec 32 := 0#32
  let arg0 : BitVec 32 := BitVec.ofNat 32 (i 0).val
  let v0 : BitVec 32 := Scalar.addi c0_i32 arg0
  let c0_i32_0 : BitVec 32 := 0#32
  let v1 : BitVec 1 := Scalar.cmpi .eq v0 c0_i32_0
  let v2 : BitVec 32 := Scalar.extui v1
  let c0_i32_1 : BitVec 32 := 0#32
  let v3 : BitVec 1 := Scalar.cmpi .ne v2 c0_i32_1
  v3

def k0_off1 (d28 : Dev nD) : Fin 3 → Nat :=
  let c2_i32_17 : BitVec 32 := 2#32
  let v28 : BitVec 32 := Dev.word d28
  let c4_i32 : BitVec 32 := 4#32
  let v29 : BitVec 32 := Scalar.divsi v28 c4_i32
  let c2_i32 : BitVec 32 := 2#32
  let v30 : BitVec 32 := Scalar.remsi v29 c2_i32
  let v42 : BitVec 32 := Scalar.muli c2_i32_17 v30
  let v31 : BitVec 32 := Dev.word d28
  let c2_i32_12 : BitVec 32 := 2#32
  let v32 : BitVec 32 := Scalar.divsi v31 c2_i32_12
  let c2_i32_11 : BitVec 32 := 2#32
  let v33 : BitVec 32 := Scalar.remsi v32 c2_i32_11
  let v43 : BitVec 32 := Scalar.addi v42 v33
  let v34 : BitVec 32 := Dev.word d28
  let c1_i32 : BitVec 32 := 1#32
  let v35 : BitVec 32 := Scalar.divsi v34 c1_i32
  let c2_i32_13 : BitVec 32 := 2#32
  let v36 : BitVec 32 := Scalar.remsi v35 c2_i32_13
  let c2048_i32 : BitVec 32 := 2048#32
  let v39 : BitVec 32 := Scalar.muli v36 c2048_i32
  let c1664_i32 : BitVec 32 := 1664#32
  let v40 : BitVec 32 := Scalar.addi v39 c1664_i32
  let c0_i32_16 : BitVec 32 := 0#32
  let v41 : BitVec 32 := Scalar.addi v40 c0_i32_16
  let c0_i32_24 : BitVec 32 := 0#32
  ![v43.toNat, v41.toNat, 0]
def k0_off2 (d28 : Dev nD) : Fin 2 → Nat :=
  let v34 : BitVec 32 := Dev.word d28
  let c1_i32 : BitVec 32 := 1#32
  let v35 : BitVec 32 := Scalar.divsi v34 c1_i32
  let c2_i32_13 : BitVec 32 := 2#32
  let v36 : BitVec 32 := Scalar.remsi v35 c2_i32_13
  let c2048_i32 : BitVec 32 := 2048#32
  let v39 : BitVec 32 := Scalar.muli v36 c2048_i32
  let c1664_i32 : BitVec 32 := 1664#32
  let v40 : BitVec 32 := Scalar.addi v39 c1664_i32
  let c0_i32_16 : BitVec 32 := 0#32
  let v41 : BitVec 32 := Scalar.addi v40 c0_i32_16
  let c0_i32_25 : BitVec 32 := 0#32
  ![v41.toNat, 0]
def k0_dev1 (d28 : Dev nD) : Nat :=
  let c0_i32_21 : BitVec 32 := 0#32
  let c1_i32_14 : BitVec 32 := 1#32
  let v28 : BitVec 32 := Dev.word d28
  let c4_i32 : BitVec 32 := 4#32
  let v29 : BitVec 32 := Scalar.divsi v28 c4_i32
  let c2_i32 : BitVec 32 := 2#32
  let v30 : BitVec 32 := Scalar.remsi v29 c2_i32
  let v37 : BitVec 32 := Scalar.subi c1_i32_14 v30
  let c4_i32_20 : BitVec 32 := 4#32
  let v44 : BitVec 32 := Scalar.muli v37 c4_i32_20
  let v45 : BitVec 32 := Scalar.addi c0_i32_21 v44
  let v31 : BitVec 32 := Dev.word d28
  let c2_i32_12 : BitVec 32 := 2#32
  let v32 : BitVec 32 := Scalar.divsi v31 c2_i32_12
  let c2_i32_11 : BitVec 32 := 2#32
  let v33 : BitVec 32 := Scalar.remsi v32 c2_i32_11
  let c2_i32_22 : BitVec 32 := 2#32
  let v46 : BitVec 32 := Scalar.muli v33 c2_i32_22
  let v47 : BitVec 32 := Scalar.addi v45 v46
  let v34 : BitVec 32 := Dev.word d28
  let c1_i32 : BitVec 32 := 1#32
  let v35 : BitVec 32 := Scalar.divsi v34 c1_i32
  let c2_i32_13 : BitVec 32 := 2#32
  let v36 : BitVec 32 := Scalar.remsi v35 c2_i32_13
  let c1_i32_23 : BitVec 32 := 1#32
  let v48 : BitVec 32 := Scalar.muli v36 c1_i32_23
  let v49 : BitVec 32 := Scalar.addi v47 v48
  v49.toNat
def k0_dev2 (d28 : Dev nD) : Nat :=
  let c0_i32_33 : BitVec 32 := 0#32
  let v28 : BitVec 32 := Dev.word d28
  let c4_i32 : BitVec 32 := 4#32
  let v29 : BitVec 32 := Scalar.divsi v28 c4_i32
  let c2_i32 : BitVec 32 := 2#32
  let v30 : BitVec 32 := Scalar.remsi v29 c2_i32
  let c4_i32_32 : BitVec 32 := 4#32
  let v62 : BitVec 32 := Scalar.muli v30 c4_i32_32
  let v63 : BitVec 32 := Scalar.addi c0_i32_33 v62
  let c1_i32_15 : BitVec 32 := 1#32
  let v31 : BitVec 32 := Dev.word d28
  let c2_i32_12 : BitVec 32 := 2#32
  let v32 : BitVec 32 := Scalar.divsi v31 c2_i32_12
  let c2_i32_11 : BitVec 32 := 2#32
  let v33 : BitVec 32 := Scalar.remsi v32 c2_i32_11
  let v38 : BitVec 32 := Scalar.subi c1_i32_15 v33
  let c2_i32_34 : BitVec 32 := 2#32
  let v64 : BitVec 32 := Scalar.muli v38 c2_i32_34
  let v65 : BitVec 32 := Scalar.addi v63 v64
  let v34 : BitVec 32 := Dev.word d28
  let c1_i32 : BitVec 32 := 1#32
  let v35 : BitVec 32 := Scalar.divsi v34 c1_i32
  let c2_i32_13 : BitVec 32 := 2#32
  let v36 : BitVec 32 := Scalar.remsi v35 c2_i32_13
  let c1_i32_35 : BitVec 32 := 1#32
  let v66 : BitVec 32 := Scalar.muli v36 c1_i32_35
  let v67 : BitVec 32 := Scalar.addi v65 v66
  v67.toNat
def k0_cond2 (i : grid0.Coords) : BitVec 1 :=
  let c0_i32 : BitVec 32 := 0#32
  let arg0 : BitVec 32 := BitVec.ofNat 32 (i 0).val
  let v0 : BitVec 32 := Scalar.addi c0_i32 arg0
  let c9_i32 : BitVec 32 := 9#32
  let v22 : BitVec 1 := Scalar.cmpi .eq v0 c9_i32
  let v23 : BitVec 32 := Scalar.extui v22
  let c0_i32_9 : BitVec 32 := 0#32
  let v24 : BitVec 1 := Scalar.cmpi .ne v23 c0_i32_9
  v24

def k0_off3 (d28 : Dev nD) : Fin 3 → Nat :=
  let c2_i32_18 : BitVec 32 := 2#32
  let c1_i32_15 : BitVec 32 := 1#32
  let v28 : BitVec 32 := Dev.word d28
  let c4_i32 : BitVec 32 := 4#32
  let v29 : BitVec 32 := Scalar.divsi v28 c4_i32
  let c2_i32 : BitVec 32 := 2#32
  let v30 : BitVec 32 := Scalar.remsi v29 c2_i32
  let v38 : BitVec 32 := Scalar.subi c1_i32_15 v30
  let v43 : BitVec 32 := Scalar.muli c2_i32_18 v38
  let v31 : BitVec 32 := Dev.word d28
  let c2_i32_12 : BitVec 32 := 2#32
  let v32 : BitVec 32 := Scalar.divsi v31 c2_i32_12
  let c2_i32_11 : BitVec 32 := 2#32
  let v33 : BitVec 32 := Scalar.remsi v32 c2_i32_11
  let v44 : BitVec 32 := Scalar.addi v43 v33
  let v34 : BitVec 32 := Dev.word d28
  let c1_i32 : BitVec 32 := 1#32
  let v35 : BitVec 32 := Scalar.divsi v34 c1_i32
  let c2_i32_13 : BitVec 32 := 2#32
  let v36 : BitVec 32 := Scalar.remsi v35 c2_i32_13
  let c2048_i32 : BitVec 32 := 2048#32
  let v40 : BitVec 32 := Scalar.muli v36 c2048_i32
  let c1664_i32 : BitVec 32 := 1664#32
  let v41 : BitVec 32 := Scalar.addi v40 c1664_i32
  let c0_i32_17 : BitVec 32 := 0#32
  let v42 : BitVec 32 := Scalar.addi v41 c0_i32_17
  let c0_i32_25 : BitVec 32 := 0#32
  ![v44.toNat, v42.toNat, 0]
def k0_off4 (d28 : Dev nD) : Fin 3 → Nat :=
  let c2_i32_30 : BitVec 32 := 2#32
  let c1_i32_15 : BitVec 32 := 1#32
  let v28 : BitVec 32 := Dev.word d28
  let c4_i32 : BitVec 32 := 4#32
  let v29 : BitVec 32 := Scalar.divsi v28 c4_i32
  let c2_i32 : BitVec 32 := 2#32
  let v30 : BitVec 32 := Scalar.remsi v29 c2_i32
  let v38 : BitVec 32 := Scalar.subi c1_i32_15 v30
  let v60 : BitVec 32 := Scalar.muli c2_i32_30 v38
  let v31 : BitVec 32 := Dev.word d28
  let c2_i32_12 : BitVec 32 := 2#32
  let v32 : BitVec 32 := Scalar.divsi v31 c2_i32_12
  let c2_i32_11 : BitVec 32 := 2#32
  let v33 : BitVec 32 := Scalar.remsi v32 c2_i32_11
  let v61 : BitVec 32 := Scalar.addi v60 v33
  let v34 : BitVec 32 := Dev.word d28
  let c1_i32 : BitVec 32 := 1#32
  let v35 : BitVec 32 := Scalar.divsi v34 c1_i32
  let c2_i32_13 : BitVec 32 := 2#32
  let v36 : BitVec 32 := Scalar.remsi v35 c2_i32_13
  let c2048_i32_27 : BitVec 32 := 2048#32
  let v57 : BitVec 32 := Scalar.muli v36 c2048_i32_27
  let c1664_i32_28 : BitVec 32 := 1664#32
  let v58 : BitVec 32 := Scalar.addi v57 c1664_i32_28
  let c0_i32_29 : BitVec 32 := 0#32
  let v59 : BitVec 32 := Scalar.addi v58 c0_i32_29
  let c0_i32_37 : BitVec 32 := 0#32
  ![v61.toNat, v59.toNat, 0]
def k0_dev3 (d28 : Dev nD) : Nat :=
  let c0_i32_34 : BitVec 32 := 0#32
  let v28 : BitVec 32 := Dev.word d28
  let c4_i32 : BitVec 32 := 4#32
  let v29 : BitVec 32 := Scalar.divsi v28 c4_i32
  let c2_i32 : BitVec 32 := 2#32
  let v30 : BitVec 32 := Scalar.remsi v29 c2_i32
  let c4_i32_33 : BitVec 32 := 4#32
  let v62 : BitVec 32 := Scalar.muli v30 c4_i32_33
  let v63 : BitVec 32 := Scalar.addi c0_i32_34 v62
  let c1_i32_16 : BitVec 32 := 1#32
  let v31 : BitVec 32 := Dev.word d28
  let c2_i32_12 : BitVec 32 := 2#32
  let v32 : BitVec 32 := Scalar.divsi v31 c2_i32_12
  let c2_i32_11 : BitVec 32 := 2#32
  let v33 : BitVec 32 := Scalar.remsi v32 c2_i32_11
  let v39 : BitVec 32 := Scalar.subi c1_i32_16 v33
  let c2_i32_35 : BitVec 32 := 2#32
  let v64 : BitVec 32 := Scalar.muli v39 c2_i32_35
  let v65 : BitVec 32 := Scalar.addi v63 v64
  let v34 : BitVec 32 := Dev.word d28
  let c1_i32 : BitVec 32 := 1#32
  let v35 : BitVec 32 := Scalar.divsi v34 c1_i32
  let c2_i32_13 : BitVec 32 := 2#32
  let v36 : BitVec 32 := Scalar.remsi v35 c2_i32_13
  let c1_i32_36 : BitVec 32 := 1#32
  let v66 : BitVec 32 := Scalar.muli v36 c1_i32_36
  let v67 : BitVec 32 := Scalar.addi v65 v66
  v67.toNat
def k0_dev4 (d28 : Dev nD) : Nat :=
  let c0_i32_46 : BitVec 32 := 0#32
  let v28 : BitVec 32 := Dev.word d28
  let c4_i32 : BitVec 32 := 4#32
  let v29 : BitVec 32 := Scalar.divsi v28 c4_i32
  let c2_i32 : BitVec 32 := 2#32
  let v30 : BitVec 32 := Scalar.remsi v29 c2_i32
  let c4_i32_45 : BitVec 32 := 4#32
  let v81 : BitVec 32 := Scalar.muli v30 c4_i32_45
  let v82 : BitVec 32 := Scalar.addi c0_i32_46 v81
  let v31 : BitVec 32 := Dev.word d28
  let c2_i32_12 : BitVec 32 := 2#32
  let v32 : BitVec 32 := Scalar.divsi v31 c2_i32_12
  let c2_i32_11 : BitVec 32 := 2#32
  let v33 : BitVec 32 := Scalar.remsi v32 c2_i32_11
  let c2_i32_47 : BitVec 32 := 2#32
  let v83 : BitVec 32 := Scalar.muli v33 c2_i32_47
  let v84 : BitVec 32 := Scalar.addi v82 v83
  let c1_i32_14 : BitVec 32 := 1#32
  let v34 : BitVec 32 := Dev.word d28
  let c1_i32 : BitVec 32 := 1#32
  let v35 : BitVec 32 := Scalar.divsi v34 c1_i32
  let c2_i32_13 : BitVec 32 := 2#32
  let v36 : BitVec 32 := Scalar.remsi v35 c2_i32_13
  let v37 : BitVec 32 := Scalar.subi c1_i32_14 v36
  let c1_i32_48 : BitVec 32 := 1#32
  let v85 : BitVec 32 := Scalar.muli v37 c1_i32_48
  let v86 : BitVec 32 := Scalar.addi v84 v85
  v86.toNat
def k0_off5 (d28 : Dev nD) : Fin 3 → Nat :=
  let c2_i32_54 : BitVec 32 := 2#32
  let v28 : BitVec 32 := Dev.word d28
  let c4_i32 : BitVec 32 := 4#32
  let v29 : BitVec 32 := Scalar.divsi v28 c4_i32
  let c2_i32 : BitVec 32 := 2#32
  let v30 : BitVec 32 := Scalar.remsi v29 c2_i32
  let v98 : BitVec 32 := Scalar.muli c2_i32_54 v30
  let c1_i32_16 : BitVec 32 := 1#32
  let v31 : BitVec 32 := Dev.word d28
  let c2_i32_12 : BitVec 32 := 2#32
  let v32 : BitVec 32 := Scalar.divsi v31 c2_i32_12
  let c2_i32_11 : BitVec 32 := 2#32
  let v33 : BitVec 32 := Scalar.remsi v32 c2_i32_11
  let v39 : BitVec 32 := Scalar.subi c1_i32_16 v33
  let v99 : BitVec 32 := Scalar.addi v98 v39
  let v34 : BitVec 32 := Dev.word d28
  let c1_i32 : BitVec 32 := 1#32
  let v35 : BitVec 32 := Scalar.divsi v34 c1_i32
  let c2_i32_13 : BitVec 32 := 2#32
  let v36 : BitVec 32 := Scalar.remsi v35 c2_i32_13
  let c2048_i32_51 : BitVec 32 := 2048#32
  let v95 : BitVec 32 := Scalar.muli v36 c2048_i32_51
  let c1664_i32_52 : BitVec 32 := 1664#32
  let v96 : BitVec 32 := Scalar.addi v95 c1664_i32_52
  let c0_i32_53 : BitVec 32 := 0#32
  let v97 : BitVec 32 := Scalar.addi v96 c0_i32_53
  let c0_i32_61 : BitVec 32 := 0#32
  ![v99.toNat, v97.toNat, 0]
def k0_off6 (d28 : Dev nD) : Fin 3 → Nat :=
  let c2_i32_65 : BitVec 32 := 2#32
  let v28 : BitVec 32 := Dev.word d28
  let c4_i32 : BitVec 32 := 4#32
  let v29 : BitVec 32 := Scalar.divsi v28 c4_i32
  let c2_i32 : BitVec 32 := 2#32
  let v30 : BitVec 32 := Scalar.remsi v29 c2_i32
  let v115 : BitVec 32 := Scalar.muli c2_i32_65 v30
  let c1_i32_16 : BitVec 32 := 1#32
  let v31 : BitVec 32 := Dev.word d28
  let c2_i32_12 : BitVec 32 := 2#32
  let v32 : BitVec 32 := Scalar.divsi v31 c2_i32_12
  let c2_i32_11 : BitVec 32 := 2#32
  let v33 : BitVec 32 := Scalar.remsi v32 c2_i32_11
  let v39 : BitVec 32 := Scalar.subi c1_i32_16 v33
  let v116 : BitVec 32 := Scalar.addi v115 v39
  let v34 : BitVec 32 := Dev.word d28
  let c1_i32 : BitVec 32 := 1#32
  let v35 : BitVec 32 := Scalar.divsi v34 c1_i32
  let c2_i32_13 : BitVec 32 := 2#32
  let v36 : BitVec 32 := Scalar.remsi v35 c2_i32_13
  let c2048_i32_63 : BitVec 32 := 2048#32
  let v112 : BitVec 32 := Scalar.muli v36 c2048_i32_63
  let c1664_i32_64 : BitVec 32 := 1664#32
  let v113 : BitVec 32 := Scalar.addi v112 c1664_i32_64
  let c192_i32 : BitVec 32 := 192#32
  let v114 : BitVec 32 := Scalar.addi v113 c192_i32
  let c0_i32_71 : BitVec 32 := 0#32
  ![v116.toNat, v114.toNat, 0]
def k0_dev5 (d28 : Dev nD) : Nat :=
  let c0_i32_68 : BitVec 32 := 0#32
  let c1_i32_15 : BitVec 32 := 1#32
  let v28 : BitVec 32 := Dev.word d28
  let c4_i32 : BitVec 32 := 4#32
  let v29 : BitVec 32 := Scalar.divsi v28 c4_i32
  let c2_i32 : BitVec 32 := 2#32
  let v30 : BitVec 32 := Scalar.remsi v29 c2_i32
  let v38 : BitVec 32 := Scalar.subi c1_i32_15 v30
  let c4_i32_67 : BitVec 32 := 4#32
  let v117 : BitVec 32 := Scalar.muli v38 c4_i32_67
  let v118 : BitVec 32 := Scalar.addi c0_i32_68 v117
  let v31 : BitVec 32 := Dev.word d28
  let c2_i32_12 : BitVec 32 := 2#32
  let v32 : BitVec 32 := Scalar.divsi v31 c2_i32_12
  let c2_i32_11 : BitVec 32 := 2#32
  let v33 : BitVec 32 := Scalar.remsi v32 c2_i32_11
  let c2_i32_69 : BitVec 32 := 2#32
  let v119 : BitVec 32 := Scalar.muli v33 c2_i32_69
  let v120 : BitVec 32 := Scalar.addi v118 v119
  let v34 : BitVec 32 := Dev.word d28
  let c1_i32 : BitVec 32 := 1#32
  let v35 : BitVec 32 := Scalar.divsi v34 c1_i32
  let c2_i32_13 : BitVec 32 := 2#32
  let v36 : BitVec 32 := Scalar.remsi v35 c2_i32_13
  let c1_i32_70 : BitVec 32 := 1#32
  let v121 : BitVec 32 := Scalar.muli v36 c1_i32_70
  let v122 : BitVec 32 := Scalar.addi v120 v121
  v122.toNat
def k0_dev6 (d28 : Dev nD) : Nat :=
  let c0_i32_79 : BitVec 32 := 0#32
  let v28 : BitVec 32 := Dev.word d28
  let c4_i32 : BitVec 32 := 4#32
  let v29 : BitVec 32 := Scalar.divsi v28 c4_i32
  let c2_i32 : BitVec 32 := 2#32
  let v30 : BitVec 32 := Scalar.remsi v29 c2_i32
  let c4_i32_78 : BitVec 32 := 4#32
  let v136 : BitVec 32 := Scalar.muli v30 c4_i32_78
  let v137 : BitVec 32 := Scalar.addi c0_i32_79 v136
  let v31 : BitVec 32 := Dev.word d28
  let c2_i32_12 : BitVec 32 := 2#32
  let v32 : BitVec 32 := Scalar.divsi v31 c2_i32_12
  let c2_i32_11 : BitVec 32 := 2#32
  let v33 : BitVec 32 := Scalar.remsi v32 c2_i32_11
  let c2_i32_80 : BitVec 32 := 2#32
  let v138 : BitVec 32 := Scalar.muli v33 c2_i32_80
  let v139 : BitVec 32 := Scalar.addi v137 v138
  let c1_i32_14 : BitVec 32 := 1#32
  let v34 : BitVec 32 := Dev.word d28
  let c1_i32 : BitVec 32 := 1#32
  let v35 : BitVec 32 := Scalar.divsi v34 c1_i32
  let c2_i32_13 : BitVec 32 := 2#32
  let v36 : BitVec 32 := Scalar.remsi v35 c2_i32_13
  let v37 : BitVec 32 := Scalar.subi c1_i32_14 v36
  let c1_i32_81 : BitVec 32 := 1#32
  let v140 : BitVec 32 := Scalar.muli v37 c1_i32_81
  let v141 : BitVec 32 := Scalar.addi v139 v140
  v141.toNat
def k0_cond3 (i : grid0.Coords) : BitVec 1 :=
  let c0_i32 : BitVec 32 := 0#32
  let arg0 : BitVec 32 := BitVec.ofNat 32 (i 0).val
  let v0 : BitVec 32 := Scalar.addi c0_i32 arg0
  let c15_i32 : BitVec 32 := 15#32
  let v25 : BitVec 1 := Scalar.cmpi .eq v0 c15_i32
  let v26 : BitVec 32 := Scalar.extui v25
  let c0_i32_10 : BitVec 32 := 0#32
  let v27 : BitVec 1 := Scalar.cmpi .ne v26 c0_i32_10
  v27

def k0_off7 (d28 : Dev nD) (c0_i32_23 : BitVec 32) : Fin 3 → Nat :=
  let c2_i32_24 : BitVec 32 := 2#32
  let c1_i32_17 : BitVec 32 := 1#32
  let v28 : BitVec 32 := Dev.word d28
  let c4_i32 : BitVec 32 := 4#32
  let v29 : BitVec 32 := Scalar.divsi v28 c4_i32
  let c2_i32 : BitVec 32 := 2#32
  let v30 : BitVec 32 := Scalar.remsi v29 c2_i32
  let v40 : BitVec 32 := Scalar.subi c1_i32_17 v30
  let v49 : BitVec 32 := Scalar.muli c2_i32_24 v40
  let c1_i32_18 : BitVec 32 := 1#32
  let v31 : BitVec 32 := Dev.word d28
  let c2_i32_12 : BitVec 32 := 2#32
  let v32 : BitVec 32 := Scalar.divsi v31 c2_i32_12
  let c2_i32_11 : BitVec 32 := 2#32
  let v33 : BitVec 32 := Scalar.remsi v32 c2_i32_11
  let v41 : BitVec 32 := Scalar.subi c1_i32_18 v33
  let v50 : BitVec 32 := Scalar.addi v49 v41
  let v34 : BitVec 32 := Dev.word d28
  let c1_i32 : BitVec 32 := 1#32
  let v35 : BitVec 32 := Scalar.divsi v34 c1_i32
  let c2_i32_13 : BitVec 32 := 2#32
  let v36 : BitVec 32 := Scalar.remsi v35 c2_i32_13
  let c2048_i32 : BitVec 32 := 2048#32
  let v46 : BitVec 32 := Scalar.muli v36 c2048_i32
  let c1664_i32 : BitVec 32 := 1664#32
  let v47 : BitVec 32 := Scalar.addi v46 c1664_i32
  let v48 : BitVec 32 := Scalar.addi v47 c0_i32_23
  let c0_i32_31 : BitVec 32 := 0#32
  ![v50.toNat, v48.toNat, 0]
def k0_dev7 (d28 : Dev nD) : Nat :=
  let c0_i32_39 : BitVec 32 := 0#32
  let v28 : BitVec 32 := Dev.word d28
  let c4_i32 : BitVec 32 := 4#32
  let v29 : BitVec 32 := Scalar.divsi v28 c4_i32
  let c2_i32 : BitVec 32 := 2#32
  let v30 : BitVec 32 := Scalar.remsi v29 c2_i32
  let c4_i32_38 : BitVec 32 := 4#32
  let v68 : BitVec 32 := Scalar.muli v30 c4_i32_38
  let v69 : BitVec 32 := Scalar.addi c0_i32_39 v68
  let v31 : BitVec 32 := Dev.word d28
  let c2_i32_12 : BitVec 32 := 2#32
  let v32 : BitVec 32 := Scalar.divsi v31 c2_i32_12
  let c2_i32_11 : BitVec 32 := 2#32
  let v33 : BitVec 32 := Scalar.remsi v32 c2_i32_11
  let c2_i32_40 : BitVec 32 := 2#32
  let v70 : BitVec 32 := Scalar.muli v33 c2_i32_40
  let v71 : BitVec 32 := Scalar.addi v69 v70
  let c1_i32_14 : BitVec 32 := 1#32
  let v34 : BitVec 32 := Dev.word d28
  let c1_i32 : BitVec 32 := 1#32
  let v35 : BitVec 32 := Scalar.divsi v34 c1_i32
  let c2_i32_13 : BitVec 32 := 2#32
  let v36 : BitVec 32 := Scalar.remsi v35 c2_i32_13
  let v37 : BitVec 32 := Scalar.subi c1_i32_14 v36
  let c1_i32_41 : BitVec 32 := 1#32
  let v72 : BitVec 32 := Scalar.muli v37 c1_i32_41
  let v73 : BitVec 32 := Scalar.addi v71 v72
  v73.toNat
def k0_dev8 (d28 : Dev nD) : Nat :=
  let c0_i32_60 : BitVec 32 := 0#32
  let v28 : BitVec 32 := Dev.word d28
  let c4_i32 : BitVec 32 := 4#32
  let v29 : BitVec 32 := Scalar.divsi v28 c4_i32
  let c2_i32 : BitVec 32 := 2#32
  let v30 : BitVec 32 := Scalar.remsi v29 c2_i32
  let c4_i32_59 : BitVec 32 := 4#32
  let v104 : BitVec 32 := Scalar.muli v30 c4_i32_59
  let v105 : BitVec 32 := Scalar.addi c0_i32_60 v104
  let v31 : BitVec 32 := Dev.word d28
  let c2_i32_12 : BitVec 32 := 2#32
  let v32 : BitVec 32 := Scalar.divsi v31 c2_i32_12
  let c2_i32_11 : BitVec 32 := 2#32
  let v33 : BitVec 32 := Scalar.remsi v32 c2_i32_11
  let c2_i32_61 : BitVec 32 := 2#32
  let v106 : BitVec 32 := Scalar.muli v33 c2_i32_61
  let v107 : BitVec 32 := Scalar.addi v105 v106
  let c1_i32_14 : BitVec 32 := 1#32
  let v34 : BitVec 32 := Dev.word d28
  let c1_i32 : BitVec 32 := 1#32
  let v35 : BitVec 32 := Scalar.divsi v34 c1_i32
  let c2_i32_13 : BitVec 32 := 2#32
  let v36 : BitVec 32 := Scalar.remsi v35 c2_i32_13
  let v37 : BitVec 32 := Scalar.subi c1_i32_14 v36
  let c1_i32_62 : BitVec 32 := 1#32
  let v108 : BitVec 32 := Scalar.muli v37 c1_i32_62
  let v109 : BitVec 32 := Scalar.addi v107 v108
  v109.toNat
def k0_off8 (d28 : Dev nD) : Fin 3 → Nat :=
  let c2_i32_68 : BitVec 32 := 2#32
  let c1_i32_15 : BitVec 32 := 1#32
  let v28 : BitVec 32 := Dev.word d28
  let c4_i32 : BitVec 32 := 4#32
  let v29 : BitVec 32 := Scalar.divsi v28 c4_i32
  let c2_i32 : BitVec 32 := 2#32
  let v30 : BitVec 32 := Scalar.remsi v29 c2_i32
  let v38 : BitVec 32 := Scalar.subi c1_i32_15 v30
  let v121 : BitVec 32 := Scalar.muli c2_i32_68 v38
  let v31 : BitVec 32 := Dev.word d28
  let c2_i32_12 : BitVec 32 := 2#32
  let v32 : BitVec 32 := Scalar.divsi v31 c2_i32_12
  let c2_i32_11 : BitVec 32 := 2#32
  let v33 : BitVec 32 := Scalar.remsi v32 c2_i32_11
  let v122 : BitVec 32 := Scalar.addi v121 v33
  let c1_i32_19 : BitVec 32 := 1#32
  let v34 : BitVec 32 := Dev.word d28
  let c1_i32 : BitVec 32 := 1#32
  let v35 : BitVec 32 := Scalar.divsi v34 c1_i32
  let c2_i32_13 : BitVec 32 := 2#32
  let v36 : BitVec 32 := Scalar.remsi v35 c2_i32_13
  let v42 : BitVec 32 := Scalar.subi c1_i32_19 v36
  let c2048_i32_65 : BitVec 32 := 2048#32
  let v118 : BitVec 32 := Scalar.muli v42 c2048_i32_65
  let c1664_i32_66 : BitVec 32 := 1664#32
  let v119 : BitVec 32 := Scalar.addi v118 c1664_i32_66
  let c0_i32_67 : BitVec 32 := 0#32
  let v120 : BitVec 32 := Scalar.addi v119 c0_i32_67
  let c0_i32_75 : BitVec 32 := 0#32
  ![v122.toNat, v120.toNat, 0]
def k0_off9 (d28 : Dev nD) : Fin 3 → Nat :=
  let c2_i32_80 : BitVec 32 := 2#32
  let v28 : BitVec 32 := Dev.word d28
  let c4_i32 : BitVec 32 := 4#32
  let v29 : BitVec 32 := Scalar.divsi v28 c4_i32
  let c2_i32 : BitVec 32 := 2#32
  let v30 : BitVec 32 := Scalar.remsi v29 c2_i32
  let v138 : BitVec 32 := Scalar.muli c2_i32_80 v30
  let c1_i32_16 : BitVec 32 := 1#32
  let v31 : BitVec 32 := Dev.word d28
  let c2_i32_12 : BitVec 32 := 2#32
  let v32 : BitVec 32 := Scalar.divsi v31 c2_i32_12
  let c2_i32_11 : BitVec 32 := 2#32
  let v33 : BitVec 32 := Scalar.remsi v32 c2_i32_11
  let v39 : BitVec 32 := Scalar.subi c1_i32_16 v33
  let v139 : BitVec 32 := Scalar.addi v138 v39
  let c1_i32_20 : BitVec 32 := 1#32
  let v34 : BitVec 32 := Dev.word d28
  let c1_i32 : BitVec 32 := 1#32
  let v35 : BitVec 32 := Scalar.divsi v34 c1_i32
  let c2_i32_13 : BitVec 32 := 2#32
  let v36 : BitVec 32 := Scalar.remsi v35 c2_i32_13
  let v43 : BitVec 32 := Scalar.subi c1_i32_20 v36
  let c2048_i32_77 : BitVec 32 := 2048#32
  let v135 : BitVec 32 := Scalar.muli v43 c2048_i32_77
  let c1664_i32_78 : BitVec 32 := 1664#32
  let v136 : BitVec 32 := Scalar.addi v135 c1664_i32_78
  let c0_i32_79 : BitVec 32 := 0#32
  let v137 : BitVec 32 := Scalar.addi v136 c0_i32_79
  let c0_i32_86 : BitVec 32 := 0#32
  ![v139.toNat, v137.toNat, 0]
def k0_off10 (d28 : Dev nD) (c0_i32_90 : BitVec 32) : Fin 3 → Nat :=
  let c2_i32_91 : BitVec 32 := 2#32
  let c1_i32_17 : BitVec 32 := 1#32
  let v28 : BitVec 32 := Dev.word d28
  let c4_i32 : BitVec 32 := 4#32
  let v29 : BitVec 32 := Scalar.divsi v28 c4_i32
  let c2_i32 : BitVec 32 := 2#32
  let v30 : BitVec 32 := Scalar.remsi v29 c2_i32
  let v40 : BitVec 32 := Scalar.subi c1_i32_17 v30
  let v155 : BitVec 32 := Scalar.muli c2_i32_91 v40
  let c1_i32_18 : BitVec 32 := 1#32
  let v31 : BitVec 32 := Dev.word d28
  let c2_i32_12 : BitVec 32 := 2#32
  let v32 : BitVec 32 := Scalar.divsi v31 c2_i32_12
  let c2_i32_11 : BitVec 32 := 2#32
  let v33 : BitVec 32 := Scalar.remsi v32 c2_i32_11
  let v41 : BitVec 32 := Scalar.subi c1_i32_18 v33
  let v156 : BitVec 32 := Scalar.addi v155 v41
  let c1_i32_21 : BitVec 32 := 1#32
  let v34 : BitVec 32 := Dev.word d28
  let c1_i32 : BitVec 32 := 1#32
  let v35 : BitVec 32 := Scalar.divsi v34 c1_i32
  let c2_i32_13 : BitVec 32 := 2#32
  let v36 : BitVec 32 := Scalar.remsi v35 c2_i32_13
  let v44 : BitVec 32 := Scalar.subi c1_i32_21 v36
  let c2048_i32_88 : BitVec 32 := 2048#32
  let v152 : BitVec 32 := Scalar.muli v44 c2048_i32_88
  let c1664_i32_89 : BitVec 32 := 1664#32
  let v153 : BitVec 32 := Scalar.addi v152 c1664_i32_89
  let v154 : BitVec 32 := Scalar.addi v153 c0_i32_90
  let c0_i32_98 : BitVec 32 := 0#32
  ![v156.toNat, v154.toNat, 0]
def k0_off11 (d28 : Dev nD) : Fin 2 → Nat :=
  let v34 : BitVec 32 := Dev.word d28
  let c1_i32 : BitVec 32 := 1#32
  let v35 : BitVec 32 := Scalar.divsi v34 c1_i32
  let c2_i32_13 : BitVec 32 := 2#32
  let v36 : BitVec 32 := Scalar.remsi v35 c2_i32_13
  let c2048_i32_112 : BitVec 32 := 2048#32
  let v186 : BitVec 32 := Scalar.muli v36 c2048_i32_112
  let c1664_i32_113 : BitVec 32 := 1664#32
  let v187 : BitVec 32 := Scalar.addi v186 c1664_i32_113
  let c0_i32_114 : BitVec 32 := 0#32
  let v188 : BitVec 32 := Scalar.addi v187 c0_i32_114
  let c0_i32_119 : BitVec 32 := 0#32
  ![v188.toNat, 0]
def k0_off12 (d28 : Dev nD) : Fin 3 → Nat :=
  let c2_i32_115 : BitVec 32 := 2#32
  let v28 : BitVec 32 := Dev.word d28
  let c4_i32 : BitVec 32 := 4#32
  let v29 : BitVec 32 := Scalar.divsi v28 c4_i32
  let c2_i32 : BitVec 32 := 2#32
  let v30 : BitVec 32 := Scalar.remsi v29 c2_i32
  let v189 : BitVec 32 := Scalar.muli c2_i32_115 v30
  let v31 : BitVec 32 := Dev.word d28
  let c2_i32_12 : BitVec 32 := 2#32
  let v32 : BitVec 32 := Scalar.divsi v31 c2_i32_12
  let c2_i32_11 : BitVec 32 := 2#32
  let v33 : BitVec 32 := Scalar.remsi v32 c2_i32_11
  let v190 : BitVec 32 := Scalar.addi v189 v33
  let v34 : BitVec 32 := Dev.word d28
  let c1_i32 : BitVec 32 := 1#32
  let v35 : BitVec 32 := Scalar.divsi v34 c1_i32
  let c2_i32_13 : BitVec 32 := 2#32
  let v36 : BitVec 32 := Scalar.remsi v35 c2_i32_13
  let c2048_i32_112 : BitVec 32 := 2048#32
  let v186 : BitVec 32 := Scalar.muli v36 c2048_i32_112
  let c1664_i32_113 : BitVec 32 := 1664#32
  let v187 : BitVec 32 := Scalar.addi v186 c1664_i32_113
  let c0_i32_114 : BitVec 32 := 0#32
  let v188 : BitVec 32 := Scalar.addi v187 c0_i32_114
  let c0_i32_120 : BitVec 32 := 0#32
  ![v190.toNat, v188.toNat, 0]
def k0_off13 (d28 : Dev nD) : Fin 3 → Nat :=
  let c2_i32_133 : BitVec 32 := 2#32
  let c1_i32_15 : BitVec 32 := 1#32
  let v28 : BitVec 32 := Dev.word d28
  let c4_i32 : BitVec 32 := 4#32
  let v29 : BitVec 32 := Scalar.divsi v28 c4_i32
  let c2_i32 : BitVec 32 := 2#32
  let v30 : BitVec 32 := Scalar.remsi v29 c2_i32
  let v38 : BitVec 32 := Scalar.subi c1_i32_15 v30
  let v209 : BitVec 32 := Scalar.muli c2_i32_133 v38
  let v31 : BitVec 32 := Dev.word d28
  let c2_i32_12 : BitVec 32 := 2#32
  let v32 : BitVec 32 := Scalar.divsi v31 c2_i32_12
  let c2_i32_11 : BitVec 32 := 2#32
  let v33 : BitVec 32 := Scalar.remsi v32 c2_i32_11
  let v210 : BitVec 32 := Scalar.addi v209 v33
  let v34 : BitVec 32 := Dev.word d28
  let c1_i32 : BitVec 32 := 1#32
  let v35 : BitVec 32 := Scalar.divsi v34 c1_i32
  let c2_i32_13 : BitVec 32 := 2#32
  let v36 : BitVec 32 := Scalar.remsi v35 c2_i32_13
  let c2048_i32_130 : BitVec 32 := 2048#32
  let v206 : BitVec 32 := Scalar.muli v36 c2048_i32_130
  let c1664_i32_131 : BitVec 32 := 1664#32
  let v207 : BitVec 32 := Scalar.addi v206 c1664_i32_131
  let c0_i32_132 : BitVec 32 := 0#32
  let v208 : BitVec 32 := Scalar.addi v207 c0_i32_132
  let c0_i32_137 : BitVec 32 := 0#32
  ![v210.toNat, v208.toNat, 0]
def k0_off14 (d28 : Dev nD) : Fin 3 → Nat :=
  let c2_i32_142 : BitVec 32 := 2#32
  let v28 : BitVec 32 := Dev.word d28
  let c4_i32 : BitVec 32 := 4#32
  let v29 : BitVec 32 := Scalar.divsi v28 c4_i32
  let c2_i32 : BitVec 32 := 2#32
  let v30 : BitVec 32 := Scalar.remsi v29 c2_i32
  let v220 : BitVec 32 := Scalar.muli c2_i32_142 v30
  let c1_i32_16 : BitVec 32 := 1#32
  let v31 : BitVec 32 := Dev.word d28
  let c2_i32_12 : BitVec 32 := 2#32
  let v32 : BitVec 32 := Scalar.divsi v31 c2_i32_12
  let c2_i32_11 : BitVec 32 := 2#32
  let v33 : BitVec 32 := Scalar.remsi v32 c2_i32_11
  let v39 : BitVec 32 := Scalar.subi c1_i32_16 v33
  let v221 : BitVec 32 := Scalar.addi v220 v39
  let v34 : BitVec 32 := Dev.word d28
  let c1_i32 : BitVec 32 := 1#32
  let v35 : BitVec 32 := Scalar.divsi v34 c1_i32
  let c2_i32_13 : BitVec 32 := 2#32
  let v36 : BitVec 32 := Scalar.remsi v35 c2_i32_13
  let c2048_i32_139 : BitVec 32 := 2048#32
  let v217 : BitVec 32 := Scalar.muli v36 c2048_i32_139
  let c1664_i32_140 : BitVec 32 := 1664#32
  let v218 : BitVec 32 := Scalar.addi v217 c1664_i32_140
  let c0_i32_141 : BitVec 32 := 0#32
  let v219 : BitVec 32 := Scalar.addi v218 c0_i32_141
  let c0_i32_146 : BitVec 32 := 0#32
  ![v221.toNat, v219.toNat, 0]
def k0_off15 (d28 : Dev nD) : Fin 3 → Nat :=
  let c2_i32_151 : BitVec 32 := 2#32
  let c1_i32_15 : BitVec 32 := 1#32
  let v28 : BitVec 32 := Dev.word d28
  let c4_i32 : BitVec 32 := 4#32
  let v29 : BitVec 32 := Scalar.divsi v28 c4_i32
  let c2_i32 : BitVec 32 := 2#32
  let v30 : BitVec 32 := Scalar.remsi v29 c2_i32
  let v38 : BitVec 32 := Scalar.subi c1_i32_15 v30
  let v231 : BitVec 32 := Scalar.muli c2_i32_151 v38
  let v31 : BitVec 32 := Dev.word d28
  let c2_i32_12 : BitVec 32 := 2#32
  let v32 : BitVec 32 := Scalar.divsi v31 c2_i32_12
  let c2_i32_11 : BitVec 32 := 2#32
  let v33 : BitVec 32 := Scalar.remsi v32 c2_i32_11
  let v232 : BitVec 32 := Scalar.addi v231 v33
  let v34 : BitVec 32 := Dev.word d28
  let c1_i32 : BitVec 32 := 1#32
  let v35 : BitVec 32 := Scalar.divsi v34 c1_i32
  let c2_i32_13 : BitVec 32 := 2#32
  let v36 : BitVec 32 := Scalar.remsi v35 c2_i32_13
  let c2048_i32_148 : BitVec 32 := 2048#32
  let v228 : BitVec 32 := Scalar.muli v36 c2048_i32_148
  let c1664_i32_149 : BitVec 32 := 1664#32
  let v229 : BitVec 32 := Scalar.addi v228 c1664_i32_149
  let c0_i32_150 : BitVec 32 := 0#32
  let v230 : BitVec 32 := Scalar.addi v229 c0_i32_150
  let c0_i32_155 : BitVec 32 := 0#32
  ![v232.toNat, v230.toNat, 0]
def k0_off16 (d28 : Dev nD) : Fin 3 → Nat :=
  let c2_i32_160 : BitVec 32 := 2#32
  let v28 : BitVec 32 := Dev.word d28
  let c4_i32 : BitVec 32 := 4#32
  let v29 : BitVec 32 := Scalar.divsi v28 c4_i32
  let c2_i32 : BitVec 32 := 2#32
  let v30 : BitVec 32 := Scalar.remsi v29 c2_i32
  let v242 : BitVec 32 := Scalar.muli c2_i32_160 v30
  let c1_i32_16 : BitVec 32 := 1#32
  let v31 : BitVec 32 := Dev.word d28
  let c2_i32_12 : BitVec 32 := 2#32
  let v32 : BitVec 32 := Scalar.divsi v31 c2_i32_12
  let c2_i32_11 : BitVec 32 := 2#32
  let v33 : BitVec 32 := Scalar.remsi v32 c2_i32_11
  let v39 : BitVec 32 := Scalar.subi c1_i32_16 v33
  let v243 : BitVec 32 := Scalar.addi v242 v39
  let v34 : BitVec 32 := Dev.word d28
  let c1_i32 : BitVec 32 := 1#32
  let v35 : BitVec 32 := Scalar.divsi v34 c1_i32
  let c2_i32_13 : BitVec 32 := 2#32
  let v36 : BitVec 32 := Scalar.remsi v35 c2_i32_13
  let c2048_i32_157 : BitVec 32 := 2048#32
  let v239 : BitVec 32 := Scalar.muli v36 c2048_i32_157
  let c1664_i32_158 : BitVec 32 := 1664#32
  let v240 : BitVec 32 := Scalar.addi v239 c1664_i32_158
  let c192_i32_159 : BitVec 32 := 192#32
  let v241 : BitVec 32 := Scalar.addi v240 c192_i32_159
  let c0_i32_164 : BitVec 32 := 0#32
  ![v243.toNat, v241.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NmReferenceIdeal.lean ====
abbrev S32768x4096 : Shape := ⟨2, ![32768, 4096]⟩
abbrev S1x4096 : Shape := ⟨2, ![1, 4096]⟩
abbrev S16384x4096 : Shape := ⟨2, ![16384, 4096]⟩
abbrev S_ : Shape := ⟨0, ![]⟩
abbrev S32768 : Shape := ⟨1, ![32768]⟩
abbrev S32768x1 : Shape := ⟨2, ![32768, 1]⟩
abbrev S4x2x2048x4096 : Shape := ⟨4, ![4, 2, 2048, 4096]⟩
abbrev S4x2x384x4096 : Shape := ⟨4, ![4, 2, 384, 4096]⟩

abbrev nBuf : Space → Nat
  | .hbm => 21
  | .vmem => 0
  | .smem => 0
  | _ => 0

abbrev bufTy : (tb : Table) → Fin (tcTables nBuf tb) → BufTy
  | .hbm, ⟨0, _⟩ => ⟨S32768x4096, .f32⟩
  | .hbm, ⟨1, _⟩ => ⟨S1x4096, .f32⟩
  | .hbm, ⟨2, _⟩ => ⟨S16384x4096, .bf16⟩
  | .hbm, ⟨3, _⟩ => ⟨S32768x4096, .f32⟩
  | .hbm, ⟨4, _⟩ => ⟨S_, .f32⟩
  | .hbm, ⟨5, _⟩ => ⟨S32768, .f32⟩
  | .hbm, ⟨6, _⟩ => ⟨S32768x1, .f32⟩
  | .hbm, ⟨7, _⟩ => ⟨S_, .f32⟩
  | .hbm, ⟨8, _⟩ => ⟨S32768x1, .f32⟩
  | .hbm, ⟨9, _⟩ => ⟨S32768x1, .f32⟩
  | .hbm, ⟨10, _⟩ => ⟨S_, .f32⟩
  | .hbm, ⟨11, _⟩ => ⟨S32768x1, .f32⟩
  | .hbm, ⟨12, _⟩ => ⟨S32768x1, .f32⟩
  | .hbm, ⟨13, _⟩ => ⟨S32768x1, .f32⟩
  | .hbm, ⟨14, _⟩ => ⟨S32768x4096, .f32⟩
  | .hbm, ⟨15, _⟩ => ⟨S32768x4096, .f32⟩
  | .hbm, ⟨16, _⟩ => ⟨S32768x4096, .f32⟩
  | .hbm, ⟨17, _⟩ => ⟨S32768x4096, .f32⟩
  | .hbm, ⟨18, _⟩ => ⟨S32768x4096, .bf16⟩
  | .hbm, ⟨19, _⟩ => ⟨S4x2x2048x4096, .bf16⟩
  | .hbm, ⟨20, _⟩ => ⟨S4x2x384x4096, .bf16⟩
  | _, _ => ⟨S32768x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== PfKernel.lean ====
abbrev S4096x4096 : Shape := ⟨2, ![4096, 4096]⟩
abbrev S4x4096x2560 : Shape := ⟨3, ![4, 4096, 2560]⟩
abbrev S1024x4096 : Shape := ⟨2, ![1024, 4096]⟩
abbrev S4096x10240 : Shape := ⟨2, ![4096, 10240]⟩
abbrev S4x1024x4096 : Shape := ⟨3, ![4, 1024, 4096]⟩
abbrev S4x4096x4096 : Shape := ⟨3, ![4, 4096, 4096]⟩
abbrev S1x4096x512 : Shape := ⟨3, ![1, 4096, 512]⟩
abbrev S1024x512 : Shape := ⟨2, ![1024, 512]⟩
abbrev S16 : Shape := ⟨1, ![16]⟩
abbrev S1 : Shape := ⟨1, ![1]⟩
abbrev S_ : Shape := ⟨0, ![]⟩
abbrev S1x512x4096 : Shape := ⟨3, ![1, 512, 4096]⟩
abbrev S512x4096 : Shape := ⟨2, ![512, 4096]⟩
abbrev S1x880x4096 : Shape := ⟨3, ![1, 880, 4096]⟩
abbrev S880x4096 : Shape := ⟨2, ![880, 4096]⟩
abbrev S4096x512 : Shape := ⟨2, ![4096, 512]⟩
abbrev S1x256x4096 : Shape := ⟨3, ![1, 256, 4096]⟩
abbrev S256x4096 : Shape := ⟨2, ![256, 4096]⟩
abbrev S1x432x4096 : Shape := ⟨3, ![1, 432, 4096]⟩
abbrev S432x4096 : Shape := ⟨2, ![432, 4096]⟩
abbrev S1x448x4096 : Shape := ⟨3, ![1, 448, 4096]⟩
abbrev S448x4096 : Shape := ⟨2, ![448, 4096]⟩
abbrev S2x2048x4096 : Shape := ⟨3, ![2, 2048, 4096]⟩
abbrev S2x880x4096 : Shape := ⟨3, ![2, 880, 4096]⟩
abbrev S4x2x2048x4096 : Shape := ⟨4, ![4, 2, 2048, 4096]⟩
abbrev S4x2x880x4096 : Shape := ⟨4, ![4, 2, 880, 4096]⟩

abbrev nBuf : Space → Nat
  | .hbm => 40
  | .vmem => 6
  | .smem => 0
  | _ => 0

abbrev bufTy : (tb : Table) → Fin (tcTables nBuf tb) → BufTy
  | .hbm, ⟨0, _⟩ => ⟨S4096x4096, .bf16⟩
  | .hbm, ⟨1, _⟩ => ⟨S4x4096x2560, .bf16⟩
  | .hbm, ⟨2, _⟩ => ⟨S1024x4096, .bf16⟩
  | .hbm, ⟨3, _⟩ => ⟨S4096x4096, .bf16⟩
  | .hbm, ⟨4, _⟩ => ⟨S4096x10240, .f32⟩
  | .hbm, ⟨5, _⟩ => ⟨S4x1024x4096, .bf16⟩
  | .hbm, ⟨6, _⟩ => ⟨S4x4096x4096, .bf16⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S_, .i32⟩
  | .hbm, ⟨22, _⟩ => ⟨S_, .i32⟩
  | .hbm, ⟨23, _⟩ => ⟨S_, .i32⟩
  | .hbm, ⟨24, _⟩ => ⟨S_, .i32⟩
  | .hbm, ⟨25, _⟩ => ⟨S_, .i32⟩
  | .hbm, ⟨26, _⟩ => ⟨S4x1024x4096, .i32⟩
  | .hbm, ⟨27, _⟩ => ⟨S4x1024x4096, .i32⟩
  | .hbm, ⟨28, _⟩ => ⟨S4x1024x4096, .i1⟩
  | .hbm, ⟨29, _⟩ => ⟨S4x1024x4096, .bf16⟩
  | .hbm, ⟨30, _⟩ => ⟨S4x1024x4096, .bf16⟩
  | .hbm, ⟨31, _⟩ => ⟨S2x2048x4096, .bf16⟩
  | .hbm, ⟨32, _⟩ => ⟨S2x880x4096, .bf16⟩
  | .hbm, ⟨33, _⟩ => ⟨S4x2x2048x4096, .bf16⟩
  | .hbm, ⟨34, _⟩ => ⟨S4x2x880x4096, .bf16⟩
  | .hbm, ⟨35, _⟩ => ⟨S4x2x880x4096, .i32⟩
  | .hbm, ⟨36, _⟩ => ⟨S4x2x880x4096, .i32⟩
  | .hbm, ⟨37, _⟩ => ⟨S4x2x880x4096, .i1⟩
  | .hbm, ⟨38, _⟩ => ⟨S4x2x880x4096, .bf16⟩
  | .hbm, ⟨39, _⟩ => ⟨S4x2x880x4096, .bf16⟩
  | .local _ .vmem, ⟨0, _⟩ => ⟨S1024x4096, .bf16⟩
  | .local _ .vmem, ⟨1, _⟩ => ⟨S1024x4096, .bf16⟩
  | .local _ .vmem, ⟨2, _⟩ => ⟨S1x4096x512, .bf16⟩
  | .local _ .vmem, ⟨3, _⟩ => ⟨S1x4096x512, .bf16⟩
  | .local _ .vmem, ⟨4, _⟩ => ⟨S1024x512, .f32⟩
  | .local _ .vmem, ⟨5, _⟩ => ⟨S1024x512, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_c : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c_1 : Ref sig .tc := ⟨.hbm, 13, rfl⟩
abbrev main_v6 : Ref sig .tc := ⟨.hbm, 14, rfl⟩
abbrev main_c_2 : Ref sig .tc := ⟨.hbm, 15, rfl⟩
abbrev main_v7 : Ref sig .tc := ⟨.hbm, 16, rfl⟩
abbrev main_c_3 : Ref sig .tc := ⟨.hbm, 17, rfl⟩
abbrev main_c_4 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_c_5 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 8
abbrev τ : Topo := Topo.v7x

variable {F : FTy → Type} [FloatOps F]

abbrev grid0 : Pipeline.Grid := ⟨3, ![4, 20, 1], ![false, false, false]⟩

def k0_cond1 (i : grid0.Coords) : BitVec 1 :=
  let c0_i32 : BitVec 32 := 0#32
  let arg0 : BitVec 32 := BitVec.ofNat 32 (i 0).val
  let v0 : BitVec 32 := Scalar.addi c0_i32 arg0
  let c20_i32 : BitVec 32 := 20#32
  let v1 : BitVec 32 := Scalar.muli v0 c20_i32
  let arg1 : BitVec 32 := BitVec.ofNat 32 (i 1).val
  let v2 : BitVec 32 := Scalar.addi v1 arg1
  let c1_i32 : BitVec 32 := 1#32
  let v3 : BitVec 32 := Scalar.muli v2 c1_i32
  let arg2 : BitVec 32 := BitVec.ofNat 32 (i 2).val
  let v4 : BitVec 32 := Scalar.addi v3 arg2
  let c0_i32_0 : BitVec 32 := 0#32
  let v5 : BitVec 1 := Scalar.cmpi .eq v4 c0_i32_0
  let v6 : BitVec 32 := Scalar.extui v5
  let c0_i32_1 : BitVec 32 := 0#32
  let v7 : BitVec 1 := Scalar.cmpi .ne v6 c0_i32_1
  v7

def k0_off1 (d20 : Dev nD) : Fin 3 → Nat :=
  let c2_i32_18 : BitVec 32 := 2#32
  let v20 : BitVec 32 := Dev.word d20
  let c4_i32 : BitVec 32 := 4#32
  let v21 : BitVec 32 := Scalar.divsi v20 c4_i32
  let c2_i32 : BitVec 32 := 2#32
  let v22 : BitVec 32 := Scalar.remsi v21 c2_i32
  let v34 : BitVec 32 := Scalar.muli c2_i32_18 v22
  let v23 : BitVec 32 := Dev.word d20
  let c2_i32_11 : BitVec 32 := 2#32
  let v24 : BitVec 32 := Scalar.divsi v23 c2_i32_11
  let c2_i32_10 : BitVec 32 := 2#32
  let v25 : BitVec 32 := Scalar.remsi v24 c2_i32_10
  let v35 : BitVec 32 := Scalar.addi v34 v25
  let v26 : BitVec 32 := Dev.word d20
  let c1_i32_13 : BitVec 32 := 1#32
  let v27 : BitVec 32 := Scalar.divsi v26 c1_i32_13
  let c2_i32_12 : BitVec 32 := 2#32
  let v28 : BitVec 32 := Scalar.remsi v27 c2_i32_12
  let c512_i32 : BitVec 32 := 512#32
  let v31 : BitVec 32 := Scalar.muli v28 c512_i32
  let c0_i32_16 : BitVec 32 := 0#32
  let v32 : BitVec 32 := Scalar.addi v31 c0_i32_16
  let c0_i32_17 : BitVec 32 := 0#32
  let v33 : BitVec 32 := Scalar.addi v32 c0_i32_17
  let c0_i32_25 : BitVec 32 := 0#32
  ![v35.toNat, v33.toNat, 0]
def k0_off2 (d20 : Dev nD) : Fin 2 → Nat :=
  let v26 : BitVec 32 := Dev.word d20
  let c1_i32_13 : BitVec 32 := 1#32
  let v27 : BitVec 32 := Scalar.divsi v26 c1_i32_13
  let c2_i32_12 : BitVec 32 := 2#32
  let v28 : BitVec 32 := Scalar.remsi v27 c2_i32_12
  let c512_i32 : BitVec 32 := 512#32
  let v31 : BitVec 32 := Scalar.muli v28 c512_i32
  let c0_i32_16 : BitVec 32 := 0#32
  let v32 : BitVec 32 := Scalar.addi v31 c0_i32_16
  let c0_i32_17 : BitVec 32 := 0#32
  let v33 : BitVec 32 := Scalar.addi v32 c0_i32_17
  let c0_i32_26 : BitVec 32 := 0#32
  ![v33.toNat, 0]
def k0_dev1 (d20 : Dev nD) : Nat :=
  let c0_i32_22 : BitVec 32 := 0#32
  let c1_i32_14 : BitVec 32 := 1#32
  let v20 : BitVec 32 := Dev.word d20
  let c4_i32 : BitVec 32 := 4#32
  let v21 : BitVec 32 := Scalar.divsi v20 c4_i32
  let c2_i32 : BitVec 32 := 2#32
  let v22 : BitVec 32 := Scalar.remsi v21 c2_i32
  let v29 : BitVec 32 := Scalar.subi c1_i32_14 v22
  let c4_i32_21 : BitVec 32 := 4#32
  let v36 : BitVec 32 := Scalar.muli v29 c4_i32_21
  let v37 : BitVec 32 := Scalar.addi c0_i32_22 v36
  let v23 : BitVec 32 := Dev.word d20
  let c2_i32_11 : BitVec 32 := 2#32
  let v24 : BitVec 32 := Scalar.divsi v23 c2_i32_11
  let c2_i32_10 : BitVec 32 := 2#32
  let v25 : BitVec 32 := Scalar.remsi v24 c2_i32_10
  let c2_i32_23 : BitVec 32 := 2#32
  let v38 : BitVec 32 := Scalar.muli v25 c2_i32_23
  let v39 : BitVec 32 := Scalar.addi v37 v38
  let v26 : BitVec 32 := Dev.word d20
  let c1_i32_13 : BitVec 32 := 1#32
  let v27 : BitVec 32 := Scalar.divsi v26 c1_i32_13
  let c2_i32_12 : BitVec 32 := 2#32
  let v28 : BitVec 32 := Scalar.remsi v27 c2_i32_12
  let c1_i32_24 : BitVec 32 := 1#32
  let v40 : BitVec 32 := Scalar.muli v28 c1_i32_24
  let v41 : BitVec 32 := Scalar.addi v39 v40
  v41.toNat
def k0_dev2 (d20 : Dev nD) : Nat :=
  let c0_i32_34 : BitVec 32 := 0#32
  let v20 : BitVec 32 := Dev.word d20
  let c4_i32 : BitVec 32 := 4#32
  let v21 : BitVec 32 := Scalar.divsi v20 c4_i32
  let c2_i32 : BitVec 32 := 2#32
  let v22 : BitVec 32 := Scalar.remsi v21 c2_i32
  let c4_i32_33 : BitVec 32 := 4#32
  let v54 : BitVec 32 := Scalar.muli v22 c4_i32_33
  let v55 : BitVec 32 := Scalar.addi c0_i32_34 v54
  let c1_i32_15 : BitVec 32 := 1#32
  let v23 : BitVec 32 := Dev.word d20
  let c2_i32_11 : BitVec 32 := 2#32
  let v24 : BitVec 32 := Scalar.divsi v23 c2_i32_11
  let c2_i32_10 : BitVec 32 := 2#32
  let v25 : BitVec 32 := Scalar.remsi v24 c2_i32_10
  let v30 : BitVec 32 := Scalar.subi c1_i32_15 v25
  let c2_i32_35 : BitVec 32 := 2#32
  let v56 : BitVec 32 := Scalar.muli v30 c2_i32_35
  let v57 : BitVec 32 := Scalar.addi v55 v56
  let v26 : BitVec 32 := Dev.word d20
  let c1_i32_13 : BitVec 32 := 1#32
  let v27 : BitVec 32 := Scalar.divsi v26 c1_i32_13
  let c2_i32_12 : BitVec 32 := 2#32
  let v28 : BitVec 32 := Scalar.remsi v27 c2_i32_12
  let c1_i32_36 : BitVec 32 := 1#32
  let v58 : BitVec 32 := Scalar.muli v28 c1_i32_36
  let v59 : BitVec 32 := Scalar.addi v57 v58
  v59.toNat
def k0_off3 (d20 : Dev nD) : Fin 3 → Nat :=
  let c2_i32_49 : BitVec 32 := 2#32
  let v67 : BitVec 32 := Dev.word d20
  let c4_i32_40 : BitVec 32 := 4#32
  let v68 : BitVec 32 := Scalar.divsi v67 c4_i32_40
  let c2_i32_39 : BitVec 32 := 2#32
  let v69 : BitVec 32 := Scalar.remsi v68 c2_i32_39
  let v81 : BitVec 32 := Scalar.muli c2_i32_49 v69
  let v70 : BitVec 32 := Dev.word d20
  let c2_i32_42 : BitVec 32 := 2#32
  let v71 : BitVec 32 := Scalar.divsi v70 c2_i32_42
  let c2_i32_41 : BitVec 32 := 2#32
  let v72 : BitVec 32 := Scalar.remsi v71 c2_i32_41
  let v82 : BitVec 32 := Scalar.addi v81 v72
  let v73 : BitVec 32 := Dev.word d20
  let c1_i32_44 : BitVec 32 := 1#32
  let v74 : BitVec 32 := Scalar.divsi v73 c1_i32_44
  let c2_i32_43 : BitVec 32 := 2#32
  let v75 : BitVec 32 := Scalar.remsi v74 c2_i32_43
  let c2048_i32 : BitVec 32 := 2048#32
  let v78 : BitVec 32 := Scalar.muli v75 c2048_i32
  let c0_i32_47 : BitVec 32 := 0#32
  let v79 : BitVec 32 := Scalar.addi v78 c0_i32_47
  let c0_i32_48 : BitVec 32 := 0#32
  let v80 : BitVec 32 := Scalar.addi v79 c0_i32_48
  let c0_i32_55 : BitVec 32 := 0#32
  ![v82.toNat, v80.toNat, 0]
def k0_off4 (d20 : Dev nD) : Fin 2 → Nat :=
  let v73 : BitVec 32 := Dev.word d20
  let c1_i32_44 : BitVec 32 := 1#32
  let v74 : BitVec 32 := Scalar.divsi v73 c1_i32_44
  let c2_i32_43 : BitVec 32 := 2#32
  let v75 : BitVec 32 := Scalar.remsi v74 c2_i32_43
  let c2048_i32 : BitVec 32 := 2048#32
  let v78 : BitVec 32 := Scalar.muli v75 c2048_i32
  let c0_i32_47 : BitVec 32 := 0#32
  let v79 : BitVec 32 := Scalar.addi v78 c0_i32_47
  let c0_i32_48 : BitVec 32 := 0#32
  let v80 : BitVec 32 := Scalar.addi v79 c0_i32_48
  let c0_i32_56 : BitVec 32 := 0#32
  ![v80.toNat, 0]
def k0_dev3 (d20 : Dev nD) : Nat :=
  let c0_i32_52 : BitVec 32 := 0#32
  let c1_i32_45 : BitVec 32 := 1#32
  let v67 : BitVec 32 := Dev.word d20
  let c4_i32_40 : BitVec 32 := 4#32
  let v68 : BitVec 32 := Scalar.divsi v67 c4_i32_40
  let c2_i32_39 : BitVec 32 := 2#32
  let v69 : BitVec 32 := Scalar.remsi v68 c2_i32_39
  let v76 : BitVec 32 := Scalar.subi c1_i32_45 v69
  let c4_i32_51 : BitVec 32 := 4#32
  let v83 : BitVec 32 := Scalar.muli v76 c4_i32_51
  let v84 : BitVec 32 := Scalar.addi c0_i32_52 v83
  let v70 : BitVec 32 := Dev.word d20
  let c2_i32_42 : BitVec 32 := 2#32
  let v71 : BitVec 32 := Scalar.divsi v70 c2_i32_42
  let c2_i32_41 : BitVec 32 := 2#32
  let v72 : BitVec 32 := Scalar.remsi v71 c2_i32_41
  let c2_i32_53 : BitVec 32 := 2#32
  let v85 : BitVec 32 := Scalar.muli v72 c2_i32_53
  let v86 : BitVec 32 := Scalar.addi v84 v85
  let v73 : BitVec 32 := Dev.word d20
  let c1_i32_44 : BitVec 32 := 1#32
  let v74 : BitVec 32 := Scalar.divsi v73 c1_i32_44
  let c2_i32_43 : BitVec 32 := 2#32
  let v75 : BitVec 32 := Scalar.remsi v74 c2_i32_43
  let c1_i32_54 : BitVec 32 := 1#32
  let v87 : BitVec 32 := Scalar.muli v75 c1_i32_54
  let v88 : BitVec 32 := Scalar.addi v86 v87
  v88.toNat
def k0_dev4 (d20 : Dev nD) : Nat :=
  let c0_i32_63 : BitVec 32 := 0#32
  let v67 : BitVec 32 := Dev.word d20
  let c4_i32_40 : BitVec 32 := 4#32
  let v68 : BitVec 32 := Scalar.divsi v67 c4_i32_40
  let c2_i32_39 : BitVec 32 := 2#32
  let v69 : BitVec 32 := Scalar.remsi v68 c2_i32_39
  let c4_i32_62 : BitVec 32 := 4#32
  let v101 : BitVec 32 := Scalar.muli v69 c4_i32_62
  let v102 : BitVec 32 := Scalar.addi c0_i32_63 v101
  let c1_i32_46 : BitVec 32 := 1#32
  let v70 : BitVec 32 := Dev.word d20
  let c2_i32_42 : BitVec 32 := 2#32
  let v71 : BitVec 32 := Scalar.divsi v70 c2_i32_42
  let c2_i32_41 : BitVec 32 := 2#32
  let v72 : BitVec 32 := Scalar.remsi v71 c2_i32_41
  let v77 : BitVec 32 := Scalar.subi c1_i32_46 v72
  let c2_i32_64 : BitVec 32 := 2#32
  let v103 : BitVec 32 := Scalar.muli v77 c2_i32_64
  let v104 : BitVec 32 := Scalar.addi v102 v103
  let v73 : BitVec 32 := Dev.word d20
  let c1_i32_44 : BitVec 32 := 1#32
  let v74 : BitVec 32 := Scalar.divsi v73 c1_i32_44
  let c2_i32_43 : BitVec 32 := 2#32
  let v75 : BitVec 32 := Scalar.remsi v74 c2_i32_43
  let c1_i32_65 : BitVec 32 := 1#32
  let v105 : BitVec 32 := Scalar.muli v75 c1_i32_65
  let v106 : BitVec 32 := Scalar.addi v104 v105
  v106.toNat
def k0_cond2 (i : grid0.Coords) : BitVec 1 :=
  let c0_i32 : BitVec 32 := 0#32
  let arg0 : BitVec 32 := BitVec.ofNat 32 (i 0).val
  let v0 : BitVec 32 := Scalar.addi c0_i32 arg0
  let c20_i32 : BitVec 32 := 20#32
  let v1 : BitVec 32 := Scalar.muli v0 c20_i32
  let arg1 : BitVec 32 := BitVec.ofNat 32 (i 1).val
  let v2 : BitVec 32 := Scalar.addi v1 arg1
  let c1_i32 : BitVec 32 := 1#32
  let v3 : BitVec 32 := Scalar.muli v2 c1_i32
  let arg2 : BitVec 32 := BitVec.ofNat 32 (i 2).val
  let v4 : BitVec 32 := Scalar.addi v3 arg2
  let c48_i32 : BitVec 32 := 48#32
  let v14 : BitVec 1 := Scalar.cmpi .eq v4 c48_i32
  let v15 : BitVec 32 := Scalar.extui v14
  let c0_i32_8 : BitVec 32 := 0#32
  let v16 : BitVec 1 := Scalar.cmpi .ne v15 c0_i32_8
  v16

def k0_off5 (d20 : Dev nD) : Fin 3 → Nat :=
  let c2_i32_19 : BitVec 32 := 2#32
  let c1_i32_15 : BitVec 32 := 1#32
  let v20 : BitVec 32 := Dev.word d20
  let c4_i32 : BitVec 32 := 4#32
  let v21 : BitVec 32 := Scalar.divsi v20 c4_i32
  let c2_i32 : BitVec 32 := 2#32
  let v22 : BitVec 32 := Scalar.remsi v21 c2_i32
  let v30 : BitVec 32 := Scalar.subi c1_i32_15 v22
  let v35 : BitVec 32 := Scalar.muli c2_i32_19 v30
  let v23 : BitVec 32 := Dev.word d20
  let c2_i32_11 : BitVec 32 := 2#32
  let v24 : BitVec 32 := Scalar.divsi v23 c2_i32_11
  let c2_i32_10 : BitVec 32 := 2#32
  let v25 : BitVec 32 := Scalar.remsi v24 c2_i32_10
  let v36 : BitVec 32 := Scalar.addi v35 v25
  let v26 : BitVec 32 := Dev.word d20
  let c1_i32_13 : BitVec 32 := 1#32
  let v27 : BitVec 32 := Scalar.divsi v26 c1_i32_13
  let c2_i32_12 : BitVec 32 := 2#32
  let v28 : BitVec 32 := Scalar.remsi v27 c2_i32_12
  let c512_i32 : BitVec 32 := 512#32
  let v32 : BitVec 32 := Scalar.muli v28 c512_i32
  let c0_i32_17 : BitVec 32 := 0#32
  let v33 : BitVec 32 := Scalar.addi v32 c0_i32_17
  let c0_i32_18 : BitVec 32 := 0#32
  let v34 : BitVec 32 := Scalar.addi v33 c0_i32_18
  let c0_i32_26 : BitVec 32 := 0#32
  ![v36.toNat, v34.toNat, 0]
def k0_off6 (d20 : Dev nD) : Fin 3 → Nat :=
  let c2_i32_31 : BitVec 32 := 2#32
  let c1_i32_15 : BitVec 32 := 1#32
  let v20 : BitVec 32 := Dev.word d20
  let c4_i32 : BitVec 32 := 4#32
  let v21 : BitVec 32 := Scalar.divsi v20 c4_i32
  let c2_i32 : BitVec 32 := 2#32
  let v22 : BitVec 32 := Scalar.remsi v21 c2_i32
  let v30 : BitVec 32 := Scalar.subi c1_i32_15 v22
  let v52 : BitVec 32 := Scalar.muli c2_i32_31 v30
  let v23 : BitVec 32 := Dev.word d20
  let c2_i32_11 : BitVec 32 := 2#32
  let v24 : BitVec 32 := Scalar.divsi v23 c2_i32_11
  let c2_i32_10 : BitVec 32 := 2#32
  let v25 : BitVec 32 := Scalar.remsi v24 c2_i32_10
  let v53 : BitVec 32 := Scalar.addi v52 v25
  let v26 : BitVec 32 := Dev.word d20
  let c1_i32_13 : BitVec 32 := 1#32
  let v27 : BitVec 32 := Scalar.divsi v26 c1_i32_13
  let c2_i32_12 : BitVec 32 := 2#32
  let v28 : BitVec 32 := Scalar.remsi v27 c2_i32_12
  let c512_i32_28 : BitVec 32 := 512#32
  let v49 : BitVec 32 := Scalar.muli v28 c512_i32_28
  let c0_i32_29 : BitVec 32 := 0#32
  let v50 : BitVec 32 := Scalar.addi v49 c0_i32_29
  let c0_i32_30 : BitVec 32 := 0#32
  let v51 : BitVec 32 := Scalar.addi v50 c0_i32_30
  let c0_i32_38 : BitVec 32 := 0#32
  ![v53.toNat, v51.toNat, 0]
def k0_dev5 (d20 : Dev nD) : Nat :=
  let c0_i32_35 : BitVec 32 := 0#32
  let v20 : BitVec 32 := Dev.word d20
  let c4_i32 : BitVec 32 := 4#32
  let v21 : BitVec 32 := Scalar.divsi v20 c4_i32
  let c2_i32 : BitVec 32 := 2#32
  let v22 : BitVec 32 := Scalar.remsi v21 c2_i32
  let c4_i32_34 : BitVec 32 := 4#32
  let v54 : BitVec 32 := Scalar.muli v22 c4_i32_34
  let v55 : BitVec 32 := Scalar.addi c0_i32_35 v54
  let c1_i32_16 : BitVec 32 := 1#32
  let v23 : BitVec 32 := Dev.word d20
  let c2_i32_11 : BitVec 32 := 2#32
  let v24 : BitVec 32 := Scalar.divsi v23 c2_i32_11
  let c2_i32_10 : BitVec 32 := 2#32
  let v25 : BitVec 32 := Scalar.remsi v24 c2_i32_10
  let v31 : BitVec 32 := Scalar.subi c1_i32_16 v25
  let c2_i32_36 : BitVec 32 := 2#32
  let v56 : BitVec 32 := Scalar.muli v31 c2_i32_36
  let v57 : BitVec 32 := Scalar.addi v55 v56
  let v26 : BitVec 32 := Dev.word d20
  let c1_i32_13 : BitVec 32 := 1#32
  let v27 : BitVec 32 := Scalar.divsi v26 c1_i32_13
  let c2_i32_12 : BitVec 32 := 2#32
  let v28 : BitVec 32 := Scalar.remsi v27 c2_i32_12
  let c1_i32_37 : BitVec 32 := 1#32
  let v58 : BitVec 32 := Scalar.muli v28 c1_i32_37
  let v59 : BitVec 32 := Scalar.addi v57 v58
  v59.toNat
def k0_dev6 (d20 : Dev nD) : Nat :=
  let c0_i32_47 : BitVec 32 := 0#32
  let v20 : BitVec 32 := Dev.word d20
  let c4_i32 : BitVec 32 := 4#32
  let v21 : BitVec 32 := Scalar.divsi v20 c4_i32
  let c2_i32 : BitVec 32 := 2#32
  let v22 : BitVec 32 := Scalar.remsi v21 c2_i32
  let c4_i32_46 : BitVec 32 := 4#32
  let v73 : BitVec 32 := Scalar.muli v22 c4_i32_46
  let v74 : BitVec 32 := Scalar.addi c0_i32_47 v73
  let v23 : BitVec 32 := Dev.word d20
  let c2_i32_11 : BitVec 32 := 2#32
  let v24 : BitVec 32 := Scalar.divsi v23 c2_i32_11
  let c2_i32_10 : BitVec 32 := 2#32
  let v25 : BitVec 32 := Scalar.remsi v24 c2_i32_10
  let c2_i32_48 : BitVec 32 := 2#32
  let v75 : BitVec 32 := Scalar.muli v25 c2_i32_48
  let v76 : BitVec 32 := Scalar.addi v74 v75
  let c1_i32_14 : BitVec 32 := 1#32
  let v26 : BitVec 32 := Dev.word d20
  let c1_i32_13 : BitVec 32 := 1#32
  let v27 : BitVec 32 := Scalar.divsi v26 c1_i32_13
  let c2_i32_12 : BitVec 32 := 2#32
  let v28 : BitVec 32 := Scalar.remsi v27 c2_i32_12
  let v29 : BitVec 32 := Scalar.subi c1_i32_14 v28
  let c1_i32_49 : BitVec 32 := 1#32
  let v77 : BitVec 32 := Scalar.muli v29 c1_i32_49
  let v78 : BitVec 32 := Scalar.addi v76 v77
  v78.toNat
def k0_off7 (d20 : Dev nD) : Fin 3 → Nat :=
  let c2_i32_55 : BitVec 32 := 2#32
  let v20 : BitVec 32 := Dev.word d20
  let c4_i32 : BitVec 32 := 4#32
  let v21 : BitVec 32 := Scalar.divsi v20 c4_i32
  let c2_i32 : BitVec 32 := 2#32
  let v22 : BitVec 32 := Scalar.remsi v21 c2_i32
  let v90 : BitVec 32 := Scalar.muli c2_i32_55 v22
  let c1_i32_16 : BitVec 32 := 1#32
  let v23 : BitVec 32 := Dev.word d20
  let c2_i32_11 : BitVec 32 := 2#32
  let v24 : BitVec 32 := Scalar.divsi v23 c2_i32_11
  let c2_i32_10 : BitVec 32 := 2#32
  let v25 : BitVec 32 := Scalar.remsi v24 c2_i32_10
  let v31 : BitVec 32 := Scalar.subi c1_i32_16 v25
  let v91 : BitVec 32 := Scalar.addi v90 v31
  let v26 : BitVec 32 := Dev.word d20
  let c1_i32_13 : BitVec 32 := 1#32
  let v27 : BitVec 32 := Scalar.divsi v26 c1_i32_13
  let c2_i32_12 : BitVec 32 := 2#32
  let v28 : BitVec 32 := Scalar.remsi v27 c2_i32_12
  let c512_i32_52 : BitVec 32 := 512#32
  let v87 : BitVec 32 := Scalar.muli v28 c512_i32_52
  let c0_i32_53 : BitVec 32 := 0#32
  let v88 : BitVec 32 := Scalar.addi v87 c0_i32_53
  let c0_i32_54 : BitVec 32 := 0#32
  let v89 : BitVec 32 := Scalar.addi v88 c0_i32_54
  let c0_i32_62 : BitVec 32 := 0#32
  ![v91.toNat, v89.toNat, 0]
def k0_off8 (d20 : Dev nD) : Fin 3 → Nat :=
  let c2_i32_66 : BitVec 32 := 2#32
  let v20 : BitVec 32 := Dev.word d20
  let c4_i32 : BitVec 32 := 4#32
  let v21 : BitVec 32 := Scalar.divsi v20 c4_i32
  let c2_i32 : BitVec 32 := 2#32
  let v22 : BitVec 32 := Scalar.remsi v21 c2_i32
  let v107 : BitVec 32 := Scalar.muli c2_i32_66 v22
  let c1_i32_16 : BitVec 32 := 1#32
  let v23 : BitVec 32 := Dev.word d20
  let c2_i32_11 : BitVec 32 := 2#32
  let v24 : BitVec 32 := Scalar.divsi v23 c2_i32_11
  let c2_i32_10 : BitVec 32 := 2#32
  let v25 : BitVec 32 := Scalar.remsi v24 c2_i32_10
  let v31 : BitVec 32 := Scalar.subi c1_i32_16 v25
  let v108 : BitVec 32 := Scalar.addi v107 v31
  let v26 : BitVec 32 := Dev.word d20
  let c1_i32_13 : BitVec 32 := 1#32
  let v27 : BitVec 32 := Scalar.divsi v26 c1_i32_13
  let c2_i32_12 : BitVec 32 := 2#32
  let v28 : BitVec 32 := Scalar.remsi v27 c2_i32_12
  let c512_i32_64 : BitVec 32 := 512#32
  let v104 : BitVec 32 := Scalar.muli v28 c512_i32_64
  let c0_i32_65 : BitVec 32 := 0#32
  let v105 : BitVec 32 := Scalar.addi v104 c0_i32_65
  let c256_i32 : BitVec 32 := 256#32
  let v106 : BitVec 32 := Scalar.addi v105 c256_i32
  let c0_i32_72 : BitVec 32 := 0#32
  ![v108.toNat, v106.toNat, 0]
def k0_dev7 (d20 : Dev nD) : Nat :=
  let c0_i32_69 : BitVec 32 := 0#32
  let c1_i32_15 : BitVec 32 := 1#32
  let v20 : BitVec 32 := Dev.word d20
  let c4_i32 : BitVec 32 := 4#32
  let v21 : BitVec 32 := Scalar.divsi v20 c4_i32
  let c2_i32 : BitVec 32 := 2#32
  let v22 : BitVec 32 := Scalar.remsi v21 c2_i32
  let v30 : BitVec 32 := Scalar.subi c1_i32_15 v22
  let c4_i32_68 : BitVec 32 := 4#32
  let v109 : BitVec 32 := Scalar.muli v30 c4_i32_68
  let v110 : BitVec 32 := Scalar.addi c0_i32_69 v109
  let v23 : BitVec 32 := Dev.word d20
  let c2_i32_11 : BitVec 32 := 2#32
  let v24 : BitVec 32 := Scalar.divsi v23 c2_i32_11
  let c2_i32_10 : BitVec 32 := 2#32
  let v25 : BitVec 32 := Scalar.remsi v24 c2_i32_10
  let c2_i32_70 : BitVec 32 := 2#32
  let v111 : BitVec 32 := Scalar.muli v25 c2_i32_70
  let v112 : BitVec 32 := Scalar.addi v110 v111
  let v26 : BitVec 32 := Dev.word d20
  let c1_i32_13 : BitVec 32 := 1#32
  let v27 : BitVec 32 := Scalar.divsi v26 c1_i32_13
  let c2_i32_12 : BitVec 32 := 2#32
  let v28 : BitVec 32 := Scalar.remsi v27 c2_i32_12
  let c1_i32_71 : BitVec 32 := 1#32
  let v113 : BitVec 32 := Scalar.muli v28 c1_i32_71
  let v114 : BitVec 32 := Scalar.addi v112 v113
  v114.toNat
def k0_dev8 (d20 : Dev nD) : Nat :=
  let c0_i32_80 : BitVec 32 := 0#32
  let v20 : BitVec 32 := Dev.word d20
  let c4_i32 : BitVec 32 := 4#32
  let v21 : BitVec 32 := Scalar.divsi v20 c4_i32
  let c2_i32 : BitVec 32 := 2#32
  let v22 : BitVec 32 := Scalar.remsi v21 c2_i32
  let c4_i32_79 : BitVec 32 := 4#32
  let v128 : BitVec 32 := Scalar.muli v22 c4_i32_79
  let v129 : BitVec 32 := Scalar.addi c0_i32_80 v128
  let v23 : BitVec 32 := Dev.word d20
  let c2_i32_11 : BitVec 32 := 2#32
  let v24 : BitVec 32 := Scalar.divsi v23 c2_i32_11
  let c2_i32_10 : BitVec 32 := 2#32
  let v25 : BitVec 32 := Scalar.remsi v24 c2_i32_10
  let c2_i32_81 : BitVec 32 := 2#32
  let v130 : BitVec 32 := Scalar.muli v25 c2_i32_81
  let v131 : BitVec 32 := Scalar.addi v129 v130
  let c1_i32_14 : BitVec 32 := 1#32
  let v26 : BitVec 32 := Dev.word d20
  let c1_i32_13 : BitVec 32 := 1#32
  let v27 : BitVec 32 := Scalar.divsi v26 c1_i32_13
  let c2_i32_12 : BitVec 32 := 2#32
  let v28 : BitVec 32 := Scalar.remsi v27 c2_i32_12
  let v29 : BitVec 32 := Scalar.subi c1_i32_14 v28
  let c1_i32_82 : BitVec 32 := 1#32
  let v132 : BitVec 32 := Scalar.muli v29 c1_i32_82
  let v133 : BitVec 32 := Scalar.addi v131 v132
  v133.toNat
def k0_off9 (d20 : Dev nD) : Fin 3 → Nat :=
  let c2_i32_96 : BitVec 32 := 2#32
  let c1_i32_92 : BitVec 32 := 1#32
  let v142 : BitVec 32 := Dev.word d20
  let c4_i32_86 : BitVec 32 := 4#32
  let v143 : BitVec 32 := Scalar.divsi v142 c4_i32_86
  let c2_i32_85 : BitVec 32 := 2#32
  let v144 : BitVec 32 := Scalar.remsi v143 c2_i32_85
  let v152 : BitVec 32 := Scalar.subi c1_i32_92 v144
  let v157 : BitVec 32 := Scalar.muli c2_i32_96 v152
  let v145 : BitVec 32 := Dev.word d20
  let c2_i32_88 : BitVec 32 := 2#32
  let v146 : BitVec 32 := Scalar.divsi v145 c2_i32_88
  let c2_i32_87 : BitVec 32 := 2#32
  let v147 : BitVec 32 := Scalar.remsi v146 c2_i32_87
  let v158 : BitVec 32 := Scalar.addi v157 v147
  let v148 : BitVec 32 := Dev.word d20
  let c1_i32_90 : BitVec 32 := 1#32
  let v149 : BitVec 32 := Scalar.divsi v148 c1_i32_90
  let c2_i32_89 : BitVec 32 := 2#32
  let v150 : BitVec 32 := Scalar.remsi v149 c2_i32_89
  let c2048_i32 : BitVec 32 := 2048#32
  let v154 : BitVec 32 := Scalar.muli v150 c2048_i32
  let c0_i32_94 : BitVec 32 := 0#32
  let v155 : BitVec 32 := Scalar.addi v154 c0_i32_94
  let c0_i32_95 : BitVec 32 := 0#32
  let v156 : BitVec 32 := Scalar.addi v155 c0_i32_95
  let c0_i32_102 : BitVec 32 := 0#32
  ![v158.toNat, v156.toNat, 0]
def k0_off10 (d20 : Dev nD) : Fin 3 → Nat :=
  let c2_i32_107 : BitVec 32 := 2#32
  let c1_i32_92 : BitVec 32 := 1#32
  let v142 : BitVec 32 := Dev.word d20
  let c4_i32_86 : BitVec 32 := 4#32
  let v143 : BitVec 32 := Scalar.divsi v142 c4_i32_86
  let c2_i32_85 : BitVec 32 := 2#32
  let v144 : BitVec 32 := Scalar.remsi v143 c2_i32_85
  let v152 : BitVec 32 := Scalar.subi c1_i32_92 v144
  let v174 : BitVec 32 := Scalar.muli c2_i32_107 v152
  let v145 : BitVec 32 := Dev.word d20
  let c2_i32_88 : BitVec 32 := 2#32
  let v146 : BitVec 32 := Scalar.divsi v145 c2_i32_88
  let c2_i32_87 : BitVec 32 := 2#32
  let v147 : BitVec 32 := Scalar.remsi v146 c2_i32_87
  let v175 : BitVec 32 := Scalar.addi v174 v147
  let v148 : BitVec 32 := Dev.word d20
  let c1_i32_90 : BitVec 32 := 1#32
  let v149 : BitVec 32 := Scalar.divsi v148 c1_i32_90
  let c2_i32_89 : BitVec 32 := 2#32
  let v150 : BitVec 32 := Scalar.remsi v149 c2_i32_89
  let c2048_i32_104 : BitVec 32 := 2048#32
  let v171 : BitVec 32 := Scalar.muli v150 c2048_i32_104
  let c0_i32_105 : BitVec 32 := 0#32
  let v172 : BitVec 32 := Scalar.addi v171 c0_i32_105
  let c0_i32_106 : BitVec 32 := 0#32
  let v173 : BitVec 32 := Scalar.addi v172 c0_i32_106
  let c0_i32_113 : BitVec 32 := 0#32
  ![v175.toNat, v173.toNat, 0]
def k0_dev9 (d20 : Dev nD) : Nat :=
  let c0_i32_110 : BitVec 32 := 0#32
  let v142 : BitVec 32 := Dev.word d20
  let c4_i32_86 : BitVec 32 := 4#32
  let v143 : BitVec 32 := Scalar.divsi v142 c4_i32_86
  let c2_i32_85 : BitVec 32 := 2#32
  let v144 : BitVec 32 := Scalar.remsi v143 c2_i32_85
  let c4_i32_109 : BitVec 32 := 4#32
  let v176 : BitVec 32 := Scalar.muli v144 c4_i32_109
  let v177 : BitVec 32 := Scalar.addi c0_i32_110 v176
  let c1_i32_93 : BitVec 32 := 1#32
  let v145 : BitVec 32 := Dev.word d20
  let c2_i32_88 : BitVec 32 := 2#32
  let v146 : BitVec 32 := Scalar.divsi v145 c2_i32_88
  let c2_i32_87 : BitVec 32 := 2#32
  let v147 : BitVec 32 := Scalar.remsi v146 c2_i32_87
  let v153 : BitVec 32 := Scalar.subi c1_i32_93 v147
  let c2_i32_111 : BitVec 32 := 2#32
  let v178 : BitVec 32 := Scalar.muli v153 c2_i32_111
  let v179 : BitVec 32 := Scalar.addi v177 v178
  let v148 : BitVec 32 := Dev.word d20
  let c1_i32_90 : BitVec 32 := 1#32
  let v149 : BitVec 32 := Scalar.divsi v148 c1_i32_90
  let c2_i32_89 : BitVec 32 := 2#32
  let v150 : BitVec 32 := Scalar.remsi v149 c2_i32_89
  let c1_i32_112 : BitVec 32 := 1#32
  let v180 : BitVec 32 := Scalar.muli v150 c1_i32_112
  let v181 : BitVec 32 := Scalar.addi v179 v180
  v181.toNat
def k0_dev10 (d20 : Dev nD) : Nat :=
  let c0_i32_121 : BitVec 32 := 0#32
  let v142 : BitVec 32 := Dev.word d20
  let c4_i32_86 : BitVec 32 := 4#32
  let v143 : BitVec 32 := Scalar.divsi v142 c4_i32_86
  let c2_i32_85 : BitVec 32 := 2#32
  let v144 : BitVec 32 := Scalar.remsi v143 c2_i32_85
  let c4_i32_120 : BitVec 32 := 4#32
  let v195 : BitVec 32 := Scalar.muli v144 c4_i32_120
  let v196 : BitVec 32 := Scalar.addi c0_i32_121 v195
  let v145 : BitVec 32 := Dev.word d20
  let c2_i32_88 : BitVec 32 := 2#32
  let v146 : BitVec 32 := Scalar.divsi v145 c2_i32_88
  let c2_i32_87 : BitVec 32 := 2#32
  let v147 : BitVec 32 := Scalar.remsi v146 c2_i32_87
  let c2_i32_122 : BitVec 32 := 2#32
  let v197 : BitVec 32 := Scalar.muli v147 c2_i32_122
  let v198 : BitVec 32 := Scalar.addi v196 v197
  let c1_i32_91 : BitVec 32 := 1#32
  let v148 : BitVec 32 := Dev.word d20
  let c1_i32_90 : BitVec 32 := 1#32
  let v149 : BitVec 32 := Scalar.divsi v148 c1_i32_90
  let c2_i32_89 : BitVec 32 := 2#32
  let v150 : BitVec 32 := Scalar.remsi v149 c2_i32_89
  let v151 : BitVec 32 := Scalar.subi c1_i32_91 v150
  let c1_i32_123 : BitVec 32 := 1#32
  let v199 : BitVec 32 := Scalar.muli v151 c1_i32_123
  let v200 : BitVec 32 := Scalar.addi v198 v199
  v200.toNat
def k0_off11 (d20 : Dev nD) : Fin 3 → Nat :=
  let c2_i32_129 : BitVec 32 := 2#32
  let v142 : BitVec 32 := Dev.word d20
  let c4_i32_86 : BitVec 32 := 4#32
  let v143 : BitVec 32 := Scalar.divsi v142 c4_i32_86
  let c2_i32_85 : BitVec 32 := 2#32
  let v144 : BitVec 32 := Scalar.remsi v143 c2_i32_85
  let v212 : BitVec 32 := Scalar.muli c2_i32_129 v144
  let c1_i32_93 : BitVec 32 := 1#32
  let v145 : BitVec 32 := Dev.word d20
  let c2_i32_88 : BitVec 32 := 2#32
  let v146 : BitVec 32 := Scalar.divsi v145 c2_i32_88
  let c2_i32_87 : BitVec 32 := 2#32
  let v147 : BitVec 32 := Scalar.remsi v146 c2_i32_87
  let v153 : BitVec 32 := Scalar.subi c1_i32_93 v147
  let v213 : BitVec 32 := Scalar.addi v212 v153
  let v148 : BitVec 32 := Dev.word d20
  let c1_i32_90 : BitVec 32 := 1#32
  let v149 : BitVec 32 := Scalar.divsi v148 c1_i32_90
  let c2_i32_89 : BitVec 32 := 2#32
  let v150 : BitVec 32 := Scalar.remsi v149 c2_i32_89
  let c2048_i32_126 : BitVec 32 := 2048#32
  let v209 : BitVec 32 := Scalar.muli v150 c2048_i32_126
  let c0_i32_127 : BitVec 32 := 0#32
  let v210 : BitVec 32 := Scalar.addi v209 c0_i32_127
  let c0_i32_128 : BitVec 32 := 0#32
  let v211 : BitVec 32 := Scalar.addi v210 c0_i32_128
  let c0_i32_135 : BitVec 32 := 0#32
  ![v213.toNat, v211.toNat, 0]
def k0_off12 (d20 : Dev nD) : Fin 3 → Nat :=
  let c2_i32_139 : BitVec 32 := 2#32
  let v142 : BitVec 32 := Dev.word d20
  let c4_i32_86 : BitVec 32 := 4#32
  let v143 : BitVec 32 := Scalar.divsi v142 c4_i32_86
  let c2_i32_85 : BitVec 32 := 2#32
  let v144 : BitVec 32 := Scalar.remsi v143 c2_i32_85
  let v229 : BitVec 32 := Scalar.muli c2_i32_139 v144
  let c1_i32_93 : BitVec 32 := 1#32
  let v145 : BitVec 32 := Dev.word d20
  let c2_i32_88 : BitVec 32 := 2#32
  let v146 : BitVec 32 := Scalar.divsi v145 c2_i32_88
  let c2_i32_87 : BitVec 32 := 2#32
  let v147 : BitVec 32 := Scalar.remsi v146 c2_i32_87
  let v153 : BitVec 32 := Scalar.subi c1_i32_93 v147
  let v230 : BitVec 32 := Scalar.addi v229 v153
  let v148 : BitVec 32 := Dev.word d20
  let c1_i32_90 : BitVec 32 := 1#32
  let v149 : BitVec 32 := Scalar.divsi v148 c1_i32_90
  let c2_i32_89 : BitVec 32 := 2#32
  let v150 : BitVec 32 := Scalar.remsi v149 c2_i32_89
  let c2048_i32_137 : BitVec 32 := 2048#32
  let v226 : BitVec 32 := Scalar.muli v150 c2048_i32_137
  let c0_i32_138 : BitVec 32 := 0#32
  let v227 : BitVec 32 := Scalar.addi v226 c0_i32_138
  let c432_i32 : BitVec 32 := 432#32
  let v228 : BitVec 32 := Scalar.addi v227 c432_i32
  let c0_i32_145 : BitVec 32 := 0#32
  ![v230.toNat, v228.toNat, 0]
def k0_dev11 (d20 : Dev nD) : Nat :=
  let c0_i32_142 : BitVec 32 := 0#32
  let c1_i32_92 : BitVec 32 := 1#32
  let v142 : BitVec 32 := Dev.word d20
  let c4_i32_86 : BitVec 32 := 4#32
  let v143 : BitVec 32 := Scalar.divsi v142 c4_i32_86
  let c2_i32_85 : BitVec 32 := 2#32
  let v144 : BitVec 32 := Scalar.remsi v143 c2_i32_85
  let v152 : BitVec 32 := Scalar.subi c1_i32_92 v144
  let c4_i32_141 : BitVec 32 := 4#32
  let v231 : BitVec 32 := Scalar.muli v152 c4_i32_141
  let v232 : BitVec 32 := Scalar.addi c0_i32_142 v231
  let v145 : BitVec 32 := Dev.word d20
  let c2_i32_88 : BitVec 32 := 2#32
  let v146 : BitVec 32 := Scalar.divsi v145 c2_i32_88
  let c2_i32_87 : BitVec 32 := 2#32
  let v147 : BitVec 32 := Scalar.remsi v146 c2_i32_87
  let c2_i32_143 : BitVec 32 := 2#32
  let v233 : BitVec 32 := Scalar.muli v147 c2_i32_143
  let v234 : BitVec 32 := Scalar.addi v232 v233
  let v148 : BitVec 32 := Dev.word d20
  let c1_i32_90 : BitVec 32 := 1#32
  let v149 : BitVec 32 := Scalar.divsi v148 c1_i32_90
  let c2_i32_89 : BitVec 32 := 2#32
  let v150 : BitVec 32 := Scalar.remsi v149 c2_i32_89
  let c1_i32_144 : BitVec 32 := 1#32
  let v235 : BitVec 32 := Scalar.muli v150 c1_i32_144
  let v236 : BitVec 32 := Scalar.addi v234 v235
  v236.toNat
def k0_dev12 (d20 : Dev nD) : Nat :=
  let c0_i32_153 : BitVec 32 := 0#32
  let v142 : BitVec 32 := Dev.word d20
  let c4_i32_86 : BitVec 32 := 4#32
  let v143 : BitVec 32 := Scalar.divsi v142 c4_i32_86
  let c2_i32_85 : BitVec 32 := 2#32
  let v144 : BitVec 32 := Scalar.remsi v143 c2_i32_85
  let c4_i32_152 : BitVec 32 := 4#32
  let v250 : BitVec 32 := Scalar.muli v144 c4_i32_152
  let v251 : BitVec 32 := Scalar.addi c0_i32_153 v250
  let v145 : BitVec 32 := Dev.word d20
  let c2_i32_88 : BitVec 32 := 2#32
  let v146 : BitVec 32 := Scalar.divsi v145 c2_i32_88
  let c2_i32_87 : BitVec 32 := 2#32
  let v147 : BitVec 32 := Scalar.remsi v146 c2_i32_87
  let c2_i32_154 : BitVec 32 := 2#32
  let v252 : BitVec 32 := Scalar.muli v147 c2_i32_154
  let v253 : BitVec 32 := Scalar.addi v251 v252
  let c1_i32_91 : BitVec 32 := 1#32
  let v148 : BitVec 32 := Dev.word d20
  let c1_i32_90 : BitVec 32 := 1#32
  let v149 : BitVec 32 := Scalar.divsi v148 c1_i32_90
  let c2_i32_89 : BitVec 32 := 2#32
  let v150 : BitVec 32 := Scalar.remsi v149 c2_i32_89
  let v151 : BitVec 32 := Scalar.subi c1_i32_91 v150
  let c1_i32_155 : BitVec 32 := 1#32
  let v254 : BitVec 32 := Scalar.muli v151 c1_i32_155
  let v255 : BitVec 32 := Scalar.addi v253 v254
  v255.toNat
def k0_cond3 (i : grid0.Coords) : BitVec 1 :=
  let c0_i32 : BitVec 32 := 0#32
  let arg0 : BitVec 32 := BitVec.ofNat 32 (i 0).val
  let v0 : BitVec 32 := Scalar.addi c0_i32 arg0
  let c20_i32 : BitVec 32 := 20#32
  let v1 : BitVec 32 := Scalar.muli v0 c20_i32
  let arg1 : BitVec 32 := BitVec.ofNat 32 (i 1).val
  let v2 : BitVec 32 := Scalar.addi v1 arg1
  let c1_i32 : BitVec 32 := 1#32
  let v3 : BitVec 32 := Scalar.muli v2 c1_i32
  let arg2 : BitVec 32 := BitVec.ofNat 32 (i 2).val
  let v4 : BitVec 32 := Scalar.addi v3 arg2
  let c79_i32 : BitVec 32 := 79#32
  let v17 : BitVec 1 := Scalar.cmpi .eq v4 c79_i32
  let v18 : BitVec 32 := Scalar.extui v17
  let c0_i32_9 : BitVec 32 := 0#32
  let v19 : BitVec 1 := Scalar.cmpi .ne v18 c0_i32_9
  v19

def k0_off13 (d20 : Dev nD) (c0_i32_24 : BitVec 32) : Fin 3 → Nat :=
  let c2_i32_25 : BitVec 32 := 2#32
  let c1_i32_17 : BitVec 32 := 1#32
  let v20 : BitVec 32 := Dev.word d20
  let c4_i32 : BitVec 32 := 4#32
  let v21 : BitVec 32 := Scalar.divsi v20 c4_i32
  let c2_i32 : BitVec 32 := 2#32
  let v22 : BitVec 32 := Scalar.remsi v21 c2_i32
  let v32 : BitVec 32 := Scalar.subi c1_i32_17 v22
  let v41 : BitVec 32 := Scalar.muli c2_i32_25 v32
  let c1_i32_18 : BitVec 32 := 1#32
  let v23 : BitVec 32 := Dev.word d20
  let c2_i32_11 : BitVec 32 := 2#32
  let v24 : BitVec 32 := Scalar.divsi v23 c2_i32_11
  let c2_i32_10 : BitVec 32 := 2#32
  let v25 : BitVec 32 := Scalar.remsi v24 c2_i32_10
  let v33 : BitVec 32 := Scalar.subi c1_i32_18 v25
  let v42 : BitVec 32 := Scalar.addi v41 v33
  let v26 : BitVec 32 := Dev.word d20
  let c1_i32_13 : BitVec 32 := 1#32
  let v27 : BitVec 32 := Scalar.divsi v26 c1_i32_13
  let c2_i32_12 : BitVec 32 := 2#32
  let v28 : BitVec 32 := Scalar.remsi v27 c2_i32_12
  let c512_i32 : BitVec 32 := 512#32
  let v38 : BitVec 32 := Scalar.muli v28 c512_i32
  let c0_i32_23 : BitVec 32 := 0#32
  let v39 : BitVec 32 := Scalar.addi v38 c0_i32_23
  let v40 : BitVec 32 := Scalar.addi v39 c0_i32_24
  let c0_i32_32 : BitVec 32 := 0#32
  ![v42.toNat, v40.toNat, 0]
def k0_dev13 (d20 : Dev nD) : Nat :=
  let c0_i32_40 : BitVec 32 := 0#32
  let v20 : BitVec 32 := Dev.word d20
  let c4_i32 : BitVec 32 := 4#32
  let v21 : BitVec 32 := Scalar.divsi v20 c4_i32
  let c2_i32 : BitVec 32 := 2#32
  let v22 : BitVec 32 := Scalar.remsi v21 c2_i32
  let c4_i32_39 : BitVec 32 := 4#32
  let v60 : BitVec 32 := Scalar.muli v22 c4_i32_39
  let v61 : BitVec 32 := Scalar.addi c0_i32_40 v60
  let v23 : BitVec 32 := Dev.word d20
  let c2_i32_11 : BitVec 32 := 2#32
  let v24 : BitVec 32 := Scalar.divsi v23 c2_i32_11
  let c2_i32_10 : BitVec 32 := 2#32
  let v25 : BitVec 32 := Scalar.remsi v24 c2_i32_10
  let c2_i32_41 : BitVec 32 := 2#32
  let v62 : BitVec 32 := Scalar.muli v25 c2_i32_41
  let v63 : BitVec 32 := Scalar.addi v61 v62
  let c1_i32_14 : BitVec 32 := 1#32
  let v26 : BitVec 32 := Dev.word d20
  let c1_i32_13 : BitVec 32 := 1#32
  let v27 : BitVec 32 := Scalar.divsi v26 c1_i32_13
  let c2_i32_12 : BitVec 32 := 2#32
  let v28 : BitVec 32 := Scalar.remsi v27 c2_i32_12
  let v29 : BitVec 32 := Scalar.subi c1_i32_14 v28
  let c1_i32_42 : BitVec 32 := 1#32
  let v64 : BitVec 32 := Scalar.muli v29 c1_i32_42
  let v65 : BitVec 32 := Scalar.addi v63 v64
  v65.toNat
def k0_dev14 (d20 : Dev nD) : Nat :=
  let c0_i32_61 : BitVec 32 := 0#32
  let v20 : BitVec 32 := Dev.word d20
  let c4_i32 : BitVec 32 := 4#32
  let v21 : BitVec 32 := Scalar.divsi v20 c4_i32
  let c2_i32 : BitVec 32 := 2#32
  let v22 : BitVec 32 := Scalar.remsi v21 c2_i32
  let c4_i32_60 : BitVec 32 := 4#32
  let v96 : BitVec 32 := Scalar.muli v22 c4_i32_60
  let v97 : BitVec 32 := Scalar.addi c0_i32_61 v96
  let v23 : BitVec 32 := Dev.word d20
  let c2_i32_11 : BitVec 32 := 2#32
  let v24 : BitVec 32 := Scalar.divsi v23 c2_i32_11
  let c2_i32_10 : BitVec 32 := 2#32
  let v25 : BitVec 32 := Scalar.remsi v24 c2_i32_10
  let c2_i32_62 : BitVec 32 := 2#32
  let v98 : BitVec 32 := Scalar.muli v25 c2_i32_62
  let v99 : BitVec 32 := Scalar.addi v97 v98
  let c1_i32_14 : BitVec 32 := 1#32
  let v26 : BitVec 32 := Dev.word d20
  let c1_i32_13 : BitVec 32 := 1#32
  let v27 : BitVec 32 := Scalar.divsi v26 c1_i32_13
  let c2_i32_12 : BitVec 32 := 2#32
  let v28 : BitVec 32 := Scalar.remsi v27 c2_i32_12
  let v29 : BitVec 32 := Scalar.subi c1_i32_14 v28
  let c1_i32_63 : BitVec 32 := 1#32
  let v100 : BitVec 32 := Scalar.muli v29 c1_i32_63
  let v101 : BitVec 32 := Scalar.addi v99 v100
  v101.toNat
def k0_off14 (d20 : Dev nD) : Fin 3 → Nat :=
  let c2_i32_69 : BitVec 32 := 2#32
  let c1_i32_15 : BitVec 32 := 1#32
  let v20 : BitVec 32 := Dev.word d20
  let c4_i32 : BitVec 32 := 4#32
  let v21 : BitVec 32 := Scalar.divsi v20 c4_i32
  let c2_i32 : BitVec 32 := 2#32
  let v22 : BitVec 32 := Scalar.remsi v21 c2_i32
  let v30 : BitVec 32 := Scalar.subi c1_i32_15 v22
  let v113 : BitVec 32 := Scalar.muli c2_i32_69 v30
  let v23 : BitVec 32 := Dev.word d20
  let c2_i32_11 : BitVec 32 := 2#32
  let v24 : BitVec 32 := Scalar.divsi v23 c2_i32_11
  let c2_i32_10 : BitVec 32 := 2#32
  let v25 : BitVec 32 := Scalar.remsi v24 c2_i32_10
  let v114 : BitVec 32 := Scalar.addi v113 v25
  let c1_i32_19 : BitVec 32 := 1#32
  let v26 : BitVec 32 := Dev.word d20
  let c1_i32_13 : BitVec 32 := 1#32
  let v27 : BitVec 32 := Scalar.divsi v26 c1_i32_13
  let c2_i32_12 : BitVec 32 := 2#32
  let v28 : BitVec 32 := Scalar.remsi v27 c2_i32_12
  let v34 : BitVec 32 := Scalar.subi c1_i32_19 v28
  let c512_i32_66 : BitVec 32 := 512#32
  let v110 : BitVec 32 := Scalar.muli v34 c512_i32_66
  let c0_i32_67 : BitVec 32 := 0#32
  let v111 : BitVec 32 := Scalar.addi v110 c0_i32_67
  let c0_i32_68 : BitVec 32 := 0#32
  let v112 : BitVec 32 := Scalar.addi v111 c0_i32_68
  let c0_i32_76 : BitVec 32 := 0#32
  ![v114.toNat, v112.toNat, 0]
def k0_off15 (d20 : Dev nD) : Fin 3 → Nat :=
  let c2_i32_81 : BitVec 32 := 2#32
  let v20 : BitVec 32 := Dev.word d20
  let c4_i32 : BitVec 32 := 4#32
  let v21 : BitVec 32 := Scalar.divsi v20 c4_i32
  let c2_i32 : BitVec 32 := 2#32
  let v22 : BitVec 32 := Scalar.remsi v21 c2_i32
  let v130 : BitVec 32 := Scalar.muli c2_i32_81 v22
  let c1_i32_16 : BitVec 32 := 1#32
  let v23 : BitVec 32 := Dev.word d20
  let c2_i32_11 : BitVec 32 := 2#32
  let v24 : BitVec 32 := Scalar.divsi v23 c2_i32_11
  let c2_i32_10 : BitVec 32 := 2#32
  let v25 : BitVec 32 := Scalar.remsi v24 c2_i32_10
  let v31 : BitVec 32 := Scalar.subi c1_i32_16 v25
  let v131 : BitVec 32 := Scalar.addi v130 v31
  let c1_i32_20 : BitVec 32 := 1#32
  let v26 : BitVec 32 := Dev.word d20
  let c1_i32_13 : BitVec 32 := 1#32
  let v27 : BitVec 32 := Scalar.divsi v26 c1_i32_13
  let c2_i32_12 : BitVec 32 := 2#32
  let v28 : BitVec 32 := Scalar.remsi v27 c2_i32_12
  let v35 : BitVec 32 := Scalar.subi c1_i32_20 v28
  let c512_i32_78 : BitVec 32 := 512#32
  let v127 : BitVec 32 := Scalar.muli v35 c512_i32_78
  let c0_i32_79 : BitVec 32 := 0#32
  let v128 : BitVec 32 := Scalar.addi v127 c0_i32_79
  let c0_i32_80 : BitVec 32 := 0#32
  let v129 : BitVec 32 := Scalar.addi v128 c0_i32_80
  let c0_i32_87 : BitVec 32 := 0#32
  ![v131.toNat, v129.toNat, 0]
def k0_off16 (d20 : Dev nD) (c0_i32_91 : BitVec 32) : Fin 3 → Nat :=
  let c2_i32_92 : BitVec 32 := 2#32
  let c1_i32_17 : BitVec 32 := 1#32
  let v20 : BitVec 32 := Dev.word d20
  let c4_i32 : BitVec 32 := 4#32
  let v21 : BitVec 32 := Scalar.divsi v20 c4_i32
  let c2_i32 : BitVec 32 := 2#32
  let v22 : BitVec 32 := Scalar.remsi v21 c2_i32
  let v32 : BitVec 32 := Scalar.subi c1_i32_17 v22
  let v147 : BitVec 32 := Scalar.muli c2_i32_92 v32
  let c1_i32_18 : BitVec 32 := 1#32
  let v23 : BitVec 32 := Dev.word d20
  let c2_i32_11 : BitVec 32 := 2#32
  let v24 : BitVec 32 := Scalar.divsi v23 c2_i32_11
  let c2_i32_10 : BitVec 32 := 2#32
  let v25 : BitVec 32 := Scalar.remsi v24 c2_i32_10
  let v33 : BitVec 32 := Scalar.subi c1_i32_18 v25
  let v148 : BitVec 32 := Scalar.addi v147 v33
  let c1_i32_21 : BitVec 32 := 1#32
  let v26 : BitVec 32 := Dev.word d20
  let c1_i32_13 : BitVec 32 := 1#32
  let v27 : BitVec 32 := Scalar.divsi v26 c1_i32_13
  let c2_i32_12 : BitVec 32 := 2#32
  let v28 : BitVec 32 := Scalar.remsi v27 c2_i32_12
  let v36 : BitVec 32 := Scalar.subi c1_i32_21 v28
  let c512_i32_89 : BitVec 32 := 512#32
  let v144 : BitVec 32 := Scalar.muli v36 c512_i32_89
  let c0_i32_90 : BitVec 32 := 0#32
  let v145 : BitVec 32 := Scalar.addi v144 c0_i32_90
  let v146 : BitVec 32 := Scalar.addi v145 c0_i32_91
  let c0_i32_99 : BitVec 32 := 0#32
  ![v148.toNat, v146.toNat, 0]
def k0_off17 (d20 : Dev nD) : Fin 2 → Nat :=
  let v26 : BitVec 32 := Dev.word d20
  let c1_i32_13 : BitVec 32 := 1#32
  let v27 : BitVec 32 := Scalar.divsi v26 c1_i32_13
  let c2_i32_12 : BitVec 32 := 2#32
  let v28 : BitVec 32 := Scalar.remsi v27 c2_i32_12
  let c512_i32_113 : BitVec 32 := 512#32
  let v178 : BitVec 32 := Scalar.muli v28 c512_i32_113
  let c0_i32_114 : BitVec 32 := 0#32
  let v179 : BitVec 32 := Scalar.addi v178 c0_i32_114
  let c0_i32_115 : BitVec 32 := 0#32
  let v180 : BitVec 32 := Scalar.addi v179 c0_i32_115
  let c0_i32_120 : BitVec 32 := 0#32
  ![v180.toNat, 0]
def k0_off18 (d20 : Dev nD) : Fin 3 → Nat :=
  let c2_i32_116 : BitVec 32 := 2#32
  let v20 : BitVec 32 := Dev.word d20
  let c4_i32 : BitVec 32 := 4#32
  let v21 : BitVec 32 := Scalar.divsi v20 c4_i32
  let c2_i32 : BitVec 32 := 2#32
  let v22 : BitVec 32 := Scalar.remsi v21 c2_i32
  let v181 : BitVec 32 := Scalar.muli c2_i32_116 v22
  let v23 : BitVec 32 := Dev.word d20
  let c2_i32_11 : BitVec 32 := 2#32
  let v24 : BitVec 32 := Scalar.divsi v23 c2_i32_11
  let c2_i32_10 : BitVec 32 := 2#32
  let v25 : BitVec 32 := Scalar.remsi v24 c2_i32_10
  let v182 : BitVec 32 := Scalar.addi v181 v25
  let v26 : BitVec 32 := Dev.word d20
  let c1_i32_13 : BitVec 32 := 1#32
  let v27 : BitVec 32 := Scalar.divsi v26 c1_i32_13
  let c2_i32_12 : BitVec 32 := 2#32
  let v28 : BitVec 32 := Scalar.remsi v27 c2_i32_12
  let c512_i32_113 : BitVec 32 := 512#32
  let v178 : BitVec 32 := Scalar.muli v28 c512_i32_113
  let c0_i32_114 : BitVec 32 := 0#32
  let v179 : BitVec 32 := Scalar.addi v178 c0_i32_114
  let c0_i32_115 : BitVec 32 := 0#32
  let v180 : BitVec 32 := Scalar.addi v179 c0_i32_115
  let c0_i32_121 : BitVec 32 := 0#32
  ![v182.toNat, v180.toNat, 0]
def k0_off19 (d20 : Dev nD) : Fin 3 → Nat :=
  let c2_i32_134 : BitVec 32 := 2#32
  let c1_i32_15 : BitVec 32 := 1#32
  let v20 : BitVec 32 := Dev.word d20
  let c4_i32 : BitVec 32 := 4#32
  let v21 : BitVec 32 := Scalar.divsi v20 c4_i32
  let c2_i32 : BitVec 32 := 2#32
  let v22 : BitVec 32 := Scalar.remsi v21 c2_i32
  let v30 : BitVec 32 := Scalar.subi c1_i32_15 v22
  let v201 : BitVec 32 := Scalar.muli c2_i32_134 v30
  let v23 : BitVec 32 := Dev.word d20
  let c2_i32_11 : BitVec 32 := 2#32
  let v24 : BitVec 32 := Scalar.divsi v23 c2_i32_11
  let c2_i32_10 : BitVec 32 := 2#32
  let v25 : BitVec 32 := Scalar.remsi v24 c2_i32_10
  let v202 : BitVec 32 := Scalar.addi v201 v25
  let v26 : BitVec 32 := Dev.word d20
  let c1_i32_13 : BitVec 32 := 1#32
  let v27 : BitVec 32 := Scalar.divsi v26 c1_i32_13
  let c2_i32_12 : BitVec 32 := 2#32
  let v28 : BitVec 32 := Scalar.remsi v27 c2_i32_12
  let c512_i32_131 : BitVec 32 := 512#32
  let v198 : BitVec 32 := Scalar.muli v28 c512_i32_131
  let c0_i32_132 : BitVec 32 := 0#32
  let v199 : BitVec 32 := Scalar.addi v198 c0_i32_132
  let c0_i32_133 : BitVec 32 := 0#32
  let v200 : BitVec 32 := Scalar.addi v199 c0_i32_133
  let c0_i32_138 : BitVec 32 := 0#32
  ![v202.toNat, v200.toNat, 0]
def k0_off20 (d20 : Dev nD) : Fin 3 → Nat :=
  let c2_i32_143 : BitVec 32 := 2#32
  let v20 : BitVec 32 := Dev.word d20
  let c4_i32 : BitVec 32 := 4#32
  let v21 : BitVec 32 := Scalar.divsi v20 c4_i32
  let c2_i32 : BitVec 32 := 2#32
  let v22 : BitVec 32 := Scalar.remsi v21 c2_i32
  let v212 : BitVec 32 := Scalar.muli c2_i32_143 v22
  let c1_i32_16 : BitVec 32 := 1#32
  let v23 : BitVec 32 := Dev.word d20
  let c2_i32_11 : BitVec 32 := 2#32
  let v24 : BitVec 32 := Scalar.divsi v23 c2_i32_11
  let c2_i32_10 : BitVec 32 := 2#32
  let v25 : BitVec 32 := Scalar.remsi v24 c2_i32_10
  let v31 : BitVec 32 := Scalar.subi c1_i32_16 v25
  let v213 : BitVec 32 := Scalar.addi v212 v31
  let v26 : BitVec 32 := Dev.word d20
  let c1_i32_13 : BitVec 32 := 1#32
  let v27 : BitVec 32 := Scalar.divsi v26 c1_i32_13
  let c2_i32_12 : BitVec 32 := 2#32
  let v28 : BitVec 32 := Scalar.remsi v27 c2_i32_12
  let c512_i32_140 : BitVec 32 := 512#32
  let v209 : BitVec 32 := Scalar.muli v28 c512_i32_140
  let c0_i32_141 : BitVec 32 := 0#32
  let v210 : BitVec 32 := Scalar.addi v209 c0_i32_141
  let c0_i32_142 : BitVec 32 := 0#32
  let v211 : BitVec 32 := Scalar.addi v210 c0_i32_142
  let c0_i32_147 : BitVec 32 := 0#32
  ![v213.toNat, v211.toNat, 0]
def k0_off21 (d20 : Dev nD) : Fin 3 → Nat :=
  let c2_i32_152 : BitVec 32 := 2#32
  let c1_i32_15 : BitVec 32 := 1#32
  let v20 : BitVec 32 := Dev.word d20
  let c4_i32 : BitVec 32 := 4#32
  let v21 : BitVec 32 := Scalar.divsi v20 c4_i32
  let c2_i32 : BitVec 32 := 2#32
  let v22 : BitVec 32 := Scalar.remsi v21 c2_i32
  let v30 : BitVec 32 := Scalar.subi c1_i32_15 v22
  let v223 : BitVec 32 := Scalar.muli c2_i32_152 v30
  let v23 : BitVec 32 := Dev.word d20
  let c2_i32_11 : BitVec 32 := 2#32
  let v24 : BitVec 32 := Scalar.divsi v23 c2_i32_11
  let c2_i32_10 : BitVec 32 := 2#32
  let v25 : BitVec 32 := Scalar.remsi v24 c2_i32_10
  let v224 : BitVec 32 := Scalar.addi v223 v25
  let v26 : BitVec 32 := Dev.word d20
  let c1_i32_13 : BitVec 32 := 1#32
  let v27 : BitVec 32 := Scalar.divsi v26 c1_i32_13
  let c2_i32_12 : BitVec 32 := 2#32
  let v28 : BitVec 32 := Scalar.remsi v27 c2_i32_12
  let c512_i32_149 : BitVec 32 := 512#32
  let v220 : BitVec 32 := Scalar.muli v28 c512_i32_149
  let c0_i32_150 : BitVec 32 := 0#32
  let v221 : BitVec 32 := Scalar.addi v220 c0_i32_150
  let c0_i32_151 : BitVec 32 := 0#32
  let v222 : BitVec 32 := Scalar.addi v221 c0_i32_151
  let c0_i32_156 : BitVec 32 := 0#32
  ![v224.toNat, v222.toNat, 0]
def k0_off22 (d20 : Dev nD) : Fin 3 → Nat :=
  let c2_i32_161 : BitVec 32 := 2#32
  let v20 : BitVec 32 := Dev.word d20
  let c4_i32 : BitVec 32 := 4#32
  let v21 : BitVec 32 := Scalar.divsi v20 c4_i32
  let c2_i32 : BitVec 32 := 2#32
  let v22 : BitVec 32 := Scalar.remsi v21 c2_i32
  let v234 : BitVec 32 := Scalar.muli c2_i32_161 v22
  let c1_i32_16 : BitVec 32 := 1#32
  let v23 : BitVec 32 := Dev.word d20
  let c2_i32_11 : BitVec 32 := 2#32
  let v24 : BitVec 32 := Scalar.divsi v23 c2_i32_11
  let c2_i32_10 : BitVec 32 := 2#32
  let v25 : BitVec 32 := Scalar.remsi v24 c2_i32_10
  let v31 : BitVec 32 := Scalar.subi c1_i32_16 v25
  let v235 : BitVec 32 := Scalar.addi v234 v31
  let v26 : BitVec 32 := Dev.word d20
  let c1_i32_13 : BitVec 32 := 1#32
  let v27 : BitVec 32 := Scalar.divsi v26 c1_i32_13
  let c2_i32_12 : BitVec 32 := 2#32
  let v28 : BitVec 32 := Scalar.remsi v27 c2_i32_12
  let c512_i32_158 : BitVec 32 := 512#32
  let v231 : BitVec 32 := Scalar.muli v28 c512_i32_158
  let c0_i32_159 : BitVec 32 := 0#32
  let v232 : BitVec 32 := Scalar.addi v231 c0_i32_159
  let c256_i32_160 : BitVec 32 := 256#32
  let v233 : BitVec 32 := Scalar.addi v232 c256_i32_160
  let c0_i32_165 : BitVec 32 := 0#32
  ![v235.toNat, v233.toNat, 0]
def k0_off23 (d20 : Dev nD) : Fin 3 → Nat :=
  let c2_i32_202 : BitVec 32 := 2#32
  let c1_i32_194 : BitVec 32 := 1#32
  let v264 : BitVec 32 := Dev.word d20
  let c4_i32_186 : BitVec 32 := 4#32
  let v265 : BitVec 32 := Scalar.divsi v264 c4_i32_186
  let c2_i32_185 : BitVec 32 := 2#32
  let v266 : BitVec 32 := Scalar.remsi v265 c2_i32_185
  let v276 : BitVec 32 := Scalar.subi c1_i32_194 v266
  let v285 : BitVec 32 := Scalar.muli c2_i32_202 v276
  let c1_i32_195 : BitVec 32 := 1#32
  let v267 : BitVec 32 := Dev.word d20
  let c2_i32_188 : BitVec 32 := 2#32
  let v268 : BitVec 32 := Scalar.divsi v267 c2_i32_188
  let c2_i32_187 : BitVec 32 := 2#32
  let v269 : BitVec 32 := Scalar.remsi v268 c2_i32_187
  let v277 : BitVec 32 := Scalar.subi c1_i32_195 v269
  let v286 : BitVec 32 := Scalar.addi v285 v277
  let v270 : BitVec 32 := Dev.word d20
  let c1_i32_190 : BitVec 32 := 1#32
  let v271 : BitVec 32 := Scalar.divsi v270 c1_i32_190
  let c2_i32_189 : BitVec 32 := 2#32
  let v272 : BitVec 32 := Scalar.remsi v271 c2_i32_189
  let c2048_i32 : BitVec 32 := 2048#32
  let v282 : BitVec 32 := Scalar.muli v272 c2048_i32
  let c0_i32_200 : BitVec 32 := 0#32
  let v283 : BitVec 32 := Scalar.addi v282 c0_i32_200
  let c0_i32_201 : BitVec 32 := 0#32
  let v284 : BitVec 32 := Scalar.addi v283 c0_i32_201
  let c0_i32_208 : BitVec 32 := 0#32
  ![v286.toNat, v284.toNat, 0]
def k0_dev15 (d20 : Dev nD) : Nat :=
  let c0_i32_216 : BitVec 32 := 0#32
  let v264 : BitVec 32 := Dev.word d20
  let c4_i32_186 : BitVec 32 := 4#32
  let v265 : BitVec 32 := Scalar.divsi v264 c4_i32_186
  let c2_i32_185 : BitVec 32 := 2#32
  let v266 : BitVec 32 := Scalar.remsi v265 c2_i32_185
  let c4_i32_215 : BitVec 32 := 4#32
  let v304 : BitVec 32 := Scalar.muli v266 c4_i32_215
  let v305 : BitVec 32 := Scalar.addi c0_i32_216 v304
  let v267 : BitVec 32 := Dev.word d20
  let c2_i32_188 : BitVec 32 := 2#32
  let v268 : BitVec 32 := Scalar.divsi v267 c2_i32_188
  let c2_i32_187 : BitVec 32 := 2#32
  let v269 : BitVec 32 := Scalar.remsi v268 c2_i32_187
  let c2_i32_217 : BitVec 32 := 2#32
  let v306 : BitVec 32 := Scalar.muli v269 c2_i32_217
  let v307 : BitVec 32 := Scalar.addi v305 v306
  let c1_i32_191 : BitVec 32 := 1#32
  let v270 : BitVec 32 := Dev.word d20
  let c1_i32_190 : BitVec 32 := 1#32
  let v271 : BitVec 32 := Scalar.divsi v270 c1_i32_190
  let c2_i32_189 : BitVec 32 := 2#32
  let v272 : BitVec 32 := Scalar.remsi v271 c2_i32_189
  let v273 : BitVec 32 := Scalar.subi c1_i32_191 v272
  let c1_i32_218 : BitVec 32 := 1#32
  let v308 : BitVec 32 := Scalar.muli v273 c1_i32_218
  let v309 : BitVec 32 := Scalar.addi v307 v308
  v309.toNat
def k0_off24 (d20 : Dev nD) : Fin 3 → Nat :=
  let c2_i32_223 : BitVec 32 := 2#32
  let c1_i32_194 : BitVec 32 := 1#32
  let v264 : BitVec 32 := Dev.word d20
  let c4_i32_186 : BitVec 32 := 4#32
  let v265 : BitVec 32 := Scalar.divsi v264 c4_i32_186
  let c2_i32_185 : BitVec 32 := 2#32
  let v266 : BitVec 32 := Scalar.remsi v265 c2_i32_185
  let v276 : BitVec 32 := Scalar.subi c1_i32_194 v266
  let v321 : BitVec 32 := Scalar.muli c2_i32_223 v276
  let c1_i32_195 : BitVec 32 := 1#32
  let v267 : BitVec 32 := Dev.word d20
  let c2_i32_188 : BitVec 32 := 2#32
  let v268 : BitVec 32 := Scalar.divsi v267 c2_i32_188
  let c2_i32_187 : BitVec 32 := 2#32
  let v269 : BitVec 32 := Scalar.remsi v268 c2_i32_187
  let v277 : BitVec 32 := Scalar.subi c1_i32_195 v269
  let v322 : BitVec 32 := Scalar.addi v321 v277
  let v270 : BitVec 32 := Dev.word d20
  let c1_i32_190 : BitVec 32 := 1#32
  let v271 : BitVec 32 := Scalar.divsi v270 c1_i32_190
  let c2_i32_189 : BitVec 32 := 2#32
  let v272 : BitVec 32 := Scalar.remsi v271 c2_i32_189
  let c2048_i32_221 : BitVec 32 := 2048#32
  let v318 : BitVec 32 := Scalar.muli v272 c2048_i32_221
  let c0_i32_222 : BitVec 32 := 0#32
  let v319 : BitVec 32 := Scalar.addi v318 c0_i32_222
  let c432_i32 : BitVec 32 := 432#32
  let v320 : BitVec 32 := Scalar.addi v319 c432_i32
  let c0_i32_229 : BitVec 32 := 0#32
  ![v322.toNat, v320.toNat, 0]
def k0_dev16 (d20 : Dev nD) : Nat :=
  let c0_i32_237 : BitVec 32 := 0#32
  let v264 : BitVec 32 := Dev.word d20
  let c4_i32_186 : BitVec 32 := 4#32
  let v265 : BitVec 32 := Scalar.divsi v264 c4_i32_186
  let c2_i32_185 : BitVec 32 := 2#32
  let v266 : BitVec 32 := Scalar.remsi v265 c2_i32_185
  let c4_i32_236 : BitVec 32 := 4#32
  let v340 : BitVec 32 := Scalar.muli v266 c4_i32_236
  let v341 : BitVec 32 := Scalar.addi c0_i32_237 v340
  let v267 : BitVec 32 := Dev.word d20
  let c2_i32_188 : BitVec 32 := 2#32
  let v268 : BitVec 32 := Scalar.divsi v267 c2_i32_188
  let c2_i32_187 : BitVec 32 := 2#32
  let v269 : BitVec 32 := Scalar.remsi v268 c2_i32_187
  let c2_i32_238 : BitVec 32 := 2#32
  let v342 : BitVec 32 := Scalar.muli v269 c2_i32_238
  let v343 : BitVec 32 := Scalar.addi v341 v342
  let c1_i32_191 : BitVec 32 := 1#32
  let v270 : BitVec 32 := Dev.word d20
  let c1_i32_190 : BitVec 32 := 1#32
  let v271 : BitVec 32 := Scalar.divsi v270 c1_i32_190
  let c2_i32_189 : BitVec 32 := 2#32
  let v272 : BitVec 32 := Scalar.remsi v271 c2_i32_189
  let v273 : BitVec 32 := Scalar.subi c1_i32_191 v272
  let c1_i32_239 : BitVec 32 := 1#32
  let v344 : BitVec 32 := Scalar.muli v273 c1_i32_239
  let v345 : BitVec 32 := Scalar.addi v343 v344
  v345.toNat
def k0_off25 (d20 : Dev nD) : Fin 3 → Nat :=
  let c2_i32_245 : BitVec 32 := 2#32
  let c1_i32_192 : BitVec 32 := 1#32
  let v264 : BitVec 32 := Dev.word d20
  let c4_i32_186 : BitVec 32 := 4#32
  let v265 : BitVec 32 := Scalar.divsi v264 c4_i32_186
  let c2_i32_185 : BitVec 32 := 2#32
  let v266 : BitVec 32 := Scalar.remsi v265 c2_i32_185
  let v274 : BitVec 32 := Scalar.subi c1_i32_192 v266
  let v357 : BitVec 32 := Scalar.muli c2_i32_245 v274
  let v267 : BitVec 32 := Dev.word d20
  let c2_i32_188 : BitVec 32 := 2#32
  let v268 : BitVec 32 := Scalar.divsi v267 c2_i32_188
  let c2_i32_187 : BitVec 32 := 2#32
  let v269 : BitVec 32 := Scalar.remsi v268 c2_i32_187
  let v358 : BitVec 32 := Scalar.addi v357 v269
  let c1_i32_196 : BitVec 32 := 1#32
  let v270 : BitVec 32 := Dev.word d20
  let c1_i32_190 : BitVec 32 := 1#32
  let v271 : BitVec 32 := Scalar.divsi v270 c1_i32_190
  let c2_i32_189 : BitVec 32 := 2#32
  let v272 : BitVec 32 := Scalar.remsi v271 c2_i32_189
  let v278 : BitVec 32 := Scalar.subi c1_i32_196 v272
  let c2048_i32_242 : BitVec 32 := 2048#32
  let v354 : BitVec 32 := Scalar.muli v278 c2048_i32_242
  let c0_i32_243 : BitVec 32 := 0#32
  let v355 : BitVec 32 := Scalar.addi v354 c0_i32_243
  let c0_i32_244 : BitVec 32 := 0#32
  let v356 : BitVec 32 := Scalar.addi v355 c0_i32_244
  let c0_i32_251 : BitVec 32 := 0#32
  ![v358.toNat, v356.toNat, 0]
def k0_off26 (d20 : Dev nD) : Fin 3 → Nat :=
  let c2_i32_256 : BitVec 32 := 2#32
  let v264 : BitVec 32 := Dev.word d20
  let c4_i32_186 : BitVec 32 := 4#32
  let v265 : BitVec 32 := Scalar.divsi v264 c4_i32_186
  let c2_i32_185 : BitVec 32 := 2#32
  let v266 : BitVec 32 := Scalar.remsi v265 c2_i32_185
  let v374 : BitVec 32 := Scalar.muli c2_i32_256 v266
  let c1_i32_193 : BitVec 32 := 1#32
  let v267 : BitVec 32 := Dev.word d20
  let c2_i32_188 : BitVec 32 := 2#32
  let v268 : BitVec 32 := Scalar.divsi v267 c2_i32_188
  let c2_i32_187 : BitVec 32 := 2#32
  let v269 : BitVec 32 := Scalar.remsi v268 c2_i32_187
  let v275 : BitVec 32 := Scalar.subi c1_i32_193 v269
  let v375 : BitVec 32 := Scalar.addi v374 v275
  let c1_i32_197 : BitVec 32 := 1#32
  let v270 : BitVec 32 := Dev.word d20
  let c1_i32_190 : BitVec 32 := 1#32
  let v271 : BitVec 32 := Scalar.divsi v270 c1_i32_190
  let c2_i32_189 : BitVec 32 := 2#32
  let v272 : BitVec 32 := Scalar.remsi v271 c2_i32_189
  let v279 : BitVec 32 := Scalar.subi c1_i32_197 v272
  let c2048_i32_253 : BitVec 32 := 2048#32
  let v371 : BitVec 32 := Scalar.muli v279 c2048_i32_253
  let c0_i32_254 : BitVec 32 := 0#32
  let v372 : BitVec 32 := Scalar.addi v371 c0_i32_254
  let c0_i32_255 : BitVec 32 := 0#32
  let v373 : BitVec 32 := Scalar.addi v372 c0_i32_255
  let c0_i32_262 : BitVec 32 := 0#32
  ![v375.toNat, v373.toNat, 0]
def k0_off27 (d20 : Dev nD) : Fin 3 → Nat :=
  let c2_i32_267 : BitVec 32 := 2#32
  let c1_i32_194 : BitVec 32 := 1#32
  let v264 : BitVec 32 := Dev.word d20
  let c4_i32_186 : BitVec 32 := 4#32
  let v265 : BitVec 32 := Scalar.divsi v264 c4_i32_186
  let c2_i32_185 : BitVec 32 := 2#32
  let v266 : BitVec 32 := Scalar.remsi v265 c2_i32_185
  let v276 : BitVec 32 := Scalar.subi c1_i32_194 v266
  let v391 : BitVec 32 := Scalar.muli c2_i32_267 v276
  let c1_i32_195 : BitVec 32 := 1#32
  let v267 : BitVec 32 := Dev.word d20
  let c2_i32_188 : BitVec 32 := 2#32
  let v268 : BitVec 32 := Scalar.divsi v267 c2_i32_188
  let c2_i32_187 : BitVec 32 := 2#32
  let v269 : BitVec 32 := Scalar.remsi v268 c2_i32_187
  let v277 : BitVec 32 := Scalar.subi c1_i32_195 v269
  let v392 : BitVec 32 := Scalar.addi v391 v277
  let c1_i32_198 : BitVec 32 := 1#32
  let v270 : BitVec 32 := Dev.word d20
  let c1_i32_190 : BitVec 32 := 1#32
  let v271 : BitVec 32 := Scalar.divsi v270 c1_i32_190
  let c2_i32_189 : BitVec 32 := 2#32
  let v272 : BitVec 32 := Scalar.remsi v271 c2_i32_189
  let v280 : BitVec 32 := Scalar.subi c1_i32_198 v272
  let c2048_i32_264 : BitVec 32 := 2048#32
  let v388 : BitVec 32 := Scalar.muli v280 c2048_i32_264
  let c0_i32_265 : BitVec 32 := 0#32
  let v389 : BitVec 32 := Scalar.addi v388 c0_i32_265
  let c0_i32_266 : BitVec 32 := 0#32
  let v390 : BitVec 32 := Scalar.addi v389 c0_i32_266
  let c0_i32_274 : BitVec 32 := 0#32
  ![v392.toNat, v390.toNat, 0]
def k0_off28 (d20 : Dev nD) : Fin 3 → Nat :=
  let c2_i32_279 : BitVec 32 := 2#32
  let c1_i32_194 : BitVec 32 := 1#32
  let v264 : BitVec 32 := Dev.word d20
  let c4_i32_186 : BitVec 32 := 4#32
  let v265 : BitVec 32 := Scalar.divsi v264 c4_i32_186
  let c2_i32_185 : BitVec 32 := 2#32
  let v266 : BitVec 32 := Scalar.remsi v265 c2_i32_185
  let v276 : BitVec 32 := Scalar.subi c1_i32_194 v266
  let v408 : BitVec 32 := Scalar.muli c2_i32_279 v276
  let c1_i32_195 : BitVec 32 := 1#32
  let v267 : BitVec 32 := Dev.word d20
  let c2_i32_188 : BitVec 32 := 2#32
  let v268 : BitVec 32 := Scalar.divsi v267 c2_i32_188
  let c2_i32_187 : BitVec 32 := 2#32
  let v269 : BitVec 32 := Scalar.remsi v268 c2_i32_187
  let v277 : BitVec 32 := Scalar.subi c1_i32_195 v269
  let v409 : BitVec 32 := Scalar.addi v408 v277
  let c1_i32_199 : BitVec 32 := 1#32
  let v270 : BitVec 32 := Dev.word d20
  let c1_i32_190 : BitVec 32 := 1#32
  let v271 : BitVec 32 := Scalar.divsi v270 c1_i32_190
  let c2_i32_189 : BitVec 32 := 2#32
  let v272 : BitVec 32 := Scalar.remsi v271 c2_i32_189
  let v281 : BitVec 32 := Scalar.subi c1_i32_199 v272
  let c2048_i32_276 : BitVec 32 := 2048#32
  let v405 : BitVec 32 := Scalar.muli v281 c2048_i32_276
  let c0_i32_277 : BitVec 32 := 0#32
  let v406 : BitVec 32 := Scalar.addi v405 c0_i32_277
  let c432_i32_278 : BitVec 32 := 432#32
  let v407 : BitVec 32 := Scalar.addi v406 c432_i32_278
  let c0_i32_286 : BitVec 32 := 0#32
  ![v409.toNat, v407.toNat, 0]
def k0_off29 (d20 : Dev nD) : Fin 2 → Nat :=
  let v270 : BitVec 32 := Dev.word d20
  let c1_i32_190 : BitVec 32 := 1#32
  let v271 : BitVec 32 := Scalar.divsi v270 c1_i32_190
  let c2_i32_189 : BitVec 32 := 2#32
  let v272 : BitVec 32 := Scalar.remsi v271 c2_i32_189
  let c2048_i32_288 : BitVec 32 := 2048#32
  let v422 : BitVec 32 := Scalar.muli v272 c2048_i32_288
  let c0_i32_289 : BitVec 32 := 0#32
  let v423 : BitVec 32 := Scalar.addi v422 c0_i32_289
  let c0_i32_290 : BitVec 32 := 0#32
  let v424 : BitVec 32 := Scalar.addi v423 c0_i32_290
  let c0_i32_294 : BitVec 32 := 0#32
  ![v424.toNat, 0]
def k0_off30 (d20 : Dev nD) : Fin 3 → Nat :=
  let c2_i32_291 : BitVec 32 := 2#32
  let v264 : BitVec 32 := Dev.word d20
  let c4_i32_186 : BitVec 32 := 4#32
  let v265 : BitVec 32 := Scalar.divsi v264 c4_i32_186
  let c2_i32_185 : BitVec 32 := 2#32
  let v266 : BitVec 32 := Scalar.remsi v265 c2_i32_185
  let v425 : BitVec 32 := Scalar.muli c2_i32_291 v266
  let v267 : BitVec 32 := Dev.word d20
  let c2_i32_188 : BitVec 32 := 2#32
  let v268 : BitVec 32 := Scalar.divsi v267 c2_i32_188
  let c2_i32_187 : BitVec 32 := 2#32
  let v269 : BitVec 32 := Scalar.remsi v268 c2_i32_187
  let v426 : BitVec 32 := Scalar.addi v425 v269
  let v270 : BitVec 32 := Dev.word d20
  let c1_i32_190 : BitVec 32 := 1#32
  let v271 : BitVec 32 := Scalar.divsi v270 c1_i32_190
  let c2_i32_189 : BitVec 32 := 2#32
  let v272 : BitVec 32 := Scalar.remsi v271 c2_i32_189
  let c2048_i32_288 : BitVec 32 := 2048#32
  let v422 : BitVec 32 := Scalar.muli v272 c2048_i32_288
  let c0_i32_289 : BitVec 32 := 0#32
  let v423 : BitVec 32 := Scalar.addi v422 c0_i32_289
  let c0_i32_290 : BitVec 32 := 0#32
  let v424 : BitVec 32 := Scalar.addi v423 c0_i32_290
  let c0_i32_295 : BitVec 32 := 0#32
  ![v426.toNat, v424.toNat, 0]
def k0_off31 (d20 : Dev nD) : Fin 3 → Nat :=
  let c2_i32_307 : BitVec 32 := 2#32
  let c1_i32_192 : BitVec 32 := 1#32
  let v264 : BitVec 32 := Dev.word d20
  let c4_i32_186 : BitVec 32 := 4#32
  let v265 : BitVec 32 := Scalar.divsi v264 c4_i32_186
  let c2_i32_185 : BitVec 32 := 2#32
  let v266 : BitVec 32 := Scalar.remsi v265 c2_i32_185
  let v274 : BitVec 32 := Scalar.subi c1_i32_192 v266
  let v445 : BitVec 32 := Scalar.muli c2_i32_307 v274
  let v267 : BitVec 32 := Dev.word d20
  let c2_i32_188 : BitVec 32 := 2#32
  let v268 : BitVec 32 := Scalar.divsi v267 c2_i32_188
  let c2_i32_187 : BitVec 32 := 2#32
  let v269 : BitVec 32 := Scalar.remsi v268 c2_i32_187
  let v446 : BitVec 32 := Scalar.addi v445 v269
  let v270 : BitVec 32 := Dev.word d20
  let c1_i32_190 : BitVec 32 := 1#32
  let v271 : BitVec 32 := Scalar.divsi v270 c1_i32_190
  let c2_i32_189 : BitVec 32 := 2#32
  let v272 : BitVec 32 := Scalar.remsi v271 c2_i32_189
  let c2048_i32_304 : BitVec 32 := 2048#32
  let v442 : BitVec 32 := Scalar.muli v272 c2048_i32_304
  let c0_i32_305 : BitVec 32 := 0#32
  let v443 : BitVec 32 := Scalar.addi v442 c0_i32_305
  let c0_i32_306 : BitVec 32 := 0#32
  let v444 : BitVec 32 := Scalar.addi v443 c0_i32_306
  let c0_i32_311 : BitVec 32 := 0#32
  ![v446.toNat, v444.toNat, 0]
def k0_off32 (d20 : Dev nD) : Fin 3 → Nat :=
  let c2_i32_316 : BitVec 32 := 2#32
  let v264 : BitVec 32 := Dev.word d20
  let c4_i32_186 : BitVec 32 := 4#32
  let v265 : BitVec 32 := Scalar.divsi v264 c4_i32_186
  let c2_i32_185 : BitVec 32 := 2#32
  let v266 : BitVec 32 := Scalar.remsi v265 c2_i32_185
  let v456 : BitVec 32 := Scalar.muli c2_i32_316 v266
  let c1_i32_193 : BitVec 32 := 1#32
  let v267 : BitVec 32 := Dev.word d20
  let c2_i32_188 : BitVec 32 := 2#32
  let v268 : BitVec 32 := Scalar.divsi v267 c2_i32_188
  let c2_i32_187 : BitVec 32 := 2#32
  let v269 : BitVec 32 := Scalar.remsi v268 c2_i32_187
  let v275 : BitVec 32 := Scalar.subi c1_i32_193 v269
  let v457 : BitVec 32 := Scalar.addi v456 v275
  let v270 : BitVec 32 := Dev.word d20
  let c1_i32_190 : BitVec 32 := 1#32
  let v271 : BitVec 32 := Scalar.divsi v270 c1_i32_190
  let c2_i32_189 : BitVec 32 := 2#32
  let v272 : BitVec 32 := Scalar.remsi v271 c2_i32_189
  let c2048_i32_313 : BitVec 32 := 2048#32
  let v453 : BitVec 32 := Scalar.muli v272 c2048_i32_313
  let c0_i32_314 : BitVec 32 := 0#32
  let v454 : BitVec 32 := Scalar.addi v453 c0_i32_314
  let c0_i32_315 : BitVec 32 := 0#32
  let v455 : BitVec 32 := Scalar.addi v454 c0_i32_315
  let c0_i32_320 : BitVec 32 := 0#32
  ![v457.toNat, v455.toNat, 0]
def k0_off33 (d20 : Dev nD) : Fin 3 → Nat :=
  let c2_i32_325 : BitVec 32 := 2#32
  let c1_i32_192 : BitVec 32 := 1#32
  let v264 : BitVec 32 := Dev.word d20
  let c4_i32_186 : BitVec 32 := 4#32
  let v265 : BitVec 32 := Scalar.divsi v264 c4_i32_186
  let c2_i32_185 : BitVec 32 := 2#32
  let v266 : BitVec 32 := Scalar.remsi v265 c2_i32_185
  let v274 : BitVec 32 := Scalar.subi c1_i32_192 v266
  let v467 : BitVec 32 := Scalar.muli c2_i32_325 v274
  let v267 : BitVec 32 := Dev.word d20
  let c2_i32_188 : BitVec 32 := 2#32
  let v268 : BitVec 32 := Scalar.divsi v267 c2_i32_188
  let c2_i32_187 : BitVec 32 := 2#32
  let v269 : BitVec 32 := Scalar.remsi v268 c2_i32_187
  let v468 : BitVec 32 := Scalar.addi v467 v269
  let v270 : BitVec 32 := Dev.word d20
  let c1_i32_190 : BitVec 32 := 1#32
  let v271 : BitVec 32 := Scalar.divsi v270 c1_i32_190
  let c2_i32_189 : BitVec 32 := 2#32
  let v272 : BitVec 32 := Scalar.remsi v271 c2_i32_189
  let c2048_i32_322 : BitVec 32 := 2048#32
  let v464 : BitVec 32 := Scalar.muli v272 c2048_i32_322
  let c0_i32_323 : BitVec 32 := 0#32
  let v465 : BitVec 32 := Scalar.addi v464 c0_i32_323
  let c0_i32_324 : BitVec 32 := 0#32
  let v466 : BitVec 32 := Scalar.addi v465 c0_i32_324
  let c0_i32_329 : BitVec 32 := 0#32
  ![v468.toNat, v466.toNat, 0]
def k0_off34 (d20 : Dev nD) : Fin 3 → Nat :=
  let c2_i32_334 : BitVec 32 := 2#32
  let v264 : BitVec 32 := Dev.word d20
  let c4_i32_186 : BitVec 32 := 4#32
  let v265 : BitVec 32 := Scalar.divsi v264 c4_i32_186
  let c2_i32_185 : BitVec 32 := 2#32
  let v266 : BitVec 32 := Scalar.remsi v265 c2_i32_185
  let v478 : BitVec 32 := Scalar.muli c2_i32_334 v266
  let c1_i32_193 : BitVec 32 := 1#32
  let v267 : BitVec 32 := Dev.word d20
  let c2_i32_188 : BitVec 32 := 2#32
  let v268 : BitVec 32 := Scalar.divsi v267 c2_i32_188
  let c2_i32_187 : BitVec 32 := 2#32
  let v269 : BitVec 32 := Scalar.remsi v268 c2_i32_187
  let v275 : BitVec 32 := Scalar.subi c1_i32_193 v269
  let v479 : BitVec 32 := Scalar.addi v478 v275
  let v270 : BitVec 32 := Dev.word d20
  let c1_i32_190 : BitVec 32 := 1#32
  let v271 : BitVec 32 := Scalar.divsi v270 c1_i32_190
  let c2_i32_189 : BitVec 32 := 2#32
  let v272 : BitVec 32 := Scalar.remsi v271 c2_i32_189
  let c2048_i32_331 : BitVec 32 := 2048#32
  let v475 : BitVec 32 := Scalar.muli v272 c2048_i32_331
  let c0_i32_332 : BitVec 32 := 0#32
  let v476 : BitVec 32 := Scalar.addi v475 c0_i32_332
  let c432_i32_333 : BitVec 32 := 432#32
  let v477 : BitVec 32 := Scalar.addi v476 c432_i32_333
  let c0_i32_338 : BitVec 32 := 0#32
  ![v479.toNat, v477.toNat, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c5_i32 : BitVec 32 := 5#32
  let v0 : BitVec 32 := Scalar.divsi arg1 c5_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c5_i32 c0_i32_1
  let v7 : BitVec 32 := Scalar.extui v6
  let c0_i32_2 : BitVec 32 := 0#32
  let v8 : BitVec 1 := Scalar.cmpi .slt c5_i32 c0_i32_2
  let v9 : BitVec 32 := Scalar.extui v8
  let v10 : BitVec 32 := Scalar.subi v7 v9
  let v11 : BitVec 1 := Scalar.cmpi .ne v5 v10
  let v12 : BitVec 32 := Scalar.remsi arg1 c5_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c5_i32_4 : BitVec 32 := 5#32
  let c0_i32_5 : BitVec 32 := 0#32
  let v17 : BitVec 1 := Scalar.cmpi .eq c5_i32_4 c0_i32_5
  let c1_i32_6 : BitVec 32 := 1#32
  let v18 : BitVec 32 := Scalar.select v17 c1_i32_6 c5_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== PfReferenceIdeal.lean ====
abbrev S32768x4096 : Shape := ⟨2, ![32768, 4096]⟩
abbrev S4x4096x2560 : Shape := ⟨3, ![4, 4096, 2560]⟩
abbrev S4096x4096 : Shape := ⟨2, ![4096, 4096]⟩
abbrev S16384x4096 : Shape := ⟨2, ![16384, 4096]⟩
abbrev S4096x4x2560 : Shape := ⟨3, ![4096, 4, 2560]⟩
abbrev S4096x10240 : Shape := ⟨2, ![4096, 10240]⟩
abbrev S32768x10240 : Shape := ⟨2, ![32768, 10240]⟩
abbrev S4x1024x4096 : Shape := ⟨3, ![4, 1024, 4096]⟩
abbrev S4x2x2048x4096 : Shape := ⟨4, ![4, 2, 2048, 4096]⟩
abbrev S4x2x880x4096 : Shape := ⟨4, ![4, 2, 880, 4096]⟩

abbrev nBuf : Space → Nat
  | .hbm => 12
  | .vmem => 0
  | .smem => 0
  | _ => 0

abbrev bufTy : (tb : Table) → Fin (tcTables nBuf tb) → BufTy
  | .hbm, ⟨0, _⟩ => ⟨S32768x4096, .bf16⟩
  | .hbm, ⟨1, _⟩ => ⟨S4x4096x2560, .bf16⟩
  | .hbm, ⟨2, _⟩ => ⟨S4096x4096, .bf16⟩
  | .hbm, ⟨3, _⟩ => ⟨S16384x4096, .bf16⟩
  | .hbm, ⟨4, _⟩ => ⟨S4x4096x2560, .f32⟩
  | .hbm, ⟨5, _⟩ => ⟨S4096x4x2560, .f32⟩
  | .hbm, ⟨6, _⟩ => ⟨S4096x10240, .f32⟩
  | .hbm, ⟨7, _⟩ => ⟨S32768x4096, .f32⟩
  | .hbm, ⟨8, _⟩ => ⟨S32768x10240, .f32⟩
  | .hbm, ⟨9, _⟩ => ⟨S4x1024x4096, .bf16⟩
  | .hbm, ⟨10, _⟩ => ⟨S4x2x2048x4096, .bf16⟩
  | .hbm, ⟨11, _⟩ => ⟨S4x2x880x4096, .bf16⟩
  | _, _ => ⟨S32768x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== Proof.Block.lean ====
/-
# What one grid point computes

A grid point of `down_dx` reads a 1024 × 4096 block `a` of the left factor, a 1024 × 4096 block `b` of the right one and
a 1024 × 1024 block `r`, and writes a 1024 × 1024 block in two halves: columns 0…511 from rows 0…511 of `b` and columns
0…511 of `r`, columns 512…1023 from the others. `outBlock a b r` is that block; its entries are the two payloads'.
-/
module

public import proofs.«01_k».proof.Proof.Gen.KernelIdeal.Skeleton
public import Idealize.ShloMosaic.Lib.Writes

@[expose] public section

noncomputable section

namespace Cert.Pair

open Cert.KernelIdeal Cert.KernelIdeal.Gen
open Idealize.ShloMosaic

variable {F : FTy → Type} [FloatOps F]

/-- The left and right halves of the output block, as the body's stores name them. -/
abbrev leftHalf : Rect S1024x1024 := Rect.unit (s := S1024x1024) ![0, 0] S1024x512.size inb_S1024x1024_S1024x512_0_0
abbrev rightHalf : Rect S1024x1024 := Rect.unit (s := S1024x1024) ![0, 512] S1024x512.size inb_S1024x1024_S1024x512_0_512

/-- The upper and lower halves of the right factor's block. -/
abbrev upperHalf : Rect S1024x4096 := Rect.unit (s := S1024x4096) ![0, 0] S512x4096.size inb_S1024x4096_S512x4096_0_0
abbrev lowerHalf : Rect S1024x4096 := Rect.unit (s := S1024x4096) ![512, 0] S512x4096.size inb_S1024x4096_S512x4096_512_0

/-- The left factor's block, as the body loads it. -/
abbrev allOf : Rect S1024x4096 := Rect.unit (s := S1024x4096) ![0, 0] S1024x4096.size inb_S1024x4096_S1024x4096_0_0

/-- A block seen through a rectangle. -/
def part {s : Shape} {e : EltTy} (X : s.Idx → Elt F e) (r : Rect s) : r.shape.Idx → Elt F e := fun x => X (r.emb x)

variable (a b : Vec F S1024x4096 .bf16) (r : Vec F S1024x1024 .bf16)

/-- The two stored halves. -/
def outLeft : Vec F S1024x512 .bf16 := k0_pay2 (part b upperHalf) (part a allOf) (part r leftHalf)
def outRight : Vec F S1024x512 .bf16 := k0_pay1 (k0_pay3 (part b lowerHalf) (part a allOf) (part r rightHalf))

/-- The half a column lies in, and its place there. -/
def column (y : S1024x1024.Idx) : S1024x512.Idx
  | 0 => y 0
  | 1 => ⟨(y 1).val % 512, Nat.mod_lt _ (by decide)⟩

/-- The block a grid point writes. -/
def outBlock : Vec F S1024x1024 .bf16 := fun y => if (y 1).val < 512 then outLeft a b r (column y) else outRight a b r (column y)

/-- The two stores, last one first. -/
abbrev stores : List (View.Piece (Elt F) S1024x1024 .bf16) := [⟨rightHalf, outRight a b r⟩, ⟨leftHalf, outLeft a b r⟩]

/-- The stores cover the block. -/
theorem stores_cover (y : S1024x1024.Idx) : ∃ p ∈ stores a b r, y ∈ p.1.set :=
  View.cover_of_tiled (stores a b r) S1024x512.size rfl y

/-- Over any contents, the two stores leave `outBlock`. -/
theorem read_stores {κ : Kind} {sp : Space} (v : View sig κ sp S1024x1024 .bf16) (f : v.ty.Contents (Elt F)) :
    v.read (Elt F) (v.writes (Elt F) f (stores a b r)) = outBlock a b r := by
  funext y
  refine View.read_writes_apply_of_pieces v f (outBlock a b r) (stores a b r) ?_ y (stores_cover a b r y)
  intro p hp x
  rcases List.mem_cons.mp hp with rfl | hp
  · have h0 : ((rightHalf.emb x) 0).val = 0 + 1 * (x 0).val := rfl
    have h1 : ((rightHalf.emb x) 1).val = 512 + 1 * (x 1).val := rfl
    have hx : (x 1).val < 512 := (x 1).isLt
    show outRight a b r x = outBlock a b r (rightHalf.emb x)
    unfold outBlock
    rw [if_neg (by omega)]
    congr 1
    funext i
    fin_cases i
    · exact Fin.ext (by show (x 0).val = ((rightHalf.emb x) 0).val; omega)
    · exact Fin.ext (by show (x 1).val = ((rightHalf.emb x) 1).val % 512; omega)
  · rcases List.mem_cons.mp hp with rfl | hp
    · have h0 : ((leftHalf.emb x) 0).val = 0 + 1 * (x 0).val := rfl
      have h1 : ((leftHalf.emb x) 1).val = 0 + 1 * (x 1).val := rfl
      have hx : (x 1).val < 512 := (x 1).isLt
      show outLeft a b r x = outBlock a b r (leftHalf.emb x)
      unfold outBlock
      rw [if_pos (by omega)]
      congr 1
      funext i
      fin_cases i
      · exact Fin.ext (by show (x 0).val = ((leftHalf.emb x) 0).val; omega)
      · exact Fin.ext (by show (x 1).val = ((leftHalf.emb x) 1).val % 512; omega)
    · exact absurd hp List.not_mem_nil

end Cert.Pair

end
-- ==== Proof.Value.lean ====
/-
# The block of a grid point over the reals

Over the extended reals the casts are the identity, so entry `(p, q)` of the block that a grid point writes is the inner
product of row `p` of the left factor's block and row `q` of the right factor's, times twice entry `(p, q)` of the third
block. The two halves of the block are read one after the other.
-/
module

public import proofs.«01_k».proof.Proof.Block
public import Idealize.ShloMosaic.Lib.Pointwise

@[expose] public section

set_option maxRecDepth 16384

noncomputable section

namespace Cert.Pair

open Cert.KernelIdeal Cert.KernelIdeal.Gen
open Idealize.ShloMosaic

variable (a b : Vec Ideal S1024x4096 .bf16) (r : Vec Ideal S1024x1024 .bf16)

/-- The entry of a product of which the right factor is transposed, times twice a third factor. -/
def gated {n k w : ℕ} (A : (⟨2, ![n, k]⟩ : Shape).Idx → Ideal .bf16) (B : (⟨2, ![w, k]⟩ : Shape).Idx → Ideal .bf16)
    (R : (⟨2, ![n, w]⟩ : Shape).Idx → Ideal .bf16) (p : Fin n) (q : Fin w) : EReal :=
  (∑ j : Fin k, (A (ix2 p j) : EReal) * B (ix2 q j)) * (Ideal.ofBits .f32 0x40000000#32 * R (ix2 p q))

/-- Where the halves put an index. -/
theorem at_all (p : Fin 1024) (x : Fin 4096) : allOf.emb (ix2 p x) = ix2 p x := by
  funext i; fin_cases i <;> exact Fin.ext (show 0 + 1 * _ = _ by rw [Nat.zero_add, Nat.one_mul])
theorem at_upper (q : Fin 512) (x : Fin 4096) : upperHalf.emb (ix2 q x) = ix2 (⟨q.val, by omega⟩ : Fin 1024) x := by
  funext i; fin_cases i <;> exact Fin.ext (show 0 + 1 * _ = _ by rw [Nat.zero_add, Nat.one_mul]; rfl)
theorem at_lower (q : Fin 512) (x : Fin 4096) : lowerHalf.emb (ix2 q x) = ix2 (⟨512 + q.val, by omega⟩ : Fin 1024) x := by
  funext i; fin_cases i
  · exact Fin.ext (show 512 + 1 * _ = _ by rw [Nat.one_mul]; rfl)
  · exact Fin.ext (show 0 + 1 * _ = _ by rw [Nat.zero_add, Nat.one_mul]; rfl)
theorem at_left (p : Fin 1024) (q : Fin 512) : leftHalf.emb (ix2 p q) = ix2 p (⟨q.val, by omega⟩ : Fin 1024) := by
  funext i; fin_cases i <;> exact Fin.ext (show 0 + 1 * _ = _ by rw [Nat.zero_add, Nat.one_mul]; rfl)
theorem at_right (p : Fin 1024) (q : Fin 512) : rightHalf.emb (ix2 p q) = ix2 p (⟨512 + q.val, by omega⟩ : Fin 1024) := by
  funext i; fin_cases i
  · exact Fin.ext (show 0 + 1 * _ = _ by rw [Nat.zero_add, Nat.one_mul]; rfl)
  · exact Fin.ext (show 512 + 1 * _ = _ by rw [Nat.one_mul]; rfl)

theorem outLeft_apply (p : Fin 1024) (q : Fin 512) :
    outLeft a b r (ix2 p q) = gated (n := 1024) (k := 4096) (w := 1024) a b r p ⟨q.val, by omega⟩ := by
  pointwise [outLeft, k0_pay2, part, gated]
  simp only [at_all, at_upper, at_left]

theorem outRight_apply (p : Fin 1024) (q : Fin 512) :
    outRight a b r (ix2 p q) = gated (n := 1024) (k := 4096) (w := 1024) a b r p ⟨512 + q.val, by omega⟩ := by
  pointwise [outRight, k0_pay1, k0_pay3, part, gated]
  simp only [at_all, at_lower, at_right]

/-- The whole block. -/
theorem outBlock_apply (p : Fin 1024) (q : Fin 1024) :
    outBlock a b r (ix2 p q) = gated (n := 1024) (k := 4096) (w := 1024) a b r p q := by
  have hc : column (ix2 p q) = ix2 p (⟨q.val % 512, Nat.mod_lt _ (by decide)⟩ : Fin 512) := by
    funext i; fin_cases i <;> rfl
  have hq := q.isLt
  by_cases h : q.val < 512
  · have e : outBlock a b r (ix2 p q) = outLeft a b r (column (ix2 p q)) := if_pos h
    rw [e, hc, outLeft_apply]
    exact congrArg _ (Fin.ext (by show q.val % 512 = q.val; omega))
  · have e : outBlock a b r (ix2 p q) = outRight a b r (column (ix2 p q)) := if_neg h
    rw [e, hc, outRight_apply]
    exact congrArg _ (Fin.ext (by show 512 + q.val % 512 = q.val; omega))

end Cert.Pair

end
-- ==== Proof.Links.lean ====
/-
# One transfer along each of several links, without a handshake

The kernels of this certificate exchange data in the simplest way there is. There are finitely many LINKS. Along link
`j` device `c` sends one block to the device `peer j c`, which sends its own block back along the same link
(`peer j` is an involution). A device starts its transfers in its first grid point and waits for them in its last:

* the SEND cell of link `j` on device `c` is credited by `c`'s own transfer; what the credit hands `c` back is the
  memory the transfer reads (`pay (false, j) c`);
* the RECEIVE cell of link `j` on device `c` is credited by the transfer of `peer j c`; what the credit hands `c` is its
  landing memory, holding the block `peer j c` sent (`pay (true, j) c`).

Each cell has one round with one duty of `units j` units. No signal says that a landing buffer is free, so a device has
to hold its peer's landing buffer, and the right to credit its peer's receive cell, from the start: `launch_all` deals
both across the devices.

Everything here is over any signature, any float values and any number of links; `Links` is the data, `schedule` the
protocol, `send_along` and `wait_on` the two steps a body takes, `launch_all` the launch.
-/
module

public import Idealize.ShloMosaic.Lib.Pipeline.Launch
public import Idealize.ShloMosaic.Lib.Pipeline.Kit
public import Idealize.ShloMosaic.Lib.Tactic

@[expose] public section

noncomputable section

namespace Cert.Exchange

open Idealize.ShloMosaic
open TcCoe Rounds
open Idealize.SL Idealize.SL.RA Idealize.SL.BI
open BIBase Laws ProofMode Sem
open Idealize.ShloMosaic.Pipeline (ownSems0 launchCred owing)

/-- The links of a kernel: on each a send and a receive semaphore, whom a device exchanges with, and the units of one
    transfer. -/
structure Links (nD : Nat) (sig : RefSig) where
  J : ℕ
  sendSem : Fin J → DmaSem sig
  recvSem : Fin J → DmaSem sig
  peer : Fin J → Dev nD → Dev nD
  peer_peer : ∀ j c, peer j (peer j c) = c
  units : Fin J → ℕ
  units_pos : ∀ j, 0 < units j
  apart : Function.Injective fun k : Bool × Fin J => (SemLoc.dma (bif k.1 then recvSem k.2 else sendSem k.2) : SemLoc sig)

variable {nD : Nat} {τ : Topo} {sig : RefSig} {Val : EltTy → Type} [∀ e, Nonempty (Val e)] {Λ₀ : Idealize.SL.Sem.Labels}

namespace Links

variable (K : Links nD sig)

/-- The cells of a device: `(false, j)` the send cell of link `j`, `(true, j)` its receive cell. -/
abbrev End : Type := Bool × Fin K.J
abbrev sem (k : K.End) : DmaSem sig := bif k.1 then K.recvSem k.2 else K.sendSem k.2
abbrev osem (k : K.End) : SemLoc sig := .dma (K.sem k)
abbrev cell (c : Dev nD) (k : K.End) : GSem nD τ sig := (c.tc, K.osem k)
abbrev sendCell (c : Dev nD) (j : Fin K.J) : GSem nD τ sig := (c.tc, .dma (K.sendSem j))
abbrev recvCell (c : Dev nD) (j : Fin K.J) : GSem nD τ sig := (c.tc, .dma (K.recvSem j))

theorem osem_inj {k k' : K.End} (h : K.osem k = K.osem k') : k = k' := K.apart h

theorem cell_inj {c c' : Dev nD} {k k' : K.End} (h : (K.cell c k : GSem nD τ sig) = K.cell c' k') : c = c' ∧ k = k' :=
  ⟨congrArg (fun g : GSem nD τ sig => g.1.1) h, K.osem_inj (congrArg Prod.snd h)⟩

theorem cells_injective : Function.Injective fun ck : Dev nD × K.End => (K.cell ck.1 ck.2 : GSem nD τ sig) := by
  rintro ⟨c, k⟩ ⟨c', k'⟩ h
  obtain ⟨rfl, rfl⟩ := K.cell_inj h
  rfl

/-- A link as a permutation of the devices. -/
def turn (j : Fin K.J) : Dev nD ≃ Dev nD := ⟨K.peer j, K.peer j, K.peer_peer j, K.peer_peer j⟩

end Links

abbrev UU (nD : Nat) (sig : RefSig) (τ : Topo) : Type := UR sig nD τ × UR sig nD τ

local notation "𝕄" => MT nD τ sig Unit Val ℕ (UU nD sig τ) ℕ

abbrev EP : Emb (UR sig nD τ) (MT nD τ sig Unit Val ℕ (UU nD sig τ) ℕ) := embL
abbrev ER : Emb (UR sig nD τ) (MT nD τ sig Unit Val ℕ (UU nD sig τ) ℕ) := embR

variable (K : Links nD sig)
variable (pay : K.End → Dev nD → sProp (MT nD τ sig Unit Val ℕ (UU nD sig τ) ℕ))

/-! ## The schedule -/

open Classical in
/-- One round per cell of the kernel, one duty in it, of the link's units, handing over the cell's payload. -/
def schedule : Rounds.Schedule (GSem nD τ sig) Unit 𝕄 where
  duties g r := if r = 0 ∧ g.1.2 = .tc ∧ ∃ k, g.2 = K.osem k then {()} else ∅
  unitless _ := False
  amount g _ _ := if h : ∃ k, g.2 = K.osem k then K.units h.choose.2 else 1
  payload g _ _ := if h : ∃ k, g.2 = K.osem k then pay h.choose g.1.1 else iprop(emp)
  amount_pos g _ _ _ := by
    split
    · exact K.units_pos _
    · exact Nat.one_pos

/-- The payloads are such as an invariant may keep. -/
class Keepable : Prop where
  keep : ∀ k c, BI.Storable (upEmb : UEmb _ 𝕄) (pay k c)

instance schedule_storable [hk : Keepable K pay] (g : GSem nD τ sig) (r : ℕ) (d : Unit) :
    BI.Storable (upEmb : UEmb _ 𝕄) ((schedule K pay).payload g r d) := by
  unfold schedule
  dsimp only
  split
  · exact hk.keep _ _
  · infer_instance

section Tables

variable (c : Dev nD) (k : K.End)

theorem duties_now : (schedule K pay).duties (K.cell c k) 0 = {()} := by
  unfold schedule
  exact if_pos ⟨rfl, rfl, k, rfl⟩

theorem duties_later (g : GSem nD τ sig) : ∀ r, 1 ≤ r → (schedule K pay).duties g r = ∅ :=
  fun r hr => by unfold schedule; exact if_neg fun h => by omega

theorem chosen (h : ∃ k', K.osem k = K.osem k') : h.choose = k := (K.osem_inj h.choose_spec).symm

theorem amount_at (u : Unit) : (schedule K pay).amount (K.cell c k) 0 u = K.units k.2 := by
  have h : ∃ k', K.osem k = K.osem k' := ⟨k, rfl⟩
  unfold schedule
  exact (dif_pos h).trans (by rw [chosen K k h])

theorem payload_at (u : Unit) : (schedule K pay).payload (K.cell c k) 0 u = pay k c := by
  have h : ∃ k', K.osem k = K.osem k' := ⟨k, rfl⟩
  unfold schedule
  exact (dif_pos h).trans (by rw [chosen K k h])

theorem expect_at : (schedule K pay).expect (K.cell c k) 0 = K.units k.2 := by
  unfold Schedule.expect Schedule.amountOf
  rw [duties_now, Finset.sum_singleton, amount_at]

theorem rest_at : bigSep ((schedule K pay).duties (K.cell c k) 0 \ ∅) (fun u => (schedule K pay).payload (K.cell c k) 0 u) = pay k c := by
  rw [Finset.sdiff_empty, duties_now, bigSep_singleton, payload_at]

end Tables

/-! ## What a device owes at launch; the levels -/

/-- At launch a device owes the receive cell of each of its peers one transfer. -/
def due (c : Dev nD) : CellTallies nD τ sig Unit := ∑ j, tallyAt (K.recvCell (K.peer j c) j) () (K.units j)

def L (g : GSem nD τ sig) : Finset Unit := if g.1.2 = .tc then {()} else ∅

open Classical in
/-- Receive cells are above every other cell. -/
def lv (g : GSem nD τ sig) (_ : Unit) : ℕ := if ∃ j, g.2 = .dma (K.recvSem j) then 1 else 0

theorem L_of_ne (g : GSem nD τ sig) (h : g.1.2 ≠ .tc) : L g = ∅ := if_neg h
theorem L_tc (c : Dev nD) (sm : SemLoc sig) : L ((c.tc : Thread nD τ), sm) = {()} := if_pos rfl

theorem due_pos {c : Dev nD} {g : GSem nD τ sig} {u : Unit} (h : 0 < due K c g u) : ∃ j, g = K.recvCell (K.peer j c) j := by
  by_contra hn
  rw [not_exists] at hn
  unfold due at h
  rw [Finset.sum_apply, Finsupp.finset_sum_apply, Finset.sum_eq_zero fun j _ => by rw [tallyAt_apply, if_neg fun h' => hn j h'.1]] at h
  exact Nat.lt_irrefl 0 h

/-- A staging semaphore may be waited for while the transfers are owed, and when nothing is. -/
theorem mayWait_stage (c : Dev nD) (q : DmaSem sig) (hq : ∀ j, q ≠ K.recvSem j) (O : CellTallies nD τ sig Unit) (hO : O = due K c ∨ O = 0) :
    (levAts L (lv K) : sProp 𝕄) ⊢ MayWait c.tc (.dma q) () O := by
  rcases hO with rfl | rfl
  · refine MayOwe.of_cut (L := L) (lev := lv K) 0 (fun p hp => by rw [Finset.mem_singleton.mp hp, L_tc]; exact Finset.mem_singleton_self _)
      (fun g u hg => by obtain ⟨j, rfl⟩ := due_pos K hg; exact Finset.mem_singleton_self _)
      (fun p hp => by
        rw [Finset.mem_singleton.mp hp]
        unfold lv
        rw [if_neg fun ⟨j, h⟩ => hq j (by injection h)])
      (fun g u hg => by
        obtain ⟨j, rfl⟩ := due_pos K hg
        unfold lv
        rw [if_pos ⟨j, rfl⟩]
        exact Nat.one_pos)
  · rw [MayWait_zero]; iintro -; iempintro

/-! ## What a body holds -/

/-- What everybody may know: the invariant of every cell of every device, and that it has reached its round. -/
def records (κ : Dev nD × K.End → ℕ) : sProp 𝕄 :=
  iprop((bigSep Finset.univ fun ck : Dev nD × K.End => cellInv ER (schedule K pay) (κ ck) (K.cell ck.1 ck.2))
    ∗ bigSep Finset.univ fun ck : Dev nD × K.End => reached ER (K.cell ck.1 ck.2) 0)

instance records_persistent (κ : Dev nD × K.End → ℕ) : BI.Persistent (records K pay κ) := by unfold records; infer_instance

theorem records_inv (κ : Dev nD × K.End → ℕ) (c : Dev nD) (k : K.End) :
    records K pay κ ⊢ cellInv ER (schedule K pay) (κ (c, k)) (K.cell c k) := by
  unfold records
  exact BI.sep_and.trans (and_elimL.trans
    (BI.bigSep_elim (Φ := fun ck : Dev nD × K.End => cellInv ER (schedule K pay) (κ ck) (K.cell ck.1 ck.2)) (Finset.mem_univ (c, k))))

theorem records_reached (κ : Dev nD × K.End → ℕ) (c : Dev nD) (k : K.End) :
    records K pay κ ⊢ (reached ER (K.cell c k) 0 : sProp 𝕄) := by
  unfold records
  exact BI.sep_and.trans (and_elimR.trans
    (BI.bigSep_elim (Φ := fun ck : Dev nD × K.End => (reached ER (K.cell ck.1 ck.2) 0 : sProp 𝕄)) (Finset.mem_univ (c, k))))

/-- The right to start the transfer of link `j`: the duty at its own send cell and at its peer's receive cell. -/
def ticket (c : Dev nD) (j : Fin K.J) : sProp 𝕄 :=
  iprop(dutyTok ER (K.cell c (false, j)) 0 () ∗ dutyTok ER (K.cell (K.peer j c) (true, j)) 0 ())

/-- The owner's position at the two cells of link `j`. -/
def seats (c : Dev nD) (j : Fin K.J) : sProp 𝕄 :=
  iprop(atPos ER (K.cell c (false, j)) 0 ∅ 0 ∗ atPos ER (K.cell c (true, j)) 0 ∅ 0)

/-- What device `c` holds of link `j` at the start: ticket, positions, and the credit its peer's transfer will make good. -/
def hand (c : Dev nD) (j : Fin K.J) : sProp 𝕄 :=
  iprop(ticket K c j ∗ seats K c j ∗ cred (tallyAt (K.cell c (true, j)) () (K.units j)))

variable [Keepable K pay]

/-- The transfer of link `j`: device `c` gives the memory it reads and its peer's landing memory; each comes back to its
    owner through the payload of the cell the transfer credits. -/
theorem send_along (defs₀ : Defs nD τ sig Val Λ₀) (𝒱₀ : Variants) (κ : Dev nD × K.End → ℕ) (c n : Dev nD) (j : Fin K.J) (hn : n = K.peer j c)
    {sp sp' : Space} {s : Shape} {e : EltTy}
    {src : Memref sig .tc sp s e} {dst : Memref sig .tc sp' s e}
    {sS sR : DmaSem sig} (hS : sS = K.sendSem j) (hR : sR = K.recvSem j)
    {hsc : (dst : Memref sig (Dev.tc n : Thread nD τ).2.kind sp' s e).view.ref.isScScratch = false}
    {hsrc : src.view.WordExact} {hdst : dst.view.WordExact}
    {hsem : DmaTarget.Typed sp (.dma sR) (.remote (Dev.tc n : Thread nD τ) dst (.dma sS) hsc)}
    {α : Type} {Q : α → sProp 𝕄} {k : PUnit → Prog (TpuEff nD τ sig Val Λ₀ .tc) α}
    {q : PosShare TreeShare} (fs : Buf Val (src.view.loc c.tc)) (fd : Buf Val (dst.view.loc (K.peer j c : Thread nD τ)))
    (hu : dst.view.amount (.dma sR) = K.units j)
    (hback : (src.view.loc c.tc ↦[src.view.set]{q} fs : sProp 𝕄) ⊢ pay (false, j) c)
    (hland : (dst.view.loc (K.peer j c : Thread nD τ) ↦[dst.view.set]{fullShare}
        (dst.view.write Val fd (src.view.read Val fs) Finset.univ) : sProp 𝕄) ⊢ pay (true, j) (K.peer j c))
    {O' : CellTallies nD τ sig Unit} (O : CellTallies nD τ sig Unit) (hO : O' = O + tallyAt (K.recvCell (K.peer j c) j) () (K.units j))
    (W : Waits sig Unit) (hr : τ.routes c.tc (K.peer j c : Thread nD τ) = true) :
    iprop(records K pay κ ∗ ticket K c j ∗ (src.view.loc c.tc ↦[src.view.set]{q} fs)
        ∗ (dst.view.loc (K.peer j c : Thread nD τ) ↦[dst.view.set]{fullShare} fd) ∗ owes c.tc O' W)
      ⊢ iprop(((cred (tallyAt (K.cell c (false, j)) () (K.units j)) ∗ owes c.tc O W)
            -∗ wp frame (wpE defs₀ 𝒱₀ c.tc none) Set.univ (k ⟨⟩) Q)
          -∗ wp frame (wpE defs₀ 𝒱₀ c.tc none) Set.univ
              (.op (.enqueueDma src (.remote (Dev.tc n : Thread nD τ) dst (.dma sS) hsc) (.dma sR) hsrc hdst hsem) k) Q) := by
  subst hn hS hR
  have hd₁ : () ∈ (schedule K pay).duties (K.cell c (false, j)) 0 := by rw [duties_now]; exact Finset.mem_singleton_self _
  have hd₂ : () ∈ (schedule K pay).duties (K.cell (K.peer j c) (true, j)) 0 := by rw [duties_now]; exact Finset.mem_singleton_self _
  refine BIBase.Entails.trans ?_ (Rounds.wp_send_pointsTo 𝒱₀ ER (schedule K pay) c.tc none (κ₁ := κ (c, (false, j)))
    (κ₂ := κ (K.peer j c, (true, j))) (r₁ := 0) (r₂ := 0) (d₁ := ()) (d₂ := ()) (fs := fs) (fd := fd) hd₁ hd₂ () () (K.units j) hu
    (amount_at K pay c (false, j) ()) (amount_at K pay (K.peer j c) (true, j) ()) O hO (W := W)
    (by rw [payload_at K pay c (false, j)]; exact hback)
    (by rw [payload_at K pay (K.peer j c) (true, j)]; exact hland) hr)
  unfold ticket
  iintro ⟨#HR, ⟨Ht₁, Ht₂⟩, Hs, Hd, HO⟩
  isplitr; · iapply (records_inv K pay κ c (false, j)); iexact HR
  isplitr; · iapply (records_inv K pay κ (K.peer j c) (true, j)); iexact HR
  isplitl [Hs]; · iexact Hs
  isplitl [Hd]; · iexact Hd
  isplitl [HO]; · iexact HO
  isplitl [Ht₁]; · iexact Ht₁
  isplitr; · iapply (records_reached K pay κ c (false, j)); iexact HR
  isplitl [Ht₂]; · iexact Ht₂
  iapply (records_reached K pay κ (K.peer j c) (true, j)); iexact HR

/-- A wait for a cell of the kernel, with what is owed such as allows it: the payload comes with it and the counter is at
    zero for good. -/
theorem wait_owing (defs₀ : Defs nD τ sig Val Λ₀) (𝒱₀ : Variants) (κ : Dev nD × K.End → ℕ) (c : Dev nD) (k : K.End)
    {sp sp' : Space} {s s' : Shape} {e e' : EltTy} {sm : DmaSem sig} (hsm : sm = K.sem k)
    {src : Memref sig .tc sp' s' e'} {κ' : Kind} {dst : Memref sig κ' sp s e} {hsrc : src.view.WordExact} {hdst : dst.view.WordExact}
    (hu : dst.view.dmaCredit = K.units k.2)
    {α : Type} {Q : α → sProp 𝕄} {cont : PUnit → Prog (TpuEff nD τ sig Val Λ₀ .tc) α} (O : CellTallies nD τ sig Unit) (W : Waits sig Unit) :
    iprop(records K pay κ ∗ cred (tallyAt (K.cell c k) () (K.units k.2)) ∗ atPos ER (K.cell c k) 0 ∅ 0 ∗ owes c.tc O W
        ∗ MayWait c.tc (.dma (K.sem k)) () O)
      ⊢ iprop(((pay k c ∗ semVal (K.cell c k) 0 ∗ owes c.tc O (insert (SemLoc.dma sm, ()) W))
            -∗ wp frame (wpE defs₀ 𝒱₀ c.tc none) Set.univ (cont ⟨⟩) Q)
          -∗ wp frame (wpE defs₀ 𝒱₀ c.tc none) Set.univ (.op (.waitDma2 sm src dst hsrc hdst) cont) Q) := by
  subst hsm
  iintro ⟨#HR, Hc, Hat, HO, HM⟩ Hk
  ihave #HI := (records_inv K pay κ c k) $$ HR
  iapply (Rounds.wp_wait_rest_token 𝒱₀ ER (schedule K pay) c.tc none (κ := κ (c, k))
      (wpE_waitDma2_eq 𝒱₀ c.tc none Set.univ) (Set.mem_univ _) () (O := O) (W := W) (R := 0) (m := 0) (T := ∅)
      (by rw [Nat.zero_add]; exact hu.trans (expect_at K pay c k).symm)) $$ [Hc HO Hat HM]
  · isplitr; · iexact HI
    isplitl [Hc]; · rw [hu]; iexact Hc
    iframe
  iintro ⟨HO, Hat, -, Hpay⟩
  imod (Rounds.cell_close ER (schedule K pay) (Set.mem_univ (κ (c, k))) (fun h => h) (R := 0 + 1) (duties_later K pay (K.cell c k))) $$ [$HI $Hat] with Hz
  iapply Hk
  isplitl [Hpay]; · iapply (Entails.of_eq (rest_at K pay c k)); iexact Hpay
  iframe

/-- The same with nothing owed. -/
theorem wait_on (defs₀ : Defs nD τ sig Val Λ₀) (𝒱₀ : Variants) (κ : Dev nD × K.End → ℕ) (c : Dev nD) (k : K.End)
    {sp sp' : Space} {s s' : Shape} {e e' : EltTy} {sm : DmaSem sig} (hsm : sm = K.sem k)
    {src : Memref sig .tc sp' s' e'} {κ' : Kind} {dst : Memref sig κ' sp s e} {hsrc : src.view.WordExact} {hdst : dst.view.WordExact}
    (hu : dst.view.dmaCredit = K.units k.2)
    {α : Type} {Q : α → sProp 𝕄} {cont : PUnit → Prog (TpuEff nD τ sig Val Λ₀ .tc) α} (W : Waits sig Unit) :
    iprop(records K pay κ ∗ cred (tallyAt (K.cell c k) () (K.units k.2)) ∗ atPos ER (K.cell c k) 0 ∅ 0 ∗ owes c.tc 0 W)
      ⊢ iprop(((pay k c ∗ semVal (K.cell c k) 0 ∗ owes c.tc 0 (insert (SemLoc.dma sm, ()) W))
            -∗ wp frame (wpE defs₀ 𝒱₀ c.tc none) Set.univ (cont ⟨⟩) Q)
          -∗ wp frame (wpE defs₀ 𝒱₀ c.tc none) Set.univ (.op (.waitDma2 sm src dst hsrc hdst) cont) Q) := by
  refine BIBase.Entails.trans ?_ (wait_owing K pay defs₀ 𝒱₀ κ c k hsm hu 0 W)
  iintro ⟨HR, Hc, Hat, HO⟩
  isplitl [HR]; · iexact HR
  isplitl [Hc]; · iexact Hc
  isplitl [Hat]; · iexact Hat
  isplitl [HO]; · iexact HO
  rw [MayWait_zero]; iempintro

/-- The same, the pairs waited on left open. -/
theorem wait_link {defs₀ : Defs nD τ sig Val Λ₀} {𝒱₀ : Variants} (κ : Dev nD × K.End → ℕ) (c : Dev nD) (k : K.End) {s : Shape} {e : EltTy}
    {src dst : Memref sig .tc .hbm s e} {hs : src.view.WordExact} {hd : dst.view.WordExact} (hu : dst.view.dmaCredit = K.units k.2)
    {α : Type} {Q : α → sProp 𝕄} {cont : PUnit → Prog (TpuEff nD τ sig Val Λ₀ .tc) α} :
    iprop(records K pay κ ∗ cred (tallyAt (K.cell c k) () (K.units k.2)) ∗ atPos ER (K.cell c k) 0 ∅ 0 ∗ (∃ W, owes c.tc 0 W))
      ⊢ iprop((pay k c ∗ semVal (K.cell c k) 0 ∗ (∃ W, owes c.tc 0 W) -∗ wp frame (wpE defs₀ 𝒱₀ c.tc none) Set.univ (cont ⟨⟩) Q)
          -∗ wp frame (wpE defs₀ 𝒱₀ c.tc none) Set.univ (.op (.waitDma2 (K.sem k) src dst hs hd) cont) Q) := by
  iintro ⟨#HR, Hc, Ha, ⟨%W, HO⟩⟩ Hk
  iapply (wait_on K pay defs₀ 𝒱₀ κ c k (sm := K.sem k) rfl hu W) $$ [$HR $Hc $Ha $HO]
  iintro ⟨Hp, Hz, HO⟩
  iapply Hk
  iframe Hp Hz
  iexists _; iexact HO

/-! ## The launch -/

/-- The cells of all devices, and the duty of each. -/
def allCells : Finset (GSem nD τ sig) := Finset.univ.map ⟨_, K.cells_injective⟩
def allToks : Finset (GSem nD τ sig × ℕ × Unit) :=
  Finset.univ.map ⟨fun ck : Dev nD × K.End => (K.cell ck.1 ck.2, 0, ()), fun _ _ h => K.cells_injective (congrArg Prod.fst h)⟩

/-- The protocol's ghost resources, cell by cell. -/
def ghosts : sProp 𝕄 :=
  iprop((bigSep Finset.univ fun ck : Dev nD × K.End => roundState ER (schedule K pay) (K.cell ck.1 ck.2) 0)
    ∗ (bigSep Finset.univ fun ck : Dev nD × K.End => reached ER (K.cell ck.1 ck.2) 0)
    ∗ (bigSep Finset.univ fun ck : Dev nD × K.End => atPos ER (K.cell ck.1 ck.2) 0 ∅ 0)
    ∗ (bigSep Finset.univ fun ck : Dev nD × K.End => dutyTok ER (K.cell ck.1 ck.2) 0 ()))

theorem fund_all : BI.own (ER (initOf (allCells K) (allToks K))) ⊢ (|==> ghosts K pay : sProp 𝕄) := by
  have hX (Φ : GSem nD τ sig → sProp 𝕄) : bigSep (allCells K) Φ = bigSep Finset.univ fun ck : Dev nD × K.End => Φ (K.cell ck.1 ck.2) := by
    unfold allCells; rw [bigSep_map]; rfl
  have hT : bigSep (allToks K) (fun x => (dutyTok ER x.1 x.2.1 x.2.2 : sProp 𝕄))
      = bigSep Finset.univ fun ck : Dev nD × K.End => dutyTok ER (K.cell ck.1 ck.2) 0 () := by
    unfold allToks; rw [bigSep_map]; rfl
  iintro H
  imod (Rounds.fund ER (schedule K pay) (allCells K) (allToks K)) $$ H with ⟨Hst, Hr, Hat, Htok⟩
  imodintro
  unfold ghosts
  isplitl [Hst]; · iapply (Entails.of_eq (hX fun g => roundState ER (schedule K pay) g 0)); iexact Hst
  isplitl [Hr]; · iapply (Entails.of_eq (hX fun g => reached ER g 0)); iexact Hr
  isplitl [Hat]; · iapply (Entails.of_eq (hX fun g => atPos ER g 0 ∅ 0)); iexact Hat
  iapply (Entails.of_eq hT); iexact Htok

/-- What the devices owe to a receive cell at launch is one transfer. -/
theorem owed_at (c : Dev nD) (j : Fin K.J) :
    ∑ d : Dev nD, due K d (K.recvCell c j : GSem nD τ sig) () = K.units j := by
  have hz (d : Dev nD) (j' : Fin K.J) (h : ¬ (j' = j ∧ d = K.peer j c)) :
      (tallyAt (K.recvCell (K.peer j' d) j') () (K.units j') : CellTallies nD τ sig Unit) (K.recvCell c j) () = 0 := by
    rw [tallyAt_apply, if_neg]
    rintro ⟨h', -⟩
    obtain ⟨hc, hk⟩ := K.cell_inj (k := (true, j)) (k' := (true, j')) h'
    have hj : j' = j := (congrArg Prod.snd hk).symm
    exact h ⟨hj, by rw [hc, hj, K.peer_peer]⟩
  unfold due
  rw [Finset.sum_eq_single (K.peer j c)]
  · rw [Finset.sum_apply, Finsupp.finset_sum_apply, Finset.sum_eq_single j]
    · rw [tallyAt_apply, K.peer_peer, if_pos ⟨rfl, rfl⟩]
    · exact fun j' _ hj => hz _ j' fun h => hj h.1
    · exact fun h => absurd (Finset.mem_univ _) h
  · intro d _ hd
    rw [Finset.sum_apply, Finsupp.finset_sum_apply]
    exact Finset.sum_eq_zero fun j' _ => hz d j' fun h => hd h.2
  · exact fun h => absurd (Finset.mem_univ _) h

/-- The launch credit of a device is the credit of its receive cells. -/
theorem credits (c : Dev nD) :
    (launchCred (due K) c : sProp 𝕄) ⊢ bigSep Finset.univ fun j => cred (tallyAt (K.cell c (true, j)) () (K.units j)) := by
  classical
  have h (j : Fin K.J) : tallyOn (K.cell c (true, j) : GSem nD τ sig) (launchCredit (owing (due K)) 0 (K.cell c (true, j) : GSem nD τ sig))
      = (tallyAt (K.cell c (true, j)) () (K.units j) : CellTallies nD τ sig Unit) := by
    unfold tallyAt
    refine congrArg _ (Finsupp.ext fun u => ?_)
    cases u
    rw [Pipeline.launchCredit_owing, Finsupp.single_eq_same]
    exact owed_at K c j
  have hinj : Function.Injective fun j : Fin K.J => K.osem (true, j) := fun j j' hj => congrArg Prod.snd (K.osem_inj hj)
  unfold Pipeline.launchCred
  refine BIBase.Entails.trans (BI.bigSep_subset (Finset.subset_univ (Finset.univ.map ⟨_, hinj⟩))) (Entails.of_eq ?_)
  rw [bigSep_map]
  exact bigSep_congr fun j _ => congrArg cred (h j)

theorem ends (Φ : K.End → sProp 𝕄) :
    bigSep Finset.univ Φ = iprop((bigSep Finset.univ fun j => Φ (false, j)) ∗ bigSep Finset.univ fun j => Φ (true, j)) := by
  rw [bigSep_univ_prod]
  exact bigSep_univ_eq_bigSepL [false, true] (by decide) (by decide) fun b => bigSep Finset.univ fun j => Φ (b, j)

/-- The receive duties dealt across every link. -/
theorem tickets : (bigSep Finset.univ fun ck : Dev nD × K.End => (dutyTok ER (K.cell ck.1 ck.2) 0 () : sProp 𝕄))
    ⊢ bigSep Finset.univ fun c => bigSep Finset.univ fun j => ticket K c j := by
  have hsw : (bigSep Finset.univ fun c : Dev nD => bigSep Finset.univ fun j => (dutyTok ER (K.cell c (true, j)) 0 () : sProp 𝕄))
      = bigSep Finset.univ fun c : Dev nD => bigSep Finset.univ fun j => dutyTok ER (K.cell (K.peer j c) (true, j)) 0 () := by
    rw [bigSep_univ_comm, bigSep_univ_comm (fun (c : Dev nD) (j : Fin K.J) => (dutyTok ER (K.cell (K.peer j c) (true, j)) 0 () : sProp 𝕄))]
    exact bigSep_congr fun j _ => bigSep_univ_equiv (K.turn j) (fun c : Dev nD => (dutyTok ER (K.cell c (true, j)) 0 () : sProp 𝕄))
  rw [bigSep_univ_prod]
  unfold ticket
  simp only [ends, bigSep_sep']
  rw [hsw]

/-- What the whole machine gives each device at the start: the records, its hand on every link, and the buffers `mine`
    into which the buffers `rest` of all devices regroup. -/
def begins (mine : Dev nD → sProp 𝕄) (c : Dev nD) : sProp 𝕄 :=
  iprop((∃ κ, records K pay κ) ∗ (bigSep Finset.univ fun j => hand K c j) ∗ mine c)

theorem launch_all {ℓ : GSem nD τ sig → Unit → ℕ} (rest mine : Dev nD → sProp 𝕄) (hbufs : (bigSep Finset.univ rest : sProp 𝕄) ⊢ bigSep Finset.univ mine) :
    iprop((bigSep Finset.univ fun c => iprop(ownSems0 (Ix := Unit) (Name := ℕ) (U := UU nD sig τ) (Lvl := ℕ) (Val := Val) (τ := τ) K.osem c
        ∗ rest c ∗ launchCred (due K) c)) ∗ levAts L ℓ ∗ ghosts K pay)
      ⊢ |={Set.univ}=> (bigSep Finset.univ (begins K pay mine) : sProp 𝕄) := by
  have hinv : iprop((bigSep Finset.univ fun ck : Dev nD × K.End => semVal (K.cell ck.1 ck.2) 0)
        ∗ bigSep Finset.univ fun ck : Dev nD × K.End => roundState ER (schedule K pay) (K.cell ck.1 ck.2) 0)
      ⊢ (|={Set.univ}=> bigSep Finset.univ fun ck : Dev nD × K.End => iprop(∃ n : ℕ, cellInv ER (schedule K pay) n (K.cell ck.1 ck.2)) : sProp 𝕄) := by
    rw [← bigSep_sep']
    exact (bigSep_mono fun ck _ => (Rounds.body_intro ER (schedule K pay) (K.cell ck.1 ck.2)).trans inv_alloc).trans (bigSep_fupd _ _)
  have hsem : (bigSep Finset.univ fun c => ownSems0 (Ix := Unit) (Name := ℕ) (U := UU nD sig τ) (Lvl := ℕ) (Val := Val) (τ := τ) K.osem c : sProp 𝕄)
      = bigSep Finset.univ fun ck : Dev nD × K.End => semVal (K.cell ck.1 ck.2) 0 := by
    rw [bigSep_univ_prod]; rfl
  have hat : (bigSep Finset.univ fun ck : Dev nD × K.End => (atPos ER (K.cell ck.1 ck.2) 0 ∅ 0 : sProp 𝕄))
      = bigSep Finset.univ fun c => bigSep Finset.univ fun j => seats K c j := by
    rw [bigSep_univ_prod]
    unfold seats
    simp only [ends, bigSep_sep']
  have hall (κ) : (records K pay κ : sProp 𝕄) ⊢ bigSep Finset.univ fun c : Dev nD => iprop(∃ κ, records K pay κ) := by
    have hone : (records K pay κ : sProp 𝕄) ⊢ iprop(∃ κ, records K pay κ) := by iintro H; iexists κ; iexact H
    exact (BI.bigSep_of_persistent Finset.univ (records K pay κ)).trans (bigSep_mono fun c _ => hone)
  have hcr : (bigSep Finset.univ fun c => launchCred (due K) c : sProp 𝕄)
      ⊢ bigSep Finset.univ fun c => bigSep Finset.univ fun j => cred (tallyAt (K.cell c (true, j)) () (K.units j)) :=
    bigSep_mono fun c _ => credits K c
  rw [bigSep_sep', bigSep_sep', hsem]
  unfold ghosts
  iintro ⟨⟨Hv, Hb, Hc⟩, -, Hst, #Hr, Hat, Htok⟩
  imod hinv $$ [$Hv $Hst] with Hinv
  imodintro
  ihave HK := (BI.bigSep_exists_pi Finset.univ (fun (ck : Dev nD × K.End) (n : ℕ) => (cellInv ER (schedule K pay) n (K.cell ck.1 ck.2) : sProp 𝕄))) $$ Hinv
  icases HK with ⟨%κ, #HI⟩
  unfold begins hand
  simp only [bigSep_sep']
  isplitr
  · iapply (hall κ)
    unfold records
    iframe HI Hr ∗
  isplitr [Hb]
  · isplitl [Htok]; · iapply (tickets K); iexact Htok
    isplitl [Hat]; · iapply (Entails.of_eq hat); iexact Hat
    iapply hcr; iexact Hc
  · iapply hbufs; iexact Hb

/-- Each device's share of link `j` goes to its peer on that link; what stays with a device is its own. -/
theorem deal_across {rest stays mine : Dev nD → sProp 𝕄} (room : Dev nD → Fin K.J → sProp 𝕄)
    (h : ∀ c, rest c ⊢ iprop(stays c ∗ bigSep Finset.univ fun j => room c j))
    (h' : ∀ c, iprop(stays c ∗ bigSep Finset.univ fun j => room (K.peer j c) j) ⊢ mine c) :
    (bigSep Finset.univ rest : sProp 𝕄) ⊢ bigSep Finset.univ mine := by
  have hsw : (bigSep Finset.univ fun c : Dev nD => bigSep Finset.univ fun j => room c j)
      = bigSep Finset.univ fun c : Dev nD => bigSep Finset.univ fun j => room (K.peer j c) j := by
    rw [bigSep_univ_comm, bigSep_univ_comm fun (c : Dev nD) (j : Fin K.J) => room (K.peer j c) j]
    exact bigSep_congr fun j _ => bigSep_univ_equiv (K.turn j) fun c : Dev nD => room c j
  refine BIBase.Entails.trans (bigSep_mono fun c _ => h c) ?_
  rw [bigSep_sep', hsw, ← bigSep_sep']
  exact bigSep_mono fun c _ => h' c

/-- The ghost state of a launch: the staging protocol's, and that of the links. -/
theorem fund_both (u : UR sig nD τ) :
    (ownU ((u, initOf (allCells K) (allToks K)) : UU nD sig τ) : sProp 𝕄) ⊢ |={Set.univ}=> iprop(BI.own (EP u) ∗ ghosts K pay) := by
  iintro Hu
  ihave H := (ownU_pair _ _) $$ Hu
  icases H with ⟨HP, HX⟩
  imod (fund_all K pay) $$ HX with HG
  imodintro
  iframe

/-! ## Reading -/

omit [∀ e, Nonempty (Val e)] in
/-- A memref owned at named contents, its buffer held. -/
theorem owns_iff (c : Dev nD) {s : Shape} {e : EltTy} (M : Memref sig .tc .vmem s e) (X : s.Idx → Val e) :
    (owns c.tc M fullShare X : sProp 𝕄)
      = iprop(∃ f : Buf Val (M.view.loc c.tc), ⌜M.view.read Val f = X⌝ ∗ (M.view.loc c.tc ↦[M.view.set]{fullShare} f)) := rfl

omit [∀ e, Nonempty (Val e)] in
/-- A buffer held whole is what the memory holds. -/
theorem read_whole {ℓ : Loc nD τ sig} {f : Buf Val ℓ} {s : Phys nD τ sig Val} :
    iprop(SI s ∗ (ℓ ↦{fullShare} f)) ⊢ (⌜s.mem.mem ℓ = f⌝ : sProp 𝕄) := by
  iintro H
  ihave %h := (SI_pointsTo_agree (st := s)) $$ H
  ipureintro
  exact funext fun i => h i (Finset.mem_univ i)

end Cert.Exchange

end
-- ==== Proof.Pair.lean ====
/-
# The exchange of `down_dx`: who sends what to whom

The eight devices are the cores of a 2 × 2 torus of chips with two cores each; device `c` is core `c % 2` of chip
`c / 2`. Beside its product, `down_dx` exchanges half of a buffer between the two cores of each chip:

* device `c` sends the rows of its `main_arg3` that its sibling `peer c` is to reduce (the rows starting at
  `2048 * (1 - c % 2)`) of every chip's block, `outgoing c`, into `main_v1_1` of `peer c`;
* it credits its own send semaphore (DMA semaphore 8) and the receive semaphore (DMA semaphore 9) of `peer c`;
* in its last grid point it waits first for its receive semaphore — its own `main_v1_1` then holds what `peer c` sent —
  and then for its send semaphore, which returns the elements the transfer reads.

This is one link in the sense of the links module. The payloads name the contents, so one run over any float values
gives both frames and the value.
-/
module

public import proofs.«01_k».proof.Proof.Links
public import proofs.«01_k».proof.Proof.Gen.KernelIdeal
public import proofs.«01_k».proof.Proof.Gen.KernelIdeal.Launch

@[expose] public section

noncomputable section

namespace Cert.Pair

open Cert.KernelIdeal Cert.KernelIdeal.Gen

open Idealize.ShloMosaic
open TcCoe Rounds
open Idealize.SL Idealize.SL.RA Idealize.SL.BI
open BIBase Laws ProofMode Sem
open Cert.Exchange (Links UU EP ER)

variable {F : FTy → Type} [FloatOps F]

local notation "𝕄" => MT nD τ sig Unit (Elt F) ℕ (UU nD sig τ) ℕ

/-! ## The link -/

/-- The other core of a chip. -/
def peer (c : Dev nD) : Dev nD := ⟨4 * (c.val / 4) + 2 * (c.val / 2 % 2) + (1 - c.val % 2), by revert c; decide⟩

theorem peer_peer (c : Dev nD) : peer (peer c) = c := by revert c; decide

/-- The device the kernel computes for its transfer is the other core. -/
theorem dev_eq (c : Dev nD) (h : k0_dev1 c < nD) : (⟨k0_dev1 c, h⟩ : Dev nD) = peer c := by
  apply Fin.ext
  show k0_dev1 c = 4 * (c.val / 4) + 2 * (c.val / 2 % 2) + (1 - c.val % 2)
  rw [k0_dev1_eq]
  omega

/-- A transfer may go from each device to its peer. -/
theorem routes (c : Dev nD) : τ.routes c.tc (peer c : Thread nD τ) = true := by revert c; decide

abbrev sendSem : DmaSem sig := (((cc0_scratch0).slice (Rect.unit (s := S1) ![0] S1.size inb_S1_S1_0)).squeeze S_ squeezes_S1_S_ : DmaSems sig S_).sem
abbrev recvSem : DmaSem sig := (((cc0_scratch1).slice (Rect.unit (s := S1) ![0] S1.size inb_S1_S1_0)).squeeze S_ squeezes_S1_S_ : DmaSems sig S_).sem

/-- The landing buffer. -/
abbrev landM : Memref sig .tc .hbm S4x2048x4096 .bf16 := Memref.whole main_v1_1

/-- The units of one transfer. -/
def amount : ℕ := landM.view.dmaCredit

def links : Links nD sig where
  J := 1
  sendSem _ := sendSem
  recvSem _ := recvSem
  peer _ := peer
  peer_peer _ := peer_peer
  units _ := amount
  units_pos _ := View.dmaCredit_pos _ (by decide)
  apart := by decide

/-! ## What travels -/

theorem off_inb (c : Dev nD) : ∀ a, k0_off1 c a + S4x2048x4096.size a ≤ S4x4096x4096.size a := by revert c; decide +kernel

theorem off_eq (c : Dev nD) : k0_off2 c = k0_off1 c := by rw [k0_off1_eq, k0_off2_eq]

/-- The part of its `main_arg3` that device `c` sends: of every chip's block the rows of the other core. -/
abbrev sentM (c : Dev nD) : Memref sig .tc .hbm S4x2048x4096 .bf16 :=
  (Memref.whole main_arg3).slice (Rect.unit (s := S4x4096x4096) (k0_off1 c) S4x2048x4096.size (off_inb c)) (fun _ => rfl)

variable (m : (ℓ : Loc nD τ sig) → Buf (Elt F) ℓ)

/-- What device `c` sends, read off its `main_arg3` at launch. -/
def outgoing (c : Dev nD) : Vec F S4x2048x4096 .bf16 :=
  (sentM c).view.read (Elt F) (m (c.tc.loc main_arg3))

/-- What lands on device `c`: what its peer sends. -/
def landed (c : Dev nD) : Buf (Elt F) (landM.view.loc (c.tc : Thread nD τ)) := outgoing m (peer c)

/-- The elements the transfer reads, at their launch contents. -/
def lent (c : Dev nD) : sProp 𝕄 :=
  iprop((sentM c).view.loc c.tc ↦[(sentM c).view.set]{fullShare} m (c.tc.loc main_arg3))

/-- The landing buffer at contents `f`. -/
def landing (c : Dev nD) (f : Buf (Elt F) (landM.view.loc (c.tc : Thread nD τ))) : sProp 𝕄 :=
  iprop(landM.view.loc c.tc ↦[landM.view.set]{fullShare} f)

/-- What the send cell returns and what the receive cell delivers. -/
def pay : links.End → Dev nD → sProp 𝕄
  | (false, _), c => lent m c
  | (true, _), c => landing c (landed m c)

instance : Cert.Exchange.Keepable links (pay m) where
  keep k c := by
    rcases k with ⟨_ | _, j⟩
    · show BI.Storable upEmb (lent m c)
      unfold lent; infer_instance
    · show BI.Storable upEmb (landing c (landed m c))
      unfold landing; infer_instance

omit [FloatOps F] in
theorem landing_eq (c : Dev nD) (f : Buf (Elt F) (c.tc.loc main_v1_1)) :
    landing c f = (c.tc.loc main_v1_1 ↦{fullShare} f : sProp 𝕄) := by
  unfold landing; rw [View.set_whole]

omit [FloatOps F] in
/-- What the transfer leaves in the landing buffer does not depend on what it held. -/
theorem write_landing (c : Dev nD) (f : Buf (Elt F) (landM.view.loc (c.tc : Thread nD τ))) (w : Vec F S4x2048x4096 .bf16) :
    landM.view.write (Elt F) f w Finset.univ = w :=
  View.write_whole_univ _ _ _

/-- The elements of `main_arg3` the transfer does not read. -/
def keptBack (c : Dev nD) : sProp 𝕄 :=
  iprop(c.tc.loc main_arg3 ↦[Finset.univ \ (sentM c).view.set]{fullShare} m (c.tc.loc main_arg3))

omit [FloatOps F] in
/-- `main_arg3` is what the transfer reads and the rest. -/
theorem arg3_split (c : Dev nD) :
    (c.tc.loc main_arg3 ↦{fullShare} m (c.tc.loc main_arg3) : sProp 𝕄) ⊣⊢ iprop(lent m c ∗ keptBack m c) :=
  pointsTo_split_subset (Finset.subset_univ _)

end Cert.Pair

end
-- ==== Proof.Parts.lean ====
/-
# The three parts of a grid point

The body at a grid point is: start the transfer (at the first point), compute the block, wait for the transfer (at the
last point).
-/
module

public import proofs.«01_k».proof.Proof.Gen.KernelIdeal.Skeleton
public import proofs.«01_k».proof.Proof.Gen.KernelIdeal.Points
public import proofs.«01_k».proof.Proof.Pair

@[expose] public section

noncomputable section

namespace Cert.Pair

open Cert.KernelIdeal Cert.KernelIdeal.Gen
open Idealize.ShloMosaic
open TcCoe
open Idealize.SL.Sem

variable {F : FTy → Type} [FloatOps F]

/-- Programs of this kernel. -/
abbrev Code (F : FTy → Type) [FloatOps F] : Type → Type 1 := Prog (TpuEff nD τ sig (Elt F) Λ₀ .tc)

/-- The first grid point sends. -/
def sendPart (i : grid0.Coords) : Code F PUnit :=
  if h : k0_cond1 i = 1#1 then
    .op .deviceId fun d => .op (.enqueueDma ((Memref.whole main_arg3).slice (Rect.unit (s := S4x4096x4096) (k0_off1 d) S4x2048x4096.size (k0_off1_inb i d h)) (fun _ => rfl))
        (.remote (Dev.tc (⟨k0_dev1 d, k0_dev1_lt i d h⟩ : Dev nD)) landM (.dma sendSem)) (.dma recvSem)
        ((Memref.isWhole_whole main_arg3).wordExact_slice rfl _ (k0_off1_wordsbf16 i d h)) (Memref.isWhole_whole main_v1_1).wordExact ⟨⟨rfl, Or.inl rfl⟩, trivial⟩)
      fun _ => .ret ⟨⟩
  else .ret ⟨⟩

/-- Every grid point computes. -/
def workPart (A : Memref sig .tc .vmem S1024x4096 .bf16) (B : Memref sig .tc .vmem S1024x4096 .bf16) (R : Memref sig .tc .vmem S1024x1024 .bf16)
    (O : Memref sig .tc .vmem S1024x1024 .bf16) (hO : O.IsWhole) : Code F PUnit :=
  .op (.load B (Rect.unit (s := S1024x4096) ![0, 0] S512x4096.size inb_S1024x4096_S512x4096_0_0).toLoadRect (View.loadsAt_vmem h_S512x4096)) fun v8 =>
  .op (.load A (Rect.unit (s := S1024x4096) ![0, 0] S1024x4096.size inb_S1024x4096_S1024x4096_0_0).toLoadRect (View.loadsAt_vmem h_S1024x4096)) fun v10 =>
  .op (.load R (Rect.unit (s := S1024x1024) ![0, 0] S1024x512.size inb_S1024x1024_S1024x512_0_0).toLoadRect (View.loadsAt_vmem h_S1024x512)) fun v13 =>
  .op (.load O (Rect.unit (s := S1024x1024) ![0, 0] S1024x512.size inb_S1024x1024_S1024x512_0_0).toLoadRect (View.loadsAt_vmem h_S1024x512)) fun _ =>
  .op (.store O (Rect.unit (s := S1024x1024) ![0, 0] S1024x512.size inb_S1024x1024_S1024x512_0_0) (k0_pay2 v8 v10 v13) Finset.univ
    (View.stores_vmem h_S1024x512 (hO.storeExact_slice rfl _ packedbf16_S1024x1024_S1024x512_0_0) (fun _ => rfl)) (.inl rfl)) fun _ =>
  .op (.load B (Rect.unit (s := S1024x4096) ![512, 0] S512x4096.size inb_S1024x4096_S512x4096_512_0).toLoadRect (View.loadsAt_vmem h_S512x4096)) fun v21 =>
  .op (.load A (Rect.unit (s := S1024x4096) ![0, 0] S1024x4096.size inb_S1024x4096_S1024x4096_0_0).toLoadRect (View.loadsAt_vmem h_S1024x4096)) fun v23 =>
  .op (.load R (Rect.unit (s := S1024x1024) ![0, 512] S1024x512.size inb_S1024x1024_S1024x512_0_512).toLoadRect (View.loadsAt_vmem h_S1024x512)) fun v26 =>
  .op (.load O (Rect.unit (s := S1024x1024) ![0, 512] S1024x512.size inb_S1024x1024_S1024x512_0_512).toLoadRect (View.loadsAt_vmem h_S1024x512)) fun _ =>
  .op (.store O (Rect.unit (s := S1024x1024) ![0, 512] S1024x512.size inb_S1024x1024_S1024x512_0_512) (k0_pay1 (k0_pay3 v21 v23 v26)) Finset.univ
    (View.stores_vmem h_S1024x512 (hO.storeExact_slice rfl _ packedbf16_S1024x1024_S1024x512_0_512) (fun _ => rfl)) (.inl rfl)) fun _ => .ret ⟨⟩

/-- The last grid point waits: for what its peer sent, then for what it sent itself. -/
def waitPart (i : grid0.Coords) : Code F PUnit :=
  if h : k0_cond2 i = 1#1 then
    .op .deviceId fun d =>
    .op (.waitDma2 recvSem ((Memref.whole main_arg3).slice (Rect.unit (s := S4x4096x4096) (k0_off2 d) S4x2048x4096.size (k0_off2_inb i d h)) (fun _ => rfl)) landM
      ((Memref.isWhole_whole main_arg3).wordExact_slice rfl _ (k0_off2_wordsbf16 i d h)) (Memref.isWhole_whole main_v1_1).wordExact) fun _ =>
    .op (.waitDma2 sendSem landM ((Memref.whole main_arg3).slice (Rect.unit (s := S4x4096x4096) (k0_off2 d) S4x2048x4096.size (k0_off2_inb i d h)) (fun _ => rfl))
      (Memref.isWhole_whole main_v1_1).wordExact ((Memref.isWhole_whole main_arg3).wordExact_slice rfl _ (k0_off2_wordsbf16 i d h))) fun _ => .ret ⟨⟩
  else .ret ⟨⟩

/-- The body is its three parts, one after the other. -/
theorem body_eq (t : Fin cfg0.N) :
    bodyAt0 (F := F) t = sendPart (grid0.coords t) >>= fun _ =>
      workPart (st0_0 t) (st0_1 t) (st0_2 t) (st0_3 t) (hstage0_3 ((cfg0.slots t 3).cast nbuf0_3)) >>= fun _ => waitPart (grid0.coords t) := by
  unfold bodyAt0 sendPart
  rw [cc0_down_dx_eq_skeleton]
  unfold cc0_down_dx_skel
  rw [k0_part1_eq_skeleton]
  unfold k0_part1_skel
  by_cases h : k0_cond1 (grid0.coords t) = 1#1
  · rw [dif_pos h, dif_pos h]; rfl
  · rw [dif_neg h, dif_neg h]; rfl

/-- The first point, and only it, sends; the last point, and only it, waits. -/
theorem sends_iff (t : Fin cfg0.N) : k0_cond1 (grid0.coords t) = 1#1 ↔ t.val = 0 :=
  (by decide +kernel : ∀ t : Fin grid0.N, k0_cond1 (grid0.coords t) = 1#1 ↔ t.val = 0) t
theorem waits_iff (t : Fin cfg0.N) : k0_cond2 (grid0.coords t) = 1#1 ↔ t.val = 63 :=
  (by decide +kernel : ∀ t : Fin grid0.N, k0_cond2 (grid0.coords t) = 1#1 ↔ t.val = 63) t

end Cert.Pair

end
-- ==== Proof.Steps.lean ====
/-
# The three parts, each by itself

What each part of a grid point does to the memory and to the protocol: the first sends, every one computes its block,
the last waits.
-/
module

public import proofs.«01_k».proof.Proof.Block
public import proofs.«01_k».proof.Proof.Parts
public import proofs.«01_k».proof.Proof.Pair

@[expose] public section

noncomputable section

namespace Cert.Pair

open Cert.KernelIdeal Cert.KernelIdeal.Gen
open Idealize.ShloMosaic
open TcCoe Rounds
open Idealize.SL Idealize.SL.RA Idealize.SL.BI
open BIBase Laws ProofMode Sem
open Cert.Exchange (Links UU EP ER records ticket seats hand due owns_iff)

variable {F : FTy → Type} [FloatOps F]

local notation "𝕄" => MT nD τ sig Unit (Elt F) ℕ (UU nD sig τ) ℕ

abbrev 𝒱₀ : Variants := Variants.none

/-! ## The block -/

/-- The computing part reads its three blocks and leaves `outBlock` of them in the fourth, whatever that held. -/
theorem work_step (c : Dev nD) (A B : Memref sig .tc .vmem S1024x4096 .bf16) (R O : Memref sig .tc .vmem S1024x1024 .bf16) (hO : O.IsWhole)
    (a b : Vec F S1024x4096 .bf16) (r o : Vec F S1024x1024 .bf16) :
    iprop(owns (Ix := Unit) (Name := ℕ) (U := UU nD sig τ) (Lvl := ℕ) c.tc A fullShare a
        ∗ owns c.tc B fullShare b ∗ owns c.tc R fullShare r ∗ owns c.tc O fullShare o)
      ⊢ wp frame (wpE (defs₀ (F := F)) 𝒱₀ c none) Set.univ (workPart A B R O hO)
          (fun _ => iprop(owns c.tc A fullShare a ∗ owns c.tc B fullShare b ∗ owns c.tc R fullShare r
            ∗ owns c.tc O fullShare (outBlock a b r) : sProp 𝕄)) := by
  simp only [owns_iff]
  unfold workPart
  iintro ⟨⟨%fa, %ha, HA⟩, ⟨%fb, %hb, HB⟩, ⟨%fr, %hr, HR⟩, ⟨%fo, %ho, HO⟩⟩
  subst ha hb hr
  iapply (wp_load 𝒱₀ c.tc none Set.univ (m := B) (View.setOn_subset_set _ _)) $$ HB; iintro HB
  iapply (wp_load 𝒱₀ c.tc none Set.univ (m := A) (View.setOn_subset_set _ _)) $$ HA; iintro HA
  iapply (wp_load 𝒱₀ c.tc none Set.univ (m := R) (View.setOn_subset_set _ _)) $$ HR; iintro HR
  iapply (wp_load 𝒱₀ c.tc none Set.univ (m := O) (View.setOn_subset_set _ _)) $$ HO; iintro HO
  iapply (wp_store_writes₀ 𝒱₀ c.tc none Set.univ (m := O) (r := leftHalf) (View.set_slice_subset _ _)) $$ HO; iintro HO
  iapply (wp_load 𝒱₀ c.tc none Set.univ (m := B) (View.setOn_subset_set _ _)) $$ HB; iintro HB
  iapply (wp_load 𝒱₀ c.tc none Set.univ (m := A) (View.setOn_subset_set _ _)) $$ HA; iintro HA
  iapply (wp_load 𝒱₀ c.tc none Set.univ (m := R) (View.setOn_subset_set _ _)) $$ HR; iintro HR
  iapply (wp_load 𝒱₀ c.tc none Set.univ (m := O) (View.setOn_subset_set _ _)) $$ HO; iintro HO
  iapply (wp_store_writes 𝒱₀ c.tc none Set.univ (m := O) (r := rightHalf) (View.set_slice_subset _ _)) $$ HO; iintro HO
  rw [wp_ret]; imodintro
  isplitl [HA]
  · iexists fa; isplitr; · (ipureintro; rfl)
    iexact HA
  isplitl [HB]
  · iexists fb; isplitr; · (ipureintro; rfl)
    iexact HB
  isplitl [HR]
  · iexists fr; isplitr; · (ipureintro; rfl)
    iexact HR
  iexists _; isplitr
  · ipureintro
    exact read_stores (A.view.read (Elt F) fa) (B.view.read (Elt F) fb) (R.view.read (Elt F) fr) O.view fo
  iexact HO

/-! ## The transfer -/

variable (m : (ℓ : Loc nD τ sig) → Buf (Elt F) ℓ)

/-- The one link. -/
abbrev j₀ : Fin links.J := (0 : Fin 1)
abbrev sendEnd : links.End := (false, j₀)
abbrev recvEnd : links.End := (true, j₀)

/-- The credit a device holds for its send cell and for its receive cell while a transfer is on the way. -/
abbrev sendCred (c : Dev nD) : sProp 𝕄 := cred (tallyAt (links.cell c sendEnd) () (links.units j₀))
abbrev recvCred (c : Dev nD) : sProp 𝕄 := cred (tallyAt (links.cell c recvEnd) () (links.units j₀))

theorem pay_send (c : Dev nD) : pay m sendEnd c = lent m c := rfl
theorem pay_recv (c : Dev nD) : pay m recvEnd c = landing c (landed m c) := rfl

/-- The wait for the send cell counts the units of the transfer: the two memrefs have one shape. -/
theorem credit_sent (c : Dev nD) (h : ∀ a, k0_off2 c a + S4x2048x4096.size a ≤ S4x4096x4096.size a) :
    ((Memref.whole main_arg3).slice (Rect.unit (s := S4x4096x4096) (k0_off2 c) S4x2048x4096.size h) (fun _ => rfl)
      : Memref sig .tc .hbm S4x2048x4096 .bf16).view.dmaCredit = links.units j₀ := by
  show sig.dmaCredit .tc _ _ S4x2048x4096 .bf16 = amount
  unfold amount
  exact Eq.refl (RefSig.tileCredit S4x2048x4096 .bf16)

theorem due_eq (c : Dev nD) : due (τ := τ) links c = 0 + tallyAt (links.recvCell (links.peer j₀ c) j₀) () (links.units j₀) := by
  rw [zero_add]
  unfold due
  exact Fin.sum_univ_one _

/-- The first point's transfer: the device gives the elements it sends and its peer's landing buffer. -/
theorem send_step (κ : Dev nD × links.End → ℕ) (c : Dev nD) (i : grid0.Coords) (h : k0_cond1 i = 1#1) (fd : Buf (Elt F) (landM.view.loc (peer c : Thread nD τ)))
    (W : Waits sig Unit) :
    iprop(records links (pay m) κ ∗ ticket links c j₀ ∗ lent m c ∗ landing (peer c) fd ∗ owes c.tc (due links c) W)
      ⊢ wp frame (wpE (defs₀ (F := F)) 𝒱₀ c none) Set.univ (sendPart (F := F) i)
          (fun _ => iprop(sendCred c ∗ owes c.tc 0 W : sProp 𝕄)) := by
  unfold sendPart
  rw [dif_pos h]
  simp only [wp_deviceId]
  iintro ⟨#HR, Ht, Hs, Hd, HO⟩
  iapply (Cert.Exchange.send_along links (pay m) (defs₀ (F := F)) 𝒱₀ κ c _ j₀ (dev_eq c (k0_dev1_lt i c h)) (sS := sendSem) (sR := recvSem) rfl rfl
    (m (c.tc.loc main_arg3)) fd rfl ?_ ?_ 0 (due_eq c) W (routes c)) $$ [Ht Hs Hd HO]
  · exact BIBase.Entails.rfl
  · rw [write_landing]
    exact Entails.of_eq (by show _ = landing _ (landed m (peer c)); unfold landed; rw [peer_peer]; rfl)
  · isplitr; · iexact HR
    isplitl [Ht]; · iexact Ht
    isplitl [Hs]; · unfold lent; iexact Hs
    isplitl [Hd]; · unfold landing; iexact Hd
    iexact HO
  iintro ⟨Hc, HO⟩
  rw [wp_ret]; imodintro
  iframe

/-- The last point's two waits: the landing buffer comes with what the peer sent, then the sent elements come back. -/
theorem wait_step (κ : Dev nD × links.End → ℕ) (c : Dev nD) (i : grid0.Coords) (h : k0_cond2 i = 1#1) (W : Waits sig Unit) :
    iprop(records links (pay m) κ ∗ seats links c j₀ ∗ sendCred c ∗ recvCred c ∗ owes c.tc 0 W)
      ⊢ wp frame (wpE (defs₀ (F := F)) 𝒱₀ c none) Set.univ (waitPart (F := F) i)
          (fun _ => iprop(lent m c ∗ landing c (landed m c) ∗ semVal (links.cell c sendEnd) 0 ∗ semVal (links.cell c recvEnd) 0
            ∗ ∃ W', owes c.tc 0 W' : sProp 𝕄)) := by
  unfold waitPart
  rw [dif_pos h]
  simp only [wp_deviceId]
  unfold seats
  iintro ⟨#HR, ⟨HaS, HaR⟩, HcS, HcR, HO⟩
  iapply (Cert.Exchange.wait_on links (pay m) (defs₀ (F := F)) 𝒱₀ κ c recvEnd (sm := recvSem) rfl rfl W) $$ [$HR $HaR $HcR $HO]
  iintro ⟨HpR, HzR, HO⟩
  iapply (Cert.Exchange.wait_on links (pay m) (defs₀ (F := F)) 𝒱₀ κ c sendEnd (sm := sendSem) rfl (credit_sent c _) _) $$ [$HR $HaS $HcS $HO]
  iintro ⟨HpS, HzS, HO⟩
  rw [wp_ret]; imodintro
  isplitl [HpS]; · iapply (Entails.of_eq (pay_send m c)); iexact HpS
  isplitl [HpR]; · iapply (Entails.of_eq (pay_recv m c)); iexact HpR
  isplitl [HzS]; · iexact HzS
  isplitl [HzR]; · iexact HzR
  iexists _; iexact HO

end Cert.Pair

end
-- ==== Proof.Body.lean ====
/-
# The body at every grid point

The schedule of the call on device `c`, its window contents, and the body's obligation: what a grid point is given and
what it leaves. Before the first point nothing is sent (`Start`); between the first and the last the transfers are on the
way (`Sent`); after the last both have landed (`Done`).
-/
module

public import proofs.«01_k».proof.Proof.Steps
public import proofs.«01_k».proof.Proof.Gen.KernelIdeal.Frame

@[expose] public section

noncomputable section

namespace Cert.Pair

open Cert.KernelIdeal Cert.KernelIdeal.Gen
open Idealize.ShloMosaic
open Idealize.ShloMosaic.Pipeline
open Idealize.ShloMosaic.TcCoe
open Idealize.SL Idealize.SL.RA Idealize.SL.BI
open BIBase Laws ProofMode Sem
open Idealize.ShloMosaic.Rounds
open Cert.Exchange (Links UU EP ER records ticket seats hand due)

variable {F : FTy → Type} [FloatOps F]

local notation "𝕄" => MT nD τ sig Unit (Elt F) ℕ (UU nD sig τ) ℕ

variable (m : (ℓ : Loc nD τ sig) → Buf (Elt F) ℓ)

/-! ## The states -/

/-- The memory a device brings to the exchange: what it sends, the rest of that array, its peer's landing buffer. -/
def mine (c : Dev nD) : sProp 𝕄 := iprop(lent m c ∗ keptBack m c ∗ ∃ f, landing (peer c) f)

/-- Before the first grid point. -/
def Start (c : Dev nD) : sProp 𝕄 :=
  iprop((∃ κ, records links (pay m) κ) ∗ hand links c j₀ ∗ mine m c)

/-- Between the first and the last. -/
def Sent (c : Dev nD) : sProp 𝕄 :=
  iprop((∃ κ, records links (pay m) κ) ∗ seats links c j₀ ∗ sendCred c ∗ recvCred c ∗ keptBack m c)

/-- After the last. -/
def Done (c : Dev nD) : sProp 𝕄 :=
  iprop(lent m c ∗ keptBack m c ∗ landing c (landed m c) ∗ semVal (links.cell c sendEnd) 0 ∗ semVal (links.cell c recvEnd) 0)

/-! ## The schedule -/

/-- The block a grid point writes, from the blocks it reads. -/
def wrote (c : Dev nD) (t : Fin cfg0.N) : Vec F S1024x1024 .bf16 := outBlock (iblk m c 0 t) (iblk m c 1 t) (iblk m c 2 t)

def dats (_ : Fin 1) (c : Dev nD) : Dat τ (Elt F) Unit ℕ (UU nD sig τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => wrote m c t
  Φ t := if t.val = 0 then Start m c else if t.val = 64 then Done m c else Sent m c
  q _ := fullShare
  owed t := if t.val = 0 then due links c else 0

/-- The three windows that are read hold their blocks at every point, fetched there or before. -/
theorem before_0 (c : Dev nD) (t : Fin cfg0.N) (d) : (dats m 0 c).before 0 t d = iblk m c 0 t :=
  ((dats m 0 c).before_in_eq_fetched 0 rfl (fun _ => rfl) (fun _ _ _ => rfl) (fun _ => rfl) t d).trans rfl
theorem before_1 (c : Dev nD) (t : Fin cfg0.N) (d) : (dats m 0 c).before 1 t d = iblk m c 1 t :=
  ((dats m 0 c).before_in_eq_fetched 1 rfl (fun _ => rfl) (fun _ _ _ => rfl) (fun _ => rfl) t d).trans rfl
theorem before_2 (c : Dev nD) (t : Fin cfg0.N) (d) : (dats m 0 c).before 2 t d = iblk m c 2 t :=
  ((dats m 0 c).before_in_eq_fetched 2 rfl (fun _ => rfl) (fun _ _ _ => rfl) (fun _ => rfl) t d).trans rfl

/-! ## The obligation -/

/-- What a device owes, the pairs it has waited on left open. -/
theorem owesAt_intro (c : Dev nD) (t : Fin (cfg0.N + 1)) (W : Waits sig Unit) (O : CellTallies nD τ sig Unit) (hO : (dats m 0 c).owed t = O) :
    (owes c.tc O W : sProp 𝕄) ⊢ (dats m 0 c).owesAt () t := by
  unfold Dat.owesAt Pipeline.owesWithin
  rw [hO]
  iintro H
  iexists W
  isplitr
  · ipureintro; exact fun _ _ => Or.inl trivial
  iexact H

theorem send_point (c : Dev nD) (t : Fin cfg0.N) :
    iprop((dats m 0 c).Φ t.castSucc ∗ (dats m 0 c).owesAt () t.castSucc)
      ⊢ wp frame (wpE (defs₀ (F := F)) 𝒱₀ c none) Set.univ (sendPart (F := F) (grid0.coords t))
          (fun _ => iprop(Sent m c ∗ ∃ W, owes c.tc 0 W : sProp 𝕄)) := by
  have hN : t.val < 64 := lt_of_lt_of_eq t.isLt N_0
  unfold Dat.owesAt Pipeline.owesWithin
  by_cases h : t.val = 0
  · have hΦ : (dats m 0 c).Φ t.castSucc = Start m c := if_pos h
    have hO : (dats m 0 c).owed t.castSucc = due links c := if_pos h
    rw [hΦ, hO]
    unfold Start hand mine
    iintro ⟨⟨⟨%κ, #HR⟩, ⟨Ht, Hs, Hc⟩, Hl, Hk, ⟨%fd, Hd⟩⟩, ⟨%W, %hW, HO⟩⟩
    iapply (wp_wand frame (wpE (defs₀ (F := F)) 𝒱₀ c none) Set.univ) $$ [Ht Hl Hd HO]
    · iapply (send_step m κ c (grid0.coords t) ((sends_iff t).mpr h) fd W)
      iframe HR ∗
    iintro %a ⟨Hcs, HO⟩
    unfold Sent
    isplitr [HO]
    · isplitr; · (iexists κ; iexact HR)
      iframe
    · iexists W; iexact HO
  · have hΦ : (dats m 0 c).Φ t.castSucc = Sent m c := (if_neg h).trans (if_neg (by show ¬ t.val = 64; omega))
    have hO : (dats m 0 c).owed t.castSucc = 0 := if_neg h
    rw [hΦ, hO]
    unfold sendPart
    rw [dif_neg fun h' => h ((sends_iff t).mp h'), wp_ret]
    iintro ⟨H, ⟨%W, %hW, HO⟩⟩
    imodintro
    isplitl [H]; · iexact H
    iexists W; iexact HO

theorem wait_point (c : Dev nD) (t : Fin cfg0.N) :
    iprop(Sent m c ∗ ∃ W, owes c.tc 0 W)
      ⊢ wp frame (wpE (defs₀ (F := F)) 𝒱₀ c none) Set.univ (waitPart (F := F) (grid0.coords t))
          (fun _ => iprop((dats m 0 c).Φ t.succ ∗ (dats m 0 c).owesAt () t.succ : sProp 𝕄)) := by
  have hO : (dats m 0 c).owed t.succ = 0 := by
    show (if t.val + 1 = 0 then due links c else 0) = 0
    exact if_neg (Nat.succ_ne_zero t.val)
  by_cases h : t.val = 63
  · have hΦ : (dats m 0 c).Φ t.succ = Done m c := by
      show (if t.val + 1 = 0 then Start m c else if t.val + 1 = 64 then Done m c else Sent m c) = Done m c
      rw [if_neg (Nat.succ_ne_zero t.val), if_pos (by omega)]
    rw [hΦ]
    unfold Sent
    iintro ⟨⟨⟨%κ, #HR⟩, Hs, Hcs, Hcr, Hk⟩, ⟨%W, HO⟩⟩
    iapply (wp_wand frame (wpE (defs₀ (F := F)) 𝒱₀ c none) Set.univ) $$ [Hs Hcs Hcr HO]
    · iapply (wait_step m κ c (grid0.coords t) ((waits_iff t).mpr h) W)
      iframe HR ∗
    iintro %a ⟨Hl, Hd, HzS, HzR, ⟨%W', HO⟩⟩
    unfold Done
    isplitr [HO]
    · iframe
    · iapply (owesAt_intro m c t.succ W' 0 hO); iexact HO
  · have hΦ : (dats m 0 c).Φ t.succ = Sent m c := by
      show (if t.val + 1 = 0 then Start m c else if t.val + 1 = 64 then Done m c else Sent m c) = Sent m c
      rw [if_neg (Nat.succ_ne_zero t.val), if_neg (by omega)]
    rw [hΦ]
    unfold waitPart
    rw [dif_neg fun h' => h ((waits_iff t).mp h'), wp_ret]
    iintro ⟨H, ⟨%W, HO⟩⟩
    imodintro
    isplitl [H]; · iexact H
    iapply (owesAt_intro m c t.succ W 0 hO); iexact HO

theorem body_obligation (c : Dev nD) : BodyObligation (dats (F := F) m 0 c) (defs₀ (F := F)) 𝒱₀ () Set.univ := fun t => by
  rw [bigSep_W0, bigSep_W0]
  show _ ⊢ wp frame (wpE (defs₀ (F := F)) 𝒱₀ c none) Set.univ (bodyAt0 (F := F) t) _
  rw [body_eq, wp_bind]
  iintro ⟨HΦ, HO, ⟨%d0, H0⟩, ⟨%d1, H1⟩, ⟨%d2, H2⟩, ⟨%d3, H3⟩⟩
  iapply (wp_wand frame (wpE (defs₀ (F := F)) 𝒱₀ c none) Set.univ) $$ [HΦ HO]
  · iapply (send_point m c t)
    isplitl [HΦ] <;> iassumption
  iintro %a ⟨HS, HO⟩
  rw [wp_bind]
  iapply (wp_wand frame (wpE (defs₀ (F := F)) 𝒱₀ c none) Set.univ) $$ [H0 H1 H2 H3]
  · iapply (work_step c (st0_0 t) (st0_1 t) (st0_2 t) (st0_3 t) _ (iblk m c 0 t) (iblk m c 1 t) (iblk m c 2 t) _)
    isplitl [H0]; · (iapply (Entails.of_eq (congrArg _ (before_0 m c t d0))); iexact H0)
    isplitl [H1]; · (iapply (Entails.of_eq (congrArg _ (before_1 m c t d1))); iexact H1)
    isplitl [H2]; · (iapply (Entails.of_eq (congrArg _ (before_2 m c t d2))); iexact H2)
    iexact H3
  iintro %a' ⟨H0, H1, H2, H3⟩
  iapply (wp_wand frame (wpE (defs₀ (F := F)) 𝒱₀ c none) Set.univ) $$ [HS HO]
  · iapply (wait_point m c t)
    isplitl [HS] <;> iassumption
  iintro %a'' ⟨HΦ, HO⟩
  isplitl [HΦ]; · iexact HΦ
  isplitl [HO]; · iexact HO
  isplitl [H0]; · iexact H0
  isplitl [H1]; · iexact H1
  isplitl [H2]; · iexact H2
  iexact H3

end Cert.Pair

end
-- ==== Proof.Exchange.lean ====
/-
# The launch of one pipelined call whose devices write into one another's memory

A device of such a call may copy into its peer's result buffer at its very first grid point, before the peer has
entered the call: the right to write that buffer has to be dealt ACROSS the devices when the machine starts. The
launch theorem of this module does that. Its one global step (`hstart`) is handed, of every device at once, the
semaphores of the call that are not staging semaphores (at zero), the HBM buffers that no window stages (at their
launch contents), the launch credit and the protocol's ghost resources, together with the level facts; it returns
what each device's body starts from (`X`). Everything else is per device.

* `dealt`        — what a device is dealt at launch, sorted into what stays with it and what the global step regroups;
* `levels_all`   — the levels of all cells assigned;
* `device_run`   — one device's run of the program (the call, then what follows it) from what it holds;
* `device_read`  — what one device's final holdings say about the final memory;
* `θ_run_exchange` — the launch theorem.
-/
module

public import Idealize.ShloMosaic.Lib.Pipeline.Launch
public import Idealize.ShloMosaic.Lib.Pipeline.RegionArrays
public import Idealize.ShloMosaic.Lib.Pipeline.Kit
public import Idealize.ShloMosaic.Lib.Tactic

@[expose] public section

noncomputable section

namespace Cert.Exchange

open Idealize.ShloMosaic
open TcCoe Rounds
open Idealize.SL Idealize.SL.RA Idealize.SL.BI
open BIBase Laws ProofMode Sem
open Idealize.ShloMosaic.Pipeline

variable {nD : Nat} {τ : Topo} {sig : RefSig} {Val : EltTy → Type} [∀ e, Nonempty (Val e)]
variable {Ix : Type} [DecidableEq Ix] {Name : Type} [DecidableEq Name] [Infinite Name] {U : Type} [URA U]
  {Lvl : Type} [Preorder Lvl]
variable {Λ₀ : Idealize.SL.Sem.Labels} {P : Type} [Fintype P] [DecidableEq P]

local notation "𝕄" => MT nD τ sig Ix Val Name U Lvl

variable (pcs : P → PCfg sig Λ₀ Val) (a : (p : P) → (pcs p).Adm)
  (dats : (p : P) → (c : Dev nD) → Dat τ Val Ix Name U Lvl (pin pcs a p) c) (ι : Ix)
  (hinj : Function.Injective (cellOf (nD := nD) (τ := τ) (pin pcs a))) (p : P)
  {K : Type} [Fintype K] {osem : K → SemLoc sig}
  (hw : WinFacts (pcs p).spec) (ho : OwnSemFacts (pcs p).spec osem) (hpre : (pcs p).pre.K = 0)
  (EP : Emb (URounds (GSem nD τ sig) Unit) (MT nD τ sig Ix Val Name U Lvl))
  (defs₀ : Defs nD τ sig Val Λ₀) (𝒱₀ : Variants)
  (m : (ℓ : Loc nD τ sig) → Buf Val ℓ) (g : Dev nD → PrngReg)
  (O₀ : Dev nD → CellTallies nD τ sig Ix)
  (L : GSem nD τ sig → Finset Ix) (lv : GSem nD τ sig → Ix → Lvl)

local notation "𝔻" => Pipeline.defs pcs defs₀
local notation "𝕍" => Variants.lift 𝒱₀

/-! ## The launch, device by device -/

/-- What stays with device `c` through the global step: its staging storage and the idle semaphores, its slot for host
    operations, the arrays its windows stage and what it owes. -/
def kept (c : Dev nD) : sProp 𝕄 :=
  iprop(scopedBufs c.tc ∗ cellsSems0 (pin pcs a) p c ∗ idleSems0 (pin pcs a) hinj p ho c ∗ opIdle c.tc
    ∗ (bigSep Finset.univ fun w => ((c.tc.loc (arrRef (pin pcs a p).spec w))
        ↦{fullShare} m (c.tc.loc (arrRef (pin pcs a p).spec w)) : sProp 𝕄))
    ∗ owes c.tc (O₀ c) ∅)

/-- What the global step is handed of device `c`: the call's own semaphores at zero, the buffers no window stages at
    their launch contents and the launch credit. -/
def shared (osem : K → SemLoc sig) (c : Dev nD) : sProp 𝕄 :=
  iprop(ownSems0 osem c ∗ unscopedRest (pin pcs a p).spec c (fun b => m (c.tc.loc b)) ∗ launchCred O₀ c)

omit [∀ e, Nonempty (Val e)] [Infinite Name] [DecidableEq P] in
include hinj hw ho in
/-- What a device is dealt at launch, sorted. -/
theorem dealt (c : Dev nD) :
    coreInit (Ix := Ix) (Name := Name) (U := U) (Lvl := Lvl) (owing O₀) 0 (⟨m, fun _ => 0, g⟩ : MemSt nD τ sig Val) c.tc
      ⊢ iprop(kept pcs a hinj p ho m O₀ c ∗ shared pcs a p m O₀ osem c ∗ levels0 c) := by
  have hub := unscopedBufs_split (pin pcs a) p hw.arr_unscoped hw.arr_inj (Ix := Ix) (Name := Name) (U := U) (Lvl := Lvl) c
    (fun b => m (c.tc.loc b))
  have hss := scopedSems0_split (pin pcs a) hinj p hw.to₀ ho (Ix := Ix) (Val := Val) (Name := Name) (U := U) (Lvl := Lvl) c
  refine (coreInit_boundary_owing O₀ m g c).trans ?_
  unfold kept shared boundary
  rw [hub, hss]
  iintro ⟨⟨Hsc, ⟨⟨Hcells, Hos⟩, Hidle⟩, Hop⟩, ⟨Harr, Hrest⟩, -, HL, Hlv, -, Hcr⟩
  iframe

omit [∀ e, Nonempty (Val e)] [Infinite Name] [Preorder Lvl] in
/-- The cells' levels, assigned for all devices; threads that are no device's own thread have none. -/
theorem levels_all (hL : ∀ g : GSem nD τ sig, g.1.2 ≠ .tc → L g = ∅) :
    (bigSep Finset.univ fun c : Dev nD => levels0 (Ix := Ix) (Val := Val) (Name := Name) (U := U) (Lvl := Lvl) (τ := τ) (sig := sig) c)
      ⊢ (|==> levAts L lv : sProp 𝕄) := by
  classical
  have hother : (bigSep Finset.univ fun d : Dev nD => bigSep (Finset.univ.erase Proc.tc) fun q => (coreLevAts ((d, q) : Thread nD τ) L lv : sProp 𝕄))
      = BI.emp := by
    refine (bigSep_congr fun d _ => ?_).trans (BI.bigSep_emp_const _)
    refine (bigSep_congr fun q hq => ?_).trans (BI.bigSep_emp_const _)
    refine (bigSep_congr fun sm _ => ?_).trans (BI.bigSep_emp_const _)
    rw [hL ((d, q), sm) (Finset.ne_of_mem_erase hq), BI.bigSep_empty]
  have hall : (bigSep Finset.univ fun d : Dev nD => coreLevAts d.tc L lv : sProp 𝕄) ⊢ levAts L lv := by
    rw [show (levAts L lv : sProp 𝕄) = bigSep Finset.univ fun t : Thread nD τ => coreLevAts t L lv
      from bigSep_univ_prod fun g : GSem nD τ sig => bigSep (L g) fun i => levAt g i (lv g i),
      bigSep_threads fun t : Thread nD τ => coreLevAts t L lv, hother]
    exact (sep_emp (PROP := sProp 𝕄)).2
  have hdrop : iprop((bigSep Finset.univ fun c : Dev nD => bigSep Finset.univ fun sm : SemLoc sig => levels (c.tc, sm) (L (c.tc, sm)))
        ∗ (bigSep Finset.univ fun d : Dev nD => coreLevAts d.tc L lv))
      ⊢ (bigSep Finset.univ fun d : Dev nD => coreLevAts d.tc L lv : sProp 𝕄) := by
    iintro ⟨-, H⟩
    iexact H
  refine (bigSep_mono fun c _ => lev_assign_cells c.tc L lv).trans <| (BI.bigSep_bupd _ _).trans <| BI.bupd_mono ?_
  rw [bigSep_sep']
  exact hdrop.trans hall

/-- What device `c` holds when its program starts: what stayed with it, the level facts, the staging protocol's ghost
    state, and what the global step gave it. -/
def before (X : Dev nD → sProp 𝕄) (c : Dev nD) : sProp 𝕄 :=
  iprop(kept pcs a hinj p ho m O₀ c ∗ levAts L lv ∗ cellsGhost (pin pcs a) EP p c ∗ toksInit (pin pcs a) EP p c ∗ X c)

/-- What it holds when its program has returned: the staged arrays after every write-back, what the rest of the program
    left of the other arrays, and the call's semaphores at zero. -/
def ended (Z : Dev nD → sProp 𝕄) (c : Dev nD) : sProp 𝕄 :=
  iprop((bigSep Finset.univ fun w => ((c.tc.loc (arrRef (pin pcs a p).spec w))
        ↦{fullShare} (dats p c).arrAt w (pin pcs a p).N : sProp 𝕄))
    ∗ Z c ∗ scopedSems0 c.tc)

include hinj hw ho hpre in
/-- One device's run. -/
theorem device_run [EP.LandsIn (upEmb : UEmb _ 𝕄)] (c : Dev nD)
    (hbody : BodyObligation (dats p c) defs₀ 𝒱₀ ι Set.univ)
    (hne : ∀ w : Fin (pcs p).W, 0 < ((pcs p).spec w).block.numel)
    (harr : ∀ w, ((pcs p).spec w).arr.IsWhole) (hstage : ∀ w s, (((pcs p).spec w).stage s).IsWhole)
    (hshare : ∀ w, (dats p c).share w = fullShare)
    (howed₀ : (dats p c).owed 0 = O₀ c) (howedN : (dats p c).owed (Fin.last _) = 0)
    (hwaits : (levAts L lv : sProp 𝕄) ⊢ cellsWaits (pin pcs a) dats ι p c)
    (hA : ∀ w, (dats p c).A w = m (((pin pcs a p).spec w).arr.view.loc c.tc))
    (X Y Z : Dev nD → sProp 𝕄)
    (tail : Prog (TpuEff nD τ sig Val (Sig Λ₀ P fun p => (pcs p).Adm) .tc) PUnit)
    (htail : iprop(boundary c.tc ∗ Y c)
      ⊢ wp frame (wpE 𝔻 𝕍 c.tc none) Set.univ tail (fun _ => iprop(scopedSems0 c.tc ∗ Z c)))
    (hin : iprop(X c ∗ scopedRest (pin pcs a p).spec c) ⊢ (dats p c).Φ 0)
    (hout : (dats p c).Φ (Fin.last (pin pcs a p).N) ⊢ iprop(Y c ∗ ownSems0 osem c ∗ scopedRest (pin pcs a p).spec c)) :
    before pcs a hinj p ho EP m O₀ L lv X c
      ⊢ wp frame (wpE 𝔻 𝕍 c.tc none) Set.univ
          (.op (.customCall (entry p) ()) fun _ => tail) (fun _ => post (liftTc (ended pcs a dats p Z) BI.emp) c.tc) := by
  classical
  have hss := scopedSems0_split (pin pcs a) hinj p hw.to₀ ho (Ix := Ix) (Val := Val) (Name := Name) (U := U) (Lvl := Lvl) c
  have hsb := scopedBufs_split (pin pcs a) p hw.to₀.stage_scoped hw.to₀.stage_inj hstage (nD := nD) (τ := τ) (Ix := Ix) (Val := Val) (Name := Name) (U := U) (Lvl := Lvl) c
  have harr₀ : (bigSep Finset.univ fun w => ((c.tc.loc (arrRef (pin pcs a p).spec w))
        ↦{fullShare} m (c.tc.loc (arrRef (pin pcs a p).spec w)) : sProp 𝕄))
      = (dats p c).arrays ((dats p c).arrAt · 0) := by
    rw [arrays_eq (pin pcs a) dats p c harr hshare]
    exact bigSep_congr fun w _ => by rw [show (dats p c).arrAt w 0 = (dats p c).A w from rfl, hA]
  have hpf : (prefHeld (pcs p).pre c (fun _ => fullShare) (a p).1 : sProp 𝕄) = BI.emp := prefHeld_of_none _ hpre c _ _
  have hout' : iprop((dats p c).Φ (Fin.last (pin pcs a p).N) ∗ cellsSems0 (pin pcs a) p c ∗ Dat.staging (pin pcs a p) c ∗ idleSems0 (pin pcs a) hinj p ho c)
      ⊢ iprop(Y c ∗ scopedSems0 c.tc ∗ scopedBufs c.tc) := by
    rw [hss, hsb]
    iintro ⟨HΦ, Hcells, Hst, Hidle⟩
    ihave H := hout $$ HΦ
    icases H with ⟨HY, Hos, Hrest⟩
    isplitl [HY]; · iexact HY
    isplitl [Hcells Hos Hidle]
    · isplitl [Hcells Hos]; · isplitl [Hcells] <;> iassumption
      iexact Hidle
    iframe
  have hpost : EntryPost (pin pcs a) dats ι p c
      ⊢ iprop((bigSep Finset.univ fun w => ((c.tc.loc (arrRef (pin pcs a p).spec w))
          ↦{fullShare} (dats p c).arrAt w (pin pcs a p).N : sProp 𝕄)) ∗ ∃ W, owes c.tc (0 : CellTallies nD τ sig Ix) W) := by
    unfold EntryPost PerCore.EntryPost Dat.owesAt owesWithin
    rw [howedN, arrays_eq (pin pcs a) dats p c harr hshare]
    iintro ⟨Ha, ⟨%W, -, HW⟩⟩
    isplitl [Ha]; · iexact Ha
    iexists W; iexact HW
  unfold before kept
  iintro ⟨⟨Hsc, Hcells, Hidle, Hop, Harr, HL⟩, #Hla, Hg, Ht, HX⟩
  ihave Hwt := hwaits $$ Hla
  iapply (fupd_wp frame (wpE 𝔻 𝕍 c.tc none) Set.univ _ _)
  imod (cellsInit_alloc (pin pcs a) dats EP hinj p c) $$ [$Hcells $Hg] with ⟨%κ, -, Hinit⟩
  imodintro
  iapply (wp_customCall_entry_frame pcs a dats ι EP κ hinj p defs₀ 𝒱₀ (fun _ => fullShare) c Set.univ (fun _ _ => Set.mem_univ _)
      hbody.loose hne none (fun u h => nomatch h) (X := X c) (Y := Y c) (R := scopedRest (pin pcs a p).spec c) (I := idleSems0 (pin pcs a) hinj p ho c)
      (Entails.of_eq hsb) (by rw [hpf]; iintro ⟨HX, -, HR⟩; iapply hin; isplitl [HX] <;> iassumption) hout'
      (k := fun _ => tail) (Q := fun _ => post (liftTc (ended pcs a dats p Z) BI.emp) c.tc)) $$ [Harr HL Hinit Ht HX Hidle Hsc Hwt]
  · isplitl [Harr HL Hinit Ht Hwt]
    · unfold EntryPre PerCore.EntryPre Dat.owesAt owesWithin
      rw [howed₀]
      isplitl [Harr]; · iapply (Entails.of_eq harr₀); iexact Harr
      isplitl [HL]
      · iexists ∅; isplitr; · ipureintro; rw [Finset.coe_empty]; exact Set.empty_subset _
        iexact HL
      isplitl [Hwt]; · iexact Hwt
      iframe
    isplitr; · rw [hpf]; iempintro
    iframe
  iintro ⟨Hpost, HY, Hss, Hsc⟩
  iapply (wp_wand frame (wpE 𝔻 𝕍 c.tc none) Set.univ) $$ [HY Hss Hsc Hop]
  · iapply htail
    isplitr [HY]
    · unfold boundary
      iframe
    iexact HY
  iintro %r ⟨Hss, HZ⟩
  unfold post; simp only [liftTc_tc, ended]
  ihave Hp := hpost $$ Hpost
  icases Hp with ⟨Ha, HW⟩
  iframe

omit [Fintype P] [DecidableEq P] [∀ e, Nonempty (Val e)] [Infinite Name] in
/-- What one device's final holdings say about a final state. -/
theorem device_read (Z : Dev nD → sProp 𝕄) (QY : Dev nD → MemSt nD τ sig Val → Prop)
    (hY : ∀ c (s' : Phys nD τ sig Val), iprop(Z c ∗ SI s') ⊢ |={Set.univ}=> iprop(⌜QY c s'.mem⌝ ∗ SI s'))
    (c : Dev nD) (s' : Phys nD τ sig Val) :
    iprop(ended pcs a dats p Z c ∗ SI s') ⊢ |={Set.univ}=>
      iprop(⌜((∀ w, s'.mem.mem (((pin pcs a p).spec w).arr.view.loc c.tc) = (dats p c).arrAt w (pin pcs a p).N) ∧ QY c s'.mem)
        ∧ ∀ sm : SemLoc sig, sm.isScoped .tc = true → s'.mem.sem (c.tc, sm) = 0⌝ ∗ SI s') := by
  unfold ended
  iintro ⟨⟨Ha, HY, Hss⟩, HSI⟩
  ihave %hz := (tcScoped_read_pers c s') $$ [$Hss $HSI]
  ihave Hr := (pointsTo_read_all Finset.univ (fun w => c.tc.loc (arrRef (pin pcs a p).spec w))
    (fun w => (dats p c).arrAt w (pin pcs a p).N) s' fullShare) $$ [Ha HSI]
  · iframe
  icases Hr with ⟨%ha, HSI⟩
  imod (hY c s') $$ [$HY $HSI] with ⟨%hy, HSI⟩
  imodintro
  isplitr
  · ipureintro; exact ⟨⟨fun w => ha w (Finset.mem_univ w), hy⟩, hz⟩
  · iexact HSI

/-! ## The launch theorem -/

include hinj hw ho hpre in
/-- From zero counters, every weakly fair execution of a program that is this one call and then `tail` terminates, and
    in every final state each device's staged arrays hold what the proof data say, `QY` holds of each device, and every
    scoped counter reads zero — given the body's obligation on each device, the run of `tail` from what the call leaves
    of the arrays no window stages, and the global step `hstart`. -/
theorem θ_run_exchange [EP.LandsIn (upEmb : UEmb _ 𝕄)]
    (main : Dev nD → Prog (TpuEff nD τ sig Val (Sig Λ₀ P fun p => (pcs p).Adm) .tc) PUnit)
    (tail : Dev nD → Prog (TpuEff nD τ sig Val (Sig Λ₀ P fun p => (pcs p).Adm) .tc) PUnit)
    (hmain : ∀ c, main c = .op (.customCall (entry p) ()) fun _ => tail c)
    (hbody : ∀ c, BodyObligation (dats p c) defs₀ 𝒱₀ ι Set.univ)
    (hne : ∀ w : Fin (pcs p).W, 0 < ((pcs p).spec w).block.numel)
    (harr : ∀ w, ((pcs p).spec w).arr.IsWhole) (hstage : ∀ w s, (((pcs p).spec w).stage s).IsWhole)
    (hshare : ∀ c w, (dats p c).share w = fullShare)
    (howed₀ : ∀ c, (dats p c).owed 0 = O₀ c) (howedN : ∀ c, (dats p c).owed (Fin.last _) = 0)
    (hL : ∀ g : GSem nD τ sig, g.1.2 ≠ .tc → L g = ∅)
    (hwaits : ∀ c, (levAts L lv : sProp 𝕄) ⊢ cellsWaits (pin pcs a) dats ι p c)
    (G : sProp 𝕄) (u₀ : U)
    (hu₀ : (ownU u₀ : sProp 𝕄)
      ⊢ |={Set.univ}=> iprop(BI.own (EP (initOf (cells (pin pcs a) hinj) (launchToks (pin pcs a) hinj))) ∗ G))
    (hA : ∀ c w, (dats p c).A w = m (((pin pcs a p).spec w).arr.view.loc c.tc))
    (X Y Z : Dev nD → sProp 𝕄)
    (htail : ∀ c, iprop(boundary c.tc ∗ Y c)
      ⊢ wp frame (wpE 𝔻 𝕍 c.tc none) Set.univ (tail c) (fun _ => iprop(scopedSems0 c.tc ∗ Z c)))
    (hstart : iprop((bigSep Finset.univ fun c => shared pcs a p m O₀ osem c) ∗ levAts L lv ∗ G)
      ⊢ |={Set.univ}=> (bigSep Finset.univ X : sProp 𝕄))
    (hin : ∀ c, iprop(X c ∗ scopedRest (pin pcs a p).spec c) ⊢ (dats p c).Φ 0)
    (hout : ∀ c, (dats p c).Φ (Fin.last (pin pcs a p).N) ⊢ iprop(Y c ∗ ownSems0 osem c ∗ scopedRest (pin pcs a p).spec c))
    (QY : Dev nD → MemSt nD τ sig Val → Prop)
    (hY : ∀ c (s' : Phys nD τ sig Val), iprop(Z c ∗ SI s') ⊢ |={Set.univ}=> iprop(⌜QY c s'.mem⌝ ∗ SI s'))
    {Q : PUnit × MemSt nD τ sig Val → Prop}
    (hQ : ∀ s : MemSt nD τ sig Val,
      (∀ c : Dev nD, (∀ w, s.mem (((pin pcs a p).spec w).arr.view.loc c.tc) = (dats p c).arrAt w (pin pcs a p).N) ∧ QY c s) →
      (∀ g' : GSem nD τ sig, (g'.1.2 ≠ .tc ∨ g'.2.isScoped .tc = true) → s.sem g' = 0) → Q (⟨⟩, s)) :
    θ_run 𝔻 (onTc main) ⟨m, fun _ => 0, g⟩ Q := by
  classical
  refine (θ_run 𝔻 _ _).mono (Q := fun r => (∀ c : Dev nD,
      ((∀ w, r.2.mem (((pin pcs a p).spec w).arr.view.loc c.tc) = (dats p c).arrAt w (pin pcs a p).N) ∧ QY c r.2)
        ∧ ∀ sm : SemLoc sig, sm.isScoped .tc = true → r.2.sem (c.tc, sm) = 0)
      ∧ ∀ g' : GSem nD τ sig, g'.1.2 ≠ .tc → r.2.sem g' = 0)
    (fun r hr => hQ r.2 (fun c => (hr.1 c).1) (sems_of_reads (fun c => (hr.1 c).2) hr.2)) (adequate_tpu 𝔻 _ _ _
    (reflect_intro_fupd_tc_sems (X := Unit) 𝕍 (owing O₀) 0 (noBookings fun _ => le_rfl) (owing_of_ne O₀) u₀
      (fun _ => before pcs a hinj p ho EP m O₀ L lv X) (fun _ => ended pcs a dats p Z)
      (fun _ => iprop(emp)) Set.univ ?_ (fun _ c => ?_) fun _ => ?_))
  · have hpick (Φ : P → Dev nD → sProp 𝕄) :
        (bigSep Finset.univ fun c : Dev nD => bigSep Finset.univ fun p' => Φ p' c) ⊢ bigSep Finset.univ fun c : Dev nD => Φ p c :=
      bigSep_mono fun c _ => BI.bigSep_elim (Finset.mem_univ p)
    have hd : (bigSep Finset.univ fun c : Dev nD =>
          coreInit (Ix := Ix) (Name := Name) (U := U) (Lvl := Lvl) (owing O₀) 0 (⟨m, fun _ => 0, g⟩ : MemSt nD τ sig Val) c.tc)
        ⊢ iprop((bigSep Finset.univ fun c : Dev nD => kept pcs a hinj p ho m O₀ c)
            ∗ (bigSep Finset.univ fun c : Dev nD => shared pcs a p m O₀ osem c)
            ∗ (bigSep Finset.univ fun c : Dev nD => levels0 (Ix := Ix) (Val := Val) (Name := Name) (U := U) (Lvl := Lvl) (τ := τ) (sig := sig) c) : sProp 𝕄) := by
      refine (bigSep_mono fun c _ => dealt pcs a hinj p hw ho m g O₀ c).trans ?_
      simp only [bigSep_sep']
      exact BI.Entails.refl _
    iintro ⟨Hcores, Hu⟩
    ihave Hd := hd $$ Hcores
    icases Hd with ⟨Hk, Hs, Hlv⟩
    imod (levels_all L lv hL) $$ Hlv with #Hla
    imod hu₀ $$ Hu with ⟨HP, HG⟩
    imod (fund_ghost (pin pcs a) EP hinj) $$ HP with ⟨Hg, Ht⟩
    imod hstart $$ [$Hla $Hs $HG] with HX
    imodintro
    iexists ()
    isplitr []
    · unfold before; simp only [bigSep_sep']
      isplitl [Hk]; · iexact Hk
      isplitr; · iapply (BI.bigSep_intro_persistent (S := Finset.univ) fun (c : Dev nD) _ => (BI.Entails.refl (levAts L lv : sProp 𝕄))); iexact Hla
      isplitl [Hg]; · iapply (hpick fun p' c => cellsGhost (pin pcs a) EP p' c); iexact Hg
      isplitl [Ht]; · iapply (hpick fun p' c => toksInit (pin pcs a) EP p' c); iexact Ht
      iexact HX
    · iempintro
  · rw [hmain c]
    exact device_run pcs a dats ι hinj p hw ho hpre EP defs₀ 𝒱₀ m O₀ L lv c (hbody c) hne harr hstage (hshare c) (howed₀ c)
      (howedN c) (hwaits c) (hA c) X Y Z (tail c) (htail c) (hin c) (hout c)
  · iintro ⟨H, -, Hsc⟩ %s' HSI
    ihave %hsc := (scSems_read_zero m g s') $$ [$Hsc $HSI]
    imod (posts_fupd Finset.univ (device_read pcs a dats p Z QY hY) s') $$ [$H $HSI] with %h
    imodintro
    ipureintro
    exact ⟨fun c => h c (Finset.mem_univ c), hsc⟩

end Cert.Exchange

end
-- ==== Proof.Run.lean ====
/-
# The run

On the eight devices, for any float values and from any memory with zero counters: every weakly fair execution ends, with
each device's result array at what its grid points wrote, its landing buffer at what its peer sent, its arguments
unchanged and every counter at zero.
-/
module

public import proofs.«01_k».proof.Proof.Body
public import proofs.«01_k».proof.Proof.Exchange

@[expose] public section

noncomputable section

namespace Cert.Pair

open Cert.KernelIdeal Cert.KernelIdeal.Gen
open Idealize.ShloMosaic
open Idealize.ShloMosaic.Pipeline
open Idealize.ShloMosaic.TcCoe
open Idealize.SL Idealize.SL.RA Idealize.SL.BI
open BIBase Laws ProofMode Sem
open Idealize.ShloMosaic.Rounds
open Cert.Exchange (Links UU EP ER records ticket seats hand due begins allCells allToks ghosts shared)

variable {F : FTy → Type} [FloatOps F]

local notation "𝕄" => MT nD τ sig Unit (Elt F) ℕ (UU nD sig τ) ℕ

variable (m : (ℓ : Loc nD τ sig) → Buf (Elt F) ℓ) (ρ : Dev nD → PrngReg)

/-! ## What the launch theorem asks for -/

theorem ownSemFacts : Pipeline.OwnSemFacts cfg0.spec links.osem := by decide

theorem share_eq (c : Dev nD) (w : Fin cfg0.W) : (dats m 0 c).share w = fullShare := by unfold Dat.share; split <;> rfl

theorem waits (c : Dev nD) : (levAts Cert.Exchange.L (Cert.Exchange.lv links) : sProp 𝕄) ⊢ Pipeline.cellsWaits cfgs (dats m) () 0 c :=
  Pipeline.cellsWaits_intro cfgs (dats m) () 0 c fun w s t =>
    Cert.Exchange.mayWait_stage links c _ (by fin_cases w <;> fin_cases s <;> decide) _ (ite_eq_or_eq (t.val = 0) _ _)

/-- The memory no window stages, as a device brings it. -/
def rest (c : Dev nD) : sProp 𝕄 := Pipeline.unscopedRest spec0 c (V m c)

/-- The landing buffers dealt across the pairs. -/
theorem deal : (bigSep Finset.univ (rest m) : sProp 𝕄) ⊢ bigSep Finset.univ (mine m) := by
  have h (c : Dev nD) : rest m c ⊢ iprop((lent m c ∗ keptBack m c) ∗ ∃ f, landing c f : sProp 𝕄) := by
    unfold rest
    rw [unscopedRest0_eq]
    iintro ⟨H3, H5⟩
    isplitl [H3]; · iapply (arg3_split m c).1; iexact H3
    iexists (m (c.tc.loc main_v1_1))
    iapply (Entails.of_eq (landing_eq c _).symm); iexact H5
  have hsw : (bigSep Finset.univ fun c : Dev nD => iprop(∃ f, landing c f : sProp 𝕄))
      = bigSep Finset.univ fun c : Dev nD => iprop(∃ f, landing (peer c) f : sProp 𝕄) :=
    bigSep_univ_equiv (links.turn j₀) (fun c : Dev nD => iprop(∃ f, landing c f : sProp 𝕄))
  refine BIBase.Entails.trans (bigSep_mono fun c _ => h c) ?_
  rw [bigSep_sep', hsw, ← bigSep_sep']
  refine bigSep_mono fun c _ => ?_
  show iprop((lent m c ∗ keptBack m c) ∗ ∃ f, landing (peer c) f : sProp 𝕄) ⊢ mine m c
  unfold mine
  iintro ⟨⟨H1, H2⟩, H3⟩
  iframe

/-- What a device holds when the call begins. -/
abbrev X (c : Dev nD) : sProp 𝕄 := begins links (pay m) (mine m) c

/-- What it holds of the arrays no window stages when the call has ended. -/
def Y (c : Dev nD) : sProp 𝕄 :=
  iprop((c.tc.loc main_arg3 ↦{fullShare} m (c.tc.loc main_arg3))
    ∗ (c.tc.loc main_v1_1 ↦{fullShare} (landed m c : Buf (Elt F) (c.tc.loc main_v1_1))))

theorem phi_start (c : Dev nD) : iprop(X m c ∗ Pipeline.scopedRest spec0 c) ⊢ (dats m 0 c).Φ 0 := by
  show iprop(X m c ∗ Pipeline.scopedRest spec0 c) ⊢ Start m c
  have hh : (bigSep Finset.univ fun j => hand links c j : sProp 𝕄) = hand links c j₀ :=
    bigSep_univ_eq_bigSepL [j₀] (by decide) (by decide) fun j => hand links c j
  unfold Start X begins
  rw [hh]
  iintro ⟨⟨HR, Hh, Hm⟩, -⟩
  iframe HR ∗

theorem phi_end (c : Dev nD) :
    (dats m 0 c).Φ (Fin.last cfg0.N) ⊢ iprop(Y m c ∗ Pipeline.ownSems0 links.osem c ∗ Pipeline.scopedRest spec0 c) := by
  have hΦ : (dats m 0 c).Φ (Fin.last cfg0.N) = Done m c := by
    show (if cfg0.N = 0 then Start m c else if cfg0.N = 64 then Done m c else Sent m c) = Done m c
    rw [show cfg0.N = 64 from N_0, if_neg (by decide), if_pos rfl]
  rw [hΦ, scopedRest0_eq]
  have hs : (Pipeline.ownSems0 links.osem c : sProp 𝕄) = iprop(semVal (links.cell c sendEnd) 0 ∗ semVal (links.cell c recvEnd) 0) := by
    unfold Pipeline.ownSems0
    exact bigSep_univ_eq_bigSepL [sendEnd, recvEnd] (by decide) (by decide) fun k => semVal (links.cell c k) 0
  rw [hs]
  unfold Done Y
  iintro ⟨Hl, Hk, Hd, HzS, HzR⟩
  isplitl [Hl Hk Hd]
  · isplitl [Hl Hk]
    · iapply (arg3_split m c).2
      iframe
    · iapply (Entails.of_eq (landing_eq c _)); iexact Hd
  isplitl [HzS HzR]
  · iframe
  iempintro

/-- The final memory of the two arrays no window stages. -/
def QY (c : Dev nD) (s : MemSt nD τ sig (Elt F)) : Prop :=
  s.mem (c.tc.loc main_arg3) = m (c.tc.loc main_arg3)
    ∧ s.mem (c.tc.loc main_v1_1) = landed m c

theorem read_end (c : Dev nD) (s' : Phys nD τ sig (Elt F)) :
    iprop(Y m c ∗ SI s') ⊢ |={Set.univ}=> iprop(⌜QY m c s'.mem⌝ ∗ SI s' : sProp 𝕄) := by
  unfold Y
  iintro ⟨⟨H3, H5⟩, HSI⟩
  ihave %h3 := Cert.Exchange.read_whole $$ [$HSI $H3]
  ihave %h5 := Cert.Exchange.read_whole $$ [$HSI $H5]
  imodintro
  isplitr
  · ipureintro
    exact ⟨h3, h5⟩
  iexact HSI

/-- Nothing follows the call. -/
theorem nothing_after (c : Dev nD) :
    iprop(boundary c.tc ∗ Y m c)
      ⊢ wp frame (wpE (defs (F := F)) (Variants.lift 𝒱₀) c.tc none) Set.univ (.ret ⟨⟩)
          (fun _ : PUnit => iprop(scopedSems0 c.tc ∗ Y m c : sProp 𝕄)) := by
  rw [wp_ret]
  unfold boundary
  iintro ⟨⟨-, Hs, -⟩, HY⟩
  imodintro
  iframe

/-- What a final state is: every staged array at the schedule's contents, and the two others as said. -/
def QC (r : PUnit × MemSt nD τ sig (Elt F)) : Prop :=
  ∀ c : Dev nD, (∀ w : Fin cfg0.W, r.2.mem ((cfg0.win w).arr.view.loc c.tc) = (dats m 0 c).arrAt w cfg0.N) ∧ QY m c r.2

set_option maxRecDepth 8000 in
theorem run_main : θ_run defs (onTc (τ := τ) (main (F := F))) ⟨m, fun _ => 0, ρ⟩ (fun r => QC m r ∧ r.2.sem = fun _ => 0) :=
  Cert.Exchange.θ_run_exchange (fun p => (cfgs p).toPCfg) (fun p => (cfgs p).toPCfg_adm) (dats m) () cellOf_inj (0 : Fin 1)
    winFacts0 ownSemFacts rfl EP defs₀ 𝒱₀ m ρ (due links) Cert.Exchange.L (Cert.Exchange.lv links) main (fun _ => .ret ⟨⟩)
    (hmain := fun _ => rfl) (hbody := body_obligation m) (hne := block_pos0) (harr := arr_whole0) (hstage := stage_whole0) (hshare := share_eq m)
    (howed₀ := fun _ => rfl) (howedN := fun _ => rfl) (hL := Cert.Exchange.L_of_ne) (hwaits := waits m)
    (G := ghosts links (pay m))
    (hu₀ := Cert.Exchange.fund_both links (pay m) _)
    (hA := fun _ _ => rfl) (X := X m) (Y := Y m) (Z := Y m) (htail := nothing_after m)
    (hstart := Cert.Exchange.launch_all links (pay m) (rest m) (mine m) (deal m))
    (hin := phi_start m) (hout := phi_end m) (QY := QY m) (hY := read_end m)
    (hQ := fun s h hs => ⟨fun c => h c, sem_eq_zero_of_scoped (by decide) hs⟩)

end Cert.Pair

end
-- ==== Proof.Whole.lean ====
/-
# The product as a whole

The blocks of the grid points tile the array that a device writes, so at the end its entry `(p, q)` is the inner product
of row `p` of the device's left factor and row `q` of the right factor, times twice entry `(p, q)` of the third array.
-/
module

public import proofs.«01_k».proof.Proof.Value
public import proofs.«01_k».proof.Proof.Run
public import Idealize.ShloMosaic.Lib.Pipeline.ValueKit

@[expose] public section

set_option maxRecDepth 16384

noncomputable section

namespace Cert.Pair

open Cert.KernelIdeal Cert.KernelIdeal.Gen
open Idealize.ShloMosaic Idealize.ShloMosaic.TcCoe

variable (m : (ℓ : Loc nD τ sig) → Buf (Elt Ideal) ℓ)

/-- What a device's product array holds at the end. -/
def product (c : Dev nD) : Vec Ideal S4096x16384 .bf16 := fun i =>
  gated (n := 4096) (k := 4096) (w := 16384) (m (c.tc.loc main_arg0)) (m (c.tc.loc main_arg1))
    (m (c.tc.loc main_arg2)) (i 0) (i 1)

theorem index_all : ∀ t, win0_0.index t = ![(grid0.coords t 0).val, 0] ∧ win0_1.index t = ![(grid0.coords t 1).val, 0]
    ∧ win0_2.index t = ![(grid0.coords t 0).val, (grid0.coords t 1).val]
    ∧ win0_3.index t = ![(grid0.coords t 0).val, (grid0.coords t 1).val] := by decide +kernel

theorem product_eq (c : Dev nD) : (dats m 0 c).arrAt 3 cfg0.N = product m c := by
  refine (dats m 0 c).arrAt_eq_of_covers 3 _ (by decide +kernel) fun t hf y => ?_
  show wrote m c t _ = _
  obtain ⟨p, q, rfl⟩ : ∃ (p : Fin 1024) (q : Fin 1024), y = ix2 p q := ⟨y 0, y 1, eq_ix2 y⟩
  unfold wrote
  refine (outBlock_apply _ _ _ p q).trans ?_
  unfold product gated
  refine congrArg₂ _ (Finset.sum_congr rfl fun j _ => congrArg₂ _ ?_ ?_) (congrArg _ ?_)
  · blk_ext [iblk, V, index_all]
  · blk_ext [iblk, V, index_all]
  · blk_ext [iblk, V, index_all]

end Cert.Pair

end
-- ==== Proof.Landing.lean ====
/-
# What the exchange brings, at an index

Layer `q`, row `i`, column `j` of what device `c` is sent is layer `q`, row `2048 (c mod 2) + i`, column `j` of the other
device of the pair.
-/
module

public import proofs.«01_k».proof.Proof.Run
public import Idealize.ShloMosaic.Lib.PointwiseCore

@[expose] public section

noncomputable section

namespace Cert.Pair

open Cert.KernelIdeal Cert.KernelIdeal.Gen
open Idealize.ShloMosaic Idealize.ShloMosaic.TcCoe

variable {F : FTy → Type} [FloatOps F]
variable (m : (ℓ : Loc nD τ sig) → Buf (Elt F) ℓ)

theorem landed_apply (c : Dev nD) (q : Fin 4) (i : Fin 2048) (j : Fin 4096) :
    landed m c (ix3 q i j) = m ((peer c : Thread nD τ).loc main_arg3)
      (ix3 q (⟨2048 * (c.val % 2) + i.val, by omega⟩ : Fin 4096) j) := by
  refine congrArg (m ((peer c : Thread nD τ).loc main_arg3)) ?_
  have ho : k0_off1 (peer c) = ![0, 2048 * (c.val % 2), 0] := by
    revert c; decide +kernel
  funext k
  fin_cases k <;> refine Fin.ext ?_
  · show k0_off1 (peer c) 0 + 1 * q.val = q.val
    rw [ho]; show 0 + 1 * q.val = q.val; omega
  · show k0_off1 (peer c) 1 + 1 * i.val = 2048 * (c.val % 2) + i.val
    rw [ho]; show 2048 * (c.val % 2) + 1 * i.val = 2048 * (c.val % 2) + i.val; omega
  · show k0_off1 (peer c) 2 + 1 * j.val = j.val
    rw [ho]; show 0 + 1 * j.val = j.val; omega

/-- The device opposite, by number. -/
theorem peer_val (c : Dev nD) : (peer c).val = c.val / 2 * 2 + (1 - c.val % 2) := by revert c; decide +kernel

end Cert.Pair

end
-- ==== Proof.Reference.lean ====
/-
# The reference over the reals

The reference's first result has the same entries as the product of the devices; its second one is, at layer `4 c + q`,
half of layer `q` of the device next to `c`: of the device `c + 1` the upper half if `c` is even, of `c − 1` the lower
half if `c` is odd.
-/
module

public import proofs.«01_k».proof.Proof.Value
public import proofs.«01_k».proof.Proof.Gen.ReferenceIdeal.Run

@[expose] public section

set_option maxRecDepth 16384

noncomputable section

namespace Cert.Pair

open Idealize.ShloMosaic Idealize.ShloMosaic.TcCoe Idealize.SL.Sem

section
open Cert.ReferenceIdeal Cert.ReferenceIdeal.Gen

/-- The reference's first result, as its operations compute it. -/
abbrev refProduct {F : FTy → Type} [FloatOps F] (a : Vec F S32768x4096 .bf16) (b : Vec F S16384x4096 .bf16) (r : Vec F S32768x16384 .bf16) : Vec F S32768x16384 .bf16 :=
  truncf .bf16 (mulf (Host.dotGeneral dot_S32768x4096_S4096x16384_S32768x16384_1_0_0_1_n_n none (extf .f32 a bitsLt_bf16_f32)
    (transpose S4096x16384 [1, 0] (extf .f32 b bitsLt_bf16_f32) transposes_S16384x4096_S4096x16384_1_0))
    (mulf (broadcastInDim S32768x16384 ![] bcast_S_S32768x16384 (constant S_ .f32 0x40000000#32)) (extf .f32 r bitsLt_bf16_f32))) bitsLt_bf16_f32

/-- Its second result. -/
abbrev refLanded {F : FTy → Type} [FloatOps F] (d : Vec F S32x4096x4096 .bf16) : Vec F S32x2048x4096 .bf16 :=
  shapeCast _ (concatenate S4x2x4x2048x4096 1
    [⟨S4x1x4x2048x4096, (broadcastInDim S4x1x4x2048x4096 ![0, 2, 3, 4] bcast_S4x4x2048x4096_S4x1x4x2048x4096_0_2_3_4
      (shapeCast _ (extractStridedSlice S4x1x4x1x2048x4096 ![0, 1, 0, 0, 0, 0] (shapeCast _ d shapeCasts_S32x4096x4096_S4x2x4x2x2048x4096)
        slices_S4x2x4x2x2048x4096_S4x1x4x1x2048x4096_0_1_0_0_0_0) shapeCasts_S4x1x4x1x2048x4096_S4x4x2048x4096))⟩,
     ⟨S4x1x4x2048x4096, (broadcastInDim S4x1x4x2048x4096 ![0, 2, 3, 4] bcast_S4x4x2048x4096_S4x1x4x2048x4096_0_2_3_4
      (shapeCast _ (extractStridedSlice S4x1x4x1x2048x4096 ![0, 0, 0, 1, 0, 0] (shapeCast _ d shapeCasts_S32x4096x4096_S4x2x4x2x2048x4096)
        slices_S4x2x4x2x2048x4096_S4x1x4x1x2048x4096_0_0_0_1_0_0) shapeCasts_S4x1x4x1x2048x4096_S4x4x2048x4096))⟩]
    concatenates_S4x1x4x2048x4096_S4x1x4x2048x4096_S4x2x4x2048x4096_d1) shapeCasts_S4x2x4x2048x4096_S32x2048x4096

theorem refProduct_apply (a : Vec Ideal S32768x4096 .bf16) (b : Vec Ideal S16384x4096 .bf16) (r : Vec Ideal S32768x16384 .bf16)
    (p : Fin 32768) (q : Fin 16384) :
    refProduct a b r (ix2 p q) = gated (n := 32768) (k := 4096) (w := 16384) a b r p q := by
  pointwise [refProduct, gated]

variable {F : FTy → Type} [FloatOps F]

theorem refLanded_apply (d : Vec F S32x4096x4096 .bf16) (l : Fin 32) (i : Fin 2048) (j : Fin 4096) :
    refLanded d (ix3 l i j) = d (ix3 (⟨8 * (l.val / 8) + 4 * (1 - l.val / 4 % 2) + l.val % 4, by omega⟩ : Fin 32)
      (⟨2048 * (l.val / 4 % 2) + i.val, by omega⟩ : Fin 4096) j) := by
  pointwise [refLanded]
  split <;> refine congrArg d ?_ <;> funext k <;> fin_cases k <;> refine Fin.ext ?_
  · show l.val / 8 * 8 + 4 + l.val % 4 = 8 * (l.val / 8) + 4 * (1 - l.val / 4 % 2) + l.val % 4; omega
  · show i.val = 2048 * (l.val / 4 % 2) + i.val; omega
  · rfl
  · show l.val / 8 * 8 + l.val % 4 = 8 * (l.val / 8) + 4 * (1 - l.val / 4 % 2) + l.val % 4; omega
  · show 2048 + i.val = 2048 * (l.val / 4 % 2) + i.val; omega
  · rfl

/-- The reference's run. -/
theorem reference_run (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem (c.tc.loc main_v8) = refProduct (m (c.tc.loc main_arg0)) (m (c.tc.loc main_arg1)) (m (c.tc.loc main_arg2))
      ∧ r.2.mem (c.tc.loc main_v17) = refLanded (m (c.tc.loc main_arg3))
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)) ∧ r.2.sem = fun _ => 0) :=
  (θ_run defs _ _).mono (fun r h => ⟨h, sem_eq_zero_of_no_sems (by decide) r.2⟩) (Cert.ReferenceIdeal.Value.run m ρ)

end

end Cert.Pair

end
-- ==== Proof.Agree.lean ====
/-
# Device by device, the two programs agree

What a device ends with is its block of what the reference ends with, if its arguments are its blocks of the reference's.
-/
module

public import proofs.«01_k».proof.Proof.Whole
public import proofs.«01_k».proof.Proof.Landing
public import proofs.«01_k».proof.Proof.Reference
public import Idealize.ShloMosaic.Lib.Layout

@[expose] public section

noncomputable section

namespace Cert.Pair

open Cert.KernelIdeal
open Idealize.ShloMosaic Idealize.ShloMosaic.TcCoe

/-- Where a device's block of a matrix cut along its rows lies. -/
theorem block_rows {α : Type} {n w N : ℕ} (c : Fin 8) (v : (⟨2, ![N, w]⟩ : Shape).Idx → α)
    (h : Layout.Tiles ⟨2, ![n, w]⟩ ⟨2, ![N, w]⟩ 0 8) (p : Fin n) (q : Fin w) (hp : c.val * n + p.val < N) :
    Layout.block ⟨2, ![n, w]⟩ ⟨2, ![N, w]⟩ 0 8 c v h (ix2 p q) = v (ix2 ⟨c.val * n + p.val, hp⟩ q) := by
  refine congrArg v ?_
  funext k
  fin_cases k <;> rfl

/-- The same for a stack of matrices cut along its first axis. -/
theorem block_layers {α : Type} {n a b N : ℕ} (c : Fin 8) (v : (⟨3, ![N, a, b]⟩ : Shape).Idx → α)
    (h : Layout.Tiles ⟨3, ![n, a, b]⟩ ⟨3, ![N, a, b]⟩ 0 8) (p : Fin n) (i : Fin a) (j : Fin b) (hp : c.val * n + p.val < N) :
    Layout.block ⟨3, ![n, a, b]⟩ ⟨3, ![N, a, b]⟩ 0 8 c v h (ix3 p i j) = v (ix3 ⟨c.val * n + p.val, hp⟩ i j) := by
  refine congrArg v ?_
  funext k
  fin_cases k <;> rfl

section Product
variable (m : (ℓ : Loc nD τ sig) → Buf (Elt Ideal) ℓ)
  (A : Vec Ideal Cert.ReferenceIdeal.S32768x4096 .bf16) (B : Vec Ideal Cert.ReferenceIdeal.S16384x4096 .bf16)
  (R : Vec Ideal Cert.ReferenceIdeal.S32768x16384 .bf16)

theorem product_agrees (c : Dev nD)
    (h0 : m (c.tc.loc main_arg0) = Layout.block ⟨2, ![4096, 4096]⟩ ⟨2, ![32768, 4096]⟩ 0 8 c A)
    (h1 : m (c.tc.loc main_arg1) = B)
    (h2 : m (c.tc.loc main_arg2) = Layout.block ⟨2, ![4096, 16384]⟩ ⟨2, ![32768, 16384]⟩ 0 8 c R) :
    product m c = Layout.block ⟨2, ![4096, 16384]⟩ ⟨2, ![32768, 16384]⟩ 0 8 c (refProduct A B R) := by
  have hc : c.val < 8 := c.isLt
  funext y
  obtain ⟨p, q, rfl⟩ : ∃ (p : Fin 4096) (q : Fin 16384), y = ix2 p q := ⟨y 0, y 1, eq_ix2 y⟩
  have hp : c.val * 4096 + p.val < 32768 := by omega
  refine Eq.trans ?_ (block_rows c (refProduct A B R) (by decide) p q hp).symm
  rw [refProduct_apply]
  show gated (n := 4096) (k := 4096) (w := 16384) (m (c.tc.loc main_arg0)) (m (c.tc.loc main_arg1))
    (m (c.tc.loc main_arg2)) p q = _
  unfold gated
  refine congrArg₂ _ (Finset.sum_congr rfl fun j _ => congrArg₂ _ ?_ ?_) (congrArg _ ?_)
  · exact (congrFun h0 (ix2 p j)).trans (block_rows c A (by decide) p j hp)
  · exact congrFun h1 (ix2 q j)
  · exact (congrFun h2 (ix2 p q)).trans (block_rows c R (by decide) p q hp)

end Product

variable {F : FTy → Type} [FloatOps F]
variable (m : (ℓ : Loc nD τ sig) → Buf (Elt F) ℓ) (D : Vec F Cert.ReferenceIdeal.S32x4096x4096 .bf16)

theorem landed_agrees (c : Dev nD)
    (h : m ((peer c : Thread nD τ).loc main_arg3) = Layout.block ⟨3, ![4, 4096, 4096]⟩ ⟨3, ![32, 4096, 4096]⟩ 0 8 (peer c) D) :
    landed m c = Layout.block ⟨3, ![4, 2048, 4096]⟩ ⟨3, ![32, 2048, 4096]⟩ 0 8 c (refLanded D) := by
  have hc : c.val < 8 := c.isLt
  have hv := peer_val c
  funext y
  obtain ⟨q, i, j, rfl⟩ : ∃ (q : Fin 4) (i : Fin 2048) (j : Fin 4096), y = ix3 q i j := ⟨y 0, y 1, y 2, eq_ix3 y⟩
  have hl : c.val * 4 + q.val < 32 := by omega
  refine Eq.trans ?_ (block_layers c (refLanded D) (by decide) q i j hl).symm
  have hpl : (peer c).val * 4 + q.val < 32 := by omega
  rw [landed_apply, refLanded_apply]
  refine (congrFun h _).trans ((block_layers (peer c) D (by decide) q _ j hpl).trans ?_)
  congr 1
  funext k
  fin_cases k <;> refine Fin.ext ?_
  · show (peer c).val * 4 + q.val = 8 * ((c.val * 4 + q.val) / 8) + 4 * (1 - (c.val * 4 + q.val) / 4 % 2) + (c.val * 4 + q.val) % 4
    omega
  · show 2048 * (c.val % 2) + i.val = 2048 * ((c.val * 4 + q.val) / 4 % 2) + i.val
    omega
  · rfl

end Cert.Pair

end
-- ==== Proof.UpBlock.lean ====
/-
# What one grid point of `up_dw` computes

A grid point of `up_dw` reads a 4096 × 1024 block `a` of the left factor and a 4096 × 1024 block `b` of the right one,
and writes a 1024 × 1024 block in two halves: columns 0…511 from columns 0…511 of `b`, columns 512…1023 from the others.
`outBlock a b` is that block; its entries are the two payloads'.
-/
module

public import proofs.«01_k».proof.Proof.Gen.UpKernelIdeal.Skeleton
public import Idealize.ShloMosaic.Lib.Writes

@[expose] public section

noncomputable section

namespace Cert.Up

open Cert.UpKernelIdeal Cert.UpKernelIdeal.Gen
open Idealize.ShloMosaic

variable {F : FTy → Type} [FloatOps F]

/-- The left and right halves of the output block, as the body's stores name them. -/
abbrev leftHalf : Rect S1x1024x1024 := Rect.unit (s := S1x1024x1024) ![0, 0, 0] S1x1024x512.size inb_S1x1024x1024_S1x1024x512_0_0_0
abbrev rightHalf : Rect S1x1024x1024 := Rect.unit (s := S1x1024x1024) ![0, 0, 512] S1x1024x512.size inb_S1x1024x1024_S1x1024x512_0_0_512

/-- The left and right halves of the right factor's block. -/
abbrev leftOf : Rect S4096x1024 := Rect.unit (s := S4096x1024) ![0, 0] S4096x512.size inb_S4096x1024_S4096x512_0_0
abbrev rightOf : Rect S4096x1024 := Rect.unit (s := S4096x1024) ![0, 512] S4096x512.size inb_S4096x1024_S4096x512_0_512

/-- The left factor's block, as the body loads it. -/
abbrev allOf : Rect S4096x1024 := Rect.unit (s := S4096x1024) ![0, 0] S4096x1024.size inb_S4096x1024_S4096x1024_0_0

/-- A block seen through a rectangle. -/
def part {s : Shape} {e : EltTy} (X : s.Idx → Elt F e) (r : Rect s) : r.shape.Idx → Elt F e := fun x => X (r.emb x)

variable (a b : Vec F S4096x1024 .bf16)

/-- The two stored halves. -/
def outLeft : Vec F S1x1024x512 .bf16 := k0_pay1 (part b leftOf) (part a allOf)
def outRight : Vec F S1x1024x512 .bf16 := k0_pay2 (part b rightOf) (part a allOf)

/-- The half a column lies in, and its place there. -/
def column (y : S1x1024x1024.Idx) : S1x1024x512.Idx
  | 0 => y 0
  | 1 => y 1
  | 2 => ⟨(y 2).val % 512, Nat.mod_lt _ (by decide)⟩

/-- The block a grid point writes. -/
def outBlock : Vec F S1x1024x1024 .bf16 := fun y => if (y 2).val < 512 then outLeft a b (column y) else outRight a b (column y)

/-- The two stores, last one first. -/
abbrev stores : List (View.Piece (Elt F) S1x1024x1024 .bf16) := [⟨rightHalf, outRight a b⟩, ⟨leftHalf, outLeft a b⟩]

/-- The stores cover the block. -/
theorem stores_cover (y : S1x1024x1024.Idx) : ∃ p ∈ stores a b, y ∈ p.1.set :=
  View.cover_of_tiled (stores a b) S1x1024x512.size rfl y

/-- Over any contents, the two stores leave `outBlock`. -/
theorem read_stores {κ : Kind} {sp : Space} (v : View sig κ sp S1x1024x1024 .bf16) (f : v.ty.Contents (Elt F)) :
    v.read (Elt F) (v.writes (Elt F) f (stores a b)) = outBlock a b := by
  funext y
  refine View.read_writes_apply_of_pieces v f (outBlock a b) (stores a b) ?_ y (stores_cover a b y)
  intro p hp x
  rcases List.mem_cons.mp hp with rfl | hp
  · have h0 : ((rightHalf.emb x) 0).val = 0 + 1 * (x 0).val := rfl
    have h1 : ((rightHalf.emb x) 1).val = 0 + 1 * (x 1).val := rfl
    have h2 : ((rightHalf.emb x) 2).val = 512 + 1 * (x 2).val := rfl
    have hx : (x 2).val < 512 := (x 2).isLt
    show outRight a b x = outBlock a b (rightHalf.emb x)
    unfold outBlock
    rw [if_neg (by omega)]
    congr 1
    funext i
    fin_cases i
    · exact Fin.ext (by show (x 0).val = ((rightHalf.emb x) 0).val; omega)
    · exact Fin.ext (by show (x 1).val = ((rightHalf.emb x) 1).val; omega)
    · exact Fin.ext (by show (x 2).val = ((rightHalf.emb x) 2).val % 512; omega)
  · rcases List.mem_cons.mp hp with rfl | hp
    · have h0 : ((leftHalf.emb x) 0).val = 0 + 1 * (x 0).val := rfl
      have h1 : ((leftHalf.emb x) 1).val = 0 + 1 * (x 1).val := rfl
      have h2 : ((leftHalf.emb x) 2).val = 0 + 1 * (x 2).val := rfl
      have hx : (x 2).val < 512 := (x 2).isLt
      show outLeft a b x = outBlock a b (leftHalf.emb x)
      unfold outBlock
      rw [if_pos (by omega)]
      congr 1
      funext i
      fin_cases i
      · exact Fin.ext (by show (x 0).val = ((leftHalf.emb x) 0).val; omega)
      · exact Fin.ext (by show (x 1).val = ((leftHalf.emb x) 1).val; omega)
      · exact Fin.ext (by show (x 2).val = ((leftHalf.emb x) 2).val % 512; omega)
    · exact absurd hp List.not_mem_nil

end Cert.Up

end
-- ==== Proof.UpValue.lean ====
/-
# The block of a grid point of `up_dw` over the reals

Over the extended reals the casts are the identity, so entry `(p, q)` of the block that a grid point writes is the inner
product of column `p` of the left factor's block and column `q` of the right factor's. The two halves of the block are
read one after the other.
-/
module

public import proofs.«01_k».proof.Proof.UpBlock
public import Idealize.ShloMosaic.Lib.Pointwise

@[expose] public section

set_option maxRecDepth 16384

noncomputable section

namespace Cert.Up

open Cert.UpKernelIdeal Cert.UpKernelIdeal.Gen
open Idealize.ShloMosaic

variable (a b : Vec Ideal S4096x1024 .bf16)

/-- The inner product of a column of one matrix and a column of another. -/
def crossed {n k w : ℕ} (A : (⟨2, ![n, k]⟩ : Shape).Idx → Ideal .bf16) (B : (⟨2, ![n, w]⟩ : Shape).Idx → Ideal .bf16) (p : Fin k) (q : Fin w) : EReal :=
  ∑ t : Fin n, (A (ix2 t p) : EReal) * B (ix2 t q)

/-- Where the halves put an index. -/
theorem at_all (t : Fin 4096) (p : Fin 1024) : allOf.emb (ix2 t p) = ix2 t p := by
  funext i; fin_cases i <;> exact Fin.ext (show 0 + 1 * _ = _ by rw [Nat.zero_add, Nat.one_mul])
theorem at_left (t : Fin 4096) (q : Fin 512) : leftOf.emb (ix2 t q) = ix2 t (⟨q.val, by omega⟩ : Fin 1024) := by
  funext i; fin_cases i <;> exact Fin.ext (show 0 + 1 * _ = _ by rw [Nat.zero_add, Nat.one_mul]; rfl)
theorem at_right (t : Fin 4096) (q : Fin 512) : rightOf.emb (ix2 t q) = ix2 t (⟨512 + q.val, by omega⟩ : Fin 1024) := by
  funext i; fin_cases i
  · exact Fin.ext (show 0 + 1 * _ = _ by rw [Nat.zero_add, Nat.one_mul]; rfl)
  · exact Fin.ext (show 512 + 1 * _ = _ by rw [Nat.one_mul]; rfl)

theorem outLeft_apply (p : Fin 1024) (q : Fin 512) :
    outLeft a b (ix3 (0 : Fin 1) p q) = crossed (n := 4096) (k := 1024) (w := 1024) a b p ⟨q.val, by omega⟩ := by
  pointwise [outLeft, k0_pay1, part, crossed]
  simp only [at_all, at_left]

theorem outRight_apply (p : Fin 1024) (q : Fin 512) :
    outRight a b (ix3 (0 : Fin 1) p q) = crossed (n := 4096) (k := 1024) (w := 1024) a b p ⟨512 + q.val, by omega⟩ := by
  pointwise [outRight, k0_pay2, part, crossed]
  simp only [at_all, at_right]

/-- The whole block. -/
theorem outBlock_apply (p : Fin 1024) (q : Fin 1024) :
    outBlock a b (ix3 (0 : Fin 1) p q) = crossed (n := 4096) (k := 1024) (w := 1024) a b p q := by
  have hc : column (ix3 (0 : Fin 1) p q) = ix3 (0 : Fin 1) p (⟨q.val % 512, Nat.mod_lt _ (by decide)⟩ : Fin 512) := by
    funext i; fin_cases i <;> rfl
  have hq := q.isLt
  by_cases h : q.val < 512
  · have e : outBlock a b (ix3 (0 : Fin 1) p q) = outLeft a b (column (ix3 (0 : Fin 1) p q)) := if_pos h
    rw [e, hc, outLeft_apply]
    exact congrArg _ (Fin.ext (by show q.val % 512 = q.val; omega))
  · have e : outBlock a b (ix3 (0 : Fin 1) p q) = outRight a b (column (ix3 (0 : Fin 1) p q)) := if_neg h
    rw [e, hc, outRight_apply]
    exact congrArg _ (Fin.ext (by show 512 + q.val % 512 = q.val; omega))

end Cert.Up

end
-- ==== Proof.UpLinks.lean ====
/-
# The exchange of `up_dw`: who sends what to whom

The eight devices are the cores of a 2 × 2 torus of chips with two cores each; device `c` is core `c % 2` of chip
`c / 2`. Beside its products, `up_dw` exchanges parts of a buffer between the cores of equal number of the four chips.
There are three links: on link 0 a device talks to the chip across the first torus axis, on link 1 to the one across the
second, on link 2 to the one across both. On link `j` device `c`

* sends the first 1536 rows of the layer of its `main_arg2` that belongs to the chip of `peer j c` into the first 1536
  rows of layer `j` of `main_v1_1` of `peer j c`;
* credits its own `j`-th send semaphore and the `j`-th receive semaphore of `peer j c`.

In its last grid point it waits for its three receive semaphores and then for its three send semaphores. These are three
links in the sense of the links module. The payloads name the contents, so one run over any float values gives both
frames and the value.
-/
module

public import proofs.«01_k».proof.Proof.Links
public import proofs.«01_k».proof.Proof.Gen.UpKernelIdeal
public import proofs.«01_k».proof.Proof.Gen.UpKernelIdeal.Launch

@[expose] public section

noncomputable section

namespace Cert.Up

open Cert.UpKernelIdeal Cert.UpKernelIdeal.Gen

open Idealize.ShloMosaic
open TcCoe Rounds
open Idealize.SL Idealize.SL.RA Idealize.SL.BI
open BIBase Laws ProofMode Sem
open Cert.Exchange (Links UU EP ER)

variable {F : FTy → Type} [FloatOps F]

local notation "𝕄" => MT nD τ sig Unit (Elt F) ℕ (UU nD sig τ) ℕ

/-! ## The links -/

/-- Whether a link crosses the first torus axis, and whether it crosses the second. -/
def across₁ (j : Fin 3) : ℕ := if j = 1 then 0 else 1
def across₂ (j : Fin 3) : ℕ := if j = 0 then 0 else 1

/-- The same core of the chip across. -/
def peer (j : Fin 3) (c : Dev nD) : Dev nD :=
  ⟨4 * ((c.val / 4 + across₁ j) % 2) + 2 * ((c.val / 2 % 2 + across₂ j) % 2) + c.val % 2, by revert j c; decide⟩

theorem peer_peer (j : Fin 3) (c : Dev nD) : peer j (peer j c) = c := by revert j c; decide

/-- The devices the kernel computes for its transfers are these. -/
theorem dev1_eq (c : Dev nD) (h : k0_dev1 c < nD) : (⟨k0_dev1 c, h⟩ : Dev nD) = peer 0 c := by
  revert c; decide +kernel
theorem dev2_eq (c : Dev nD) (h : k0_dev2 c < nD) : (⟨k0_dev2 c, h⟩ : Dev nD) = peer 1 c := by
  revert c; decide +kernel
theorem dev3_eq (c : Dev nD) (h : k0_dev3 c < nD) : (⟨k0_dev3 c, h⟩ : Dev nD) = peer 2 c := by
  revert c; decide +kernel

/-- A transfer may go from each device to its peers. -/
theorem routes (j : Fin 3) (c : Dev nD) : τ.routes c.tc (peer j c : Thread nD τ) = true := by revert j c; decide

theorem sem_inb (j : Fin 3) : ∀ a, (![j.val] : Fin 1 → ℕ) a + S1.size a ≤ S3.size a := by revert j; decide

abbrev sendSem (j : Fin 3) : DmaSem sig := ((cc0_scratch0.slice (Rect.unit (s := S3) ![j.val] S1.size (sem_inb j))).squeeze S_ squeezes_S1_S_ : DmaSems sig S_).sem
abbrev recvSem (j : Fin 3) : DmaSem sig := ((cc0_scratch1.slice (Rect.unit (s := S3) ![j.val] S1.size (sem_inb j))).squeeze S_ squeezes_S1_S_ : DmaSems sig S_).sem

theorem land_inb (j : Fin 3) : ∀ a, (![j.val, 0, 0] : Fin 3 → ℕ) a + S1x1536x4096.size a ≤ S3x2048x4096.size a := by revert j; decide

/-- Where the transfer of link `j` lands. -/
abbrev landR (j : Fin 3) : Rect S3x2048x4096 := Rect.unit (s := S3x2048x4096) ![j.val, 0, 0] S1x1536x4096.size (land_inb j)
abbrev landM (j : Fin 3) : Memref sig .tc .hbm S1536x4096 .bf16 :=
  ((Memref.whole main_v1_1).slice (landR j) (fun _ => rfl)).squeeze S1536x4096 squeezes_S1x1536x4096_S1536x4096

/-- The units of one transfer. -/
def amount : ℕ := (landM 0).view.dmaCredit

abbrev links : Links nD sig where
  J := 3
  sendSem := sendSem
  recvSem := recvSem
  peer := peer
  peer_peer := peer_peer
  units _ := amount
  units_pos _ := View.dmaCredit_pos _ (by decide)
  apart := by decide

/-! ## What travels -/

/-- Where what device `c` sends on link `j` lies in its `main_arg2`. -/
def off (j : Fin 3) (c : Dev nD) : Fin 3 → ℕ :=
  match j with
  | 0 => k0_off1 c
  | 1 => k0_off2 c
  | 2 => k0_off3 c

/-- It is the layer of the chip it is sent to. -/
theorem off_eq (j : Fin 3) (c : Dev nD) : off j c = ![(peer j c).val / 2, 0, 0] := by revert j c; decide +kernel

theorem off_inb (j : Fin 3) (c : Dev nD) : ∀ a, off j c a + S1x1536x4096.size a ≤ S4x2048x4096.size a := by revert j c; decide +kernel

abbrev sentR (j : Fin 3) (c : Dev nD) : Rect S4x2048x4096 := Rect.unit (s := S4x2048x4096) (off j c) S1x1536x4096.size (off_inb j c)
abbrev sentM (j : Fin 3) (c : Dev nD) : Memref sig .tc .hbm S1536x4096 .bf16 :=
  ((Memref.whole main_arg2).slice (sentR j c) (fun _ => rfl)).squeeze S1536x4096 squeezes_S1x1536x4096_S1536x4096

variable (m : (ℓ : Loc nD τ sig) → Buf (Elt F) ℓ)

/-- Where in the `main_arg2` of a peer of device `c` an entry of its landing buffer comes from. -/
def origin (c : Dev nD) (i : S3x2048x4096.Idx) : S4x2048x4096.Idx
  | 0 => ⟨c.val / 2, by have h : c.val < 8 := c.isLt; show c.val / 2 < 4; omega⟩
  | 1 => i 1
  | 2 => i 2

/-- The landing buffer of device `c` when the three transfers have landed: the rows sent, and below them what it held. -/
def filled (c : Dev nD) : Vec F S3x2048x4096 .bf16 := fun i =>
  if (i 1).val < 1536 then m ((peer (i 0) c : Thread nD τ).loc main_arg2) (origin c i) else m (c.tc.loc main_v1_1) i

/-- The elements the transfer of link `j` reads, at their launch contents. -/
def lent (c : Dev nD) (j : Fin 3) : sProp 𝕄 :=
  iprop(c.tc.loc main_arg2 ↦[(sentM j c).view.set]{fullShare} m (c.tc.loc main_arg2))

/-- The elements it writes on device `c`, at contents `f`. -/
def landing (c : Dev nD) (j : Fin 3) (f : Buf (Elt F) ((c.tc : Thread nD τ).loc main_v1_1)) : sProp 𝕄 :=
  iprop(c.tc.loc main_v1_1 ↦[(landM j).view.set]{fullShare} f)

/-- What the send cells return and what the receive cells deliver. -/
def pay : links.End → Dev nD → sProp 𝕄
  | (false, j), c => lent m c j
  | (true, j), c => landing c j (filled m c)

instance : Cert.Exchange.Keepable links (pay m) where
  keep k c := by
    rcases k with ⟨_ | _, j⟩
    · show BI.Storable upEmb (lent m c j)
      unfold lent; infer_instance
    · show BI.Storable upEmb (landing c j (filled m c))
      unfold landing; infer_instance

/-- What the transfer of link `j` from device `c` leaves where it lands is what `filled` says. -/
theorem delivered (j : Fin 3) (c : Dev nD) (fd : Buf (Elt F) ((landM j).view.loc (peer j c : Thread nD τ))) (i) (hi : i ∈ (landM j).view.set) :
    (landM j).view.write (Elt F) fd ((sentM j c).view.read (Elt F) (m (c.tc.loc main_arg2))) Finset.univ i = filled m (peer j c) i := by
  obtain ⟨x, -, rfl⟩ := Finset.mem_map.mp hi
  refine (View.write_emb_of_mem (v := (landM j).view) fd _ (Finset.mem_univ x)).trans ?_
  show m (c.tc.loc main_arg2) ((sentM j c).view.emb x) = _
  generalize hy : Shape.reshapeEquiv (s := S1x1536x4096) (s' := S1536x4096) (by decide) x = y
  have hs : (sentM j c).view.emb x = (sentR j c).emb y := by rw [← hy]; rfl
  have hl : (landM j).view.emb x = (landR j).emb y := by rw [← hy]; rfl
  rw [hs]
  refine Eq.trans ?_ (congrArg (filled m (peer j c)) hl).symm
  have y0 : (y 0).val < 1 := (y 0).isLt
  have y1 : (y 1).val < 1536 := (y 1).isLt
  have l0 : ((landR j).emb y) 0 = j := Fin.ext (show j.val + 1 * (y 0).val = j.val by omega)
  have l1 : (((landR j).emb y) 1).val = (y 1).val := show 0 + 1 * (y 1).val = (y 1).val by omega
  unfold filled
  rw [if_pos (by omega)]
  have hp : peer (((landR j).emb y) 0) (peer j c) = c := by rw [l0]; exact peer_peer j c
  have e : (sentR j c).emb y = origin (peer j c) ((landR j).emb y) := by
    funext a
    fin_cases a <;> refine Fin.ext ?_
    · show off j c 0 + 1 * (y 0).val = (peer j c).val / 2
      rw [off_eq]; show (peer j c).val / 2 + 1 * (y 0).val = _; omega
    · show off j c 1 + 1 * (y 1).val = 0 + 1 * (y 1).val
      rw [off_eq]; rfl
    · show off j c 2 + 1 * (y 2).val = 0 + 1 * (y 2).val
      rw [off_eq]; rfl
  rw [e, hp]

/-! ## The two buffers in pieces -/

theorem sent_set (j : Fin 3) (c : Dev nD) : (sentM j c).view.set = (sentR j c).set :=
  (View.set_reshape _ _).trans (View.set_slice_whole _ _)
theorem land_set (j : Fin 3) : (landM j).view.set = (landR j).set :=
  (View.set_reshape _ _).trans (View.set_slice_whole _ _)

theorem chip_apart (c : Dev nD) (j j' : Fin 3) (h : j ≠ j') : (peer j c).val / 2 ≠ (peer j' c).val / 2 := by
  revert c j j'; decide +kernel

theorem sent_apart (c : Dev nD) (j j' : Fin 3) (h : j ≠ j') : Disjoint (sentM j c).view.set (sentM j' c).view.set := by
  rw [sent_set, sent_set]
  refine Rect.unit_disjoint 0 ?_
  have := chip_apart c j j' h
  rw [off_eq, off_eq]
  show (peer j c).val / 2 + 1 ≤ (peer j' c).val / 2 ∨ (peer j' c).val / 2 + 1 ≤ (peer j c).val / 2
  omega

theorem land_apart (j j' : Fin 3) (h : j ≠ j') : Disjoint (landM j).view.set (landM j').view.set := by
  rw [land_set, land_set]
  refine Rect.unit_disjoint 0 ?_
  have : j.val ≠ j'.val := fun e => h (Fin.ext e)
  show j.val + 1 ≤ j'.val ∨ j'.val + 1 ≤ j.val
  omega

/-- The first 1536 rows of every layer are landing places. -/
theorem land_mem (i : S3x2048x4096.Idx) (h : (i 1).val < 1536) : i ∈ (landM (i 0)).view.set := by
  have hr : i ∈ (landR (i 0)).set := by
    refine Rect.mem_set_unit.mpr fun a => ?_
    fin_cases a
    · exact ⟨Nat.le_refl _, Nat.lt_succ_self _⟩
    · exact ⟨Nat.zero_le _, by show (i 1).val < 0 + 1536; omega⟩
    · exact ⟨Nat.zero_le _, by have h : (i 2).val < 4096 := (i 2).isLt; show (i 2).val < 0 + 4096; omega⟩
  exact (land_set (i 0)).symm ▸ hr

/-- The elements of `main_arg2` no transfer reads. -/
def keptBack (c : Dev nD) : sProp 𝕄 :=
  iprop(c.tc.loc main_arg2 ↦[Finset.univ \ (Finset.univ : Finset (Fin 3)).biUnion fun j => (sentM j c).view.set]{fullShare}
    m (c.tc.loc main_arg2))

/-- The elements of `main_v1_1` no transfer writes. -/
def below (c : Dev nD) (f : Buf (Elt F) ((c.tc : Thread nD τ).loc main_v1_1)) : sProp 𝕄 :=
  iprop(c.tc.loc main_v1_1 ↦[Finset.univ \ (Finset.univ : Finset (Fin 3)).biUnion fun j => (landM j).view.set]{fullShare} f)

omit [FloatOps F] in
theorem arg2_split (c : Dev nD) :
    (c.tc.loc main_arg2 ↦{fullShare} m (c.tc.loc main_arg2) : sProp 𝕄)
      ⊣⊢ iprop((bigSep Finset.univ fun j => lent m c j) ∗ keptBack m c) := by
  have h := pointsTo_biUnion (Ix := Unit) (Name := ℕ) (U := UU nD sig τ) (Lvl := ℕ) (q := fullShare) (f := m (c.tc.loc main_arg2))
    Finset.univ (fun j => (sentM j c).view.set) fun j _ j' _ hj => sent_apart c j j' hj
  unfold lent keptBack
  rw [← h]
  exact pointsTo_split_subset (Finset.subset_univ _)

omit [FloatOps F] in
theorem landing_split (c : Dev nD) (f : Buf (Elt F) (c.tc.loc main_v1_1)) :
    (c.tc.loc main_v1_1 ↦{fullShare} f : sProp 𝕄) ⊣⊢ iprop((bigSep Finset.univ fun j => landing c j f) ∗ below c f) := by
  have h := pointsTo_biUnion (Ix := Unit) (Name := ℕ) (U := UU nD sig τ) (Lvl := ℕ) (q := fullShare) (f := f)
    Finset.univ (fun j => (landM j).view.set) fun j _ j' _ hj => land_apart j j' hj
  unfold landing below
  rw [← h]
  exact pointsTo_split_subset (Finset.subset_univ _)

omit [FloatOps F] in
/-- Outside the three landing places `filled` is what was there. -/
theorem below_eq (c : Dev nD) : (below c (m (c.tc.loc main_v1_1)) : sProp 𝕄) = below c (filled m c) := by
  unfold below
  refine pointsTo_congr fun i hi => ?_
  have hn : ¬ (i 1).val < 1536 := fun hlt => (Finset.mem_sdiff.mp hi).2 (Finset.mem_biUnion.mpr ⟨i 0, Finset.mem_univ _, land_mem i hlt⟩)
  exact (if_neg hn).symm

end Cert.Up

end
-- ==== Proof.UpParts.lean ====
/-
# The three parts of a grid point of `up_dw`

The body at a grid point is: start the three transfers (at the first point), compute the block, wait for the transfers
(at the last point).
-/
module

public import proofs.«01_k».proof.Proof.Gen.UpKernelIdeal.Skeleton
public import proofs.«01_k».proof.Proof.Gen.UpKernelIdeal.Points
public import proofs.«01_k».proof.Proof.UpLinks

@[expose] public section

noncomputable section

namespace Cert.Up

open Cert.UpKernelIdeal Cert.UpKernelIdeal.Gen
open Idealize.ShloMosaic
open TcCoe
open Idealize.SL.Sem

variable {F : FTy → Type} [FloatOps F]

/-- Programs of this kernel. -/
abbrev Code (F : FTy → Type) [FloatOps F] : Type → Type 1 := Prog (TpuEff nD τ sig (Elt F) Λ₀ .tc)

/-- A layer of `main_arg2` without the rows no transfer reads, as the body names it. -/
abbrev rowsAt (o : Fin 3 → ℕ) (h : ∀ a, o a + S1x1536x4096.size a ≤ S4x2048x4096.size a) : Memref sig .tc .hbm S1536x4096 .bf16 :=
  ((Memref.whole main_arg2).slice (Rect.unit (s := S4x2048x4096) o S1x1536x4096.size h) (fun _ => rfl)).squeeze S1536x4096 squeezes_S1x1536x4096_S1536x4096

theorem rows_exact {o : Fin 3 → ℕ} {h : ∀ a, o a + S1x1536x4096.size a ≤ S4x2048x4096.size a}
    (hw : (Rect.unit (s := S4x2048x4096) o S1x1536x4096.size h).WholeWords (EltTy.packing .bf16)) : (rowsAt o h).view.WordExact :=
  ((Memref.isWhole_whole main_arg2).wordExact_slice rfl _ hw).reshape _ _

theorem land_words : ∀ j : Fin 3, (landR j).WholeWords (EltTy.packing .bf16)
  | 0 => wordsbf16_S3x2048x4096_S1x1536x4096_0_0_0
  | 1 => wordsbf16_S3x2048x4096_S1x1536x4096_1_0_0
  | 2 => wordsbf16_S3x2048x4096_S1x1536x4096_2_0_0

theorem land_exact (j : Fin 3) : (landM j).view.WordExact := ((Memref.isWhole_whole main_v1_1).wordExact_slice rfl _ (land_words j)).reshape _ _

/-- The first grid point sends. -/
def sendPart (i : grid0.Coords) : Code F PUnit :=
  if h : k0_cond1 i = 1#1 then
    .op .deviceId fun d =>
    .op (.enqueueDma (rowsAt (k0_off1 d) (k0_off1_inb i d h)) (.remote (Dev.tc (⟨k0_dev1 d, k0_dev1_lt i d h⟩ : Dev nD)) (landM 0) (.dma (sendSem 0)))
      (.dma (recvSem 0)) (rows_exact (k0_off1_wordsbf16 i d h)) (land_exact 0) ⟨⟨rfl, Or.inl rfl⟩, trivial⟩) fun _ =>
    .op (.enqueueDma (rowsAt (k0_off2 d) (k0_off2_inb i d h)) (.remote (Dev.tc (⟨k0_dev2 d, k0_dev2_lt i d h⟩ : Dev nD)) (landM 1) (.dma (sendSem 1)))
      (.dma (recvSem 1)) (rows_exact (k0_off2_wordsbf16 i d h)) (land_exact 1) ⟨⟨rfl, Or.inl rfl⟩, trivial⟩) fun _ =>
    .op (.enqueueDma (rowsAt (k0_off3 d) (k0_off3_inb i d h)) (.remote (Dev.tc (⟨k0_dev3 d, k0_dev3_lt i d h⟩ : Dev nD)) (landM 2) (.dma (sendSem 2)))
      (.dma (recvSem 2)) (rows_exact (k0_off3_wordsbf16 i d h)) (land_exact 2) ⟨⟨rfl, Or.inl rfl⟩, trivial⟩) fun _ => .ret ⟨⟩
  else .ret ⟨⟩

/-- Every grid point computes. -/
def workPart (A : Memref sig .tc .vmem S4096x1024 .bf16) (B : Memref sig .tc .vmem S4096x1024 .bf16)
    (O : Memref sig .tc .vmem S1x1024x1024 .bf16) (hO : O.IsWhole) : Code F PUnit :=
  .op (.load B (Rect.unit (s := S4096x1024) ![0, 0] S4096x512.size inb_S4096x1024_S4096x512_0_0).toLoadRect (View.loadsAt_vmem h_S4096x512)) fun v8 =>
  .op (.load A (Rect.unit (s := S4096x1024) ![0, 0] S4096x1024.size inb_S4096x1024_S4096x1024_0_0).toLoadRect (View.loadsAt_vmem h_S4096x1024)) fun v10 =>
  .op (.load O (Rect.unit (s := S1x1024x1024) ![0, 0, 0] S1x1024x512.size inb_S1x1024x1024_S1x1024x512_0_0_0).toLoadRect (View.loadsAt_vmem h_S1x1024x512)) fun _ =>
  .op (.store O (Rect.unit (s := S1x1024x1024) ![0, 0, 0] S1x1024x512.size inb_S1x1024x1024_S1x1024x512_0_0_0) (k0_pay1 v8 v10) Finset.univ
    (View.stores_vmem h_S1x1024x512 (hO.storeExact_slice rfl _ packedbf16_S1x1024x1024_S1x1024x512_0_0_0) (fun _ => rfl)) (.inl rfl)) fun _ =>
  .op (.load B (Rect.unit (s := S4096x1024) ![0, 512] S4096x512.size inb_S4096x1024_S4096x512_0_512).toLoadRect (View.loadsAt_vmem h_S4096x512)) fun v17 =>
  .op (.load A (Rect.unit (s := S4096x1024) ![0, 0] S4096x1024.size inb_S4096x1024_S4096x1024_0_0).toLoadRect (View.loadsAt_vmem h_S4096x1024)) fun v19 =>
  .op (.load O (Rect.unit (s := S1x1024x1024) ![0, 0, 512] S1x1024x512.size inb_S1x1024x1024_S1x1024x512_0_0_512).toLoadRect (View.loadsAt_vmem h_S1x1024x512)) fun _ =>
  .op (.store O (Rect.unit (s := S1x1024x1024) ![0, 0, 512] S1x1024x512.size inb_S1x1024x1024_S1x1024x512_0_0_512) (k0_pay2 v17 v19) Finset.univ
    (View.stores_vmem h_S1x1024x512 (hO.storeExact_slice rfl _ packedbf16_S1x1024x1024_S1x1024x512_0_0_512) (fun _ => rfl)) (.inl rfl)) fun _ => .ret ⟨⟩

/-- The last grid point waits: for what its peers sent, then for what it sent itself. -/
def waitPart (i : grid0.Coords) : Code F PUnit :=
  if h : k0_cond2 i = 1#1 then
    .op .deviceId fun d =>
    .op (.waitDma2 (recvSem 0) (rowsAt (k0_off4 d) (k0_off4_inb i d h)) (landM 0) (rows_exact (k0_off4_wordsbf16 i d h)) (land_exact 0)) fun _ =>
    .op (.waitDma2 (recvSem 1) (rowsAt (k0_off5 d) (k0_off5_inb i d h)) (landM 1) (rows_exact (k0_off5_wordsbf16 i d h)) (land_exact 1)) fun _ =>
    .op (.waitDma2 (recvSem 2) (rowsAt (k0_off6 d) (k0_off6_inb i d h)) (landM 2) (rows_exact (k0_off6_wordsbf16 i d h)) (land_exact 2)) fun _ =>
    .op (.waitDma2 (sendSem 0) (landM 0) (rowsAt (k0_off4 d) (k0_off4_inb i d h)) (land_exact 0) (rows_exact (k0_off4_wordsbf16 i d h))) fun _ =>
    .op (.waitDma2 (sendSem 1) (landM 1) (rowsAt (k0_off5 d) (k0_off5_inb i d h)) (land_exact 1) (rows_exact (k0_off5_wordsbf16 i d h))) fun _ =>
    .op (.waitDma2 (sendSem 2) (landM 2) (rowsAt (k0_off6 d) (k0_off6_inb i d h)) (land_exact 2) (rows_exact (k0_off6_wordsbf16 i d h))) fun _ => .ret ⟨⟩
  else .ret ⟨⟩

/-- The body is its three parts, one after the other. -/
theorem body_eq (t : Fin cfg0.N) :
    bodyAt0 (F := F) t = sendPart (grid0.coords t) >>= fun _ =>
      workPart (st0_0 t) (st0_1 t) (st0_2 t) (hstage0_2 ((cfg0.slots t 2).cast nbuf0_2)) >>= fun _ => waitPart (grid0.coords t) := by
  unfold bodyAt0 sendPart
  rw [cc0_up_dw_eq_skeleton]
  unfold cc0_up_dw_skel
  rw [k0_part1_eq_skeleton, k0_part2_eq_skeleton, k0_part3_eq_skeleton]
  unfold k0_part1_skel k0_part2_skel k0_part3_skel waitPart
  by_cases h : k0_cond1 (grid0.coords t) = 1#1 <;> by_cases h' : k0_cond2 (grid0.coords t) = 1#1
  · rw [dif_pos h, dif_pos h]; simp only [dif_pos h']; rfl
  · rw [dif_pos h, dif_pos h]; simp only [dif_neg h']; rfl
  · rw [dif_neg h, dif_neg h]; simp only [dif_pos h']; rfl
  · rw [dif_neg h, dif_neg h]; simp only [dif_neg h']; rfl

/-- The first point, and only it, sends; the last point, and only it, waits. -/
theorem sends_iff (t : Fin cfg0.N) : k0_cond1 (grid0.coords t) = 1#1 ↔ t.val = 0 :=
  (by decide +kernel : ∀ t : Fin grid0.N, k0_cond1 (grid0.coords t) = 1#1 ↔ t.val = 0) t
theorem waits_iff (t : Fin cfg0.N) : k0_cond2 (grid0.coords t) = 1#1 ↔ t.val = 63 :=
  (by decide +kernel : ∀ t : Fin grid0.N, k0_cond2 (grid0.coords t) = 1#1 ↔ t.val = 63) t

end Cert.Up

end
-- ==== Proof.UpSteps.lean ====
/-
# The three parts of `up_dw`, each by itself

What each part of a grid point does to the memory and to the protocol: the first sends along the three links, every one
computes its block, the last waits for the six cells.
-/
module

public import proofs.«01_k».proof.Proof.UpBlock
public import proofs.«01_k».proof.Proof.UpParts
public import proofs.«01_k».proof.Proof.UpLinks

@[expose] public section

noncomputable section

namespace Cert.Up

open Cert.UpKernelIdeal Cert.UpKernelIdeal.Gen
open Idealize.ShloMosaic
open TcCoe Rounds
open Idealize.SL Idealize.SL.RA Idealize.SL.BI
open BIBase Laws ProofMode Sem
open Cert.Exchange (Links UU EP ER records ticket seats hand due owns_iff)

variable {F : FTy → Type} [FloatOps F]

local notation "𝕄" => MT nD τ sig Unit (Elt F) ℕ (UU nD sig τ) ℕ

abbrev 𝒱₀ : Variants := Variants.none

/-! ## The block -/

/-- The computing part reads its two blocks and leaves `outBlock` of them in the third, whatever that held. -/
theorem work_step (c : Dev nD) (A B : Memref sig .tc .vmem S4096x1024 .bf16) (O : Memref sig .tc .vmem S1x1024x1024 .bf16) (hO : O.IsWhole)
    (a b : Vec F S4096x1024 .bf16) (o : Vec F S1x1024x1024 .bf16) :
    iprop(owns (Ix := Unit) (Name := ℕ) (U := UU nD sig τ) (Lvl := ℕ) c.tc A fullShare a
        ∗ owns c.tc B fullShare b ∗ owns c.tc O fullShare o)
      ⊢ wp frame (wpE (defs₀ (F := F)) 𝒱₀ c none) Set.univ (workPart A B O hO)
          (fun _ => iprop(owns c.tc A fullShare a ∗ owns c.tc B fullShare b
            ∗ owns c.tc O fullShare (outBlock a b) : sProp 𝕄)) := by
  simp only [owns_iff]
  unfold workPart
  iintro ⟨⟨%fa, %ha, HA⟩, ⟨%fb, %hb, HB⟩, ⟨%fo, %ho, HO⟩⟩
  subst ha hb
  iapply (wp_load 𝒱₀ c.tc none Set.univ (m := B) (View.setOn_subset_set _ _)) $$ HB; iintro HB
  iapply (wp_load 𝒱₀ c.tc none Set.univ (m := A) (View.setOn_subset_set _ _)) $$ HA; iintro HA
  iapply (wp_load 𝒱₀ c.tc none Set.univ (m := O) (View.setOn_subset_set _ _)) $$ HO; iintro HO
  iapply (wp_store_writes₀ 𝒱₀ c.tc none Set.univ (m := O) (r := leftHalf) (View.set_slice_subset _ _)) $$ HO; iintro HO
  iapply (wp_load 𝒱₀ c.tc none Set.univ (m := B) (View.setOn_subset_set _ _)) $$ HB; iintro HB
  iapply (wp_load 𝒱₀ c.tc none Set.univ (m := A) (View.setOn_subset_set _ _)) $$ HA; iintro HA
  iapply (wp_load 𝒱₀ c.tc none Set.univ (m := O) (View.setOn_subset_set _ _)) $$ HO; iintro HO
  iapply (wp_store_writes 𝒱₀ c.tc none Set.univ (m := O) (r := rightHalf) (View.set_slice_subset _ _)) $$ HO; iintro HO
  rw [wp_ret]; imodintro
  isplitl [HA]
  · iexists fa; isplitr; · (ipureintro; rfl)
    iexact HA
  isplitl [HB]
  · iexists fb; isplitr; · (ipureintro; rfl)
    iexact HB
  iexists _; isplitr
  · ipureintro
    exact read_stores (A.view.read (Elt F) fa) (B.view.read (Elt F) fb) O.view fo
  iexact HO

/-! ## The transfers -/

variable (m : (ℓ : Loc nD τ sig) → Buf (Elt F) ℓ)

/-- What holds of the three links, one by one. -/
theorem three (Φ : Fin 3 → sProp 𝕄) : bigSep Finset.univ Φ = iprop(Φ 0 ∗ Φ 1 ∗ Φ 2) :=
  bigSep_univ_eq_bigSepL [0, 1, 2] (by decide) (by decide) Φ

/-- The credit a device holds for a send cell and for a receive cell while a transfer is on the way. -/
abbrev sendCred (c : Dev nD) (j : Fin 3) : sProp 𝕄 := cred (tallyAt (links.cell c (false, j)) () (links.units j))
abbrev recvCred (c : Dev nD) (j : Fin 3) : sProp 𝕄 := cred (tallyAt (links.cell c (true, j)) () (links.units j))

theorem pay_send (c : Dev nD) (j : Fin 3) : pay m (false, j) c = lent m c j := rfl
theorem pay_recv (c : Dev nD) (j : Fin 3) : pay m (true, j) c = landing c j (filled m c) := rfl

/-- Every transfer counts the same units, at either end: the memrefs have one shape. -/
theorem credit_rows {o : Fin 3 → ℕ} (h : ∀ a, o a + S1x1536x4096.size a ≤ S4x2048x4096.size a) : (rowsAt o h).view.dmaCredit = amount := by
  show sig.dmaCredit .tc _ _ S1536x4096 .bf16 = amount
  unfold amount
  exact Eq.refl (RefSig.tileCredit S1536x4096 .bf16)

theorem credit_land (j : Fin 3) : (landM j).view.dmaCredit = amount := by
  show sig.dmaCredit .tc _ _ S1536x4096 .bf16 = amount
  unfold amount
  exact Eq.refl (RefSig.tileCredit S1536x4096 .bf16)

/-- What device `c` owes on link `j`. -/
abbrev debt (c : Dev nD) (j : Fin 3) : CellTallies nD τ sig Unit := tallyAt (links.recvCell (peer j c) j) () amount

theorem due_eq (c : Dev nD) : due (τ := τ) links c = (0 + debt c 2 + debt c 1) + debt c 0 := by
  have h : due (τ := τ) links c = debt c 0 + debt c 1 + debt c 2 := by
    unfold due
    exact Fin.sum_univ_three _
  rw [h, zero_add, add_comm (debt c 2), add_comm (debt c 1 + debt c 2), add_assoc]

/-- One transfer: the device gives the elements it sends and its peer's landing place. -/
theorem send_link (κ : Dev nD × links.End → ℕ) (c n : Dev nD) (j : Fin 3) (hn : n = peer j c) {o : Fin 3 → ℕ} (ho : o = off j c)
    {hi : ∀ a, o a + S1x1536x4096.size a ≤ S4x2048x4096.size a} {hs : (rowsAt o hi).view.WordExact} {hd : (landM j).view.WordExact}
    {hsc : ((landM j) : Memref sig (Dev.tc n : Thread nD τ).2.kind .hbm S1536x4096 .bf16).view.ref.isScScratch = false}
    {ht : DmaTarget.Typed .hbm (.dma (recvSem j)) (.remote (Dev.tc n : Thread nD τ) (landM j) (.dma (sendSem j)) hsc)}
    {Q : PUnit → sProp 𝕄} {k : PUnit → Code F PUnit} (O' O : CellTallies nD τ sig Unit) (hO : O' = O + debt c j) (W : Waits sig Unit) :
    iprop(records links (pay m) κ ∗ ticket links c j ∗ lent m c j ∗ (∃ fd, landing (peer j c) j fd) ∗ owes c.tc O' W)
      ⊢ iprop((sendCred c j ∗ owes c.tc O W -∗ wp frame (wpE (defs₀ (F := F)) 𝒱₀ c none) Set.univ (k ⟨⟩) Q)
          -∗ wp frame (wpE (defs₀ (F := F)) 𝒱₀ c none) Set.univ
              (.op (.enqueueDma (rowsAt o hi) (.remote (Dev.tc n : Thread nD τ) (landM j) (.dma (sendSem j)) hsc) (.dma (recvSem j)) hs hd ht) k) Q) := by
  subst ho
  iintro ⟨#HR, Ht, Hs, ⟨%fd, Hd⟩, HO⟩ Hk
  iapply (Cert.Exchange.send_along links (pay m) (defs₀ (F := F)) 𝒱₀ κ c n j hn (src := sentM j c) (dst := landM j) (sS := sendSem j) (sR := recvSem j) rfl rfl
    (m (c.tc.loc main_arg2)) fd (credit_land j) ?_ ?_ O hO W (routes j c)) $$ [Ht Hs Hd HO]
  · exact BIBase.Entails.rfl
  · exact Entails.of_eq (pointsTo_congr fun i hi => delivered m j c fd i hi)
  · isplitr; · iexact HR
    isplitl [Ht]; · iexact Ht
    isplitl [Hs]; · unfold lent; iexact Hs
    isplitl [Hd]; · unfold landing; iexact Hd
    iexact HO
  iexact Hk

/-- The first point's three transfers. -/
theorem send_step (κ : Dev nD × links.End → ℕ) (c : Dev nD) (i : grid0.Coords) (h : k0_cond1 i = 1#1) (W : Waits sig Unit) :
    iprop(records links (pay m) κ ∗ (bigSep Finset.univ fun j => ticket links c j) ∗ (bigSep Finset.univ fun j => lent m c j)
        ∗ (bigSep Finset.univ fun j => iprop(∃ fd, landing (peer j c) j fd)) ∗ owes c.tc (due links c) W)
      ⊢ wp frame (wpE (defs₀ (F := F)) 𝒱₀ c none) Set.univ (sendPart (F := F) i)
          (fun _ => iprop((bigSep Finset.univ fun j => sendCred c j) ∗ owes c.tc 0 W : sProp 𝕄)) := by
  unfold sendPart
  rw [dif_pos h]
  simp only [wp_deviceId, three]
  iintro ⟨#HR, ⟨Ht0, Ht1, Ht2⟩, ⟨Hs0, Hs1, Hs2⟩, ⟨Hd0, Hd1, Hd2⟩, HO⟩
  iapply (send_link m κ c _ 0 (dev1_eq c (k0_dev1_lt i c h)) rfl _ _ (due_eq c) W) $$ [$HR $Ht0 $Hs0 $Hd0 $HO]
  iintro ⟨Hc0, HO⟩
  iapply (send_link m κ c _ 1 (dev2_eq c (k0_dev2_lt i c h)) rfl _ _ rfl W) $$ [$HR $Ht1 $Hs1 $Hd1 $HO]
  iintro ⟨Hc1, HO⟩
  iapply (send_link m κ c _ 2 (dev3_eq c (k0_dev3_lt i c h)) rfl _ _ rfl W) $$ [$HR $Ht2 $Hs2 $Hd2 $HO]
  iintro ⟨Hc2, HO⟩
  rw [wp_ret]; imodintro
  iframe

/-- One wait: the payload of the cell, and its counter at zero for good. -/
theorem wait_link (κ : Dev nD × links.End → ℕ) (c : Dev nD) (k : links.End) {src dst : Memref sig .tc .hbm S1536x4096 .bf16} {hs : src.view.WordExact}
    {hd : dst.view.WordExact} (hu : dst.view.dmaCredit = amount) {Q : PUnit → sProp 𝕄} {next : PUnit → Code F PUnit} :
    iprop(records links (pay m) κ ∗ cred (tallyAt (links.cell c k) () amount) ∗ atPos ER (links.cell c k) 0 ∅ 0 ∗ (∃ W, owes c.tc 0 W))
      ⊢ iprop((pay m k c ∗ semVal (links.cell c k) 0 ∗ (∃ W, owes c.tc 0 W)
            -∗ wp frame (wpE (defs₀ (F := F)) 𝒱₀ c none) Set.univ (next ⟨⟩) Q)
          -∗ wp frame (wpE (defs₀ (F := F)) 𝒱₀ c none) Set.univ (.op (.waitDma2 (links.sem k) src dst hs hd) next) Q) := by
  iintro ⟨#HR, Hc, Ha, ⟨%W, HO⟩⟩ Hk
  iapply (Cert.Exchange.wait_on links (pay m) (defs₀ (F := F)) 𝒱₀ κ c k (sm := links.sem k) rfl hu W) $$ [$HR $Hc $Ha $HO]
  iintro ⟨Hp, Hz, HO⟩
  iapply Hk
  isplitl [Hp]; · iexact Hp
  isplitl [Hz]; · iexact Hz
  iexists _; iexact HO

/-- The last point's six waits: the landing places come with what the peers sent, then the sent elements come back. -/
theorem wait_step (κ : Dev nD × links.End → ℕ) (c : Dev nD) (i : grid0.Coords) (h : k0_cond2 i = 1#1) :
    iprop(records links (pay m) κ ∗ (bigSep Finset.univ fun j => seats links c j) ∗ (bigSep Finset.univ fun j => sendCred c j)
        ∗ (bigSep Finset.univ fun j => recvCred c j) ∗ ∃ W, owes c.tc 0 W)
      ⊢ wp frame (wpE (defs₀ (F := F)) 𝒱₀ c none) Set.univ (waitPart (F := F) i)
          (fun _ => iprop((bigSep Finset.univ fun j => lent m c j) ∗ (bigSep Finset.univ fun j => landing c j (filled m c))
            ∗ (bigSep Finset.univ fun j => semVal (links.cell c (false, j)) 0) ∗ (bigSep Finset.univ fun j => semVal (links.cell c (true, j)) 0)
            ∗ ∃ W, owes c.tc 0 W : sProp 𝕄)) := by
  unfold waitPart
  rw [dif_pos h]
  unfold seats
  simp only [wp_deviceId, three, ← pay_send m, ← pay_recv m]
  iintro ⟨#HR, ⟨⟨HaS0, HaR0⟩, ⟨HaS1, HaR1⟩, ⟨HaS2, HaR2⟩⟩, ⟨HcS0, HcS1, HcS2⟩, ⟨HcR0, HcR1, HcR2⟩, HO⟩
  iapply (wait_link m κ c (true, 0) (credit_land 0)) $$ [$HR $HaR0 $HcR0 $HO]
  iintro ⟨HpR0, HzR0, HO⟩
  iapply (wait_link m κ c (true, 1) (credit_land 1)) $$ [$HR $HaR1 $HcR1 $HO]
  iintro ⟨HpR1, HzR1, HO⟩
  iapply (wait_link m κ c (true, 2) (credit_land 2)) $$ [$HR $HaR2 $HcR2 $HO]
  iintro ⟨HpR2, HzR2, HO⟩
  iapply (wait_link m κ c (false, 0) (credit_rows _)) $$ [$HR $HaS0 $HcS0 $HO]
  iintro ⟨HpS0, HzS0, HO⟩
  iapply (wait_link m κ c (false, 1) (credit_rows _)) $$ [$HR $HaS1 $HcS1 $HO]
  iintro ⟨HpS1, HzS1, HO⟩
  iapply (wait_link m κ c (false, 2) (credit_rows _)) $$ [$HR $HaS2 $HcS2 $HO]
  iintro ⟨HpS2, HzS2, HO⟩
  rw [wp_ret]; imodintro
  iframe

end Cert.Up

end
-- ==== Proof.UpBody.lean ====
/-
# The body of `up_dw` at every grid point

The schedule of the call on device `c`, its window contents, and the body's obligation: what a grid point is given and
what it leaves. Before the first point nothing is sent (`Start`); between the first and the last the transfers are on the
way (`Sent`); after the last all have landed (`Done`).
-/
module

public import proofs.«01_k».proof.Proof.UpSteps
public import proofs.«01_k».proof.Proof.Gen.UpKernelIdeal.Frame

@[expose] public section

noncomputable section

namespace Cert.Up

open Cert.UpKernelIdeal Cert.UpKernelIdeal.Gen
open Idealize.ShloMosaic
open Idealize.ShloMosaic.Pipeline
open Idealize.ShloMosaic.TcCoe
open Idealize.SL Idealize.SL.RA Idealize.SL.BI
open BIBase Laws ProofMode Sem
open Idealize.ShloMosaic.Rounds
open Cert.Exchange (Links UU EP ER records ticket seats hand due)

variable {F : FTy → Type} [FloatOps F]

local notation "𝕄" => MT nD τ sig Unit (Elt F) ℕ (UU nD sig τ) ℕ

variable (m : (ℓ : Loc nD τ sig) → Buf (Elt F) ℓ)

/-! ## The states -/

/-- What no transfer touches: the rest of the array sent from, the rest of the landing buffer, and the array that the
    host operation after the call writes. -/
def aside (c : Dev nD) : sProp 𝕄 :=
  iprop(keptBack m c ∗ below c (filled m c) ∗ (c.tc.loc main_v2 ↦{fullShare} m (c.tc.loc main_v2)))

/-- The memory a device brings to the exchange: what it sends, its peers' landing places, and what no transfer touches. -/
def mine (c : Dev nD) : sProp 𝕄 :=
  iprop((bigSep Finset.univ fun j => lent m c j) ∗ (bigSep Finset.univ fun j => iprop(∃ f, landing (peer j c) j f)) ∗ aside m c)

/-- Before the first grid point. -/
def Start (c : Dev nD) : sProp 𝕄 :=
  iprop((∃ κ, records links (pay m) κ) ∗ (bigSep Finset.univ fun j => hand links c j) ∗ mine m c)

/-- Between the first and the last. -/
def Sent (c : Dev nD) : sProp 𝕄 :=
  iprop((∃ κ, records links (pay m) κ) ∗ (bigSep Finset.univ fun j => seats links c j) ∗ (bigSep Finset.univ fun j => sendCred c j)
    ∗ (bigSep Finset.univ fun j => recvCred c j) ∗ aside m c)

/-- After the last. -/
def Done (c : Dev nD) : sProp 𝕄 :=
  iprop((bigSep Finset.univ fun j => lent m c j) ∗ (bigSep Finset.univ fun j => landing c j (filled m c)) ∗ aside m c
    ∗ (bigSep Finset.univ fun j => semVal (links.cell c (false, j)) 0) ∗ (bigSep Finset.univ fun j => semVal (links.cell c (true, j)) 0))

/-! ## The schedule -/

/-- The block a grid point writes, from the blocks it reads. -/
def wrote (c : Dev nD) (t : Fin cfg0.N) : Vec F S1x1024x1024 .bf16 := outBlock (iblk m c 0 t) (iblk m c 1 t)

def dats (_ : Fin 1) (c : Dev nD) : Dat τ (Elt F) Unit ℕ (UU nD sig τ) ℕ cfg0 c where
  A w := V m c (Pipeline.arrRef spec0 w)
  after w t := match w with
    | ⟨0, _⟩ => iblk m c 0 t
    | ⟨1, _⟩ => iblk m c 1 t
    | ⟨2, _⟩ => wrote m c t
  Φ t := if t.val = 0 then Start m c else if t.val = 64 then Done m c else Sent m c
  q _ := fullShare
  owed t := if t.val = 0 then due links c else 0

/-- The two windows that are read hold their blocks at every point, fetched there or before. -/
theorem before_0 (c : Dev nD) (t : Fin cfg0.N) (d) : (dats m 0 c).before 0 t d = iblk m c 0 t :=
  ((dats m 0 c).before_in_eq_fetched 0 rfl (fun _ => rfl) (fun _ _ _ => rfl) (fun _ => rfl) t d).trans rfl
theorem before_1 (c : Dev nD) (t : Fin cfg0.N) (d) : (dats m 0 c).before 1 t d = iblk m c 1 t :=
  ((dats m 0 c).before_in_eq_fetched 1 rfl (fun _ => rfl) (fun _ _ _ => rfl) (fun _ => rfl) t d).trans rfl

/-! ## The obligation -/

/-- What a device owes, the pairs it has waited on left open. -/
theorem owesAt_intro (c : Dev nD) (t : Fin (cfg0.N + 1)) (W : Waits sig Unit) (O : CellTallies nD τ sig Unit) (hO : (dats m 0 c).owed t = O) :
    (owes c.tc O W : sProp 𝕄) ⊢ (dats m 0 c).owesAt () t := by
  unfold Dat.owesAt Pipeline.owesWithin
  rw [hO]
  iintro H
  iexists W
  isplitr
  · ipureintro; exact fun _ _ => Or.inl trivial
  iexact H

theorem send_point (c : Dev nD) (t : Fin cfg0.N) :
    iprop((dats m 0 c).Φ t.castSucc ∗ (dats m 0 c).owesAt () t.castSucc)
      ⊢ wp frame (wpE (defs₀ (F := F)) 𝒱₀ c none) Set.univ (sendPart (F := F) (grid0.coords t))
          (fun _ => iprop(Sent m c ∗ ∃ W, owes c.tc 0 W : sProp 𝕄)) := by
  have hN : t.val < 64 := lt_of_lt_of_eq t.isLt N_0
  unfold Dat.owesAt Pipeline.owesWithin
  by_cases h : t.val = 0
  · have hΦ : (dats m 0 c).Φ t.castSucc = Start m c := if_pos h
    have hO : (dats m 0 c).owed t.castSucc = due links c := if_pos h
    rw [hΦ, hO]
    unfold Start hand mine
    simp only [bigSep_sep']
    iintro ⟨⟨⟨%κ, #HR⟩, ⟨Ht, Hs, Hc⟩, Hl, Hd, Hk⟩, ⟨%W, %hW, HO⟩⟩
    iapply (wp_wand frame (wpE (defs₀ (F := F)) 𝒱₀ c none) Set.univ) $$ [Ht Hl Hd HO]
    · iapply (send_step m κ c (grid0.coords t) ((sends_iff t).mpr h) W)
      iframe HR ∗
    iintro %a ⟨Hcs, HO⟩
    unfold Sent
    isplitr [HO]
    · isplitr; · (iexists κ; iexact HR)
      iframe
    · iexists W; iexact HO
  · have hΦ : (dats m 0 c).Φ t.castSucc = Sent m c := (if_neg h).trans (if_neg (by show ¬ t.val = 64; omega))
    have hO : (dats m 0 c).owed t.castSucc = 0 := if_neg h
    rw [hΦ, hO]
    unfold sendPart
    rw [dif_neg fun h' => h ((sends_iff t).mp h'), wp_ret]
    iintro ⟨H, ⟨%W, %hW, HO⟩⟩
    imodintro
    isplitl [H]; · iexact H
    iexists W; iexact HO

theorem wait_point (c : Dev nD) (t : Fin cfg0.N) :
    iprop(Sent m c ∗ ∃ W, owes c.tc 0 W)
      ⊢ wp frame (wpE (defs₀ (F := F)) 𝒱₀ c none) Set.univ (waitPart (F := F) (grid0.coords t))
          (fun _ => iprop((dats m 0 c).Φ t.succ ∗ (dats m 0 c).owesAt () t.succ : sProp 𝕄)) := by
  have hO : (dats m 0 c).owed t.succ = 0 := by
    show (if t.val + 1 = 0 then due links c else 0) = 0
    exact if_neg (Nat.succ_ne_zero t.val)
  by_cases h : t.val = 63
  · have hΦ : (dats m 0 c).Φ t.succ = Done m c := by
      show (if t.val + 1 = 0 then Start m c else if t.val + 1 = 64 then Done m c else Sent m c) = Done m c
      rw [if_neg (Nat.succ_ne_zero t.val), if_pos (by omega)]
    rw [hΦ]
    unfold Sent
    iintro ⟨⟨⟨%κ, #HR⟩, Hs, Hcs, Hcr, Hk⟩, HO⟩
    iapply (wp_wand frame (wpE (defs₀ (F := F)) 𝒱₀ c none) Set.univ) $$ [Hs Hcs Hcr HO]
    · iapply (wait_step m κ c (grid0.coords t) ((waits_iff t).mpr h))
      iframe HR ∗
    iintro %a ⟨Hl, Hd, HzS, HzR, ⟨%W', HO⟩⟩
    unfold Done
    isplitr [HO]
    · iframe
    · iapply (owesAt_intro m c t.succ W' 0 hO); iexact HO
  · have hΦ : (dats m 0 c).Φ t.succ = Sent m c := by
      show (if t.val + 1 = 0 then Start m c else if t.val + 1 = 64 then Done m c else Sent m c) = Sent m c
      rw [if_neg (Nat.succ_ne_zero t.val), if_neg (by omega)]
    rw [hΦ]
    unfold waitPart
    rw [dif_neg fun h' => h ((waits_iff t).mp h'), wp_ret]
    iintro ⟨H, ⟨%W, HO⟩⟩
    imodintro
    isplitl [H]; · iexact H
    iapply (owesAt_intro m c t.succ W 0 hO); iexact HO

theorem body_obligation (c : Dev nD) : BodyObligation (dats (F := F) m 0 c) (defs₀ (F := F)) 𝒱₀ () Set.univ := fun t => by
  rw [bigSep_W0, bigSep_W0]
  show _ ⊢ wp frame (wpE (defs₀ (F := F)) 𝒱₀ c none) Set.univ (bodyAt0 (F := F) t) _
  rw [body_eq, wp_bind]
  iintro ⟨HΦ, HO, ⟨%d0, H0⟩, ⟨%d1, H1⟩, ⟨%d2, H2⟩⟩
  iapply (wp_wand frame (wpE (defs₀ (F := F)) 𝒱₀ c none) Set.univ) $$ [HΦ HO]
  · iapply (send_point m c t)
    isplitl [HΦ] <;> iassumption
  iintro %a ⟨HS, HO⟩
  rw [wp_bind]
  iapply (wp_wand frame (wpE (defs₀ (F := F)) 𝒱₀ c none) Set.univ) $$ [H0 H1 H2]
  · iapply (work_step c (st0_0 t) (st0_1 t) (st0_2 t) _ (iblk m c 0 t) (iblk m c 1 t) _)
    isplitl [H0]; · (iapply (Entails.of_eq (congrArg _ (before_0 m c t d0))); iexact H0)
    isplitl [H1]; · (iapply (Entails.of_eq (congrArg _ (before_1 m c t d1))); iexact H1)
    iexact H2
  iintro %a' ⟨H0, H1, H2⟩
  iapply (wp_wand frame (wpE (defs₀ (F := F)) 𝒱₀ c none) Set.univ) $$ [HS HO]
  · iapply (wait_point m c t)
    isplitl [HS] <;> iassumption
  iintro %a'' ⟨HΦ, HO⟩
  isplitl [HΦ]; · iexact HΦ
  isplitl [HO]; · iexact HO
  isplitl [H0]; · iexact H0
  isplitl [H1]; · iexact H1
  iexact H2

end Cert.Up

end
-- ==== Proof.UpRun.lean ====
/-
# The run of `up_dw`

On the eight devices, for any float values and from any memory with zero counters: every weakly fair execution ends, with
each device's product array at what its grid points wrote, its second result at what its peers sent, its arguments
unchanged and every counter at zero.
-/
module

public import proofs.«01_k».proof.Proof.UpBody
public import proofs.«01_k».proof.Proof.Exchange

@[expose] public section

noncomputable section

namespace Cert.Up

open Cert.UpKernelIdeal Cert.UpKernelIdeal.Gen
open Idealize.ShloMosaic
open Idealize.ShloMosaic.Pipeline
open Idealize.ShloMosaic.TcCoe
open Idealize.SL Idealize.SL.RA Idealize.SL.BI
open BIBase Laws ProofMode Sem
open Idealize.ShloMosaic.Rounds
open Cert.Exchange (Links UU EP ER records ticket seats hand due begins allCells allToks ghosts shared)

variable {F : FTy → Type} [FloatOps F]

local notation "𝕄" => MT nD τ sig Unit (Elt F) ℕ (UU nD sig τ) ℕ

variable (m : (ℓ : Loc nD τ sig) → Buf (Elt F) ℓ) (ρ : Dev nD → PrngReg)

/-! ## What the launch theorem asks for -/

theorem ownSemFacts : Pipeline.OwnSemFacts cfg0.spec links.osem := by decide

theorem share_eq (c : Dev nD) (w : Fin cfg0.W) : (dats m 0 c).share w = fullShare := by unfold Dat.share; split <;> rfl

theorem waits (c : Dev nD) : (levAts Cert.Exchange.L (Cert.Exchange.lv links) : sProp 𝕄) ⊢ Pipeline.cellsWaits cfgs (dats m) () 0 c :=
  Pipeline.cellsWaits_intro cfgs (dats m) () 0 c fun w s t =>
    Cert.Exchange.mayWait_stage links c _ (by fin_cases w <;> fin_cases s <;> decide) _ (ite_eq_or_eq (t.val = 0) _ _)

/-- The memory no window stages, as a device brings it. -/
def rest (c : Dev nD) : sProp 𝕄 := Pipeline.unscopedRest spec0 c (V m c)

/-- The landing places dealt across the links. -/
theorem deal : (bigSep Finset.univ (rest m) : sProp 𝕄) ⊢ bigSep Finset.univ (mine m) := by
  have h (c : Dev nD) : rest m c ⊢ iprop(((bigSep Finset.univ fun j => lent m c j) ∗ aside m c)
      ∗ bigSep Finset.univ fun j => iprop(∃ f, landing c j f : sProp 𝕄)) := by
    have hj (j : Fin 3) : (landing c j (m (c.tc.loc main_v1_1)) : sProp 𝕄) ⊢ iprop(∃ f, landing c j f) := by
      iintro H; iexists (m (c.tc.loc main_v1_1)); iexact H
    have hl : (bigSep Finset.univ fun j => landing c j (m (c.tc.loc main_v1_1)) : sProp 𝕄)
        ⊢ bigSep Finset.univ fun j => iprop(∃ f, landing c j f) := bigSep_mono fun j _ => hj j
    have hr : rest m c = iprop((c.tc.loc main_arg2 ↦{fullShare} m (c.tc.loc main_arg2))
        ∗ (c.tc.loc main_v1_1 ↦{fullShare} m (c.tc.loc main_v1_1))
        ∗ (c.tc.loc main_v2 ↦{fullShare} m (c.tc.loc main_v2))) := unscopedRest0_eq c (V m c)
    unfold aside
    rw [hr, ← below_eq m c]
    iintro ⟨H2, H1, H3⟩
    ihave H2 := (arg2_split m c).1 $$ H2
    ihave H1 := (landing_split c (m (c.tc.loc main_v1_1))).1 $$ H1
    icases H2 with ⟨Hs, Hk⟩
    icases H1 with ⟨Hl, Hb⟩
    isplitr [Hl]
    · iframe
    iapply hl; iexact Hl
  refine Cert.Exchange.deal_across links (fun c j => iprop(∃ f, landing c j f)) h fun c => ?_
  show iprop(_ ∗ bigSep Finset.univ fun j => (iprop(∃ f, landing (peer j c) j f) : sProp 𝕄)) ⊢ mine m c
  unfold mine
  iintro ⟨⟨H1, H2⟩, H3⟩
  iframe

/-- What a device holds when the call begins. -/
abbrev X (c : Dev nD) : sProp 𝕄 := begins links (pay m) (mine m) c

/-- What it holds of the arrays no window stages when the call has ended. -/
def Y (c : Dev nD) : sProp 𝕄 :=
  iprop((c.tc.loc main_arg2 ↦{fullShare} m (c.tc.loc main_arg2))
    ∗ (c.tc.loc main_v1_1 ↦{fullShare} (filled m c : Buf (Elt F) (c.tc.loc main_v1_1)))
    ∗ (c.tc.loc main_v2 ↦{fullShare} m (c.tc.loc main_v2)))

/-- The rows of the landing buffer that the transfers write, which are the second result. -/
def carved (c : Dev nD) : Vec F S3x1536x4096 .bf16 :=
  extractStridedSlice S3x1536x4096 ![0, 0, 0] (filled m c) slices_S3x2048x4096_S3x1536x4096_0_0_0

/-- What it holds of them at the end of the program. -/
def Z (c : Dev nD) : sProp 𝕄 :=
  iprop((c.tc.loc main_arg2 ↦{fullShare} m (c.tc.loc main_arg2))
    ∗ (c.tc.loc main_v2 ↦{fullShare} (carved m c : Buf (Elt F) (c.tc.loc main_v2))))

theorem phi_start (c : Dev nD) : iprop(X m c ∗ Pipeline.scopedRest spec0 c) ⊢ (dats m 0 c).Φ 0 := by
  show iprop(X m c ∗ Pipeline.scopedRest spec0 c) ⊢ Start m c
  unfold Start X begins
  iintro ⟨H, -⟩
  iexact H

theorem phi_end (c : Dev nD) :
    (dats m 0 c).Φ (Fin.last cfg0.N) ⊢ iprop(Y m c ∗ Pipeline.ownSems0 links.osem c ∗ Pipeline.scopedRest spec0 c) := by
  have hΦ : (dats m 0 c).Φ (Fin.last cfg0.N) = Done m c := by
    show (if cfg0.N = 0 then Start m c else if cfg0.N = 64 then Done m c else Sent m c) = Done m c
    rw [show cfg0.N = 64 from N_0, if_neg (by decide), if_pos rfl]
  rw [hΦ, scopedRest0_eq]
  have hs : (Pipeline.ownSems0 links.osem c : sProp 𝕄)
      = iprop((bigSep Finset.univ fun j => semVal (links.cell c (false, j)) 0) ∗ (bigSep Finset.univ fun j => semVal (links.cell c (true, j)) 0)) := by
    unfold Pipeline.ownSems0
    exact Cert.Exchange.ends links fun k => semVal (links.cell c k) 0
  rw [hs]
  unfold Done aside Y
  iintro ⟨Hl, Hd, ⟨Hk, Hb, H3⟩, HzS, HzR⟩
  isplitl [Hl Hk Hd Hb H3]
  · isplitl [Hl Hk]
    · iapply (arg2_split m c).2
      iframe
    isplitr [H3]
    · iapply (landing_split c (filled m c)).2
      iframe
    iexact H3
  isplitl [HzS HzR]
  · iframe
  iempintro

/-- The final memory of two arrays no window stages. -/
def QY (c : Dev nD) (s : MemSt nD τ sig (Elt F)) : Prop :=
  s.mem (c.tc.loc main_arg2) = m (c.tc.loc main_arg2)
    ∧ s.mem (c.tc.loc main_v2) = carved m c

theorem read_end (c : Dev nD) (s' : Phys nD τ sig (Elt F)) :
    iprop(Z m c ∗ SI s') ⊢ |={Set.univ}=> iprop(⌜QY m c s'.mem⌝ ∗ SI s' : sProp 𝕄) := by
  unfold Z
  iintro ⟨⟨H3, H5⟩, HSI⟩
  ihave %h3 := Cert.Exchange.read_whole $$ [$HSI $H3]
  ihave %h5 := Cert.Exchange.read_whole $$ [$HSI $H5]
  imodintro
  isplitr
  · ipureintro
    exact ⟨h3, h5⟩
  iexact HSI

/-! ## The host operation after the call -/

/-- The program after the call. -/
abbrev carve : Prog (TpuEff nD τ sig (Elt F) (Pipeline.Sig Λ₀ (Fin 1) fun p => (pcfgs (F := F) p).Adm) .tc) PUnit :=
  StableHlo.seq hostOps1 >>= fun _ => .ret ⟨⟩

/-- The two buffers it touches, and what they hold before it. -/
abbrev landRef : DevRef τ sig := Proc.devRef .tc main_v1_1
abbrev outRef : DevRef τ sig := Proc.devRef .tc main_v2
def before (c : Dev nD) : Valuation τ sig (Elt F) := Function.update (V0 m c) landRef (filled m c)

theorem refs_ne : outRef ≠ landRef := StableHlo.devRef_ne_of_ne (by decide)

theorem held_two (c : Dev nD) (W : Valuation τ sig (Elt F)) :
    (StableHlo.held c.tc {outRef, landRef} W : sProp 𝕄)
      = iprop((c.tc.loc main_v2 ↦{fullShare} W outRef) ∗ (c.tc.loc main_v1_1 ↦{fullShare} W landRef)) := by
  unfold StableHlo.held
  rw [bigSep_insert (by rw [Finset.mem_singleton]; exact refs_ne), bigSep_singleton]
  exact congrArg₂ BI.sep (Eq.refl _) (Eq.refl _)

theorem carve_run (c : Dev nD) :
    iprop(boundary c.tc ∗ Y m c)
      ⊢ wp frame (wpE (defs (F := F)) (Variants.lift 𝒱₀) c.tc none) Set.univ carve
          (fun _ : PUnit => iprop(scopedSems0 c.tc ∗ Z m c : sProp 𝕄)) := by
  have hb1 : before m c landRef = filled m c := Function.update_self ..
  have hb2 : before m c outRef = m (c.tc.loc main_v2) := Function.update_of_ne refs_ne ..
  have ha : StableHlo.after hostOps1 (before m c) outRef = carved m c := by
    rw [StableHlo.after_cons, StableHlo.after_nil]
    refine (StableHlo.unary_result _ _ _ _ _ _).trans ?_
    unfold carved
    rw [← hb1]
  unfold Y
  iintro ⟨Hb, H2, H1, H3⟩
  iapply (StableHlo.wp_seq (defs := defs (F := F)) (𝒱 := Variants.lift 𝒱₀) (bd := none) (E := Set.univ) c {outRef, landRef} (fun _ => .ret ⟨⟩) hostOps1
    (fun op ho => by rw [List.mem_singleton.mp ho, StableHlo.unary_bufs, Finset.pair_comm]) (List.forall_iff_forall_mem.mp hostOps1_fresh) (before m c)) $$ [Hb H1 H3]
  · isplitl [Hb]; · iexact Hb
    rw [held_two, hb1, hb2]
    iframe
  iintro ⟨Hb, HS⟩
  ihave HS := (Entails.of_eq (held_two c (StableHlo.after hostOps1 (before m c)))) $$ HS
  icases HS with ⟨H3, -⟩
  rw [ha, wp_ret]
  unfold boundary Z
  icases Hb with ⟨-, Hs, -⟩
  imodintro
  iframe

/-- What a final state is: every staged array at the schedule's contents, and the two others as said. -/
def QC (r : PUnit × MemSt nD τ sig (Elt F)) : Prop :=
  ∀ c : Dev nD, (∀ w : Fin cfg0.W, r.2.mem ((cfg0.win w).arr.view.loc c.tc) = (dats m 0 c).arrAt w cfg0.N) ∧ QY m c r.2

set_option maxRecDepth 8000 in
theorem run_main : θ_run defs (onTc (τ := τ) (main (F := F))) ⟨m, fun _ => 0, ρ⟩ (fun r => QC m r ∧ r.2.sem = fun _ => 0) :=
  Cert.Exchange.θ_run_exchange (fun p => (cfgs p).toPCfg) (fun p => (cfgs p).toPCfg_adm) (dats m) () cellOf_inj (0 : Fin 1)
    winFacts0 ownSemFacts rfl EP defs₀ 𝒱₀ m ρ (due links) Cert.Exchange.L (Cert.Exchange.lv links) main (fun _ => carve)
    (hmain := fun _ => rfl) (hbody := body_obligation m) (hne := block_pos0) (harr := arr_whole0) (hstage := stage_whole0) (hshare := share_eq m)
    (howed₀ := fun _ => rfl) (howedN := fun _ => rfl) (hL := Cert.Exchange.L_of_ne) (hwaits := waits m)
    (G := ghosts links (pay m))
    (hu₀ := Cert.Exchange.fund_both links (pay m) _)
    (hA := fun _ _ => rfl) (X := X m) (Y := Y m) (Z := Z m) (htail := carve_run m)
    (hstart := Cert.Exchange.launch_all links (pay m) (rest m) (mine m) (deal m))
    (hin := phi_start m) (hout := phi_end m) (QY := QY m) (hY := read_end m)
    (hQ := fun s h hs => ⟨fun c => h c, sem_eq_zero_of_scoped (by decide) hs⟩)

end Cert.Up

end
-- ==== Proof.UpWhole.lean ====
/-
# The product of `up_dw` as a whole

The blocks of the grid points tile the array that a device writes, so at the end its entry `(s, p, q)` is the inner
product of column `p` of the device's left factor and column `4096 s + q` of its right factor.
-/
module

public import proofs.«01_k».proof.Proof.UpValue
public import proofs.«01_k».proof.Proof.UpRun
public import Idealize.ShloMosaic.Lib.Pipeline.ValueKit

@[expose] public section

set_option maxRecDepth 16384

noncomputable section

namespace Cert.Up

open Cert.UpKernelIdeal Cert.UpKernelIdeal.Gen
open Idealize.ShloMosaic Idealize.ShloMosaic.TcCoe

variable (m : (ℓ : Loc nD τ sig) → Buf (Elt Ideal) ℓ)

/-- The column of the right factor that an entry of the product is made of. -/
def column₂ (s : Fin 4) (q : Fin 4096) : Fin 16384 := ⟨s.val * 4096 + q.val, by omega⟩

/-- What a device's product array holds at the end. -/
def product (c : Dev nD) : Vec Ideal S4x4096x4096 .bf16 := fun i =>
  crossed (n := 4096) (k := 4096) (w := 16384) (m (c.tc.loc main_arg0)) (m (c.tc.loc main_arg1)) (i 1) (column₂ (i 0) (i 2))

theorem index_all : ∀ t, win0_0.index t = ![0, (grid0.coords t 0).val] ∧ win0_1.index t = ![0, (grid0.coords t 1).val]
    ∧ win0_2.index t = ![(grid0.coords t 1).val / 4, (grid0.coords t 0).val, (grid0.coords t 1).val % 4] := by decide +kernel

theorem product_eq (c : Dev nD) : (dats m 0 c).arrAt 2 cfg0.N = product m c := by
  refine (dats m 0 c).arrAt_eq_of_covers 2 _ (by decide +kernel) fun t hf y => ?_
  show wrote m c t _ = _
  obtain ⟨z, p, q, rfl⟩ : ∃ (z : Fin 1) (p : Fin 1024) (q : Fin 1024), y = ix3 z p q := ⟨y 0, y 1, y 2, eq_ix3 y⟩
  obtain rfl : z = 0 := Subsingleton.elim _ _
  unfold wrote
  refine (outBlock_apply _ _ p q).trans ?_
  unfold product crossed column₂
  refine Finset.sum_congr rfl fun j _ => congrArg₂ _ ?_ ?_
  · blk_ext [iblk, V, index_all]
  · blk_ext [iblk, V, index_all]

end Cert.Up

end
-- ==== Proof.UpLanding.lean ====
/-
# What the exchange of `up_dw` brings, at an index

Layer `j`, row `r`, column `q` of what device `c` has kept of the exchange is layer `c / 2`, row `r`, column `q` of the
device on its link `j`.
-/
module

public import proofs.«01_k».proof.Proof.UpRun
public import Idealize.ShloMosaic.Lib.PointwiseCore

@[expose] public section

noncomputable section

namespace Cert.Up

open Cert.UpKernelIdeal Cert.UpKernelIdeal.Gen
open Idealize.ShloMosaic Idealize.ShloMosaic.TcCoe

variable {F : FTy → Type} [FloatOps F]
variable (m : (ℓ : Loc nD τ sig) → Buf (Elt F) ℓ)

theorem carved_apply (c : Dev nD) (j : Fin 3) (r : Fin 1536) (q : Fin 4096) :
    carved m c (ix3 j r q) = m ((peer j c : Thread nD τ).loc main_arg2)
      (ix3 (⟨c.val / 2, by have : c.val < 8 := c.isLt; omega⟩ : Fin 4) (⟨r.val, by omega⟩ : Fin 2048) q) := by
  have e : carved m c (ix3 j r q) = filled m c (ix3 j (⟨r.val, by omega⟩ : Fin 2048) q) := by
    pointwise [carved]
  refine e.trans ((if_pos (show r.val < 1536 from r.isLt)).trans ?_)
  refine congrArg (m ((peer j c : Thread nD τ).loc main_arg2)) ?_
  funext k
  fin_cases k <;> rfl

/-- The device on a link, by number. -/
theorem peer_val (j : Fin 3) (c : Dev nD) :
    (peer j c).val = 4 * ((c.val / 4 + across₁ j) % 2) + 2 * ((c.val / 2 % 2 + across₂ j) % 2) + c.val % 2 := rfl

end Cert.Up

end
-- ==== Proof.UpReference.lean ====
/-
# The reference of `up_dw` over the reals

The reference's first result has the same entries as the products of the devices. Its second one has three layers a
device; layer `j` of those of device `d` is the first 1536 rows of the layer that belongs to the chip of `d`, of the four
layers of the device that `d` has on its link `j`.
-/
module

public import proofs.«01_k».proof.Proof.UpValue
public import proofs.«01_k».proof.Proof.UpLinks
public import proofs.«01_k».proof.Proof.Gen.UpReferenceIdeal.Run

@[expose] public section

set_option maxRecDepth 16384

noncomputable section

namespace Cert.Up

open Idealize.ShloMosaic Idealize.ShloMosaic.TcCoe Idealize.SL.Sem

section
open Cert.UpReferenceIdeal Cert.UpReferenceIdeal.Gen

/-- The reference's first result, as its operations compute it. -/
abbrev refProduct {F : FTy → Type} [FloatOps F] (a : Vec F S32768x4096 .bf16) (b : Vec F S32768x16384 .bf16) : Vec F S32x4096x4096 .bf16 :=
  shapeCast _ (truncf .bf16 (transpose S8x4x4096x4096 [0, 1, 3, 2]
    (Host.dotGeneral dot_S8x4096x4x4096_S8x4096x4096_S8x4x4096x4096_1_1_23_2_0_0 none
      (shapeCast _ (extf .f32 b bitsLt_bf16_f32) shapeCasts_S32768x16384_S8x4096x4x4096)
      (shapeCast _ (extf .f32 a bitsLt_bf16_f32) shapeCasts_S32768x4096_S8x4096x4096))
    transposes_S8x4x4096x4096_S8x4x4096x4096_0_1_3_2) bitsLt_bf16_f32) shapeCasts_S8x4x4096x4096_S32x4096x4096

theorem refProduct_apply (a : Vec Ideal S32768x4096 .bf16) (b : Vec Ideal S32768x16384 .bf16) (l : Fin 32) (p q : Fin 4096) :
    refProduct a b (ix3 l p q) = ∑ t : Fin 4096,
      (a (ix2 (⟨l.val / 4 * 4096 + t.val, by omega⟩ : Fin 32768) p) : EReal)
        * b (ix2 (⟨l.val / 4 * 4096 + t.val, by omega⟩ : Fin 32768) (⟨l.val % 4 * 4096 + q.val, by omega⟩ : Fin 16384)) := by
  pointwise [refProduct]
  refine Finset.sum_congr rfl fun t _ => ?_
  rw [mul_comm]

variable {F : FTy → Type} [FloatOps F]

/-- Of chip `k`, both cores, what belongs to chip `chip`. -/
abbrev piece (d : Vec F S32x2048x4096 .bf16) (k chip : ℕ) (h : S4x2x4x1536x4096.Slices ![k, 0, chip, 0, 0] S1x2x1x1536x4096) :
    Vec F S2x1x1536x4096 .bf16 :=
  broadcastInDim S2x1x1536x4096 ![0, 2, 3] bcast_S2x1536x4096_S2x1x1536x4096_0_2_3
    (shapeCast _ (extractStridedSlice S1x2x1x1536x4096 ![k, 0, chip, 0, 0]
      (extractStridedSlice S4x2x4x1536x4096 ![0, 0, 0, 0, 0] (shapeCast _ d shapeCasts_S32x2048x4096_S4x2x4x2048x4096)
        slices_S4x2x4x2048x4096_S4x2x4x1536x4096_0_0_0_0_0) h) shapeCasts_S1x2x1x1536x4096_S2x1536x4096)

/-- What the two cores of one chip get. -/
abbrev stacked (x y z : Vec F S2x1x1536x4096 .bf16) : Vec F S1x2x3x1536x4096 .bf16 :=
  broadcastInDim S1x2x3x1536x4096 ![1, 2, 3, 4] bcast_S2x3x1536x4096_S1x2x3x1536x4096_1_2_3_4
    (concatenate S2x3x1536x4096 1 [⟨S2x1x1536x4096, x⟩, ⟨S2x1x1536x4096, y⟩, ⟨S2x1x1536x4096, z⟩]
      concatenates_S2x1x1536x4096_S2x1x1536x4096_S2x1x1536x4096_S2x3x1536x4096_d1)

/-- The reference's second result. -/
abbrev refCarved (d : Vec F S32x2048x4096 .bf16) : Vec F S24x1536x4096 .bf16 :=
  shapeCast _ (concatenate S4x2x3x1536x4096 0
    [⟨S1x2x3x1536x4096, stacked (piece d 2 0 slices_S4x2x4x1536x4096_S1x2x1x1536x4096_2_0_0_0_0)
        (piece d 1 0 slices_S4x2x4x1536x4096_S1x2x1x1536x4096_1_0_0_0_0) (piece d 3 0 slices_S4x2x4x1536x4096_S1x2x1x1536x4096_3_0_0_0_0)⟩,
     ⟨S1x2x3x1536x4096, stacked (piece d 3 1 slices_S4x2x4x1536x4096_S1x2x1x1536x4096_3_0_1_0_0)
        (piece d 0 1 slices_S4x2x4x1536x4096_S1x2x1x1536x4096_0_0_1_0_0) (piece d 2 1 slices_S4x2x4x1536x4096_S1x2x1x1536x4096_2_0_1_0_0)⟩,
     ⟨S1x2x3x1536x4096, stacked (piece d 0 2 slices_S4x2x4x1536x4096_S1x2x1x1536x4096_0_0_2_0_0)
        (piece d 3 2 slices_S4x2x4x1536x4096_S1x2x1x1536x4096_3_0_2_0_0) (piece d 1 2 slices_S4x2x4x1536x4096_S1x2x1x1536x4096_1_0_2_0_0)⟩,
     ⟨S1x2x3x1536x4096, stacked (piece d 1 3 slices_S4x2x4x1536x4096_S1x2x1x1536x4096_1_0_3_0_0)
        (piece d 2 3 slices_S4x2x4x1536x4096_S1x2x1x1536x4096_2_0_3_0_0) (piece d 0 3 slices_S4x2x4x1536x4096_S1x2x1x1536x4096_0_0_3_0_0)⟩]
    concatenates_S1x2x3x1536x4096_S1x2x3x1536x4096_S1x2x3x1536x4096_S1x2x3x1536x4096_S4x2x3x1536x4096_d0) shapeCasts_S4x2x3x1536x4096_S24x1536x4096

/-- The layer that layer `l` of the second result is taken from: which link and which device `l` is of says. -/
def source (l : Fin 24) : Fin 32 :=
  ⟨4 * (peer ⟨l.val % 3, Nat.mod_lt _ (by decide)⟩ ⟨l.val / 3, by show l.val / 3 < 8; omega⟩).val + l.val / 6, by revert l; decide⟩

theorem refCarved_apply (d : Vec F S32x2048x4096 .bf16) (l : Fin 24) (r : Fin 1536) (q : Fin 4096) :
    refCarved d (ix3 l r q) = d (ix3 (source l) (⟨r.val, by omega⟩ : Fin 2048) q) := by
  pointwise [refCarved]
  fin_cases l <;> rfl

/-- The reference's run. -/
theorem reference_run (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem (c.tc.loc main_v54) = refProduct (m (c.tc.loc main_arg0)) (m (c.tc.loc main_arg1))
      ∧ r.2.mem (c.tc.loc main_v55) = refCarved (m (c.tc.loc main_arg2))
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)) ∧ r.2.sem = fun _ => 0) :=
  (θ_run defs _ _).mono (fun r h => ⟨h, sem_eq_zero_of_no_sems (by decide) r.2⟩) (Cert.UpReferenceIdeal.Value.run m ρ)

end

end Cert.Up

end
-- ==== Proof.UpAgree.lean ====
/-
# Device by device, the two programs of `up_dw` agree

What a device ends with is its block of what the reference ends with, if its arguments are its blocks of the reference's.
-/
module

public import proofs.«01_k».proof.Proof.UpWhole
public import proofs.«01_k».proof.Proof.UpLanding
public import proofs.«01_k».proof.Proof.UpReference
public import proofs.«01_k».proof.Proof.Agree
public import Idealize.ShloMosaic.Lib.Layout

@[expose] public section

set_option maxRecDepth 16384

noncomputable section

namespace Cert.Up

open Cert.UpKernelIdeal
open Idealize.ShloMosaic Idealize.ShloMosaic.TcCoe
open Cert.Pair (block_rows block_layers)

section Product
variable (m : (ℓ : Loc nD τ sig) → Buf (Elt Ideal) ℓ)
  (A : Vec Ideal Cert.UpReferenceIdeal.S32768x4096 .bf16) (B : Vec Ideal Cert.UpReferenceIdeal.S32768x16384 .bf16)

theorem product_agrees (c : Dev nD)
    (h0 : m (c.tc.loc main_arg0) = Layout.block ⟨2, ![4096, 4096]⟩ ⟨2, ![32768, 4096]⟩ 0 8 c A)
    (h1 : m (c.tc.loc main_arg1) = Layout.block ⟨2, ![4096, 16384]⟩ ⟨2, ![32768, 16384]⟩ 0 8 c B) :
    product m c = Layout.block ⟨3, ![4, 4096, 4096]⟩ ⟨3, ![32, 4096, 4096]⟩ 0 8 c (refProduct A B) := by
  have hc : c.val < 8 := c.isLt
  funext y
  obtain ⟨s, p, q, rfl⟩ : ∃ (s : Fin 4) (p q : Fin 4096), y = ix3 s p q := ⟨y 0, y 1, y 2, eq_ix3 y⟩
  have hl : c.val * 4 + s.val < 32 := by omega
  refine Eq.trans ?_ (block_layers c (refProduct A B) (by decide) s p q hl).symm
  rw [refProduct_apply]
  show crossed (n := 4096) (k := 4096) (w := 16384) (m (c.tc.loc main_arg0)) (m (c.tc.loc main_arg1))
    p (column₂ s q) = _
  unfold crossed
  refine Finset.sum_congr rfl fun t _ => ?_
  have ht : c.val * 4096 + t.val < 32768 := by omega
  have hrow : (⟨c.val * 4096 + t.val, ht⟩ : Fin 32768) = ⟨(c.val * 4 + s.val) / 4 * 4096 + t.val, by omega⟩ :=
    Fin.ext (by show c.val * 4096 + t.val = (c.val * 4 + s.val) / 4 * 4096 + t.val; omega)
  have hcol : column₂ s q = ⟨(c.val * 4 + s.val) % 4 * 4096 + q.val, by omega⟩ :=
    Fin.ext (by show s.val * 4096 + q.val = (c.val * 4 + s.val) % 4 * 4096 + q.val; omega)
  refine congrArg₂ _ ?_ ?_
  · refine (congrFun h0 (ix2 t p)).trans ((block_rows c A (by decide) t p ht).trans ?_)
    rw [hrow]
  · refine (congrFun h1 (ix2 t (column₂ s q))).trans ((block_rows c B (by decide) t _ ht).trans ?_)
    rw [hrow, hcol]

end Product

variable {F : FTy → Type} [FloatOps F]
variable (m : (ℓ : Loc nD τ sig) → Buf (Elt F) ℓ) (D : Vec F Cert.UpReferenceIdeal.S32x2048x4096 .bf16)

/-- The layer a device is sent on a link, among those of all devices. -/
theorem source_eq (c : Fin 8) (j : Fin 3) (h : c.val * 3 + j.val < 24) :
    (source ⟨c.val * 3 + j.val, h⟩).val = (peer j c).val * 4 + c.val / 2 := by revert c j; decide

theorem carved_agrees (c : Dev nD)
    (h : ∀ j, m ((peer j c : Thread nD τ).loc main_arg2) = Layout.block ⟨3, ![4, 2048, 4096]⟩ ⟨3, ![32, 2048, 4096]⟩ 0 8 (peer j c) D) :
    carved m c = Layout.block ⟨3, ![3, 1536, 4096]⟩ ⟨3, ![24, 1536, 4096]⟩ 0 8 c (refCarved D) := by
  have hc : c.val < 8 := c.isLt
  funext y
  obtain ⟨j, r, q, rfl⟩ : ∃ (j : Fin 3) (r : Fin 1536) (q : Fin 4096), y = ix3 j r q := ⟨y 0, y 1, y 2, eq_ix3 y⟩
  have hl : c.val * 3 + j.val < 24 := by omega
  refine Eq.trans ?_ (block_layers c (refCarved D) (by decide) j r q hl).symm
  have hp : (peer j c).val < 8 := (peer j c).isLt
  have hpl : (peer j c).val * 4 + c.val / 2 < 32 := by omega
  rw [carved_apply, refCarved_apply]
  refine (congrFun (h j) _).trans ((block_layers (peer j c) D (by decide) ⟨c.val / 2, by omega⟩ _ q hpl).trans ?_)
  exact congrArg D (congrArg (ix3 · _ q) (Fin.ext (source_eq c j hl).symm))

end Cert.Up

end
-- ==== Proof.DxLinks.lean ====
/-
# The exchanges of `up_dx`: who sends what to whom

The eight devices are the cores of a 2 × 2 torus of chips with two cores each; device `c` is core `c % 2` of chip
`c / 2`. Beside its products, `up_dx` exchanges parts of two buffers. There are four links. On link 0 a device talks to
the other core of its chip; on links 1, 2 and 3 to the same core of the chip across the first torus axis, across the
second, and across both. Device `c`

* sends on link 0, of every layer of its `main_arg2`, the half that belongs to the other core, into `main_v1_1` there;
* sends on link `1 + j` the last 512 rows of the layer of its `main_arg3` that belongs to the chip it sends to, into the
  last 512 rows of layer `j` of `main_v1_2` there;
* credits its own send semaphore of the link and the receive semaphore of the link there.

In its last grid point it waits for all eight. These are four links in the sense of the links module. The payloads name
the contents, so one run over any float values gives both frames and the value.
-/
module

public import proofs.«01_k».proof.Proof.Links
public import proofs.«01_k».proof.Proof.Gen.DxKernelIdeal
public import proofs.«01_k».proof.Proof.Gen.DxKernelIdeal.Launch

@[expose] public section

noncomputable section

namespace Cert.Dx

open Cert.DxKernelIdeal Cert.DxKernelIdeal.Gen

open Idealize.ShloMosaic
open TcCoe Rounds
open Idealize.SL Idealize.SL.RA Idealize.SL.BI
open BIBase Laws ProofMode Sem
open Cert.Exchange (Links UU EP ER)

variable {F : FTy → Type} [FloatOps F]

local notation "𝕄" => MT nD τ sig Unit (Elt F) ℕ (UU nD sig τ) ℕ

/-! ## The links -/

/-- Whether a link crosses the first torus axis, whether it crosses the second, and whether it joins the two cores. -/
def across₁ (j : Fin 4) : ℕ := if j = 1 ∨ j = 3 then 1 else 0
def across₂ (j : Fin 4) : ℕ := if j = 2 ∨ j = 3 then 1 else 0
def acrossCores (j : Fin 4) : ℕ := if j = 0 then 1 else 0

/-- The device at the other end of a link. -/
def peer (j : Fin 4) (c : Dev nD) : Dev nD :=
  ⟨4 * ((c.val / 4 + across₁ j) % 2) + 2 * ((c.val / 2 % 2 + across₂ j) % 2) + (c.val % 2 + acrossCores j) % 2, by revert j c; decide⟩

theorem peer_peer (j : Fin 4) (c : Dev nD) : peer j (peer j c) = c := by revert j c; decide

/-- The devices the kernel computes for its transfers are these. -/
theorem dev1_eq (c : Dev nD) (h : k0_dev1 c < nD) : (⟨k0_dev1 c, h⟩ : Dev nD) = peer 0 c := by
  revert c; decide +kernel
theorem dev2_eq (c : Dev nD) (h : k0_dev2 c < nD) : (⟨k0_dev2 c, h⟩ : Dev nD) = peer 1 c := by
  revert c; decide +kernel
theorem dev3_eq (c : Dev nD) (h : k0_dev3 c < nD) : (⟨k0_dev3 c, h⟩ : Dev nD) = peer 2 c := by
  revert c; decide +kernel
theorem dev4_eq (c : Dev nD) (h : k0_dev4 c < nD) : (⟨k0_dev4 c, h⟩ : Dev nD) = peer 3 c := by
  revert c; decide +kernel

/-- A transfer may go from each device to its peers. -/
theorem routes (j : Fin 4) (c : Dev nD) : τ.routes c.tc (peer j c : Thread nD τ) = true := by revert j c; decide

theorem sem_inb (j : Fin 4) : ∀ a, (![j.val] : Fin 1 → ℕ) a + S1.size a ≤ S4.size a := by revert j; decide

abbrev sendSem (j : Fin 4) : DmaSem sig := ((cc0_scratch1.slice (Rect.unit (s := S4) ![j.val] S1.size (sem_inb j))).squeeze S_ squeezes_S1_S_ : DmaSems sig S_).sem
abbrev recvSem (j : Fin 4) : DmaSem sig := ((cc0_scratch2.slice (Rect.unit (s := S4) ![j.val] S1.size (sem_inb j))).squeeze S_ squeezes_S1_S_ : DmaSems sig S_).sem

/-- Where the transfer of link 0 lands. -/
abbrev landP : Memref sig .tc .hbm S4x2048x4096 .bf16 := Memref.whole main_v1_1

theorem land_inb (j : Fin 3) : ∀ a, (![j.val, 1536, 0] : Fin 3 → ℕ) a + S1x512x4096.size a ≤ S3x2048x4096.size a := by revert j; decide

/-- Where the transfer of link `1 + j` lands. -/
abbrev landR (j : Fin 3) : Rect S3x2048x4096 := Rect.unit (s := S3x2048x4096) ![j.val, 1536, 0] S1x512x4096.size (land_inb j)
abbrev landM (j : Fin 3) : Memref sig .tc .hbm S512x4096 .bf16 :=
  ((Memref.whole main_v1_2).slice (landR j) (fun _ => rfl)).squeeze S512x4096 squeezes_S1x512x4096_S512x4096

/-- The units of one transfer, on link 0 and on the others. -/
def amountP : ℕ := landP.view.dmaCredit
def amountC : ℕ := (landM 0).view.dmaCredit

/-- The units of one transfer of a link. -/
def amount (j : Fin 4) : ℕ := if j = 0 then amountP else amountC

abbrev links : Links nD sig where
  J := 4
  sendSem := sendSem
  recvSem := recvSem
  peer := peer
  peer_peer := peer_peer
  units := amount
  units_pos j := by
    unfold amount
    split
    · exact View.dmaCredit_pos _ (by decide)
    · exact View.dmaCredit_pos _ (by decide)
  apart := by decide

/-! ## What travels -/

theorem offP_inb (c : Dev nD) : ∀ a, k0_off1 c a + S4x2048x4096.size a ≤ S4x4096x4096.size a := by revert c; decide +kernel

/-- The half that belongs to the other core. -/
theorem offP_eq (c : Dev nD) : k0_off1 c = ![0, 2048 * (1 - c.val % 2), 0] := by revert c; decide +kernel

abbrev sentPR (c : Dev nD) : Rect S4x4096x4096 := Rect.unit (s := S4x4096x4096) (k0_off1 c) S4x2048x4096.size (offP_inb c)
abbrev sentP (c : Dev nD) : Memref sig .tc .hbm S4x2048x4096 .bf16 := (Memref.whole main_arg2).slice (sentPR c) (fun _ => rfl)

/-- The device across on link `1 + j`. -/
abbrev chip (j : Fin 3) (c : Dev nD) : Dev nD := peer j.succ c

/-- Where what device `c` sends on link `1 + j` lies in its `main_arg3`. -/
def off (j : Fin 3) (c : Dev nD) : Fin 3 → ℕ :=
  match j with
  | 0 => k0_off2 c
  | 1 => k0_off3 c
  | 2 => k0_off4 c

/-- It is in the layer of the chip it is sent to. -/
theorem off_eq (j : Fin 3) (c : Dev nD) : off j c = ![(chip j c).val / 2, 1536, 0] := by revert j c; decide +kernel

theorem off_inb (j : Fin 3) (c : Dev nD) : ∀ a, off j c a + S1x512x4096.size a ≤ S4x2048x4096.size a := by revert j c; decide +kernel

abbrev sentR (j : Fin 3) (c : Dev nD) : Rect S4x2048x4096 := Rect.unit (s := S4x2048x4096) (off j c) S1x512x4096.size (off_inb j c)
abbrev sentM (j : Fin 3) (c : Dev nD) : Memref sig .tc .hbm S512x4096 .bf16 :=
  ((Memref.whole main_arg3).slice (sentR j c) (fun _ => rfl)).squeeze S512x4096 squeezes_S1x512x4096_S512x4096

variable (m : (ℓ : Loc nD τ sig) → Buf (Elt F) ℓ)

/-- What device `c` sends on link 0, read off its `main_arg2` at launch. -/
def outgoing (c : Dev nD) : Vec F S4x2048x4096 .bf16 := (sentP c).view.read (Elt F) (m (c.tc.loc main_arg2))

/-- What lands on device `c` on link 0: what the other core sends. -/
def landed (c : Dev nD) : Buf (Elt F) (landP.view.loc (c.tc : Thread nD τ)) := outgoing m (peer 0 c)

/-- Where in the `main_arg3` of a peer of device `c` an entry of its `main_v1_2` comes from. -/
def origin (c : Dev nD) (i : S3x2048x4096.Idx) : S4x2048x4096.Idx
  | 0 => ⟨c.val / 2, by have h : c.val < 8 := c.isLt; show c.val / 2 < 4; omega⟩
  | 1 => i 1
  | 2 => i 2

/-- `main_v1_2` of device `c` when the three transfers have landed: the rows sent, and above them what it held. -/
def filled (c : Dev nD) : Vec F S3x2048x4096 .bf16 := fun i =>
  if 1536 ≤ (i 1).val then m ((chip (i 0) c : Thread nD τ).loc main_arg3) (origin c i) else m (c.tc.loc main_v1_2) i

/-- The elements the transfers read, at their launch contents. -/
def lentP (c : Dev nD) : sProp 𝕄 :=
  iprop((sentP c).view.loc c.tc ↦[(sentP c).view.set]{fullShare} m (c.tc.loc main_arg2))
def lentC (c : Dev nD) (j : Fin 3) : sProp 𝕄 :=
  iprop(c.tc.loc main_arg3 ↦[(sentM j c).view.set]{fullShare} m (c.tc.loc main_arg3))

/-- The elements they write on device `c`, at contents `f`. -/
def landingP (c : Dev nD) (f : Buf (Elt F) (landP.view.loc (c.tc : Thread nD τ))) : sProp 𝕄 :=
  iprop(landP.view.loc c.tc ↦[landP.view.set]{fullShare} f)
def landingC (c : Dev nD) (j : Fin 3) (f : Buf (Elt F) ((c.tc : Thread nD τ).loc main_v1_2)) : sProp 𝕄 :=
  iprop(c.tc.loc main_v1_2 ↦[(landM j).view.set]{fullShare} f)

/-- What a device sends on a link, the place there for what it is sent, and that place with what was sent. -/
def lent (c : Dev nD) : Fin 4 → sProp 𝕄
  | 0 => lentP m c
  | 1 => lentC m c 0
  | 2 => lentC m c 1
  | 3 => lentC m c 2
def room (c : Dev nD) : Fin 4 → sProp 𝕄
  | 0 => iprop(∃ f, landingP c f)
  | 1 => iprop(∃ f, landingC c 0 f)
  | 2 => iprop(∃ f, landingC c 1 f)
  | 3 => iprop(∃ f, landingC c 2 f)
def came (c : Dev nD) : Fin 4 → sProp 𝕄
  | 0 => landingP c (landed m c)
  | 1 => landingC c 0 (filled m c)
  | 2 => landingC c 1 (filled m c)
  | 3 => landingC c 2 (filled m c)

/-- What the send cells return and what the receive cells deliver. -/
def pay : links.End → Dev nD → sProp 𝕄
  | (false, j), c => lent m c j
  | (true, j), c => came m c j

instance : Cert.Exchange.Keepable links (pay m) where
  keep k c := by
    rcases k with ⟨_ | _, j⟩
    · show BI.Storable upEmb (lent m c j)
      change Fin 4 at j
      fin_cases j
      · show BI.Storable upEmb (lentP m c)
        unfold lentP; infer_instance
      all_goals (show BI.Storable upEmb (lentC m c _); unfold lentC; infer_instance)
    · show BI.Storable upEmb (came m c j)
      change Fin 4 at j
      fin_cases j
      · show BI.Storable upEmb (landingP c (landed m c))
        unfold landingP; infer_instance
      all_goals (show BI.Storable upEmb (landingC c _ (filled m c)); unfold landingC; infer_instance)

/-- What the transfer of link 0 leaves where it lands does not depend on what it held. -/
theorem write_landing (c : Dev nD) (f : Buf (Elt F) (landP.view.loc (c.tc : Thread nD τ))) (w : Vec F S4x2048x4096 .bf16) :
    landP.view.write (Elt F) f w Finset.univ = w :=
  View.write_whole_univ _ _ _

/-- What the transfer of link `1 + j` from device `c` leaves where it lands is what `filled` says. -/
theorem delivered (j : Fin 3) (c : Dev nD) (fd : Buf (Elt F) ((landM j).view.loc (chip j c : Thread nD τ))) (i) (hi : i ∈ (landM j).view.set) :
    (landM j).view.write (Elt F) fd ((sentM j c).view.read (Elt F) (m (c.tc.loc main_arg3))) Finset.univ i = filled m (chip j c) i := by
  obtain ⟨x, -, rfl⟩ := Finset.mem_map.mp hi
  refine (View.write_emb_of_mem (v := (landM j).view) fd _ (Finset.mem_univ x)).trans ?_
  show m (c.tc.loc main_arg3) ((sentM j c).view.emb x) = _
  generalize hy : Shape.reshapeEquiv (s := S1x512x4096) (s' := S512x4096) (by decide) x = y
  have hs : (sentM j c).view.emb x = (sentR j c).emb y := by rw [← hy]; rfl
  have hl : (landM j).view.emb x = (landR j).emb y := by rw [← hy]; rfl
  rw [hs]
  refine Eq.trans ?_ (congrArg (filled m (chip j c)) hl).symm
  have y0 : (y 0).val < 1 := (y 0).isLt
  have l0 : ((landR j).emb y) 0 = j := Fin.ext (show j.val + 1 * (y 0).val = j.val by omega)
  have l1 : (((landR j).emb y) 1).val = 1536 + (y 1).val := show 1536 + 1 * (y 1).val = 1536 + (y 1).val by omega
  unfold filled
  rw [if_pos (by omega)]
  have hp : chip (((landR j).emb y) 0) (chip j c) = c := by rw [l0]; exact peer_peer j.succ c
  have e : (sentR j c).emb y = origin (chip j c) ((landR j).emb y) := by
    funext a
    fin_cases a <;> refine Fin.ext ?_
    · show off j c 0 + 1 * (y 0).val = (chip j c).val / 2
      rw [off_eq]; show (chip j c).val / 2 + 1 * (y 0).val = _; omega
    · show off j c 1 + 1 * (y 1).val = 1536 + 1 * (y 1).val
      rw [off_eq]; rfl
    · show off j c 2 + 1 * (y 2).val = 0 + 1 * (y 2).val
      rw [off_eq]; rfl
  rw [e, hp]

/-! ## The buffers in pieces -/

theorem sent_set (j : Fin 3) (c : Dev nD) : (sentM j c).view.set = (sentR j c).set :=
  (View.set_reshape _ _).trans (View.set_slice_whole _ _)
theorem land_set (j : Fin 3) : (landM j).view.set = (landR j).set :=
  (View.set_reshape _ _).trans (View.set_slice_whole _ _)

theorem chip_apart (c : Dev nD) (j j' : Fin 3) (h : j ≠ j') : (chip j c).val / 2 ≠ (chip j' c).val / 2 := by
  revert c j j'; decide +kernel

theorem sent_apart (c : Dev nD) (j j' : Fin 3) (h : j ≠ j') : Disjoint (sentM j c).view.set (sentM j' c).view.set := by
  rw [sent_set, sent_set]
  refine Rect.unit_disjoint 0 ?_
  have := chip_apart c j j' h
  rw [off_eq, off_eq]
  show (chip j c).val / 2 + 1 ≤ (chip j' c).val / 2 ∨ (chip j' c).val / 2 + 1 ≤ (chip j c).val / 2
  omega

theorem land_apart (j j' : Fin 3) (h : j ≠ j') : Disjoint (landM j).view.set (landM j').view.set := by
  rw [land_set, land_set]
  refine Rect.unit_disjoint 0 ?_
  have : j.val ≠ j'.val := fun e => h (Fin.ext e)
  show j.val + 1 ≤ j'.val ∨ j'.val + 1 ≤ j.val
  omega

/-- The last 512 rows of every layer are landing places. -/
theorem land_mem (i : S3x2048x4096.Idx) (h : 1536 ≤ (i 1).val) : i ∈ (landM (i 0)).view.set := by
  have hr : i ∈ (landR (i 0)).set := by
    refine Rect.mem_set_unit.mpr fun a => ?_
    fin_cases a
    · exact ⟨Nat.le_refl _, Nat.lt_succ_self _⟩
    · exact ⟨h, by have h : (i 1).val < 2048 := (i 1).isLt; show (i 1).val < 1536 + 512; omega⟩
    · exact ⟨Nat.zero_le _, by have h : (i 2).val < 4096 := (i 2).isLt; show (i 2).val < 0 + 4096; omega⟩
  exact (land_set (i 0)).symm ▸ hr

/-- The elements of the two buffers sent from that no transfer reads. -/
def keptP (c : Dev nD) : sProp 𝕄 :=
  iprop(c.tc.loc main_arg2 ↦[Finset.univ \ (sentP c).view.set]{fullShare} m (c.tc.loc main_arg2))
def keptC (c : Dev nD) : sProp 𝕄 :=
  iprop(c.tc.loc main_arg3 ↦[Finset.univ \ (Finset.univ : Finset (Fin 3)).biUnion fun j => (sentM j c).view.set]{fullShare}
    m (c.tc.loc main_arg3))

/-- The elements of `main_v1_2` no transfer writes. -/
def above (c : Dev nD) (f : Buf (Elt F) ((c.tc : Thread nD τ).loc main_v1_2)) : sProp 𝕄 :=
  iprop(c.tc.loc main_v1_2 ↦[Finset.univ \ (Finset.univ : Finset (Fin 3)).biUnion fun j => (landM j).view.set]{fullShare} f)

omit [FloatOps F] in
theorem arg2_split (c : Dev nD) :
    (c.tc.loc main_arg2 ↦{fullShare} m (c.tc.loc main_arg2) : sProp 𝕄) ⊣⊢ iprop(lentP m c ∗ keptP m c) :=
  pointsTo_split_subset (Finset.subset_univ _)

omit [FloatOps F] in
theorem arg3_split (c : Dev nD) :
    (c.tc.loc main_arg3 ↦{fullShare} m (c.tc.loc main_arg3) : sProp 𝕄)
      ⊣⊢ iprop((bigSep Finset.univ fun j => lentC m c j) ∗ keptC m c) := by
  have h := pointsTo_biUnion (Ix := Unit) (Name := ℕ) (U := UU nD sig τ) (Lvl := ℕ) (q := fullShare) (f := m (c.tc.loc main_arg3))
    Finset.univ (fun j => (sentM j c).view.set) fun j _ j' _ hj => sent_apart c j j' hj
  unfold lentC keptC
  rw [← h]
  exact pointsTo_split_subset (Finset.subset_univ _)

omit [FloatOps F] in
theorem landingP_eq (c : Dev nD) (f : Buf (Elt F) (c.tc.loc main_v1_1)) :
    landingP c f = (c.tc.loc main_v1_1 ↦{fullShare} f : sProp 𝕄) := by
  unfold landingP; rw [View.set_whole]

omit [FloatOps F] in
theorem landingC_split (c : Dev nD) (f : Buf (Elt F) (c.tc.loc main_v1_2)) :
    (c.tc.loc main_v1_2 ↦{fullShare} f : sProp 𝕄) ⊣⊢ iprop((bigSep Finset.univ fun j => landingC c j f) ∗ above c f) := by
  have h := pointsTo_biUnion (Ix := Unit) (Name := ℕ) (U := UU nD sig τ) (Lvl := ℕ) (q := fullShare) (f := f)
    Finset.univ (fun j => (landM j).view.set) fun j _ j' _ hj => land_apart j j' hj
  unfold landingC above
  rw [← h]
  exact pointsTo_split_subset (Finset.subset_univ _)

omit [FloatOps F] in
/-- Outside the three landing places `filled` is what was there. -/
theorem above_eq (c : Dev nD) : (above c (m (c.tc.loc main_v1_2)) : sProp 𝕄) = above c (filled m c) := by
  unfold above
  refine pointsTo_congr fun i hi => ?_
  have hn : ¬ 1536 ≤ (i 1).val := fun hlt => (Finset.mem_sdiff.mp hi).2 (Finset.mem_biUnion.mpr ⟨i 0, Finset.mem_univ _, land_mem i hlt⟩)
  exact (if_neg hn).symm

/-- What holds of the three chips across, one by one, and of the four links, one by one. -/
theorem three (Φ : Fin 3 → sProp 𝕄) : bigSep Finset.univ Φ = iprop(Φ 0 ∗ Φ 1 ∗ Φ 2) :=
  bigSep_univ_eq_bigSepL [0, 1, 2] (by decide) (by decide) Φ
theorem four (Φ : Fin 4 → sProp 𝕄) : bigSep Finset.univ Φ = iprop(Φ 0 ∗ Φ 1 ∗ Φ 2 ∗ Φ 3) :=
  bigSep_univ_eq_bigSepL [0, 1, 2, 3] (by decide) (by decide) Φ

end Cert.Dx

end
-- ==== Proof.DxParts.lean ====
/-
# The parts of a grid point of `up_dx`

The body at a grid point is: start the four transfers (at the first point), add the product of the two blocks to the
accumulator (setting it at the first step of the contraction, writing the output block at the last), wait for the
transfers (at the last point).
-/
module

public import proofs.«01_k».proof.Proof.Gen.DxKernelIdeal.Skeleton
public import proofs.«01_k».proof.Proof.Gen.DxKernelIdeal.Points
public import proofs.«01_k».proof.Proof.DxLinks

@[expose] public section

noncomputable section

namespace Cert.Dx

open Cert.DxKernelIdeal Cert.DxKernelIdeal.Gen
open Idealize.ShloMosaic
open TcCoe
open Idealize.SL.Sem

variable {F : FTy → Type} [FloatOps F]

/-- Programs of this kernel. -/
abbrev Code (F : FTy → Type) [FloatOps F] : Type → Type 1 := Prog (TpuEff nD τ sig (Elt F) Λ₀ .tc)

/-- Half of every layer of `main_arg2`, as the body names it. -/
abbrev halfAt (o : Fin 3 → ℕ) (h : ∀ a, o a + S4x2048x4096.size a ≤ S4x4096x4096.size a) : Memref sig .tc .hbm S4x2048x4096 .bf16 :=
  (Memref.whole main_arg2).slice (Rect.unit (s := S4x4096x4096) o S4x2048x4096.size h) (fun _ => rfl)

theorem half_exact {o : Fin 3 → ℕ} {h : ∀ a, o a + S4x2048x4096.size a ≤ S4x4096x4096.size a}
    (hw : (Rect.unit (s := S4x4096x4096) o S4x2048x4096.size h).WholeWords (EltTy.packing .bf16)) : (halfAt o h).view.WordExact :=
  (Memref.isWhole_whole main_arg2).wordExact_slice rfl _ hw

/-- The last rows of a layer of `main_arg3`, as the body names them. -/
abbrev rowsAt (o : Fin 3 → ℕ) (h : ∀ a, o a + S1x512x4096.size a ≤ S4x2048x4096.size a) : Memref sig .tc .hbm S512x4096 .bf16 :=
  ((Memref.whole main_arg3).slice (Rect.unit (s := S4x2048x4096) o S1x512x4096.size h) (fun _ => rfl)).squeeze S512x4096 squeezes_S1x512x4096_S512x4096

theorem rows_exact {o : Fin 3 → ℕ} {h : ∀ a, o a + S1x512x4096.size a ≤ S4x2048x4096.size a}
    (hw : (Rect.unit (s := S4x2048x4096) o S1x512x4096.size h).WholeWords (EltTy.packing .bf16)) : (rowsAt o h).view.WordExact :=
  ((Memref.isWhole_whole main_arg3).wordExact_slice rfl _ hw).reshape _ _

theorem land_words : ∀ j : Fin 3, (landR j).WholeWords (EltTy.packing .bf16)
  | 0 => wordsbf16_S3x2048x4096_S1x512x4096_0_1536_0
  | 1 => wordsbf16_S3x2048x4096_S1x512x4096_1_1536_0
  | 2 => wordsbf16_S3x2048x4096_S1x512x4096_2_1536_0

theorem land_exact (j : Fin 3) : (landM j).view.WordExact := ((Memref.isWhole_whole main_v1_2).wordExact_slice rfl _ (land_words j)).reshape _ _
theorem landP_exact : landP.view.WordExact := (Memref.isWhole_whole main_v1_1).wordExact

/-- The first grid point sends. -/
def sendPart (i : grid0.Coords) : Code F PUnit :=
  if h : k0_cond1 i = 1#1 then
    .op .deviceId fun d =>
    .op (.enqueueDma (halfAt (k0_off1 d) (k0_off1_inb i d h)) (.remote (Dev.tc (⟨k0_dev1 d, k0_dev1_lt i d h⟩ : Dev nD)) landP (.dma (sendSem 0)))
      (.dma (recvSem 0)) (half_exact (k0_off1_wordsbf16 i d h)) landP_exact ⟨⟨rfl, Or.inl rfl⟩, trivial⟩) fun _ =>
    .op (.enqueueDma (rowsAt (k0_off2 d) (k0_off2_inb i d h)) (.remote (Dev.tc (⟨k0_dev2 d, k0_dev2_lt i d h⟩ : Dev nD)) (landM 0) (.dma (sendSem 1)))
      (.dma (recvSem 1)) (rows_exact (k0_off2_wordsbf16 i d h)) (land_exact 0) ⟨⟨rfl, Or.inl rfl⟩, trivial⟩) fun _ =>
    .op (.enqueueDma (rowsAt (k0_off3 d) (k0_off3_inb i d h)) (.remote (Dev.tc (⟨k0_dev3 d, k0_dev3_lt i d h⟩ : Dev nD)) (landM 1) (.dma (sendSem 2)))
      (.dma (recvSem 2)) (rows_exact (k0_off3_wordsbf16 i d h)) (land_exact 1) ⟨⟨rfl, Or.inl rfl⟩, trivial⟩) fun _ =>
    .op (.enqueueDma (rowsAt (k0_off4 d) (k0_off4_inb i d h)) (.remote (Dev.tc (⟨k0_dev4 d, k0_dev4_lt i d h⟩ : Dev nD)) (landM 2) (.dma (sendSem 3)))
      (.dma (recvSem 3)) (rows_exact (k0_off4_wordsbf16 i d h)) (land_exact 2) ⟨⟨rfl, Or.inl rfl⟩, trivial⟩) fun _ => .ret ⟨⟩
  else .ret ⟨⟩

/-- The blocks as the body loads and stores them: whole. -/
abbrev wholeL : Rect S2048x1024 := Rect.unit (s := S2048x1024) ![0, 0] S2048x1024.size inb_S2048x1024_S2048x1024_0_0
abbrev wholeR : Rect S1x1024x1024 := Rect.unit (s := S1x1024x1024) ![0, 0, 0] S1x1024x1024.size inb_S1x1024x1024_S1x1024x1024_0_0_0

/-- Whether a point is at the first step of the contraction, or strictly between the first and the last. -/
abbrev condFirst (i : grid0.Coords) : BitVec 1 :=
  Scalar.cmpi .ne (Scalar.extui (Scalar.cmpi .eq (BitVec.ofNat 32 (i 2).val) 0#32) : BitVec 32) 0#32
abbrev condMiddle (i : grid0.Coords) : BitVec 1 :=
  Scalar.cmpi .ne (Scalar.extui (Scalar.andi (Scalar.cmpi .sgt (BitVec.ofNat 32 (i 2).val) 0#32) (Scalar.cmpi .slt (BitVec.ofNat 32 (i 2).val) 15#32)) : BitVec 32) 0#32

variable (A : Memref sig .tc .vmem S2048x1024 .bf16) (B : Memref sig .tc .vmem S1x1024x1024 .bf16) (O acc : Memref sig .tc .vmem S2048x1024 .f32)

/-- The accumulator set to the product of the two blocks. -/
def setAcc : Code F PUnit :=
  .op (.load A wholeL.toLoadRect (View.loadsAt_vmem h_S2048x1024)) fun a =>
  .op (.load B wholeR.toLoadRect (View.loadsAt_vmem h_S1x1024x1024)) fun b =>
  .op (.load acc wholeL.toLoadRect (View.loadsAt_vmem h_S2048x1024)) fun _ =>
  .op (.store acc wholeL (k0_pay1 a b) Finset.univ (View.stores_vmem_bits_univ h_S2048x1024 rfl) (.inl rfl)) fun _ => .ret ⟨⟩

/-- The product added to it. -/
def addAcc : Code F PUnit :=
  .op (.load acc wholeL.toLoadRect (View.loadsAt_vmem h_S2048x1024)) fun s =>
  .op (.load A wholeL.toLoadRect (View.loadsAt_vmem h_S2048x1024)) fun a =>
  .op (.load B wholeR.toLoadRect (View.loadsAt_vmem h_S1x1024x1024)) fun b =>
  .op (.load acc wholeL.toLoadRect (View.loadsAt_vmem h_S2048x1024)) fun _ =>
  .op (.store acc wholeL (k0_pay2 s a b) Finset.univ (View.stores_vmem_bits_univ h_S2048x1024 rfl) (.inl rfl)) fun _ => .ret ⟨⟩

/-- The two together written to the output block. -/
def putOut : Code F PUnit :=
  .op (.load acc wholeL.toLoadRect (View.loadsAt_vmem h_S2048x1024)) fun s =>
  .op (.load A wholeL.toLoadRect (View.loadsAt_vmem h_S2048x1024)) fun a =>
  .op (.load B wholeR.toLoadRect (View.loadsAt_vmem h_S1x1024x1024)) fun b =>
  .op (.load O wholeL.toLoadRect (View.loadsAt_vmem h_S2048x1024)) fun _ =>
  .op (.store O wholeL (k0_pay3 s a b) Finset.univ (View.stores_vmem_bits_univ h_S2048x1024 rfl) (.inl rfl)) fun _ => .ret ⟨⟩

/-- What a point computes. -/
def workPart (i : grid0.Coords) : Code F PUnit :=
  (if condFirst i = 1#1 then setAcc A B acc else .ret ⟨⟩) >>= fun _ =>
  (if condMiddle i = 1#1 then addAcc A B acc else .ret ⟨⟩) >>= fun _ =>
  (if k0_cond4 i = 1#1 then putOut A B O acc else .ret ⟨⟩)

/-- At every point exactly one of the three is done. -/
theorem work_first (i : grid0.Coords) (h1 : condFirst i = 1#1) (h2 : ¬ condMiddle i = 1#1) (h3 : ¬ k0_cond4 i = 1#1) :
    workPart A B O acc i = setAcc (F := F) A B acc := by
  unfold workPart; rw [if_pos h1, if_neg h2, if_neg h3]; rfl
theorem work_middle (i : grid0.Coords) (h1 : ¬ condFirst i = 1#1) (h2 : condMiddle i = 1#1) (h3 : ¬ k0_cond4 i = 1#1) :
    workPart A B O acc i = addAcc (F := F) A B acc := by
  unfold workPart; rw [if_neg h1, if_pos h2, if_neg h3]; rfl
theorem work_last (i : grid0.Coords) (h1 : ¬ condFirst i = 1#1) (h2 : ¬ condMiddle i = 1#1) (h3 : k0_cond4 i = 1#1) :
    workPart A B O acc i = putOut (F := F) A B O acc := by
  unfold workPart; rw [if_neg h1, if_neg h2, if_pos h3]; rfl

/-- The last grid point waits: for what its peers sent and for what it sent itself, first on link 0, then on the others. -/
def waitPart (i : grid0.Coords) : Code F PUnit :=
  if h : k0_cond5 i = 1#1 then
    .op .deviceId fun d =>
    .op (.waitDma2 (recvSem 0) (halfAt (k0_off5 d) (k0_off5_inb i d h)) landP (half_exact (k0_off5_wordsbf16 i d h)) landP_exact) fun _ =>
    .op (.waitDma2 (sendSem 0) landP (halfAt (k0_off5 d) (k0_off5_inb i d h)) landP_exact (half_exact (k0_off5_wordsbf16 i d h))) fun _ =>
    .op (.waitDma2 (recvSem 1) (rowsAt (k0_off6 d) (k0_off6_inb i d h)) (landM 0) (rows_exact (k0_off6_wordsbf16 i d h)) (land_exact 0)) fun _ =>
    .op (.waitDma2 (recvSem 2) (rowsAt (k0_off7 d) (k0_off7_inb i d h)) (landM 1) (rows_exact (k0_off7_wordsbf16 i d h)) (land_exact 1)) fun _ =>
    .op (.waitDma2 (recvSem 3) (rowsAt (k0_off8 d) (k0_off8_inb i d h)) (landM 2) (rows_exact (k0_off8_wordsbf16 i d h)) (land_exact 2)) fun _ =>
    .op (.waitDma2 (sendSem 1) (landM 0) (rowsAt (k0_off6 d) (k0_off6_inb i d h)) (land_exact 0) (rows_exact (k0_off6_wordsbf16 i d h))) fun _ =>
    .op (.waitDma2 (sendSem 2) (landM 1) (rowsAt (k0_off7 d) (k0_off7_inb i d h)) (land_exact 1) (rows_exact (k0_off7_wordsbf16 i d h))) fun _ =>
    .op (.waitDma2 (sendSem 3) (landM 2) (rowsAt (k0_off8 d) (k0_off8_inb i d h)) (land_exact 2) (rows_exact (k0_off8_wordsbf16 i d h))) fun _ => .ret ⟨⟩
  else .ret ⟨⟩

set_option maxHeartbeats 4000000 in
/-- The body is its parts, one after the other. -/
theorem body_eq (t : Fin cfg0.N) :
    bodyAt0 (F := F) t = sendPart (grid0.coords t) >>= fun _ =>
      workPart (st0_0 t) (st0_1 t) (st0_2 t) (Memref.whole cc0_scratch0) (grid0.coords t) >>= fun _ => waitPart (grid0.coords t) := by
  unfold bodyAt0 sendPart workPart setAcc addAcc putOut
  rw [cc0_up_dx_eq_skeleton]
  unfold cc0_up_dx_skel
  rw [k0_part1_eq_skeleton, k0_part2_eq_skeleton, k0_part3_eq_skeleton, k0_part4_eq_skeleton, k0_part5_eq_skeleton]
  unfold k0_part1_skel k0_part2_skel k0_part3_skel k0_part4_skel k0_part5_skel waitPart
  by_cases h1 : k0_cond1 (grid0.coords t) = 1#1 <;> by_cases h2 : condFirst (grid0.coords t) = 1#1 <;>
    by_cases h3 : condMiddle (grid0.coords t) = 1#1 <;> by_cases h4 : k0_cond4 (grid0.coords t) = 1#1 <;>
    by_cases h5 : k0_cond5 (grid0.coords t) = 1#1
  all_goals
    first | rw [dif_pos h1, dif_pos h1] | rw [dif_neg h1, dif_neg h1]
    first | rw [if_pos h2] | rw [if_neg h2]
    first | rw [if_pos h3] | rw [if_neg h3]
    first | rw [if_pos h4] | rw [if_neg h4]
    dsimp only
    first | rw [dif_pos h2] | rw [dif_neg h2]
    try dsimp only
    first | rw [dif_pos h3] | rw [dif_neg h3]
    try dsimp only
    first | rw [dif_pos h4] | rw [dif_neg h4]
    first | simp only [dif_pos h5] | simp only [dif_neg h5]
    rfl

/-- The first point, and only it, sends; the last point, and only it, waits. -/
theorem sends_iff (t : Fin cfg0.N) : k0_cond1 (grid0.coords t) = 1#1 ↔ t.val = 0 :=
  (by decide +kernel : ∀ t : Fin grid0.N, k0_cond1 (grid0.coords t) = 1#1 ↔ t.val = 0) t
theorem waits_iff (t : Fin cfg0.N) : k0_cond5 (grid0.coords t) = 1#1 ↔ t.val = 127 :=
  (by decide +kernel : ∀ t : Fin grid0.N, k0_cond5 (grid0.coords t) = 1#1 ↔ t.val = 127) t

/-- The contraction takes sixteen points. -/
theorem first_iff (t : Fin cfg0.N) : condFirst (grid0.coords t) = 1#1 ↔ t.val % 16 = 0 :=
  (by decide +kernel : ∀ t : Fin grid0.N, condFirst (grid0.coords t) = 1#1 ↔ t.val % 16 = 0) t
theorem middle_iff (t : Fin cfg0.N) : condMiddle (grid0.coords t) = 1#1 ↔ t.val % 16 ≠ 0 ∧ t.val % 16 ≠ 15 :=
  (by decide +kernel : ∀ t : Fin grid0.N, condMiddle (grid0.coords t) = 1#1 ↔ t.val % 16 ≠ 0 ∧ t.val % 16 ≠ 15) t
theorem last_iff (t : Fin cfg0.N) : k0_cond4 (grid0.coords t) = 1#1 ↔ t.val % 16 = 15 :=
  (by decide +kernel : ∀ t : Fin grid0.N, k0_cond4 (grid0.coords t) = 1#1 ↔ t.val % 16 = 15) t

end Cert.Dx

end
-- ==== Proof.DxWork.lean ====
/-
# What a grid point of `up_dx` does to the accumulator

Each of the three things a grid point may compute, by itself: the accumulator set to the product of the two blocks, the
product added to it, and the two together written to the output block. Every load and store is of a whole block.
-/
module

public import proofs.«01_k».proof.Proof.DxParts
public import Idealize.ShloMosaic.Lib.Writes

@[expose] public section

noncomputable section

namespace Cert.Dx

open Cert.DxKernelIdeal Cert.DxKernelIdeal.Gen
open Idealize.ShloMosaic
open TcCoe Rounds
open Idealize.SL Idealize.SL.RA Idealize.SL.BI
open BIBase Laws ProofMode Sem
open Cert.Exchange (Links UU EP ER owns_iff)

variable {F : FTy → Type} [FloatOps F]

local notation "𝕄" => MT nD τ sig Unit (Elt F) ℕ (UU nD sig τ) ℕ

abbrev 𝒱₀ : Variants := Variants.none

/-- A block seen through a rectangle. -/
def part {s : Shape} {e : EltTy} (X : s.Idx → Elt F e) (r : Rect s) : r.shape.Idx → Elt F e := fun x => X (r.emb x)

omit [FloatOps F] in
theorem part_left {e : EltTy} (X : S2048x1024.Idx → Elt F e) : part X wholeL = X :=
  funext fun x => congrArg X (funext fun a => Fin.ext (by
    fin_cases a
    · show 0 + 1 * (x 0).val = (x 0).val; omega
    · show 0 + 1 * (x 1).val = (x 1).val; omega))

omit [FloatOps F] in
theorem part_right {e : EltTy} (X : S1x1024x1024.Idx → Elt F e) : part X wholeR = X :=
  funext fun x => congrArg X (funext fun a => Fin.ext (by
    fin_cases a
    · show 0 + 1 * (x 0).val = (x 0).val; omega
    · show 0 + 1 * (x 1).val = (x 1).val; omega
    · show 0 + 1 * (x 2).val = (x 2).val; omega))

omit [FloatOps F] in
/-- A store of the whole block leaves what was stored. -/
theorem read_store {κ : Kind} {sp : Space} (v : View sig κ sp S2048x1024 .f32) (f : v.ty.Contents (Elt F)) (w : S2048x1024.Idx → Elt F .f32) :
    v.read (Elt F) (v.writes (Elt F) f [⟨wholeL, w⟩]) = w := by
  funext y
  refine View.read_writes_apply_of_pieces v f w [⟨wholeL, w⟩] ?_ y ⟨_, List.mem_singleton_self _, ?_⟩
  · intro p hp x
    obtain rfl := List.mem_singleton.mp hp
    exact (congrFun (part_left w) x).symm
  · show y ∈ wholeL.set
    refine Rect.mem_set_unit.mpr fun a => ?_
    fin_cases a
    · exact ⟨Nat.zero_le _, by have h : (y 0).val < 2048 := (y 0).isLt; show (y 0).val < 0 + 2048; omega⟩
    · exact ⟨Nat.zero_le _, by have h : (y 1).val < 1024 := (y 1).isLt; show (y 1).val < 0 + 1024; omega⟩

variable (c : Dev nD) (A : Memref sig .tc .vmem S2048x1024 .bf16) (B : Memref sig .tc .vmem S1x1024x1024 .bf16)
  (O acc : Memref sig .tc .vmem S2048x1024 .f32) (a : Vec F S2048x1024 .bf16) (b : Vec F S1x1024x1024 .bf16) (o s : Vec F S2048x1024 .f32)

theorem set_step :
    iprop(owns (Ix := Unit) (Name := ℕ) (U := UU nD sig τ) (Lvl := ℕ) c.tc A fullShare a
        ∗ owns c.tc B fullShare b ∗ owns c.tc acc fullShare s)
      ⊢ wp frame (wpE (defs₀ (F := F)) 𝒱₀ c none) Set.univ (setAcc A B acc)
          (fun _ => iprop(owns c.tc A fullShare a ∗ owns c.tc B fullShare b
            ∗ owns c.tc acc fullShare (k0_pay1 a b) : sProp 𝕄)) := by
  simp only [owns_iff]
  unfold setAcc
  iintro ⟨⟨%fa, %ha, HA⟩, ⟨%fb, %hb, HB⟩, ⟨%fs, %hs, HS⟩⟩
  subst ha hb
  iapply (wp_load 𝒱₀ c.tc none Set.univ (m := A) (View.setOn_subset_set _ _)) $$ HA; iintro HA
  iapply (wp_load 𝒱₀ c.tc none Set.univ (m := B) (View.setOn_subset_set _ _)) $$ HB; iintro HB
  iapply (wp_load 𝒱₀ c.tc none Set.univ (m := acc) (View.setOn_subset_set _ _)) $$ HS; iintro HS
  iapply (wp_store_writes₀ 𝒱₀ c.tc none Set.univ (m := acc) (r := wholeL) (View.set_slice_subset _ _)) $$ HS; iintro HS
  rw [wp_ret]; imodintro
  isplitl [HA]
  · iexists fa; isplitr; · (ipureintro; rfl)
    iexact HA
  isplitl [HB]
  · iexists fb; isplitr; · (ipureintro; rfl)
    iexact HB
  iexists _; isplitr
  · ipureintro
    refine (read_store acc.view fs (k0_pay1 (part (A.view.read (Elt F) fa) wholeL) (part (B.view.read (Elt F) fb) wholeR))).trans ?_
    rw [part_left, part_right]
  iexact HS

theorem add_step :
    iprop(owns (Ix := Unit) (Name := ℕ) (U := UU nD sig τ) (Lvl := ℕ) c.tc A fullShare a
        ∗ owns c.tc B fullShare b ∗ owns c.tc acc fullShare s)
      ⊢ wp frame (wpE (defs₀ (F := F)) 𝒱₀ c none) Set.univ (addAcc A B acc)
          (fun _ => iprop(owns c.tc A fullShare a ∗ owns c.tc B fullShare b
            ∗ owns c.tc acc fullShare (k0_pay2 s a b) : sProp 𝕄)) := by
  simp only [owns_iff]
  unfold addAcc
  iintro ⟨⟨%fa, %ha, HA⟩, ⟨%fb, %hb, HB⟩, ⟨%fs, %hs, HS⟩⟩
  subst ha hb hs
  iapply (wp_load 𝒱₀ c.tc none Set.univ (m := acc) (View.setOn_subset_set _ _)) $$ HS; iintro HS
  iapply (wp_load 𝒱₀ c.tc none Set.univ (m := A) (View.setOn_subset_set _ _)) $$ HA; iintro HA
  iapply (wp_load 𝒱₀ c.tc none Set.univ (m := B) (View.setOn_subset_set _ _)) $$ HB; iintro HB
  iapply (wp_load 𝒱₀ c.tc none Set.univ (m := acc) (View.setOn_subset_set _ _)) $$ HS; iintro HS
  iapply (wp_store_writes₀ 𝒱₀ c.tc none Set.univ (m := acc) (r := wholeL) (View.set_slice_subset _ _)) $$ HS; iintro HS
  rw [wp_ret]; imodintro
  isplitl [HA]
  · iexists fa; isplitr; · (ipureintro; rfl)
    iexact HA
  isplitl [HB]
  · iexists fb; isplitr; · (ipureintro; rfl)
    iexact HB
  iexists _; isplitr
  · ipureintro
    refine (read_store acc.view fs (k0_pay2 (part (acc.view.read (Elt F) fs) wholeL) (part (A.view.read (Elt F) fa) wholeL)
      (part (B.view.read (Elt F) fb) wholeR))).trans ?_
    rw [part_left, part_left, part_right]
  iexact HS

theorem put_step :
    iprop(owns (Ix := Unit) (Name := ℕ) (U := UU nD sig τ) (Lvl := ℕ) c.tc A fullShare a
        ∗ owns c.tc B fullShare b ∗ owns c.tc O fullShare o ∗ owns c.tc acc fullShare s)
      ⊢ wp frame (wpE (defs₀ (F := F)) 𝒱₀ c none) Set.univ (putOut A B O acc)
          (fun _ => iprop(owns c.tc A fullShare a ∗ owns c.tc B fullShare b
            ∗ owns c.tc O fullShare (k0_pay3 s a b) ∗ owns c.tc acc fullShare s : sProp 𝕄)) := by
  simp only [owns_iff]
  unfold putOut
  iintro ⟨⟨%fa, %ha, HA⟩, ⟨%fb, %hb, HB⟩, ⟨%fo, %ho, HO⟩, ⟨%fs, %hs, HS⟩⟩
  subst ha hb hs
  iapply (wp_load 𝒱₀ c.tc none Set.univ (m := acc) (View.setOn_subset_set _ _)) $$ HS; iintro HS
  iapply (wp_load 𝒱₀ c.tc none Set.univ (m := A) (View.setOn_subset_set _ _)) $$ HA; iintro HA
  iapply (wp_load 𝒱₀ c.tc none Set.univ (m := B) (View.setOn_subset_set _ _)) $$ HB; iintro HB
  iapply (wp_load 𝒱₀ c.tc none Set.univ (m := O) (View.setOn_subset_set _ _)) $$ HO; iintro HO
  iapply (wp_store_writes₀ 𝒱₀ c.tc none Set.univ (m := O) (r := wholeL) (View.set_slice_subset _ _)) $$ HO; iintro HO
  rw [wp_ret]; imodintro
  isplitl [HA]
  · iexists fa; isplitr; · (ipureintro; rfl)
    iexact HA
  isplitl [HB]
  · iexists fb; isplitr; · (ipureintro; rfl)
    iexact HB
  isplitl [HO]
  · iexists _; isplitr
    · ipureintro
      refine (read_store O.view fo (k0_pay3 (part (acc.view.read (Elt F) fs) wholeL) (part (A.view.read (Elt F) fa) wholeL)
        (part (B.view.read (Elt F) fb) wholeR))).trans ?_
      rw [part_left, part_left, part_right]
    iexact HO
  iexists fs; isplitr; · (ipureintro; rfl)
  iexact HS

end Cert.Dx

end
-- ==== Proof.DxSteps.lean ====
/-
# The transfers of `up_dx`

What the first point and the last do to the protocol: the first sends along the four links, the last waits for the eight
cells.
-/
module

public import proofs.«01_k».proof.Proof.DxWork

@[expose] public section

noncomputable section

namespace Cert.Dx

open Cert.DxKernelIdeal Cert.DxKernelIdeal.Gen
open Idealize.ShloMosaic
open TcCoe Rounds
open Idealize.SL Idealize.SL.RA Idealize.SL.BI
open BIBase Laws ProofMode Sem
open Cert.Exchange (Links UU EP ER records ticket seats hand due wait_link)

variable {F : FTy → Type} [FloatOps F]

local notation "𝕄" => MT nD τ sig Unit (Elt F) ℕ (UU nD sig τ) ℕ

variable (m : (ℓ : Loc nD τ sig) → Buf (Elt F) ℓ)

/-- The credit a device holds for a send cell and for a receive cell while a transfer is on the way. -/
abbrev sendCred (c : Dev nD) (j : Fin 4) : sProp 𝕄 := cred (tallyAt (links.cell c (false, j)) () (links.units j))
abbrev recvCred (c : Dev nD) (j : Fin 4) : sProp 𝕄 := cred (tallyAt (links.cell c (true, j)) () (links.units j))

theorem pay_send (c : Dev nD) (j : Fin 4) : pay m (false, j) c = lent m c j := rfl
theorem pay_recv (c : Dev nD) (j : Fin 4) : pay m (true, j) c = came m c j := rfl
theorem lent_succ (c : Dev nD) (j : Fin 3) : lent m c j.succ = lentC m c j := by fin_cases j <;> rfl
theorem came_succ (c : Dev nD) (j : Fin 3) : came m c j.succ = landingC c j (filled m c) := by fin_cases j <;> rfl
theorem room_succ (c : Dev nD) (j : Fin 3) : (room c j.succ : sProp 𝕄) = iprop(∃ f, landingC c j f) := by fin_cases j <;> rfl

/-- The transfers of links 1, 2 and 3 count the same units, at either end: the memrefs have one shape. So do the two ends
    of link 0. -/
theorem amount_succ (j : Fin 3) : amount j.succ = amountC := if_neg (Fin.succ_ne_zero j)
theorem amount_zero : amount 0 = amountP := if_pos rfl

theorem credit_rows (j : Fin 3) {o : Fin 3 → ℕ} (h : ∀ a, o a + S1x512x4096.size a ≤ S4x2048x4096.size a) : (rowsAt o h).view.dmaCredit = amount j.succ := by
  rw [amount_succ]
  show sig.dmaCredit .tc _ _ S512x4096 .bf16 = amountC
  unfold amountC
  exact Eq.refl (RefSig.tileCredit S512x4096 .bf16)

theorem credit_land (j : Fin 3) : (landM j).view.dmaCredit = amount j.succ := by
  rw [amount_succ]
  show sig.dmaCredit .tc _ _ S512x4096 .bf16 = amountC
  unfold amountC
  exact Eq.refl (RefSig.tileCredit S512x4096 .bf16)

theorem credit_half {o : Fin 3 → ℕ} (h : ∀ a, o a + S4x2048x4096.size a ≤ S4x4096x4096.size a) : (halfAt o h).view.dmaCredit = amount 0 := by
  rw [amount_zero]
  show sig.dmaCredit .tc _ _ S4x2048x4096 .bf16 = amountP
  unfold amountP
  exact Eq.refl (RefSig.tileCredit S4x2048x4096 .bf16)

theorem credit_landP : landP.view.dmaCredit = amount 0 := by
  rw [amount_zero]
  unfold amountP
  exact Eq.refl _

/-- What device `c` owes on link `j`. -/
abbrev debt (c : Dev nD) (j : Fin 4) : CellTallies nD τ sig Unit := tallyAt (links.recvCell (peer j c) j) () (amount j)

theorem due_eq (c : Dev nD) : due (τ := τ) links c = (0 + debt c 3 + debt c 2 + debt c 1) + debt c 0 := by
  have h : due (τ := τ) links c = debt c 0 + debt c 1 + debt c 2 + debt c 3 := by
    unfold due
    exact Fin.sum_univ_four _
  rw [h, zero_add, add_comm (debt c 3 + debt c 2 + debt c 1), add_comm (debt c 3), add_comm (debt c 2 + debt c 3), add_assoc, add_assoc]

/-- The transfer of link 0: the device gives the elements it sends and its peer's landing place. -/
theorem send_pair (κ : Dev nD × links.End → ℕ) (c n : Dev nD) (hn : n = peer 0 c)
    {hi : ∀ a, k0_off1 c a + S4x2048x4096.size a ≤ S4x4096x4096.size a} {hs : (halfAt (k0_off1 c) hi).view.WordExact} {hd : landP.view.WordExact}
    {hsc : (landP : Memref sig (Dev.tc n : Thread nD τ).2.kind .hbm S4x2048x4096 .bf16).view.ref.isScScratch = false}
    {ht : DmaTarget.Typed .hbm (.dma (recvSem 0)) (.remote (Dev.tc n : Thread nD τ) landP (.dma (sendSem 0)) hsc)}
    {Q : PUnit → sProp 𝕄} {k : PUnit → Code F PUnit} (O' O : CellTallies nD τ sig Unit) (hO : O' = O + debt c 0) (W : Waits sig Unit) :
    iprop(records links (pay m) κ ∗ ticket links c (0 : Fin 4) ∗ lent m c 0 ∗ room (peer 0 c) 0 ∗ owes c.tc O' W)
      ⊢ iprop((sendCred c 0 ∗ owes c.tc O W -∗ wp frame (wpE (defs₀ (F := F)) 𝒱₀ c none) Set.univ (k ⟨⟩) Q)
          -∗ wp frame (wpE (defs₀ (F := F)) 𝒱₀ c none) Set.univ
              (.op (.enqueueDma (halfAt (k0_off1 c) hi) (.remote (Dev.tc n : Thread nD τ) landP (.dma (sendSem 0)) hsc) (.dma (recvSem 0)) hs hd ht) k) Q) := by
  have hl : lent m c 0 = lentP m c := rfl
  have hr : (room (peer 0 c) 0 : sProp 𝕄) = iprop(∃ f, landingP (peer 0 c) f) := rfl
  rw [hl, hr]
  iintro ⟨#HR, Ht, Hs, ⟨%fd, Hd⟩, HO⟩ Hk
  iapply (Cert.Exchange.send_along links (pay m) (defs₀ (F := F)) 𝒱₀ κ c n (0 : Fin 4) hn (src := sentP c) (dst := landP) (sS := sendSem 0) (sR := recvSem 0) rfl rfl
    (m (c.tc.loc main_arg2)) fd credit_landP ?_ ?_ O hO W (routes 0 c)) $$ [Ht Hs Hd HO]
  · exact BIBase.Entails.rfl
  · rw [write_landing]
    exact Entails.of_eq (by show _ = landingP _ (landed m (peer 0 c)); unfold landed; rw [peer_peer]; rfl)
  · isplitr; · iexact HR
    isplitl [Ht]; · iexact Ht
    isplitl [Hs]; · unfold lentP; iexact Hs
    isplitl [Hd]; · unfold landingP; iexact Hd
    iexact HO
  iexact Hk

/-- The transfer of link `1 + j`. -/
theorem send_chip (κ : Dev nD × links.End → ℕ) (c n : Dev nD) (j : Fin 3) (hn : n = chip j c) {o : Fin 3 → ℕ} (ho : o = off j c)
    {hi : ∀ a, o a + S1x512x4096.size a ≤ S4x2048x4096.size a} {hs : (rowsAt o hi).view.WordExact} {hd : (landM j).view.WordExact}
    {hsc : ((landM j) : Memref sig (Dev.tc n : Thread nD τ).2.kind .hbm S512x4096 .bf16).view.ref.isScScratch = false}
    {ht : DmaTarget.Typed .hbm (.dma (recvSem j.succ)) (.remote (Dev.tc n : Thread nD τ) (landM j) (.dma (sendSem j.succ)) hsc)}
    {Q : PUnit → sProp 𝕄} {k : PUnit → Code F PUnit} (O' O : CellTallies nD τ sig Unit) (hO : O' = O + debt c j.succ) (W : Waits sig Unit) :
    iprop(records links (pay m) κ ∗ ticket links c j.succ ∗ lent m c j.succ ∗ room (chip j c) j.succ ∗ owes c.tc O' W)
      ⊢ iprop((sendCred c j.succ ∗ owes c.tc O W -∗ wp frame (wpE (defs₀ (F := F)) 𝒱₀ c none) Set.univ (k ⟨⟩) Q)
          -∗ wp frame (wpE (defs₀ (F := F)) 𝒱₀ c none) Set.univ
              (.op (.enqueueDma (rowsAt o hi) (.remote (Dev.tc n : Thread nD τ) (landM j) (.dma (sendSem j.succ)) hsc) (.dma (recvSem j.succ)) hs hd ht) k) Q) := by
  subst ho
  rw [lent_succ, room_succ]
  iintro ⟨#HR, Ht, Hs, ⟨%fd, Hd⟩, HO⟩ Hk
  iapply (Cert.Exchange.send_along links (pay m) (defs₀ (F := F)) 𝒱₀ κ c n j.succ hn (src := sentM j c) (dst := landM j) (sS := sendSem j.succ) (sR := recvSem j.succ) rfl rfl
    (m (c.tc.loc main_arg3)) fd (credit_land j) ?_ ?_ O hO W (routes j.succ c)) $$ [Ht Hs Hd HO]
  · rw [pay_send, lent_succ]
    exact BIBase.Entails.rfl
  · rw [pay_recv, came_succ]
    exact Entails.of_eq (pointsTo_congr fun i hi => delivered m j c fd i hi)
  · isplitr; · iexact HR
    isplitl [Ht]; · iexact Ht
    isplitl [Hs]; · unfold lentC; iexact Hs
    isplitl [Hd]; · unfold landingC; iexact Hd
    iexact HO
  iexact Hk

/-- The first point's four transfers. -/
theorem send_step (κ : Dev nD × links.End → ℕ) (c : Dev nD) (i : grid0.Coords) (h : k0_cond1 i = 1#1) (W : Waits sig Unit) :
    iprop(records links (pay m) κ ∗ (bigSep Finset.univ fun j : Fin 4 => ticket links c j) ∗ (bigSep Finset.univ fun j => lent m c j)
        ∗ (bigSep Finset.univ fun j => room (peer j c) j) ∗ owes c.tc (due links c) W)
      ⊢ wp frame (wpE (defs₀ (F := F)) 𝒱₀ c none) Set.univ (sendPart (F := F) i)
          (fun _ => iprop((bigSep Finset.univ fun j => sendCred c j) ∗ owes c.tc 0 W : sProp 𝕄)) := by
  unfold sendPart
  rw [dif_pos h]
  simp only [wp_deviceId, four]
  iintro ⟨#HR, ⟨Ht0, Ht1, Ht2, Ht3⟩, ⟨Hs0, Hs1, Hs2, Hs3⟩, ⟨Hd0, Hd1, Hd2, Hd3⟩, HO⟩
  iapply (send_pair m κ c _ (dev1_eq c (k0_dev1_lt i c h)) _ _ (due_eq c) W) $$ [$HR $Ht0 $Hs0 $Hd0 $HO]
  iintro ⟨Hc0, HO⟩
  iapply (send_chip m κ c _ 0 (dev2_eq c (k0_dev2_lt i c h)) rfl _ _ rfl W) $$ [$HR $Ht1 $Hs1 $Hd1 $HO]
  iintro ⟨Hc1, HO⟩
  iapply (send_chip m κ c _ 1 (dev3_eq c (k0_dev3_lt i c h)) rfl _ _ rfl W) $$ [$HR $Ht2 $Hs2 $Hd2 $HO]
  iintro ⟨Hc2, HO⟩
  iapply (send_chip m κ c _ 2 (dev4_eq c (k0_dev4_lt i c h)) rfl _ _ rfl W) $$ [$HR $Ht3 $Hs3 $Hd3 $HO]
  iintro ⟨Hc3, HO⟩
  rw [wp_ret]; imodintro
  isplitr [HO]
  · isplitl [Hc0]; · iexact Hc0
    isplitl [Hc1]; · iexact Hc1
    isplitl [Hc2]; · iexact Hc2
    iexact Hc3
  iexact HO

/-- The last point's eight waits: the landing places come with what the peers sent, and the sent elements come back. -/
theorem wait_step (κ : Dev nD × links.End → ℕ) (c : Dev nD) (i : grid0.Coords) (h : k0_cond5 i = 1#1) :
    iprop(records links (pay m) κ ∗ (bigSep Finset.univ fun j : Fin 4 => seats links c j) ∗ (bigSep Finset.univ fun j => sendCred c j)
        ∗ (bigSep Finset.univ fun j => recvCred c j) ∗ ∃ W, owes c.tc 0 W)
      ⊢ wp frame (wpE (defs₀ (F := F)) 𝒱₀ c none) Set.univ (waitPart (F := F) i)
          (fun _ => iprop((bigSep Finset.univ fun j => lent m c j) ∗ (bigSep Finset.univ fun j => came m c j)
            ∗ (bigSep Finset.univ fun j : Fin 4 => semVal (links.cell c (false, j)) 0) ∗ (bigSep Finset.univ fun j : Fin 4 => semVal (links.cell c (true, j)) 0)
            ∗ ∃ W, owes c.tc 0 W : sProp 𝕄)) := by
  unfold waitPart
  rw [dif_pos h]
  unfold seats
  simp only [wp_deviceId, four, ← pay_send m, ← pay_recv m]
  iintro ⟨#HR, ⟨⟨HaS0, HaR0⟩, ⟨HaS1, HaR1⟩, ⟨HaS2, HaR2⟩, ⟨HaS3, HaR3⟩⟩, ⟨HcS0, HcS1, HcS2, HcS3⟩, ⟨HcR0, HcR1, HcR2, HcR3⟩, HO⟩
  iapply (wait_link links (pay m) κ c (true, (0 : Fin 4)) credit_landP) $$ [$HR $HaR0 $HcR0 $HO]
  iintro ⟨HpR0, HzR0, HO⟩
  iapply (wait_link links (pay m) κ c (false, (0 : Fin 4)) (credit_half _)) $$ [$HR $HaS0 $HcS0 $HO]
  iintro ⟨HpS0, HzS0, HO⟩
  iapply (wait_link links (pay m) κ c (true, (1 : Fin 4)) (credit_land 0)) $$ [$HR $HaR1 $HcR1 $HO]
  iintro ⟨HpR1, HzR1, HO⟩
  iapply (wait_link links (pay m) κ c (true, (2 : Fin 4)) (credit_land 1)) $$ [$HR $HaR2 $HcR2 $HO]
  iintro ⟨HpR2, HzR2, HO⟩
  iapply (wait_link links (pay m) κ c (true, (3 : Fin 4)) (credit_land 2)) $$ [$HR $HaR3 $HcR3 $HO]
  iintro ⟨HpR3, HzR3, HO⟩
  iapply (wait_link links (pay m) κ c (false, (1 : Fin 4)) (credit_rows 0 _)) $$ [$HR $HaS1 $HcS1 $HO]
  iintro ⟨HpS1, HzS1, HO⟩
  iapply (wait_link links (pay m) κ c (false, (2 : Fin 4)) (credit_rows 1 _)) $$ [$HR $HaS2 $HcS2 $HO]
  iintro ⟨HpS2, HzS2, HO⟩
  iapply (wait_link links (pay m) κ c (false, (3 : Fin 4)) (credit_rows 2 _)) $$ [$HR $HaS3 $HcS3 $HO]
  iintro ⟨HpS3, HzS3, HO⟩
  rw [wp_ret]; imodintro
  iframe

end Cert.Dx

end
-- ==== Proof.DxBody.lean ====
/-
# The body of `up_dx` at every grid point

The schedule of the call on device `c`, its window contents, and the body's obligation: what a grid point is given and
what it leaves. Before the first point nothing is sent (`Start`); between the first and the last the transfers are on the
way (`Sent`); after the last all have landed (`Done`). Beside that a device holds the accumulator: within the sixteen
points of one output block it is the sum of the products so far (`accum`).
-/
module

public import proofs.«01_k».proof.Proof.DxSteps
public import proofs.«01_k».proof.Proof.Gen.DxKernelIdeal.Frame

@[expose] public section

noncomputable section

namespace Cert.Dx

open Cert.DxKernelIdeal Cert.DxKernelIdeal.Gen
open Idealize.ShloMosaic
open Idealize.ShloMosaic.Pipeline
open Idealize.ShloMosaic.TcCoe
open Idealize.SL Idealize.SL.RA Idealize.SL.BI
open BIBase Laws ProofMode Sem
open Idealize.ShloMosaic.Rounds
open Cert.Exchange (Links UU EP ER records ticket seats hand due)

variable {F : FTy → Type} [FloatOps F]

local notation "𝕄" => MT nD τ sig Unit (Elt F) ℕ (UU nD sig τ) ℕ

variable (m : (ℓ : Loc nD τ sig) → Buf (Elt F) ℓ)

/-! ## The states -/

/-- What no transfer touches: the rest of the arrays sent from, the rest of the landing buffer, and the array that the
    host operation after the call writes. -/
def aside (c : Dev nD) : sProp 𝕄 :=
  iprop(keptP m c ∗ keptC m c ∗ above c (filled m c) ∗ (c.tc.loc main_v2 ↦{fullShare} m (c.tc.loc main_v2)))

/-- The memory a device brings to the exchange: what it sends, its peers' landing places, and what no transfer touches. -/
def mine (c : Dev nD) : sProp 𝕄 :=
  iprop((bigSep Finset.univ fun j => lent m c j) ∗ (bigSep Finset.univ fun j => room (peer j c) j) ∗ aside m c)

/-- Before the first grid point. -/
def Start (c : Dev nD) : sProp 𝕄 :=
  iprop((∃ κ, records links (pay m) κ) ∗ (bigSep Finset.univ fun j : Fin 4 => hand links c j) ∗ mine m c)

/-- Between the first and the last. -/
def Sent (c : Dev nD) : sProp 𝕄 :=
  iprop((∃ κ, records links (pay m) κ) ∗ (bigSep Finset.univ fun j : Fin 4 => seats links c j) ∗ (bigSep Finset.univ fun j => sendCred c j)
    ∗ (bigSep Finset.univ fun j => recvCred c j) ∗ aside m c)

/-- After the last. -/
def Done (c : Dev nD) : sProp 𝕄 :=
  iprop((bigSep Finset.univ fun j => lent m c j) ∗ (bigSep Finset.univ fun j => came m c j) ∗ aside m c
    ∗ (bigSep Finset.univ fun j : Fin 4 => semVal (links.cell c (false, j)) 0) ∗ (bigSep Finset.univ fun j : Fin 4 => semVal (links.cell c (true, j)) 0))

/-- The state of the exchange before point `n`. -/
def stage (c : Dev nD) (n : ℕ) : sProp 𝕄 := if n = 0 then Start m c else if n = 128 then Done m c else Sent m c

/-! ## The accumulator -/

/-- The blocks a point reads. -/
abbrev lhs (c : Dev nD) (t : Fin cfg0.N) : Vec F S2048x1024 .bf16 := iblk m c 0 t
abbrev rhs (c : Dev nD) (t : Fin cfg0.N) : Vec F S1x1024x1024 .bf16 := iblk m c 1 t

/-- The sum of the products of the points of one output block, up to point `n`. -/
def accum (c : Dev nD) : (n : ℕ) → n < cfg0.N → Vec F S2048x1024 .f32
  | 0, h => k0_pay1 (lhs m c ⟨0, h⟩) (rhs m c ⟨0, h⟩)
  | n + 1, h => if (n + 1) % 16 = 0 then k0_pay1 (lhs m c ⟨n + 1, h⟩) (rhs m c ⟨n + 1, h⟩)
      else k0_pay2 (accum c n (Nat.lt_of_succ_lt h)) (lhs m c ⟨n + 1, h⟩) (rhs m c ⟨n + 1, h⟩)

theorem accum_first (c : Dev nD) : (n : ℕ) → (h : n < cfg0.N) → n % 16 = 0 → accum m c n h = k0_pay1 (lhs m c ⟨n, h⟩) (rhs m c ⟨n, h⟩)
  | 0, _, _ => rfl
  | _ + 1, _, hn => if_pos hn

theorem accum_next (c : Dev nD) (n : ℕ) (h : n + 1 < cfg0.N) (hn : ¬ (n + 1) % 16 = 0) :
    accum m c (n + 1) h = k0_pay2 (accum m c n (Nat.lt_of_succ_lt h)) (lhs m c ⟨n + 1, h⟩) (rhs m c ⟨n + 1, h⟩) := if_neg hn

/-- What a device knows of its accumulator before point `n`. -/
def held (c : Dev nD) (n : ℕ) : sProp 𝕄 :=
  iprop(∃ s, ⌜∀ h : n - 1 < cfg0.N, n % 16 ≠ 0 → s = accum m c (n - 1) h⌝
    ∗ owns (Ix := Unit) (Name := ℕ) (U := UU nD sig τ) (Lvl := ℕ) c.tc (Memref.whole cc0_scratch0) fullShare s)

/-! ## The schedule -/

/-- The block the last point of an output block writes. -/
def wrote (c : Dev nD) (t : Fin cfg0.N) : Vec F S2048x1024 .f32 :=
  k0_pay3 (accum m c (t.val - 1) (Nat.lt_of_le_of_lt (Nat.sub_le _ _) t.isLt)) (lhs m c t) (rhs m c t)

def dats (_ : Fin 1) (c : Dev nD) : Dat τ (Elt F) Unit ℕ (UU nD sig τ) ℕ cfg0 c where
  A w := V m c (Pipeline.arrRef spec0 w)
  after w t := match w with
    | ⟨0, _⟩ => iblk m c 0 t
    | ⟨1, _⟩ => iblk m c 1 t
    | ⟨2, _⟩ => wrote m c t
  Φ t := iprop(stage m c t.val ∗ held m c t.val)
  q _ := fullShare
  owed t := if t.val = 0 then due links c else 0

/-- The two windows that are read hold their blocks at every point, fetched there or before. -/
theorem before_0 (c : Dev nD) (t : Fin cfg0.N) (d) : (dats m 0 c).before 0 t d = iblk m c 0 t :=
  ((dats m 0 c).before_in_eq_fetched 0 rfl (fun _ => rfl) (fun _ _ _ => rfl) (fun _ => rfl) t d).trans rfl
theorem before_1 (c : Dev nD) (t : Fin cfg0.N) (d) : (dats m 0 c).before 1 t d = iblk m c 1 t :=
  ((dats m 0 c).before_in_eq_fetched 1 rfl (fun _ => rfl) (fun _ _ _ => rfl) (fun _ => rfl) t d).trans rfl

/-- The output's buffer is left at the block by the last point of it, and as it was found by the others. -/
theorem leaves_last (c : Dev nD) (t : Fin cfg0.N) (h : t.val % 16 = 15) :
    (dats m 0 c).leavesExact 2 t = owns c.tc (st0_2 t) fullShare (wrote m c t) := by
  have hi : cfg0.idle 2 (cfg0.grid.coords t) = false := by
    show (!(k0_cond4 (grid0.coords t) == 1#1)) = false
    rw [(last_iff t).mpr h]; rfl
  unfold Dat.leavesExact
  rw [hi]
  rfl
theorem leaves_other (c : Dev nD) (t : Fin cfg0.N) (h : ¬ t.val % 16 = 15) :
    (dats m 0 c).leavesExact 2 t = iprop(∃ d, owns c.tc (st0_2 t) fullShare ((dats m 0 c).before 2 t d)) := by
  refine (dats m 0 c).leavesExact_idle 2 t ?_ (Bool.eq_false_iff.mpr fun hf => h ((flush0_2 t).mp hf))
  show (!(k0_cond4 (grid0.coords t) == 1#1)) = true
  rw [beq_false_of_ne fun h' => h ((last_iff t).mp h')]; rfl

/-! ## The obligation -/

/-- What a device owes, the pairs it has waited on left open. -/
theorem owesAt_intro (c : Dev nD) (t : Fin (cfg0.N + 1)) (W : Waits sig Unit) (O : CellTallies nD τ sig Unit) (hO : (dats m 0 c).owed t = O) :
    (owes c.tc O W : sProp 𝕄) ⊢ (dats m 0 c).owesAt () t := by
  unfold Dat.owesAt Pipeline.owesWithin
  rw [hO]
  iintro H
  iexists W
  isplitr
  · ipureintro; exact fun _ _ => Or.inl trivial
  iexact H

theorem send_point (c : Dev nD) (t : Fin cfg0.N) :
    iprop(stage m c t.castSucc.val ∗ (dats m 0 c).owesAt () t.castSucc)
      ⊢ wp frame (wpE (defs₀ (F := F)) 𝒱₀ c none) Set.univ (sendPart (F := F) (grid0.coords t))
          (fun _ => iprop(Sent m c ∗ ∃ W, owes c.tc 0 W : sProp 𝕄)) := by
  have hN : t.val < 128 := lt_of_lt_of_eq t.isLt N_0
  unfold Dat.owesAt Pipeline.owesWithin
  by_cases h : t.val = 0
  · have hΦ : stage m c t.castSucc.val = Start m c := if_pos h
    have hO : (dats m 0 c).owed t.castSucc = due links c := if_pos h
    rw [hΦ, hO]
    unfold Start hand mine
    simp only [bigSep_sep']
    iintro ⟨⟨⟨%κ, #HR⟩, ⟨Ht, Hs, Hc⟩, Hl, Hd, Hk⟩, ⟨%W, %hW, HO⟩⟩
    iapply (wp_wand frame (wpE (defs₀ (F := F)) 𝒱₀ c none) Set.univ) $$ [Ht Hl Hd HO]
    · iapply (send_step m κ c (grid0.coords t) ((sends_iff t).mpr h) W)
      iframe HR ∗
    iintro %a ⟨Hcs, HO⟩
    unfold Sent
    isplitr [HO]
    · isplitr; · (iexists κ; iexact HR)
      iframe
    · iexists W; iexact HO
  · have hΦ : stage m c t.castSucc.val = Sent m c := (if_neg h).trans (if_neg (by show ¬ t.val = 128; omega))
    have hO : (dats m 0 c).owed t.castSucc = 0 := if_neg h
    rw [hΦ, hO]
    unfold sendPart
    rw [dif_neg fun h' => h ((sends_iff t).mp h'), wp_ret]
    iintro ⟨H, ⟨%W, %hW, HO⟩⟩
    imodintro
    isplitl [H]; · iexact H
    iexists W; iexact HO

theorem wait_point (c : Dev nD) (t : Fin cfg0.N) :
    iprop(Sent m c ∗ ∃ W, owes c.tc 0 W)
      ⊢ wp frame (wpE (defs₀ (F := F)) 𝒱₀ c none) Set.univ (waitPart (F := F) (grid0.coords t))
          (fun _ => iprop(stage m c t.succ.val ∗ (dats m 0 c).owesAt () t.succ : sProp 𝕄)) := by
  have hO : (dats m 0 c).owed t.succ = 0 := by
    show (if t.val + 1 = 0 then due links c else 0) = 0
    exact if_neg (Nat.succ_ne_zero t.val)
  by_cases h : t.val = 127
  · have hΦ : stage m c t.succ.val = Done m c := by
      show (if t.val + 1 = 0 then Start m c else if t.val + 1 = 128 then Done m c else Sent m c) = Done m c
      rw [if_neg (Nat.succ_ne_zero t.val), if_pos (by omega)]
    rw [hΦ]
    unfold Sent
    iintro ⟨⟨⟨%κ, #HR⟩, Hs, Hcs, Hcr, Hk⟩, HO⟩
    iapply (wp_wand frame (wpE (defs₀ (F := F)) 𝒱₀ c none) Set.univ) $$ [Hs Hcs Hcr HO]
    · iapply (wait_step m κ c (grid0.coords t) ((waits_iff t).mpr h))
      iframe HR ∗
    iintro %a ⟨Hl, Hd, HzS, HzR, ⟨%W', HO⟩⟩
    unfold Done
    isplitr [HO]
    · iframe
    · iapply (owesAt_intro m c t.succ W' 0 hO); iexact HO
  · have hΦ : stage m c t.succ.val = Sent m c := by
      show (if t.val + 1 = 0 then Start m c else if t.val + 1 = 128 then Done m c else Sent m c) = Sent m c
      rw [if_neg (Nat.succ_ne_zero t.val), if_neg (by omega)]
    rw [hΦ]
    unfold waitPart
    rw [dif_neg fun h' => h ((waits_iff t).mp h'), wp_ret]
    iintro ⟨H, ⟨%W, HO⟩⟩
    imodintro
    isplitl [H]; · iexact H
    iapply (owesAt_intro m c t.succ W 0 hO); iexact HO

/-- The computing part: the accumulator one product further, or the output block written. -/
theorem work_point (c : Dev nD) (t : Fin cfg0.N) (d2) :
    iprop(held m c t.val ∗ owns (Ix := Unit) (Name := ℕ) (U := UU nD sig τ) (Lvl := ℕ) c.tc (st0_0 t) fullShare (lhs m c t)
        ∗ owns c.tc (st0_1 t) fullShare (rhs m c t) ∗ owns c.tc (st0_2 t) fullShare ((dats m 0 c).before 2 t d2))
      ⊢ wp frame (wpE (defs₀ (F := F)) 𝒱₀ c none) Set.univ
          (workPart (F := F) (st0_0 t) (st0_1 t) (st0_2 t) (Memref.whole cc0_scratch0) (grid0.coords t))
          (fun _ => iprop(held m c (t.val + 1) ∗ owns c.tc (st0_0 t) fullShare (lhs m c t)
            ∗ owns c.tc (st0_1 t) fullShare (rhs m c t) ∗ (dats m 0 c).leavesExact 2 t : sProp 𝕄)) := by
  have hlt : t.val - 1 < cfg0.N := Nat.lt_of_le_of_lt (Nat.sub_le _ _) t.isLt
  unfold held
  iintro ⟨⟨%s, %hs, HS⟩, HA, HB, HO⟩
  by_cases h0 : t.val % 16 = 0
  · have h15 : ¬ t.val % 16 = 15 := by omega
    rw [work_first _ _ _ _ _ ((first_iff t).mpr h0) (fun h => ((middle_iff t).mp h).1 h0) (fun h => h15 ((last_iff t).mp h)), leaves_other m c t h15]
    iapply (wp_wand frame (wpE (defs₀ (F := F)) 𝒱₀ c none) Set.univ) $$ [HA HB HS]
    · iapply (set_step c (st0_0 t) (st0_1 t) (Memref.whole cc0_scratch0) (lhs m c t) (rhs m c t) s)
      iframe
    iintro %a ⟨HA, HB, HS⟩
    isplitl [HS]
    · iexists (k0_pay1 (lhs m c t) (rhs m c t))
      isplitr
      · ipureintro
        exact fun h _ => (accum_first m c t.val t.isLt h0).symm
      iexact HS
    isplitl [HA]; · iexact HA
    isplitl [HB]; · iexact HB
    iexists d2; iexact HO
  · have hs' := hs hlt h0
    by_cases h15 : t.val % 16 = 15
    · rw [work_last _ _ _ _ _ (fun h => h0 ((first_iff t).mp h)) (fun h => ((middle_iff t).mp h).2 h15) ((last_iff t).mpr h15), leaves_last m c t h15]
      subst hs'
      iapply (wp_wand frame (wpE (defs₀ (F := F)) 𝒱₀ c none) Set.univ) $$ [HA HB HO HS]
      · iapply (put_step c (st0_0 t) (st0_1 t) (st0_2 t) (Memref.whole cc0_scratch0) (lhs m c t) (rhs m c t) _ (accum m c (t.val - 1) hlt))
        iframe
      iintro %a ⟨HA, HB, HO, HS⟩
      isplitl [HS]
      · iexists (accum m c (t.val - 1) hlt)
        isplitr
        · ipureintro
          exact fun h h' => absurd (by omega : (t.val + 1) % 16 = 0) h'
        iexact HS
      iframe HA HB
      iexact HO
    · rw [work_middle _ _ _ _ _ (fun h => h0 ((first_iff t).mp h)) ((middle_iff t).mpr ⟨h0, h15⟩) (fun h => h15 ((last_iff t).mp h)), leaves_other m c t h15]
      subst hs'
      iapply (wp_wand frame (wpE (defs₀ (F := F)) 𝒱₀ c none) Set.univ) $$ [HA HB HS]
      · iapply (add_step c (st0_0 t) (st0_1 t) (Memref.whole cc0_scratch0) (lhs m c t) (rhs m c t) (accum m c (t.val - 1) hlt))
        iframe
      iintro %a ⟨HA, HB, HS⟩
      isplitl [HS]
      · iexists (k0_pay2 (accum m c (t.val - 1) hlt) (lhs m c t) (rhs m c t))
        isplitr
        · ipureintro
          intro h _
          obtain ⟨n, ht⟩ := t
          cases n with
          | zero => exact absurd rfl h0
          | succ n => exact (accum_next m c n ht h0).symm
        iexact HS
      isplitl [HA]; · iexact HA
      isplitl [HB]; · iexact HB
      iexists d2; iexact HO

theorem body_obligation (c : Dev nD) : BodyObligation (dats (F := F) m 0 c) (defs₀ (F := F)) 𝒱₀ () Set.univ := fun t => by
  rw [bigSep_W0, bigSep_W0]
  show _ ⊢ wp frame (wpE (defs₀ (F := F)) 𝒱₀ c none) Set.univ (bodyAt0 (F := F) t) _
  have hΦ : (dats m 0 c).Φ t.castSucc = iprop(stage m c t.castSucc.val ∗ held m c t.val) := rfl
  rw [body_eq, wp_bind, hΦ]
  iintro ⟨⟨HΦ, HS⟩, HO, ⟨%d0, H0⟩, ⟨%d1, H1⟩, ⟨%d2, H2⟩⟩
  iapply (wp_wand frame (wpE (defs₀ (F := F)) 𝒱₀ c none) Set.univ) $$ [HΦ HO]
  · iapply (send_point m c t)
    isplitl [HΦ] <;> iassumption
  iintro %a ⟨HE, HO⟩
  rw [wp_bind]
  iapply (wp_wand frame (wpE (defs₀ (F := F)) 𝒱₀ c none) Set.univ) $$ [HS H0 H1 H2]
  · iapply (work_point m c t d2)
    isplitl [HS]; · iexact HS
    isplitl [H0]; · (iapply (Entails.of_eq (congrArg _ (before_0 m c t d0))); iexact H0)
    isplitl [H1]; · (iapply (Entails.of_eq (congrArg _ (before_1 m c t d1))); iexact H1)
    iexact H2
  iintro %a' ⟨HS, H0, H1, H2⟩
  iapply (wp_wand frame (wpE (defs₀ (F := F)) 𝒱₀ c none) Set.univ) $$ [HE HO]
  · iapply (wait_point m c t)
    isplitl [HE] <;> iassumption
  iintro %a'' ⟨HΦ, HO⟩
  have hΨ : (dats m 0 c).Φ t.succ = iprop(stage m c t.succ.val ∗ held m c (t.val + 1)) := rfl
  isplitl [HΦ HS]
  · rw [hΨ]
    isplitl [HΦ]; · iexact HΦ
    iexact HS
  isplitl [HO]; · iexact HO
  isplitl [H0]; · iexact H0
  isplitl [H1]; · iexact H1
  iexact H2

end Cert.Dx

end
-- ==== Proof.DxValue.lean ====
/-
# The block of an output of `up_dx` over the reals

A grid point adds to entry `(p, q)` of the accumulator the inner product of row `p` of the left factor's block and row `q`
of the right factor's. So what the last of the sixteen points of an output block writes there is the sum of the sixteen
inner products.
-/
module

public import proofs.«01_k».proof.Proof.DxBody
public import Idealize.ShloMosaic.Lib.Pointwise

@[expose] public section

set_option maxRecDepth 16384

noncomputable section

namespace Cert.Dx

open Cert.DxKernelIdeal Cert.DxKernelIdeal.Gen
open Idealize.ShloMosaic Idealize.ShloMosaic.TcCoe

/-- The inner product of a row of a left block and a row of a right block. -/
def inner (a : Vec Ideal S2048x1024 .bf16) (b : Vec Ideal S1x1024x1024 .bf16) (p : Fin 2048) (q : Fin 1024) : EReal :=
  ∑ k : Fin 1024, (a (ix2 p k) : EReal) * b (ix3 (0 : Fin 1) q k)

section
variable (a : Vec Ideal S2048x1024 .bf16) (b : Vec Ideal S1x1024x1024 .bf16) (s : Vec Ideal S2048x1024 .f32) (p : Fin 2048) (q : Fin 1024)

theorem pay1_apply : k0_pay1 a b (ix2 p q) = inner a b p q := by
  pointwise [k0_pay1, inner]

theorem pay2_apply : k0_pay2 s a b (ix2 p q) = (s (ix2 p q) : EReal) + inner a b p q := by
  pointwise [k0_pay2, inner]

theorem pay3_apply : k0_pay3 s a b (ix2 p q) = (s (ix2 p q) : EReal) + inner a b p q := by
  pointwise [k0_pay3, inner]
end

variable (m : (ℓ : Loc nD τ sig) → Buf (Elt Ideal) ℓ)

/-- What point `n` adds. -/
def term (c : Dev nD) (p : Fin 2048) (q : Fin 1024) (n : ℕ) : EReal :=
  if h : n < cfg0.N then inner (lhs m c ⟨n, h⟩) (rhs m c ⟨n, h⟩) p q else 0

theorem term_of_lt (c : Dev nD) (p : Fin 2048) (q : Fin 1024) (n : ℕ) (h : n < cfg0.N) :
    term m c p q n = inner (lhs m c ⟨n, h⟩) (rhs m c ⟨n, h⟩) p q := dif_pos h

/-- The accumulator within an output block. -/
theorem accum_apply (c : Dev nD) (p : Fin 2048) (q : Fin 1024) (b : ℕ) (hb : b % 16 = 0) : (j : ℕ) → j < 16 → (h : b + j < cfg0.N) →
    accum m c (b + j) h (ix2 p q) = ∑ s ∈ Finset.range (j + 1), term m c p q (b + s)
  | 0, _, h => by
    rw [Finset.sum_range_one, term_of_lt m c p q (b + 0) h, accum_first m c (b + 0) h hb]
    exact pay1_apply _ _ p q
  | j + 1, hj, h => by
    have h' : b + j < cfg0.N := Nat.lt_of_succ_lt h
    rw [Finset.sum_range_succ, ← accum_apply c p q b hb j (by omega) h', term_of_lt m c p q (b + (j + 1)) h]
    refine (congrFun (accum_next m c (b + j) h (by omega)) (ix2 p q)).trans ?_
    exact pay2_apply _ _ _ p q

/-- What the last point of an output block writes. -/
theorem wrote_apply (c : Dev nD) (t : Fin cfg0.N) (ht : t.val % 16 = 15) (p : Fin 2048) (q : Fin 1024) :
    wrote m c t (ix2 p q) = ∑ s ∈ Finset.range 16, term m c p q (t.val - 15 + s) := by
  have htN : t.val < cfg0.N := t.isLt
  have h1 : t.val - 15 + 14 < cfg0.N := by omega
  have e (n : ℕ) (hn : n < cfg0.N) (h : n = t.val - 15 + 14) : accum m c n hn (ix2 p q) = ∑ s ∈ Finset.range 15, term m c p q (t.val - 15 + s) := by
    subst h
    exact accum_apply m c p q (t.val - 15) (by omega) 14 (by decide) hn
  rw [Finset.sum_range_succ, term_of_lt m c p q (t.val - 15 + 15) (by omega)]
  refine (pay3_apply _ _ _ p q).trans ?_
  refine congrArg₂ (· + ·) (e _ _ (by omega)) ?_
  have : (⟨t.val - 15 + 15, by omega⟩ : Fin cfg0.N) = t := Fin.ext (by show t.val - 15 + 15 = t.val; omega)
  rw [this]

end Cert.Dx

end
-- ==== Proof.DxRun.lean ====
/-
# The run of `up_dx`

On the eight devices, for any float values and from any memory with zero counters: every weakly fair execution ends, with
each device's product array at what its grid points wrote, its two other results at what its peers sent, its arguments
unchanged and every counter at zero.
-/
module

public import proofs.«01_k».proof.Proof.DxBody
public import proofs.«01_k».proof.Proof.Exchange

@[expose] public section

noncomputable section

namespace Cert.Dx

open Cert.DxKernelIdeal Cert.DxKernelIdeal.Gen
open Idealize.ShloMosaic
open Idealize.ShloMosaic.Pipeline
open Idealize.ShloMosaic.TcCoe
open Idealize.SL Idealize.SL.RA Idealize.SL.BI
open BIBase Laws ProofMode Sem
open Idealize.ShloMosaic.Rounds
open Cert.Exchange (Links UU EP ER records ticket seats hand due begins allCells allToks ghosts shared owns_iff)

variable {F : FTy → Type} [FloatOps F]

local notation "𝕄" => MT nD τ sig Unit (Elt F) ℕ (UU nD sig τ) ℕ

variable (m : (ℓ : Loc nD τ sig) → Buf (Elt F) ℓ) (ρ : Dev nD → PrngReg)

/-! ## What the launch theorem asks for -/

theorem ownSemFacts : Pipeline.OwnSemFacts cfg0.spec links.osem := by decide

theorem share_eq (c : Dev nD) (w : Fin cfg0.W) : (dats m 0 c).share w = fullShare := by unfold Dat.share; split <;> rfl

theorem waits (c : Dev nD) : (levAts Cert.Exchange.L (Cert.Exchange.lv links) : sProp 𝕄) ⊢ Pipeline.cellsWaits cfgs (dats m) () 0 c :=
  Pipeline.cellsWaits_intro cfgs (dats m) () 0 c fun w s t =>
    Cert.Exchange.mayWait_stage links c _ (by fin_cases w <;> fin_cases s <;> decide) _ (ite_eq_or_eq (t.val = 0) _ _)

/-- The memory no window stages, as a device brings it. -/
def rest (c : Dev nD) : sProp 𝕄 := Pipeline.unscopedRest spec0 c (V m c)

/-- The four links: the one of link 0 and the three others. -/
theorem lent_all (c : Dev nD) : (bigSep Finset.univ fun j => lent m c j : sProp 𝕄) = iprop(lentP m c ∗ bigSep Finset.univ fun j => lentC m c j) := by
  rw [four, three]; rfl
theorem came_all (c : Dev nD) : (bigSep Finset.univ fun j => came m c j : sProp 𝕄)
    = iprop(landingP c (landed m c) ∗ bigSep Finset.univ fun j => landingC c j (filled m c)) := by
  rw [four, three]; rfl
theorem room_all (c : Dev nD) (f) (g) : (iprop(landingP c f ∗ bigSep Finset.univ fun j => landingC c j g) : sProp 𝕄) ⊢ bigSep Finset.univ fun j => room c j := by
  rw [four, three]
  have hP : (landingP c f : sProp 𝕄) ⊢ room c 0 := by
    show landingP c f ⊢ iprop(∃ f, landingP c f)
    iintro H; iexists f; iexact H
  have hC (j : Fin 3) : (landingC c j g : sProp 𝕄) ⊢ room c j.succ := by
    rw [room_succ]
    iintro H; iexists g; iexact H
  iintro ⟨HP, H0, H1, H2⟩
  isplitl [HP]; · iapply hP; iexact HP
  isplitl [H0]; · iapply (hC 0); iexact H0
  isplitl [H1]; · iapply (hC 1); iexact H1
  iapply (hC 2); iexact H2

/-- The landing places dealt across the links. -/
theorem deal : (bigSep Finset.univ (rest m) : sProp 𝕄) ⊢ bigSep Finset.univ (mine m) := by
  have h (c : Dev nD) : rest m c ⊢ iprop(((bigSep Finset.univ fun j => lent m c j) ∗ aside m c)
      ∗ bigSep Finset.univ fun j => room c j : sProp 𝕄) := by
    have hr : rest m c = iprop((c.tc.loc main_arg2 ↦{fullShare} m (c.tc.loc main_arg2))
        ∗ (c.tc.loc main_arg3 ↦{fullShare} m (c.tc.loc main_arg3))
        ∗ (c.tc.loc main_v1_1 ↦{fullShare} m (c.tc.loc main_v1_1))
        ∗ (c.tc.loc main_v1_2 ↦{fullShare} m (c.tc.loc main_v1_2))
        ∗ (c.tc.loc main_v2 ↦{fullShare} m (c.tc.loc main_v2))) := unscopedRest0_eq c (V m c)
    unfold aside
    rw [hr, ← above_eq m c, lent_all]
    iintro ⟨H2, H3, HP, HC, HV⟩
    ihave H2 := (arg2_split m c).1 $$ H2
    ihave H3 := (arg3_split m c).1 $$ H3
    ihave HP := (Entails.of_eq (landingP_eq c (m (c.tc.loc main_v1_1))).symm) $$ HP
    ihave HC := (landingC_split c (m (c.tc.loc main_v1_2))).1 $$ HC
    icases H2 with ⟨Hs2, Hk2⟩
    icases H3 with ⟨Hs3, Hk3⟩
    icases HC with ⟨Hl, Hb⟩
    isplitr [HP Hl]
    · iframe
    iapply (room_all c (m (c.tc.loc main_v1_1)) (m (c.tc.loc main_v1_2)))
    iframe
  refine Cert.Exchange.deal_across links room h fun c => ?_
  show iprop(_ ∗ bigSep Finset.univ fun j => room (peer j c) j) ⊢ mine m c
  unfold mine
  iintro ⟨⟨H1, H2⟩, H3⟩
  iframe

/-- What a device holds when the call begins. -/
abbrev X (c : Dev nD) : sProp 𝕄 := begins links (pay m) (mine m) c

/-- What it holds of the arrays no window stages when the call has ended. -/
def Y (c : Dev nD) : sProp 𝕄 :=
  iprop((c.tc.loc main_arg2 ↦{fullShare} m (c.tc.loc main_arg2))
    ∗ (c.tc.loc main_arg3 ↦{fullShare} m (c.tc.loc main_arg3))
    ∗ (c.tc.loc main_v1_1 ↦{fullShare} (landed m c : Buf (Elt F) (c.tc.loc main_v1_1)))
    ∗ (c.tc.loc main_v1_2 ↦{fullShare} (filled m c : Buf (Elt F) (c.tc.loc main_v1_2)))
    ∗ (c.tc.loc main_v2 ↦{fullShare} m (c.tc.loc main_v2)))

/-- The rows of the landing buffer that the transfers write, which are the third result. -/
def carved (c : Dev nD) : Vec F S3x512x4096 .bf16 :=
  extractStridedSlice S3x512x4096 ![0, 1536, 0] (filled m c) slices_S3x2048x4096_S3x512x4096_0_1536_0

/-- What it holds of them at the end of the program. -/
def Z (c : Dev nD) : sProp 𝕄 :=
  iprop((c.tc.loc main_arg2 ↦{fullShare} m (c.tc.loc main_arg2))
    ∗ (c.tc.loc main_arg3 ↦{fullShare} m (c.tc.loc main_arg3))
    ∗ (c.tc.loc main_v1_1 ↦{fullShare} (landed m c : Buf (Elt F) (c.tc.loc main_v1_1)))
    ∗ (c.tc.loc main_v2 ↦{fullShare} (carved m c : Buf (Elt F) (c.tc.loc main_v2))))

/-- The accumulator, at whatever it holds. -/
theorem held_any (c : Dev nD) : (Pipeline.scopedRest spec0 c : sProp 𝕄)
    = iprop(∃ f : Buf (Elt F) (c.tc.loc cc0_scratch0), (Memref.whole cc0_scratch0).view.loc c.tc
        ↦[(Memref.whole cc0_scratch0).view.set]{fullShare} f) := by
  rw [scopedRest0_eq, View.set_whole]

theorem phi_start (c : Dev nD) : iprop(X m c ∗ Pipeline.scopedRest spec0 c) ⊢ (dats m 0 c).Φ 0 := by
  show iprop(X m c ∗ Pipeline.scopedRest spec0 c) ⊢ iprop(Start m c ∗ held m c 0)
  rw [held_any]
  unfold Start X begins held
  simp only [owns_iff]
  iintro ⟨H, ⟨%f, HS⟩⟩
  isplitl [H]; · iexact H
  iexists ((Memref.whole cc0_scratch0).view.read (Elt F) f)
  isplitr
  · ipureintro; exact fun _ h => absurd rfl h
  iexists f
  isplitr
  · ipureintro; rfl
  iexact HS

theorem phi_end (c : Dev nD) :
    (dats m 0 c).Φ (Fin.last cfg0.N) ⊢ iprop(Y m c ∗ Pipeline.ownSems0 links.osem c ∗ Pipeline.scopedRest spec0 c) := by
  have hΦ : (dats m 0 c).Φ (Fin.last cfg0.N) = iprop(Done m c ∗ held m c cfg0.N) := by
    show iprop((if cfg0.N = 0 then Start m c else if cfg0.N = 128 then Done m c else Sent m c) ∗ held m c cfg0.N) = _
    rw [if_neg (by rw [show cfg0.N = 128 from N_0]; decide), if_pos N_0]
  rw [hΦ, held_any]
  have hs : (Pipeline.ownSems0 links.osem c : sProp 𝕄)
      = iprop((bigSep Finset.univ fun j : Fin 4 => semVal (links.cell c (false, j)) 0) ∗ (bigSep Finset.univ fun j : Fin 4 => semVal (links.cell c (true, j)) 0)) := by
    unfold Pipeline.ownSems0
    exact Cert.Exchange.ends links fun k => semVal (links.cell c k) 0
  rw [hs]
  unfold Done aside Y held
  rw [lent_all, came_all, landingP_eq]
  simp only [owns_iff]
  iintro ⟨⟨⟨Hl2, Hl3⟩, ⟨Hd2, Hd3⟩, ⟨Hk2, Hk3, Hb, HV⟩, HzS, HzR⟩, ⟨%s, %hs, ⟨%f, %hf, HS⟩⟩⟩
  isplitl [Hl2 Hl3 Hk2 Hk3 Hd2 Hd3 Hb HV]
  · isplitl [Hl2 Hk2]
    · iapply (arg2_split m c).2
      iframe
    isplitl [Hl3 Hk3]
    · iapply (arg3_split m c).2
      iframe
    isplitl [Hd2]; · iexact Hd2
    isplitr [HV]
    · iapply (landingC_split c (filled m c)).2
      iframe
    iexact HV
  isplitl [HzS HzR]
  · iframe
  iexists f; iexact HS

/-- The final memory of four arrays no window stages. -/
def QY (c : Dev nD) (s : MemSt nD τ sig (Elt F)) : Prop :=
  (s.mem (c.tc.loc main_arg2) = m (c.tc.loc main_arg2)
    ∧ s.mem (c.tc.loc main_arg3) = m (c.tc.loc main_arg3))
    ∧ s.mem (c.tc.loc main_v1_1) = landed m c
    ∧ s.mem (c.tc.loc main_v2) = carved m c

theorem read_end (c : Dev nD) (s' : Phys nD τ sig (Elt F)) :
    iprop(Z m c ∗ SI s') ⊢ |={Set.univ}=> iprop(⌜QY m c s'.mem⌝ ∗ SI s' : sProp 𝕄) := by
  unfold Z
  iintro ⟨⟨H2, H3, H4, H5⟩, HSI⟩
  ihave %h2 := Cert.Exchange.read_whole $$ [$HSI $H2]
  ihave %h3 := Cert.Exchange.read_whole $$ [$HSI $H3]
  ihave %h4 := Cert.Exchange.read_whole $$ [$HSI $H4]
  ihave %h5 := Cert.Exchange.read_whole $$ [$HSI $H5]
  imodintro
  isplitr
  · ipureintro
    exact ⟨⟨h2, h3⟩,
      h4, h5⟩
  iexact HSI

/-! ## The host operation after the call -/

/-- The program after the call. -/
abbrev carve : Prog (TpuEff nD τ sig (Elt F) (Pipeline.Sig Λ₀ (Fin 1) fun p => (pcfgs (F := F) p).Adm) .tc) PUnit :=
  StableHlo.seq hostOps1 >>= fun _ => .ret ⟨⟩

/-- The two buffers it touches, and what they hold before it. -/
abbrev landRef : DevRef τ sig := Proc.devRef .tc main_v1_2
abbrev outRef : DevRef τ sig := Proc.devRef .tc main_v2
def before (c : Dev nD) : Valuation τ sig (Elt F) := Function.update (V0 m c) landRef (filled m c)

theorem refs_ne : outRef ≠ landRef := StableHlo.devRef_ne_of_ne (by decide)

theorem held_two (c : Dev nD) (W : Valuation τ sig (Elt F)) :
    (StableHlo.held c.tc {outRef, landRef} W : sProp 𝕄)
      = iprop((c.tc.loc main_v2 ↦{fullShare} W outRef) ∗ (c.tc.loc main_v1_2 ↦{fullShare} W landRef)) := by
  unfold StableHlo.held
  rw [bigSep_insert (by rw [Finset.mem_singleton]; exact refs_ne), bigSep_singleton]
  exact congrArg₂ BI.sep (Eq.refl _) (Eq.refl _)

theorem carve_run (c : Dev nD) :
    iprop(boundary c.tc ∗ Y m c)
      ⊢ wp frame (wpE (defs (F := F)) (Variants.lift 𝒱₀) c.tc none) Set.univ carve
          (fun _ : PUnit => iprop(scopedSems0 c.tc ∗ Z m c : sProp 𝕄)) := by
  have hb1 : before m c landRef = filled m c := Function.update_self ..
  have hb2 : before m c outRef = m (c.tc.loc main_v2) := Function.update_of_ne refs_ne ..
  have ha : StableHlo.after hostOps1 (before m c) outRef = carved m c := by
    rw [StableHlo.after_cons, StableHlo.after_nil]
    refine (StableHlo.unary_result _ _ _ _ _ _).trans ?_
    unfold carved
    rw [← hb1]
  unfold Y
  iintro ⟨Hb, H2, H4, H5, H1, H3⟩
  iapply (StableHlo.wp_seq (defs := defs (F := F)) (𝒱 := Variants.lift 𝒱₀) (bd := none) (E := Set.univ) c {outRef, landRef} (fun _ => .ret ⟨⟩) hostOps1
    (fun op ho => by rw [List.mem_singleton.mp ho, StableHlo.unary_bufs, Finset.pair_comm]) (List.forall_iff_forall_mem.mp hostOps1_fresh) (before m c)) $$ [Hb H1 H3]
  · isplitl [Hb]; · iexact Hb
    rw [held_two, hb1, hb2]
    iframe
  iintro ⟨Hb, HS⟩
  ihave HS := (Entails.of_eq (held_two c (StableHlo.after hostOps1 (before m c)))) $$ HS
  icases HS with ⟨H3, -⟩
  rw [ha, wp_ret]
  unfold boundary Z
  icases Hb with ⟨-, Hs, -⟩
  imodintro
  iframe

/-- What a final state is: every staged array at the schedule's contents, and the two others as said. -/
def QC (r : PUnit × MemSt nD τ sig (Elt F)) : Prop :=
  ∀ c : Dev nD, (∀ w : Fin cfg0.W, r.2.mem ((cfg0.win w).arr.view.loc c.tc) = (dats m 0 c).arrAt w cfg0.N) ∧ QY m c r.2

set_option maxRecDepth 8000 in
theorem run_main : θ_run defs (onTc (τ := τ) (main (F := F))) ⟨m, fun _ => 0, ρ⟩ (fun r => QC m r ∧ r.2.sem = fun _ => 0) :=
  Cert.Exchange.θ_run_exchange (fun p => (cfgs p).toPCfg) (fun p => (cfgs p).toPCfg_adm) (dats m) () cellOf_inj (0 : Fin 1)
    winFacts0 ownSemFacts rfl EP defs₀ 𝒱₀ m ρ (due links) Cert.Exchange.L (Cert.Exchange.lv links) main (fun _ => carve)
    (hmain := fun _ => rfl) (hbody := body_obligation m) (hne := block_pos0) (harr := arr_whole0) (hstage := stage_whole0) (hshare := share_eq m)
    (howed₀ := fun _ => rfl) (howedN := fun _ => rfl) (hL := Cert.Exchange.L_of_ne) (hwaits := waits m)
    (G := ghosts links (pay m))
    (hu₀ := Cert.Exchange.fund_both links (pay m) _)
    (hA := fun _ _ => rfl) (X := X m) (Y := Y m) (Z := Z m) (htail := carve_run m)
    (hstart := Cert.Exchange.launch_all links (pay m) (rest m) (mine m) (deal m))
    (hin := phi_start m) (hout := phi_end m) (QY := QY m) (hY := read_end m)
    (hQ := fun s h hs => ⟨fun c => h c, sem_eq_zero_of_scoped (by decide) hs⟩)

end Cert.Dx

end
-- ==== Proof.DxWhole.lean ====
/-
# The product of `up_dx` as a whole

The output blocks tile the array that a device writes. Its entry `(p, q)` is the inner product of row `p` of the device's
left factor and row `q` of the right factor, of which four shards lie one behind the other: column `x` is column
`x mod 4096` of shard `x / 4096`. The sixteen points of an output block pass over the 16384 columns 1024 at a time.
-/
module

public import proofs.«01_k».proof.Proof.DxValue
public import proofs.«01_k».proof.Proof.DxRun
public import Idealize.ShloMosaic.Lib.Pipeline.ValueKit

@[expose] public section

set_option maxRecDepth 16384

noncomputable section

namespace Cert.Dx

open Cert.DxKernelIdeal Cert.DxKernelIdeal.Gen
open Idealize.ShloMosaic Idealize.ShloMosaic.TcCoe

variable (m : (ℓ : Loc nD τ sig) → Buf (Elt Ideal) ℓ)

/-- The inner product of a row of a matrix and a row of a matrix cut along its columns into four shards. -/
def sharded {n : ℕ} (A : (⟨2, ![n, 16384]⟩ : Shape).Idx → Ideal .bf16) (B : (⟨3, ![4, 4096, 4096]⟩ : Shape).Idx → Ideal .bf16)
    (p : Fin n) (q : Fin 4096) : EReal :=
  ∑ x : Fin 16384, (A (ix2 p x) : EReal) * B (ix3 (⟨x.val / 4096, by omega⟩ : Fin 4) q (⟨x.val % 4096, by omega⟩ : Fin 4096))

/-- What a device's product array holds at the end. -/
def product (c : Dev nD) : Vec Ideal S4096x4096 .f32 := fun i =>
  sharded (n := 4096) (m (c.tc.loc main_arg0)) (m (c.tc.loc main_arg1)) (i 0) (i 1)

theorem index_all : ∀ t, win0_0.index t = ![(grid0.coords t 0).val, (grid0.coords t 2).val]
    ∧ win0_1.index t = ![(grid0.coords t 2).val / 4, (grid0.coords t 1).val, (grid0.coords t 2).val % 4]
    ∧ win0_2.index t = ![(grid0.coords t 0).val, (grid0.coords t 1).val] := by decide +kernel

/-- Of the sixteen points of an output block, point `s` is at strip `s`. -/
theorem coords_all : ∀ (t : Fin grid0.N) (s : Fin 16), t.val % 16 = 15 → ∀ h : t.val - 15 + s.val < grid0.N,
    grid0.coords ⟨t.val - 15 + s.val, h⟩ 0 = grid0.coords t 0 ∧ grid0.coords ⟨t.val - 15 + s.val, h⟩ 1 = grid0.coords t 1
      ∧ (grid0.coords ⟨t.val - 15 + s.val, h⟩ 2).val = s.val := by decide +kernel

theorem product_eq (c : Dev nD) : (dats m 0 c).arrAt 2 cfg0.N = product m c := by
  refine (dats m 0 c).arrAt_eq_of_covers 2 _ (by decide +kernel) fun t hf y => ?_
  have ht : t.val % 16 = 15 := (flush0_2 t).mp hf
  have htN : t.val < cfg0.N := t.isLt
  show wrote m c t _ = _
  obtain ⟨p, q, rfl⟩ : ∃ (p : Fin 2048) (q : Fin 1024), y = ix2 p q := ⟨y 0, y 1, eq_ix2 y⟩
  refine (wrote_apply m c t ht p q).trans ?_
  rw [Finset.sum_range]
  unfold product sharded
  refine Eq.trans ?_ (Fin.sum_univ_tiles (N := 16384) 16 1024 (by norm_num) _).symm
  refine Finset.sum_congr rfl fun s _ => ?_
  have hs : t.val - 15 + s.val < cfg0.N := by omega
  obtain ⟨h0, h1, h2⟩ := coords_all t s ht hs
  rw [term_of_lt m c p q _ hs]
  unfold inner
  have hk := s.isLt
  refine Finset.sum_congr rfl fun k _ => congrArg₂ _ ?_ ?_
  · blk_ext [iblk, V, index_all, h0, h1, h2]
  · blk_ext [iblk, V, index_all, h0, h1, h2]

end Cert.Dx

end
-- ==== Proof.DxLanding.lean ====
/-
# What the exchanges of `up_dx` bring, at an index

Layer `s`, row `r`, column `q` of what device `c` is sent by the other device of its pair is layer `s`, row
`2048 (c mod 2) + r`, column `q` of that device. Layer `j`, row `r`, column `q` of what it has kept of the exchange
between chips is layer `c / 2`, row `1536 + r`, column `q` of the device on its link `j + 1`.
-/
module

public import proofs.«01_k».proof.Proof.DxRun
public import Idealize.ShloMosaic.Lib.PointwiseCore

@[expose] public section

set_option maxRecDepth 16384

noncomputable section

namespace Cert.Dx

open Cert.DxKernelIdeal Cert.DxKernelIdeal.Gen
open Idealize.ShloMosaic Idealize.ShloMosaic.TcCoe

variable {F : FTy → Type} [FloatOps F]
variable (m : (ℓ : Loc nD τ sig) → Buf (Elt F) ℓ)

theorem landed_apply (c : Dev nD) (s : Fin 4) (r : Fin 2048) (q : Fin 4096) :
    landed m c (ix3 s r q) = m ((peer 0 c : Thread nD τ).loc main_arg2)
      (ix3 s (⟨2048 * (c.val % 2) + r.val, by omega⟩ : Fin 4096) q) := by
  refine congrArg (m ((peer 0 c : Thread nD τ).loc main_arg2)) ?_
  have ho : k0_off1 (peer 0 c) = ![0, 2048 * (c.val % 2), 0] := by
    revert c; decide +kernel
  funext k
  fin_cases k <;> refine Fin.ext ?_
  · show k0_off1 (peer 0 c) 0 + 1 * s.val = s.val
    rw [ho]; show 0 + 1 * s.val = s.val; omega
  · show k0_off1 (peer 0 c) 1 + 1 * r.val = 2048 * (c.val % 2) + r.val
    rw [ho]; show 2048 * (c.val % 2) + 1 * r.val = 2048 * (c.val % 2) + r.val; omega
  · show k0_off1 (peer 0 c) 2 + 1 * q.val = q.val
    rw [ho]; show 0 + 1 * q.val = q.val; omega

theorem carved_apply (c : Dev nD) (j : Fin 3) (r : Fin 512) (q : Fin 4096) :
    carved m c (ix3 j r q) = m ((chip j c : Thread nD τ).loc main_arg3)
      (ix3 (⟨c.val / 2, by have : c.val < 8 := c.isLt; omega⟩ : Fin 4) (⟨1536 + r.val, by omega⟩ : Fin 2048) q) := by
  have e : carved m c (ix3 j r q) = filled m c (ix3 j (⟨1536 + r.val, by omega⟩ : Fin 2048) q) := by
    pointwise [carved]
  refine e.trans ((if_pos (show 1536 ≤ 1536 + r.val by omega)).trans ?_)
  refine congrArg (m ((chip j c : Thread nD τ).loc main_arg3)) ?_
  funext k
  fin_cases k <;> rfl

/-- The other device of the pair, by number. -/
theorem pair_val (c : Dev nD) : (peer 0 c).val = c.val / 2 * 2 + (1 - c.val % 2) := by revert c; decide +kernel

end Cert.Dx

end
-- ==== Proof.DxReference.lean ====
/-
# The reference of `up_dx` over the reals

The reference's first result has the same entries as the products of the devices. Its second one is, at layer `4 c + s`,
half of layer `s` of the device next to `c`: of the device `c + 1` the upper half if `c` is even, of `c − 1` the lower half
if `c` is odd. Its third one has three layers a device; layer `j` of those of device `d` is the last 512 rows of the layer
that belongs to the chip of `d`, of the four layers of the device that `d` has on its link `j + 1`.
-/
module

public import proofs.«01_k».proof.Proof.DxWhole
public import proofs.«01_k».proof.Proof.Gen.DxReferenceIdeal.Run

@[expose] public section

set_option maxRecDepth 16384

noncomputable section

namespace Cert.Dx

open Idealize.ShloMosaic Idealize.ShloMosaic.TcCoe Idealize.SL.Sem

section
open Cert.DxReferenceIdeal Cert.DxReferenceIdeal.Gen

/-- The reference's first result, as its operations compute it. -/
abbrev refProduct {F : FTy → Type} [FloatOps F] (a : Vec F S32768x16384 .bf16) (b : Vec F S4x4096x4096 .bf16) : Vec F S32768x4096 .f32 :=
  Host.dotGeneral dot_S32768x16384_S16384x4096_S32768x4096_1_0_0_1_n_n none (extf .f32 a bitsLt_bf16_f32)
    (transpose S16384x4096 [1, 0] (shapeCast _ (transpose S4096x4x4096 [1, 0, 2] (extf .f32 b bitsLt_bf16_f32)
      transposes_S4x4096x4096_S4096x4x4096_1_0_2) shapeCasts_S4096x4x4096_S4096x16384) transposes_S4096x16384_S16384x4096_1_0)

theorem refProduct_apply (a : Vec Ideal S32768x16384 .bf16) (b : Vec Ideal S4x4096x4096 .bf16) (p : Fin 32768) (q : Fin 4096) :
    refProduct a b (ix2 p q) = sharded (n := 32768) a b p q := by
  pointwise [refProduct, sharded]

/-- Its second result. -/
abbrev refLanded {F : FTy → Type} [FloatOps F] (d : Vec F S32x4096x4096 .bf16) : Vec F S32x2048x4096 .bf16 :=
  shapeCast _ (concatenate S4x2x4x2048x4096 1
    [⟨S4x1x4x2048x4096, (broadcastInDim S4x1x4x2048x4096 ![0, 2, 3, 4] bcast_S4x4x2048x4096_S4x1x4x2048x4096_0_2_3_4
      (shapeCast _ (extractStridedSlice S4x1x4x1x2048x4096 ![0, 1, 0, 0, 0, 0] (shapeCast _ d shapeCasts_S32x4096x4096_S4x2x4x2x2048x4096)
        slices_S4x2x4x2x2048x4096_S4x1x4x1x2048x4096_0_1_0_0_0_0) shapeCasts_S4x1x4x1x2048x4096_S4x4x2048x4096))⟩,
     ⟨S4x1x4x2048x4096, (broadcastInDim S4x1x4x2048x4096 ![0, 2, 3, 4] bcast_S4x4x2048x4096_S4x1x4x2048x4096_0_2_3_4
      (shapeCast _ (extractStridedSlice S4x1x4x1x2048x4096 ![0, 0, 0, 1, 0, 0] (shapeCast _ d shapeCasts_S32x4096x4096_S4x2x4x2x2048x4096)
        slices_S4x2x4x2x2048x4096_S4x1x4x1x2048x4096_0_0_0_1_0_0) shapeCasts_S4x1x4x1x2048x4096_S4x4x2048x4096))⟩]
    concatenates_S4x1x4x2048x4096_S4x1x4x2048x4096_S4x2x4x2048x4096_d1) shapeCasts_S4x2x4x2048x4096_S32x2048x4096

variable {F : FTy → Type} [FloatOps F]

/-- Of chip `k`, both cores, what belongs to chip `chip`. -/
abbrev piece (d : Vec F S32x2048x4096 .bf16) (k chip : ℕ) (h : S4x2x4x512x4096.Slices ![k, 0, chip, 0, 0] S1x2x1x512x4096) :
    Vec F S2x1x512x4096 .bf16 :=
  broadcastInDim S2x1x512x4096 ![0, 2, 3] bcast_S2x512x4096_S2x1x512x4096_0_2_3
    (shapeCast _ (extractStridedSlice S1x2x1x512x4096 ![k, 0, chip, 0, 0]
      (extractStridedSlice S4x2x4x512x4096 ![0, 0, 0, 1536, 0] (shapeCast _ d shapeCasts_S32x2048x4096_S4x2x4x2048x4096)
        slices_S4x2x4x2048x4096_S4x2x4x512x4096_0_0_0_1536_0) h) shapeCasts_S1x2x1x512x4096_S2x512x4096)

/-- What the two cores of one chip get. -/
abbrev stacked (x y z : Vec F S2x1x512x4096 .bf16) : Vec F S1x2x3x512x4096 .bf16 :=
  broadcastInDim S1x2x3x512x4096 ![1, 2, 3, 4] bcast_S2x3x512x4096_S1x2x3x512x4096_1_2_3_4
    (concatenate S2x3x512x4096 1 [⟨S2x1x512x4096, x⟩, ⟨S2x1x512x4096, y⟩, ⟨S2x1x512x4096, z⟩]
      concatenates_S2x1x512x4096_S2x1x512x4096_S2x1x512x4096_S2x3x512x4096_d1)

/-- The reference's third result. -/
abbrev refCarved (d : Vec F S32x2048x4096 .bf16) : Vec F S24x512x4096 .bf16 :=
  shapeCast _ (concatenate S4x2x3x512x4096 0
    [⟨S1x2x3x512x4096, stacked (piece d 2 0 slices_S4x2x4x512x4096_S1x2x1x512x4096_2_0_0_0_0)
        (piece d 1 0 slices_S4x2x4x512x4096_S1x2x1x512x4096_1_0_0_0_0) (piece d 3 0 slices_S4x2x4x512x4096_S1x2x1x512x4096_3_0_0_0_0)⟩,
     ⟨S1x2x3x512x4096, stacked (piece d 3 1 slices_S4x2x4x512x4096_S1x2x1x512x4096_3_0_1_0_0)
        (piece d 0 1 slices_S4x2x4x512x4096_S1x2x1x512x4096_0_0_1_0_0) (piece d 2 1 slices_S4x2x4x512x4096_S1x2x1x512x4096_2_0_1_0_0)⟩,
     ⟨S1x2x3x512x4096, stacked (piece d 0 2 slices_S4x2x4x512x4096_S1x2x1x512x4096_0_0_2_0_0)
        (piece d 3 2 slices_S4x2x4x512x4096_S1x2x1x512x4096_3_0_2_0_0) (piece d 1 2 slices_S4x2x4x512x4096_S1x2x1x512x4096_1_0_2_0_0)⟩,
     ⟨S1x2x3x512x4096, stacked (piece d 1 3 slices_S4x2x4x512x4096_S1x2x1x512x4096_1_0_3_0_0)
        (piece d 2 3 slices_S4x2x4x512x4096_S1x2x1x512x4096_2_0_3_0_0) (piece d 0 3 slices_S4x2x4x512x4096_S1x2x1x512x4096_0_0_3_0_0)⟩]
    concatenates_S1x2x3x512x4096_S1x2x3x512x4096_S1x2x3x512x4096_S1x2x3x512x4096_S4x2x3x512x4096_d0) shapeCasts_S4x2x3x512x4096_S24x512x4096

/-- The layer that layer `l` of the third result is taken from: which link and which device `l` is of says. -/
def source (l : Fin 24) : Fin 32 :=
  ⟨4 * (chip ⟨l.val % 3, Nat.mod_lt _ (by decide)⟩ ⟨l.val / 3, by show l.val / 3 < 8; omega⟩).val + l.val / 6, by revert l; decide⟩

theorem refCarved_apply (d : Vec F S32x2048x4096 .bf16) (l : Fin 24) (r : Fin 512) (q : Fin 4096) :
    refCarved d (ix3 l r q) = d (ix3 (source l) (⟨1536 + r.val, by omega⟩ : Fin 2048) q) := by
  pointwise [refCarved]
  fin_cases l <;> rfl

theorem refLanded_apply (d : Vec F S32x4096x4096 .bf16) (l : Fin 32) (i : Fin 2048) (j : Fin 4096) :
    refLanded d (ix3 l i j) = d (ix3 (⟨8 * (l.val / 8) + 4 * (1 - l.val / 4 % 2) + l.val % 4, by omega⟩ : Fin 32)
      (⟨2048 * (l.val / 4 % 2) + i.val, by omega⟩ : Fin 4096) j) := by
  pointwise [refLanded]
  split <;> refine congrArg d ?_ <;> funext k <;> fin_cases k <;> refine Fin.ext ?_
  · show l.val / 8 * 8 + 4 + l.val % 4 = 8 * (l.val / 8) + 4 * (1 - l.val / 4 % 2) + l.val % 4; omega
  · show i.val = 2048 * (l.val / 4 % 2) + i.val; omega
  · rfl
  · show l.val / 8 * 8 + l.val % 4 = 8 * (l.val / 8) + 4 * (1 - l.val / 4 % 2) + l.val % 4; omega
  · show 2048 + i.val = 2048 * (l.val / 4 % 2) + i.val; omega
  · rfl

/-- The reference's run. -/
theorem reference_run (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem (c.tc.loc main_v5) = refProduct (m (c.tc.loc main_arg0)) (m (c.tc.loc main_arg1))
      ∧ r.2.mem (c.tc.loc main_v61) = refLanded (m (c.tc.loc main_arg2))
      ∧ r.2.mem (c.tc.loc main_v62) = refCarved (m (c.tc.loc main_arg3))
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)) ∧ r.2.sem = fun _ => 0) :=
  (θ_run defs _ _).mono (fun r h => ⟨h, sem_eq_zero_of_no_sems (by decide) r.2⟩) (Cert.DxReferenceIdeal.Value.run m ρ)

end

end Cert.Dx

end
-- ==== Proof.DxAgree.lean ====
/-
# Device by device, the two programs of `up_dx` agree

What a device ends with is its block of what the reference ends with, if its arguments are its blocks of the reference's,
of which the second, the weight, is the same for all.
-/
module

public import proofs.«01_k».proof.Proof.DxWhole
public import proofs.«01_k».proof.Proof.DxLanding
public import proofs.«01_k».proof.Proof.DxReference
public import proofs.«01_k».proof.Proof.Agree
public import Idealize.ShloMosaic.Lib.Layout

@[expose] public section

set_option maxRecDepth 16384

noncomputable section

namespace Cert.Dx

open Cert.DxKernelIdeal
open Idealize.ShloMosaic Idealize.ShloMosaic.TcCoe
open Cert.Pair (block_rows block_layers)

section Product
variable (m : (ℓ : Loc nD τ sig) → Buf (Elt Ideal) ℓ)
  (A : Vec Ideal Cert.DxReferenceIdeal.S32768x16384 .bf16) (B : Vec Ideal Cert.DxReferenceIdeal.S4x4096x4096 .bf16)

theorem product_agrees (c : Dev nD)
    (h0 : m (c.tc.loc main_arg0) = Layout.block ⟨2, ![4096, 16384]⟩ ⟨2, ![32768, 16384]⟩ 0 8 c A)
    (h1 : m (c.tc.loc main_arg1) = B) :
    product m c = Layout.block ⟨2, ![4096, 4096]⟩ ⟨2, ![32768, 4096]⟩ 0 8 c (refProduct A B) := by
  have hc : c.val < 8 := c.isLt
  funext y
  obtain ⟨p, q, rfl⟩ : ∃ (p q : Fin 4096), y = ix2 p q := ⟨y 0, y 1, eq_ix2 y⟩
  have hp : c.val * 4096 + p.val < 32768 := by omega
  refine Eq.trans ?_ (block_rows c (refProduct A B) (by decide) p q hp).symm
  rw [refProduct_apply]
  show sharded (n := 4096) (m (c.tc.loc main_arg0)) (m (c.tc.loc main_arg1)) p q = _
  unfold sharded
  refine Finset.sum_congr rfl fun x _ => congrArg₂ _ ?_ ?_
  · exact (congrFun h0 (ix2 p x)).trans (block_rows c A (by decide) p x hp)
  · exact congrFun h1 _

end Product

variable {F : FTy → Type} [FloatOps F]
variable (m : (ℓ : Loc nD τ sig) → Buf (Elt F) ℓ)
  (D : Vec F Cert.DxReferenceIdeal.S32x4096x4096 .bf16) (E : Vec F Cert.DxReferenceIdeal.S32x2048x4096 .bf16)

theorem landed_agrees (c : Dev nD)
    (h : m ((peer 0 c : Thread nD τ).loc main_arg2) = Layout.block ⟨3, ![4, 4096, 4096]⟩ ⟨3, ![32, 4096, 4096]⟩ 0 8 (peer 0 c) D) :
    landed m c = Layout.block ⟨3, ![4, 2048, 4096]⟩ ⟨3, ![32, 2048, 4096]⟩ 0 8 c (refLanded D) := by
  have hc : c.val < 8 := c.isLt
  have hv := pair_val c
  funext y
  obtain ⟨q, i, j, rfl⟩ : ∃ (q : Fin 4) (i : Fin 2048) (j : Fin 4096), y = ix3 q i j := ⟨y 0, y 1, y 2, eq_ix3 y⟩
  have hl : c.val * 4 + q.val < 32 := by omega
  refine Eq.trans ?_ (block_layers c (refLanded D) (by decide) q i j hl).symm
  have hpl : (peer 0 c).val * 4 + q.val < 32 := by omega
  rw [landed_apply, refLanded_apply]
  refine (congrFun h _).trans ((block_layers (peer 0 c) D (by decide) q _ j hpl).trans ?_)
  congr 1
  funext k
  fin_cases k <;> refine Fin.ext ?_
  · show (peer 0 c).val * 4 + q.val = 8 * ((c.val * 4 + q.val) / 8) + 4 * (1 - (c.val * 4 + q.val) / 4 % 2) + (c.val * 4 + q.val) % 4
    omega
  · show 2048 * (c.val % 2) + i.val = 2048 * ((c.val * 4 + q.val) / 4 % 2) + i.val
    omega
  · rfl

/-- The layer a device is sent on a link, among those of all devices. -/
theorem source_eq (c : Fin 8) (j : Fin 3) (h : c.val * 3 + j.val < 24) :
    (source ⟨c.val * 3 + j.val, h⟩).val = (chip j c).val * 4 + c.val / 2 := by revert c j; decide

theorem carved_agrees (c : Dev nD)
    (h : ∀ j, m ((chip j c : Thread nD τ).loc main_arg3) = Layout.block ⟨3, ![4, 2048, 4096]⟩ ⟨3, ![32, 2048, 4096]⟩ 0 8 (chip j c) E) :
    carved m c = Layout.block ⟨3, ![3, 512, 4096]⟩ ⟨3, ![24, 512, 4096]⟩ 0 8 c (refCarved E) := by
  have hc : c.val < 8 := c.isLt
  funext y
  obtain ⟨j, r, q, rfl⟩ : ∃ (j : Fin 3) (r : Fin 512) (q : Fin 4096), y = ix3 j r q := ⟨y 0, y 1, y 2, eq_ix3 y⟩
  have hl : c.val * 3 + j.val < 24 := by omega
  refine Eq.trans ?_ (block_layers c (refCarved E) (by decide) j r q hl).symm
  have hp : (chip j c).val < 8 := (chip j c).isLt
  have hpl : (chip j c).val * 4 + c.val / 2 < 32 := by omega
  rw [carved_apply, refCarved_apply]
  refine (congrFun (h j) _).trans ((block_layers (chip j c) E (by decide) ⟨c.val / 2, by omega⟩ _ q hpl).trans ?_)
  exact congrArg E (congrArg (ix3 · _ q) (Fin.ext (source_eq c j hl).symm))

end Cert.Dx

end
-- ==== Proof.PxLinks.lean ====
/-
# The exchanges of `proj_dx`: who sends what to whom

The eight devices are the cores of a 2 × 2 torus of chips with two cores each; device `c` is core `c % 2` of chip
`c / 2`. Beside its products, `proj_dx` exchanges parts of three buffers. There are seven links. On links 0, 1 and 2, and
again on links 3, 4 and 5, a device talks to the same core of the chip across the first torus axis, across the second, and
across both; on link 6 to the other core of its chip. Device `c`

* sends on link `j` the last 320 rows of the layer of its `main_arg2` that belongs to the chip it sends to, into the last
  320 rows of layer `j` of `main_v1_1` there;
* sends on link `3 + j` the layer of its `main_arg3` that belongs to the chip it sends to, into layer `j` of `main_v1_2`
  there;
* sends on link 6, of every layer of its `main_arg4`, the half that belongs to the other core, into `main_v1_3` there;
* credits its own send semaphore of the link and the receive semaphore of the link there.

In its last grid point it waits for all fourteen. These are seven links in the sense of the links module. The payloads
name the contents, so one run over any float values gives both frames and the value.
-/
module

public import proofs.«01_k».proof.Proof.Links
public import proofs.«01_k».proof.Proof.Gen.PxKernelIdeal
public import proofs.«01_k».proof.Proof.Gen.PxKernelIdeal.Launch

@[expose] public section

noncomputable section

namespace Cert.Px

open Cert.PxKernelIdeal Cert.PxKernelIdeal.Gen

open Idealize.ShloMosaic
open TcCoe Rounds
open Idealize.SL Idealize.SL.RA Idealize.SL.BI
open BIBase Laws ProofMode Sem
open Cert.Exchange (Links UU EP ER)

variable {F : FTy → Type} [FloatOps F]

local notation "𝕄" => MT nD τ sig Unit (Elt F) ℕ (UU nD sig τ) ℕ

/-! ## The links -/

/-- Whether a link crosses the first torus axis, whether it crosses the second, and whether it joins the two cores. -/
def across₁ (j : Fin 7) : ℕ := if j = 6 ∨ j.val % 3 = 1 then 0 else 1
def across₂ (j : Fin 7) : ℕ := if j.val % 3 = 0 then 0 else 1
def acrossCores (j : Fin 7) : ℕ := if j = 6 then 1 else 0

/-- The device at the other end of a link. -/
def peer (j : Fin 7) (c : Dev nD) : Dev nD :=
  ⟨4 * ((c.val / 4 + across₁ j) % 2) + 2 * ((c.val / 2 % 2 + across₂ j) % 2) + (c.val % 2 + acrossCores j) % 2, by revert j c; decide⟩

theorem peer_peer (j : Fin 7) (c : Dev nD) : peer j (peer j c) = c := by revert j c; decide

/-- The links that join two chips: of the first buffer and of the second. -/
abbrev linkA (j : Fin 3) : Fin 7 := ⟨j.val, by omega⟩
abbrev linkB (j : Fin 3) : Fin 7 := ⟨3 + j.val, by omega⟩

/-- The devices across on them. -/
abbrev chipA (j : Fin 3) (c : Dev nD) : Dev nD := peer (linkA j) c
abbrev chipB (j : Fin 3) (c : Dev nD) : Dev nD := peer (linkB j) c

/-- The devices the kernel computes for its transfers are these. -/
theorem dev1_eq (c : Dev nD) (h : k0_dev1 c < nD) : (⟨k0_dev1 c, h⟩ : Dev nD) = peer 0 c := by
  revert c; decide +kernel
theorem dev2_eq (c : Dev nD) (h : k0_dev2 c < nD) : (⟨k0_dev2 c, h⟩ : Dev nD) = peer 1 c := by
  revert c; decide +kernel
theorem dev3_eq (c : Dev nD) (h : k0_dev3 c < nD) : (⟨k0_dev3 c, h⟩ : Dev nD) = peer 2 c := by
  revert c; decide +kernel
theorem dev4_eq (c : Dev nD) (h : k0_dev4 c < nD) : (⟨k0_dev4 c, h⟩ : Dev nD) = peer 3 c := by
  revert c; decide +kernel
theorem dev5_eq (c : Dev nD) (h : k0_dev5 c < nD) : (⟨k0_dev5 c, h⟩ : Dev nD) = peer 4 c := by
  revert c; decide +kernel
theorem dev6_eq (c : Dev nD) (h : k0_dev6 c < nD) : (⟨k0_dev6 c, h⟩ : Dev nD) = peer 5 c := by
  revert c; decide +kernel
theorem dev7_eq (c : Dev nD) (h : k0_dev7 c < nD) : (⟨k0_dev7 c, h⟩ : Dev nD) = peer 6 c := by
  revert c; decide +kernel

/-- A transfer may go from each device to its peers. -/
theorem routes (j : Fin 7) (c : Dev nD) : τ.routes c.tc (peer j c : Thread nD τ) = true := by revert j c; decide

theorem sem_inb (j : Fin 7) : ∀ a, (![j.val] : Fin 1 → ℕ) a + S1.size a ≤ S7.size a := by revert j; decide

abbrev sendSem (j : Fin 7) : DmaSem sig := ((cc0_scratch1.slice (Rect.unit (s := S7) ![j.val] S1.size (sem_inb j))).squeeze S_ squeezes_S1_S_ : DmaSems sig S_).sem
abbrev recvSem (j : Fin 7) : DmaSem sig := ((cc0_scratch2.slice (Rect.unit (s := S7) ![j.val] S1.size (sem_inb j))).squeeze S_ squeezes_S1_S_ : DmaSems sig S_).sem

theorem landA_inb (j : Fin 3) : ∀ a, (![j.val, 704, 0] : Fin 3 → ℕ) a + S1x320x2560.size a ≤ S3x1024x2560.size a := by revert j; decide
theorem landB_inb (j : Fin 3) : ∀ a, (![j.val, 0, 0] : Fin 3 → ℕ) a + S1x1024x2560.size a ≤ S3x1024x2560.size a := by revert j; decide

/-- Where the transfer of link `j` lands. -/
abbrev landRA (j : Fin 3) : Rect S3x1024x2560 := Rect.unit (s := S3x1024x2560) ![j.val, 704, 0] S1x320x2560.size (landA_inb j)
abbrev landA (j : Fin 3) : Memref sig .tc .hbm S320x2560 .bf16 :=
  ((Memref.whole main_v1_1).slice (landRA j) (fun _ => rfl)).squeeze S320x2560 squeezes_S1x320x2560_S320x2560

/-- Where the transfer of link `3 + j` lands. -/
abbrev landRB (j : Fin 3) : Rect S3x1024x2560 := Rect.unit (s := S3x1024x2560) ![j.val, 0, 0] S1x1024x2560.size (landB_inb j)
abbrev landB (j : Fin 3) : Memref sig .tc .hbm S1024x2560 .bf16 :=
  ((Memref.whole main_v1_2).slice (landRB j) (fun _ => rfl)).squeeze S1024x2560 squeezes_S1x1024x2560_S1024x2560

/-- Where the transfer of link 6 lands. -/
abbrev landP : Memref sig .tc .hbm S4x512x4096 .bf16 := Memref.whole main_v1_3

/-- The units of one transfer, on the first three links, on the next three and on the last. -/
def amountA : ℕ := (landA 0).view.dmaCredit
def amountB : ℕ := (landB 0).view.dmaCredit
def amountP : ℕ := landP.view.dmaCredit

/-- The units of one transfer of a link. -/
def amount (j : Fin 7) : ℕ := if j.val < 3 then amountA else if j.val < 6 then amountB else amountP

abbrev links : Links nD sig where
  J := 7
  sendSem := sendSem
  recvSem := recvSem
  peer := peer
  peer_peer := peer_peer
  units := amount
  units_pos j := by
    unfold amount
    split
    · exact View.dmaCredit_pos _ (by decide)
    · split
      · exact View.dmaCredit_pos _ (by decide)
      · exact View.dmaCredit_pos _ (by decide)
  apart := by decide

/-! ## What travels -/

theorem offP_inb (c : Dev nD) : ∀ a, k0_off7 c a + S4x512x4096.size a ≤ S4x1024x4096.size a := by revert c; decide +kernel

/-- The half that belongs to the other core. -/
theorem offP_eq (c : Dev nD) : k0_off7 c = ![0, 512 * (1 - c.val % 2), 0] := by revert c; decide +kernel

abbrev sentPR (c : Dev nD) : Rect S4x1024x4096 := Rect.unit (s := S4x1024x4096) (k0_off7 c) S4x512x4096.size (offP_inb c)
abbrev sentP (c : Dev nD) : Memref sig .tc .hbm S4x512x4096 .bf16 := (Memref.whole main_arg4).slice (sentPR c) (fun _ => rfl)

/-- Where what device `c` sends on link `j` lies in its `main_arg2`. -/
def offA (j : Fin 3) (c : Dev nD) : Fin 3 → ℕ :=
  match j with
  | 0 => k0_off1 c
  | 1 => k0_off2 c
  | 2 => k0_off3 c

/-- It is in the layer of the chip it is sent to. -/
theorem offA_eq (j : Fin 3) (c : Dev nD) : offA j c = ![(chipA j c).val / 2, 704, 0] := by revert j c; decide +kernel

theorem offA_inb (j : Fin 3) (c : Dev nD) : ∀ a, offA j c a + S1x320x2560.size a ≤ S4x1024x2560.size a := by revert j c; decide +kernel

abbrev sentRA (j : Fin 3) (c : Dev nD) : Rect S4x1024x2560 := Rect.unit (s := S4x1024x2560) (offA j c) S1x320x2560.size (offA_inb j c)
abbrev sentA (j : Fin 3) (c : Dev nD) : Memref sig .tc .hbm S320x2560 .bf16 :=
  ((Memref.whole main_arg2).slice (sentRA j c) (fun _ => rfl)).squeeze S320x2560 squeezes_S1x320x2560_S320x2560

/-- Where what device `c` sends on link `3 + j` lies in its `main_arg3`. -/
def offB (j : Fin 3) (c : Dev nD) : Fin 3 → ℕ :=
  match j with
  | 0 => k0_off4 c
  | 1 => k0_off5 c
  | 2 => k0_off6 c

/-- It is in the layer of the chip it is sent to. -/
theorem offB_eq (j : Fin 3) (c : Dev nD) : offB j c = ![(chipB j c).val / 2, 0, 0] := by revert j c; decide +kernel

theorem offB_inb (j : Fin 3) (c : Dev nD) : ∀ a, offB j c a + S1x1024x2560.size a ≤ S4x1024x2560.size a := by revert j c; decide +kernel

abbrev sentRB (j : Fin 3) (c : Dev nD) : Rect S4x1024x2560 := Rect.unit (s := S4x1024x2560) (offB j c) S1x1024x2560.size (offB_inb j c)
abbrev sentB (j : Fin 3) (c : Dev nD) : Memref sig .tc .hbm S1024x2560 .bf16 :=
  ((Memref.whole main_arg3).slice (sentRB j c) (fun _ => rfl)).squeeze S1024x2560 squeezes_S1x1024x2560_S1024x2560

variable (m : (ℓ : Loc nD τ sig) → Buf (Elt F) ℓ)

/-- What device `c` sends on link 6, read off its `main_arg4` at launch. -/
def outgoing (c : Dev nD) : Vec F S4x512x4096 .bf16 := (sentP c).view.read (Elt F) (m (c.tc.loc main_arg4))

/-- What lands on device `c` on link 6: what the other core sends. -/
def landed (c : Dev nD) : Buf (Elt F) (landP.view.loc (c.tc : Thread nD τ)) := outgoing m (peer 6 c)

/-- Where in the buffer of a peer of device `c` an entry of its landing buffer comes from. -/
def origin (c : Dev nD) (i : S3x1024x2560.Idx) : S4x1024x2560.Idx
  | 0 => ⟨c.val / 2, by have h : c.val < 8 := c.isLt; show c.val / 2 < 4; omega⟩
  | 1 => i 1
  | 2 => i 2

/-- `main_v1_1` of device `c` when the three transfers have landed: the rows sent, and above them what it held. -/
def filledA (c : Dev nD) : Vec F S3x1024x2560 .bf16 := fun i =>
  if 704 ≤ (i 1).val then m ((chipA (i 0) c : Thread nD τ).loc main_arg2) (origin c i) else m (c.tc.loc main_v1_1) i

/-- `main_v1_2` of device `c` when the three transfers have landed. -/
def filledB (c : Dev nD) : Vec F S3x1024x2560 .bf16 := fun i => m ((chipB (i 0) c : Thread nD τ).loc main_arg3) (origin c i)

/-- The elements the transfers read, at their launch contents. -/
def lentA (c : Dev nD) (j : Fin 3) : sProp 𝕄 :=
  iprop(c.tc.loc main_arg2 ↦[(sentA j c).view.set]{fullShare} m (c.tc.loc main_arg2))
def lentB (c : Dev nD) (j : Fin 3) : sProp 𝕄 :=
  iprop(c.tc.loc main_arg3 ↦[(sentB j c).view.set]{fullShare} m (c.tc.loc main_arg3))
def lentP (c : Dev nD) : sProp 𝕄 :=
  iprop((sentP c).view.loc c.tc ↦[(sentP c).view.set]{fullShare} m (c.tc.loc main_arg4))

/-- The elements they write on device `c`, at contents `f`. -/
def landingA (c : Dev nD) (j : Fin 3) (f : Buf (Elt F) ((c.tc : Thread nD τ).loc main_v1_1)) : sProp 𝕄 :=
  iprop(c.tc.loc main_v1_1 ↦[(landA j).view.set]{fullShare} f)
def landingB (c : Dev nD) (j : Fin 3) (f : Buf (Elt F) ((c.tc : Thread nD τ).loc main_v1_2)) : sProp 𝕄 :=
  iprop(c.tc.loc main_v1_2 ↦[(landB j).view.set]{fullShare} f)
def landingP (c : Dev nD) (f : Buf (Elt F) (landP.view.loc (c.tc : Thread nD τ))) : sProp 𝕄 :=
  iprop(landP.view.loc c.tc ↦[landP.view.set]{fullShare} f)

/-- What a device sends on a link, the place there for what it is sent, and that place with what was sent. -/
def lent (c : Dev nD) : Fin 7 → sProp 𝕄
  | 0 => lentA m c 0
  | 1 => lentA m c 1
  | 2 => lentA m c 2
  | 3 => lentB m c 0
  | 4 => lentB m c 1
  | 5 => lentB m c 2
  | 6 => lentP m c
def room (c : Dev nD) : Fin 7 → sProp 𝕄
  | 0 => iprop(∃ f, landingA c 0 f)
  | 1 => iprop(∃ f, landingA c 1 f)
  | 2 => iprop(∃ f, landingA c 2 f)
  | 3 => iprop(∃ f, landingB c 0 f)
  | 4 => iprop(∃ f, landingB c 1 f)
  | 5 => iprop(∃ f, landingB c 2 f)
  | 6 => iprop(∃ f, landingP c f)
def came (c : Dev nD) : Fin 7 → sProp 𝕄
  | 0 => landingA c 0 (filledA m c)
  | 1 => landingA c 1 (filledA m c)
  | 2 => landingA c 2 (filledA m c)
  | 3 => landingB c 0 (filledB m c)
  | 4 => landingB c 1 (filledB m c)
  | 5 => landingB c 2 (filledB m c)
  | 6 => landingP c (landed m c)

/-- What the send cells return and what the receive cells deliver. -/
def pay : links.End → Dev nD → sProp 𝕄
  | (false, j), c => lent m c j
  | (true, j), c => came m c j

instance : Cert.Exchange.Keepable links (pay m) where
  keep k c := by
    have hA (j : Fin 3) : BI.Storable upEmb (lentA m c j) := by unfold lentA; infer_instance
    have hB (j : Fin 3) : BI.Storable upEmb (lentB m c j) := by unfold lentB; infer_instance
    have hP : BI.Storable upEmb (lentP m c) := by unfold lentP; infer_instance
    have gA (j : Fin 3) : BI.Storable upEmb (landingA c j (filledA m c)) := by unfold landingA; infer_instance
    have gB (j : Fin 3) : BI.Storable upEmb (landingB c j (filledB m c)) := by unfold landingB; infer_instance
    have gP : BI.Storable upEmb (landingP c (landed m c)) := by unfold landingP; infer_instance
    rcases k with ⟨_ | _, j⟩
    · show BI.Storable upEmb (lent m c j)
      change Fin 7 at j
      fin_cases j
      exacts [hA 0, hA 1, hA 2, hB 0, hB 1, hB 2, hP]
    · show BI.Storable upEmb (came m c j)
      change Fin 7 at j
      fin_cases j
      exacts [gA 0, gA 1, gA 2, gB 0, gB 1, gB 2, gP]

/-- What the transfer of link 6 leaves where it lands does not depend on what it held. -/
theorem write_landing (c : Dev nD) (f : Buf (Elt F) (landP.view.loc (c.tc : Thread nD τ))) (w : Vec F S4x512x4096 .bf16) :
    landP.view.write (Elt F) f w Finset.univ = w :=
  View.write_whole_univ _ _ _

/-- What the transfer of link `j` from device `c` leaves where it lands is what `filledA` says. -/
theorem deliveredA (j : Fin 3) (c : Dev nD) (fd : Buf (Elt F) ((landA j).view.loc (chipA j c : Thread nD τ))) (i) (hi : i ∈ (landA j).view.set) :
    (landA j).view.write (Elt F) fd ((sentA j c).view.read (Elt F) (m (c.tc.loc main_arg2))) Finset.univ i = filledA m (chipA j c) i := by
  obtain ⟨x, -, rfl⟩ := Finset.mem_map.mp hi
  refine (View.write_emb_of_mem (v := (landA j).view) fd _ (Finset.mem_univ x)).trans ?_
  show m (c.tc.loc main_arg2) ((sentA j c).view.emb x) = _
  generalize hy : Shape.reshapeEquiv (s := S1x320x2560) (s' := S320x2560) (by decide) x = y
  have hs : (sentA j c).view.emb x = (sentRA j c).emb y := by rw [← hy]; rfl
  have hl : (landA j).view.emb x = (landRA j).emb y := by rw [← hy]; rfl
  rw [hs]
  refine Eq.trans ?_ (congrArg (filledA m (chipA j c)) hl).symm
  have y0 : (y 0).val < 1 := (y 0).isLt
  have l0 : ((landRA j).emb y) 0 = j := Fin.ext (show j.val + 1 * (y 0).val = j.val by omega)
  have l1 : (((landRA j).emb y) 1).val = 704 + (y 1).val := show 704 + 1 * (y 1).val = 704 + (y 1).val by omega
  unfold filledA
  rw [if_pos (by omega)]
  have hp : chipA (((landRA j).emb y) 0) (chipA j c) = c := by rw [l0]; exact peer_peer (linkA j) c
  have e : (sentRA j c).emb y = origin (chipA j c) ((landRA j).emb y) := by
    funext a
    fin_cases a <;> refine Fin.ext ?_
    · show offA j c 0 + 1 * (y 0).val = (chipA j c).val / 2
      rw [offA_eq]; show (chipA j c).val / 2 + 1 * (y 0).val = _; omega
    · show offA j c 1 + 1 * (y 1).val = 704 + 1 * (y 1).val
      rw [offA_eq]; rfl
    · show offA j c 2 + 1 * (y 2).val = 0 + 1 * (y 2).val
      rw [offA_eq]; rfl
  rw [e, hp]

/-- What the transfer of link `3 + j` from device `c` leaves where it lands is what `filledB` says. -/
theorem deliveredB (j : Fin 3) (c : Dev nD) (fd : Buf (Elt F) ((landB j).view.loc (chipB j c : Thread nD τ))) (i) (hi : i ∈ (landB j).view.set) :
    (landB j).view.write (Elt F) fd ((sentB j c).view.read (Elt F) (m (c.tc.loc main_arg3))) Finset.univ i = filledB m (chipB j c) i := by
  obtain ⟨x, -, rfl⟩ := Finset.mem_map.mp hi
  refine (View.write_emb_of_mem (v := (landB j).view) fd _ (Finset.mem_univ x)).trans ?_
  show m (c.tc.loc main_arg3) ((sentB j c).view.emb x) = _
  generalize hy : Shape.reshapeEquiv (s := S1x1024x2560) (s' := S1024x2560) (by decide) x = y
  have hs : (sentB j c).view.emb x = (sentRB j c).emb y := by rw [← hy]; rfl
  have hl : (landB j).view.emb x = (landRB j).emb y := by rw [← hy]; rfl
  rw [hs]
  refine Eq.trans ?_ (congrArg (filledB m (chipB j c)) hl).symm
  have y0 : (y 0).val < 1 := (y 0).isLt
  have l0 : ((landRB j).emb y) 0 = j := Fin.ext (show j.val + 1 * (y 0).val = j.val by omega)
  unfold filledB
  have hp : chipB (((landRB j).emb y) 0) (chipB j c) = c := by rw [l0]; exact peer_peer (linkB j) c
  have e : (sentRB j c).emb y = origin (chipB j c) ((landRB j).emb y) := by
    funext a
    fin_cases a <;> refine Fin.ext ?_
    · show offB j c 0 + 1 * (y 0).val = (chipB j c).val / 2
      rw [offB_eq]; show (chipB j c).val / 2 + 1 * (y 0).val = _; omega
    · show offB j c 1 + 1 * (y 1).val = 0 + 1 * (y 1).val
      rw [offB_eq]; rfl
    · show offB j c 2 + 1 * (y 2).val = 0 + 1 * (y 2).val
      rw [offB_eq]; rfl
  rw [e, hp]

/-! ## The buffers in pieces -/

theorem sent_setA (j : Fin 3) (c : Dev nD) : (sentA j c).view.set = (sentRA j c).set :=
  (View.set_reshape _ _).trans (View.set_slice_whole _ _)
theorem land_setA (j : Fin 3) : (landA j).view.set = (landRA j).set :=
  (View.set_reshape _ _).trans (View.set_slice_whole _ _)

theorem chip_apartA (c : Dev nD) (j j' : Fin 3) (h : j ≠ j') : (chipA j c).val / 2 ≠ (chipA j' c).val / 2 := by
  revert c j j'; decide +kernel

theorem sent_apartA (c : Dev nD) (j j' : Fin 3) (h : j ≠ j') : Disjoint (sentA j c).view.set (sentA j' c).view.set := by
  rw [sent_setA, sent_setA]
  refine Rect.unit_disjoint 0 ?_
  have := chip_apartA c j j' h
  rw [offA_eq, offA_eq]
  show (chipA j c).val / 2 + 1 ≤ (chipA j' c).val / 2 ∨ (chipA j' c).val / 2 + 1 ≤ (chipA j c).val / 2
  omega

theorem land_apartA (j j' : Fin 3) (h : j ≠ j') : Disjoint (landA j).view.set (landA j').view.set := by
  rw [land_setA, land_setA]
  refine Rect.unit_disjoint 0 ?_
  have : j.val ≠ j'.val := fun e => h (Fin.ext e)
  show j.val + 1 ≤ j'.val ∨ j'.val + 1 ≤ j.val
  omega

/-- The last 320 rows of every layer are landing places. -/
theorem land_memA (i : S3x1024x2560.Idx) (h : 704 ≤ (i 1).val) : i ∈ (landA (i 0)).view.set := by
  have hr : i ∈ (landRA (i 0)).set := by
    refine Rect.mem_set_unit.mpr fun a => ?_
    fin_cases a
    · exact ⟨Nat.le_refl _, Nat.lt_succ_self _⟩
    · exact ⟨h, by have h : (i 1).val < 1024 := (i 1).isLt; show (i 1).val < 704 + 320; omega⟩
    · exact ⟨Nat.zero_le _, by have h : (i 2).val < 2560 := (i 2).isLt; show (i 2).val < 0 + 2560; omega⟩
  exact (land_setA (i 0)).symm ▸ hr

/-- The elements of `main_arg2` that no transfer reads, and those of `main_v1_1` that none writes. -/
def keptA (c : Dev nD) : sProp 𝕄 :=
  iprop(c.tc.loc main_arg2 ↦[Finset.univ \ (Finset.univ : Finset (Fin 3)).biUnion fun j => (sentA j c).view.set]{fullShare}
    m (c.tc.loc main_arg2))
def aboveA (c : Dev nD) (f : Buf (Elt F) ((c.tc : Thread nD τ).loc main_v1_1)) : sProp 𝕄 :=
  iprop(c.tc.loc main_v1_1 ↦[Finset.univ \ (Finset.univ : Finset (Fin 3)).biUnion fun j => (landA j).view.set]{fullShare} f)

omit [FloatOps F] in
theorem arg2_split (c : Dev nD) :
    (c.tc.loc main_arg2 ↦{fullShare} m (c.tc.loc main_arg2) : sProp 𝕄)
      ⊣⊢ iprop((bigSep Finset.univ fun j => lentA m c j) ∗ keptA m c) := by
  have h := pointsTo_biUnion (Ix := Unit) (Name := ℕ) (U := UU nD sig τ) (Lvl := ℕ) (q := fullShare) (f := m (c.tc.loc main_arg2))
    Finset.univ (fun j => (sentA j c).view.set) fun j _ j' _ hj => sent_apartA c j j' hj
  unfold lentA keptA
  rw [← h]
  exact pointsTo_split_subset (Finset.subset_univ _)

omit [FloatOps F] in
theorem landingA_split (c : Dev nD) (f : Buf (Elt F) (c.tc.loc main_v1_1)) :
    (c.tc.loc main_v1_1 ↦{fullShare} f : sProp 𝕄) ⊣⊢ iprop((bigSep Finset.univ fun j => landingA c j f) ∗ aboveA c f) := by
  have h := pointsTo_biUnion (Ix := Unit) (Name := ℕ) (U := UU nD sig τ) (Lvl := ℕ) (q := fullShare) (f := f)
    Finset.univ (fun j => (landA j).view.set) fun j _ j' _ hj => land_apartA j j' hj
  unfold landingA aboveA
  rw [← h]
  exact pointsTo_split_subset (Finset.subset_univ _)

omit [FloatOps F] in
/-- Outside the three landing places `filledA` is what was there. -/
theorem aboveA_eq (c : Dev nD) : (aboveA c (m (c.tc.loc main_v1_1)) : sProp 𝕄) = aboveA c (filledA m c) := by
  unfold aboveA
  refine pointsTo_congr fun i hi => ?_
  have hn : ¬ 704 ≤ (i 1).val := fun hlt => (Finset.mem_sdiff.mp hi).2 (Finset.mem_biUnion.mpr ⟨i 0, Finset.mem_univ _, land_memA i hlt⟩)
  exact (if_neg hn).symm

theorem sent_setB (j : Fin 3) (c : Dev nD) : (sentB j c).view.set = (sentRB j c).set :=
  (View.set_reshape _ _).trans (View.set_slice_whole _ _)
theorem land_setB (j : Fin 3) : (landB j).view.set = (landRB j).set :=
  (View.set_reshape _ _).trans (View.set_slice_whole _ _)

theorem chip_apartB (c : Dev nD) (j j' : Fin 3) (h : j ≠ j') : (chipB j c).val / 2 ≠ (chipB j' c).val / 2 := by
  revert c j j'; decide +kernel

theorem sent_apartB (c : Dev nD) (j j' : Fin 3) (h : j ≠ j') : Disjoint (sentB j c).view.set (sentB j' c).view.set := by
  rw [sent_setB, sent_setB]
  refine Rect.unit_disjoint 0 ?_
  have := chip_apartB c j j' h
  rw [offB_eq, offB_eq]
  show (chipB j c).val / 2 + 1 ≤ (chipB j' c).val / 2 ∨ (chipB j' c).val / 2 + 1 ≤ (chipB j c).val / 2
  omega

theorem land_apartB (j j' : Fin 3) (h : j ≠ j') : Disjoint (landB j).view.set (landB j').view.set := by
  rw [land_setB, land_setB]
  refine Rect.unit_disjoint 0 ?_
  have : j.val ≠ j'.val := fun e => h (Fin.ext e)
  show j.val + 1 ≤ j'.val ∨ j'.val + 1 ≤ j.val
  omega

/-- Every layer is a landing place. -/
theorem land_memB (i : S3x1024x2560.Idx) : i ∈ (landB (i 0)).view.set := by
  have hr : i ∈ (landRB (i 0)).set := by
    refine Rect.mem_set_unit.mpr fun a => ?_
    fin_cases a
    · exact ⟨Nat.le_refl _, Nat.lt_succ_self _⟩
    · exact ⟨Nat.zero_le _, by have h : (i 1).val < 1024 := (i 1).isLt; show (i 1).val < 0 + 1024; omega⟩
    · exact ⟨Nat.zero_le _, by have h : (i 2).val < 2560 := (i 2).isLt; show (i 2).val < 0 + 2560; omega⟩
  exact (land_setB (i 0)).symm ▸ hr

/-- The elements of `main_arg3` that no transfer reads, and those of `main_v1_2` that none writes. -/
def keptB (c : Dev nD) : sProp 𝕄 :=
  iprop(c.tc.loc main_arg3 ↦[Finset.univ \ (Finset.univ : Finset (Fin 3)).biUnion fun j => (sentB j c).view.set]{fullShare}
    m (c.tc.loc main_arg3))
def aboveB (c : Dev nD) (f : Buf (Elt F) ((c.tc : Thread nD τ).loc main_v1_2)) : sProp 𝕄 :=
  iprop(c.tc.loc main_v1_2 ↦[Finset.univ \ (Finset.univ : Finset (Fin 3)).biUnion fun j => (landB j).view.set]{fullShare} f)

omit [FloatOps F] in
theorem arg3_split (c : Dev nD) :
    (c.tc.loc main_arg3 ↦{fullShare} m (c.tc.loc main_arg3) : sProp 𝕄)
      ⊣⊢ iprop((bigSep Finset.univ fun j => lentB m c j) ∗ keptB m c) := by
  have h := pointsTo_biUnion (Ix := Unit) (Name := ℕ) (U := UU nD sig τ) (Lvl := ℕ) (q := fullShare) (f := m (c.tc.loc main_arg3))
    Finset.univ (fun j => (sentB j c).view.set) fun j _ j' _ hj => sent_apartB c j j' hj
  unfold lentB keptB
  rw [← h]
  exact pointsTo_split_subset (Finset.subset_univ _)

omit [FloatOps F] in
theorem landingB_split (c : Dev nD) (f : Buf (Elt F) (c.tc.loc main_v1_2)) :
    (c.tc.loc main_v1_2 ↦{fullShare} f : sProp 𝕄) ⊣⊢ iprop((bigSep Finset.univ fun j => landingB c j f) ∗ aboveB c f) := by
  have h := pointsTo_biUnion (Ix := Unit) (Name := ℕ) (U := UU nD sig τ) (Lvl := ℕ) (q := fullShare) (f := f)
    Finset.univ (fun j => (landB j).view.set) fun j _ j' _ hj => land_apartB j j' hj
  unfold landingB aboveB
  rw [← h]
  exact pointsTo_split_subset (Finset.subset_univ _)

omit [FloatOps F] in
/-- Outside the three landing places `filledB` is what was there. -/
theorem aboveB_eq (c : Dev nD) : (aboveB c (m (c.tc.loc main_v1_2)) : sProp 𝕄) = aboveB c (filledB m c) := by
  unfold aboveB
  refine pointsTo_congr fun i hi => ?_
  exact absurd (Finset.mem_biUnion.mpr ⟨i 0, Finset.mem_univ _, land_memB i⟩) (Finset.mem_sdiff.mp hi).2

/-- The elements of `main_arg4` that no transfer reads. -/
def keptP (c : Dev nD) : sProp 𝕄 :=
  iprop(c.tc.loc main_arg4 ↦[Finset.univ \ (sentP c).view.set]{fullShare} m (c.tc.loc main_arg4))

omit [FloatOps F] in
theorem arg4_split (c : Dev nD) :
    (c.tc.loc main_arg4 ↦{fullShare} m (c.tc.loc main_arg4) : sProp 𝕄) ⊣⊢ iprop(lentP m c ∗ keptP m c) :=
  pointsTo_split_subset (Finset.subset_univ _)

omit [FloatOps F] in
theorem landingP_eq (c : Dev nD) (f : Buf (Elt F) (c.tc.loc main_v1_3)) :
    landingP c f = (c.tc.loc main_v1_3 ↦{fullShare} f : sProp 𝕄) := by
  unfold landingP; rw [View.set_whole]

/-- What holds of the three chips across, one by one, and of the seven links, one by one. -/
theorem three (Φ : Fin 3 → sProp 𝕄) : bigSep Finset.univ Φ = iprop(Φ 0 ∗ Φ 1 ∗ Φ 2) :=
  bigSep_univ_eq_bigSepL [0, 1, 2] (by decide) (by decide) Φ
theorem seven (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ

end Cert.Px

end
-- ==== Proof.PxParts.lean ====
/-
# The parts of a grid point of `proj_dx`

The body at a grid point is: start the seven transfers (at the first point), add the product of the two blocks to the
accumulator (setting it at the first step of the contraction, writing the output block at the last), wait for the
transfers (at the last point).
-/
module

public import proofs.«01_k».proof.Proof.Gen.PxKernelIdeal.Skeleton
public import proofs.«01_k».proof.Proof.Gen.PxKernelIdeal.Points
public import proofs.«01_k».proof.Proof.PxLinks

@[expose] public section

noncomputable section

namespace Cert.Px

open Cert.PxKernelIdeal Cert.PxKernelIdeal.Gen
open Idealize.ShloMosaic
open TcCoe
open Idealize.SL.Sem

variable {F : FTy → Type} [FloatOps F]

/-- Programs of this kernel. -/
abbrev Code (F : FTy → Type) [FloatOps F] : Type → Type 1 := Prog (TpuEff nD τ sig (Elt F) Λ₀ .tc)

/-- The last rows of a layer of `main_arg2`, as the body names them. -/
abbrev rowsA (o : Fin 3 → ℕ) (h : ∀ a, o a + S1x320x2560.size a ≤ S4x1024x2560.size a) : Memref sig .tc .hbm S320x2560 .bf16 :=
  ((Memref.whole main_arg2).slice (Rect.unit (s := S4x1024x2560) o S1x320x2560.size h) (fun _ => rfl)).squeeze S320x2560 squeezes_S1x320x2560_S320x2560

theorem rowsA_exact {o : Fin 3 → ℕ} {h : ∀ a, o a + S1x320x2560.size a ≤ S4x1024x2560.size a}
    (hw : (Rect.unit (s := S4x1024x2560) o S1x320x2560.size h).WholeWords (EltTy.packing .bf16)) : (rowsA o h).view.WordExact :=
  ((Memref.isWhole_whole main_arg2).wordExact_slice rfl _ hw).reshape _ _

theorem landA_words : ∀ j : Fin 3, (landRA j).WholeWords (EltTy.packing .bf16)
  | 0 => wordsbf16_S3x1024x2560_S1x320x2560_0_704_0
  | 1 => wordsbf16_S3x1024x2560_S1x320x2560_1_704_0
  | 2 => wordsbf16_S3x1024x2560_S1x320x2560_2_704_0

theorem landA_exact (j : Fin 3) : (landA j).view.WordExact := ((Memref.isWhole_whole main_v1_1).wordExact_slice rfl _ (landA_words j)).reshape _ _

/-- A layer of `main_arg3`, as the body names it. -/
abbrev rowsB (o : Fin 3 → ℕ) (h : ∀ a, o a + S1x1024x2560.size a ≤ S4x1024x2560.size a) : Memref sig .tc .hbm S1024x2560 .bf16 :=
  ((Memref.whole main_arg3).slice (Rect.unit (s := S4x1024x2560) o S1x1024x2560.size h) (fun _ => rfl)).squeeze S1024x2560 squeezes_S1x1024x2560_S1024x2560

theorem rowsB_exact {o : Fin 3 → ℕ} {h : ∀ a, o a + S1x1024x2560.size a ≤ S4x1024x2560.size a}
    (hw : (Rect.unit (s := S4x1024x2560) o S1x1024x2560.size h).WholeWords (EltTy.packing .bf16)) : (rowsB o h).view.WordExact :=
  ((Memref.isWhole_whole main_arg3).wordExact_slice rfl _ hw).reshape _ _

theorem landB_words : ∀ j : Fin 3, (landRB j).WholeWords (EltTy.packing .bf16)
  | 0 => wordsbf16_S3x1024x2560_S1x1024x2560_0_0_0
  | 1 => wordsbf16_S3x1024x2560_S1x1024x2560_1_0_0
  | 2 => wordsbf16_S3x1024x2560_S1x1024x2560_2_0_0

theorem landB_exact (j : Fin 3) : (landB j).view.WordExact := ((Memref.isWhole_whole main_v1_2).wordExact_slice rfl _ (landB_words j)).reshape _ _

/-- Half of every layer of `main_arg4`, as the body names it. -/
abbrev halfAt (o : Fin 3 → ℕ) (h : ∀ a, o a + S4x512x4096.size a ≤ S4x1024x4096.size a) : Memref sig .tc .hbm S4x512x4096 .bf16 :=
  (Memref.whole main_arg4).slice (Rect.unit (s := S4x1024x4096) o S4x512x4096.size h) (fun _ => rfl)

theorem half_exact {o : Fin 3 → ℕ} {h : ∀ a, o a + S4x512x4096.size a ≤ S4x1024x4096.size a}
    (hw : (Rect.unit (s := S4x1024x4096) o S4x512x4096.size h).WholeWords (EltTy.packing .bf16)) : (halfAt o h).view.WordExact :=
  (Memref.isWhole_whole main_arg4).wordExact_slice rfl _ hw

theorem landP_exact : landP.view.WordExact := (Memref.isWhole_whole main_v1_3).wordExact

/-- The first grid point sends. -/
def sendPart (i : grid0.Coords) : Code F PUnit :=
  if h : k0_cond1 i = 1#1 then
    .op .deviceId fun d =>
    .op (.enqueueDma (rowsA (k0_off1 d) (k0_off1_inb i d h)) (.remote (Dev.tc (⟨k0_dev1 d, k0_dev1_lt i d h⟩ : Dev nD)) (landA 0) (.dma (sendSem 0)))
      (.dma (recvSem 0)) (rowsA_exact (k0_off1_wordsbf16 i d h)) (landA_exact 0) ⟨⟨rfl, Or.inl rfl⟩, trivial⟩) fun _ =>
    .op (.enqueueDma (rowsA (k0_off2 d) (k0_off2_inb i d h)) (.remote (Dev.tc (⟨k0_dev2 d, k0_dev2_lt i d h⟩ : Dev nD)) (landA 1) (.dma (sendSem 1)))
      (.dma (recvSem 1)) (rowsA_exact (k0_off2_wordsbf16 i d h)) (landA_exact 1) ⟨⟨rfl, Or.inl rfl⟩, trivial⟩) fun _ =>
    .op (.enqueueDma (rowsA (k0_off3 d) (k0_off3_inb i d h)) (.remote (Dev.tc (⟨k0_dev3 d, k0_dev3_lt i d h⟩ : Dev nD)) (landA 2) (.dma (sendSem 2)))
      (.dma (recvSem 2)) (rowsA_exact (k0_off3_wordsbf16 i d h)) (landA_exact 2) ⟨⟨rfl, Or.inl rfl⟩, trivial⟩) fun _ =>
    .op (.enqueueDma (rowsB (k0_off4 d) (k0_off4_inb i d h)) (.remote (Dev.tc (⟨k0_dev4 d, k0_dev4_lt i d h⟩ : Dev nD)) (landB 0) (.dma (sendSem 3)))
      (.dma (recvSem 3)) (rowsB_exact (k0_off4_wordsbf16 i d h)) (landB_exact 0) ⟨⟨rfl, Or.inl rfl⟩, trivial⟩) fun _ =>
    .op (.enqueueDma (rowsB (k0_off5 d) (k0_off5_inb i d h)) (.remote (Dev.tc (⟨k0_dev5 d, k0_dev5_lt i d h⟩ : Dev nD)) (landB 1) (.dma (sendSem 4)))
      (.dma (recvSem 4)) (rowsB_exact (k0_off5_wordsbf16 i d h)) (landB_exact 1) ⟨⟨rfl, Or.inl rfl⟩, trivial⟩) fun _ =>
    .op (.enqueueDma (rowsB (k0_off6 d) (k0_off6_inb i d h)) (.remote (Dev.tc (⟨k0_dev6 d, k0_dev6_lt i d h⟩ : Dev nD)) (landB 2) (.dma (sendSem 5)))
      (.dma (recvSem 5)) (rowsB_exact (k0_off6_wordsbf16 i d h)) (landB_exact 2) ⟨⟨rfl, Or.inl rfl⟩, trivial⟩) fun _ =>
    .op (.enqueueDma (halfAt (k0_off7 d) (k0_off7_inb i d h)) (.remote (Dev.tc (⟨k0_dev7 d, k0_dev7_lt i d h⟩ : Dev nD)) landP (.dma (sendSem 6)))
      (.dma (recvSem 6)) (half_exact (k0_off7_wordsbf16 i d h)) landP_exact ⟨⟨rfl, Or.inl rfl⟩, trivial⟩) fun _ => .ret ⟨⟩
  else .ret ⟨⟩

/-- The blocks as the body loads and stores them: whole. -/
abbrev wholeL : Rect S2048x1280 := Rect.unit (s := S2048x1280) ![0, 0] S2048x1280.size inb_S2048x1280_S2048x1280_0_0
abbrev wholeR : Rect S1x1024x1280 := Rect.unit (s := S1x1024x1280) ![0, 0, 0] S1x1024x1280.size inb_S1x1024x1280_S1x1024x1280_0_0_0
abbrev wholeO : Rect S2048x1024 := Rect.unit (s := S2048x1024) ![0, 0] S2048x1024.size inb_S2048x1024_S2048x1024_0_0

/-- Whether a point is at the first step of the contraction, or strictly between the first and the last. -/
abbrev condFirst (i : grid0.Coords) : BitVec 1 :=
  Scalar.cmpi .ne (Scalar.extui (Scalar.cmpi .eq (BitVec.ofNat 32 (i 2).val) 0#32) : BitVec 32) 0#32
abbrev condMiddle (i : grid0.Coords) : BitVec 1 :=
  Scalar.cmpi .ne (Scalar.extui (Scalar.andi (Scalar.cmpi .sgt (BitVec.ofNat 32 (i 2).val) 0#32) (Scalar.cmpi .slt (BitVec.ofNat 32 (i 2).val) 7#32)) : BitVec 32) 0#32

variable (A : Memref sig .tc .vmem S2048x1280 .bf16) (B : Memref sig .tc .vmem S1x1024x1280 .bf16) (O acc : Memref sig .tc .vmem S2048x1024 .f32)

/-- The accumulator set to the product of the two blocks. -/
def setAcc : Code F PUnit :=
  .op (.load A wholeL.toLoadRect (View.loadsAt_vmem h_S2048x1280)) fun a =>
  .op (.load B wholeR.toLoadRect (View.loadsAt_vmem h_S1x1024x1280)) fun b =>
  .op (.load acc wholeO.toLoadRect (View.loadsAt_vmem h_S2048x1024)) fun _ =>
  .op (.store acc wholeO (k0_pay1 a b) Finset.univ (View.stores_vmem_bits_univ h_S2048x1024 rfl) (.inl rfl)) fun _ => .ret ⟨⟩

/-- The product added to it. -/
def addAcc : Code F PUnit :=
  .op (.load acc wholeO.toLoadRect (View.loadsAt_vmem h_S2048x1024)) fun s =>
  .op (.load A wholeL.toLoadRect (View.loadsAt_vmem h_S2048x1280)) fun a =>
  .op (.load B wholeR.toLoadRect (View.loadsAt_vmem h_S1x1024x1280)) fun b =>
  .op (.load acc wholeO.toLoadRect (View.loadsAt_vmem h_S2048x1024)) fun _ =>
  .op (.store acc wholeO (k0_pay2 s a b) Finset.univ (View.stores_vmem_bits_univ h_S2048x1024 rfl) (.inl rfl)) fun _ => .ret ⟨⟩

/-- The two together written to the output block. -/
def putOut : Code F PUnit :=
  .op (.load acc wholeO.toLoadRect (View.loadsAt_vmem h_S2048x1024)) fun s =>
  .op (.load A wholeL.toLoadRect (View.loadsAt_vmem h_S2048x1280)) fun a =>
  .op (.load B wholeR.toLoadRect (View.loadsAt_vmem h_S1x1024x1280)) fun b =>
  .op (.load O wholeO.toLoadRect (View.loadsAt_vmem h_S2048x1024)) fun _ =>
  .op (.store O wholeO (k0_pay3 s a b) Finset.univ (View.stores_vmem_bits_univ h_S2048x1024 rfl) (.inl rfl)) fun _ => .ret ⟨⟩

/-- What a point computes. -/
def workPart (i : grid0.Coords) : Code F PUnit :=
  (if condFirst i = 1#1 then setAcc A B acc else .ret ⟨⟩) >>= fun _ =>
  (if condMiddle i = 1#1 then addAcc A B acc else .ret ⟨⟩) >>= fun _ =>
  (if k0_cond4 i = 1#1 then putOut A B O acc else .ret ⟨⟩)

/-- At every point exactly one of the three is done. -/
theorem work_first (i : grid0.Coords) (h1 : condFirst i = 1#1) (h2 : ¬ condMiddle i = 1#1) (h3 : ¬ k0_cond4 i = 1#1) :
    workPart A B O acc i = setAcc (F := F) A B acc := by
  unfold workPart; rw [if_pos h1, if_neg h2, if_neg h3]; rfl
theorem work_middle (i : grid0.Coords) (h1 : ¬ condFirst i = 1#1) (h2 : condMiddle i = 1#1) (h3 : ¬ k0_cond4 i = 1#1) :
    workPart A B O acc i = addAcc (F := F) A B acc := by
  unfold workPart; rw [if_neg h1, if_pos h2, if_neg h3]; rfl
theorem work_last (i : grid0.Coords) (h1 : ¬ condFirst i = 1#1) (h2 : ¬ condMiddle i = 1#1) (h3 : k0_cond4 i = 1#1) :
    workPart A B O acc i = putOut (F := F) A B O acc := by
  unfold workPart; rw [if_neg h1, if_neg h2, if_pos h3]; rfl

/-- The last grid point waits: for what its peers sent and for what it sent itself, on the first three links, then on the
    next three, then on the last. -/
def waitPart (i : grid0.Coords) : Code F PUnit :=
  if h : k0_cond5 i = 1#1 then
    .op .deviceId fun d =>
    .op (.waitDma2 (recvSem 0) (rowsA (k0_off8 d) (k0_off8_inb i d h)) (landA 0) (rowsA_exact (k0_off8_wordsbf16 i d h)) (landA_exact 0)) fun _ =>
    .op (.waitDma2 (recvSem 1) (rowsA (k0_off9 d) (k0_off9_inb i d h)) (landA 1) (rowsA_exact (k0_off9_wordsbf16 i d h)) (landA_exact 1)) fun _ =>
    .op (.waitDma2 (recvSem 2) (rowsA (k0_off10 d) (k0_off10_inb i d h)) (landA 2) (rowsA_exact (k0_off10_wordsbf16 i d h)) (landA_exact 2)) fun _ =>
    .op (.waitDma2 (sendSem 0) (landA 0) (rowsA (k0_off8 d) (k0_off8_inb i d h)) (landA_exact 0) (rowsA_exact (k0_off8_wordsbf16 i d h))) fun _ =>
    .op (.waitDma2 (sendSem 1) (landA 1) (rowsA (k0_off9 d) (k0_off9_inb i d h)) (landA_exact 1) (rowsA_exact (k0_off9_wordsbf16 i d h))) fun _ =>
    .op (.waitDma2 (sendSem 2) (landA 2) (rowsA (k0_off10 d) (k0_off10_inb i d h)) (landA_exact 2) (rowsA_exact (k0_off10_wordsbf16 i d h))) fun _ =>
    .op (.waitDma2 (recvSem 3) (rowsB (k0_off11 d) (k0_off11_inb i d h)) (landB 0) (rowsB_exact (k0_off11_wordsbf16 i d h)) (landB_exact 0)) fun _ =>
    .op (.waitDma2 (recvSem 4) (rowsB (k0_off12 d) (k0_off12_inb i d h)) (landB 1) (rowsB_exact (k0_off12_wordsbf16 i d h)) (landB_exact 1)) fun _ =>
    .op (.waitDma2 (recvSem 5) (rowsB (k0_off13 d) (k0_off13_inb i d h)) (landB 2) (rowsB_exact (k0_off13_wordsbf16 i d h)) (landB_exact 2)) fun _ =>
    .op (.waitDma2 (sendSem 3) (landB 0) (rowsB (k0_off11 d) (k0_off11_inb i d h)) (landB_exact 0) (rowsB_exact (k0_off11_wordsbf16 i d h))) fun _ =>
    .op (.waitDma2 (sendSem 4) (landB 1) (rowsB (k0_off12 d) (k0_off12_inb i d h)) (landB_exact 1) (rowsB_exact (k0_off12_wordsbf16 i d h))) fun _ =>
    .op (.waitDma2 (sendSem 5) (landB 2) (rowsB (k0_off13 d) (k0_off13_inb i d h)) (landB_exact 2) (rowsB_exact (k0_off13_wordsbf16 i d h))) fun _ =>
    .op (.waitDma2 (recvSem 6) (halfAt (k0_off14 d) (k0_off14_inb i d h)) landP (half_exact (k0_off14_wordsbf16 i d h)) landP_exact) fun _ =>
    .op (.waitDma2 (sendSem 6) landP (halfAt (k0_off14 d) (k0_off14_inb i d h)) landP_exact (half_exact (k0_off14_wordsbf16 i d h))) fun _ => .ret ⟨⟩
  else .ret ⟨⟩

set_option maxHeartbeats 4000000 in
/-- The body is its parts, one after the other. -/
theorem body_eq (t : Fin cfg0.N) :
    bodyAt0 (F := F) t = sendPart (grid0.coords t) >>= fun _ =>
      workPart (st0_0 t) (st0_1 t) (st0_2 t) (Memref.whole cc0_scratch0) (grid0.coords t) >>= fun _ => waitPart (grid0.coords t) := by
  unfold bodyAt0 sendPart workPart setAcc addAcc putOut
  rw [cc0_proj_dx_eq_skeleton]
  unfold cc0_proj_dx_skel
  rw [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton]
  unfold k0_part1_skel k0_part2_skel k0_part3_skel k0_part4_skel k0_part5_skel k0_part6_skel k0_part7_skel k0_part8_skel k0_part9_skel waitPart
  by_cases h1 : k0_cond1 (grid0.coords t) = 1#1 <;> by_cases h2 : condFirst (grid0.coords t) = 1#1 <;>
    by_cases h3 : condMiddle (grid0.coords t) = 1#1 <;> by_cases h4 : k0_cond4 (grid0.coords t) = 1#1 <;>
    by_cases h5 : k0_cond5 (grid0.coords t) = 1#1
  all_goals
    first | rw [dif_pos h1, dif_pos h1] | rw [dif_neg h1, dif_neg h1]
    first | rw [if_pos h2] | rw [if_neg h2]
    first | rw [if_pos h3] | rw [if_neg h3]
    first | rw [if_pos h4] | rw [if_neg h4]
    dsimp only
    first | rw [dif_pos h2] | rw [dif_neg h2]
    try dsimp only
    first | rw [dif_pos h3] | rw [dif_neg h3]
    try dsimp only
    first | rw [dif_pos h4] | rw [dif_neg h4]
    first | simp only [dif_pos h5] | simp only [dif_neg h5]
    rfl

/-- The first point, and only it, sends; the last point, and only it, waits. -/
theorem sends_iff (t : Fin cfg0.N) : k0_cond1 (grid0.coords t) = 1#1 ↔ t.val = 0 :=
  (by decide +kernel : ∀ t : Fin grid0.N, k0_cond1 (grid0.coords t) = 1#1 ↔ t.val = 0) t
theorem waits_iff (t : Fin cfg0.N) : k0_cond5 (grid0.coords t) = 1#1 ↔ t.val = 63 :=
  (by decide +kernel : ∀ t : Fin grid0.N, k0_cond5 (grid0.coords t) = 1#1 ↔ t.val = 63) t

/-- The contraction takes eight points. -/
theorem first_iff (t : Fin cfg0.N) : condFirst (grid0.coords t) = 1#1 ↔ t.val % 8 = 0 :=
  (by decide +kernel : ∀ t : Fin grid0.N, condFirst (grid0.coords t) = 1#1 ↔ t.val % 8 = 0) t
theorem middle_iff (t : Fin cfg0.N) : condMiddle (grid0.coords t) = 1#1 ↔ t.val % 8 ≠ 0 ∧ t.val % 8 ≠ 7 :=
  (by decide +kernel : ∀ t : Fin grid0.N, condMiddle (grid0.coords t) = 1#1 ↔ t.val % 8 ≠ 0 ∧ t.val % 8 ≠ 7) t
theorem last_iff (t : Fin cfg0.N) : k0_cond4 (grid0.coords t) = 1#1 ↔ t.val % 8 = 7 :=
  (by decide +kernel : ∀ t : Fin grid0.N, k0_cond4 (grid0.coords t) = 1#1 ↔ t.val % 8 = 7) t

end Cert.Px

end
-- ==== Proof.PxWork.lean ====
/-
# What a grid point of `proj_dx` does to the accumulator

Each of the three things a grid point may compute, by itself: the accumulator set to the product of the two blocks, the
product added to it, and the two together written to the output block. Every load and store is of a whole block.
-/
module

public import proofs.«01_k».proof.Proof.PxParts
public import Idealize.ShloMosaic.Lib.Writes

@[expose] public section

noncomputable section

namespace Cert.Px

open Cert.PxKernelIdeal Cert.PxKernelIdeal.Gen
open Idealize.ShloMosaic
open TcCoe Rounds
open Idealize.SL Idealize.SL.RA Idealize.SL.BI
open BIBase Laws ProofMode Sem
open Cert.Exchange (Links UU EP ER owns_iff)

variable {F : FTy → Type} [FloatOps F]

local notation "𝕄" => MT nD τ sig Unit (Elt F) ℕ (UU nD sig τ) ℕ

abbrev 𝒱₀ : Variants := Variants.none

/-- A block seen through a rectangle. -/
def part {s : Shape} {e : EltTy} (X : s.Idx → Elt F e) (r : Rect s) : r.shape.Idx → Elt F e := fun x => X (r.emb x)

omit [FloatOps F] in
theorem part_left {e : EltTy} (X : S2048x1280.Idx → Elt F e) : part X wholeL = X :=
  funext fun x => congrArg X (funext fun a => Fin.ext (by
    fin_cases a
    · show 0 + 1 * (x 0).val = (x 0).val; omega
    · show 0 + 1 * (x 1).val = (x 1).val; omega))

omit [FloatOps F] in
theorem part_right {e : EltTy} (X : S1x1024x1280.Idx → Elt F e) : part X wholeR = X :=
  funext fun x => congrArg X (funext fun a => Fin.ext (by
    fin_cases a
    · show 0 + 1 * (x 0).val = (x 0).val; omega
    · show 0 + 1 * (x 1).val = (x 1).val; omega
    · show 0 + 1 * (x 2).val = (x 2).val; omega))

omit [FloatOps F] in
theorem part_out {e : EltTy} (X : S2048x1024.Idx → Elt F e) : part X wholeO = X :=
  funext fun x => congrArg X (funext fun a => Fin.ext (by
    fin_cases a
    · show 0 + 1 * (x 0).val = (x 0).val; omega
    · show 0 + 1 * (x 1).val = (x 1).val; omega))

omit [FloatOps F] in
/-- A store of the whole block leaves what was stored. -/
theorem read_store {κ : Kind} {sp : Space} (v : View sig κ sp S2048x1024 .f32) (f : v.ty.Contents (Elt F)) (w : S2048x1024.Idx → Elt F .f32) :
    v.read (Elt F) (v.writes (Elt F) f [⟨wholeO, w⟩]) = w := by
  funext y
  refine View.read_writes_apply_of_pieces v f w [⟨wholeO, w⟩] ?_ y ⟨_, List.mem_singleton_self _, ?_⟩
  · intro p hp x
    obtain rfl := List.mem_singleton.mp hp
    exact (congrFun (part_out w) x).symm
  · show y ∈ wholeO.set
    refine Rect.mem_set_unit.mpr fun a => ?_
    fin_cases a
    · exact ⟨Nat.zero_le _, by have h : (y 0).val < 2048 := (y 0).isLt; show (y 0).val < 0 + 2048; omega⟩
    · exact ⟨Nat.zero_le _, by have h : (y 1).val < 1024 := (y 1).isLt; show (y 1).val < 0 + 1024; omega⟩

variable (c : Dev nD) (A : Memref sig .tc .vmem S2048x1280 .bf16) (B : Memref sig .tc .vmem S1x1024x1280 .bf16)
  (O acc : Memref sig .tc .vmem S2048x1024 .f32) (a : Vec F S2048x1280 .bf16) (b : Vec F S1x1024x1280 .bf16) (o s : Vec F S2048x1024 .f32)

theorem set_step :
    iprop(owns (Ix := Unit) (Name := ℕ) (U := UU nD sig τ) (Lvl := ℕ) c.tc A fullShare a
        ∗ owns c.tc B fullShare b ∗ owns c.tc acc fullShare s)
      ⊢ wp frame (wpE (defs₀ (F := F)) 𝒱₀ c none) Set.univ (setAcc A B acc)
          (fun _ => iprop(owns c.tc A fullShare a ∗ owns c.tc B fullShare b
            ∗ owns c.tc acc fullShare (k0_pay1 a b) : sProp 𝕄)) := by
  simp only [owns_iff]
  unfold setAcc
  iintro ⟨⟨%fa, %ha, HA⟩, ⟨%fb, %hb, HB⟩, ⟨%fs, %hs, HS⟩⟩
  subst ha hb
  iapply (wp_load 𝒱₀ c.tc none Set.univ (m := A) (View.setOn_subset_set _ _)) $$ HA; iintro HA
  iapply (wp_load 𝒱₀ c.tc none Set.univ (m := B) (View.setOn_subset_set _ _)) $$ HB; iintro HB
  iapply (wp_load 𝒱₀ c.tc none Set.univ (m := acc) (View.setOn_subset_set _ _)) $$ HS; iintro HS
  iapply (wp_store_writes₀ 𝒱₀ c.tc none Set.univ (m := acc) (r := wholeO) (View.set_slice_subset _ _)) $$ HS; iintro HS
  rw [wp_ret]; imodintro
  isplitl [HA]
  · iexists fa; isplitr; · (ipureintro; rfl)
    iexact HA
  isplitl [HB]
  · iexists fb; isplitr; · (ipureintro; rfl)
    iexact HB
  iexists _; isplitr
  · ipureintro
    refine (read_store acc.view fs (k0_pay1 (part (A.view.read (Elt F) fa) wholeL) (part (B.view.read (Elt F) fb) wholeR))).trans ?_
    rw [part_left, part_right]
  iexact HS

theorem add_step :
    iprop(owns (Ix := Unit) (Name := ℕ) (U := UU nD sig τ) (Lvl := ℕ) c.tc A fullShare a
        ∗ owns c.tc B fullShare b ∗ owns c.tc acc fullShare s)
      ⊢ wp frame (wpE (defs₀ (F := F)) 𝒱₀ c none) Set.univ (addAcc A B acc)
          (fun _ => iprop(owns c.tc A fullShare a ∗ owns c.tc B fullShare b
            ∗ owns c.tc acc fullShare (k0_pay2 s a b) : sProp 𝕄)) := by
  simp only [owns_iff]
  unfold addAcc
  iintro ⟨⟨%fa, %ha, HA⟩, ⟨%fb, %hb, HB⟩, ⟨%fs, %hs, HS⟩⟩
  subst ha hb hs
  iapply (wp_load 𝒱₀ c.tc none Set.univ (m := acc) (View.setOn_subset_set _ _)) $$ HS; iintro HS
  iapply (wp_load 𝒱₀ c.tc none Set.univ (m := A) (View.setOn_subset_set _ _)) $$ HA; iintro HA
  iapply (wp_load 𝒱₀ c.tc none Set.univ (m := B) (View.setOn_subset_set _ _)) $$ HB; iintro HB
  iapply (wp_load 𝒱₀ c.tc none Set.univ (m := acc) (View.setOn_subset_set _ _)) $$ HS; iintro HS
  iapply (wp_store_writes₀ 𝒱₀ c.tc none Set.univ (m := acc) (r := wholeO) (View.set_slice_subset _ _)) $$ HS; iintro HS
  rw [wp_ret]; imodintro
  isplitl [HA]
  · iexists fa; isplitr; · (ipureintro; rfl)
    iexact HA
  isplitl [HB]
  · iexists fb; isplitr; · (ipureintro; rfl)
    iexact HB
  iexists _; isplitr
  · ipureintro
    refine (read_store acc.view fs (k0_pay2 (part (acc.view.read (Elt F) fs) wholeO) (part (A.view.read (Elt F) fa) wholeL)
      (part (B.view.read (Elt F) fb) wholeR))).trans ?_
    rw [part_out, part_left, part_right]
  iexact HS

theorem put_step :
    iprop(owns (Ix := Unit) (Name := ℕ) (U := UU nD sig τ) (Lvl := ℕ) c.tc A fullShare a
        ∗ owns c.tc B fullShare b ∗ owns c.tc O fullShare o ∗ owns c.tc acc fullShare s)
      ⊢ wp frame (wpE (defs₀ (F := F)) 𝒱₀ c none) Set.univ (putOut A B O acc)
          (fun _ => iprop(owns c.tc A fullShare a ∗ owns c.tc B fullShare b
            ∗ owns c.tc O fullShare (k0_pay3 s a b) ∗ owns c.tc acc fullShare s : sProp 𝕄)) := by
  simp only [owns_iff]
  unfold putOut
  iintro ⟨⟨%fa, %ha, HA⟩, ⟨%fb, %hb, HB⟩, ⟨%fo, %ho, HO⟩, ⟨%fs, %hs, HS⟩⟩
  subst ha hb hs
  iapply (wp_load 𝒱₀ c.tc none Set.univ (m := acc) (View.setOn_subset_set _ _)) $$ HS; iintro HS
  iapply (wp_load 𝒱₀ c.tc none Set.univ (m := A) (View.setOn_subset_set _ _)) $$ HA; iintro HA
  iapply (wp_load 𝒱₀ c.tc none Set.univ (m := B) (View.setOn_subset_set _ _)) $$ HB; iintro HB
  iapply (wp_load 𝒱₀ c.tc none Set.univ (m := O) (View.setOn_subset_set _ _)) $$ HO; iintro HO
  iapply (wp_store_writes₀ 𝒱₀ c.tc none Set.univ (m := O) (r := wholeO) (View.set_slice_subset _ _)) $$ HO; iintro HO
  rw [wp_ret]; imodintro
  isplitl [HA]
  · iexists fa; isplitr; · (ipureintro; rfl)
    iexact HA
  isplitl [HB]
  · iexists fb; isplitr; · (ipureintro; rfl)
    iexact HB
  isplitl [HO]
  · iexists _; isplitr
    · ipureintro
      refine (read_store O.view fo (k0_pay3 (part (acc.view.read (Elt F) fs) wholeO) (part (A.view.read (Elt F) fa) wholeL)
        (part (B.view.read (Elt F) fb) wholeR))).trans ?_
      rw [part_out, part_left, part_right]
    iexact HO
  iexists fs; isplitr; · (ipureintro; rfl)
  iexact HS

end Cert.Px

end
-- ==== Proof.PxSteps.lean ====
/-
# The transfers of `proj_dx`

What the first point and the last do to the protocol: the first sends along the seven links, the last waits for the
fourteen cells.
-/
module

public import proofs.«01_k».proof.Proof.PxWork

@[expose] public section

noncomputable section

namespace Cert.Px

open Cert.PxKernelIdeal Cert.PxKernelIdeal.Gen
open Idealize.ShloMosaic
open TcCoe Rounds
open Idealize.SL Idealize.SL.RA Idealize.SL.BI
open BIBase Laws ProofMode Sem
open Cert.Exchange (Links UU EP ER records ticket seats hand due wait_link)

variable {F : FTy → Type} [FloatOps F]

local notation "𝕄" => MT nD τ sig Unit (Elt F) ℕ (UU nD sig τ) ℕ

variable (m : (ℓ : Loc nD τ sig) → Buf (Elt F) ℓ)

/-- The credit a device holds for a send cell and for a receive cell while a transfer is on the way. -/
abbrev sendCred (c : Dev nD) (j : Fin 7) : sProp 𝕄 := cred (tallyAt (links.cell c (false, j)) () (links.units j))
abbrev recvCred (c : Dev nD) (j : Fin 7) : sProp 𝕄 := cred (tallyAt (links.cell c (true, j)) () (links.units j))

theorem pay_send (c : Dev nD) (j : Fin 7) : pay m (false, j) c = lent m c j := rfl
theorem pay_recv (c : Dev nD) (j : Fin 7) : pay m (true, j) c = came m c j := rfl
theorem lent_A (c : Dev nD) (j : Fin 3) : lent m c (linkA j) = lentA m c j := by fin_cases j <;> rfl
theorem came_A (c : Dev nD) (j : Fin 3) : came m c (linkA j) = landingA c j (filledA m c) := by fin_cases j <;> rfl
theorem room_A (c : Dev nD) (j : Fin 3) : (room c (linkA j) : sProp 𝕄) = iprop(∃ f, landingA c j f) := by fin_cases j <;> rfl
theorem lent_B (c : Dev nD) (j : Fin 3) : lent m c (linkB j) = lentB m c j := by fin_cases j <;> rfl
theorem came_B (c : Dev nD) (j : Fin 3) : came m c (linkB j) = landingB c j (filledB m c) := by fin_cases j <;> rfl
theorem room_B (c : Dev nD) (j : Fin 3) : (room c (linkB j) : sProp 𝕄) = iprop(∃ f, landingB c j f) := by fin_cases j <;> rfl

/-- The transfers of the first three links count the same units, at either end: the memrefs have one shape. So do those of
    the next three, and the two ends of the last. -/
theorem amount_A (j : Fin 3) : amount (linkA j) = amountA := if_pos j.isLt
theorem amount_B (j : Fin 3) : amount (linkB j) = amountB :=
  (if_neg (by show ¬ 3 + j.val < 3; omega)).trans (if_pos (by show 3 + j.val < 6; omega))
theorem amount_P : amount 6 = amountP := rfl

theorem credit_rowsA (j : Fin 3) {o : Fin 3 → ℕ} (h : ∀ a, o a + S1x320x2560.size a ≤ S4x1024x2560.size a) : (rowsA o h).view.dmaCredit = amount (linkA j) := by
  rw [amount_A]
  show sig.dmaCredit .tc _ _ S320x2560 .bf16 = amountA
  unfold amountA
  exact Eq.refl (RefSig.tileCredit S320x2560 .bf16)

theorem credit_landA (j : Fin 3) : (landA j).view.dmaCredit = amount (linkA j) := by
  rw [amount_A]
  show sig.dmaCredit .tc _ _ S320x2560 .bf16 = amountA
  unfold amountA
  exact Eq.refl (RefSig.tileCredit S320x2560 .bf16)

theorem credit_rowsB (j : Fin 3) {o : Fin 3 → ℕ} (h : ∀ a, o a + S1x1024x2560.size a ≤ S4x1024x2560.size a) : (rowsB o h).view.dmaCredit = amount (linkB j) := by
  rw [amount_B]
  show sig.dmaCredit .tc _ _ S1024x2560 .bf16 = amountB
  unfold amountB
  exact Eq.refl (RefSig.tileCredit S1024x2560 .bf16)

theorem credit_landB (j : Fin 3) : (landB j).view.dmaCredit = amount (linkB j) := by
  rw [amount_B]
  show sig.dmaCredit .tc _ _ S1024x2560 .bf16 = amountB
  unfold amountB
  exact Eq.refl (RefSig.tileCredit S1024x2560 .bf16)

theorem credit_half {o : Fin 3 → ℕ} (h : ∀ a, o a + S4x512x4096.size a ≤ S4x1024x4096.size a) : (halfAt o h).view.dmaCredit = amount 6 := by
  rw [amount_P]
  show sig.dmaCredit .tc _ _ S4x512x4096 .bf16 = amountP
  unfold amountP
  exact Eq.refl (RefSig.tileCredit S4x512x4096 .bf16)

theorem credit_landP : landP.view.dmaCredit = amount 6 := by
  rw [amount_P]
  unfold amountP
  exact Eq.refl _

/-- What device `c` owes on link `j`. -/
abbrev debt (c : Dev nD) (j : Fin 7) : CellTallies nD τ sig Unit := tallyAt (links.recvCell (peer j c) j) () (amount j)

theorem due_eq (c : Dev nD) : due (τ := τ) links c
    = (0 + debt c 6 + debt c 5 + debt c 4 + debt c 3 + debt c 2 + debt c 1) + debt c 0 := by
  have h : due (τ := τ) links c = debt c 0 + debt c 1 + debt c 2 + debt c 3 + debt c 4 + debt c 5 + debt c 6 := by
    unfold due
    exact Fin.sum_univ_seven _
  rw [h, zero_add]
  ac_rfl

/-- The transfer of link 6: the device gives the elements it sends and its peer's landing place. -/
theorem send_pair (κ : Dev nD × links.End → ℕ) (c n : Dev nD) (hn : n = peer 6 c)
    {hi : ∀ a, k0_off7 c a + S4x512x4096.size a ≤ S4x1024x4096.size a} {hs : (halfAt (k0_off7 c) hi).view.WordExact} {hd : landP.view.WordExact}
    {hsc : (landP : Memref sig (Dev.tc n : Thread nD τ).2.kind .hbm S4x512x4096 .bf16).view.ref.isScScratch = false}
    {ht : DmaTarget.Typed .hbm (.dma (recvSem 6)) (.remote (Dev.tc n : Thread nD τ) landP (.dma (sendSem 6)) hsc)}
    {Q : PUnit → sProp 𝕄} {k : PUnit → Code F PUnit} (O' O : CellTallies nD τ sig Unit) (hO : O' = O + debt c 6) (W : Waits sig Unit) :
    iprop(records links (pay m) κ ∗ ticket links c (6 : Fin 7) ∗ lent m c 6 ∗ room (peer 6 c) 6 ∗ owes c.tc O' W)
      ⊢ iprop((sendCred c 6 ∗ owes c.tc O W -∗ wp frame (wpE (defs₀ (F := F)) 𝒱₀ c none) Set.univ (k ⟨⟩) Q)
          -∗ wp frame (wpE (defs₀ (F := F)) 𝒱₀ c none) Set.univ
              (.op (.enqueueDma (halfAt (k0_off7 c) hi) (.remote (Dev.tc n : Thread nD τ) landP (.dma (sendSem 6)) hsc) (.dma (recvSem 6)) hs hd ht) k) Q) := by
  have hl : lent m c 6 = lentP m c := rfl
  have hr : (room (peer 6 c) 6 : sProp 𝕄) = iprop(∃ f, landingP (peer 6 c) f) := rfl
  rw [hl, hr]
  iintro ⟨#HR, Ht, Hs, ⟨%fd, Hd⟩, HO⟩ Hk
  iapply (Cert.Exchange.send_along links (pay m) (defs₀ (F := F)) 𝒱₀ κ c n (6 : Fin 7) hn (src := sentP c) (dst := landP) (sS := sendSem 6) (sR := recvSem 6) rfl rfl
    (m (c.tc.loc main_arg4)) fd credit_landP ?_ ?_ O hO W (routes 6 c)) $$ [Ht Hs Hd HO]
  · exact BIBase.Entails.rfl
  · rw [write_landing]
    exact Entails.of_eq (by show _ = landingP _ (landed m (peer 6 c)); unfold landed; rw [peer_peer]; rfl)
  · isplitr; · iexact HR
    isplitl [Ht]; · iexact Ht
    isplitl [Hs]; · unfold lentP; iexact Hs
    isplitl [Hd]; · unfold landingP; iexact Hd
    iexact HO
  iexact Hk

/-- The transfer of link `j`. -/
theorem send_A (κ : Dev nD × links.End → ℕ) (c n : Dev nD) (j : Fin 3) (hn : n = chipA j c) {o : Fin 3 → ℕ} (ho : o = offA j c)
    {hi : ∀ a, o a + S1x320x2560.size a ≤ S4x1024x2560.size a} {hs : (rowsA o hi).view.WordExact} {hd : (landA j).view.WordExact}
    {hsc : ((landA j) : Memref sig (Dev.tc n : Thread nD τ).2.kind .hbm S320x2560 .bf16).view.ref.isScScratch = false}
    {ht : DmaTarget.Typed .hbm (.dma (recvSem (linkA j))) (.remote (Dev.tc n : Thread nD τ) (landA j) (.dma (sendSem (linkA j))) hsc)}
    {Q : PUnit → sProp 𝕄} {k : PUnit → Code F PUnit} (O' O : CellTallies nD τ sig Unit) (hO : O' = O + debt c (linkA j)) (W : Waits sig Unit) :
    iprop(records links (pay m) κ ∗ ticket links c (linkA j) ∗ lent m c (linkA j) ∗ room (chipA j c) (linkA j) ∗ owes c.tc O' W)
      ⊢ iprop((sendCred c (linkA j) ∗ owes c.tc O W -∗ wp frame (wpE (defs₀ (F := F)) 𝒱₀ c none) Set.univ (k ⟨⟩) Q)
          -∗ wp frame (wpE (defs₀ (F := F)) 𝒱₀ c none) Set.univ
              (.op (.enqueueDma (rowsA o hi) (.remote (Dev.tc n : Thread nD τ) (landA j) (.dma (sendSem (linkA j))) hsc) (.dma (recvSem (linkA j))) hs hd ht) k) Q) := by
  subst ho
  rw [lent_A, room_A]
  iintro ⟨#HR, Ht, Hs, ⟨%fd, Hd⟩, HO⟩ Hk
  iapply (Cert.Exchange.send_along links (pay m) (defs₀ (F := F)) 𝒱₀ κ c n (linkA j) hn (src := sentA j c) (dst := landA j) (sS := sendSem (linkA j)) (sR := recvSem (linkA j)) rfl rfl
    (m (c.tc.loc main_arg2)) fd (credit_landA j) ?_ ?_ O hO W (routes (linkA j) c)) $$ [Ht Hs Hd HO]
  · rw [pay_send, lent_A]
    exact BIBase.Entails.rfl
  · rw [pay_recv, came_A]
    exact Entails.of_eq (pointsTo_congr fun i hi => deliveredA m j c fd i hi)
  · isplitr; · iexact HR
    isplitl [Ht]; · iexact Ht
    isplitl [Hs]; · unfold lentA; iexact Hs
    isplitl [Hd]; · unfold landingA; iexact Hd
    iexact HO
  iexact Hk

/-- The transfer of link `3 + j`. -/
theorem send_B (κ : Dev nD × links.End → ℕ) (c n : Dev nD) (j : Fin 3) (hn : n = chipB j c) {o : Fin 3 → ℕ} (ho : o = offB j c)
    {hi : ∀ a, o a + S1x1024x2560.size a ≤ S4x1024x2560.size a} {hs : (rowsB o hi).view.WordExact} {hd : (landB j).view.WordExact}
    {hsc : ((landB j) : Memref sig (Dev.tc n : Thread nD τ).2.kind .hbm S1024x2560 .bf16).view.ref.isScScratch = false}
    {ht : DmaTarget.Typed .hbm (.dma (recvSem (linkB j))) (.remote (Dev.tc n : Thread nD τ) (landB j) (.dma (sendSem (linkB j))) hsc)}
    {Q : PUnit → sProp 𝕄} {k : PUnit → Code F PUnit} (O' O : CellTallies nD τ sig Unit) (hO : O' = O + debt c (linkB j)) (W : Waits sig Unit) :
    iprop(records links (pay m) κ ∗ ticket links c (linkB j) ∗ lent m c (linkB j) ∗ room (chipB j c) (linkB j) ∗ owes c.tc O' W)
      ⊢ iprop((sendCred c (linkB j) ∗ owes c.tc O W -∗ wp frame (wpE (defs₀ (F := F)) 𝒱₀ c none) Set.univ (k ⟨⟩) Q)
          -∗ wp frame (wpE (defs₀ (F := F)) 𝒱₀ c none) Set.univ
              (.op (.enqueueDma (rowsB o hi) (.remote (Dev.tc n : Thread nD τ) (landB j) (.dma (sendSem (linkB j))) hsc) (.dma (recvSem (linkB j))) hs hd ht) k) Q) := by
  subst ho
  rw [lent_B, room_B]
  iintro ⟨#HR, Ht, Hs, ⟨%fd, Hd⟩, HO⟩ Hk
  iapply (Cert.Exchange.send_along links (pay m) (defs₀ (F := F)) 𝒱₀ κ c n (linkB j) hn (src := sentB j c) (dst := landB j) (sS := sendSem (linkB j)) (sR := recvSem (linkB j)) rfl rfl
    (m (c.tc.loc main_arg3)) fd (credit_landB j) ?_ ?_ O hO W (routes (linkB j) c)) $$ [Ht Hs Hd HO]
  · rw [pay_send, lent_B]
    exact BIBase.Entails.rfl
  · rw [pay_recv, came_B]
    exact Entails.of_eq (pointsTo_congr fun i hi => deliveredB m j c fd i hi)
  · isplitr; · iexact HR
    isplitl [Ht]; · iexact Ht
    isplitl [Hs]; · unfold lentB; iexact Hs
    isplitl [Hd]; · unfold landingB; iexact Hd
    iexact HO
  iexact Hk

/-- The first point's seven transfers. -/
theorem send_step (κ : Dev nD × links.End → ℕ) (c : Dev nD) (i : grid0.Coords) (h : k0_cond1 i = 1#1) (W : Waits sig Unit) :
    iprop(records links (pay m) κ ∗ (bigSep Finset.univ fun j : Fin 7 => ticket links c j) ∗ (bigSep Finset.univ fun j => lent m c j)
        ∗ (bigSep Finset.univ fun j => room (peer j c) j) ∗ owes c.tc (due links c) W)
      ⊢ wp frame (wpE (defs₀ (F := F)) 𝒱₀ c none) Set.univ (sendPart (F := F) i)
          (fun _ => iprop((bigSep Finset.univ fun j => sendCred c j) ∗ owes c.tc 0 W : sProp 𝕄)) := by
  unfold sendPart
  rw [dif_pos h]
  simp only [wp_deviceId, seven]
  iintro ⟨#HR, ⟨Ht0, Ht1, Ht2, Ht3, Ht4, Ht5, Ht6⟩, ⟨Hs0, Hs1, Hs2, Hs3, Hs4, Hs5, Hs6⟩, ⟨Hd0, Hd1, Hd2, Hd3, Hd4, Hd5, Hd6⟩, HO⟩
  iapply (send_A m κ c _ 0 (dev1_eq c (k0_dev1_lt i c h)) rfl _ _ (due_eq c) W) $$ [$HR $Ht0 $Hs0 $Hd0 $HO]
  iintro ⟨Hc0, HO⟩
  iapply (send_A m κ c _ 1 (dev2_eq c (k0_dev2_lt i c h)) rfl _ _ rfl W) $$ [$HR $Ht1 $Hs1 $Hd1 $HO]
  iintro ⟨Hc1, HO⟩
  iapply (send_A m κ c _ 2 (dev3_eq c (k0_dev3_lt i c h)) rfl _ _ rfl W) $$ [$HR $Ht2 $Hs2 $Hd2 $HO]
  iintro ⟨Hc2, HO⟩
  iapply (send_B m κ c _ 0 (dev4_eq c (k0_dev4_lt i c h)) rfl _ _ rfl W) $$ [$HR $Ht3 $Hs3 $Hd3 $HO]
  iintro ⟨Hc3, HO⟩
  iapply (send_B m κ c _ 1 (dev5_eq c (k0_dev5_lt i c h)) rfl _ _ rfl W) $$ [$HR $Ht4 $Hs4 $Hd4 $HO]
  iintro ⟨Hc4, HO⟩
  iapply (send_B m κ c _ 2 (dev6_eq c (k0_dev6_lt i c h)) rfl _ _ rfl W) $$ [$HR $Ht5 $Hs5 $Hd5 $HO]
  iintro ⟨Hc5, HO⟩
  iapply (send_pair m κ c _ (dev7_eq c (k0_dev7_lt i c h)) _ _ rfl W) $$ [$HR $Ht6 $Hs6 $Hd6 $HO]
  iintro ⟨Hc6, HO⟩
  rw [wp_ret]; imodintro
  isplitr [HO]
  · isplitl [Hc0]; · iexact Hc0
    isplitl [Hc1]; · iexact Hc1
    isplitl [Hc2]; · iexact Hc2
    isplitl [Hc3]; · iexact Hc3
    isplitl [Hc4]; · iexact Hc4
    isplitl [Hc5]; · iexact Hc5
    iexact Hc6
  iexact HO

/-- The last point's fourteen waits: the landing places come with what the peers sent, and the sent elements come back. -/
theorem wait_step (κ : Dev nD × links.End → ℕ) (c : Dev nD) (i : grid0.Coords) (h : k0_cond5 i = 1#1) :
    iprop(records links (pay m) κ ∗ (bigSep Finset.univ fun j : Fin 7 => seats links c j) ∗ (bigSep Finset.univ fun j => sendCred c j)
        ∗ (bigSep Finset.univ fun j => recvCred c j) ∗ ∃ W, owes c.tc 0 W)
      ⊢ wp frame (wpE (defs₀ (F := F)) 𝒱₀ c none) Set.univ (waitPart (F := F) i)
          (fun _ => iprop((bigSep Finset.univ fun j => lent m c j) ∗ (bigSep Finset.univ fun j => came m c j)
            ∗ (bigSep Finset.univ fun j : Fin 7 => semVal (links.cell c (false, j)) 0) ∗ (bigSep Finset.univ fun j : Fin 7 => semVal (links.cell c (true, j)) 0)
            ∗ ∃ W, owes c.tc 0 W : sProp 𝕄)) := by
  unfold waitPart
  rw [dif_pos h]
  unfold seats
  simp only [wp_deviceId, seven, ← pay_send m, ← pay_recv m]
  iintro ⟨#HR, ⟨⟨HaS0, HaR0⟩, ⟨HaS1, HaR1⟩, ⟨HaS2, HaR2⟩, ⟨HaS3, HaR3⟩, ⟨HaS4, HaR4⟩, ⟨HaS5, HaR5⟩, ⟨HaS6, HaR6⟩⟩, ⟨HcS0, HcS1, HcS2, HcS3, HcS4, HcS5, HcS6⟩, ⟨HcR0, HcR1, HcR2, HcR3, HcR4, HcR5, HcR6⟩, HO⟩
  iapply (wait_link links (pay m) κ c (true, (0 : Fin 7)) (credit_landA 0)) $$ [$HR $HaR0 $HcR0 $HO]
  iintro ⟨HpR0, HzR0, HO⟩
  iapply (wait_link links (pay m) κ c (true, (1 : Fin 7)) (credit_landA 1)) $$ [$HR $HaR1 $HcR1 $HO]
  iintro ⟨HpR1, HzR1, HO⟩
  iapply (wait_link links (pay m) κ c (true, (2 : Fin 7)) (credit_landA 2)) $$ [$HR $HaR2 $HcR2 $HO]
  iintro ⟨HpR2, HzR2, HO⟩
  iapply (wait_link links (pay m) κ c (false, (0 : Fin 7)) (credit_rowsA 0 _)) $$ [$HR $HaS0 $HcS0 $HO]
  iintro ⟨HpS0, HzS0, HO⟩
  iapply (wait_link links (pay m) κ c (false, (1 : Fin 7)) (credit_rowsA 1 _)) $$ [$HR $HaS1 $HcS1 $HO]
  iintro ⟨HpS1, HzS1, HO⟩
  iapply (wait_link links (pay m) κ c (false, (2 : Fin 7)) (credit_rowsA 2 _)) $$ [$HR $HaS2 $HcS2 $HO]
  iintro ⟨HpS2, HzS2, HO⟩
  iapply (wait_link links (pay m) κ c (true, (3 : Fin 7)) (credit_landB 0)) $$ [$HR $HaR3 $HcR3 $HO]
  iintro ⟨HpR3, HzR3, HO⟩
  iapply (wait_link links (pay m) κ c (true, (4 : Fin 7)) (credit_landB 1)) $$ [$HR $HaR4 $HcR4 $HO]
  iintro ⟨HpR4, HzR4, HO⟩
  iapply (wait_link links (pay m) κ c (true, (5 : Fin 7)) (credit_landB 2)) $$ [$HR $HaR5 $HcR5 $HO]
  iintro ⟨HpR5, HzR5, HO⟩
  iapply (wait_link links (pay m) κ c (false, (3 : Fin 7)) (credit_rowsB 0 _)) $$ [$HR $HaS3 $HcS3 $HO]
  iintro ⟨HpS3, HzS3, HO⟩
  iapply (wait_link links (pay m) κ c (false, (4 : Fin 7)) (credit_rowsB 1 _)) $$ [$HR $HaS4 $HcS4 $HO]
  iintro ⟨HpS4, HzS4, HO⟩
  iapply (wait_link links (pay m) κ c (false, (5 : Fin 7)) (credit_rowsB 2 _)) $$ [$HR $HaS5 $HcS5 $HO]
  iintro ⟨HpS5, HzS5, HO⟩
  iapply (wait_link links (pay m) κ c (true, (6 : Fin 7)) (credit_landP)) $$ [$HR $HaR6 $HcR6 $HO]
  iintro ⟨HpR6, HzR6, HO⟩
  iapply (wait_link links (pay m) κ c (false, (6 : Fin 7)) (credit_half _)) $$ [$HR $HaS6 $HcS6 $HO]
  iintro ⟨HpS6, HzS6, HO⟩
  rw [wp_ret]; imodintro
  iframe

end Cert.Px

end
-- ==== Proof.PxBody.lean ====
/-
# The body of `proj_dx` at every grid point

The schedule of the call on device `c`, its window contents, and the body's obligation: what a grid point is given and
what it leaves. Before the first point nothing is sent (`Start`); between the first and the last the transfers are on the
way (`Sent`); after the last all have landed (`Done`). Beside that a device holds the accumulator: within the eight
points of one output block it is the sum of the products so far (`accum`).
-/
module

public import proofs.«01_k».proof.Proof.PxSteps
public import proofs.«01_k».proof.Proof.Gen.PxKernelIdeal.Frame

@[expose] public section

noncomputable section

namespace Cert.Px

open Cert.PxKernelIdeal Cert.PxKernelIdeal.Gen
open Idealize.ShloMosaic
open Idealize.ShloMosaic.Pipeline
open Idealize.ShloMosaic.TcCoe
open Idealize.SL Idealize.SL.RA Idealize.SL.BI
open BIBase Laws ProofMode Sem
open Idealize.ShloMosaic.Rounds
open Cert.Exchange (Links UU EP ER records ticket seats hand due)

variable {F : FTy → Type} [FloatOps F]

local notation "𝕄" => MT nD τ sig Unit (Elt F) ℕ (UU nD sig τ) ℕ

variable (m : (ℓ : Loc nD τ sig) → Buf (Elt F) ℓ)

/-! ## The states -/

/-- What no transfer touches: the rest of the arrays sent from, the rest of the landing buffers, and the array that the
    host operation after the call writes. -/
def aside (c : Dev nD) : sProp 𝕄 :=
  iprop(keptA m c ∗ keptB m c ∗ keptP m c ∗ aboveA c (filledA m c) ∗ aboveB c (filledB m c) ∗ (c.tc.loc main_v2 ↦{fullShare} m (c.tc.loc main_v2)))

/-- The memory a device brings to the exchange: what it sends, its peers' landing places, and what no transfer touches. -/
def mine (c : Dev nD) : sProp 𝕄 :=
  iprop((bigSep Finset.univ fun j => lent m c j) ∗ (bigSep Finset.univ fun j => room (peer j c) j) ∗ aside m c)

/-- Before the first grid point. -/
def Start (c : Dev nD) : sProp 𝕄 :=
  iprop((∃ κ, records links (pay m) κ) ∗ (bigSep Finset.univ fun j : Fin 7 => hand links c j) ∗ mine m c)

/-- Between the first and the last. -/
def Sent (c : Dev nD) : sProp 𝕄 :=
  iprop((∃ κ, records links (pay m) κ) ∗ (bigSep Finset.univ fun j : Fin 7 => seats links c j) ∗ (bigSep Finset.univ fun j => sendCred c j)
    ∗ (bigSep Finset.univ fun j => recvCred c j) ∗ aside m c)

/-- After the last. -/
def Done (c : Dev nD) : sProp 𝕄 :=
  iprop((bigSep Finset.univ fun j => lent m c j) ∗ (bigSep Finset.univ fun j => came m c j) ∗ aside m c
    ∗ (bigSep Finset.univ fun j : Fin 7 => semVal (links.cell c (false, j)) 0) ∗ (bigSep Finset.univ fun j : Fin 7 => semVal (links.cell c (true, j)) 0))

/-- The state of the exchange before point `n`. -/
def stage (c : Dev nD) (n : ℕ) : sProp 𝕄 := if n = 0 then Start m c else if n = 64 then Done m c else Sent m c

/-! ## The accumulator -/

/-- The blocks a point reads. -/
abbrev lhs (c : Dev nD) (t : Fin cfg0.N) : Vec F S2048x1280 .bf16 := iblk m c 0 t
abbrev rhs (c : Dev nD) (t : Fin cfg0.N) : Vec F S1x1024x1280 .bf16 := iblk m c 1 t

/-- The sum of the products of the points of one output block, up to point `n`. -/
def accum (c : Dev nD) : (n : ℕ) → n < cfg0.N → Vec F S2048x1024 .f32
  | 0, h => k0_pay1 (lhs m c ⟨0, h⟩) (rhs m c ⟨0, h⟩)
  | n + 1, h => if (n + 1) % 8 = 0 then k0_pay1 (lhs m c ⟨n + 1, h⟩) (rhs m c ⟨n + 1, h⟩)
      else k0_pay2 (accum c n (Nat.lt_of_succ_lt h)) (lhs m c ⟨n + 1, h⟩) (rhs m c ⟨n + 1, h⟩)

theorem accum_first (c : Dev nD) : (n : ℕ) → (h : n < cfg0.N) → n % 8 = 0 → accum m c n h = k0_pay1 (lhs m c ⟨n, h⟩) (rhs m c ⟨n, h⟩)
  | 0, _, _ => rfl
  | _ + 1, _, hn => if_pos hn

theorem accum_next (c : Dev nD) (n : ℕ) (h : n + 1 < cfg0.N) (hn : ¬ (n + 1) % 8 = 0) :
    accum m c (n + 1) h = k0_pay2 (accum m c n (Nat.lt_of_succ_lt h)) (lhs m c ⟨n + 1, h⟩) (rhs m c ⟨n + 1, h⟩) := if_neg hn

/-- What a device knows of its accumulator before point `n`. -/
def held (c : Dev nD) (n : ℕ) : sProp 𝕄 :=
  iprop(∃ s, ⌜∀ h : n - 1 < cfg0.N, n % 8 ≠ 0 → s = accum m c (n - 1) h⌝
    ∗ owns (Ix := Unit) (Name := ℕ) (U := UU nD sig τ) (Lvl := ℕ) c.tc (Memref.whole cc0_scratch0) fullShare s)

/-! ## The schedule -/

/-- The block the last point of an output block writes. -/
def wrote (c : Dev nD) (t : Fin cfg0.N) : Vec F S2048x1024 .f32 :=
  k0_pay3 (accum m c (t.val - 1) (Nat.lt_of_le_of_lt (Nat.sub_le _ _) t.isLt)) (lhs m c t) (rhs m c t)

def dats (_ : Fin 1) (c : Dev nD) : Dat τ (Elt F) Unit ℕ (UU nD sig τ) ℕ cfg0 c where
  A w := V m c (Pipeline.arrRef spec0 w)
  after w t := match w with
    | ⟨0, _⟩ => iblk m c 0 t
    | ⟨1, _⟩ => iblk m c 1 t
    | ⟨2, _⟩ => wrote m c t
  Φ t := iprop(stage m c t.val ∗ held m c t.val)
  q _ := fullShare
  owed t := if t.val = 0 then due links c else 0

/-- The two windows that are read hold their blocks at every point, fetched there or before. -/
theorem before_0 (c : Dev nD) (t : Fin cfg0.N) (d) : (dats m 0 c).before 0 t d = iblk m c 0 t :=
  ((dats m 0 c).before_in_eq_fetched 0 rfl (fun _ => rfl) (fun _ _ _ => rfl) (fun _ => rfl) t d).trans rfl
theorem before_1 (c : Dev nD) (t : Fin cfg0.N) (d) : (dats m 0 c).before 1 t d = iblk m c 1 t :=
  ((dats m 0 c).before_in_eq_fetched 1 rfl (fun _ => rfl) (fun _ _ _ => rfl) (fun _ => rfl) t d).trans rfl

/-- The output's buffer is left at the block by the last point of it, and as it was found by the others. -/
theorem leaves_last (c : Dev nD) (t : Fin cfg0.N) (h : t.val % 8 = 7) :
    (dats m 0 c).leavesExact 2 t = owns c.tc (st0_2 t) fullShare (wrote m c t) := by
  have hi : cfg0.idle 2 (cfg0.grid.coords t) = false := by
    show (!(k0_cond4 (grid0.coords t) == 1#1)) = false
    rw [(last_iff t).mpr h]; rfl
  unfold Dat.leavesExact
  rw [hi]
  rfl
theorem leaves_other (c : Dev nD) (t : Fin cfg0.N) (h : ¬ t.val % 8 = 7) :
    (dats m 0 c).leavesExact 2 t = iprop(∃ d, owns c.tc (st0_2 t) fullShare ((dats m 0 c).before 2 t d)) := by
  refine (dats m 0 c).leavesExact_idle 2 t ?_ (Bool.eq_false_iff.mpr fun hf => h ((flush0_2 t).mp hf))
  show (!(k0_cond4 (grid0.coords t) == 1#1)) = true
  rw [beq_false_of_ne fun h' => h ((last_iff t).mp h')]; rfl

/-! ## The obligation -/

/-- What a device owes, the pairs it has waited on left open. -/
theorem owesAt_intro (c : Dev nD) (t : Fin (cfg0.N + 1)) (W : Waits sig Unit) (O : CellTallies nD τ sig Unit) (hO : (dats m 0 c).owed t = O) :
    (owes c.tc O W : sProp 𝕄) ⊢ (dats m 0 c).owesAt () t := by
  unfold Dat.owesAt Pipeline.owesWithin
  rw [hO]
  iintro H
  iexists W
  isplitr
  · ipureintro; exact fun _ _ => Or.inl trivial
  iexact H

theorem send_point (c : Dev nD) (t : Fin cfg0.N) :
    iprop(stage m c t.castSucc.val ∗ (dats m 0 c).owesAt () t.castSucc)
      ⊢ wp frame (wpE (defs₀ (F := F)) 𝒱₀ c none) Set.univ (sendPart (F := F) (grid0.coords t))
          (fun _ => iprop(Sent m c ∗ ∃ W, owes c.tc 0 W : sProp 𝕄)) := by
  have hN : t.val < 64 := lt_of_lt_of_eq t.isLt N_0
  unfold Dat.owesAt Pipeline.owesWithin
  by_cases h : t.val = 0
  · have hΦ : stage m c t.castSucc.val = Start m c := if_pos h
    have hO : (dats m 0 c).owed t.castSucc = due links c := if_pos h
    rw [hΦ, hO]
    unfold Start hand mine
    simp only [bigSep_sep']
    iintro ⟨⟨⟨%κ, #HR⟩, ⟨Ht, Hs, Hc⟩, Hl, Hd, Hk⟩, ⟨%W, %hW, HO⟩⟩
    iapply (wp_wand frame (wpE (defs₀ (F := F)) 𝒱₀ c none) Set.univ) $$ [Ht Hl Hd HO]
    · iapply (send_step m κ c (grid0.coords t) ((sends_iff t).mpr h) W)
      iframe HR ∗
    iintro %a ⟨Hcs, HO⟩
    unfold Sent
    isplitr [HO]
    · isplitr; · (iexists κ; iexact HR)
      iframe
    · iexists W; iexact HO
  · have hΦ : stage m c t.castSucc.val = Sent m c := (if_neg h).trans (if_neg (by show ¬ t.val = 64; omega))
    have hO : (dats m 0 c).owed t.castSucc = 0 := if_neg h
    rw [hΦ, hO]
    unfold sendPart
    rw [dif_neg fun h' => h ((sends_iff t).mp h'), wp_ret]
    iintro ⟨H, ⟨%W, %hW, HO⟩⟩
    imodintro
    isplitl [H]; · iexact H
    iexists W; iexact HO

theorem wait_point (c : Dev nD) (t : Fin cfg0.N) :
    iprop(Sent m c ∗ ∃ W, owes c.tc 0 W)
      ⊢ wp frame (wpE (defs₀ (F := F)) 𝒱₀ c none) Set.univ (waitPart (F := F) (grid0.coords t))
          (fun _ => iprop(stage m c t.succ.val ∗ (dats m 0 c).owesAt () t.succ : sProp 𝕄)) := by
  have hO : (dats m 0 c).owed t.succ = 0 := by
    show (if t.val + 1 = 0 then due links c else 0) = 0
    exact if_neg (Nat.succ_ne_zero t.val)
  by_cases h : t.val = 63
  · have hΦ : stage m c t.succ.val = Done m c := by
      show (if t.val + 1 = 0 then Start m c else if t.val + 1 = 64 then Done m c else Sent m c) = Done m c
      rw [if_neg (Nat.succ_ne_zero t.val), if_pos (by omega)]
    rw [hΦ]
    unfold Sent
    iintro ⟨⟨⟨%κ, #HR⟩, Hs, Hcs, Hcr, Hk⟩, HO⟩
    iapply (wp_wand frame (wpE (defs₀ (F := F)) 𝒱₀ c none) Set.univ) $$ [Hs Hcs Hcr HO]
    · iapply (wait_step m κ c (grid0.coords t) ((waits_iff t).mpr h))
      iframe HR ∗
    iintro %a ⟨Hl, Hd, HzS, HzR, ⟨%W', HO⟩⟩
    unfold Done
    isplitr [HO]
    · iframe
    · iapply (owesAt_intro m c t.succ W' 0 hO); iexact HO
  · have hΦ : stage m c t.succ.val = Sent m c := by
      show (if t.val + 1 = 0 then Start m c else if t.val + 1 = 64 then Done m c else Sent m c) = Sent m c
      rw [if_neg (Nat.succ_ne_zero t.val), if_neg (by omega)]
    rw [hΦ]
    unfold waitPart
    rw [dif_neg fun h' => h ((waits_iff t).mp h'), wp_ret]
    iintro ⟨H, ⟨%W, HO⟩⟩
    imodintro
    isplitl [H]; · iexact H
    iapply (owesAt_intro m c t.succ W 0 hO); iexact HO

/-- The computing part: the accumulator one product further, or the output block written. -/
theorem work_point (c : Dev nD) (t : Fin cfg0.N) (d2) :
    iprop(held m c t.val ∗ owns (Ix := Unit) (Name := ℕ) (U := UU nD sig τ) (Lvl := ℕ) c.tc (st0_0 t) fullShare (lhs m c t)
        ∗ owns c.tc (st0_1 t) fullShare (rhs m c t) ∗ owns c.tc (st0_2 t) fullShare ((dats m 0 c).before 2 t d2))
      ⊢ wp frame (wpE (defs₀ (F := F)) 𝒱₀ c none) Set.univ
          (workPart (F := F) (st0_0 t) (st0_1 t) (st0_2 t) (Memref.whole cc0_scratch0) (grid0.coords t))
          (fun _ => iprop(held m c (t.val + 1) ∗ owns c.tc (st0_0 t) fullShare (lhs m c t)
            ∗ owns c.tc (st0_1 t) fullShare (rhs m c t) ∗ (dats m 0 c).leavesExact 2 t : sProp 𝕄)) := by
  have hlt : t.val - 1 < cfg0.N := Nat.lt_of_le_of_lt (Nat.sub_le _ _) t.isLt
  unfold held
  iintro ⟨⟨%s, %hs, HS⟩, HA, HB, HO⟩
  by_cases h0 : t.val % 8 = 0
  · have h7 : ¬ t.val % 8 = 7 := by omega
    rw [work_first _ _ _ _ _ ((first_iff t).mpr h0) (fun h => ((middle_iff t).mp h).1 h0) (fun h => h7 ((last_iff t).mp h)), leaves_other m c t h7]
    iapply (wp_wand frame (wpE (defs₀ (F := F)) 𝒱₀ c none) Set.univ) $$ [HA HB HS]
    · iapply (set_step c (st0_0 t) (st0_1 t) (Memref.whole cc0_scratch0) (lhs m c t) (rhs m c t) s)
      iframe
    iintro %a ⟨HA, HB, HS⟩
    isplitl [HS]
    · iexists (k0_pay1 (lhs m c t) (rhs m c t))
      isplitr
      · ipureintro
        exact fun h _ => (accum_first m c t.val t.isLt h0).symm
      iexact HS
    isplitl [HA]; · iexact HA
    isplitl [HB]; · iexact HB
    iexists d2; iexact HO
  · have hs' := hs hlt h0
    by_cases h7 : t.val % 8 = 7
    · rw [work_last _ _ _ _ _ (fun h => h0 ((first_iff t).mp h)) (fun h => ((middle_iff t).mp h).2 h7) ((last_iff t).mpr h7), leaves_last m c t h7]
      subst hs'
      iapply (wp_wand frame (wpE (defs₀ (F := F)) 𝒱₀ c none) Set.univ) $$ [HA HB HO HS]
      · iapply (put_step c (st0_0 t) (st0_1 t) (st0_2 t) (Memref.whole cc0_scratch0) (lhs m c t) (rhs m c t) _ (accum m c (t.val - 1) hlt))
        iframe
      iintro %a ⟨HA, HB, HO, HS⟩
      isplitl [HS]
      · iexists (accum m c (t.val - 1) hlt)
        isplitr
        · ipureintro
          exact fun h h' => absurd (by omega : (t.val + 1) % 8 = 0) h'
        iexact HS
      iframe HA HB
      iexact HO
    · rw [work_middle _ _ _ _ _ (fun h => h0 ((first_iff t).mp h)) ((middle_iff t).mpr ⟨h0, h7⟩) (fun h => h7 ((last_iff t).mp h)), leaves_other m c t h7]
      subst hs'
      iapply (wp_wand frame (wpE (defs₀ (F := F)) 𝒱₀ c none) Set.univ) $$ [HA HB HS]
      · iapply (add_step c (st0_0 t) (st0_1 t) (Memref.whole cc0_scratch0) (lhs m c t) (rhs m c t) (accum m c (t.val - 1) hlt))
        iframe
      iintro %a ⟨HA, HB, HS⟩
      isplitl [HS]
      · iexists (k0_pay2 (accum m c (t.val - 1) hlt) (lhs m c t) (rhs m c t))
        isplitr
        · ipureintro
          intro h _
          obtain ⟨n, ht⟩ := t
          cases n with
          | zero => exact absurd rfl h0
          | succ n => exact (accum_next m c n ht h0).symm
        iexact HS
      isplitl [HA]; · iexact HA
      isplitl [HB]; · iexact HB
      iexists d2; iexact HO

theorem body_obligation (c : Dev nD) : BodyObligation (dats (F := F) m 0 c) (defs₀ (F := F)) 𝒱₀ () Set.univ := fun t => by
  rw [bigSep_W0, bigSep_W0]
  show _ ⊢ wp frame (wpE (defs₀ (F := F)) 𝒱₀ c none) Set.univ (bodyAt0 (F := F) t) _
  have hΦ : (dats m 0 c).Φ t.castSucc = iprop(stage m c t.castSucc.val ∗ held m c t.val) := rfl
  rw [body_eq, wp_bind, hΦ]
  iintro ⟨⟨HΦ, HS⟩, HO, ⟨%d0, H0⟩, ⟨%d1, H1⟩, ⟨%d2, H2⟩⟩
  iapply (wp_wand frame (wpE (defs₀ (F := F)) 𝒱₀ c none) Set.univ) $$ [HΦ HO]
  · iapply (send_point m c t)
    isplitl [HΦ] <;> iassumption
  iintro %a ⟨HE, HO⟩
  rw [wp_bind]
  iapply (wp_wand frame (wpE (defs₀ (F := F)) 𝒱₀ c none) Set.univ) $$ [HS H0 H1 H2]
  · iapply (work_point m c t d2)
    isplitl [HS]; · iexact HS
    isplitl [H0]; · (iapply (Entails.of_eq (congrArg _ (before_0 m c t d0))); iexact H0)
    isplitl [H1]; · (iapply (Entails.of_eq (congrArg _ (before_1 m c t d1))); iexact H1)
    iexact H2
  iintro %a' ⟨HS, H0, H1, H2⟩
  iapply (wp_wand frame (wpE (defs₀ (F := F)) 𝒱₀ c none) Set.univ) $$ [HE HO]
  · iapply (wait_point m c t)
    isplitl [HE] <;> iassumption
  iintro %a'' ⟨HΦ, HO⟩
  have hΨ : (dats m 0 c).Φ t.succ = iprop(stage m c t.succ.val ∗ held m c (t.val + 1)) := rfl
  isplitl [HΦ HS]
  · rw [hΨ]
    isplitl [HΦ]; · iexact HΦ
    iexact HS
  isplitl [HO]; · iexact HO
  isplitl [H0]; · iexact H0
  isplitl [H1]; · iexact H1
  iexact H2

end Cert.Px

end
-- ==== Proof.PxValue.lean ====
/-
# The block of an output of `proj_dx` over the reals

A grid point adds to entry `(p, q)` of the accumulator the inner product of row `p` of the left factor's block and row `q`
of the right factor's. So what the last of the eight points of an output block writes there is the sum of the eight
inner products.
-/
module

public import proofs.«01_k».proof.Proof.PxBody
public import Idealize.ShloMosaic.Lib.Pointwise

@[expose] public section

set_option maxRecDepth 16384

noncomputable section

namespace Cert.Px

open Cert.PxKernelIdeal Cert.PxKernelIdeal.Gen
open Idealize.ShloMosaic Idealize.ShloMosaic.TcCoe

/-- The inner product of a row of a left block and a row of a right block. -/
def inner (a : Vec Ideal S2048x1280 .bf16) (b : Vec Ideal S1x1024x1280 .bf16) (p : Fin 2048) (q : Fin 1024) : EReal :=
  ∑ k : Fin 1280, (a (ix2 p k) : EReal) * b (ix3 (0 : Fin 1) q k)

section
variable (a : Vec Ideal S2048x1280 .bf16) (b : Vec Ideal S1x1024x1280 .bf16) (s : Vec Ideal S2048x1024 .f32) (p : Fin 2048) (q : Fin 1024)

theorem pay1_apply : k0_pay1 a b (ix2 p q) = inner a b p q := by
  pointwise [k0_pay1, inner]

theorem pay2_apply : k0_pay2 s a b (ix2 p q) = (s (ix2 p q) : EReal) + inner a b p q := by
  pointwise [k0_pay2, inner]

theorem pay3_apply : k0_pay3 s a b (ix2 p q) = (s (ix2 p q) : EReal) + inner a b p q := by
  pointwise [k0_pay3, inner]
end

variable (m : (ℓ : Loc nD τ sig) → Buf (Elt Ideal) ℓ)

/-- What point `n` adds. -/
def term (c : Dev nD) (p : Fin 2048) (q : Fin 1024) (n : ℕ) : EReal :=
  if h : n < cfg0.N then inner (lhs m c ⟨n, h⟩) (rhs m c ⟨n, h⟩) p q else 0

theorem term_of_lt (c : Dev nD) (p : Fin 2048) (q : Fin 1024) (n : ℕ) (h : n < cfg0.N) :
    term m c p q n = inner (lhs m c ⟨n, h⟩) (rhs m c ⟨n, h⟩) p q := dif_pos h

/-- The accumulator within an output block. -/
theorem accum_apply (c : Dev nD) (p : Fin 2048) (q : Fin 1024) (b : ℕ) (hb : b % 8 = 0) : (j : ℕ) → j < 8 → (h : b + j < cfg0.N) →
    accum m c (b + j) h (ix2 p q) = ∑ s ∈ Finset.range (j + 1), term m c p q (b + s)
  | 0, _, h => by
    rw [Finset.sum_range_one, term_of_lt m c p q (b + 0) h, accum_first m c (b + 0) h hb]
    exact pay1_apply _ _ p q
  | j + 1, hj, h => by
    have h' : b + j < cfg0.N := Nat.lt_of_succ_lt h
    rw [Finset.sum_range_succ, ← accum_apply c p q b hb j (by omega) h', term_of_lt m c p q (b + (j + 1)) h]
    refine (congrFun (accum_next m c (b + j) h (by omega)) (ix2 p q)).trans ?_
    exact pay2_apply _ _ _ p q

/-- What the last point of an output block writes. -/
theorem wrote_apply (c : Dev nD) (t : Fin cfg0.N) (ht : t.val % 8 = 7) (p : Fin 2048) (q : Fin 1024) :
    wrote m c t (ix2 p q) = ∑ s ∈ Finset.range 8, term m c p q (t.val - 7 + s) := by
  have htN : t.val < cfg0.N := t.isLt
  have h1 : t.val - 7 + 6 < cfg0.N := by omega
  have e (n : ℕ) (hn : n < cfg0.N) (h : n = t.val - 7 + 6) : accum m c n hn (ix2 p q) = ∑ s ∈ Finset.range 7, term m c p q (t.val - 7 + s) := by
    subst h
    exact accum_apply m c p q (t.val - 7) (by omega) 6 (by decide) hn
  rw [Finset.sum_range_succ, term_of_lt m c p q (t.val - 7 + 7) (by omega)]
  refine (pay3_apply _ _ _ p q).trans ?_
  refine congrArg₂ (· + ·) (e _ _ (by omega)) ?_
  have : (⟨t.val - 7 + 7, by omega⟩ : Fin cfg0.N) = t := Fin.ext (by show t.val - 7 + 7 = t.val; omega)
  rw [this]

end Cert.Px

end
-- ==== Proof.PxRun.lean ====
/-
# The run of `proj_dx`

On the eight devices, for any float values and from any memory with zero counters: every weakly fair execution ends, with
each device's product array at what its grid points wrote, its three other results at what its peers sent, its arguments
unchanged and every counter at zero.
-/
module

public import proofs.«01_k».proof.Proof.PxBody
public import proofs.«01_k».proof.Proof.Exchange

@[expose] public section

noncomputable section

namespace Cert.Px

open Cert.PxKernelIdeal Cert.PxKernelIdeal.Gen
open Idealize.ShloMosaic
open Idealize.ShloMosaic.Pipeline
open Idealize.ShloMosaic.TcCoe
open Idealize.SL Idealize.SL.RA Idealize.SL.BI
open BIBase Laws ProofMode Sem
open Idealize.ShloMosaic.Rounds
open Cert.Exchange (Links UU EP ER records ticket seats hand due begins allCells allToks ghosts shared owns_iff)

variable {F : FTy → Type} [FloatOps F]

local notation "𝕄" => MT nD τ sig Unit (Elt F) ℕ (UU nD sig τ) ℕ

variable (m : (ℓ : Loc nD τ sig) → Buf (Elt F) ℓ) (ρ : Dev nD → PrngReg)

/-! ## What the launch theorem asks for -/

theorem ownSemFacts : Pipeline.OwnSemFacts cfg0.spec links.osem := by decide

theorem share_eq (c : Dev nD) (w : Fin cfg0.W) : (dats m 0 c).share w = fullShare := by unfold Dat.share; split <;> rfl

theorem waits (c : Dev nD) : (levAts Cert.Exchange.L (Cert.Exchange.lv links) : sProp 𝕄) ⊢ Pipeline.cellsWaits cfgs (dats m) () 0 c :=
  Pipeline.cellsWaits_intro cfgs (dats m) () 0 c fun w s t =>
    Cert.Exchange.mayWait_stage links c _ (by fin_cases w <;> fin_cases s <;> decide) _ (ite_eq_or_eq (t.val = 0) _ _)

/-- The memory no window stages, as a device brings it. -/
def rest (c : Dev nD) : sProp 𝕄 := Pipeline.unscopedRest spec0 c (V m c)

/-- How the pieces are put in brackets does not matter. -/
theorem joined (P Q R : sProp 𝕄) : iprop((P ∗ Q) ∗ R) = iprop(P ∗ Q ∗ R) := equiv_iff.mp ⟨BI.sep_assoc, BI.sep_assoc'⟩

/-- The seven links: the first three, the next three, and the last. -/
theorem lent_all (c : Dev nD) : (bigSep Finset.univ fun j => lent m c j : sProp 𝕄)
    = iprop((bigSep Finset.univ fun j => lentA m c j) ∗ (bigSep Finset.univ fun j => lentB m c j) ∗ lentP m c) := by
  rw [seven, three, three, joined, joined, joined, joined]; rfl
theorem came_all (c : Dev nD) : (bigSep Finset.univ fun j => came m c j : sProp 𝕄)
    = iprop((bigSep Finset.univ fun j => landingA c j (filledA m c)) ∗ (bigSep Finset.univ fun j => landingB c j (filledB m c)) ∗ landingP c (landed m c)) := by
  rw [seven, three, three, joined, joined, joined, joined]; rfl
theorem room_all (c : Dev nD) (f) (g) (h) :
    (iprop((bigSep Finset.univ fun j => landingA c j f) ∗ (bigSep Finset.univ fun j => landingB c j g) ∗ landingP c h) : sProp 𝕄)
      ⊢ bigSep Finset.univ fun j => room c j := by
  rw [seven, three, three]
  have hA (j : Fin 3) : (landingA c j f : sProp 𝕄) ⊢ room c (linkA j) := by
    rw [room_A]
    iintro H; iexists f; iexact H
  have hB (j : Fin 3) : (landingB c j g : sProp 𝕄) ⊢ room c (linkB j) := by
    rw [room_B]
    iintro H; iexists g; iexact H
  have hP : (landingP c h : sProp 𝕄) ⊢ room c 6 := by
    show landingP c h ⊢ iprop(∃ f, landingP c f)
    iintro H; iexists h; iexact H
  iintro ⟨⟨H0, H1, H2⟩, ⟨H3, H4, H5⟩, H6⟩
  isplitl [H0]; · iapply (hA 0); iexact H0
  isplitl [H1]; · iapply (hA 1); iexact H1
  isplitl [H2]; · iapply (hA 2); iexact H2
  isplitl [H3]; · iapply (hB 0); iexact H3
  isplitl [H4]; · iapply (hB 1); iexact H4
  isplitl [H5]; · iapply (hB 2); iexact H5
  iapply hP; iexact H6

/-- The landing places dealt across the links. -/
theorem deal : (bigSep Finset.univ (rest m) : sProp 𝕄) ⊢ bigSep Finset.univ (mine m) := by
  have h (c : Dev nD) : rest m c ⊢ iprop(((bigSep Finset.univ fun j => lent m c j) ∗ aside m c)
      ∗ bigSep Finset.univ fun j => room c j : sProp 𝕄) := by
    have hr : rest m c = iprop((c.tc.loc main_arg2 ↦{fullShare} m (c.tc.loc main_arg2))
        ∗ (c.tc.loc main_arg3 ↦{fullShare} m (c.tc.loc main_arg3))
        ∗ (c.tc.loc main_arg4 ↦{fullShare} m (c.tc.loc main_arg4))
        ∗ (c.tc.loc main_v1_1 ↦{fullShare} m (c.tc.loc main_v1_1))
        ∗ (c.tc.loc main_v1_2 ↦{fullShare} m (c.tc.loc main_v1_2))
        ∗ (c.tc.loc main_v1_3 ↦{fullShare} m (c.tc.loc main_v1_3))
        ∗ (c.tc.loc main_v2 ↦{fullShare} m (c.tc.loc main_v2))) := unscopedRest0_eq c (V m c)
    unfold aside
    rw [hr, ← aboveA_eq m c, ← aboveB_eq m c, lent_all]
    iintro ⟨H2, H3, H4, HA, HB, HP, HV⟩
    ihave H2 := (arg2_split m c).1 $$ H2
    ihave H3 := (arg3_split m c).1 $$ H3
    ihave H4 := (arg4_split m c).1 $$ H4
    ihave HA := (landingA_split c (m (c.tc.loc main_v1_1))).1 $$ HA
    ihave HB := (landingB_split c (m (c.tc.loc main_v1_2))).1 $$ HB
    ihave HP := (Entails.of_eq (landingP_eq c (m (c.tc.loc main_v1_3))).symm) $$ HP
    icases H2 with ⟨Hs2, Hk2⟩
    icases H3 with ⟨Hs3, Hk3⟩
    icases H4 with ⟨Hs4, Hk4⟩
    icases HA with ⟨HlA, HbA⟩
    icases HB with ⟨HlB, HbB⟩
    isplitr [HlA HlB HP]
    · iframe
    iapply (room_all c (m (c.tc.loc main_v1_1)) (m (c.tc.loc main_v1_2)) (m (c.tc.loc main_v1_3)))
    iframe
  refine Cert.Exchange.deal_across links room h fun c => ?_
  show iprop(_ ∗ bigSep Finset.univ fun j => room (peer j c) j) ⊢ mine m c
  unfold mine
  iintro ⟨⟨H1, H2⟩, H3⟩
  iframe

/-- What a device holds when the call begins. -/
abbrev X (c : Dev nD) : sProp 𝕄 := begins links (pay m) (mine m) c

/-- What it holds of the arrays no window stages when the call has ended. -/
def Y (c : Dev nD) : sProp 𝕄 :=
  iprop((c.tc.loc main_arg2 ↦{fullShare} m (c.tc.loc main_arg2))
    ∗ (c.tc.loc main_arg3 ↦{fullShare} m (c.tc.loc main_arg3))
    ∗ (c.tc.loc main_arg4 ↦{fullShare} m (c.tc.loc main_arg4))
    ∗ (c.tc.loc main_v1_1 ↦{fullShare} (filledA m c : Buf (Elt F) (c.tc.loc main_v1_1)))
    ∗ (c.tc.loc main_v1_2 ↦{fullShare} (filledB m c : Buf (Elt F) (c.tc.loc main_v1_2)))
    ∗ (c.tc.loc main_v1_3 ↦{fullShare} (landed m c : Buf (Elt F) (c.tc.loc main_v1_3)))
    ∗ (c.tc.loc main_v2 ↦{fullShare} m (c.tc.loc main_v2)))

/-- The rows of `main_v1_1` that the transfers write, which are the second result. -/
def carved (c : Dev nD) : Vec F S3x320x2560 .bf16 :=
  extractStridedSlice S3x320x2560 ![0, 704, 0] (filledA m c) slices_S3x1024x2560_S3x320x2560_0_704_0

/-- What it holds of them at the end of the program. -/
def Z (c : Dev nD) : sProp 𝕄 :=
  iprop((c.tc.loc main_arg2 ↦{fullShare} m (c.tc.loc main_arg2))
    ∗ (c.tc.loc main_arg3 ↦{fullShare} m (c.tc.loc main_arg3))
    ∗ (c.tc.loc main_arg4 ↦{fullShare} m (c.tc.loc main_arg4))
    ∗ (c.tc.loc main_v1_2 ↦{fullShare} (filledB m c : Buf (Elt F) (c.tc.loc main_v1_2)))
    ∗ (c.tc.loc main_v1_3 ↦{fullShare} (landed m c : Buf (Elt F) (c.tc.loc main_v1_3)))
    ∗ (c.tc.loc main_v2 ↦{fullShare} (carved m c : Buf (Elt F) (c.tc.loc main_v2))))

/-- The accumulator, at whatever it holds. -/
theorem held_any (c : Dev nD) : (Pipeline.scopedRest spec0 c : sProp 𝕄)
    = iprop(∃ f : Buf (Elt F) (c.tc.loc cc0_scratch0), (Memref.whole cc0_scratch0).view.loc c.tc
        ↦[(Memref.whole cc0_scratch0).view.set]{fullShare} f) := by
  rw [scopedRest0_eq, View.set_whole]

theorem phi_start (c : Dev nD) : iprop(X m c ∗ Pipeline.scopedRest spec0 c) ⊢ (dats m 0 c).Φ 0 := by
  show iprop(X m c ∗ Pipeline.scopedRest spec0 c) ⊢ iprop(Start m c ∗ held m c 0)
  rw [held_any]
  unfold Start X begins held
  simp only [owns_iff]
  iintro ⟨H, ⟨%f, HS⟩⟩
  isplitl [H]; · iexact H
  iexists ((Memref.whole cc0_scratch0).view.read (Elt F) f)
  isplitr
  · ipureintro; exact fun _ h => absurd rfl h
  iexists f
  isplitr
  · ipureintro; rfl
  iexact HS

theorem phi_end (c : Dev nD) :
    (dats m 0 c).Φ (Fin.last cfg0.N) ⊢ iprop(Y m c ∗ Pipeline.ownSems0 links.osem c ∗ Pipeline.scopedRest spec0 c) := by
  have hΦ : (dats m 0 c).Φ (Fin.last cfg0.N) = iprop(Done m c ∗ held m c cfg0.N) := by
    show iprop((if cfg0.N = 0 then Start m c else if cfg0.N = 64 then Done m c else Sent m c) ∗ held m c cfg0.N) = _
    rw [if_neg (by rw [show cfg0.N = 64 from N_0]; decide), if_pos N_0]
  rw [hΦ, held_any]
  have hs : (Pipeline.ownSems0 links.osem c : sProp 𝕄)
      = iprop((bigSep Finset.univ fun j : Fin 7 => semVal (links.cell c (false, j)) 0) ∗ (bigSep Finset.univ fun j : Fin 7 => semVal (links.cell c (true, j)) 0)) := by
    unfold Pipeline.ownSems0
    exact Cert.Exchange.ends links fun k => semVal (links.cell c k) 0
  rw [hs]
  unfold Done aside Y held
  rw [lent_all, came_all, landingP_eq]
  simp only [owns_iff]
  iintro ⟨⟨⟨Hl2, Hl3, Hl4⟩, ⟨Hd2, Hd3, Hd4⟩, ⟨Hk2, Hk3, Hk4, HbA, HbB, HV⟩, HzS, HzR⟩, ⟨%s, %hs, ⟨%f, %hf, HS⟩⟩⟩
  isplitl [Hl2 Hl3 Hl4 Hk2 Hk3 Hk4 Hd2 Hd3 Hd4 HbA HbB HV]
  · isplitl [Hl2 Hk2]
    · iapply (arg2_split m c).2
      iframe
    isplitl [Hl3 Hk3]
    · iapply (arg3_split m c).2
      iframe
    isplitl [Hl4 Hk4]
    · iapply (arg4_split m c).2
      iframe
    isplitl [Hd2 HbA]
    · iapply (landingA_split c (filledA m c)).2
      iframe
    isplitl [Hd3 HbB]
    · iapply (landingB_split c (filledB m c)).2
      iframe
    iframe
  isplitl [HzS HzR]
  · iframe
  iexists f; iexact HS

/-- The final memory of six arrays no window stages. -/
def QY (c : Dev nD) (s : MemSt nD τ sig (Elt F)) : Prop :=
  (s.mem (c.tc.loc main_arg2) = m (c.tc.loc main_arg2)
    ∧ s.mem (c.tc.loc main_arg3) = m (c.tc.loc main_arg3)
    ∧ s.mem (c.tc.loc main_arg4) = m (c.tc.loc main_arg4))
    ∧ s.mem (c.tc.loc main_v1_2) = filledB m c
    ∧ s.mem (c.tc.loc main_v1_3) = landed m c
    ∧ s.mem (c.tc.loc main_v2) = carved m c

theorem read_end (c : Dev nD) (s' : Phys nD τ sig (Elt F)) :
    iprop(Z m c ∗ SI s') ⊢ |={Set.univ}=> iprop(⌜QY m c s'.mem⌝ ∗ SI s' : sProp 𝕄) := by
  unfold Z
  iintro ⟨⟨H2, H3, H4, H5, H6, H7⟩, HSI⟩
  ihave %h2 := Cert.Exchange.read_whole $$ [$HSI $H2]
  ihave %h3 := Cert.Exchange.read_whole $$ [$HSI $H3]
  ihave %h4 := Cert.Exchange.read_whole $$ [$HSI $H4]
  ihave %h5 := Cert.Exchange.read_whole $$ [$HSI $H5]
  ihave %h6 := Cert.Exchange.read_whole $$ [$HSI $H6]
  ihave %h7 := Cert.Exchange.read_whole $$ [$HSI $H7]
  imodintro
  isplitr
  · ipureintro
    exact ⟨⟨h2, h3, h4⟩,
      h5, h6, h7⟩
  iexact HSI

/-! ## The host operation after the call -/

/-- The program after the call. -/
abbrev carve : Prog (TpuEff nD τ sig (Elt F) (Pipeline.Sig Λ₀ (Fin 1) fun p => (pcfgs (F := F) p).Adm) .tc) PUnit :=
  StableHlo.seq hostOps1 >>= fun _ => .ret ⟨⟩

/-- The two buffers it touches, and what they hold before it. -/
abbrev landRef : DevRef τ sig := Proc.devRef .tc main_v1_1
abbrev outRef : DevRef τ sig := Proc.devRef .tc main_v2
def before (c : Dev nD) : Valuation τ sig (Elt F) := Function.update (V0 m c) landRef (filledA m c)

theorem refs_ne : outRef ≠ landRef := StableHlo.devRef_ne_of_ne (by decide)

theorem held_two (c : Dev nD) (W : Valuation τ sig (Elt F)) :
    (StableHlo.held c.tc {outRef, landRef} W : sProp 𝕄)
      = iprop((c.tc.loc main_v2 ↦{fullShare} W outRef) ∗ (c.tc.loc main_v1_1 ↦{fullShare} W landRef)) := by
  unfold StableHlo.held
  rw [bigSep_insert (by rw [Finset.mem_singleton]; exact refs_ne), bigSep_singleton]
  exact congrArg₂ BI.sep (Eq.refl _) (Eq.refl _)

theorem carve_run (c : Dev nD) :
    iprop(boundary c.tc ∗ Y m c)
      ⊢ wp frame (wpE (defs (F := F)) (Variants.lift 𝒱₀) c.tc none) Set.univ carve
          (fun _ : PUnit => iprop(scopedSems0 c.tc ∗ Z m c : sProp 𝕄)) := by
  have hb1 : before m c landRef = filledA m c := Function.update_self ..
  have hb2 : before m c outRef = m (c.tc.loc main_v2) := Function.update_of_ne refs_ne ..
  have ha : StableHlo.after hostOps1 (before m c) outRef = carved m c := by
    rw [StableHlo.after_cons, StableHlo.after_nil]
    refine (StableHlo.unary_result _ _ _ _ _ _).trans ?_
    unfold carved
    rw [← hb1]
  unfold Y
  iintro ⟨Hb, H2, H4, H5, H1, H6, H7, H3⟩
  iapply (StableHlo.wp_seq (defs := defs (F := F)) (𝒱 := Variants.lift 𝒱₀) (bd := none) (E := Set.univ) c {outRef, landRef} (fun _ => .ret ⟨⟩) hostOps1
    (fun op ho => by rw [List.mem_singleton.mp ho, StableHlo.unary_bufs, Finset.pair_comm]) (List.forall_iff_forall_mem.mp hostOps1_fresh) (before m c)) $$ [Hb H1 H3]
  · isplitl [Hb]; · iexact Hb
    rw [held_two, hb1, hb2]
    iframe
  iintro ⟨Hb, HS⟩
  ihave HS := (Entails.of_eq (held_two c (StableHlo.after hostOps1 (before m c)))) $$ HS
  icases HS with ⟨H3, -⟩
  rw [ha, wp_ret]
  unfold boundary Z
  icases Hb with ⟨-, Hs, -⟩
  imodintro
  iframe

/-- What a final state is: every staged array at the schedule's contents, and the others as said. -/
def QC (r : PUnit × MemSt nD τ sig (Elt F)) : Prop :=
  ∀ c : Dev nD, (∀ w : Fin cfg0.W, r.2.mem ((cfg0.win w).arr.view.loc c.tc) = (dats m 0 c).arrAt w cfg0.N) ∧ QY m c r.2

set_option maxRecDepth 8000 in
theorem run_main : θ_run defs (onTc (τ := τ) (main (F := F))) ⟨m, fun _ => 0, ρ⟩ (fun r => QC m r ∧ r.2.sem = fun _ => 0) :=
  Cert.Exchange.θ_run_exchange (fun p => (cfgs p).toPCfg) (fun p => (cfgs p).toPCfg_adm) (dats m) () cellOf_inj (0 : Fin 1)
    winFacts0 ownSemFacts rfl EP defs₀ 𝒱₀ m ρ (due links) Cert.Exchange.L (Cert.Exchange.lv links) main (fun _ => carve)
    (hmain := fun _ => rfl) (hbody := body_obligation m) (hne := block_pos0) (harr := arr_whole0) (hstage := stage_whole0) (hshare := share_eq m)
    (howed₀ := fun _ => rfl) (howedN := fun _ => rfl) (hL := Cert.Exchange.L_of_ne) (hwaits := waits m)
    (G := ghosts links (pay m))
    (hu₀ := Cert.Exchange.fund_both links (pay m) _)
    (hA := fun _ _ => rfl) (X := X m) (Y := Y m) (Z := Z m) (htail := carve_run m)
    (hstart := Cert.Exchange.launch_all links (pay m) (rest m) (mine m) (deal m))
    (hin := phi_start m) (hout := phi_end m) (QY := QY m) (hY := read_end m)
    (hQ := fun s h hs => ⟨fun c => h c, sem_eq_zero_of_scoped (by decide) hs⟩)

end Cert.Px

end
-- ==== Proof.PxWhole.lean ====
/-
# The product of `proj_dx` as a whole

The output blocks tile the array that a device writes. Its entry `(p, q)` is the inner product of row `p` of the device's
left factor and row `q` of the right factor, of which four shards lie one behind the other: column `x` is column
`x mod 2560` of shard `x / 2560`. The eight points of an output block pass over the 10240 columns 1280 at a time.
-/
module

public import proofs.«01_k».proof.Proof.PxValue
public import proofs.«01_k».proof.Proof.PxRun
public import Idealize.ShloMosaic.Lib.Pipeline.ValueKit

@[expose] public section

set_option maxRecDepth 10240

noncomputable section

namespace Cert.Px

open Cert.PxKernelIdeal Cert.PxKernelIdeal.Gen
open Idealize.ShloMosaic Idealize.ShloMosaic.TcCoe

variable (m : (ℓ : Loc nD τ sig) → Buf (Elt Ideal) ℓ)

/-- The inner product of a row of a matrix and a row of a matrix cut along its columns into four shards. -/
def sharded {n : ℕ} (A : (⟨2, ![n, 10240]⟩ : Shape).Idx → Ideal .bf16) (B : (⟨3, ![4, 4096, 2560]⟩ : Shape).Idx → Ideal .bf16)
    (p : Fin n) (q : Fin 4096) : EReal :=
  ∑ x : Fin 10240, (A (ix2 p x) : EReal) * B (ix3 (⟨x.val / 2560, by omega⟩ : Fin 4) q (⟨x.val % 2560, by omega⟩ : Fin 2560))

/-- What a device's product array holds at the end. -/
def product (c : Dev nD) : Vec Ideal S4096x4096 .f32 := fun i =>
  sharded (n := 4096) (m (c.tc.loc main_arg0)) (m (c.tc.loc main_arg1)) (i 0) (i 1)

theorem index_all : ∀ t, win0_0.index t = ![(grid0.coords t 0).val, (grid0.coords t 2).val]
    ∧ win0_1.index t = ![(grid0.coords t 2).val / 2, (grid0.coords t 1).val, (grid0.coords t 2).val % 2]
    ∧ win0_2.index t = ![(grid0.coords t 0).val, (grid0.coords t 1).val] := by decide +kernel

/-- Of the eight points of an output block, point `s` is at strip `s`. -/
theorem coords_all : ∀ (t : Fin grid0.N) (s : Fin 8), t.val % 8 = 7 → ∀ h : t.val - 7 + s.val < grid0.N,
    grid0.coords ⟨t.val - 7 + s.val, h⟩ 0 = grid0.coords t 0 ∧ grid0.coords ⟨t.val - 7 + s.val, h⟩ 1 = grid0.coords t 1
      ∧ (grid0.coords ⟨t.val - 7 + s.val, h⟩ 2).val = s.val := by decide +kernel

theorem product_eq (c : Dev nD) : (dats m 0 c).arrAt 2 cfg0.N = product m c := by
  refine (dats m 0 c).arrAt_eq_of_covers 2 _ (by decide +kernel) fun t hf y => ?_
  have ht : t.val % 8 = 7 := (flush0_2 t).mp hf
  have htN : t.val < cfg0.N := t.isLt
  show wrote m c t _ = _
  obtain ⟨p, q, rfl⟩ : ∃ (p : Fin 2048) (q : Fin 1024), y = ix2 p q := ⟨y 0, y 1, eq_ix2 y⟩
  refine (wrote_apply m c t ht p q).trans ?_
  rw [Finset.sum_range]
  unfold product sharded
  refine Eq.trans ?_ (Fin.sum_univ_tiles (N := 10240) 8 1280 (by norm_num) _).symm
  refine Finset.sum_congr rfl fun s _ => ?_
  have hs : t.val - 7 + s.val < cfg0.N := by omega
  obtain ⟨h0, h1, h2⟩ := coords_all t s ht hs
  rw [term_of_lt m c p q _ hs]
  unfold inner
  have hk := s.isLt
  refine Finset.sum_congr rfl fun k _ => congrArg₂ _ ?_ ?_
  · blk_ext [iblk, V, index_all, h0, h1, h2]
  · blk_ext [iblk, V, index_all, h0, h1, h2]

end Cert.Px

end
-- ==== Proof.PxLanding.lean ====
/-
# What the exchanges of `proj_dx` bring, at an index

Layer `j`, row `r`, column `q` of what device `c` has kept of the first exchange between chips is layer `c / 2`, row
`704 + r`, column `q` of the device on its link `j`; of the second one it is layer `c / 2`, row `r`, column `q` of the
device on its link `3 + j`. Layer `s`, row `r`, column `q` of what it is sent by the other core of its chip is layer `s`,
row `512 (c mod 2) + r`, column `q` of that one.
-/
module

public import proofs.«01_k».proof.Proof.PxRun
public import Idealize.ShloMosaic.Lib.PointwiseCore

@[expose] public section

set_option maxRecDepth 16384

noncomputable section

namespace Cert.Px

open Cert.PxKernelIdeal Cert.PxKernelIdeal.Gen
open Idealize.ShloMosaic Idealize.ShloMosaic.TcCoe

variable {F : FTy → Type} [FloatOps F]
variable (m : (ℓ : Loc nD τ sig) → Buf (Elt F) ℓ)

theorem landed_apply (c : Dev nD) (s : Fin 4) (r : Fin 512) (q : Fin 4096) :
    landed m c (ix3 s r q) = m ((peer 6 c : Thread nD τ).loc main_arg4)
      (ix3 s (⟨512 * (c.val % 2) + r.val, by omega⟩ : Fin 1024) q) := by
  refine congrArg (m ((peer 6 c : Thread nD τ).loc main_arg4)) ?_
  have ho : k0_off7 (peer 6 c) = ![0, 512 * (c.val % 2), 0] := by
    revert c; decide +kernel
  funext k
  fin_cases k <;> refine Fin.ext ?_
  · show k0_off7 (peer 6 c) 0 + 1 * s.val = s.val
    rw [ho]; show 0 + 1 * s.val = s.val; omega
  · show k0_off7 (peer 6 c) 1 + 1 * r.val = 512 * (c.val % 2) + r.val
    rw [ho]; show 512 * (c.val % 2) + 1 * r.val = 512 * (c.val % 2) + r.val; omega
  · show k0_off7 (peer 6 c) 2 + 1 * q.val = q.val
    rw [ho]; show 0 + 1 * q.val = q.val; omega

theorem carved_apply (c : Dev nD) (j : Fin 3) (r : Fin 320) (q : Fin 2560) :
    carved m c (ix3 j r q) = m ((chipA j c : Thread nD τ).loc main_arg2)
      (ix3 (⟨c.val / 2, by have : c.val < 8 := c.isLt; omega⟩ : Fin 4) (⟨704 + r.val, by omega⟩ : Fin 1024) q) := by
  have e : carved m c (ix3 j r q) = filledA m c (ix3 j (⟨704 + r.val, by omega⟩ : Fin 1024) q) := by
    pointwise [carved]
  refine e.trans ((if_pos (show 704 ≤ 704 + r.val by omega)).trans ?_)
  refine congrArg (m ((chipA j c : Thread nD τ).loc main_arg2)) ?_
  funext k
  fin_cases k <;> rfl

theorem filledB_apply (c : Dev nD) (j : Fin 3) (r : Fin 1024) (q : Fin 2560) :
    filledB m c (ix3 j r q) = m ((chipB j c : Thread nD τ).loc main_arg3)
      (ix3 (⟨c.val / 2, by have : c.val < 8 := c.isLt; omega⟩ : Fin 4) r q) := by
  refine congrArg (m ((chipB j c : Thread nD τ).loc main_arg3)) ?_
  funext k
  fin_cases k <;> rfl

/-- The other core of the chip, by number. -/
theorem pair_val (c : Dev nD) : (peer 6 c).val = c.val / 2 * 2 + (1 - c.val % 2) := by revert c; decide +kernel

end Cert.Px

end
-- ==== Proof.PxReference.lean ====
/-
# The reference of `proj_dx` over the reals

The reference's first result has the same entries as the products of the devices. Its second and its third one have three
layers a device; layer `j` of those of device `d` is the layer that belongs to the chip of `d`, of the four layers of the
device that `d` has on its link `j`: the last 320 rows of it in the second result, all of it in the third. Its fourth one
is, at layer `4 c + s`, half of layer `s` of the device next to `c`: of the device `c + 1` the upper half if `c` is even,
of `c − 1` the lower half if `c` is odd.
-/
module

public import proofs.«01_k».proof.Proof.PxWhole
public import proofs.«01_k».proof.Proof.Gen.PxReferenceIdeal.Run

@[expose] public section

set_option maxRecDepth 16384

noncomputable section

namespace Cert.Px

open Idealize.ShloMosaic Idealize.ShloMosaic.TcCoe Idealize.SL.Sem

section
open Cert.PxReferenceIdeal Cert.PxReferenceIdeal.Gen

/-- The reference's first result, as its operations compute it. -/
abbrev refProduct {F : FTy → Type} [FloatOps F] (a : Vec F S32768x10240 .bf16) (b : Vec F S4x4096x2560 .bf16) : Vec F S32768x4096 .f32 :=
  Host.dotGeneral dot_S32768x10240_S10240x4096_S32768x4096_1_0_0_1_n_n none (extf .f32 a bitsLt_bf16_f32)
    (transpose S10240x4096 [1, 0] (shapeCast _ (transpose S4096x4x2560 [1, 0, 2] (extf .f32 b bitsLt_bf16_f32)
      transposes_S4x4096x2560_S4096x4x2560_1_0_2) shapeCasts_S4096x4x2560_S4096x10240) transposes_S4096x10240_S10240x4096_1_0)

theorem refProduct_apply (a : Vec Ideal S32768x10240 .bf16) (b : Vec Ideal S4x4096x2560 .bf16) (p : Fin 32768) (q : Fin 4096) :
    refProduct a b (ix2 p q) = sharded (n := 32768) a b p q := by
  pointwise [refProduct, sharded]

/-- Its fourth result. -/
abbrev refLanded {F : FTy → Type} [FloatOps F] (d : Vec F S32x1024x4096 .bf16) : Vec F S32x512x4096 .bf16 :=
  shapeCast _ (concatenate S4x2x4x512x4096 1
    [⟨S4x1x4x512x4096, (broadcastInDim S4x1x4x512x4096 ![0, 2, 3, 4] bcast_S4x4x512x4096_S4x1x4x512x4096_0_2_3_4
      (shapeCast _ (extractStridedSlice S4x1x4x1x512x4096 ![0, 1, 0, 0, 0, 0] (shapeCast _ d shapeCasts_S32x1024x4096_S4x2x4x2x512x4096)
        slices_S4x2x4x2x512x4096_S4x1x4x1x512x4096_0_1_0_0_0_0) shapeCasts_S4x1x4x1x512x4096_S4x4x512x4096))⟩,
     ⟨S4x1x4x512x4096, (broadcastInDim S4x1x4x512x4096 ![0, 2, 3, 4] bcast_S4x4x512x4096_S4x1x4x512x4096_0_2_3_4
      (shapeCast _ (extractStridedSlice S4x1x4x1x512x4096 ![0, 0, 0, 1, 0, 0] (shapeCast _ d shapeCasts_S32x1024x4096_S4x2x4x2x512x4096)
        slices_S4x2x4x2x512x4096_S4x1x4x1x512x4096_0_0_0_1_0_0) shapeCasts_S4x1x4x1x512x4096_S4x4x512x4096))⟩]
    concatenates_S4x1x4x512x4096_S4x1x4x512x4096_S4x2x4x512x4096_d1) shapeCasts_S4x2x4x512x4096_S32x512x4096

variable {F : FTy → Type} [FloatOps F]

/-- Of chip `k`, both cores, what belongs to chip `chip`. -/
abbrev restPiece (d : Vec F S32x1024x2560 .bf16) (k chip : ℕ) (h : S4x2x4x320x2560.Slices ![k, 0, chip, 0, 0] S1x2x1x320x2560) :
    Vec F S2x1x320x2560 .bf16 :=
  broadcastInDim S2x1x320x2560 ![0, 2, 3] bcast_S2x320x2560_S2x1x320x2560_0_2_3
    (shapeCast _ (extractStridedSlice S1x2x1x320x2560 ![k, 0, chip, 0, 0]
      (extractStridedSlice S4x2x4x320x2560 ![0, 0, 0, 704, 0] (shapeCast _ d shapeCasts_S32x1024x2560_S4x2x4x1024x2560)
        slices_S4x2x4x1024x2560_S4x2x4x320x2560_0_0_0_704_0) h) shapeCasts_S1x2x1x320x2560_S2x320x2560)

/-- What the two cores of one chip get. -/
abbrev restStacked (x y z : Vec F S2x1x320x2560 .bf16) : Vec F S1x2x3x320x2560 .bf16 :=
  broadcastInDim S1x2x3x320x2560 ![1, 2, 3, 4] bcast_S2x3x320x2560_S1x2x3x320x2560_1_2_3_4
    (concatenate S2x3x320x2560 1 [⟨S2x1x320x2560, x⟩, ⟨S2x1x320x2560, y⟩, ⟨S2x1x320x2560, z⟩]
      concatenates_S2x1x320x2560_S2x1x320x2560_S2x1x320x2560_S2x3x320x2560_d1)

/-- The reference's second result. -/
abbrev refCarved (d : Vec F S32x1024x2560 .bf16) : Vec F S24x320x2560 .bf16 :=
  shapeCast _ (concatenate S4x2x3x320x2560 0
    [⟨S1x2x3x320x2560, restStacked (restPiece d 2 0 slices_S4x2x4x320x2560_S1x2x1x320x2560_2_0_0_0_0)
        (restPiece d 1 0 slices_S4x2x4x320x2560_S1x2x1x320x2560_1_0_0_0_0) (restPiece d 3 0 slices_S4x2x4x320x2560_S1x2x1x320x2560_3_0_0_0_0)⟩,
     ⟨S1x2x3x320x2560, restStacked (restPiece d 3 1 slices_S4x2x4x320x2560_S1x2x1x320x2560_3_0_1_0_0)
        (restPiece d 0 1 slices_S4x2x4x320x2560_S1x2x1x320x2560_0_0_1_0_0) (restPiece d 2 1 slices_S4x2x4x320x2560_S1x2x1x320x2560_2_0_1_0_0)⟩,
     ⟨S1x2x3x320x2560, restStacked (restPiece d 0 2 slices_S4x2x4x320x2560_S1x2x1x320x2560_0_0_2_0_0)
        (restPiece d 3 2 slices_S4x2x4x320x2560_S1x2x1x320x2560_3_0_2_0_0) (restPiece d 1 2 slices_S4x2x4x320x2560_S1x2x1x320x2560_1_0_2_0_0)⟩,
     ⟨S1x2x3x320x2560, restStacked (restPiece d 1 3 slices_S4x2x4x320x2560_S1x2x1x320x2560_1_0_3_0_0)
        (restPiece d 2 3 slices_S4x2x4x320x2560_S1x2x1x320x2560_2_0_3_0_0) (restPiece d 0 3 slices_S4x2x4x320x2560_S1x2x1x320x2560_0_0_3_0_0)⟩]
    concatenates_S1x2x3x320x2560_S1x2x3x320x2560_S1x2x3x320x2560_S1x2x3x320x2560_S4x2x3x320x2560_d0) shapeCasts_S4x2x3x320x2560_S24x320x2560

/-- Of chip `k`, both cores, what belongs to chip `chip`. -/
abbrev allPiece (d : Vec F S32x1024x2560 .bf16) (k chip : ℕ) (h : S4x2x4x1024x2560.Slices ![k, 0, chip, 0, 0] S1x2x1x1024x2560) :
    Vec F S2x1x1024x2560 .bf16 :=
  broadcastInDim S2x1x1024x2560 ![0, 2, 3] bcast_S2x1024x2560_S2x1x1024x2560_0_2_3
    (shapeCast _ (extractStridedSlice S1x2x1x1024x2560 ![k, 0, chip, 0, 0]
      (shapeCast _ d shapeCasts_S32x1024x2560_S4x2x4x1024x2560) h) shapeCasts_S1x2x1x1024x2560_S2x1024x2560)

/-- What the two cores of one chip get. -/
abbrev allStacked (x y z : Vec F S2x1x1024x2560 .bf16) : Vec F S1x2x3x1024x2560 .bf16 :=
  broadcastInDim S1x2x3x1024x2560 ![1, 2, 3, 4] bcast_S2x3x1024x2560_S1x2x3x1024x2560_1_2_3_4
    (concatenate S2x3x1024x2560 1 [⟨S2x1x1024x2560, x⟩, ⟨S2x1x1024x2560, y⟩, ⟨S2x1x1024x2560, z⟩]
      concatenates_S2x1x1024x2560_S2x1x1024x2560_S2x1x1024x2560_S2x3x1024x2560_d1)

/-- The reference's third result. -/
abbrev refWhole (d : Vec F S32x1024x2560 .bf16) : Vec F S24x1024x2560 .bf16 :=
  shapeCast _ (concatenate S4x2x3x1024x2560 0
    [⟨S1x2x3x1024x2560, allStacked (allPiece d 2 0 slices_S4x2x4x1024x2560_S1x2x1x1024x2560_2_0_0_0_0)
        (allPiece d 1 0 slices_S4x2x4x1024x2560_S1x2x1x1024x2560_1_0_0_0_0) (allPiece d 3 0 slices_S4x2x4x1024x2560_S1x2x1x1024x2560_3_0_0_0_0)⟩,
     ⟨S1x2x3x1024x2560, allStacked (allPiece d 3 1 slices_S4x2x4x1024x2560_S1x2x1x1024x2560_3_0_1_0_0)
        (allPiece d 0 1 slices_S4x2x4x1024x2560_S1x2x1x1024x2560_0_0_1_0_0) (allPiece d 2 1 slices_S4x2x4x1024x2560_S1x2x1x1024x2560_2_0_1_0_0)⟩,
     ⟨S1x2x3x1024x2560, allStacked (allPiece d 0 2 slices_S4x2x4x1024x2560_S1x2x1x1024x2560_0_0_2_0_0)
        (allPiece d 3 2 slices_S4x2x4x1024x2560_S1x2x1x1024x2560_3_0_2_0_0) (allPiece d 1 2 slices_S4x2x4x1024x2560_S1x2x1x1024x2560_1_0_2_0_0)⟩,
     ⟨S1x2x3x1024x2560, allStacked (allPiece d 1 3 slices_S4x2x4x1024x2560_S1x2x1x1024x2560_1_0_3_0_0)
        (allPiece d 2 3 slices_S4x2x4x1024x2560_S1x2x1x1024x2560_2_0_3_0_0) (allPiece d 0 3 slices_S4x2x4x1024x2560_S1x2x1x1024x2560_0_0_3_0_0)⟩]
    concatenates_S1x2x3x1024x2560_S1x2x3x1024x2560_S1x2x3x1024x2560_S1x2x3x1024x2560_S4x2x3x1024x2560_d0) shapeCasts_S4x2x3x1024x2560_S24x1024x2560

/-- The layer that layer `l` of the second and third result is taken from: which link and which device `l` is of says. -/
def source (l : Fin 24) : Fin 32 :=
  ⟨4 * (chipA ⟨l.val % 3, Nat.mod_lt _ (by decide)⟩ ⟨l.val / 3, by show l.val / 3 < 8; omega⟩).val + l.val / 6, by revert l; decide⟩

theorem refCarved_apply (d : Vec F S32x1024x2560 .bf16) (l : Fin 24) (r : Fin 320) (q : Fin 2560) :
    refCarved d (ix3 l r q) = d (ix3 (source l) (⟨704 + r.val, by omega⟩ : Fin 1024) q) := by
  pointwise [refCarved]
  fin_cases l <;> rfl

theorem refWhole_apply (d : Vec F S32x1024x2560 .bf16) (l : Fin 24) (r : Fin 1024) (q : Fin 2560) :
    refWhole d (ix3 l r q) = d (ix3 (source l) r q) := by
  pointwise [refWhole]
  fin_cases l <;> rfl

theorem refLanded_apply (d : Vec F S32x1024x4096 .bf16) (l : Fin 32) (i : Fin 512) (j : Fin 4096) :
    refLanded d (ix3 l i j) = d (ix3 (⟨8 * (l.val / 8) + 4 * (1 - l.val / 4 % 2) + l.val % 4, by omega⟩ : Fin 32)
      (⟨512 * (l.val / 4 % 2) + i.val, by omega⟩ : Fin 1024) j) := by
  pointwise [refLanded]
  split <;> refine congrArg d ?_ <;> funext k <;> fin_cases k <;> refine Fin.ext ?_
  · show l.val / 8 * 8 + 4 + l.val % 4 = 8 * (l.val / 8) + 4 * (1 - l.val / 4 % 2) + l.val % 4; omega
  · show i.val = 512 * (l.val / 4 % 2) + i.val; omega
  · rfl
  · show l.val / 8 * 8 + l.val % 4 = 8 * (l.val / 8) + 4 * (1 - l.val / 4 % 2) + l.val % 4; omega
  · show 512 + i.val = 512 * (l.val / 4 % 2) + i.val; omega
  · rfl

/-- The reference's run. -/
theorem reference_run (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem (c.tc.loc main_v5) = refProduct (m (c.tc.loc main_arg0)) (m (c.tc.loc main_arg1))
      ∧ r.2.mem (c.tc.loc main_v107) = refCarved (m (c.tc.loc main_arg2))
      ∧ r.2.mem (c.tc.loc main_v108) = refWhole (m (c.tc.loc main_arg3))
      ∧ r.2.mem (c.tc.loc main_v109) = refLanded (m (c.tc.loc main_arg4))
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4)) ∧ r.2.sem = fun _ => 0) :=
  (θ_run defs _ _).mono (fun r h => ⟨h, sem_eq_zero_of_no_sems (by decide) r.2⟩) (Cert.PxReferenceIdeal.Value.run m ρ)

end

end Cert.Px

end
-- ==== Proof.PxAgree.lean ====
/-
# Device by device, the two programs of `proj_dx` agree

What a device ends with is its block of what the reference ends with, if its arguments are its blocks of the reference's,
of which the second, the weight, is the same for all.
-/
module

public import proofs.«01_k».proof.Proof.PxWhole
public import proofs.«01_k».proof.Proof.PxLanding
public import proofs.«01_k».proof.Proof.PxReference
public import proofs.«01_k».proof.Proof.Agree
public import Idealize.ShloMosaic.Lib.Layout

@[expose] public section

set_option maxRecDepth 10240

noncomputable section

namespace Cert.Px

open Cert.PxKernelIdeal
open Idealize.ShloMosaic Idealize.ShloMosaic.TcCoe
open Cert.Pair (block_rows block_layers)

section Product
variable (m : (ℓ : Loc nD τ sig) → Buf (Elt Ideal) ℓ)
  (A : Vec Ideal Cert.PxReferenceIdeal.S32768x10240 .bf16) (B : Vec Ideal Cert.PxReferenceIdeal.S4x4096x2560 .bf16)

theorem product_agrees (c : Dev nD)
    (h0 : m (c.tc.loc main_arg0) = Layout.block ⟨2, ![4096, 10240]⟩ ⟨2, ![32768, 10240]⟩ 0 8 c A)
    (h1 : m (c.tc.loc main_arg1) = B) :
    product m c = Layout.block ⟨2, ![4096, 4096]⟩ ⟨2, ![32768, 4096]⟩ 0 8 c (refProduct A B) := by
  have hc : c.val < 8 := c.isLt
  funext y
  obtain ⟨p, q, rfl⟩ : ∃ (p q : Fin 4096), y = ix2 p q := ⟨y 0, y 1, eq_ix2 y⟩
  have hp : c.val * 4096 + p.val < 32768 := by omega
  refine Eq.trans ?_ (block_rows c (refProduct A B) (by decide) p q hp).symm
  rw [refProduct_apply]
  show sharded (n := 4096) (m (c.tc.loc main_arg0)) (m (c.tc.loc main_arg1)) p q = _
  unfold sharded
  refine Finset.sum_congr rfl fun x _ => congrArg₂ _ ?_ ?_
  · exact (congrFun h0 (ix2 p x)).trans (block_rows c A (by decide) p x hp)
  · exact congrFun h1 _

end Product

variable {F : FTy → Type} [FloatOps F]
variable (m : (ℓ : Loc nD τ sig) → Buf (Elt F) ℓ)
  (D : Vec F Cert.PxReferenceIdeal.S32x1024x4096 .bf16) (E : Vec F Cert.PxReferenceIdeal.S32x1024x2560 .bf16)

theorem landed_agrees (c : Dev nD)
    (h : m ((peer 6 c : Thread nD τ).loc main_arg4) = Layout.block ⟨3, ![4, 1024, 4096]⟩ ⟨3, ![32, 1024, 4096]⟩ 0 8 (peer 6 c) D) :
    landed m c = Layout.block ⟨3, ![4, 512, 4096]⟩ ⟨3, ![32, 512, 4096]⟩ 0 8 c (refLanded D) := by
  have hc : c.val < 8 := c.isLt
  have hv := pair_val c
  funext y
  obtain ⟨q, i, j, rfl⟩ : ∃ (q : Fin 4) (i : Fin 512) (j : Fin 4096), y = ix3 q i j := ⟨y 0, y 1, y 2, eq_ix3 y⟩
  have hl : c.val * 4 + q.val < 32 := by omega
  refine Eq.trans ?_ (block_layers c (refLanded D) (by decide) q i j hl).symm
  have hpl : (peer 6 c).val * 4 + q.val < 32 := by omega
  rw [landed_apply, refLanded_apply]
  refine (congrFun h _).trans ((block_layers (peer 6 c) D (by decide) q _ j hpl).trans ?_)
  congr 1
  funext k
  fin_cases k <;> refine Fin.ext ?_
  · show (peer 6 c).val * 4 + q.val = 8 * ((c.val * 4 + q.val) / 8) + 4 * (1 - (c.val * 4 + q.val) / 4 % 2) + (c.val * 4 + q.val) % 4
    omega
  · show 512 * (c.val % 2) + i.val = 512 * ((c.val * 4 + q.val) / 4 % 2) + i.val
    omega
  · rfl

/-- The layer a device is sent on a link, among those of all devices. -/
theorem source_eq (c : Fin 8) (j : Fin 3) (h : c.val * 3 + j.val < 24) :
    (source ⟨c.val * 3 + j.val, h⟩).val = (chipA j c).val * 4 + c.val / 2 := by revert c j; decide

/-- The links `j` and `3 + j` go to the same device. -/
theorem chipB_eq (c : Dev nD) (j : Fin 3) : (chipB j c).val = (chipA j c).val := by revert c j; decide

theorem carved_agrees (c : Dev nD)
    (h : ∀ j, m ((chipA j c : Thread nD τ).loc main_arg2) = Layout.block ⟨3, ![4, 1024, 2560]⟩ ⟨3, ![32, 1024, 2560]⟩ 0 8 (chipA j c) E) :
    carved m c = Layout.block ⟨3, ![3, 320, 2560]⟩ ⟨3, ![24, 320, 2560]⟩ 0 8 c (refCarved E) := by
  have hc : c.val < 8 := c.isLt
  funext y
  obtain ⟨j, r, q, rfl⟩ : ∃ (j : Fin 3) (r : Fin 320) (q : Fin 2560), y = ix3 j r q := ⟨y 0, y 1, y 2, eq_ix3 y⟩
  have hl : c.val * 3 + j.val < 24 := by omega
  refine Eq.trans ?_ (block_layers c (refCarved E) (by decide) j r q hl).symm
  have hp : (chipA j c).val < 8 := (chipA j c).isLt
  have hpl : (chipA j c).val * 4 + c.val / 2 < 32 := by omega
  rw [carved_apply, refCarved_apply]
  refine (congrFun (h j) _).trans ((block_layers (chipA j c) E (by decide) ⟨c.val / 2, by omega⟩ _ q hpl).trans ?_)
  exact congrArg E (congrArg (ix3 · _ q) (Fin.ext (source_eq c j hl).symm))

theorem whole_agrees (c : Dev nD)
    (h : ∀ j, m ((chipB j c : Thread nD τ).loc main_arg3) = Layout.block ⟨3, ![4, 1024, 2560]⟩ ⟨3, ![32, 1024, 2560]⟩ 0 8 (chipB j c) E) :
    filledB m c = Layout.block ⟨3, ![3, 1024, 2560]⟩ ⟨3, ![24, 1024, 2560]⟩ 0 8 c (refWhole E) := by
  have hc : c.val < 8 := c.isLt
  funext y
  obtain ⟨j, r, q, rfl⟩ : ∃ (j : Fin 3) (r : Fin 1024) (q : Fin 2560), y = ix3 j r q := ⟨y 0, y 1, y 2, eq_ix3 y⟩
  have hl : c.val * 3 + j.val < 24 := by omega
  refine Eq.trans ?_ (block_layers c (refWhole E) (by decide) j r q hl).symm
  have hp : (chipB j c).val < 8 := (chipB j c).isLt
  have hpl : (chipB j c).val * 4 + c.val / 2 < 32 := by omega
  rw [filledB_apply, refWhole_apply]
  refine (congrFun (h j) _).trans ((block_layers (chipB j c) E (by decide) ⟨c.val / 2, by omega⟩ _ q hpl).trans ?_)
  exact congrArg E (congrArg (ix3 · _ q) (Fin.ext ((congrArg (· * 4 + c.val / 2) (chipB_eq c j)).trans (source_eq c j hl).symm)))

end Cert.Px

end
-- ==== Proof.OwBlock.lean ====
/-
# What one grid point of `out_proj_dw` computes

A grid point of `out_proj_dw` reads a 4096 × 1024 block `a` of the left factor and a 4096 × 1024 block `b` of the right one,
and writes a 1024 × 1024 block in two halves: columns 0…511 from columns 0…511 of `b`, columns 512…1023 from the others.
`outBlock a b` is that block; its entries are the two payloads'.
-/
module

public import proofs.«01_k».proof.Proof.Gen.OwKernelIdeal.Skeleton
public import Idealize.ShloMosaic.Lib.Writes

@[expose] public section

noncomputable section

namespace Cert.Ow

open Cert.OwKernelIdeal Cert.OwKernelIdeal.Gen
open Idealize.ShloMosaic

variable {F : FTy → Type} [FloatOps F]

/-- The left and right halves of the output block, as the body's stores name them. -/
abbrev leftHalf : Rect S1024x1024 := Rect.unit (s := S1024x1024) ![0, 0] S1024x512.size inb_S1024x1024_S1024x512_0_0
abbrev rightHalf : Rect S1024x1024 := Rect.unit (s := S1024x1024) ![0, 512] S1024x512.size inb_S1024x1024_S1024x512_0_512

/-- The left and right halves of the right factor's block. -/
abbrev leftOf : Rect S4096x1024 := Rect.unit (s := S4096x1024) ![0, 0] S4096x512.size inb_S4096x1024_S4096x512_0_0
abbrev rightOf : Rect S4096x1024 := Rect.unit (s := S4096x1024) ![0, 512] S4096x512.size inb_S4096x1024_S4096x512_0_512

/-- The left factor's block, as the body loads it. -/
abbrev allOf : Rect S4096x1024 := Rect.unit (s := S4096x1024) ![0, 0] S4096x1024.size inb_S4096x1024_S4096x1024_0_0

/-- A block seen through a rectangle. -/
def part {s : Shape} {e : EltTy} (X : s.Idx → Elt F e) (r : Rect s) : r.shape.Idx → Elt F e := fun x => X (r.emb x)

variable (a b : Vec F S4096x1024 .bf16)

/-- The two stored halves. -/
def outLeft : Vec F S1024x512 .bf16 := k0_pay1 (part b leftOf) (part a allOf)
def outRight : Vec F S1024x512 .bf16 := k0_pay2 (part b rightOf) (part a allOf)

/-- The half a column lies in, and its place there. -/
def column (y : S1024x1024.Idx) : S1024x512.Idx
  | 0 => y 0
  | 1 => ⟨(y 1).val % 512, Nat.mod_lt _ (by decide)⟩

/-- The block a grid point writes. -/
def outBlock : Vec F S1024x1024 .bf16 := fun y => if (y 1).val < 512 then outLeft a b (column y) else outRight a b (column y)

/-- The two stores, last one first. -/
abbrev stores : List (View.Piece (Elt F) S1024x1024 .bf16) := [⟨rightHalf, outRight a b⟩, ⟨leftHalf, outLeft a b⟩]

/-- The stores cover the block. -/
theorem stores_cover (y : S1024x1024.Idx) : ∃ p ∈ stores a b, y ∈ p.1.set :=
  View.cover_of_tiled (stores a b) S1024x512.size rfl y

/-- Over any contents, the two stores leave `outBlock`. -/
theorem read_stores {κ : Kind} {sp : Space} (v : View sig κ sp S1024x1024 .bf16) (f : v.ty.Contents (Elt F)) :
    v.read (Elt F) (v.writes (Elt F) f (stores a b)) = outBlock a b := by
  funext y
  refine View.read_writes_apply_of_pieces v f (outBlock a b) (stores a b) ?_ y (stores_cover a b y)
  intro p hp x
  rcases List.mem_cons.mp hp with rfl | hp
  · have h0 : ((rightHalf.emb x) 0).val = 0 + 1 * (x 0).val := rfl
    have h1 : ((rightHalf.emb x) 1).val = 512 + 1 * (x 1).val := rfl
    have hx : (x 1).val < 512 := (x 1).isLt
    show outRight a b x = outBlock a b (rightHalf.emb x)
    unfold outBlock
    rw [if_neg (by omega)]
    congr 1
    funext i
    fin_cases i
    · exact Fin.ext (by show (x 0).val = ((rightHalf.emb x) 0).val; omega)
    · exact Fin.ext (by show (x 1).val = ((rightHalf.emb x) 1).val % 512; omega)
  · rcases List.mem_cons.mp hp with rfl | hp
    · have h0 : ((leftHalf.emb x) 0).val = 0 + 1 * (x 0).val := rfl
      have h1 : ((leftHalf.emb x) 1).val = 0 + 1 * (x 1).val := rfl
      have hx : (x 1).val < 512 := (x 1).isLt
      show outLeft a b x = outBlock a b (leftHalf.emb x)
      unfold outBlock
      rw [if_pos (by omega)]
      congr 1
      funext i
      fin_cases i
      · exact Fin.ext (by show (x 0).val = ((leftHalf.emb x) 0).val; omega)
      · exact Fin.ext (by show (x 1).val = ((leftHalf.emb x) 1).val % 512; omega)
    · exact absurd hp List.not_mem_nil

end Cert.Ow

end
-- ==== Proof.OwValue.lean ====
/-
# The block of a grid point of `out_proj_dw` over the reals

Over the extended reals the casts are the identity, so entry `(p, q)` of the block that a grid point writes is the inner
product of column `p` of the left factor's block and column `q` of the right factor's. The two halves of the block are
read one after the other.
-/
module

public import proofs.«01_k».proof.Proof.OwBlock
public import Idealize.ShloMosaic.Lib.Pointwise

@[expose] public section

set_option maxRecDepth 16384

noncomputable section

namespace Cert.Ow

open Cert.OwKernelIdeal Cert.OwKernelIdeal.Gen
open Idealize.ShloMosaic

variable (a b : Vec Ideal S4096x1024 .bf16)

/-- The inner product of a column of one matrix and a column of another. -/
def crossed {n k w : ℕ} (A : (⟨2, ![n, k]⟩ : Shape).Idx → Ideal .bf16) (B : (⟨2, ![n, w]⟩ : Shape).Idx → Ideal .bf16) (p : Fin k) (q : Fin w) : EReal :=
  ∑ t : Fin n, (A (ix2 t p) : EReal) * B (ix2 t q)

/-- Where the halves put an index. -/
theorem at_all (t : Fin 4096) (p : Fin 1024) : allOf.emb (ix2 t p) = ix2 t p := by
  funext i; fin_cases i <;> exact Fin.ext (show 0 + 1 * _ = _ by rw [Nat.zero_add, Nat.one_mul])
theorem at_left (t : Fin 4096) (q : Fin 512) : leftOf.emb (ix2 t q) = ix2 t (⟨q.val, by omega⟩ : Fin 1024) := by
  funext i; fin_cases i <;> exact Fin.ext (show 0 + 1 * _ = _ by rw [Nat.zero_add, Nat.one_mul]; rfl)
theorem at_right (t : Fin 4096) (q : Fin 512) : rightOf.emb (ix2 t q) = ix2 t (⟨512 + q.val, by omega⟩ : Fin 1024) := by
  funext i; fin_cases i
  · exact Fin.ext (show 0 + 1 * _ = _ by rw [Nat.zero_add, Nat.one_mul]; rfl)
  · exact Fin.ext (show 512 + 1 * _ = _ by rw [Nat.one_mul]; rfl)

theorem outLeft_apply (p : Fin 1024) (q : Fin 512) :
    outLeft a b (ix2 p q) = crossed (n := 4096) (k := 1024) (w := 1024) a b p ⟨q.val, by omega⟩ := by
  pointwise [outLeft, k0_pay1, part, crossed]
  simp only [at_all, at_left]

theorem outRight_apply (p : Fin 1024) (q : Fin 512) :
    outRight a b (ix2 p q) = crossed (n := 4096) (k := 1024) (w := 1024) a b p ⟨512 + q.val, by omega⟩ := by
  pointwise [outRight, k0_pay2, part, crossed]
  simp only [at_all, at_right]

/-- The whole block. -/
theorem outBlock_apply (p : Fin 1024) (q : Fin 1024) :
    outBlock a b (ix2 p q) = crossed (n := 4096) (k := 1024) (w := 1024) a b p q := by
  have hc : column (ix2 p q) = ix2 p (⟨q.val % 512, Nat.mod_lt _ (by decide)⟩ : Fin 512) := by
    funext i; fin_cases i <;> rfl
  have hq := q.isLt
  by_cases h : q.val < 512
  · have e : outBlock a b (ix2 p q) = outLeft a b (column (ix2 p q)) := if_pos h
    rw [e, hc, outLeft_apply]
    exact congrArg _ (Fin.ext (by show q.val % 512 = q.val; omega))
  · have e : outBlock a b (ix2 p q) = outRight a b (column (ix2 p q)) := if_neg h
    rw [e, hc, outRight_apply]
    exact congrArg _ (Fin.ext (by show 512 + q.val % 512 = q.val; omega))

end Cert.Ow

end
-- ==== Proof.OwLinks.lean ====
/-
# The exchanges of `out_proj_dw`: who sends what to whom

The eight devices are the cores of a 2 × 2 torus of chips with two cores each; device `c` is core `c % 2` of chip
`c / 2`. Beside its products, `out_proj_dw` exchanges parts of three buffers. There are five links. On links 0, 1 and 2 a
device talks to the same core of the chip across the first torus axis, across the second, and across both; on links 3 and
4 to the other core of its chip. Device `c`

* sends on link `j`, up to 2, the first 704 rows of the layer of its `main_arg2` that belongs to the chip it sends to, into
  the first 704 rows of layer `j` of `main_v1_1` there;
* sends on link 3, of every layer of its `main_arg3`, the half that belongs to the other core, into `main_v1_2` there;
* sends on link 4 the half of its `main_arg4` that belongs to itself, into `main_v1_3` there;
* credits its own send semaphore of the link and the receive semaphore of the link there.

In its last grid point it waits for all ten. These are five links in the sense of the links module. The payloads name the
contents, so one run over any float values gives both frames and the value.
-/
module

public import proofs.«01_k».proof.Proof.Links
public import proofs.«01_k».proof.Proof.Gen.OwKernelIdeal
public import proofs.«01_k».proof.Proof.Gen.OwKernelIdeal.Launch

@[expose] public section

noncomputable section

namespace Cert.Ow

open Cert.OwKernelIdeal Cert.OwKernelIdeal.Gen

open Idealize.ShloMosaic
open TcCoe Rounds
open Idealize.SL Idealize.SL.RA Idealize.SL.BI
open BIBase Laws ProofMode Sem
open Cert.Exchange (Links UU EP ER)

variable {F : FTy → Type} [FloatOps F]

local notation "𝕄" => MT nD τ sig Unit (Elt F) ℕ (UU nD sig τ) ℕ

/-! ## The links -/

/-- Whether a link crosses the first torus axis, whether it crosses the second, and whether it joins the two cores. -/
def across₁ (j : Fin 5) : ℕ := if 3 ≤ j.val ∨ j = 1 then 0 else 1
def across₂ (j : Fin 5) : ℕ := if 3 ≤ j.val ∨ j = 0 then 0 else 1
def acrossCores (j : Fin 5) : ℕ := if 3 ≤ j.val then 1 else 0

/-- The device at the other end of a link. -/
def peer (j : Fin 5) (c : Dev nD) : Dev nD :=
  ⟨4 * ((c.val / 4 + across₁ j) % 2) + 2 * ((c.val / 2 % 2 + across₂ j) % 2) + (c.val % 2 + acrossCores j) % 2, by revert j c; decide⟩

theorem peer_peer (j : Fin 5) (c : Dev nD) : peer j (peer j c) = c := by revert j c; decide

/-- The links that join two chips, and the devices across on them. -/
abbrev linkA (j : Fin 3) : Fin 5 := ⟨j.val, by omega⟩
abbrev chipA (j : Fin 3) (c : Dev nD) : Dev nD := peer (linkA j) c

/-- The devices the kernel computes for its transfers are these. -/
theorem dev1_eq (c : Dev nD) (h : k0_dev1 c < nD) : (⟨k0_dev1 c, h⟩ : Dev nD) = peer 0 c := by
  revert c; decide +kernel
theorem dev2_eq (c : Dev nD) (h : k0_dev2 c < nD) : (⟨k0_dev2 c, h⟩ : Dev nD) = peer 1 c := by
  revert c; decide +kernel
theorem dev3_eq (c : Dev nD) (h : k0_dev3 c < nD) : (⟨k0_dev3 c, h⟩ : Dev nD) = peer 2 c := by
  revert c; decide +kernel
theorem dev4_eq (c : Dev nD) (h : k0_dev4 c < nD) : (⟨k0_dev4 c, h⟩ : Dev nD) = peer 3 c := by
  revert c; decide +kernel
theorem dev5_eq (c : Dev nD) (h : k0_dev5 c < nD) : (⟨k0_dev5 c, h⟩ : Dev nD) = peer 4 c := by
  revert c; decide +kernel
/-- A transfer may go from each device to its peers. -/
theorem routes (j : Fin 5) (c : Dev nD) : τ.routes c.tc (peer j c : Thread nD τ) = true := by revert j c; decide

theorem sem_inb (j : Fin 5) : ∀ a, (![j.val] : Fin 1 → ℕ) a + S1.size a ≤ S5.size a := by revert j; decide

abbrev sendSem (j : Fin 5) : DmaSem sig := ((cc0_scratch0.slice (Rect.unit (s := S5) ![j.val] S1.size (sem_inb j))).squeeze S_ squeezes_S1_S_ : DmaSems sig S_).sem
abbrev recvSem (j : Fin 5) : DmaSem sig := ((cc0_scratch1.slice (Rect.unit (s := S5) ![j.val] S1.size (sem_inb j))).squeeze S_ squeezes_S1_S_ : DmaSems sig S_).sem

theorem landA_inb (j : Fin 3) : ∀ a, (![j.val, 0, 0] : Fin 3 → ℕ) a + S1x704x2560.size a ≤ S3x1024x2560.size a := by revert j; decide

/-- Where the transfer of link `j` lands. -/
abbrev landRA (j : Fin 3) : Rect S3x1024x2560 := Rect.unit (s := S3x1024x2560) ![j.val, 0, 0] S1x704x2560.size (landA_inb j)
abbrev landA (j : Fin 3) : Memref sig .tc .hbm S704x2560 .bf16 :=
  ((Memref.whole main_v1_1).slice (landRA j) (fun _ => rfl)).squeeze S704x2560 squeezes_S1x704x2560_S704x2560

/-- Where the transfers of links 3 and 4 land. -/
abbrev landP : Memref sig .tc .hbm S4x1024x2560 .bf16 := Memref.whole main_v1_2
abbrev landH : Memref sig .tc .hbm S2048x4096 .f32 := Memref.whole main_v1_3

/-- The units of one transfer, on the first three links, on link 3 and on link 4. -/
def amountA : ℕ := (landA 0).view.dmaCredit
def amountP : ℕ := landP.view.dmaCredit
def amountH : ℕ := landH.view.dmaCredit

/-- The units of one transfer of a link. -/
def amount (j : Fin 5) : ℕ := if j.val < 3 then amountA else if j.val < 4 then amountP else amountH

abbrev links : Links nD sig where
  J := 5
  sendSem := sendSem
  recvSem := recvSem
  peer := peer
  peer_peer := peer_peer
  units := amount
  units_pos j := by
    unfold amount
    split
    · exact View.dmaCredit_pos _ (by decide)
    · split
      · exact View.dmaCredit_pos _ (by decide)
      · exact View.dmaCredit_pos _ (by decide)
  apart := by decide

/-! ## What travels -/

theorem offP_inb (c : Dev nD) : ∀ a, k0_off4 c a + S4x1024x2560.size a ≤ S4x2048x2560.size a := by revert c; decide +kernel
theorem offH_inb (c : Dev nD) : ∀ a, k0_off5 c a + S2048x4096.size a ≤ S4096x4096.size a := by revert c; decide +kernel

abbrev sentPR (c : Dev nD) : Rect S4x2048x2560 := Rect.unit (s := S4x2048x2560) (k0_off4 c) S4x1024x2560.size (offP_inb c)
abbrev sentP (c : Dev nD) : Memref sig .tc .hbm S4x1024x2560 .bf16 := (Memref.whole main_arg3).slice (sentPR c) (fun _ => rfl)
abbrev sentHR (c : Dev nD) : Rect S4096x4096 := Rect.unit (s := S4096x4096) (k0_off5 c) S2048x4096.size (offH_inb c)
abbrev sentH (c : Dev nD) : Memref sig .tc .hbm S2048x4096 .f32 := (Memref.whole main_arg4).slice (sentHR c) (fun _ => rfl)

/-- Where what device `c` sends on link `j` lies in its `main_arg2`. -/
def offA (j : Fin 3) (c : Dev nD) : Fin 3 → ℕ :=
  match j with
  | 0 => k0_off1 c
  | 1 => k0_off2 c
  | 2 => k0_off3 c

/-- It is in the layer of the chip it is sent to. -/
theorem offA_eq (j : Fin 3) (c : Dev nD) : offA j c = ![(chipA j c).val / 2, 0, 0] := by revert j c; decide +kernel

theorem offA_inb (j : Fin 3) (c : Dev nD) : ∀ a, offA j c a + S1x704x2560.size a ≤ S4x1024x2560.size a := by revert j c; decide +kernel

abbrev sentRA (j : Fin 3) (c : Dev nD) : Rect S4x1024x2560 := Rect.unit (s := S4x1024x2560) (offA j c) S1x704x2560.size (offA_inb j c)
abbrev sentA (j : Fin 3) (c : Dev nD) : Memref sig .tc .hbm S704x2560 .bf16 :=
  ((Memref.whole main_arg2).slice (sentRA j c) (fun _ => rfl)).squeeze S704x2560 squeezes_S1x704x2560_S704x2560

variable (m : (ℓ : Loc nD τ sig) → Buf (Elt F) ℓ)

/-- What device `c` sends on links 3 and 4, read off its arrays at launch. -/
def outgoingP (c : Dev nD) : Vec F S4x1024x2560 .bf16 := (sentP c).view.read (Elt F) (m (c.tc.loc main_arg3))
def outgoingH (c : Dev nD) : Vec F S2048x4096 .f32 := (sentH c).view.read (Elt F) (m (c.tc.loc main_arg4))

/-- What lands on device `c` on them: what the other core sends. -/
def landedP (c : Dev nD) : Buf (Elt F) (landP.view.loc (c.tc : Thread nD τ)) := outgoingP m (peer 3 c)
def landedH (c : Dev nD) : Buf (Elt F) (landH.view.loc (c.tc : Thread nD τ)) := outgoingH m (peer 4 c)

/-- Where in the buffer of a peer of device `c` an entry of its landing buffer comes from. -/
def origin (c : Dev nD) (i : S3x1024x2560.Idx) : S4x1024x2560.Idx
  | 0 => ⟨c.val / 2, by have h : c.val < 8 := c.isLt; show c.val / 2 < 4; omega⟩
  | 1 => i 1
  | 2 => i 2

/-- `main_v1_1` of device `c` when the three transfers have landed: the rows sent, and below them what it held. -/
def filledA (c : Dev nD) : Vec F S3x1024x2560 .bf16 := fun i =>
  if (i 1).val < 704 then m ((chipA (i 0) c : Thread nD τ).loc main_arg2) (origin c i) else m (c.tc.loc main_v1_1) i

/-- The elements the transfers read, at their launch contents. -/
def lentA (c : Dev nD) (j : Fin 3) : sProp 𝕄 :=
  iprop(c.tc.loc main_arg2 ↦[(sentA j c).view.set]{fullShare} m (c.tc.loc main_arg2))
def lentP (c : Dev nD) : sProp 𝕄 :=
  iprop((sentP c).view.loc c.tc ↦[(sentP c).view.set]{fullShare} m (c.tc.loc main_arg3))
def lentH (c : Dev nD) : sProp 𝕄 :=
  iprop((sentH c).view.loc c.tc ↦[(sentH c).view.set]{fullShare} m (c.tc.loc main_arg4))

/-- The elements they write on device `c`, at contents `f`. -/
def landingA (c : Dev nD) (j : Fin 3) (f : Buf (Elt F) ((c.tc : Thread nD τ).loc main_v1_1)) : sProp 𝕄 :=
  iprop(c.tc.loc main_v1_1 ↦[(landA j).view.set]{fullShare} f)
def landingP (c : Dev nD) (f : Buf (Elt F) (landP.view.loc (c.tc : Thread nD τ))) : sProp 𝕄 :=
  iprop(landP.view.loc c.tc ↦[landP.view.set]{fullShare} f)

def landingH (c : Dev nD) (f : Buf (Elt F) (landH.view.loc (c.tc : Thread nD τ))) : sProp 𝕄 :=
  iprop(landH.view.loc c.tc ↦[landH.view.set]{fullShare} f)

/-- What a device sends on a link, the place there for what it is sent, and that place with what was sent. -/
def lent (c : Dev nD) : Fin 5 → sProp 𝕄
  | 0 => lentA m c 0
  | 1 => lentA m c 1
  | 2 => lentA m c 2
  | 3 => lentP m c
  | 4 => lentH m c
def room (c : Dev nD) : Fin 5 → sProp 𝕄
  | 0 => iprop(∃ f, landingA c 0 f)
  | 1 => iprop(∃ f, landingA c 1 f)
  | 2 => iprop(∃ f, landingA c 2 f)
  | 3 => iprop(∃ f, landingP c f)
  | 4 => iprop(∃ f, landingH c f)
def came (c : Dev nD) : Fin 5 → sProp 𝕄
  | 0 => landingA c 0 (filledA m c)
  | 1 => landingA c 1 (filledA m c)
  | 2 => landingA c 2 (filledA m c)
  | 3 => landingP c (landedP m c)
  | 4 => landingH c (landedH m c)

/-- What the send cells return and what the receive cells deliver. -/
def pay : links.End → Dev nD → sProp 𝕄
  | (false, j), c => lent m c j
  | (true, j), c => came m c j

instance : Cert.Exchange.Keepable links (pay m) where
  keep k c := by
    have hA (j : Fin 3) : BI.Storable upEmb (lentA m c j) := by unfold lentA; infer_instance
    have hP : BI.Storable upEmb (lentP m c) := by unfold lentP; infer_instance
    have hH : BI.Storable upEmb (lentH m c) := by unfold lentH; infer_instance
    have gA (j : Fin 3) : BI.Storable upEmb (landingA c j (filledA m c)) := by unfold landingA; infer_instance
    have gP : BI.Storable upEmb (landingP c (landedP m c)) := by unfold landingP; infer_instance
    have gH : BI.Storable upEmb (landingH c (landedH m c)) := by unfold landingH; infer_instance
    rcases k with ⟨_ | _, j⟩
    · show BI.Storable upEmb (lent m c j)
      change Fin 5 at j
      fin_cases j
      exacts [hA 0, hA 1, hA 2, hP, hH]
    · show BI.Storable upEmb (came m c j)
      change Fin 5 at j
      fin_cases j
      exacts [gA 0, gA 1, gA 2, gP, gH]

/-- What the transfers of links 3 and 4 leave where they land does not depend on what it held. -/
theorem write_landingP (c : Dev nD) (f : Buf (Elt F) (landP.view.loc (c.tc : Thread nD τ))) (w : Vec F S4x1024x2560 .bf16) :
    landP.view.write (Elt F) f w Finset.univ = w :=
  View.write_whole_univ _ _ _
theorem write_landingH (c : Dev nD) (f : Buf (Elt F) (landH.view.loc (c.tc : Thread nD τ))) (w : Vec F S2048x4096 .f32) :
    landH.view.write (Elt F) f w Finset.univ = w :=
  View.write_whole_univ _ _ _

/-- What the transfer of link `j` from device `c` leaves where it lands is what `filledA` says. -/
theorem deliveredA (j : Fin 3) (c : Dev nD) (fd : Buf (Elt F) ((landA j).view.loc (chipA j c : Thread nD τ))) (i) (hi : i ∈ (landA j).view.set) :
    (landA j).view.write (Elt F) fd ((sentA j c).view.read (Elt F) (m (c.tc.loc main_arg2))) Finset.univ i = filledA m (chipA j c) i := by
  obtain ⟨x, -, rfl⟩ := Finset.mem_map.mp hi
  refine (View.write_emb_of_mem (v := (landA j).view) fd _ (Finset.mem_univ x)).trans ?_
  show m (c.tc.loc main_arg2) ((sentA j c).view.emb x) = _
  generalize hy : Shape.reshapeEquiv (s := S1x704x2560) (s' := S704x2560) (by decide) x = y
  have hs : (sentA j c).view.emb x = (sentRA j c).emb y := by rw [← hy]; rfl
  have hl : (landA j).view.emb x = (landRA j).emb y := by rw [← hy]; rfl
  rw [hs]
  refine Eq.trans ?_ (congrArg (filledA m (chipA j c)) hl).symm
  have y0 : (y 0).val < 1 := (y 0).isLt
  have y1 : (y 1).val < 704 := (y 1).isLt
  have l0 : ((landRA j).emb y) 0 = j := Fin.ext (show j.val + 1 * (y 0).val = j.val by omega)
  have l1 : (((landRA j).emb y) 1).val = (y 1).val := show 0 + 1 * (y 1).val = (y 1).val by omega
  unfold filledA
  rw [if_pos (by omega)]
  have hp : chipA (((landRA j).emb y) 0) (chipA j c) = c := by rw [l0]; exact peer_peer (linkA j) c
  have e : (sentRA j c).emb y = origin (chipA j c) ((landRA j).emb y) := by
    funext a
    fin_cases a <;> refine Fin.ext ?_
    · show offA j c 0 + 1 * (y 0).val = (chipA j c).val / 2
      rw [offA_eq]; show (chipA j c).val / 2 + 1 * (y 0).val = _; omega
    · show offA j c 1 + 1 * (y 1).val = 0 + 1 * (y 1).val
      rw [offA_eq]; rfl
    · show offA j c 2 + 1 * (y 2).val = 0 + 1 * (y 2).val
      rw [offA_eq]; rfl
  rw [e, hp]

/-! ## The buffers in pieces -/

theorem sent_setA (j : Fin 3) (c : Dev nD) : (sentA j c).view.set = (sentRA j c).set :=
  (View.set_reshape _ _).trans (View.set_slice_whole _ _)
theorem land_setA (j : Fin 3) : (landA j).view.set = (landRA j).set :=
  (View.set_reshape _ _).trans (View.set_slice_whole _ _)

theorem chip_apartA (c : Dev nD) (j j' : Fin 3) (h : j ≠ j') : (chipA j c).val / 2 ≠ (chipA j' c).val / 2 := by
  revert c j j'; decide +kernel

theorem sent_apartA (c : Dev nD) (j j' : Fin 3) (h : j ≠ j') : Disjoint (sentA j c).view.set (sentA j' c).view.set := by
  rw [sent_setA, sent_setA]
  refine Rect.unit_disjoint 0 ?_
  have := chip_apartA c j j' h
  rw [offA_eq, offA_eq]
  show (chipA j c).val / 2 + 1 ≤ (chipA j' c).val / 2 ∨ (chipA j' c).val / 2 + 1 ≤ (chipA j c).val / 2
  omega

theorem land_apartA (j j' : Fin 3) (h : j ≠ j') : Disjoint (landA j).view.set (landA j').view.set := by
  rw [land_setA, land_setA]
  refine Rect.unit_disjoint 0 ?_
  have : j.val ≠ j'.val := fun e => h (Fin.ext e)
  show j.val + 1 ≤ j'.val ∨ j'.val + 1 ≤ j.val
  omega

/-- The first 704 rows of every layer are landing places. -/
theorem land_memA (i : S3x1024x2560.Idx) (h : (i 1).val < 704) : i ∈ (landA (i 0)).view.set := by
  have hr : i ∈ (landRA (i 0)).set := by
    refine Rect.mem_set_unit.mpr fun a => ?_
    fin_cases a
    · exact ⟨Nat.le_refl _, Nat.lt_succ_self _⟩
    · exact ⟨Nat.zero_le _, by show (i 1).val < 0 + 704; omega⟩
    · exact ⟨Nat.zero_le _, by have h : (i 2).val < 2560 := (i 2).isLt; show (i 2).val < 0 + 2560; omega⟩
  exact (land_setA (i 0)).symm ▸ hr

/-- The elements of `main_arg2` that no transfer reads, and those of `main_v1_1` that none writes. -/
def keptA (c : Dev nD) : sProp 𝕄 :=
  iprop(c.tc.loc main_arg2 ↦[Finset.univ \ (Finset.univ : Finset (Fin 3)).biUnion fun j => (sentA j c).view.set]{fullShare}
    m (c.tc.loc main_arg2))
def belowA (c : Dev nD) (f : Buf (Elt F) ((c.tc : Thread nD τ).loc main_v1_1)) : sProp 𝕄 :=
  iprop(c.tc.loc main_v1_1 ↦[Finset.univ \ (Finset.univ : Finset (Fin 3)).biUnion fun j => (landA j).view.set]{fullShare} f)

omit [FloatOps F] in
theorem arg2_split (c : Dev nD) :
    (c.tc.loc main_arg2 ↦{fullShare} m (c.tc.loc main_arg2) : sProp 𝕄)
      ⊣⊢ iprop((bigSep Finset.univ fun j => lentA m c j) ∗ keptA m c) := by
  have h := pointsTo_biUnion (Ix := Unit) (Name := ℕ) (U := UU nD sig τ) (Lvl := ℕ) (q := fullShare) (f := m (c.tc.loc main_arg2))
    Finset.univ (fun j => (sentA j c).view.set) fun j _ j' _ hj => sent_apartA c j j' hj
  unfold lentA keptA
  rw [← h]
  exact pointsTo_split_subset (Finset.subset_univ _)

omit [FloatOps F] in
theorem landingA_split (c : Dev nD) (f : Buf (Elt F) (c.tc.loc main_v1_1)) :
    (c.tc.loc main_v1_1 ↦{fullShare} f : sProp 𝕄) ⊣⊢ iprop((bigSep Finset.univ fun j => landingA c j f) ∗ belowA c f) := by
  have h := pointsTo_biUnion (Ix := Unit) (Name := ℕ) (U := UU nD sig τ) (Lvl := ℕ) (q := fullShare) (f := f)
    Finset.univ (fun j => (landA j).view.set) fun j _ j' _ hj => land_apartA j j' hj
  unfold landingA belowA
  rw [← h]
  exact pointsTo_split_subset (Finset.subset_univ _)

omit [FloatOps F] in
/-- Outside the three landing places `filledA` is what was there. -/
theorem belowA_eq (c : Dev nD) : (belowA c (m (c.tc.loc main_v1_1)) : sProp 𝕄) = belowA c (filledA m c) := by
  unfold belowA
  refine pointsTo_congr fun i hi => ?_
  have hn : ¬ (i 1).val < 704 := fun hlt => (Finset.mem_sdiff.mp hi).2 (Finset.mem_biUnion.mpr ⟨i 0, Finset.mem_univ _, land_memA i hlt⟩)
  exact (if_neg hn).symm

/-- The elements of `main_arg3` and of `main_arg4` that no transfer reads. -/
def keptP (c : Dev nD) : sProp 𝕄 :=
  iprop(c.tc.loc main_arg3 ↦[Finset.univ \ (sentP c).view.set]{fullShare} m (c.tc.loc main_arg3))
def keptH (c : Dev nD) : sProp 𝕄 :=
  iprop(c.tc.loc main_arg4 ↦[Finset.univ \ (sentH c).view.set]{fullShare} m (c.tc.loc main_arg4))

omit [FloatOps F] in
theorem arg3_split (c : Dev nD) :
    (c.tc.loc main_arg3 ↦{fullShare} m (c.tc.loc main_arg3) : sProp 𝕄) ⊣⊢ iprop(lentP m c ∗ keptP m c) :=
  pointsTo_split_subset (Finset.subset_univ _)

omit [FloatOps F] in
theorem arg4_split (c : Dev nD) :
    (c.tc.loc main_arg4 ↦{fullShare} m (c.tc.loc main_arg4) : sProp 𝕄) ⊣⊢ iprop(lentH m c ∗ keptH m c) :=
  pointsTo_split_subset (Finset.subset_univ _)

omit [FloatOps F] in
theorem landingP_eq (c : Dev nD) (f : Buf (Elt F) (c.tc.loc main_v1_2)) :
    landingP c f = (c.tc.loc main_v1_2 ↦{fullShare} f : sProp 𝕄) := by
  unfold landingP; rw [View.set_whole]

omit [FloatOps F] in
theorem landingH_eq (c : Dev nD) (f : Buf (Elt F) (c.tc.loc main_v1_3)) :
    landingH c f = (c.tc.loc main_v1_3 ↦{fullShare} f : sProp 𝕄) := by
  unfold landingH; rw [View.set_whole]

/-- What holds of the three chips across, one by one, and of the five links, one by one. -/
theorem three (Φ : Fin 3 → sProp 𝕄) : bigSep Finset.univ Φ = iprop(Φ 0 ∗ Φ 1 ∗ Φ 2) :=
  bigSep_univ_eq_bigSepL [0, 1, 2] (by decide) (by decide) Φ
theorem five (Φ : Fin 5 → sProp 𝕄) : bigSep Finset.univ Φ = iprop(Φ 0 ∗ Φ 1 ∗ Φ 2 ∗ Φ 3 ∗ Φ 4) :=
  bigSep_univ_eq_bigSepL [0, 1, 2, 3, 4] (by decide) (by decide) Φ

end Cert.Ow

end
-- ==== Proof.OwParts.lean ====
/-
# The three parts of a grid point of `out_proj_dw`

The body at a grid point is: start the five transfers (at the first point), compute the block, wait for the transfers
(at the last point).
-/
module

public import proofs.«01_k».proof.Proof.Gen.OwKernelIdeal.Skeleton
public import proofs.«01_k».proof.Proof.Gen.OwKernelIdeal.Points
public import proofs.«01_k».proof.Proof.OwLinks

@[expose] public section

noncomputable section

namespace Cert.Ow

open Cert.OwKernelIdeal Cert.OwKernelIdeal.Gen
open Idealize.ShloMosaic
open TcCoe
open Idealize.SL.Sem

variable {F : FTy → Type} [FloatOps F]

/-- Programs of this kernel. -/
abbrev Code (F : FTy → Type) [FloatOps F] : Type → Type 1 := Prog (TpuEff nD τ sig (Elt F) Λ₀ .tc)

/-- The first rows of a layer of `main_arg2`, as the body names them. -/
abbrev rowsA (o : Fin 3 → ℕ) (h : ∀ a, o a + S1x704x2560.size a ≤ S4x1024x2560.size a) : Memref sig .tc .hbm S704x2560 .bf16 :=
  ((Memref.whole main_arg2).slice (Rect.unit (s := S4x1024x2560) o S1x704x2560.size h) (fun _ => rfl)).squeeze S704x2560 squeezes_S1x704x2560_S704x2560

theorem rowsA_exact {o : Fin 3 → ℕ} {h : ∀ a, o a + S1x704x2560.size a ≤ S4x1024x2560.size a}
    (hw : (Rect.unit (s := S4x1024x2560) o S1x704x2560.size h).WholeWords (EltTy.packing .bf16)) : (rowsA o h).view.WordExact :=
  ((Memref.isWhole_whole main_arg2).wordExact_slice rfl _ hw).reshape _ _

theorem landA_words : ∀ j : Fin 3, (landRA j).WholeWords (EltTy.packing .bf16)
  | 0 => wordsbf16_S3x1024x2560_S1x704x2560_0_0_0
  | 1 => wordsbf16_S3x1024x2560_S1x704x2560_1_0_0
  | 2 => wordsbf16_S3x1024x2560_S1x704x2560_2_0_0

theorem landA_exact (j : Fin 3) : (landA j).view.WordExact := ((Memref.isWhole_whole main_v1_1).wordExact_slice rfl _ (landA_words j)).reshape _ _

/-- Half of every layer of `main_arg3`, as the body names it. -/
abbrev halfP (o : Fin 3 → ℕ) (h : ∀ a, o a + S4x1024x2560.size a ≤ S4x2048x2560.size a) : Memref sig .tc .hbm S4x1024x2560 .bf16 :=
  (Memref.whole main_arg3).slice (Rect.unit (s := S4x2048x2560) o S4x1024x2560.size h) (fun _ => rfl)

theorem halfP_exact {o : Fin 3 → ℕ} {h : ∀ a, o a + S4x1024x2560.size a ≤ S4x2048x2560.size a}
    (hw : (Rect.unit (s := S4x2048x2560) o S4x1024x2560.size h).WholeWords (EltTy.packing .bf16)) : (halfP o h).view.WordExact :=
  (Memref.isWhole_whole main_arg3).wordExact_slice rfl _ hw

theorem landP_exact : landP.view.WordExact := (Memref.isWhole_whole main_v1_2).wordExact

/-- Half of `main_arg4`, as the body names it. -/
abbrev halfH (o : Fin 2 → ℕ) (h : ∀ a, o a + S2048x4096.size a ≤ S4096x4096.size a) : Memref sig .tc .hbm S2048x4096 .f32 :=
  (Memref.whole main_arg4).slice (Rect.unit (s := S4096x4096) o S2048x4096.size h) (fun _ => rfl)

theorem landH_exact : landH.view.WordExact := (Memref.isWhole_whole main_v1_3).wordExact

/-- The first grid point sends. -/
def sendPart (i : grid0.Coords) : Code F PUnit :=
  if h : k0_cond1 i = 1#1 then
    .op .deviceId fun d =>
    .op (.enqueueDma (rowsA (k0_off1 d) (k0_off1_inb i d h)) (.remote (Dev.tc (⟨k0_dev1 d, k0_dev1_lt i d h⟩ : Dev nD)) (landA 0) (.dma (sendSem 0)))
      (.dma (recvSem 0)) (rowsA_exact (k0_off1_wordsbf16 i d h)) (landA_exact 0) ⟨⟨rfl, Or.inl rfl⟩, trivial⟩) fun _ =>
    .op (.enqueueDma (rowsA (k0_off2 d) (k0_off2_inb i d h)) (.remote (Dev.tc (⟨k0_dev2 d, k0_dev2_lt i d h⟩ : Dev nD)) (landA 1) (.dma (sendSem 1)))
      (.dma (recvSem 1)) (rowsA_exact (k0_off2_wordsbf16 i d h)) (landA_exact 1) ⟨⟨rfl, Or.inl rfl⟩, trivial⟩) fun _ =>
    .op (.enqueueDma (rowsA (k0_off3 d) (k0_off3_inb i d h)) (.remote (Dev.tc (⟨k0_dev3 d, k0_dev3_lt i d h⟩ : Dev nD)) (landA 2) (.dma (sendSem 2)))
      (.dma (recvSem 2)) (rowsA_exact (k0_off3_wordsbf16 i d h)) (landA_exact 2) ⟨⟨rfl, Or.inl rfl⟩, trivial⟩) fun _ =>
    .op (.enqueueDma (halfP (k0_off4 d) (k0_off4_inb i d h)) (.remote (Dev.tc (⟨k0_dev4 d, k0_dev4_lt i d h⟩ : Dev nD)) landP (.dma (sendSem 3)))
      (.dma (recvSem 3)) (halfP_exact (k0_off4_wordsbf16 i d h)) landP_exact ⟨⟨rfl, Or.inl rfl⟩, trivial⟩) fun _ =>
    .op (.enqueueDma (halfH (k0_off5 d) (k0_off5_inb i d h)) (.remote (Dev.tc (⟨k0_dev5 d, k0_dev5_lt i d h⟩ : Dev nD)) landH (.dma (sendSem 4)))
      (.dma (recvSem 4)) (View.wordExact_bits rfl) landH_exact ⟨⟨rfl, Or.inl rfl⟩, trivial⟩) fun _ => .ret ⟨⟩
  else .ret ⟨⟩

/-- Every grid point computes. -/
def workPart (A : Memref sig .tc .vmem S4096x1024 .bf16) (B : Memref sig .tc .vmem S4096x1024 .bf16)
    (O : Memref sig .tc .vmem S1024x1024 .bf16) (hO : O.IsWhole) : Code F PUnit :=
  .op (.load B (Rect.unit (s := S4096x1024) ![0, 0] S4096x512.size inb_S4096x1024_S4096x512_0_0).toLoadRect (View.loadsAt_vmem h_S4096x512)) fun v8 =>
  .op (.load A (Rect.unit (s := S4096x1024) ![0, 0] S4096x1024.size inb_S4096x1024_S4096x1024_0_0).toLoadRect (View.loadsAt_vmem h_S4096x1024)) fun v10 =>
  .op (.load O (Rect.unit (s := S1024x1024) ![0, 0] S1024x512.size inb_S1024x1024_S1024x512_0_0).toLoadRect (View.loadsAt_vmem h_S1024x512)) fun _ =>
  .op (.store O (Rect.unit (s := S1024x1024) ![0, 0] S1024x512.size inb_S1024x1024_S1024x512_0_0) (k0_pay1 v8 v10) Finset.univ
    (View.stores_vmem h_S1024x512 (hO.storeExact_slice rfl _ packedbf16_S1024x1024_S1024x512_0_0) (fun _ => rfl)) (.inl rfl)) fun _ =>
  .op (.load B (Rect.unit (s := S4096x1024) ![0, 512] S4096x512.size inb_S4096x1024_S4096x512_0_512).toLoadRect (View.loadsAt_vmem h_S4096x512)) fun v15 =>
  .op (.load A (Rect.unit (s := S4096x1024) ![0, 0] S4096x1024.size inb_S4096x1024_S4096x1024_0_0).toLoadRect (View.loadsAt_vmem h_S4096x1024)) fun v17 =>
  .op (.load O (Rect.unit (s := S1024x1024) ![0, 512] S1024x512.size inb_S1024x1024_S1024x512_0_512).toLoadRect (View.loadsAt_vmem h_S1024x512)) fun _ =>
  .op (.store O (Rect.unit (s := S1024x1024) ![0, 512] S1024x512.size inb_S1024x1024_S1024x512_0_512) (k0_pay2 v15 v17) Finset.univ
    (View.stores_vmem h_S1024x512 (hO.storeExact_slice rfl _ packedbf16_S1024x1024_S1024x512_0_512) (fun _ => rfl)) (.inl rfl)) fun _ => .ret ⟨⟩

/-- The last grid point waits, for what its peers sent and for what it sent itself: on the first three links, then on link
    3, then on link 4. -/
def waitPart (i : grid0.Coords) : Code F PUnit :=
  if h : k0_cond2 i = 1#1 then
    .op .deviceId fun d =>
    .op (.waitDma2 (recvSem 0) (rowsA (k0_off6 d) (k0_off6_inb i d h)) (landA 0) (rowsA_exact (k0_off6_wordsbf16 i d h)) (landA_exact 0)) fun _ =>
    .op (.waitDma2 (recvSem 1) (rowsA (k0_off7 d) (k0_off7_inb i d h)) (landA 1) (rowsA_exact (k0_off7_wordsbf16 i d h)) (landA_exact 1)) fun _ =>
    .op (.waitDma2 (recvSem 2) (rowsA (k0_off8 d) (k0_off8_inb i d h)) (landA 2) (rowsA_exact (k0_off8_wordsbf16 i d h)) (landA_exact 2)) fun _ =>
    .op (.waitDma2 (sendSem 0) (landA 0) (rowsA (k0_off6 d) (k0_off6_inb i d h)) (landA_exact 0) (rowsA_exact (k0_off6_wordsbf16 i d h))) fun _ =>
    .op (.waitDma2 (sendSem 1) (landA 1) (rowsA (k0_off7 d) (k0_off7_inb i d h)) (landA_exact 1) (rowsA_exact (k0_off7_wordsbf16 i d h))) fun _ =>
    .op (.waitDma2 (sendSem 2) (landA 2) (rowsA (k0_off8 d) (k0_off8_inb i d h)) (landA_exact 2) (rowsA_exact (k0_off8_wordsbf16 i d h))) fun _ =>
    .op (.waitDma2 (recvSem 3) (halfP (k0_off9 d) (k0_off9_inb i d h)) landP (halfP_exact (k0_off9_wordsbf16 i d h)) landP_exact) fun _ =>
    .op (.waitDma2 (sendSem 3) landP (halfP (k0_off9 d) (k0_off9_inb i d h)) landP_exact (halfP_exact (k0_off9_wordsbf16 i d h))) fun _ =>
    .op (.waitDma2 (recvSem 4) (halfH (k0_off10 d) (k0_off10_inb i d h)) landH (View.wordExact_bits rfl) landH_exact) fun _ =>
    .op (.waitDma2 (sendSem 4) landH (halfH (k0_off10 d) (k0_off10_inb i d h)) landH_exact (View.wordExact_bits rfl)) fun _ => .ret ⟨⟩
  else .ret ⟨⟩

/-- The body is its three parts, one after the other. -/
theorem body_eq (t : Fin cfg0.N) :
    bodyAt0 (F := F) t = sendPart (grid0.coords t) >>= fun _ =>
      workPart (st0_0 t) (st0_1 t) (st0_2 t) (hstage0_2 ((cfg0.slots t 2).cast nbuf0_2)) >>= fun _ => waitPart (grid0.coords t) := by
  unfold bodyAt0 sendPart
  rw [cc0_out_proj_dw_eq_skeleton]
  unfold cc0_out_proj_dw_skel
  rw [k0_part1_eq_skeleton, k0_part2_eq_skeleton, k0_part3_eq_skeleton, k0_part4_eq_skeleton, k0_part5_eq_skeleton, k0_part6_eq_skeleton, k0_part7_eq_skeleton]
  unfold k0_part1_skel k0_part2_skel k0_part3_skel k0_part4_skel k0_part5_skel k0_part6_skel k0_part7_skel waitPart
  by_cases h : k0_cond1 (grid0.coords t) = 1#1 <;> by_cases h' : k0_cond2 (grid0.coords t) = 1#1
  · rw [dif_pos h, dif_pos h]; simp only [dif_pos h']; rfl
  · rw [dif_pos h, dif_pos h]; simp only [dif_neg h']; rfl
  · rw [dif_neg h, dif_neg h]; simp only [dif_pos h']; rfl
  · rw [dif_neg h, dif_neg h]; simp only [dif_neg h']; rfl

/-- The first point, and only it, sends; the last point, and only it, waits. -/
theorem sends_iff (t : Fin cfg0.N) : k0_cond1 (grid0.coords t) = 1#1 ↔ t.val = 0 :=
  (by decide +kernel : ∀ t : Fin grid0.N, k0_cond1 (grid0.coords t) = 1#1 ↔ t.val = 0) t
theorem waits_iff (t : Fin cfg0.N) : k0_cond2 (grid0.coords t) = 1#1 ↔ t.val = 15 :=
  (by decide +kernel : ∀ t : Fin grid0.N, k0_cond2 (grid0.coords t) = 1#1 ↔ t.val = 15) t

end Cert.Ow

end
-- ==== Proof.OwSteps.lean ====
/-
# The three parts of `out_proj_dw`, each by itself

What each part of a grid point does to the memory and to the protocol: the first sends along the five links, every one
computes its block, the last waits for the ten cells.
-/
module

public import proofs.«01_k».proof.Proof.OwBlock
public import proofs.«01_k».proof.Proof.OwParts
public import proofs.«01_k».proof.Proof.OwLinks

@[expose] public section

noncomputable section

namespace Cert.Ow

open Cert.OwKernelIdeal Cert.OwKernelIdeal.Gen
open Idealize.ShloMosaic
open TcCoe Rounds
open Idealize.SL Idealize.SL.RA Idealize.SL.BI
open BIBase Laws ProofMode Sem
open Cert.Exchange (Links UU EP ER records ticket seats hand due owns_iff wait_link)

variable {F : FTy → Type} [FloatOps F]

local notation "𝕄" => MT nD τ sig Unit (Elt F) ℕ (UU nD sig τ) ℕ

abbrev 𝒱₀ : Variants := Variants.none

/-! ## The block -/

/-- The computing part reads its two blocks and leaves `outBlock` of them in the third, whatever that held. -/
theorem work_step (c : Dev nD) (A B : Memref sig .tc .vmem S4096x1024 .bf16) (O : Memref sig .tc .vmem S1024x1024 .bf16) (hO : O.IsWhole)
    (a b : Vec F S4096x1024 .bf16) (o : Vec F S1024x1024 .bf16) :
    iprop(owns (Ix := Unit) (Name := ℕ) (U := UU nD sig τ) (Lvl := ℕ) c.tc A fullShare a
        ∗ owns c.tc B fullShare b ∗ owns c.tc O fullShare o)
      ⊢ wp frame (wpE (defs₀ (F := F)) 𝒱₀ c none) Set.univ (workPart A B O hO)
          (fun _ => iprop(owns c.tc A fullShare a ∗ owns c.tc B fullShare b
            ∗ owns c.tc O fullShare (outBlock a b) : sProp 𝕄)) := by
  simp only [owns_iff]
  unfold workPart
  iintro ⟨⟨%fa, %ha, HA⟩, ⟨%fb, %hb, HB⟩, ⟨%fo, %ho, HO⟩⟩
  subst ha hb
  iapply (wp_load 𝒱₀ c.tc none Set.univ (m := B) (View.setOn_subset_set _ _)) $$ HB; iintro HB
  iapply (wp_load 𝒱₀ c.tc none Set.univ (m := A) (View.setOn_subset_set _ _)) $$ HA; iintro HA
  iapply (wp_load 𝒱₀ c.tc none Set.univ (m := O) (View.setOn_subset_set _ _)) $$ HO; iintro HO
  iapply (wp_store_writes₀ 𝒱₀ c.tc none Set.univ (m := O) (r := leftHalf) (View.set_slice_subset _ _)) $$ HO; iintro HO
  iapply (wp_load 𝒱₀ c.tc none Set.univ (m := B) (View.setOn_subset_set _ _)) $$ HB; iintro HB
  iapply (wp_load 𝒱₀ c.tc none Set.univ (m := A) (View.setOn_subset_set _ _)) $$ HA; iintro HA
  iapply (wp_load 𝒱₀ c.tc none Set.univ (m := O) (View.setOn_subset_set _ _)) $$ HO; iintro HO
  iapply (wp_store_writes 𝒱₀ c.tc none Set.univ (m := O) (r := rightHalf) (View.set_slice_subset _ _)) $$ HO; iintro HO
  rw [wp_ret]; imodintro
  isplitl [HA]
  · iexists fa; isplitr; · (ipureintro; rfl)
    iexact HA
  isplitl [HB]
  · iexists fb; isplitr; · (ipureintro; rfl)
    iexact HB
  iexists _; isplitr
  · ipureintro
    exact read_stores (A.view.read (Elt F) fa) (B.view.read (Elt F) fb) O.view fo
  iexact HO

/-! ## The transfers -/

variable (m : (ℓ : Loc nD τ sig) → Buf (Elt F) ℓ)

/-- The credit a device holds for a send cell and for a receive cell while a transfer is on the way. -/
abbrev sendCred (c : Dev nD) (j : Fin 5) : sProp 𝕄 := cred (tallyAt (links.cell c (false, j)) () (links.units j))
abbrev recvCred (c : Dev nD) (j : Fin 5) : sProp 𝕄 := cred (tallyAt (links.cell c (true, j)) () (links.units j))

theorem pay_send (c : Dev nD) (j : Fin 5) : pay m (false, j) c = lent m c j := rfl
theorem pay_recv (c : Dev nD) (j : Fin 5) : pay m (true, j) c = came m c j := rfl
theorem lent_A (c : Dev nD) (j : Fin 3) : lent m c (linkA j) = lentA m c j := by fin_cases j <;> rfl
theorem came_A (c : Dev nD) (j : Fin 3) : came m c (linkA j) = landingA c j (filledA m c) := by fin_cases j <;> rfl
theorem room_A (c : Dev nD) (j : Fin 3) : (room c (linkA j) : sProp 𝕄) = iprop(∃ f, landingA c j f) := by fin_cases j <;> rfl

/-- The transfers of the first three links count the same units, at either end: the memrefs have one shape. So do the two
    ends of link 3, and those of link 4. -/
theorem amount_A (j : Fin 3) : amount (linkA j) = amountA := if_pos j.isLt
theorem amount_P : amount 3 = amountP := rfl
theorem amount_H : amount 4 = amountH := rfl

theorem credit_rowsA (j : Fin 3) {o : Fin 3 → ℕ} (h : ∀ a, o a + S1x704x2560.size a ≤ S4x1024x2560.size a) : (rowsA o h).view.dmaCredit = amount (linkA j) := by
  rw [amount_A]
  show sig.dmaCredit .tc _ _ S704x2560 .bf16 = amountA
  unfold amountA
  exact Eq.refl (RefSig.tileCredit S704x2560 .bf16)

theorem credit_landA (j : Fin 3) : (landA j).view.dmaCredit = amount (linkA j) := by
  rw [amount_A]
  show sig.dmaCredit .tc _ _ S704x2560 .bf16 = amountA
  unfold amountA
  exact Eq.refl (RefSig.tileCredit S704x2560 .bf16)

theorem credit_halfP {o : Fin 3 → ℕ} (h : ∀ a, o a + S4x1024x2560.size a ≤ S4x2048x2560.size a) : (halfP o h).view.dmaCredit = amount 3 := by
  rw [amount_P]
  show sig.dmaCredit .tc _ _ S4x1024x2560 .bf16 = amountP
  unfold amountP
  exact Eq.refl (RefSig.tileCredit S4x1024x2560 .bf16)

theorem credit_landP : landP.view.dmaCredit = amount 3 := by
  rw [amount_P]
  unfold amountP
  exact Eq.refl _

theorem credit_halfH {o : Fin 2 → ℕ} (h : ∀ a, o a + S2048x4096.size a ≤ S4096x4096.size a) : (halfH o h).view.dmaCredit = amount 4 := by
  rw [amount_H]
  show sig.dmaCredit .tc _ _ S2048x4096 .f32 = amountH
  unfold amountH
  exact Eq.refl (RefSig.tileCredit S2048x4096 .f32)

theorem credit_landH : landH.view.dmaCredit = amount 4 := by
  rw [amount_H]
  unfold amountH
  exact Eq.refl _

/-- What device `c` owes on link `j`. -/
abbrev debt (c : Dev nD) (j : Fin 5) : CellTallies nD τ sig Unit := tallyAt (links.recvCell (peer j c) j) () (amount j)

theorem due_eq (c : Dev nD) : due (τ := τ) links c
    = (0 + debt c 4 + debt c 3 + debt c 2 + debt c 1) + debt c 0 := by
  have h : due (τ := τ) links c = debt c 0 + debt c 1 + debt c 2 + debt c 3 + debt c 4 := by
    unfold due
    exact Fin.sum_univ_five _
  rw [h, zero_add]
  ac_rfl

/-- The transfer of link 3: the device gives the elements it sends and its peer's landing place. -/
theorem send_P (κ : Dev nD × links.End → ℕ) (c n : Dev nD) (hn : n = peer 3 c)
    {hi : ∀ a, k0_off4 c a + S4x1024x2560.size a ≤ S4x2048x2560.size a} {hs : (halfP (k0_off4 c) hi).view.WordExact} {hd : landP.view.WordExact}
    {hsc : (landP : Memref sig (Dev.tc n : Thread nD τ).2.kind .hbm S4x1024x2560 .bf16).view.ref.isScScratch = false}
    {ht : DmaTarget.Typed .hbm (.dma (recvSem 3)) (.remote (Dev.tc n : Thread nD τ) landP (.dma (sendSem 3)) hsc)}
    {Q : PUnit → sProp 𝕄} {k : PUnit → Code F PUnit} (O' O : CellTallies nD τ sig Unit) (hO : O' = O + debt c 3) (W : Waits sig Unit) :
    iprop(records links (pay m) κ ∗ ticket links c (3 : Fin 5) ∗ lent m c 3 ∗ room (peer 3 c) 3 ∗ owes c.tc O' W)
      ⊢ iprop((sendCred c 3 ∗ owes c.tc O W -∗ wp frame (wpE (defs₀ (F := F)) 𝒱₀ c none) Set.univ (k ⟨⟩) Q)
          -∗ wp frame (wpE (defs₀ (F := F)) 𝒱₀ c none) Set.univ
              (.op (.enqueueDma (halfP (k0_off4 c) hi) (.remote (Dev.tc n : Thread nD τ) landP (.dma (sendSem 3)) hsc) (.dma (recvSem 3)) hs hd ht) k) Q) := by
  have hl : lent m c 3 = lentP m c := rfl
  have hr : (room (peer 3 c) 3 : sProp 𝕄) = iprop(∃ f, landingP (peer 3 c) f) := rfl
  rw [hl, hr]
  iintro ⟨#HR, Ht, Hs, ⟨%fd, Hd⟩, HO⟩ Hk
  iapply (Cert.Exchange.send_along links (pay m) (defs₀ (F := F)) 𝒱₀ κ c n (3 : Fin 5) hn (src := sentP c) (dst := landP) (sS := sendSem 3) (sR := recvSem 3) rfl rfl
    (m (c.tc.loc main_arg3)) fd credit_landP ?_ ?_ O hO W (routes 3 c)) $$ [Ht Hs Hd HO]
  · exact BIBase.Entails.rfl
  · rw [write_landingP]
    exact Entails.of_eq (by show _ = landingP _ (landedP m (peer 3 c)); unfold landedP; rw [peer_peer]; rfl)
  · isplitr; · iexact HR
    isplitl [Ht]; · iexact Ht
    isplitl [Hs]; · unfold lentP; iexact Hs
    isplitl [Hd]; · unfold landingP; iexact Hd
    iexact HO
  iexact Hk

/-- The transfer of link 4: the device gives the elements it sends and its peer's landing place. -/
theorem send_H (κ : Dev nD × links.End → ℕ) (c n : Dev nD) (hn : n = peer 4 c)
    {hi : ∀ a, k0_off5 c a + S2048x4096.size a ≤ S4096x4096.size a} {hs : (halfH (k0_off5 c) hi).view.WordExact} {hd : landH.view.WordExact}
    {hsc : (landH : Memref sig (Dev.tc n : Thread nD τ).2.kind .hbm S2048x4096 .f32).view.ref.isScScratch = false}
    {ht : DmaTarget.Typed .hbm (.dma (recvSem 4)) (.remote (Dev.tc n : Thread nD τ) landH (.dma (sendSem 4)) hsc)}
    {Q : PUnit → sProp 𝕄} {k : PUnit → Code F PUnit} (O' O : CellTallies nD τ sig Unit) (hO : O' = O + debt c 4) (W : Waits sig Unit) :
    iprop(records links (pay m) κ ∗ ticket links c (4 : Fin 5) ∗ lent m c 4 ∗ room (peer 4 c) 4 ∗ owes c.tc O' W)
      ⊢ iprop((sendCred c 4 ∗ owes c.tc O W -∗ wp frame (wpE (defs₀ (F := F)) 𝒱₀ c none) Set.univ (k ⟨⟩) Q)
          -∗ wp frame (wpE (defs₀ (F := F)) 𝒱₀ c none) Set.univ
              (.op (.enqueueDma (halfH (k0_off5 c) hi) (.remote (Dev.tc n : Thread nD τ) landH (.dma (sendSem 4)) hsc) (.dma (recvSem 4)) hs hd ht) k) Q) := by
  have hl : lent m c 4 = lentH m c := rfl
  have hr : (room (peer 4 c) 4 : sProp 𝕄) = iprop(∃ f, landingH (peer 4 c) f) := rfl
  rw [hl, hr]
  iintro ⟨#HR, Ht, Hs, ⟨%fd, Hd⟩, HO⟩ Hk
  iapply (Cert.Exchange.send_along links (pay m) (defs₀ (F := F)) 𝒱₀ κ c n (4 : Fin 5) hn (src := sentH c) (dst := landH) (sS := sendSem 4) (sR := recvSem 4) rfl rfl
    (m (c.tc.loc main_arg4)) fd credit_landH ?_ ?_ O hO W (routes 4 c)) $$ [Ht Hs Hd HO]
  · exact BIBase.Entails.rfl
  · rw [write_landingH]
    exact Entails.of_eq (by show _ = landingH _ (landedH m (peer 4 c)); unfold landedH; rw [peer_peer]; rfl)
  · isplitr; · iexact HR
    isplitl [Ht]; · iexact Ht
    isplitl [Hs]; · unfold lentH; iexact Hs
    isplitl [Hd]; · unfold landingH; iexact Hd
    iexact HO
  iexact Hk

/-- The transfer of link `j`. -/
theorem send_A (κ : Dev nD × links.End → ℕ) (c n : Dev nD) (j : Fin 3) (hn : n = chipA j c) {o : Fin 3 → ℕ} (ho : o = offA j c)
    {hi : ∀ a, o a + S1x704x2560.size a ≤ S4x1024x2560.size a} {hs : (rowsA o hi).view.WordExact} {hd : (landA j).view.WordExact}
    {hsc : ((landA j) : Memref sig (Dev.tc n : Thread nD τ).2.kind .hbm S704x2560 .bf16).view.ref.isScScratch = false}
    {ht : DmaTarget.Typed .hbm (.dma (recvSem (linkA j))) (.remote (Dev.tc n : Thread nD τ) (landA j) (.dma (sendSem (linkA j))) hsc)}
    {Q : PUnit → sProp 𝕄} {k : PUnit → Code F PUnit} (O' O : CellTallies nD τ sig Unit) (hO : O' = O + debt c (linkA j)) (W : Waits sig Unit) :
    iprop(records links (pay m) κ ∗ ticket links c (linkA j) ∗ lent m c (linkA j) ∗ room (chipA j c) (linkA j) ∗ owes c.tc O' W)
      ⊢ iprop((sendCred c (linkA j) ∗ owes c.tc O W -∗ wp frame (wpE (defs₀ (F := F)) 𝒱₀ c none) Set.univ (k ⟨⟩) Q)
          -∗ wp frame (wpE (defs₀ (F := F)) 𝒱₀ c none) Set.univ
              (.op (.enqueueDma (rowsA o hi) (.remote (Dev.tc n : Thread nD τ) (landA j) (.dma (sendSem (linkA j))) hsc) (.dma (recvSem (linkA j))) hs hd ht) k) Q) := by
  subst ho
  rw [lent_A, room_A]
  iintro ⟨#HR, Ht, Hs, ⟨%fd, Hd⟩, HO⟩ Hk
  iapply (Cert.Exchange.send_along links (pay m) (defs₀ (F := F)) 𝒱₀ κ c n (linkA j) hn (src := sentA j c) (dst := landA j) (sS := sendSem (linkA j)) (sR := recvSem (linkA j)) rfl rfl
    (m (c.tc.loc main_arg2)) fd (credit_landA j) ?_ ?_ O hO W (routes (linkA j) c)) $$ [Ht Hs Hd HO]
  · rw [pay_send, lent_A]
    exact BIBase.Entails.rfl
  · rw [pay_recv, came_A]
    exact Entails.of_eq (pointsTo_congr fun i hi => deliveredA m j c fd i hi)
  · isplitr; · iexact HR
    isplitl [Ht]; · iexact Ht
    isplitl [Hs]; · unfold lentA; iexact Hs
    isplitl [Hd]; · unfold landingA; iexact Hd
    iexact HO
  iexact Hk

/-- The first point's five transfers. -/
theorem send_step (κ : Dev nD × links.End → ℕ) (c : Dev nD) (i : grid0.Coords) (h : k0_cond1 i = 1#1) (W : Waits sig Unit) :
    iprop(records links (pay m) κ ∗ (bigSep Finset.univ fun j : Fin 5 => ticket links c j) ∗ (bigSep Finset.univ fun j => lent m c j)
        ∗ (bigSep Finset.univ fun j => room (peer j c) j) ∗ owes c.tc (due links c) W)
      ⊢ wp frame (wpE (defs₀ (F := F)) 𝒱₀ c none) Set.univ (sendPart (F := F) i)
          (fun _ => iprop((bigSep Finset.univ fun j => sendCred c j) ∗ owes c.tc 0 W : sProp 𝕄)) := by
  unfold sendPart
  rw [dif_pos h]
  simp only [wp_deviceId, five]
  iintro ⟨#HR, ⟨Ht0, Ht1, Ht2, Ht3, Ht4⟩, ⟨Hs0, Hs1, Hs2, Hs3, Hs4⟩, ⟨Hd0, Hd1, Hd2, Hd3, Hd4⟩, HO⟩
  iapply (send_A m κ c _ 0 (dev1_eq c (k0_dev1_lt i c h)) rfl _ _ (due_eq c) W) $$ [$HR $Ht0 $Hs0 $Hd0 $HO]
  iintro ⟨Hc0, HO⟩
  iapply (send_A m κ c _ 1 (dev2_eq c (k0_dev2_lt i c h)) rfl _ _ rfl W) $$ [$HR $Ht1 $Hs1 $Hd1 $HO]
  iintro ⟨Hc1, HO⟩
  iapply (send_A m κ c _ 2 (dev3_eq c (k0_dev3_lt i c h)) rfl _ _ rfl W) $$ [$HR $Ht2 $Hs2 $Hd2 $HO]
  iintro ⟨Hc2, HO⟩
  iapply (send_P m κ c _ (dev4_eq c (k0_dev4_lt i c h)) _ _ rfl W) $$ [$HR $Ht3 $Hs3 $Hd3 $HO]
  iintro ⟨Hc3, HO⟩
  iapply (send_H m κ c _ (dev5_eq c (k0_dev5_lt i c h)) _ _ rfl W) $$ [$HR $Ht4 $Hs4 $Hd4 $HO]
  iintro ⟨Hc4, HO⟩
  rw [wp_ret]; imodintro
  isplitr [HO]
  · isplitl [Hc0]; · iexact Hc0
    isplitl [Hc1]; · iexact Hc1
    isplitl [Hc2]; · iexact Hc2
    isplitl [Hc3]; · iexact Hc3
    iexact Hc4
  iexact HO

/-- The last point's ten waits: the landing places come with what the peers sent, and the sent elements come back. -/
theorem wait_step (κ : Dev nD × links.End → ℕ) (c : Dev nD) (i : grid0.Coords) (h : k0_cond2 i = 1#1) :
    iprop(records links (pay m) κ ∗ (bigSep Finset.univ fun j : Fin 5 => seats links c j) ∗ (bigSep Finset.univ fun j => sendCred c j)
        ∗ (bigSep Finset.univ fun j => recvCred c j) ∗ ∃ W, owes c.tc 0 W)
      ⊢ wp frame (wpE (defs₀ (F := F)) 𝒱₀ c none) Set.univ (waitPart (F := F) i)
          (fun _ => iprop((bigSep Finset.univ fun j => lent m c j) ∗ (bigSep Finset.univ fun j => came m c j)
            ∗ (bigSep Finset.univ fun j : Fin 5 => semVal (links.cell c (false, j)) 0) ∗ (bigSep Finset.univ fun j : Fin 5 => semVal (links.cell c (true, j)) 0)
            ∗ ∃ W, owes c.tc 0 W : sProp 𝕄)) := by
  unfold waitPart
  rw [dif_pos h]
  unfold seats
  simp only [wp_deviceId, five, ← pay_send m, ← pay_recv m]
  iintro ⟨#HR, ⟨⟨HaS0, HaR0⟩, ⟨HaS1, HaR1⟩, ⟨HaS2, HaR2⟩, ⟨HaS3, HaR3⟩, ⟨HaS4, HaR4⟩⟩, ⟨HcS0, HcS1, HcS2, HcS3, HcS4⟩, ⟨HcR0, HcR1, HcR2, HcR3, HcR4⟩, HO⟩
  iapply (wait_link links (pay m) κ c (true, (0 : Fin 5)) (credit_landA 0)) $$ [$HR $HaR0 $HcR0 $HO]
  iintro ⟨HpR0, HzR0, HO⟩
  iapply (wait_link links (pay m) κ c (true, (1 : Fin 5)) (credit_landA 1)) $$ [$HR $HaR1 $HcR1 $HO]
  iintro ⟨HpR1, HzR1, HO⟩
  iapply (wait_link links (pay m) κ c (true, (2 : Fin 5)) (credit_landA 2)) $$ [$HR $HaR2 $HcR2 $HO]
  iintro ⟨HpR2, HzR2, HO⟩
  iapply (wait_link links (pay m) κ c (false, (0 : Fin 5)) (credit_rowsA 0 _)) $$ [$HR $HaS0 $HcS0 $HO]
  iintro ⟨HpS0, HzS0, HO⟩
  iapply (wait_link links (pay m) κ c (false, (1 : Fin 5)) (credit_rowsA 1 _)) $$ [$HR $HaS1 $HcS1 $HO]
  iintro ⟨HpS1, HzS1, HO⟩
  iapply (wait_link links (pay m) κ c (false, (2 : Fin 5)) (credit_rowsA 2 _)) $$ [$HR $HaS2 $HcS2 $HO]
  iintro ⟨HpS2, HzS2, HO⟩
  iapply (wait_link links (pay m) κ c (true, (3 : Fin 5)) credit_landP) $$ [$HR $HaR3 $HcR3 $HO]
  iintro ⟨HpR3, HzR3, HO⟩
  iapply (wait_link links (pay m) κ c (false, (3 : Fin 5)) (credit_halfP _)) $$ [$HR $HaS3 $HcS3 $HO]
  iintro ⟨HpS3, HzS3, HO⟩
  iapply (wait_link links (pay m) κ c (true, (4 : Fin 5)) credit_landH) $$ [$HR $HaR4 $HcR4 $HO]
  iintro ⟨HpR4, HzR4, HO⟩
  iapply (wait_link links (pay m) κ c (false, (4 : Fin 5)) (credit_halfH _)) $$ [$HR $HaS4 $HcS4 $HO]
  iintro ⟨HpS4, HzS4, HO⟩
  rw [wp_ret]; imodintro
  iframe

end Cert.Ow

end
-- ==== Proof.OwBody.lean ====
/-
# The body of `out_proj_dw` at every grid point

The schedule of the call on device `c`, its window contents, and the body's obligation: what a grid point is given and
what it leaves. Before the first point nothing is sent (`Start`); between the first and the last the transfers are on the
way (`Sent`); after the last all have landed (`Done`).
-/
module

public import proofs.«01_k».proof.Proof.OwSteps
public import proofs.«01_k».proof.Proof.Gen.OwKernelIdeal.Frame

@[expose] public section

noncomputable section

namespace Cert.Ow

open Cert.OwKernelIdeal Cert.OwKernelIdeal.Gen
open Idealize.ShloMosaic
open Idealize.ShloMosaic.Pipeline
open Idealize.ShloMosaic.TcCoe
open Idealize.SL Idealize.SL.RA Idealize.SL.BI
open BIBase Laws ProofMode Sem
open Idealize.ShloMosaic.Rounds
open Cert.Exchange (Links UU EP ER records ticket seats hand due)

variable {F : FTy → Type} [FloatOps F]

local notation "𝕄" => MT nD τ sig Unit (Elt F) ℕ (UU nD sig τ) ℕ

variable (m : (ℓ : Loc nD τ sig) → Buf (Elt F) ℓ)

/-! ## The states -/

/-- What no transfer touches: the rest of the arrays sent from, the rest of the first landing buffer, and the array that the
    host operation after the call writes. -/
def aside (c : Dev nD) : sProp 𝕄 :=
  iprop(keptA m c ∗ keptP m c ∗ keptH m c ∗ belowA c (filledA m c) ∗ (c.tc.loc main_v2 ↦{fullShare} m (c.tc.loc main_v2)))

/-- The memory a device brings to the exchange: what it sends, its peers' landing places, and what no transfer touches. -/
def mine (c : Dev nD) : sProp 𝕄 :=
  iprop((bigSep Finset.univ fun j => lent m c j) ∗ (bigSep Finset.univ fun j => room (peer j c) j) ∗ aside m c)

/-- Before the first grid point. -/
def Start (c : Dev nD) : sProp 𝕄 :=
  iprop((∃ κ, records links (pay m) κ) ∗ (bigSep Finset.univ fun j : Fin 5 => hand links c j) ∗ mine m c)

/-- Between the first and the last. -/
def Sent (c : Dev nD) : sProp 𝕄 :=
  iprop((∃ κ, records links (pay m) κ) ∗ (bigSep Finset.univ fun j : Fin 5 => seats links c j) ∗ (bigSep Finset.univ fun j => sendCred c j)
    ∗ (bigSep Finset.univ fun j => recvCred c j) ∗ aside m c)

/-- After the last. -/
def Done (c : Dev nD) : sProp 𝕄 :=
  iprop((bigSep Finset.univ fun j => lent m c j) ∗ (bigSep Finset.univ fun j => came m c j) ∗ aside m c
    ∗ (bigSep Finset.univ fun j : Fin 5 => semVal (links.cell c (false, j)) 0) ∗ (bigSep Finset.univ fun j : Fin 5 => semVal (links.cell c (true, j)) 0))

/-! ## The schedule -/

/-- The block a grid point writes, from the blocks it reads. -/
def wrote (c : Dev nD) (t : Fin cfg0.N) : Vec F S1024x1024 .bf16 := outBlock (iblk m c 0 t) (iblk m c 1 t)

def dats (_ : Fin 1) (c : Dev nD) : Dat τ (Elt F) Unit ℕ (UU nD sig τ) ℕ cfg0 c where
  A w := V m c (Pipeline.arrRef spec0 w)
  after w t := match w with
    | ⟨0, _⟩ => iblk m c 0 t
    | ⟨1, _⟩ => iblk m c 1 t
    | ⟨2, _⟩ => wrote m c t
  Φ t := if t.val = 0 then Start m c else if t.val = 16 then Done m c else Sent m c
  q _ := fullShare
  owed t := if t.val = 0 then due links c else 0

/-- The two windows that are read hold their blocks at every point, fetched there or before. -/
theorem before_0 (c : Dev nD) (t : Fin cfg0.N) (d) : (dats m 0 c).before 0 t d = iblk m c 0 t :=
  ((dats m 0 c).before_in_eq_fetched 0 rfl (fun _ => rfl) (fun _ _ _ => rfl) (fun _ => rfl) t d).trans rfl
theorem before_1 (c : Dev nD) (t : Fin cfg0.N) (d) : (dats m 0 c).before 1 t d = iblk m c 1 t :=
  ((dats m 0 c).before_in_eq_fetched 1 rfl (fun _ => rfl) (fun _ _ _ => rfl) (fun _ => rfl) t d).trans rfl

/-! ## The obligation -/

/-- What a device owes, the pairs it has waited on left open. -/
theorem owesAt_intro (c : Dev nD) (t : Fin (cfg0.N + 1)) (W : Waits sig Unit) (O : CellTallies nD τ sig Unit) (hO : (dats m 0 c).owed t = O) :
    (owes c.tc O W : sProp 𝕄) ⊢ (dats m 0 c).owesAt () t := by
  unfold Dat.owesAt Pipeline.owesWithin
  rw [hO]
  iintro H
  iexists W
  isplitr
  · ipureintro; exact fun _ _ => Or.inl trivial
  iexact H

theorem send_point (c : Dev nD) (t : Fin cfg0.N) :
    iprop((dats m 0 c).Φ t.castSucc ∗ (dats m 0 c).owesAt () t.castSucc)
      ⊢ wp frame (wpE (defs₀ (F := F)) 𝒱₀ c none) Set.univ (sendPart (F := F) (grid0.coords t))
          (fun _ => iprop(Sent m c ∗ ∃ W, owes c.tc 0 W : sProp 𝕄)) := by
  have hN : t.val < 16 := lt_of_lt_of_eq t.isLt N_0
  unfold Dat.owesAt Pipeline.owesWithin
  by_cases h : t.val = 0
  · have hΦ : (dats m 0 c).Φ t.castSucc = Start m c := if_pos h
    have hO : (dats m 0 c).owed t.castSucc = due links c := if_pos h
    rw [hΦ, hO]
    unfold Start hand mine
    simp only [bigSep_sep']
    iintro ⟨⟨⟨%κ, #HR⟩, ⟨Ht, Hs, Hc⟩, Hl, Hd, Hk⟩, ⟨%W, %hW, HO⟩⟩
    iapply (wp_wand frame (wpE (defs₀ (F := F)) 𝒱₀ c none) Set.univ) $$ [Ht Hl Hd HO]
    · iapply (send_step m κ c (grid0.coords t) ((sends_iff t).mpr h) W)
      iframe HR ∗
    iintro %a ⟨Hcs, HO⟩
    unfold Sent
    isplitr [HO]
    · isplitr; · (iexists κ; iexact HR)
      iframe
    · iexists W; iexact HO
  · have hΦ : (dats m 0 c).Φ t.castSucc = Sent m c := (if_neg h).trans (if_neg (by show ¬ t.val = 16; omega))
    have hO : (dats m 0 c).owed t.castSucc = 0 := if_neg h
    rw [hΦ, hO]
    unfold sendPart
    rw [dif_neg fun h' => h ((sends_iff t).mp h'), wp_ret]
    iintro ⟨H, ⟨%W, %hW, HO⟩⟩
    imodintro
    isplitl [H]; · iexact H
    iexists W; iexact HO

theorem wait_point (c : Dev nD) (t : Fin cfg0.N) :
    iprop(Sent m c ∗ ∃ W, owes c.tc 0 W)
      ⊢ wp frame (wpE (defs₀ (F := F)) 𝒱₀ c none) Set.univ (waitPart (F := F) (grid0.coords t))
          (fun _ => iprop((dats m 0 c).Φ t.succ ∗ (dats m 0 c).owesAt () t.succ : sProp 𝕄)) := by
  have hO : (dats m 0 c).owed t.succ = 0 := by
    show (if t.val + 1 = 0 then due links c else 0) = 0
    exact if_neg (Nat.succ_ne_zero t.val)
  by_cases h : t.val = 15
  · have hΦ : (dats m 0 c).Φ t.succ = Done m c := by
      show (if t.val + 1 = 0 then Start m c else if t.val + 1 = 16 then Done m c else Sent m c) = Done m c
      rw [if_neg (Nat.succ_ne_zero t.val), if_pos (by omega)]
    rw [hΦ]
    unfold Sent
    iintro ⟨⟨⟨%κ, #HR⟩, Hs, Hcs, Hcr, Hk⟩, HO⟩
    iapply (wp_wand frame (wpE (defs₀ (F := F)) 𝒱₀ c none) Set.univ) $$ [Hs Hcs Hcr HO]
    · iapply (wait_step m κ c (grid0.coords t) ((waits_iff t).mpr h))
      iframe HR ∗
    iintro %a ⟨Hl, Hd, HzS, HzR, ⟨%W', HO⟩⟩
    unfold Done
    isplitr [HO]
    · iframe
    · iapply (owesAt_intro m c t.succ W' 0 hO); iexact HO
  · have hΦ : (dats m 0 c).Φ t.succ = Sent m c := by
      show (if t.val + 1 = 0 then Start m c else if t.val + 1 = 16 then Done m c else Sent m c) = Sent m c
      rw [if_neg (Nat.succ_ne_zero t.val), if_neg (by omega)]
    rw [hΦ]
    unfold waitPart
    rw [dif_neg fun h' => h ((waits_iff t).mp h'), wp_ret]
    iintro ⟨H, ⟨%W, HO⟩⟩
    imodintro
    isplitl [H]; · iexact H
    iapply (owesAt_intro m c t.succ W 0 hO); iexact HO

theorem body_obligation (c : Dev nD) : BodyObligation (dats (F := F) m 0 c) (defs₀ (F := F)) 𝒱₀ () Set.univ := fun t => by
  rw [bigSep_W0, bigSep_W0]
  show _ ⊢ wp frame (wpE (defs₀ (F := F)) 𝒱₀ c none) Set.univ (bodyAt0 (F := F) t) _
  rw [body_eq, wp_bind]
  iintro ⟨HΦ, HO, ⟨%d0, H0⟩, ⟨%d1, H1⟩, ⟨%d2, H2⟩⟩
  iapply (wp_wand frame (wpE (defs₀ (F := F)) 𝒱₀ c none) Set.univ) $$ [HΦ HO]
  · iapply (send_point m c t)
    isplitl [HΦ] <;> iassumption
  iintro %a ⟨HS, HO⟩
  rw [wp_bind]
  iapply (wp_wand frame (wpE (defs₀ (F := F)) 𝒱₀ c none) Set.univ) $$ [H0 H1 H2]
  · iapply (work_step c (st0_0 t) (st0_1 t) (st0_2 t) _ (iblk m c 0 t) (iblk m c 1 t) _)
    isplitl [H0]; · (iapply (Entails.of_eq (congrArg _ (before_0 m c t d0))); iexact H0)
    isplitl [H1]; · (iapply (Entails.of_eq (congrArg _ (before_1 m c t d1))); iexact H1)
    iexact H2
  iintro %a' ⟨H0, H1, H2⟩
  iapply (wp_wand frame (wpE (defs₀ (F := F)) 𝒱₀ c none) Set.univ) $$ [HS HO]
  · iapply (wait_point m c t)
    isplitl [HS] <;> iassumption
  iintro %a'' ⟨HΦ, HO⟩
  isplitl [HΦ]; · iexact HΦ
  isplitl [HO]; · iexact HO
  isplitl [H0]; · iexact H0
  isplitl [H1]; · iexact H1
  iexact H2

end Cert.Ow

end
-- ==== Proof.OwRun.lean ====
/-
# The run of `out_proj_dw`

On the eight devices, for any float values and from any memory with zero counters: every weakly fair execution ends, with
each device's product array at what its grid points wrote, its three other results at what its peers sent, its arguments
unchanged and every counter at zero.
-/
module

public import proofs.«01_k».proof.Proof.OwBody
public import proofs.«01_k».proof.Proof.Exchange

@[expose] public section

noncomputable section

namespace Cert.Ow

open Cert.OwKernelIdeal Cert.OwKernelIdeal.Gen
open Idealize.ShloMosaic
open Idealize.ShloMosaic.Pipeline
open Idealize.ShloMosaic.TcCoe
open Idealize.SL Idealize.SL.RA Idealize.SL.BI
open BIBase Laws ProofMode Sem
open Idealize.ShloMosaic.Rounds
open Cert.Exchange (Links UU EP ER records ticket seats hand due begins allCells allToks ghosts shared)

variable {F : FTy → Type} [FloatOps F]

local notation "𝕄" => MT nD τ sig Unit (Elt F) ℕ (UU nD sig τ) ℕ

variable (m : (ℓ : Loc nD τ sig) → Buf (Elt F) ℓ) (ρ : Dev nD → PrngReg)

/-! ## What the launch theorem asks for -/

theorem ownSemFacts : Pipeline.OwnSemFacts cfg0.spec links.osem := by decide

theorem share_eq (c : Dev nD) (w : Fin cfg0.W) : (dats m 0 c).share w = fullShare := by unfold Dat.share; split <;> rfl

theorem waits (c : Dev nD) : (levAts Cert.Exchange.L (Cert.Exchange.lv links) : sProp 𝕄) ⊢ Pipeline.cellsWaits cfgs (dats m) () 0 c :=
  Pipeline.cellsWaits_intro cfgs (dats m) () 0 c fun w s t =>
    Cert.Exchange.mayWait_stage links c _ (by fin_cases w <;> fin_cases s <;> decide) _ (ite_eq_or_eq (t.val = 0) _ _)

/-- The memory no window stages, as a device brings it. -/
def rest (c : Dev nD) : sProp 𝕄 := Pipeline.unscopedRest spec0 c (V m c)

/-- How the pieces are put in brackets does not matter. -/
theorem joined (P Q R : sProp 𝕄) : iprop((P ∗ Q) ∗ R) = iprop(P ∗ Q ∗ R) := equiv_iff.mp ⟨BI.sep_assoc, BI.sep_assoc'⟩

/-- The five links: the first three, link 3 and link 4. -/
theorem lent_all (c : Dev nD) : (bigSep Finset.univ fun j => lent m c j : sProp 𝕄)
    = iprop((bigSep Finset.univ fun j => lentA m c j) ∗ lentP m c ∗ lentH m c) := by
  rw [five, three, joined, joined]; rfl
theorem came_all (c : Dev nD) : (bigSep Finset.univ fun j => came m c j : sProp 𝕄)
    = iprop((bigSep Finset.univ fun j => landingA c j (filledA m c)) ∗ landingP c (landedP m c) ∗ landingH c (landedH m c)) := by
  rw [five, three, joined, joined]; rfl
theorem room_all (c : Dev nD) (f) (g) (h) :
    (iprop((bigSep Finset.univ fun j => landingA c j f) ∗ landingP c g ∗ landingH c h) : sProp 𝕄)
      ⊢ bigSep Finset.univ fun j => room c j := by
  rw [five, three]
  have hA (j : Fin 3) : (landingA c j f : sProp 𝕄) ⊢ room c (linkA j) := by
    rw [room_A]
    iintro H; iexists f; iexact H
  have hP : (landingP c g : sProp 𝕄) ⊢ room c 3 := by
    show landingP c g ⊢ iprop(∃ f, landingP c f)
    iintro H; iexists g; iexact H
  have hH : (landingH c h : sProp 𝕄) ⊢ room c 4 := by
    show landingH c h ⊢ iprop(∃ f, landingH c f)
    iintro H; iexists h; iexact H
  iintro ⟨⟨H0, H1, H2⟩, H3, H4⟩
  isplitl [H0]; · iapply (hA 0); iexact H0
  isplitl [H1]; · iapply (hA 1); iexact H1
  isplitl [H2]; · iapply (hA 2); iexact H2
  isplitl [H3]; · iapply hP; iexact H3
  iapply hH; iexact H4

/-- The landing places dealt across the links. -/
theorem deal : (bigSep Finset.univ (rest m) : sProp 𝕄) ⊢ bigSep Finset.univ (mine m) := by
  have h (c : Dev nD) : rest m c ⊢ iprop(((bigSep Finset.univ fun j => lent m c j) ∗ aside m c)
      ∗ bigSep Finset.univ fun j => room c j : sProp 𝕄) := by
    have hr : rest m c = iprop((c.tc.loc main_arg2 ↦{fullShare} m (c.tc.loc main_arg2))
        ∗ (c.tc.loc main_arg3 ↦{fullShare} m (c.tc.loc main_arg3))
        ∗ (c.tc.loc main_arg4 ↦{fullShare} m (c.tc.loc main_arg4))
        ∗ (c.tc.loc main_v1_1 ↦{fullShare} m (c.tc.loc main_v1_1))
        ∗ (c.tc.loc main_v1_2 ↦{fullShare} m (c.tc.loc main_v1_2))
        ∗ (c.tc.loc main_v1_3 ↦{fullShare} m (c.tc.loc main_v1_3))
        ∗ (c.tc.loc main_v2 ↦{fullShare} m (c.tc.loc main_v2))) := unscopedRest0_eq c (V m c)
    unfold aside
    rw [hr, ← belowA_eq m c, lent_all]
    iintro ⟨H2, H3, H4, HA, HB, HC, HV⟩
    ihave H2 := (arg2_split m c).1 $$ H2
    ihave H3 := (arg3_split m c).1 $$ H3
    ihave H4 := (arg4_split m c).1 $$ H4
    ihave HA := (landingA_split c (m (c.tc.loc main_v1_1))).1 $$ HA
    ihave HP := (Entails.of_eq (landingP_eq c (m (c.tc.loc main_v1_2))).symm) $$ HB
    ihave HH := (Entails.of_eq (landingH_eq c (m (c.tc.loc main_v1_3))).symm) $$ HC
    icases H2 with ⟨Hs2, Hk2⟩
    icases H3 with ⟨Hs3, Hk3⟩
    icases H4 with ⟨Hs4, Hk4⟩
    icases HA with ⟨HlA, HbA⟩
    isplitr [HlA HP HH]
    · iframe
    iapply (room_all c (m (c.tc.loc main_v1_1)) (m (c.tc.loc main_v1_2)) (m (c.tc.loc main_v1_3)))
    iframe
  refine Cert.Exchange.deal_across links room h fun c => ?_
  show iprop(_ ∗ bigSep Finset.univ fun j => room (peer j c) j) ⊢ mine m c
  unfold mine
  iintro ⟨⟨H1, H2⟩, H3⟩
  iframe

/-- What a device holds when the call begins. -/
abbrev X (c : Dev nD) : sProp 𝕄 := begins links (pay m) (mine m) c

/-- What it holds of the arrays no window stages when the call has ended. -/
def Y (c : Dev nD) : sProp 𝕄 :=
  iprop((c.tc.loc main_arg2 ↦{fullShare} m (c.tc.loc main_arg2))
    ∗ (c.tc.loc main_arg3 ↦{fullShare} m (c.tc.loc main_arg3))
    ∗ (c.tc.loc main_arg4 ↦{fullShare} m (c.tc.loc main_arg4))
    ∗ (c.tc.loc main_v1_1 ↦{fullShare} (filledA m c : Buf (Elt F) (c.tc.loc main_v1_1)))
    ∗ (c.tc.loc main_v1_2 ↦{fullShare} (landedP m c : Buf (Elt F) (c.tc.loc main_v1_2)))
    ∗ (c.tc.loc main_v1_3 ↦{fullShare} (landedH m c : Buf (Elt F) (c.tc.loc main_v1_3)))
    ∗ (c.tc.loc main_v2 ↦{fullShare} m (c.tc.loc main_v2)))

/-- The rows of `main_v1_1` that the transfers write, which are the second result. -/
def carved (c : Dev nD) : Vec F S3x704x2560 .bf16 :=
  extractStridedSlice S3x704x2560 ![0, 0, 0] (filledA m c) slices_S3x1024x2560_S3x704x2560_0_0_0

/-- What it holds of them at the end of the program. -/
def Z (c : Dev nD) : sProp 𝕄 :=
  iprop((c.tc.loc main_arg2 ↦{fullShare} m (c.tc.loc main_arg2))
    ∗ (c.tc.loc main_arg3 ↦{fullShare} m (c.tc.loc main_arg3))
    ∗ (c.tc.loc main_arg4 ↦{fullShare} m (c.tc.loc main_arg4))
    ∗ (c.tc.loc main_v1_2 ↦{fullShare} (landedP m c : Buf (Elt F) (c.tc.loc main_v1_2)))
    ∗ (c.tc.loc main_v1_3 ↦{fullShare} (landedH m c : Buf (Elt F) (c.tc.loc main_v1_3)))
    ∗ (c.tc.loc main_v2 ↦{fullShare} (carved m c : Buf (Elt F) (c.tc.loc main_v2))))

theorem phi_start (c : Dev nD) : iprop(X m c ∗ Pipeline.scopedRest spec0 c) ⊢ (dats m 0 c).Φ 0 := by
  show iprop(X m c ∗ Pipeline.scopedRest spec0 c) ⊢ Start m c
  unfold Start X begins
  iintro ⟨H, -⟩
  iexact H

theorem phi_end (c : Dev nD) :
    (dats m 0 c).Φ (Fin.last cfg0.N) ⊢ iprop(Y m c ∗ Pipeline.ownSems0 links.osem c ∗ Pipeline.scopedRest spec0 c) := by
  have hΦ : (dats m 0 c).Φ (Fin.last cfg0.N) = Done m c := by
    show (if cfg0.N = 0 then Start m c else if cfg0.N = 16 then Done m c else Sent m c) = Done m c
    rw [show cfg0.N = 16 from N_0, if_neg (by decide), if_pos rfl]
  rw [hΦ, scopedRest0_eq]
  have hs : (Pipeline.ownSems0 links.osem c : sProp 𝕄)
      = iprop((bigSep Finset.univ fun j : Fin 5 => semVal (links.cell c (false, j)) 0) ∗ (bigSep Finset.univ fun j : Fin 5 => semVal (links.cell c (true, j)) 0)) := by
    unfold Pipeline.ownSems0
    exact Cert.Exchange.ends links fun k => semVal (links.cell c k) 0
  rw [hs]
  unfold Done aside Y
  rw [lent_all, came_all, landingP_eq, landingH_eq]
  iintro ⟨⟨Hl2, Hl3, Hl4⟩, ⟨Hd2, Hd3, Hd4⟩, ⟨Hk2, Hk3, Hk4, HbA, HV⟩, HzS, HzR⟩
  isplitl [Hl2 Hl3 Hl4 Hk2 Hk3 Hk4 Hd2 Hd3 Hd4 HbA HV]
  · isplitl [Hl2 Hk2]
    · iapply (arg2_split m c).2
      iframe
    isplitl [Hl3 Hk3]
    · iapply (arg3_split m c).2
      iframe
    isplitl [Hl4 Hk4]
    · iapply (arg4_split m c).2
      iframe
    isplitl [Hd2 HbA]
    · iapply (landingA_split c (filledA m c)).2
      iframe
    iframe
  isplitl [HzS HzR]
  · iframe
  iempintro

/-- The final memory of six arrays no window stages. -/
def QY (c : Dev nD) (s : MemSt nD τ sig (Elt F)) : Prop :=
  (s.mem (c.tc.loc main_arg2) = m (c.tc.loc main_arg2)
    ∧ s.mem (c.tc.loc main_arg3) = m (c.tc.loc main_arg3)
    ∧ s.mem (c.tc.loc main_arg4) = m (c.tc.loc main_arg4))
    ∧ s.mem (c.tc.loc main_v1_2) = landedP m c
    ∧ s.mem (c.tc.loc main_v1_3) = landedH m c
    ∧ s.mem (c.tc.loc main_v2) = carved m c

theorem read_end (c : Dev nD) (s' : Phys nD τ sig (Elt F)) :
    iprop(Z m c ∗ SI s') ⊢ |={Set.univ}=> iprop(⌜QY m c s'.mem⌝ ∗ SI s' : sProp 𝕄) := by
  unfold Z
  iintro ⟨⟨H2, H3, H4, H5, H6, H7⟩, HSI⟩
  ihave %h2 := Cert.Exchange.read_whole $$ [$HSI $H2]
  ihave %h3 := Cert.Exchange.read_whole $$ [$HSI $H3]
  ihave %h4 := Cert.Exchange.read_whole $$ [$HSI $H4]
  ihave %h5 := Cert.Exchange.read_whole $$ [$HSI $H5]
  ihave %h6 := Cert.Exchange.read_whole $$ [$HSI $H6]
  ihave %h7 := Cert.Exchange.read_whole $$ [$HSI $H7]
  imodintro
  isplitr
  · ipureintro
    exact ⟨⟨h2, h3, h4⟩,
      h5, h6, h7⟩
  iexact HSI

/-! ## The host operation after the call -/

/-- The program after the call. -/
abbrev carve : Prog (TpuEff nD τ sig (Elt F) (Pipeline.Sig Λ₀ (Fin 1) fun p => (pcfgs (F := F) p).Adm) .tc) PUnit :=
  StableHlo.seq hostOps1 >>= fun _ => .ret ⟨⟩

/-- The two buffers it touches, and what they hold before it. -/
abbrev landRef : DevRef τ sig := Proc.devRef .tc main_v1_1
abbrev outRef : DevRef τ sig := Proc.devRef .tc main_v2
def before (c : Dev nD) : Valuation τ sig (Elt F) := Function.update (V0 m c) landRef (filledA m c)

theorem refs_ne : outRef ≠ landRef := StableHlo.devRef_ne_of_ne (by decide)

theorem held_two (c : Dev nD) (W : Valuation τ sig (Elt F)) :
    (StableHlo.held c.tc {outRef, landRef} W : sProp 𝕄)
      = iprop((c.tc.loc main_v2 ↦{fullShare} W outRef) ∗ (c.tc.loc main_v1_1 ↦{fullShare} W landRef)) := by
  unfold StableHlo.held
  rw [bigSep_insert (by rw [Finset.mem_singleton]; exact refs_ne), bigSep_singleton]
  exact congrArg₂ BI.sep (Eq.refl _) (Eq.refl _)

theorem carve_run (c : Dev nD) :
    iprop(boundary c.tc ∗ Y m c)
      ⊢ wp frame (wpE (defs (F := F)) (Variants.lift 𝒱₀) c.tc none) Set.univ carve
          (fun _ : PUnit => iprop(scopedSems0 c.tc ∗ Z m c : sProp 𝕄)) := by
  have hb1 : before m c landRef = filledA m c := Function.update_self ..
  have hb2 : before m c outRef = m (c.tc.loc main_v2) := Function.update_of_ne refs_ne ..
  have ha : StableHlo.after hostOps1 (before m c) outRef = carved m c := by
    rw [StableHlo.after_cons, StableHlo.after_nil]
    refine (StableHlo.unary_result _ _ _ _ _ _).trans ?_
    unfold carved
    rw [← hb1]
  unfold Y
  iintro ⟨Hb, H2, H4, H5, H1, H6, H7, H3⟩
  iapply (StableHlo.wp_seq (defs := defs (F := F)) (𝒱 := Variants.lift 𝒱₀) (bd := none) (E := Set.univ) c {outRef, landRef} (fun _ => .ret ⟨⟩) hostOps1
    (fun op ho => by rw [List.mem_singleton.mp ho, StableHlo.unary_bufs, Finset.pair_comm]) (List.forall_iff_forall_mem.mp hostOps1_fresh) (before m c)) $$ [Hb H1 H3]
  · isplitl [Hb]; · iexact Hb
    rw [held_two, hb1, hb2]
    iframe
  iintro ⟨Hb, HS⟩
  ihave HS := (Entails.of_eq (held_two c (StableHlo.after hostOps1 (before m c)))) $$ HS
  icases HS with ⟨H3, -⟩
  rw [ha, wp_ret]
  unfold boundary Z
  icases Hb with ⟨-, Hs, -⟩
  imodintro
  iframe

/-- What a final state is: every staged array at the schedule's contents, and the others as said. -/
def QC (r : PUnit × MemSt nD τ sig (Elt F)) : Prop :=
  ∀ c : Dev nD, (∀ w : Fin cfg0.W, r.2.mem ((cfg0.win w).arr.view.loc c.tc) = (dats m 0 c).arrAt w cfg0.N) ∧ QY m c r.2

set_option maxRecDepth 8000 in
theorem run_main : θ_run defs (onTc (τ := τ) (main (F := F))) ⟨m, fun _ => 0, ρ⟩ (fun r => QC m r ∧ r.2.sem = fun _ => 0) :=
  Cert.Exchange.θ_run_exchange (fun p => (cfgs p).toPCfg) (fun p => (cfgs p).toPCfg_adm) (dats m) () cellOf_inj (0 : Fin 1)
    winFacts0 ownSemFacts rfl EP defs₀ 𝒱₀ m ρ (due links) Cert.Exchange.L (Cert.Exchange.lv links) main (fun _ => carve)
    (hmain := fun _ => rfl) (hbody := body_obligation m) (hne := block_pos0) (harr := arr_whole0) (hstage := stage_whole0) (hshare := share_eq m)
    (howed₀ := fun _ => rfl) (howedN := fun _ => rfl) (hL := Cert.Exchange.L_of_ne) (hwaits := waits m)
    (G := ghosts links (pay m))
    (hu₀ := Cert.Exchange.fund_both links (pay m) _)
    (hA := fun _ _ => rfl) (X := X m) (Y := Y m) (Z := Z m) (htail := carve_run m)
    (hstart := Cert.Exchange.launch_all links (pay m) (rest m) (mine m) (deal m))
    (hin := phi_start m) (hout := phi_end m) (QY := QY m) (hY := read_end m)
    (hQ := fun s h hs => ⟨fun c => h c, sem_eq_zero_of_scoped (by decide) hs⟩)

end Cert.Ow

end
-- ==== Proof.OwWhole.lean ====
/-
# The product of `out_proj_dw` as a whole

The blocks of the grid points tile the array that a device writes, so at the end its entry `(p, q)` is the inner
product of column `p` of the device's left factor and column `q` of its right factor.
-/
module

public import proofs.«01_k».proof.Proof.OwValue
public import proofs.«01_k».proof.Proof.OwRun
public import Idealize.ShloMosaic.Lib.Pipeline.ValueKit

@[expose] public section

set_option maxRecDepth 16384

noncomputable section

namespace Cert.Ow

open Cert.OwKernelIdeal Cert.OwKernelIdeal.Gen
open Idealize.ShloMosaic Idealize.ShloMosaic.TcCoe

variable (m : (ℓ : Loc nD τ sig) → Buf (Elt Ideal) ℓ)

/-- What a device's product array holds at the end. -/
def product (c : Dev nD) : Vec Ideal S4096x4096 .bf16 := fun i =>
  crossed (n := 4096) (k := 4096) (w := 4096) (m (c.tc.loc main_arg0)) (m (c.tc.loc main_arg1)) (i 0) (i 1)

theorem index_all : ∀ t, win0_0.index t = ![0, (grid0.coords t 0).val] ∧ win0_1.index t = ![0, (grid0.coords t 1).val]
    ∧ win0_2.index t = ![(grid0.coords t 0).val, (grid0.coords t 1).val] := by decide +kernel

theorem product_eq (c : Dev nD) : (dats m 0 c).arrAt 2 cfg0.N = product m c := by
  refine (dats m 0 c).arrAt_eq_of_covers 2 _ (by decide +kernel) fun t hf y => ?_
  show wrote m c t _ = _
  obtain ⟨p, q, rfl⟩ : ∃ (p : Fin 1024) (q : Fin 1024), y = ix2 p q := ⟨y 0, y 1, eq_ix2 y⟩
  unfold wrote
  refine (outBlock_apply _ _ p q).trans ?_
  unfold product crossed
  refine Finset.sum_congr rfl fun j _ => congrArg₂ _ ?_ ?_
  · blk_ext [iblk, V, index_all]
  · blk_ext [iblk, V, index_all]

end Cert.Ow

end
-- ==== Proof.OwLanding.lean ====
/-
# What the exchanges of `out_proj_dw` bring, at an index

Layer `j`, row `r`, column `q` of what device `c` has kept of the exchange between chips is layer `c / 2`, row `r`, column
`q` of the device on its link `j`. Layer `s`, row `r`, column `q` of the stack that it is sent by the other core of its chip
is layer `s`, row `1024 (c mod 2) + r`, column `q` of that one. Row `i`, column `q` of the matrix that it is sent by the other
core is row `2048 (1 - c mod 2) + i`, column `q` of that one.
-/
module

public import proofs.«01_k».proof.Proof.OwRun
public import Idealize.ShloMosaic.Lib.PointwiseCore

@[expose] public section

set_option maxRecDepth 16384

noncomputable section

namespace Cert.Ow

open Cert.OwKernelIdeal Cert.OwKernelIdeal.Gen
open Idealize.ShloMosaic Idealize.ShloMosaic.TcCoe

variable {F : FTy → Type} [FloatOps F]
variable (m : (ℓ : Loc nD τ sig) → Buf (Elt F) ℓ)

theorem landedP_apply (c : Dev nD) (s : Fin 4) (r : Fin 1024) (q : Fin 2560) :
    landedP m c (ix3 s r q) = m ((peer 3 c : Thread nD τ).loc main_arg3)
      (ix3 s (⟨1024 * (c.val % 2) + r.val, by omega⟩ : Fin 2048) q) := by
  refine congrArg (m ((peer 3 c : Thread nD τ).loc main_arg3)) ?_
  have ho : k0_off4 (peer 3 c) = ![0, 1024 * (c.val % 2), 0] := by
    revert c; decide +kernel
  funext k
  fin_cases k <;> refine Fin.ext ?_
  · show k0_off4 (peer 3 c) 0 + 1 * s.val = s.val
    rw [ho]; show 0 + 1 * s.val = s.val; omega
  · show k0_off4 (peer 3 c) 1 + 1 * r.val = 1024 * (c.val % 2) + r.val
    rw [ho]; show 1024 * (c.val % 2) + 1 * r.val = 1024 * (c.val % 2) + r.val; omega
  · show k0_off4 (peer 3 c) 2 + 1 * q.val = q.val
    rw [ho]; show 0 + 1 * q.val = q.val; omega

theorem landedH_apply (c : Dev nD) (i : Fin 2048) (q : Fin 4096) :
    landedH m c (ix2 i q) = m ((peer 4 c : Thread nD τ).loc main_arg4)
      (ix2 (⟨2048 * (1 - c.val % 2) + i.val, by omega⟩ : Fin 4096) q) := by
  refine congrArg (m ((peer 4 c : Thread nD τ).loc main_arg4)) ?_
  have ho : k0_off5 (peer 4 c) = ![2048 * (1 - c.val % 2), 0] := by
    revert c; decide +kernel
  funext k
  fin_cases k <;> refine Fin.ext ?_
  · show k0_off5 (peer 4 c) 0 + 1 * i.val = 2048 * (1 - c.val % 2) + i.val
    rw [ho]; show 2048 * (1 - c.val % 2) + 1 * i.val = 2048 * (1 - c.val % 2) + i.val; omega
  · show k0_off5 (peer 4 c) 1 + 1 * q.val = q.val
    rw [ho]; show 0 + 1 * q.val = q.val; omega

theorem carved_apply (c : Dev nD) (j : Fin 3) (r : Fin 704) (q : Fin 2560) :
    carved m c (ix3 j r q) = m ((chipA j c : Thread nD τ).loc main_arg2)
      (ix3 (⟨c.val / 2, by have : c.val < 8 := c.isLt; omega⟩ : Fin 4) (⟨r.val, by omega⟩ : Fin 1024) q) := by
  have e : carved m c (ix3 j r q) = filledA m c (ix3 j (⟨r.val, by omega⟩ : Fin 1024) q) := by
    pointwise [carved]
  refine e.trans ((if_pos (show r.val < 704 from r.isLt)).trans ?_)
  refine congrArg (m ((chipA j c : Thread nD τ).loc main_arg2)) ?_
  funext k
  fin_cases k <;> rfl

/-- The other core of the chip, by number: the device on link 3 and on link 4. -/
theorem pair_val (c : Dev nD) : (peer 3 c).val = c.val / 2 * 2 + (1 - c.val % 2) := by revert c; decide +kernel
theorem half_val (c : Dev nD) : (peer 4 c).val = c.val / 2 * 2 + (1 - c.val % 2) := by revert c; decide +kernel

end Cert.Ow

end
-- ==== Proof.OwReference.lean ====
/-
# The reference of `out_proj_dw` over the reals

The reference's first result has the same entries as the products of the devices. Its second one has three layers a device;
layer `j` of those of device `d` is the first 704 rows of the layer that belongs to the chip of `d`, of the four layers of
the device that `d` has on its link `j`. Its third one is, at layer `4 c + s`, half of layer `s` of the device next to `c`: of
the device `c + 1` the upper half if `c` is even, of `c − 1` the lower half if `c` is odd. Its fourth one has 2048 rows a
device: of the device `c + 1` the lower half if `c` is even, of `c − 1` the upper half if `c` is odd.
-/
module

public import proofs.«01_k».proof.Proof.OwWhole
public import proofs.«01_k».proof.Proof.Gen.OwReferenceIdeal.Run

@[expose] public section

set_option maxRecDepth 16384

noncomputable section

namespace Cert.Ow

open Idealize.ShloMosaic Idealize.ShloMosaic.TcCoe Idealize.SL.Sem

section
open Cert.OwReferenceIdeal Cert.OwReferenceIdeal.Gen

/-- The reference's first result, as its operations compute it. -/
abbrev refProduct {F : FTy → Type} [FloatOps F] (a b : Vec F S32768x4096 .bf16) : Vec F S32768x4096 .bf16 :=
  shapeCast _ (truncf .bf16 (Host.dotGeneral dot_S8x4096x4096_S8x4096x4096_S8x4096x4096_1_1_2_2_0_0 none
    (shapeCast _ (extf .f32 a bitsLt_bf16_f32) shapeCasts_S32768x4096_S8x4096x4096)
    (shapeCast _ (extf .f32 b bitsLt_bf16_f32) shapeCasts_S32768x4096_S8x4096x4096)) bitsLt_bf16_f32) shapeCasts_S8x4096x4096_S32768x4096

theorem refProduct_apply (a b : Vec Ideal S32768x4096 .bf16) (p : Fin 32768) (q : Fin 4096) :
    refProduct a b (ix2 p q) = ∑ t : Fin 4096,
      (a (ix2 (⟨p.val / 4096 * 4096 + t.val, by omega⟩ : Fin 32768) (⟨p.val % 4096, by omega⟩ : Fin 4096)) : EReal)
        * b (ix2 (⟨p.val / 4096 * 4096 + t.val, by omega⟩ : Fin 32768) q) := by
  pointwise [refProduct]

/-- Its third result. -/
abbrev refPair {F : FTy → Type} [FloatOps F] (d : Vec F S32x2048x2560 .bf16) : Vec F S32x1024x2560 .bf16 :=
  shapeCast _ (concatenate S4x2x4x1024x2560 1
    [⟨S4x1x4x1024x2560, (broadcastInDim S4x1x4x1024x2560 ![0, 2, 3, 4] bcast_S4x4x1024x2560_S4x1x4x1024x2560_0_2_3_4
      (shapeCast _ (extractStridedSlice S4x1x4x1x1024x2560 ![0, 1, 0, 0, 0, 0] (shapeCast _ d shapeCasts_S32x2048x2560_S4x2x4x2x1024x2560)
        slices_S4x2x4x2x1024x2560_S4x1x4x1x1024x2560_0_1_0_0_0_0) shapeCasts_S4x1x4x1x1024x2560_S4x4x1024x2560))⟩,
     ⟨S4x1x4x1024x2560, (broadcastInDim S4x1x4x1024x2560 ![0, 2, 3, 4] bcast_S4x4x1024x2560_S4x1x4x1024x2560_0_2_3_4
      (shapeCast _ (extractStridedSlice S4x1x4x1x1024x2560 ![0, 0, 0, 1, 0, 0] (shapeCast _ d shapeCasts_S32x2048x2560_S4x2x4x2x1024x2560)
        slices_S4x2x4x2x1024x2560_S4x1x4x1x1024x2560_0_0_0_1_0_0) shapeCasts_S4x1x4x1x1024x2560_S4x4x1024x2560))⟩]
    concatenates_S4x1x4x1024x2560_S4x1x4x1024x2560_S4x2x4x1024x2560_d1) shapeCasts_S4x2x4x1024x2560_S32x1024x2560

/-- Its fourth result. -/
abbrev refHalf {F : FTy → Type} [FloatOps F] (d : Vec F S32768x4096 .f32) : Vec F S16384x4096 .f32 :=
  shapeCast _ (concatenate S4x2x2048x4096 1
    [⟨S4x1x2048x4096, (broadcastInDim S4x1x2048x4096 ![0, 2, 3] bcast_S4x2048x4096_S4x1x2048x4096_0_2_3
      (shapeCast _ (extractStridedSlice S4x1x1x2048x4096 ![0, 1, 1, 0, 0] (shapeCast _ d shapeCasts_S32768x4096_S4x2x2x2048x4096)
        slices_S4x2x2x2048x4096_S4x1x1x2048x4096_0_1_1_0_0) shapeCasts_S4x1x1x2048x4096_S4x2048x4096))⟩,
     ⟨S4x1x2048x4096, (broadcastInDim S4x1x2048x4096 ![0, 2, 3] bcast_S4x2048x4096_S4x1x2048x4096_0_2_3
      (shapeCast _ (extractStridedSlice S4x1x1x2048x4096 ![0, 0, 0, 0, 0] (shapeCast _ d shapeCasts_S32768x4096_S4x2x2x2048x4096)
        slices_S4x2x2x2048x4096_S4x1x1x2048x4096_0_0_0_0_0) shapeCasts_S4x1x1x2048x4096_S4x2048x4096))⟩]
    concatenates_S4x1x2048x4096_S4x1x2048x4096_S4x2x2048x4096_d1) shapeCasts_S4x2x2048x4096_S16384x4096

variable {F : FTy → Type} [FloatOps F]

/-- Of chip `k`, both cores, what belongs to chip `chip`. -/
abbrev restPiece (d : Vec F S32x1024x2560 .bf16) (k chip : ℕ) (h : S4x2x4x704x2560.Slices ![k, 0, chip, 0, 0] S1x2x1x704x2560) :
    Vec F S2x1x704x2560 .bf16 :=
  broadcastInDim S2x1x704x2560 ![0, 2, 3] bcast_S2x704x2560_S2x1x704x2560_0_2_3
    (shapeCast _ (extractStridedSlice S1x2x1x704x2560 ![k, 0, chip, 0, 0]
      (extractStridedSlice S4x2x4x704x2560 ![0, 0, 0, 0, 0] (shapeCast _ d shapeCasts_S32x1024x2560_S4x2x4x1024x2560)
        slices_S4x2x4x1024x2560_S4x2x4x704x2560_0_0_0_0_0) h) shapeCasts_S1x2x1x704x2560_S2x704x2560)

/-- What the two cores of one chip get. -/
abbrev restStacked (x y z : Vec F S2x1x704x2560 .bf16) : Vec F S1x2x3x704x2560 .bf16 :=
  broadcastInDim S1x2x3x704x2560 ![1, 2, 3, 4] bcast_S2x3x704x2560_S1x2x3x704x2560_1_2_3_4
    (concatenate S2x3x704x2560 1 [⟨S2x1x704x2560, x⟩, ⟨S2x1x704x2560, y⟩, ⟨S2x1x704x2560, z⟩]
      concatenates_S2x1x704x2560_S2x1x704x2560_S2x1x704x2560_S2x3x704x2560_d1)

/-- The reference's second result. -/
abbrev refCarved (d : Vec F S32x1024x2560 .bf16) : Vec F S24x704x2560 .bf16 :=
  shapeCast _ (concatenate S4x2x3x704x2560 0
    [⟨S1x2x3x704x2560, restStacked (restPiece d 2 0 slices_S4x2x4x704x2560_S1x2x1x704x2560_2_0_0_0_0)
        (restPiece d 1 0 slices_S4x2x4x704x2560_S1x2x1x704x2560_1_0_0_0_0) (restPiece d 3 0 slices_S4x2x4x704x2560_S1x2x1x704x2560_3_0_0_0_0)⟩,
     ⟨S1x2x3x704x2560, restStacked (restPiece d 3 1 slices_S4x2x4x704x2560_S1x2x1x704x2560_3_0_1_0_0)
        (restPiece d 0 1 slices_S4x2x4x704x2560_S1x2x1x704x2560_0_0_1_0_0) (restPiece d 2 1 slices_S4x2x4x704x2560_S1x2x1x704x2560_2_0_1_0_0)⟩,
     ⟨S1x2x3x704x2560, restStacked (restPiece d 0 2 slices_S4x2x4x704x2560_S1x2x1x704x2560_0_0_2_0_0)
        (restPiece d 3 2 slices_S4x2x4x704x2560_S1x2x1x704x2560_3_0_2_0_0) (restPiece d 1 2 slices_S4x2x4x704x2560_S1x2x1x704x2560_1_0_2_0_0)⟩,
     ⟨S1x2x3x704x2560, restStacked (restPiece d 1 3 slices_S4x2x4x704x2560_S1x2x1x704x2560_1_0_3_0_0)
        (restPiece d 2 3 slices_S4x2x4x704x2560_S1x2x1x704x2560_2_0_3_0_0) (restPiece d 0 3 slices_S4x2x4x704x2560_S1x2x1x704x2560_0_0_3_0_0)⟩]
    concatenates_S1x2x3x704x2560_S1x2x3x704x2560_S1x2x3x704x2560_S1x2x3x704x2560_S4x2x3x704x2560_d0) shapeCasts_S4x2x3x704x2560_S24x704x2560

/-- The layer that layer `l` of the second result is taken from: which link and which device `l` is of says. -/
def source (l : Fin 24) : Fin 32 :=
  ⟨4 * (chipA ⟨l.val % 3, Nat.mod_lt _ (by decide)⟩ ⟨l.val / 3, by show l.val / 3 < 8; omega⟩).val + l.val / 6, by revert l; decide⟩

theorem refCarved_apply (d : Vec F S32x1024x2560 .bf16) (l : Fin 24) (r : Fin 704) (q : Fin 2560) :
    refCarved d (ix3 l r q) = d (ix3 (source l) (⟨r.val, by omega⟩ : Fin 1024) q) := by
  pointwise [refCarved]
  fin_cases l <;> rfl

theorem refPair_apply (d : Vec F S32x2048x2560 .bf16) (l : Fin 32) (i : Fin 1024) (j : Fin 2560) :
    refPair d (ix3 l i j) = d (ix3 (⟨8 * (l.val / 8) + 4 * (1 - l.val / 4 % 2) + l.val % 4, by omega⟩ : Fin 32)
      (⟨1024 * (l.val / 4 % 2) + i.val, by omega⟩ : Fin 2048) j) := by
  pointwise [refPair]
  split <;> refine congrArg d ?_ <;> funext k <;> fin_cases k <;> refine Fin.ext ?_
  · show l.val / 8 * 8 + 4 + l.val % 4 = 8 * (l.val / 8) + 4 * (1 - l.val / 4 % 2) + l.val % 4; omega
  · show i.val = 1024 * (l.val / 4 % 2) + i.val; omega
  · rfl
  · show l.val / 8 * 8 + l.val % 4 = 8 * (l.val / 8) + 4 * (1 - l.val / 4 % 2) + l.val % 4; omega
  · show 1024 + i.val = 1024 * (l.val / 4 % 2) + i.val; omega
  · rfl

set_option maxRecDepth 131072 in
theorem refHalf_apply (d : Vec F S32768x4096 .f32) (l : Fin 16384) (j : Fin 4096) :
    refHalf d (ix2 l j) = d (ix2 (⟨8192 * (l.val / 4096) + 6144 * (1 - l.val / 2048 % 2) + l.val % 2048, by omega⟩ : Fin 32768) j) := by
  pointwise [refHalf]
  split <;> refine congrArg d ?_ <;> funext k <;> fin_cases k <;> refine Fin.ext ?_
  · show l.val / 4096 * 8192 + 4096 + 2048 + l.val % 2048 = 8192 * (l.val / 4096) + 6144 * (1 - l.val / 2048 % 2) + l.val % 2048; omega
  · rfl
  · show l.val / 4096 * 8192 + l.val % 2048 = 8192 * (l.val / 4096) + 6144 * (1 - l.val / 2048 % 2) + l.val % 2048; omega
  · rfl

/-- The reference's run. -/
theorem reference_run (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem (c.tc.loc main_v69) = refProduct (m (c.tc.loc main_arg0)) (m (c.tc.loc main_arg1))
      ∧ r.2.mem (c.tc.loc main_v70) = refCarved (m (c.tc.loc main_arg2))
      ∧ r.2.mem (c.tc.loc main_v71) = refPair (m (c.tc.loc main_arg3))
      ∧ r.2.mem (c.tc.loc main_v72) = refHalf (m (c.tc.loc main_arg4))
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)
      ∧ r.2.mem (c.tc.loc main_arg4) = m (c.tc.loc main_arg4)) ∧ r.2.sem = fun _ => 0) :=
  (θ_run defs _ _).mono (fun r h => ⟨h, sem_eq_zero_of_no_sems (by decide) r.2⟩) (Cert.OwReferenceIdeal.Value.run m ρ)

end

end Cert.Ow

end
-- ==== Proof.OwAgree.lean ====
/-
# Device by device, the two programs of `out_proj_dw` agree

What a device ends with is its block of what the reference ends with, if its arguments are its blocks of the reference's.
-/
module

public import proofs.«01_k».proof.Proof.OwWhole
public import proofs.«01_k».proof.Proof.OwLanding
public import proofs.«01_k».proof.Proof.OwReference
public import proofs.«01_k».proof.Proof.Agree
public import Idealize.ShloMosaic.Lib.Layout

@[expose] public section

set_option maxRecDepth 10240

noncomputable section

namespace Cert.Ow

open Cert.OwKernelIdeal
open Idealize.ShloMosaic Idealize.ShloMosaic.TcCoe
open Cert.Pair (block_rows block_layers)

section Product
variable (m : (ℓ : Loc nD τ sig) → Buf (Elt Ideal) ℓ)
  (A : Vec Ideal Cert.OwReferenceIdeal.S32768x4096 .bf16) (B : Vec Ideal Cert.OwReferenceIdeal.S32768x4096 .bf16)

theorem product_agrees (c : Dev nD)
    (h0 : m (c.tc.loc main_arg0) = Layout.block ⟨2, ![4096, 4096]⟩ ⟨2, ![32768, 4096]⟩ 0 8 c A)
    (h1 : m (c.tc.loc main_arg1) = Layout.block ⟨2, ![4096, 4096]⟩ ⟨2, ![32768, 4096]⟩ 0 8 c B) :
    product m c = Layout.block ⟨2, ![4096, 4096]⟩ ⟨2, ![32768, 4096]⟩ 0 8 c (refProduct A B) := by
  have hc : c.val < 8 := c.isLt
  funext y
  obtain ⟨p, q, rfl⟩ : ∃ (p q : Fin 4096), y = ix2 p q := ⟨y 0, y 1, eq_ix2 y⟩
  have hl : c.val * 4096 + p.val < 32768 := by omega
  refine Eq.trans ?_ (block_rows c (refProduct A B) (by decide) p q hl).symm
  rw [refProduct_apply]
  show crossed (n := 4096) (k := 4096) (w := 4096) (m (c.tc.loc main_arg0)) (m (c.tc.loc main_arg1)) p q = _
  unfold crossed
  refine Finset.sum_congr rfl fun t _ => ?_
  have ht : c.val * 4096 + t.val < 32768 := by omega
  have hrow : (⟨c.val * 4096 + t.val, ht⟩ : Fin 32768) = ⟨(c.val * 4096 + p.val) / 4096 * 4096 + t.val, by omega⟩ :=
    Fin.ext (by show c.val * 4096 + t.val = (c.val * 4096 + p.val) / 4096 * 4096 + t.val; omega)
  have hcol : p = (⟨(c.val * 4096 + p.val) % 4096, by omega⟩ : Fin 4096) :=
    Fin.ext (by show p.val = (c.val * 4096 + p.val) % 4096; omega)
  refine congrArg₂ _ ?_ ?_
  · refine (congrFun h0 (ix2 t p)).trans ((block_rows c A (by decide) t p ht).trans ?_)
    rw [hrow]
    exact congrArg (fun x => A (ix2 _ x)) hcol
  · refine (congrFun h1 (ix2 t q)).trans ((block_rows c B (by decide) t q ht).trans ?_)
    rw [hrow]

end Product

variable {F : FTy → Type} [FloatOps F]
variable (m : (ℓ : Loc nD τ sig) → Buf (Elt F) ℓ)
  (D : Vec F Cert.OwReferenceIdeal.S32x2048x2560 .bf16) (E : Vec F Cert.OwReferenceIdeal.S32x1024x2560 .bf16)
  (H : Vec F Cert.OwReferenceIdeal.S32768x4096 .f32)

theorem landedP_agrees (c : Dev nD)
    (h : m ((peer 3 c : Thread nD τ).loc main_arg3) = Layout.block ⟨3, ![4, 2048, 2560]⟩ ⟨3, ![32, 2048, 2560]⟩ 0 8 (peer 3 c) D) :
    landedP m c = Layout.block ⟨3, ![4, 1024, 2560]⟩ ⟨3, ![32, 1024, 2560]⟩ 0 8 c (refPair D) := by
  have hc : c.val < 8 := c.isLt
  have hv := pair_val c
  funext y
  obtain ⟨q, i, j, rfl⟩ : ∃ (q : Fin 4) (i : Fin 1024) (j : Fin 2560), y = ix3 q i j := ⟨y 0, y 1, y 2, eq_ix3 y⟩
  have hl : c.val * 4 + q.val < 32 := by omega
  refine Eq.trans ?_ (block_layers c (refPair D) (by decide) q i j hl).symm
  have hpl : (peer 3 c).val * 4 + q.val < 32 := by omega
  rw [landedP_apply, refPair_apply]
  refine (congrFun h _).trans ((block_layers (peer 3 c) D (by decide) q _ j hpl).trans ?_)
  congr 1
  funext k
  fin_cases k <;> refine Fin.ext ?_
  · show (peer 3 c).val * 4 + q.val = 8 * ((c.val * 4 + q.val) / 8) + 4 * (1 - (c.val * 4 + q.val) / 4 % 2) + (c.val * 4 + q.val) % 4
    omega
  · show 1024 * (c.val % 2) + i.val = 1024 * ((c.val * 4 + q.val) / 4 % 2) + i.val
    omega
  · rfl

theorem landedH_agrees (c : Dev nD)
    (h : m ((peer 4 c : Thread nD τ).loc main_arg4) = Layout.block ⟨2, ![4096, 4096]⟩ ⟨2, ![32768, 4096]⟩ 0 8 (peer 4 c) H) :
    landedH m c = Layout.block ⟨2, ![2048, 4096]⟩ ⟨2, ![16384, 4096]⟩ 0 8 c (refHalf H) := by
  have hc : c.val < 8 := c.isLt
  have hv := half_val c
  funext y
  obtain ⟨i, j, rfl⟩ : ∃ (i : Fin 2048) (j : Fin 4096), y = ix2 i j := ⟨y 0, y 1, eq_ix2 y⟩
  have hl : c.val * 2048 + i.val < 16384 := by omega
  refine Eq.trans ?_ (block_rows c (refHalf H) (by decide) i j hl).symm
  have hpl : (peer 4 c).val * 4096 + (2048 * (1 - c.val % 2) + i.val) < 32768 := by omega
  rw [landedH_apply, refHalf_apply]
  refine (congrFun h _).trans ((block_rows (peer 4 c) H (by decide) _ j hpl).trans ?_)
  refine congrArg (fun x => H (ix2 x j)) (Fin.ext ?_)
  show (peer 4 c).val * 4096 + (2048 * (1 - c.val % 2) + i.val)
    = 8192 * ((c.val * 2048 + i.val) / 4096) + 6144 * (1 - (c.val * 2048 + i.val) / 2048 % 2) + (c.val * 2048 + i.val) % 2048
  omega

/-- The layer a device is sent on a link, among those of all devices. -/
theorem source_eq (c : Fin 8) (j : Fin 3) (h : c.val * 3 + j.val < 24) :
    (source ⟨c.val * 3 + j.val, h⟩).val = (chipA j c).val * 4 + c.val / 2 := by revert c j; decide

theorem carved_agrees (c : Dev nD)
    (h : ∀ j, m ((chipA j c : Thread nD τ).loc main_arg2) = Layout.block ⟨3, ![4, 1024, 2560]⟩ ⟨3, ![32, 1024, 2560]⟩ 0 8 (chipA j c) E) :
    carved m c = Layout.block ⟨3, ![3, 704, 2560]⟩ ⟨3, ![24, 704, 2560]⟩ 0 8 c (refCarved E) := by
  have hc : c.val < 8 := c.isLt
  funext y
  obtain ⟨j, r, q, rfl⟩ : ∃ (j : Fin 3) (r : Fin 704) (q : Fin 2560), y = ix3 j r q := ⟨y 0, y 1, y 2, eq_ix3 y⟩
  have hl : c.val * 3 + j.val < 24 := by omega
  refine Eq.trans ?_ (block_layers c (refCarved E) (by decide) j r q hl).symm
  have hp : (chipA j c).val < 8 := (chipA j c).isLt
  have hpl : (chipA j c).val * 4 + c.val / 2 < 32 := by omega
  rw [carved_apply, refCarved_apply]
  refine (congrFun (h j) _).trans ((block_layers (chipA j c) E (by decide) ⟨c.val / 2, by omega⟩ _ q hpl).trans ?_)
  exact congrArg E (congrArg (ix3 · _ q) (Fin.ext (source_eq c j hl).symm))

end Cert.Ow

end
-- ==== Proof.FwBlock.lean ====
/-
# What one grid point of `up_fwd` computes

A grid point of `up_fwd` reads a 1024 × 4096 block `a` of `xn2` and a 4096 × 1024 block `b` of one chip's columns of the
weights, and writes two 1024 × 1024 blocks, each in two halves: columns 0…511 from columns 0…511 of `b`, columns 512…1023
from the others. `outBlock a b` and `squareBlock a b` are those blocks; their entries are the payloads'.
-/
module

public import proofs.«01_k».proof.Proof.Gen.FwKernelIdeal.Skeleton
public import Idealize.ShloMosaic.Lib.Writes

@[expose] public section

noncomputable section

namespace Cert.Fw

open Cert.FwKernelIdeal Cert.FwKernelIdeal.Gen
open Idealize.ShloMosaic

variable {F : FTy → Type} [FloatOps F]

/-- The left and right halves of an output block, as the body's stores name them. -/
abbrev leftHalf : Rect S1024x1024 := Rect.unit (s := S1024x1024) ![0, 0] S1024x512.size inb_S1024x1024_S1024x512_0_0
abbrev rightHalf : Rect S1024x1024 := Rect.unit (s := S1024x1024) ![0, 512] S1024x512.size inb_S1024x1024_S1024x512_0_512

/-- The left and right halves of the right factor's block. -/
abbrev leftOf : Rect S1x4096x1024 := Rect.unit (s := S1x4096x1024) ![0, 0, 0] S1x4096x512.size inb_S1x4096x1024_S1x4096x512_0_0_0
abbrev rightOf : Rect S1x4096x1024 := Rect.unit (s := S1x4096x1024) ![0, 0, 512] S1x4096x512.size inb_S1x4096x1024_S1x4096x512_0_0_512

/-- The left factor's block, as the body loads it. -/
abbrev allOf : Rect S1024x4096 := Rect.unit (s := S1024x4096) ![0, 0] S1024x4096.size inb_S1024x4096_S1024x4096_0_0

/-- A block seen through a rectangle. -/
def seen {s : Shape} {e : EltTy} (X : s.Idx → Elt F e) (r : Rect s) : r.shape.Idx → Elt F e := fun x => X (r.emb x)

/-- The half a column lies in, and its place there. -/
def column (y : S1024x1024.Idx) : S1024x512.Idx
  | 0 => y 0
  | 1 => ⟨(y 1).val % 512, Nat.mod_lt _ (by decide)⟩

/-- Two halves side by side. -/
def beside (l r : Vec F S1024x512 .bf16) : Vec F S1024x1024 .bf16 := fun y => if (y 1).val < 512 then l (column y) else r (column y)

/-- The two stores, last one first. -/
abbrev stores (l r : Vec F S1024x512 .bf16) : List (View.Piece (Elt F) S1024x1024 .bf16) := [⟨rightHalf, r⟩, ⟨leftHalf, l⟩]

/-- Over any contents, the two stores leave the halves side by side. -/
theorem read_stores (l r : Vec F S1024x512 .bf16) {κ : Kind} {sp : Space} (v : View sig κ sp S1024x1024 .bf16) (f : v.ty.Contents (Elt F)) :
    v.read (Elt F) (v.writes (Elt F) f (stores l r)) = beside l r := by
  funext y
  refine View.read_writes_apply_of_pieces v f (beside l r) (stores l r) ?_ y (View.cover_of_tiled (stores l r) S1024x512.size rfl y)
  intro p hp x
  rcases List.mem_cons.mp hp with rfl | hp
  · have h0 : ((rightHalf.emb x) 0).val = 0 + 1 * (x 0).val := rfl
    have h1 : ((rightHalf.emb x) 1).val = 512 + 1 * (x 1).val := rfl
    have hx : (x 1).val < 512 := (x 1).isLt
    show r x = beside l r (rightHalf.emb x)
    unfold beside
    rw [if_neg (by omega)]
    congr 1
    funext i
    fin_cases i
    · exact Fin.ext (by show (x 0).val = ((rightHalf.emb x) 0).val; omega)
    · exact Fin.ext (by show (x 1).val = ((rightHalf.emb x) 1).val % 512; omega)
  · rcases List.mem_cons.mp hp with rfl | hp
    · have h0 : ((leftHalf.emb x) 0).val = 0 + 1 * (x 0).val := rfl
      have h1 : ((leftHalf.emb x) 1).val = 0 + 1 * (x 1).val := rfl
      have hx : (x 1).val < 512 := (x 1).isLt
      show l x = beside l r (leftHalf.emb x)
      unfold beside
      rw [if_pos (by omega)]
      congr 1
      funext i
      fin_cases i
      · exact Fin.ext (by show (x 0).val = ((leftHalf.emb x) 0).val; omega)
      · exact Fin.ext (by show (x 1).val = ((leftHalf.emb x) 1).val % 512; omega)
    · exact absurd hp List.not_mem_nil

variable (a : Vec F S1024x4096 .bf16) (b : Vec F S1x4096x1024 .bf16)

/-- The blocks a grid point writes. -/
def outBlock : Vec F S1024x1024 .bf16 := beside (k0_pay3 (seen b leftOf) (seen a allOf)) (k0_pay6 (seen b rightOf) (seen a allOf))
def squareBlock : Vec F S1024x1024 .bf16 := beside (k0_pay4 (seen b leftOf) (seen a allOf)) (k0_pay1 (k0_pay5 (seen b rightOf) (seen a allOf)))

end Cert.Fw

end
-- ==== Proof.FwValue.lean ====
/-
# The blocks of a grid point of `up_fwd` over the reals

Over the extended reals the casts are the identity, so entry `(p, q)` of the block that a grid point writes first is the
inner product of row `p` of the left factor's block and column `q` of the right factor's, or zero where that is negative.
The other block has the square of that. The two halves of a block are read one after the other.
-/
module

public import proofs.«01_k».proof.Proof.FwBlock
public import Idealize.ShloMosaic.Lib.Pointwise

@[expose] public section

set_option maxRecDepth 16384

noncomputable section

namespace Cert.Fw

open Cert.FwKernelIdeal Cert.FwKernelIdeal.Gen
open Idealize.ShloMosaic

variable (a : Vec Ideal S1024x4096 .bf16) (b : Vec Ideal S1x4096x1024 .bf16)

/-- The inner product of a row of the left block and a column of the right one, negative ones made zero. -/
def rect (p : Fin 1024) (q : Fin 1024) : EReal := max (∑ t : Fin 4096, (a (ix2 p t) : EReal) * b (ix3 (0 : Fin 1) t q)) 0

/-- Where the halves put an index. -/
theorem at_all (p : Fin 1024) (t : Fin 4096) : allOf.emb (ix2 p t) = ix2 p t := by
  funext i; fin_cases i <;> exact Fin.ext (show 0 + 1 * _ = _ by rw [Nat.zero_add, Nat.one_mul])
theorem at_left (t : Fin 4096) (q : Fin 512) : leftOf.emb (ix3 (0 : Fin 1) t q) = ix3 (0 : Fin 1) t (⟨q.val, by omega⟩ : Fin 1024) := by
  funext i; fin_cases i <;> exact Fin.ext (show 0 + 1 * _ = _ by rw [Nat.zero_add, Nat.one_mul]; rfl)
theorem at_right (t : Fin 4096) (q : Fin 512) : rightOf.emb (ix3 (0 : Fin 1) t q) = ix3 (0 : Fin 1) t (⟨512 + q.val, by omega⟩ : Fin 1024) := by
  funext i; fin_cases i
  · exact Fin.ext (show 0 + 1 * _ = _ by rw [Nat.zero_add, Nat.one_mul]; rfl)
  · exact Fin.ext (show 0 + 1 * _ = _ by rw [Nat.zero_add, Nat.one_mul]; rfl)
  · exact Fin.ext (show 512 + 1 * _ = _ by rw [Nat.one_mul]; rfl)

section
variable (p : Fin 1024) (q : Fin 512)

theorem left_apply : k0_pay2 (seen b leftOf) (seen a allOf) (ix2 p q) = rect a b p ⟨q.val, by omega⟩ := by
  pointwise [k0_pay2, seen, rect]
  simp only [at_all, at_left]

theorem right_apply : k0_pay5 (seen b rightOf) (seen a allOf) (ix2 p q) = rect a b p ⟨512 + q.val, by omega⟩ := by
  pointwise [k0_pay5, seen, rect]
  simp only [at_all, at_right]

end

/-- Two halves side by side have the entries of a whole if each has those of its part. -/
theorem beside_apply (l r : Vec Ideal S1024x512 .bf16) (g : Fin 1024 → EReal) (p q : Fin 1024)
    (hl : ∀ k : Fin 512, (l (ix2 p k) : EReal) = g ⟨k.val, by omega⟩) (hr : ∀ k : Fin 512, (r (ix2 p k) : EReal) = g ⟨512 + k.val, by omega⟩) :
    (beside l r (ix2 p q) : EReal) = g q := by
  have hc : column (ix2 p q) = ix2 p (⟨q.val % 512, Nat.mod_lt _ (by decide)⟩ : Fin 512) := by
    funext i; fin_cases i <;> rfl
  have hq := q.isLt
  by_cases h : q.val < 512
  · have e : beside l r (ix2 p q) = l (column (ix2 p q)) := if_pos h
    rw [e, hc, hl]
    exact congrArg _ (Fin.ext (by show q.val % 512 = q.val; omega))
  · have e : beside l r (ix2 p q) = r (column (ix2 p q)) := if_neg h
    rw [e, hc, hr]
    exact congrArg _ (Fin.ext (by show 512 + q.val % 512 = q.val; omega))

/-- The whole blocks. -/
theorem outBlock_apply (p : Fin 1024) (q : Fin 1024) : outBlock a b (ix2 p q) = rect a b p q :=
  beside_apply _ _ (rect a b p) p q (left_apply a b p) (right_apply a b p)

theorem squareBlock_apply (p : Fin 1024) (q : Fin 1024) : squareBlock a b (ix2 p q) = rect a b p q * rect a b p q :=
  beside_apply _ _ (fun q => rect a b p q * rect a b p q) p q
    (fun k => congrArg₂ (· * ·) (left_apply a b p k) (left_apply a b p k)) (fun k => congrArg₂ (· * ·) (right_apply a b p k) (right_apply a b p k))

end Cert.Fw

end
-- ==== Proof.Relay.lean ====
/-
# Links that pass on what came along others

A device may have to wait for one transfer before it can start another: what comes along one link is sent on along the
next. It then waits while it still owes transfers, which is allowed when the links are ranked and every link is ranked
above those it passes on. `ranks` are the levels that a ranking of the links gives, `may_wait` is the rule.
-/
module

public import proofs.«01_k».proof.Proof.Links

@[expose] public section

noncomputable section

namespace Cert.Exchange

open Idealize.ShloMosaic
open TcCoe Rounds
open Idealize.SL Idealize.SL.RA Idealize.SL.BI
open BIBase Laws ProofMode Sem

variable {nD : Nat} {τ : Topo} {sig : RefSig} {Val : EltTy → Type} [∀ e, Nonempty (Val e)]

local notation "𝕄" => MT nD τ sig Unit Val ℕ (UU nD sig τ) ℕ

variable (K : Links nD sig) (rank : Fin K.J → ℕ)

open Classical in
/-- A receive cell is at the rank of its link, every other cell at zero. -/
def ranks (g : GSem nD τ sig) (_ : Unit) : ℕ := if h : ∃ j, g.2 = .dma (K.recvSem j) then rank h.choose else 0

theorem ranks_recv (c : Dev nD) (j : Fin K.J) : ranks K rank (K.recvCell c j : GSem nD τ sig) () = rank j := by
  have h : ∃ j', (K.recvCell c j : GSem nD τ sig).2 = .dma (K.recvSem j') := ⟨j, rfl⟩
  unfold ranks
  rw [dif_pos h]
  have e : (true, j) = (true, h.choose) := K.osem_inj h.choose_spec
  exact congrArg rank (congrArg Prod.snd e).symm

theorem ranks_other (c : Dev nD) (q : DmaSem sig) (hq : ∀ j, q ≠ K.recvSem j) : ranks K rank ((c.tc, .dma q) : GSem nD τ sig) () = 0 := by
  unfold ranks
  exact dif_neg fun ⟨j, h⟩ => hq j (by injection h)

/-- A cell of rank at most `b` may be waited for while only transfers of higher rank are owed. -/
theorem may_wait (c : Dev nD) (q : DmaSem sig) (b : ℕ) (hq : ranks K rank ((c.tc, .dma q) : GSem nD τ sig) () ≤ b)
    (O : CellTallies nD τ sig Unit) (hO : ∀ g u, 0 < O g u → ∃ c' j, g = K.recvCell c' j ∧ b < rank j) :
    (levAts L (ranks K rank) : sProp 𝕄) ⊢ MayWait c.tc (.dma q) () O :=
  MayOwe.of_cut (L := L) (lev := ranks K rank) b (fun p hp => by rw [Finset.mem_singleton.mp hp, L_tc]; exact Finset.mem_singleton_self _)
    (fun g u hg => by obtain ⟨c', j, rfl, -⟩ := hO g u hg; exact Finset.mem_singleton_self _)
    (fun p hp => by rw [Finset.mem_singleton.mp hp]; exact hq)
    (fun g u hg => by
      obtain ⟨c', j, rfl, hj⟩ := hO g u hg
      exact lt_of_lt_of_eq hj (ranks_recv K rank c' j).symm)

end Cert.Exchange

end
-- ==== Proof.FwLinks.lean ====
/-
# The gathering of `up_fwd`: who sends what to whom

The eight devices are the cores of a 2 × 2 torus of chips with two cores each; device `c` is core `c % 2` of chip
`c / 2`. Beside its products, `up_fwd` gathers the `main_arg2` of every other chip into the layers of `main_v1_2`, layer `s`
for chip `s`. A core brings one half of the rows of each chip and passes them to the other core of its chip. There are
eight links. Links 0 and 5 join a device to the same core of the chip across the first torus axis, links 1 and 4 across the
second, links 2, 3, 6 and 7 to the other core of its chip. Device `c`

* sends its half of the rows of its own `main_arg2` on links 0 and 1;
* passes on what came along link 0: all of it on link 2, the first half of it on link 4; and what came along link 1: all of
  it on link 3, the second half of it on link 5;
* passes on what came along link 4 on link 6, and what came along link 5 on link 7.

Rows lie at one and the same place of `main_v1_2` on every device. The payloads name the contents, so one run over any float
values gives both frames and the value.
-/
module

public import proofs.«01_k».proof.Proof.Relay
public import proofs.«01_k».proof.Proof.Gen.FwKernelIdeal
public import proofs.«01_k».proof.Proof.Gen.FwKernelIdeal.Launch

@[expose] public section

noncomputable section

namespace Cert.Fw

open Cert.FwKernelIdeal Cert.FwKernelIdeal.Gen

open Idealize.ShloMosaic
open TcCoe Rounds
open Idealize.SL Idealize.SL.RA Idealize.SL.BI
open BIBase Laws ProofMode Sem
open Cert.Exchange (Links UU EP ER)

variable {F : FTy → Type} [FloatOps F]

local notation "𝕄" => MT nD τ sig Unit (Elt F) ℕ (UU nD sig τ) ℕ

/-! ## The links -/

/-- The devices across the first torus axis, across the second, and on the other core of the chip. -/
def across₁ (c : Dev nD) : Dev nD := ⟨(c.val + 4) % 8, Nat.mod_lt _ (by decide)⟩
def across₂ (c : Dev nD) : Dev nD := ⟨c.val / 4 * 4 + (c.val + 2) % 4, by revert c; decide⟩
def sibling (c : Dev nD) : Dev nD := ⟨c.val / 2 * 2 + (c.val + 1) % 2, by revert c; decide⟩

/-- The device at the other end of a link. -/
def peer (j : Fin 8) : Dev nD → Dev nD :=
  match j with
  | 0 | 5 => across₁
  | 1 | 4 => across₂
  | 2 | 3 | 6 | 7 => sibling

theorem peer_peer (j : Fin 8) (c : Dev nD) : peer j (peer j c) = c := by revert j c; decide

/-- The devices the kernel computes for its transfers are these. -/
theorem dev1_eq (c : Dev nD) (h : k0_dev1 c < nD) : (⟨k0_dev1 c, h⟩ : Dev nD) = peer 0 c := by
  revert c; decide +kernel
theorem dev2_eq (c : Dev nD) (h : k0_dev2 c < nD) : (⟨k0_dev2 c, h⟩ : Dev nD) = peer 1 c := by
  revert c; decide +kernel
theorem dev3_eq (c : Dev nD) (h : k0_dev3 c < nD) : (⟨k0_dev3 c, h⟩ : Dev nD) = peer 4 c := by
  revert c; decide +kernel
theorem dev4_eq (c : Dev nD) (h : k0_dev4 c < nD) : (⟨k0_dev4 c, h⟩ : Dev nD) = peer 2 c := by
  revert c; decide +kernel
theorem dev5_eq (c : Dev nD) (h : k0_dev5 c < nD) : (⟨k0_dev5 c, h⟩ : Dev nD) = peer 5 c := by
  revert c; decide +kernel
theorem dev6_eq (c : Dev nD) (h : k0_dev6 c < nD) : (⟨k0_dev6 c, h⟩ : Dev nD) = peer 3 c := by
  revert c; decide +kernel
theorem dev7_eq (c : Dev nD) (h : k0_dev7 c < nD) : (⟨k0_dev7 c, h⟩ : Dev nD) = peer 6 c := by
  revert c; decide +kernel
theorem dev8_eq (c : Dev nD) (h : k0_dev8 c < nD) : (⟨k0_dev8 c, h⟩ : Dev nD) = peer 7 c := by
  revert c; decide +kernel

/-- A transfer may go from each device to its peers. -/
theorem routes (j : Fin 8) (c : Dev nD) : τ.routes c.tc (peer j c : Thread nD τ) = true := by revert j c; decide

theorem sem_inb (j : Fin 8) : ∀ a, (![j.val] : Fin 1 → ℕ) a + S1.size a ≤ S8.size a := by revert j; decide

abbrev sendSem (j : Fin 8) : DmaSem sig := ((cc0_scratch0.slice (Rect.unit (s := S8) ![j.val] S1.size (sem_inb j))).squeeze S_ squeezes_S1_S_ : DmaSems sig S_).sem
abbrev recvSem (j : Fin 8) : DmaSem sig := ((cc0_scratch1.slice (Rect.unit (s := S8) ![j.val] S1.size (sem_inb j))).squeeze S_ squeezes_S1_S_ : DmaSems sig S_).sem

/-- Half the rows of a `main_arg2`, and half and a quarter of the rows of a layer of `main_v1_2`, at an offset. -/
abbrev own (o : Fin 2 → ℕ) (h : ∀ a, o a + S2048x4096.size a ≤ S4096x4096.size a) : Memref sig .tc .hbm S2048x4096 .bf16 :=
  (Memref.whole main_arg2).slice (Rect.unit (s := S4096x4096) o S2048x4096.size h) (fun _ => rfl)
abbrev big (o : Fin 3 → ℕ) (h : ∀ a, o a + S1x2048x4096.size a ≤ S4x4096x4096.size a) : Memref sig .tc .hbm S2048x4096 .bf16 :=
  ((Memref.whole main_v1_2).slice (Rect.unit (s := S4x4096x4096) o S1x2048x4096.size h) (fun _ => rfl)).squeeze S2048x4096 squeezes_S1x2048x4096_S2048x4096
abbrev half (o : Fin 3 → ℕ) (h : ∀ a, o a + S1x1024x4096.size a ≤ S4x4096x4096.size a) : Memref sig .tc .hbm S1024x4096 .bf16 :=
  ((Memref.whole main_v1_2).slice (Rect.unit (s := S4x4096x4096) o S1x1024x4096.size h) (fun _ => rfl)).squeeze S1024x4096 squeezes_S1x1024x4096_S1024x4096

/-- The units of one transfer of a link. -/
def amountBig : ℕ := (big ![0, 0, 0] (by decide)).view.dmaCredit
def amountHalf : ℕ := (half ![0, 0, 0] (by decide)).view.dmaCredit
def amount (j : Fin 8) : ℕ := if j.val < 4 then amountBig else amountHalf

abbrev links : Links nD sig where
  J := 8
  sendSem := sendSem
  recvSem := recvSem
  peer := peer
  peer_peer := peer_peer
  units := amount
  units_pos j := by
    unfold amount
    split <;> exact View.dmaCredit_pos _ (by decide)
  apart := by decide

/-- Every link is ranked above those it passes on. -/
def rank (j : Fin 8) : ℕ := if j.val < 2 then 1 else if j.val < 6 then 2 else 3

theorem rank_pos (j : Fin 8) : 0 < rank j := by revert j; decide

/-! ## The places -/

/-- The layer, the first row and the number of rows of what device `c` sends on a link, at either end. -/
def layer (j : Fin 8) (c : Dev nD) : ℕ :=
  match j with
  | 0 | 1 => c.val / 2
  | 2 | 4 => (across₁ c).val / 2
  | 3 | 5 => (across₂ c).val / 2
  | 6 | 7 => 3 - c.val / 2
def row (j : Fin 8) (c : Dev nD) : ℕ := 2048 * (c.val % 2) + (if j = 5 ∨ j = 7 then 1024 else 0)
def height (j : Fin 8) : ℕ := if j.val < 4 then 2048 else 1024

/-- Some rows of a layer. -/
def zone (s r n : ℕ) : Finset S4x4096x4096.Idx := Finset.univ.filter fun i => (i 0).val = s ∧ r ≤ (i 1).val ∧ (i 1).val < r + n

theorem mem_zone {s r n : ℕ} {i : S4x4096x4096.Idx} : i ∈ zone s r n ↔ (i 0).val = s ∧ r ≤ (i 1).val ∧ (i 1).val < r + n := by
  unfold zone
  rw [Finset.mem_filter, and_iff_right (Finset.mem_univ i)]

/-- The elements that device `c` sends on a link from the third on, and the elements that it is sent on a link. -/
def place (j : Fin 8) (c : Dev nD) : Finset S4x4096x4096.Idx := zone (layer j c) (row j c) (height j)
def landing (j : Fin 8) (c : Dev nD) : Finset S4x4096x4096.Idx := place j (peer j c)

theorem big_set {o : Fin 3 → ℕ} {h} {s r : ℕ} (ho : o = ![s, r, 0]) : (big o h).view.set = zone s r 2048 := by
  subst ho
  refine ((View.set_reshape _ _).trans (View.set_slice_whole _ _)).trans (Finset.ext fun i => ?_)
  rw [mem_zone]
  refine Rect.mem_set_unit.trans ⟨fun hi => ?_, fun hi a => ?_⟩
  · have h0 : s ≤ (i 0).val ∧ (i 0).val < s + 1 := hi 0
    exact ⟨by omega, hi 1⟩
  · have h2 : (i 2).val < 4096 := (i 2).isLt
    fin_cases a
    · exact ⟨hi.1.ge, by show (i 0).val < s + 1; omega⟩
    · exact hi.2
    · exact ⟨Nat.zero_le _, by show (i 2).val < 0 + 4096; omega⟩

theorem half_set {o : Fin 3 → ℕ} {h} {s r : ℕ} (ho : o = ![s, r, 0]) : (half o h).view.set = zone s r 1024 := by
  subst ho
  refine ((View.set_reshape _ _).trans (View.set_slice_whole _ _)).trans (Finset.ext fun i => ?_)
  rw [mem_zone]
  refine Rect.mem_set_unit.trans ⟨fun hi => ?_, fun hi a => ?_⟩
  · have h0 : s ≤ (i 0).val ∧ (i 0).val < s + 1 := hi 0
    exact ⟨by omega, hi 1⟩
  · have h2 : (i 2).val < 4096 := (i 2).isLt
    fin_cases a
    · exact ⟨hi.1.ge, by show (i 0).val < s + 1; omega⟩
    · exact hi.2
    · exact ⟨Nat.zero_le _, by show (i 2).val < 0 + 4096; omega⟩

/-- The places the kernel computes are these. -/
theorem off1_eq (c : Dev nD) : k0_off1 c = ![c.val / 2, 2048 * (c.val % 2), 0] := by revert c; decide +kernel
theorem off2_eq (c : Dev nD) : k0_off2 c = ![2048 * (c.val % 2), 0] := by revert c; decide +kernel
theorem off3_eq (c : Dev nD) : k0_off3 c = ![layer 2 c, row 2 c, 0] := by revert c; decide +kernel
theorem off4_eq (c : Dev nD) : k0_off4 c = ![layer 4 c, row 4 c, 0] := by revert c; decide +kernel
theorem off5_eq (c : Dev nD) : k0_off5 c = ![layer 3 c, row 3 c, 0] := by revert c; decide +kernel
theorem off6_eq (c : Dev nD) : k0_off6 c = ![layer 5 c, row 5 c, 0] := by revert c; decide +kernel
theorem off7_eq (c : Dev nD) : k0_off7 c 0#32 = ![layer 6 c, row 6 c, 0] := by revert c; decide +kernel
theorem off7_eq' (c : Dev nD) : k0_off7 c 1024#32 = ![layer 7 c, row 7 c, 0] := by revert c; decide +kernel

/-- What came along a link lies where it is passed on from. -/
theorem landing_0 (c : Dev nD) : landing 0 c = place 2 c := by
  have h : layer 0 (peer 0 c) = layer 2 c ∧ row 0 (peer 0 c) = row 2 c := by revert c; decide
  unfold landing place; rw [h.1, h.2]; rfl
theorem landing_1 (c : Dev nD) : landing 1 c = place 3 c := by
  have h : layer 1 (peer 1 c) = layer 3 c ∧ row 1 (peer 1 c) = row 3 c := by revert c; decide
  unfold landing place; rw [h.1, h.2]; rfl
theorem landing_4 (c : Dev nD) : landing 4 c = place 6 c := by
  have h : layer 4 (peer 4 c) = layer 6 c ∧ row 4 (peer 4 c) = row 6 c := by revert c; decide
  unfold landing place; rw [h.1, h.2]; rfl
theorem landing_5 (c : Dev nD) : landing 5 c = place 7 c := by
  have h : layer 5 (peer 5 c) = layer 7 c ∧ row 5 (peer 5 c) = row 7 c := by revert c; decide
  unfold landing place; rw [h.1, h.2]; rfl

theorem place_4_sub (c : Dev nD) : place 4 c ⊆ place 2 c := by
  have h : layer 4 c = layer 2 c ∧ row 4 c = row 2 c ∧ height 4 = 1024 ∧ height 2 = 2048 := by revert c; decide
  intro i hi
  unfold place at hi ⊢
  rw [mem_zone] at hi ⊢
  omega
theorem place_5_sub (c : Dev nD) : place 5 c ⊆ place 3 c := by
  have h : layer 5 c = layer 3 c ∧ row 5 c = row 3 c + 1024 ∧ height 5 = 1024 ∧ height 3 = 2048 := by revert c; decide
  intro i hi
  unfold place at hi ⊢
  rw [mem_zone] at hi ⊢
  omega

theorem landing_apart (c : Dev nD) (j j' : Fin 8) (h : j ≠ j') : Disjoint (landing j c) (landing j' c) := by
  have hn : layer j (peer j c) ≠ layer j' (peer j' c) ∨ row j (peer j c) + height j ≤ row j' (peer j' c)
      ∨ row j' (peer j' c) + height j' ≤ row j (peer j c) := by revert c j j'; decide +kernel
  refine Finset.disjoint_left.mpr fun i hi hi' => ?_
  unfold landing place at hi hi'
  rw [mem_zone] at hi hi'
  omega

/-- Every element outside the layer of the own chip is in a landing place, and none in it is. -/
theorem mem_landing (c : Dev nD) (i : S4x4096x4096.Idx) (h : (i 0).val ≠ c.val / 2) : ∃ j, i ∈ landing j c := by
  have hb : (i 1).val / 1024 < 4 := by have h : (i 1).val < 4096 := (i 1).isLt; omega
  have hn : ∀ (c : Dev nD) (s b : Fin 4), s.val ≠ c.val / 2 → ∃ j : Fin 8, s.val = layer j (peer j c) ∧ row j (peer j c) ≤ 1024 * b.val
      ∧ 1024 * b.val + 1024 ≤ row j (peer j c) + height j := by decide +kernel
  obtain ⟨j, h1, h2, h3⟩ := hn c (i 0) ⟨(i 1).val / 1024, hb⟩ h
  refine ⟨j, ?_⟩
  unfold landing place
  rw [mem_zone]
  dsimp only at h2 h3
  omega

theorem place_layer (j : Fin 8) (c : Dev nD) (hj : 2 ≤ j.val) {i : S4x4096x4096.Idx} (hi : i ∈ place j c) :
    (i 0).val ≠ c.val / 2 ∧ (i 0).val ≠ (peer j c).val / 2 := by
  have h : layer j c ≠ c.val / 2 ∧ layer j c ≠ (peer j c).val / 2 := by clear hi; revert c j; decide +kernel
  unfold place at hi
  rw [mem_zone] at hi
  omega

/-! ## What travels -/

variable (m : (ℓ : Loc nD τ sig) → Buf (Elt F) ℓ)

/-- The device whose half of the rows an element of `main_v1_2` belongs to, and where it lies in its `main_arg2`. -/
def source (i : S4x4096x4096.Idx) : Dev nD :=
  ⟨2 * (i 0).val + (i 1).val / 2048, by
    have h0 : (i 0).val < 4 := (i 0).isLt
    have h1 : (i 1).val < 4096 := (i 1).isLt
    show 2 * (i 0).val + (i 1).val / 2048 < 8; omega⟩
def origin (i : S4x4096x4096.Idx) : S4096x4096.Idx
  | 0 => i 1
  | 1 => i 2

/-- `main_v1_2` of device `c` when all has landed: the rows of the other chips, and in the layer of its own what it held. -/
def filled (c : Dev nD) : Vec F S4x4096x4096 .bf16 := fun i =>
  if (i 0).val = c.val / 2 then m (c.tc.loc main_v1_2) i else m ((source i : Thread nD τ).loc main_arg2) (origin i)

/-- Two devices agree on what is in a layer of neither. -/
theorem filled_eq (c c' : Dev nD) (i : S4x4096x4096.Idx) (h : (i 0).val ≠ c.val / 2) (h' : (i 0).val ≠ c'.val / 2) :
    filled m c i = filled m c' i := by unfold filled; rw [if_neg h, if_neg h']

/-- Elements of `main_v1_2` on device `c` at contents `f`. -/
def piece (c : Dev nD) (I : Finset S4x4096x4096.Idx) (q : PosShare TreeShare) (f : Vec F S4x4096x4096 .bf16) : sProp 𝕄 :=
  iprop(c.tc.loc main_v1_2 ↦[I]{q} (f : Buf (Elt F) (c.tc.loc main_v1_2)))

theorem off2_inb (c : Dev nD) : ∀ a, k0_off2 c a + S2048x4096.size a ≤ S4096x4096.size a := by revert c; decide +kernel

/-- The half of its own rows that device `c` sends, at its launch contents. -/
def mineRows (c : Dev nD) (q : PosShare TreeShare) : sProp 𝕄 :=
  iprop(c.tc.loc main_arg2 ↦[(own (k0_off2 c) (off2_inb c)).view.set]{q} m (c.tc.loc main_arg2))

/-- Two links that read the same elements have one half of the right to them each. -/
def part (j : Fin 8) : PosShare TreeShare :=
  match j with
  | 0 | 2 | 3 => fullShare.left
  | 1 | 4 | 5 => fullShare.right
  | 6 | 7 => fullShare

/-- What a device sends on a link, the place there for what it is sent, and that place with what was sent. -/
def lent (c : Dev nD) (j : Fin 8) : sProp 𝕄 := if j.val < 2 then mineRows m c (part j) else piece c (place j c) (part j) (filled m c)
def room (c : Dev nD) (j : Fin 8) : sProp 𝕄 := iprop(∃ f, piece c (landing j c) fullShare f)
def came (c : Dev nD) (j : Fin 8) : sProp 𝕄 := piece c (landing j c) fullShare (filled m c)

theorem lent_own (c : Dev nD) (j : Fin 8) (h : j.val < 2) : lent m c j = mineRows m c (part j) := if_pos h
theorem lent_pass (c : Dev nD) (j : Fin 8) (h : ¬ j.val < 2) : lent m c j = piece c (place j c) (part j) (filled m c) := if_neg h

/-- What the send cells return and what the receive cells deliver. -/
def pay : links.End → Dev nD → sProp 𝕄
  | (false, j), c => lent m c j
  | (true, j), c => came m c j

instance : Cert.Exchange.Keepable links (pay m) where
  keep k c := by
    have hm (q : PosShare TreeShare) : BI.Storable upEmb (mineRows m c q) := by unfold mineRows; infer_instance
    have hp (I : Finset S4x4096x4096.Idx) (q : PosShare TreeShare) : BI.Storable upEmb (piece c I q (filled m c)) := by unfold piece; infer_instance
    rcases k with ⟨_ | _, j⟩
    · show BI.Storable upEmb (lent m c j)
      unfold lent
      split
      · exact hm _
      · exact hp _ _
    · exact hp _ _

/-- A write through a view of what was read through the same view brings over the elements it names. -/
theorem write_read {κ : Kind} {sp : Space} {sh : Shape} {e : EltTy} (v : View sig κ sp sh e) (f g : v.ty.Contents (Elt F)) (i) (hi : i ∈ v.set) :
    v.write (Elt F) f (v.read (Elt F) g) Finset.univ i = g i := by
  obtain ⟨x, -, rfl⟩ := Finset.mem_map.mp hi
  rw [View.write_emb_of_mem f _ (Finset.mem_univ x)]
  unfold View.read
  rw [cast_cast, cast_eq]

/-- What a transfer of the own rows leaves where it lands is what `filled` says. -/
theorem delivered (c c' : Dev nD) (hc : c.val / 2 ≠ c'.val / 2) {h} {h'} (fd : Vec F S4x4096x4096 .bf16) (i) (hi : i ∈ (big (k0_off1 c) h).view.set) :
    (big (k0_off1 c) h).view.write (Elt F) fd ((own (k0_off2 c) h').view.read (Elt F) (m (c.tc.loc main_arg2))) Finset.univ i = filled m c' i := by
  have hz : i ∈ zone (c.val / 2) (2048 * (c.val % 2)) 2048 := big_set (off1_eq c) ▸ hi
  rw [mem_zone] at hz
  obtain ⟨x, -, rfl⟩ := Finset.mem_map.mp hi
  refine (View.write_emb_of_mem (v := (big (k0_off1 c) h).view) fd _ (Finset.mem_univ x)).trans ?_
  show m (c.tc.loc main_arg2) ((own (k0_off2 c) h').view.emb x) = _
  have e1 : (((big (k0_off1 c) h).view.emb x) 1).val = k0_off1 c 1 + 1 * (x 0).val :=
    congrArg (fun w : S1x2048x4096.Idx => k0_off1 c 1 + 1 * (w 1).val) (Shape.reshapeEquiv_cons_one (d := ![2048, 4096]) (by decide) x)
  have e2 : (((big (k0_off1 c) h).view.emb x) 2).val = k0_off1 c 2 + 1 * (x 1).val :=
    congrArg (fun w : S1x2048x4096.Idx => k0_off1 c 2 + 1 * (w 2).val) (Shape.reshapeEquiv_cons_one (d := ![2048, 4096]) (by decide) x)
  generalize hy : (big (k0_off1 c) h).view.emb x = i at hz e1 e2
  have f1 : k0_off1 c 1 = 2048 * (c.val % 2) := congrFun (off1_eq c) 1
  have f2 : k0_off1 c 2 = 0 := congrFun (off1_eq c) 2
  have g1 : k0_off2 c 0 = 2048 * (c.val % 2) := congrFun (off2_eq c) 0
  have g2 : k0_off2 c 1 = 0 := congrFun (off2_eq c) 1
  have hs : source i = c := Fin.ext (show 2 * (i 0).val + (i 1).val / 2048 = c.val by omega)
  unfold filled
  rw [if_neg (by omega), hs]
  refine congrArg _ (funext fun a => ?_)
  fin_cases a <;> refine Fin.ext ?_
  · show k0_off2 c 0 + 1 * (x 0).val = (i 1).val
    omega
  · show k0_off2 c 1 + 1 * (x 1).val = (i 2).val
    omega

/-! ## The buffers in pieces -/

/-- The elements of a device's `main_arg2` that it does not send, and the layer of its own chip. -/
def kept (c : Dev nD) : sProp 𝕄 :=
  iprop(c.tc.loc main_arg2 ↦[Finset.univ \ (own (k0_off2 c) (off2_inb c)).view.set]{fullShare} m (c.tc.loc main_arg2))
def ownLayer (c : Dev nD) (f : Vec F S4x4096x4096 .bf16) : sProp 𝕄 :=
  piece c (Finset.univ \ (Finset.univ : Finset (Fin 8)).biUnion fun j => landing j c) fullShare f

omit [FloatOps F] in
theorem piece_share (c : Dev nD) (I) (f : Vec F S4x4096x4096 .bf16) :
    (piece c I fullShare f : sProp 𝕄) ⊣⊢ iprop(piece c I fullShare.left f ∗ piece c I fullShare.right f) :=
  pointsTo_share (PosShare.mem_left_op_right fullShare)

omit [FloatOps F] in
theorem piece_sub (c : Dev nD) {I J} (h : I ⊆ J) (q) (f : Vec F S4x4096x4096 .bf16) :
    (piece c J q f : sProp 𝕄) ⊣⊢ iprop(piece c I q f ∗ piece c (J \ I) q f) :=
  pointsTo_split_subset h

omit [FloatOps F] in
theorem arg2_split (c : Dev nD) :
    (c.tc.loc main_arg2 ↦{fullShare} m (c.tc.loc main_arg2) : sProp 𝕄)
      ⊣⊢ iprop((mineRows m c fullShare.left ∗ mineRows m c fullShare.right) ∗ kept m c) := by
  have h : (mineRows m c fullShare : sProp 𝕄) = iprop(mineRows m c fullShare.left ∗ mineRows m c fullShare.right) :=
    by unfold mineRows; exact equiv_iff.mp ⟨(pointsTo_share (PosShare.mem_left_op_right fullShare)).1, (pointsTo_share (PosShare.mem_left_op_right fullShare)).2⟩
  rw [← h]
  exact pointsTo_split_subset (Finset.subset_univ _)

omit [FloatOps F] in
theorem buffer_split (c : Dev nD) (f : Vec F S4x4096x4096 .bf16) :
    (c.tc.loc main_v1_2 ↦{fullShare} (f : Buf (Elt F) (c.tc.loc main_v1_2)) : sProp 𝕄)
      ⊣⊢ iprop((bigSep Finset.univ fun j => piece c (landing j c) fullShare f) ∗ ownLayer c f) := by
  have h := pointsTo_biUnion (ℓ := (c.tc : Thread nD τ).loc main_v1_2) (Ix := Unit) (Name := ℕ) (U := UU nD sig τ) (Lvl := ℕ) (q := fullShare)
    (f := (f : Buf (Elt F) (c.tc.loc main_v1_2))) Finset.univ (fun j => landing j c) fun j _ j' _ hj => landing_apart c j j' hj
  unfold ownLayer piece
  rw [← h]
  exact pointsTo_split_subset (Finset.subset_univ _)

omit [FloatOps F] in
/-- Outside the landing places `filled` is what was there. -/
theorem ownLayer_eq (c : Dev nD) : (ownLayer c (m (c.tc.loc main_v1_2)) : sProp 𝕄) = ownLayer c (filled m c) := by
  unfold ownLayer piece
  refine pointsTo_congr fun i hi => ?_
  have h : (i 0).val = c.val / 2 := by
    by_contra hn
    obtain ⟨j, hj⟩ := mem_landing c i hn
    exact (Finset.mem_sdiff.mp hi).2 (Finset.mem_biUnion.mpr ⟨j, Finset.mem_univ _, hj⟩)
  exact (if_pos h).symm

/-- What holds of the eight links, one by one. -/
theorem eight (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ

end Cert.Fw

end
-- ==== Proof.FwParts.lean ====
/-
# The four parts of a grid point of `up_fwd`

The body at a grid point is: start the transfers of the own rows (at the first point), compute the two blocks, pass on what
came from the neighbouring chips (at point 38), pass on the rest and wait for everything (at the last point).
-/
module

public import proofs.«01_k».proof.Proof.Gen.FwKernelIdeal.Skeleton
public import proofs.«01_k».proof.Proof.Gen.FwKernelIdeal.Points
public import proofs.«01_k».proof.Proof.FwLinks

@[expose] public section

noncomputable section

namespace Cert.Fw

open Cert.FwKernelIdeal Cert.FwKernelIdeal.Gen
open Idealize.ShloMosaic
open TcCoe
open Idealize.SL.Sem

variable {F : FTy → Type} [FloatOps F]

/-- Programs of this kernel. -/
abbrev Code (F : FTy → Type) [FloatOps F] : Type → Type 1 := Prog (TpuEff nD τ sig (Elt F) Λ₀ .tc)

theorem own_exact {o : Fin 2 → ℕ} {h} (hw : (Rect.unit (s := S4096x4096) o S2048x4096.size h).WholeWords (EltTy.packing .bf16)) : (own o h).view.WordExact :=
  (Memref.isWhole_whole main_arg2).wordExact_slice rfl _ hw
theorem big_exact {o : Fin 3 → ℕ} {h} (hw : (Rect.unit (s := S4x4096x4096) o S1x2048x4096.size h).WholeWords (EltTy.packing .bf16)) : (big o h).view.WordExact :=
  ((Memref.isWhole_whole main_v1_2).wordExact_slice rfl _ hw).reshape _ _
theorem half_exact {o : Fin 3 → ℕ} {h} (hw : (Rect.unit (s := S4x4096x4096) o S1x1024x4096.size h).WholeWords (EltTy.packing .bf16)) : (half o h).view.WordExact :=
  ((Memref.isWhole_whole main_v1_2).wordExact_slice rfl _ hw).reshape _ _

/-- The first grid point sends the own rows. -/
def sendPart (i : grid0.Coords) : Code F PUnit :=
  if h : k0_cond1 i = 1#1 then
    .op .deviceId fun d =>
    .op (.enqueueDma (own (k0_off2 d) (k0_off2_inb i d h)) (.remote (Dev.tc (⟨k0_dev1 d, k0_dev1_lt i d h⟩ : Dev nD)) (big (k0_off1 d) (k0_off1_inb i d h)) (.dma (sendSem 0)))
      (.dma (recvSem 0)) (own_exact (k0_off2_wordsbf16 i d h)) (big_exact (k0_off1_wordsbf16 i d h)) ⟨⟨rfl, Or.inl rfl⟩, trivial⟩) fun _ =>
    .op (.enqueueDma (own (k0_off2 d) (k0_off2_inb i d h)) (.remote (Dev.tc (⟨k0_dev2 d, k0_dev2_lt i d h⟩ : Dev nD)) (big (k0_off1 d) (k0_off1_inb i d h)) (.dma (sendSem 1)))
      (.dma (recvSem 1)) (own_exact (k0_off2_wordsbf16 i d h)) (big_exact (k0_off1_wordsbf16 i d h)) ⟨⟨rfl, Or.inl rfl⟩, trivial⟩) fun _ => .ret ⟨⟩
  else .ret ⟨⟩

/-- Every grid point computes. -/
def workPart (A : Memref sig .tc .vmem S1024x4096 .bf16) (B : Memref sig .tc .vmem S1x4096x1024 .bf16)
    (O : Memref sig .tc .vmem S1024x1024 .bf16) (hO : O.IsWhole) (O' : Memref sig .tc .vmem S1024x1024 .bf16) (hO' : O'.IsWhole) : Code F PUnit :=
  .op (.load B (Rect.unit (s := S1x4096x1024) ![0, 0, 0] S1x4096x512.size inb_S1x4096x1024_S1x4096x512_0_0_0).toLoadRect (View.loadsAt_vmem h_S1x4096x512)) fun v8 =>
  .op (.load A (Rect.unit (s := S1024x4096) ![0, 0] S1024x4096.size inb_S1024x4096_S1024x4096_0_0).toLoadRect (View.loadsAt_vmem h_S1024x4096)) fun v10 =>
  .op (.load O (Rect.unit (s := S1024x1024) ![0, 0] S1024x512.size inb_S1024x1024_S1024x512_0_0).toLoadRect (View.loadsAt_vmem h_S1024x512)) fun _ =>
  .op (.store O (Rect.unit (s := S1024x1024) ![0, 0] S1024x512.size inb_S1024x1024_S1024x512_0_0) (k0_pay3 v8 v10) Finset.univ
    (View.stores_vmem h_S1024x512 (hO.storeExact_slice rfl _ packedbf16_S1024x1024_S1024x512_0_0) (fun _ => rfl)) (.inl rfl)) fun _ =>
  .op (.load O' (Rect.unit (s := S1024x1024) ![0, 0] S1024x512.size inb_S1024x1024_S1024x512_0_0).toLoadRect (View.loadsAt_vmem h_S1024x512)) fun _ =>
  .op (.store O' (Rect.unit (s := S1024x1024) ![0, 0] S1024x512.size inb_S1024x1024_S1024x512_0_0) (k0_pay4 v8 v10) Finset.univ
    (View.stores_vmem h_S1024x512 (hO'.storeExact_slice rfl _ packedbf16_S1024x1024_S1024x512_0_0) (fun _ => rfl)) (.inl rfl)) fun _ =>
  .op (.load B (Rect.unit (s := S1x4096x1024) ![0, 0, 512] S1x4096x512.size inb_S1x4096x1024_S1x4096x512_0_0_512).toLoadRect (View.loadsAt_vmem h_S1x4096x512)) fun v20 =>
  .op (.load A (Rect.unit (s := S1024x4096) ![0, 0] S1024x4096.size inb_S1024x4096_S1024x4096_0_0).toLoadRect (View.loadsAt_vmem h_S1024x4096)) fun v22 =>
  .op (.load O (Rect.unit (s := S1024x1024) ![0, 512] S1024x512.size inb_S1024x1024_S1024x512_0_512).toLoadRect (View.loadsAt_vmem h_S1024x512)) fun _ =>
  .op (.store O (Rect.unit (s := S1024x1024) ![0, 512] S1024x512.size inb_S1024x1024_S1024x512_0_512) (k0_pay6 v20 v22) Finset.univ
    (View.stores_vmem h_S1024x512 (hO.storeExact_slice rfl _ packedbf16_S1024x1024_S1024x512_0_512) (fun _ => rfl)) (.inl rfl)) fun _ =>
  .op (.load O' (Rect.unit (s := S1024x1024) ![0, 512] S1024x512.size inb_S1024x1024_S1024x512_0_512).toLoadRect (View.loadsAt_vmem h_S1024x512)) fun _ =>
  .op (.store O' (Rect.unit (s := S1024x1024) ![0, 512] S1024x512.size inb_S1024x1024_S1024x512_0_512) (k0_pay1 (k0_pay5 v20 v22)) Finset.univ
    (View.stores_vmem h_S1024x512 (hO'.storeExact_slice rfl _ packedbf16_S1024x1024_S1024x512_0_512) (fun _ => rfl)) (.inl rfl)) fun _ => .ret ⟨⟩

/-- Point 38 passes on what came along links 0 and 1. -/
def passPart (i : grid0.Coords) : Code F PUnit :=
  if h : k0_cond2 i = 1#1 then
    .op .deviceId fun d =>
    .op (.waitDma2 (recvSem 0) (big (k0_off3 d) (k0_off3_inb i d h)) (big (k0_off3 d) (k0_off3_inb i d h)) (big_exact (k0_off3_wordsbf16 i d h)) (big_exact (k0_off3_wordsbf16 i d h))) fun _ =>
    .op (.enqueueDma (half (k0_off4 d) (k0_off4_inb i d h)) (.remote (Dev.tc (⟨k0_dev3 d, k0_dev3_lt i d h⟩ : Dev nD)) (half (k0_off4 d) (k0_off4_inb i d h)) (.dma (sendSem 4)))
      (.dma (recvSem 4)) (half_exact (k0_off4_wordsbf16 i d h)) (half_exact (k0_off4_wordsbf16 i d h)) ⟨⟨rfl, Or.inl rfl⟩, trivial⟩) fun _ =>
    .op (.enqueueDma (big (k0_off3 d) (k0_off3_inb i d h)) (.remote (Dev.tc (⟨k0_dev4 d, k0_dev4_lt i d h⟩ : Dev nD)) (big (k0_off3 d) (k0_off3_inb i d h)) (.dma (sendSem 2)))
      (.dma (recvSem 2)) (big_exact (k0_off3_wordsbf16 i d h)) (big_exact (k0_off3_wordsbf16 i d h)) ⟨⟨rfl, Or.inl rfl⟩, trivial⟩) fun _ =>
    .op (.waitDma2 (recvSem 1) (big (k0_off5 d) (k0_off5_inb i d h)) (big (k0_off5 d) (k0_off5_inb i d h)) (big_exact (k0_off5_wordsbf16 i d h)) (big_exact (k0_off5_wordsbf16 i d h))) fun _ =>
    .op (.enqueueDma (half (k0_off6 d) (k0_off6_inb i d h)) (.remote (Dev.tc (⟨k0_dev5 d, k0_dev5_lt i d h⟩ : Dev nD)) (half (k0_off6 d) (k0_off6_inb i d h)) (.dma (sendSem 5)))
      (.dma (recvSem 5)) (half_exact (k0_off6_wordsbf16 i d h)) (half_exact (k0_off6_wordsbf16 i d h)) ⟨⟨rfl, Or.inl rfl⟩, trivial⟩) fun _ =>
    .op (.enqueueDma (big (k0_off5 d) (k0_off5_inb i d h)) (.remote (Dev.tc (⟨k0_dev6 d, k0_dev6_lt i d h⟩ : Dev nD)) (big (k0_off5 d) (k0_off5_inb i d h)) (.dma (sendSem 3)))
      (.dma (recvSem 3)) (big_exact (k0_off5_wordsbf16 i d h)) (big_exact (k0_off5_wordsbf16 i d h)) ⟨⟨rfl, Or.inl rfl⟩, trivial⟩) fun _ => .ret ⟨⟩
  else .ret ⟨⟩

/-- The last grid point passes on what came along links 4 and 5, and waits for what else it is sent and for what it sent itself. -/
def waitPart (i : grid0.Coords) : Code F PUnit :=
  if h : k0_cond3 i = 1#1 then
    .op .deviceId fun d =>
    .op (.waitDma2 (recvSem 4) (half (k0_off7 d 0#32) (k0_off7_inb i d h 0)) (half (k0_off7 d 0#32) (k0_off7_inb i d h 0)) (half_exact (k0_off7_wordsbf16 i d h 0)) (half_exact (k0_off7_wordsbf16 i d h 0))) fun _ =>
    .op (.enqueueDma (half (k0_off7 d 0#32) (k0_off7_inb i d h 0)) (.remote (Dev.tc (⟨k0_dev7 d, k0_dev7_lt i d h⟩ : Dev nD)) (half (k0_off7 d 0#32) (k0_off7_inb i d h 0)) (.dma (sendSem 6)))
      (.dma (recvSem 6)) (half_exact (k0_off7_wordsbf16 i d h 0)) (half_exact (k0_off7_wordsbf16 i d h 0)) ⟨⟨rfl, Or.inl rfl⟩, trivial⟩) fun _ =>
    .op (.waitDma2 (recvSem 5) (half (k0_off7 d 1024#32) (k0_off7_inb i d h 1)) (half (k0_off7 d 1024#32) (k0_off7_inb i d h 1)) (half_exact (k0_off7_wordsbf16 i d h 1)) (half_exact (k0_off7_wordsbf16 i d h 1))) fun _ =>
    .op (.enqueueDma (half (k0_off7 d 1024#32) (k0_off7_inb i d h 1)) (.remote (Dev.tc (⟨k0_dev8 d, k0_dev8_lt i d h⟩ : Dev nD)) (half (k0_off7 d 1024#32) (k0_off7_inb i d h 1)) (.dma (sendSem 7)))
      (.dma (recvSem 7)) (half_exact (k0_off7_wordsbf16 i d h 1)) (half_exact (k0_off7_wordsbf16 i d h 1)) ⟨⟨rfl, Or.inl rfl⟩, trivial⟩) fun _ =>
    .op (.waitDma2 (recvSem 2) (big (k0_off8 d) (k0_off8_inb i d h)) (big (k0_off8 d) (k0_off8_inb i d h)) (big_exact (k0_off8_wordsbf16 i d h)) (big_exact (k0_off8_wordsbf16 i d h))) fun _ =>
    .op (.waitDma2 (recvSem 3) (big (k0_off9 d) (k0_off9_inb i d h)) (big (k0_off9 d) (k0_off9_inb i d h)) (big_exact (k0_off9_wordsbf16 i d h)) (big_exact (k0_off9_wordsbf16 i d h))) fun _ =>
    .op (.waitDma2 (recvSem 6) (half (k0_off10 d 0#32) (k0_off10_inb i d h 0)) (half (k0_off10 d 0#32) (k0_off10_inb i d h 0)) (half_exact (k0_off10_wordsbf16 i d h 0)) (half_exact (k0_off10_wordsbf16 i d h 0))) fun _ =>
    .op (.waitDma2 (recvSem 7) (half (k0_off10 d 1024#32) (k0_off10_inb i d h 1)) (half (k0_off10 d 1024#32) (k0_off10_inb i d h 1)) (half_exact (k0_off10_wordsbf16 i d h 1)) (half_exact (k0_off10_wordsbf16 i d h 1))) fun _ =>
    .op (.waitDma2 (sendSem 0) (big (k0_off12 d) (k0_off12_inb i d h)) (own (k0_off11 d) (k0_off11_inb i d h)) (big_exact (k0_off12_wordsbf16 i d h)) (own_exact (k0_off11_wordsbf16 i d h))) fun _ =>
    .op (.waitDma2 (sendSem 1) (big (k0_off12 d) (k0_off12_inb i d h)) (own (k0_off11 d) (k0_off11_inb i d h)) (big_exact (k0_off12_wordsbf16 i d h)) (own_exact (k0_off11_wordsbf16 i d h))) fun _ =>
    .op (.waitDma2 (sendSem 2) (big (k0_off13 d) (k0_off13_inb i d h)) (big (k0_off13 d) (k0_off13_inb i d h)) (big_exact (k0_off13_wordsbf16 i d h)) (big_exact (k0_off13_wordsbf16 i d h))) fun _ =>
    .op (.waitDma2 (sendSem 3) (big (k0_off14 d) (k0_off14_inb i d h)) (big (k0_off14 d) (k0_off14_inb i d h)) (big_exact (k0_off14_wordsbf16 i d h)) (big_exact (k0_off14_wordsbf16 i d h))) fun _ =>
    .op (.waitDma2 (sendSem 4) (half (k0_off15 d) (k0_off15_inb i d h)) (half (k0_off15 d) (k0_off15_inb i d h)) (half_exact (k0_off15_wordsbf16 i d h)) (half_exact (k0_off15_wordsbf16 i d h))) fun _ =>
    .op (.waitDma2 (sendSem 5) (half (k0_off16 d) (k0_off16_inb i d h)) (half (k0_off16 d) (k0_off16_inb i d h)) (half_exact (k0_off16_wordsbf16 i d h)) (half_exact (k0_off16_wordsbf16 i d h))) fun _ =>
    .op (.waitDma2 (sendSem 6) (half (k0_off7 d 0#32) (k0_off7_inb i d h 0)) (half (k0_off7 d 0#32) (k0_off7_inb i d h 0)) (half_exact (k0_off7_wordsbf16 i d h 0)) (half_exact (k0_off7_wordsbf16 i d h 0))) fun _ =>
    .op (.waitDma2 (sendSem 7) (half (k0_off7 d 1024#32) (k0_off7_inb i d h 1)) (half (k0_off7 d 1024#32) (k0_off7_inb i d h 1)) (half_exact (k0_off7_wordsbf16 i d h 1)) (half_exact (k0_off7_wordsbf16 i d h 1))) fun _ => .ret ⟨⟩
  else .ret ⟨⟩

/-- The body is its four parts, one after the other. -/
theorem body_eq (t : Fin cfg0.N) :
    bodyAt0 (F := F) t = sendPart (grid0.coords t) >>= fun _ =>
      workPart (st0_0 t) (st0_1 t) (st0_2 t) (hstage0_2 ((cfg0.slots t 2).cast nbuf0_2)) (st0_3 t) (hstage0_3 ((cfg0.slots t 3).cast nbuf0_3)) >>= fun _ =>
      passPart (grid0.coords t) >>= fun _ => waitPart (grid0.coords t) := by
  unfold bodyAt0 sendPart
  rw [cc0_up_fwd_eq_skeleton]
  unfold cc0_up_fwd_skel
  rw [k0_part12_eq_skeleton]
  unfold k0_part12_skel
  rw [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton]
  unfold k0_part1_skel k0_part2_skel k0_part3_skel k0_part4_skel k0_part5_skel k0_part6_skel k0_part7_skel k0_part8_skel k0_part9_skel k0_part10_skel k0_part11_skel passPart waitPart
  by_cases h : k0_cond1 (grid0.coords t) = 1#1 <;> by_cases h' : k0_cond2 (grid0.coords t) = 1#1 <;> by_cases h'' : k0_cond3 (grid0.coords t) = 1#1
  · rw [dif_pos h, dif_pos h]; simp only [dif_pos h', dif_pos h'']; rfl
  · rw [dif_pos h, dif_pos h]; simp only [dif_pos h', dif_neg h'']; rfl
  · rw [dif_pos h, dif_pos h]; simp only [dif_neg h', dif_pos h'']; rfl
  · rw [dif_pos h, dif_pos h]; simp only [dif_neg h', dif_neg h'']; rfl
  · rw [dif_neg h, dif_neg h]; simp only [dif_pos h', dif_pos h'']; rfl
  · rw [dif_neg h, dif_neg h]; simp only [dif_pos h', dif_neg h'']; rfl
  · rw [dif_neg h, dif_neg h]; simp only [dif_neg h', dif_pos h'']; rfl
  · rw [dif_neg h, dif_neg h]; simp only [dif_neg h', dif_neg h'']; rfl

/-- The first point sends, point 38 passes on, the last point waits. -/
theorem sends_iff (t : Fin cfg0.N) : k0_cond1 (grid0.coords t) = 1#1 ↔ t.val = 0 :=
  (by decide +kernel : ∀ t : Fin grid0.N, k0_cond1 (grid0.coords t) = 1#1 ↔ t.val = 0) t
theorem passes_iff (t : Fin cfg0.N) : k0_cond2 (grid0.coords t) = 1#1 ↔ t.val = 38 :=
  (by decide +kernel : ∀ t : Fin grid0.N, k0_cond2 (grid0.coords t) = 1#1 ↔ t.val = 38) t
theorem waits_iff (t : Fin cfg0.N) : k0_cond3 (grid0.coords t) = 1#1 ↔ t.val = 63 :=
  (by decide +kernel : ∀ t : Fin grid0.N, k0_cond3 (grid0.coords t) = 1#1 ↔ t.val = 63) t

end Cert.Fw

end
-- ==== Proof.FwSteps.lean ====
/-
# The four parts of `up_fwd`, each by itself

What each part of a grid point does to the memory and to the protocol: the first sends the own rows, every one computes its
blocks, point 38 passes on what came along links 0 and 1, the last passes on what came along links 4 and 5 and waits for the
rest.
-/
module

public import proofs.«01_k».proof.Proof.FwBlock
public import proofs.«01_k».proof.Proof.FwParts
public import proofs.«01_k».proof.Proof.FwLinks

@[expose] public section

noncomputable section

namespace Cert.Fw

open Cert.FwKernelIdeal Cert.FwKernelIdeal.Gen
open Idealize.ShloMosaic
open TcCoe Rounds
open Idealize.SL Idealize.SL.RA Idealize.SL.BI
open BIBase Laws ProofMode Sem
open Cert.Exchange (Links UU EP ER L records ticket seats hand due ranks owns_iff)

variable {F : FTy → Type} [FloatOps F]

local notation "𝕄" => MT nD τ sig Unit (Elt F) ℕ (UU nD sig τ) ℕ

abbrev 𝒱₀ : Variants := Variants.none

/-! ## The block -/

/-- The computing part reads its two blocks and leaves `outBlock` and `squareBlock` of them, whatever was there. -/
theorem work_step (c : Dev nD) (A : Memref sig .tc .vmem S1024x4096 .bf16) (B : Memref sig .tc .vmem S1x4096x1024 .bf16)
    (O : Memref sig .tc .vmem S1024x1024 .bf16) (hO : O.IsWhole) (O' : Memref sig .tc .vmem S1024x1024 .bf16) (hO' : O'.IsWhole)
    (a : Vec F S1024x4096 .bf16) (b : Vec F S1x4096x1024 .bf16) (o o' : Vec F S1024x1024 .bf16) :
    iprop(owns (Ix := Unit) (Name := ℕ) (U := UU nD sig τ) (Lvl := ℕ) c.tc A fullShare a
        ∗ owns c.tc B fullShare b ∗ owns c.tc O fullShare o ∗ owns c.tc O' fullShare o')
      ⊢ wp frame (wpE (defs₀ (F := F)) 𝒱₀ c none) Set.univ (workPart A B O hO O' hO')
          (fun _ => iprop(owns c.tc A fullShare a ∗ owns c.tc B fullShare b
            ∗ owns c.tc O fullShare (outBlock a b) ∗ owns c.tc O' fullShare (squareBlock a b) : sProp 𝕄)) := by
  simp only [owns_iff]
  unfold workPart
  iintro ⟨⟨%fa, %ha, HA⟩, ⟨%fb, %hb, HB⟩, ⟨%fo, %ho, HO⟩, ⟨%fp, %hp, HP⟩⟩
  subst ha hb
  iapply (wp_load 𝒱₀ c.tc none Set.univ (m := B) (View.setOn_subset_set _ _)) $$ HB; iintro HB
  iapply (wp_load 𝒱₀ c.tc none Set.univ (m := A) (View.setOn_subset_set _ _)) $$ HA; iintro HA
  iapply (wp_load 𝒱₀ c.tc none Set.univ (m := O) (View.setOn_subset_set _ _)) $$ HO; iintro HO
  iapply (wp_store_writes₀ 𝒱₀ c.tc none Set.univ (m := O) (r := leftHalf) (View.set_slice_subset _ _)) $$ HO; iintro HO
  iapply (wp_load 𝒱₀ c.tc none Set.univ (m := O') (View.setOn_subset_set _ _)) $$ HP; iintro HP
  iapply (wp_store_writes₀ 𝒱₀ c.tc none Set.univ (m := O') (r := leftHalf) (View.set_slice_subset _ _)) $$ HP; iintro HP
  iapply (wp_load 𝒱₀ c.tc none Set.univ (m := B) (View.setOn_subset_set _ _)) $$ HB; iintro HB
  iapply (wp_load 𝒱₀ c.tc none Set.univ (m := A) (View.setOn_subset_set _ _)) $$ HA; iintro HA
  iapply (wp_load 𝒱₀ c.tc none Set.univ (m := O) (View.setOn_subset_set _ _)) $$ HO; iintro HO
  iapply (wp_store_writes 𝒱₀ c.tc none Set.univ (m := O) (r := rightHalf) (View.set_slice_subset _ _)) $$ HO; iintro HO
  iapply (wp_load 𝒱₀ c.tc none Set.univ (m := O') (View.setOn_subset_set _ _)) $$ HP; iintro HP
  iapply (wp_store_writes 𝒱₀ c.tc none Set.univ (m := O') (r := rightHalf) (View.set_slice_subset _ _)) $$ HP; iintro HP
  rw [wp_ret]; imodintro
  isplitl [HA]
  · iexists fa; isplitr; · (ipureintro; rfl)
    iexact HA
  isplitl [HB]
  · iexists fb; isplitr; · (ipureintro; rfl)
    iexact HB
  isplitl [HO]
  · iexists _; isplitr
    · ipureintro
      exact read_stores _ _ O.view fo
    iexact HO
  iexists _; isplitr
  · ipureintro
    exact read_stores _ _ O'.view fp
  iexact HP

/-! ## The transfers -/

variable (m : (ℓ : Loc nD τ sig) → Buf (Elt F) ℓ)

/-- The transfers of one link count the same units at either end: the memrefs have one shape. -/
theorem credit_own (j : Fin 8) (hj : j.val < 4) {o} {h} : (own o h).view.dmaCredit = amount j := by
  unfold amount
  rw [if_pos hj]
  exact Eq.refl (RefSig.tileCredit S2048x4096 .bf16)
theorem credit_big (j : Fin 8) (hj : j.val < 4) {o} {h} : (big o h).view.dmaCredit = amount j := by
  unfold amount
  rw [if_pos hj]
  exact Eq.refl (RefSig.tileCredit S2048x4096 .bf16)
theorem credit_half (j : Fin 8) (hj : ¬ j.val < 4) {o} {h} : (half o h).view.dmaCredit = amount j := by
  unfold amount
  rw [if_neg hj]
  exact Eq.refl (RefSig.tileCredit S1024x4096 .bf16)

/-- What device `c` owes on link `j`. -/
abbrev debt (c : Dev nD) (j : Fin 8) : CellTallies nD τ sig Unit := tallyAt (links.recvCell (peer j c) j) () (amount j)

/-- What it owes after the first point, and after point 38. -/
def later (c : Dev nD) : CellTallies nD τ sig Unit := 0 + debt c 7 + debt c 6 + debt c 3 + debt c 5 + debt c 2 + debt c 4
def last (c : Dev nD) : CellTallies nD τ sig Unit := 0 + debt c 7 + debt c 6

theorem due_eq (c : Dev nD) : due (τ := τ) links c = later c + debt c 1 + debt c 0 := by
  have h : due (τ := τ) links c = debt c 0 + debt c 1 + debt c 2 + debt c 3 + debt c 4 + debt c 5 + debt c 6 + debt c 7 := by
    unfold due
    exact Fin.sum_univ_eight _
  rw [h]
  unfold later
  rw [zero_add]
  ac_rfl

/-- Only transfers of rank above `b` are owed. -/
def Above (b : ℕ) (O : CellTallies nD τ sig Unit) : Prop := ∀ g u, 0 < O g u → ∃ c' j, g = links.recvCell c' j ∧ b < rank j

theorem above_zero (b : ℕ) : Above b 0 := fun g u h => absurd h (lt_irrefl 0)
theorem above_add {b : ℕ} {O : CellTallies nD τ sig Unit} (h : Above b O) (c : Dev nD) (j : Fin 8) (hj : b < rank j) : Above b (O + debt c j) := by
  intro g u hg
  by_cases hO : 0 < O g u
  · exact h g u hO
  · refine ⟨peer j c, j, ?_, hj⟩
    by_contra hn
    have hz : (debt c j) g u = 0 := by
      show (tallyAt _ () _ : CellTallies nD τ sig Unit) g u = 0
      rw [tallyAt_apply, if_neg fun h' => hn h'.1]
    have hs : (O + debt c j) g u = O g u + (debt c j) g u := rfl
    omega
theorem above_last (b : ℕ) (hb : b < 3) (c : Dev nD) : Above b (last c) :=
  above_add (above_add (above_zero b) c 7 hb) c 6 hb
theorem above_later (b : ℕ) (hb : b < 2) (c : Dev nD) : Above b (later c) :=
  above_add (above_add (above_add (above_add (above_last b (by omega) c) c 3 hb) c 5 hb) c 2 hb) c 4 hb
theorem above_due (c : Dev nD) : Above 0 (due links c) := by
  rw [due_eq]
  exact above_add (above_add (above_later 0 (by omega) c) c 1 (rank_pos 1)) c 0 (rank_pos 0)

/-- What a device holds of a link it has still to send on, and of a cell it has to wait for. -/
def ready (c : Dev nD) (j : Fin 8) : sProp 𝕄 := iprop(ticket links c j ∗ atPos ER (links.cell c (false, j)) 0 ∅ 0 ∗ room (peer j c) j)
def pending (c : Dev nD) (k : links.End) : sProp 𝕄 := iprop(cred (tallyAt (links.cell c k) () (links.units k.2)) ∗ atPos ER (links.cell c k) 0 ∅ 0)

/-- The transfer of the own rows along link 0 or 1. -/
theorem send_own (κ : Dev nD × links.End → ℕ) (c n : Dev nD) (j : Fin 8) (hj : j.val < 2) (hn : n = peer j c)
    {hi} {hi'} {hs : (own (k0_off2 c) hi').view.WordExact} {hd : (big (k0_off1 c) hi).view.WordExact}
    {hsc : (big (k0_off1 c) hi : Memref sig (Dev.tc n : Thread nD τ).2.kind .hbm S2048x4096 .bf16).view.ref.isScScratch = false}
    {ht : DmaTarget.Typed .hbm (.dma (recvSem j)) (.remote (Dev.tc n : Thread nD τ) (big (k0_off1 c) hi) (.dma (sendSem j)) hsc)}
    {Q : PUnit → sProp 𝕄} {k : PUnit → Code F PUnit} (O' O : CellTallies nD τ sig Unit) (hO : O' = O + debt c j) (W : Waits sig Unit) :
    iprop(records links (pay m) κ ∗ ready c j ∗ mineRows m c (part j) ∗ owes c.tc O' W)
      ⊢ iprop((pending c (false, j) ∗ owes c.tc O W -∗ wp frame (wpE (defs₀ (F := F)) 𝒱₀ c none) Set.univ (k ⟨⟩) Q)
          -∗ wp frame (wpE (defs₀ (F := F)) 𝒱₀ c none) Set.univ
              (.op (.enqueueDma (own (k0_off2 c) hi') (.remote (Dev.tc n : Thread nD τ) (big (k0_off1 c) hi) (.dma (sendSem j)) hsc) (.dma (recvSem j)) hs hd ht) k) Q) := by
  have hset : (big (k0_off1 c) hi).view.set = landing j (peer j c) := by
    have e : layer j c = c.val / 2 ∧ row j c = 2048 * (c.val % 2) ∧ height j = 2048 := by
      clear hn hs hd hsc ht hi hi' hO O O' k Q; revert j c; decide
    unfold landing place
    rw [peer_peer, e.1, e.2.1, e.2.2]
    exact big_set (off1_eq c)
  have hchip : c.val / 2 ≠ (peer j c).val / 2 := by
    clear hn hs hd hsc ht hi hi' hO O O' k Q hset; revert j c; decide
  unfold ready pending room piece
  iintro ⟨#HR, ⟨Ht, Ha, ⟨%fd, Hd⟩⟩, Hs, HO⟩ Hk
  iapply (Cert.Exchange.send_along links (pay m) (defs₀ (F := F)) 𝒱₀ κ c n j hn (src := own (k0_off2 c) hi') (dst := big (k0_off1 c) hi) (sS := sendSem j) (sR := recvSem j) rfl rfl
    (q := part j) (m (c.tc.loc main_arg2)) fd (credit_big j (by omega)) ?_ ?_ O hO W (routes j c)) $$ [Ht Hs Hd HO]
  · exact Entails.of_eq (lent_own m c j hj).symm
  · refine Entails.of_eq ?_
    show _ = piece (peer j c) (landing j (peer j c)) fullShare (filled m (peer j c))
    unfold piece
    rw [← hset]
    exact pointsTo_congr fun i hi => delivered m c (peer j c) hchip fd i hi
  · isplitr; · iexact HR
    isplitl [Ht]; · iexact Ht
    isplitl [Hs]; · unfold mineRows; iexact Hs
    isplitl [Hd]; · rw [hset]; iexact Hd
    iexact HO
  iintro ⟨Hc, HO⟩
  iapply Hk
  iframe Hc Ha HO

/-- Some rows of a layer passed on where they lie. -/
theorem pass_on (κ : Dev nD × links.End → ℕ) (c n : Dev nD) (j : Fin 8) (hj : 2 ≤ j.val) (hn : n = peer j c)
    {r : Rect S4x4096x4096} {hr} {s : Shape} {hq} {M : Memref sig .tc .hbm s .bf16} (hM : M = ((Memref.whole main_v1_2).slice r hr).squeeze s hq)
    (hu : M.view.dmaCredit = amount j) (hset : (((Memref.whole main_v1_2).slice r hr).squeeze s hq).view.set = place j c) {hs hd : M.view.WordExact}
    {hsc : (M : Memref sig (Dev.tc n : Thread nD τ).2.kind .hbm s .bf16).view.ref.isScScratch = false}
    {ht : DmaTarget.Typed .hbm (.dma (recvSem j)) (.remote (Dev.tc n : Thread nD τ) M (.dma (sendSem j)) hsc)}
    {Q : PUnit → sProp 𝕄} {k : PUnit → Code F PUnit} (O' O : CellTallies nD τ sig Unit) (hO : O' = O + debt c j) (W : Waits sig Unit) :
    iprop(records links (pay m) κ ∗ ready c j ∗ piece c (place j c) (part j) (filled m c) ∗ owes c.tc O' W)
      ⊢ iprop((pending c (false, j) ∗ owes c.tc O W -∗ wp frame (wpE (defs₀ (F := F)) 𝒱₀ c none) Set.univ (k ⟨⟩) Q)
          -∗ wp frame (wpE (defs₀ (F := F)) 𝒱₀ c none) Set.univ
              (.op (.enqueueDma M (.remote (Dev.tc n : Thread nD τ) M (.dma (sendSem j)) hsc) (.dma (recvSem j)) hs hd ht) k) Q) := by
  subst hM
  have hl : landing j (peer j c) = place j c := by unfold landing; rw [peer_peer]
  unfold ready pending room piece
  rw [hl, ← hset]
  iintro ⟨#HR, ⟨Ht, Ha, ⟨%fd, Hd⟩⟩, Hs, HO⟩ Hk
  iapply (Cert.Exchange.send_along links (pay m) (defs₀ (F := F)) 𝒱₀ κ c n j hn (sS := sendSem j) (sR := recvSem j) rfl rfl
    (q := part j) (filled m c) fd hu ?_ ?_ O hO W (routes j c)) $$ [Ht Hs Hd HO]
  · rw [hset]
    exact Entails.of_eq (lent_pass m c j (by omega)).symm
  · refine Entails.of_eq ?_
    show _ = piece (peer j c) (landing j (peer j c)) fullShare (filled m (peer j c))
    unfold piece
    rw [hl, ← hset]
    refine pointsTo_congr fun i hi' => (write_read (((Memref.whole main_v1_2).slice r hr).squeeze s hq).view fd (filled m c) i hi').trans ?_
    have hp := place_layer j c hj (hset ▸ hi' : i ∈ place j c)
    exact filled_eq m c (peer j c) i hp.1 hp.2
  · iframe HR Ht Hs Hd HO
  iintro ⟨Hc, HO⟩
  iapply Hk
  iframe Hc Ha HO

/-- A wait for a cell, with what is owed such as allows it. -/
theorem wait_link (κ : Dev nD × links.End → ℕ) (c : Dev nD) (k : links.End) {s : Shape} {e : EltTy} {src dst : Memref sig .tc .hbm s e} {hs : src.view.WordExact}
    {hd : dst.view.WordExact} (hu : dst.view.dmaCredit = amount k.2) {Q : PUnit → sProp 𝕄} {next : PUnit → Code F PUnit} (O : CellTallies nD τ sig Unit) {R : sProp 𝕄} (hR : pay m k c ⊢ R)
    (hO : (levAts L (ranks links rank) : sProp 𝕄) ⊢ MayWait c.tc (.dma (links.sem k)) () O) :
    iprop(records links (pay m) κ ∗ levAts L (ranks links rank) ∗ pending c k ∗ (∃ W, owes c.tc O W))
      ⊢ iprop((R ∗ semVal (links.cell c k) 0 ∗ (∃ W, owes c.tc O W)
            -∗ wp frame (wpE (defs₀ (F := F)) 𝒱₀ c none) Set.univ (next ⟨⟩) Q)
          -∗ wp frame (wpE (defs₀ (F := F)) 𝒱₀ c none) Set.univ (.op (.waitDma2 (links.sem k) src dst hs hd) next) Q) := by
  unfold pending
  iintro ⟨#HR, HL, ⟨Hc, Ha⟩, ⟨%W, HO⟩⟩ Hk
  iapply (Cert.Exchange.wait_owing links (pay m) (defs₀ (F := F)) 𝒱₀ κ c k (sm := links.sem k) rfl hu O W) $$ [Hc Ha HO HL]
  · isplitr; · iexact HR
    isplitl [Hc]; · iexact Hc
    isplitl [Ha]; · iexact Ha
    isplitl [HO]; · iexact HO
    iapply hO; iexact HL
  iintro ⟨Hp, Hz, HO⟩
  iapply Hk
  isplitl [Hp]; · iapply hR; iexact Hp
  isplitl [Hz]; · iexact Hz
  iexists _; iexact HO

/-- A receive cell may be waited for while only transfers of higher rank are owed, and every cell while nothing is. -/
theorem wait_recv (c : Dev nD) (j : Fin 8) (O : CellTallies nD τ sig Unit) (h : Above (rank j) O) :
    (levAts L (ranks links rank) : sProp 𝕄) ⊢ MayWait c.tc (.dma (links.sem (true, j))) () O :=
  Cert.Exchange.may_wait links rank c (recvSem j) (rank j) (Cert.Exchange.ranks_recv links rank c j).le O h
theorem wait_free (c : Dev nD) (k : links.End) :
    (levAts L (ranks links rank) : sProp 𝕄) ⊢ MayWait c.tc (.dma (links.sem k)) () 0 := by
  rw [MayWait_zero]; iintro -; iempintro

/-- The halves that are passed on as quarters too, without those quarters. -/
def over (c : Dev nD) : sProp 𝕄 :=
  iprop(piece c (place 2 c \ place 4 c) fullShare.right (filled m c) ∗ piece c (place 3 c \ place 5 c) fullShare.right (filled m c))

/-- What came along links 0 and 1 is what links 2 and 4, and 3 and 5, pass on; what came along 4 and 5, what 6 and 7 do. -/
theorem came_0 (c : Dev nD) : (came m c 0 : sProp 𝕄) ⊣⊢ iprop(piece c (place 2 c) (part 2) (filled m c)
    ∗ piece c (place 4 c) (part 4) (filled m c) ∗ piece c (place 2 c \ place 4 c) fullShare.right (filled m c)) := by
  have h : (piece c (place 2 c) fullShare.right (filled m c) : sProp 𝕄) = _ := equiv_iff.mp ⟨(piece_sub c (place_4_sub c) fullShare.right (filled m c)).1, (piece_sub c (place_4_sub c) fullShare.right (filled m c)).2⟩
  unfold came
  rw [landing_0]
  refine BI.BIBase.BiEntails.trans (piece_share c _ _) ?_
  rw [h]
  exact BIBase.BiEntails.rfl
theorem came_1 (c : Dev nD) : (came m c 1 : sProp 𝕄) ⊣⊢ iprop(piece c (place 3 c) (part 3) (filled m c)
    ∗ piece c (place 5 c) (part 5) (filled m c) ∗ piece c (place 3 c \ place 5 c) fullShare.right (filled m c)) := by
  have h : (piece c (place 3 c) fullShare.right (filled m c) : sProp 𝕄) = _ := equiv_iff.mp ⟨(piece_sub c (place_5_sub c) fullShare.right (filled m c)).1, (piece_sub c (place_5_sub c) fullShare.right (filled m c)).2⟩
  unfold came
  rw [landing_1]
  refine BI.BIBase.BiEntails.trans (piece_share c _ _) ?_
  rw [h]
  exact BIBase.BiEntails.rfl
theorem came_4 (c : Dev nD) : (came m c 4 : sProp 𝕄) = piece c (place 6 c) (part 6) (filled m c) := by unfold came; rw [landing_4]; rfl
theorem came_5 (c : Dev nD) : (came m c 5 : sProp 𝕄) = piece c (place 7 c) (part 7) (filled m c) := by unfold came; rw [landing_5]; rfl

/-- The first point's two transfers. -/
theorem send_step (κ : Dev nD × links.End → ℕ) (c : Dev nD) (i : grid0.Coords) (h : k0_cond1 i = 1#1) (W : Waits sig Unit) :
    iprop(records links (pay m) κ ∗ (ready c 0 ∗ ready c 1) ∗ (mineRows m c fullShare.left ∗ mineRows m c fullShare.right) ∗ owes c.tc (due links c) W)
      ⊢ wp frame (wpE (defs₀ (F := F)) 𝒱₀ c none) Set.univ (sendPart (F := F) i)
          (fun _ => iprop(pending c (false, 0) ∗ pending c (false, 1) ∗ owes c.tc (later c) W : sProp 𝕄)) := by
  unfold sendPart
  rw [dif_pos h]
  simp only [wp_deviceId]
  iintro ⟨#HR, ⟨Ht0, Ht1⟩, ⟨Hs0, Hs1⟩, HO⟩
  iapply (send_own m κ c _ 0 (by decide) (dev1_eq c (k0_dev1_lt i c h)) _ _ (due_eq c) W) $$ [Ht0 Hs0 HO]
  · iframe HR Ht0 Hs0 HO
  iintro ⟨Hc0, HO⟩
  iapply (send_own m κ c _ 1 (by decide) (dev2_eq c (k0_dev2_lt i c h)) _ _ rfl W) $$ [Ht1 Hs1 HO]
  · iframe HR Ht1 Hs1 HO
  iintro ⟨Hc1, HO⟩
  rw [wp_ret]; imodintro
  iframe

theorem owes_some (c : Dev nD) (O : CellTallies nD τ sig Unit) (W : Waits sig Unit) :
    (owes c.tc O W : sProp 𝕄) ⊢ iprop(∃ W, owes c.tc O W) := by iintro H; iexists W; iexact H

/-- Point 38: two waits, and what came is passed on along four links. -/
theorem pass_step (κ : Dev nD × links.End → ℕ) (c : Dev nD) (i : grid0.Coords) (h : k0_cond2 i = 1#1) :
    iprop(records links (pay m) κ ∗ levAts L (ranks links rank) ∗ (ready c 2 ∗ ready c 3 ∗ ready c 4 ∗ ready c 5)
        ∗ (pending c (true, 0) ∗ pending c (true, 1)) ∗ ∃ W, owes c.tc (later c) W)
      ⊢ wp frame (wpE (defs₀ (F := F)) 𝒱₀ c none) Set.univ (passPart (F := F) i)
          (fun _ => iprop((pending c (false, 2) ∗ pending c (false, 3) ∗ pending c (false, 4) ∗ pending c (false, 5))
            ∗ (semVal (links.cell c (true, 0)) 0 ∗ semVal (links.cell c (true, 1)) 0) ∗ over m c ∗ ∃ W, owes c.tc (last c) W : sProp 𝕄)) := by
  unfold passPart
  rw [dif_pos h]
  simp only [wp_deviceId]
  iintro ⟨#HR, #HL, ⟨Ht2, Ht3, Ht4, Ht5⟩, ⟨HP0, HP1⟩, HO⟩
  iapply (wait_link m κ c (true, 0) (credit_big 0 (by decide)) _ (R := came m c 0) (BIBase.Entails.rfl) (wait_recv c 0 _ (above_later 1 (by decide) c))) $$ [HP0 HO]
  · iframe HR HL HP0 HO
  iintro ⟨Hp, Hz0, HO⟩
  ihave Hp := (came_0 m c).1 $$ Hp
  icases Hp with ⟨Hl, Hq, Ho0⟩
  unfold later
  icases HO with ⟨%W, HO⟩
  iapply (pass_on m κ c _ 4 (by decide) (dev3_eq c (k0_dev3_lt i c h)) rfl (credit_half 4 (by decide)) (half_set (off4_eq c)) _ _ rfl W) $$ [Ht4 Hq HO]
  · iframe HR Ht4 Hq HO
  iintro ⟨HS4, HO⟩
  ihave HO := (owes_some c _ W) $$ HO
  icases HO with ⟨%W, HO⟩
  iapply (pass_on m κ c _ 2 (by decide) (dev4_eq c (k0_dev4_lt i c h)) rfl (credit_big 2 (by decide)) (big_set (off3_eq c)) _ _ rfl W) $$ [Ht2 Hl HO]
  · iframe HR Ht2 Hl HO
  iintro ⟨HS2, HO⟩
  ihave HO := (owes_some c _ W) $$ HO
  iapply (wait_link m κ c (true, 1) (credit_big 1 (by decide)) _ (R := came m c 1) (BIBase.Entails.rfl) (wait_recv c 1 _ (above_add (above_add (above_last 1 (by decide) c) c 3 (by decide)) c 5 (by decide)))) $$ [HP1 HO]
  · iframe HR HL HP1 HO
  iintro ⟨Hp, Hz1, HO⟩
  ihave Hp := (came_1 m c).1 $$ Hp
  icases Hp with ⟨Hl, Hq, Ho1⟩
  icases HO with ⟨%W, HO⟩
  iapply (pass_on m κ c _ 5 (by decide) (dev5_eq c (k0_dev5_lt i c h)) rfl (credit_half 5 (by decide)) (half_set (off6_eq c)) _ _ rfl W) $$ [Ht5 Hq HO]
  · iframe HR Ht5 Hq HO
  iintro ⟨HS5, HO⟩
  ihave HO := (owes_some c _ W) $$ HO
  icases HO with ⟨%W, HO⟩
  iapply (pass_on m κ c _ 3 (by decide) (dev6_eq c (k0_dev6_lt i c h)) rfl (credit_big 3 (by decide)) (big_set (off5_eq c)) _ _ rfl W) $$ [Ht3 Hl HO]
  · iframe HR Ht3 Hl HO
  iintro ⟨HS3, HO⟩
  ihave HO := (owes_some c _ W) $$ HO
  rw [wp_ret]; imodintro
  isplitl [HS2 HS3 HS4 HS5]
  · iframe
  isplitl [Hz0 Hz1]
  · iframe Hz0 Hz1
  isplitl [Ho0 Ho1]
  · unfold over
    iframe Ho0 Ho1
  iexact HO

/-- The last point: what came along links 4 and 5 is passed on, and the other cells are waited for; the landing places hold
    what was sent, and what was lent is back. -/
theorem wait_step (κ : Dev nD × links.End → ℕ) (c : Dev nD) (i : grid0.Coords) (h : k0_cond3 i = 1#1) :
    iprop(records links (pay m) κ ∗ levAts L (ranks links rank) ∗ (ready c 6 ∗ ready c 7)
        ∗ (pending c (true, 2) ∗ pending c (true, 3) ∗ pending c (true, 4) ∗ pending c (true, 5) ∗ pending c (true, 6) ∗ pending c (true, 7))
        ∗ (pending c (false, 0) ∗ pending c (false, 1) ∗ pending c (false, 2) ∗ pending c (false, 3) ∗ pending c (false, 4) ∗ pending c (false, 5))
        ∗ over m c ∗ ∃ W, owes c.tc (last c) W)
      ⊢ wp frame (wpE (defs₀ (F := F)) 𝒱₀ c none) Set.univ (waitPart (F := F) i)
          (fun _ => iprop((mineRows m c fullShare.left ∗ mineRows m c fullShare.right) ∗ (bigSep Finset.univ fun j => came m c j)
            ∗ (bigSep Finset.univ fun j : Fin 8 => semVal (links.cell c (false, j)) 0)
            ∗ (semVal (links.cell c (true, 2)) 0 ∗ semVal (links.cell c (true, 3)) 0 ∗ semVal (links.cell c (true, 4)) 0
              ∗ semVal (links.cell c (true, 5)) 0 ∗ semVal (links.cell c (true, 6)) 0 ∗ semVal (links.cell c (true, 7)) 0)
            ∗ ∃ W, owes c.tc 0 W : sProp 𝕄)) := by
  unfold waitPart over
  rw [dif_pos h]
  simp only [wp_deviceId, eight]
  iintro ⟨#HR, #HL, ⟨Ht6, Ht7⟩, ⟨HR2, HR3, HR4, HR5, HR6, HR7⟩, ⟨HS0, HS1, HS2, HS3, HS4, HS5⟩, ⟨Ho0, Ho1⟩, HO⟩
  iapply (wait_link m κ c (true, 4) (credit_half 4 (by decide)) _ (R := came m c 4) (BIBase.Entails.rfl) (wait_recv c 4 _ (above_last 2 (by decide) c))) $$ [HR4 HO]
  · iframe HR HL HR4 HO
  iintro ⟨Hp, HzR4, HO⟩
  ihave Hp := (Entails.of_eq (came_4 m c)) $$ Hp
  unfold last
  icases HO with ⟨%W, HO⟩
  iapply (pass_on m κ c _ 6 (by decide) (dev7_eq c (k0_dev7_lt i c h)) rfl (credit_half 6 (by decide)) (half_set (off7_eq c)) _ _ rfl W) $$ [Ht6 Hp HO]
  · iframe HR Ht6 Hp HO
  iintro ⟨HS6, HO⟩
  ihave HO := (owes_some c _ W) $$ HO
  iapply (wait_link m κ c (true, 5) (credit_half 5 (by decide)) _ (R := came m c 5) (BIBase.Entails.rfl) (wait_recv c 5 _ (above_add (above_zero 2) c 7 (by decide)))) $$ [HR5 HO]
  · iframe HR HL HR5 HO
  iintro ⟨Hp, HzR5, HO⟩
  ihave Hp := (Entails.of_eq (came_5 m c)) $$ Hp
  icases HO with ⟨%W, HO⟩
  iapply (pass_on m κ c _ 7 (by decide) (dev8_eq c (k0_dev8_lt i c h)) rfl (credit_half 7 (by decide)) (half_set (off7_eq' c)) _ _ rfl W) $$ [Ht7 Hp HO]
  · iframe HR Ht7 Hp HO
  iintro ⟨HS7, HO⟩
  ihave HO := (owes_some c _ W) $$ HO
  iapply (wait_link m κ c (true, 2) (credit_big 2 (by decide)) _ (R := came m c 2) (BIBase.Entails.rfl) (wait_free c _)) $$ [HR2 HO]
  · iframe HR HL HR2 HO
  iintro ⟨HpR2, HzR2, HO⟩
  iapply (wait_link m κ c (true, 3) (credit_big 3 (by decide)) _ (R := came m c 3) (BIBase.Entails.rfl) (wait_free c _)) $$ [HR3 HO]
  · iframe HR HL HR3 HO
  iintro ⟨HpR3, HzR3, HO⟩
  iapply (wait_link m κ c (true, 6) (credit_half 6 (by decide)) _ (R := came m c 6) (BIBase.Entails.rfl) (wait_free c _)) $$ [HR6 HO]
  · iframe HR HL HR6 HO
  iintro ⟨HpR6, HzR6, HO⟩
  iapply (wait_link m κ c (true, 7) (credit_half 7 (by decide)) _ (R := came m c 7) (BIBase.Entails.rfl) (wait_free c _)) $$ [HR7 HO]
  · iframe HR HL HR7 HO
  iintro ⟨HpR7, HzR7, HO⟩
  iapply (wait_link m κ c (false, 0) (credit_own 0 (by decide)) _ (R := mineRows m c fullShare.left) (Entails.of_eq (lent_own m c 0 (by decide))) (wait_free c _)) $$ [HS0 HO]
  · iframe HR HL HS0 HO
  iintro ⟨HpS0, HzS0, HO⟩
  iapply (wait_link m κ c (false, 1) (credit_own 1 (by decide)) _ (R := mineRows m c fullShare.right) (Entails.of_eq (lent_own m c 1 (by decide))) (wait_free c _)) $$ [HS1 HO]
  · iframe HR HL HS1 HO
  iintro ⟨HpS1, HzS1, HO⟩
  iapply (wait_link m κ c (false, 2) (credit_big 2 (by decide)) _ (R := piece c (place 2 c) (part 2) (filled m c)) (Entails.of_eq (lent_pass m c 2 (by decide))) (wait_free c _)) $$ [HS2 HO]
  · iframe HR HL HS2 HO
  iintro ⟨HpS2, HzS2, HO⟩
  iapply (wait_link m κ c (false, 3) (credit_big 3 (by decide)) _ (R := piece c (place 3 c) (part 3) (filled m c)) (Entails.of_eq (lent_pass m c 3 (by decide))) (wait_free c _)) $$ [HS3 HO]
  · iframe HR HL HS3 HO
  iintro ⟨HpS3, HzS3, HO⟩
  iapply (wait_link m κ c (false, 4) (credit_half 4 (by decide)) _ (R := piece c (place 4 c) (part 4) (filled m c)) (Entails.of_eq (lent_pass m c 4 (by decide))) (wait_free c _)) $$ [HS4 HO]
  · iframe HR HL HS4 HO
  iintro ⟨HpS4, HzS4, HO⟩
  iapply (wait_link m κ c (false, 5) (credit_half 5 (by decide)) _ (R := piece c (place 5 c) (part 5) (filled m c)) (Entails.of_eq (lent_pass m c 5 (by decide))) (wait_free c _)) $$ [HS5 HO]
  · iframe HR HL HS5 HO
  iintro ⟨HpS5, HzS5, HO⟩
  iapply (wait_link m κ c (false, 6) (credit_half 6 (by decide)) _ (R := piece c (place 6 c) (part 6) (filled m c)) (Entails.of_eq (lent_pass m c 6 (by decide))) (wait_free c _)) $$ [HS6 HO]
  · iframe HR HL HS6 HO
  iintro ⟨HpS6, HzS6, HO⟩
  iapply (wait_link m κ c (false, 7) (credit_half 7 (by decide)) _ (R := piece c (place 7 c) (part 7) (filled m c)) (Entails.of_eq (lent_pass m c 7 (by decide))) (wait_free c _)) $$ [HS7 HO]
  · iframe HR HL HS7 HO
  iintro ⟨HpS7, HzS7, HO⟩
  rw [wp_ret]; imodintro
  isplitl [HpS0 HpS1]
  · iframe HpS0 HpS1
  isplitl [HpS2 HpS3 HpS4 HpS5 HpS6 HpS7 HpR2 HpR3 HpR6 HpR7 Ho0 Ho1]
  · isplitl [HpS2 HpS4 Ho0]
    · iapply (came_0 m c).2
      iframe HpS2 HpS4 Ho0
    isplitl [HpS3 HpS5 Ho1]
    · iapply (came_1 m c).2
      iframe HpS3 HpS5 Ho1
    isplitl [HpR2]; · iexact HpR2
    isplitl [HpR3]; · iexact HpR3
    isplitl [HpS6]; · iapply (Entails.of_eq (came_4 m c).symm); iexact HpS6
    isplitl [HpS7]; · iapply (Entails.of_eq (came_5 m c).symm); iexact HpS7
    iframe HpR6 HpR7
  isplitl [HzS0 HzS1 HzS2 HzS3 HzS4 HzS5 HzS6 HzS7]
  · iframe HzS0 HzS1 HzS2 HzS3 HzS4 HzS5 HzS6 HzS7
  isplitl [HzR2 HzR3 HzR4 HzR5 HzR6 HzR7]
  · iframe HzR2 HzR3 HzR4 HzR5 HzR6 HzR7
  iexact HO

end Cert.Fw

end
-- ==== Proof.FwBody.lean ====
/-
# The body of `up_fwd` at every grid point

The schedule of the call on device `c`, its window contents, and the body's obligation: what a grid point is given and
what it leaves. Before the first point nothing is sent (`Start`); then the own rows are on the way (`Sent`); from point 38 on
what came first is passed on (`Relayed`); after the last point all has landed (`Done`).
-/
module

public import proofs.«01_k».proof.Proof.FwSteps
public import proofs.«01_k».proof.Proof.Gen.FwKernelIdeal.Points
public import proofs.«01_k».proof.Proof.Gen.FwKernelIdeal.Regions
public import Idealize.ShloMosaic.Lib.Pipeline.FrameBody

@[expose] public section

noncomputable section

namespace Cert.Fw

open Cert.FwKernelIdeal Cert.FwKernelIdeal.Gen
open Idealize.ShloMosaic
open Idealize.ShloMosaic.Pipeline
open Idealize.ShloMosaic.TcCoe
open Idealize.SL Idealize.SL.RA Idealize.SL.BI
open BIBase Laws ProofMode Sem
open Idealize.ShloMosaic.Rounds
open Cert.Exchange (Links UU EP ER records L records ranks ticket seats hand due)

variable {F : FTy → Type} [FloatOps F]

local notation "𝕄" => MT nD τ sig Unit (Elt F) ℕ (UU nD sig τ) ℕ

variable (m : (ℓ : Loc nD τ sig) → Buf (Elt F) ℓ)

/-! ## The states -/

/-- The buffers that the host operations after the call write, as they are before it. -/
def hostRest (c : Dev nD) (W : Valuation τ sig (Elt F)) : sProp 𝕄 :=
  bigSep hostOps1_W.toFinset fun b => (c.tc.loc b) ↦{fullShare} W (Proc.devRef .tc b)

/-- What no transfer touches: the rows that are not sent, the layer of the own chip, and those buffers. -/
def aside (c : Dev nD) : sProp 𝕄 := iprop(kept m c ∗ ownLayer c (filled m c) ∗ hostRest c (V0 m c))

/-- The protocol's standing facts. -/
def know : sProp 𝕄 := iprop((∃ κ, records links (pay m) κ) ∗ levAts L (ranks links rank))

/-- The memory a device brings to the exchange: what it sends, its peers' landing places, and what no transfer touches. -/
def mine (c : Dev nD) : sProp 𝕄 :=
  iprop((mineRows m c fullShare.left ∗ mineRows m c fullShare.right) ∗ (bigSep Finset.univ fun j => room (peer j c) j) ∗ aside m c)

/-- Before the first grid point. -/
def Start (c : Dev nD) : sProp 𝕄 :=
  iprop(know m ∗ (bigSep Finset.univ fun j => ready c j) ∗ (bigSep Finset.univ fun j => pending c (true, j))
    ∗ (mineRows m c fullShare.left ∗ mineRows m c fullShare.right) ∗ aside m c)

/-- From the first to point 38. -/
def Sent (c : Dev nD) : sProp 𝕄 :=
  iprop(know m ∗ (ready c 2 ∗ ready c 3 ∗ ready c 4 ∗ ready c 5) ∗ (ready c 6 ∗ ready c 7) ∗ (pending c (false, 0) ∗ pending c (false, 1))
    ∗ (pending c (true, 0) ∗ pending c (true, 1))
    ∗ (pending c (true, 2) ∗ pending c (true, 3) ∗ pending c (true, 4) ∗ pending c (true, 5) ∗ pending c (true, 6) ∗ pending c (true, 7)) ∗ aside m c)

/-- From there to the last. -/
def Relayed (c : Dev nD) : sProp 𝕄 :=
  iprop(know m ∗ (ready c 6 ∗ ready c 7) ∗ (pending c (false, 0) ∗ pending c (false, 1)) ∗ (pending c (false, 2) ∗ pending c (false, 3) ∗ pending c (false, 4) ∗ pending c (false, 5))
    ∗ (pending c (true, 2) ∗ pending c (true, 3) ∗ pending c (true, 4) ∗ pending c (true, 5) ∗ pending c (true, 6) ∗ pending c (true, 7))
    ∗ (semVal (links.cell c (true, 0)) 0 ∗ semVal (links.cell c (true, 1)) 0) ∗ over m c ∗ aside m c)

/-- After the last. -/
def Done (c : Dev nD) : sProp 𝕄 :=
  iprop((mineRows m c fullShare.left ∗ mineRows m c fullShare.right) ∗ (bigSep Finset.univ fun j => came m c j) ∗ aside m c
    ∗ (bigSep Finset.univ fun j : Fin 8 => semVal (links.cell c (false, j)) 0) ∗ (bigSep Finset.univ fun j : Fin 8 => semVal (links.cell c (true, j)) 0))

/-! ## The schedule -/

/-- The arrays as launched, and each window's block at a point. -/
abbrev V (c : Dev nD) (b : Ref sig .tc) : Buf (Elt F) ((c.tc : Thread nD τ).loc b) := V0 m c (Proc.devRef .tc b)
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The state and what is owed when `n` points are done. -/
def state (c : Dev nD) (n : ℕ) : sProp 𝕄 := if n = 0 then Start m c else if n < 39 then Sent m c else if n < 64 then Relayed m c else Done m c
def owing (c : Dev nD) (n : ℕ) : CellTallies nD τ sig Unit := if n = 0 then due links c else if n < 39 then later c else if n < 64 then last c else 0

def dats (_ : Fin 1) (c : Dev nD) : Dat τ (Elt F) Unit ℕ (UU nD sig τ) ℕ cfg0 c where
  A w := V m c (Pipeline.arrRef spec0 w)
  after w t := match w with
    | ⟨0, _⟩ => iblk m c 0 t
    | ⟨1, _⟩ => iblk m c 1 t
    | ⟨2, _⟩ => outBlock (iblk m c 0 t) (iblk m c 1 t)
    | ⟨3, _⟩ => squareBlock (iblk m c 0 t) (iblk m c 1 t)
  Φ t := state m c t.val
  q _ := fullShare
  owed t := owing c t.val

/-- The two windows that are read hold their blocks at every point, fetched there or before. -/
theorem before_0 (c : Dev nD) (t : Fin cfg0.N) (d) : (dats m 0 c).before 0 t d = iblk m c 0 t :=
  ((dats m 0 c).before_in_eq_fetched 0 rfl (fun _ => rfl) (fun _ _ _ => rfl) (fun _ => rfl) t d).trans rfl
theorem before_1 (c : Dev nD) (t : Fin cfg0.N) (d) : (dats m 0 c).before 1 t d = iblk m c 1 t :=
  ((dats m 0 c).before_in_eq_fetched 1 rfl (fun _ => rfl) (fun _ _ _ => rfl) (fun _ => rfl) t d).trans rfl

/-! ## The obligation -/

/-- What a device owes, the pairs it has waited on left open. -/
theorem owesAt_intro (c : Dev nD) (t : Fin (cfg0.N + 1)) (O : CellTallies nD τ sig Unit) (hO : owing c t.val = O) :
    (iprop(∃ W, owes c.tc O W) : sProp 𝕄) ⊢ (dats m 0 c).owesAt () t := by
  unfold Dat.owesAt Pipeline.owesWithin
  rw [show (dats m 0 c).owed t = O from hO]
  iintro ⟨%W, H⟩
  iexists W
  isplitr
  · ipureintro; exact fun _ _ => Or.inl trivial
  iexact H
theorem owesAt_elim (c : Dev nD) (t : Fin (cfg0.N + 1)) :
    (dats m 0 c).owesAt () t ⊢ iprop(∃ W, owes c.tc (owing c t.val) W) := by
  unfold Dat.owesAt Pipeline.owesWithin
  iintro ⟨%W, %hW, H⟩
  iexists W; iexact H

/-- The state and the debts within a grid point: after its first part, and after the third. -/
def held₁ (c : Dev nD) (n : ℕ) : sProp 𝕄 := iprop(state m c (if n = 0 then 1 else n) ∗ ∃ W, owes c.tc (owing c (if n = 0 then 1 else n)) W)
def held₂ (c : Dev nD) (n : ℕ) : sProp 𝕄 := iprop(state m c (if n = 63 then 63 else n + 1) ∗ ∃ W, owes c.tc (owing c (if n = 63 then 63 else n + 1)) W)

theorem send_point (c : Dev nD) (t : Fin cfg0.N) :
    iprop((dats m 0 c).Φ t.castSucc ∗ (dats m 0 c).owesAt () t.castSucc)
      ⊢ wp frame (wpE (defs₀ (F := F)) 𝒱₀ c none) Set.univ (sendPart (F := F) (grid0.coords t)) (fun _ => held₁ m c t.val) := by
  refine BIBase.Entails.trans (sep_mono .rfl (owesAt_elim m c t.castSucc)) ?_
  show iprop(state m c t.val ∗ ∃ W, owes c.tc (owing c t.val) W) ⊢ _
  unfold held₁
  by_cases h : t.val = 0
  · rw [if_pos h, show state m c t.val = Start m c from if_pos h, show owing c t.val = due links c from if_pos h]
    show _ ⊢ wp frame (wpE (defs₀ (F := F)) 𝒱₀ c none) Set.univ (sendPart (F := F) (grid0.coords t)) fun _ => iprop(Sent m c ∗ ∃ W, owes c.tc (later c) W)
    unfold Start know
    simp only [eight]
    iintro ⟨⟨⟨⟨%κ, #HR⟩, #HL⟩, ⟨H0, H1, H2, H3, H4, H5, H6, H7⟩, ⟨P0, P1, P2, P3, P4, P5, P6, P7⟩, Hs, Hk⟩, ⟨%W, HO⟩⟩
    iapply (wp_wand frame (wpE (defs₀ (F := F)) 𝒱₀ c none) Set.univ) $$ [H0 H1 Hs HO]
    · iapply (send_step m κ c (grid0.coords t) ((sends_iff t).mpr h) W)
      iframe HR H0 H1 Hs HO
    iintro %a ⟨Hc0, Hc1, HO⟩
    unfold Sent know
    isplitr [HO]
    · isplitr
      · isplitr; · (iexists κ; iexact HR)
        iexact HL
      iframe H2 H3 H4 H5 H6 H7 Hc0 Hc1 P0 P1 P2 P3 P4 P5 P6 P7 Hk
    · iexists W; iexact HO
  · unfold sendPart
    rw [if_neg h, dif_neg fun h' => h ((sends_iff t).mp h'), wp_ret]
    iintro H
    imodintro
    iexact H

theorem pass_point (c : Dev nD) (t : Fin cfg0.N) :
    held₁ m c t.val ⊢ wp frame (wpE (defs₀ (F := F)) 𝒱₀ c none) Set.univ (passPart (F := F) (grid0.coords t)) (fun _ => held₂ m c t.val) := by
  have hN : t.val < 64 := lt_of_lt_of_eq t.isLt N_0
  unfold held₁ held₂
  by_cases h : t.val = 38
  · rw [h]
    show iprop(Sent m c ∗ ∃ W, owes c.tc (later c) W)
      ⊢ wp frame (wpE (defs₀ (F := F)) 𝒱₀ c none) Set.univ (passPart (F := F) (grid0.coords t)) fun _ => iprop(Relayed m c ∗ ∃ W, owes c.tc (last c) W)
    unfold Sent know
    iintro ⟨⟨⟨⟨%κ, #HR⟩, #HL⟩, H25, H67, S01, P01, P27, Hk⟩, HO⟩
    iapply (wp_wand frame (wpE (defs₀ (F := F)) 𝒱₀ c none) Set.univ) $$ [H25 P01 HO]
    · iapply (pass_step m κ c (grid0.coords t) ((passes_iff t).mpr h))
      iframe HR HL H25 P01 HO
    iintro %a ⟨S25, Z01, Ho, HO⟩
    unfold Relayed know
    isplitr [HO]
    · isplitr
      · isplitr; · (iexists κ; iexact HR)
        iexact HL
      iframe H67 S01 S25 P27 Z01 Ho Hk
    iexact HO
  · have hs : state m c (if t.val = 0 then 1 else t.val) = state m c (if t.val = 63 then 63 else t.val + 1)
        ∧ owing c (if t.val = 0 then 1 else t.val) = owing c (if t.val = 63 then 63 else t.val + 1) := by
      unfold state owing
      constructor <;> (repeat' split) <;> first | rfl | (exfalso; omega)
    unfold passPart
    rw [dif_neg fun h' => h ((passes_iff t).mp h'), wp_ret, hs.1, hs.2]
    iintro H
    imodintro
    iexact H

theorem wait_point (c : Dev nD) (t : Fin cfg0.N) :
    held₂ m c t.val ⊢ wp frame (wpE (defs₀ (F := F)) 𝒱₀ c none) Set.univ (waitPart (F := F) (grid0.coords t))
      (fun _ => iprop((dats m 0 c).Φ t.succ ∗ (dats m 0 c).owesAt () t.succ : sProp 𝕄)) := by
  unfold held₂
  by_cases h : t.val = 63
  · have hΦ : (dats m 0 c).Φ t.succ = Done m c := by
      show state m c (t.val + 1) = Done m c
      rw [h]; rfl
    have hO : owing c t.succ.val = 0 := by
      show owing c (t.val + 1) = 0
      rw [h]; rfl
    rw [hΦ, if_pos h]
    show iprop(Relayed m c ∗ ∃ W, owes c.tc (last c) W) ⊢ _
    unfold Relayed know
    iintro ⟨⟨⟨⟨%κ, #HR⟩, #HL⟩, H67, S01, S25, P27, Z01, Ho, Hk⟩, HO⟩
    icases S01 with ⟨S0, S1⟩
    iapply (wp_wand frame (wpE (defs₀ (F := F)) 𝒱₀ c none) Set.univ) $$ [H67 S0 S1 S25 P27 Ho HO]
    · iapply (wait_step m κ c (grid0.coords t) ((waits_iff t).mpr h))
      iframe HR HL H67 P27 S0 S1 S25 Ho HO
    iintro %a ⟨Hl, Hd, HzS, HzR, HO⟩
    isplitr [HO]
    · unfold Done
      rw [eight fun j => semVal (links.cell c (true, j)) 0]
      icases Z01 with ⟨Z0, Z1⟩
      iframe Hl Hd Hk HzS Z0 Z1 HzR
    · iapply (owesAt_intro m c t.succ 0 hO); iexact HO
  · unfold waitPart
    rw [dif_neg fun h' => h ((waits_iff t).mp h'), wp_ret, if_neg h]
    iintro ⟨H, HO⟩
    imodintro
    isplitl [H]
    · iapply (Entails.of_eq (show state m c (t.val + 1) = (dats m 0 c).Φ t.succ from rfl)); iexact H
    iapply (owesAt_intro m c t.succ _ rfl); iexact HO

theorem body_obligation (c : Dev nD) : BodyObligation (dats (F := F) m 0 c) (defs₀ (F := F)) 𝒱₀ () Set.univ := fun t => by
  rw [bigSep_W0, bigSep_W0]
  show _ ⊢ wp frame (wpE (defs₀ (F := F)) 𝒱₀ c none) Set.univ (bodyAt0 (F := F) t) _
  rw [body_eq, wp_bind]
  iintro ⟨HΦ, HO, ⟨%d0, H0⟩, ⟨%d1, H1⟩, ⟨%d2, H2⟩, ⟨%d3, H3⟩⟩
  iapply (wp_wand frame (wpE (defs₀ (F := F)) 𝒱₀ c none) Set.univ) $$ [HΦ HO]
  · iapply (send_point m c t)
    iframe HΦ HO
  iintro %a HS
  rw [wp_bind]
  iapply (wp_wand frame (wpE (defs₀ (F := F)) 𝒱₀ c none) Set.univ) $$ [H0 H1 H2 H3]
  · iapply (work_step c (st0_0 t) (st0_1 t) (st0_2 t) _ (st0_3 t) _ (iblk m c 0 t) (iblk m c 1 t) _ _)
    isplitl [H0]; · (iapply (Entails.of_eq (congrArg _ (before_0 m c t d0))); iexact H0)
    isplitl [H1]; · (iapply (Entails.of_eq (congrArg _ (before_1 m c t d1))); iexact H1)
    isplitl [H2]; · iexact H2
    iexact H3
  iintro %a' ⟨H0, H1, H2, H3⟩
  rw [wp_bind]
  iapply (wp_wand frame (wpE (defs₀ (F := F)) 𝒱₀ c none) Set.univ) $$ [HS]
  · iapply (pass_point m c t); iexact HS
  iintro %a'' HS
  iapply (wp_wand frame (wpE (defs₀ (F := F)) 𝒱₀ c none) Set.univ) $$ [HS]
  · iapply (wait_point m c t); iexact HS
  iintro %a3 ⟨HΦ, HO⟩
  isplitl [HΦ]; · iexact HΦ
  isplitl [HO]; · iexact HO
  isplitl [H0]; · iexact H0
  isplitl [H1]; · iexact H1
  isplitl [H2]; · iexact H2
  iexact H3

end Cert.Fw

end
-- ==== Proof.FwHost.lean ====
/-
# The host operations after `up_fwd`

After the call each device fills the layer of its own chip in the gathered array: a select between its own `main_arg2` and
`main_v1_2`, by the layer's number. `merged` is the result.
-/
module

public import proofs.«01_k».proof.Proof.FwBody

@[expose] public section

noncomputable section

namespace Cert.Fw

open Cert.FwKernelIdeal Cert.FwKernelIdeal.Gen
open Idealize.ShloMosaic
open Idealize.ShloMosaic.Pipeline
open Idealize.ShloMosaic.TcCoe
open Idealize.SL Idealize.SL.RA Idealize.SL.BI
open BIBase Laws ProofMode Sem
open Idealize.ShloMosaic.Rounds
open Cert.Exchange (Links UU EP ER records L records ranks ticket seats hand due)

variable {F : FTy → Type} [FloatOps F]

local notation "𝕄" => MT nD τ sig Unit (Elt F) ℕ (UU nD sig τ) ℕ

variable (m : (ℓ : Loc nD τ sig) → Buf (Elt F) ℓ)

/-- The third result: the own rows in the layer of the own chip, what was gathered in the others. -/
def merged (c : Dev nD) : Vec F S4x4096x4096 .bf16 := fun i =>
  if (i 0).val = c.val / 2 then m (c.tc.loc main_arg2) (origin i) else filled m c i

/-- The program after the call. -/
abbrev fill (c : Dev nD) : Prog (TpuEff nD τ sig (Elt F) (Pipeline.Sig Λ₀ (Fin 1) fun p => (pcfgs (F := F) p).Adm) .tc) PUnit :=
  StableHlo.seq (hostOps1 c) >>= fun _ => .ret ⟨⟩

/-- The buffers it touches, and what they hold before it. -/
abbrev touchedRefs : List (Ref sig .tc) := main_arg2 :: main_v1_2 :: hostOps1_W
abbrev touched : Finset (DevRef τ sig) := touchedRefs.toFinset.image (Proc.devRef .tc)
def before (c : Dev nD) : Valuation τ sig (Elt F) := Function.update (V0 m c) (Proc.devRef .tc main_v1_2) (filled m c)

theorem bigSep_touched (Φ : Ref sig .tc → sProp 𝕄) :
    bigSep touchedRefs.toFinset Φ = iprop(Φ main_arg2 ∗ Φ main_v1_2 ∗ bigSep hostOps1_W.toFinset Φ) := by
  rw [List.toFinset_cons, bigSep_insert (by decide), List.toFinset_cons, bigSep_insert (by decide)]
  rfl

theorem held_touched (c : Dev nD) (W : Valuation τ sig (Elt F)) :
    (StableHlo.held c.tc touched W : sProp 𝕄)
      = iprop((c.tc.loc main_arg2 ↦{fullShare} W (Proc.devRef .tc main_arg2))
        ∗ (c.tc.loc main_v1_2 ↦{fullShare} W (Proc.devRef .tc main_v1_2)) ∗ hostRest c W) := by
  unfold StableHlo.held touched
  rw [bigSep_image_of_injOn (Proc.devRef_injective _).injOn]
  exact bigSep_touched fun b => (c.tc.loc b) ↦{fullShare} W (Proc.devRef .tc b)

theorem touch {x : Ref sig .tc} (h : x ∈ touchedRefs) : Proc.devRef (τ := τ) .tc x ∈ touched :=
  Finset.mem_image_of_mem _ (List.mem_toFinset.mpr h)

theorem fill_bufs (c : Dev nD) : ((hostOps1 c) : List (HloOp τ sig (Elt F))).Forall fun op => op.bufs ⊆ touched := by
  simp only [List.Forall, StableHlo.nullary_bufs, StableHlo.unary_bufs, StableHlo.binary_bufs, StableHlo.ternary_bufs, Finset.insert_subset_iff, Finset.singleton_subset_iff]
  repeat' apply And.intro
  all_goals exact touch (by decide)

/-- The comparison that the operations compute picks the layer of the own chip. -/
theorem picks (c : Dev nD) (s : Fin 4) : IntOp.cmpi .eq (BitVec.ofNat 32 s.val)
    (IntOp.addi (IntOp.addi 0#32 (IntOp.muli (IntOp.remui .host (IntOp.divui .host (Dev.word c) 2#32) 2#32) 1#32))
      (IntOp.muli (IntOp.remui .host (IntOp.divui .host (Dev.word c) 4#32) 2#32) 2#32)) = 1#1 ↔ s.val = c.val / 2 := by
  revert c s; decide +kernel

theorem before_land (c : Dev nD) : before m c (Proc.devRef .tc main_v1_2) = filled m c := Function.update_self ..
theorem before_other (c : Dev nD) (r : Ref sig .tc) (h : r ≠ main_v1_2) : before m c (Proc.devRef .tc r) = V0 m c (Proc.devRef .tc r) :=
  Function.update_of_ne (StableHlo.devRef_ne_of_ne h) ..

theorem after_out (c : Dev nD) : StableHlo.after (hostOps1 c) (before m c) (Proc.devRef .tc main_v18) = merged m c := by
  after_results
  rw [before_land, before_other m c main_arg2 (by decide)]
  funext i
  unfold merged
  by_cases h : (i 0).val = c.val / 2
  · rw [if_pos h]
    refine (if_pos ((picks c (i 0)).mpr h)).trans (congrArg (m (c.tc.loc main_arg2)) (funext fun a => ?_))
    fin_cases a <;> rfl
  · rw [if_neg h]
    exact if_neg fun h' => h ((picks c (i 0)).mp h')

theorem after_arg (c : Dev nD) : StableHlo.after (hostOps1 c) (before m c) (Proc.devRef .tc main_arg2) = m (c.tc.loc main_arg2) :=
  (StableHlo.after_of_writes_sub _ _ (hostOps1_writes c) (by decide)).trans (before_other m c main_arg2 (by decide))

end Cert.Fw

end
-- ==== Proof.FwRun.lean ====
/-
# The run of `up_fwd`

On the eight devices, for any float values and from any memory with zero counters: every weakly fair execution ends, with
each device's two product arrays at what its grid points wrote, its third result at the rows of every chip, its arguments
unchanged and every counter at zero.
-/
module

public import proofs.«01_k».proof.Proof.FwHost
public import proofs.«01_k».proof.Proof.Exchange

@[expose] public section

noncomputable section

namespace Cert.Fw

open Cert.FwKernelIdeal Cert.FwKernelIdeal.Gen
open Idealize.ShloMosaic
open Idealize.ShloMosaic.Pipeline
open Idealize.ShloMosaic.TcCoe
open Idealize.SL Idealize.SL.RA Idealize.SL.BI
open BIBase Laws ProofMode Sem
open Idealize.ShloMosaic.Rounds
open Cert.Exchange (Links UU EP ER records L ranks ticket seats hand due begins allCells allToks ghosts shared)

variable {F : FTy → Type} [FloatOps F]

local notation "𝕄" => MT nD τ sig Unit (Elt F) ℕ (UU nD sig τ) ℕ

variable (m : (ℓ : Loc nD τ sig) → Buf (Elt F) ℓ) (ρ : Dev nD → PrngReg)

/-! ## What the launch theorem asks for -/

theorem ownSemFacts : Pipeline.OwnSemFacts cfg0.spec links.osem := by decide

theorem share_eq (c : Dev nD) (w : Fin cfg0.W) : (dats m 0 c).share w = fullShare := by unfold Dat.share; split <;> rfl

/-- Every debt there ever is has a rank, so the staging cells, which have none, may be waited for throughout. -/
theorem owing_above (c : Dev nD) (n : ℕ) : Above 0 (owing c n) := by
  unfold owing
  split
  · exact above_due c
  split
  · exact above_later 0 (by decide) c
  split
  · exact above_last 0 (by decide) c
  · exact above_zero 0

theorem waits (c : Dev nD) : (levAts L (ranks links rank) : sProp 𝕄) ⊢ Pipeline.cellsWaits cfgs (dats m) () 0 c :=
  Pipeline.cellsWaits_intro cfgs (dats m) () 0 c fun w s t =>
    Cert.Exchange.may_wait links rank c _ 0 (Cert.Exchange.ranks_other links rank c _ (by fin_cases w <;> fin_cases s <;> decide)).le _ (owing_above c t.val)

/-- The memory no window stages, as a device brings it. -/
def rest (c : Dev nD) : sProp 𝕄 := Pipeline.unscopedRest spec0 c (V m c)

theorem rest_eq (c : Dev nD) : rest m c = iprop((c.tc.loc main_arg2 ↦{fullShare} m (c.tc.loc main_arg2))
    ∗ (c.tc.loc main_v1_2 ↦{fullShare} m (c.tc.loc main_v1_2)) ∗ hostRest c (V0 m c)) := by
  have h : (Finset.univ.filter fun b : Ref sig .tc => ¬ b.isScoped) \ Finset.univ.image (Pipeline.arrRef spec0) = touchedRefs.toFinset := by decide
  unfold rest Pipeline.unscopedRest
  rw [h]
  exact bigSep_touched fun b => (c.tc.loc b) ↦{fullShare} V m c b

/-- The landing places dealt across the links. -/
theorem deal : (bigSep Finset.univ (rest m) : sProp 𝕄) ⊢ bigSep Finset.univ (mine m) := by
  have h (c : Dev nD) : rest m c ⊢ iprop(((mineRows m c fullShare.left ∗ mineRows m c fullShare.right) ∗ aside m c) ∗ bigSep Finset.univ fun j => room c j : sProp 𝕄) := by
    have hr : (bigSep Finset.univ fun j => piece c (landing j c) fullShare (m (c.tc.loc main_v1_2)) : sProp 𝕄) ⊢ bigSep Finset.univ fun j => room c j :=
      bigSep_mono fun j _ => by
        show (piece c (landing j c) fullShare (m (c.tc.loc main_v1_2)) : sProp 𝕄) ⊢ iprop(∃ f, piece c (landing j c) fullShare f)
        iintro H; iexists _; iexact H
    rw [rest_eq]
    unfold aside
    rw [← ownLayer_eq m c]
    iintro ⟨H2, HB, HV⟩
    ihave H2 := (arg2_split m c).1 $$ H2
    ihave HB := (buffer_split c (m (c.tc.loc main_v1_2))).1 $$ HB
    icases H2 with ⟨Hs, Hk⟩
    icases HB with ⟨Hl, Ho⟩
    isplitr [Hl]
    · iframe Hs Hk Ho HV
    iapply hr; iexact Hl
  refine Cert.Exchange.deal_across links room h fun c => ?_
  show iprop(_ ∗ bigSep Finset.univ fun j => room (peer j c) j) ⊢ mine m c
  unfold mine
  iintro ⟨⟨H1, H2⟩, H3⟩
  iframe H1 H3 H2

/-- What a device holds when the call begins, the levels with it. -/
def X (c : Dev nD) : sProp 𝕄 := iprop(begins links (pay m) (mine m) c ∗ levAts L (ranks links rank))

theorem begin_all : iprop((bigSep Finset.univ fun c => Cert.Exchange.shared (fun p => (cfgs p).toPCfg) (fun p => (cfgs p).toPCfg_adm) (0 : Fin 1) m (due links) links.osem c)
    ∗ levAts L (ranks links rank) ∗ ghosts links (pay m)) ⊢ |={Set.univ}=> (bigSep Finset.univ (X m) : sProp 𝕄) := by
  have hl : (levAts L (ranks links rank) : sProp 𝕄) ⊢ bigSep Finset.univ fun _ : Dev nD => levAts L (ranks links rank) :=
    BI.bigSep_of_persistent _ _
  unfold X
  rw [bigSep_sep']
  iintro ⟨H, #HL, HG⟩
  imod (Cert.Exchange.launch_all links (pay m) (rest m) (mine m) (deal m)) $$ [$H $HL $HG] with HB
  imodintro
  isplitl [HB]; · iexact HB
  iapply hl; iexact HL

/-- What it holds of the arrays no window stages when the call has ended, and at the end of the program. -/
def Y (c : Dev nD) : sProp 𝕄 :=
  iprop((c.tc.loc main_arg2 ↦{fullShare} m (c.tc.loc main_arg2))
    ∗ (c.tc.loc main_v1_2 ↦{fullShare} (filled m c : Buf (Elt F) (c.tc.loc main_v1_2))) ∗ hostRest c (V0 m c))
def Z (c : Dev nD) : sProp 𝕄 :=
  iprop((c.tc.loc main_arg2 ↦{fullShare} m (c.tc.loc main_arg2))
    ∗ (c.tc.loc main_v18 ↦{fullShare} (merged m c : Buf (Elt F) (c.tc.loc main_v18))))

theorem phi_start (c : Dev nD) : iprop(X m c ∗ Pipeline.scopedRest spec0 c) ⊢ (dats m 0 c).Φ 0 := by
  show iprop(X m c ∗ Pipeline.scopedRest spec0 c) ⊢ Start m c
  unfold Start X begins mine know hand ready pending seats
  simp only [bigSep_sep']
  iintro ⟨⟨⟨#HR, ⟨Ht, ⟨Ha, Hb⟩, Hc⟩, Hs, Hd, Hk⟩, #HL⟩, -⟩
  isplitr
  · iframe HR HL
  iframe Ht Ha Hd Hc Hb Hs Hk

theorem phi_end (c : Dev nD) :
    (dats m 0 c).Φ (Fin.last cfg0.N) ⊢ iprop(Y m c ∗ Pipeline.ownSems0 links.osem c ∗ Pipeline.scopedRest spec0 c) := by
  have hΦ : (dats m 0 c).Φ (Fin.last cfg0.N) = Done m c := by
    show state m c cfg0.N = Done m c
    rw [show cfg0.N = 64 from N_0]; rfl
  have hs : (Pipeline.ownSems0 links.osem c : sProp 𝕄)
      = iprop((bigSep Finset.univ fun j : Fin 8 => semVal (links.cell c (false, j)) 0) ∗ (bigSep Finset.univ fun j : Fin 8 => semVal (links.cell c (true, j)) 0)) := by
    unfold Pipeline.ownSems0
    exact Cert.Exchange.ends links fun k => semVal (links.cell c k) 0
  rw [hΦ, scopedRest0_eq, hs]
  unfold Done aside Y
  iintro ⟨Hl, Hd, ⟨Hk, Ho, HV⟩, HzS, HzR⟩
  isplitl [Hl Hk Hd Ho HV]
  · isplitl [Hl Hk]
    · iapply (arg2_split m c).2
      iframe Hl Hk
    isplitl [Hd Ho]
    · iapply (buffer_split c (filled m c)).2
      isplitl [Hd]; · iexact Hd
      iexact Ho
    iexact HV
  isplitl [HzS HzR]
  · iframe HzS HzR
  iempintro

/-- The final memory of two arrays no window stages. -/
def QY (c : Dev nD) (s : MemSt nD τ sig (Elt F)) : Prop :=
  s.mem (c.tc.loc main_arg2) = m (c.tc.loc main_arg2) ∧ s.mem (c.tc.loc main_v18) = merged m c

theorem read_end (c : Dev nD) (s' : Phys nD τ sig (Elt F)) :
    iprop(Z m c ∗ SI s') ⊢ |={Set.univ}=> iprop(⌜QY m c s'.mem⌝ ∗ SI s' : sProp 𝕄) := by
  unfold Z
  iintro ⟨⟨H2, H3⟩, HSI⟩
  ihave %h2 := Cert.Exchange.read_whole $$ [$HSI $H2]
  ihave %h3 := Cert.Exchange.read_whole $$ [$HSI $H3]
  imodintro
  isplitr
  · ipureintro
    exact ⟨h2, h3⟩
  iexact HSI

/-! ## The host operations after the call -/

theorem fill_run (c : Dev nD) :
    iprop(boundary c.tc ∗ Y m c)
      ⊢ wp frame (wpE (defs (F := F)) (Variants.lift 𝒱₀) c.tc none) Set.univ (fill c)
          (fun _ : PUnit => iprop(scopedSems0 c.tc ∗ Z m c : sProp 𝕄)) := by
  have hb : (hostRest c (before m c) : sProp 𝕄) = hostRest c (V0 m c) :=
    bigSep_congr fun b hb => congrArg _ (before_other m c b fun h => absurd (h ▸ List.mem_toFinset.mp hb : main_v1_2 ∈ hostOps1_W) (by decide))
  have ho (W : Valuation τ sig (Elt F)) : (hostRest c W : sProp 𝕄) ⊢ (c.tc.loc main_v18 ↦{fullShare} W (Proc.devRef .tc main_v18)) :=
    BI.bigSep_elim (by decide : main_v18 ∈ hostOps1_W.toFinset)
  unfold Y
  iintro ⟨Hb, H⟩
  iapply (StableHlo.wp_seq (defs := defs (F := F)) (𝒱 := Variants.lift 𝒱₀) (bd := none) (E := Set.univ) c touched (fun _ => .ret ⟨⟩) (hostOps1 c)
    (List.forall_iff_forall_mem.mp (fill_bufs c)) (List.forall_iff_forall_mem.mp (hostOps1_fresh c)) (before m c)) $$ [Hb H]
  · isplitl [Hb]; · iexact Hb
    rw [held_touched, before_land, before_other m c main_arg2 (by decide), hb]
    iexact H
  iintro ⟨Hb, HS⟩
  ihave HS := (Entails.of_eq (held_touched c (StableHlo.after (hostOps1 c) (before m c)))) $$ HS
  icases HS with ⟨H2, -, HV⟩
  ihave HV := (ho _) $$ HV
  rw [after_arg, after_out, wp_ret]
  unfold boundary Z
  icases Hb with ⟨-, Hs, -⟩
  imodintro
  iframe Hs H2 HV

/-- What a final state is: every staged array at the schedule's contents, and the others as said. -/
def QC (r : PUnit × MemSt nD τ sig (Elt F)) : Prop :=
  ∀ c : Dev nD, (∀ w : Fin cfg0.W, r.2.mem ((cfg0.win w).arr.view.loc c.tc) = (dats m 0 c).arrAt w cfg0.N) ∧ QY m c r.2

set_option maxRecDepth 8000 in
theorem run_main : θ_run defs (onTc (τ := τ) (main (F := F))) ⟨m, fun _ => 0, ρ⟩ (fun r => QC m r ∧ r.2.sem = fun _ => 0) :=
  Cert.Exchange.θ_run_exchange (fun p => (cfgs p).toPCfg) (fun p => (cfgs p).toPCfg_adm) (dats m) () cellOf_inj (0 : Fin 1)
    winFacts0 ownSemFacts rfl EP defs₀ 𝒱₀ m ρ (due links) L (ranks links rank) main fill
    (hmain := fun _ => rfl) (hbody := body_obligation m) (hne := block_pos0) (harr := arr_whole0) (hstage := stage_whole0) (hshare := share_eq m)
    (howed₀ := fun _ => rfl) (howedN := fun _ => rfl) (hL := Cert.Exchange.L_of_ne) (hwaits := waits m)
    (G := ghosts links (pay m))
    (hu₀ := Cert.Exchange.fund_both links (pay m) _)
    (hA := fun _ _ => rfl) (X := X m) (Y := Y m) (Z := Z m) (htail := fill_run m)
    (hstart := begin_all m)
    (hin := phi_start m) (hout := phi_end m) (QY := QY m) (hY := read_end m)
    (hQ := fun s h hs => ⟨fun c => h c, sem_eq_zero_of_scoped (by decide) hs⟩)

end Cert.Fw

end
-- ==== Proof.FwWhole.lean ====
/-
# The products of `up_fwd` as a whole

The blocks of the grid points tile the two arrays that a device writes. Entry `(p, q)` of the first is the inner product of
row `p` of the device's left factor and column `q` of the right factor, of which four shards lie one behind the other, or zero
where that is negative: column `q` is column `q mod 4096` of shard `q / 4096`. The second has the squares.
-/
module

public import proofs.«01_k».proof.Proof.FwValue
public import proofs.«01_k».proof.Proof.FwRun
public import Idealize.ShloMosaic.Lib.Pipeline.ValueKit

@[expose] public section

set_option maxRecDepth 16384

noncomputable section

namespace Cert.Fw

open Cert.FwKernelIdeal Cert.FwKernelIdeal.Gen
open Idealize.ShloMosaic Idealize.ShloMosaic.TcCoe

variable (m : (ℓ : Loc nD τ sig) → Buf (Elt Ideal) ℓ)

/-- The inner product of a row of a matrix and a column of a matrix cut along its columns into four shards, negative ones made zero. -/
def sharded {n : ℕ} (A : (⟨2, ![n, 4096]⟩ : Shape).Idx → Ideal .bf16) (B : (⟨3, ![4, 4096, 4096]⟩ : Shape).Idx → Ideal .bf16)
    (p : Fin n) (q : Fin 16384) : EReal :=
  max (∑ t : Fin 4096, (A (ix2 p t) : EReal) * B (ix3 (⟨q.val / 4096, by omega⟩ : Fin 4) t (⟨q.val % 4096, by omega⟩ : Fin 4096))) 0

/-- What a device's two product arrays hold at the end. -/
def product (c : Dev nD) : Vec Ideal S4096x16384 .bf16 := fun i =>
  sharded (n := 4096) (m (c.tc.loc main_arg0)) (m (c.tc.loc main_arg1)) (i 0) (i 1)
def square (c : Dev nD) : Vec Ideal S4096x16384 .bf16 := fun i => (product m c i * product m c i : EReal)

theorem index_all : ∀ t, win0_0.index t = ![(grid0.coords t 0).val, 0]
    ∧ win0_1.index t = ![(grid0.coords t 1).val / 4, 0, (grid0.coords t 1).val % 4]
    ∧ win0_2.index t = ![(grid0.coords t 0).val, (grid0.coords t 1).val]
    ∧ win0_3.index t = ![(grid0.coords t 0).val, (grid0.coords t 1).val] := by decide +kernel

/-- Where entry `(p, q)` of the block of grid point `t` lies. -/
theorem rect_eq (c : Dev nD) (t : Fin cfg0.N) (p q : Fin 1024) :
    rect (iblk m c 0 t) (iblk m c 1 t) p q = product m c (((cfg0.win 2).blk t).view.emb (ix2 p q)) := by
  unfold product sharded rect
  refine congrArg (max · 0) (Finset.sum_congr rfl fun j _ => congrArg₂ _ ?_ ?_)
  · blk_ext [iblk, V, index_all]
  · blk_ext [iblk, V, index_all]

theorem product_eq (c : Dev nD) : (dats m 0 c).arrAt 2 cfg0.N = product m c := by
  refine (dats m 0 c).arrAt_eq_of_covers 2 _ (by decide +kernel) fun t hf y => ?_
  show outBlock (iblk m c 0 t) (iblk m c 1 t) _ = _
  obtain ⟨p, q, rfl⟩ : ∃ (p q : Fin 1024), y = ix2 p q := ⟨y 0, y 1, eq_ix2 y⟩
  exact (outBlock_apply _ _ p q).trans (rect_eq m c t p q)

theorem square_eq (c : Dev nD) : (dats m 0 c).arrAt 3 cfg0.N = square m c := by
  refine (dats m 0 c).arrAt_eq_of_covers 3 _ (by decide +kernel) fun t hf y => ?_
  show squareBlock (iblk m c 0 t) (iblk m c 1 t) _ = _
  obtain ⟨p, q, rfl⟩ : ∃ (p q : Fin 1024), y = ix2 p q := ⟨y 0, y 1, eq_ix2 y⟩
  exact (squareBlock_apply _ _ p q).trans (congrArg₂ (· * ·) (rect_eq m c t p q) (rect_eq m c t p q))

end Cert.Fw

end
-- ==== Proof.FwReference.lean ====
/-
# The reference of `up_fwd` over the reals

The reference's first two results have the same entries as the products of the devices. Its third one is `w_down` with its
rows cut into four layers.
-/
module

public import proofs.«01_k».proof.Proof.FwWhole
public import proofs.«01_k».proof.Proof.Gen.FwReferenceIdeal.Run

@[expose] public section

set_option maxRecDepth 16384

noncomputable section

namespace Cert.Fw

open Idealize.ShloMosaic Idealize.ShloMosaic.TcCoe Idealize.SL.Sem

section
open Cert.FwReferenceIdeal Cert.FwReferenceIdeal.Gen

variable {F : FTy → Type} [FloatOps F]

/-- The product, negative entries made zero, as the reference's operations compute it. -/
abbrev refRect (a : Vec F S32768x4096 .bf16) (b : Vec F S4x4096x4096 .bf16) : Vec F S32768x16384 .f32 :=
  maximumf (Host.dotGeneral dot_S32768x4096_S4096x16384_S32768x16384_1_0_0_1_n_n none (extf .f32 a bitsLt_bf16_f32)
    (shapeCast _ (transpose S4096x4x4096 [1, 0, 2] (extf .f32 b bitsLt_bf16_f32) transposes_S4x4096x4096_S4096x4x4096_1_0_2)
      shapeCasts_S4096x4x4096_S4096x16384)) (broadcastInDim S32768x16384 ![] bcast_S_S32768x16384 (constant S_ .f32 0x00000000#32))

/-- The reference's first result. -/
abbrev refProduct (a : Vec F S32768x4096 .bf16) (b : Vec F S4x4096x4096 .bf16) : Vec F S32768x16384 .bf16 :=
  truncf .bf16 (refRect a b) bitsLt_bf16_f32

/-- Its second result. -/
abbrev refSquare (a : Vec F S32768x4096 .bf16) (b : Vec F S4x4096x4096 .bf16) : Vec F S32768x16384 .bf16 :=
  truncf .bf16 (mulf (refRect a b) (refRect a b)) bitsLt_bf16_f32

/-- Its third result. -/
abbrev refGathered (d : Vec F S16384x4096 .bf16) : Vec F S4x4096x4096 .bf16 := shapeCast _ d shapeCasts_S16384x4096_S4x4096x4096

theorem refRect_apply (a : Vec Ideal S32768x4096 .bf16) (b : Vec Ideal S4x4096x4096 .bf16) (p : Fin 32768) (q : Fin 16384) :
    refRect a b (ix2 p q) = sharded (n := 32768) a b p q := by
  pointwise [refRect, sharded]

theorem refGathered_apply (d : Vec F S16384x4096 .bf16) (s : Fin 4) (r q : Fin 4096) :
    refGathered d (ix3 s r q) = d (ix2 (⟨s.val * 4096 + r.val, by omega⟩ : Fin 16384) q) := by
  pointwise [refGathered]

/-- The reference's run. -/
theorem reference_run (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem (c.tc.loc main_v7) = refProduct (m (c.tc.loc main_arg0)) (m (c.tc.loc main_arg1))
      ∧ r.2.mem (c.tc.loc main_v9) = refSquare (m (c.tc.loc main_arg0)) (m (c.tc.loc main_arg1))
      ∧ r.2.mem (c.tc.loc main_v10) = refGathered (m (c.tc.loc main_arg2))
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)) ∧ r.2.sem = fun _ => 0) :=
  (θ_run defs _ _).mono (fun r h => ⟨h, sem_eq_zero_of_no_sems (by decide) r.2⟩) (Cert.FwReferenceIdeal.Value.run m ρ)

end

end Cert.Fw

end
-- ==== Proof.FwAgree.lean ====
/-
# Device by device, the two programs of `up_fwd` agree

What a device ends with is its block of what the reference ends with, if its arguments are its blocks of the reference's.
-/
module

public import proofs.«01_k».proof.Proof.FwWhole
public import proofs.«01_k».proof.Proof.FwReference
public import proofs.«01_k».proof.Proof.Agree
public import Idealize.ShloMosaic.Lib.Layout

@[expose] public section

set_option maxRecDepth 10240

noncomputable section

namespace Cert.Fw

open Cert.FwKernelIdeal
open Idealize.ShloMosaic Idealize.ShloMosaic.TcCoe
open Cert.Pair (block_rows)

section Product
variable (m : (ℓ : Loc nD τ sig) → Buf (Elt Ideal) ℓ)
  (A : Vec Ideal Cert.FwReferenceIdeal.S32768x4096 .bf16) (B : Vec Ideal Cert.FwReferenceIdeal.S4x4096x4096 .bf16)

theorem entry_agrees (c : Dev nD)
    (h0 : m (c.tc.loc main_arg0) = Layout.block ⟨2, ![4096, 4096]⟩ ⟨2, ![32768, 4096]⟩ 0 8 c A)
    (h1 : m (c.tc.loc main_arg1) = B) (p : Fin 4096) (q : Fin 16384) (hp : c.val * 4096 + p.val < 32768) :
    product m c (ix2 p q) = refRect A B (ix2 ⟨c.val * 4096 + p.val, hp⟩ q) := by
  rw [refRect_apply]
  show sharded (n := 4096) (m (c.tc.loc main_arg0)) (m (c.tc.loc main_arg1)) p q = _
  unfold sharded
  refine congrArg (max · 0) (Finset.sum_congr rfl fun t _ => congrArg₂ _ ?_ ?_)
  · exact (congrFun h0 (ix2 p t)).trans (block_rows c A (by decide) p t hp)
  · exact congrFun h1 _

theorem product_agrees (c : Dev nD)
    (h0 : m (c.tc.loc main_arg0) = Layout.block ⟨2, ![4096, 4096]⟩ ⟨2, ![32768, 4096]⟩ 0 8 c A)
    (h1 : m (c.tc.loc main_arg1) = B) :
    product m c = Layout.block ⟨2, ![4096, 16384]⟩ ⟨2, ![32768, 16384]⟩ 0 8 c (refProduct A B) := by
  have hc : c.val < 8 := c.isLt
  funext y
  obtain ⟨p, q, rfl⟩ : ∃ (p : Fin 4096) (q : Fin 16384), y = ix2 p q := ⟨y 0, y 1, eq_ix2 y⟩
  have hp : c.val * 4096 + p.val < 32768 := by omega
  exact (entry_agrees m A B c h0 h1 p q hp).trans (block_rows c (refProduct A B) (by decide) p q hp).symm

theorem square_agrees (c : Dev nD)
    (h0 : m (c.tc.loc main_arg0) = Layout.block ⟨2, ![4096, 4096]⟩ ⟨2, ![32768, 4096]⟩ 0 8 c A)
    (h1 : m (c.tc.loc main_arg1) = B) :
    square m c = Layout.block ⟨2, ![4096, 16384]⟩ ⟨2, ![32768, 16384]⟩ 0 8 c (refSquare A B) := by
  have hc : c.val < 8 := c.isLt
  funext y
  obtain ⟨p, q, rfl⟩ : ∃ (p : Fin 4096) (q : Fin 16384), y = ix2 p q := ⟨y 0, y 1, eq_ix2 y⟩
  have hp : c.val * 4096 + p.val < 32768 := by omega
  have e := entry_agrees m A B c h0 h1 p q hp
  exact (congrArg₂ (fun x y : EReal => x * y) e e).trans (block_rows c (refSquare A B) (by decide) p q hp).symm

end Product

variable {F : FTy → Type} [FloatOps F]
variable (m : (ℓ : Loc nD τ sig) → Buf (Elt F) ℓ) (D : Vec F Cert.FwReferenceIdeal.S16384x4096 .bf16)

/-- Row `p` of the block of device `c`'s chip, of a matrix whose rows are cut among the four chips. -/
theorem block_chip (c : Fin 8) (p q : Fin 4096) (hp : c.val / 2 * 4096 + p.val < 16384) :
    Layout.blockN ⟨2, ![4096, 4096]⟩ ⟨2, ![16384, 4096]⟩ (Layout.meshBlock [2, 2, 2] ![[0, 1], []] c) D (by decide) (ix2 p q)
      = D (ix2 ⟨c.val / 2 * 4096 + p.val, hp⟩ q) := by
  refine congrArg D ?_
  funext k
  fin_cases k
  · exact Fin.ext (by fin_cases c <;> rfl)
  · exact Fin.ext (by show 0 * 4096 + q.val = q.val; omega)

theorem merged_agrees (c : Dev nD)
    (h : ∀ c : Dev nD, m (c.tc.loc main_arg2)
      = Layout.blockN ⟨2, ![4096, 4096]⟩ ⟨2, ![16384, 4096]⟩ (Layout.meshBlock [2, 2, 2] ![[0, 1], []] c) D) :
    merged m c = refGathered D := by
  have hc : c.val < 8 := c.isLt
  funext y
  obtain ⟨s, r, q, rfl⟩ : ∃ (s : Fin 4) (r q : Fin 4096), y = ix3 s r q := ⟨y 0, y 1, y 2, eq_ix3 y⟩
  have key (d : Dev nD) (hd : d.val / 2 = s.val) : m (d.tc.loc main_arg2) (ix2 r q) = refGathered D (ix3 s r q) := by
    have hp : d.val / 2 * 4096 + r.val < 16384 := by omega
    rw [refGathered_apply]
    refine (congrFun (h d) (ix2 r q)).trans ((block_chip D d r q hp).trans ?_)
    exact congrArg (fun x => D (ix2 x q)) (Fin.ext (by show d.val / 2 * 4096 + r.val = s.val * 4096 + r.val; rw [hd]))
  have ho : origin (ix3 s r q) = ix2 r q := by funext i; fin_cases i <;> rfl
  unfold merged filled
  rw [ho]
  by_cases hs : s.val = c.val / 2
  · exact (if_pos hs).trans (key c hs.symm)
  · refine (if_neg hs).trans ((if_neg hs).trans (key (source (ix3 s r q)) ?_))
    show (2 * s.val + r.val / 2048) / 2 = s.val
    omega

end Cert.Fw

end
-- ==== Proof.OfBlock.lean ====
/-
# What one grid point of `out_proj_fwd` computes

A grid point of `out_proj_fwd` reads a 1024 × 4096 block `a` of `y`, a 4096 × 512 block `b` of the weights and a 1024 × 512
block `x` of the residual, and writes a 1024 × 512 block, `outBlock a b x`, whole; its entries are the payload's.
-/
module

public import proofs.«01_k».proof.Proof.Gen.OfKernelIdeal.Skeleton
public import Idealize.ShloMosaic.Lib.Writes

@[expose] public section

noncomputable section

namespace Cert.Of

open Cert.OfKernelIdeal Cert.OfKernelIdeal.Gen
open Idealize.ShloMosaic

variable {F : FTy → Type} [FloatOps F]

/-- The blocks, as the body's loads and its store name them. -/
abbrev allA : Rect S1024x4096 := Rect.unit (s := S1024x4096) ![0, 0] S1024x4096.size inb_S1024x4096_S1024x4096_0_0
abbrev allB : Rect S4096x512 := Rect.unit (s := S4096x512) ![0, 0] S4096x512.size inb_S4096x512_S4096x512_0_0
abbrev allO : Rect S1024x512 := Rect.unit (s := S1024x512) ![0, 0] S1024x512.size inb_S1024x512_S1024x512_0_0

/-- A block seen through a rectangle. -/
def seen {s : Shape} {e : EltTy} (X : s.Idx → Elt F e) (r : Rect s) : r.shape.Idx → Elt F e := fun x => X (r.emb x)

omit [FloatOps F] in
theorem seen_A {e : EltTy} (X : S1024x4096.Idx → Elt F e) : seen X allA = X :=
  funext fun x => congrArg X (funext fun a => Fin.ext (by
    fin_cases a
    · show 0 + 1 * (x 0).val = (x 0).val; omega
    · show 0 + 1 * (x 1).val = (x 1).val; omega))

omit [FloatOps F] in
theorem seen_B {e : EltTy} (X : S4096x512.Idx → Elt F e) : seen X allB = X :=
  funext fun x => congrArg X (funext fun a => Fin.ext (by
    fin_cases a
    · show 0 + 1 * (x 0).val = (x 0).val; omega
    · show 0 + 1 * (x 1).val = (x 1).val; omega))

omit [FloatOps F] in
theorem seen_O {e : EltTy} (X : S1024x512.Idx → Elt F e) : seen X allO = X :=
  funext fun x => congrArg X (funext fun a => Fin.ext (by
    fin_cases a
    · show 0 + 1 * (x 0).val = (x 0).val; omega
    · show 0 + 1 * (x 1).val = (x 1).val; omega))

omit [FloatOps F] in
/-- A store of the whole block leaves what was stored. -/
theorem read_store {κ : Kind} {sp : Space} (v : View sig κ sp S1024x512 .f32) (f : v.ty.Contents (Elt F)) (w : S1024x512.Idx → Elt F .f32) :
    v.read (Elt F) (v.writes (Elt F) f [⟨allO, w⟩]) = w := by
  funext y
  refine View.read_writes_apply_of_pieces v f w [⟨allO, w⟩] ?_ y ⟨_, List.mem_singleton_self _, ?_⟩
  · intro p hp x
    obtain rfl := List.mem_singleton.mp hp
    exact (congrFun (seen_O w) x).symm
  · show y ∈ allO.set
    refine Rect.mem_set_unit.mpr fun a => ?_
    fin_cases a
    · exact ⟨Nat.zero_le _, by have h : (y 0).val < 1024 := (y 0).isLt; show (y 0).val < 0 + 1024; omega⟩
    · exact ⟨Nat.zero_le _, by have h : (y 1).val < 512 := (y 1).isLt; show (y 1).val < 0 + 512; omega⟩

/-- The block a grid point writes. -/
def outBlock (a : Vec F S1024x4096 .bf16) (b : Vec F S4096x512 .bf16) (x : Vec F S1024x512 .f32) : Vec F S1024x512 .f32 := k0_pay1 b a x

end Cert.Of

end
-- ==== Proof.OfValue.lean ====
/-
# The block of a grid point of `out_proj_fwd` over the reals

Over the extended reals the casts are the identity, so entry `(p, q)` of the block that a grid point writes is entry `(p, q)`
of the residual's block plus the inner product of row `p` of the left factor's block and column `q` of the right factor's.
-/
module

public import proofs.«01_k».proof.Proof.OfBlock
public import Idealize.ShloMosaic.Lib.Pointwise

@[expose] public section

set_option maxRecDepth 16384

noncomputable section

namespace Cert.Of

open Cert.OfKernelIdeal Cert.OfKernelIdeal.Gen
open Idealize.ShloMosaic

variable (a : Vec Ideal S1024x4096 .bf16) (b : Vec Ideal S4096x512 .bf16) (x : Vec Ideal S1024x512 .f32)

theorem outBlock_apply (p : Fin 1024) (q : Fin 512) :
    (outBlock a b x (ix2 p q) : EReal) = x (ix2 p q) + ∑ t : Fin 4096, (a (ix2 p t) : EReal) * b (ix2 t q) := by
  pointwise [outBlock, k0_pay1]

end Cert.Of

end
-- ==== Proof.OfLinks.lean ====
/-
# The gathering of `out_proj_fwd`: who sends what to whom

The eight devices are the cores of a 2 × 2 torus of chips with two cores each; device `c` is core `c % 2` of chip
`c / 2`. Beside its products, `out_proj_fwd` gathers the `main_arg3` of every other chip into the layers of `main_v1_1`, layer `s`
for chip `s`. A core brings one half of the rows of each chip and passes them to the other core of its chip. There are
eight links. Links 0 and 5 join a device to the same core of the chip across the first torus axis, links 1 and 4 across the
second, links 2, 3, 6 and 7 to the other core of its chip. Device `c`

* sends its half of the rows of its own `main_arg3` on links 0 and 1;
* passes on what came along link 0: all of it on link 2, the first half of it on link 4; and what came along link 1: all of
  it on link 3, the second half of it on link 5;
* passes on what came along link 4 on link 6, and what came along link 5 on link 7.

Rows lie at one and the same place of `main_v1_1` on every device. The payloads name the contents, so one run over any float
values gives both frames and the value.
-/
module

public import proofs.«01_k».proof.Proof.Relay
public import proofs.«01_k».proof.Proof.Gen.OfKernelIdeal
public import proofs.«01_k».proof.Proof.Gen.OfKernelIdeal.Launch

@[expose] public section

noncomputable section

namespace Cert.Of

open Cert.OfKernelIdeal Cert.OfKernelIdeal.Gen

open Idealize.ShloMosaic
open TcCoe Rounds
open Idealize.SL Idealize.SL.RA Idealize.SL.BI
open BIBase Laws ProofMode Sem
open Cert.Exchange (Links UU EP ER)

variable {F : FTy → Type} [FloatOps F]

local notation "𝕄" => MT nD τ sig Unit (Elt F) ℕ (UU nD sig τ) ℕ

/-! ## The links -/

/-- The devices across the first torus axis, across the second, and on the other core of the chip. -/
def across₁ (c : Dev nD) : Dev nD := ⟨(c.val + 4) % 8, Nat.mod_lt _ (by decide)⟩
def across₂ (c : Dev nD) : Dev nD := ⟨c.val / 4 * 4 + (c.val + 2) % 4, by revert c; decide⟩
def sibling (c : Dev nD) : Dev nD := ⟨c.val / 2 * 2 + (c.val + 1) % 2, by revert c; decide⟩

/-- The device at the other end of a link. -/
def peer (j : Fin 8) : Dev nD → Dev nD :=
  match j with
  | 0 | 5 => across₁
  | 1 | 4 => across₂
  | 2 | 3 | 6 | 7 => sibling

theorem peer_peer (j : Fin 8) (c : Dev nD) : peer j (peer j c) = c := by revert j c; decide

/-- The devices the kernel computes for its transfers are these. -/
theorem dev1_eq (c : Dev nD) (h : k0_dev1 c < nD) : (⟨k0_dev1 c, h⟩ : Dev nD) = peer 0 c := by
  revert c; decide +kernel
theorem dev2_eq (c : Dev nD) (h : k0_dev2 c < nD) : (⟨k0_dev2 c, h⟩ : Dev nD) = peer 1 c := by
  revert c; decide +kernel
theorem dev3_eq (c : Dev nD) (h : k0_dev3 c < nD) : (⟨k0_dev3 c, h⟩ : Dev nD) = peer 4 c := by
  revert c; decide +kernel
theorem dev4_eq (c : Dev nD) (h : k0_dev4 c < nD) : (⟨k0_dev4 c, h⟩ : Dev nD) = peer 2 c := by
  revert c; decide +kernel
theorem dev5_eq (c : Dev nD) (h : k0_dev5 c < nD) : (⟨k0_dev5 c, h⟩ : Dev nD) = peer 5 c := by
  revert c; decide +kernel
theorem dev6_eq (c : Dev nD) (h : k0_dev6 c < nD) : (⟨k0_dev6 c, h⟩ : Dev nD) = peer 3 c := by
  revert c; decide +kernel
theorem dev7_eq (c : Dev nD) (h : k0_dev7 c < nD) : (⟨k0_dev7 c, h⟩ : Dev nD) = peer 6 c := by
  revert c; decide +kernel
theorem dev8_eq (c : Dev nD) (h : k0_dev8 c < nD) : (⟨k0_dev8 c, h⟩ : Dev nD) = peer 7 c := by
  revert c; decide +kernel

/-- A transfer may go from each device to its peers. -/
theorem routes (j : Fin 8) (c : Dev nD) : τ.routes c.tc (peer j c : Thread nD τ) = true := by revert j c; decide

theorem sem_inb (j : Fin 8) : ∀ a, (![j.val] : Fin 1 → ℕ) a + S1.size a ≤ S8.size a := by revert j; decide

abbrev sendSem (j : Fin 8) : DmaSem sig := ((cc0_scratch0.slice (Rect.unit (s := S8) ![j.val] S1.size (sem_inb j))).squeeze S_ squeezes_S1_S_ : DmaSems sig S_).sem
abbrev recvSem (j : Fin 8) : DmaSem sig := ((cc0_scratch1.slice (Rect.unit (s := S8) ![j.val] S1.size (sem_inb j))).squeeze S_ squeezes_S1_S_ : DmaSems sig S_).sem

/-- Half the rows of a `main_arg3`, and half and a quarter of the rows of a layer of `main_v1_1`, at an offset. -/
abbrev own (o : Fin 2 → ℕ) (h : ∀ a, o a + S512x4096.size a ≤ S4096x4096.size a) : Memref sig .tc .hbm S512x4096 .bf16 :=
  (Memref.whole main_arg3).slice (Rect.unit (s := S4096x4096) o S512x4096.size h) (fun _ => rfl)
abbrev big (o : Fin 3 → ℕ) (h : ∀ a, o a + S1x512x4096.size a ≤ S4x4096x4096.size a) : Memref sig .tc .hbm S512x4096 .bf16 :=
  ((Memref.whole main_v1_1).slice (Rect.unit (s := S4x4096x4096) o S1x512x4096.size h) (fun _ => rfl)).squeeze S512x4096 squeezes_S1x512x4096_S512x4096
abbrev half (o : Fin 3 → ℕ) (h : ∀ a, o a + S1x256x4096.size a ≤ S4x4096x4096.size a) : Memref sig .tc .hbm S256x4096 .bf16 :=
  ((Memref.whole main_v1_1).slice (Rect.unit (s := S4x4096x4096) o S1x256x4096.size h) (fun _ => rfl)).squeeze S256x4096 squeezes_S1x256x4096_S256x4096

/-- The units of one transfer of a link. -/
def amountBig : ℕ := (big ![0, 0, 0] (by decide)).view.dmaCredit
def amountHalf : ℕ := (half ![0, 0, 0] (by decide)).view.dmaCredit
def amount (j : Fin 8) : ℕ := if j.val < 4 then amountBig else amountHalf

abbrev links : Links nD sig where
  J := 8
  sendSem := sendSem
  recvSem := recvSem
  peer := peer
  peer_peer := peer_peer
  units := amount
  units_pos j := by
    unfold amount
    split <;> exact View.dmaCredit_pos _ (by decide)
  apart := by decide

/-- Every link is ranked above those it passes on. -/
def rank (j : Fin 8) : ℕ := if j.val < 2 then 1 else if j.val < 6 then 2 else 3

theorem rank_pos (j : Fin 8) : 0 < rank j := by revert j; decide

/-! ## The places -/

/-- The layer, the first row and the number of rows of what device `c` sends on a link, at either end. -/
def layer (j : Fin 8) (c : Dev nD) : ℕ :=
  match j with
  | 0 | 1 => c.val / 2
  | 2 | 4 => (across₁ c).val / 2
  | 3 | 5 => (across₂ c).val / 2
  | 6 | 7 => 3 - c.val / 2
def row (j : Fin 8) (c : Dev nD) : ℕ := 2048 * (c.val % 2) + 1152 + (if j = 5 ∨ j = 7 then 256 else 0)
def height (j : Fin 8) : ℕ := if j.val < 4 then 512 else 256

/-- Some rows of a layer. -/
def zone (s r n : ℕ) : Finset S4x4096x4096.Idx := Finset.univ.filter fun i => (i 0).val = s ∧ r ≤ (i 1).val ∧ (i 1).val < r + n

theorem mem_zone {s r n : ℕ} {i : S4x4096x4096.Idx} : i ∈ zone s r n ↔ (i 0).val = s ∧ r ≤ (i 1).val ∧ (i 1).val < r + n := by
  unfold zone
  rw [Finset.mem_filter, and_iff_right (Finset.mem_univ i)]

/-- The elements that device `c` sends on a link from the third on, and the elements that it is sent on a link. -/
def place (j : Fin 8) (c : Dev nD) : Finset S4x4096x4096.Idx := zone (layer j c) (row j c) (height j)
def landing (j : Fin 8) (c : Dev nD) : Finset S4x4096x4096.Idx := place j (peer j c)

theorem big_set {o : Fin 3 → ℕ} {h} {s r : ℕ} (ho : o = ![s, r, 0]) : (big o h).view.set = zone s r 512 := by
  subst ho
  refine ((View.set_reshape _ _).trans (View.set_slice_whole _ _)).trans (Finset.ext fun i => ?_)
  rw [mem_zone]
  refine Rect.mem_set_unit.trans ⟨fun hi => ?_, fun hi a => ?_⟩
  · have h0 : s ≤ (i 0).val ∧ (i 0).val < s + 1 := hi 0
    exact ⟨by omega, hi 1⟩
  · have h2 : (i 2).val < 4096 := (i 2).isLt
    fin_cases a
    · exact ⟨hi.1.ge, by show (i 0).val < s + 1; omega⟩
    · exact hi.2
    · exact ⟨Nat.zero_le _, by show (i 2).val < 0 + 4096; omega⟩

theorem half_set {o : Fin 3 → ℕ} {h} {s r : ℕ} (ho : o = ![s, r, 0]) : (half o h).view.set = zone s r 256 := by
  subst ho
  refine ((View.set_reshape _ _).trans (View.set_slice_whole _ _)).trans (Finset.ext fun i => ?_)
  rw [mem_zone]
  refine Rect.mem_set_unit.trans ⟨fun hi => ?_, fun hi a => ?_⟩
  · have h0 : s ≤ (i 0).val ∧ (i 0).val < s + 1 := hi 0
    exact ⟨by omega, hi 1⟩
  · have h2 : (i 2).val < 4096 := (i 2).isLt
    fin_cases a
    · exact ⟨hi.1.ge, by show (i 0).val < s + 1; omega⟩
    · exact hi.2
    · exact ⟨Nat.zero_le _, by show (i 2).val < 0 + 4096; omega⟩

/-- The places the kernel computes are these. -/
theorem off1_eq (c : Dev nD) : k0_off1 c = ![c.val / 2, 2048 * (c.val % 2) + 1152, 0] := by revert c; decide +kernel
theorem off2_eq (c : Dev nD) : k0_off2 c = ![2048 * (c.val % 2) + 1152, 0] := by revert c; decide +kernel
theorem off3_eq (c : Dev nD) : k0_off3 c = ![layer 2 c, row 2 c, 0] := by revert c; decide +kernel
theorem off4_eq (c : Dev nD) : k0_off4 c = ![layer 4 c, row 4 c, 0] := by revert c; decide +kernel
theorem off5_eq (c : Dev nD) : k0_off5 c = ![layer 3 c, row 3 c, 0] := by revert c; decide +kernel
theorem off6_eq (c : Dev nD) : k0_off6 c = ![layer 5 c, row 5 c, 0] := by revert c; decide +kernel
theorem off7_eq (c : Dev nD) : k0_off7 c 0#32 = ![layer 6 c, row 6 c, 0] := by revert c; decide +kernel
theorem off7_eq' (c : Dev nD) : k0_off7 c 256#32 = ![layer 7 c, row 7 c, 0] := by revert c; decide +kernel

/-- What came along a link lies where it is passed on from. -/
theorem landing_0 (c : Dev nD) : landing 0 c = place 2 c := by
  have h : layer 0 (peer 0 c) = layer 2 c ∧ row 0 (peer 0 c) = row 2 c := by revert c; decide
  unfold landing place; rw [h.1, h.2]; rfl
theorem landing_1 (c : Dev nD) : landing 1 c = place 3 c := by
  have h : layer 1 (peer 1 c) = layer 3 c ∧ row 1 (peer 1 c) = row 3 c := by revert c; decide
  unfold landing place; rw [h.1, h.2]; rfl
theorem landing_4 (c : Dev nD) : landing 4 c = place 6 c := by
  have h : layer 4 (peer 4 c) = layer 6 c ∧ row 4 (peer 4 c) = row 6 c := by revert c; decide
  unfold landing place; rw [h.1, h.2]; rfl
theorem landing_5 (c : Dev nD) : landing 5 c = place 7 c := by
  have h : layer 5 (peer 5 c) = layer 7 c ∧ row 5 (peer 5 c) = row 7 c := by revert c; decide
  unfold landing place; rw [h.1, h.2]; rfl

theorem place_4_sub (c : Dev nD) : place 4 c ⊆ place 2 c := by
  have h : layer 4 c = layer 2 c ∧ row 4 c = row 2 c ∧ height 4 = 256 ∧ height 2 = 512 := by revert c; decide
  intro i hi
  unfold place at hi ⊢
  rw [mem_zone] at hi ⊢
  omega
theorem place_5_sub (c : Dev nD) : place 5 c ⊆ place 3 c := by
  have h : layer 5 c = layer 3 c ∧ row 5 c = row 3 c + 256 ∧ height 5 = 256 ∧ height 3 = 512 := by revert c; decide
  intro i hi
  unfold place at hi ⊢
  rw [mem_zone] at hi ⊢
  omega

theorem landing_apart (c : Dev nD) (j j' : Fin 8) (h : j ≠ j') : Disjoint (landing j c) (landing j' c) := by
  have hn : layer j (peer j c) ≠ layer j' (peer j' c) ∨ row j (peer j c) + height j ≤ row j' (peer j' c)
      ∨ row j' (peer j' c) + height j' ≤ row j (peer j c) := by revert c j j'; decide +kernel
  refine Finset.disjoint_left.mpr fun i hi hi' => ?_
  unfold landing place at hi hi'
  rw [mem_zone] at hi hi'
  omega

/-- An element is in the rows that are gathered. -/
def band (i : S4x4096x4096.Idx) : Prop := 1152 ≤ (i 1).val % 2048 ∧ (i 1).val % 2048 < 1664

instance (i : S4x4096x4096.Idx) : Decidable (band i) := by unfold band; infer_instance

/-- Every such element outside the layer of the own chip is in a landing place. -/
theorem mem_landing (c : Dev nD) (i : S4x4096x4096.Idx) (h : (i 0).val ≠ c.val / 2) (hb : band i) : ∃ j, i ∈ landing j c := by
  have h1 : (i 1).val < 4096 := (i 1).isLt
  unfold band at hb
  have hn : ∀ (c : Dev nD) (s : Fin 4) (b : Fin 2) (q : Fin 2), s.val ≠ c.val / 2 → ∃ j : Fin 8, s.val = layer j (peer j c)
      ∧ row j (peer j c) ≤ 2048 * b.val + 1152 + 256 * q.val
      ∧ 2048 * b.val + 1152 + 256 * q.val + 256 ≤ row j (peer j c) + height j := by decide +kernel
  obtain ⟨j, h1, h2, h3⟩ := hn c (i 0) ⟨(i 1).val / 2048, by omega⟩ ⟨((i 1).val % 2048 - 1152) / 256, by omega⟩ h
  refine ⟨j, ?_⟩
  unfold landing place
  rw [mem_zone]
  dsimp only at h2 h3
  omega

theorem place_layer (j : Fin 8) (c : Dev nD) (hj : 2 ≤ j.val) {i : S4x4096x4096.Idx} (hi : i ∈ place j c) :
    (i 0).val ≠ c.val / 2 ∧ (i 0).val ≠ (peer j c).val / 2 ∧ band i := by
  have h : layer j c ≠ c.val / 2 ∧ layer j c ≠ (peer j c).val / 2 ∧ (2048 * (c.val % 2) + 1152 ≤ row j c)
      ∧ row j c + height j ≤ 2048 * (c.val % 2) + 1664 := by clear hi; revert c j; decide +kernel
  unfold place at hi
  rw [mem_zone] at hi
  unfold band
  omega

/-! ## What travels -/

variable (m : (ℓ : Loc nD τ sig) → Buf (Elt F) ℓ)

/-- The device whose half of the rows an element of `main_v1_1` belongs to, and where it lies in its `main_arg3`. -/
def source (i : S4x4096x4096.Idx) : Dev nD :=
  ⟨2 * (i 0).val + (i 1).val / 2048, by
    have h0 : (i 0).val < 4 := (i 0).isLt
    have h1 : (i 1).val < 4096 := (i 1).isLt
    show 2 * (i 0).val + (i 1).val / 2048 < 8; omega⟩
def origin (i : S4x4096x4096.Idx) : S4096x4096.Idx
  | 0 => i 1
  | 1 => i 2

/-- `main_v1_1` of device `c` when all has landed: the rows gathered of the other chips, and elsewhere what it held. -/
def filled (c : Dev nD) : Vec F S4x4096x4096 .bf16 := fun i =>
  if (i 0).val ≠ c.val / 2 ∧ band i then m ((source i : Thread nD τ).loc main_arg3) (origin i) else m (c.tc.loc main_v1_1) i

/-- Two devices agree on what is gathered in a layer of neither. -/
theorem filled_eq (c c' : Dev nD) (i : S4x4096x4096.Idx) (h : (i 0).val ≠ c.val / 2) (h' : (i 0).val ≠ c'.val / 2) (hb : band i) :
    filled m c i = filled m c' i := by unfold filled; rw [if_pos ⟨h, hb⟩, if_pos ⟨h', hb⟩]

/-- Elements of `main_v1_1` on device `c` at contents `f`. -/
def piece (c : Dev nD) (I : Finset S4x4096x4096.Idx) (q : PosShare TreeShare) (f : Vec F S4x4096x4096 .bf16) : sProp 𝕄 :=
  iprop(c.tc.loc main_v1_1 ↦[I]{q} (f : Buf (Elt F) (c.tc.loc main_v1_1)))

theorem off2_inb (c : Dev nD) : ∀ a, k0_off2 c a + S512x4096.size a ≤ S4096x4096.size a := by revert c; decide +kernel

/-- The half of its own rows that device `c` sends, at its launch contents. -/
def mineRows (c : Dev nD) (q : PosShare TreeShare) : sProp 𝕄 :=
  iprop(c.tc.loc main_arg3 ↦[(own (k0_off2 c) (off2_inb c)).view.set]{q} m (c.tc.loc main_arg3))

/-- Two links that read the same elements have one half of the right to them each. -/
def part (j : Fin 8) : PosShare TreeShare :=
  match j with
  | 0 | 2 | 3 => fullShare.left
  | 1 | 4 | 5 => fullShare.right
  | 6 | 7 => fullShare

/-- What a device sends on a link, the place there for what it is sent, and that place with what was sent. -/
def lent (c : Dev nD) (j : Fin 8) : sProp 𝕄 := if j.val < 2 then mineRows m c (part j) else piece c (place j c) (part j) (filled m c)
def room (c : Dev nD) (j : Fin 8) : sProp 𝕄 := iprop(∃ f, piece c (landing j c) fullShare f)
def came (c : Dev nD) (j : Fin 8) : sProp 𝕄 := piece c (landing j c) fullShare (filled m c)

theorem lent_own (c : Dev nD) (j : Fin 8) (h : j.val < 2) : lent m c j = mineRows m c (part j) := if_pos h
theorem lent_pass (c : Dev nD) (j : Fin 8) (h : ¬ j.val < 2) : lent m c j = piece c (place j c) (part j) (filled m c) := if_neg h

/-- What the send cells return and what the receive cells deliver. -/
def pay : links.End → Dev nD → sProp 𝕄
  | (false, j), c => lent m c j
  | (true, j), c => came m c j

instance : Cert.Exchange.Keepable links (pay m) where
  keep k c := by
    have hm (q : PosShare TreeShare) : BI.Storable upEmb (mineRows m c q) := by unfold mineRows; infer_instance
    have hp (I : Finset S4x4096x4096.Idx) (q : PosShare TreeShare) : BI.Storable upEmb (piece c I q (filled m c)) := by unfold piece; infer_instance
    rcases k with ⟨_ | _, j⟩
    · show BI.Storable upEmb (lent m c j)
      unfold lent
      split
      · exact hm _
      · exact hp _ _
    · exact hp _ _

/-- A write through a view of what was read through the same view brings over the elements it names. -/
theorem write_read {κ : Kind} {sp : Space} {sh : Shape} {e : EltTy} (v : View sig κ sp sh e) (f g : v.ty.Contents (Elt F)) (i) (hi : i ∈ v.set) :
    v.write (Elt F) f (v.read (Elt F) g) Finset.univ i = g i := by
  obtain ⟨x, -, rfl⟩ := Finset.mem_map.mp hi
  rw [View.write_emb_of_mem f _ (Finset.mem_univ x)]
  unfold View.read
  rw [cast_cast, cast_eq]

/-- What a transfer of the own rows leaves where it lands is what `filled` says. -/
theorem delivered (c c' : Dev nD) (hc : c.val / 2 ≠ c'.val / 2) {h} {h'} (fd : Vec F S4x4096x4096 .bf16) (i) (hi : i ∈ (big (k0_off1 c) h).view.set) :
    (big (k0_off1 c) h).view.write (Elt F) fd ((own (k0_off2 c) h').view.read (Elt F) (m (c.tc.loc main_arg3))) Finset.univ i = filled m c' i := by
  have hz : i ∈ zone (c.val / 2) (2048 * (c.val % 2) + 1152) 512 := big_set (off1_eq c) ▸ hi
  rw [mem_zone] at hz
  obtain ⟨x, -, rfl⟩ := Finset.mem_map.mp hi
  refine (View.write_emb_of_mem (v := (big (k0_off1 c) h).view) fd _ (Finset.mem_univ x)).trans ?_
  show m (c.tc.loc main_arg3) ((own (k0_off2 c) h').view.emb x) = _
  have e1 : (((big (k0_off1 c) h).view.emb x) 1).val = k0_off1 c 1 + 1 * (x 0).val :=
    congrArg (fun w : S1x512x4096.Idx => k0_off1 c 1 + 1 * (w 1).val) (Shape.reshapeEquiv_cons_one (d := ![512, 4096]) (by decide) x)
  have e2 : (((big (k0_off1 c) h).view.emb x) 2).val = k0_off1 c 2 + 1 * (x 1).val :=
    congrArg (fun w : S1x512x4096.Idx => k0_off1 c 2 + 1 * (w 2).val) (Shape.reshapeEquiv_cons_one (d := ![512, 4096]) (by decide) x)
  generalize hy : (big (k0_off1 c) h).view.emb x = i at hz e1 e2
  have f1 : k0_off1 c 1 = 2048 * (c.val % 2) + 1152 := congrFun (off1_eq c) 1
  have f2 : k0_off1 c 2 = 0 := congrFun (off1_eq c) 2
  have g1 : k0_off2 c 0 = 2048 * (c.val % 2) + 1152 := congrFun (off2_eq c) 0
  have g2 : k0_off2 c 1 = 0 := congrFun (off2_eq c) 1
  have hs : source i = c := Fin.ext (show 2 * (i 0).val + (i 1).val / 2048 = c.val by omega)
  unfold filled
  rw [if_pos ⟨by omega, by unfold band; omega⟩, hs]
  refine congrArg _ (funext fun a => ?_)
  fin_cases a <;> refine Fin.ext ?_
  · show k0_off2 c 0 + 1 * (x 0).val = (i 1).val
    omega
  · show k0_off2 c 1 + 1 * (x 1).val = (i 2).val
    omega

/-! ## The buffers in pieces -/

/-- The elements of a device's `main_arg3` that it does not send, and the layer of its own chip. -/
def kept (c : Dev nD) : sProp 𝕄 :=
  iprop(c.tc.loc main_arg3 ↦[Finset.univ \ (own (k0_off2 c) (off2_inb c)).view.set]{fullShare} m (c.tc.loc main_arg3))
def ownLayer (c : Dev nD) (f : Vec F S4x4096x4096 .bf16) : sProp 𝕄 :=
  piece c (Finset.univ \ (Finset.univ : Finset (Fin 8)).biUnion fun j => landing j c) fullShare f

omit [FloatOps F] in
theorem piece_share (c : Dev nD) (I) (f : Vec F S4x4096x4096 .bf16) :
    (piece c I fullShare f : sProp 𝕄) ⊣⊢ iprop(piece c I fullShare.left f ∗ piece c I fullShare.right f) :=
  pointsTo_share (PosShare.mem_left_op_right fullShare)

omit [FloatOps F] in
theorem piece_sub (c : Dev nD) {I J} (h : I ⊆ J) (q) (f : Vec F S4x4096x4096 .bf16) :
    (piece c J q f : sProp 𝕄) ⊣⊢ iprop(piece c I q f ∗ piece c (J \ I) q f) :=
  pointsTo_split_subset h

omit [FloatOps F] in
theorem arg2_split (c : Dev nD) :
    (c.tc.loc main_arg3 ↦{fullShare} m (c.tc.loc main_arg3) : sProp 𝕄)
      ⊣⊢ iprop((mineRows m c fullShare.left ∗ mineRows m c fullShare.right) ∗ kept m c) := by
  have h : (mineRows m c fullShare : sProp 𝕄) = iprop(mineRows m c fullShare.left ∗ mineRows m c fullShare.right) :=
    by unfold mineRows; exact equiv_iff.mp ⟨(pointsTo_share (PosShare.mem_left_op_right fullShare)).1, (pointsTo_share (PosShare.mem_left_op_right fullShare)).2⟩
  rw [← h]
  exact pointsTo_split_subset (Finset.subset_univ _)

omit [FloatOps F] in
theorem buffer_split (c : Dev nD) (f : Vec F S4x4096x4096 .bf16) :
    (c.tc.loc main_v1_1 ↦{fullShare} (f : Buf (Elt F) (c.tc.loc main_v1_1)) : sProp 𝕄)
      ⊣⊢ iprop((bigSep Finset.univ fun j => piece c (landing j c) fullShare f) ∗ ownLayer c f) := by
  have h := pointsTo_biUnion (ℓ := (c.tc : Thread nD τ).loc main_v1_1) (Ix := Unit) (Name := ℕ) (U := UU nD sig τ) (Lvl := ℕ) (q := fullShare)
    (f := (f : Buf (Elt F) (c.tc.loc main_v1_1))) Finset.univ (fun j => landing j c) fun j _ j' _ hj => landing_apart c j j' hj
  unfold ownLayer piece
  rw [← h]
  exact pointsTo_split_subset (Finset.subset_univ _)

omit [FloatOps F] in
/-- Outside the landing places `filled` is what was there. -/
theorem ownLayer_eq (c : Dev nD) : (ownLayer c (m (c.tc.loc main_v1_1)) : sProp 𝕄) = ownLayer c (filled m c) := by
  unfold ownLayer piece
  refine pointsTo_congr fun i hi => ?_
  refine (if_neg fun h => ?_).symm
  obtain ⟨j, hj⟩ := mem_landing c i h.1 h.2
  exact (Finset.mem_sdiff.mp hi).2 (Finset.mem_biUnion.mpr ⟨j, Finset.mem_univ _, hj⟩)

/-- What holds of the eight links, one by one. -/
theorem eight (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ

end Cert.Of

end
-- ==== Proof.OfParts.lean ====
/-
# The four parts of a grid point of `out_proj_fwd`

The body at a grid point is: start the transfers of the own rows (at the first point), compute the block, pass on what
came from the neighbouring chips (at point 19), pass on the rest and wait for everything (at the last point).
-/
module

public import proofs.«01_k».proof.Proof.Gen.OfKernelIdeal.Skeleton
public import proofs.«01_k».proof.Proof.Gen.OfKernelIdeal.Points
public import proofs.«01_k».proof.Proof.OfLinks

@[expose] public section

noncomputable section

namespace Cert.Of

open Cert.OfKernelIdeal Cert.OfKernelIdeal.Gen
open Idealize.ShloMosaic
open TcCoe
open Idealize.SL.Sem

variable {F : FTy → Type} [FloatOps F]

/-- Programs of this kernel. -/
abbrev Code (F : FTy → Type) [FloatOps F] : Type → Type 1 := Prog (TpuEff nD τ sig (Elt F) Λ₀ .tc)

theorem own_exact {o : Fin 2 → ℕ} {h} (hw : (Rect.unit (s := S4096x4096) o S512x4096.size h).WholeWords (EltTy.packing .bf16)) : (own o h).view.WordExact :=
  (Memref.isWhole_whole main_arg3).wordExact_slice rfl _ hw
theorem big_exact {o : Fin 3 → ℕ} {h} (hw : (Rect.unit (s := S4x4096x4096) o S1x512x4096.size h).WholeWords (EltTy.packing .bf16)) : (big o h).view.WordExact :=
  ((Memref.isWhole_whole main_v1_1).wordExact_slice rfl _ hw).reshape _ _
theorem half_exact {o : Fin 3 → ℕ} {h} (hw : (Rect.unit (s := S4x4096x4096) o S1x256x4096.size h).WholeWords (EltTy.packing .bf16)) : (half o h).view.WordExact :=
  ((Memref.isWhole_whole main_v1_1).wordExact_slice rfl _ hw).reshape _ _

/-- The first grid point sends the own rows. -/
def sendPart (i : grid0.Coords) : Code F PUnit :=
  if h : k0_cond1 i = 1#1 then
    .op .deviceId fun d =>
    .op (.enqueueDma (own (k0_off2 d) (k0_off2_inb i d h)) (.remote (Dev.tc (⟨k0_dev1 d, k0_dev1_lt i d h⟩ : Dev nD)) (big (k0_off1 d) (k0_off1_inb i d h)) (.dma (sendSem 0)))
      (.dma (recvSem 0)) (own_exact (k0_off2_wordsbf16 i d h)) (big_exact (k0_off1_wordsbf16 i d h)) ⟨⟨rfl, Or.inl rfl⟩, trivial⟩) fun _ =>
    .op (.enqueueDma (own (k0_off2 d) (k0_off2_inb i d h)) (.remote (Dev.tc (⟨k0_dev2 d, k0_dev2_lt i d h⟩ : Dev nD)) (big (k0_off1 d) (k0_off1_inb i d h)) (.dma (sendSem 1)))
      (.dma (recvSem 1)) (own_exact (k0_off2_wordsbf16 i d h)) (big_exact (k0_off1_wordsbf16 i d h)) ⟨⟨rfl, Or.inl rfl⟩, trivial⟩) fun _ => .ret ⟨⟩
  else .ret ⟨⟩

/-- Every grid point computes. -/
def workPart (A : Memref sig .tc .vmem S1024x4096 .bf16) (B : Memref sig .tc .vmem S4096x512 .bf16) (X O : Memref sig .tc .vmem S1024x512 .f32) : Code F PUnit :=
  .op (.load B (Rect.unit (s := S4096x512) ![0, 0] S4096x512.size inb_S4096x512_S4096x512_0_0).toLoadRect (View.loadsAt_vmem h_S4096x512)) fun v8 =>
  .op (.load A (Rect.unit (s := S1024x4096) ![0, 0] S1024x4096.size inb_S1024x4096_S1024x4096_0_0).toLoadRect (View.loadsAt_vmem h_S1024x4096)) fun v10 =>
  .op (.load X (Rect.unit (s := S1024x512) ![0, 0] S1024x512.size inb_S1024x512_S1024x512_0_0).toLoadRect (View.loadsAt_vmem h_S1024x512)) fun v13 =>
  .op (.load O (Rect.unit (s := S1024x512) ![0, 0] S1024x512.size inb_S1024x512_S1024x512_0_0).toLoadRect (View.loadsAt_vmem h_S1024x512)) fun _ =>
  .op (.store O (Rect.unit (s := S1024x512) ![0, 0] S1024x512.size inb_S1024x512_S1024x512_0_0) (k0_pay1 v8 v10 v13) Finset.univ (View.stores_vmem_bits_univ h_S1024x512 rfl) (.inl rfl)) fun _ => .ret ⟨⟩

/-- Point 19 passes on what came along links 0 and 1. -/
def passPart (i : grid0.Coords) : Code F PUnit :=
  if h : k0_cond2 i = 1#1 then
    .op .deviceId fun d =>
    .op (.waitDma2 (recvSem 0) (big (k0_off3 d) (k0_off3_inb i d h)) (big (k0_off3 d) (k0_off3_inb i d h)) (big_exact (k0_off3_wordsbf16 i d h)) (big_exact (k0_off3_wordsbf16 i d h))) fun _ =>
    .op (.enqueueDma (half (k0_off4 d) (k0_off4_inb i d h)) (.remote (Dev.tc (⟨k0_dev3 d, k0_dev3_lt i d h⟩ : Dev nD)) (half (k0_off4 d) (k0_off4_inb i d h)) (.dma (sendSem 4)))
      (.dma (recvSem 4)) (half_exact (k0_off4_wordsbf16 i d h)) (half_exact (k0_off4_wordsbf16 i d h)) ⟨⟨rfl, Or.inl rfl⟩, trivial⟩) fun _ =>
    .op (.enqueueDma (big (k0_off3 d) (k0_off3_inb i d h)) (.remote (Dev.tc (⟨k0_dev4 d, k0_dev4_lt i d h⟩ : Dev nD)) (big (k0_off3 d) (k0_off3_inb i d h)) (.dma (sendSem 2)))
      (.dma (recvSem 2)) (big_exact (k0_off3_wordsbf16 i d h)) (big_exact (k0_off3_wordsbf16 i d h)) ⟨⟨rfl, Or.inl rfl⟩, trivial⟩) fun _ =>
    .op (.waitDma2 (recvSem 1) (big (k0_off5 d) (k0_off5_inb i d h)) (big (k0_off5 d) (k0_off5_inb i d h)) (big_exact (k0_off5_wordsbf16 i d h)) (big_exact (k0_off5_wordsbf16 i d h))) fun _ =>
    .op (.enqueueDma (half (k0_off6 d) (k0_off6_inb i d h)) (.remote (Dev.tc (⟨k0_dev5 d, k0_dev5_lt i d h⟩ : Dev nD)) (half (k0_off6 d) (k0_off6_inb i d h)) (.dma (sendSem 5)))
      (.dma (recvSem 5)) (half_exact (k0_off6_wordsbf16 i d h)) (half_exact (k0_off6_wordsbf16 i d h)) ⟨⟨rfl, Or.inl rfl⟩, trivial⟩) fun _ =>
    .op (.enqueueDma (big (k0_off5 d) (k0_off5_inb i d h)) (.remote (Dev.tc (⟨k0_dev6 d, k0_dev6_lt i d h⟩ : Dev nD)) (big (k0_off5 d) (k0_off5_inb i d h)) (.dma (sendSem 3)))
      (.dma (recvSem 3)) (big_exact (k0_off5_wordsbf16 i d h)) (big_exact (k0_off5_wordsbf16 i d h)) ⟨⟨rfl, Or.inl rfl⟩, trivial⟩) fun _ => .ret ⟨⟩
  else .ret ⟨⟩

/-- The last grid point passes on what came along links 4 and 5, and waits for what else it is sent and for what it sent itself. -/
def waitPart (i : grid0.Coords) : Code F PUnit :=
  if h : k0_cond3 i = 1#1 then
    .op .deviceId fun d =>
    .op (.waitDma2 (recvSem 4) (half (k0_off7 d 0#32) (k0_off7_inb i d h 0)) (half (k0_off7 d 0#32) (k0_off7_inb i d h 0)) (half_exact (k0_off7_wordsbf16 i d h 0)) (half_exact (k0_off7_wordsbf16 i d h 0))) fun _ =>
    .op (.enqueueDma (half (k0_off7 d 0#32) (k0_off7_inb i d h 0)) (.remote (Dev.tc (⟨k0_dev7 d, k0_dev7_lt i d h⟩ : Dev nD)) (half (k0_off7 d 0#32) (k0_off7_inb i d h 0)) (.dma (sendSem 6)))
      (.dma (recvSem 6)) (half_exact (k0_off7_wordsbf16 i d h 0)) (half_exact (k0_off7_wordsbf16 i d h 0)) ⟨⟨rfl, Or.inl rfl⟩, trivial⟩) fun _ =>
    .op (.waitDma2 (recvSem 5) (half (k0_off7 d 256#32) (k0_off7_inb i d h 1)) (half (k0_off7 d 256#32) (k0_off7_inb i d h 1)) (half_exact (k0_off7_wordsbf16 i d h 1)) (half_exact (k0_off7_wordsbf16 i d h 1))) fun _ =>
    .op (.enqueueDma (half (k0_off7 d 256#32) (k0_off7_inb i d h 1)) (.remote (Dev.tc (⟨k0_dev8 d, k0_dev8_lt i d h⟩ : Dev nD)) (half (k0_off7 d 256#32) (k0_off7_inb i d h 1)) (.dma (sendSem 7)))
      (.dma (recvSem 7)) (half_exact (k0_off7_wordsbf16 i d h 1)) (half_exact (k0_off7_wordsbf16 i d h 1)) ⟨⟨rfl, Or.inl rfl⟩, trivial⟩) fun _ =>
    .op (.waitDma2 (recvSem 2) (big (k0_off8 d) (k0_off8_inb i d h)) (big (k0_off8 d) (k0_off8_inb i d h)) (big_exact (k0_off8_wordsbf16 i d h)) (big_exact (k0_off8_wordsbf16 i d h))) fun _ =>
    .op (.waitDma2 (recvSem 3) (big (k0_off9 d) (k0_off9_inb i d h)) (big (k0_off9 d) (k0_off9_inb i d h)) (big_exact (k0_off9_wordsbf16 i d h)) (big_exact (k0_off9_wordsbf16 i d h))) fun _ =>
    .op (.waitDma2 (recvSem 6) (half (k0_off10 d 0#32) (k0_off10_inb i d h 0)) (half (k0_off10 d 0#32) (k0_off10_inb i d h 0)) (half_exact (k0_off10_wordsbf16 i d h 0)) (half_exact (k0_off10_wordsbf16 i d h 0))) fun _ =>
    .op (.waitDma2 (recvSem 7) (half (k0_off10 d 256#32) (k0_off10_inb i d h 1)) (half (k0_off10 d 256#32) (k0_off10_inb i d h 1)) (half_exact (k0_off10_wordsbf16 i d h 1)) (half_exact (k0_off10_wordsbf16 i d h 1))) fun _ =>
    .op (.waitDma2 (sendSem 0) (big (k0_off12 d) (k0_off12_inb i d h)) (own (k0_off11 d) (k0_off11_inb i d h)) (big_exact (k0_off12_wordsbf16 i d h)) (own_exact (k0_off11_wordsbf16 i d h))) fun _ =>
    .op (.waitDma2 (sendSem 1) (big (k0_off12 d) (k0_off12_inb i d h)) (own (k0_off11 d) (k0_off11_inb i d h)) (big_exact (k0_off12_wordsbf16 i d h)) (own_exact (k0_off11_wordsbf16 i d h))) fun _ =>
    .op (.waitDma2 (sendSem 2) (big (k0_off13 d) (k0_off13_inb i d h)) (big (k0_off13 d) (k0_off13_inb i d h)) (big_exact (k0_off13_wordsbf16 i d h)) (big_exact (k0_off13_wordsbf16 i d h))) fun _ =>
    .op (.waitDma2 (sendSem 3) (big (k0_off14 d) (k0_off14_inb i d h)) (big (k0_off14 d) (k0_off14_inb i d h)) (big_exact (k0_off14_wordsbf16 i d h)) (big_exact (k0_off14_wordsbf16 i d h))) fun _ =>
    .op (.waitDma2 (sendSem 4) (half (k0_off15 d) (k0_off15_inb i d h)) (half (k0_off15 d) (k0_off15_inb i d h)) (half_exact (k0_off15_wordsbf16 i d h)) (half_exact (k0_off15_wordsbf16 i d h))) fun _ =>
    .op (.waitDma2 (sendSem 5) (half (k0_off16 d) (k0_off16_inb i d h)) (half (k0_off16 d) (k0_off16_inb i d h)) (half_exact (k0_off16_wordsbf16 i d h)) (half_exact (k0_off16_wordsbf16 i d h))) fun _ =>
    .op (.waitDma2 (sendSem 6) (half (k0_off7 d 0#32) (k0_off7_inb i d h 0)) (half (k0_off7 d 0#32) (k0_off7_inb i d h 0)) (half_exact (k0_off7_wordsbf16 i d h 0)) (half_exact (k0_off7_wordsbf16 i d h 0))) fun _ =>
    .op (.waitDma2 (sendSem 7) (half (k0_off7 d 256#32) (k0_off7_inb i d h 1)) (half (k0_off7 d 256#32) (k0_off7_inb i d h 1)) (half_exact (k0_off7_wordsbf16 i d h 1)) (half_exact (k0_off7_wordsbf16 i d h 1))) fun _ => .ret ⟨⟩
  else .ret ⟨⟩

/-- The body is its four parts, one after the other. -/
theorem body_eq (t : Fin cfg0.N) :
    bodyAt0 (F := F) t = sendPart (grid0.coords t) >>= fun _ =>
      workPart (st0_0 t) (st0_1 t) (st0_2 t) (st0_3 t) >>= fun _ =>
      passPart (grid0.coords t) >>= fun _ => waitPart (grid0.coords t) := by
  unfold bodyAt0 sendPart
  rw [cc0_out_proj_fwd_eq_skeleton]
  unfold cc0_out_proj_fwd_skel
  rw [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton]
  unfold k0_part1_skel k0_part2_skel k0_part3_skel k0_part4_skel k0_part5_skel k0_part6_skel k0_part7_skel k0_part8_skel k0_part9_skel k0_part10_skel k0_part11_skel passPart waitPart
  by_cases h : k0_cond1 (grid0.coords t) = 1#1 <;> by_cases h' : k0_cond2 (grid0.coords t) = 1#1 <;> by_cases h'' : k0_cond3 (grid0.coords t) = 1#1
  · rw [dif_pos h, dif_pos h]; simp only [dif_pos h', dif_pos h'']; rfl
  · rw [dif_pos h, dif_pos h]; simp only [dif_pos h', dif_neg h'']; rfl
  · rw [dif_pos h, dif_pos h]; simp only [dif_neg h', dif_pos h'']; rfl
  · rw [dif_pos h, dif_pos h]; simp only [dif_neg h', dif_neg h'']; rfl
  · rw [dif_neg h, dif_neg h]; simp only [dif_pos h', dif_pos h'']; rfl
  · rw [dif_neg h, dif_neg h]; simp only [dif_pos h', dif_neg h'']; rfl
  · rw [dif_neg h, dif_neg h]; simp only [dif_neg h', dif_pos h'']; rfl
  · rw [dif_neg h, dif_neg h]; simp only [dif_neg h', dif_neg h'']; rfl

/-- The first point sends, point 19 passes on, the last point waits. -/
theorem sends_iff (t : Fin cfg0.N) : k0_cond1 (grid0.coords t) = 1#1 ↔ t.val = 0 :=
  (by decide +kernel : ∀ t : Fin grid0.N, k0_cond1 (grid0.coords t) = 1#1 ↔ t.val = 0) t
theorem passes_iff (t : Fin cfg0.N) : k0_cond2 (grid0.coords t) = 1#1 ↔ t.val = 19 :=
  (by decide +kernel : ∀ t : Fin grid0.N, k0_cond2 (grid0.coords t) = 1#1 ↔ t.val = 19) t
theorem waits_iff (t : Fin cfg0.N) : k0_cond3 (grid0.coords t) = 1#1 ↔ t.val = 31 :=
  (by decide +kernel : ∀ t : Fin grid0.N, k0_cond3 (grid0.coords t) = 1#1 ↔ t.val = 31) t

end Cert.Of

end
-- ==== Proof.OfSteps.lean ====
/-
# The four parts of `out_proj_fwd`, each by itself

What each part of a grid point does to the memory and to the protocol: the first sends the own rows, every one computes its
block, point 19 passes on what came along links 0 and 1, the last passes on what came along links 4 and 5 and waits for the
rest.
-/
module

public import proofs.«01_k».proof.Proof.OfBlock
public import proofs.«01_k».proof.Proof.OfParts
public import proofs.«01_k».proof.Proof.OfLinks

@[expose] public section

noncomputable section

namespace Cert.Of

open Cert.OfKernelIdeal Cert.OfKernelIdeal.Gen
open Idealize.ShloMosaic
open TcCoe Rounds
open Idealize.SL Idealize.SL.RA Idealize.SL.BI
open BIBase Laws ProofMode Sem
open Cert.Exchange (Links UU EP ER L records ticket seats hand due ranks owns_iff)

variable {F : FTy → Type} [FloatOps F]

local notation "𝕄" => MT nD τ sig Unit (Elt F) ℕ (UU nD sig τ) ℕ

abbrev 𝒱₀ : Variants := Variants.none

/-! ## The block -/

/-- The computing part reads its three blocks and leaves `outBlock` of them, whatever was there. -/
theorem work_step (c : Dev nD) (A : Memref sig .tc .vmem S1024x4096 .bf16) (B : Memref sig .tc .vmem S4096x512 .bf16) (X O : Memref sig .tc .vmem S1024x512 .f32)
    (a : Vec F S1024x4096 .bf16) (b : Vec F S4096x512 .bf16) (x o : Vec F S1024x512 .f32) :
    iprop(owns (Ix := Unit) (Name := ℕ) (U := UU nD sig τ) (Lvl := ℕ) c.tc A fullShare a
        ∗ owns c.tc B fullShare b ∗ owns c.tc X fullShare x ∗ owns c.tc O fullShare o)
      ⊢ wp frame (wpE (defs₀ (F := F)) 𝒱₀ c none) Set.univ (workPart A B X O)
          (fun _ => iprop(owns c.tc A fullShare a ∗ owns c.tc B fullShare b
            ∗ owns c.tc X fullShare x ∗ owns c.tc O fullShare (outBlock a b x) : sProp 𝕄)) := by
  simp only [owns_iff]
  unfold workPart
  iintro ⟨⟨%fa, %ha, HA⟩, ⟨%fb, %hb, HB⟩, ⟨%fx, %hx, HX⟩, ⟨%fo, %ho, HO⟩⟩
  subst ha hb hx
  iapply (wp_load 𝒱₀ c.tc none Set.univ (m := B) (View.setOn_subset_set _ _)) $$ HB; iintro HB
  iapply (wp_load 𝒱₀ c.tc none Set.univ (m := A) (View.setOn_subset_set _ _)) $$ HA; iintro HA
  iapply (wp_load 𝒱₀ c.tc none Set.univ (m := X) (View.setOn_subset_set _ _)) $$ HX; iintro HX
  iapply (wp_load 𝒱₀ c.tc none Set.univ (m := O) (View.setOn_subset_set _ _)) $$ HO; iintro HO
  iapply (wp_store_writes₀ 𝒱₀ c.tc none Set.univ (m := O) (r := allO) (View.set_slice_subset _ _)) $$ HO; iintro HO
  rw [wp_ret]; imodintro
  isplitl [HA]
  · iexists fa; isplitr; · (ipureintro; rfl)
    iexact HA
  isplitl [HB]
  · iexists fb; isplitr; · (ipureintro; rfl)
    iexact HB
  isplitl [HX]
  · iexists fx; isplitr; · (ipureintro; rfl)
    iexact HX
  iexists _; isplitr
  · ipureintro
    refine (read_store O.view fo (k0_pay1 (seen (B.view.read (Elt F) fb) allB) (seen (A.view.read (Elt F) fa) allA) (seen (X.view.read (Elt F) fx) allO))).trans ?_
    rw [seen_A, seen_B, seen_O]
    rfl
  iexact HO

/-! ## The transfers -/

variable (m : (ℓ : Loc nD τ sig) → Buf (Elt F) ℓ)

/-- The transfers of one link count the same units at either end: the memrefs have one shape. -/
theorem credit_own (j : Fin 8) (hj : j.val < 4) {o} {h} : (own o h).view.dmaCredit = amount j := by
  unfold amount
  rw [if_pos hj]
  exact Eq.refl (RefSig.tileCredit S512x4096 .bf16)
theorem credit_big (j : Fin 8) (hj : j.val < 4) {o} {h} : (big o h).view.dmaCredit = amount j := by
  unfold amount
  rw [if_pos hj]
  exact Eq.refl (RefSig.tileCredit S512x4096 .bf16)
theorem credit_half (j : Fin 8) (hj : ¬ j.val < 4) {o} {h} : (half o h).view.dmaCredit = amount j := by
  unfold amount
  rw [if_neg hj]
  exact Eq.refl (RefSig.tileCredit S256x4096 .bf16)

/-- What device `c` owes on link `j`. -/
abbrev debt (c : Dev nD) (j : Fin 8) : CellTallies nD τ sig Unit := tallyAt (links.recvCell (peer j c) j) () (amount j)

/-- What it owes after the first point, and after point 19. -/
def later (c : Dev nD) : CellTallies nD τ sig Unit := 0 + debt c 7 + debt c 6 + debt c 3 + debt c 5 + debt c 2 + debt c 4
def last (c : Dev nD) : CellTallies nD τ sig Unit := 0 + debt c 7 + debt c 6

theorem due_eq (c : Dev nD) : due (τ := τ) links c = later c + debt c 1 + debt c 0 := by
  have h : due (τ := τ) links c = debt c 0 + debt c 1 + debt c 2 + debt c 3 + debt c 4 + debt c 5 + debt c 6 + debt c 7 := by
    unfold due
    exact Fin.sum_univ_eight _
  rw [h]
  unfold later
  rw [zero_add]
  ac_rfl

/-- Only transfers of rank above `b` are owed. -/
def Above (b : ℕ) (O : CellTallies nD τ sig Unit) : Prop := ∀ g u, 0 < O g u → ∃ c' j, g = links.recvCell c' j ∧ b < rank j

theorem above_zero (b : ℕ) : Above b 0 := fun g u h => absurd h (lt_irrefl 0)
theorem above_add {b : ℕ} {O : CellTallies nD τ sig Unit} (h : Above b O) (c : Dev nD) (j : Fin 8) (hj : b < rank j) : Above b (O + debt c j) := by
  intro g u hg
  by_cases hO : 0 < O g u
  · exact h g u hO
  · refine ⟨peer j c, j, ?_, hj⟩
    by_contra hn
    have hz : (debt c j) g u = 0 := by
      show (tallyAt _ () _ : CellTallies nD τ sig Unit) g u = 0
      rw [tallyAt_apply, if_neg fun h' => hn h'.1]
    have hs : (O + debt c j) g u = O g u + (debt c j) g u := rfl
    omega
theorem above_last (b : ℕ) (hb : b < 3) (c : Dev nD) : Above b (last c) :=
  above_add (above_add (above_zero b) c 7 hb) c 6 hb
theorem above_later (b : ℕ) (hb : b < 2) (c : Dev nD) : Above b (later c) :=
  above_add (above_add (above_add (above_add (above_last b (by omega) c) c 3 hb) c 5 hb) c 2 hb) c 4 hb
theorem above_due (c : Dev nD) : Above 0 (due links c) := by
  rw [due_eq]
  exact above_add (above_add (above_later 0 (by omega) c) c 1 (rank_pos 1)) c 0 (rank_pos 0)

/-- What a device holds of a link it has still to send on, and of a cell it has to wait for. -/
def ready (c : Dev nD) (j : Fin 8) : sProp 𝕄 := iprop(ticket links c j ∗ atPos ER (links.cell c (false, j)) 0 ∅ 0 ∗ room (peer j c) j)
def pending (c : Dev nD) (k : links.End) : sProp 𝕄 := iprop(cred (tallyAt (links.cell c k) () (links.units k.2)) ∗ atPos ER (links.cell c k) 0 ∅ 0)

/-- The transfer of the own rows along link 0 or 1. -/
theorem send_own (κ : Dev nD × links.End → ℕ) (c n : Dev nD) (j : Fin 8) (hj : j.val < 2) (hn : n = peer j c)
    {hi} {hi'} {hs : (own (k0_off2 c) hi').view.WordExact} {hd : (big (k0_off1 c) hi).view.WordExact}
    {hsc : (big (k0_off1 c) hi : Memref sig (Dev.tc n : Thread nD τ).2.kind .hbm S512x4096 .bf16).view.ref.isScScratch = false}
    {ht : DmaTarget.Typed .hbm (.dma (recvSem j)) (.remote (Dev.tc n : Thread nD τ) (big (k0_off1 c) hi) (.dma (sendSem j)) hsc)}
    {Q : PUnit → sProp 𝕄} {k : PUnit → Code F PUnit} (O' O : CellTallies nD τ sig Unit) (hO : O' = O + debt c j) (W : Waits sig Unit) :
    iprop(records links (pay m) κ ∗ ready c j ∗ mineRows m c (part j) ∗ owes c.tc O' W)
      ⊢ iprop((pending c (false, j) ∗ owes c.tc O W -∗ wp frame (wpE (defs₀ (F := F)) 𝒱₀ c none) Set.univ (k ⟨⟩) Q)
          -∗ wp frame (wpE (defs₀ (F := F)) 𝒱₀ c none) Set.univ
              (.op (.enqueueDma (own (k0_off2 c) hi') (.remote (Dev.tc n : Thread nD τ) (big (k0_off1 c) hi) (.dma (sendSem j)) hsc) (.dma (recvSem j)) hs hd ht) k) Q) := by
  have hset : (big (k0_off1 c) hi).view.set = landing j (peer j c) := by
    have e : layer j c = c.val / 2 ∧ row j c = 2048 * (c.val % 2) + 1152 ∧ height j = 512 := by
      clear hn hs hd hsc ht hi hi' hO O O' k Q; revert j c; decide
    unfold landing place
    rw [peer_peer, e.1, e.2.1, e.2.2]
    exact big_set (off1_eq c)
  have hchip : c.val / 2 ≠ (peer j c).val / 2 := by
    clear hn hs hd hsc ht hi hi' hO O O' k Q hset; revert j c; decide
  unfold ready pending room piece
  iintro ⟨#HR, ⟨Ht, Ha, ⟨%fd, Hd⟩⟩, Hs, HO⟩ Hk
  iapply (Cert.Exchange.send_along links (pay m) (defs₀ (F := F)) 𝒱₀ κ c n j hn (src := own (k0_off2 c) hi') (dst := big (k0_off1 c) hi) (sS := sendSem j) (sR := recvSem j) rfl rfl
    (q := part j) (m (c.tc.loc main_arg3)) fd (credit_big j (by omega)) ?_ ?_ O hO W (routes j c)) $$ [Ht Hs Hd HO]
  · exact Entails.of_eq (lent_own m c j hj).symm
  · refine Entails.of_eq ?_
    show _ = piece (peer j c) (landing j (peer j c)) fullShare (filled m (peer j c))
    unfold piece
    rw [← hset]
    exact pointsTo_congr fun i hi => delivered m c (peer j c) hchip fd i hi
  · isplitr; · iexact HR
    isplitl [Ht]; · iexact Ht
    isplitl [Hs]; · unfold mineRows; iexact Hs
    isplitl [Hd]; · rw [hset]; iexact Hd
    iexact HO
  iintro ⟨Hc, HO⟩
  iapply Hk
  iframe Hc Ha HO

/-- Some rows of a layer passed on where they lie. -/
theorem pass_on (κ : Dev nD × links.End → ℕ) (c n : Dev nD) (j : Fin 8) (hj : 2 ≤ j.val) (hn : n = peer j c)
    {r : Rect S4x4096x4096} {hr} {s : Shape} {hq} {M : Memref sig .tc .hbm s .bf16} (hM : M = ((Memref.whole main_v1_1).slice r hr).squeeze s hq)
    (hu : M.view.dmaCredit = amount j) (hset : (((Memref.whole main_v1_1).slice r hr).squeeze s hq).view.set = place j c) {hs hd : M.view.WordExact}
    {hsc : (M : Memref sig (Dev.tc n : Thread nD τ).2.kind .hbm s .bf16).view.ref.isScScratch = false}
    {ht : DmaTarget.Typed .hbm (.dma (recvSem j)) (.remote (Dev.tc n : Thread nD τ) M (.dma (sendSem j)) hsc)}
    {Q : PUnit → sProp 𝕄} {k : PUnit → Code F PUnit} (O' O : CellTallies nD τ sig Unit) (hO : O' = O + debt c j) (W : Waits sig Unit) :
    iprop(records links (pay m) κ ∗ ready c j ∗ piece c (place j c) (part j) (filled m c) ∗ owes c.tc O' W)
      ⊢ iprop((pending c (false, j) ∗ owes c.tc O W -∗ wp frame (wpE (defs₀ (F := F)) 𝒱₀ c none) Set.univ (k ⟨⟩) Q)
          -∗ wp frame (wpE (defs₀ (F := F)) 𝒱₀ c none) Set.univ
              (.op (.enqueueDma M (.remote (Dev.tc n : Thread nD τ) M (.dma (sendSem j)) hsc) (.dma (recvSem j)) hs hd ht) k) Q) := by
  subst hM
  have hl : landing j (peer j c) = place j c := by unfold landing; rw [peer_peer]
  unfold ready pending room piece
  rw [hl, ← hset]
  iintro ⟨#HR, ⟨Ht, Ha, ⟨%fd, Hd⟩⟩, Hs, HO⟩ Hk
  iapply (Cert.Exchange.send_along links (pay m) (defs₀ (F := F)) 𝒱₀ κ c n j hn (sS := sendSem j) (sR := recvSem j) rfl rfl
    (q := part j) (filled m c) fd hu ?_ ?_ O hO W (routes j c)) $$ [Ht Hs Hd HO]
  · rw [hset]
    exact Entails.of_eq (lent_pass m c j (by omega)).symm
  · refine Entails.of_eq ?_
    show _ = piece (peer j c) (landing j (peer j c)) fullShare (filled m (peer j c))
    unfold piece
    rw [hl, ← hset]
    refine pointsTo_congr fun i hi' => (write_read (((Memref.whole main_v1_1).slice r hr).squeeze s hq).view fd (filled m c) i hi').trans ?_
    have hp := place_layer j c hj (hset ▸ hi' : i ∈ place j c)
    exact filled_eq m c (peer j c) i hp.1 hp.2.1 hp.2.2
  · iframe HR Ht Hs Hd HO
  iintro ⟨Hc, HO⟩
  iapply Hk
  iframe Hc Ha HO

/-- A wait for a cell, with what is owed such as allows it. -/
theorem wait_link (κ : Dev nD × links.End → ℕ) (c : Dev nD) (k : links.End) {s : Shape} {e : EltTy} {src dst : Memref sig .tc .hbm s e} {hs : src.view.WordExact}
    {hd : dst.view.WordExact} (hu : dst.view.dmaCredit = amount k.2) {Q : PUnit → sProp 𝕄} {next : PUnit → Code F PUnit} (O : CellTallies nD τ sig Unit) {R : sProp 𝕄} (hR : pay m k c ⊢ R)
    (hO : (levAts L (ranks links rank) : sProp 𝕄) ⊢ MayWait c.tc (.dma (links.sem k)) () O) :
    iprop(records links (pay m) κ ∗ levAts L (ranks links rank) ∗ pending c k ∗ (∃ W, owes c.tc O W))
      ⊢ iprop((R ∗ semVal (links.cell c k) 0 ∗ (∃ W, owes c.tc O W)
            -∗ wp frame (wpE (defs₀ (F := F)) 𝒱₀ c none) Set.univ (next ⟨⟩) Q)
          -∗ wp frame (wpE (defs₀ (F := F)) 𝒱₀ c none) Set.univ (.op (.waitDma2 (links.sem k) src dst hs hd) next) Q) := by
  unfold pending
  iintro ⟨#HR, HL, ⟨Hc, Ha⟩, ⟨%W, HO⟩⟩ Hk
  iapply (Cert.Exchange.wait_owing links (pay m) (defs₀ (F := F)) 𝒱₀ κ c k (sm := links.sem k) rfl hu O W) $$ [Hc Ha HO HL]
  · isplitr; · iexact HR
    isplitl [Hc]; · iexact Hc
    isplitl [Ha]; · iexact Ha
    isplitl [HO]; · iexact HO
    iapply hO; iexact HL
  iintro ⟨Hp, Hz, HO⟩
  iapply Hk
  isplitl [Hp]; · iapply hR; iexact Hp
  isplitl [Hz]; · iexact Hz
  iexists _; iexact HO

/-- A receive cell may be waited for while only transfers of higher rank are owed, and every cell while nothing is. -/
theorem wait_recv (c : Dev nD) (j : Fin 8) (O : CellTallies nD τ sig Unit) (h : Above (rank j) O) :
    (levAts L (ranks links rank) : sProp 𝕄) ⊢ MayWait c.tc (.dma (links.sem (true, j))) () O :=
  Cert.Exchange.may_wait links rank c (recvSem j) (rank j) (Cert.Exchange.ranks_recv links rank c j).le O h
theorem wait_free (c : Dev nD) (k : links.End) :
    (levAts L (ranks links rank) : sProp 𝕄) ⊢ MayWait c.tc (.dma (links.sem k)) () 0 := by
  rw [MayWait_zero]; iintro -; iempintro

/-- The halves that are passed on as quarters too, without those quarters. -/
def over (c : Dev nD) : sProp 𝕄 :=
  iprop(piece c (place 2 c \ place 4 c) fullShare.right (filled m c) ∗ piece c (place 3 c \ place 5 c) fullShare.right (filled m c))

/-- What came along links 0 and 1 is what links 2 and 4, and 3 and 5, pass on; what came along 4 and 5, what 6 and 7 do. -/
theorem came_0 (c : Dev nD) : (came m c 0 : sProp 𝕄) ⊣⊢ iprop(piece c (place 2 c) (part 2) (filled m c)
    ∗ piece c (place 4 c) (part 4) (filled m c) ∗ piece c (place 2 c \ place 4 c) fullShare.right (filled m c)) := by
  have h : (piece c (place 2 c) fullShare.right (filled m c) : sProp 𝕄) = _ := equiv_iff.mp ⟨(piece_sub c (place_4_sub c) fullShare.right (filled m c)).1, (piece_sub c (place_4_sub c) fullShare.right (filled m c)).2⟩
  unfold came
  rw [landing_0]
  refine BI.BIBase.BiEntails.trans (piece_share c _ _) ?_
  rw [h]
  exact BIBase.BiEntails.rfl
theorem came_1 (c : Dev nD) : (came m c 1 : sProp 𝕄) ⊣⊢ iprop(piece c (place 3 c) (part 3) (filled m c)
    ∗ piece c (place 5 c) (part 5) (filled m c) ∗ piece c (place 3 c \ place 5 c) fullShare.right (filled m c)) := by
  have h : (piece c (place 3 c) fullShare.right (filled m c) : sProp 𝕄) = _ := equiv_iff.mp ⟨(piece_sub c (place_5_sub c) fullShare.right (filled m c)).1, (piece_sub c (place_5_sub c) fullShare.right (filled m c)).2⟩
  unfold came
  rw [landing_1]
  refine BI.BIBase.BiEntails.trans (piece_share c _ _) ?_
  rw [h]
  exact BIBase.BiEntails.rfl
theorem came_4 (c : Dev nD) : (came m c 4 : sProp 𝕄) = piece c (place 6 c) (part 6) (filled m c) := by unfold came; rw [landing_4]; rfl
theorem came_5 (c : Dev nD) : (came m c 5 : sProp 𝕄) = piece c (place 7 c) (part 7) (filled m c) := by unfold came; rw [landing_5]; rfl

/-- The first point's two transfers. -/
theorem send_step (κ : Dev nD × links.End → ℕ) (c : Dev nD) (i : grid0.Coords) (h : k0_cond1 i = 1#1) (W : Waits sig Unit) :
    iprop(records links (pay m) κ ∗ (ready c 0 ∗ ready c 1) ∗ (mineRows m c fullShare.left ∗ mineRows m c fullShare.right) ∗ owes c.tc (due links c) W)
      ⊢ wp frame (wpE (defs₀ (F := F)) 𝒱₀ c none) Set.univ (sendPart (F := F) i)
          (fun _ => iprop(pending c (false, 0) ∗ pending c (false, 1) ∗ owes c.tc (later c) W : sProp 𝕄)) := by
  unfold sendPart
  rw [dif_pos h]
  simp only [wp_deviceId]
  iintro ⟨#HR, ⟨Ht0, Ht1⟩, ⟨Hs0, Hs1⟩, HO⟩
  iapply (send_own m κ c _ 0 (by decide) (dev1_eq c (k0_dev1_lt i c h)) _ _ (due_eq c) W) $$ [Ht0 Hs0 HO]
  · iframe HR Ht0 Hs0 HO
  iintro ⟨Hc0, HO⟩
  iapply (send_own m κ c _ 1 (by decide) (dev2_eq c (k0_dev2_lt i c h)) _ _ rfl W) $$ [Ht1 Hs1 HO]
  · iframe HR Ht1 Hs1 HO
  iintro ⟨Hc1, HO⟩
  rw [wp_ret]; imodintro
  iframe

theorem owes_some (c : Dev nD) (O : CellTallies nD τ sig Unit) (W : Waits sig Unit) :
    (owes c.tc O W : sProp 𝕄) ⊢ iprop(∃ W, owes c.tc O W) := by iintro H; iexists W; iexact H

/-- Point 19: two waits, and what came is passed on along four links. -/
theorem pass_step (κ : Dev nD × links.End → ℕ) (c : Dev nD) (i : grid0.Coords) (h : k0_cond2 i = 1#1) :
    iprop(records links (pay m) κ ∗ levAts L (ranks links rank) ∗ (ready c 2 ∗ ready c 3 ∗ ready c 4 ∗ ready c 5)
        ∗ (pending c (true, 0) ∗ pending c (true, 1)) ∗ ∃ W, owes c.tc (later c) W)
      ⊢ wp frame (wpE (defs₀ (F := F)) 𝒱₀ c none) Set.univ (passPart (F := F) i)
          (fun _ => iprop((pending c (false, 2) ∗ pending c (false, 3) ∗ pending c (false, 4) ∗ pending c (false, 5))
            ∗ (semVal (links.cell c (true, 0)) 0 ∗ semVal (links.cell c (true, 1)) 0) ∗ over m c ∗ ∃ W, owes c.tc (last c) W : sProp 𝕄)) := by
  unfold passPart
  rw [dif_pos h]
  simp only [wp_deviceId]
  iintro ⟨#HR, #HL, ⟨Ht2, Ht3, Ht4, Ht5⟩, ⟨HP0, HP1⟩, HO⟩
  iapply (wait_link m κ c (true, 0) (credit_big 0 (by decide)) _ (R := came m c 0) (BIBase.Entails.rfl) (wait_recv c 0 _ (above_later 1 (by decide) c))) $$ [HP0 HO]
  · iframe HR HL HP0 HO
  iintro ⟨Hp, Hz0, HO⟩
  ihave Hp := (came_0 m c).1 $$ Hp
  icases Hp with ⟨Hl, Hq, Ho0⟩
  unfold later
  icases HO with ⟨%W, HO⟩
  iapply (pass_on m κ c _ 4 (by decide) (dev3_eq c (k0_dev3_lt i c h)) rfl (credit_half 4 (by decide)) (half_set (off4_eq c)) _ _ rfl W) $$ [Ht4 Hq HO]
  · iframe HR Ht4 Hq HO
  iintro ⟨HS4, HO⟩
  ihave HO := (owes_some c _ W) $$ HO
  icases HO with ⟨%W, HO⟩
  iapply (pass_on m κ c _ 2 (by decide) (dev4_eq c (k0_dev4_lt i c h)) rfl (credit_big 2 (by decide)) (big_set (off3_eq c)) _ _ rfl W) $$ [Ht2 Hl HO]
  · iframe HR Ht2 Hl HO
  iintro ⟨HS2, HO⟩
  ihave HO := (owes_some c _ W) $$ HO
  iapply (wait_link m κ c (true, 1) (credit_big 1 (by decide)) _ (R := came m c 1) (BIBase.Entails.rfl) (wait_recv c 1 _ (above_add (above_add (above_last 1 (by decide) c) c 3 (by decide)) c 5 (by decide)))) $$ [HP1 HO]
  · iframe HR HL HP1 HO
  iintro ⟨Hp, Hz1, HO⟩
  ihave Hp := (came_1 m c).1 $$ Hp
  icases Hp with ⟨Hl, Hq, Ho1⟩
  icases HO with ⟨%W, HO⟩
  iapply (pass_on m κ c _ 5 (by decide) (dev5_eq c (k0_dev5_lt i c h)) rfl (credit_half 5 (by decide)) (half_set (off6_eq c)) _ _ rfl W) $$ [Ht5 Hq HO]
  · iframe HR Ht5 Hq HO
  iintro ⟨HS5, HO⟩
  ihave HO := (owes_some c _ W) $$ HO
  icases HO with ⟨%W, HO⟩
  iapply (pass_on m κ c _ 3 (by decide) (dev6_eq c (k0_dev6_lt i c h)) rfl (credit_big 3 (by decide)) (big_set (off5_eq c)) _ _ rfl W) $$ [Ht3 Hl HO]
  · iframe HR Ht3 Hl HO
  iintro ⟨HS3, HO⟩
  ihave HO := (owes_some c _ W) $$ HO
  rw [wp_ret]; imodintro
  isplitl [HS2 HS3 HS4 HS5]
  · iframe
  isplitl [Hz0 Hz1]
  · iframe Hz0 Hz1
  isplitl [Ho0 Ho1]
  · unfold over
    iframe Ho0 Ho1
  iexact HO

/-- The last point: what came along links 4 and 5 is passed on, and the other cells are waited for; the landing places hold
    what was sent, and what was lent is back. -/
theorem wait_step (κ : Dev nD × links.End → ℕ) (c : Dev nD) (i : grid0.Coords) (h : k0_cond3 i = 1#1) :
    iprop(records links (pay m) κ ∗ levAts L (ranks links rank) ∗ (ready c 6 ∗ ready c 7)
        ∗ (pending c (true, 2) ∗ pending c (true, 3) ∗ pending c (true, 4) ∗ pending c (true, 5) ∗ pending c (true, 6) ∗ pending c (true, 7))
        ∗ (pending c (false, 0) ∗ pending c (false, 1) ∗ pending c (false, 2) ∗ pending c (false, 3) ∗ pending c (false, 4) ∗ pending c (false, 5))
        ∗ over m c ∗ ∃ W, owes c.tc (last c) W)
      ⊢ wp frame (wpE (defs₀ (F := F)) 𝒱₀ c none) Set.univ (waitPart (F := F) i)
          (fun _ => iprop((mineRows m c fullShare.left ∗ mineRows m c fullShare.right) ∗ (bigSep Finset.univ fun j => came m c j)
            ∗ (bigSep Finset.univ fun j : Fin 8 => semVal (links.cell c (false, j)) 0)
            ∗ (semVal (links.cell c (true, 2)) 0 ∗ semVal (links.cell c (true, 3)) 0 ∗ semVal (links.cell c (true, 4)) 0
              ∗ semVal (links.cell c (true, 5)) 0 ∗ semVal (links.cell c (true, 6)) 0 ∗ semVal (links.cell c (true, 7)) 0)
            ∗ ∃ W, owes c.tc 0 W : sProp 𝕄)) := by
  unfold waitPart over
  rw [dif_pos h]
  simp only [wp_deviceId, eight]
  iintro ⟨#HR, #HL, ⟨Ht6, Ht7⟩, ⟨HR2, HR3, HR4, HR5, HR6, HR7⟩, ⟨HS0, HS1, HS2, HS3, HS4, HS5⟩, ⟨Ho0, Ho1⟩, HO⟩
  iapply (wait_link m κ c (true, 4) (credit_half 4 (by decide)) _ (R := came m c 4) (BIBase.Entails.rfl) (wait_recv c 4 _ (above_last 2 (by decide) c))) $$ [HR4 HO]
  · iframe HR HL HR4 HO
  iintro ⟨Hp, HzR4, HO⟩
  ihave Hp := (Entails.of_eq (came_4 m c)) $$ Hp
  unfold last
  icases HO with ⟨%W, HO⟩
  iapply (pass_on m κ c _ 6 (by decide) (dev7_eq c (k0_dev7_lt i c h)) rfl (credit_half 6 (by decide)) (half_set (off7_eq c)) _ _ rfl W) $$ [Ht6 Hp HO]
  · iframe HR Ht6 Hp HO
  iintro ⟨HS6, HO⟩
  ihave HO := (owes_some c _ W) $$ HO
  iapply (wait_link m κ c (true, 5) (credit_half 5 (by decide)) _ (R := came m c 5) (BIBase.Entails.rfl) (wait_recv c 5 _ (above_add (above_zero 2) c 7 (by decide)))) $$ [HR5 HO]
  · iframe HR HL HR5 HO
  iintro ⟨Hp, HzR5, HO⟩
  ihave Hp := (Entails.of_eq (came_5 m c)) $$ Hp
  icases HO with ⟨%W, HO⟩
  iapply (pass_on m κ c _ 7 (by decide) (dev8_eq c (k0_dev8_lt i c h)) rfl (credit_half 7 (by decide)) (half_set (off7_eq' c)) _ _ rfl W) $$ [Ht7 Hp HO]
  · iframe HR Ht7 Hp HO
  iintro ⟨HS7, HO⟩
  ihave HO := (owes_some c _ W) $$ HO
  iapply (wait_link m κ c (true, 2) (credit_big 2 (by decide)) _ (R := came m c 2) (BIBase.Entails.rfl) (wait_free c _)) $$ [HR2 HO]
  · iframe HR HL HR2 HO
  iintro ⟨HpR2, HzR2, HO⟩
  iapply (wait_link m κ c (true, 3) (credit_big 3 (by decide)) _ (R := came m c 3) (BIBase.Entails.rfl) (wait_free c _)) $$ [HR3 HO]
  · iframe HR HL HR3 HO
  iintro ⟨HpR3, HzR3, HO⟩
  iapply (wait_link m κ c (true, 6) (credit_half 6 (by decide)) _ (R := came m c 6) (BIBase.Entails.rfl) (wait_free c _)) $$ [HR6 HO]
  · iframe HR HL HR6 HO
  iintro ⟨HpR6, HzR6, HO⟩
  iapply (wait_link m κ c (true, 7) (credit_half 7 (by decide)) _ (R := came m c 7) (BIBase.Entails.rfl) (wait_free c _)) $$ [HR7 HO]
  · iframe HR HL HR7 HO
  iintro ⟨HpR7, HzR7, HO⟩
  iapply (wait_link m κ c (false, 0) (credit_own 0 (by decide)) _ (R := mineRows m c fullShare.left) (Entails.of_eq (lent_own m c 0 (by decide))) (wait_free c _)) $$ [HS0 HO]
  · iframe HR HL HS0 HO
  iintro ⟨HpS0, HzS0, HO⟩
  iapply (wait_link m κ c (false, 1) (credit_own 1 (by decide)) _ (R := mineRows m c fullShare.right) (Entails.of_eq (lent_own m c 1 (by decide))) (wait_free c _)) $$ [HS1 HO]
  · iframe HR HL HS1 HO
  iintro ⟨HpS1, HzS1, HO⟩
  iapply (wait_link m κ c (false, 2) (credit_big 2 (by decide)) _ (R := piece c (place 2 c) (part 2) (filled m c)) (Entails.of_eq (lent_pass m c 2 (by decide))) (wait_free c _)) $$ [HS2 HO]
  · iframe HR HL HS2 HO
  iintro ⟨HpS2, HzS2, HO⟩
  iapply (wait_link m κ c (false, 3) (credit_big 3 (by decide)) _ (R := piece c (place 3 c) (part 3) (filled m c)) (Entails.of_eq (lent_pass m c 3 (by decide))) (wait_free c _)) $$ [HS3 HO]
  · iframe HR HL HS3 HO
  iintro ⟨HpS3, HzS3, HO⟩
  iapply (wait_link m κ c (false, 4) (credit_half 4 (by decide)) _ (R := piece c (place 4 c) (part 4) (filled m c)) (Entails.of_eq (lent_pass m c 4 (by decide))) (wait_free c _)) $$ [HS4 HO]
  · iframe HR HL HS4 HO
  iintro ⟨HpS4, HzS4, HO⟩
  iapply (wait_link m κ c (false, 5) (credit_half 5 (by decide)) _ (R := piece c (place 5 c) (part 5) (filled m c)) (Entails.of_eq (lent_pass m c 5 (by decide))) (wait_free c _)) $$ [HS5 HO]
  · iframe HR HL HS5 HO
  iintro ⟨HpS5, HzS5, HO⟩
  iapply (wait_link m κ c (false, 6) (credit_half 6 (by decide)) _ (R := piece c (place 6 c) (part 6) (filled m c)) (Entails.of_eq (lent_pass m c 6 (by decide))) (wait_free c _)) $$ [HS6 HO]
  · iframe HR HL HS6 HO
  iintro ⟨HpS6, HzS6, HO⟩
  iapply (wait_link m κ c (false, 7) (credit_half 7 (by decide)) _ (R := piece c (place 7 c) (part 7) (filled m c)) (Entails.of_eq (lent_pass m c 7 (by decide))) (wait_free c _)) $$ [HS7 HO]
  · iframe HR HL HS7 HO
  iintro ⟨HpS7, HzS7, HO⟩
  rw [wp_ret]; imodintro
  isplitl [HpS0 HpS1]
  · iframe HpS0 HpS1
  isplitl [HpS2 HpS3 HpS4 HpS5 HpS6 HpS7 HpR2 HpR3 HpR6 HpR7 Ho0 Ho1]
  · isplitl [HpS2 HpS4 Ho0]
    · iapply (came_0 m c).2
      iframe HpS2 HpS4 Ho0
    isplitl [HpS3 HpS5 Ho1]
    · iapply (came_1 m c).2
      iframe HpS3 HpS5 Ho1
    isplitl [HpR2]; · iexact HpR2
    isplitl [HpR3]; · iexact HpR3
    isplitl [HpS6]; · iapply (Entails.of_eq (came_4 m c).symm); iexact HpS6
    isplitl [HpS7]; · iapply (Entails.of_eq (came_5 m c).symm); iexact HpS7
    iframe HpR6 HpR7
  isplitl [HzS0 HzS1 HzS2 HzS3 HzS4 HzS5 HzS6 HzS7]
  · iframe HzS0 HzS1 HzS2 HzS3 HzS4 HzS5 HzS6 HzS7
  isplitl [HzR2 HzR3 HzR4 HzR5 HzR6 HzR7]
  · iframe HzR2 HzR3 HzR4 HzR5 HzR6 HzR7
  iexact HO

end Cert.Of

end
-- ==== Proof.OfBody.lean ====
/-
# The body of `out_proj_fwd` at every grid point

The schedule of the call on device `c`, its window contents, and the body's obligation: what a grid point is given and
what it leaves. Before the first point nothing is sent (`Start`); then the own rows are on the way (`Sent`); from point 19 on
what came first is passed on (`Relayed`); after the last point all has landed (`Done`).
-/
module

public import proofs.«01_k».proof.Proof.OfSteps
public import proofs.«01_k».proof.Proof.Gen.OfKernelIdeal.Points
public import proofs.«01_k».proof.Proof.Gen.OfKernelIdeal.Regions
public import Idealize.ShloMosaic.Lib.Pipeline.FrameBody

@[expose] public section

noncomputable section

namespace Cert.Of

open Cert.OfKernelIdeal Cert.OfKernelIdeal.Gen
open Idealize.ShloMosaic
open Idealize.ShloMosaic.Pipeline
open Idealize.ShloMosaic.TcCoe
open Idealize.SL Idealize.SL.RA Idealize.SL.BI
open BIBase Laws ProofMode Sem
open Idealize.ShloMosaic.Rounds
open Cert.Exchange (Links UU EP ER records L records ranks ticket seats hand due)

variable {F : FTy → Type} [FloatOps F]

local notation "𝕄" => MT nD τ sig Unit (Elt F) ℕ (UU nD sig τ) ℕ

variable (m : (ℓ : Loc nD τ sig) → Buf (Elt F) ℓ)

/-! ## The states -/

/-- The buffers that the host operations after the call write, as they are before it. -/
def hostRest (c : Dev nD) (W : Valuation τ sig (Elt F)) : sProp 𝕄 :=
  bigSep hostOps1_W.toFinset fun b => (c.tc.loc b) ↦{fullShare} W (Proc.devRef .tc b)

/-- What no transfer touches: the rows that are not sent, the layer of the own chip, and those buffers. -/
def aside (c : Dev nD) : sProp 𝕄 := iprop(kept m c ∗ ownLayer c (filled m c) ∗ hostRest c (V0 m c))

/-- The protocol's standing facts. -/
def know : sProp 𝕄 := iprop((∃ κ, records links (pay m) κ) ∗ levAts L (ranks links rank))

/-- The memory a device brings to the exchange: what it sends, its peers' landing places, and what no transfer touches. -/
def mine (c : Dev nD) : sProp 𝕄 :=
  iprop((mineRows m c fullShare.left ∗ mineRows m c fullShare.right) ∗ (bigSep Finset.univ fun j => room (peer j c) j) ∗ aside m c)

/-- Before the first grid point. -/
def Start (c : Dev nD) : sProp 𝕄 :=
  iprop(know m ∗ (bigSep Finset.univ fun j => ready c j) ∗ (bigSep Finset.univ fun j => pending c (true, j))
    ∗ (mineRows m c fullShare.left ∗ mineRows m c fullShare.right) ∗ aside m c)

/-- From the first to point 19. -/
def Sent (c : Dev nD) : sProp 𝕄 :=
  iprop(know m ∗ (ready c 2 ∗ ready c 3 ∗ ready c 4 ∗ ready c 5) ∗ (ready c 6 ∗ ready c 7) ∗ (pending c (false, 0) ∗ pending c (false, 1))
    ∗ (pending c (true, 0) ∗ pending c (true, 1))
    ∗ (pending c (true, 2) ∗ pending c (true, 3) ∗ pending c (true, 4) ∗ pending c (true, 5) ∗ pending c (true, 6) ∗ pending c (true, 7)) ∗ aside m c)

/-- From there to the last. -/
def Relayed (c : Dev nD) : sProp 𝕄 :=
  iprop(know m ∗ (ready c 6 ∗ ready c 7) ∗ (pending c (false, 0) ∗ pending c (false, 1)) ∗ (pending c (false, 2) ∗ pending c (false, 3) ∗ pending c (false, 4) ∗ pending c (false, 5))
    ∗ (pending c (true, 2) ∗ pending c (true, 3) ∗ pending c (true, 4) ∗ pending c (true, 5) ∗ pending c (true, 6) ∗ pending c (true, 7))
    ∗ (semVal (links.cell c (true, 0)) 0 ∗ semVal (links.cell c (true, 1)) 0) ∗ over m c ∗ aside m c)

/-- After the last. -/
def Done (c : Dev nD) : sProp 𝕄 :=
  iprop((mineRows m c fullShare.left ∗ mineRows m c fullShare.right) ∗ (bigSep Finset.univ fun j => came m c j) ∗ aside m c
    ∗ (bigSep Finset.univ fun j : Fin 8 => semVal (links.cell c (false, j)) 0) ∗ (bigSep Finset.univ fun j : Fin 8 => semVal (links.cell c (true, j)) 0))

/-! ## The schedule -/

/-- The arrays as launched, and each window's block at a point. -/
abbrev V (c : Dev nD) (b : Ref sig .tc) : Buf (Elt F) ((c.tc : Thread nD τ).loc b) := V0 m c (Proc.devRef .tc b)
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The state and what is owed when `n` points are done. -/
def state (c : Dev nD) (n : ℕ) : sProp 𝕄 := if n = 0 then Start m c else if n < 20 then Sent m c else if n < 32 then Relayed m c else Done m c
def owing (c : Dev nD) (n : ℕ) : CellTallies nD τ sig Unit := if n = 0 then due links c else if n < 20 then later c else if n < 32 then last c else 0

def dats (_ : Fin 1) (c : Dev nD) : Dat τ (Elt F) Unit ℕ (UU nD sig τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outBlock (iblk m c 0 t) (iblk m c 1 t) (iblk m c 2 t)
  Φ t := state m c t.val
  q _ := fullShare
  owed t := owing c t.val

/-- The three windows that are read hold their blocks at every point, fetched there or before. -/
theorem before_0 (c : Dev nD) (t : Fin cfg0.N) (d) : (dats m 0 c).before 0 t d = iblk m c 0 t :=
  ((dats m 0 c).before_in_eq_fetched 0 rfl (fun _ => rfl) (fun _ _ _ => rfl) (fun _ => rfl) t d).trans rfl
theorem before_1 (c : Dev nD) (t : Fin cfg0.N) (d) : (dats m 0 c).before 1 t d = iblk m c 1 t :=
  ((dats m 0 c).before_in_eq_fetched 1 rfl (fun _ => rfl) (fun _ _ _ => rfl) (fun _ => rfl) t d).trans rfl
theorem before_2 (c : Dev nD) (t : Fin cfg0.N) (d) : (dats m 0 c).before 2 t d = iblk m c 2 t :=
  ((dats m 0 c).before_in_eq_fetched 2 rfl (fun _ => rfl) (fun _ _ _ => rfl) (fun _ => rfl) t d).trans rfl

/-! ## The obligation -/

/-- What a device owes, the pairs it has waited on left open. -/
theorem owesAt_intro (c : Dev nD) (t : Fin (cfg0.N + 1)) (O : CellTallies nD τ sig Unit) (hO : owing c t.val = O) :
    (iprop(∃ W, owes c.tc O W) : sProp 𝕄) ⊢ (dats m 0 c).owesAt () t := by
  unfold Dat.owesAt Pipeline.owesWithin
  rw [show (dats m 0 c).owed t = O from hO]
  iintro ⟨%W, H⟩
  iexists W
  isplitr
  · ipureintro; exact fun _ _ => Or.inl trivial
  iexact H
theorem owesAt_elim (c : Dev nD) (t : Fin (cfg0.N + 1)) :
    (dats m 0 c).owesAt () t ⊢ iprop(∃ W, owes c.tc (owing c t.val) W) := by
  unfold Dat.owesAt Pipeline.owesWithin
  iintro ⟨%W, %hW, H⟩
  iexists W; iexact H

/-- The state and the debts within a grid point: after its first part, and after the third. -/
def held₁ (c : Dev nD) (n : ℕ) : sProp 𝕄 := iprop(state m c (if n = 0 then 1 else n) ∗ ∃ W, owes c.tc (owing c (if n = 0 then 1 else n)) W)
def held₂ (c : Dev nD) (n : ℕ) : sProp 𝕄 := iprop(state m c (if n = 31 then 31 else n + 1) ∗ ∃ W, owes c.tc (owing c (if n = 31 then 31 else n + 1)) W)

theorem send_point (c : Dev nD) (t : Fin cfg0.N) :
    iprop((dats m 0 c).Φ t.castSucc ∗ (dats m 0 c).owesAt () t.castSucc)
      ⊢ wp frame (wpE (defs₀ (F := F)) 𝒱₀ c none) Set.univ (sendPart (F := F) (grid0.coords t)) (fun _ => held₁ m c t.val) := by
  refine BIBase.Entails.trans (sep_mono .rfl (owesAt_elim m c t.castSucc)) ?_
  show iprop(state m c t.val ∗ ∃ W, owes c.tc (owing c t.val) W) ⊢ _
  unfold held₁
  by_cases h : t.val = 0
  · rw [if_pos h, show state m c t.val = Start m c from if_pos h, show owing c t.val = due links c from if_pos h]
    show _ ⊢ wp frame (wpE (defs₀ (F := F)) 𝒱₀ c none) Set.univ (sendPart (F := F) (grid0.coords t)) fun _ => iprop(Sent m c ∗ ∃ W, owes c.tc (later c) W)
    unfold Start know
    simp only [eight]
    iintro ⟨⟨⟨⟨%κ, #HR⟩, #HL⟩, ⟨H0, H1, H2, H3, H4, H5, H6, H7⟩, ⟨P0, P1, P2, P3, P4, P5, P6, P7⟩, Hs, Hk⟩, ⟨%W, HO⟩⟩
    iapply (wp_wand frame (wpE (defs₀ (F := F)) 𝒱₀ c none) Set.univ) $$ [H0 H1 Hs HO]
    · iapply (send_step m κ c (grid0.coords t) ((sends_iff t).mpr h) W)
      iframe HR H0 H1 Hs HO
    iintro %a ⟨Hc0, Hc1, HO⟩
    unfold Sent know
    isplitr [HO]
    · isplitr
      · isplitr; · (iexists κ; iexact HR)
        iexact HL
      iframe H2 H3 H4 H5 H6 H7 Hc0 Hc1 P0 P1 P2 P3 P4 P5 P6 P7 Hk
    · iexists W; iexact HO
  · unfold sendPart
    rw [if_neg h, dif_neg fun h' => h ((sends_iff t).mp h'), wp_ret]
    iintro H
    imodintro
    iexact H

theorem pass_point (c : Dev nD) (t : Fin cfg0.N) :
    held₁ m c t.val ⊢ wp frame (wpE (defs₀ (F := F)) 𝒱₀ c none) Set.univ (passPart (F := F) (grid0.coords t)) (fun _ => held₂ m c t.val) := by
  have hN : t.val < 32 := lt_of_lt_of_eq t.isLt N_0
  unfold held₁ held₂
  by_cases h : t.val = 19
  · rw [h]
    show iprop(Sent m c ∗ ∃ W, owes c.tc (later c) W)
      ⊢ wp frame (wpE (defs₀ (F := F)) 𝒱₀ c none) Set.univ (passPart (F := F) (grid0.coords t)) fun _ => iprop(Relayed m c ∗ ∃ W, owes c.tc (last c) W)
    unfold Sent know
    iintro ⟨⟨⟨⟨%κ, #HR⟩, #HL⟩, H25, H67, S01, P01, P27, Hk⟩, HO⟩
    iapply (wp_wand frame (wpE (defs₀ (F := F)) 𝒱₀ c none) Set.univ) $$ [H25 P01 HO]
    · iapply (pass_step m κ c (grid0.coords t) ((passes_iff t).mpr h))
      iframe HR HL H25 P01 HO
    iintro %a ⟨S25, Z01, Ho, HO⟩
    unfold Relayed know
    isplitr [HO]
    · isplitr
      · isplitr; · (iexists κ; iexact HR)
        iexact HL
      iframe H67 S01 S25 P27 Z01 Ho Hk
    iexact HO
  · have hs : state m c (if t.val = 0 then 1 else t.val) = state m c (if t.val = 31 then 31 else t.val + 1)
        ∧ owing c (if t.val = 0 then 1 else t.val) = owing c (if t.val = 31 then 31 else t.val + 1) := by
      unfold state owing
      constructor <;> (repeat' split) <;> first | rfl | (exfalso; omega)
    unfold passPart
    rw [dif_neg fun h' => h ((passes_iff t).mp h'), wp_ret, hs.1, hs.2]
    iintro H
    imodintro
    iexact H

theorem wait_point (c : Dev nD) (t : Fin cfg0.N) :
    held₂ m c t.val ⊢ wp frame (wpE (defs₀ (F := F)) 𝒱₀ c none) Set.univ (waitPart (F := F) (grid0.coords t))
      (fun _ => iprop((dats m 0 c).Φ t.succ ∗ (dats m 0 c).owesAt () t.succ : sProp 𝕄)) := by
  unfold held₂
  by_cases h : t.val = 31
  · have hΦ : (dats m 0 c).Φ t.succ = Done m c := by
      show state m c (t.val + 1) = Done m c
      rw [h]; rfl
    have hO : owing c t.succ.val = 0 := by
      show owing c (t.val + 1) = 0
      rw [h]; rfl
    rw [hΦ, if_pos h]
    show iprop(Relayed m c ∗ ∃ W, owes c.tc (last c) W) ⊢ _
    unfold Relayed know
    iintro ⟨⟨⟨⟨%κ, #HR⟩, #HL⟩, H67, S01, S25, P27, Z01, Ho, Hk⟩, HO⟩
    icases S01 with ⟨S0, S1⟩
    iapply (wp_wand frame (wpE (defs₀ (F := F)) 𝒱₀ c none) Set.univ) $$ [H67 S0 S1 S25 P27 Ho HO]
    · iapply (wait_step m κ c (grid0.coords t) ((waits_iff t).mpr h))
      iframe HR HL H67 P27 S0 S1 S25 Ho HO
    iintro %a ⟨Hl, Hd, HzS, HzR, HO⟩
    isplitr [HO]
    · unfold Done
      rw [eight fun j => semVal (links.cell c (true, j)) 0]
      icases Z01 with ⟨Z0, Z1⟩
      iframe Hl Hd Hk HzS Z0 Z1 HzR
    · iapply (owesAt_intro m c t.succ 0 hO); iexact HO
  · unfold waitPart
    rw [dif_neg fun h' => h ((waits_iff t).mp h'), wp_ret, if_neg h]
    iintro ⟨H, HO⟩
    imodintro
    isplitl [H]
    · iapply (Entails.of_eq (show state m c (t.val + 1) = (dats m 0 c).Φ t.succ from rfl)); iexact H
    iapply (owesAt_intro m c t.succ _ rfl); iexact HO

theorem body_obligation (c : Dev nD) : BodyObligation (dats (F := F) m 0 c) (defs₀ (F := F)) 𝒱₀ () Set.univ := fun t => by
  rw [bigSep_W0, bigSep_W0]
  show _ ⊢ wp frame (wpE (defs₀ (F := F)) 𝒱₀ c none) Set.univ (bodyAt0 (F := F) t) _
  rw [body_eq, wp_bind]
  iintro ⟨HΦ, HO, ⟨%d0, H0⟩, ⟨%d1, H1⟩, ⟨%d2, H2⟩, ⟨%d3, H3⟩⟩
  iapply (wp_wand frame (wpE (defs₀ (F := F)) 𝒱₀ c none) Set.univ) $$ [HΦ HO]
  · iapply (send_point m c t)
    iframe HΦ HO
  iintro %a HS
  rw [wp_bind]
  iapply (wp_wand frame (wpE (defs₀ (F := F)) 𝒱₀ c none) Set.univ) $$ [H0 H1 H2 H3]
  · iapply (work_step c (st0_0 t) (st0_1 t) (st0_2 t) (st0_3 t) (iblk m c 0 t) (iblk m c 1 t) (iblk m c 2 t) _)
    isplitl [H0]; · (iapply (Entails.of_eq (congrArg _ (before_0 m c t d0))); iexact H0)
    isplitl [H1]; · (iapply (Entails.of_eq (congrArg _ (before_1 m c t d1))); iexact H1)
    isplitl [H2]; · (iapply (Entails.of_eq (congrArg _ (before_2 m c t d2))); iexact H2)
    iexact H3
  iintro %a' ⟨H0, H1, H2, H3⟩
  rw [wp_bind]
  iapply (wp_wand frame (wpE (defs₀ (F := F)) 𝒱₀ c none) Set.univ) $$ [HS]
  · iapply (pass_point m c t); iexact HS
  iintro %a'' HS
  iapply (wp_wand frame (wpE (defs₀ (F := F)) 𝒱₀ c none) Set.univ) $$ [HS]
  · iapply (wait_point m c t); iexact HS
  iintro %a3 ⟨HΦ, HO⟩
  isplitl [HΦ]; · iexact HΦ
  isplitl [HO]; · iexact HO
  isplitl [H0]; · iexact H0
  isplitl [H1]; · iexact H1
  isplitl [H2]; · iexact H2
  iexact H3

end Cert.Of

end
-- ==== Proof.OfHost.lean ====
/-
# The host operations after `out_proj_fwd`

After the call each device cuts the rows that were gathered out of the gathered array, and out of its own `main_arg3`, and
fills the layer of its own chip: a select between the two cuts, by the layer's number. `merged` is the result.
-/
module

public import proofs.«01_k».proof.Proof.OfBody
public import Idealize.ShloMosaic.Lib.Pointwise

@[expose] public section

noncomputable section

namespace Cert.Of

open Cert.OfKernelIdeal Cert.OfKernelIdeal.Gen
open Idealize.ShloMosaic
open Idealize.ShloMosaic.Pipeline
open Idealize.ShloMosaic.TcCoe
open Idealize.SL Idealize.SL.RA Idealize.SL.BI
open BIBase Laws ProofMode Sem
open Idealize.ShloMosaic.Rounds
open Cert.Exchange (Links UU EP ER records L records ranks ticket seats hand due)

variable {F : FTy → Type} [FloatOps F]

local notation "𝕄" => MT nD τ sig Unit (Elt F) ℕ (UU nD sig τ) ℕ

variable (m : (ℓ : Loc nD τ sig) → Buf (Elt F) ℓ)

/-- Row `r` of the band of half `h` of a matrix's rows. -/
def bandRow (h : Fin 2) (r : Fin 512) : Fin 4096 := ⟨h.val * 2048 + (1152 + r.val), by omega⟩

/-- The second result: the own rows in the layer of the own chip, what was gathered in the others. -/
def merged (c : Dev nD) : Vec F S4x2x512x4096 .bf16 := fun i =>
  if (i 0).val = c.val / 2 then m (c.tc.loc main_arg3) (ix2 (bandRow (i 1) (i 2)) (i 3)) else filled m c (ix3 (i 0) (bandRow (i 1) (i 2)) (i 3))

theorem cut_apply (X : Vec F S4x4096x4096 .bf16) (s : Fin 4) (h : Fin 2) (r : Fin 512) (q : Fin 4096) :
    extractStridedSlice S4x2x512x4096 ![0, 0, 1152, 0] (shapeCast S4x2x2048x4096 X shapeCasts_S4x4096x4096_S4x2x2048x4096)
      slices_S4x2x2048x4096_S4x2x512x4096_0_0_1152_0 (ix4 s h r q) = X (ix3 s (bandRow h r) q) := by
  pointwise [bandRow]

theorem cut_own (X : Vec F S4096x4096 .bf16) (h : Fin 2) (r : Fin 512) (q : Fin 4096) :
    extractStridedSlice S2x512x4096 ![0, 1152, 0] (shapeCast S2x2048x4096 X shapeCasts_S4096x4096_S2x2048x4096)
      slices_S2x2048x4096_S2x512x4096_0_1152_0 (ix3 h r q) = X (ix2 (bandRow h r) q) := by
  pointwise [bandRow]

/-- A select between one layer laid under every layer and a whole array. -/
theorem merge_apply (k : Vec F S4x2x512x4096 .i1) (A : Vec F S2x512x4096 .bf16) (B : Vec F S4x2x512x4096 .bf16) (s : Fin 4) (h : Fin 2) (r : Fin 512) (q : Fin 4096) :
    select k (broadcastInDim S4x2x512x4096 ![1, 2, 3] bcast_S2x512x4096_S4x2x512x4096_1_2_3 A) B (ix4 s h r q)
      = if k (ix4 s h r q) = 1#1 then A (ix3 h r q) else B (ix4 s h r q) := by
  have e : (fun x => (broadcastInDim S4x2x512x4096 ![1, 2, 3] bcast_S2x512x4096_S4x2x512x4096_1_2_3 A) x) (ix4 s h r q) = A (ix3 h r q) := by
    refine congrArg A (funext fun x => ?_)
    fin_cases x <;> rfl
  exact congrArg (fun z => if k (ix4 s h r q) = 1#1 then z else B (ix4 s h r q)) e

/-- The program after the call. -/
abbrev fill (c : Dev nD) : Prog (TpuEff nD τ sig (Elt F) (Pipeline.Sig Λ₀ (Fin 1) fun p => (pcfgs (F := F) p).Adm) .tc) PUnit :=
  StableHlo.seq (hostOps1 c) >>= fun _ => .ret ⟨⟩

/-- The buffers it touches, and what they hold before it. -/
abbrev touchedRefs : List (Ref sig .tc) := main_arg3 :: main_v1_1 :: hostOps1_W
abbrev touched : Finset (DevRef τ sig) := touchedRefs.toFinset.image (Proc.devRef .tc)
def before (c : Dev nD) : Valuation τ sig (Elt F) := Function.update (V0 m c) (Proc.devRef .tc main_v1_1) (filled m c)

theorem bigSep_touched (Φ : Ref sig .tc → sProp 𝕄) :
    bigSep touchedRefs.toFinset Φ = iprop(Φ main_arg3 ∗ Φ main_v1_1 ∗ bigSep hostOps1_W.toFinset Φ) := by
  rw [List.toFinset_cons, bigSep_insert (by decide), List.toFinset_cons, bigSep_insert (by decide)]
  rfl

theorem held_touched (c : Dev nD) (W : Valuation τ sig (Elt F)) :
    (StableHlo.held c.tc touched W : sProp 𝕄)
      = iprop((c.tc.loc main_arg3 ↦{fullShare} W (Proc.devRef .tc main_arg3))
        ∗ (c.tc.loc main_v1_1 ↦{fullShare} W (Proc.devRef .tc main_v1_1)) ∗ hostRest c W) := by
  unfold StableHlo.held touched
  rw [bigSep_image_of_injOn (Proc.devRef_injective _).injOn]
  exact bigSep_touched fun b => (c.tc.loc b) ↦{fullShare} W (Proc.devRef .tc b)

theorem touch {x : Ref sig .tc} (h : x ∈ touchedRefs) : Proc.devRef (τ := τ) .tc x ∈ touched :=
  Finset.mem_image_of_mem _ (List.mem_toFinset.mpr h)

theorem fill_bufs (c : Dev nD) : ((hostOps1 c) : List (HloOp τ sig (Elt F))).Forall fun op => op.bufs ⊆ touched := by
  simp only [List.Forall, StableHlo.nullary_bufs, StableHlo.unary_bufs, StableHlo.binary_bufs, StableHlo.ternary_bufs, StableHlo.reshape_bufs, Finset.insert_subset_iff, Finset.singleton_subset_iff]
  repeat' apply And.intro
  all_goals exact touch (by decide)

/-- The comparison that the operations compute picks the layer of the own chip. -/
theorem picks (c : Dev nD) (s : Fin 4) : IntOp.cmpi .eq (BitVec.ofNat 32 s.val)
    (IntOp.addi (IntOp.addi 0#32 (IntOp.muli (IntOp.remui .host (IntOp.divui .host (Dev.word c) 2#32) 2#32) 1#32))
      (IntOp.muli (IntOp.remui .host (IntOp.divui .host (Dev.word c) 4#32) 2#32) 2#32)) = 1#1 ↔ s.val = c.val / 2 := by
  revert c s; decide +kernel

theorem before_land (c : Dev nD) : before m c (Proc.devRef .tc main_v1_1) = filled m c := Function.update_self ..
theorem before_other (c : Dev nD) (r : Ref sig .tc) (h : r ≠ main_v1_1) : before m c (Proc.devRef .tc r) = V0 m c (Proc.devRef .tc r) :=
  Function.update_of_ne (StableHlo.devRef_ne_of_ne h) ..

theorem after_out (c : Dev nD) : StableHlo.after (hostOps1 c) (before m c) (Proc.devRef .tc main_v22) = merged m c := by
  after_results
  rw [before_land, before_other m c main_arg3 (by decide)]
  funext i
  obtain ⟨s, b, r, q, rfl⟩ : ∃ (s : Fin 4) (b : Fin 2) (r : Fin 512) (q : Fin 4096), i = ix4 s b r q := ⟨i 0, i 1, i 2, i 3, eq_ix4 i⟩
  exact (merge_apply _ _ _ s b r q).trans (if_congr (picks c s) (cut_own (m (c.tc.loc main_arg3)) b r q) (cut_apply (filled m c) s b r q))

theorem after_arg (c : Dev nD) : StableHlo.after (hostOps1 c) (before m c) (Proc.devRef .tc main_arg3) = m (c.tc.loc main_arg3) :=
  (StableHlo.after_of_writes_sub _ _ (hostOps1_writes c) (by decide)).trans (before_other m c main_arg3 (by decide))

end Cert.Of

end
-- ==== Proof.OfRun.lean ====
/-
# The run of `out_proj_fwd`

On the eight devices, for any float values and from any memory with zero counters: every weakly fair execution ends, with
each device's product array at what its grid points wrote, its second result at the rows of every chip, its arguments
unchanged and every counter at zero.
-/
module

public import proofs.«01_k».proof.Proof.OfHost
public import proofs.«01_k».proof.Proof.Exchange

@[expose] public section

noncomputable section

namespace Cert.Of

open Cert.OfKernelIdeal Cert.OfKernelIdeal.Gen
open Idealize.ShloMosaic
open Idealize.ShloMosaic.Pipeline
open Idealize.ShloMosaic.TcCoe
open Idealize.SL Idealize.SL.RA Idealize.SL.BI
open BIBase Laws ProofMode Sem
open Idealize.ShloMosaic.Rounds
open Cert.Exchange (Links UU EP ER records L ranks ticket seats hand due begins allCells allToks ghosts shared)

variable {F : FTy → Type} [FloatOps F]

local notation "𝕄" => MT nD τ sig Unit (Elt F) ℕ (UU nD sig τ) ℕ

variable (m : (ℓ : Loc nD τ sig) → Buf (Elt F) ℓ) (ρ : Dev nD → PrngReg)

/-! ## What the launch theorem asks for -/

theorem ownSemFacts : Pipeline.OwnSemFacts cfg0.spec links.osem := by decide

theorem share_eq (c : Dev nD) (w : Fin cfg0.W) : (dats m 0 c).share w = fullShare := by unfold Dat.share; split <;> rfl

/-- Every debt there ever is has a rank, so the staging cells, which have none, may be waited for throughout. -/
theorem owing_above (c : Dev nD) (n : ℕ) : Above 0 (owing c n) := by
  unfold owing
  split
  · exact above_due c
  split
  · exact above_later 0 (by decide) c
  split
  · exact above_last 0 (by decide) c
  · exact above_zero 0

theorem waits (c : Dev nD) : (levAts L (ranks links rank) : sProp 𝕄) ⊢ Pipeline.cellsWaits cfgs (dats m) () 0 c :=
  Pipeline.cellsWaits_intro cfgs (dats m) () 0 c fun w s t =>
    Cert.Exchange.may_wait links rank c _ 0 (Cert.Exchange.ranks_other links rank c _ (by fin_cases w <;> fin_cases s <;> decide)).le _ (owing_above c t.val)

/-- The memory no window stages, as a device brings it. -/
def rest (c : Dev nD) : sProp 𝕄 := Pipeline.unscopedRest spec0 c (V m c)

theorem rest_eq (c : Dev nD) : rest m c = iprop((c.tc.loc main_arg3 ↦{fullShare} m (c.tc.loc main_arg3))
    ∗ (c.tc.loc main_v1_1 ↦{fullShare} m (c.tc.loc main_v1_1)) ∗ hostRest c (V0 m c)) := by
  have h : (Finset.univ.filter fun b : Ref sig .tc => ¬ b.isScoped) \ Finset.univ.image (Pipeline.arrRef spec0) = touchedRefs.toFinset := by decide
  unfold rest Pipeline.unscopedRest
  rw [h]
  exact bigSep_touched fun b => (c.tc.loc b) ↦{fullShare} V m c b

/-- The landing places dealt across the links. -/
theorem deal : (bigSep Finset.univ (rest m) : sProp 𝕄) ⊢ bigSep Finset.univ (mine m) := by
  have h (c : Dev nD) : rest m c ⊢ iprop(((mineRows m c fullShare.left ∗ mineRows m c fullShare.right) ∗ aside m c) ∗ bigSep Finset.univ fun j => room c j : sProp 𝕄) := by
    have hr : (bigSep Finset.univ fun j => piece c (landing j c) fullShare (m (c.tc.loc main_v1_1)) : sProp 𝕄) ⊢ bigSep Finset.univ fun j => room c j :=
      bigSep_mono fun j _ => by
        show (piece c (landing j c) fullShare (m (c.tc.loc main_v1_1)) : sProp 𝕄) ⊢ iprop(∃ f, piece c (landing j c) fullShare f)
        iintro H; iexists _; iexact H
    rw [rest_eq]
    unfold aside
    rw [← ownLayer_eq m c]
    iintro ⟨H2, HB, HV⟩
    ihave H2 := (arg2_split m c).1 $$ H2
    ihave HB := (buffer_split c (m (c.tc.loc main_v1_1))).1 $$ HB
    icases H2 with ⟨Hs, Hk⟩
    icases HB with ⟨Hl, Ho⟩
    isplitr [Hl]
    · iframe Hs Hk Ho HV
    iapply hr; iexact Hl
  refine Cert.Exchange.deal_across links room h fun c => ?_
  show iprop(_ ∗ bigSep Finset.univ fun j => room (peer j c) j) ⊢ mine m c
  unfold mine
  iintro ⟨⟨H1, H2⟩, H3⟩
  iframe H1 H3 H2

/-- What a device holds when the call begins, the levels with it. -/
def X (c : Dev nD) : sProp 𝕄 := iprop(begins links (pay m) (mine m) c ∗ levAts L (ranks links rank))

theorem begin_all : iprop((bigSep Finset.univ fun c => Cert.Exchange.shared (fun p => (cfgs p).toPCfg) (fun p => (cfgs p).toPCfg_adm) (0 : Fin 1) m (due links) links.osem c)
    ∗ levAts L (ranks links rank) ∗ ghosts links (pay m)) ⊢ |={Set.univ}=> (bigSep Finset.univ (X m) : sProp 𝕄) := by
  have hl : (levAts L (ranks links rank) : sProp 𝕄) ⊢ bigSep Finset.univ fun _ : Dev nD => levAts L (ranks links rank) :=
    BI.bigSep_of_persistent _ _
  unfold X
  rw [bigSep_sep']
  iintro ⟨H, #HL, HG⟩
  imod (Cert.Exchange.launch_all links (pay m) (rest m) (mine m) (deal m)) $$ [$H $HL $HG] with HB
  imodintro
  isplitl [HB]; · iexact HB
  iapply hl; iexact HL

/-- What it holds of the arrays no window stages when the call has ended, and at the end of the program. -/
def Y (c : Dev nD) : sProp 𝕄 :=
  iprop((c.tc.loc main_arg3 ↦{fullShare} m (c.tc.loc main_arg3))
    ∗ (c.tc.loc main_v1_1 ↦{fullShare} (filled m c : Buf (Elt F) (c.tc.loc main_v1_1))) ∗ hostRest c (V0 m c))
def Z (c : Dev nD) : sProp 𝕄 :=
  iprop((c.tc.loc main_arg3 ↦{fullShare} m (c.tc.loc main_arg3))
    ∗ (c.tc.loc main_v22 ↦{fullShare} (merged m c : Buf (Elt F) (c.tc.loc main_v22))))

theorem phi_start (c : Dev nD) : iprop(X m c ∗ Pipeline.scopedRest spec0 c) ⊢ (dats m 0 c).Φ 0 := by
  show iprop(X m c ∗ Pipeline.scopedRest spec0 c) ⊢ Start m c
  unfold Start X begins mine know hand ready pending seats
  simp only [bigSep_sep']
  iintro ⟨⟨⟨#HR, ⟨Ht, ⟨Ha, Hb⟩, Hc⟩, Hs, Hd, Hk⟩, #HL⟩, -⟩
  isplitr
  · iframe HR HL
  iframe Ht Ha Hd Hc Hb Hs Hk

theorem phi_end (c : Dev nD) :
    (dats m 0 c).Φ (Fin.last cfg0.N) ⊢ iprop(Y m c ∗ Pipeline.ownSems0 links.osem c ∗ Pipeline.scopedRest spec0 c) := by
  have hΦ : (dats m 0 c).Φ (Fin.last cfg0.N) = Done m c := by
    show state m c cfg0.N = Done m c
    rw [show cfg0.N = 32 from N_0]; rfl
  have hs : (Pipeline.ownSems0 links.osem c : sProp 𝕄)
      = iprop((bigSep Finset.univ fun j : Fin 8 => semVal (links.cell c (false, j)) 0) ∗ (bigSep Finset.univ fun j : Fin 8 => semVal (links.cell c (true, j)) 0)) := by
    unfold Pipeline.ownSems0
    exact Cert.Exchange.ends links fun k => semVal (links.cell c k) 0
  rw [hΦ, scopedRest0_eq, hs]
  unfold Done aside Y
  iintro ⟨Hl, Hd, ⟨Hk, Ho, HV⟩, HzS, HzR⟩
  isplitl [Hl Hk Hd Ho HV]
  · isplitl [Hl Hk]
    · iapply (arg2_split m c).2
      iframe Hl Hk
    isplitl [Hd Ho]
    · iapply (buffer_split c (filled m c)).2
      isplitl [Hd]; · iexact Hd
      iexact Ho
    iexact HV
  isplitl [HzS HzR]
  · iframe HzS HzR
  iempintro

/-- The final memory of two arrays no window stages. -/
def QY (c : Dev nD) (s : MemSt nD τ sig (Elt F)) : Prop :=
  s.mem (c.tc.loc main_arg3) = m (c.tc.loc main_arg3) ∧ s.mem (c.tc.loc main_v22) = merged m c

theorem read_end (c : Dev nD) (s' : Phys nD τ sig (Elt F)) :
    iprop(Z m c ∗ SI s') ⊢ |={Set.univ}=> iprop(⌜QY m c s'.mem⌝ ∗ SI s' : sProp 𝕄) := by
  unfold Z
  iintro ⟨⟨H2, H3⟩, HSI⟩
  ihave %h2 := Cert.Exchange.read_whole $$ [$HSI $H2]
  ihave %h3 := Cert.Exchange.read_whole $$ [$HSI $H3]
  imodintro
  isplitr
  · ipureintro
    exact ⟨h2, h3⟩
  iexact HSI

/-! ## The host operations after the call -/

theorem fill_run (c : Dev nD) :
    iprop(boundary c.tc ∗ Y m c)
      ⊢ wp frame (wpE (defs (F := F)) (Variants.lift 𝒱₀) c.tc none) Set.univ (fill c)
          (fun _ : PUnit => iprop(scopedSems0 c.tc ∗ Z m c : sProp 𝕄)) := by
  have hb : (hostRest c (before m c) : sProp 𝕄) = hostRest c (V0 m c) :=
    bigSep_congr fun b hb => congrArg _ (before_other m c b fun h => absurd (h ▸ List.mem_toFinset.mp hb : main_v1_1 ∈ hostOps1_W) (by decide))
  have ho (W : Valuation τ sig (Elt F)) : (hostRest c W : sProp 𝕄) ⊢ (c.tc.loc main_v22 ↦{fullShare} W (Proc.devRef .tc main_v22)) :=
    BI.bigSep_elim (by decide : main_v22 ∈ hostOps1_W.toFinset)
  unfold Y
  iintro ⟨Hb, H⟩
  iapply (StableHlo.wp_seq (defs := defs (F := F)) (𝒱 := Variants.lift 𝒱₀) (bd := none) (E := Set.univ) c touched (fun _ => .ret ⟨⟩) (hostOps1 c)
    (List.forall_iff_forall_mem.mp (fill_bufs c)) (List.forall_iff_forall_mem.mp (hostOps1_fresh c)) (before m c)) $$ [Hb H]
  · isplitl [Hb]; · iexact Hb
    rw [held_touched, before_land, before_other m c main_arg3 (by decide), hb]
    iexact H
  iintro ⟨Hb, HS⟩
  ihave HS := (Entails.of_eq (held_touched c (StableHlo.after (hostOps1 c) (before m c)))) $$ HS
  icases HS with ⟨H2, -, HV⟩
  ihave HV := (ho _) $$ HV
  rw [after_arg, after_out, wp_ret]
  unfold boundary Z
  icases Hb with ⟨-, Hs, -⟩
  imodintro
  iframe Hs H2 HV

/-- What a final state is: every staged array at the schedule's contents, and the others as said. -/
def QC (r : PUnit × MemSt nD τ sig (Elt F)) : Prop :=
  ∀ c : Dev nD, (∀ w : Fin cfg0.W, r.2.mem ((cfg0.win w).arr.view.loc c.tc) = (dats m 0 c).arrAt w cfg0.N) ∧ QY m c r.2

set_option maxRecDepth 8000 in
theorem run_main : θ_run defs (onTc (τ := τ) (main (F := F))) ⟨m, fun _ => 0, ρ⟩ (fun r => QC m r ∧ r.2.sem = fun _ => 0) :=
  Cert.Exchange.θ_run_exchange (fun p => (cfgs p).toPCfg) (fun p => (cfgs p).toPCfg_adm) (dats m) () cellOf_inj (0 : Fin 1)
    winFacts0 ownSemFacts rfl EP defs₀ 𝒱₀ m ρ (due links) L (ranks links rank) main fill
    (hmain := fun _ => rfl) (hbody := body_obligation m) (hne := block_pos0) (harr := arr_whole0) (hstage := stage_whole0) (hshare := share_eq m)
    (howed₀ := fun _ => rfl) (howedN := fun _ => rfl) (hL := Cert.Exchange.L_of_ne) (hwaits := waits m)
    (G := ghosts links (pay m))
    (hu₀ := Cert.Exchange.fund_both links (pay m) _)
    (hA := fun _ _ => rfl) (X := X m) (Y := Y m) (Z := Z m) (htail := fill_run m)
    (hstart := begin_all m)
    (hin := phi_start m) (hout := phi_end m) (QY := QY m) (hY := read_end m)
    (hQ := fun s h hs => ⟨fun c => h c, sem_eq_zero_of_scoped (by decide) hs⟩)

end Cert.Of

end
-- ==== Proof.OfWhole.lean ====
/-
# The product of `out_proj_fwd` as a whole

The blocks of the grid points tile the array that a device writes. Entry `(p, q)` is the residual's plus the inner product of
row `p` of the device's left factor and column `q` of the right factor.
-/
module

public import proofs.«01_k».proof.Proof.OfValue
public import proofs.«01_k».proof.Proof.OfRun
public import Idealize.ShloMosaic.Lib.Pipeline.ValueKit

@[expose] public section

set_option maxRecDepth 16384

noncomputable section

namespace Cert.Of

open Cert.OfKernelIdeal Cert.OfKernelIdeal.Gen
open Idealize.ShloMosaic Idealize.ShloMosaic.TcCoe

variable (m : (ℓ : Loc nD τ sig) → Buf (Elt Ideal) ℓ)

/-- An entry of a residual plus a product. -/
def entry {n : ℕ} (A : (⟨2, ![n, 4096]⟩ : Shape).Idx → Ideal .bf16) (B : (⟨2, ![4096, 4096]⟩ : Shape).Idx → Ideal .bf16)
    (X : (⟨2, ![n, 4096]⟩ : Shape).Idx → Ideal .f32) (p : Fin n) (q : Fin 4096) : EReal :=
  X (ix2 p q) + ∑ t : Fin 4096, (A (ix2 p t) : EReal) * B (ix2 t q)

/-- What a device's product array holds at the end. -/
def product (c : Dev nD) : Vec Ideal S4096x4096 .f32 := fun i =>
  entry (n := 4096) (m (c.tc.loc main_arg0)) (m (c.tc.loc main_arg1)) (m (c.tc.loc main_arg2)) (i 0) (i 1)

theorem index_all : ∀ t, win0_0.index t = ![(grid0.coords t 0).val, 0]
    ∧ win0_1.index t = ![0, (grid0.coords t 1).val]
    ∧ win0_2.index t = ![(grid0.coords t 0).val, (grid0.coords t 1).val]
    ∧ win0_3.index t = ![(grid0.coords t 0).val, (grid0.coords t 1).val] := by decide +kernel

theorem product_eq (c : Dev nD) : (dats m 0 c).arrAt 3 cfg0.N = product m c := by
  refine (dats m 0 c).arrAt_eq_of_covers 3 _ (by decide +kernel) fun t hf y => ?_
  show outBlock (iblk m c 0 t) (iblk m c 1 t) (iblk m c 2 t) _ = _
  obtain ⟨p, q, rfl⟩ : ∃ (p : Fin 1024) (q : Fin 512), y = ix2 p q := ⟨y 0, y 1, eq_ix2 y⟩
  refine (outBlock_apply _ _ _ p q).trans ?_
  unfold product entry
  refine congrArg₂ _ ?_ (Finset.sum_congr rfl fun j _ => congrArg₂ _ ?_ ?_)
  · blk_ext [iblk, V, index_all]
  · blk_ext [iblk, V, index_all]
  · blk_ext [iblk, V, index_all]

end Cert.Of

end
-- ==== Proof.OfReference.lean ====
/-
# The reference of `out_proj_fwd` over the reals

The reference's first result has the same entries as the products of the devices. Its second one is the band of rows of
`w_up` that the call gathers, of each half of each shard.
-/
module

public import proofs.«01_k».proof.Proof.OfWhole
public import proofs.«01_k».proof.Proof.Gen.OfReferenceIdeal.Run

@[expose] public section

set_option maxRecDepth 16384

noncomputable section

namespace Cert.Of

open Idealize.ShloMosaic Idealize.ShloMosaic.TcCoe Idealize.SL.Sem

section
open Cert.OfReferenceIdeal Cert.OfReferenceIdeal.Gen

variable {F : FTy → Type} [FloatOps F]

/-- The reference's first result. -/
abbrev refProduct (a : Vec F S32768x4096 .bf16) (b : Vec F S4096x4096 .bf16) (x : Vec F S32768x4096 .f32) : Vec F S32768x4096 .f32 :=
  addf x (Host.dotGeneral dot_S32768x4096_S4096x4096_S32768x4096_1_0_0_1_n_n none (extf .f32 a bitsLt_bf16_f32) (extf .f32 b bitsLt_bf16_f32))

/-- Its second result. -/
abbrev refGathered (d : Vec F S16384x4096 .bf16) : Vec F S4x2x512x4096 .bf16 :=
  extractStridedSlice S4x2x512x4096 ![0, 0, 1152, 0] (shapeCast S4x2x2048x4096 d shapeCasts_S16384x4096_S4x2x2048x4096)
    slices_S4x2x2048x4096_S4x2x512x4096_0_0_1152_0

theorem refProduct_apply (a : Vec Ideal S32768x4096 .bf16) (b : Vec Ideal S4096x4096 .bf16) (x : Vec Ideal S32768x4096 .f32) (p : Fin 32768) (q : Fin 4096) :
    (refProduct a b x (ix2 p q) : EReal) = entry (n := 32768) a b x p q := by
  pointwise [refProduct, entry]

theorem refGathered_apply (d : Vec F S16384x4096 .bf16) (s : Fin 4) (h : Fin 2) (r : Fin 512) (q : Fin 4096) :
    refGathered d (ix4 s h r q) = d (ix2 (⟨s.val * 4096 + (bandRow h r).val, by have := (bandRow h r).isLt; omega⟩ : Fin 16384) q) := by
  pointwise [refGathered, bandRow]
  exact congrArg (fun x => d (ix2 x q)) (Fin.ext (Nat.add_assoc _ _ _))

/-- The reference's run. -/
theorem reference_run (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem (c.tc.loc main_v3) = refProduct (m (c.tc.loc main_arg0)) (m (c.tc.loc main_arg1)) (m (c.tc.loc main_arg2))
      ∧ r.2.mem (c.tc.loc main_v5) = refGathered (m (c.tc.loc main_arg3))
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)) ∧ r.2.sem = fun _ => 0) :=
  (θ_run defs _ _).mono (fun r h => ⟨h, sem_eq_zero_of_no_sems (by decide) r.2⟩) (Cert.OfReferenceIdeal.Value.run m ρ)

end

end Cert.Of

end
-- ==== Proof.OfAgree.lean ====
/-
# Device by device, the two programs of `out_proj_fwd` agree

What a device ends with is its block of what the reference ends with, if its arguments are its blocks of the reference's.
-/
module

public import proofs.«01_k».proof.Proof.OfWhole
public import proofs.«01_k».proof.Proof.OfReference
public import proofs.«01_k».proof.Proof.FwAgree

@[expose] public section

set_option maxRecDepth 10240

noncomputable section

namespace Cert.Of

open Cert.OfKernelIdeal
open Idealize.ShloMosaic Idealize.ShloMosaic.TcCoe
open Cert.Pair (block_rows)

section Product
variable (m : (ℓ : Loc nD τ sig) → Buf (Elt Ideal) ℓ)
  (A : Vec Ideal Cert.OfReferenceIdeal.S32768x4096 .bf16) (B : Vec Ideal Cert.OfReferenceIdeal.S4096x4096 .bf16)
  (X : Vec Ideal Cert.OfReferenceIdeal.S32768x4096 .f32)

theorem product_agrees (c : Dev nD)
    (h0 : m (c.tc.loc main_arg0) = Layout.block ⟨2, ![4096, 4096]⟩ ⟨2, ![32768, 4096]⟩ 0 8 c A)
    (h1 : m (c.tc.loc main_arg1) = B)
    (h2 : m (c.tc.loc main_arg2) = Layout.block ⟨2, ![4096, 4096]⟩ ⟨2, ![32768, 4096]⟩ 0 8 c X) :
    product m c = Layout.block ⟨2, ![4096, 4096]⟩ ⟨2, ![32768, 4096]⟩ 0 8 c (refProduct A B X) := by
  have hc : c.val < 8 := c.isLt
  funext y
  obtain ⟨p, q, rfl⟩ : ∃ (p q : Fin 4096), y = ix2 p q := ⟨y 0, y 1, eq_ix2 y⟩
  have hp : c.val * 4096 + p.val < 32768 := by omega
  refine Eq.trans ?_ (block_rows c (refProduct A B X) (by decide) p q hp).symm
  rw [refProduct_apply]
  show entry (n := 4096) (m (c.tc.loc main_arg0)) (m (c.tc.loc main_arg1)) (m (c.tc.loc main_arg2)) p q = _
  unfold entry
  refine congrArg₂ _ ?_ (Finset.sum_congr rfl fun t _ => congrArg₂ _ ?_ ?_)
  · exact (congrFun h2 (ix2 p q)).trans (block_rows c X (by decide) p q hp)
  · exact (congrFun h0 (ix2 p t)).trans (block_rows c A (by decide) p t hp)
  · exact congrFun h1 _

end Product

variable {F : FTy → Type} [FloatOps F]
variable (m : (ℓ : Loc nD τ sig) → Buf (Elt F) ℓ) (D : Vec F Cert.OfReferenceIdeal.S16384x4096 .bf16)

theorem merged_agrees (c : Dev nD)
    (h : ∀ c : Dev nD, m (c.tc.loc main_arg3)
      = Layout.blockN ⟨2, ![4096, 4096]⟩ ⟨2, ![16384, 4096]⟩ (Layout.meshBlock [2, 2, 2] ![[0, 1], []] c) D) :
    merged m c = refGathered D := by
  have hc : c.val < 8 := c.isLt
  funext y
  obtain ⟨s, b, r, q, rfl⟩ : ∃ (s : Fin 4) (b : Fin 2) (r : Fin 512) (q : Fin 4096), y = ix4 s b r q := ⟨y 0, y 1, y 2, y 3, eq_ix4 y⟩
  have key (d : Dev nD) (hd : d.val / 2 = s.val) : m (d.tc.loc main_arg3) (ix2 (bandRow b r) q) = refGathered D (ix4 s b r q) := by
    have hb : (bandRow b r).val < 4096 := (bandRow b r).isLt
    have hp : d.val / 2 * 4096 + (bandRow b r).val < 16384 := by omega
    rw [refGathered_apply]
    refine (congrFun (h d) (ix2 (bandRow b r) q)).trans ((Cert.Fw.block_chip D d (bandRow b r) q hp).trans ?_)
    exact congrArg (fun x => D (ix2 x q)) (Fin.ext (by show d.val / 2 * 4096 + (bandRow b r).val = s.val * 4096 + (bandRow b r).val; rw [hd]))
  have ho : origin (ix3 s (bandRow b r) q) = ix2 (bandRow b r) q := by funext i; fin_cases i <;> rfl
  have hband : band (ix3 s (bandRow b r) q) := by
    show 1152 ≤ (b.val * 2048 + (1152 + r.val)) % 2048 ∧ (b.val * 2048 + (1152 + r.val)) % 2048 < 1664
    omega
  show (if s.val = c.val / 2 then m (c.tc.loc main_arg3) (ix2 (bandRow b r) q) else filled m c (ix3 s (bandRow b r) q)) = _
  by_cases hs : s.val = c.val / 2
  · exact (if_pos hs).trans (key c hs.symm)
  · refine (if_neg hs).trans ?_
    unfold filled
    rw [if_pos ⟨hs, hband⟩, ho]
    refine key (source (ix3 s (bandRow b r) q)) ?_
    show (2 * s.val + (b.val * 2048 + (1152 + r.val)) / 2048) / 2 = s.val
    omega

end Cert.Of

end
-- ==== Proof.NmBlock.lean ====
/-
# What one grid point of `mlp_norm_fwd` computes

A grid point of `mlp_norm_fwd` reads a 256 × 4096 block `x` of the activations and the row `g` of gains, and writes a
256 × 4096 block, `outBlock x g`, whole; its entries are the payload's.
-/
module

public import proofs.«01_k».proof.Proof.Gen.NmKernelIdeal.Skeleton
public import Idealize.ShloMosaic.Lib.Writes

@[expose] public section

noncomputable section

namespace Cert.Nm

open Cert.NmKernelIdeal Cert.NmKernelIdeal.Gen
open Idealize.ShloMosaic

variable {F : FTy → Type} [FloatOps F]

/-- The blocks, as the body's loads and its store name them. -/
abbrev allX : Rect S256x4096 := Rect.unit (s := S256x4096) ![0, 0] S256x4096.size inb_S256x4096_S256x4096_0_0
abbrev allG : Rect S1x4096 := Rect.unit (s := S1x4096) ![0, 0] S1x4096.size inb_S1x4096_S1x4096_0_0

/-- A block seen through a rectangle. -/
def seen {s : Shape} {e : EltTy} (X : s.Idx → Elt F e) (r : Rect s) : r.shape.Idx → Elt F e := fun x => X (r.emb x)

omit [FloatOps F] in
theorem seen_X {e : EltTy} (X : S256x4096.Idx → Elt F e) : seen X allX = X :=
  funext fun x => congrArg X (funext fun a => Fin.ext (by
    fin_cases a
    · show 0 + 1 * (x 0).val = (x 0).val; omega
    · show 0 + 1 * (x 1).val = (x 1).val; omega))

omit [FloatOps F] in
theorem seen_G {e : EltTy} (X : S1x4096.Idx → Elt F e) : seen X allG = X :=
  funext fun x => congrArg X (funext fun a => Fin.ext (by
    fin_cases a
    · show 0 + 1 * (x 0).val = (x 0).val; omega
    · show 0 + 1 * (x 1).val = (x 1).val; omega))

omit [FloatOps F] in
/-- A store of the whole block leaves what was stored. -/
theorem read_store {κ : Kind} {sp : Space} (v : View sig κ sp S256x4096 .bf16) (f : v.ty.Contents (Elt F)) (w : S256x4096.Idx → Elt F .bf16) :
    v.read (Elt F) (v.writes (Elt F) f [⟨allX, w⟩]) = w := by
  funext y
  refine View.read_writes_apply_of_pieces v f w [⟨allX, w⟩] ?_ y ⟨_, List.mem_singleton_self _, ?_⟩
  · intro p hp x
    obtain rfl := List.mem_singleton.mp hp
    exact (congrFun (seen_X w) x).symm
  · show y ∈ allX.set
    refine Rect.mem_set_unit.mpr fun a => ?_
    fin_cases a
    · exact ⟨Nat.zero_le _, by have h : (y 0).val < 256 := (y 0).isLt; show (y 0).val < 0 + 256; omega⟩
    · exact ⟨Nat.zero_le _, by have h : (y 1).val < 4096 := (y 1).isLt; show (y 1).val < 0 + 4096; omega⟩

/-- The block a grid point writes. -/
def outBlock (x : Vec F S256x4096 .f32) (g : Vec F S1x4096 .f32) : Vec F S256x4096 .bf16 := k0_pay1 x g

end Cert.Nm

end
-- ==== Proof.NmValue.lean ====
/-
# The block of a grid point of `mlp_norm_fwd` over the reals

Over the extended reals the casts are the identity, so entry `(p, q)` of the block that a grid point writes is the entry of
the normalized rows, `normed`: the activation times the reciprocal root of its row's mean square, shifted by a constant,
times the gain of the column.
-/
module

public import proofs.«01_k».proof.Proof.NmBlock
public import Idealize.ShloMosaic.Lib.Pointwise

@[expose] public section

set_option maxRecDepth 16384

noncomputable section

namespace Cert.Nm

open Cert.NmKernelIdeal Cert.NmKernelIdeal.Gen
open Idealize.ShloMosaic

/-- An entry of normalized rows. The two constants are `4096` and the shift `1e-5`, as the programs spell them. -/
def normed {n : ℕ} (X : (⟨2, ![n, 4096]⟩ : Shape).Idx → Ideal .f32) (G : (⟨2, ![1, 4096]⟩ : Shape).Idx → Ideal .f32) (p : Fin n) (q : Fin 4096) : EReal :=
  X (ix2 p q) * Ideal.rsqrt (Ideal.div (∑ t : Fin 4096, (X (ix2 p t) : EReal) * X (ix2 p t)) (Scalar.ofBits (F := Ideal) .f32 0x45800000#32)
    + (Scalar.ofBits (F := Ideal) .f32 0x3727C5AC#32 : EReal)) * G (ix2 0 q)

theorem outBlock_apply (x : Vec Ideal S256x4096 .f32) (g : Vec Ideal S1x4096 .f32) (p : Fin 256) (q : Fin 4096) :
    (outBlock x g (ix2 p q) : EReal) = normed x g p q := by
  pointwise [outBlock, k0_pay1, normed]

end Cert.Nm

end
-- ==== Proof.NmLinks.lean ====
/-
# The gathering of `mlp_norm_fwd`: who sends what to whom

The eight devices are the cores of a 2 × 2 torus of chips with two cores each; device `c` is core `c % 2` of chip
`c / 2`. Beside its products, `mlp_norm_fwd` gathers the `main_arg2` of every other chip into the layers of `main_v1_1`, layer `s`
for chip `s`. A core brings one half of the rows of each chip and passes them to the other core of its chip. There are
eight links. Links 0 and 5 join a device to the same core of the chip across the first torus axis, links 1 and 4 across the
second, links 2, 3, 6 and 7 to the other core of its chip. Device `c`

* sends its half of the rows of its own `main_arg2` on links 0 and 1;
* passes on what came along link 0: all of it on link 2, the first half of it on link 4; and what came along link 1: all of
  it on link 3, the second half of it on link 5;
* passes on what came along link 4 on link 6, and what came along link 5 on link 7.

Rows lie at one and the same place of `main_v1_1` on every device. The payloads name the contents, so one run over any float
values gives both frames and the value.
-/
module

public import proofs.«01_k».proof.Proof.Relay
public import proofs.«01_k».proof.Proof.Gen.NmKernelIdeal
public import proofs.«01_k».proof.Proof.Gen.NmKernelIdeal.Launch

@[expose] public section

noncomputable section

namespace Cert.Nm

open Cert.NmKernelIdeal Cert.NmKernelIdeal.Gen

open Idealize.ShloMosaic
open TcCoe Rounds
open Idealize.SL Idealize.SL.RA Idealize.SL.BI
open BIBase Laws ProofMode Sem
open Cert.Exchange (Links UU EP ER)

variable {F : FTy → Type} [FloatOps F]

local notation "𝕄" => MT nD τ sig Unit (Elt F) ℕ (UU nD sig τ) ℕ

/-! ## The links -/

/-- The devices across the first torus axis, across the second, and on the other core of the chip. -/
def across₁ (c : Dev nD) : Dev nD := ⟨(c.val + 4) % 8, Nat.mod_lt _ (by decide)⟩
def across₂ (c : Dev nD) : Dev nD := ⟨c.val / 4 * 4 + (c.val + 2) % 4, by revert c; decide⟩
def sibling (c : Dev nD) : Dev nD := ⟨c.val / 2 * 2 + (c.val + 1) % 2, by revert c; decide⟩

/-- The device at the other end of a link. -/
def peer (j : Fin 8) : Dev nD → Dev nD :=
  match j with
  | 0 | 5 => across₁
  | 1 | 4 => across₂
  | 2 | 3 | 6 | 7 => sibling

theorem peer_peer (j : Fin 8) (c : Dev nD) : peer j (peer j c) = c := by revert j c; decide

/-- The devices the kernel computes for its transfers are these. -/
theorem dev1_eq (c : Dev nD) (h : k0_dev1 c < nD) : (⟨k0_dev1 c, h⟩ : Dev nD) = peer 0 c := by
  revert c; decide +kernel
theorem dev2_eq (c : Dev nD) (h : k0_dev2 c < nD) : (⟨k0_dev2 c, h⟩ : Dev nD) = peer 1 c := by
  revert c; decide +kernel
theorem dev3_eq (c : Dev nD) (h : k0_dev3 c < nD) : (⟨k0_dev3 c, h⟩ : Dev nD) = peer 4 c := by
  revert c; decide +kernel
theorem dev4_eq (c : Dev nD) (h : k0_dev4 c < nD) : (⟨k0_dev4 c, h⟩ : Dev nD) = peer 2 c := by
  revert c; decide +kernel
theorem dev5_eq (c : Dev nD) (h : k0_dev5 c < nD) : (⟨k0_dev5 c, h⟩ : Dev nD) = peer 5 c := by
  revert c; decide +kernel
theorem dev6_eq (c : Dev nD) (h : k0_dev6 c < nD) : (⟨k0_dev6 c, h⟩ : Dev nD) = peer 3 c := by
  revert c; decide +kernel
theorem dev7_eq (c : Dev nD) (h : k0_dev7 c < nD) : (⟨k0_dev7 c, h⟩ : Dev nD) = peer 6 c := by
  revert c; decide +kernel
theorem dev8_eq (c : Dev nD) (h : k0_dev8 c < nD) : (⟨k0_dev8 c, h⟩ : Dev nD) = peer 7 c := by
  revert c; decide +kernel

/-- A transfer may go from each device to its peers. -/
theorem routes (j : Fin 8) (c : Dev nD) : τ.routes c.tc (peer j c : Thread nD τ) = true := by revert j c; decide

theorem sem_inb (j : Fin 8) : ∀ a, (![j.val] : Fin 1 → ℕ) a + S1.size a ≤ S8.size a := by revert j; decide

abbrev sendSem (j : Fin 8) : DmaSem sig := ((cc0_scratch0.slice (Rect.unit (s := S8) ![j.val] S1.size (sem_inb j))).squeeze S_ squeezes_S1_S_ : DmaSems sig S_).sem
abbrev recvSem (j : Fin 8) : DmaSem sig := ((cc0_scratch1.slice (Rect.unit (s := S8) ![j.val] S1.size (sem_inb j))).squeeze S_ squeezes_S1_S_ : DmaSems sig S_).sem

/-- Half the rows of a `main_arg2`, and half and a quarter of the rows of a layer of `main_v1_1`, at an offset. -/
abbrev own (o : Fin 2 → ℕ) (h : ∀ a, o a + S384x4096.size a ≤ S4096x4096.size a) : Memref sig .tc .hbm S384x4096 .bf16 :=
  (Memref.whole main_arg2).slice (Rect.unit (s := S4096x4096) o S384x4096.size h) (fun _ => rfl)
abbrev big (o : Fin 3 → ℕ) (h : ∀ a, o a + S1x384x4096.size a ≤ S4x4096x4096.size a) : Memref sig .tc .hbm S384x4096 .bf16 :=
  ((Memref.whole main_v1_1).slice (Rect.unit (s := S4x4096x4096) o S1x384x4096.size h) (fun _ => rfl)).squeeze S384x4096 squeezes_S1x384x4096_S384x4096
abbrev half (o : Fin 3 → ℕ) (h : ∀ a, o a + S1x192x4096.size a ≤ S4x4096x4096.size a) : Memref sig .tc .hbm S192x4096 .bf16 :=
  ((Memref.whole main_v1_1).slice (Rect.unit (s := S4x4096x4096) o S1x192x4096.size h) (fun _ => rfl)).squeeze S192x4096 squeezes_S1x192x4096_S192x4096

/-- The units of one transfer of a link. -/
def amountBig : ℕ := (big ![0, 0, 0] (by decide)).view.dmaCredit
def amountHalf : ℕ := (half ![0, 0, 0] (by decide)).view.dmaCredit
def amount (j : Fin 8) : ℕ := if j.val < 4 then amountBig else amountHalf

abbrev links : Links nD sig where
  J := 8
  sendSem := sendSem
  recvSem := recvSem
  peer := peer
  peer_peer := peer_peer
  units := amount
  units_pos j := by
    unfold amount
    split <;> exact View.dmaCredit_pos _ (by decide)
  apart := by decide

/-- Every link is ranked above those it passes on. -/
def rank (j : Fin 8) : ℕ := if j.val < 2 then 1 else if j.val < 6 then 2 else 3

theorem rank_pos (j : Fin 8) : 0 < rank j := by revert j; decide

/-! ## The places -/

/-- The layer, the first row and the number of rows of what device `c` sends on a link, at either end. -/
def layer (j : Fin 8) (c : Dev nD) : ℕ :=
  match j with
  | 0 | 1 => c.val / 2
  | 2 | 4 => (across₁ c).val / 2
  | 3 | 5 => (across₂ c).val / 2
  | 6 | 7 => 3 - c.val / 2
def row (j : Fin 8) (c : Dev nD) : ℕ := 2048 * (c.val % 2) + 1664 + (if j = 5 ∨ j = 7 then 192 else 0)
def height (j : Fin 8) : ℕ := if j.val < 4 then 384 else 192

/-- Some rows of a layer. -/
def zone (s r n : ℕ) : Finset S4x4096x4096.Idx := Finset.univ.filter fun i => (i 0).val = s ∧ r ≤ (i 1).val ∧ (i 1).val < r + n

theorem mem_zone {s r n : ℕ} {i : S4x4096x4096.Idx} : i ∈ zone s r n ↔ (i 0).val = s ∧ r ≤ (i 1).val ∧ (i 1).val < r + n := by
  unfold zone
  rw [Finset.mem_filter, and_iff_right (Finset.mem_univ i)]

/-- The elements that device `c` sends on a link from the third on, and the elements that it is sent on a link. -/
def place (j : Fin 8) (c : Dev nD) : Finset S4x4096x4096.Idx := zone (layer j c) (row j c) (height j)
def landing (j : Fin 8) (c : Dev nD) : Finset S4x4096x4096.Idx := place j (peer j c)

theorem big_set {o : Fin 3 → ℕ} {h} {s r : ℕ} (ho : o = ![s, r, 0]) : (big o h).view.set = zone s r 384 := by
  subst ho
  refine ((View.set_reshape _ _).trans (View.set_slice_whole _ _)).trans (Finset.ext fun i => ?_)
  rw [mem_zone]
  refine Rect.mem_set_unit.trans ⟨fun hi => ?_, fun hi a => ?_⟩
  · have h0 : s ≤ (i 0).val ∧ (i 0).val < s + 1 := hi 0
    exact ⟨by omega, hi 1⟩
  · have h2 : (i 2).val < 4096 := (i 2).isLt
    fin_cases a
    · exact ⟨hi.1.ge, by show (i 0).val < s + 1; omega⟩
    · exact hi.2
    · exact ⟨Nat.zero_le _, by show (i 2).val < 0 + 4096; omega⟩

theorem half_set {o : Fin 3 → ℕ} {h} {s r : ℕ} (ho : o = ![s, r, 0]) : (half o h).view.set = zone s r 192 := by
  subst ho
  refine ((View.set_reshape _ _).trans (View.set_slice_whole _ _)).trans (Finset.ext fun i => ?_)
  rw [mem_zone]
  refine Rect.mem_set_unit.trans ⟨fun hi => ?_, fun hi a => ?_⟩
  · have h0 : s ≤ (i 0).val ∧ (i 0).val < s + 1 := hi 0
    exact ⟨by omega, hi 1⟩
  · have h2 : (i 2).val < 4096 := (i 2).isLt
    fin_cases a
    · exact ⟨hi.1.ge, by show (i 0).val < s + 1; omega⟩
    · exact hi.2
    · exact ⟨Nat.zero_le _, by show (i 2).val < 0 + 4096; omega⟩

/-- The places the kernel computes are these. -/
theorem off1_eq (c : Dev nD) : k0_off1 c = ![c.val / 2, 2048 * (c.val % 2) + 1664, 0] := by revert c; decide +kernel
theorem off2_eq (c : Dev nD) : k0_off2 c = ![2048 * (c.val % 2) + 1664, 0] := by revert c; decide +kernel
theorem off3_eq (c : Dev nD) : k0_off3 c = ![layer 2 c, row 2 c, 0] := by revert c; decide +kernel
theorem off4_eq (c : Dev nD) : k0_off4 c = ![layer 4 c, row 4 c, 0] := by revert c; decide +kernel
theorem off5_eq (c : Dev nD) : k0_off5 c = ![layer 3 c, row 3 c, 0] := by revert c; decide +kernel
theorem off6_eq (c : Dev nD) : k0_off6 c = ![layer 5 c, row 5 c, 0] := by revert c; decide +kernel
theorem off7_eq (c : Dev nD) : k0_off7 c 0#32 = ![layer 6 c, row 6 c, 0] := by revert c; decide +kernel
theorem off7_eq' (c : Dev nD) : k0_off7 c 192#32 = ![layer 7 c, row 7 c, 0] := by revert c; decide +kernel

/-- What came along a link lies where it is passed on from. -/
theorem landing_0 (c : Dev nD) : landing 0 c = place 2 c := by
  have h : layer 0 (peer 0 c) = layer 2 c ∧ row 0 (peer 0 c) = row 2 c := by revert c; decide
  unfold landing place; rw [h.1, h.2]; rfl
theorem landing_1 (c : Dev nD) : landing 1 c = place 3 c := by
  have h : layer 1 (peer 1 c) = layer 3 c ∧ row 1 (peer 1 c) = row 3 c := by revert c; decide
  unfold landing place; rw [h.1, h.2]; rfl
theorem landing_4 (c : Dev nD) : landing 4 c = place 6 c := by
  have h : layer 4 (peer 4 c) = layer 6 c ∧ row 4 (peer 4 c) = row 6 c := by revert c; decide
  unfold landing place; rw [h.1, h.2]; rfl
theorem landing_5 (c : Dev nD) : landing 5 c = place 7 c := by
  have h : layer 5 (peer 5 c) = layer 7 c ∧ row 5 (peer 5 c) = row 7 c := by revert c; decide
  unfold landing place; rw [h.1, h.2]; rfl

theorem place_4_sub (c : Dev nD) : place 4 c ⊆ place 2 c := by
  have h : layer 4 c = layer 2 c ∧ row 4 c = row 2 c ∧ height 4 = 192 ∧ height 2 = 384 := by revert c; decide
  intro i hi
  unfold place at hi ⊢
  rw [mem_zone] at hi ⊢
  omega
theorem place_5_sub (c : Dev nD) : place 5 c ⊆ place 3 c := by
  have h : layer 5 c = layer 3 c ∧ row 5 c = row 3 c + 192 ∧ height 5 = 192 ∧ height 3 = 384 := by revert c; decide
  intro i hi
  unfold place at hi ⊢
  rw [mem_zone] at hi ⊢
  omega

theorem landing_apart (c : Dev nD) (j j' : Fin 8) (h : j ≠ j') : Disjoint (landing j c) (landing j' c) := by
  have hn : layer j (peer j c) ≠ layer j' (peer j' c) ∨ row j (peer j c) + height j ≤ row j' (peer j' c)
      ∨ row j' (peer j' c) + height j' ≤ row j (peer j c) := by revert c j j'; decide +kernel
  refine Finset.disjoint_left.mpr fun i hi hi' => ?_
  unfold landing place at hi hi'
  rw [mem_zone] at hi hi'
  omega

/-- An element is in the rows that are gathered. -/
def band (i : S4x4096x4096.Idx) : Prop := 1664 ≤ (i 1).val % 2048 ∧ (i 1).val % 2048 < 2048

instance (i : S4x4096x4096.Idx) : Decidable (band i) := by unfold band; infer_instance

/-- Every such element outside the layer of the own chip is in a landing place. -/
theorem mem_landing (c : Dev nD) (i : S4x4096x4096.Idx) (h : (i 0).val ≠ c.val / 2) (hb : band i) : ∃ j, i ∈ landing j c := by
  have h1 : (i 1).val < 4096 := (i 1).isLt
  unfold band at hb
  have hn : ∀ (c : Dev nD) (s : Fin 4) (b : Fin 2) (q : Fin 2), s.val ≠ c.val / 2 → ∃ j : Fin 8, s.val = layer j (peer j c)
      ∧ row j (peer j c) ≤ 2048 * b.val + 1664 + 192 * q.val
      ∧ 2048 * b.val + 1664 + 192 * q.val + 192 ≤ row j (peer j c) + height j := by decide +kernel
  obtain ⟨j, h1, h2, h3⟩ := hn c (i 0) ⟨(i 1).val / 2048, by omega⟩ ⟨((i 1).val % 2048 - 1664) / 192, by omega⟩ h
  refine ⟨j, ?_⟩
  unfold landing place
  rw [mem_zone]
  dsimp only at h2 h3
  omega

theorem place_layer (j : Fin 8) (c : Dev nD) (hj : 2 ≤ j.val) {i : S4x4096x4096.Idx} (hi : i ∈ place j c) :
    (i 0).val ≠ c.val / 2 ∧ (i 0).val ≠ (peer j c).val / 2 ∧ band i := by
  have h : layer j c ≠ c.val / 2 ∧ layer j c ≠ (peer j c).val / 2 ∧ (2048 * (c.val % 2) + 1664 ≤ row j c)
      ∧ row j c + height j ≤ 2048 * (c.val % 2) + 2048 := by clear hi; revert c j; decide +kernel
  unfold place at hi
  rw [mem_zone] at hi
  unfold band
  omega

/-! ## What travels -/

variable (m : (ℓ : Loc nD τ sig) → Buf (Elt F) ℓ)

/-- The device whose half of the rows an element of `main_v1_1` belongs to, and where it lies in its `main_arg2`. -/
def source (i : S4x4096x4096.Idx) : Dev nD :=
  ⟨2 * (i 0).val + (i 1).val / 2048, by
    have h0 : (i 0).val < 4 := (i 0).isLt
    have h1 : (i 1).val < 4096 := (i 1).isLt
    show 2 * (i 0).val + (i 1).val / 2048 < 8; omega⟩
def origin (i : S4x4096x4096.Idx) : S4096x4096.Idx
  | 0 => i 1
  | 1 => i 2

/-- `main_v1_1` of device `c` when all has landed: the rows gathered of the other chips, and elsewhere what it held. -/
def filled (c : Dev nD) : Vec F S4x4096x4096 .bf16 := fun i =>
  if (i 0).val ≠ c.val / 2 ∧ band i then m ((source i : Thread nD τ).loc main_arg2) (origin i) else m (c.tc.loc main_v1_1) i

/-- Two devices agree on what is gathered in a layer of neither. -/
theorem filled_eq (c c' : Dev nD) (i : S4x4096x4096.Idx) (h : (i 0).val ≠ c.val / 2) (h' : (i 0).val ≠ c'.val / 2) (hb : band i) :
    filled m c i = filled m c' i := by unfold filled; rw [if_pos ⟨h, hb⟩, if_pos ⟨h', hb⟩]

/-- Elements of `main_v1_1` on device `c` at contents `f`. -/
def piece (c : Dev nD) (I : Finset S4x4096x4096.Idx) (q : PosShare TreeShare) (f : Vec F S4x4096x4096 .bf16) : sProp 𝕄 :=
  iprop(c.tc.loc main_v1_1 ↦[I]{q} (f : Buf (Elt F) (c.tc.loc main_v1_1)))

theorem off2_inb (c : Dev nD) : ∀ a, k0_off2 c a + S384x4096.size a ≤ S4096x4096.size a := by revert c; decide +kernel

/-- The half of its own rows that device `c` sends, at its launch contents. -/
def mineRows (c : Dev nD) (q : PosShare TreeShare) : sProp 𝕄 :=
  iprop(c.tc.loc main_arg2 ↦[(own (k0_off2 c) (off2_inb c)).view.set]{q} m (c.tc.loc main_arg2))

/-- Two links that read the same elements have one half of the right to them each. -/
def part (j : Fin 8) : PosShare TreeShare :=
  match j with
  | 0 | 2 | 3 => fullShare.left
  | 1 | 4 | 5 => fullShare.right
  | 6 | 7 => fullShare

/-- What a device sends on a link, the place there for what it is sent, and that place with what was sent. -/
def lent (c : Dev nD) (j : Fin 8) : sProp 𝕄 := if j.val < 2 then mineRows m c (part j) else piece c (place j c) (part j) (filled m c)
def room (c : Dev nD) (j : Fin 8) : sProp 𝕄 := iprop(∃ f, piece c (landing j c) fullShare f)
def came (c : Dev nD) (j : Fin 8) : sProp 𝕄 := piece c (landing j c) fullShare (filled m c)

theorem lent_own (c : Dev nD) (j : Fin 8) (h : j.val < 2) : lent m c j = mineRows m c (part j) := if_pos h
theorem lent_pass (c : Dev nD) (j : Fin 8) (h : ¬ j.val < 2) : lent m c j = piece c (place j c) (part j) (filled m c) := if_neg h

/-- What the send cells return and what the receive cells deliver. -/
def pay : links.End → Dev nD → sProp 𝕄
  | (false, j), c => lent m c j
  | (true, j), c => came m c j

instance : Cert.Exchange.Keepable links (pay m) where
  keep k c := by
    have hm (q : PosShare TreeShare) : BI.Storable upEmb (mineRows m c q) := by unfold mineRows; infer_instance
    have hp (I : Finset S4x4096x4096.Idx) (q : PosShare TreeShare) : BI.Storable upEmb (piece c I q (filled m c)) := by unfold piece; infer_instance
    rcases k with ⟨_ | _, j⟩
    · show BI.Storable upEmb (lent m c j)
      unfold lent
      split
      · exact hm _
      · exact hp _ _
    · exact hp _ _

/-- A write through a view of what was read through the same view brings over the elements it names. -/
theorem write_read {κ : Kind} {sp : Space} {sh : Shape} {e : EltTy} (v : View sig κ sp sh e) (f g : v.ty.Contents (Elt F)) (i) (hi : i ∈ v.set) :
    v.write (Elt F) f (v.read (Elt F) g) Finset.univ i = g i := by
  obtain ⟨x, -, rfl⟩ := Finset.mem_map.mp hi
  rw [View.write_emb_of_mem f _ (Finset.mem_univ x)]
  unfold View.read
  rw [cast_cast, cast_eq]

/-- What a transfer of the own rows leaves where it lands is what `filled` says. -/
theorem delivered (c c' : Dev nD) (hc : c.val / 2 ≠ c'.val / 2) {h} {h'} (fd : Vec F S4x4096x4096 .bf16) (i) (hi : i ∈ (big (k0_off1 c) h).view.set) :
    (big (k0_off1 c) h).view.write (Elt F) fd ((own (k0_off2 c) h').view.read (Elt F) (m (c.tc.loc main_arg2))) Finset.univ i = filled m c' i := by
  have hz : i ∈ zone (c.val / 2) (2048 * (c.val % 2) + 1664) 384 := big_set (off1_eq c) ▸ hi
  rw [mem_zone] at hz
  obtain ⟨x, -, rfl⟩ := Finset.mem_map.mp hi
  refine (View.write_emb_of_mem (v := (big (k0_off1 c) h).view) fd _ (Finset.mem_univ x)).trans ?_
  show m (c.tc.loc main_arg2) ((own (k0_off2 c) h').view.emb x) = _
  have e1 : (((big (k0_off1 c) h).view.emb x) 1).val = k0_off1 c 1 + 1 * (x 0).val :=
    congrArg (fun w : S1x384x4096.Idx => k0_off1 c 1 + 1 * (w 1).val) (Shape.reshapeEquiv_cons_one (d := ![384, 4096]) (by decide) x)
  have e2 : (((big (k0_off1 c) h).view.emb x) 2).val = k0_off1 c 2 + 1 * (x 1).val :=
    congrArg (fun w : S1x384x4096.Idx => k0_off1 c 2 + 1 * (w 2).val) (Shape.reshapeEquiv_cons_one (d := ![384, 4096]) (by decide) x)
  generalize hy : (big (k0_off1 c) h).view.emb x = i at hz e1 e2
  have f1 : k0_off1 c 1 = 2048 * (c.val % 2) + 1664 := congrFun (off1_eq c) 1
  have f2 : k0_off1 c 2 = 0 := congrFun (off1_eq c) 2
  have g1 : k0_off2 c 0 = 2048 * (c.val % 2) + 1664 := congrFun (off2_eq c) 0
  have g2 : k0_off2 c 1 = 0 := congrFun (off2_eq c) 1
  have hs : source i = c := Fin.ext (show 2 * (i 0).val + (i 1).val / 2048 = c.val by omega)
  unfold filled
  rw [if_pos ⟨by omega, by unfold band; omega⟩, hs]
  refine congrArg _ (funext fun a => ?_)
  fin_cases a <;> refine Fin.ext ?_
  · show k0_off2 c 0 + 1 * (x 0).val = (i 1).val
    omega
  · show k0_off2 c 1 + 1 * (x 1).val = (i 2).val
    omega

/-! ## The buffers in pieces -/

/-- The elements of a device's `main_arg2` that it does not send, and the layer of its own chip. -/
def kept (c : Dev nD) : sProp 𝕄 :=
  iprop(c.tc.loc main_arg2 ↦[Finset.univ \ (own (k0_off2 c) (off2_inb c)).view.set]{fullShare} m (c.tc.loc main_arg2))
def ownLayer (c : Dev nD) (f : Vec F S4x4096x4096 .bf16) : sProp 𝕄 :=
  piece c (Finset.univ \ (Finset.univ : Finset (Fin 8)).biUnion fun j => landing j c) fullShare f

omit [FloatOps F] in
theorem piece_share (c : Dev nD) (I) (f : Vec F S4x4096x4096 .bf16) :
    (piece c I fullShare f : sProp 𝕄) ⊣⊢ iprop(piece c I fullShare.left f ∗ piece c I fullShare.right f) :=
  pointsTo_share (PosShare.mem_left_op_right fullShare)

omit [FloatOps F] in
theorem piece_sub (c : Dev nD) {I J} (h : I ⊆ J) (q) (f : Vec F S4x4096x4096 .bf16) :
    (piece c J q f : sProp 𝕄) ⊣⊢ iprop(piece c I q f ∗ piece c (J \ I) q f) :=
  pointsTo_split_subset h

omit [FloatOps F] in
theorem arg2_split (c : Dev nD) :
    (c.tc.loc main_arg2 ↦{fullShare} m (c.tc.loc main_arg2) : sProp 𝕄)
      ⊣⊢ iprop((mineRows m c fullShare.left ∗ mineRows m c fullShare.right) ∗ kept m c) := by
  have h : (mineRows m c fullShare : sProp 𝕄) = iprop(mineRows m c fullShare.left ∗ mineRows m c fullShare.right) :=
    by unfold mineRows; exact equiv_iff.mp ⟨(pointsTo_share (PosShare.mem_left_op_right fullShare)).1, (pointsTo_share (PosShare.mem_left_op_right fullShare)).2⟩
  rw [← h]
  exact pointsTo_split_subset (Finset.subset_univ _)

omit [FloatOps F] in
theorem buffer_split (c : Dev nD) (f : Vec F S4x4096x4096 .bf16) :
    (c.tc.loc main_v1_1 ↦{fullShare} (f : Buf (Elt F) (c.tc.loc main_v1_1)) : sProp 𝕄)
      ⊣⊢ iprop((bigSep Finset.univ fun j => piece c (landing j c) fullShare f) ∗ ownLayer c f) := by
  have h := pointsTo_biUnion (ℓ := (c.tc : Thread nD τ).loc main_v1_1) (Ix := Unit) (Name := ℕ) (U := UU nD sig τ) (Lvl := ℕ) (q := fullShare)
    (f := (f : Buf (Elt F) (c.tc.loc main_v1_1))) Finset.univ (fun j => landing j c) fun j _ j' _ hj => landing_apart c j j' hj
  unfold ownLayer piece
  rw [← h]
  exact pointsTo_split_subset (Finset.subset_univ _)

omit [FloatOps F] in
/-- Outside the landing places `filled` is what was there. -/
theorem ownLayer_eq (c : Dev nD) : (ownLayer c (m (c.tc.loc main_v1_1)) : sProp 𝕄) = ownLayer c (filled m c) := by
  unfold ownLayer piece
  refine pointsTo_congr fun i hi => ?_
  refine (if_neg fun h => ?_).symm
  obtain ⟨j, hj⟩ := mem_landing c i h.1 h.2
  exact (Finset.mem_sdiff.mp hi).2 (Finset.mem_biUnion.mpr ⟨j, Finset.mem_univ _, hj⟩)

/-- What holds of the eight links, one by one. -/
theorem eight (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ

end Cert.Nm

end
-- ==== Proof.NmParts.lean ====
/-
# The four parts of a grid point of `mlp_norm_fwd`

The body at a grid point is: start the transfers of the own rows (at the first point), compute the block, pass on what
came from the neighbouring chips (at point 9), pass on the rest and wait for everything (at the last point).
-/
module

public import proofs.«01_k».proof.Proof.Gen.NmKernelIdeal.Skeleton
public import proofs.«01_k».proof.Proof.Gen.NmKernelIdeal.Points
public import proofs.«01_k».proof.Proof.NmLinks

@[expose] public section

noncomputable section

namespace Cert.Nm

open Cert.NmKernelIdeal Cert.NmKernelIdeal.Gen
open Idealize.ShloMosaic
open TcCoe
open Idealize.SL.Sem

variable {F : FTy → Type} [FloatOps F]

/-- Programs of this kernel. -/
abbrev Code (F : FTy → Type) [FloatOps F] : Type → Type 1 := Prog (TpuEff nD τ sig (Elt F) Λ₀ .tc)

theorem own_exact {o : Fin 2 → ℕ} {h} (hw : (Rect.unit (s := S4096x4096) o S384x4096.size h).WholeWords (EltTy.packing .bf16)) : (own o h).view.WordExact :=
  (Memref.isWhole_whole main_arg2).wordExact_slice rfl _ hw
theorem big_exact {o : Fin 3 → ℕ} {h} (hw : (Rect.unit (s := S4x4096x4096) o S1x384x4096.size h).WholeWords (EltTy.packing .bf16)) : (big o h).view.WordExact :=
  ((Memref.isWhole_whole main_v1_1).wordExact_slice rfl _ hw).reshape _ _
theorem half_exact {o : Fin 3 → ℕ} {h} (hw : (Rect.unit (s := S4x4096x4096) o S1x192x4096.size h).WholeWords (EltTy.packing .bf16)) : (half o h).view.WordExact :=
  ((Memref.isWhole_whole main_v1_1).wordExact_slice rfl _ hw).reshape _ _

/-- The first grid point sends the own rows. -/
def sendPart (i : grid0.Coords) : Code F PUnit :=
  if h : k0_cond1 i = 1#1 then
    .op .deviceId fun d =>
    .op (.enqueueDma (own (k0_off2 d) (k0_off2_inb i d h)) (.remote (Dev.tc (⟨k0_dev1 d, k0_dev1_lt i d h⟩ : Dev nD)) (big (k0_off1 d) (k0_off1_inb i d h)) (.dma (sendSem 0)))
      (.dma (recvSem 0)) (own_exact (k0_off2_wordsbf16 i d h)) (big_exact (k0_off1_wordsbf16 i d h)) ⟨⟨rfl, Or.inl rfl⟩, trivial⟩) fun _ =>
    .op (.enqueueDma (own (k0_off2 d) (k0_off2_inb i d h)) (.remote (Dev.tc (⟨k0_dev2 d, k0_dev2_lt i d h⟩ : Dev nD)) (big (k0_off1 d) (k0_off1_inb i d h)) (.dma (sendSem 1)))
      (.dma (recvSem 1)) (own_exact (k0_off2_wordsbf16 i d h)) (big_exact (k0_off1_wordsbf16 i d h)) ⟨⟨rfl, Or.inl rfl⟩, trivial⟩) fun _ => .ret ⟨⟩
  else .ret ⟨⟩

/-- Every grid point computes. -/
def workPart (X : Memref sig .tc .vmem S256x4096 .f32) (G : Memref sig .tc .vmem S1x4096 .f32) (O : Memref sig .tc .vmem S256x4096 .bf16) (hO : O.IsWhole) : Code F PUnit :=
  .op (.load X (Rect.unit (s := S256x4096) ![0, 0] S256x4096.size inb_S256x4096_S256x4096_0_0).toLoadRect (View.loadsAt_vmem h_S256x4096)) fun v4 =>
  .op (.load G (Rect.unit (s := S1x4096) ![0, 0] S1x4096.size inb_S1x4096_S1x4096_0_0).toLoadRect (View.loadsAt_vmem h_S1x4096)) fun v16 =>
  .op (.load O (Rect.unit (s := S256x4096) ![0, 0] S256x4096.size inb_S256x4096_S256x4096_0_0).toLoadRect (View.loadsAt_vmem h_S256x4096)) fun _ =>
  .op (.store O (Rect.unit (s := S256x4096) ![0, 0] S256x4096.size inb_S256x4096_S256x4096_0_0) (k0_pay1 v4 v16) Finset.univ
    (View.stores_vmem h_S256x4096 (hO.storeExact_slice rfl _ packedbf16_S256x4096_S256x4096_0_0) (fun _ => rfl)) (.inl rfl)) fun _ => .ret ⟨⟩

/-- Point 9 passes on what came along links 0 and 1. -/
def passPart (i : grid0.Coords) : Code F PUnit :=
  if h : k0_cond2 i = 1#1 then
    .op .deviceId fun d =>
    .op (.waitDma2 (recvSem 0) (big (k0_off3 d) (k0_off3_inb i d h)) (big (k0_off3 d) (k0_off3_inb i d h)) (big_exact (k0_off3_wordsbf16 i d h)) (big_exact (k0_off3_wordsbf16 i d h))) fun _ =>
    .op (.enqueueDma (half (k0_off4 d) (k0_off4_inb i d h)) (.remote (Dev.tc (⟨k0_dev3 d, k0_dev3_lt i d h⟩ : Dev nD)) (half (k0_off4 d) (k0_off4_inb i d h)) (.dma (sendSem 4)))
      (.dma (recvSem 4)) (half_exact (k0_off4_wordsbf16 i d h)) (half_exact (k0_off4_wordsbf16 i d h)) ⟨⟨rfl, Or.inl rfl⟩, trivial⟩) fun _ =>
    .op (.enqueueDma (big (k0_off3 d) (k0_off3_inb i d h)) (.remote (Dev.tc (⟨k0_dev4 d, k0_dev4_lt i d h⟩ : Dev nD)) (big (k0_off3 d) (k0_off3_inb i d h)) (.dma (sendSem 2)))
      (.dma (recvSem 2)) (big_exact (k0_off3_wordsbf16 i d h)) (big_exact (k0_off3_wordsbf16 i d h)) ⟨⟨rfl, Or.inl rfl⟩, trivial⟩) fun _ =>
    .op (.waitDma2 (recvSem 1) (big (k0_off5 d) (k0_off5_inb i d h)) (big (k0_off5 d) (k0_off5_inb i d h)) (big_exact (k0_off5_wordsbf16 i d h)) (big_exact (k0_off5_wordsbf16 i d h))) fun _ =>
    .op (.enqueueDma (half (k0_off6 d) (k0_off6_inb i d h)) (.remote (Dev.tc (⟨k0_dev5 d, k0_dev5_lt i d h⟩ : Dev nD)) (half (k0_off6 d) (k0_off6_inb i d h)) (.dma (sendSem 5)))
      (.dma (recvSem 5)) (half_exact (k0_off6_wordsbf16 i d h)) (half_exact (k0_off6_wordsbf16 i d h)) ⟨⟨rfl, Or.inl rfl⟩, trivial⟩) fun _ =>
    .op (.enqueueDma (big (k0_off5 d) (k0_off5_inb i d h)) (.remote (Dev.tc (⟨k0_dev6 d, k0_dev6_lt i d h⟩ : Dev nD)) (big (k0_off5 d) (k0_off5_inb i d h)) (.dma (sendSem 3)))
      (.dma (recvSem 3)) (big_exact (k0_off5_wordsbf16 i d h)) (big_exact (k0_off5_wordsbf16 i d h)) ⟨⟨rfl, Or.inl rfl⟩, trivial⟩) fun _ => .ret ⟨⟩
  else .ret ⟨⟩

/-- The last grid point passes on what came along links 4 and 5, and waits for what else it is sent and for what it sent itself. -/
def waitPart (i : grid0.Coords) : Code F PUnit :=
  if h : k0_cond3 i = 1#1 then
    .op .deviceId fun d =>
    .op (.waitDma2 (recvSem 4) (half (k0_off7 d 0#32) (k0_off7_inb i d h 0)) (half (k0_off7 d 0#32) (k0_off7_inb i d h 0)) (half_exact (k0_off7_wordsbf16 i d h 0)) (half_exact (k0_off7_wordsbf16 i d h 0))) fun _ =>
    .op (.enqueueDma (half (k0_off7 d 0#32) (k0_off7_inb i d h 0)) (.remote (Dev.tc (⟨k0_dev7 d, k0_dev7_lt i d h⟩ : Dev nD)) (half (k0_off7 d 0#32) (k0_off7_inb i d h 0)) (.dma (sendSem 6)))
      (.dma (recvSem 6)) (half_exact (k0_off7_wordsbf16 i d h 0)) (half_exact (k0_off7_wordsbf16 i d h 0)) ⟨⟨rfl, Or.inl rfl⟩, trivial⟩) fun _ =>
    .op (.waitDma2 (recvSem 5) (half (k0_off7 d 192#32) (k0_off7_inb i d h 1)) (half (k0_off7 d 192#32) (k0_off7_inb i d h 1)) (half_exact (k0_off7_wordsbf16 i d h 1)) (half_exact (k0_off7_wordsbf16 i d h 1))) fun _ =>
    .op (.enqueueDma (half (k0_off7 d 192#32) (k0_off7_inb i d h 1)) (.remote (Dev.tc (⟨k0_dev8 d, k0_dev8_lt i d h⟩ : Dev nD)) (half (k0_off7 d 192#32) (k0_off7_inb i d h 1)) (.dma (sendSem 7)))
      (.dma (recvSem 7)) (half_exact (k0_off7_wordsbf16 i d h 1)) (half_exact (k0_off7_wordsbf16 i d h 1)) ⟨⟨rfl, Or.inl rfl⟩, trivial⟩) fun _ =>
    .op (.waitDma2 (recvSem 2) (big (k0_off8 d) (k0_off8_inb i d h)) (big (k0_off8 d) (k0_off8_inb i d h)) (big_exact (k0_off8_wordsbf16 i d h)) (big_exact (k0_off8_wordsbf16 i d h))) fun _ =>
    .op (.waitDma2 (recvSem 3) (big (k0_off9 d) (k0_off9_inb i d h)) (big (k0_off9 d) (k0_off9_inb i d h)) (big_exact (k0_off9_wordsbf16 i d h)) (big_exact (k0_off9_wordsbf16 i d h))) fun _ =>
    .op (.waitDma2 (recvSem 6) (half (k0_off10 d 0#32) (k0_off10_inb i d h 0)) (half (k0_off10 d 0#32) (k0_off10_inb i d h 0)) (half_exact (k0_off10_wordsbf16 i d h 0)) (half_exact (k0_off10_wordsbf16 i d h 0))) fun _ =>
    .op (.waitDma2 (recvSem 7) (half (k0_off10 d 192#32) (k0_off10_inb i d h 1)) (half (k0_off10 d 192#32) (k0_off10_inb i d h 1)) (half_exact (k0_off10_wordsbf16 i d h 1)) (half_exact (k0_off10_wordsbf16 i d h 1))) fun _ =>
    .op (.waitDma2 (sendSem 0) (big (k0_off12 d) (k0_off12_inb i d h)) (own (k0_off11 d) (k0_off11_inb i d h)) (big_exact (k0_off12_wordsbf16 i d h)) (own_exact (k0_off11_wordsbf16 i d h))) fun _ =>
    .op (.waitDma2 (sendSem 1) (big (k0_off12 d) (k0_off12_inb i d h)) (own (k0_off11 d) (k0_off11_inb i d h)) (big_exact (k0_off12_wordsbf16 i d h)) (own_exact (k0_off11_wordsbf16 i d h))) fun _ =>
    .op (.waitDma2 (sendSem 2) (big (k0_off13 d) (k0_off13_inb i d h)) (big (k0_off13 d) (k0_off13_inb i d h)) (big_exact (k0_off13_wordsbf16 i d h)) (big_exact (k0_off13_wordsbf16 i d h))) fun _ =>
    .op (.waitDma2 (sendSem 3) (big (k0_off14 d) (k0_off14_inb i d h)) (big (k0_off14 d) (k0_off14_inb i d h)) (big_exact (k0_off14_wordsbf16 i d h)) (big_exact (k0_off14_wordsbf16 i d h))) fun _ =>
    .op (.waitDma2 (sendSem 4) (half (k0_off15 d) (k0_off15_inb i d h)) (half (k0_off15 d) (k0_off15_inb i d h)) (half_exact (k0_off15_wordsbf16 i d h)) (half_exact (k0_off15_wordsbf16 i d h))) fun _ =>
    .op (.waitDma2 (sendSem 5) (half (k0_off16 d) (k0_off16_inb i d h)) (half (k0_off16 d) (k0_off16_inb i d h)) (half_exact (k0_off16_wordsbf16 i d h)) (half_exact (k0_off16_wordsbf16 i d h))) fun _ =>
    .op (.waitDma2 (sendSem 6) (half (k0_off7 d 0#32) (k0_off7_inb i d h 0)) (half (k0_off7 d 0#32) (k0_off7_inb i d h 0)) (half_exact (k0_off7_wordsbf16 i d h 0)) (half_exact (k0_off7_wordsbf16 i d h 0))) fun _ =>
    .op (.waitDma2 (sendSem 7) (half (k0_off7 d 192#32) (k0_off7_inb i d h 1)) (half (k0_off7 d 192#32) (k0_off7_inb i d h 1)) (half_exact (k0_off7_wordsbf16 i d h 1)) (half_exact (k0_off7_wordsbf16 i d h 1))) fun _ => .ret ⟨⟩
  else .ret ⟨⟩

/-- The body is its four parts, one after the other. -/
theorem body_eq (t : Fin cfg0.N) :
    bodyAt0 (F := F) t = sendPart (grid0.coords t) >>= fun _ =>
      workPart (st0_0 t) (st0_1 t) (st0_2 t) (hstage0_2 ((cfg0.slots t 2).cast nbuf0_2)) >>= fun _ =>
      passPart (grid0.coords t) >>= fun _ => waitPart (grid0.coords t) := by
  unfold bodyAt0 sendPart
  rw [cc0_mlp_norm_fwd_eq_skeleton]
  unfold cc0_mlp_norm_fwd_skel
  rw [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton]
  unfold k0_part1_skel k0_part2_skel k0_part3_skel k0_part4_skel k0_part5_skel k0_part6_skel k0_part7_skel k0_part8_skel k0_part9_skel k0_part10_skel k0_part11_skel passPart waitPart
  by_cases h : k0_cond1 (grid0.coords t) = 1#1 <;> by_cases h' : k0_cond2 (grid0.coords t) = 1#1 <;> by_cases h'' : k0_cond3 (grid0.coords t) = 1#1
  · rw [dif_pos h, dif_pos h]; simp only [dif_pos h', dif_pos h'']; rfl
  · rw [dif_pos h, dif_pos h]; simp only [dif_pos h', dif_neg h'']; rfl
  · rw [dif_pos h, dif_pos h]; simp only [dif_neg h', dif_pos h'']; rfl
  · rw [dif_pos h, dif_pos h]; simp only [dif_neg h', dif_neg h'']; rfl
  · rw [dif_neg h, dif_neg h]; simp only [dif_pos h', dif_pos h'']; rfl
  · rw [dif_neg h, dif_neg h]; simp only [dif_pos h', dif_neg h'']; rfl
  · rw [dif_neg h, dif_neg h]; simp only [dif_neg h', dif_pos h'']; rfl
  · rw [dif_neg h, dif_neg h]; simp only [dif_neg h', dif_neg h'']; rfl

/-- The first point sends, point 9 passes on, the last point waits. -/
theorem sends_iff (t : Fin cfg0.N) : k0_cond1 (grid0.coords t) = 1#1 ↔ t.val = 0 :=
  (by decide +kernel : ∀ t : Fin grid0.N, k0_cond1 (grid0.coords t) = 1#1 ↔ t.val = 0) t
theorem passes_iff (t : Fin cfg0.N) : k0_cond2 (grid0.coords t) = 1#1 ↔ t.val = 9 :=
  (by decide +kernel : ∀ t : Fin grid0.N, k0_cond2 (grid0.coords t) = 1#1 ↔ t.val = 9) t
theorem waits_iff (t : Fin cfg0.N) : k0_cond3 (grid0.coords t) = 1#1 ↔ t.val = 15 :=
  (by decide +kernel : ∀ t : Fin grid0.N, k0_cond3 (grid0.coords t) = 1#1 ↔ t.val = 15) t

end Cert.Nm

end
-- ==== Proof.NmSteps.lean ====
/-
# The four parts of `mlp_norm_fwd`, each by itself

What each part of a grid point does to the memory and to the protocol: the first sends the own rows, every one computes its
block, point 9 passes on what came along links 0 and 1, the last passes on what came along links 4 and 5 and waits for the
rest.
-/
module

public import proofs.«01_k».proof.Proof.NmBlock
public import proofs.«01_k».proof.Proof.NmParts
public import proofs.«01_k».proof.Proof.NmLinks

@[expose] public section

noncomputable section

namespace Cert.Nm

open Cert.NmKernelIdeal Cert.NmKernelIdeal.Gen
open Idealize.ShloMosaic
open TcCoe Rounds
open Idealize.SL Idealize.SL.RA Idealize.SL.BI
open BIBase Laws ProofMode Sem
open Cert.Exchange (Links UU EP ER L records ticket seats hand due ranks owns_iff)

variable {F : FTy → Type} [FloatOps F]

local notation "𝕄" => MT nD τ sig Unit (Elt F) ℕ (UU nD sig τ) ℕ

abbrev 𝒱₀ : Variants := Variants.none

/-! ## The block -/

/-- The computing part reads its two blocks and leaves `outBlock` of them, whatever was there. -/
theorem work_step (c : Dev nD) (X : Memref sig .tc .vmem S256x4096 .f32) (G : Memref sig .tc .vmem S1x4096 .f32) (O : Memref sig .tc .vmem S256x4096 .bf16) (hO : O.IsWhole)
    (x : Vec F S256x4096 .f32) (g : Vec F S1x4096 .f32) (o : Vec F S256x4096 .bf16) :
    iprop(owns (Ix := Unit) (Name := ℕ) (U := UU nD sig τ) (Lvl := ℕ) c.tc X fullShare x
        ∗ owns c.tc G fullShare g ∗ owns c.tc O fullShare o)
      ⊢ wp frame (wpE (defs₀ (F := F)) 𝒱₀ c none) Set.univ (workPart X G O hO)
          (fun _ => iprop(owns c.tc X fullShare x ∗ owns c.tc G fullShare g ∗ owns c.tc O fullShare (outBlock x g) : sProp 𝕄)) := by
  simp only [owns_iff]
  unfold workPart
  iintro ⟨⟨%fx, %hx, HX⟩, ⟨%fg, %hg, HG⟩, ⟨%fo, %ho, HO⟩⟩
  subst hx hg
  iapply (wp_load 𝒱₀ c.tc none Set.univ (m := X) (View.setOn_subset_set _ _)) $$ HX; iintro HX
  iapply (wp_load 𝒱₀ c.tc none Set.univ (m := G) (View.setOn_subset_set _ _)) $$ HG; iintro HG
  iapply (wp_load 𝒱₀ c.tc none Set.univ (m := O) (View.setOn_subset_set _ _)) $$ HO; iintro HO
  iapply (wp_store_writes₀ 𝒱₀ c.tc none Set.univ (m := O) (r := allX) (View.set_slice_subset _ _)) $$ HO; iintro HO
  rw [wp_ret]; imodintro
  isplitl [HX]
  · iexists fx; isplitr; · (ipureintro; rfl)
    iexact HX
  isplitl [HG]
  · iexists fg; isplitr; · (ipureintro; rfl)
    iexact HG
  iexists _; isplitr
  · ipureintro
    refine (read_store O.view fo (k0_pay1 (seen (X.view.read (Elt F) fx) allX) (seen (G.view.read (Elt F) fg) allG))).trans ?_
    rw [seen_X, seen_G]
    rfl
  iexact HO

/-! ## The transfers -/

variable (m : (ℓ : Loc nD τ sig) → Buf (Elt F) ℓ)

/-- The transfers of one link count the same units at either end: the memrefs have one shape. -/
theorem credit_own (j : Fin 8) (hj : j.val < 4) {o} {h} : (own o h).view.dmaCredit = amount j := by
  unfold amount
  rw [if_pos hj]
  exact Eq.refl (RefSig.tileCredit S384x4096 .bf16)
theorem credit_big (j : Fin 8) (hj : j.val < 4) {o} {h} : (big o h).view.dmaCredit = amount j := by
  unfold amount
  rw [if_pos hj]
  exact Eq.refl (RefSig.tileCredit S384x4096 .bf16)
theorem credit_half (j : Fin 8) (hj : ¬ j.val < 4) {o} {h} : (half o h).view.dmaCredit = amount j := by
  unfold amount
  rw [if_neg hj]
  exact Eq.refl (RefSig.tileCredit S192x4096 .bf16)

/-- What device `c` owes on link `j`. -/
abbrev debt (c : Dev nD) (j : Fin 8) : CellTallies nD τ sig Unit := tallyAt (links.recvCell (peer j c) j) () (amount j)

/-- What it owes after the first point, and after point 9. -/
def later (c : Dev nD) : CellTallies nD τ sig Unit := 0 + debt c 7 + debt c 6 + debt c 3 + debt c 5 + debt c 2 + debt c 4
def last (c : Dev nD) : CellTallies nD τ sig Unit := 0 + debt c 7 + debt c 6

theorem due_eq (c : Dev nD) : due (τ := τ) links c = later c + debt c 1 + debt c 0 := by
  have h : due (τ := τ) links c = debt c 0 + debt c 1 + debt c 2 + debt c 3 + debt c 4 + debt c 5 + debt c 6 + debt c 7 := by
    unfold due
    exact Fin.sum_univ_eight _
  rw [h]
  unfold later
  rw [zero_add]
  ac_rfl

/-- Only transfers of rank above `b` are owed. -/
def Above (b : ℕ) (O : CellTallies nD τ sig Unit) : Prop := ∀ g u, 0 < O g u → ∃ c' j, g = links.recvCell c' j ∧ b < rank j

theorem above_zero (b : ℕ) : Above b 0 := fun g u h => absurd h (lt_irrefl 0)
theorem above_add {b : ℕ} {O : CellTallies nD τ sig Unit} (h : Above b O) (c : Dev nD) (j : Fin 8) (hj : b < rank j) : Above b (O + debt c j) := by
  intro g u hg
  by_cases hO : 0 < O g u
  · exact h g u hO
  · refine ⟨peer j c, j, ?_, hj⟩
    by_contra hn
    have hz : (debt c j) g u = 0 := by
      show (tallyAt _ () _ : CellTallies nD τ sig Unit) g u = 0
      rw [tallyAt_apply, if_neg fun h' => hn h'.1]
    have hs : (O + debt c j) g u = O g u + (debt c j) g u := rfl
    omega
theorem above_last (b : ℕ) (hb : b < 3) (c : Dev nD) : Above b (last c) :=
  above_add (above_add (above_zero b) c 7 hb) c 6 hb
theorem above_later (b : ℕ) (hb : b < 2) (c : Dev nD) : Above b (later c) :=
  above_add (above_add (above_add (above_add (above_last b (by omega) c) c 3 hb) c 5 hb) c 2 hb) c 4 hb
theorem above_due (c : Dev nD) : Above 0 (due links c) := by
  rw [due_eq]
  exact above_add (above_add (above_later 0 (by omega) c) c 1 (rank_pos 1)) c 0 (rank_pos 0)

/-- What a device holds of a link it has still to send on, and of a cell it has to wait for. -/
def ready (c : Dev nD) (j : Fin 8) : sProp 𝕄 := iprop(ticket links c j ∗ atPos ER (links.cell c (false, j)) 0 ∅ 0 ∗ room (peer j c) j)
def pending (c : Dev nD) (k : links.End) : sProp 𝕄 := iprop(cred (tallyAt (links.cell c k) () (links.units k.2)) ∗ atPos ER (links.cell c k) 0 ∅ 0)

/-- The transfer of the own rows along link 0 or 1. -/
theorem send_own (κ : Dev nD × links.End → ℕ) (c n : Dev nD) (j : Fin 8) (hj : j.val < 2) (hn : n = peer j c)
    {hi} {hi'} {hs : (own (k0_off2 c) hi').view.WordExact} {hd : (big (k0_off1 c) hi).view.WordExact}
    {hsc : (big (k0_off1 c) hi : Memref sig (Dev.tc n : Thread nD τ).2.kind .hbm S384x4096 .bf16).view.ref.isScScratch = false}
    {ht : DmaTarget.Typed .hbm (.dma (recvSem j)) (.remote (Dev.tc n : Thread nD τ) (big (k0_off1 c) hi) (.dma (sendSem j)) hsc)}
    {Q : PUnit → sProp 𝕄} {k : PUnit → Code F PUnit} (O' O : CellTallies nD τ sig Unit) (hO : O' = O + debt c j) (W : Waits sig Unit) :
    iprop(records links (pay m) κ ∗ ready c j ∗ mineRows m c (part j) ∗ owes c.tc O' W)
      ⊢ iprop((pending c (false, j) ∗ owes c.tc O W -∗ wp frame (wpE (defs₀ (F := F)) 𝒱₀ c none) Set.univ (k ⟨⟩) Q)
          -∗ wp frame (wpE (defs₀ (F := F)) 𝒱₀ c none) Set.univ
              (.op (.enqueueDma (own (k0_off2 c) hi') (.remote (Dev.tc n : Thread nD τ) (big (k0_off1 c) hi) (.dma (sendSem j)) hsc) (.dma (recvSem j)) hs hd ht) k) Q) := by
  have hset : (big (k0_off1 c) hi).view.set = landing j (peer j c) := by
    have e : layer j c = c.val / 2 ∧ row j c = 2048 * (c.val % 2) + 1664 ∧ height j = 384 := by
      clear hn hs hd hsc ht hi hi' hO O O' k Q; revert j c; decide
    unfold landing place
    rw [peer_peer, e.1, e.2.1, e.2.2]
    exact big_set (off1_eq c)
  have hchip : c.val / 2 ≠ (peer j c).val / 2 := by
    clear hn hs hd hsc ht hi hi' hO O O' k Q hset; revert j c; decide
  unfold ready pending room piece
  iintro ⟨#HR, ⟨Ht, Ha, ⟨%fd, Hd⟩⟩, Hs, HO⟩ Hk
  iapply (Cert.Exchange.send_along links (pay m) (defs₀ (F := F)) 𝒱₀ κ c n j hn (src := own (k0_off2 c) hi') (dst := big (k0_off1 c) hi) (sS := sendSem j) (sR := recvSem j) rfl rfl
    (q := part j) (m (c.tc.loc main_arg2)) fd (credit_big j (by omega)) ?_ ?_ O hO W (routes j c)) $$ [Ht Hs Hd HO]
  · exact Entails.of_eq (lent_own m c j hj).symm
  · refine Entails.of_eq ?_
    show _ = piece (peer j c) (landing j (peer j c)) fullShare (filled m (peer j c))
    unfold piece
    rw [← hset]
    exact pointsTo_congr fun i hi => delivered m c (peer j c) hchip fd i hi
  · isplitr; · iexact HR
    isplitl [Ht]; · iexact Ht
    isplitl [Hs]; · unfold mineRows; iexact Hs
    isplitl [Hd]; · rw [hset]; iexact Hd
    iexact HO
  iintro ⟨Hc, HO⟩
  iapply Hk
  iframe Hc Ha HO

/-- Some rows of a layer passed on where they lie. -/
theorem pass_on (κ : Dev nD × links.End → ℕ) (c n : Dev nD) (j : Fin 8) (hj : 2 ≤ j.val) (hn : n = peer j c)
    {r : Rect S4x4096x4096} {hr} {s : Shape} {hq} {M : Memref sig .tc .hbm s .bf16} (hM : M = ((Memref.whole main_v1_1).slice r hr).squeeze s hq)
    (hu : M.view.dmaCredit = amount j) (hset : (((Memref.whole main_v1_1).slice r hr).squeeze s hq).view.set = place j c) {hs hd : M.view.WordExact}
    {hsc : (M : Memref sig (Dev.tc n : Thread nD τ).2.kind .hbm s .bf16).view.ref.isScScratch = false}
    {ht : DmaTarget.Typed .hbm (.dma (recvSem j)) (.remote (Dev.tc n : Thread nD τ) M (.dma (sendSem j)) hsc)}
    {Q : PUnit → sProp 𝕄} {k : PUnit → Code F PUnit} (O' O : CellTallies nD τ sig Unit) (hO : O' = O + debt c j) (W : Waits sig Unit) :
    iprop(records links (pay m) κ ∗ ready c j ∗ piece c (place j c) (part j) (filled m c) ∗ owes c.tc O' W)
      ⊢ iprop((pending c (false, j) ∗ owes c.tc O W -∗ wp frame (wpE (defs₀ (F := F)) 𝒱₀ c none) Set.univ (k ⟨⟩) Q)
          -∗ wp frame (wpE (defs₀ (F := F)) 𝒱₀ c none) Set.univ
              (.op (.enqueueDma M (.remote (Dev.tc n : Thread nD τ) M (.dma (sendSem j)) hsc) (.dma (recvSem j)) hs hd ht) k) Q) := by
  subst hM
  have hl : landing j (peer j c) = place j c := by unfold landing; rw [peer_peer]
  unfold ready pending room piece
  rw [hl, ← hset]
  iintro ⟨#HR, ⟨Ht, Ha, ⟨%fd, Hd⟩⟩, Hs, HO⟩ Hk
  iapply (Cert.Exchange.send_along links (pay m) (defs₀ (F := F)) 𝒱₀ κ c n j hn (sS := sendSem j) (sR := recvSem j) rfl rfl
    (q := part j) (filled m c) fd hu ?_ ?_ O hO W (routes j c)) $$ [Ht Hs Hd HO]
  · rw [hset]
    exact Entails.of_eq (lent_pass m c j (by omega)).symm
  · refine Entails.of_eq ?_
    show _ = piece (peer j c) (landing j (peer j c)) fullShare (filled m (peer j c))
    unfold piece
    rw [hl, ← hset]
    refine pointsTo_congr fun i hi' => (write_read (((Memref.whole main_v1_1).slice r hr).squeeze s hq).view fd (filled m c) i hi').trans ?_
    have hp := place_layer j c hj (hset ▸ hi' : i ∈ place j c)
    exact filled_eq m c (peer j c) i hp.1 hp.2.1 hp.2.2
  · iframe HR Ht Hs Hd HO
  iintro ⟨Hc, HO⟩
  iapply Hk
  iframe Hc Ha HO

/-- A wait for a cell, with what is owed such as allows it. -/
theorem wait_link (κ : Dev nD × links.End → ℕ) (c : Dev nD) (k : links.End) {s : Shape} {e : EltTy} {src dst : Memref sig .tc .hbm s e} {hs : src.view.WordExact}
    {hd : dst.view.WordExact} (hu : dst.view.dmaCredit = amount k.2) {Q : PUnit → sProp 𝕄} {next : PUnit → Code F PUnit} (O : CellTallies nD τ sig Unit) {R : sProp 𝕄} (hR : pay m k c ⊢ R)
    (hO : (levAts L (ranks links rank) : sProp 𝕄) ⊢ MayWait c.tc (.dma (links.sem k)) () O) :
    iprop(records links (pay m) κ ∗ levAts L (ranks links rank) ∗ pending c k ∗ (∃ W, owes c.tc O W))
      ⊢ iprop((R ∗ semVal (links.cell c k) 0 ∗ (∃ W, owes c.tc O W)
            -∗ wp frame (wpE (defs₀ (F := F)) 𝒱₀ c none) Set.univ (next ⟨⟩) Q)
          -∗ wp frame (wpE (defs₀ (F := F)) 𝒱₀ c none) Set.univ (.op (.waitDma2 (links.sem k) src dst hs hd) next) Q) := by
  unfold pending
  iintro ⟨#HR, HL, ⟨Hc, Ha⟩, ⟨%W, HO⟩⟩ Hk
  iapply (Cert.Exchange.wait_owing links (pay m) (defs₀ (F := F)) 𝒱₀ κ c k (sm := links.sem k) rfl hu O W) $$ [Hc Ha HO HL]
  · isplitr; · iexact HR
    isplitl [Hc]; · iexact Hc
    isplitl [Ha]; · iexact Ha
    isplitl [HO]; · iexact HO
    iapply hO; iexact HL
  iintro ⟨Hp, Hz, HO⟩
  iapply Hk
  isplitl [Hp]; · iapply hR; iexact Hp
  isplitl [Hz]; · iexact Hz
  iexists _; iexact HO

/-- A receive cell may be waited for while only transfers of higher rank are owed, and every cell while nothing is. -/
theorem wait_recv (c : Dev nD) (j : Fin 8) (O : CellTallies nD τ sig Unit) (h : Above (rank j) O) :
    (levAts L (ranks links rank) : sProp 𝕄) ⊢ MayWait c.tc (.dma (links.sem (true, j))) () O :=
  Cert.Exchange.may_wait links rank c (recvSem j) (rank j) (Cert.Exchange.ranks_recv links rank c j).le O h
theorem wait_free (c : Dev nD) (k : links.End) :
    (levAts L (ranks links rank) : sProp 𝕄) ⊢ MayWait c.tc (.dma (links.sem k)) () 0 := by
  rw [MayWait_zero]; iintro -; iempintro

/-- The halves that are passed on as quarters too, without those quarters. -/
def over (c : Dev nD) : sProp 𝕄 :=
  iprop(piece c (place 2 c \ place 4 c) fullShare.right (filled m c) ∗ piece c (place 3 c \ place 5 c) fullShare.right (filled m c))

/-- What came along links 0 and 1 is what links 2 and 4, and 3 and 5, pass on; what came along 4 and 5, what 6 and 7 do. -/
theorem came_0 (c : Dev nD) : (came m c 0 : sProp 𝕄) ⊣⊢ iprop(piece c (place 2 c) (part 2) (filled m c)
    ∗ piece c (place 4 c) (part 4) (filled m c) ∗ piece c (place 2 c \ place 4 c) fullShare.right (filled m c)) := by
  have h : (piece c (place 2 c) fullShare.right (filled m c) : sProp 𝕄) = _ := equiv_iff.mp ⟨(piece_sub c (place_4_sub c) fullShare.right (filled m c)).1, (piece_sub c (place_4_sub c) fullShare.right (filled m c)).2⟩
  unfold came
  rw [landing_0]
  refine BI.BIBase.BiEntails.trans (piece_share c _ _) ?_
  rw [h]
  exact BIBase.BiEntails.rfl
theorem came_1 (c : Dev nD) : (came m c 1 : sProp 𝕄) ⊣⊢ iprop(piece c (place 3 c) (part 3) (filled m c)
    ∗ piece c (place 5 c) (part 5) (filled m c) ∗ piece c (place 3 c \ place 5 c) fullShare.right (filled m c)) := by
  have h : (piece c (place 3 c) fullShare.right (filled m c) : sProp 𝕄) = _ := equiv_iff.mp ⟨(piece_sub c (place_5_sub c) fullShare.right (filled m c)).1, (piece_sub c (place_5_sub c) fullShare.right (filled m c)).2⟩
  unfold came
  rw [landing_1]
  refine BI.BIBase.BiEntails.trans (piece_share c _ _) ?_
  rw [h]
  exact BIBase.BiEntails.rfl
theorem came_4 (c : Dev nD) : (came m c 4 : sProp 𝕄) = piece c (place 6 c) (part 6) (filled m c) := by unfold came; rw [landing_4]; rfl
theorem came_5 (c : Dev nD) : (came m c 5 : sProp 𝕄) = piece c (place 7 c) (part 7) (filled m c) := by unfold came; rw [landing_5]; rfl

/-- The first point's two transfers. -/
theorem send_step (κ : Dev nD × links.End → ℕ) (c : Dev nD) (i : grid0.Coords) (h : k0_cond1 i = 1#1) (W : Waits sig Unit) :
    iprop(records links (pay m) κ ∗ (ready c 0 ∗ ready c 1) ∗ (mineRows m c fullShare.left ∗ mineRows m c fullShare.right) ∗ owes c.tc (due links c) W)
      ⊢ wp frame (wpE (defs₀ (F := F)) 𝒱₀ c none) Set.univ (sendPart (F := F) i)
          (fun _ => iprop(pending c (false, 0) ∗ pending c (false, 1) ∗ owes c.tc (later c) W : sProp 𝕄)) := by
  unfold sendPart
  rw [dif_pos h]
  simp only [wp_deviceId]
  iintro ⟨#HR, ⟨Ht0, Ht1⟩, ⟨Hs0, Hs1⟩, HO⟩
  iapply (send_own m κ c _ 0 (by decide) (dev1_eq c (k0_dev1_lt i c h)) _ _ (due_eq c) W) $$ [Ht0 Hs0 HO]
  · iframe HR Ht0 Hs0 HO
  iintro ⟨Hc0, HO⟩
  iapply (send_own m κ c _ 1 (by decide) (dev2_eq c (k0_dev2_lt i c h)) _ _ rfl W) $$ [Ht1 Hs1 HO]
  · iframe HR Ht1 Hs1 HO
  iintro ⟨Hc1, HO⟩
  rw [wp_ret]; imodintro
  iframe

theorem owes_some (c : Dev nD) (O : CellTallies nD τ sig Unit) (W : Waits sig Unit) :
    (owes c.tc O W : sProp 𝕄) ⊢ iprop(∃ W, owes c.tc O W) := by iintro H; iexists W; iexact H

/-- Point 9: two waits, and what came is passed on along four links. -/
theorem pass_step (κ : Dev nD × links.End → ℕ) (c : Dev nD) (i : grid0.Coords) (h : k0_cond2 i = 1#1) :
    iprop(records links (pay m) κ ∗ levAts L (ranks links rank) ∗ (ready c 2 ∗ ready c 3 ∗ ready c 4 ∗ ready c 5)
        ∗ (pending c (true, 0) ∗ pending c (true, 1)) ∗ ∃ W, owes c.tc (later c) W)
      ⊢ wp frame (wpE (defs₀ (F := F)) 𝒱₀ c none) Set.univ (passPart (F := F) i)
          (fun _ => iprop((pending c (false, 2) ∗ pending c (false, 3) ∗ pending c (false, 4) ∗ pending c (false, 5))
            ∗ (semVal (links.cell c (true, 0)) 0 ∗ semVal (links.cell c (true, 1)) 0) ∗ over m c ∗ ∃ W, owes c.tc (last c) W : sProp 𝕄)) := by
  unfold passPart
  rw [dif_pos h]
  simp only [wp_deviceId]
  iintro ⟨#HR, #HL, ⟨Ht2, Ht3, Ht4, Ht5⟩, ⟨HP0, HP1⟩, HO⟩
  iapply (wait_link m κ c (true, 0) (credit_big 0 (by decide)) _ (R := came m c 0) (BIBase.Entails.rfl) (wait_recv c 0 _ (above_later 1 (by decide) c))) $$ [HP0 HO]
  · iframe HR HL HP0 HO
  iintro ⟨Hp, Hz0, HO⟩
  ihave Hp := (came_0 m c).1 $$ Hp
  icases Hp with ⟨Hl, Hq, Ho0⟩
  unfold later
  icases HO with ⟨%W, HO⟩
  iapply (pass_on m κ c _ 4 (by decide) (dev3_eq c (k0_dev3_lt i c h)) rfl (credit_half 4 (by decide)) (half_set (off4_eq c)) _ _ rfl W) $$ [Ht4 Hq HO]
  · iframe HR Ht4 Hq HO
  iintro ⟨HS4, HO⟩
  ihave HO := (owes_some c _ W) $$ HO
  icases HO with ⟨%W, HO⟩
  iapply (pass_on m κ c _ 2 (by decide) (dev4_eq c (k0_dev4_lt i c h)) rfl (credit_big 2 (by decide)) (big_set (off3_eq c)) _ _ rfl W) $$ [Ht2 Hl HO]
  · iframe HR Ht2 Hl HO
  iintro ⟨HS2, HO⟩
  ihave HO := (owes_some c _ W) $$ HO
  iapply (wait_link m κ c (true, 1) (credit_big 1 (by decide)) _ (R := came m c 1) (BIBase.Entails.rfl) (wait_recv c 1 _ (above_add (above_add (above_last 1 (by decide) c) c 3 (by decide)) c 5 (by decide)))) $$ [HP1 HO]
  · iframe HR HL HP1 HO
  iintro ⟨Hp, Hz1, HO⟩
  ihave Hp := (came_1 m c).1 $$ Hp
  icases Hp with ⟨Hl, Hq, Ho1⟩
  icases HO with ⟨%W, HO⟩
  iapply (pass_on m κ c _ 5 (by decide) (dev5_eq c (k0_dev5_lt i c h)) rfl (credit_half 5 (by decide)) (half_set (off6_eq c)) _ _ rfl W) $$ [Ht5 Hq HO]
  · iframe HR Ht5 Hq HO
  iintro ⟨HS5, HO⟩
  ihave HO := (owes_some c _ W) $$ HO
  icases HO with ⟨%W, HO⟩
  iapply (pass_on m κ c _ 3 (by decide) (dev6_eq c (k0_dev6_lt i c h)) rfl (credit_big 3 (by decide)) (big_set (off5_eq c)) _ _ rfl W) $$ [Ht3 Hl HO]
  · iframe HR Ht3 Hl HO
  iintro ⟨HS3, HO⟩
  ihave HO := (owes_some c _ W) $$ HO
  rw [wp_ret]; imodintro
  isplitl [HS2 HS3 HS4 HS5]
  · iframe
  isplitl [Hz0 Hz1]
  · iframe Hz0 Hz1
  isplitl [Ho0 Ho1]
  · unfold over
    iframe Ho0 Ho1
  iexact HO

/-- The last point: what came along links 4 and 5 is passed on, and the other cells are waited for; the landing places hold
    what was sent, and what was lent is back. -/
theorem wait_step (κ : Dev nD × links.End → ℕ) (c : Dev nD) (i : grid0.Coords) (h : k0_cond3 i = 1#1) :
    iprop(records links (pay m) κ ∗ levAts L (ranks links rank) ∗ (ready c 6 ∗ ready c 7)
        ∗ (pending c (true, 2) ∗ pending c (true, 3) ∗ pending c (true, 4) ∗ pending c (true, 5) ∗ pending c (true, 6) ∗ pending c (true, 7))
        ∗ (pending c (false, 0) ∗ pending c (false, 1) ∗ pending c (false, 2) ∗ pending c (false, 3) ∗ pending c (false, 4) ∗ pending c (false, 5))
        ∗ over m c ∗ ∃ W, owes c.tc (last c) W)
      ⊢ wp frame (wpE (defs₀ (F := F)) 𝒱₀ c none) Set.univ (waitPart (F := F) i)
          (fun _ => iprop((mineRows m c fullShare.left ∗ mineRows m c fullShare.right) ∗ (bigSep Finset.univ fun j => came m c j)
            ∗ (bigSep Finset.univ fun j : Fin 8 => semVal (links.cell c (false, j)) 0)
            ∗ (semVal (links.cell c (true, 2)) 0 ∗ semVal (links.cell c (true, 3)) 0 ∗ semVal (links.cell c (true, 4)) 0
              ∗ semVal (links.cell c (true, 5)) 0 ∗ semVal (links.cell c (true, 6)) 0 ∗ semVal (links.cell c (true, 7)) 0)
            ∗ ∃ W, owes c.tc 0 W : sProp 𝕄)) := by
  unfold waitPart over
  rw [dif_pos h]
  simp only [wp_deviceId, eight]
  iintro ⟨#HR, #HL, ⟨Ht6, Ht7⟩, ⟨HR2, HR3, HR4, HR5, HR6, HR7⟩, ⟨HS0, HS1, HS2, HS3, HS4, HS5⟩, ⟨Ho0, Ho1⟩, HO⟩
  iapply (wait_link m κ c (true, 4) (credit_half 4 (by decide)) _ (R := came m c 4) (BIBase.Entails.rfl) (wait_recv c 4 _ (above_last 2 (by decide) c))) $$ [HR4 HO]
  · iframe HR HL HR4 HO
  iintro ⟨Hp, HzR4, HO⟩
  ihave Hp := (Entails.of_eq (came_4 m c)) $$ Hp
  unfold last
  icases HO with ⟨%W, HO⟩
  iapply (pass_on m κ c _ 6 (by decide) (dev7_eq c (k0_dev7_lt i c h)) rfl (credit_half 6 (by decide)) (half_set (off7_eq c)) _ _ rfl W) $$ [Ht6 Hp HO]
  · iframe HR Ht6 Hp HO
  iintro ⟨HS6, HO⟩
  ihave HO := (owes_some c _ W) $$ HO
  iapply (wait_link m κ c (true, 5) (credit_half 5 (by decide)) _ (R := came m c 5) (BIBase.Entails.rfl) (wait_recv c 5 _ (above_add (above_zero 2) c 7 (by decide)))) $$ [HR5 HO]
  · iframe HR HL HR5 HO
  iintro ⟨Hp, HzR5, HO⟩
  ihave Hp := (Entails.of_eq (came_5 m c)) $$ Hp
  icases HO with ⟨%W, HO⟩
  iapply (pass_on m κ c _ 7 (by decide) (dev8_eq c (k0_dev8_lt i c h)) rfl (credit_half 7 (by decide)) (half_set (off7_eq' c)) _ _ rfl W) $$ [Ht7 Hp HO]
  · iframe HR Ht7 Hp HO
  iintro ⟨HS7, HO⟩
  ihave HO := (owes_some c _ W) $$ HO
  iapply (wait_link m κ c (true, 2) (credit_big 2 (by decide)) _ (R := came m c 2) (BIBase.Entails.rfl) (wait_free c _)) $$ [HR2 HO]
  · iframe HR HL HR2 HO
  iintro ⟨HpR2, HzR2, HO⟩
  iapply (wait_link m κ c (true, 3) (credit_big 3 (by decide)) _ (R := came m c 3) (BIBase.Entails.rfl) (wait_free c _)) $$ [HR3 HO]
  · iframe HR HL HR3 HO
  iintro ⟨HpR3, HzR3, HO⟩
  iapply (wait_link m κ c (true, 6) (credit_half 6 (by decide)) _ (R := came m c 6) (BIBase.Entails.rfl) (wait_free c _)) $$ [HR6 HO]
  · iframe HR HL HR6 HO
  iintro ⟨HpR6, HzR6, HO⟩
  iapply (wait_link m κ c (true, 7) (credit_half 7 (by decide)) _ (R := came m c 7) (BIBase.Entails.rfl) (wait_free c _)) $$ [HR7 HO]
  · iframe HR HL HR7 HO
  iintro ⟨HpR7, HzR7, HO⟩
  iapply (wait_link m κ c (false, 0) (credit_own 0 (by decide)) _ (R := mineRows m c fullShare.left) (Entails.of_eq (lent_own m c 0 (by decide))) (wait_free c _)) $$ [HS0 HO]
  · iframe HR HL HS0 HO
  iintro ⟨HpS0, HzS0, HO⟩
  iapply (wait_link m κ c (false, 1) (credit_own 1 (by decide)) _ (R := mineRows m c fullShare.right) (Entails.of_eq (lent_own m c 1 (by decide))) (wait_free c _)) $$ [HS1 HO]
  · iframe HR HL HS1 HO
  iintro ⟨HpS1, HzS1, HO⟩
  iapply (wait_link m κ c (false, 2) (credit_big 2 (by decide)) _ (R := piece c (place 2 c) (part 2) (filled m c)) (Entails.of_eq (lent_pass m c 2 (by decide))) (wait_free c _)) $$ [HS2 HO]
  · iframe HR HL HS2 HO
  iintro ⟨HpS2, HzS2, HO⟩
  iapply (wait_link m κ c (false, 3) (credit_big 3 (by decide)) _ (R := piece c (place 3 c) (part 3) (filled m c)) (Entails.of_eq (lent_pass m c 3 (by decide))) (wait_free c _)) $$ [HS3 HO]
  · iframe HR HL HS3 HO
  iintro ⟨HpS3, HzS3, HO⟩
  iapply (wait_link m κ c (false, 4) (credit_half 4 (by decide)) _ (R := piece c (place 4 c) (part 4) (filled m c)) (Entails.of_eq (lent_pass m c 4 (by decide))) (wait_free c _)) $$ [HS4 HO]
  · iframe HR HL HS4 HO
  iintro ⟨HpS4, HzS4, HO⟩
  iapply (wait_link m κ c (false, 5) (credit_half 5 (by decide)) _ (R := piece c (place 5 c) (part 5) (filled m c)) (Entails.of_eq (lent_pass m c 5 (by decide))) (wait_free c _)) $$ [HS5 HO]
  · iframe HR HL HS5 HO
  iintro ⟨HpS5, HzS5, HO⟩
  iapply (wait_link m κ c (false, 6) (credit_half 6 (by decide)) _ (R := piece c (place 6 c) (part 6) (filled m c)) (Entails.of_eq (lent_pass m c 6 (by decide))) (wait_free c _)) $$ [HS6 HO]
  · iframe HR HL HS6 HO
  iintro ⟨HpS6, HzS6, HO⟩
  iapply (wait_link m κ c (false, 7) (credit_half 7 (by decide)) _ (R := piece c (place 7 c) (part 7) (filled m c)) (Entails.of_eq (lent_pass m c 7 (by decide))) (wait_free c _)) $$ [HS7 HO]
  · iframe HR HL HS7 HO
  iintro ⟨HpS7, HzS7, HO⟩
  rw [wp_ret]; imodintro
  isplitl [HpS0 HpS1]
  · iframe HpS0 HpS1
  isplitl [HpS2 HpS3 HpS4 HpS5 HpS6 HpS7 HpR2 HpR3 HpR6 HpR7 Ho0 Ho1]
  · isplitl [HpS2 HpS4 Ho0]
    · iapply (came_0 m c).2
      iframe HpS2 HpS4 Ho0
    isplitl [HpS3 HpS5 Ho1]
    · iapply (came_1 m c).2
      iframe HpS3 HpS5 Ho1
    isplitl [HpR2]; · iexact HpR2
    isplitl [HpR3]; · iexact HpR3
    isplitl [HpS6]; · iapply (Entails.of_eq (came_4 m c).symm); iexact HpS6
    isplitl [HpS7]; · iapply (Entails.of_eq (came_5 m c).symm); iexact HpS7
    iframe HpR6 HpR7
  isplitl [HzS0 HzS1 HzS2 HzS3 HzS4 HzS5 HzS6 HzS7]
  · iframe HzS0 HzS1 HzS2 HzS3 HzS4 HzS5 HzS6 HzS7
  isplitl [HzR2 HzR3 HzR4 HzR5 HzR6 HzR7]
  · iframe HzR2 HzR3 HzR4 HzR5 HzR6 HzR7
  iexact HO

end Cert.Nm

end
-- ==== Proof.NmBody.lean ====
/-
# The body of `mlp_norm_fwd` at every grid point

The schedule of the call on device `c`, its window contents, and the body's obligation: what a grid point is given and
what it leaves. Before the first point nothing is sent (`Start`); then the own rows are on the way (`Sent`); from point 9 on
what came first is passed on (`Relayed`); after the last point all has landed (`Done`).
-/
module

public import proofs.«01_k».proof.Proof.NmSteps
public import proofs.«01_k».proof.Proof.Gen.NmKernelIdeal.Points
public import proofs.«01_k».proof.Proof.Gen.NmKernelIdeal.Regions
public import Idealize.ShloMosaic.Lib.Pipeline.FrameBody

@[expose] public section

noncomputable section

namespace Cert.Nm

open Cert.NmKernelIdeal Cert.NmKernelIdeal.Gen
open Idealize.ShloMosaic
open Idealize.ShloMosaic.Pipeline
open Idealize.ShloMosaic.TcCoe
open Idealize.SL Idealize.SL.RA Idealize.SL.BI
open BIBase Laws ProofMode Sem
open Idealize.ShloMosaic.Rounds
open Cert.Exchange (Links UU EP ER records L records ranks ticket seats hand due)

variable {F : FTy → Type} [FloatOps F]

local notation "𝕄" => MT nD τ sig Unit (Elt F) ℕ (UU nD sig τ) ℕ

variable (m : (ℓ : Loc nD τ sig) → Buf (Elt F) ℓ)

/-! ## The states -/

/-- The buffers that the host operations after the call write, as they are before it. -/
def hostRest (c : Dev nD) (W : Valuation τ sig (Elt F)) : sProp 𝕄 :=
  bigSep hostOps1_W.toFinset fun b => (c.tc.loc b) ↦{fullShare} W (Proc.devRef .tc b)

/-- What no transfer touches: the rows that are not sent, the layer of the own chip, and those buffers. -/
def aside (c : Dev nD) : sProp 𝕄 := iprop(kept m c ∗ ownLayer c (filled m c) ∗ hostRest c (V0 m c))

/-- The protocol's standing facts. -/
def know : sProp 𝕄 := iprop((∃ κ, records links (pay m) κ) ∗ levAts L (ranks links rank))

/-- The memory a device brings to the exchange: what it sends, its peers' landing places, and what no transfer touches. -/
def mine (c : Dev nD) : sProp 𝕄 :=
  iprop((mineRows m c fullShare.left ∗ mineRows m c fullShare.right) ∗ (bigSep Finset.univ fun j => room (peer j c) j) ∗ aside m c)

/-- Before the first grid point. -/
def Start (c : Dev nD) : sProp 𝕄 :=
  iprop(know m ∗ (bigSep Finset.univ fun j => ready c j) ∗ (bigSep Finset.univ fun j => pending c (true, j))
    ∗ (mineRows m c fullShare.left ∗ mineRows m c fullShare.right) ∗ aside m c)

/-- From the first to point 9. -/
def Sent (c : Dev nD) : sProp 𝕄 :=
  iprop(know m ∗ (ready c 2 ∗ ready c 3 ∗ ready c 4 ∗ ready c 5) ∗ (ready c 6 ∗ ready c 7) ∗ (pending c (false, 0) ∗ pending c (false, 1))
    ∗ (pending c (true, 0) ∗ pending c (true, 1))
    ∗ (pending c (true, 2) ∗ pending c (true, 3) ∗ pending c (true, 4) ∗ pending c (true, 5) ∗ pending c (true, 6) ∗ pending c (true, 7)) ∗ aside m c)

/-- From there to the last. -/
def Relayed (c : Dev nD) : sProp 𝕄 :=
  iprop(know m ∗ (ready c 6 ∗ ready c 7) ∗ (pending c (false, 0) ∗ pending c (false, 1)) ∗ (pending c (false, 2) ∗ pending c (false, 3) ∗ pending c (false, 4) ∗ pending c (false, 5))
    ∗ (pending c (true, 2) ∗ pending c (true, 3) ∗ pending c (true, 4) ∗ pending c (true, 5) ∗ pending c (true, 6) ∗ pending c (true, 7))
    ∗ (semVal (links.cell c (true, 0)) 0 ∗ semVal (links.cell c (true, 1)) 0) ∗ over m c ∗ aside m c)

/-- After the last. -/
def Done (c : Dev nD) : sProp 𝕄 :=
  iprop((mineRows m c fullShare.left ∗ mineRows m c fullShare.right) ∗ (bigSep Finset.univ fun j => came m c j) ∗ aside m c
    ∗ (bigSep Finset.univ fun j : Fin 8 => semVal (links.cell c (false, j)) 0) ∗ (bigSep Finset.univ fun j : Fin 8 => semVal (links.cell c (true, j)) 0))

/-! ## The schedule -/

/-- The arrays as launched, and each window's block at a point. -/
abbrev V (c : Dev nD) (b : Ref sig .tc) : Buf (Elt F) ((c.tc : Thread nD τ).loc b) := V0 m c (Proc.devRef .tc b)
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The state and what is owed when `n` points are done. -/
def state (c : Dev nD) (n : ℕ) : sProp 𝕄 := if n = 0 then Start m c else if n < 10 then Sent m c else if n < 16 then Relayed m c else Done m c
def owing (c : Dev nD) (n : ℕ) : CellTallies nD τ sig Unit := if n = 0 then due links c else if n < 10 then later c else if n < 16 then last c else 0

def dats (_ : Fin 1) (c : Dev nD) : Dat τ (Elt F) Unit ℕ (UU nD sig τ) ℕ cfg0 c where
  A w := V m c (Pipeline.arrRef spec0 w)
  after w t := match w with
    | ⟨0, _⟩ => iblk m c 0 t
    | ⟨1, _⟩ => iblk m c 1 t
    | ⟨2, _⟩ => outBlock (iblk m c 0 t) (iblk m c 1 t)
  Φ t := state m c t.val
  q _ := fullShare
  owed t := owing c t.val

/-- The two windows that are read hold their blocks at every point, fetched there or before. -/
theorem before_0 (c : Dev nD) (t : Fin cfg0.N) (d) : (dats m 0 c).before 0 t d = iblk m c 0 t :=
  ((dats m 0 c).before_in_eq_fetched 0 rfl (fun _ => rfl) (fun _ _ _ => rfl) (fun _ => rfl) t d).trans rfl
theorem before_1 (c : Dev nD) (t : Fin cfg0.N) (d) : (dats m 0 c).before 1 t d = iblk m c 1 t :=
  ((dats m 0 c).before_in_eq_fetched 1 rfl (fun _ => rfl) (fun _ _ _ => rfl) (fun _ => rfl) t d).trans rfl

/-! ## The obligation -/

/-- What a device owes, the pairs it has waited on left open. -/
theorem owesAt_intro (c : Dev nD) (t : Fin (cfg0.N + 1)) (O : CellTallies nD τ sig Unit) (hO : owing c t.val = O) :
    (iprop(∃ W, owes c.tc O W) : sProp 𝕄) ⊢ (dats m 0 c).owesAt () t := by
  unfold Dat.owesAt Pipeline.owesWithin
  rw [show (dats m 0 c).owed t = O from hO]
  iintro ⟨%W, H⟩
  iexists W
  isplitr
  · ipureintro; exact fun _ _ => Or.inl trivial
  iexact H
theorem owesAt_elim (c : Dev nD) (t : Fin (cfg0.N + 1)) :
    (dats m 0 c).owesAt () t ⊢ iprop(∃ W, owes c.tc (owing c t.val) W) := by
  unfold Dat.owesAt Pipeline.owesWithin
  iintro ⟨%W, %hW, H⟩
  iexists W; iexact H

/-- The state and the debts within a grid point: after its first part, and after the third. -/
def held₁ (c : Dev nD) (n : ℕ) : sProp 𝕄 := iprop(state m c (if n = 0 then 1 else n) ∗ ∃ W, owes c.tc (owing c (if n = 0 then 1 else n)) W)
def held₂ (c : Dev nD) (n : ℕ) : sProp 𝕄 := iprop(state m c (if n = 15 then 15 else n + 1) ∗ ∃ W, owes c.tc (owing c (if n = 15 then 15 else n + 1)) W)

theorem send_point (c : Dev nD) (t : Fin cfg0.N) :
    iprop((dats m 0 c).Φ t.castSucc ∗ (dats m 0 c).owesAt () t.castSucc)
      ⊢ wp frame (wpE (defs₀ (F := F)) 𝒱₀ c none) Set.univ (sendPart (F := F) (grid0.coords t)) (fun _ => held₁ m c t.val) := by
  refine BIBase.Entails.trans (sep_mono .rfl (owesAt_elim m c t.castSucc)) ?_
  show iprop(state m c t.val ∗ ∃ W, owes c.tc (owing c t.val) W) ⊢ _
  unfold held₁
  by_cases h : t.val = 0
  · rw [if_pos h, show state m c t.val = Start m c from if_pos h, show owing c t.val = due links c from if_pos h]
    show _ ⊢ wp frame (wpE (defs₀ (F := F)) 𝒱₀ c none) Set.univ (sendPart (F := F) (grid0.coords t)) fun _ => iprop(Sent m c ∗ ∃ W, owes c.tc (later c) W)
    unfold Start know
    simp only [eight]
    iintro ⟨⟨⟨⟨%κ, #HR⟩, #HL⟩, ⟨H0, H1, H2, H3, H4, H5, H6, H7⟩, ⟨P0, P1, P2, P3, P4, P5, P6, P7⟩, Hs, Hk⟩, ⟨%W, HO⟩⟩
    iapply (wp_wand frame (wpE (defs₀ (F := F)) 𝒱₀ c none) Set.univ) $$ [H0 H1 Hs HO]
    · iapply (send_step m κ c (grid0.coords t) ((sends_iff t).mpr h) W)
      iframe HR H0 H1 Hs HO
    iintro %a ⟨Hc0, Hc1, HO⟩
    unfold Sent know
    isplitr [HO]
    · isplitr
      · isplitr; · (iexists κ; iexact HR)
        iexact HL
      iframe H2 H3 H4 H5 H6 H7 Hc0 Hc1 P0 P1 P2 P3 P4 P5 P6 P7 Hk
    · iexists W; iexact HO
  · unfold sendPart
    rw [if_neg h, dif_neg fun h' => h ((sends_iff t).mp h'), wp_ret]
    iintro H
    imodintro
    iexact H

theorem pass_point (c : Dev nD) (t : Fin cfg0.N) :
    held₁ m c t.val ⊢ wp frame (wpE (defs₀ (F := F)) 𝒱₀ c none) Set.univ (passPart (F := F) (grid0.coords t)) (fun _ => held₂ m c t.val) := by
  have hN : t.val < 16 := lt_of_lt_of_eq t.isLt N_0
  unfold held₁ held₂
  by_cases h : t.val = 9
  · rw [h]
    show iprop(Sent m c ∗ ∃ W, owes c.tc (later c) W)
      ⊢ wp frame (wpE (defs₀ (F := F)) 𝒱₀ c none) Set.univ (passPart (F := F) (grid0.coords t)) fun _ => iprop(Relayed m c ∗ ∃ W, owes c.tc (last c) W)
    unfold Sent know
    iintro ⟨⟨⟨⟨%κ, #HR⟩, #HL⟩, H25, H67, S01, P01, P27, Hk⟩, HO⟩
    iapply (wp_wand frame (wpE (defs₀ (F := F)) 𝒱₀ c none) Set.univ) $$ [H25 P01 HO]
    · iapply (pass_step m κ c (grid0.coords t) ((passes_iff t).mpr h))
      iframe HR HL H25 P01 HO
    iintro %a ⟨S25, Z01, Ho, HO⟩
    unfold Relayed know
    isplitr [HO]
    · isplitr
      · isplitr; · (iexists κ; iexact HR)
        iexact HL
      iframe H67 S01 S25 P27 Z01 Ho Hk
    iexact HO
  · have hs : state m c (if t.val = 0 then 1 else t.val) = state m c (if t.val = 15 then 15 else t.val + 1)
        ∧ owing c (if t.val = 0 then 1 else t.val) = owing c (if t.val = 15 then 15 else t.val + 1) := by
      unfold state owing
      constructor <;> (repeat' split) <;> first | rfl | (exfalso; omega)
    unfold passPart
    rw [dif_neg fun h' => h ((passes_iff t).mp h'), wp_ret, hs.1, hs.2]
    iintro H
    imodintro
    iexact H

theorem wait_point (c : Dev nD) (t : Fin cfg0.N) :
    held₂ m c t.val ⊢ wp frame (wpE (defs₀ (F := F)) 𝒱₀ c none) Set.univ (waitPart (F := F) (grid0.coords t))
      (fun _ => iprop((dats m 0 c).Φ t.succ ∗ (dats m 0 c).owesAt () t.succ : sProp 𝕄)) := by
  unfold held₂
  by_cases h : t.val = 15
  · have hΦ : (dats m 0 c).Φ t.succ = Done m c := by
      show state m c (t.val + 1) = Done m c
      rw [h]; rfl
    have hO : owing c t.succ.val = 0 := by
      show owing c (t.val + 1) = 0
      rw [h]; rfl
    rw [hΦ, if_pos h]
    show iprop(Relayed m c ∗ ∃ W, owes c.tc (last c) W) ⊢ _
    unfold Relayed know
    iintro ⟨⟨⟨⟨%κ, #HR⟩, #HL⟩, H67, S01, S25, P27, Z01, Ho, Hk⟩, HO⟩
    icases S01 with ⟨S0, S1⟩
    iapply (wp_wand frame (wpE (defs₀ (F := F)) 𝒱₀ c none) Set.univ) $$ [H67 S0 S1 S25 P27 Ho HO]
    · iapply (wait_step m κ c (grid0.coords t) ((waits_iff t).mpr h))
      iframe HR HL H67 P27 S0 S1 S25 Ho HO
    iintro %a ⟨Hl, Hd, HzS, HzR, HO⟩
    isplitr [HO]
    · unfold Done
      rw [eight fun j => semVal (links.cell c (true, j)) 0]
      icases Z01 with ⟨Z0, Z1⟩
      iframe Hl Hd Hk HzS Z0 Z1 HzR
    · iapply (owesAt_intro m c t.succ 0 hO); iexact HO
  · unfold waitPart
    rw [dif_neg fun h' => h ((waits_iff t).mp h'), wp_ret, if_neg h]
    iintro ⟨H, HO⟩
    imodintro
    isplitl [H]
    · iapply (Entails.of_eq (show state m c (t.val + 1) = (dats m 0 c).Φ t.succ from rfl)); iexact H
    iapply (owesAt_intro m c t.succ _ rfl); iexact HO

theorem body_obligation (c : Dev nD) : BodyObligation (dats (F := F) m 0 c) (defs₀ (F := F)) 𝒱₀ () Set.univ := fun t => by
  rw [bigSep_W0, bigSep_W0]
  show _ ⊢ wp frame (wpE (defs₀ (F := F)) 𝒱₀ c none) Set.univ (bodyAt0 (F := F) t) _
  rw [body_eq, wp_bind]
  iintro ⟨HΦ, HO, ⟨%d0, H0⟩, ⟨%d1, H1⟩, ⟨%d2, H2⟩⟩
  iapply (wp_wand frame (wpE (defs₀ (F := F)) 𝒱₀ c none) Set.univ) $$ [HΦ HO]
  · iapply (send_point m c t)
    iframe HΦ HO
  iintro %a HS
  rw [wp_bind]
  iapply (wp_wand frame (wpE (defs₀ (F := F)) 𝒱₀ c none) Set.univ) $$ [H0 H1 H2]
  · iapply (work_step c (st0_0 t) (st0_1 t) (st0_2 t) _ (iblk m c 0 t) (iblk m c 1 t) _)
    isplitl [H0]; · (iapply (Entails.of_eq (congrArg _ (before_0 m c t d0))); iexact H0)
    isplitl [H1]; · (iapply (Entails.of_eq (congrArg _ (before_1 m c t d1))); iexact H1)
    iexact H2
  iintro %a' ⟨H0, H1, H2⟩
  rw [wp_bind]
  iapply (wp_wand frame (wpE (defs₀ (F := F)) 𝒱₀ c none) Set.univ) $$ [HS]
  · iapply (pass_point m c t); iexact HS
  iintro %a'' HS
  iapply (wp_wand frame (wpE (defs₀ (F := F)) 𝒱₀ c none) Set.univ) $$ [HS]
  · iapply (wait_point m c t); iexact HS
  iintro %a3 ⟨HΦ, HO⟩
  isplitl [HΦ]; · iexact HΦ
  isplitl [HO]; · iexact HO
  isplitl [H0]; · iexact H0
  isplitl [H1]; · iexact H1
  iexact H2

end Cert.Nm

end
-- ==== Proof.NmHost.lean ====
/-
# The host operations after `mlp_norm_fwd`

After the call each device cuts the rows that were gathered out of the gathered array, and out of its own `main_arg2`, and
fills the layer of its own chip: a select between the two cuts, by the layer's number. `merged` is the result.
-/
module

public import proofs.«01_k».proof.Proof.NmBody
public import Idealize.ShloMosaic.Lib.Pointwise

@[expose] public section

noncomputable section

namespace Cert.Nm

open Cert.NmKernelIdeal Cert.NmKernelIdeal.Gen
open Idealize.ShloMosaic
open Idealize.ShloMosaic.Pipeline
open Idealize.ShloMosaic.TcCoe
open Idealize.SL Idealize.SL.RA Idealize.SL.BI
open BIBase Laws ProofMode Sem
open Idealize.ShloMosaic.Rounds
open Cert.Exchange (Links UU EP ER records L records ranks ticket seats hand due)

variable {F : FTy → Type} [FloatOps F]

local notation "𝕄" => MT nD τ sig Unit (Elt F) ℕ (UU nD sig τ) ℕ

variable (m : (ℓ : Loc nD τ sig) → Buf (Elt F) ℓ)

/-- Row `r` of the band of half `h` of a matrix's rows. -/
def bandRow (h : Fin 2) (r : Fin 384) : Fin 4096 := ⟨h.val * 2048 + (1664 + r.val), by omega⟩

/-- The second result: the own rows in the layer of the own chip, what was gathered in the others. -/
def merged (c : Dev nD) : Vec F S4x2x384x4096 .bf16 := fun i =>
  if (i 0).val = c.val / 2 then m (c.tc.loc main_arg2) (ix2 (bandRow (i 1) (i 2)) (i 3)) else filled m c (ix3 (i 0) (bandRow (i 1) (i 2)) (i 3))

theorem cut_apply (X : Vec F S4x4096x4096 .bf16) (s : Fin 4) (h : Fin 2) (r : Fin 384) (q : Fin 4096) :
    extractStridedSlice S4x2x384x4096 ![0, 0, 1664, 0] (shapeCast S4x2x2048x4096 X shapeCasts_S4x4096x4096_S4x2x2048x4096)
      slices_S4x2x2048x4096_S4x2x384x4096_0_0_1664_0 (ix4 s h r q) = X (ix3 s (bandRow h r) q) := by
  pointwise [bandRow]

theorem cut_own (X : Vec F S4096x4096 .bf16) (h : Fin 2) (r : Fin 384) (q : Fin 4096) :
    extractStridedSlice S2x384x4096 ![0, 1664, 0] (shapeCast S2x2048x4096 X shapeCasts_S4096x4096_S2x2048x4096)
      slices_S2x2048x4096_S2x384x4096_0_1664_0 (ix3 h r q) = X (ix2 (bandRow h r) q) := by
  pointwise [bandRow]

/-- A select between one layer laid under every layer and a whole array. -/
theorem merge_apply (k : Vec F S4x2x384x4096 .i1) (A : Vec F S2x384x4096 .bf16) (B : Vec F S4x2x384x4096 .bf16) (s : Fin 4) (h : Fin 2) (r : Fin 384) (q : Fin 4096) :
    select k (broadcastInDim S4x2x384x4096 ![1, 2, 3] bcast_S2x384x4096_S4x2x384x4096_1_2_3 A) B (ix4 s h r q)
      = if k (ix4 s h r q) = 1#1 then A (ix3 h r q) else B (ix4 s h r q) := by
  have e : (fun x => (broadcastInDim S4x2x384x4096 ![1, 2, 3] bcast_S2x384x4096_S4x2x384x4096_1_2_3 A) x) (ix4 s h r q) = A (ix3 h r q) := by
    refine congrArg A (funext fun x => ?_)
    fin_cases x <;> rfl
  exact congrArg (fun z => if k (ix4 s h r q) = 1#1 then z else B (ix4 s h r q)) e

/-- The program after the call. -/
abbrev fill (c : Dev nD) : Prog (TpuEff nD τ sig (Elt F) (Pipeline.Sig Λ₀ (Fin 1) fun p => (pcfgs (F := F) p).Adm) .tc) PUnit :=
  StableHlo.seq (hostOps1 c) >>= fun _ => .ret ⟨⟩

/-- The buffers it touches, and what they hold before it. -/
abbrev touchedRefs : List (Ref sig .tc) := main_arg2 :: main_v1_1 :: hostOps1_W
abbrev touched : Finset (DevRef τ sig) := touchedRefs.toFinset.image (Proc.devRef .tc)
def before (c : Dev nD) : Valuation τ sig (Elt F) := Function.update (V0 m c) (Proc.devRef .tc main_v1_1) (filled m c)

theorem bigSep_touched (Φ : Ref sig .tc → sProp 𝕄) :
    bigSep touchedRefs.toFinset Φ = iprop(Φ main_arg2 ∗ Φ main_v1_1 ∗ bigSep hostOps1_W.toFinset Φ) := by
  rw [List.toFinset_cons, bigSep_insert (by decide), List.toFinset_cons, bigSep_insert (by decide)]
  rfl

theorem held_touched (c : Dev nD) (W : Valuation τ sig (Elt F)) :
    (StableHlo.held c.tc touched W : sProp 𝕄)
      = iprop((c.tc.loc main_arg2 ↦{fullShare} W (Proc.devRef .tc main_arg2))
        ∗ (c.tc.loc main_v1_1 ↦{fullShare} W (Proc.devRef .tc main_v1_1)) ∗ hostRest c W) := by
  unfold StableHlo.held touched
  rw [bigSep_image_of_injOn (Proc.devRef_injective _).injOn]
  exact bigSep_touched fun b => (c.tc.loc b) ↦{fullShare} W (Proc.devRef .tc b)

theorem touch {x : Ref sig .tc} (h : x ∈ touchedRefs) : Proc.devRef (τ := τ) .tc x ∈ touched :=
  Finset.mem_image_of_mem _ (List.mem_toFinset.mpr h)

theorem fill_bufs (c : Dev nD) : ((hostOps1 c) : List (HloOp τ sig (Elt F))).Forall fun op => op.bufs ⊆ touched := by
  simp only [List.Forall, StableHlo.nullary_bufs, StableHlo.unary_bufs, StableHlo.binary_bufs, StableHlo.ternary_bufs, StableHlo.reshape_bufs, Finset.insert_subset_iff, Finset.singleton_subset_iff]
  repeat' apply And.intro
  all_goals exact touch (by decide)

/-- The comparison that the operations compute picks the layer of the own chip. -/
theorem picks (c : Dev nD) (s : Fin 4) : IntOp.cmpi .eq (BitVec.ofNat 32 s.val)
    (IntOp.addi (IntOp.addi 0#32 (IntOp.muli (IntOp.remui .host (IntOp.divui .host (Dev.word c) 2#32) 2#32) 1#32))
      (IntOp.muli (IntOp.remui .host (IntOp.divui .host (Dev.word c) 4#32) 2#32) 2#32)) = 1#1 ↔ s.val = c.val / 2 := by
  revert c s; decide +kernel

theorem before_land (c : Dev nD) : before m c (Proc.devRef .tc main_v1_1) = filled m c := Function.update_self ..
theorem before_other (c : Dev nD) (r : Ref sig .tc) (h : r ≠ main_v1_1) : before m c (Proc.devRef .tc r) = V0 m c (Proc.devRef .tc r) :=
  Function.update_of_ne (StableHlo.devRef_ne_of_ne h) ..

theorem after_out (c : Dev nD) : StableHlo.after (hostOps1 c) (before m c) (Proc.devRef .tc main_v22) = merged m c := by
  after_results
  rw [before_land, before_other m c main_arg2 (by decide)]
  funext i
  obtain ⟨s, b, r, q, rfl⟩ : ∃ (s : Fin 4) (b : Fin 2) (r : Fin 384) (q : Fin 4096), i = ix4 s b r q := ⟨i 0, i 1, i 2, i 3, eq_ix4 i⟩
  exact (merge_apply _ _ _ s b r q).trans (if_congr (picks c s) (cut_own (m (c.tc.loc main_arg2)) b r q) (cut_apply (filled m c) s b r q))

theorem after_arg (c : Dev nD) : StableHlo.after (hostOps1 c) (before m c) (Proc.devRef .tc main_arg2) = m (c.tc.loc main_arg2) :=
  (StableHlo.after_of_writes_sub _ _ (hostOps1_writes c) (by decide)).trans (before_other m c main_arg2 (by decide))

end Cert.Nm

end
-- ==== Proof.NmRun.lean ====
/-
# The run of `mlp_norm_fwd`

On the eight devices, for any float values and from any memory with zero counters: every weakly fair execution ends, with
each device's product array at what its grid points wrote, its second result at the rows of every chip, its arguments
unchanged and every counter at zero.
-/
module

public import proofs.«01_k».proof.Proof.NmHost
public import proofs.«01_k».proof.Proof.Exchange

@[expose] public section

noncomputable section

namespace Cert.Nm

open Cert.NmKernelIdeal Cert.NmKernelIdeal.Gen
open Idealize.ShloMosaic
open Idealize.ShloMosaic.Pipeline
open Idealize.ShloMosaic.TcCoe
open Idealize.SL Idealize.SL.RA Idealize.SL.BI
open BIBase Laws ProofMode Sem
open Idealize.ShloMosaic.Rounds
open Cert.Exchange (Links UU EP ER records L ranks ticket seats hand due begins allCells allToks ghosts shared)

variable {F : FTy → Type} [FloatOps F]

local notation "𝕄" => MT nD τ sig Unit (Elt F) ℕ (UU nD sig τ) ℕ

variable (m : (ℓ : Loc nD τ sig) → Buf (Elt F) ℓ) (ρ : Dev nD → PrngReg)

/-! ## What the launch theorem asks for -/

theorem ownSemFacts : Pipeline.OwnSemFacts cfg0.spec links.osem := by decide

theorem share_eq (c : Dev nD) (w : Fin cfg0.W) : (dats m 0 c).share w = fullShare := by unfold Dat.share; split <;> rfl

/-- Every debt there ever is has a rank, so the staging cells, which have none, may be waited for throughout. -/
theorem owing_above (c : Dev nD) (n : ℕ) : Above 0 (owing c n) := by
  unfold owing
  split
  · exact above_due c
  split
  · exact above_later 0 (by decide) c
  split
  · exact above_last 0 (by decide) c
  · exact above_zero 0

theorem waits (c : Dev nD) : (levAts L (ranks links rank) : sProp 𝕄) ⊢ Pipeline.cellsWaits cfgs (dats m) () 0 c :=
  Pipeline.cellsWaits_intro cfgs (dats m) () 0 c fun w s t =>
    Cert.Exchange.may_wait links rank c _ 0 (Cert.Exchange.ranks_other links rank c _ (by fin_cases w <;> fin_cases s <;> decide)).le _ (owing_above c t.val)

/-- The memory no window stages, as a device brings it. -/
def rest (c : Dev nD) : sProp 𝕄 := Pipeline.unscopedRest spec0 c (V m c)

theorem rest_eq (c : Dev nD) : rest m c = iprop((c.tc.loc main_arg2 ↦{fullShare} m (c.tc.loc main_arg2))
    ∗ (c.tc.loc main_v1_1 ↦{fullShare} m (c.tc.loc main_v1_1)) ∗ hostRest c (V0 m c)) := by
  have h : (Finset.univ.filter fun b : Ref sig .tc => ¬ b.isScoped) \ Finset.univ.image (Pipeline.arrRef spec0) = touchedRefs.toFinset := by decide
  unfold rest Pipeline.unscopedRest
  rw [h]
  exact bigSep_touched fun b => (c.tc.loc b) ↦{fullShare} V m c b

/-- The landing places dealt across the links. -/
theorem deal : (bigSep Finset.univ (rest m) : sProp 𝕄) ⊢ bigSep Finset.univ (mine m) := by
  have h (c : Dev nD) : rest m c ⊢ iprop(((mineRows m c fullShare.left ∗ mineRows m c fullShare.right) ∗ aside m c) ∗ bigSep Finset.univ fun j => room c j : sProp 𝕄) := by
    have hr : (bigSep Finset.univ fun j => piece c (landing j c) fullShare (m (c.tc.loc main_v1_1)) : sProp 𝕄) ⊢ bigSep Finset.univ fun j => room c j :=
      bigSep_mono fun j _ => by
        show (piece c (landing j c) fullShare (m (c.tc.loc main_v1_1)) : sProp 𝕄) ⊢ iprop(∃ f, piece c (landing j c) fullShare f)
        iintro H; iexists _; iexact H
    rw [rest_eq]
    unfold aside
    rw [← ownLayer_eq m c]
    iintro ⟨H2, HB, HV⟩
    ihave H2 := (arg2_split m c).1 $$ H2
    ihave HB := (buffer_split c (m (c.tc.loc main_v1_1))).1 $$ HB
    icases H2 with ⟨Hs, Hk⟩
    icases HB with ⟨Hl, Ho⟩
    isplitr [Hl]
    · iframe Hs Hk Ho HV
    iapply hr; iexact Hl
  refine Cert.Exchange.deal_across links room h fun c => ?_
  show iprop(_ ∗ bigSep Finset.univ fun j => room (peer j c) j) ⊢ mine m c
  unfold mine
  iintro ⟨⟨H1, H2⟩, H3⟩
  iframe H1 H3 H2

/-- What a device holds when the call begins, the levels with it. -/
def X (c : Dev nD) : sProp 𝕄 := iprop(begins links (pay m) (mine m) c ∗ levAts L (ranks links rank))

theorem begin_all : iprop((bigSep Finset.univ fun c => Cert.Exchange.shared (fun p => (cfgs p).toPCfg) (fun p => (cfgs p).toPCfg_adm) (0 : Fin 1) m (due links) links.osem c)
    ∗ levAts L (ranks links rank) ∗ ghosts links (pay m)) ⊢ |={Set.univ}=> (bigSep Finset.univ (X m) : sProp 𝕄) := by
  have hl : (levAts L (ranks links rank) : sProp 𝕄) ⊢ bigSep Finset.univ fun _ : Dev nD => levAts L (ranks links rank) :=
    BI.bigSep_of_persistent _ _
  unfold X
  rw [bigSep_sep']
  iintro ⟨H, #HL, HG⟩
  imod (Cert.Exchange.launch_all links (pay m) (rest m) (mine m) (deal m)) $$ [$H $HL $HG] with HB
  imodintro
  isplitl [HB]; · iexact HB
  iapply hl; iexact HL

/-- What it holds of the arrays no window stages when the call has ended, and at the end of the program. -/
def Y (c : Dev nD) : sProp 𝕄 :=
  iprop((c.tc.loc main_arg2 ↦{fullShare} m (c.tc.loc main_arg2))
    ∗ (c.tc.loc main_v1_1 ↦{fullShare} (filled m c : Buf (Elt F) (c.tc.loc main_v1_1))) ∗ hostRest c (V0 m c))
def Z (c : Dev nD) : sProp 𝕄 :=
  iprop((c.tc.loc main_arg2 ↦{fullShare} m (c.tc.loc main_arg2))
    ∗ (c.tc.loc main_v22 ↦{fullShare} (merged m c : Buf (Elt F) (c.tc.loc main_v22))))

theorem phi_start (c : Dev nD) : iprop(X m c ∗ Pipeline.scopedRest spec0 c) ⊢ (dats m 0 c).Φ 0 := by
  show iprop(X m c ∗ Pipeline.scopedRest spec0 c) ⊢ Start m c
  unfold Start X begins mine know hand ready pending seats
  simp only [bigSep_sep']
  iintro ⟨⟨⟨#HR, ⟨Ht, ⟨Ha, Hb⟩, Hc⟩, Hs, Hd, Hk⟩, #HL⟩, -⟩
  isplitr
  · iframe HR HL
  iframe Ht Ha Hd Hc Hb Hs Hk

theorem phi_end (c : Dev nD) :
    (dats m 0 c).Φ (Fin.last cfg0.N) ⊢ iprop(Y m c ∗ Pipeline.ownSems0 links.osem c ∗ Pipeline.scopedRest spec0 c) := by
  have hΦ : (dats m 0 c).Φ (Fin.last cfg0.N) = Done m c := by
    show state m c cfg0.N = Done m c
    rw [show cfg0.N = 16 from N_0]; rfl
  have hs : (Pipeline.ownSems0 links.osem c : sProp 𝕄)
      = iprop((bigSep Finset.univ fun j : Fin 8 => semVal (links.cell c (false, j)) 0) ∗ (bigSep Finset.univ fun j : Fin 8 => semVal (links.cell c (true, j)) 0)) := by
    unfold Pipeline.ownSems0
    exact Cert.Exchange.ends links fun k => semVal (links.cell c k) 0
  rw [hΦ, scopedRest0_eq, hs]
  unfold Done aside Y
  iintro ⟨Hl, Hd, ⟨Hk, Ho, HV⟩, HzS, HzR⟩
  isplitl [Hl Hk Hd Ho HV]
  · isplitl [Hl Hk]
    · iapply (arg2_split m c).2
      iframe Hl Hk
    isplitl [Hd Ho]
    · iapply (buffer_split c (filled m c)).2
      isplitl [Hd]; · iexact Hd
      iexact Ho
    iexact HV
  isplitl [HzS HzR]
  · iframe HzS HzR
  iempintro

/-- The final memory of two arrays no window stages. -/
def QY (c : Dev nD) (s : MemSt nD τ sig (Elt F)) : Prop :=
  s.mem (c.tc.loc main_arg2) = m (c.tc.loc main_arg2) ∧ s.mem (c.tc.loc main_v22) = merged m c

theorem read_end (c : Dev nD) (s' : Phys nD τ sig (Elt F)) :
    iprop(Z m c ∗ SI s') ⊢ |={Set.univ}=> iprop(⌜QY m c s'.mem⌝ ∗ SI s' : sProp 𝕄) := by
  unfold Z
  iintro ⟨⟨H2, H3⟩, HSI⟩
  ihave %h2 := Cert.Exchange.read_whole $$ [$HSI $H2]
  ihave %h3 := Cert.Exchange.read_whole $$ [$HSI $H3]
  imodintro
  isplitr
  · ipureintro
    exact ⟨h2, h3⟩
  iexact HSI

/-! ## The host operations after the call -/

theorem fill_run (c : Dev nD) :
    iprop(boundary c.tc ∗ Y m c)
      ⊢ wp frame (wpE (defs (F := F)) (Variants.lift 𝒱₀) c.tc none) Set.univ (fill c)
          (fun _ : PUnit => iprop(scopedSems0 c.tc ∗ Z m c : sProp 𝕄)) := by
  have hb : (hostRest c (before m c) : sProp 𝕄) = hostRest c (V0 m c) :=
    bigSep_congr fun b hb => congrArg _ (before_other m c b fun h => absurd (h ▸ List.mem_toFinset.mp hb : main_v1_1 ∈ hostOps1_W) (by decide))
  have ho (W : Valuation τ sig (Elt F)) : (hostRest c W : sProp 𝕄) ⊢ (c.tc.loc main_v22 ↦{fullShare} W (Proc.devRef .tc main_v22)) :=
    BI.bigSep_elim (by decide : main_v22 ∈ hostOps1_W.toFinset)
  unfold Y
  iintro ⟨Hb, H⟩
  iapply (StableHlo.wp_seq (defs := defs (F := F)) (𝒱 := Variants.lift 𝒱₀) (bd := none) (E := Set.univ) c touched (fun _ => .ret ⟨⟩) (hostOps1 c)
    (List.forall_iff_forall_mem.mp (fill_bufs c)) (List.forall_iff_forall_mem.mp (hostOps1_fresh c)) (before m c)) $$ [Hb H]
  · isplitl [Hb]; · iexact Hb
    rw [held_touched, before_land, before_other m c main_arg2 (by decide), hb]
    iexact H
  iintro ⟨Hb, HS⟩
  ihave HS := (Entails.of_eq (held_touched c (StableHlo.after (hostOps1 c) (before m c)))) $$ HS
  icases HS with ⟨H2, -, HV⟩
  ihave HV := (ho _) $$ HV
  rw [after_arg, after_out, wp_ret]
  unfold boundary Z
  icases Hb with ⟨-, Hs, -⟩
  imodintro
  iframe Hs H2 HV

/-- What a final state is: every staged array at the schedule's contents, and the others as said. -/
def QC (r : PUnit × MemSt nD τ sig (Elt F)) : Prop :=
  ∀ c : Dev nD, (∀ w : Fin cfg0.W, r.2.mem ((cfg0.win w).arr.view.loc c.tc) = (dats m 0 c).arrAt w cfg0.N) ∧ QY m c r.2

set_option maxRecDepth 8000 in
theorem run_main : θ_run defs (onTc (τ := τ) (main (F := F))) ⟨m, fun _ => 0, ρ⟩ (fun r => QC m r ∧ r.2.sem = fun _ => 0) :=
  Cert.Exchange.θ_run_exchange (fun p => (cfgs p).toPCfg) (fun p => (cfgs p).toPCfg_adm) (dats m) () cellOf_inj (0 : Fin 1)
    winFacts0 ownSemFacts rfl EP defs₀ 𝒱₀ m ρ (due links) L (ranks links rank) main fill
    (hmain := fun _ => rfl) (hbody := body_obligation m) (hne := block_pos0) (harr := arr_whole0) (hstage := stage_whole0) (hshare := share_eq m)
    (howed₀ := fun _ => rfl) (howedN := fun _ => rfl) (hL := Cert.Exchange.L_of_ne) (hwaits := waits m)
    (G := ghosts links (pay m))
    (hu₀ := Cert.Exchange.fund_both links (pay m) _)
    (hA := fun _ _ => rfl) (X := X m) (Y := Y m) (Z := Z m) (htail := fill_run m)
    (hstart := begin_all m)
    (hin := phi_start m) (hout := phi_end m) (QY := QY m) (hY := read_end m)
    (hQ := fun s h hs => ⟨fun c => h c, sem_eq_zero_of_scoped (by decide) hs⟩)

end Cert.Nm

end
-- ==== Proof.NmWhole.lean ====
/-
# The normalized rows of `mlp_norm_fwd` as a whole

The blocks of the grid points tile the array that a device writes. Its entries are those of the normalized rows of the
device's first argument.
-/
module

public import proofs.«01_k».proof.Proof.NmValue
public import proofs.«01_k».proof.Proof.NmRun
public import Idealize.ShloMosaic.Lib.Pipeline.ValueKit

@[expose] public section

set_option maxRecDepth 16384

noncomputable section

namespace Cert.Nm

open Cert.NmKernelIdeal Cert.NmKernelIdeal.Gen
open Idealize.ShloMosaic Idealize.ShloMosaic.TcCoe

variable (m : (ℓ : Loc nD τ sig) → Buf (Elt Ideal) ℓ)

/-- What a device's array of normalized rows holds at the end. -/
def rowsOut (c : Dev nD) : Vec Ideal S4096x4096 .bf16 := fun i =>
  normed (n := 4096) (m (c.tc.loc main_arg0)) (m (c.tc.loc main_arg1)) (i 0) (i 1)

theorem index_all : ∀ t, win0_0.index t = ![(grid0.coords t 0).val, 0]
    ∧ win0_1.index t = ![0, 0]
    ∧ win0_2.index t = ![(grid0.coords t 0).val, 0] := by decide +kernel

theorem rowsOut_eq (c : Dev nD) : (dats m 0 c).arrAt 2 cfg0.N = rowsOut m c := by
  refine (dats m 0 c).arrAt_eq_of_covers 2 _ (by decide +kernel) fun t hf y => ?_
  show outBlock (iblk m c 0 t) (iblk m c 1 t) _ = _
  obtain ⟨p, q, rfl⟩ : ∃ (p : Fin 256) (q : Fin 4096), y = ix2 p q := ⟨y 0, y 1, eq_ix2 y⟩
  refine (outBlock_apply _ _ p q).trans ?_
  unfold rowsOut normed
  have hx (t' : Fin 4096) : iblk m c 0 t (ix2 p t') = m (c.tc.loc main_arg0) (ix2 ((((cfg0.win 2).blk t).view.emb (ix2 p q)) 0) t') := by
    blk_ext [iblk, V, index_all]
  refine congrArg₂ _ (congrArg₂ _ ?_ (congrArg (fun e => Ideal.rsqrt (Ideal.div e _ + _)) (Finset.sum_congr rfl fun j _ => congrArg₂ _ (hx j) (hx j)))) ?_
  · blk_ext [iblk, V, index_all]
  · blk_ext [iblk, V, index_all]

end Cert.Nm

end
-- ==== Proof.NmReference.lean ====
/-
# The reference of `mlp_norm_fwd` over the reals

The reference's first result has the entries of the normalized rows. Its second one is the band of rows of
`w_up` that the call gathers, of each half of each shard.
-/
module

public import proofs.«01_k».proof.Proof.NmWhole
public import proofs.«01_k».proof.Proof.Gen.NmReferenceIdeal.Run

@[expose] public section

set_option maxRecDepth 16384

noncomputable section

namespace Cert.Nm

open Idealize.ShloMosaic Idealize.ShloMosaic.TcCoe Idealize.SL.Sem

section
open Cert.NmReferenceIdeal Cert.NmReferenceIdeal.Gen

variable {F : FTy → Type} [FloatOps F]

/-- The reference's first result. -/
abbrev refNorm (x : Vec F S32768x4096 .f32) (g : Vec F S1x4096 .f32) : Vec F S32768x4096 .bf16 :=
  truncf .bf16 (mulf (mulf x (broadcastInDim S32768x4096 ![0, 1] bcast_S32768x1_S32768x4096_0_1 (Host.rsqrt (addf (Host.divf
    (broadcastInDim S32768x1 ![0] bcast_S32768_S32768x1_0 (Host.reduceAdd (mulf x x) (constant S_ .f32 0x00000000#32) reducesTo_S32768x4096_S32768_d1 h_S_))
    (broadcastInDim S32768x1 ![] bcast_S_S32768x1 (constant S_ .f32 0x45800000#32)))
    (broadcastInDim S32768x1 ![] bcast_S_S32768x1 (constant S_ .f32 0x3727C5AC#32))))))
    (broadcastInDim S32768x4096 ![0, 1] bcast_S1x4096_S32768x4096_0_1 g)) bitsLt_bf16_f32

/-- Its second result. -/
abbrev refGathered (d : Vec F S16384x4096 .bf16) : Vec F S4x2x384x4096 .bf16 :=
  extractStridedSlice S4x2x384x4096 ![0, 0, 1664, 0] (shapeCast S4x2x2048x4096 d shapeCasts_S16384x4096_S4x2x2048x4096)
    slices_S4x2x2048x4096_S4x2x384x4096_0_0_1664_0

theorem refNorm_apply (x : Vec Ideal S32768x4096 .f32) (g : Vec Ideal S1x4096 .f32) (p : Fin 32768) (q : Fin 4096) :
    (refNorm x g (ix2 p q) : EReal) = normed (n := 32768) x g p q := by
  pointwise [refNorm, normed]

theorem refGathered_apply (d : Vec F S16384x4096 .bf16) (s : Fin 4) (h : Fin 2) (r : Fin 384) (q : Fin 4096) :
    refGathered d (ix4 s h r q) = d (ix2 (⟨s.val * 4096 + (bandRow h r).val, by have := (bandRow h r).isLt; omega⟩ : Fin 16384) q) := by
  pointwise [refGathered, bandRow]
  exact congrArg (fun x => d (ix2 x q)) (Fin.ext (Nat.add_assoc _ _ _))

/-- The reference's run. -/
theorem reference_run (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem (c.tc.loc main_v12) = refNorm (m (c.tc.loc main_arg0)) (m (c.tc.loc main_arg1))
      ∧ r.2.mem (c.tc.loc main_v14) = refGathered (m (c.tc.loc main_arg2))
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)) ∧ r.2.sem = fun _ => 0) :=
  (θ_run defs _ _).mono (fun r h => ⟨h, sem_eq_zero_of_no_sems (by decide) r.2⟩) (Cert.NmReferenceIdeal.Value.run m ρ)

end

end Cert.Nm

end
-- ==== Proof.NmAgree.lean ====
/-
# Device by device, the two programs of `mlp_norm_fwd` agree

What a device ends with is its block of what the reference ends with, if its arguments are its blocks of the reference's.
-/
module

public import proofs.«01_k».proof.Proof.NmWhole
public import proofs.«01_k».proof.Proof.NmReference
public import proofs.«01_k».proof.Proof.FwAgree

@[expose] public section

set_option maxRecDepth 10240

noncomputable section

namespace Cert.Nm

open Cert.NmKernelIdeal
open Idealize.ShloMosaic Idealize.ShloMosaic.TcCoe
open Cert.Pair (block_rows)

section Rows
variable (m : (ℓ : Loc nD τ sig) → Buf (Elt Ideal) ℓ)
  (A : Vec Ideal Cert.NmReferenceIdeal.S32768x4096 .f32) (G : Vec Ideal Cert.NmReferenceIdeal.S1x4096 .f32)

theorem rows_agree (c : Dev nD)
    (h0 : m (c.tc.loc main_arg0) = Layout.block ⟨2, ![4096, 4096]⟩ ⟨2, ![32768, 4096]⟩ 0 8 c A)
    (h1 : m (c.tc.loc main_arg1) = G) :
    rowsOut m c = Layout.block ⟨2, ![4096, 4096]⟩ ⟨2, ![32768, 4096]⟩ 0 8 c (refNorm A G) := by
  have hc : c.val < 8 := c.isLt
  funext y
  obtain ⟨p, q, rfl⟩ : ∃ (p q : Fin 4096), y = ix2 p q := ⟨y 0, y 1, eq_ix2 y⟩
  have hp : c.val * 4096 + p.val < 32768 := by omega
  refine Eq.trans ?_ (block_rows c (refNorm A G) (by decide) p q hp).symm
  rw [refNorm_apply]
  show normed (n := 4096) (m (c.tc.loc main_arg0)) (m (c.tc.loc main_arg1)) p q = _
  have hx (t : Fin 4096) : m (c.tc.loc main_arg0) (ix2 p t) = A (ix2 (⟨c.val * 4096 + p.val, hp⟩ : Fin 32768) t) :=
    (congrFun h0 (ix2 p t)).trans (block_rows c A (by decide) p t hp)
  unfold normed
  exact congrArg₂ _ (congrArg₂ _ (hx q) (congrArg (fun e => Ideal.rsqrt (Ideal.div e _ + _)) (Finset.sum_congr rfl fun t _ => congrArg₂ _ (hx t) (hx t))))
    (congrFun h1 _)

end Rows

variable {F : FTy → Type} [FloatOps F]
variable (m : (ℓ : Loc nD τ sig) → Buf (Elt F) ℓ) (D : Vec F Cert.NmReferenceIdeal.S16384x4096 .bf16)

theorem merged_agrees (c : Dev nD)
    (h : ∀ c : Dev nD, m (c.tc.loc main_arg2)
      = Layout.blockN ⟨2, ![4096, 4096]⟩ ⟨2, ![16384, 4096]⟩ (Layout.meshBlock [2, 2, 2] ![[0, 1], []] c) D) :
    merged m c = refGathered D := by
  have hc : c.val < 8 := c.isLt
  funext y
  obtain ⟨s, b, r, q, rfl⟩ : ∃ (s : Fin 4) (b : Fin 2) (r : Fin 384) (q : Fin 4096), y = ix4 s b r q := ⟨y 0, y 1, y 2, y 3, eq_ix4 y⟩
  have key (d : Dev nD) (hd : d.val / 2 = s.val) : m (d.tc.loc main_arg2) (ix2 (bandRow b r) q) = refGathered D (ix4 s b r q) := by
    have hb : (bandRow b r).val < 4096 := (bandRow b r).isLt
    have hp : d.val / 2 * 4096 + (bandRow b r).val < 16384 := by omega
    rw [refGathered_apply]
    refine (congrFun (h d) (ix2 (bandRow b r) q)).trans ((Cert.Fw.block_chip D d (bandRow b r) q hp).trans ?_)
    exact congrArg (fun x => D (ix2 x q)) (Fin.ext (by show d.val / 2 * 4096 + (bandRow b r).val = s.val * 4096 + (bandRow b r).val; rw [hd]))
  have ho : origin (ix3 s (bandRow b r) q) = ix2 (bandRow b r) q := by funext i; fin_cases i <;> rfl
  have hband : band (ix3 s (bandRow b r) q) := by
    show 1664 ≤ (b.val * 2048 + (1664 + r.val)) % 2048 ∧ (b.val * 2048 + (1664 + r.val)) % 2048 < 2048
    omega
  show (if s.val = c.val / 2 then m (c.tc.loc main_arg2) (ix2 (bandRow b r) q) else filled m c (ix3 s (bandRow b r) q)) = _
  by_cases hs : s.val = c.val / 2
  · exact (if_pos hs).trans (key c hs.symm)
  · refine (if_neg hs).trans ?_
    unfold filled
    rw [if_pos ⟨hs, hband⟩, ho]
    refine key (source (ix3 s (bandRow b r) q)) ?_
    show (2 * s.val + (b.val * 2048 + (1664 + r.val)) / 2048) / 2 = s.val
    omega

end Cert.Nm

end
-- ==== Proof.PfBlock.lean ====
/-
# What one grid point of `proj_fwd` computes

A grid point of `proj_fwd` reads a 1024 × 4096 block `a` of `xn` and 512 columns `b` of one shard of the input weights, and writes a
1024 × 512 block, each in one piece. `outBlock a b` is that block; its entries are the payload's.
-/
module

public import proofs.«01_k».proof.Proof.Gen.PfKernelIdeal.Skeleton
public import Idealize.ShloMosaic.Lib.Writes

@[expose] public section

noncomputable section

namespace Cert.Pf

open Cert.PfKernelIdeal Cert.PfKernelIdeal.Gen
open Idealize.ShloMosaic

variable {F : FTy → Type} [FloatOps F]

/-- The blocks, as the body's loads and its store name them. -/
abbrev allA : Rect S1024x4096 := Rect.unit (s := S1024x4096) ![0, 0] S1024x4096.size inb_S1024x4096_S1024x4096_0_0
abbrev allB : Rect S1x4096x512 := Rect.unit (s := S1x4096x512) ![0, 0, 0] S1x4096x512.size inb_S1x4096x512_S1x4096x512_0_0_0
abbrev allO : Rect S1024x512 := Rect.unit (s := S1024x512) ![0, 0] S1024x512.size inb_S1024x512_S1024x512_0_0

/-- A block seen through a rectangle. -/
def seen {s : Shape} {e : EltTy} (X : s.Idx → Elt F e) (r : Rect s) : r.shape.Idx → Elt F e := fun x => X (r.emb x)

omit [FloatOps F] in
theorem seen_A {e : EltTy} (X : S1024x4096.Idx → Elt F e) : seen X allA = X :=
  funext fun x => congrArg X (funext fun a => Fin.ext (by
    fin_cases a
    · show 0 + 1 * (x 0).val = (x 0).val; omega
    · show 0 + 1 * (x 1).val = (x 1).val; omega))

omit [FloatOps F] in
theorem seen_B {e : EltTy} (X : S1x4096x512.Idx → Elt F e) : seen X allB = X :=
  funext fun x => congrArg X (funext fun a => Fin.ext (by
    fin_cases a
    · show 0 + 1 * (x 0).val = (x 0).val; omega
    · show 0 + 1 * (x 1).val = (x 1).val; omega
    · show 0 + 1 * (x 2).val = (x 2).val; omega))

omit [FloatOps F] in
theorem seen_O {e : EltTy} (X : S1024x512.Idx → Elt F e) : seen X allO = X :=
  funext fun x => congrArg X (funext fun a => Fin.ext (by
    fin_cases a
    · show 0 + 1 * (x 0).val = (x 0).val; omega
    · show 0 + 1 * (x 1).val = (x 1).val; omega))

omit [FloatOps F] in
/-- A store of the whole block leaves what was stored. -/
theorem read_store {κ : Kind} {sp : Space} (v : View sig κ sp S1024x512 .f32) (f : v.ty.Contents (Elt F)) (w : S1024x512.Idx → Elt F .f32) :
    v.read (Elt F) (v.writes (Elt F) f [⟨allO, w⟩]) = w := by
  funext y
  refine View.read_writes_apply_of_pieces v f w [⟨allO, w⟩] ?_ y ⟨_, List.mem_singleton_self _, ?_⟩
  · intro p hp x
    obtain rfl := List.mem_singleton.mp hp
    exact (congrFun (seen_O w) x).symm
  · show y ∈ allO.set
    refine Rect.mem_set_unit.mpr fun a => ?_
    fin_cases a
    · exact ⟨Nat.zero_le _, by have h : (y 0).val < 1024 := (y 0).isLt; show (y 0).val < 0 + 1024; omega⟩
    · exact ⟨Nat.zero_le _, by have h : (y 1).val < 512 := (y 1).isLt; show (y 1).val < 0 + 512; omega⟩

/-- The block a grid point writes. -/
def outBlock (a : Vec F S1024x4096 .bf16) (b : Vec F S1x4096x512 .bf16) : Vec F S1024x512 .f32 := k0_pay1 b a

end Cert.Pf

end
-- ==== Proof.PfValue.lean ====
/-
# The block of a grid point of `proj_fwd` over the reals

Over the extended reals the casts are the identity, so entry `(p, q)` of the block that a grid point writes is the inner
product of row `p` of the left factor's block and column `q` of the right factor's.
-/
module

public import proofs.«01_k».proof.Proof.PfBlock
public import Idealize.ShloMosaic.Lib.Pointwise

@[expose] public section

set_option maxRecDepth 16384

noncomputable section

namespace Cert.Pf

open Cert.PfKernelIdeal Cert.PfKernelIdeal.Gen
open Idealize.ShloMosaic

variable (a : Vec Ideal S1024x4096 .bf16) (b : Vec Ideal S1x4096x512 .bf16)

theorem outBlock_apply (p : Fin 1024) (q : Fin 512) :
    (outBlock a b (ix2 p q) : EReal) = ∑ t : Fin 4096, (a (ix2 p t) : EReal) * b (ix3 (0 : Fin 1) t q) := by
  pointwise [outBlock, k0_pay1]

end Cert.Pf

end
-- ==== Proof.Gather.lean ====
/-
# One gathering of the shards of a weight, as eight links among others

A gathering is eight of a kernel's links, `l 0` to `l 7`. A device sends its own rows on the first two; what comes along
`l 0` it passes on along `l 2` and, in part, `l 4`; what comes along `l 1`, along `l 3` and, in part, `l 5`; what comes along
`l 4` and `l 5`, along `l 6` and `l 7`. `First`, `Second`, `Third` and `Finished` are what a device holds of it before its first
transfers, after them, after the first passing on, and at the end; `send_rows`, `pass_rows` and `wait_rows` are the three
steps between them, whatever else the device still owes, if that is of high enough rank.
-/
module

public import proofs.«01_k».proof.Proof.Relay

@[expose] public section

noncomputable section

namespace Cert.Exchange

open Idealize.ShloMosaic
open TcCoe Rounds
open Idealize.SL Idealize.SL.RA Idealize.SL.BI
open BIBase Laws ProofMode Sem

variable {nD : Nat} {τ : Topo} {sig : RefSig} {Val : EltTy → Type} [∀ e, Nonempty (Val e)] {Λ₀ : Idealize.SL.Sem.Labels}

local notation "𝕄" => MT nD τ sig Unit Val ℕ (UU nD sig τ) ℕ

variable (K : Links nD sig) (rank : Fin K.J → ℕ)

/-! ## What is owed -/

/-- What device `c` owes on link `j`. -/
abbrev debt (c : Dev nD) (j : Fin K.J) : CellTallies nD τ sig Unit := tallyAt (K.recvCell (K.peer j c) j) () (K.units j)

/-- Only transfers of rank above `b` are owed. -/
def Above (b : ℕ) (O : CellTallies nD τ sig Unit) : Prop := ∀ g u, 0 < O g u → ∃ c' j, g = K.recvCell c' j ∧ b < rank j

theorem above_zero (b : ℕ) : Above (τ := τ) K rank b 0 := fun g u h => absurd h (lt_irrefl 0)

theorem above_add {b : ℕ} {O : CellTallies nD τ sig Unit} (h : Above K rank b O) (c : Dev nD) (j : Fin K.J) (hj : b < rank j) :
    Above K rank b (O + debt K c j) := by
  intro g u hg
  by_cases hO : 0 < O g u
  · exact h g u hO
  · refine ⟨K.peer j c, j, ?_, hj⟩
    by_contra hn
    have hz : (debt K c j : CellTallies nD τ sig Unit) g u = 0 := by
      show (tallyAt _ () _ : CellTallies nD τ sig Unit) g u = 0
      rw [tallyAt_apply, if_neg fun h' => hn h'.1]
    have hs : (O + debt K c j : CellTallies nD τ sig Unit) g u = O g u + (debt K c j : CellTallies nD τ sig Unit) g u := rfl
    omega

theorem above_mono {a b : ℕ} {O : CellTallies nD τ sig Unit} (h : Above K rank b O) (hab : a ≤ b) : Above K rank a O :=
  fun g u hg => by obtain ⟨c', j, e, hj⟩ := h g u hg; exact ⟨c', j, e, by omega⟩

/-- A receive cell may be waited for while only transfers of higher rank are owed, a send cell while only transfers of some rank are. -/
theorem wait_recv (c : Dev nD) (j : Fin K.J) (O : CellTallies nD τ sig Unit) (h : Above K rank (rank j) O) :
    (levAts L (ranks K rank) : sProp 𝕄) ⊢ MayWait c.tc (.dma (K.sem (true, j))) () O :=
  may_wait K rank c (K.recvSem j) (rank j) (ranks_recv K rank c j).le O h
theorem wait_send (c : Dev nD) (j : Fin K.J) (O : CellTallies nD τ sig Unit) (h : Above K rank 0 O) :
    (levAts L (ranks K rank) : sProp 𝕄) ⊢ MayWait c.tc (.dma (K.sem (false, j))) () O :=
  may_wait K rank c (K.sendSem j) 0 (ranks_other K rank c (K.sendSem j) fun j' e => by
    have h' : ((false, j) : K.End) = (true, j') := K.osem_inj (congrArg SemLoc.dma e)
    cases h').le O h

/-! ## Starting and waiting -/

variable (pay : K.End → Dev nD → sProp (MT nD τ sig Unit Val ℕ (UU nD sig τ) ℕ)) [Keepable K pay]
variable (room : Dev nD → Fin K.J → sProp (MT nD τ sig Unit Val ℕ (UU nD sig τ) ℕ))
variable (defs₀ : Defs nD τ sig Val Λ₀) (𝒱₀ : Variants) (κ : Dev nD × K.End → ℕ) (c : Dev nD)

/-- What a device holds of a link it has still to send on, and of a cell it has to wait for. -/
def ready (j : Fin K.J) : sProp 𝕄 := iprop(ticket K c j ∗ atPos ER (K.cell c (false, j)) 0 ∅ 0 ∗ room (K.peer j c) j)
def pending (k : K.End) : sProp 𝕄 := iprop(cred (tallyAt (K.cell c k) () (K.units k.2)) ∗ atPos ER (K.cell c k) 0 ∅ 0)

/-- The effects of the TensorCore without a result, and programs of them. -/
abbrev Act (nD : Nat) (τ : Topo) (sig : RefSig) (Val : EltTy → Type) (Λ₀ : Idealize.SL.Sem.Labels) : Type := TpuEff nD τ sig Val Λ₀ .tc PUnit
abbrev Act.Code (nD : Nat) (τ : Topo) (sig : RefSig) (Val : EltTy → Type) (Λ₀ : Idealize.SL.Sem.Labels) : Type 1 := Prog (TpuEff nD τ sig Val Λ₀ .tc) PUnit

/-- Some effects one after the other. -/
def code : List (Act nD τ sig Val Λ₀) → Act.Code nD τ sig Val Λ₀
  | [] => .ret ⟨⟩
  | e :: es => .op e fun _ => code es

/-- `e` starts the transfer of link `j`. -/
def Starts (j : Fin K.J) (e : Act nD τ sig Val Λ₀) : Prop :=
  ∀ (O : CellTallies nD τ sig Unit) (W : Waits sig Unit) (Q : PUnit → sProp 𝕄) (k : PUnit → Act.Code nD τ sig Val Λ₀),
    iprop(records K pay κ ∗ ready K room c j ∗ pay (false, j) c ∗ owes c.tc (O + debt K c j) W)
      ⊢ iprop((pending K c (false, j) ∗ owes c.tc O W -∗ wp frame (wpE defs₀ 𝒱₀ c.tc none) Set.univ (k ⟨⟩) Q)
          -∗ wp frame (wpE defs₀ 𝒱₀ c.tc none) Set.univ (.op e k) Q)

/-- `e` waits for a cell. -/
def Takes (k : K.End) (e : Act nD τ sig Val Λ₀) : Prop :=
  ∀ (O : CellTallies nD τ sig Unit) (_ : (levAts L (ranks K rank) : sProp 𝕄) ⊢ MayWait c.tc (.dma (K.sem k)) () O)
    (Q : PUnit → sProp 𝕄) (next : PUnit → Act.Code nD τ sig Val Λ₀),
    iprop(records K pay κ ∗ levAts L (ranks K rank) ∗ pending K c k ∗ (∃ W, owes c.tc O W))
      ⊢ iprop((pay k c ∗ semVal (K.cell c k) 0 ∗ (∃ W, owes c.tc O W)
            -∗ wp frame (wpE defs₀ 𝒱₀ c.tc none) Set.univ (next ⟨⟩) Q)
          -∗ wp frame (wpE defs₀ 𝒱₀ c.tc none) Set.univ (.op e next) Q)

theorem takes (k : K.End) {s : Shape} {e : EltTy} {src dst : Memref sig .tc .hbm s e} {hs : src.view.WordExact} {hd : dst.view.WordExact}
    (hu : dst.view.dmaCredit = K.units k.2) : Takes K rank pay defs₀ 𝒱₀ κ c k (.waitDma2 (K.sem k) src dst hs hd) := by
  intro O hO Q next
  unfold pending
  iintro ⟨#HR, HL, ⟨Hc, Ha⟩, ⟨%W, HO⟩⟩ Hk
  iapply (wait_owing K pay defs₀ 𝒱₀ κ c k (sm := K.sem k) rfl hu O W) $$ [Hc Ha HO HL]
  · isplitr; · iexact HR
    isplitl [Hc]; · iexact Hc
    isplitl [Ha]; · iexact Ha
    isplitl [HO]; · iexact HO
    iapply hO; iexact HL
  iintro ⟨Hp, Hz, HO⟩
  iapply Hk
  isplitl [Hp]; · iexact Hp
  isplitl [Hz]; · iexact Hz
  iexists _; iexact HO

theorem owes_some (O : CellTallies nD τ sig Unit) (W : Waits sig Unit) :
    (owes c.tc O W : sProp 𝕄) ⊢ iprop(∃ W, owes c.tc O W) := by iintro H; iexists W; iexact H

/-- A transfer of link `j` starts it, if it takes from what the link lends, lands where there is room, and leaves there what is to arrive. -/
theorem starts {c : Dev nD} (n : Dev nD) (j : Fin K.J) (hn : n = K.peer j c) {s : Shape} {e : EltTy} {src dst : Memref sig .tc .hbm s e}
    {hsc : (dst : Memref sig (Dev.tc n : Thread nD τ).2.kind .hbm s e).view.ref.isScScratch = false} {hsrc : src.view.WordExact} {hdst : dst.view.WordExact}
    {hsem : DmaTarget.Typed .hbm (.dma (K.recvSem j)) (.remote (Dev.tc n : Thread nD τ) dst (.dma (K.sendSem j)) hsc)}
    {q : PosShare TreeShare} (fs : Buf Val (src.view.loc c.tc)) (hu : dst.view.amount (.dma (K.recvSem j)) = K.units j)
    (hsend : pay (false, j) c = (src.view.loc c.tc ↦[src.view.set]{q} fs : sProp 𝕄))
    (hroom : room (K.peer j c) j ⊢ (iprop(∃ fd, dst.view.loc (K.peer j c : Thread nD τ) ↦[dst.view.set]{fullShare} fd) : sProp 𝕄))
    (hland : ∀ fd, (dst.view.loc (K.peer j c : Thread nD τ) ↦[dst.view.set]{fullShare}
        (dst.view.write Val fd (src.view.read Val fs) Finset.univ) : sProp 𝕄) ⊢ pay (true, j) (K.peer j c))
    (hr : τ.routes c.tc (K.peer j c : Thread nD τ) = true) :
    Starts K pay room defs₀ 𝒱₀ κ c j (.enqueueDma src (.remote (Dev.tc n : Thread nD τ) dst (.dma (K.sendSem j)) hsc) (.dma (K.recvSem j)) hsrc hdst hsem) := by
  intro O W Q k
  unfold ready pending
  rw [hsend]
  iintro ⟨#HR, ⟨Ht, Ha, Hd⟩, Hs, HO⟩ Hk
  ihave Hd := hroom $$ Hd
  icases Hd with ⟨%fd, Hd⟩
  iapply (send_along K pay defs₀ 𝒱₀ κ c n j hn rfl rfl fs fd hu (Entails.of_eq hsend.symm) (hland fd) O rfl W hr) $$ [Ht Hs Hd HO]
  · iframe HR Ht Hs Hd HO
  iintro ⟨Hc, HO⟩
  iapply Hk
  iframe Hc Ha HO

/-- Effects in two runs, the second from what the first leaves. -/
theorem wp_code_append (xs ys : List (Act nD τ sig Val Λ₀)) (Q : PUnit → sProp 𝕄) :
    wp frame (wpE defs₀ 𝒱₀ c.tc none) Set.univ (code xs) (fun _ => wp frame (wpE defs₀ 𝒱₀ c.tc none) Set.univ (code ys) Q)
      ⊢ wp frame (wpE defs₀ 𝒱₀ c.tc none) Set.univ (code (xs ++ ys)) Q := by
  have h : (code (xs ++ ys) : Act.Code nD τ sig Val Λ₀) = code xs >>= fun _ => code ys := by
    induction xs with
    | nil => rfl
    | cons e es ih => exact congrArg (Prog.op e) (funext fun _ => ih)
  rw [h, wp_bind]

/-! ## The states of a gathering -/

variable (l : Fin 8 → Fin K.J) (over₀ over₁ : sProp (MT nD τ sig Unit Val ℕ (UU nD sig τ) ℕ))

/-- Nothing is sent. -/
def First : sProp 𝕄 :=
  iprop((ready K room c (l 0) ∗ ready K room c (l 1) ∗ ready K room c (l 2) ∗ ready K room c (l 3) ∗ ready K room c (l 4) ∗ ready K room c (l 5)
      ∗ ready K room c (l 6) ∗ ready K room c (l 7))
    ∗ (pending K c (true, l 0) ∗ pending K c (true, l 1) ∗ pending K c (true, l 2) ∗ pending K c (true, l 3) ∗ pending K c (true, l 4) ∗ pending K c (true, l 5)
      ∗ pending K c (true, l 6) ∗ pending K c (true, l 7))
    ∗ pay (false, l 0) c ∗ pay (false, l 1) c)

/-- The own rows are on the way. -/
def Second : sProp 𝕄 :=
  iprop((ready K room c (l 2) ∗ ready K room c (l 3) ∗ ready K room c (l 4) ∗ ready K room c (l 5)) ∗ (ready K room c (l 6) ∗ ready K room c (l 7))
    ∗ (pending K c (false, l 0) ∗ pending K c (false, l 1)) ∗ (pending K c (true, l 0) ∗ pending K c (true, l 1))
    ∗ (pending K c (true, l 2) ∗ pending K c (true, l 3) ∗ pending K c (true, l 4) ∗ pending K c (true, l 5) ∗ pending K c (true, l 6) ∗ pending K c (true, l 7)))

/-- What came first is passed on; `over₀` and `over₁` is what of it is not lent. -/
def Third : sProp 𝕄 :=
  iprop((ready K room c (l 6) ∗ ready K room c (l 7)) ∗ (pending K c (false, l 0) ∗ pending K c (false, l 1))
    ∗ (pending K c (false, l 2) ∗ pending K c (false, l 3) ∗ pending K c (false, l 4) ∗ pending K c (false, l 5))
    ∗ (pending K c (true, l 2) ∗ pending K c (true, l 3) ∗ pending K c (true, l 4) ∗ pending K c (true, l 5) ∗ pending K c (true, l 6) ∗ pending K c (true, l 7))
    ∗ (semVal (K.cell c (true, l 0)) 0 ∗ semVal (K.cell c (true, l 1)) 0) ∗ over₀ ∗ over₁)

/-- All has landed, and what was lent is back. -/
def Finished : sProp 𝕄 :=
  iprop((pay (false, l 0) c ∗ pay (false, l 1) c) ∗ (bigSep Finset.univ fun j : Fin 8 => pay (true, l j) c)
    ∗ (bigSep Finset.univ fun j : Fin 8 => semVal (K.cell c (false, l j)) 0) ∗ (bigSep Finset.univ fun j : Fin 8 => semVal (K.cell c (true, l j)) 0))

omit [∀ e, Nonempty (Val e)] in
/-- What holds of the eight links, one by one. -/
theorem eight (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ

/-! ## The three steps -/

variable (O : CellTallies nD τ sig Unit)

theorem send_rows {e₀ e₁ : Act nD τ sig Val Λ₀} (h₀ : Starts K pay room defs₀ 𝒱₀ κ c (l 0) e₀) (h₁ : Starts K pay room defs₀ 𝒱₀ κ c (l 1) e₁) :
    iprop(records K pay κ ∗ First K pay room c l ∗ (iprop(∃ W, owes c.tc (O + debt K c (l 1) + debt K c (l 0)) W) : sProp 𝕄))
      ⊢ wp frame (wpE defs₀ 𝒱₀ c.tc none) Set.univ (code [e₀, e₁])
          (fun _ => iprop(Second K room c l ∗ ∃ W, owes c.tc O W : sProp 𝕄)) := by
  unfold First Second
  simp only [code]
  iintro ⟨#HR, ⟨⟨H0, H1, H2, H3, H4, H5, H6, H7⟩, ⟨P0, P1, P2, P3, P4, P5, P6, P7⟩, Hs0, Hs1⟩, ⟨%W, HO⟩⟩
  iapply (h₀ _ W _ _) $$ [H0 Hs0 HO]
  · iframe HR H0 Hs0 HO
  iintro ⟨Hc0, HO⟩
  iapply (h₁ _ W _ _) $$ [H1 Hs1 HO]
  · iframe HR H1 Hs1 HO
  iintro ⟨Hc1, HO⟩
  rw [wp_ret]; imodintro
  isplitr [HO]
  · iframe H2 H3 H4 H5 H6 H7 Hc0 Hc1 P0 P1 P2 P3 P4 P5 P6 P7
  iexists W; iexact HO

variable (b : ℕ)

theorem pass_rows {w₀ w₁ e₂ e₃ e₄ e₅ : Act nD τ sig Val Λ₀}
    (hw₀ : Takes K rank pay defs₀ 𝒱₀ κ c (true, l 0) w₀) (hw₁ : Takes K rank pay defs₀ 𝒱₀ κ c (true, l 1) w₁)
    (h₂ : Starts K pay room defs₀ 𝒱₀ κ c (l 2) e₂) (h₃ : Starts K pay room defs₀ 𝒱₀ κ c (l 3) e₃)
    (h₄ : Starts K pay room defs₀ 𝒱₀ κ c (l 4) e₄) (h₅ : Starts K pay room defs₀ 𝒱₀ κ c (l 5) e₅)
    (hc₀ : pay (true, l 0) c ⊢ iprop(pay (false, l 2) c ∗ pay (false, l 4) c ∗ over₀))
    (hc₁ : pay (true, l 1) c ⊢ iprop(pay (false, l 3) c ∗ pay (false, l 5) c ∗ over₁))
    (hO : Above (τ := τ) K rank b O) (hb₀ : rank (l 0) ≤ b) (hb₁ : rank (l 1) ≤ b)
    (hb₂ : b < rank (l 2)) (hb₃ : b < rank (l 3)) (hb₄ : b < rank (l 4)) (hb₅ : b < rank (l 5)) :
    iprop(records K pay κ ∗ levAts L (ranks K rank) ∗ Second K room c l
        ∗ (iprop(∃ W, owes c.tc (O + debt K c (l 3) + debt K c (l 5) + debt K c (l 2) + debt K c (l 4)) W) : sProp 𝕄))
      ⊢ wp frame (wpE defs₀ 𝒱₀ c.tc none) Set.univ
          (code [w₀, e₄, e₂, w₁, e₅, e₃])
          (fun _ => iprop(Third K room c l over₀ over₁ ∗ ∃ W, owes c.tc O W : sProp 𝕄)) := by
  have ha := above_add (τ := τ) K rank (above_add (τ := τ) K rank hO c (l 3) hb₃) c (l 5) hb₅
  unfold Second Third
  simp only [code]
  iintro ⟨#HR, #HL, ⟨⟨Ht2, Ht3, Ht4, Ht5⟩, H67, S01, ⟨HP0, HP1⟩, P27⟩, HO⟩
  iapply (hw₀ _ (wait_recv (Val := Val) K rank c (l 0) _ (above_mono K rank (above_add K rank (above_add K rank ha c (l 2) hb₂) c (l 4) hb₄) hb₀)) _ _) $$ [HP0 HO]
  · iframe HR HL HP0 HO
  iintro ⟨Hp, Hz0, HO⟩
  ihave Hp := hc₀ $$ Hp
  icases Hp with ⟨Hl, Hq, Ho0⟩
  icases HO with ⟨%W, HO⟩
  iapply (h₄ _ W _ _) $$ [Ht4 Hq HO]
  · iframe HR Ht4 Hq HO
  iintro ⟨HS4, HO⟩
  iapply (h₂ _ W _ _) $$ [Ht2 Hl HO]
  · iframe HR Ht2 Hl HO
  iintro ⟨HS2, HO⟩
  ihave HO := (owes_some c _ W) $$ HO
  iapply (hw₁ _ (wait_recv (Val := Val) K rank c (l 1) _ (above_mono K rank ha hb₁)) _ _) $$ [HP1 HO]
  · iframe HR HL HP1 HO
  iintro ⟨Hp, Hz1, HO⟩
  ihave Hp := hc₁ $$ Hp
  icases Hp with ⟨Hl, Hq, Ho1⟩
  icases HO with ⟨%W, HO⟩
  iapply (h₅ _ W _ _) $$ [Ht5 Hq HO]
  · iframe HR Ht5 Hq HO
  iintro ⟨HS5, HO⟩
  iapply (h₃ _ W _ _) $$ [Ht3 Hl HO]
  · iframe HR Ht3 Hl HO
  iintro ⟨HS3, HO⟩
  rw [wp_ret]; imodintro
  isplitr [HO]
  · iframe H67 S01 HS2 HS3 HS4 HS5 P27 Hz0 Hz1 Ho0 Ho1
  iexists W; iexact HO

theorem wait_rows {w v : Fin 8 → Act nD τ sig Val Λ₀} {e₆ e₇ : Act nD τ sig Val Λ₀}
    (hw : ∀ j, 2 ≤ j.val → Takes K rank pay defs₀ 𝒱₀ κ c (true, l j) (w j)) (hv : ∀ j, Takes K rank pay defs₀ 𝒱₀ κ c (false, l j) (v j))
    (h₆ : Starts K pay room defs₀ 𝒱₀ κ c (l 6) e₆) (h₇ : Starts K pay room defs₀ 𝒱₀ κ c (l 7) e₇)
    (hc₀ : iprop(pay (false, l 2) c ∗ pay (false, l 4) c ∗ over₀) ⊢ pay (true, l 0) c)
    (hc₁ : iprop(pay (false, l 3) c ∗ pay (false, l 5) c ∗ over₁) ⊢ pay (true, l 1) c)
    (hc₄ : pay (true, l 4) c = pay (false, l 6) c) (hc₅ : pay (true, l 5) c = pay (false, l 7) c)
    (hO : Above (τ := τ) K rank b O) (hb : ∀ j, rank (l j) ≤ b)
    (hb₆ : rank (l 4) < rank (l 6) ∧ rank (l 4) < rank (l 7)) (hb₇ : rank (l 5) < rank (l 7)) :
    iprop(records K pay κ ∗ levAts L (ranks K rank) ∗ Third K room c l over₀ over₁ ∗ (iprop(∃ W, owes c.tc (O + debt K c (l 7) + debt K c (l 6)) W) : sProp 𝕄))
      ⊢ wp frame (wpE defs₀ 𝒱₀ c.tc none) Set.univ
          (code [w 4, e₆, w 5, e₇, w 2, w 3, w 6, w 7, v 0, v 1, v 2, v 3, v 4, v 5, v 6, v 7])
          (fun _ => iprop(Finished K pay c l ∗ ∃ W, owes c.tc O W : sProp 𝕄)) := by
  have hr (j : Fin 8) := wait_recv (Val := Val) K rank c (l j) O (above_mono K rank hO (hb j))
  have hs (j : Fin 8) := wait_send (Val := Val) K rank c (l j) O (above_mono K rank hO (Nat.zero_le b))
  unfold Third Finished
  simp only [eight, code]
  iintro ⟨#HR, #HL, ⟨⟨Ht6, Ht7⟩, ⟨HS0, HS1⟩, ⟨HS2, HS3, HS4, HS5⟩, ⟨HR2, HR3, HR4, HR5, HR6, HR7⟩, ⟨HzR0, HzR1⟩, Ho0, Ho1⟩, HO⟩
  iapply (hw 4 (by decide) _ (wait_recv (Val := Val) K rank c (l 4) _ (above_add K rank (above_add K rank (above_mono K rank hO (hb 4)) c (l 7) hb₆.2) c (l 6) hb₆.1)) _ _) $$ [HR4 HO]
  · iframe HR HL HR4 HO
  iintro ⟨Hp, HzR4, HO⟩
  ihave Hp := (Entails.of_eq hc₄) $$ Hp
  icases HO with ⟨%W, HO⟩
  iapply (h₆ _ W _ _) $$ [Ht6 Hp HO]
  · iframe HR Ht6 Hp HO
  iintro ⟨HS6, HO⟩
  ihave HO := (owes_some c _ W) $$ HO
  iapply (hw 5 (by decide) _ (wait_recv (Val := Val) K rank c (l 5) _ (above_add K rank (above_mono K rank hO (hb 5)) c (l 7) hb₇)) _ _) $$ [HR5 HO]
  · iframe HR HL HR5 HO
  iintro ⟨Hp, HzR5, HO⟩
  ihave Hp := (Entails.of_eq hc₅) $$ Hp
  icases HO with ⟨%W, HO⟩
  iapply (h₇ _ W _ _) $$ [Ht7 Hp HO]
  · iframe HR Ht7 Hp HO
  iintro ⟨HS7, HO⟩
  ihave HO := (owes_some c _ W) $$ HO
  iapply (hw 2 (by decide) _ (hr 2) _ _) $$ [HR2 HO]
  · iframe HR HL HR2 HO
  iintro ⟨HpR2, HzR2, HO⟩
  iapply (hw 3 (by decide) _ (hr 3) _ _) $$ [HR3 HO]
  · iframe HR HL HR3 HO
  iintro ⟨HpR3, HzR3, HO⟩
  iapply (hw 6 (by decide) _ (hr 6) _ _) $$ [HR6 HO]
  · iframe HR HL HR6 HO
  iintro ⟨HpR6, HzR6, HO⟩
  iapply (hw 7 (by decide) _ (hr 7) _ _) $$ [HR7 HO]
  · iframe HR HL HR7 HO
  iintro ⟨HpR7, HzR7, HO⟩
  iapply (hv 0 _ (hs 0) _ _) $$ [HS0 HO]
  · iframe HR HL HS0 HO
  iintro ⟨HpS0, HzS0, HO⟩
  iapply (hv 1 _ (hs 1) _ _) $$ [HS1 HO]
  · iframe HR HL HS1 HO
  iintro ⟨HpS1, HzS1, HO⟩
  iapply (hv 2 _ (hs 2) _ _) $$ [HS2 HO]
  · iframe HR HL HS2 HO
  iintro ⟨HpS2, HzS2, HO⟩
  iapply (hv 3 _ (hs 3) _ _) $$ [HS3 HO]
  · iframe HR HL HS3 HO
  iintro ⟨HpS3, HzS3, HO⟩
  iapply (hv 4 _ (hs 4) _ _) $$ [HS4 HO]
  · iframe HR HL HS4 HO
  iintro ⟨HpS4, HzS4, HO⟩
  iapply (hv 5 _ (hs 5) _ _) $$ [HS5 HO]
  · iframe HR HL HS5 HO
  iintro ⟨HpS5, HzS5, HO⟩
  iapply (hv 6 _ (hs 6) _ _) $$ [HS6 HO]
  · iframe HR HL HS6 HO
  iintro ⟨HpS6, HzS6, HO⟩
  iapply (hv 7 _ (hs 7) _ _) $$ [HS7 HO]
  · iframe HR HL HS7 HO
  iintro ⟨HpS7, HzS7, HO⟩
  rw [wp_ret]; imodintro
  isplitr [HO]
  · isplitl [HpS0 HpS1]
    · iframe HpS0 HpS1
    isplitl [HpS2 HpS3 HpS4 HpS5 HpS6 HpS7 HpR2 HpR3 HpR6 HpR7 Ho0 Ho1]
    · isplitl [HpS2 HpS4 Ho0]
      · iapply hc₀
        iframe HpS2 HpS4 Ho0
      isplitl [HpS3 HpS5 Ho1]
      · iapply hc₁
        iframe HpS3 HpS5 Ho1
      isplitl [HpR2]; · iexact HpR2
      isplitl [HpR3]; · iexact HpR3
      isplitl [HpS6]; · iapply (Entails.of_eq hc₄.symm); iexact HpS6
      isplitl [HpS7]; · iapply (Entails.of_eq hc₅.symm); iexact HpS7
      iframe HpR6 HpR7
    isplitl [HzS0 HzS1 HzS2 HzS3 HzS4 HzS5 HzS6 HzS7]
    · iframe HzS0 HzS1 HzS2 HzS3 HzS4 HzS5 HzS6 HzS7
    iframe HzR0 HzR1 HzR2 HzR3 HzR4 HzR5 HzR6 HzR7
  iexact HO

end Cert.Exchange

end
-- ==== Proof.PfPeers.lean ====
/-
# The two gatherings of `proj_fwd`: who sends to whom

The eight devices are the cores of a 2 × 2 torus of chips with two cores each; device `c` is core `c % 2` of chip
`c / 2`. Beside its products, `proj_fwd` gathers two arrays of every other chip, `main_arg2` and some rows of `main_arg3`, each over eight
links of its own. Of each eight, links 0 and 5 join a device to the same core of the chip across the first torus axis, links 1 and
4 across the second, links 2, 3, 6 and 7 to the other core of its chip.
-/
module

public import proofs.«01_k».proof.Proof.Gather
public import proofs.«01_k».proof.Proof.Gen.PfKernelIdeal
public import proofs.«01_k».proof.Proof.Gen.PfKernelIdeal.Launch

@[expose] public section

noncomputable section

namespace Cert.Pf

open Cert.PfKernelIdeal Cert.PfKernelIdeal.Gen

open Idealize.ShloMosaic
open TcCoe Rounds
open Idealize.SL Idealize.SL.RA Idealize.SL.BI
open BIBase Laws ProofMode Sem
open Cert.Exchange (Links UU EP ER)

variable {F : FTy → Type} [FloatOps F]

local notation "𝕄" => MT nD τ sig Unit (Elt F) ℕ (UU nD sig τ) ℕ

/-- The devices across the first torus axis, across the second, and on the other core of the chip. -/
def across₁ (c : Dev nD) : Dev nD := ⟨(c.val + 4) % 8, Nat.mod_lt _ (by decide)⟩
def across₂ (c : Dev nD) : Dev nD := ⟨c.val / 4 * 4 + (c.val + 2) % 4, by revert c; decide⟩
def sibling (c : Dev nD) : Dev nD := ⟨c.val / 2 * 2 + (c.val + 1) % 2, by revert c; decide⟩

/-- The device at the other end of a link. -/
def peer (j : Fin 8) : Dev nD → Dev nD :=
  match j with
  | 0 | 5 => across₁
  | 1 | 4 => across₂
  | 2 | 3 | 6 | 7 => sibling

theorem peer_peer (j : Fin 8) (c : Dev nD) : peer j (peer j c) = c := by revert j c; decide

/-- The devices the kernel computes for its transfers are these. -/
theorem dev1_eq (c : Dev nD) (h : k0_dev1 c < nD) : (⟨k0_dev1 c, h⟩ : Dev nD) = peer 0 c := by
  revert c; decide +kernel
theorem dev2_eq (c : Dev nD) (h : k0_dev2 c < nD) : (⟨k0_dev2 c, h⟩ : Dev nD) = peer 1 c := by
  revert c; decide +kernel
theorem dev3_eq (c : Dev nD) (h : k0_dev3 c < nD) : (⟨k0_dev3 c, h⟩ : Dev nD) = peer 0 c := by
  revert c; decide +kernel
theorem dev4_eq (c : Dev nD) (h : k0_dev4 c < nD) : (⟨k0_dev4 c, h⟩ : Dev nD) = peer 1 c := by
  revert c; decide +kernel
theorem dev5_eq (c : Dev nD) (h : k0_dev5 c < nD) : (⟨k0_dev5 c, h⟩ : Dev nD) = peer 4 c := by
  revert c; decide +kernel
theorem dev6_eq (c : Dev nD) (h : k0_dev6 c < nD) : (⟨k0_dev6 c, h⟩ : Dev nD) = peer 2 c := by
  revert c; decide +kernel
theorem dev7_eq (c : Dev nD) (h : k0_dev7 c < nD) : (⟨k0_dev7 c, h⟩ : Dev nD) = peer 5 c := by
  revert c; decide +kernel
theorem dev8_eq (c : Dev nD) (h : k0_dev8 c < nD) : (⟨k0_dev8 c, h⟩ : Dev nD) = peer 3 c := by
  revert c; decide +kernel
theorem dev9_eq (c : Dev nD) (h : k0_dev9 c < nD) : (⟨k0_dev9 c, h⟩ : Dev nD) = peer 4 c := by
  revert c; decide +kernel
theorem dev10_eq (c : Dev nD) (h : k0_dev10 c < nD) : (⟨k0_dev10 c, h⟩ : Dev nD) = peer 2 c := by
  revert c; decide +kernel
theorem dev11_eq (c : Dev nD) (h : k0_dev11 c < nD) : (⟨k0_dev11 c, h⟩ : Dev nD) = peer 5 c := by
  revert c; decide +kernel
theorem dev12_eq (c : Dev nD) (h : k0_dev12 c < nD) : (⟨k0_dev12 c, h⟩ : Dev nD) = peer 3 c := by
  revert c; decide +kernel
theorem dev13_eq (c : Dev nD) (h : k0_dev13 c < nD) : (⟨k0_dev13 c, h⟩ : Dev nD) = peer 6 c := by
  revert c; decide +kernel
theorem dev14_eq (c : Dev nD) (h : k0_dev14 c < nD) : (⟨k0_dev14 c, h⟩ : Dev nD) = peer 7 c := by
  revert c; decide +kernel
theorem dev15_eq (c : Dev nD) (h : k0_dev15 c < nD) : (⟨k0_dev15 c, h⟩ : Dev nD) = peer 6 c := by
  revert c; decide +kernel
theorem dev16_eq (c : Dev nD) (h : k0_dev16 c < nD) : (⟨k0_dev16 c, h⟩ : Dev nD) = peer 7 c := by
  revert c; decide +kernel

/-- A transfer may go from each device to its peers. -/
theorem routes (j : Fin 8) (c : Dev nD) : τ.routes c.tc (peer j c : Thread nD τ) = true := by revert j c; decide

/-- A write through a view of what was read through the same view brings over the elements it names. -/
theorem write_read {κ : Kind} {sp : Space} {sh : Shape} {e : EltTy} (v : View sig κ sp sh e) (f g : v.ty.Contents (Elt F)) (i) (hi : i ∈ v.set) :
    v.write (Elt F) f (v.read (Elt F) g) Finset.univ i = g i := by
  obtain ⟨x, -, rfl⟩ := Finset.mem_map.mp hi
  rw [View.write_emb_of_mem f _ (Finset.mem_univ x)]
  unfold View.read
  rw [cast_cast, cast_eq]

end Cert.Pf

end
-- ==== Proof.PfRowsA.lean ====
/-
# The first gathering of `proj_fwd`: what travels, and where it lies

The rows of the `main_arg2` of every other chip are gathered into the layers of `main_v1_1`, layer `s` for chip `s`. A core brings one half of
the rows of each chip and passes them to the other core of its chip. Device `c`

* sends its half of the rows of its own array on links 0 and 1;
* passes on what came along link 0: all of it on link 2, the first part of it on link 4; and what came along link 1: all of
  it on link 3, the second part of it on link 5;
* passes on what came along link 4 on link 6, and what came along link 5 on link 7.

Rows lie at one and the same place of `main_v1_1` on every device. `filled` names the contents, so one run over any float
values gives both frames and the value.
-/
module

public import proofs.«01_k».proof.Proof.PfPeers

@[expose] public section

noncomputable section

namespace Cert.Pf.A

open Cert.Pf Cert.PfKernelIdeal Cert.PfKernelIdeal.Gen

open Idealize.ShloMosaic
open TcCoe Rounds
open Idealize.SL Idealize.SL.RA Idealize.SL.BI
open BIBase Laws ProofMode Sem
open Cert.Exchange (Links UU EP ER)

variable {F : FTy → Type} [FloatOps F]

local notation "𝕄" => MT nD τ sig Unit (Elt F) ℕ (UU nD sig τ) ℕ

/-- Half the rows of a `main_arg2`, and half and a quarter of the rows of a layer of `main_v1_1`, at an offset. -/
abbrev own (o : Fin 2 → ℕ) (h : ∀ a, o a + S512x4096.size a ≤ S1024x4096.size a) : Memref sig .tc .hbm S512x4096 .bf16 :=
  (Memref.whole main_arg2).slice (Rect.unit (s := S1024x4096) o S512x4096.size h) (fun _ => rfl)
abbrev big (o : Fin 3 → ℕ) (h : ∀ a, o a + S1x512x4096.size a ≤ S4x1024x4096.size a) : Memref sig .tc .hbm S512x4096 .bf16 :=
  ((Memref.whole main_v1_1).slice (Rect.unit (s := S4x1024x4096) o S1x512x4096.size h) (fun _ => rfl)).squeeze S512x4096 squeezes_S1x512x4096_S512x4096
abbrev half (o : Fin 3 → ℕ) (h : ∀ a, o a + S1x256x4096.size a ≤ S4x1024x4096.size a) : Memref sig .tc .hbm S256x4096 .bf16 :=
  ((Memref.whole main_v1_1).slice (Rect.unit (s := S4x1024x4096) o S1x256x4096.size h) (fun _ => rfl)).squeeze S256x4096 squeezes_S1x256x4096_S256x4096
abbrev half' (o : Fin 3 → ℕ) (h : ∀ a, o a + S1x256x4096.size a ≤ S4x1024x4096.size a) : Memref sig .tc .hbm S256x4096 .bf16 :=
  ((Memref.whole main_v1_1).slice (Rect.unit (s := S4x1024x4096) o S1x256x4096.size h) (fun _ => rfl)).squeeze S256x4096 squeezes_S1x256x4096_S256x4096

/-- The units of one transfer of a link. -/
def amountBig : ℕ := (big ![0, 0, 0] (by decide)).view.dmaCredit
def amountHalf : ℕ := (half ![0, 0, 0] (by decide)).view.dmaCredit
def amountHalf' : ℕ := (half' ![0, 0, 0] (by decide)).view.dmaCredit
def amount (j : Fin 8) : ℕ := if j.val < 4 then amountBig else if j.val % 2 = 0 then amountHalf else amountHalf'

theorem amount_pos (j : Fin 8) : 0 < amount j := by
  unfold amount
  split
  · exact View.dmaCredit_pos _ (by decide)
  split <;> exact View.dmaCredit_pos _ (by decide)

/-! ## The places -/

/-- The layer, the first row and the number of rows of what device `c` sends on a link, at either end. -/
def layer (j : Fin 8) (c : Dev nD) : ℕ :=
  match j with
  | 0 | 1 => c.val / 2
  | 2 | 4 => (across₁ c).val / 2
  | 3 | 5 => (across₂ c).val / 2
  | 6 | 7 => 3 - c.val / 2
def row (j : Fin 8) (c : Dev nD) : ℕ := 512 * (c.val % 2) + (if j = 5 ∨ j = 7 then 256 else 0)
def height (j : Fin 8) : ℕ := if j.val < 4 then 512 else if j.val % 2 = 0 then 256 else 256

/-- Some rows of a layer. -/
def zone (s r n : ℕ) : Finset S4x1024x4096.Idx := Finset.univ.filter fun i => (i 0).val = s ∧ r ≤ (i 1).val ∧ (i 1).val < r + n

theorem mem_zone {s r n : ℕ} {i : S4x1024x4096.Idx} : i ∈ zone s r n ↔ (i 0).val = s ∧ r ≤ (i 1).val ∧ (i 1).val < r + n := by
  unfold zone
  rw [Finset.mem_filter, and_iff_right (Finset.mem_univ i)]

/-- The elements that device `c` sends on a link from the third on, and the elements that it is sent on a link. -/
def place (j : Fin 8) (c : Dev nD) : Finset S4x1024x4096.Idx := zone (layer j c) (row j c) (height j)
def landing (j : Fin 8) (c : Dev nD) : Finset S4x1024x4096.Idx := place j (peer j c)

theorem big_set {o : Fin 3 → ℕ} {h} {s r : ℕ} (ho : o = ![s, r, 0]) : (big o h).view.set = zone s r 512 := by
  subst ho
  refine ((View.set_reshape _ _).trans (View.set_slice_whole _ _)).trans (Finset.ext fun i => ?_)
  rw [mem_zone]
  refine Rect.mem_set_unit.trans ⟨fun hi => ?_, fun hi a => ?_⟩
  · have h0 : s ≤ (i 0).val ∧ (i 0).val < s + 1 := hi 0
    exact ⟨by omega, hi 1⟩
  · have h2 : (i 2).val < 4096 := (i 2).isLt
    fin_cases a
    · exact ⟨hi.1.ge, by show (i 0).val < s + 1; omega⟩
    · exact hi.2
    · exact ⟨Nat.zero_le _, by show (i 2).val < 0 + 4096; omega⟩

theorem half_set {o : Fin 3 → ℕ} {h} {s r : ℕ} (ho : o = ![s, r, 0]) : (half o h).view.set = zone s r 256 := by
  subst ho
  refine ((View.set_reshape _ _).trans (View.set_slice_whole _ _)).trans (Finset.ext fun i => ?_)
  rw [mem_zone]
  refine Rect.mem_set_unit.trans ⟨fun hi => ?_, fun hi a => ?_⟩
  · have h0 : s ≤ (i 0).val ∧ (i 0).val < s + 1 := hi 0
    exact ⟨by omega, hi 1⟩
  · have h2 : (i 2).val < 4096 := (i 2).isLt
    fin_cases a
    · exact ⟨hi.1.ge, by show (i 0).val < s + 1; omega⟩
    · exact hi.2
    · exact ⟨Nat.zero_le _, by show (i 2).val < 0 + 4096; omega⟩

theorem half'_set {o : Fin 3 → ℕ} {h} {s r : ℕ} (ho : o = ![s, r, 0]) : (half' o h).view.set = zone s r 256 := by
  subst ho
  refine ((View.set_reshape _ _).trans (View.set_slice_whole _ _)).trans (Finset.ext fun i => ?_)
  rw [mem_zone]
  refine Rect.mem_set_unit.trans ⟨fun hi => ?_, fun hi a => ?_⟩
  · have h0 : s ≤ (i 0).val ∧ (i 0).val < s + 1 := hi 0
    exact ⟨by omega, hi 1⟩
  · have h2 : (i 2).val < 4096 := (i 2).isLt
    fin_cases a
    · exact ⟨hi.1.ge, by show (i 0).val < s + 1; omega⟩
    · exact hi.2
    · exact ⟨Nat.zero_le _, by show (i 2).val < 0 + 4096; omega⟩

/-- The places the kernel computes are these. -/
theorem off_dst (c : Dev nD) : k0_off1 c = ![c.val / 2, 512 * (c.val % 2), 0] := by revert c; decide +kernel
theorem off_own (c : Dev nD) : k0_off2 c = ![512 * (c.val % 2), 0] := by revert c; decide +kernel
theorem off_2 (c : Dev nD) : k0_off5 c = ![layer 2 c, row 2 c, 0] := by revert c; decide +kernel
theorem off_4 (c : Dev nD) : k0_off6 c = ![layer 4 c, row 4 c, 0] := by revert c; decide +kernel
theorem off_3 (c : Dev nD) : k0_off7 c = ![layer 3 c, row 3 c, 0] := by revert c; decide +kernel
theorem off_5 (c : Dev nD) : k0_off8 c = ![layer 5 c, row 5 c, 0] := by revert c; decide +kernel
theorem off_6 (c : Dev nD) : k0_off13 c 0#32 = ![layer 6 c, row 6 c, 0] := by revert c; decide +kernel
theorem off_7 (c : Dev nD) : k0_off13 c 256#32 = ![layer 7 c, row 7 c, 0] := by revert c; decide +kernel

/-- What came along a link lies where it is passed on from. -/
theorem landing_0 (c : Dev nD) : landing 0 c = place 2 c := by
  have h : layer 0 (peer 0 c) = layer 2 c ∧ row 0 (peer 0 c) = row 2 c := by revert c; decide
  unfold landing place; rw [h.1, h.2]; rfl
theorem landing_1 (c : Dev nD) : landing 1 c = place 3 c := by
  have h : layer 1 (peer 1 c) = layer 3 c ∧ row 1 (peer 1 c) = row 3 c := by revert c; decide
  unfold landing place; rw [h.1, h.2]; rfl
theorem landing_4 (c : Dev nD) : landing 4 c = place 6 c := by
  have h : layer 4 (peer 4 c) = layer 6 c ∧ row 4 (peer 4 c) = row 6 c := by revert c; decide
  unfold landing place; rw [h.1, h.2]; rfl
theorem landing_5 (c : Dev nD) : landing 5 c = place 7 c := by
  have h : layer 5 (peer 5 c) = layer 7 c ∧ row 5 (peer 5 c) = row 7 c := by revert c; decide
  unfold landing place; rw [h.1, h.2]; rfl

theorem place_4_sub (c : Dev nD) : place 4 c ⊆ place 2 c := by
  have h : layer 4 c = layer 2 c ∧ row 4 c = row 2 c ∧ height 4 = 256 ∧ height 2 = 512 := by revert c; decide
  intro i hi
  unfold place at hi ⊢
  rw [mem_zone] at hi ⊢
  omega
theorem place_5_sub (c : Dev nD) : place 5 c ⊆ place 3 c := by
  have h : layer 5 c = layer 3 c ∧ row 5 c = row 3 c + 256 ∧ height 5 = 256 ∧ height 3 = 512 := by revert c; decide
  intro i hi
  unfold place at hi ⊢
  rw [mem_zone] at hi ⊢
  omega

theorem landing_apart (c : Dev nD) (j j' : Fin 8) (h : j ≠ j') : Disjoint (landing j c) (landing j' c) := by
  have hn : layer j (peer j c) ≠ layer j' (peer j' c) ∨ row j (peer j c) + height j ≤ row j' (peer j' c)
      ∨ row j' (peer j' c) + height j' ≤ row j (peer j c) := by revert c j j'; decide +kernel
  refine Finset.disjoint_left.mpr fun i hi hi' => ?_
  unfold landing place at hi hi'
  rw [mem_zone] at hi hi'
  omega

/-- An element is in the rows that are gathered. -/
def band (i : S4x1024x4096.Idx) : Prop := (i 1).val % 512 < 512

instance (i : S4x1024x4096.Idx) : Decidable (band i) := by unfold band; infer_instance

/-- Every such element outside the layer of the own chip is in a landing place. -/
theorem mem_landing (c : Dev nD) (i : S4x1024x4096.Idx) (h : (i 0).val ≠ c.val / 2) (hb : band i) : ∃ j, i ∈ landing j c := by
  have h1 : (i 1).val < 1024 := (i 1).isLt
  unfold band at hb
  have hn : ∀ (c : Dev nD) (s : Fin 4) (b : Fin 2) (q : Fin 2), s.val ≠ c.val / 2 → ∃ j : Fin 8, s.val = layer j (peer j c)
      ∧ row j (peer j c) ≤ 512 * b.val + 256 * q.val
      ∧ 512 * b.val + 256 + 256 * q.val ≤ row j (peer j c) + height j := by decide +kernel
  by_cases hq : (i 1).val % 512 < 256
  · obtain ⟨j, h1, h2, h3⟩ := hn c (i 0) ⟨(i 1).val / 512, by omega⟩ 0 h
    refine ⟨j, ?_⟩
    unfold landing place
    rw [mem_zone]
    dsimp only at h2 h3
    have e : ((0 : Fin 2) : ℕ) = 0 := rfl
    omega
  · obtain ⟨j, h1, h2, h3⟩ := hn c (i 0) ⟨(i 1).val / 512, by omega⟩ 1 h
    refine ⟨j, ?_⟩
    unfold landing place
    rw [mem_zone]
    dsimp only at h2 h3
    have e : ((1 : Fin 2) : ℕ) = 1 := rfl
    omega

theorem place_layer (j : Fin 8) (c : Dev nD) (hj : 2 ≤ j.val) {i : S4x1024x4096.Idx} (hi : i ∈ place j c) :
    (i 0).val ≠ c.val / 2 ∧ (i 0).val ≠ (peer j c).val / 2 ∧ band i := by
  have h : layer j c ≠ c.val / 2 ∧ layer j c ≠ (peer j c).val / 2 ∧ (512 * (c.val % 2) ≤ row j c)
      ∧ row j c + height j ≤ 512 * (c.val % 2) + 512 := by clear hi; revert c j; decide +kernel
  unfold place at hi
  rw [mem_zone] at hi
  unfold band
  omega

/-! ## What travels -/

variable (m : (ℓ : Loc nD τ sig) → Buf (Elt F) ℓ)

/-- The device whose half of the rows an element of `main_v1_1` belongs to, and where it lies in its `main_arg2`. -/
def source (i : S4x1024x4096.Idx) : Dev nD :=
  ⟨2 * (i 0).val + (i 1).val / 512, by
    have h0 : (i 0).val < 4 := (i 0).isLt
    have h1 : (i 1).val < 1024 := (i 1).isLt
    show 2 * (i 0).val + (i 1).val / 512 < 8; omega⟩
def origin (i : S4x1024x4096.Idx) : S1024x4096.Idx
  | 0 => i 1
  | 1 => i 2

/-- `main_v1_1` of device `c` when all has landed: the rows gathered of the other chips, and elsewhere what it held. -/
def filled (c : Dev nD) : Vec F S4x1024x4096 .bf16 := fun i =>
  if (i 0).val ≠ c.val / 2 ∧ band i then m ((source i : Thread nD τ).loc main_arg2) (origin i) else m (c.tc.loc main_v1_1) i

/-- Two devices agree on what is gathered in a layer of neither. -/
theorem filled_eq (c c' : Dev nD) (i : S4x1024x4096.Idx) (h : (i 0).val ≠ c.val / 2) (h' : (i 0).val ≠ c'.val / 2) (hb : band i) :
    filled m c i = filled m c' i := by unfold filled; rw [if_pos ⟨h, hb⟩, if_pos ⟨h', hb⟩]

/-- Elements of `main_v1_1` on device `c` at contents `f`. -/
def piece (c : Dev nD) (I : Finset S4x1024x4096.Idx) (q : PosShare TreeShare) (f : Vec F S4x1024x4096 .bf16) : sProp 𝕄 :=
  iprop(c.tc.loc main_v1_1 ↦[I]{q} (f : Buf (Elt F) (c.tc.loc main_v1_1)))

theorem own_inb (c : Dev nD) : ∀ a, k0_off2 c a + S512x4096.size a ≤ S1024x4096.size a := by revert c; decide +kernel

/-- The half of its own rows that device `c` sends, at its launch contents. -/
def mineRows (c : Dev nD) (q : PosShare TreeShare) : sProp 𝕄 :=
  iprop(c.tc.loc main_arg2 ↦[(own (k0_off2 c) (own_inb c)).view.set]{q} m (c.tc.loc main_arg2))

/-- Two links that read the same elements have one half of the right to them each. -/
def part (j : Fin 8) : PosShare TreeShare :=
  match j with
  | 0 | 2 | 3 => fullShare.left
  | 1 | 4 | 5 => fullShare.right
  | 6 | 7 => fullShare

/-- What a device sends on a link, the place there for what it is sent, and that place with what was sent. -/
def lent (c : Dev nD) (j : Fin 8) : sProp 𝕄 := if j.val < 2 then mineRows m c (part j) else piece c (place j c) (part j) (filled m c)
def room (c : Dev nD) (j : Fin 8) : sProp 𝕄 := iprop(∃ f, piece c (landing j c) fullShare f)
def came (c : Dev nD) (j : Fin 8) : sProp 𝕄 := piece c (landing j c) fullShare (filled m c)

theorem lent_own (c : Dev nD) (j : Fin 8) (h : j.val < 2) : lent m c j = mineRows m c (part j) := if_pos h
theorem lent_pass (c : Dev nD) (j : Fin 8) (h : ¬ j.val < 2) : lent m c j = piece c (place j c) (part j) (filled m c) := if_neg h

/-- What a transfer of the own rows leaves where it lands is what `filled` says. -/
theorem delivered (c c' : Dev nD) (hc : c.val / 2 ≠ c'.val / 2) {h} {h'} (fd : Vec F S4x1024x4096 .bf16) (i) (hi : i ∈ (big (k0_off1 c) h).view.set) :
    (big (k0_off1 c) h).view.write (Elt F) fd ((own (k0_off2 c) h').view.read (Elt F) (m (c.tc.loc main_arg2))) Finset.univ i = filled m c' i := by
  have hz : i ∈ zone (c.val / 2) (512 * (c.val % 2)) 512 := big_set (off_dst c) ▸ hi
  rw [mem_zone] at hz
  obtain ⟨x, -, rfl⟩ := Finset.mem_map.mp hi
  refine (View.write_emb_of_mem (v := (big (k0_off1 c) h).view) fd _ (Finset.mem_univ x)).trans ?_
  show m (c.tc.loc main_arg2) ((own (k0_off2 c) h').view.emb x) = _
  have e1 : (((big (k0_off1 c) h).view.emb x) 1).val = k0_off1 c 1 + 1 * (x 0).val :=
    congrArg (fun w : S1x512x4096.Idx => k0_off1 c 1 + 1 * (w 1).val) (Shape.reshapeEquiv_cons_one (d := ![512, 4096]) (by decide) x)
  have e2 : (((big (k0_off1 c) h).view.emb x) 2).val = k0_off1 c 2 + 1 * (x 1).val :=
    congrArg (fun w : S1x512x4096.Idx => k0_off1 c 2 + 1 * (w 2).val) (Shape.reshapeEquiv_cons_one (d := ![512, 4096]) (by decide) x)
  generalize hy : (big (k0_off1 c) h).view.emb x = i at hz e1 e2
  have f1 : k0_off1 c 1 = 512 * (c.val % 2) := congrFun (off_dst c) 1
  have f2 : k0_off1 c 2 = 0 := congrFun (off_dst c) 2
  have g1 : k0_off2 c 0 = 512 * (c.val % 2) := congrFun (off_own c) 0
  have g2 : k0_off2 c 1 = 0 := congrFun (off_own c) 1
  have hs : source i = c := Fin.ext (show 2 * (i 0).val + (i 1).val / 512 = c.val by omega)
  unfold filled
  rw [if_pos ⟨by omega, by unfold band; omega⟩, hs]
  refine congrArg _ (funext fun a => ?_)
  fin_cases a <;> refine Fin.ext ?_
  · show k0_off2 c 0 + 1 * (x 0).val = (i 1).val
    omega
  · show k0_off2 c 1 + 1 * (x 1).val = (i 2).val
    omega

/-! ## The buffers in pieces -/

/-- The elements of a device's `main_arg2` that it does not send, and the layer of its own chip. -/
def kept (c : Dev nD) : sProp 𝕄 :=
  iprop(c.tc.loc main_arg2 ↦[Finset.univ \ (own (k0_off2 c) (own_inb c)).view.set]{fullShare} m (c.tc.loc main_arg2))
def ownLayer (c : Dev nD) (f : Vec F S4x1024x4096 .bf16) : sProp 𝕄 :=
  piece c (Finset.univ \ (Finset.univ : Finset (Fin 8)).biUnion fun j => landing j c) fullShare f

omit [FloatOps F] in
theorem piece_share (c : Dev nD) (I) (f : Vec F S4x1024x4096 .bf16) :
    (piece c I fullShare f : sProp 𝕄) ⊣⊢ iprop(piece c I fullShare.left f ∗ piece c I fullShare.right f) :=
  pointsTo_share (PosShare.mem_left_op_right fullShare)

omit [FloatOps F] in
theorem piece_sub (c : Dev nD) {I J} (h : I ⊆ J) (q) (f : Vec F S4x1024x4096 .bf16) :
    (piece c J q f : sProp 𝕄) ⊣⊢ iprop(piece c I q f ∗ piece c (J \ I) q f) :=
  pointsTo_split_subset h

omit [FloatOps F] in
theorem arg_split (c : Dev nD) :
    (c.tc.loc main_arg2 ↦{fullShare} m (c.tc.loc main_arg2) : sProp 𝕄)
      ⊣⊢ iprop((mineRows m c fullShare.left ∗ mineRows m c fullShare.right) ∗ kept m c) := by
  have h : (mineRows m c fullShare : sProp 𝕄) = iprop(mineRows m c fullShare.left ∗ mineRows m c fullShare.right) :=
    by unfold mineRows; exact equiv_iff.mp ⟨(pointsTo_share (PosShare.mem_left_op_right fullShare)).1, (pointsTo_share (PosShare.mem_left_op_right fullShare)).2⟩
  rw [← h]
  exact pointsTo_split_subset (Finset.subset_univ _)

omit [FloatOps F] in
theorem buffer_split (c : Dev nD) (f : Vec F S4x1024x4096 .bf16) :
    (c.tc.loc main_v1_1 ↦{fullShare} (f : Buf (Elt F) (c.tc.loc main_v1_1)) : sProp 𝕄)
      ⊣⊢ iprop((bigSep Finset.univ fun j => piece c (landing j c) fullShare f) ∗ ownLayer c f) := by
  have h := pointsTo_biUnion (ℓ := (c.tc : Thread nD τ).loc main_v1_1) (Ix := Unit) (Name := ℕ) (U := UU nD sig τ) (Lvl := ℕ) (q := fullShare)
    (f := (f : Buf (Elt F) (c.tc.loc main_v1_1))) Finset.univ (fun j => landing j c) fun j _ j' _ hj => landing_apart c j j' hj
  unfold ownLayer piece
  rw [← h]
  exact pointsTo_split_subset (Finset.subset_univ _)

omit [FloatOps F] in
/-- Outside the landing places `filled` is what was there. -/
theorem ownLayer_eq (c : Dev nD) : (ownLayer c (m (c.tc.loc main_v1_1)) : sProp 𝕄) = ownLayer c (filled m c) := by
  unfold ownLayer piece
  refine pointsTo_congr fun i hi => ?_
  refine (if_neg fun h => ?_).symm
  obtain ⟨j, hj⟩ := mem_landing c i h.1 h.2
  exact (Finset.mem_sdiff.mp hi).2 (Finset.mem_biUnion.mpr ⟨j, Finset.mem_univ _, hj⟩)

end Cert.Pf.A

end
-- ==== Proof.PfRowsB.lean ====
/-
# The second gathering of `proj_fwd`: what travels, and where it lies

Rows 0 to 879 of each half of the `main_arg3` of every other chip are gathered into the layers of `main_v1_2`, layer `s` for chip `s`. A core brings one half of
the rows of each chip and passes them to the other core of its chip. Device `c`

* sends its half of the rows of its own array on links 0 and 1;
* passes on what came along link 0: all of it on link 2, the first part of it on link 4; and what came along link 1: all of
  it on link 3, the second part of it on link 5;
* passes on what came along link 4 on link 6, and what came along link 5 on link 7.

Rows lie at one and the same place of `main_v1_2` on every device. `filled` names the contents, so one run over any float
values gives both frames and the value.
-/
module

public import proofs.«01_k».proof.Proof.PfPeers

@[expose] public section

noncomputable section

namespace Cert.Pf.B

open Cert.Pf Cert.PfKernelIdeal Cert.PfKernelIdeal.Gen

open Idealize.ShloMosaic
open TcCoe Rounds
open Idealize.SL Idealize.SL.RA Idealize.SL.BI
open BIBase Laws ProofMode Sem
open Cert.Exchange (Links UU EP ER)

variable {F : FTy → Type} [FloatOps F]

local notation "𝕄" => MT nD τ sig Unit (Elt F) ℕ (UU nD sig τ) ℕ

/-- Half the rows of a `main_arg3`, and half and a quarter of the rows of a layer of `main_v1_2`, at an offset. -/
abbrev own (o : Fin 2 → ℕ) (h : ∀ a, o a + S880x4096.size a ≤ S4096x4096.size a) : Memref sig .tc .hbm S880x4096 .bf16 :=
  (Memref.whole main_arg3).slice (Rect.unit (s := S4096x4096) o S880x4096.size h) (fun _ => rfl)
abbrev big (o : Fin 3 → ℕ) (h : ∀ a, o a + S1x880x4096.size a ≤ S4x4096x4096.size a) : Memref sig .tc .hbm S880x4096 .bf16 :=
  ((Memref.whole main_v1_2).slice (Rect.unit (s := S4x4096x4096) o S1x880x4096.size h) (fun _ => rfl)).squeeze S880x4096 squeezes_S1x880x4096_S880x4096
abbrev half (o : Fin 3 → ℕ) (h : ∀ a, o a + S1x432x4096.size a ≤ S4x4096x4096.size a) : Memref sig .tc .hbm S432x4096 .bf16 :=
  ((Memref.whole main_v1_2).slice (Rect.unit (s := S4x4096x4096) o S1x432x4096.size h) (fun _ => rfl)).squeeze S432x4096 squeezes_S1x432x4096_S432x4096
abbrev half' (o : Fin 3 → ℕ) (h : ∀ a, o a + S1x448x4096.size a ≤ S4x4096x4096.size a) : Memref sig .tc .hbm S448x4096 .bf16 :=
  ((Memref.whole main_v1_2).slice (Rect.unit (s := S4x4096x4096) o S1x448x4096.size h) (fun _ => rfl)).squeeze S448x4096 squeezes_S1x448x4096_S448x4096

/-- The units of one transfer of a link. -/
def amountBig : ℕ := (big ![0, 0, 0] (by decide)).view.dmaCredit
def amountHalf : ℕ := (half ![0, 0, 0] (by decide)).view.dmaCredit
def amountHalf' : ℕ := (half' ![0, 0, 0] (by decide)).view.dmaCredit
def amount (j : Fin 8) : ℕ := if j.val < 4 then amountBig else if j.val % 2 = 0 then amountHalf else amountHalf'

theorem amount_pos (j : Fin 8) : 0 < amount j := by
  unfold amount
  split
  · exact View.dmaCredit_pos _ (by decide)
  split <;> exact View.dmaCredit_pos _ (by decide)

/-! ## The places -/

/-- The layer, the first row and the number of rows of what device `c` sends on a link, at either end. -/
def layer (j : Fin 8) (c : Dev nD) : ℕ :=
  match j with
  | 0 | 1 => c.val / 2
  | 2 | 4 => (across₁ c).val / 2
  | 3 | 5 => (across₂ c).val / 2
  | 6 | 7 => 3 - c.val / 2
def row (j : Fin 8) (c : Dev nD) : ℕ := 2048 * (c.val % 2) + (if j = 5 ∨ j = 7 then 432 else 0)
def height (j : Fin 8) : ℕ := if j.val < 4 then 880 else if j.val % 2 = 0 then 432 else 448

/-- Some rows of a layer. -/
def zone (s r n : ℕ) : Finset S4x4096x4096.Idx := Finset.univ.filter fun i => (i 0).val = s ∧ r ≤ (i 1).val ∧ (i 1).val < r + n

theorem mem_zone {s r n : ℕ} {i : S4x4096x4096.Idx} : i ∈ zone s r n ↔ (i 0).val = s ∧ r ≤ (i 1).val ∧ (i 1).val < r + n := by
  unfold zone
  rw [Finset.mem_filter, and_iff_right (Finset.mem_univ i)]

/-- The elements that device `c` sends on a link from the third on, and the elements that it is sent on a link. -/
def place (j : Fin 8) (c : Dev nD) : Finset S4x4096x4096.Idx := zone (layer j c) (row j c) (height j)
def landing (j : Fin 8) (c : Dev nD) : Finset S4x4096x4096.Idx := place j (peer j c)

theorem big_set {o : Fin 3 → ℕ} {h} {s r : ℕ} (ho : o = ![s, r, 0]) : (big o h).view.set = zone s r 880 := by
  subst ho
  refine ((View.set_reshape _ _).trans (View.set_slice_whole _ _)).trans (Finset.ext fun i => ?_)
  rw [mem_zone]
  refine Rect.mem_set_unit.trans ⟨fun hi => ?_, fun hi a => ?_⟩
  · have h0 : s ≤ (i 0).val ∧ (i 0).val < s + 1 := hi 0
    exact ⟨by omega, hi 1⟩
  · have h2 : (i 2).val < 4096 := (i 2).isLt
    fin_cases a
    · exact ⟨hi.1.ge, by show (i 0).val < s + 1; omega⟩
    · exact hi.2
    · exact ⟨Nat.zero_le _, by show (i 2).val < 0 + 4096; omega⟩

theorem half_set {o : Fin 3 → ℕ} {h} {s r : ℕ} (ho : o = ![s, r, 0]) : (half o h).view.set = zone s r 432 := by
  subst ho
  refine ((View.set_reshape _ _).trans (View.set_slice_whole _ _)).trans (Finset.ext fun i => ?_)
  rw [mem_zone]
  refine Rect.mem_set_unit.trans ⟨fun hi => ?_, fun hi a => ?_⟩
  · have h0 : s ≤ (i 0).val ∧ (i 0).val < s + 1 := hi 0
    exact ⟨by omega, hi 1⟩
  · have h2 : (i 2).val < 4096 := (i 2).isLt
    fin_cases a
    · exact ⟨hi.1.ge, by show (i 0).val < s + 1; omega⟩
    · exact hi.2
    · exact ⟨Nat.zero_le _, by show (i 2).val < 0 + 4096; omega⟩

theorem half'_set {o : Fin 3 → ℕ} {h} {s r : ℕ} (ho : o = ![s, r, 0]) : (half' o h).view.set = zone s r 448 := by
  subst ho
  refine ((View.set_reshape _ _).trans (View.set_slice_whole _ _)).trans (Finset.ext fun i => ?_)
  rw [mem_zone]
  refine Rect.mem_set_unit.trans ⟨fun hi => ?_, fun hi a => ?_⟩
  · have h0 : s ≤ (i 0).val ∧ (i 0).val < s + 1 := hi 0
    exact ⟨by omega, hi 1⟩
  · have h2 : (i 2).val < 4096 := (i 2).isLt
    fin_cases a
    · exact ⟨hi.1.ge, by show (i 0).val < s + 1; omega⟩
    · exact hi.2
    · exact ⟨Nat.zero_le _, by show (i 2).val < 0 + 4096; omega⟩

/-- The places the kernel computes are these. -/
theorem off_dst (c : Dev nD) : k0_off3 c = ![c.val / 2, 2048 * (c.val % 2), 0] := by revert c; decide +kernel
theorem off_own (c : Dev nD) : k0_off4 c = ![2048 * (c.val % 2), 0] := by revert c; decide +kernel
theorem off_2 (c : Dev nD) : k0_off9 c = ![layer 2 c, row 2 c, 0] := by revert c; decide +kernel
theorem off_4 (c : Dev nD) : k0_off10 c = ![layer 4 c, row 4 c, 0] := by revert c; decide +kernel
theorem off_3 (c : Dev nD) : k0_off11 c = ![layer 3 c, row 3 c, 0] := by revert c; decide +kernel
theorem off_5 (c : Dev nD) : k0_off12 c = ![layer 5 c, row 5 c, 0] := by revert c; decide +kernel
theorem off_6 (c : Dev nD) : k0_off23 c = ![layer 6 c, row 6 c, 0] := by revert c; decide +kernel
theorem off_7 (c : Dev nD) : k0_off24 c = ![layer 7 c, row 7 c, 0] := by revert c; decide +kernel

/-- What came along a link lies where it is passed on from. -/
theorem landing_0 (c : Dev nD) : landing 0 c = place 2 c := by
  have h : layer 0 (peer 0 c) = layer 2 c ∧ row 0 (peer 0 c) = row 2 c := by revert c; decide
  unfold landing place; rw [h.1, h.2]; rfl
theorem landing_1 (c : Dev nD) : landing 1 c = place 3 c := by
  have h : layer 1 (peer 1 c) = layer 3 c ∧ row 1 (peer 1 c) = row 3 c := by revert c; decide
  unfold landing place; rw [h.1, h.2]; rfl
theorem landing_4 (c : Dev nD) : landing 4 c = place 6 c := by
  have h : layer 4 (peer 4 c) = layer 6 c ∧ row 4 (peer 4 c) = row 6 c := by revert c; decide
  unfold landing place; rw [h.1, h.2]; rfl
theorem landing_5 (c : Dev nD) : landing 5 c = place 7 c := by
  have h : layer 5 (peer 5 c) = layer 7 c ∧ row 5 (peer 5 c) = row 7 c := by revert c; decide
  unfold landing place; rw [h.1, h.2]; rfl

theorem place_4_sub (c : Dev nD) : place 4 c ⊆ place 2 c := by
  have h : layer 4 c = layer 2 c ∧ row 4 c = row 2 c ∧ height 4 = 432 ∧ height 2 = 880 := by revert c; decide
  intro i hi
  unfold place at hi ⊢
  rw [mem_zone] at hi ⊢
  omega
theorem place_5_sub (c : Dev nD) : place 5 c ⊆ place 3 c := by
  have h : layer 5 c = layer 3 c ∧ row 5 c = row 3 c + 432 ∧ height 5 = 448 ∧ height 3 = 880 := by revert c; decide
  intro i hi
  unfold place at hi ⊢
  rw [mem_zone] at hi ⊢
  omega

theorem landing_apart (c : Dev nD) (j j' : Fin 8) (h : j ≠ j') : Disjoint (landing j c) (landing j' c) := by
  have hn : layer j (peer j c) ≠ layer j' (peer j' c) ∨ row j (peer j c) + height j ≤ row j' (peer j' c)
      ∨ row j' (peer j' c) + height j' ≤ row j (peer j c) := by revert c j j'; decide +kernel
  refine Finset.disjoint_left.mpr fun i hi hi' => ?_
  unfold landing place at hi hi'
  rw [mem_zone] at hi hi'
  omega

/-- An element is in the rows that are gathered. -/
def band (i : S4x4096x4096.Idx) : Prop := (i 1).val % 2048 < 880

instance (i : S4x4096x4096.Idx) : Decidable (band i) := by unfold band; infer_instance

/-- Every such element outside the layer of the own chip is in a landing place. -/
theorem mem_landing (c : Dev nD) (i : S4x4096x4096.Idx) (h : (i 0).val ≠ c.val / 2) (hb : band i) : ∃ j, i ∈ landing j c := by
  have h1 : (i 1).val < 4096 := (i 1).isLt
  unfold band at hb
  have hn : ∀ (c : Dev nD) (s : Fin 4) (b : Fin 2) (q : Fin 2), s.val ≠ c.val / 2 → ∃ j : Fin 8, s.val = layer j (peer j c)
      ∧ row j (peer j c) ≤ 2048 * b.val + 432 * q.val
      ∧ 2048 * b.val + 432 + 448 * q.val ≤ row j (peer j c) + height j := by decide +kernel
  by_cases hq : (i 1).val % 2048 < 432
  · obtain ⟨j, h1, h2, h3⟩ := hn c (i 0) ⟨(i 1).val / 2048, by omega⟩ 0 h
    refine ⟨j, ?_⟩
    unfold landing place
    rw [mem_zone]
    dsimp only at h2 h3
    have e : ((0 : Fin 2) : ℕ) = 0 := rfl
    omega
  · obtain ⟨j, h1, h2, h3⟩ := hn c (i 0) ⟨(i 1).val / 2048, by omega⟩ 1 h
    refine ⟨j, ?_⟩
    unfold landing place
    rw [mem_zone]
    dsimp only at h2 h3
    have e : ((1 : Fin 2) : ℕ) = 1 := rfl
    omega

theorem place_layer (j : Fin 8) (c : Dev nD) (hj : 2 ≤ j.val) {i : S4x4096x4096.Idx} (hi : i ∈ place j c) :
    (i 0).val ≠ c.val / 2 ∧ (i 0).val ≠ (peer j c).val / 2 ∧ band i := by
  have h : layer j c ≠ c.val / 2 ∧ layer j c ≠ (peer j c).val / 2 ∧ (2048 * (c.val % 2) ≤ row j c)
      ∧ row j c + height j ≤ 2048 * (c.val % 2) + 880 := by clear hi; revert c j; decide +kernel
  unfold place at hi
  rw [mem_zone] at hi
  unfold band
  omega

/-! ## What travels -/

variable (m : (ℓ : Loc nD τ sig) → Buf (Elt F) ℓ)

/-- The device whose half of the rows an element of `main_v1_2` belongs to, and where it lies in its `main_arg3`. -/
def source (i : S4x4096x4096.Idx) : Dev nD :=
  ⟨2 * (i 0).val + (i 1).val / 2048, by
    have h0 : (i 0).val < 4 := (i 0).isLt
    have h1 : (i 1).val < 4096 := (i 1).isLt
    show 2 * (i 0).val + (i 1).val / 2048 < 8; omega⟩
def origin (i : S4x4096x4096.Idx) : S4096x4096.Idx
  | 0 => i 1
  | 1 => i 2

/-- `main_v1_2` of device `c` when all has landed: the rows gathered of the other chips, and elsewhere what it held. -/
def filled (c : Dev nD) : Vec F S4x4096x4096 .bf16 := fun i =>
  if (i 0).val ≠ c.val / 2 ∧ band i then m ((source i : Thread nD τ).loc main_arg3) (origin i) else m (c.tc.loc main_v1_2) i

/-- Two devices agree on what is gathered in a layer of neither. -/
theorem filled_eq (c c' : Dev nD) (i : S4x4096x4096.Idx) (h : (i 0).val ≠ c.val / 2) (h' : (i 0).val ≠ c'.val / 2) (hb : band i) :
    filled m c i = filled m c' i := by unfold filled; rw [if_pos ⟨h, hb⟩, if_pos ⟨h', hb⟩]

/-- Elements of `main_v1_2` on device `c` at contents `f`. -/
def piece (c : Dev nD) (I : Finset S4x4096x4096.Idx) (q : PosShare TreeShare) (f : Vec F S4x4096x4096 .bf16) : sProp 𝕄 :=
  iprop(c.tc.loc main_v1_2 ↦[I]{q} (f : Buf (Elt F) (c.tc.loc main_v1_2)))

theorem own_inb (c : Dev nD) : ∀ a, k0_off4 c a + S880x4096.size a ≤ S4096x4096.size a := by revert c; decide +kernel

/-- The half of its own rows that device `c` sends, at its launch contents. -/
def mineRows (c : Dev nD) (q : PosShare TreeShare) : sProp 𝕄 :=
  iprop(c.tc.loc main_arg3 ↦[(own (k0_off4 c) (own_inb c)).view.set]{q} m (c.tc.loc main_arg3))

/-- Two links that read the same elements have one half of the right to them each. -/
def part (j : Fin 8) : PosShare TreeShare :=
  match j with
  | 0 | 2 | 3 => fullShare.left
  | 1 | 4 | 5 => fullShare.right
  | 6 | 7 => fullShare

/-- What a device sends on a link, the place there for what it is sent, and that place with what was sent. -/
def lent (c : Dev nD) (j : Fin 8) : sProp 𝕄 := if j.val < 2 then mineRows m c (part j) else piece c (place j c) (part j) (filled m c)
def room (c : Dev nD) (j : Fin 8) : sProp 𝕄 := iprop(∃ f, piece c (landing j c) fullShare f)
def came (c : Dev nD) (j : Fin 8) : sProp 𝕄 := piece c (landing j c) fullShare (filled m c)

theorem lent_own (c : Dev nD) (j : Fin 8) (h : j.val < 2) : lent m c j = mineRows m c (part j) := if_pos h
theorem lent_pass (c : Dev nD) (j : Fin 8) (h : ¬ j.val < 2) : lent m c j = piece c (place j c) (part j) (filled m c) := if_neg h

/-- What a transfer of the own rows leaves where it lands is what `filled` says. -/
theorem delivered (c c' : Dev nD) (hc : c.val / 2 ≠ c'.val / 2) {h} {h'} (fd : Vec F S4x4096x4096 .bf16) (i) (hi : i ∈ (big (k0_off3 c) h).view.set) :
    (big (k0_off3 c) h).view.write (Elt F) fd ((own (k0_off4 c) h').view.read (Elt F) (m (c.tc.loc main_arg3))) Finset.univ i = filled m c' i := by
  have hz : i ∈ zone (c.val / 2) (2048 * (c.val % 2)) 880 := big_set (off_dst c) ▸ hi
  rw [mem_zone] at hz
  obtain ⟨x, -, rfl⟩ := Finset.mem_map.mp hi
  refine (View.write_emb_of_mem (v := (big (k0_off3 c) h).view) fd _ (Finset.mem_univ x)).trans ?_
  show m (c.tc.loc main_arg3) ((own (k0_off4 c) h').view.emb x) = _
  have e1 : (((big (k0_off3 c) h).view.emb x) 1).val = k0_off3 c 1 + 1 * (x 0).val :=
    congrArg (fun w : S1x880x4096.Idx => k0_off3 c 1 + 1 * (w 1).val) (Shape.reshapeEquiv_cons_one (d := ![880, 4096]) (by decide) x)
  have e2 : (((big (k0_off3 c) h).view.emb x) 2).val = k0_off3 c 2 + 1 * (x 1).val :=
    congrArg (fun w : S1x880x4096.Idx => k0_off3 c 2 + 1 * (w 2).val) (Shape.reshapeEquiv_cons_one (d := ![880, 4096]) (by decide) x)
  generalize hy : (big (k0_off3 c) h).view.emb x = i at hz e1 e2
  have f1 : k0_off3 c 1 = 2048 * (c.val % 2) := congrFun (off_dst c) 1
  have f2 : k0_off3 c 2 = 0 := congrFun (off_dst c) 2
  have g1 : k0_off4 c 0 = 2048 * (c.val % 2) := congrFun (off_own c) 0
  have g2 : k0_off4 c 1 = 0 := congrFun (off_own c) 1
  have hs : source i = c := Fin.ext (show 2 * (i 0).val + (i 1).val / 2048 = c.val by omega)
  unfold filled
  rw [if_pos ⟨by omega, by unfold band; omega⟩, hs]
  refine congrArg _ (funext fun a => ?_)
  fin_cases a <;> refine Fin.ext ?_
  · show k0_off4 c 0 + 1 * (x 0).val = (i 1).val
    omega
  · show k0_off4 c 1 + 1 * (x 1).val = (i 2).val
    omega

/-! ## The buffers in pieces -/

/-- The elements of a device's `main_arg3` that it does not send, and the layer of its own chip. -/
def kept (c : Dev nD) : sProp 𝕄 :=
  iprop(c.tc.loc main_arg3 ↦[Finset.univ \ (own (k0_off4 c) (own_inb c)).view.set]{fullShare} m (c.tc.loc main_arg3))
def ownLayer (c : Dev nD) (f : Vec F S4x4096x4096 .bf16) : sProp 𝕄 :=
  piece c (Finset.univ \ (Finset.univ : Finset (Fin 8)).biUnion fun j => landing j c) fullShare f

omit [FloatOps F] in
theorem piece_share (c : Dev nD) (I) (f : Vec F S4x4096x4096 .bf16) :
    (piece c I fullShare f : sProp 𝕄) ⊣⊢ iprop(piece c I fullShare.left f ∗ piece c I fullShare.right f) :=
  pointsTo_share (PosShare.mem_left_op_right fullShare)

omit [FloatOps F] in
theorem piece_sub (c : Dev nD) {I J} (h : I ⊆ J) (q) (f : Vec F S4x4096x4096 .bf16) :
    (piece c J q f : sProp 𝕄) ⊣⊢ iprop(piece c I q f ∗ piece c (J \ I) q f) :=
  pointsTo_split_subset h

omit [FloatOps F] in
theorem arg_split (c : Dev nD) :
    (c.tc.loc main_arg3 ↦{fullShare} m (c.tc.loc main_arg3) : sProp 𝕄)
      ⊣⊢ iprop((mineRows m c fullShare.left ∗ mineRows m c fullShare.right) ∗ kept m c) := by
  have h : (mineRows m c fullShare : sProp 𝕄) = iprop(mineRows m c fullShare.left ∗ mineRows m c fullShare.right) :=
    by unfold mineRows; exact equiv_iff.mp ⟨(pointsTo_share (PosShare.mem_left_op_right fullShare)).1, (pointsTo_share (PosShare.mem_left_op_right fullShare)).2⟩
  rw [← h]
  exact pointsTo_split_subset (Finset.subset_univ _)

omit [FloatOps F] in
theorem buffer_split (c : Dev nD) (f : Vec F S4x4096x4096 .bf16) :
    (c.tc.loc main_v1_2 ↦{fullShare} (f : Buf (Elt F) (c.tc.loc main_v1_2)) : sProp 𝕄)
      ⊣⊢ iprop((bigSep Finset.univ fun j => piece c (landing j c) fullShare f) ∗ ownLayer c f) := by
  have h := pointsTo_biUnion (ℓ := (c.tc : Thread nD τ).loc main_v1_2) (Ix := Unit) (Name := ℕ) (U := UU nD sig τ) (Lvl := ℕ) (q := fullShare)
    (f := (f : Buf (Elt F) (c.tc.loc main_v1_2))) Finset.univ (fun j => landing j c) fun j _ j' _ hj => landing_apart c j j' hj
  unfold ownLayer piece
  rw [← h]
  exact pointsTo_split_subset (Finset.subset_univ _)

omit [FloatOps F] in
/-- Outside the landing places `filled` is what was there. -/
theorem ownLayer_eq (c : Dev nD) : (ownLayer c (m (c.tc.loc main_v1_2)) : sProp 𝕄) = ownLayer c (filled m c) := by
  unfold ownLayer piece
  refine pointsTo_congr fun i hi => ?_
  refine (if_neg fun h => ?_).symm
  obtain ⟨j, hj⟩ := mem_landing c i h.1 h.2
  exact (Finset.mem_sdiff.mp hi).2 (Finset.mem_biUnion.mpr ⟨j, Finset.mem_univ _, hj⟩)

end Cert.Pf.B

end
-- ==== Proof.PfLinks.lean ====
/-
# The sixteen links of `proj_fwd`

Links 0 to 7 are those of the first gathering, links 8 to 15 those of the second. A link is ranked above those it passes on, and
the last two of the second gathering above all of the first, which a device waits for while it still owes them.
-/
module

public import proofs.«01_k».proof.Proof.PfRowsA
public import proofs.«01_k».proof.Proof.PfRowsB

@[expose] public section

noncomputable section

namespace Cert.Pf

open Cert.PfKernelIdeal Cert.PfKernelIdeal.Gen
open Idealize.ShloMosaic
open TcCoe Rounds
open Idealize.SL Idealize.SL.RA Idealize.SL.BI
open BIBase Laws ProofMode Sem
open Cert.Exchange (Links UU EP ER)

variable {F : FTy → Type} [FloatOps F]

local notation "𝕄" => MT nD τ sig Unit (Elt F) ℕ (UU nD sig τ) ℕ

/-! ## The links -/

/-- Link `j` of the first and of the second gathering. -/
abbrev fstLink (j : Fin 8) : Fin 16 := Fin.castAdd 8 j
abbrev sndLink (j : Fin 8) : Fin 16 := Fin.natAdd 8 j

/-- A property of a link, by its gathering. -/
def either {α : Sort*} (f g : Fin 8 → α) (j : Fin 16) : α := Fin.addCases (m := 8) (n := 8) (motive := fun _ => α) f g j

theorem either_fst {α : Sort*} (f g : Fin 8 → α) (j : Fin 8) : either f g (fstLink j) = f j := Fin.addCases_left ..
theorem either_snd {α : Sort*} (f g : Fin 8 → α) (j : Fin 8) : either f g (sndLink j) = g j := Fin.addCases_right ..

theorem by_gathering {P : Fin 16 → Prop} (hf : ∀ j, P (fstLink j)) (hs : ∀ j, P (sndLink j)) (j : Fin 16) : P j :=
  Fin.addCases (m := 8) (n := 8) (motive := P) hf hs j

theorem sem_inb (j : Fin 16) : ∀ a, (![j.val] : Fin 1 → ℕ) a + S1.size a ≤ S16.size a := by revert j; decide

abbrev sendSem (j : Fin 16) : DmaSem sig := ((cc0_scratch0.slice (Rect.unit (s := S16) ![j.val] S1.size (sem_inb j))).squeeze S_ squeezes_S1_S_ : DmaSems sig S_).sem
abbrev recvSem (j : Fin 16) : DmaSem sig := ((cc0_scratch1.slice (Rect.unit (s := S16) ![j.val] S1.size (sem_inb j))).squeeze S_ squeezes_S1_S_ : DmaSems sig S_).sem

/-- The other end of a link, and the units of a transfer. -/
def peerOf (j : Fin 16) : Dev nD → Dev nD := either peer peer j
def amount : Fin 16 → ℕ := either A.amount B.amount

theorem peer_fst (j : Fin 8) : peerOf (fstLink j) = peer j := either_fst ..
theorem peer_snd (j : Fin 8) : peerOf (sndLink j) = peer j := either_snd ..
theorem amount_fst (j : Fin 8) : amount (fstLink j) = A.amount j := either_fst ..
theorem amount_snd (j : Fin 8) : amount (sndLink j) = B.amount j := either_snd ..

abbrev links : Links nD sig where
  J := 16
  sendSem := sendSem
  recvSem := recvSem
  peer := peerOf
  peer_peer := by_gathering (fun j c => by rw [peer_fst, peer_peer]) (fun j c => by rw [peer_snd, peer_peer])
  units := amount
  units_pos := by_gathering (fun j => by rw [amount_fst]; exact A.amount_pos j) (fun j => by rw [amount_snd]; exact B.amount_pos j)
  apart := by decide

theorem peer_at_fst (j : Fin 8) (c : Dev nD) : links.peer (fstLink j) c = peer j c := congrFun (peer_fst j) c
theorem peer_at_snd (j : Fin 8) (c : Dev nD) : links.peer (sndLink j) c = peer j c := congrFun (peer_snd j) c

def rank (j : Fin 16) : ℕ := if j.val % 8 < 2 then 1 else if j.val % 8 < 6 then 2 else if j.val < 8 then 3 else 4

theorem rank_pos (j : Fin 16) : 0 < rank j := by revert j; decide

theorem route_fst (j : Fin 8) (c : Dev nD) : τ.routes c.tc (peerOf (fstLink j) c : Thread nD τ) = true := by rw [peer_fst]; exact routes j c
theorem route_snd (j : Fin 8) (c : Dev nD) : τ.routes c.tc (peerOf (sndLink j) c : Thread nD τ) = true := by rw [peer_snd]; exact routes j c

/-! ## What travels -/

abbrev 𝒱₀ : Variants := Variants.none

variable (m : (ℓ : Loc nD τ sig) → Buf (Elt F) ℓ)

/-- What the send cells return, what the receive cells deliver, and the room there is for it. -/
def pay : links.End → Dev nD → sProp (MT nD τ sig Unit (Elt F) ℕ (UU nD sig τ) ℕ)
  | (false, j), c => either (A.lent m c) (B.lent m c) j
  | (true, j), c => either (A.came m c) (B.came m c) j
def room (c : Dev nD) (j : Fin 16) : sProp 𝕄 := either (A.room c) (B.room c) j

theorem lent_fst (j : Fin 8) (c : Dev nD) : pay m (false, fstLink j) c = A.lent m c j := either_fst ..
theorem lent_snd (j : Fin 8) (c : Dev nD) : pay m (false, sndLink j) c = B.lent m c j := either_snd ..
theorem came_fst (j : Fin 8) (c : Dev nD) : pay m (true, fstLink j) c = A.came m c j := either_fst ..
theorem came_snd (j : Fin 8) (c : Dev nD) : pay m (true, sndLink j) c = B.came m c j := either_snd ..
omit [FloatOps F] in
theorem room_fst (j : Fin 8) (c : Dev nD) : (room c (fstLink j) : sProp 𝕄) = A.room c j := either_fst ..
omit [FloatOps F] in
theorem room_snd (j : Fin 8) (c : Dev nD) : (room c (sndLink j) : sProp 𝕄) = B.room c j := either_snd ..

theorem keep_A (c : Dev nD) (I) (q) (f) : BI.Storable upEmb (A.piece c I q f : sProp 𝕄) := by unfold A.piece; infer_instance
theorem keep_B (c : Dev nD) (I) (q) (f) : BI.Storable upEmb (B.piece c I q f : sProp 𝕄) := by unfold B.piece; infer_instance
theorem keep_lent_A (c : Dev nD) (j) : BI.Storable upEmb (A.lent m c j) := by
  unfold A.lent
  split
  · unfold A.mineRows; infer_instance
  · exact keep_A _ _ _ _
theorem keep_lent_B (c : Dev nD) (j) : BI.Storable upEmb (B.lent m c j) := by
  unfold B.lent
  split
  · unfold B.mineRows; infer_instance
  · exact keep_B _ _ _ _

instance : Cert.Exchange.Keepable links (pay m) where
  keep k c := by
    rcases k with ⟨_ | _, j⟩
    · exact by_gathering (P := fun j => BI.Storable upEmb (pay m (false, j) c)) (fun j => by rw [lent_fst]; exact keep_lent_A m c j)
        (fun j => by rw [lent_snd]; exact keep_lent_B m c j) j
    · exact by_gathering (P := fun j => BI.Storable upEmb (pay m (true, j) c)) (fun j => by rw [came_fst]; exact keep_A _ _ _ _)
        (fun j => by rw [came_snd]; exact keep_B _ _ _ _) j

omit [FloatOps F] in
/-- What holds of the sixteen links, gathering by gathering. -/
theorem both (Φ : Fin 16 → sProp 𝕄) :
    bigSep Finset.univ Φ = iprop((bigSep Finset.univ fun j => Φ (fstLink j)) ∗ (bigSep Finset.univ fun j => Φ (sndLink j))) := by
  have h : bigSep Finset.univ Φ = _ :=
    bigSep_univ_eq_bigSepL [fstLink 0, fstLink 1, fstLink 2, fstLink 3, fstLink 4, fstLink 5, fstLink 6, fstLink 7,
      sndLink 0, sndLink 1, sndLink 2, sndLink 3, sndLink 4, sndLink 5, sndLink 6, sndLink 7] (by decide) (by decide) Φ
  rw [h, Cert.Exchange.eight, Cert.Exchange.eight]
  refine equiv_iff.mp ⟨?_, ?_⟩
  · show iprop(Φ _ ∗ Φ _ ∗ Φ _ ∗ Φ _ ∗ Φ _ ∗ Φ _ ∗ Φ _ ∗ Φ _ ∗ Φ _ ∗ Φ _ ∗ Φ _ ∗ Φ _ ∗ Φ _ ∗ Φ _ ∗ Φ _ ∗ Φ _) ⊢ _
    iintro ⟨H0, H1, H2, H3, H4, H5, H6, H7, H⟩
    iframe H0 H1 H2 H3 H4 H5 H6 H7 H
  · show _ ⊢ iprop(Φ _ ∗ Φ _ ∗ Φ _ ∗ Φ _ ∗ Φ _ ∗ Φ _ ∗ Φ _ ∗ Φ _ ∗ Φ _ ∗ Φ _ ∗ Φ _ ∗ Φ _ ∗ Φ _ ∗ Φ _ ∗ Φ _ ∗ Φ _)
    iintro ⟨⟨H0, H1, H2, H3, H4, H5, H6, H7⟩, H⟩
    iframe H0 H1 H2 H3 H4 H5 H6 H7 H

end Cert.Pf

end
-- ==== Proof.PfParts.lean ====
/-
# The four parts of a grid point of `proj_fwd`

The body at a grid point is: start the transfers of the own rows (at the first point), compute the block, pass on what
came from the neighbouring chips (at point 48), pass on the rest and wait for everything (at the last point). Each of the
three with transfers does the steps of the first gathering and then those of the second.
-/
module

public import proofs.«01_k».proof.Proof.Gen.PfKernelIdeal.Skeleton
public import proofs.«01_k».proof.Proof.Gen.PfKernelIdeal.Points
public import proofs.«01_k».proof.Proof.PfLinks
public import proofs.«01_k».proof.Proof.Gather

@[expose] public section

noncomputable section

namespace Cert.Pf

open Cert.PfKernelIdeal Cert.PfKernelIdeal.Gen
open Idealize.ShloMosaic
open TcCoe Rounds
open Idealize.SL Idealize.SL.RA Idealize.SL.BI
open BIBase Laws ProofMode Sem
open Cert.Exchange (Links UU EP ER code)

variable {F : FTy → Type} [FloatOps F]

/-- Programs of this kernel, and single steps of one. -/
abbrev Code (F : FTy → Type) [FloatOps F] : Type → Type 1 := Prog (TpuEff nD τ sig (Elt F) Λ₀ .tc)
abbrev Step (F : FTy → Type) [FloatOps F] : Type := Cert.Exchange.Act nD τ sig (Elt F) Λ₀

/-- Start the transfer of a link, and wait for a cell. -/
abbrev move (j : Fin 16) (n : Dev nD) {s : Shape} (src dst : Memref sig .tc .hbm s .bf16) (hs : src.view.WordExact) (hd : dst.view.WordExact)
    (hsc : (dst : Memref sig (Dev.tc n : Thread nD τ).2.kind .hbm s .bf16).view.ref.isScScratch = false)
    (ht : DmaTarget.Typed (p := .tc) .hbm (.dma (recvSem j)) (.remote (Dev.tc n : Thread nD τ) dst (.dma (sendSem j)) hsc)) : Step F :=
  .enqueueDma src (.remote (Dev.tc n : Thread nD τ) dst (.dma (sendSem j)) hsc) (.dma (recvSem j)) hs hd ht
abbrev take (k : links.End) {s t : Shape} (src : Memref sig .tc .hbm s .bf16) (dst : Memref sig .tc .hbm t .bf16) (hs : src.view.WordExact) (hd : dst.view.WordExact) : Step F :=
  .waitDma2 (links.sem k) src dst hs hd

namespace A

theorem own_exact {o : Fin 2 → ℕ} {h} (hw : (Rect.unit (s := S1024x4096) o S512x4096.size h).WholeWords (EltTy.packing .bf16)) : (own o h).view.WordExact :=
  (Memref.isWhole_whole main_arg2).wordExact_slice rfl _ hw
theorem big_exact {o : Fin 3 → ℕ} {h} (hw : (Rect.unit (s := S4x1024x4096) o S1x512x4096.size h).WholeWords (EltTy.packing .bf16)) : (big o h).view.WordExact :=
  ((Memref.isWhole_whole main_v1_1).wordExact_slice rfl _ hw).reshape _ _
theorem half_exact {o : Fin 3 → ℕ} {h} (hw : (Rect.unit (s := S4x1024x4096) o S1x256x4096.size h).WholeWords (EltTy.packing .bf16)) : (half o h).view.WordExact :=
  ((Memref.isWhole_whole main_v1_1).wordExact_slice rfl _ hw).reshape _ _

variable (i : grid0.Coords) (d : Dev nD)

/-- The transfers of the own rows, the passing on of what came first, and the last steps. -/
def sends (h : k0_cond1 i = 1#1) : List (Step F) :=
  [move (fstLink 0) (⟨k0_dev1 d, k0_dev1_lt i d h⟩ : Dev nD) (own (k0_off2 d) (k0_off2_inb i d h)) (big (k0_off1 d) (k0_off1_inb i d h)) (own_exact (k0_off2_wordsbf16 i d h)) (big_exact (k0_off1_wordsbf16 i d h)) rfl ⟨⟨rfl, Or.inl rfl⟩, trivial⟩,
    move (fstLink 1) (⟨k0_dev2 d, k0_dev2_lt i d h⟩ : Dev nD) (own (k0_off2 d) (k0_off2_inb i d h)) (big (k0_off1 d) (k0_off1_inb i d h)) (own_exact (k0_off2_wordsbf16 i d h)) (big_exact (k0_off1_wordsbf16 i d h)) rfl ⟨⟨rfl, Or.inl rfl⟩, trivial⟩]

def passes (h : k0_cond2 i = 1#1) : List (Step F) :=
  [take (true, fstLink 0) (big (k0_off5 d) (k0_off5_inb i d h)) (big (k0_off5 d) (k0_off5_inb i d h)) (big_exact (k0_off5_wordsbf16 i d h)) (big_exact (k0_off5_wordsbf16 i d h)),
    move (fstLink 4) (⟨k0_dev5 d, k0_dev5_lt i d h⟩ : Dev nD) (half (k0_off6 d) (k0_off6_inb i d h)) (half (k0_off6 d) (k0_off6_inb i d h)) (half_exact (k0_off6_wordsbf16 i d h)) (half_exact (k0_off6_wordsbf16 i d h)) rfl ⟨⟨rfl, Or.inl rfl⟩, trivial⟩,
    move (fstLink 2) (⟨k0_dev6 d, k0_dev6_lt i d h⟩ : Dev nD) (big (k0_off5 d) (k0_off5_inb i d h)) (big (k0_off5 d) (k0_off5_inb i d h)) (big_exact (k0_off5_wordsbf16 i d h)) (big_exact (k0_off5_wordsbf16 i d h)) rfl ⟨⟨rfl, Or.inl rfl⟩, trivial⟩,
    take (true, fstLink 1) (big (k0_off7 d) (k0_off7_inb i d h)) (big (k0_off7 d) (k0_off7_inb i d h)) (big_exact (k0_off7_wordsbf16 i d h)) (big_exact (k0_off7_wordsbf16 i d h)),
    move (fstLink 5) (⟨k0_dev7 d, k0_dev7_lt i d h⟩ : Dev nD) (half (k0_off8 d) (k0_off8_inb i d h)) (half (k0_off8 d) (k0_off8_inb i d h)) (half_exact (k0_off8_wordsbf16 i d h)) (half_exact (k0_off8_wordsbf16 i d h)) rfl ⟨⟨rfl, Or.inl rfl⟩, trivial⟩,
    move (fstLink 3) (⟨k0_dev8 d, k0_dev8_lt i d h⟩ : Dev nD) (big (k0_off7 d) (k0_off7_inb i d h)) (big (k0_off7 d) (k0_off7_inb i d h)) (big_exact (k0_off7_wordsbf16 i d h)) (big_exact (k0_off7_wordsbf16 i d h)) rfl ⟨⟨rfl, Or.inl rfl⟩, trivial⟩]

def received (h : k0_cond3 i = 1#1) : Fin 8 → Step F
  | 2 => take (true, fstLink 2) (big (k0_off14 d) (k0_off14_inb i d h)) (big (k0_off14 d) (k0_off14_inb i d h)) (big_exact (k0_off14_wordsbf16 i d h)) (big_exact (k0_off14_wordsbf16 i d h))
  | 3 => take (true, fstLink 3) (big (k0_off15 d) (k0_off15_inb i d h)) (big (k0_off15 d) (k0_off15_inb i d h)) (big_exact (k0_off15_wordsbf16 i d h)) (big_exact (k0_off15_wordsbf16 i d h))
  | 4 => take (true, fstLink 4) (half (k0_off13 d 0#32) (k0_off13_inb i d h 0)) (half (k0_off13 d 0#32) (k0_off13_inb i d h 0)) (half_exact (k0_off13_wordsbf16 i d h 0)) (half_exact (k0_off13_wordsbf16 i d h 0))
  | 5 => take (true, fstLink 5) (half (k0_off13 d 256#32) (k0_off13_inb i d h 1)) (half (k0_off13 d 256#32) (k0_off13_inb i d h 1)) (half_exact (k0_off13_wordsbf16 i d h 1)) (half_exact (k0_off13_wordsbf16 i d h 1))
  | 6 => take (true, fstLink 6) (half (k0_off16 d 0#32) (k0_off16_inb i d h 0)) (half (k0_off16 d 0#32) (k0_off16_inb i d h 0)) (half_exact (k0_off16_wordsbf16 i d h 0)) (half_exact (k0_off16_wordsbf16 i d h 0))
  | 7 => take (true, fstLink 7) (half (k0_off16 d 256#32) (k0_off16_inb i d h 1)) (half (k0_off16 d 256#32) (k0_off16_inb i d h 1)) (half_exact (k0_off16_wordsbf16 i d h 1)) (half_exact (k0_off16_wordsbf16 i d h 1))
  | _ => take (true, fstLink 2) (big (k0_off14 d) (k0_off14_inb i d h)) (big (k0_off14 d) (k0_off14_inb i d h)) (big_exact (k0_off14_wordsbf16 i d h)) (big_exact (k0_off14_wordsbf16 i d h))

def returned (h : k0_cond3 i = 1#1) : Fin 8 → Step F
  | 0 => take (false, fstLink 0) (big (k0_off18 d) (k0_off18_inb i d h)) (own (k0_off17 d) (k0_off17_inb i d h)) (big_exact (k0_off18_wordsbf16 i d h)) (own_exact (k0_off17_wordsbf16 i d h))
  | 1 => take (false, fstLink 1) (big (k0_off18 d) (k0_off18_inb i d h)) (own (k0_off17 d) (k0_off17_inb i d h)) (big_exact (k0_off18_wordsbf16 i d h)) (own_exact (k0_off17_wordsbf16 i d h))
  | 2 => take (false, fstLink 2) (big (k0_off19 d) (k0_off19_inb i d h)) (big (k0_off19 d) (k0_off19_inb i d h)) (big_exact (k0_off19_wordsbf16 i d h)) (big_exact (k0_off19_wordsbf16 i d h))
  | 3 => take (false, fstLink 3) (big (k0_off20 d) (k0_off20_inb i d h)) (big (k0_off20 d) (k0_off20_inb i d h)) (big_exact (k0_off20_wordsbf16 i d h)) (big_exact (k0_off20_wordsbf16 i d h))
  | 4 => take (false, fstLink 4) (half (k0_off21 d) (k0_off21_inb i d h)) (half (k0_off21 d) (k0_off21_inb i d h)) (half_exact (k0_off21_wordsbf16 i d h)) (half_exact (k0_off21_wordsbf16 i d h))
  | 5 => take (false, fstLink 5) (half (k0_off22 d) (k0_off22_inb i d h)) (half (k0_off22 d) (k0_off22_inb i d h)) (half_exact (k0_off22_wordsbf16 i d h)) (half_exact (k0_off22_wordsbf16 i d h))
  | 6 => take (false, fstLink 6) (half (k0_off13 d 0#32) (k0_off13_inb i d h 0)) (half (k0_off13 d 0#32) (k0_off13_inb i d h 0)) (half_exact (k0_off13_wordsbf16 i d h 0)) (half_exact (k0_off13_wordsbf16 i d h 0))
  | 7 => take (false, fstLink 7) (half (k0_off13 d 256#32) (k0_off13_inb i d h 1)) (half (k0_off13 d 256#32) (k0_off13_inb i d h 1)) (half_exact (k0_off13_wordsbf16 i d h 1)) (half_exact (k0_off13_wordsbf16 i d h 1))

def waits (h : k0_cond3 i = 1#1) : List (Step F) :=
  [received i d h 4, move (fstLink 6) (⟨k0_dev13 d, k0_dev13_lt i d h⟩ : Dev nD) (half (k0_off13 d 0#32) (k0_off13_inb i d h 0)) (half (k0_off13 d 0#32) (k0_off13_inb i d h 0)) (half_exact (k0_off13_wordsbf16 i d h 0)) (half_exact (k0_off13_wordsbf16 i d h 0)) rfl ⟨⟨rfl, Or.inl rfl⟩, trivial⟩,
    received i d h 5, move (fstLink 7) (⟨k0_dev14 d, k0_dev14_lt i d h⟩ : Dev nD) (half (k0_off13 d 256#32) (k0_off13_inb i d h 1)) (half (k0_off13 d 256#32) (k0_off13_inb i d h 1)) (half_exact (k0_off13_wordsbf16 i d h 1)) (half_exact (k0_off13_wordsbf16 i d h 1)) rfl ⟨⟨rfl, Or.inl rfl⟩, trivial⟩,
    received i d h 2, received i d h 3, received i d h 6, received i d h 7,
    returned i d h 0, returned i d h 1, returned i d h 2, returned i d h 3, returned i d h 4, returned i d h 5, returned i d h 6, returned i d h 7]

end A

namespace B

theorem own_exact {o : Fin 2 → ℕ} {h} (hw : (Rect.unit (s := S4096x4096) o S880x4096.size h).WholeWords (EltTy.packing .bf16)) : (own o h).view.WordExact :=
  (Memref.isWhole_whole main_arg3).wordExact_slice rfl _ hw
theorem big_exact {o : Fin 3 → ℕ} {h} (hw : (Rect.unit (s := S4x4096x4096) o S1x880x4096.size h).WholeWords (EltTy.packing .bf16)) : (big o h).view.WordExact :=
  ((Memref.isWhole_whole main_v1_2).wordExact_slice rfl _ hw).reshape _ _
theorem half_exact {o : Fin 3 → ℕ} {h} (hw : (Rect.unit (s := S4x4096x4096) o S1x432x4096.size h).WholeWords (EltTy.packing .bf16)) : (half o h).view.WordExact :=
  ((Memref.isWhole_whole main_v1_2).wordExact_slice rfl _ hw).reshape _ _
theorem half'_exact {o : Fin 3 → ℕ} {h} (hw : (Rect.unit (s := S4x4096x4096) o S1x448x4096.size h).WholeWords (EltTy.packing .bf16)) : (half' o h).view.WordExact :=
  ((Memref.isWhole_whole main_v1_2).wordExact_slice rfl _ hw).reshape _ _

variable (i : grid0.Coords) (d : Dev nD)

/-- The transfers of the own rows, the passing on of what came first, and the last steps. -/
def sends (h : k0_cond1 i = 1#1) : List (Step F) :=
  [move (sndLink 0) (⟨k0_dev3 d, k0_dev3_lt i d h⟩ : Dev nD) (own (k0_off4 d) (k0_off4_inb i d h)) (big (k0_off3 d) (k0_off3_inb i d h)) (own_exact (k0_off4_wordsbf16 i d h)) (big_exact (k0_off3_wordsbf16 i d h)) rfl ⟨⟨rfl, Or.inl rfl⟩, trivial⟩,
    move (sndLink 1) (⟨k0_dev4 d, k0_dev4_lt i d h⟩ : Dev nD) (own (k0_off4 d) (k0_off4_inb i d h)) (big (k0_off3 d) (k0_off3_inb i d h)) (own_exact (k0_off4_wordsbf16 i d h)) (big_exact (k0_off3_wordsbf16 i d h)) rfl ⟨⟨rfl, Or.inl rfl⟩, trivial⟩]

def passes (h : k0_cond2 i = 1#1) : List (Step F) :=
  [take (true, sndLink 0) (big (k0_off9 d) (k0_off9_inb i d h)) (big (k0_off9 d) (k0_off9_inb i d h)) (big_exact (k0_off9_wordsbf16 i d h)) (big_exact (k0_off9_wordsbf16 i d h)),
    move (sndLink 4) (⟨k0_dev9 d, k0_dev9_lt i d h⟩ : Dev nD) (half (k0_off10 d) (k0_off10_inb i d h)) (half (k0_off10 d) (k0_off10_inb i d h)) (half_exact (k0_off10_wordsbf16 i d h)) (half_exact (k0_off10_wordsbf16 i d h)) rfl ⟨⟨rfl, Or.inl rfl⟩, trivial⟩,
    move (sndLink 2) (⟨k0_dev10 d, k0_dev10_lt i d h⟩ : Dev nD) (big (k0_off9 d) (k0_off9_inb i d h)) (big (k0_off9 d) (k0_off9_inb i d h)) (big_exact (k0_off9_wordsbf16 i d h)) (big_exact (k0_off9_wordsbf16 i d h)) rfl ⟨⟨rfl, Or.inl rfl⟩, trivial⟩,
    take (true, sndLink 1) (big (k0_off11 d) (k0_off11_inb i d h)) (big (k0_off11 d) (k0_off11_inb i d h)) (big_exact (k0_off11_wordsbf16 i d h)) (big_exact (k0_off11_wordsbf16 i d h)),
    move (sndLink 5) (⟨k0_dev11 d, k0_dev11_lt i d h⟩ : Dev nD) (half' (k0_off12 d) (k0_off12_inb i d h)) (half' (k0_off12 d) (k0_off12_inb i d h)) (half'_exact (k0_off12_wordsbf16 i d h)) (half'_exact (k0_off12_wordsbf16 i d h)) rfl ⟨⟨rfl, Or.inl rfl⟩, trivial⟩,
    move (sndLink 3) (⟨k0_dev12 d, k0_dev12_lt i d h⟩ : Dev nD) (big (k0_off11 d) (k0_off11_inb i d h)) (big (k0_off11 d) (k0_off11_inb i d h)) (big_exact (k0_off11_wordsbf16 i d h)) (big_exact (k0_off11_wordsbf16 i d h)) rfl ⟨⟨rfl, Or.inl rfl⟩, trivial⟩]

def received (h : k0_cond3 i = 1#1) : Fin 8 → Step F
  | 2 => take (true, sndLink 2) (big (k0_off25 d) (k0_off25_inb i d h)) (big (k0_off25 d) (k0_off25_inb i d h)) (big_exact (k0_off25_wordsbf16 i d h)) (big_exact (k0_off25_wordsbf16 i d h))
  | 3 => take (true, sndLink 3) (big (k0_off26 d) (k0_off26_inb i d h)) (big (k0_off26 d) (k0_off26_inb i d h)) (big_exact (k0_off26_wordsbf16 i d h)) (big_exact (k0_off26_wordsbf16 i d h))
  | 4 => take (true, sndLink 4) (half (k0_off23 d) (k0_off23_inb i d h)) (half (k0_off23 d) (k0_off23_inb i d h)) (half_exact (k0_off23_wordsbf16 i d h)) (half_exact (k0_off23_wordsbf16 i d h))
  | 5 => take (true, sndLink 5) (half' (k0_off24 d) (k0_off24_inb i d h)) (half' (k0_off24 d) (k0_off24_inb i d h)) (half'_exact (k0_off24_wordsbf16 i d h)) (half'_exact (k0_off24_wordsbf16 i d h))
  | 6 => take (true, sndLink 6) (half (k0_off27 d) (k0_off27_inb i d h)) (half (k0_off27 d) (k0_off27_inb i d h)) (half_exact (k0_off27_wordsbf16 i d h)) (half_exact (k0_off27_wordsbf16 i d h))
  | 7 => take (true, sndLink 7) (half' (k0_off28 d) (k0_off28_inb i d h)) (half' (k0_off28 d) (k0_off28_inb i d h)) (half'_exact (k0_off28_wordsbf16 i d h)) (half'_exact (k0_off28_wordsbf16 i d h))
  | _ => take (true, sndLink 2) (big (k0_off25 d) (k0_off25_inb i d h)) (big (k0_off25 d) (k0_off25_inb i d h)) (big_exact (k0_off25_wordsbf16 i d h)) (big_exact (k0_off25_wordsbf16 i d h))

def returned (h : k0_cond3 i = 1#1) : Fin 8 → Step F
  | 0 => take (false, sndLink 0) (big (k0_off30 d) (k0_off30_inb i d h)) (own (k0_off29 d) (k0_off29_inb i d h)) (big_exact (k0_off30_wordsbf16 i d h)) (own_exact (k0_off29_wordsbf16 i d h))
  | 1 => take (false, sndLink 1) (big (k0_off30 d) (k0_off30_inb i d h)) (own (k0_off29 d) (k0_off29_inb i d h)) (big_exact (k0_off30_wordsbf16 i d h)) (own_exact (k0_off29_wordsbf16 i d h))
  | 2 => take (false, sndLink 2) (big (k0_off31 d) (k0_off31_inb i d h)) (big (k0_off31 d) (k0_off31_inb i d h)) (big_exact (k0_off31_wordsbf16 i d h)) (big_exact (k0_off31_wordsbf16 i d h))
  | 3 => take (false, sndLink 3) (big (k0_off32 d) (k0_off32_inb i d h)) (big (k0_off32 d) (k0_off32_inb i d h)) (big_exact (k0_off32_wordsbf16 i d h)) (big_exact (k0_off32_wordsbf16 i d h))
  | 4 => take (false, sndLink 4) (half (k0_off33 d) (k0_off33_inb i d h)) (half (k0_off33 d) (k0_off33_inb i d h)) (half_exact (k0_off33_wordsbf16 i d h)) (half_exact (k0_off33_wordsbf16 i d h))
  | 5 => take (false, sndLink 5) (half' (k0_off34 d) (k0_off34_inb i d h)) (half' (k0_off34 d) (k0_off34_inb i d h)) (half'_exact (k0_off34_wordsbf16 i d h)) (half'_exact (k0_off34_wordsbf16 i d h))
  | 6 => take (false, sndLink 6) (half (k0_off23 d) (k0_off23_inb i d h)) (half (k0_off23 d) (k0_off23_inb i d h)) (half_exact (k0_off23_wordsbf16 i d h)) (half_exact (k0_off23_wordsbf16 i d h))
  | 7 => take (false, sndLink 7) (half' (k0_off24 d) (k0_off24_inb i d h)) (half' (k0_off24 d) (k0_off24_inb i d h)) (half'_exact (k0_off24_wordsbf16 i d h)) (half'_exact (k0_off24_wordsbf16 i d h))

def waits (h : k0_cond3 i = 1#1) : List (Step F) :=
  [received i d h 4, move (sndLink 6) (⟨k0_dev15 d, k0_dev15_lt i d h⟩ : Dev nD) (half (k0_off23 d) (k0_off23_inb i d h)) (half (k0_off23 d) (k0_off23_inb i d h)) (half_exact (k0_off23_wordsbf16 i d h)) (half_exact (k0_off23_wordsbf16 i d h)) rfl ⟨⟨rfl, Or.inl rfl⟩, trivial⟩,
    received i d h 5, move (sndLink 7) (⟨k0_dev16 d, k0_dev16_lt i d h⟩ : Dev nD) (half' (k0_off24 d) (k0_off24_inb i d h)) (half' (k0_off24 d) (k0_off24_inb i d h)) (half'_exact (k0_off24_wordsbf16 i d h)) (half'_exact (k0_off24_wordsbf16 i d h)) rfl ⟨⟨rfl, Or.inl rfl⟩, trivial⟩,
    received i d h 2, received i d h 3, received i d h 6, received i d h 7,
    returned i d h 0, returned i d h 1, returned i d h 2, returned i d h 3, returned i d h 4, returned i d h 5, returned i d h 6, returned i d h 7]

end B

/-- The first grid point sends the own rows. -/
def sendPart (i : grid0.Coords) : Code F PUnit :=
  if h : k0_cond1 i = 1#1 then .op .deviceId fun d => code (A.sends i d h ++ B.sends i d h) else .ret ⟨⟩

/-- Every grid point computes. -/
def workPart (A : Memref sig .tc .vmem S1024x4096 .bf16) (B : Memref sig .tc .vmem S1x4096x512 .bf16) (O : Memref sig .tc .vmem S1024x512 .f32) : Code F PUnit :=
  .op (.load B (Rect.unit (s := S1x4096x512) ![0, 0, 0] S1x4096x512.size inb_S1x4096x512_S1x4096x512_0_0_0).toLoadRect (View.loadsAt_vmem h_S1x4096x512)) fun v8 =>
  .op (.load A (Rect.unit (s := S1024x4096) ![0, 0] S1024x4096.size inb_S1024x4096_S1024x4096_0_0).toLoadRect (View.loadsAt_vmem h_S1024x4096)) fun v10 =>
  .op (.load O (Rect.unit (s := S1024x512) ![0, 0] S1024x512.size inb_S1024x512_S1024x512_0_0).toLoadRect (View.loadsAt_vmem h_S1024x512)) fun _ =>
  .op (.store O (Rect.unit (s := S1024x512) ![0, 0] S1024x512.size inb_S1024x512_S1024x512_0_0) (k0_pay1 v8 v10) Finset.univ (View.stores_vmem_bits_univ h_S1024x512 rfl) (.inl rfl)) fun _ => .ret ⟨⟩

/-- Point 48 passes on what came along the first two links of each gathering. -/
def passPart (i : grid0.Coords) : Code F PUnit :=
  if h : k0_cond2 i = 1#1 then .op .deviceId fun d => code (A.passes i d h ++ B.passes i d h) else .ret ⟨⟩

/-- The last grid point passes on the rest, and waits for what else it is sent and for what it sent itself. -/
def waitPart (i : grid0.Coords) : Code F PUnit :=
  if h : k0_cond3 i = 1#1 then .op .deviceId fun d => code (A.waits i d h ++ B.waits i d h) else .ret ⟨⟩

/-- The body is its four parts, one after the other. -/
theorem body_eq (t : Fin cfg0.N) :
    bodyAt0 (F := F) t = sendPart (grid0.coords t) >>= fun _ =>
      workPart (st0_0 t) (st0_1 t) (st0_2 t) >>= fun _ =>
      passPart (grid0.coords t) >>= fun _ => waitPart (grid0.coords t) := by
  unfold bodyAt0 sendPart
  rw [cc0_proj_fwd_eq_skeleton]
  unfold cc0_proj_fwd_skel
  rw [k0_part1_eq_skeleton, k0_part2_eq_skeleton, k0_part9_eq_skeleton, k0_part24_eq_skeleton]
  unfold k0_part1_skel k0_part2_skel k0_part9_skel k0_part24_skel
  rw [k0_part3_eq_skeleton, k0_part4_eq_skeleton, k0_part5_eq_skeleton, k0_part6_eq_skeleton, k0_part7_eq_skeleton, k0_part8_eq_skeleton, k0_part10_eq_skeleton, k0_part14_eq_skeleton, k0_part17_eq_skeleton, k0_part18_eq_skeleton]
  unfold k0_part3_skel k0_part4_skel k0_part5_skel k0_part6_skel k0_part7_skel k0_part8_skel k0_part10_skel k0_part14_skel k0_part17_skel k0_part18_skel
  rw [k0_part11_eq_skeleton, k0_part12_eq_skeleton, k0_part13_eq_skeleton, k0_part15_eq_skeleton, k0_part16_eq_skeleton, k0_part19_eq_skeleton, k0_part20_eq_skeleton, k0_part21_eq_skeleton, k0_part22_eq_skeleton, k0_part23_eq_skeleton]
  unfold k0_part11_skel k0_part12_skel k0_part13_skel k0_part15_skel k0_part16_skel k0_part19_skel k0_part20_skel k0_part21_skel k0_part22_skel k0_part23_skel
  unfold passPart waitPart
  simp only [A.sends, B.sends, A.passes, B.passes, A.waits, B.waits, List.cons_append, List.nil_append, code]
  by_cases h : k0_cond1 (grid0.coords t) = 1#1 <;> by_cases h' : k0_cond2 (grid0.coords t) = 1#1 <;> by_cases h'' : k0_cond3 (grid0.coords t) = 1#1
  · rw [dif_pos h, dif_pos h]; simp only [dif_pos h', dif_pos h'']; rfl
  · rw [dif_pos h, dif_pos h]; simp only [dif_pos h', dif_neg h'']; rfl
  · rw [dif_pos h, dif_pos h]; simp only [dif_neg h', dif_pos h'']; rfl
  · rw [dif_pos h, dif_pos h]; simp only [dif_neg h', dif_neg h'']; rfl
  · rw [dif_neg h, dif_neg h]; simp only [dif_pos h', dif_pos h'']; rfl
  · rw [dif_neg h, dif_neg h]; simp only [dif_pos h', dif_neg h'']; rfl
  · rw [dif_neg h, dif_neg h]; simp only [dif_neg h', dif_pos h'']; rfl
  · rw [dif_neg h, dif_neg h]; simp only [dif_neg h', dif_neg h'']; rfl

/-- The first point sends, point 48 passes on, the last point waits. -/
theorem sends_iff (t : Fin cfg0.N) : k0_cond1 (grid0.coords t) = 1#1 ↔ t.val = 0 :=
  (by decide +kernel : ∀ t : Fin grid0.N, k0_cond1 (grid0.coords t) = 1#1 ↔ t.val = 0) t
theorem passes_iff (t : Fin cfg0.N) : k0_cond2 (grid0.coords t) = 1#1 ↔ t.val = 48 :=
  (by decide +kernel : ∀ t : Fin grid0.N, k0_cond2 (grid0.coords t) = 1#1 ↔ t.val = 48) t
theorem waits_iff (t : Fin cfg0.N) : k0_cond3 (grid0.coords t) = 1#1 ↔ t.val = 79 :=
  (by decide +kernel : ∀ t : Fin grid0.N, k0_cond3 (grid0.coords t) = 1#1 ↔ t.val = 79) t

end Cert.Pf

end
-- ==== Proof.PfMovesA.lean ====
/-
# The transfers of the first gathering of `proj_fwd`

What its transfers start and its waits bring, and with that the three parts of a grid point, as far as they are of this gathering.
-/
module

public import proofs.«01_k».proof.Proof.PfParts
public import proofs.«01_k».proof.Proof.PfLinks
public import proofs.«01_k».proof.Proof.Gather

@[expose] public section

noncomputable section

namespace Cert.Pf

open Cert.PfKernelIdeal Cert.PfKernelIdeal.Gen
open Idealize.ShloMosaic
open TcCoe Rounds
open Idealize.SL Idealize.SL.RA Idealize.SL.BI
open BIBase Laws ProofMode Sem
open Cert.Exchange (Links UU EP ER L records ranks Above debt Starts Takes takes starts code First Second Third Finished send_rows pass_rows wait_rows)

variable {F : FTy → Type} [FloatOps F]

local notation "𝕄" => MT nD τ sig Unit (Elt F) ℕ (UU nD sig τ) ℕ

variable (m : (ℓ : Loc nD τ sig) → Buf (Elt F) ℓ)

namespace A

omit [FloatOps F] in
theorem credit_own (j : Fin 8) (hj : j.val < 4) {o} {h} : (own o h).view.dmaCredit = links.units (fstLink j) := by
  show _ = Cert.Pf.amount (fstLink j)
  rw [amount_fst]; unfold amount; rw [if_pos hj]
  exact Eq.refl (RefSig.tileCredit S512x4096 .bf16)
omit [FloatOps F] in
theorem credit_big (j : Fin 8) (hj : j.val < 4) {o} {h} : (big o h).view.dmaCredit = links.units (fstLink j) := by
  show _ = Cert.Pf.amount (fstLink j)
  rw [amount_fst]; unfold amount; rw [if_pos hj]
  exact Eq.refl (RefSig.tileCredit S512x4096 .bf16)
omit [FloatOps F] in
theorem credit_half (j : Fin 8) (hj : ¬ j.val < 4) (hp : j.val % 2 = 0) {o} {h} : (half o h).view.dmaCredit = links.units (fstLink j) := by
  show _ = Cert.Pf.amount (fstLink j)
  rw [amount_fst]; unfold amount; rw [if_neg hj, if_pos hp]
  exact Eq.refl (RefSig.tileCredit S256x4096 .bf16)
omit [FloatOps F] in
theorem credit_half' (j : Fin 8) (hj : ¬ j.val < 4) (hp : j.val % 2 = 1) {o} {h} : (half' o h).view.dmaCredit = links.units (fstLink j) := by
  show _ = Cert.Pf.amount (fstLink j)
  rw [amount_fst]; unfold amount; rw [if_neg hj, if_neg (by omega)]
  exact Eq.refl (RefSig.tileCredit S256x4096 .bf16)

/-- The transfer of the own rows along the first or second link. -/
theorem starts_own (κ : Dev nD × links.End → ℕ) (c n : Dev nD) (j : Fin 8) (hj : j.val < 2) (hn : n = peer j c)
    {hi} {hi'} {hs : (own (k0_off2 c) hi').view.WordExact} {hd : (big (k0_off1 c) hi).view.WordExact} {hsc} {ht} :
    Starts links (pay m) Cert.Pf.room (defs₀ (F := F)) 𝒱₀ κ c (fstLink j) (move (fstLink j) n (own (k0_off2 c) hi') (big (k0_off1 c) hi) hs hd hsc ht) := by
  have hset : (big (k0_off1 c) hi).view.set = landing j (peer j c) := by
    have e : layer j c = c.val / 2 ∧ row j c = 512 * (c.val % 2) ∧ height j = 512 := by
      clear hn hs hd hsc ht hi hi'; revert j c; decide
    unfold landing place
    rw [peer_peer, e.1, e.2.1, e.2.2]
    exact big_set (off_dst c)
  have hchip : c.val / 2 ≠ (peer j c).val / 2 := by
    clear hn hs hd hsc ht hi hi' hset; revert j c; decide
  refine starts links (pay m) Cert.Pf.room (defs₀ (F := F)) 𝒱₀ κ n (fstLink j) (hn.trans (congrFun (peer_fst j) c).symm)
    (q := part j) (m (c.tc.loc main_arg2)) (credit_big j (by omega)) ?_ ?_ ?_ (route_fst j c)
  · exact (lent_fst m j c).trans (lent_own m c j hj)
  · rw [room_fst, peer_at_fst]
    unfold room piece
    rw [hset]
    exact BIBase.Entails.rfl
  · intro fd
    rw [came_fst, peer_at_fst]
    refine Entails.of_eq ?_
    show _ = piece (peer j c) (landing j (peer j c)) fullShare (filled m (peer j c))
    unfold piece
    rw [← hset]
    exact pointsTo_congr fun i hi => delivered m c (peer j c) hchip fd i hi

/-- Some rows of a layer passed on where they lie. -/
theorem starts_pass (κ : Dev nD × links.End → ℕ) (c n : Dev nD) (j : Fin 8) (hj : 2 ≤ j.val) (hn : n = peer j c)
    {r : Rect S4x1024x4096} {hr} {s : Shape} {hq} {M : Memref sig .tc .hbm s .bf16} (hM : M = ((Memref.whole main_v1_1).slice r hr).squeeze s hq)
    (hu : M.view.dmaCredit = links.units (fstLink j)) (hset : (((Memref.whole main_v1_1).slice r hr).squeeze s hq).view.set = place j c) {hs hd : M.view.WordExact} {hsc} {ht} :
    Starts links (pay m) Cert.Pf.room (defs₀ (F := F)) 𝒱₀ κ c (fstLink j) (move (fstLink j) n M M hs hd hsc ht) := by
  subst hM
  have hl : landing j (peer j c) = place j c := by unfold landing; rw [peer_peer]
  refine starts links (pay m) Cert.Pf.room (defs₀ (F := F)) 𝒱₀ κ n (fstLink j) (hn.trans (congrFun (peer_fst j) c).symm)
    (q := part j) (filled m c) hu ?_ ?_ ?_ (route_fst j c)
  · rw [hset]
    exact (lent_fst m j c).trans (lent_pass m c j (by omega))
  · rw [room_fst, peer_at_fst, hset]
    unfold room piece
    rw [hl]
    exact BIBase.Entails.rfl
  · intro fd
    rw [came_fst, peer_at_fst]
    refine Entails.of_eq ?_
    show _ = piece (peer j c) (landing j (peer j c)) fullShare (filled m (peer j c))
    unfold piece
    rw [hl, ← hset]
    refine pointsTo_congr fun i hi' => (write_read (((Memref.whole main_v1_1).slice r hr).squeeze s hq).view fd (filled m c) i hi').trans ?_
    have hp := place_layer j c hj (hset ▸ hi' : i ∈ place j c)
    exact filled_eq m c (peer j c) i hp.1 hp.2.1 hp.2.2

/-- What is passed on whole and in part, without that part. -/
def over₀ (c : Dev nD) : sProp (MT nD τ sig Unit (Elt F) ℕ (UU nD sig τ) ℕ) := piece c (place 2 c \ place 4 c) fullShare.right (filled m c)
def over₁ (c : Dev nD) : sProp (MT nD τ sig Unit (Elt F) ℕ (UU nD sig τ) ℕ) := piece c (place 3 c \ place 5 c) fullShare.right (filled m c)

/-- What came along links 0 and 1 is what links 2 and 4, and 3 and 5, pass on; what came along 4 and 5, what 6 and 7 do. -/
theorem came_0 (c : Dev nD) : (pay m (true, fstLink 0) c : sProp 𝕄) ⊣⊢ iprop(pay m (false, fstLink 2) c ∗ pay m (false, fstLink 4) c ∗ over₀ m c) := by
  have h : (piece c (place 2 c) fullShare.right (filled m c) : sProp 𝕄) = _ := equiv_iff.mp ⟨(piece_sub c (place_4_sub c) fullShare.right (filled m c)).1, (piece_sub c (place_4_sub c) fullShare.right (filled m c)).2⟩
  rw [came_fst, lent_fst, lent_fst, lent_pass m c 2 (by decide), lent_pass m c 4 (by decide)]
  unfold came
  rw [landing_0]
  refine BI.BIBase.BiEntails.trans (piece_share c _ _) ?_
  rw [h]
  exact BIBase.BiEntails.rfl
theorem came_1 (c : Dev nD) : (pay m (true, fstLink 1) c : sProp 𝕄) ⊣⊢ iprop(pay m (false, fstLink 3) c ∗ pay m (false, fstLink 5) c ∗ over₁ m c) := by
  have h : (piece c (place 3 c) fullShare.right (filled m c) : sProp 𝕄) = _ := equiv_iff.mp ⟨(piece_sub c (place_5_sub c) fullShare.right (filled m c)).1, (piece_sub c (place_5_sub c) fullShare.right (filled m c)).2⟩
  rw [came_fst, lent_fst, lent_fst, lent_pass m c 3 (by decide), lent_pass m c 5 (by decide)]
  unfold came
  rw [landing_1]
  refine BI.BIBase.BiEntails.trans (piece_share c _ _) ?_
  rw [h]
  exact BIBase.BiEntails.rfl
theorem came_4 (c : Dev nD) : pay m (true, fstLink 4) c = pay m (false, fstLink 6) c := by
  rw [came_fst, lent_fst, lent_pass m c 6 (by decide)]; unfold came; rw [landing_4]; rfl
theorem came_5 (c : Dev nD) : pay m (true, fstLink 5) c = pay m (false, fstLink 7) c := by
  rw [came_fst, lent_fst, lent_pass m c 7 (by decide)]; unfold came; rw [landing_5]; rfl

/-- The three parts of a grid point with transfers, as far as this gathering goes. -/
theorem send_step (κ : Dev nD × links.End → ℕ) (c : Dev nD) (i : grid0.Coords) (h : k0_cond1 i = 1#1) (O : CellTallies nD τ sig Unit) :
    iprop(records links (pay m) κ ∗ First links (pay m) Cert.Pf.room c fstLink ∗ (iprop(∃ W, owes c.tc (O + debt links c (fstLink 1) + debt links c (fstLink 0)) W) : sProp 𝕄))
      ⊢ wp frame (wpE (defs₀ (F := F)) 𝒱₀ c.tc none) Set.univ (code (sends (F := F) i c h))
          (fun _ => iprop(Second links Cert.Pf.room c fstLink ∗ ∃ W, owes c.tc O W : sProp 𝕄)) :=
  send_rows links (pay m) Cert.Pf.room (defs₀ (F := F)) 𝒱₀ κ c fstLink O
    (starts_own m κ c _ 0 (by decide) (dev1_eq c (k0_dev1_lt i c h)) (hi := k0_off1_inb i c h) (hi' := k0_off2_inb i c h)
      (hs := own_exact (k0_off2_wordsbf16 i c h)) (hd := big_exact (k0_off1_wordsbf16 i c h)) (hsc := rfl) (ht := ⟨⟨rfl, Or.inl rfl⟩, trivial⟩))
    (starts_own m κ c _ 1 (by decide) (dev2_eq c (k0_dev2_lt i c h)) (hi := k0_off1_inb i c h) (hi' := k0_off2_inb i c h)
      (hs := own_exact (k0_off2_wordsbf16 i c h)) (hd := big_exact (k0_off1_wordsbf16 i c h)) (hsc := rfl) (ht := ⟨⟨rfl, Or.inl rfl⟩, trivial⟩))

theorem pass_step (κ : Dev nD × links.End → ℕ) (c : Dev nD) (i : grid0.Coords) (h : k0_cond2 i = 1#1) (O : CellTallies nD τ sig Unit)
    (hO : Above (τ := τ) links rank 1 O) :
    iprop(records links (pay m) κ ∗ levAts L (ranks links rank) ∗ Second links Cert.Pf.room c fstLink
        ∗ (iprop(∃ W, owes c.tc (O + debt links c (fstLink 3) + debt links c (fstLink 5) + debt links c (fstLink 2) + debt links c (fstLink 4)) W) : sProp 𝕄))
      ⊢ wp frame (wpE (defs₀ (F := F)) 𝒱₀ c.tc none) Set.univ (code (passes (F := F) i c h))
          (fun _ => iprop(Third links Cert.Pf.room c fstLink (over₀ m c) (over₁ m c) ∗ ∃ W, owes c.tc O W : sProp 𝕄)) :=
  pass_rows links rank (pay m) Cert.Pf.room (defs₀ (F := F)) 𝒱₀ κ c fstLink (over₀ m c) (over₁ m c) O 1
    (takes links rank (pay m) (defs₀ (F := F)) 𝒱₀ κ c (true, fstLink 0) (credit_big 0 (by decide)))
    (takes links rank (pay m) (defs₀ (F := F)) 𝒱₀ κ c (true, fstLink 1) (credit_big 1 (by decide)))
    (starts_pass m κ c _ 2 (by decide) (dev6_eq c (k0_dev6_lt i c h)) rfl (credit_big 2 (by decide)) (big_set (off_2 c)))
    (starts_pass m κ c _ 3 (by decide) (dev8_eq c (k0_dev8_lt i c h)) rfl (credit_big 3 (by decide)) (big_set (off_3 c)))
    (starts_pass m κ c _ 4 (by decide) (dev5_eq c (k0_dev5_lt i c h)) rfl (credit_half 4 (by decide) (by decide)) (half_set (off_4 c)))
    (starts_pass m κ c _ 5 (by decide) (dev7_eq c (k0_dev7_lt i c h)) rfl (credit_half' 5 (by decide) (by decide)) (half'_set (off_5 c)))
    (came_0 m c).1 (came_1 m c).1 hO (by decide) (by decide) (by decide) (by decide) (by decide) (by decide)

theorem takes_received (κ : Dev nD × links.End → ℕ) (c : Dev nD) (i : grid0.Coords) (h : k0_cond3 i = 1#1) (j : Fin 8) (hj : 2 ≤ j.val) :
    Takes links rank (pay m) (defs₀ (F := F)) 𝒱₀ κ c (true, fstLink j) (received (F := F) i c h j) := by
  match j, hj with
  | 2, _ => simp only [received]; exact takes links rank (pay m) (defs₀ (F := F)) 𝒱₀ κ c (true, fstLink 2) (credit_big 2 (by decide))
  | 3, _ => simp only [received]; exact takes links rank (pay m) (defs₀ (F := F)) 𝒱₀ κ c (true, fstLink 3) (credit_big 3 (by decide))
  | 4, _ => simp only [received]; exact takes links rank (pay m) (defs₀ (F := F)) 𝒱₀ κ c (true, fstLink 4) (credit_half 4 (by decide) (by decide))
  | 5, _ => simp only [received]; exact takes links rank (pay m) (defs₀ (F := F)) 𝒱₀ κ c (true, fstLink 5) (credit_half' 5 (by decide) (by decide))
  | 6, _ => simp only [received]; exact takes links rank (pay m) (defs₀ (F := F)) 𝒱₀ κ c (true, fstLink 6) (credit_half 6 (by decide) (by decide))
  | 7, _ => simp only [received]; exact takes links rank (pay m) (defs₀ (F := F)) 𝒱₀ κ c (true, fstLink 7) (credit_half' 7 (by decide) (by decide))

theorem takes_returned (κ : Dev nD × links.End → ℕ) (c : Dev nD) (i : grid0.Coords) (h : k0_cond3 i = 1#1) (j : Fin 8) :
    Takes links rank (pay m) (defs₀ (F := F)) 𝒱₀ κ c (false, fstLink j) (returned (F := F) i c h j) := by
  match j with
  | 0 => simp only [returned]; exact takes links rank (pay m) (defs₀ (F := F)) 𝒱₀ κ c (false, fstLink 0) (credit_own 0 (by decide))
  | 1 => simp only [returned]; exact takes links rank (pay m) (defs₀ (F := F)) 𝒱₀ κ c (false, fstLink 1) (credit_own 1 (by decide))
  | 2 => simp only [returned]; exact takes links rank (pay m) (defs₀ (F := F)) 𝒱₀ κ c (false, fstLink 2) (credit_big 2 (by decide))
  | 3 => simp only [returned]; exact takes links rank (pay m) (defs₀ (F := F)) 𝒱₀ κ c (false, fstLink 3) (credit_big 3 (by decide))
  | 4 => simp only [returned]; exact takes links rank (pay m) (defs₀ (F := F)) 𝒱₀ κ c (false, fstLink 4) (credit_half 4 (by decide) (by decide))
  | 5 => simp only [returned]; exact takes links rank (pay m) (defs₀ (F := F)) 𝒱₀ κ c (false, fstLink 5) (credit_half' 5 (by decide) (by decide))
  | 6 => simp only [returned]; exact takes links rank (pay m) (defs₀ (F := F)) 𝒱₀ κ c (false, fstLink 6) (credit_half 6 (by decide) (by decide))
  | 7 => simp only [returned]; exact takes links rank (pay m) (defs₀ (F := F)) 𝒱₀ κ c (false, fstLink 7) (credit_half' 7 (by decide) (by decide))

theorem wait_step (κ : Dev nD × links.End → ℕ) (c : Dev nD) (i : grid0.Coords) (h : k0_cond3 i = 1#1) (O : CellTallies nD τ sig Unit) (b : ℕ)
    (hO : Above (τ := τ) links rank b O) (hb : ∀ j, rank (fstLink j) ≤ b) :
    iprop(records links (pay m) κ ∗ levAts L (ranks links rank) ∗ Third links Cert.Pf.room c fstLink (over₀ m c) (over₁ m c)
        ∗ (iprop(∃ W, owes c.tc (O + debt links c (fstLink 7) + debt links c (fstLink 6)) W) : sProp 𝕄))
      ⊢ wp frame (wpE (defs₀ (F := F)) 𝒱₀ c.tc none) Set.univ (code (waits (F := F) i c h))
          (fun _ => iprop(Finished links (pay m) c fstLink ∗ ∃ W, owes c.tc O W : sProp 𝕄)) :=
  wait_rows links rank (pay m) Cert.Pf.room (defs₀ (F := F)) 𝒱₀ κ c fstLink (over₀ m c) (over₁ m c) O b
    (fun j hj => takes_received m κ c i h j hj) (fun j => takes_returned m κ c i h j)
    (starts_pass m κ c _ 6 (by decide) (dev13_eq c (k0_dev13_lt i c h)) rfl (credit_half 6 (by decide) (by decide)) (half_set (off_6 c)))
    (starts_pass m κ c _ 7 (by decide) (dev14_eq c (k0_dev14_lt i c h)) rfl (credit_half' 7 (by decide) (by decide)) (half'_set (off_7 c)))
    (came_0 m c).2 (came_1 m c).2 (came_4 m c) (came_5 m c) hO hb (by decide) (by decide)

end A

end Cert.Pf

end
-- ==== Proof.PfMovesB.lean ====
/-
# The transfers of the second gathering of `proj_fwd`

What its transfers start and its waits bring, and with that the three parts of a grid point, as far as they are of this gathering.
-/
module

public import proofs.«01_k».proof.Proof.PfParts
public import proofs.«01_k».proof.Proof.PfLinks
public import proofs.«01_k».proof.Proof.Gather

@[expose] public section

noncomputable section

namespace Cert.Pf

open Cert.PfKernelIdeal Cert.PfKernelIdeal.Gen
open Idealize.ShloMosaic
open TcCoe Rounds
open Idealize.SL Idealize.SL.RA Idealize.SL.BI
open BIBase Laws ProofMode Sem
open Cert.Exchange (Links UU EP ER L records ranks Above debt Starts Takes takes starts code First Second Third Finished send_rows pass_rows wait_rows)

variable {F : FTy → Type} [FloatOps F]

local notation "𝕄" => MT nD τ sig Unit (Elt F) ℕ (UU nD sig τ) ℕ

variable (m : (ℓ : Loc nD τ sig) → Buf (Elt F) ℓ)

namespace B

omit [FloatOps F] in
theorem credit_own (j : Fin 8) (hj : j.val < 4) {o} {h} : (own o h).view.dmaCredit = links.units (sndLink j) := by
  show _ = Cert.Pf.amount (sndLink j)
  rw [amount_snd]; unfold amount; rw [if_pos hj]
  exact Eq.refl (RefSig.tileCredit S880x4096 .bf16)
omit [FloatOps F] in
theorem credit_big (j : Fin 8) (hj : j.val < 4) {o} {h} : (big o h).view.dmaCredit = links.units (sndLink j) := by
  show _ = Cert.Pf.amount (sndLink j)
  rw [amount_snd]; unfold amount; rw [if_pos hj]
  exact Eq.refl (RefSig.tileCredit S880x4096 .bf16)
omit [FloatOps F] in
theorem credit_half (j : Fin 8) (hj : ¬ j.val < 4) (hp : j.val % 2 = 0) {o} {h} : (half o h).view.dmaCredit = links.units (sndLink j) := by
  show _ = Cert.Pf.amount (sndLink j)
  rw [amount_snd]; unfold amount; rw [if_neg hj, if_pos hp]
  exact Eq.refl (RefSig.tileCredit S432x4096 .bf16)
omit [FloatOps F] in
theorem credit_half' (j : Fin 8) (hj : ¬ j.val < 4) (hp : j.val % 2 = 1) {o} {h} : (half' o h).view.dmaCredit = links.units (sndLink j) := by
  show _ = Cert.Pf.amount (sndLink j)
  rw [amount_snd]; unfold amount; rw [if_neg hj, if_neg (by omega)]
  exact Eq.refl (RefSig.tileCredit S448x4096 .bf16)

/-- The transfer of the own rows along the first or second link. -/
theorem starts_own (κ : Dev nD × links.End → ℕ) (c n : Dev nD) (j : Fin 8) (hj : j.val < 2) (hn : n = peer j c)
    {hi} {hi'} {hs : (own (k0_off4 c) hi').view.WordExact} {hd : (big (k0_off3 c) hi).view.WordExact} {hsc} {ht} :
    Starts links (pay m) Cert.Pf.room (defs₀ (F := F)) 𝒱₀ κ c (sndLink j) (move (sndLink j) n (own (k0_off4 c) hi') (big (k0_off3 c) hi) hs hd hsc ht) := by
  have hset : (big (k0_off3 c) hi).view.set = landing j (peer j c) := by
    have e : layer j c = c.val / 2 ∧ row j c = 2048 * (c.val % 2) ∧ height j = 880 := by
      clear hn hs hd hsc ht hi hi'; revert j c; decide
    unfold landing place
    rw [peer_peer, e.1, e.2.1, e.2.2]
    exact big_set (off_dst c)
  have hchip : c.val / 2 ≠ (peer j c).val / 2 := by
    clear hn hs hd hsc ht hi hi' hset; revert j c; decide
  refine starts links (pay m) Cert.Pf.room (defs₀ (F := F)) 𝒱₀ κ n (sndLink j) (hn.trans (congrFun (peer_snd j) c).symm)
    (q := part j) (m (c.tc.loc main_arg3)) (credit_big j (by omega)) ?_ ?_ ?_ (route_snd j c)
  · exact (lent_snd m j c).trans (lent_own m c j hj)
  · rw [room_snd, peer_at_snd]
    unfold room piece
    rw [hset]
    exact BIBase.Entails.rfl
  · intro fd
    rw [came_snd, peer_at_snd]
    refine Entails.of_eq ?_
    show _ = piece (peer j c) (landing j (peer j c)) fullShare (filled m (peer j c))
    unfold piece
    rw [← hset]
    exact pointsTo_congr fun i hi => delivered m c (peer j c) hchip fd i hi

/-- Some rows of a layer passed on where they lie. -/
theorem starts_pass (κ : Dev nD × links.End → ℕ) (c n : Dev nD) (j : Fin 8) (hj : 2 ≤ j.val) (hn : n = peer j c)
    {r : Rect S4x4096x4096} {hr} {s : Shape} {hq} {M : Memref sig .tc .hbm s .bf16} (hM : M = ((Memref.whole main_v1_2).slice r hr).squeeze s hq)
    (hu : M.view.dmaCredit = links.units (sndLink j)) (hset : (((Memref.whole main_v1_2).slice r hr).squeeze s hq).view.set = place j c) {hs hd : M.view.WordExact} {hsc} {ht} :
    Starts links (pay m) Cert.Pf.room (defs₀ (F := F)) 𝒱₀ κ c (sndLink j) (move (sndLink j) n M M hs hd hsc ht) := by
  subst hM
  have hl : landing j (peer j c) = place j c := by unfold landing; rw [peer_peer]
  refine starts links (pay m) Cert.Pf.room (defs₀ (F := F)) 𝒱₀ κ n (sndLink j) (hn.trans (congrFun (peer_snd j) c).symm)
    (q := part j) (filled m c) hu ?_ ?_ ?_ (route_snd j c)
  · rw [hset]
    exact (lent_snd m j c).trans (lent_pass m c j (by omega))
  · rw [room_snd, peer_at_snd, hset]
    unfold room piece
    rw [hl]
    exact BIBase.Entails.rfl
  · intro fd
    rw [came_snd, peer_at_snd]
    refine Entails.of_eq ?_
    show _ = piece (peer j c) (landing j (peer j c)) fullShare (filled m (peer j c))
    unfold piece
    rw [hl, ← hset]
    refine pointsTo_congr fun i hi' => (write_read (((Memref.whole main_v1_2).slice r hr).squeeze s hq).view fd (filled m c) i hi').trans ?_
    have hp := place_layer j c hj (hset ▸ hi' : i ∈ place j c)
    exact filled_eq m c (peer j c) i hp.1 hp.2.1 hp.2.2

/-- What is passed on whole and in part, without that part. -/
def over₀ (c : Dev nD) : sProp (MT nD τ sig Unit (Elt F) ℕ (UU nD sig τ) ℕ) := piece c (place 2 c \ place 4 c) fullShare.right (filled m c)
def over₁ (c : Dev nD) : sProp (MT nD τ sig Unit (Elt F) ℕ (UU nD sig τ) ℕ) := piece c (place 3 c \ place 5 c) fullShare.right (filled m c)

/-- What came along links 0 and 1 is what links 2 and 4, and 3 and 5, pass on; what came along 4 and 5, what 6 and 7 do. -/
theorem came_0 (c : Dev nD) : (pay m (true, sndLink 0) c : sProp 𝕄) ⊣⊢ iprop(pay m (false, sndLink 2) c ∗ pay m (false, sndLink 4) c ∗ over₀ m c) := by
  have h : (piece c (place 2 c) fullShare.right (filled m c) : sProp 𝕄) = _ := equiv_iff.mp ⟨(piece_sub c (place_4_sub c) fullShare.right (filled m c)).1, (piece_sub c (place_4_sub c) fullShare.right (filled m c)).2⟩
  rw [came_snd, lent_snd, lent_snd, lent_pass m c 2 (by decide), lent_pass m c 4 (by decide)]
  unfold came
  rw [landing_0]
  refine BI.BIBase.BiEntails.trans (piece_share c _ _) ?_
  rw [h]
  exact BIBase.BiEntails.rfl
theorem came_1 (c : Dev nD) : (pay m (true, sndLink 1) c : sProp 𝕄) ⊣⊢ iprop(pay m (false, sndLink 3) c ∗ pay m (false, sndLink 5) c ∗ over₁ m c) := by
  have h : (piece c (place 3 c) fullShare.right (filled m c) : sProp 𝕄) = _ := equiv_iff.mp ⟨(piece_sub c (place_5_sub c) fullShare.right (filled m c)).1, (piece_sub c (place_5_sub c) fullShare.right (filled m c)).2⟩
  rw [came_snd, lent_snd, lent_snd, lent_pass m c 3 (by decide), lent_pass m c 5 (by decide)]
  unfold came
  rw [landing_1]
  refine BI.BIBase.BiEntails.trans (piece_share c _ _) ?_
  rw [h]
  exact BIBase.BiEntails.rfl
theorem came_4 (c : Dev nD) : pay m (true, sndLink 4) c = pay m (false, sndLink 6) c := by
  rw [came_snd, lent_snd, lent_pass m c 6 (by decide)]; unfold came; rw [landing_4]; rfl
theorem came_5 (c : Dev nD) : pay m (true, sndLink 5) c = pay m (false, sndLink 7) c := by
  rw [came_snd, lent_snd, lent_pass m c 7 (by decide)]; unfold came; rw [landing_5]; rfl

/-- The three parts of a grid point with transfers, as far as this gathering goes. -/
theorem send_step (κ : Dev nD × links.End → ℕ) (c : Dev nD) (i : grid0.Coords) (h : k0_cond1 i = 1#1) (O : CellTallies nD τ sig Unit) :
    iprop(records links (pay m) κ ∗ First links (pay m) Cert.Pf.room c sndLink ∗ (iprop(∃ W, owes c.tc (O + debt links c (sndLink 1) + debt links c (sndLink 0)) W) : sProp 𝕄))
      ⊢ wp frame (wpE (defs₀ (F := F)) 𝒱₀ c.tc none) Set.univ (code (sends (F := F) i c h))
          (fun _ => iprop(Second links Cert.Pf.room c sndLink ∗ ∃ W, owes c.tc O W : sProp 𝕄)) :=
  send_rows links (pay m) Cert.Pf.room (defs₀ (F := F)) 𝒱₀ κ c sndLink O
    (starts_own m κ c _ 0 (by decide) (dev3_eq c (k0_dev3_lt i c h)) (hi := k0_off3_inb i c h) (hi' := k0_off4_inb i c h)
      (hs := own_exact (k0_off4_wordsbf16 i c h)) (hd := big_exact (k0_off3_wordsbf16 i c h)) (hsc := rfl) (ht := ⟨⟨rfl, Or.inl rfl⟩, trivial⟩))
    (starts_own m κ c _ 1 (by decide) (dev4_eq c (k0_dev4_lt i c h)) (hi := k0_off3_inb i c h) (hi' := k0_off4_inb i c h)
      (hs := own_exact (k0_off4_wordsbf16 i c h)) (hd := big_exact (k0_off3_wordsbf16 i c h)) (hsc := rfl) (ht := ⟨⟨rfl, Or.inl rfl⟩, trivial⟩))

theorem pass_step (κ : Dev nD × links.End → ℕ) (c : Dev nD) (i : grid0.Coords) (h : k0_cond2 i = 1#1) (O : CellTallies nD τ sig Unit)
    (hO : Above (τ := τ) links rank 1 O) :
    iprop(records links (pay m) κ ∗ levAts L (ranks links rank) ∗ Second links Cert.Pf.room c sndLink
        ∗ (iprop(∃ W, owes c.tc (O + debt links c (sndLink 3) + debt links c (sndLink 5) + debt links c (sndLink 2) + debt links c (sndLink 4)) W) : sProp 𝕄))
      ⊢ wp frame (wpE (defs₀ (F := F)) 𝒱₀ c.tc none) Set.univ (code (passes (F := F) i c h))
          (fun _ => iprop(Third links Cert.Pf.room c sndLink (over₀ m c) (over₁ m c) ∗ ∃ W, owes c.tc O W : sProp 𝕄)) :=
  pass_rows links rank (pay m) Cert.Pf.room (defs₀ (F := F)) 𝒱₀ κ c sndLink (over₀ m c) (over₁ m c) O 1
    (takes links rank (pay m) (defs₀ (F := F)) 𝒱₀ κ c (true, sndLink 0) (credit_big 0 (by decide)))
    (takes links rank (pay m) (defs₀ (F := F)) 𝒱₀ κ c (true, sndLink 1) (credit_big 1 (by decide)))
    (starts_pass m κ c _ 2 (by decide) (dev10_eq c (k0_dev10_lt i c h)) rfl (credit_big 2 (by decide)) (big_set (off_2 c)))
    (starts_pass m κ c _ 3 (by decide) (dev12_eq c (k0_dev12_lt i c h)) rfl (credit_big 3 (by decide)) (big_set (off_3 c)))
    (starts_pass m κ c _ 4 (by decide) (dev9_eq c (k0_dev9_lt i c h)) rfl (credit_half 4 (by decide) (by decide)) (half_set (off_4 c)))
    (starts_pass m κ c _ 5 (by decide) (dev11_eq c (k0_dev11_lt i c h)) rfl (credit_half' 5 (by decide) (by decide)) (half'_set (off_5 c)))
    (came_0 m c).1 (came_1 m c).1 hO (by decide) (by decide) (by decide) (by decide) (by decide) (by decide)

theorem takes_received (κ : Dev nD × links.End → ℕ) (c : Dev nD) (i : grid0.Coords) (h : k0_cond3 i = 1#1) (j : Fin 8) (hj : 2 ≤ j.val) :
    Takes links rank (pay m) (defs₀ (F := F)) 𝒱₀ κ c (true, sndLink j) (received (F := F) i c h j) := by
  match j, hj with
  | 2, _ => simp only [received]; exact takes links rank (pay m) (defs₀ (F := F)) 𝒱₀ κ c (true, sndLink 2) (credit_big 2 (by decide))
  | 3, _ => simp only [received]; exact takes links rank (pay m) (defs₀ (F := F)) 𝒱₀ κ c (true, sndLink 3) (credit_big 3 (by decide))
  | 4, _ => simp only [received]; exact takes links rank (pay m) (defs₀ (F := F)) 𝒱₀ κ c (true, sndLink 4) (credit_half 4 (by decide) (by decide))
  | 5, _ => simp only [received]; exact takes links rank (pay m) (defs₀ (F := F)) 𝒱₀ κ c (true, sndLink 5) (credit_half' 5 (by decide) (by decide))
  | 6, _ => simp only [received]; exact takes links rank (pay m) (defs₀ (F := F)) 𝒱₀ κ c (true, sndLink 6) (credit_half 6 (by decide) (by decide))
  | 7, _ => simp only [received]; exact takes links rank (pay m) (defs₀ (F := F)) 𝒱₀ κ c (true, sndLink 7) (credit_half' 7 (by decide) (by decide))

theorem takes_returned (κ : Dev nD × links.End → ℕ) (c : Dev nD) (i : grid0.Coords) (h : k0_cond3 i = 1#1) (j : Fin 8) :
    Takes links rank (pay m) (defs₀ (F := F)) 𝒱₀ κ c (false, sndLink j) (returned (F := F) i c h j) := by
  match j with
  | 0 => simp only [returned]; exact takes links rank (pay m) (defs₀ (F := F)) 𝒱₀ κ c (false, sndLink 0) (credit_own 0 (by decide))
  | 1 => simp only [returned]; exact takes links rank (pay m) (defs₀ (F := F)) 𝒱₀ κ c (false, sndLink 1) (credit_own 1 (by decide))
  | 2 => simp only [returned]; exact takes links rank (pay m) (defs₀ (F := F)) 𝒱₀ κ c (false, sndLink 2) (credit_big 2 (by decide))
  | 3 => simp only [returned]; exact takes links rank (pay m) (defs₀ (F := F)) 𝒱₀ κ c (false, sndLink 3) (credit_big 3 (by decide))
  | 4 => simp only [returned]; exact takes links rank (pay m) (defs₀ (F := F)) 𝒱₀ κ c (false, sndLink 4) (credit_half 4 (by decide) (by decide))
  | 5 => simp only [returned]; exact takes links rank (pay m) (defs₀ (F := F)) 𝒱₀ κ c (false, sndLink 5) (credit_half' 5 (by decide) (by decide))
  | 6 => simp only [returned]; exact takes links rank (pay m) (defs₀ (F := F)) 𝒱₀ κ c (false, sndLink 6) (credit_half 6 (by decide) (by decide))
  | 7 => simp only [returned]; exact takes links rank (pay m) (defs₀ (F := F)) 𝒱₀ κ c (false, sndLink 7) (credit_half' 7 (by decide) (by decide))

theorem wait_step (κ : Dev nD × links.End → ℕ) (c : Dev nD) (i : grid0.Coords) (h : k0_cond3 i = 1#1) (O : CellTallies nD τ sig Unit) (b : ℕ)
    (hO : Above (τ := τ) links rank b O) (hb : ∀ j, rank (sndLink j) ≤ b) :
    iprop(records links (pay m) κ ∗ levAts L (ranks links rank) ∗ Third links Cert.Pf.room c sndLink (over₀ m c) (over₁ m c)
        ∗ (iprop(∃ W, owes c.tc (O + debt links c (sndLink 7) + debt links c (sndLink 6)) W) : sProp 𝕄))
      ⊢ wp frame (wpE (defs₀ (F := F)) 𝒱₀ c.tc none) Set.univ (code (waits (F := F) i c h))
          (fun _ => iprop(Finished links (pay m) c sndLink ∗ ∃ W, owes c.tc O W : sProp 𝕄)) :=
  wait_rows links rank (pay m) Cert.Pf.room (defs₀ (F := F)) 𝒱₀ κ c sndLink (over₀ m c) (over₁ m c) O b
    (fun j hj => takes_received m κ c i h j hj) (fun j => takes_returned m κ c i h j)
    (starts_pass m κ c _ 6 (by decide) (dev15_eq c (k0_dev15_lt i c h)) rfl (credit_half 6 (by decide) (by decide)) (half_set (off_6 c)))
    (starts_pass m κ c _ 7 (by decide) (dev16_eq c (k0_dev16_lt i c h)) rfl (credit_half' 7 (by decide) (by decide)) (half'_set (off_7 c)))
    (came_0 m c).2 (came_1 m c).2 (came_4 m c) (came_5 m c) hO hb (by decide) (by decide)

end B

end Cert.Pf

end
-- ==== Proof.PfSteps.lean ====
/-
# The four parts of `proj_fwd`, each by itself

What each part of a grid point does to the memory and to the protocol. The three with transfers go through the steps of the first
gathering and then those of the second; what a device owes shrinks from one to the next, the later transfers last.
-/
module

public import proofs.«01_k».proof.Proof.PfBlock
public import proofs.«01_k».proof.Proof.PfMovesA
public import proofs.«01_k».proof.Proof.PfMovesB

@[expose] public section

noncomputable section

namespace Cert.Pf

open Cert.PfKernelIdeal Cert.PfKernelIdeal.Gen
open Idealize.ShloMosaic
open TcCoe Rounds
open Idealize.SL Idealize.SL.RA Idealize.SL.BI
open BIBase Laws ProofMode Sem
open Cert.Exchange (Links UU EP ER L records ranks due Above above_zero above_add debt code First Second Third Finished wp_code_append owns_iff)

variable {F : FTy → Type} [FloatOps F]

local notation "𝕄" => MT nD τ sig Unit (Elt F) ℕ (UU nD sig τ) ℕ

/-! ## The block -/

/-- The computing part reads its two blocks and leaves `outBlock` of them, whatever was there. -/
theorem work_step (c : Dev nD) (A : Memref sig .tc .vmem S1024x4096 .bf16) (B : Memref sig .tc .vmem S1x4096x512 .bf16) (O : Memref sig .tc .vmem S1024x512 .f32)
    (a : Vec F S1024x4096 .bf16) (b : Vec F S1x4096x512 .bf16) (o : Vec F S1024x512 .f32) :
    iprop(owns (Ix := Unit) (Name := ℕ) (U := UU nD sig τ) (Lvl := ℕ) c.tc A fullShare a
        ∗ owns c.tc B fullShare b ∗ owns c.tc O fullShare o)
      ⊢ wp frame (wpE (defs₀ (F := F)) 𝒱₀ c none) Set.univ (workPart A B O)
          (fun _ => iprop(owns c.tc A fullShare a ∗ owns c.tc B fullShare b
            ∗ owns c.tc O fullShare (outBlock a b) : sProp 𝕄)) := by
  simp only [owns_iff]
  unfold workPart
  iintro ⟨⟨%fa, %ha, HA⟩, ⟨%fb, %hb, HB⟩, ⟨%fo, %ho, HO⟩⟩
  subst ha hb
  iapply (wp_load 𝒱₀ c.tc none Set.univ (m := B) (View.setOn_subset_set _ _)) $$ HB; iintro HB
  iapply (wp_load 𝒱₀ c.tc none Set.univ (m := A) (View.setOn_subset_set _ _)) $$ HA; iintro HA
  iapply (wp_load 𝒱₀ c.tc none Set.univ (m := O) (View.setOn_subset_set _ _)) $$ HO; iintro HO
  iapply (wp_store_writes₀ 𝒱₀ c.tc none Set.univ (m := O) (r := allO) (View.set_slice_subset _ _)) $$ HO; iintro HO
  rw [wp_ret]; imodintro
  isplitl [HA]
  · iexists fa; isplitr; · (ipureintro; rfl)
    iexact HA
  isplitl [HB]
  · iexists fb; isplitr; · (ipureintro; rfl)
    iexact HB
  iexists _; isplitr
  · ipureintro
    refine (read_store O.view fo (k0_pay1 (seen (B.view.read (Elt F) fb) allB) (seen (A.view.read (Elt F) fa) allA))).trans ?_
    rw [seen_A, seen_B]
    rfl
  iexact HO

/-! ## What is owed -/

/-- What a device owes before the last step of the second gathering, of the first; before their passing on, and before their sending. -/
def lastB (c : Dev nD) : CellTallies nD τ sig Unit := 0 + debt links c (sndLink 7) + debt links c (sndLink 6)
def last (c : Dev nD) : CellTallies nD τ sig Unit := lastB c + debt links c (fstLink 7) + debt links c (fstLink 6)
def laterB (c : Dev nD) : CellTallies nD τ sig Unit := last c + debt links c (sndLink 3) + debt links c (sndLink 5) + debt links c (sndLink 2) + debt links c (sndLink 4)
def later (c : Dev nD) : CellTallies nD τ sig Unit := laterB c + debt links c (fstLink 3) + debt links c (fstLink 5) + debt links c (fstLink 2) + debt links c (fstLink 4)
def dueB (c : Dev nD) : CellTallies nD τ sig Unit := later c + debt links c (sndLink 1) + debt links c (sndLink 0)

theorem due_eq (c : Dev nD) : due (τ := τ) links c = dueB c + debt links c (fstLink 1) + debt links c (fstLink 0) := by
  have h : due (τ := τ) links c = (debt links c (fstLink 0) + debt links c (fstLink 1) + debt links c (fstLink 2) + debt links c (fstLink 3)
      + debt links c (fstLink 4) + debt links c (fstLink 5) + debt links c (fstLink 6) + debt links c (fstLink 7))
      + (debt links c (sndLink 0) + debt links c (sndLink 1) + debt links c (sndLink 2) + debt links c (sndLink 3)
      + debt links c (sndLink 4) + debt links c (sndLink 5) + debt links c (sndLink 6) + debt links c (sndLink 7)) := by
    unfold due
    refine (Fin.sum_univ_add (a := 8) (b := 8) _).trans ?_
    rw [Fin.sum_univ_eight, Fin.sum_univ_eight]
  rw [h]
  unfold dueB later laterB last lastB
  rw [zero_add]
  ac_rfl

theorem above_lastB (b : ℕ) (hb : b < 4) (c : Dev nD) : Above (τ := τ) links rank b (lastB c) :=
  above_add links rank (above_add links rank (above_zero links rank b) c (sndLink 7) hb) c (sndLink 6) hb
theorem above_last (b : ℕ) (hb : b < 3) (c : Dev nD) : Above (τ := τ) links rank b (last c) :=
  above_add links rank (above_add links rank (above_lastB b (by omega) c) c (fstLink 7) hb) c (fstLink 6) hb
theorem above_laterB (b : ℕ) (hb : b < 2) (c : Dev nD) : Above (τ := τ) links rank b (laterB c) :=
  above_add links rank (above_add links rank (above_add links rank (above_add links rank (above_last b (by omega) c)
    c (sndLink 3) hb) c (sndLink 5) hb) c (sndLink 2) hb) c (sndLink 4) hb
theorem above_later (b : ℕ) (hb : b < 2) (c : Dev nD) : Above (τ := τ) links rank b (later c) :=
  above_add links rank (above_add links rank (above_add links rank (above_add links rank (above_laterB b hb c)
    c (fstLink 3) hb) c (fstLink 5) hb) c (fstLink 2) hb) c (fstLink 4) hb
theorem above_due (c : Dev nD) : Above (τ := τ) links rank 0 (due links c) := by
  rw [due_eq]
  exact above_add links rank (above_add links rank (above_add links rank (above_add links rank (above_later 0 (by decide) c)
    c (sndLink 1) (rank_pos _)) c (sndLink 0) (rank_pos _)) c (fstLink 1) (rank_pos _)) c (fstLink 0) (rank_pos _)

/-! ## The steps -/

variable (m : (ℓ : Loc nD τ sig) → Buf (Elt F) ℓ)

/-- The first point's transfers. -/
theorem send_step (κ : Dev nD × links.End → ℕ) (c : Dev nD) (i : grid0.Coords) (h : k0_cond1 i = 1#1) :
    iprop(records links (pay m) κ ∗ levAts L (ranks links rank) ∗ (First links (pay m) room c fstLink ∗ First links (pay m) room c sndLink)
        ∗ (iprop(∃ W, owes c.tc (dueB c + debt links c (fstLink 1) + debt links c (fstLink 0)) W) : sProp 𝕄))
      ⊢ wp frame (wpE (defs₀ (F := F)) 𝒱₀ c.tc none) Set.univ (sendPart (F := F) i)
          (fun _ => iprop((Second links room c fstLink ∗ Second links room c sndLink) ∗ ∃ W, owes c.tc (later c) W : sProp 𝕄)) := by
  unfold sendPart
  rw [dif_pos h]
  simp only [wp_deviceId]
  iintro ⟨#HR, #HL, ⟨HA, HB⟩, HO⟩
  iapply (wp_code_append (defs₀ (F := F)) 𝒱₀ c _ _ _)
  iapply (wp_wand frame (wpE (defs₀ (F := F)) 𝒱₀ c.tc none) Set.univ) $$ [HA HO]
  · iapply (A.send_step m κ c i h (dueB c))
    iframe HR HA HO
  iintro %a ⟨HA, HO⟩
  iapply (wp_wand frame (wpE (defs₀ (F := F)) 𝒱₀ c.tc none) Set.univ) $$ [HB HO]
  · iapply (B.send_step m κ c i h (later c))
    iframe HR HB HO
  iintro %a' ⟨HB, HO⟩
  iframe HA HB HO

/-- Point 48 passes on what came first. -/
theorem pass_step (κ : Dev nD × links.End → ℕ) (c : Dev nD) (i : grid0.Coords) (h : k0_cond2 i = 1#1) :
    iprop(records links (pay m) κ ∗ levAts L (ranks links rank) ∗ (Second links room c fstLink ∗ Second links room c sndLink)
        ∗ (iprop(∃ W, owes c.tc (later c) W) : sProp 𝕄))
      ⊢ wp frame (wpE (defs₀ (F := F)) 𝒱₀ c.tc none) Set.univ (passPart (F := F) i)
          (fun _ => iprop((Third links room c fstLink (A.over₀ m c) (A.over₁ m c) ∗ Third links room c sndLink (B.over₀ m c) (B.over₁ m c)) ∗ ∃ W, owes c.tc (last c) W : sProp 𝕄)) := by
  unfold passPart
  rw [dif_pos h]
  simp only [wp_deviceId]
  iintro ⟨#HR, #HL, ⟨HA, HB⟩, HO⟩
  iapply (wp_code_append (defs₀ (F := F)) 𝒱₀ c _ _ _)
  iapply (wp_wand frame (wpE (defs₀ (F := F)) 𝒱₀ c.tc none) Set.univ) $$ [HA HO]
  · iapply (A.pass_step m κ c i h (laterB c) (above_laterB 1 (by decide) c))
    iframe HR HL HA HO
  iintro %a ⟨HA, HO⟩
  iapply (wp_wand frame (wpE (defs₀ (F := F)) 𝒱₀ c.tc none) Set.univ) $$ [HB HO]
  · iapply (B.pass_step m κ c i h (last c) (above_last 1 (by decide) c))
    iframe HR HL HB HO
  iintro %a' ⟨HB, HO⟩
  iframe HA HB HO

/-- The last point: all has landed, and what was lent is back. -/
theorem wait_step (κ : Dev nD × links.End → ℕ) (c : Dev nD) (i : grid0.Coords) (h : k0_cond3 i = 1#1) :
    iprop(records links (pay m) κ ∗ levAts L (ranks links rank) ∗ (Third links room c fstLink (A.over₀ m c) (A.over₁ m c) ∗ Third links room c sndLink (B.over₀ m c) (B.over₁ m c))
        ∗ (iprop(∃ W, owes c.tc (last c) W) : sProp 𝕄))
      ⊢ wp frame (wpE (defs₀ (F := F)) 𝒱₀ c.tc none) Set.univ (waitPart (F := F) i)
          (fun _ => iprop((Finished links (pay m) c fstLink ∗ Finished links (pay m) c sndLink) ∗ ∃ W, owes c.tc (0) W : sProp 𝕄)) := by
  unfold waitPart
  rw [dif_pos h]
  simp only [wp_deviceId]
  iintro ⟨#HR, #HL, ⟨HA, HB⟩, HO⟩
  iapply (wp_code_append (defs₀ (F := F)) 𝒱₀ c _ _ _)
  iapply (wp_wand frame (wpE (defs₀ (F := F)) 𝒱₀ c.tc none) Set.univ) $$ [HA HO]
  · iapply (A.wait_step m κ c i h (lastB c) 3 (above_lastB 3 (by decide) c) (by decide))
    iframe HR HL HA HO
  iintro %a ⟨HA, HO⟩
  iapply (wp_wand frame (wpE (defs₀ (F := F)) 𝒱₀ c.tc none) Set.univ) $$ [HB HO]
  · iapply (B.wait_step m κ c i h 0 4 (above_zero links rank 4) (by decide))
    iframe HR HL HB HO
  iintro %a' ⟨HB, HO⟩
  iframe HA HB HO

end Cert.Pf

end
-- ==== Proof.PfBody.lean ====
/-
# The body of `proj_fwd` at every grid point

The schedule of the call on device `c`, its window contents, and the body's obligation: what a grid point is given and
what it leaves. Before the first point nothing is sent (`Start`); then the own rows are on the way (`Sent`); from point 48 on
what came first is passed on (`Relayed`); after the last point all has landed (`Done`).
-/
module

public import proofs.«01_k».proof.Proof.PfSteps
public import proofs.«01_k».proof.Proof.Gen.PfKernelIdeal.Points
public import proofs.«01_k».proof.Proof.Gen.PfKernelIdeal.Regions
public import Idealize.ShloMosaic.Lib.Pipeline.FrameBody

@[expose] public section

noncomputable section

namespace Cert.Pf

open Cert.PfKernelIdeal Cert.PfKernelIdeal.Gen
open Idealize.ShloMosaic
open Idealize.ShloMosaic.Pipeline
open Idealize.ShloMosaic.TcCoe
open Idealize.SL Idealize.SL.RA Idealize.SL.BI
open BIBase Laws ProofMode Sem
open Idealize.ShloMosaic.Rounds
open Cert.Exchange (Links UU EP ER L records ranks due First Second Third Finished)

variable {F : FTy → Type} [FloatOps F]

local notation "𝕄" => MT nD τ sig Unit (Elt F) ℕ (UU nD sig τ) ℕ

variable (m : (ℓ : Loc nD τ sig) → Buf (Elt F) ℓ)

/-! ## The states -/

/-- The buffers that the host operations after the call write, as they are before it. -/
def hostRest (c : Dev nD) (W : Valuation τ sig (Elt F)) : sProp 𝕄 :=
  bigSep hostOps1_W.toFinset fun b => (c.tc.loc b) ↦{fullShare} W (Proc.devRef .tc b)

/-- What no transfer touches: the rows that are not sent, the layers of the own chip, and those buffers. -/
def aside (c : Dev nD) : sProp 𝕄 :=
  iprop((A.kept m c ∗ A.ownLayer c (A.filled m c)) ∗ (B.kept m c ∗ B.ownLayer c (B.filled m c)) ∗ hostRest c (V0 m c))

/-- The protocol's standing facts. -/
def know : sProp 𝕄 := iprop((∃ κ, records links (pay m) κ) ∗ levAts L (ranks links rank))

/-- The own rows that a device sends: in two shares for each gathering. -/
def rows (c : Dev nD) : sProp 𝕄 :=
  iprop((pay m (false, fstLink 0) c ∗ pay m (false, fstLink 1) c) ∗ (pay m (false, sndLink 0) c ∗ pay m (false, sndLink 1) c))

/-- The memory a device brings to the exchange: what it sends, its peers' landing places, and what no transfer touches. -/
def mine (c : Dev nD) : sProp 𝕄 := iprop(rows m c ∗ (bigSep Finset.univ fun j => room (links.peer j c) j) ∗ aside m c)

/-- Before the first grid point, from there to point 48, from there to the last, and after it. -/
def Start (c : Dev nD) : sProp 𝕄 := iprop(know m ∗ (First links (pay m) room c fstLink ∗ First links (pay m) room c sndLink) ∗ aside m c)
def Sent (c : Dev nD) : sProp 𝕄 := iprop(know m ∗ (Second links room c fstLink ∗ Second links room c sndLink) ∗ aside m c)
def Relayed (c : Dev nD) : sProp 𝕄 := iprop(know m ∗ (Third links room c fstLink (A.over₀ m c) (A.over₁ m c) ∗ Third links room c sndLink (B.over₀ m c) (B.over₁ m c)) ∗ aside m c)
def Done (c : Dev nD) : sProp 𝕄 := iprop(know m ∗ (Finished links (pay m) c fstLink ∗ Finished links (pay m) c sndLink) ∗ aside m c)

/-! ## The schedule -/

/-- The arrays as launched, and each window's block at a point. -/
abbrev V (c : Dev nD) (b : Ref sig .tc) : Buf (Elt F) ((c.tc : Thread nD τ).loc b) := V0 m c (Proc.devRef .tc b)
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The state and what is owed when `n` points are done. -/
def state (c : Dev nD) (n : ℕ) : sProp 𝕄 := if n = 0 then Start m c else if n < 49 then Sent m c else if n < 80 then Relayed m c else Done m c
def owing (c : Dev nD) (n : ℕ) : CellTallies nD τ sig Unit := if n = 0 then due links c else if n < 49 then later c else if n < 80 then last c else 0

def dats (_ : Fin 1) (c : Dev nD) : Dat τ (Elt F) Unit ℕ (UU nD sig τ) ℕ cfg0 c where
  A w := V m c (Pipeline.arrRef spec0 w)
  after w t := match w with
    | ⟨0, _⟩ => iblk m c 0 t
    | ⟨1, _⟩ => iblk m c 1 t
    | ⟨2, _⟩ => outBlock (iblk m c 0 t) (iblk m c 1 t)
  Φ t := state m c t.val
  q _ := fullShare
  owed t := owing c t.val

/-- The two windows that are read hold their blocks at every point, fetched there or before. -/
theorem before_0 (c : Dev nD) (t : Fin cfg0.N) (d) : (dats m 0 c).before 0 t d = iblk m c 0 t :=
  ((dats m 0 c).before_in_eq_fetched 0 rfl (fun _ => rfl) (fun _ _ _ => rfl) (fun _ => rfl) t d).trans rfl
theorem before_1 (c : Dev nD) (t : Fin cfg0.N) (d) : (dats m 0 c).before 1 t d = iblk m c 1 t :=
  ((dats m 0 c).before_in_eq_fetched 1 rfl (fun _ => rfl) (fun _ _ _ => rfl) (fun _ => rfl) t d).trans rfl

/-! ## The obligation -/

/-- What a device owes, the pairs it has waited on left open. -/
theorem owesAt_intro (c : Dev nD) (t : Fin (cfg0.N + 1)) (O : CellTallies nD τ sig Unit) (hO : owing c t.val = O) :
    (iprop(∃ W, owes c.tc O W) : sProp 𝕄) ⊢ (dats m 0 c).owesAt () t := by
  unfold Dat.owesAt Pipeline.owesWithin
  rw [show (dats m 0 c).owed t = O from hO]
  iintro ⟨%W, H⟩
  iexists W
  isplitr
  · ipureintro; exact fun _ _ => Or.inl trivial
  iexact H
theorem owesAt_elim (c : Dev nD) (t : Fin (cfg0.N + 1)) :
    (dats m 0 c).owesAt () t ⊢ iprop(∃ W, owes c.tc (owing c t.val) W) := by
  unfold Dat.owesAt Pipeline.owesWithin
  iintro ⟨%W, %hW, H⟩
  iexists W; iexact H

/-- The state and the debts within a grid point: after its first part, and after the third. -/
def held₁ (c : Dev nD) (n : ℕ) : sProp 𝕄 := iprop(state m c (if n = 0 then 1 else n) ∗ ∃ W, owes c.tc (owing c (if n = 0 then 1 else n)) W)
def held₂ (c : Dev nD) (n : ℕ) : sProp 𝕄 := iprop(state m c (if n = 79 then 79 else n + 1) ∗ ∃ W, owes c.tc (owing c (if n = 79 then 79 else n + 1)) W)

theorem send_point (c : Dev nD) (t : Fin cfg0.N) :
    iprop((dats m 0 c).Φ t.castSucc ∗ (dats m 0 c).owesAt () t.castSucc)
      ⊢ wp frame (wpE (defs₀ (F := F)) 𝒱₀ c none) Set.univ (sendPart (F := F) (grid0.coords t)) (fun _ => held₁ m c t.val) := by
  refine BIBase.Entails.trans (sep_mono .rfl (owesAt_elim m c t.castSucc)) ?_
  show iprop(state m c t.val ∗ ∃ W, owes c.tc (owing c t.val) W) ⊢ _
  unfold held₁
  by_cases h : t.val = 0
  · rw [if_pos h, show state m c t.val = Start m c from if_pos h, show owing c t.val = due links c from if_pos h, due_eq]
    show _ ⊢ wp frame (wpE (defs₀ (F := F)) 𝒱₀ c none) Set.univ (sendPart (F := F) (grid0.coords t)) fun _ => iprop(Sent m c ∗ ∃ W, owes c.tc (later c) W)
    unfold Start know
    iintro ⟨⟨⟨⟨%κ, #HR⟩, #HL⟩, HG, Hk⟩, HO⟩
    iapply (wp_wand frame (wpE (defs₀ (F := F)) 𝒱₀ c none) Set.univ) $$ [HG HO]
    · iapply (send_step m κ c (grid0.coords t) ((sends_iff t).mpr h))
      iframe HR HL HG HO
    iintro %a ⟨HG, HO⟩
    isplitr [HO]
    · unfold Sent know
      isplitr
      · isplitr; · (iexists κ; iexact HR)
        iexact HL
      iframe HG Hk
    iexact HO
  · unfold sendPart
    rw [if_neg h, dif_neg fun h' => h ((sends_iff t).mp h'), wp_ret]
    iintro H
    imodintro
    iexact H

theorem pass_point (c : Dev nD) (t : Fin cfg0.N) :
    held₁ m c t.val ⊢ wp frame (wpE (defs₀ (F := F)) 𝒱₀ c none) Set.univ (passPart (F := F) (grid0.coords t)) (fun _ => held₂ m c t.val) := by
  have hN : t.val < 80 := lt_of_lt_of_eq t.isLt N_0
  unfold held₁ held₂
  by_cases h : t.val = 48
  · rw [h]
    show iprop(Sent m c ∗ ∃ W, owes c.tc (later c) W)
      ⊢ wp frame (wpE (defs₀ (F := F)) 𝒱₀ c none) Set.univ (passPart (F := F) (grid0.coords t)) fun _ => iprop(Relayed m c ∗ ∃ W, owes c.tc (last c) W)
    unfold Sent know
    iintro ⟨⟨⟨⟨%κ, #HR⟩, #HL⟩, HG, Hk⟩, HO⟩
    iapply (wp_wand frame (wpE (defs₀ (F := F)) 𝒱₀ c none) Set.univ) $$ [HG HO]
    · iapply (pass_step m κ c (grid0.coords t) ((passes_iff t).mpr h))
      iframe HR HL HG HO
    iintro %a ⟨HG, HO⟩
    isplitr [HO]
    · unfold Relayed know
      isplitr
      · isplitr; · (iexists κ; iexact HR)
        iexact HL
      iframe HG Hk
    iexact HO
  · have hs : state m c (if t.val = 0 then 1 else t.val) = state m c (if t.val = 79 then 79 else t.val + 1)
        ∧ owing c (if t.val = 0 then 1 else t.val) = owing c (if t.val = 79 then 79 else t.val + 1) := by
      unfold state owing
      constructor <;> (repeat' split) <;> first | rfl | (exfalso; omega)
    unfold passPart
    rw [dif_neg fun h' => h ((passes_iff t).mp h'), wp_ret, hs.1, hs.2]
    iintro H
    imodintro
    iexact H

theorem wait_point (c : Dev nD) (t : Fin cfg0.N) :
    held₂ m c t.val ⊢ wp frame (wpE (defs₀ (F := F)) 𝒱₀ c none) Set.univ (waitPart (F := F) (grid0.coords t))
      (fun _ => iprop((dats m 0 c).Φ t.succ ∗ (dats m 0 c).owesAt () t.succ : sProp 𝕄)) := by
  unfold held₂
  by_cases h : t.val = 79
  · have hΦ : (dats m 0 c).Φ t.succ = Done m c := by
      show state m c (t.val + 1) = Done m c
      rw [h]; rfl
    have hO : owing c t.succ.val = 0 := by
      show owing c (t.val + 1) = 0
      rw [h]; rfl
    rw [hΦ, if_pos h]
    show iprop(Relayed m c ∗ ∃ W, owes c.tc (last c) W) ⊢ _
    unfold Relayed know
    iintro ⟨⟨⟨⟨%κ, #HR⟩, #HL⟩, HG, Hk⟩, HO⟩
    iapply (wp_wand frame (wpE (defs₀ (F := F)) 𝒱₀ c none) Set.univ) $$ [HG HO]
    · iapply (wait_step m κ c (grid0.coords t) ((waits_iff t).mpr h))
      iframe HR HL HG HO
    iintro %a ⟨HG, HO⟩
    isplitr [HO]
    · unfold Done know
      isplitr
      · isplitr; · (iexists κ; iexact HR)
        iexact HL
      iframe HG Hk
    · iapply (owesAt_intro m c t.succ 0 hO); iexact HO
  · unfold waitPart
    rw [dif_neg fun h' => h ((waits_iff t).mp h'), wp_ret, if_neg h]
    iintro ⟨H, HO⟩
    imodintro
    isplitl [H]
    · iapply (Entails.of_eq (show state m c (t.val + 1) = (dats m 0 c).Φ t.succ from rfl)); iexact H
    iapply (owesAt_intro m c t.succ _ rfl); iexact HO

theorem body_obligation (c : Dev nD) : BodyObligation (dats (F := F) m 0 c) (defs₀ (F := F)) 𝒱₀ () Set.univ := fun t => by
  rw [bigSep_W0, bigSep_W0]
  show _ ⊢ wp frame (wpE (defs₀ (F := F)) 𝒱₀ c none) Set.univ (bodyAt0 (F := F) t) _
  rw [body_eq, wp_bind]
  iintro ⟨HΦ, HO, ⟨%d0, H0⟩, ⟨%d1, H1⟩, ⟨%d2, H2⟩⟩
  iapply (wp_wand frame (wpE (defs₀ (F := F)) 𝒱₀ c none) Set.univ) $$ [HΦ HO]
  · iapply (send_point m c t)
    iframe HΦ HO
  iintro %a HS
  rw [wp_bind]
  iapply (wp_wand frame (wpE (defs₀ (F := F)) 𝒱₀ c none) Set.univ) $$ [H0 H1 H2]
  · iapply (work_step c (st0_0 t) (st0_1 t) (st0_2 t) (iblk m c 0 t) (iblk m c 1 t) _)
    isplitl [H0]; · (iapply (Entails.of_eq (congrArg _ (before_0 m c t d0))); iexact H0)
    isplitl [H1]; · (iapply (Entails.of_eq (congrArg _ (before_1 m c t d1))); iexact H1)
    iexact H2
  iintro %a' ⟨H0, H1, H2⟩
  rw [wp_bind]
  iapply (wp_wand frame (wpE (defs₀ (F := F)) 𝒱₀ c none) Set.univ) $$ [HS]
  · iapply (pass_point m c t); iexact HS
  iintro %a'' HS
  iapply (wp_wand frame (wpE (defs₀ (F := F)) 𝒱₀ c none) Set.univ) $$ [HS]
  · iapply (wait_point m c t); iexact HS
  iintro %a3 ⟨HΦ, HO⟩
  isplitl [HΦ]; · iexact HΦ
  isplitl [HO]; · iexact HO
  isplitl [H0]; · iexact H0
  isplitl [H1]; · iexact H1
  iexact H2

end Cert.Pf

end
-- ==== Proof.PfHost.lean ====
/-
# The host operations after `proj_fwd`

After the call each device fills the layer of its own chip in both gathered arrays: a select between its own rows and what was
gathered, by the layer's number. Of the second array it cuts the rows that were gathered out first. `mergedA` and `mergedB`
are the results.
-/
module

public import proofs.«01_k».proof.Proof.PfBody
public import Idealize.ShloMosaic.Lib.Pointwise

@[expose] public section

noncomputable section

namespace Cert.Pf

open Cert.PfKernelIdeal Cert.PfKernelIdeal.Gen
open Idealize.ShloMosaic
open Idealize.ShloMosaic.Pipeline
open Idealize.ShloMosaic.TcCoe
open Idealize.SL Idealize.SL.RA Idealize.SL.BI
open BIBase Laws ProofMode Sem
open Idealize.ShloMosaic.Rounds
open Cert.Exchange (Links UU EP ER records L ranks)

variable {F : FTy → Type} [FloatOps F]

local notation "𝕄" => MT nD τ sig Unit (Elt F) ℕ (UU nD sig τ) ℕ

variable (m : (ℓ : Loc nD τ sig) → Buf (Elt F) ℓ)

/-- Row `r` of the band of half `h` of the rows of a `main_arg3`. -/
def bandRow (h : Fin 2) (r : Fin 880) : Fin 4096 := ⟨h.val * 2048 + r.val, by omega⟩

/-- The second and the third result: the own rows in the layer of the own chip, what was gathered in the others. -/
def mergedA (c : Dev nD) : Vec F S4x1024x4096 .bf16 := fun i =>
  if (i 0).val = c.val / 2 then m (c.tc.loc main_arg2) (A.origin i) else A.filled m c i
def mergedB (c : Dev nD) : Vec F S4x2x880x4096 .bf16 := fun i =>
  if (i 0).val = c.val / 2 then m (c.tc.loc main_arg3) (ix2 (bandRow (i 1) (i 2)) (i 3)) else B.filled m c (ix3 (i 0) (bandRow (i 1) (i 2)) (i 3))

theorem cut_apply (X : Vec F S4x4096x4096 .bf16) (s : Fin 4) (h : Fin 2) (r : Fin 880) (q : Fin 4096) :
    extractStridedSlice S4x2x880x4096 ![0, 0, 0, 0] (shapeCast S4x2x2048x4096 X shapeCasts_S4x4096x4096_S4x2x2048x4096)
      slices_S4x2x2048x4096_S4x2x880x4096_0_0_0_0 (ix4 s h r q) = X (ix3 s (bandRow h r) q) := by
  pointwise [bandRow]

theorem cut_own (X : Vec F S4096x4096 .bf16) (h : Fin 2) (r : Fin 880) (q : Fin 4096) :
    extractStridedSlice S2x880x4096 ![0, 0, 0] (shapeCast S2x2048x4096 X shapeCasts_S4096x4096_S2x2048x4096)
      slices_S2x2048x4096_S2x880x4096_0_0_0 (ix3 h r q) = X (ix2 (bandRow h r) q) := by
  pointwise [bandRow]

/-- A select between one layer laid under every layer and a whole array. -/
theorem merge_apply (k : Vec F S4x2x880x4096 .i1) (X : Vec F S2x880x4096 .bf16) (Y : Vec F S4x2x880x4096 .bf16) (s : Fin 4) (h : Fin 2) (r : Fin 880) (q : Fin 4096) :
    select k (broadcastInDim S4x2x880x4096 ![1, 2, 3] bcast_S2x880x4096_S4x2x880x4096_1_2_3 X) Y (ix4 s h r q)
      = if k (ix4 s h r q) = 1#1 then X (ix3 h r q) else Y (ix4 s h r q) := by
  have e : (fun x => (broadcastInDim S4x2x880x4096 ![1, 2, 3] bcast_S2x880x4096_S4x2x880x4096_1_2_3 X) x) (ix4 s h r q) = X (ix3 h r q) := by
    refine congrArg X (funext fun x => ?_)
    fin_cases x <;> rfl
  exact congrArg (fun z => if k (ix4 s h r q) = 1#1 then z else Y (ix4 s h r q)) e

/-- The program after the call. -/
abbrev fill (c : Dev nD) : Prog (TpuEff nD τ sig (Elt F) (Pipeline.Sig Λ₀ (Fin 1) fun p => (pcfgs (F := F) p).Adm) .tc) PUnit :=
  StableHlo.seq (hostOps1 c) >>= fun _ => .ret ⟨⟩

/-- The buffers it touches, and what they hold before it. -/
abbrev touchedRefs : List (Ref sig .tc) := main_arg2 :: main_arg3 :: main_v1_1 :: main_v1_2 :: hostOps1_W
abbrev touched : Finset (DevRef τ sig) := touchedRefs.toFinset.image (Proc.devRef .tc)
def before (c : Dev nD) : Valuation τ sig (Elt F) :=
  Function.update (Function.update (V0 m c) (Proc.devRef .tc main_v1_1) (A.filled m c)) (Proc.devRef .tc main_v1_2) (B.filled m c)

theorem bigSep_touched (Φ : Ref sig .tc → sProp 𝕄) :
    bigSep touchedRefs.toFinset Φ = iprop(Φ main_arg2 ∗ Φ main_arg3 ∗ Φ main_v1_1 ∗ Φ main_v1_2 ∗ bigSep hostOps1_W.toFinset Φ) := by
  rw [List.toFinset_cons, bigSep_insert (by decide), List.toFinset_cons, bigSep_insert (by decide), List.toFinset_cons, bigSep_insert (by decide),
    List.toFinset_cons, bigSep_insert (by decide)]
  rfl

theorem held_touched (c : Dev nD) (W : Valuation τ sig (Elt F)) :
    (StableHlo.held c.tc touched W : sProp 𝕄)
      = iprop((c.tc.loc main_arg2 ↦{fullShare} W (Proc.devRef .tc main_arg2))
        ∗ (c.tc.loc main_arg3 ↦{fullShare} W (Proc.devRef .tc main_arg3))
        ∗ (c.tc.loc main_v1_1 ↦{fullShare} W (Proc.devRef .tc main_v1_1))
        ∗ (c.tc.loc main_v1_2 ↦{fullShare} W (Proc.devRef .tc main_v1_2)) ∗ hostRest c W) := by
  unfold StableHlo.held touched
  rw [bigSep_image_of_injOn (Proc.devRef_injective _).injOn]
  exact bigSep_touched fun b => (c.tc.loc b) ↦{fullShare} W (Proc.devRef .tc b)

theorem touch {x : Ref sig .tc} (h : x ∈ touchedRefs) : Proc.devRef (τ := τ) .tc x ∈ touched :=
  Finset.mem_image_of_mem _ (List.mem_toFinset.mpr h)

theorem fill_bufs (c : Dev nD) : ((hostOps1 c) : List (HloOp τ sig (Elt F))).Forall fun op => op.bufs ⊆ touched := by
  simp only [List.Forall, StableHlo.nullary_bufs, StableHlo.unary_bufs, StableHlo.binary_bufs, StableHlo.ternary_bufs, StableHlo.reshape_bufs, Finset.insert_subset_iff, Finset.singleton_subset_iff]
  repeat' apply And.intro
  all_goals exact touch (by decide)

/-- The comparison that the operations compute picks the layer of the own chip. -/
theorem picks (c : Dev nD) (s : Fin 4) : IntOp.cmpi .eq (BitVec.ofNat 32 s.val)
    (IntOp.addi (IntOp.addi 0#32 (IntOp.muli (IntOp.remui .host (IntOp.divui .host (Dev.word c) 2#32) 2#32) 1#32))
      (IntOp.muli (IntOp.remui .host (IntOp.divui .host (Dev.word c) 4#32) 2#32) 2#32)) = 1#1 ↔ s.val = c.val / 2 := by
  revert c s; decide +kernel

theorem before_landA (c : Dev nD) : before m c (Proc.devRef .tc main_v1_1) = A.filled m c :=
  (Function.update_of_ne (StableHlo.devRef_ne_of_ne (by decide : main_v1_1 ≠ main_v1_2)) ..).trans (Function.update_self ..)
theorem before_landB (c : Dev nD) : before m c (Proc.devRef .tc main_v1_2) = B.filled m c := Function.update_self ..
theorem before_other (c : Dev nD) (r : Ref sig .tc) (h : r ≠ main_v1_1) (h' : r ≠ main_v1_2) : before m c (Proc.devRef .tc r) = V0 m c (Proc.devRef .tc r) :=
  (Function.update_of_ne (StableHlo.devRef_ne_of_ne h') ..).trans (Function.update_of_ne (StableHlo.devRef_ne_of_ne h) ..)

theorem after_outA (c : Dev nD) : StableHlo.after (hostOps1 c) (before m c) (Proc.devRef .tc main_v18) = mergedA m c := by
  after_results
  rw [before_landA, before_other m c main_arg2 (by decide) (by decide)]
  funext i
  unfold mergedA
  by_cases h : (i 0).val = c.val / 2
  · rw [if_pos h]
    refine (if_pos ((picks c (i 0)).mpr h)).trans (congrArg (m (c.tc.loc main_arg2)) (funext fun a => ?_))
    fin_cases a <;> rfl
  · rw [if_neg h]
    exact if_neg fun h' => h ((picks c (i 0)).mp h')

theorem after_outB (c : Dev nD) : StableHlo.after (hostOps1 c) (before m c) (Proc.devRef .tc main_v27) = mergedB m c := by
  after_results
  rw [before_landB, before_other m c main_arg3 (by decide) (by decide)]
  funext i
  obtain ⟨s, b, r, q, rfl⟩ : ∃ (s : Fin 4) (b : Fin 2) (r : Fin 880) (q : Fin 4096), i = ix4 s b r q := ⟨i 0, i 1, i 2, i 3, eq_ix4 i⟩
  exact (merge_apply _ _ _ s b r q).trans (if_congr (picks c s) (cut_own (m (c.tc.loc main_arg3)) b r q) (cut_apply (B.filled m c) s b r q))

/-- The two arguments whose rows are gathered are not written. -/
theorem after_arg (c : Dev nD) (r : Ref sig .tc) (h : r ∉ hostOps1_W) (h₁ : r ≠ main_v1_1) (h₂ : r ≠ main_v1_2) :
    StableHlo.after (hostOps1 c) (before m c) (Proc.devRef .tc r) = V0 m c (Proc.devRef .tc r) :=
  (StableHlo.after_of_writes_sub _ _ (hostOps1_writes c) h).trans (before_other m c r h₁ h₂)

end Cert.Pf

end
-- ==== Proof.PfRun.lean ====
/-
# The run of `proj_fwd`

On the eight devices, for any float values and from any memory with zero counters: every weakly fair execution ends, with
each device's product array at what its grid points wrote, its other two results at the rows of every chip, its arguments
unchanged and every counter at zero.
-/
module

public import proofs.«01_k».proof.Proof.PfHost
public import proofs.«01_k».proof.Proof.Exchange

@[expose] public section

noncomputable section

namespace Cert.Pf

open Cert.PfKernelIdeal Cert.PfKernelIdeal.Gen
open Idealize.ShloMosaic
open Idealize.ShloMosaic.Pipeline
open Idealize.ShloMosaic.TcCoe
open Idealize.SL Idealize.SL.RA Idealize.SL.BI
open BIBase Laws ProofMode Sem
open Idealize.ShloMosaic.Rounds
open Cert.Exchange (Links UU EP ER records L ranks ticket seats hand due begins allCells allToks ghosts shared First Finished ready pending)

variable {F : FTy → Type} [FloatOps F]

local notation "𝕄" => MT nD τ sig Unit (Elt F) ℕ (UU nD sig τ) ℕ

variable (m : (ℓ : Loc nD τ sig) → Buf (Elt F) ℓ) (ρ : Dev nD → PrngReg)

/-! ## What the launch theorem asks for -/

theorem ownSemFacts : Pipeline.OwnSemFacts cfg0.spec links.osem := by decide

theorem share_eq (c : Dev nD) (w : Fin cfg0.W) : (dats m 0 c).share w = fullShare := by unfold Dat.share; split <;> rfl

/-- Every debt there ever is has a rank, so the staging cells, which have none, may be waited for throughout. -/
theorem owing_above (c : Dev nD) (n : ℕ) : Cert.Exchange.Above (τ := τ) links rank 0 (owing c n) := by
  unfold owing
  split
  · exact above_due c
  split
  · exact above_later 0 (by decide) c
  split
  · exact above_last 0 (by decide) c
  · exact Cert.Exchange.above_zero links rank 0

theorem waits (c : Dev nD) : (levAts L (ranks links rank) : sProp 𝕄) ⊢ Pipeline.cellsWaits cfgs (dats m) () 0 c :=
  Pipeline.cellsWaits_intro cfgs (dats m) () 0 c fun w s t =>
    Cert.Exchange.may_wait links rank c _ 0 (Cert.Exchange.ranks_other links rank c _ (by fin_cases w <;> fin_cases s <;> decide)).le _ (owing_above c t.val)

/-- The memory no window stages, as a device brings it. -/
def rest (c : Dev nD) : sProp 𝕄 := Pipeline.unscopedRest spec0 c (V m c)

theorem rest_eq (c : Dev nD) : rest m c = iprop((c.tc.loc main_arg2 ↦{fullShare} m (c.tc.loc main_arg2))
    ∗ (c.tc.loc main_arg3 ↦{fullShare} m (c.tc.loc main_arg3))
    ∗ (c.tc.loc main_v1_1 ↦{fullShare} m (c.tc.loc main_v1_1))
    ∗ (c.tc.loc main_v1_2 ↦{fullShare} m (c.tc.loc main_v1_2)) ∗ hostRest c (V0 m c)) := by
  have h : (Finset.univ.filter fun b : Ref sig .tc => ¬ b.isScoped) \ Finset.univ.image (Pipeline.arrRef spec0) = touchedRefs.toFinset := by decide
  unfold rest Pipeline.unscopedRest
  rw [h]
  exact bigSep_touched fun b => (c.tc.loc b) ↦{fullShare} V m c b

/-- The own rows that are sent, as the two gatherings name them. -/
theorem rows_eq (c : Dev nD) : rows m c
    = iprop((A.mineRows m c fullShare.left ∗ A.mineRows m c fullShare.right) ∗ (B.mineRows m c fullShare.left ∗ B.mineRows m c fullShare.right)) := by
  unfold rows
  rw [lent_fst, lent_fst, lent_snd, lent_snd, A.lent_own m c 0 (by decide), A.lent_own m c 1 (by decide), B.lent_own m c 0 (by decide), B.lent_own m c 1 (by decide)]
  rfl

omit [FloatOps F] in
/-- Each landing place is room for what comes. -/
theorem rooms (c : Dev nD) (f : Vec F S4x1024x4096 .bf16) (g : Vec F S4x4096x4096 .bf16) :
    iprop((bigSep Finset.univ fun j => A.piece c (A.landing j c) fullShare f) ∗ (bigSep Finset.univ fun j => B.piece c (B.landing j c) fullShare g))
      ⊢ (bigSep Finset.univ fun j => room c j : sProp 𝕄) := by
  rw [both]
  refine BIClass.sep_mono (bigSep_mono fun j _ => ?_) (bigSep_mono fun j _ => ?_)
  · rw [room_fst]
    show (A.piece c (A.landing j c) fullShare f : sProp 𝕄) ⊢ iprop(∃ f, A.piece c (A.landing j c) fullShare f)
    iintro H; iexists _; iexact H
  · rw [room_snd]
    show (B.piece c (B.landing j c) fullShare g : sProp 𝕄) ⊢ iprop(∃ f, B.piece c (B.landing j c) fullShare f)
    iintro H; iexists _; iexact H

/-- The landing places dealt across the links. -/
theorem deal : (bigSep Finset.univ (rest m) : sProp 𝕄) ⊢ bigSep Finset.univ (mine m) := by
  have h (c : Dev nD) : rest m c ⊢ iprop((rows m c ∗ aside m c) ∗ bigSep Finset.univ fun j => room c j : sProp 𝕄) := by
    rw [rest_eq, rows_eq]
    unfold aside
    rw [← A.ownLayer_eq m c, ← B.ownLayer_eq m c]
    iintro ⟨H2, H3, HA, HB, HV⟩
    ihave H2 := (A.arg_split m c).1 $$ H2
    ihave H3 := (B.arg_split m c).1 $$ H3
    ihave HA := (A.buffer_split c (m (c.tc.loc main_v1_1))).1 $$ HA
    ihave HB := (B.buffer_split c (m (c.tc.loc main_v1_2))).1 $$ HB
    icases H2 with ⟨H2s, H2k⟩
    icases H3 with ⟨H3s, H3k⟩
    icases HA with ⟨HAl, HAo⟩
    icases HB with ⟨HBl, HBo⟩
    isplitr [HAl HBl]
    · iframe H2s H3s H2k H3k HAo HBo HV
    iapply (rooms c _ _)
    iframe HAl HBl
  refine Cert.Exchange.deal_across links room h fun c => ?_
  unfold mine
  iintro ⟨⟨H1, H2⟩, H3⟩
  iframe H1 H3 H2

/-- What a device holds when the call begins, the levels with it. -/
def X (c : Dev nD) : sProp 𝕄 := iprop(begins links (pay m) (mine m) c ∗ levAts L (ranks links rank))

theorem begin_all : iprop((bigSep Finset.univ fun c => Cert.Exchange.shared (fun p => (cfgs p).toPCfg) (fun p => (cfgs p).toPCfg_adm) (0 : Fin 1) m (due links) links.osem c)
    ∗ levAts L (ranks links rank) ∗ ghosts links (pay m)) ⊢ |={Set.univ}=> (bigSep Finset.univ (X m) : sProp 𝕄) := by
  have hl : (levAts L (ranks links rank) : sProp 𝕄) ⊢ bigSep Finset.univ fun _ : Dev nD => levAts L (ranks links rank) :=
    BI.bigSep_of_persistent _ _
  unfold X
  rw [bigSep_sep']
  iintro ⟨H, #HL, HG⟩
  imod (Cert.Exchange.launch_all links (pay m) (rest m) (mine m) (deal m)) $$ [$H $HL $HG] with HB
  imodintro
  isplitl [HB]; · iexact HB
  iapply hl; iexact HL

/-- What it holds of the arrays no window stages when the call has ended, and at the end of the program. -/
def Y (c : Dev nD) : sProp 𝕄 :=
  iprop((c.tc.loc main_arg2 ↦{fullShare} m (c.tc.loc main_arg2))
    ∗ (c.tc.loc main_arg3 ↦{fullShare} m (c.tc.loc main_arg3))
    ∗ (c.tc.loc main_v1_1 ↦{fullShare} (A.filled m c : Buf (Elt F) (c.tc.loc main_v1_1)))
    ∗ (c.tc.loc main_v1_2 ↦{fullShare} (B.filled m c : Buf (Elt F) (c.tc.loc main_v1_2))) ∗ hostRest c (V0 m c))
def Z (c : Dev nD) : sProp 𝕄 :=
  iprop((c.tc.loc main_arg2 ↦{fullShare} m (c.tc.loc main_arg2))
    ∗ (c.tc.loc main_arg3 ↦{fullShare} m (c.tc.loc main_arg3))
    ∗ (c.tc.loc main_v18 ↦{fullShare} (mergedA m c : Buf (Elt F) (c.tc.loc main_v18)))
    ∗ (c.tc.loc main_v27 ↦{fullShare} (mergedB m c : Buf (Elt F) (c.tc.loc main_v27))))

/-- What a device holds of the eight links of a gathering at the start is what the gathering asks for. -/
theorem first_of (c : Dev nD) (l : Fin 8 → Fin 16) :
    iprop((bigSep Finset.univ fun j => hand links c (l j)) ∗ (bigSep Finset.univ fun j => (room (links.peer (l j) c) (l j) : sProp 𝕄))
        ∗ pay m (false, l 0) c ∗ pay m (false, l 1) c)
      ⊢ First links (pay m) room c l := by
  rw [Cert.Exchange.eight, Cert.Exchange.eight]
  unfold First hand ready pending seats
  iintro ⟨⟨⟨T0, ⟨S0, R0⟩, C0⟩, ⟨T1, ⟨S1, R1⟩, C1⟩, ⟨T2, ⟨S2, R2⟩, C2⟩, ⟨T3, ⟨S3, R3⟩, C3⟩, ⟨T4, ⟨S4, R4⟩, C4⟩, ⟨T5, ⟨S5, R5⟩, C5⟩, ⟨T6, ⟨S6, R6⟩, C6⟩, T7, ⟨S7, R7⟩, C7⟩,
    ⟨M0, M1, M2, M3, M4, M5, M6, M7⟩, P0, P1⟩
  isplitl [T0 S0 M0 T1 S1 M1 T2 S2 M2 T3 S3 M3 T4 S4 M4 T5 S5 M5 T6 S6 M6 T7 S7 M7]
  · iframe T0 S0 M0 T1 S1 M1 T2 S2 M2 T3 S3 M3 T4 S4 M4 T5 S5 M5 T6 S6 M6 T7 S7 M7
  isplitr [P0 P1]
  · iframe C0 R0 C1 R1 C2 R2 C3 R3 C4 R4 C5 R5 C6 R6 C7 R7
  iframe P0 P1

theorem phi_start (c : Dev nD) : iprop(X m c ∗ Pipeline.scopedRest spec0 c) ⊢ (dats m 0 c).Φ 0 := by
  show iprop(X m c ∗ Pipeline.scopedRest spec0 c) ⊢ Start m c
  unfold Start X begins mine know rows
  rw [both, both]
  iintro ⟨⟨⟨#HR, ⟨HA, HB⟩, ⟨⟨PA0, PA1⟩, PB0, PB1⟩, ⟨MA, MB⟩, Hk⟩, #HL⟩, -⟩
  isplitr
  · iframe HR HL
  isplitr [Hk]
  · isplitl [HA MA PA0 PA1]
    · iapply (first_of m c fstLink)
      iframe HA MA PA0 PA1
    iapply (first_of m c sndLink)
    iframe HB MB PB0 PB1
  iexact Hk

/-- The arguments and the gathered arrays are whole again. -/
theorem whole_A (c : Dev nD) :
    iprop((pay m (false, fstLink 0) c ∗ pay m (false, fstLink 1) c) ∗ (bigSep Finset.univ fun j : Fin 8 => pay m (true, fstLink j) c)
        ∗ A.kept m c ∗ A.ownLayer c (A.filled m c))
      ⊢ iprop((c.tc.loc main_arg2 ↦{fullShare} m (c.tc.loc main_arg2))
        ∗ (c.tc.loc main_v1_1 ↦{fullShare} (A.filled m c : Buf (Elt F) (c.tc.loc main_v1_1))) : sProp 𝕄) := by
  rw [lent_fst, lent_fst, A.lent_own m c 0 (by decide), A.lent_own m c 1 (by decide), bigSep_congr fun j _ => came_fst m j c]
  iintro ⟨Hs, Hl, Hk, Ho⟩
  isplitl [Hs Hk]
  · iapply (A.arg_split m c).2
    isplitl [Hs]; · iexact Hs
    iexact Hk
  iapply (A.buffer_split c (A.filled m c)).2
  isplitl [Hl]; · iexact Hl
  iexact Ho
theorem whole_B (c : Dev nD) :
    iprop((pay m (false, sndLink 0) c ∗ pay m (false, sndLink 1) c) ∗ (bigSep Finset.univ fun j : Fin 8 => pay m (true, sndLink j) c)
        ∗ B.kept m c ∗ B.ownLayer c (B.filled m c))
      ⊢ iprop((c.tc.loc main_arg3 ↦{fullShare} m (c.tc.loc main_arg3))
        ∗ (c.tc.loc main_v1_2 ↦{fullShare} (B.filled m c : Buf (Elt F) (c.tc.loc main_v1_2))) : sProp 𝕄) := by
  rw [lent_snd, lent_snd, B.lent_own m c 0 (by decide), B.lent_own m c 1 (by decide), bigSep_congr fun j _ => came_snd m j c]
  iintro ⟨Hs, Hl, Hk, Ho⟩
  isplitl [Hs Hk]
  · iapply (B.arg_split m c).2
    isplitl [Hs]; · iexact Hs
    iexact Hk
  iapply (B.buffer_split c (B.filled m c)).2
  isplitl [Hl]; · iexact Hl
  iexact Ho

theorem phi_end (c : Dev nD) :
    (dats m 0 c).Φ (Fin.last cfg0.N) ⊢ iprop(Y m c ∗ Pipeline.ownSems0 links.osem c ∗ Pipeline.scopedRest spec0 c) := by
  have hΦ : (dats m 0 c).Φ (Fin.last cfg0.N) = Done m c := by
    show state m c cfg0.N = Done m c
    rw [show cfg0.N = 80 from N_0]; rfl
  have hs : (Pipeline.ownSems0 links.osem c : sProp 𝕄)
      = iprop((bigSep Finset.univ fun j : Fin 16 => semVal (links.cell c (false, j)) 0) ∗ (bigSep Finset.univ fun j : Fin 16 => semVal (links.cell c (true, j)) 0)) := by
    unfold Pipeline.ownSems0
    exact Cert.Exchange.ends links fun k => semVal (links.cell c k) 0
  rw [hΦ, scopedRest0_eq, hs, both, both]
  unfold Done aside Y Finished
  iintro ⟨-, ⟨⟨PA, CA, SA, RA⟩, PB, CB, SB, RB⟩, ⟨KA, OA⟩, ⟨KB, OB⟩, HV⟩
  ihave HA := (whole_A m c) $$ [PA CA KA OA]
  · iframe PA CA KA OA
  ihave HB := (whole_B m c) $$ [PB CB KB OB]
  · iframe PB CB KB OB
  icases HA with ⟨H2, HA⟩
  icases HB with ⟨H3, HB⟩
  isplitl [H2 H3 HA HB HV]
  · iframe H2 H3 HA HB HV
  isplitl [SA SB RA RB]
  · iframe SA SB RA RB
  iempintro

/-- The final memory of the four arrays no window stages. -/
def QY (c : Dev nD) (s : MemSt nD τ sig (Elt F)) : Prop :=
  s.mem (c.tc.loc main_arg2) = m (c.tc.loc main_arg2) ∧ s.mem (c.tc.loc main_arg3) = m (c.tc.loc main_arg3)
    ∧ s.mem (c.tc.loc main_v18) = mergedA m c ∧ s.mem (c.tc.loc main_v27) = mergedB m c

theorem read_end (c : Dev nD) (s' : Phys nD τ sig (Elt F)) :
    iprop(Z m c ∗ SI s') ⊢ |={Set.univ}=> iprop(⌜QY m c s'.mem⌝ ∗ SI s' : sProp 𝕄) := by
  unfold Z
  iintro ⟨⟨H2, H3, HA, HB⟩, HSI⟩
  ihave %h2 := Cert.Exchange.read_whole $$ [$HSI $H2]
  ihave %h3 := Cert.Exchange.read_whole $$ [$HSI $H3]
  ihave %hA := Cert.Exchange.read_whole $$ [$HSI $HA]
  ihave %hB := Cert.Exchange.read_whole $$ [$HSI $HB]
  imodintro
  isplitr
  · ipureintro
    exact ⟨h2, h3, hA, hB⟩
  iexact HSI

/-! ## The host operations after the call -/

theorem fill_run (c : Dev nD) :
    iprop(boundary c.tc ∗ Y m c)
      ⊢ wp frame (wpE (defs (F := F)) (Variants.lift 𝒱₀) c.tc none) Set.univ (fill c)
          (fun _ : PUnit => iprop(scopedSems0 c.tc ∗ Z m c : sProp 𝕄)) := by
  have hb : (hostRest c (before m c) : sProp 𝕄) = hostRest c (V0 m c) :=
    bigSep_congr fun b hb => congrArg _ (before_other m c b (fun h => absurd (h ▸ List.mem_toFinset.mp hb : main_v1_1 ∈ hostOps1_W) (by decide))
      fun h => absurd (h ▸ List.mem_toFinset.mp hb : main_v1_2 ∈ hostOps1_W) (by decide))
  have ho (W : Valuation τ sig (Elt F)) : (hostRest c W : sProp 𝕄)
      ⊢ iprop((c.tc.loc main_v18 ↦{fullShare} W (Proc.devRef .tc main_v18)) ∗ (c.tc.loc main_v27 ↦{fullShare} W (Proc.devRef .tc main_v27))) := by
    have hi : hostOps1_W.toFinset = insert main_v18 (hostOps1_W.toFinset.erase main_v18) := (Finset.insert_erase (by decide)).symm
    unfold hostRest
    rw [hi, bigSep_insert (by decide)]
    exact sep_mono .rfl (BI.bigSep_elim (by decide : main_v27 ∈ hostOps1_W.toFinset.erase main_v18))
  unfold Y
  iintro ⟨Hb, H⟩
  iapply (StableHlo.wp_seq (defs := defs (F := F)) (𝒱 := Variants.lift 𝒱₀) (bd := none) (E := Set.univ) c touched (fun _ => .ret ⟨⟩) (hostOps1 c)
    (List.forall_iff_forall_mem.mp (fill_bufs c)) (List.forall_iff_forall_mem.mp (hostOps1_fresh c)) (before m c)) $$ [Hb H]
  · isplitl [Hb]; · iexact Hb
    rw [held_touched, before_landA, before_landB, before_other m c main_arg2 (by decide) (by decide), before_other m c main_arg3 (by decide) (by decide), hb]
    iexact H
  iintro ⟨Hb, HS⟩
  ihave HS := (Entails.of_eq (held_touched c (StableHlo.after (hostOps1 c) (before m c)))) $$ HS
  icases HS with ⟨H2, H3, -, -, HV⟩
  ihave HV := (ho _) $$ HV
  rw [after_arg m c main_arg2 (by decide) (by decide) (by decide), after_arg m c main_arg3 (by decide) (by decide) (by decide), after_outA, after_outB, wp_ret]
  unfold boundary Z
  icases Hb with ⟨-, Hs, -⟩
  imodintro
  iframe Hs H2 H3 HV

/-- What a final state is: every staged array at the schedule's contents, and the others as said. -/
def QC (r : PUnit × MemSt nD τ sig (Elt F)) : Prop :=
  ∀ c : Dev nD, (∀ w : Fin cfg0.W, r.2.mem ((cfg0.win w).arr.view.loc c.tc) = (dats m 0 c).arrAt w cfg0.N) ∧ QY m c r.2

set_option maxRecDepth 8000 in
theorem run_main : θ_run defs (onTc (τ := τ) (main (F := F))) ⟨m, fun _ => 0, ρ⟩ (fun r => QC m r ∧ r.2.sem = fun _ => 0) :=
  Cert.Exchange.θ_run_exchange (fun p => (cfgs p).toPCfg) (fun p => (cfgs p).toPCfg_adm) (dats m) () cellOf_inj (0 : Fin 1)
    winFacts0 ownSemFacts rfl EP defs₀ 𝒱₀ m ρ (due links) L (ranks links rank) main fill
    (hmain := fun _ => rfl) (hbody := body_obligation m) (hne := block_pos0) (harr := arr_whole0) (hstage := stage_whole0) (hshare := share_eq m)
    (howed₀ := fun _ => rfl) (howedN := fun _ => rfl) (hL := Cert.Exchange.L_of_ne) (hwaits := waits m)
    (G := ghosts links (pay m))
    (hu₀ := Cert.Exchange.fund_both links (pay m) _)
    (hA := fun _ _ => rfl) (X := X m) (Y := Y m) (Z := Z m) (htail := fill_run m)
    (hstart := begin_all m)
    (hin := phi_start m) (hout := phi_end m) (QY := QY m) (hY := read_end m)
    (hQ := fun s h hs => ⟨fun c => h c, sem_eq_zero_of_scoped (by decide) hs⟩)

end Cert.Pf

end
-- ==== Proof.PfWhole.lean ====
/-
# The product of `proj_fwd` as a whole

The blocks of the grid points tile the array that a device writes. Entry `(p, q)` is the inner product of row `p` of the
device's left factor and column `q` of the right factor, of which four shards lie one behind the other: column `q` is column
`q mod 2560` of shard `q / 2560`.
-/
module

public import proofs.«01_k».proof.Proof.PfValue
public import proofs.«01_k».proof.Proof.PfRun
public import Idealize.ShloMosaic.Lib.Pipeline.ValueKit

@[expose] public section

set_option maxRecDepth 16384

noncomputable section

namespace Cert.Pf

open Cert.PfKernelIdeal Cert.PfKernelIdeal.Gen
open Idealize.ShloMosaic Idealize.ShloMosaic.TcCoe

variable (m : (ℓ : Loc nD τ sig) → Buf (Elt Ideal) ℓ)

/-- The inner product of a row of a matrix and a column of a matrix cut along its columns into four shards. -/
def sharded {n : ℕ} (X : (⟨2, ![n, 4096]⟩ : Shape).Idx → Ideal .bf16) (W : (⟨3, ![4, 4096, 2560]⟩ : Shape).Idx → Ideal .bf16)
    (p : Fin n) (q : Fin 10240) : EReal :=
  ∑ t : Fin 4096, (X (ix2 p t) : EReal) * W (ix3 (⟨q.val / 2560, by omega⟩ : Fin 4) t (⟨q.val % 2560, by omega⟩ : Fin 2560))

/-- What a device's product array holds at the end. -/
def product (c : Dev nD) : Vec Ideal S4096x10240 .f32 := fun i =>
  sharded (n := 4096) (m (c.tc.loc main_arg0)) (m (c.tc.loc main_arg1)) (i 0) (i 1)

theorem index_all : ∀ t, win0_0.index t = ![(grid0.coords t 0).val, 0]
    ∧ win0_1.index t = ![(grid0.coords t 1).val / 5, 0, (grid0.coords t 1).val % 5]
    ∧ win0_2.index t = ![(grid0.coords t 0).val, (grid0.coords t 1).val] := by decide +kernel

theorem product_eq (c : Dev nD) : (dats m 0 c).arrAt 2 cfg0.N = product m c := by
  refine (dats m 0 c).arrAt_eq_of_covers 2 _ (by decide +kernel) fun t hf y => ?_
  show outBlock (iblk m c 0 t) (iblk m c 1 t) _ = _
  obtain ⟨p, q, rfl⟩ : ∃ (p : Fin 1024) (q : Fin 512), y = ix2 p q := ⟨y 0, y 1, eq_ix2 y⟩
  refine (outBlock_apply _ _ p q).trans ?_
  unfold product sharded
  refine Finset.sum_congr rfl fun j _ => congrArg₂ _ ?_ ?_
  · blk_ext [iblk, V, index_all]
  · blk_ext [iblk, V, index_all]

end Cert.Pf

end
-- ==== Proof.PfReference.lean ====
/-
# The reference of `proj_fwd` over the reals

The reference's first result has the same entries as the products of the devices. The second one is `w_out` with its rows cut
into four layers, the third one the band of rows of `w_up` that the call gathers, of each half of each shard.
-/
module

public import proofs.«01_k».proof.Proof.PfWhole
public import proofs.«01_k».proof.Proof.Gen.PfReferenceIdeal.Run

@[expose] public section

set_option maxRecDepth 16384

noncomputable section

namespace Cert.Pf

open Idealize.ShloMosaic Idealize.ShloMosaic.TcCoe Idealize.SL.Sem

section
open Cert.PfReferenceIdeal Cert.PfReferenceIdeal.Gen

variable {F : FTy → Type} [FloatOps F]

/-- The reference's first result. -/
abbrev refProduct (a : Vec F S32768x4096 .bf16) (b : Vec F S4x4096x2560 .bf16) : Vec F S32768x10240 .f32 :=
  Host.dotGeneral dot_S32768x4096_S4096x10240_S32768x10240_1_0_0_1_n_n none (extf .f32 a bitsLt_bf16_f32)
    (shapeCast _ (transpose S4096x4x2560 [1, 0, 2] (extf .f32 b bitsLt_bf16_f32) transposes_S4x4096x2560_S4096x4x2560_1_0_2)
      shapeCasts_S4096x4x2560_S4096x10240)

/-- Its second result. -/
abbrev refGatheredA (d : Vec F S4096x4096 .bf16) : Vec F S4x1024x4096 .bf16 := shapeCast _ d shapeCasts_S4096x4096_S4x1024x4096

/-- Its third result. -/
abbrev refGatheredB (d : Vec F S16384x4096 .bf16) : Vec F S4x2x880x4096 .bf16 :=
  extractStridedSlice S4x2x880x4096 ![0, 0, 0, 0] (shapeCast S4x2x2048x4096 d shapeCasts_S16384x4096_S4x2x2048x4096)
    slices_S4x2x2048x4096_S4x2x880x4096_0_0_0_0

theorem refProduct_apply (a : Vec Ideal S32768x4096 .bf16) (b : Vec Ideal S4x4096x2560 .bf16) (p : Fin 32768) (q : Fin 10240) :
    (refProduct a b (ix2 p q) : EReal) = sharded (n := 32768) a b p q := by
  pointwise [refProduct, sharded]

theorem refGatheredA_apply (d : Vec F S4096x4096 .bf16) (s : Fin 4) (r : Fin 1024) (q : Fin 4096) :
    refGatheredA d (ix3 s r q) = d (ix2 (⟨s.val * 1024 + r.val, by omega⟩ : Fin 4096) q) := by
  pointwise [refGatheredA]

theorem refGatheredB_apply (d : Vec F S16384x4096 .bf16) (s : Fin 4) (h : Fin 2) (r : Fin 880) (q : Fin 4096) :
    refGatheredB d (ix4 s h r q) = d (ix2 (⟨s.val * 4096 + (bandRow h r).val, by have := (bandRow h r).isLt; omega⟩ : Fin 16384) q) := by
  pointwise [refGatheredB, bandRow]
  exact congrArg (fun x => d (ix2 x q)) (Fin.ext (Nat.add_assoc _ _ _))

/-- The reference's run. -/
theorem reference_run (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem (c.tc.loc main_v4) = refProduct (m (c.tc.loc main_arg0)) (m (c.tc.loc main_arg1))
      ∧ r.2.mem (c.tc.loc main_v5) = refGatheredA (m (c.tc.loc main_arg2))
      ∧ r.2.mem (c.tc.loc main_v7) = refGatheredB (m (c.tc.loc main_arg3))
      ∧ r.2.mem (c.tc.loc main_arg0) = m (c.tc.loc main_arg0)
      ∧ r.2.mem (c.tc.loc main_arg1) = m (c.tc.loc main_arg1)
      ∧ r.2.mem (c.tc.loc main_arg2) = m (c.tc.loc main_arg2)
      ∧ r.2.mem (c.tc.loc main_arg3) = m (c.tc.loc main_arg3)) ∧ r.2.sem = fun _ => 0) :=
  (θ_run defs _ _).mono (fun r h => ⟨h, sem_eq_zero_of_no_sems (by decide) r.2⟩) (Cert.PfReferenceIdeal.Value.run m ρ)

end

end Cert.Pf

end
-- ==== Proof.PfAgree.lean ====
/-
# Device by device, the two programs of `proj_fwd` agree

What a device ends with is its block of what the reference ends with, if its arguments are its blocks of the reference's.
-/
module

public import proofs.«01_k».proof.Proof.PfReference
public import proofs.«01_k».proof.Proof.FwAgree

@[expose] public section

set_option maxRecDepth 10240

noncomputable section

namespace Cert.Pf

open Cert.PfKernelIdeal
open Idealize.ShloMosaic Idealize.ShloMosaic.TcCoe
open Cert.Pair (block_rows)

section Product
variable (m : (ℓ : Loc nD τ sig) → Buf (Elt Ideal) ℓ)
  (X : Vec Ideal Cert.PfReferenceIdeal.S32768x4096 .bf16) (W : Vec Ideal Cert.PfReferenceIdeal.S4x4096x2560 .bf16)

theorem product_agrees (c : Dev nD)
    (h0 : m (c.tc.loc main_arg0) = Layout.block ⟨2, ![4096, 4096]⟩ ⟨2, ![32768, 4096]⟩ 0 8 c X)
    (h1 : m (c.tc.loc main_arg1) = W) :
    product m c = Layout.block ⟨2, ![4096, 10240]⟩ ⟨2, ![32768, 10240]⟩ 0 8 c (refProduct X W) := by
  have hc : c.val < 8 := c.isLt
  funext y
  obtain ⟨p, q, rfl⟩ : ∃ (p : Fin 4096) (q : Fin 10240), y = ix2 p q := ⟨y 0, y 1, eq_ix2 y⟩
  have hp : c.val * 4096 + p.val < 32768 := by omega
  refine Eq.trans ?_ (block_rows c (refProduct X W) (by decide) p q hp).symm
  rw [refProduct_apply]
  show sharded (n := 4096) (m (c.tc.loc main_arg0)) (m (c.tc.loc main_arg1)) p q = _
  unfold sharded
  refine Finset.sum_congr rfl fun t _ => congrArg₂ _ ?_ ?_
  · exact (congrFun h0 (ix2 p t)).trans (block_rows c X (by decide) p t hp)
  · exact congrFun h1 _

end Product

variable {F : FTy → Type} [FloatOps F]
variable (m : (ℓ : Loc nD τ sig) → Buf (Elt F) ℓ)

/-- Row `p` of the block of device `c`'s chip, of a matrix whose rows are cut among the four chips. -/
theorem block_chip (D : Vec F Cert.PfReferenceIdeal.S4096x4096 .bf16) (c : Fin 8) (p : Fin 1024) (q : Fin 4096) (hp : c.val / 2 * 1024 + p.val < 4096) :
    Layout.blockN ⟨2, ![1024, 4096]⟩ ⟨2, ![4096, 4096]⟩ (Layout.meshBlock [2, 2, 2] ![[0, 1], []] c) D (by decide) (ix2 p q)
      = D (ix2 ⟨c.val / 2 * 1024 + p.val, hp⟩ q) := by
  refine congrArg D ?_
  funext k
  fin_cases k
  · exact Fin.ext (by fin_cases c <;> rfl)
  · exact Fin.ext (by show 0 * 4096 + q.val = q.val; omega)

theorem mergedA_agrees (D : Vec F Cert.PfReferenceIdeal.S4096x4096 .bf16) (c : Dev nD)
    (h : ∀ c : Dev nD, m (c.tc.loc main_arg2)
      = Layout.blockN ⟨2, ![1024, 4096]⟩ ⟨2, ![4096, 4096]⟩ (Layout.meshBlock [2, 2, 2] ![[0, 1], []] c) D) :
    mergedA m c = refGatheredA D := by
  have hc : c.val < 8 := c.isLt
  funext y
  obtain ⟨s, r, q, rfl⟩ : ∃ (s : Fin 4) (r : Fin 1024) (q : Fin 4096), y = ix3 s r q := ⟨y 0, y 1, y 2, eq_ix3 y⟩
  have key (d : Dev nD) (hd : d.val / 2 = s.val) : m (d.tc.loc main_arg2) (ix2 r q) = refGatheredA D (ix3 s r q) := by
    have hp : d.val / 2 * 1024 + r.val < 4096 := by omega
    rw [refGatheredA_apply]
    refine (congrFun (h d) (ix2 r q)).trans ((block_chip D d r q hp).trans ?_)
    exact congrArg (fun x => D (ix2 x q)) (Fin.ext (by show d.val / 2 * 1024 + r.val = s.val * 1024 + r.val; rw [hd]))
  have ho : A.origin (ix3 s r q) = ix2 r q := by funext i; fin_cases i <;> rfl
  have hband : A.band (ix3 s r q) := by
    show r.val % 512 < 512
    omega
  unfold mergedA A.filled
  rw [ho]
  by_cases hs : s.val = c.val / 2
  · exact (if_pos hs).trans (key c hs.symm)
  · refine (if_neg hs).trans ((if_pos ⟨hs, hband⟩).trans (key (A.source (ix3 s r q)) ?_))
    show (2 * s.val + r.val / 512) / 2 = s.val
    omega

theorem mergedB_agrees (D : Vec F Cert.PfReferenceIdeal.S16384x4096 .bf16) (c : Dev nD)
    (h : ∀ c : Dev nD, m (c.tc.loc main_arg3)
      = Layout.blockN ⟨2, ![4096, 4096]⟩ ⟨2, ![16384, 4096]⟩ (Layout.meshBlock [2, 2, 2] ![[0, 1], []] c) D) :
    mergedB m c = refGatheredB D := by
  have hc : c.val < 8 := c.isLt
  funext y
  obtain ⟨s, b, r, q, rfl⟩ : ∃ (s : Fin 4) (b : Fin 2) (r : Fin 880) (q : Fin 4096), y = ix4 s b r q := ⟨y 0, y 1, y 2, y 3, eq_ix4 y⟩
  have key (d : Dev nD) (hd : d.val / 2 = s.val) : m (d.tc.loc main_arg3) (ix2 (bandRow b r) q) = refGatheredB D (ix4 s b r q) := by
    have hb : (bandRow b r).val < 4096 := (bandRow b r).isLt
    have hp : d.val / 2 * 4096 + (bandRow b r).val < 16384 := by omega
    rw [refGatheredB_apply]
    refine (congrFun (h d) (ix2 (bandRow b r) q)).trans ((Cert.Fw.block_chip D d (bandRow b r) q hp).trans ?_)
    exact congrArg (fun x => D (ix2 x q)) (Fin.ext (by show d.val / 2 * 4096 + (bandRow b r).val = s.val * 4096 + (bandRow b r).val; rw [hd]))
  have ho : B.origin (ix3 s (bandRow b r) q) = ix2 (bandRow b r) q := by funext i; fin_cases i <;> rfl
  have hband : B.band (ix3 s (bandRow b r) q) := by
    show (b.val * 2048 + r.val) % 2048 < 880
    omega
  show (if s.val = c.val / 2 then m (c.tc.loc main_arg3) (ix2 (bandRow b r) q) else B.filled m c (ix3 s (bandRow b r) q)) = _
  by_cases hs : s.val = c.val / 2
  · exact (if_pos hs).trans (key c hs.symm)
  · refine (if_neg hs).trans ?_
    unfold B.filled
    rw [if_pos ⟨hs, hband⟩, ho]
    refine key (B.source (ix3 s (bandRow b r) q)) ?_
    show (2 * s.val + (b.val * 2048 + r.val) / 2048) / 2 = s.val
    omega

end Cert.Pf

end
-- ==== Proof.lean ====
/-
# The claims

For each of the nine programs: the two frames of the kernel are one run, over any numbers; the reference's is its own run;
over the reals the results of every device are its blocks of the reference's.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.UpKernel
public import proofs.«01_k».proof.Proof.Gen.UpKernel.Skeleton
public import proofs.«01_k».proof.Proof.Gen.UpKernel.Launch
public import proofs.«01_k».proof.Proof.Gen.UpKernel.Points
public import proofs.«01_k».proof.Proof.Gen.UpKernel.Frame
public import proofs.«01_k».proof.Proof.Gen.UpKernelIdeal
public import proofs.«01_k».proof.Proof.Gen.UpKernelIdeal.Skeleton
public import proofs.«01_k».proof.Proof.Gen.UpKernelIdeal.Launch
public import proofs.«01_k».proof.Proof.Gen.UpKernelIdeal.Points
public import proofs.«01_k».proof.Proof.Gen.UpKernelIdeal.Frame
public import proofs.«01_k».proof.Proof.Gen.UpReferenceIdeal
public import proofs.«01_k».proof.Proof.Gen.UpReferenceIdeal.Run
public import proofs.«01_k».proof.Proof.Gen.DxKernel
public import proofs.«01_k».proof.Proof.Gen.DxKernel.Skeleton
public import proofs.«01_k».proof.Proof.Gen.DxKernel.Launch
public import proofs.«01_k».proof.Proof.Gen.DxKernel.Points
public import proofs.«01_k».proof.Proof.Gen.DxKernel.Frame
public import proofs.«01_k».proof.Proof.Gen.DxKernelIdeal
public import proofs.«01_k».proof.Proof.Gen.DxKernelIdeal.Skeleton
public import proofs.«01_k».proof.Proof.Gen.DxKernelIdeal.Launch
public import proofs.«01_k».proof.Proof.Gen.DxKernelIdeal.Points
public import proofs.«01_k».proof.Proof.Gen.DxKernelIdeal.Frame
public import proofs.«01_k».proof.Proof.Gen.DxReferenceIdeal
public import proofs.«01_k».proof.Proof.Gen.DxReferenceIdeal.Run
public import proofs.«01_k».proof.Proof.Gen.PxKernel
public import proofs.«01_k».proof.Proof.Gen.PxKernel.Skeleton
public import proofs.«01_k».proof.Proof.Gen.PxKernel.Launch
public import proofs.«01_k».proof.Proof.Gen.PxKernel.Points
public import proofs.«01_k».proof.Proof.Gen.PxKernel.Frame
public import proofs.«01_k».proof.Proof.Gen.PxKernelIdeal
public import proofs.«01_k».proof.Proof.Gen.PxKernelIdeal.Skeleton
public import proofs.«01_k».proof.Proof.Gen.PxKernelIdeal.Launch
public import proofs.«01_k».proof.Proof.Gen.PxKernelIdeal.Points
public import proofs.«01_k».proof.Proof.Gen.PxKernelIdeal.Frame
public import proofs.«01_k».proof.Proof.Gen.PxReferenceIdeal
public import proofs.«01_k».proof.Proof.Gen.PxReferenceIdeal.Run
public import proofs.«01_k».proof.Proof.Gen.OwKernel
public import proofs.«01_k».proof.Proof.Gen.OwKernel.Skeleton
public import proofs.«01_k».proof.Proof.Gen.OwKernel.Launch
public import proofs.«01_k».proof.Proof.Gen.OwKernel.Points
public import proofs.«01_k».proof.Proof.Gen.OwKernel.Frame
public import proofs.«01_k».proof.Proof.Gen.OwKernelIdeal
public import proofs.«01_k».proof.Proof.Gen.OwKernelIdeal.Skeleton
public import proofs.«01_k».proof.Proof.Gen.OwKernelIdeal.Launch
public import proofs.«01_k».proof.Proof.Gen.OwKernelIdeal.Points
public import proofs.«01_k».proof.Proof.Gen.OwKernelIdeal.Frame
public import proofs.«01_k».proof.Proof.Gen.OwReferenceIdeal
public import proofs.«01_k».proof.Proof.Gen.OwReferenceIdeal.Run
public import proofs.«01_k».proof.Proof.Gen.FwKernel
public import proofs.«01_k».proof.Proof.Gen.FwKernel.Skeleton
public import proofs.«01_k».proof.Proof.Gen.FwKernel.Launch
public import proofs.«01_k».proof.Proof.Gen.FwKernel.Points
public import proofs.«01_k».proof.Proof.Gen.FwKernel.Regions
public import proofs.«01_k».proof.Proof.Gen.FwKernelIdeal
public import proofs.«01_k».proof.Proof.Gen.FwKernelIdeal.Skeleton
public import proofs.«01_k».proof.Proof.Gen.FwKernelIdeal.Launch
public import proofs.«01_k».proof.Proof.Gen.FwKernelIdeal.Points
public import proofs.«01_k».proof.Proof.Gen.FwKernelIdeal.Regions
public import proofs.«01_k».proof.Proof.Gen.FwReferenceIdeal
public import proofs.«01_k».proof.Proof.Gen.FwReferenceIdeal.Run
public import proofs.«01_k».proof.Proof.Gen.OfKernel
public import proofs.«01_k».proof.Proof.Gen.OfKernel.Skeleton
public import proofs.«01_k».proof.Proof.Gen.OfKernel.Launch
public import proofs.«01_k».proof.Proof.Gen.OfKernel.Points
public import proofs.«01_k».proof.Proof.Gen.OfKernel.Regions
public import proofs.«01_k».proof.Proof.Gen.OfKernelIdeal
public import proofs.«01_k».proof.Proof.Gen.OfKernelIdeal.Skeleton
public import proofs.«01_k».proof.Proof.Gen.OfKernelIdeal.Launch
public import proofs.«01_k».proof.Proof.Gen.OfKernelIdeal.Points
public import proofs.«01_k».proof.Proof.Gen.OfKernelIdeal.Regions
public import proofs.«01_k».proof.Proof.Gen.OfReferenceIdeal
public import proofs.«01_k».proof.Proof.Gen.OfReferenceIdeal.Run
public import proofs.«01_k».proof.Proof.Gen.NmKernel
public import proofs.«01_k».proof.Proof.Gen.NmKernel.Skeleton
public import proofs.«01_k».proof.Proof.Gen.NmKernel.Launch
public import proofs.«01_k».proof.Proof.Gen.NmKernel.Points
public import proofs.«01_k».proof.Proof.Gen.NmKernel.Regions
public import proofs.«01_k».proof.Proof.Gen.NmKernelIdeal
public import proofs.«01_k».proof.Proof.Gen.NmKernelIdeal.Skeleton
public import proofs.«01_k».proof.Proof.Gen.NmKernelIdeal.Launch
public import proofs.«01_k».proof.Proof.Gen.NmKernelIdeal.Points
public import proofs.«01_k».proof.Proof.Gen.NmKernelIdeal.Regions
public import proofs.«01_k».proof.Proof.Gen.NmReferenceIdeal
public import proofs.«01_k».proof.Proof.Gen.NmReferenceIdeal.Run
public import proofs.«01_k».proof.Proof.Gen.PfKernel
public import proofs.«01_k».proof.Proof.Gen.PfKernel.Skeleton
public import proofs.«01_k».proof.Proof.Gen.PfKernel.Launch
public import proofs.«01_k».proof.Proof.Gen.PfKernel.Points
public import proofs.«01_k».proof.Proof.Gen.PfKernel.Regions
public import proofs.«01_k».proof.Proof.Gen.PfKernelIdeal
public import proofs.«01_k».proof.Proof.Gen.PfKernelIdeal.Skeleton
public import proofs.«01_k».proof.Proof.Gen.PfKernelIdeal.Launch
public import proofs.«01_k».proof.Proof.Gen.PfKernelIdeal.Points
public import proofs.«01_k».proof.Proof.Gen.PfKernelIdeal.Regions
public import proofs.«01_k».proof.Proof.Gen.PfReferenceIdeal
public import proofs.«01_k».proof.Proof.Gen.PfReferenceIdeal.Run
public import proofs.«01_k».proof.Proof.Agree
public import proofs.«01_k».proof.Proof.UpAgree
public import proofs.«01_k».proof.Proof.DxAgree
public import proofs.«01_k».proof.Proof.PxAgree
public import proofs.«01_k».proof.Proof.OwAgree
public import proofs.«01_k».proof.Proof.FwAgree
public import proofs.«01_k».proof.Proof.OfAgree
public import proofs.«01_k».proof.Proof.NmAgree
public import proofs.«01_k».proof.Proof.PfAgree
public import Idealize.ShloMosaic.Adequacy
public import Idealize.ShloMosaic.Init

@[expose] public section

noncomputable section

namespace Cert.Proof

open Idealize.ShloMosaic Idealize.ShloMosaic.TcCoe Idealize.SL.Sem

/-! ## `down_dx` -/

section Down
open Cert.Pair Cert.KernelIdeal

/-- One run of the kernel, over any numbers: its arguments unchanged, its two results, and every semaphore at zero. -/
theorem kernel_run {F : FTy → Type} [FloatOps F] (m : (ℓ : Loc nD τ sig) → Buf (Elt F) ℓ)
    (ρ : Dev nD → PrngReg) :
    θ_run defs (onTc (τ := τ) (main (F := F))) ⟨m, fun _ => 0, ρ⟩ (fun r =>
      (∀ c : Dev nD,
        r.2.mem (c.tc.loc main_arg0) = m (c.tc.loc main_arg0)
        ∧ r.2.mem (c.tc.loc main_arg1) = m (c.tc.loc main_arg1)
        ∧ r.2.mem (c.tc.loc main_arg2) = m (c.tc.loc main_arg2)
        ∧ r.2.mem (c.tc.loc main_arg3) = m (c.tc.loc main_arg3))
      ∧ r.2.sem = fun _ => 0) :=
  (θ_run defs _ _).mono (fun r h => ⟨fun c =>
      ⟨((h.1 c).1 0).trans ((dats m 0 c).arrAt_in 0 rfl _), ((h.1 c).1 1).trans ((dats m 0 c).arrAt_in 1 rfl _),
       ((h.1 c).1 2).trans ((dats m 0 c).arrAt_in 2 rfl _), (h.1 c).2.1⟩, h.2⟩) (run_main m ρ)

/-- The two programs have the same body. -/
theorem bodies_eq : @Cert.Kernel.defs₀ Bits _ Cert.Kernel.Gen.facts = @Cert.KernelIdeal.defs₀ Bits _ Cert.KernelIdeal.Gen.facts := by
  unfold Cert.Kernel.defs₀ Cert.KernelIdeal.defs₀
  refine congrArg Defs.onTc (funext fun l => funext fun x => ?_)
  match l, x with
  | 0, (t, s) => rfl

theorem frame_kernel : Cert.quiescent_Kernel := fun m ρ _ => by
  unfold Cert.Kernel.defs
  rw [bodies_eq]
  exact kernel_run (F := Bits) m ρ
theorem frame_kernelIdeal : Cert.quiescent_KernelIdeal := fun m ρ _ => kernel_run (F := Ideal) m ρ

theorem frame_reference : Cert.quiescent_ReferenceIdeal := fun m ρ _ =>
  (θ_run Cert.ReferenceIdeal.defs _ _).mono (fun r h => ⟨fun c => (h.1 c).2.2, h.2⟩) (reference_run (F := Ideal) m ρ)

theorem preserves : Cert.preserves_Kernel_KernelIdeal := trivial

theorem algebraic : Cert.algebraic_KernelIdeal_ReferenceIdeal := by
  intro m ρ m' ρ' _ hm
  refine ⟨_, _, (θ_run defs _ _).mono (fun r h c => ?_) (run_main (F := Ideal) m ρ),
    (θ_run Cert.ReferenceIdeal.defs _ _).mono (fun r h => h.1 0) (reference_run (F := Ideal) m' ρ')⟩
  obtain ⟨h0, h1, h2, -⟩ := hm c
  exact ⟨((h.1 c).1 3).trans ((product_eq m c).trans (product_agrees m _ _ _ c h0 h1 h2)),
    (h.1 c).2.2.trans (landed_agrees m _ c (hm (peer c)).2.2.2),
    ((h.1 c).1 0).trans ((dats m 0 c).arrAt_in 0 rfl _), ((h.1 c).1 1).trans ((dats m 0 c).arrAt_in 1 rfl _),
    ((h.1 c).1 2).trans ((dats m 0 c).arrAt_in 2 rfl _), (h.1 c).2.1⟩

end Down

/-! ## `up_dw` -/

section Up
open Cert.Up Cert.UpKernelIdeal

/-- One run of the kernel, over any numbers: its arguments unchanged, and every semaphore at zero. -/
theorem up_kernel_run {F : FTy → Type} [FloatOps F] (m : (ℓ : Loc nD τ sig) → Buf (Elt F) ℓ)
    (ρ : Dev nD → PrngReg) :
    θ_run defs (onTc (τ := τ) (main (F := F))) ⟨m, fun _ => 0, ρ⟩ (fun r =>
      (∀ c : Dev nD,
        r.2.mem (c.tc.loc main_arg0) = m (c.tc.loc main_arg0)
        ∧ r.2.mem (c.tc.loc main_arg1) = m (c.tc.loc main_arg1)
        ∧ r.2.mem (c.tc.loc main_arg2) = m (c.tc.loc main_arg2))
      ∧ r.2.sem = fun _ => 0) :=
  (θ_run defs _ _).mono (fun r h => ⟨fun c =>
      ⟨((h.1 c).1 0).trans ((dats m 0 c).arrAt_in 0 rfl _), ((h.1 c).1 1).trans ((dats m 0 c).arrAt_in 1 rfl _), (h.1 c).2.1⟩, h.2⟩)
    (run_main m ρ)

/-- The two programs have the same body. -/
theorem up_bodies_eq : @Cert.UpKernel.defs₀ Bits _ Cert.UpKernel.Gen.facts = @Cert.UpKernelIdeal.defs₀ Bits _ Cert.UpKernelIdeal.Gen.facts := by
  unfold Cert.UpKernel.defs₀ Cert.UpKernelIdeal.defs₀
  refine congrArg Defs.onTc (funext fun l => funext fun x => ?_)
  match l, x with
  | 0, (t, s) => rfl

theorem frame_upKernel : Cert.quiescent_UpKernel := fun m ρ _ => by
  unfold Cert.UpKernel.defs
  rw [up_bodies_eq]
  exact up_kernel_run (F := Bits) m ρ
theorem frame_upKernelIdeal : Cert.quiescent_UpKernelIdeal := fun m ρ _ => up_kernel_run (F := Ideal) m ρ

theorem frame_upReference : Cert.quiescent_UpReferenceIdeal := fun m ρ _ =>
  (θ_run Cert.UpReferenceIdeal.defs _ _).mono (fun r h => ⟨fun c => (h.1 c).2.2, h.2⟩) (reference_run (F := Ideal) m ρ)

theorem up_preserves : Cert.preserves_UpKernel_UpKernelIdeal := trivial

theorem up_algebraic : Cert.algebraic_UpKernelIdeal_UpReferenceIdeal := by
  intro m ρ m' ρ' _ hm
  refine ⟨_, _, (θ_run defs _ _).mono (fun r h c => ?_) (run_main (F := Ideal) m ρ),
    (θ_run Cert.UpReferenceIdeal.defs _ _).mono (fun r h => h.1 0) (reference_run (F := Ideal) m' ρ')⟩
  obtain ⟨h0, h1, -⟩ := hm c
  exact ⟨((h.1 c).1 2).trans ((product_eq m c).trans (product_agrees m _ _ c h0 h1)),
    (h.1 c).2.2.trans (carved_agrees m _ c fun j => (hm (peer j c)).2.2),
    ((h.1 c).1 0).trans ((dats m 0 c).arrAt_in 0 rfl _), ((h.1 c).1 1).trans ((dats m 0 c).arrAt_in 1 rfl _), (h.1 c).2.1⟩

end Up

/-! ## `up_dx` -/

section Dx
open Cert.Dx Cert.DxKernelIdeal

/-- One run of the kernel, over any numbers: its arguments unchanged, and every semaphore at zero. -/
theorem dx_kernel_run {F : FTy → Type} [FloatOps F] (m : (ℓ : Loc nD τ sig) → Buf (Elt F) ℓ)
    (ρ : Dev nD → PrngReg) :
    θ_run defs (onTc (τ := τ) (main (F := F))) ⟨m, fun _ => 0, ρ⟩ (fun r =>
      (∀ c : Dev nD,
        r.2.mem (c.tc.loc main_arg0) = m (c.tc.loc main_arg0)
        ∧ r.2.mem (c.tc.loc main_arg1) = m (c.tc.loc main_arg1)
        ∧ r.2.mem (c.tc.loc main_arg2) = m (c.tc.loc main_arg2)
        ∧ r.2.mem (c.tc.loc main_arg3) = m (c.tc.loc main_arg3))
      ∧ r.2.sem = fun _ => 0) :=
  (θ_run defs _ _).mono (fun r h => ⟨fun c =>
      ⟨((h.1 c).1 0).trans ((dats m 0 c).arrAt_in 0 rfl _), ((h.1 c).1 1).trans ((dats m 0 c).arrAt_in 1 rfl _), (h.1 c).2.1⟩, h.2⟩)
    (run_main m ρ)

/-- The two programs have the same body. -/
theorem dx_bodies_eq : @Cert.DxKernel.defs₀ Bits _ Cert.DxKernel.Gen.facts = @Cert.DxKernelIdeal.defs₀ Bits _ Cert.DxKernelIdeal.Gen.facts := by
  unfold Cert.DxKernel.defs₀ Cert.DxKernelIdeal.defs₀
  refine congrArg Defs.onTc (funext fun l => funext fun x => ?_)
  match l, x with
  | 0, (t, s) => rfl

theorem frame_dxKernel : Cert.quiescent_DxKernel := fun m ρ _ => by
  unfold Cert.DxKernel.defs
  rw [dx_bodies_eq]
  exact dx_kernel_run (F := Bits) m ρ
theorem frame_dxKernelIdeal : Cert.quiescent_DxKernelIdeal := fun m ρ _ => dx_kernel_run (F := Ideal) m ρ

theorem frame_dxReference : Cert.quiescent_DxReferenceIdeal := fun m ρ _ =>
  (θ_run Cert.DxReferenceIdeal.defs _ _).mono (fun r h => ⟨fun c => (h.1 c).2.2.2, h.2⟩) (reference_run (F := Ideal) m ρ)

theorem dx_preserves : Cert.preserves_DxKernel_DxKernelIdeal := trivial

theorem dx_algebraic : Cert.algebraic_DxKernelIdeal_DxReferenceIdeal := by
  intro m ρ m' ρ' _ hm
  refine ⟨_, _, _, (θ_run defs _ _).mono (fun r h c => ?_) (run_main (F := Ideal) m ρ),
    (θ_run Cert.DxReferenceIdeal.defs _ _).mono (fun r h => h.1 0) (reference_run (F := Ideal) m' ρ')⟩
  obtain ⟨h0, h1, -⟩ := hm c
  exact ⟨((h.1 c).1 2).trans ((product_eq m c).trans (product_agrees m _ _ c h0 h1)),
    (h.1 c).2.2.1.trans (landed_agrees m _ c (hm (peer 0 c)).2.2.1),
    (h.1 c).2.2.2.trans (carved_agrees m _ c fun j => (hm (chip j c)).2.2.2),
    ((h.1 c).1 0).trans ((dats m 0 c).arrAt_in 0 rfl _), ((h.1 c).1 1).trans ((dats m 0 c).arrAt_in 1 rfl _), (h.1 c).2.1⟩

end Dx

/-! ## `proj_dx` -/

section Px
open Cert.Px Cert.PxKernelIdeal

/-- One run of the kernel, over any numbers: its arguments unchanged, and every semaphore at zero. -/
theorem px_kernel_run {F : FTy → Type} [FloatOps F] (m : (ℓ : Loc nD τ sig) → Buf (Elt F) ℓ)
    (ρ : Dev nD → PrngReg) :
    θ_run defs (onTc (τ := τ) (main (F := F))) ⟨m, fun _ => 0, ρ⟩ (fun r =>
      (∀ c : Dev nD,
        r.2.mem (c.tc.loc main_arg0) = m (c.tc.loc main_arg0)
        ∧ r.2.mem (c.tc.loc main_arg1) = m (c.tc.loc main_arg1)
        ∧ r.2.mem (c.tc.loc main_arg2) = m (c.tc.loc main_arg2)
        ∧ r.2.mem (c.tc.loc main_arg3) = m (c.tc.loc main_arg3)
        ∧ r.2.mem (c.tc.loc main_arg4) = m (c.tc.loc main_arg4))
      ∧ r.2.sem = fun _ => 0) :=
  (θ_run defs _ _).mono (fun r h => ⟨fun c =>
      ⟨((h.1 c).1 0).trans ((dats m 0 c).arrAt_in 0 rfl _), ((h.1 c).1 1).trans ((dats m 0 c).arrAt_in 1 rfl _), (h.1 c).2.1⟩, h.2⟩)
    (run_main m ρ)

/-- The two programs have the same body. -/
theorem px_bodies_eq : @Cert.PxKernel.defs₀ Bits _ Cert.PxKernel.Gen.facts = @Cert.PxKernelIdeal.defs₀ Bits _ Cert.PxKernelIdeal.Gen.facts := by
  unfold Cert.PxKernel.defs₀ Cert.PxKernelIdeal.defs₀
  refine congrArg Defs.onTc (funext fun l => funext fun x => ?_)
  match l, x with
  | 0, (t, s) => rfl

theorem frame_pxKernel : Cert.quiescent_PxKernel := fun m ρ _ => by
  unfold Cert.PxKernel.defs
  rw [px_bodies_eq]
  exact px_kernel_run (F := Bits) m ρ
theorem frame_pxKernelIdeal : Cert.quiescent_PxKernelIdeal := fun m ρ _ => px_kernel_run (F := Ideal) m ρ

theorem frame_pxReference : Cert.quiescent_PxReferenceIdeal := fun m ρ _ =>
  (θ_run Cert.PxReferenceIdeal.defs _ _).mono (fun r h => ⟨fun c => (h.1 c).2.2.2.2, h.2⟩) (reference_run (F := Ideal) m ρ)

theorem px_preserves : Cert.preserves_PxKernel_PxKernelIdeal := trivial

theorem px_algebraic : Cert.algebraic_PxKernelIdeal_PxReferenceIdeal := by
  intro m ρ m' ρ' _ hm
  refine ⟨_, _, _, _, (θ_run defs _ _).mono (fun r h c => ?_) (run_main (F := Ideal) m ρ),
    (θ_run Cert.PxReferenceIdeal.defs _ _).mono (fun r h => h.1 0) (reference_run (F := Ideal) m' ρ')⟩
  obtain ⟨h0, h1, -⟩ := hm c
  exact ⟨((h.1 c).1 2).trans ((product_eq m c).trans (product_agrees m _ _ c h0 h1)),
    (h.1 c).2.2.2.2.trans (carved_agrees m _ c fun j => (hm (chipA j c)).2.2.1),
    (h.1 c).2.2.1.trans (whole_agrees m _ c fun j => (hm (chipB j c)).2.2.2.1),
    (h.1 c).2.2.2.1.trans (landed_agrees m _ c (hm (peer 6 c)).2.2.2.2),
    ((h.1 c).1 0).trans ((dats m 0 c).arrAt_in 0 rfl _), ((h.1 c).1 1).trans ((dats m 0 c).arrAt_in 1 rfl _), (h.1 c).2.1⟩

end Px

/-! ## `out_proj_dw` -/

section Ow
open Cert.Ow Cert.OwKernelIdeal

/-- One run of the kernel, over any numbers: its arguments unchanged, and every semaphore at zero. -/
theorem ow_kernel_run {F : FTy → Type} [FloatOps F] (m : (ℓ : Loc nD τ sig) → Buf (Elt F) ℓ)
    (ρ : Dev nD → PrngReg) :
    θ_run defs (onTc (τ := τ) (main (F := F))) ⟨m, fun _ => 0, ρ⟩ (fun r =>
      (∀ c : Dev nD,
        r.2.mem (c.tc.loc main_arg0) = m (c.tc.loc main_arg0)
        ∧ r.2.mem (c.tc.loc main_arg1) = m (c.tc.loc main_arg1)
        ∧ r.2.mem (c.tc.loc main_arg2) = m (c.tc.loc main_arg2)
        ∧ r.2.mem (c.tc.loc main_arg3) = m (c.tc.loc main_arg3)
        ∧ r.2.mem (c.tc.loc main_arg4) = m (c.tc.loc main_arg4))
      ∧ r.2.sem = fun _ => 0) :=
  (θ_run defs _ _).mono (fun r h => ⟨fun c =>
      ⟨((h.1 c).1 0).trans ((dats m 0 c).arrAt_in 0 rfl _), ((h.1 c).1 1).trans ((dats m 0 c).arrAt_in 1 rfl _), (h.1 c).2.1⟩, h.2⟩)
    (run_main m ρ)

/-- The two programs have the same body. -/
theorem ow_bodies_eq : @Cert.OwKernel.defs₀ Bits _ Cert.OwKernel.Gen.facts = @Cert.OwKernelIdeal.defs₀ Bits _ Cert.OwKernelIdeal.Gen.facts := by
  unfold Cert.OwKernel.defs₀ Cert.OwKernelIdeal.defs₀
  refine congrArg Defs.onTc (funext fun l => funext fun x => ?_)
  match l, x with
  | 0, (t, s) => rfl

theorem frame_owKernel : Cert.quiescent_OwKernel := fun m ρ _ => by
  unfold Cert.OwKernel.defs
  rw [ow_bodies_eq]
  exact ow_kernel_run (F := Bits) m ρ
theorem frame_owKernelIdeal : Cert.quiescent_OwKernelIdeal := fun m ρ _ => ow_kernel_run (F := Ideal) m ρ

theorem frame_owReference : Cert.quiescent_OwReferenceIdeal := fun m ρ _ =>
  (θ_run Cert.OwReferenceIdeal.defs _ _).mono (fun r h => ⟨fun c => (h.1 c).2.2.2.2, h.2⟩) (reference_run (F := Ideal) m ρ)

theorem ow_preserves : Cert.preserves_OwKernel_OwKernelIdeal := trivial

theorem ow_algebraic : Cert.algebraic_OwKernelIdeal_OwReferenceIdeal := by
  intro m ρ m' ρ' _ hm
  refine ⟨_, _, _, _, (θ_run defs _ _).mono (fun r h c => ?_) (run_main (F := Ideal) m ρ),
    (θ_run Cert.OwReferenceIdeal.defs _ _).mono (fun r h => h.1 0) (reference_run (F := Ideal) m' ρ')⟩
  obtain ⟨h0, h1, -⟩ := hm c
  exact ⟨((h.1 c).1 2).trans ((product_eq m c).trans (product_agrees m _ _ c h0 h1)),
    (h.1 c).2.2.2.2.trans (carved_agrees m _ c fun j => (hm (chipA j c)).2.2.1),
    (h.1 c).2.2.1.trans (landedP_agrees m _ c (hm (peer 3 c)).2.2.2.1),
    (h.1 c).2.2.2.1.trans (landedH_agrees m _ c (hm (peer 4 c)).2.2.2.2),
    ((h.1 c).1 0).trans ((dats m 0 c).arrAt_in 0 rfl _), ((h.1 c).1 1).trans ((dats m 0 c).arrAt_in 1 rfl _), (h.1 c).2.1⟩

end Ow

/-! ## `up_fwd` -/

section Fw
open Cert.Fw Cert.FwKernelIdeal

/-- One run of the kernel, over any numbers: its arguments unchanged, and every semaphore at zero. -/
theorem fw_kernel_run {F : FTy → Type} [FloatOps F] (m : (ℓ : Loc nD τ sig) → Buf (Elt F) ℓ)
    (ρ : Dev nD → PrngReg) :
    θ_run defs (onTc (τ := τ) (main (F := F))) ⟨m, fun _ => 0, ρ⟩ (fun r =>
      (∀ c : Dev nD,
        r.2.mem (c.tc.loc main_arg0) = m (c.tc.loc main_arg0)
        ∧ r.2.mem (c.tc.loc main_arg1) = m (c.tc.loc main_arg1)
        ∧ r.2.mem (c.tc.loc main_arg2) = m (c.tc.loc main_arg2))
      ∧ r.2.sem = fun _ => 0) :=
  (θ_run defs _ _).mono (fun r h => ⟨fun c =>
      ⟨((h.1 c).1 0).trans ((dats m 0 c).arrAt_in 0 rfl _), ((h.1 c).1 1).trans ((dats m 0 c).arrAt_in 1 rfl _), (h.1 c).2.1⟩, h.2⟩)
    (run_main m ρ)

/-- The two programs have the same body. -/
theorem fw_bodies_eq : @Cert.FwKernel.defs₀ Bits _ Cert.FwKernel.Gen.facts = @Cert.FwKernelIdeal.defs₀ Bits _ Cert.FwKernelIdeal.Gen.facts := by
  unfold Cert.FwKernel.defs₀ Cert.FwKernelIdeal.defs₀
  refine congrArg Defs.onTc (funext fun l => funext fun x => ?_)
  match l, x with
  | 0, (t, s) => rfl

theorem frame_fwKernel : Cert.quiescent_FwKernel := fun m ρ _ => by
  unfold Cert.FwKernel.defs
  rw [fw_bodies_eq]
  exact fw_kernel_run (F := Bits) m ρ
theorem frame_fwKernelIdeal : Cert.quiescent_FwKernelIdeal := fun m ρ _ => fw_kernel_run (F := Ideal) m ρ

theorem frame_fwReference : Cert.quiescent_FwReferenceIdeal := fun m ρ _ =>
  (θ_run Cert.FwReferenceIdeal.defs _ _).mono (fun r h => ⟨fun c => (h.1 c).2.2.2, h.2⟩) (reference_run (F := Ideal) m ρ)

theorem fw_preserves : Cert.preserves_FwKernel_FwKernelIdeal := trivial

theorem fw_algebraic : Cert.algebraic_FwKernelIdeal_FwReferenceIdeal := by
  intro m ρ m' ρ' _ hm
  refine ⟨_, _, _, (θ_run defs _ _).mono (fun r h c => ?_) (run_main (F := Ideal) m ρ),
    (θ_run Cert.FwReferenceIdeal.defs _ _).mono (fun r h => h.1 0) (reference_run (F := Ideal) m' ρ')⟩
  obtain ⟨h0, h1, -⟩ := hm c
  exact ⟨((h.1 c).1 2).trans ((product_eq m c).trans (product_agrees m _ _ c h0 h1)),
    ((h.1 c).1 3).trans ((square_eq m c).trans (square_agrees m _ _ c h0 h1)),
    (h.1 c).2.2.trans (merged_agrees m _ c fun d => (hm d).2.2),
    ((h.1 c).1 0).trans ((dats m 0 c).arrAt_in 0 rfl _), ((h.1 c).1 1).trans ((dats m 0 c).arrAt_in 1 rfl _), (h.1 c).2.1⟩

end Fw

section Of
open Cert.Of Cert.OfKernelIdeal

/-- One run of the kernel, over any numbers: its arguments unchanged, and every semaphore at zero. -/
theorem of_kernel_run {F : FTy → Type} [FloatOps F] (m : (ℓ : Loc nD τ sig) → Buf (Elt F) ℓ)
    (ρ : Dev nD → PrngReg) :
    θ_run defs (onTc (τ := τ) (main (F := F))) ⟨m, fun _ => 0, ρ⟩ (fun r =>
      (∀ c : Dev nD,
        r.2.mem (c.tc.loc main_arg0) = m (c.tc.loc main_arg0)
        ∧ r.2.mem (c.tc.loc main_arg1) = m (c.tc.loc main_arg1)
        ∧ r.2.mem (c.tc.loc main_arg2) = m (c.tc.loc main_arg2)
        ∧ r.2.mem (c.tc.loc main_arg3) = m (c.tc.loc main_arg3))
      ∧ r.2.sem = fun _ => 0) :=
  (θ_run defs _ _).mono (fun r h => ⟨fun c =>
      ⟨((h.1 c).1 0).trans ((dats m 0 c).arrAt_in 0 rfl _), ((h.1 c).1 1).trans ((dats m 0 c).arrAt_in 1 rfl _),
        ((h.1 c).1 2).trans ((dats m 0 c).arrAt_in 2 rfl _), (h.1 c).2.1⟩, h.2⟩)
    (run_main m ρ)

/-- The two programs have the same body. -/
theorem of_bodies_eq : @Cert.OfKernel.defs₀ Bits _ Cert.OfKernel.Gen.facts = @Cert.OfKernelIdeal.defs₀ Bits _ Cert.OfKernelIdeal.Gen.facts := by
  unfold Cert.OfKernel.defs₀ Cert.OfKernelIdeal.defs₀
  refine congrArg Defs.onTc (funext fun l => funext fun x => ?_)
  match l, x with
  | 0, (t, s) => rfl

theorem frame_ofKernel : Cert.quiescent_OfKernel := fun m ρ _ => by
  unfold Cert.OfKernel.defs
  rw [of_bodies_eq]
  exact of_kernel_run (F := Bits) m ρ
theorem frame_ofKernelIdeal : Cert.quiescent_OfKernelIdeal := fun m ρ _ => of_kernel_run (F := Ideal) m ρ

theorem frame_ofReference : Cert.quiescent_OfReferenceIdeal := fun m ρ _ =>
  (θ_run Cert.OfReferenceIdeal.defs _ _).mono (fun r h => ⟨fun c => (h.1 c).2.2, h.2⟩) (reference_run (F := Ideal) m ρ)

theorem of_preserves : Cert.preserves_OfKernel_OfKernelIdeal := trivial

theorem of_algebraic : Cert.algebraic_OfKernelIdeal_OfReferenceIdeal := by
  intro m ρ m' ρ' _ hm
  refine ⟨_, _, (θ_run defs _ _).mono (fun r h c => ?_) (run_main (F := Ideal) m ρ),
    (θ_run Cert.OfReferenceIdeal.defs _ _).mono (fun r h => h.1 0) (reference_run (F := Ideal) m' ρ')⟩
  obtain ⟨h0, h1, h2, -⟩ := hm c
  exact ⟨((h.1 c).1 3).trans ((product_eq m c).trans (product_agrees m _ _ _ c h0 h1 h2)),
    (h.1 c).2.2.trans (merged_agrees m _ c fun d => (hm d).2.2.2),
    ((h.1 c).1 0).trans ((dats m 0 c).arrAt_in 0 rfl _), ((h.1 c).1 1).trans ((dats m 0 c).arrAt_in 1 rfl _),
    ((h.1 c).1 2).trans ((dats m 0 c).arrAt_in 2 rfl _), (h.1 c).2.1⟩

end Of

section Nm
open Cert.Nm Cert.NmKernelIdeal

/-- One run of the kernel, over any numbers: its arguments unchanged, and every semaphore at zero. -/
theorem nm_kernel_run {F : FTy → Type} [FloatOps F] (m : (ℓ : Loc nD τ sig) → Buf (Elt F) ℓ)
    (ρ : Dev nD → PrngReg) :
    θ_run defs (onTc (τ := τ) (main (F := F))) ⟨m, fun _ => 0, ρ⟩ (fun r =>
      (∀ c : Dev nD,
        r.2.mem (c.tc.loc main_arg0) = m (c.tc.loc main_arg0)
        ∧ r.2.mem (c.tc.loc main_arg1) = m (c.tc.loc main_arg1)
        ∧ r.2.mem (c.tc.loc main_arg2) = m (c.tc.loc main_arg2))
      ∧ r.2.sem = fun _ => 0) :=
  (θ_run defs _ _).mono (fun r h => ⟨fun c =>
      ⟨((h.1 c).1 0).trans ((dats m 0 c).arrAt_in 0 rfl _), ((h.1 c).1 1).trans ((dats m 0 c).arrAt_in 1 rfl _),
        (h.1 c).2.1⟩, h.2⟩)
    (run_main m ρ)

/-- The two programs have the same body. -/
theorem nm_bodies_eq : @Cert.NmKernel.defs₀ Bits _ Cert.NmKernel.Gen.facts = @Cert.NmKernelIdeal.defs₀ Bits _ Cert.NmKernelIdeal.Gen.facts := by
  unfold Cert.NmKernel.defs₀ Cert.NmKernelIdeal.defs₀
  refine congrArg Defs.onTc (funext fun l => funext fun x => ?_)
  match l, x with
  | 0, (t, s) => rfl

theorem frame_nmKernel : Cert.quiescent_NmKernel := fun m ρ _ => by
  unfold Cert.NmKernel.defs
  rw [nm_bodies_eq]
  exact nm_kernel_run (F := Bits) m ρ
theorem frame_nmKernelIdeal : Cert.quiescent_NmKernelIdeal := fun m ρ _ => nm_kernel_run (F := Ideal) m ρ

theorem frame_nmReference : Cert.quiescent_NmReferenceIdeal := fun m ρ _ =>
  (θ_run Cert.NmReferenceIdeal.defs _ _).mono (fun r h => ⟨fun c => (h.1 c).2.2, h.2⟩) (reference_run (F := Ideal) m ρ)

theorem nm_preserves : Cert.preserves_NmKernel_NmKernelIdeal := trivial

theorem nm_algebraic : Cert.algebraic_NmKernelIdeal_NmReferenceIdeal := by
  intro m ρ m' ρ' _ hm
  refine ⟨_, _, (θ_run defs _ _).mono (fun r h c => ?_) (run_main (F := Ideal) m ρ),
    (θ_run Cert.NmReferenceIdeal.defs _ _).mono (fun r h => h.1 0) (reference_run (F := Ideal) m' ρ')⟩
  obtain ⟨h0, h1, -⟩ := hm c
  exact ⟨((h.1 c).1 2).trans ((rowsOut_eq m c).trans (rows_agree m _ _ c h0 h1)),
    (h.1 c).2.2.trans (merged_agrees m _ c fun d => (hm d).2.2),
    ((h.1 c).1 0).trans ((dats m 0 c).arrAt_in 0 rfl _), ((h.1 c).1 1).trans ((dats m 0 c).arrAt_in 1 rfl _), (h.1 c).2.1⟩

end Nm

section Pf
open Cert.Pf Cert.PfKernelIdeal

/-- One run of the kernel, over any numbers: its arguments unchanged, and every semaphore at zero. -/
theorem pf_kernel_run {F : FTy → Type} [FloatOps F] (m : (ℓ : Loc nD τ sig) → Buf (Elt F) ℓ)
    (ρ : Dev nD → PrngReg) :
    θ_run defs (onTc (τ := τ) (main (F := F))) ⟨m, fun _ => 0, ρ⟩ (fun r =>
      (∀ c : Dev nD,
        r.2.mem (c.tc.loc main_arg0) = m (c.tc.loc main_arg0)
        ∧ r.2.mem (c.tc.loc main_arg1) = m (c.tc.loc main_arg1)
        ∧ r.2.mem (c.tc.loc main_arg2) = m (c.tc.loc main_arg2)
        ∧ r.2.mem (c.tc.loc main_arg3) = m (c.tc.loc main_arg3))
      ∧ r.2.sem = fun _ => 0) :=
  (θ_run defs _ _).mono (fun r h => ⟨fun c =>
      ⟨((h.1 c).1 0).trans ((dats m 0 c).arrAt_in 0 rfl _), ((h.1 c).1 1).trans ((dats m 0 c).arrAt_in 1 rfl _),
        (h.1 c).2.1, (h.1 c).2.2.1⟩, h.2⟩)
    (run_main m ρ)

/-- The two programs have the same body. -/
theorem pf_bodies_eq : @Cert.PfKernel.defs₀ Bits _ Cert.PfKernel.Gen.facts = @Cert.PfKernelIdeal.defs₀ Bits _ Cert.PfKernelIdeal.Gen.facts := by
  unfold Cert.PfKernel.defs₀ Cert.PfKernelIdeal.defs₀
  refine congrArg Defs.onTc (funext fun l => funext fun x => ?_)
  match l, x with
  | 0, (t, s) => rfl

theorem frame_pfKernel : Cert.quiescent_PfKernel := fun m ρ _ => by
  unfold Cert.PfKernel.defs
  rw [pf_bodies_eq]
  exact pf_kernel_run (F := Bits) m ρ
theorem frame_pfKernelIdeal : Cert.quiescent_PfKernelIdeal := fun m ρ _ => pf_kernel_run (F := Ideal) m ρ

theorem frame_pfReference : Cert.quiescent_PfReferenceIdeal := fun m ρ _ =>
  (θ_run Cert.PfReferenceIdeal.defs _ _).mono (fun r h => ⟨fun c => (h.1 c).2.2.2, h.2⟩) (reference_run (F := Ideal) m ρ)

theorem pf_preserves : Cert.preserves_PfKernel_PfKernelIdeal := trivial

theorem pf_algebraic : Cert.algebraic_PfKernelIdeal_PfReferenceIdeal := by
  intro m ρ m' ρ' _ hm
  refine ⟨_, _, _, (θ_run defs _ _).mono (fun r h c => ?_) (run_main (F := Ideal) m ρ),
    (θ_run Cert.PfReferenceIdeal.defs _ _).mono (fun r h => h.1 0) (reference_run (F := Ideal) m' ρ')⟩
  obtain ⟨h0, h1, -⟩ := hm c
  exact ⟨((h.1 c).1 2).trans ((product_eq m c).trans (product_agrees m _ _ c h0 h1)),
    (h.1 c).2.2.2.1.trans (mergedA_agrees m _ c fun d => (hm d).2.2.1),
    (h.1 c).2.2.2.2.trans (mergedB_agrees m _ c fun d => (hm d).2.2.2),
    ((h.1 c).1 0).trans ((dats m 0 c).arrAt_in 0 rfl _), ((h.1 c).1 1).trans ((dats m 0 c).arrAt_in 1 rfl _),
    (h.1 c).2.1, (h.1 c).2.2.1⟩

end Pf

theorem claim : Cert.Claim :=
  ⟨Cert.Kernel.Gen.facts, Cert.KernelIdeal.Gen.facts, Cert.ReferenceIdeal.Gen.facts,
    Cert.UpKernel.Gen.facts, Cert.UpKernelIdeal.Gen.facts, Cert.UpReferenceIdeal.Gen.facts,
    Cert.DxKernel.Gen.facts, Cert.DxKernelIdeal.Gen.facts, Cert.DxReferenceIdeal.Gen.facts,
    Cert.PxKernel.Gen.facts, Cert.PxKernelIdeal.Gen.facts, Cert.PxReferenceIdeal.Gen.facts,
    Cert.OwKernel.Gen.facts, Cert.OwKernelIdeal.Gen.facts, Cert.OwReferenceIdeal.Gen.facts,
    Cert.FwKernel.Gen.facts, Cert.FwKernelIdeal.Gen.facts, Cert.FwReferenceIdeal.Gen.facts,
    Cert.OfKernel.Gen.facts, Cert.OfKernelIdeal.Gen.facts, Cert.OfReferenceIdeal.Gen.facts,
    Cert.NmKernel.Gen.facts, Cert.NmKernelIdeal.Gen.facts, Cert.NmReferenceIdeal.Gen.facts,
    Cert.PfKernel.Gen.facts, Cert.PfKernelIdeal.Gen.facts, Cert.PfReferenceIdeal.Gen.facts,
    frame_kernel, frame_kernelIdeal, frame_reference, frame_upKernel, frame_upKernelIdeal, frame_upReference,
    frame_dxKernel, frame_dxKernelIdeal, frame_dxReference,
    frame_pxKernel, frame_pxKernelIdeal, frame_pxReference,
    frame_owKernel, frame_owKernelIdeal, frame_owReference,
    frame_fwKernel, frame_fwKernelIdeal, frame_fwReference,
    frame_ofKernel, frame_ofKernelIdeal, frame_ofReference,
    frame_nmKernel, frame_nmKernelIdeal, frame_nmReference,
    frame_pfKernel, frame_pfKernelIdeal, frame_pfReference,
    preserves, algebraic, up_preserves, up_algebraic, dx_preserves, dx_algebraic, px_preserves, px_algebraic,
    ow_preserves, ow_algebraic, fw_preserves, fw_algebraic,
    of_preserves, of_algebraic, nm_preserves, nm_algebraic,
    pf_preserves, pf_algebraic⟩

end Cert.Proof

end
